-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Sc (m : (ℓ : Loc Cert.Sc.nD Cert.Sc.τ Cert.Sc.sig) → Buf (Elt Bits) ℓ) : Prop :=
  True

def Pre_ScIdeal (m : (ℓ : Loc Cert.ScIdeal.nD Cert.ScIdeal.τ Cert.ScIdeal.sig) → Buf (Elt Ideal) ℓ) : Prop :=
  True

def Pre_ScRefIdeal (m : (ℓ : Loc Cert.ScRefIdeal.nD Cert.ScRefIdeal.τ Cert.ScRefIdeal.sig) → Buf (Elt Ideal) ℓ) : Prop :=
  True

def Pre_Sc3 (m : (ℓ : Loc Cert.Sc3.nD Cert.Sc3.τ Cert.Sc3.sig) → Buf (Elt Bits) ℓ) : Prop :=
  True

def Pre_Sc3Ideal (m : (ℓ : Loc Cert.Sc3Ideal.nD Cert.Sc3Ideal.τ Cert.Sc3Ideal.sig) → Buf (Elt Ideal) ℓ) : Prop :=
  True

def Pre_Sc3RefIdeal (m : (ℓ : Loc Cert.Sc3RefIdeal.nD Cert.Sc3RefIdeal.τ Cert.Sc3RefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Adam1 (m : (ℓ : Loc Cert.Adam1.nD Cert.Adam1.τ Cert.Adam1.sig) → Buf (Elt Bits) ℓ) : Prop :=
  True

def Pre_Adam1Ideal (m : (ℓ : Loc Cert.Adam1Ideal.nD Cert.Adam1Ideal.τ Cert.Adam1Ideal.sig) → Buf (Elt Ideal) ℓ) : Prop :=
  True

def Pre_Adam1RefIdeal (m : (ℓ : Loc Cert.Adam1RefIdeal.nD Cert.Adam1RefIdeal.τ Cert.Adam1RefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Sc [hSc : Cert.Sc.Facts] : Prop :=
  ∀ (m : (ℓ : Loc Cert.Sc.nD Cert.Sc.τ Cert.Sc.sig) → Buf (Elt Bits) ℓ) (g : Dev Cert.Sc.nD → PrngReg), Pre_Sc m →
    θ_run (Cert.Sc.defs (F := Bits)) (onTc (τ := Cert.Sc.τ) (Cert.Sc.main (F := Bits))) ⟨m, fun _ => 0, g⟩ (fun r => (∀ c : Dev Cert.Sc.nD,
      r.2.mem ((c.tc : Thread Cert.Sc.nD Cert.Sc.τ).loc Cert.Sc.main_arg0) = m ((c.tc : Thread Cert.Sc.nD Cert.Sc.τ).loc Cert.Sc.main_arg0)
      ∧ r.2.mem ((c.tc : Thread Cert.Sc.nD Cert.Sc.τ).loc Cert.Sc.main_arg1) = m ((c.tc : Thread Cert.Sc.nD Cert.Sc.τ).loc Cert.Sc.main_arg1)
      ∧ r.2.mem ((c.tc : Thread Cert.Sc.nD Cert.Sc.τ).loc Cert.Sc.main_arg2) = m ((c.tc : Thread Cert.Sc.nD Cert.Sc.τ).loc Cert.Sc.main_arg2)
      ∧ r.2.mem ((c.tc : Thread Cert.Sc.nD Cert.Sc.τ).loc Cert.Sc.main_arg3) = m ((c.tc : Thread Cert.Sc.nD Cert.Sc.τ).loc Cert.Sc.main_arg3)
      ∧ r.2.mem ((c.tc : Thread Cert.Sc.nD Cert.Sc.τ).loc Cert.Sc.main_arg4) = m ((c.tc : Thread Cert.Sc.nD Cert.Sc.τ).loc Cert.Sc.main_arg4)
      ∧ r.2.mem ((c.tc : Thread Cert.Sc.nD Cert.Sc.τ).loc Cert.Sc.main_arg5) = m ((c.tc : Thread Cert.Sc.nD Cert.Sc.τ).loc Cert.Sc.main_arg5))
      ∧ r.2.sem = fun _ => 0)

def quiescent_ScIdeal [hScIdeal : Cert.ScIdeal.Facts] : Prop :=
  ∀ (m : (ℓ : Loc Cert.ScIdeal.nD Cert.ScIdeal.τ Cert.ScIdeal.sig) → Buf (Elt Ideal) ℓ) (g : Dev Cert.ScIdeal.nD → PrngReg), Pre_ScIdeal m →
    θ_run (Cert.ScIdeal.defs (F := Ideal)) (onTc (τ := Cert.ScIdeal.τ) (Cert.ScIdeal.main (F := Ideal))) ⟨m, fun _ => 0, g⟩ (fun r => (∀ c : Dev Cert.ScIdeal.nD,
      r.2.mem ((c.tc : Thread Cert.ScIdeal.nD Cert.ScIdeal.τ).loc Cert.ScIdeal.main_arg0) = m ((c.tc : Thread Cert.ScIdeal.nD Cert.ScIdeal.τ).loc Cert.ScIdeal.main_arg0)
      ∧ r.2.mem ((c.tc : Thread Cert.ScIdeal.nD Cert.ScIdeal.τ).loc Cert.ScIdeal.main_arg1) = m ((c.tc : Thread Cert.ScIdeal.nD Cert.ScIdeal.τ).loc Cert.ScIdeal.main_arg1)
      ∧ r.2.mem ((c.tc : Thread Cert.ScIdeal.nD Cert.ScIdeal.τ).loc Cert.ScIdeal.main_arg2) = m ((c.tc : Thread Cert.ScIdeal.nD Cert.ScIdeal.τ).loc Cert.ScIdeal.main_arg2)
      ∧ r.2.mem ((c.tc : Thread Cert.ScIdeal.nD Cert.ScIdeal.τ).loc Cert.ScIdeal.main_arg3) = m ((c.tc : Thread Cert.ScIdeal.nD Cert.ScIdeal.τ).loc Cert.ScIdeal.main_arg3)
      ∧ r.2.mem ((c.tc : Thread Cert.ScIdeal.nD Cert.ScIdeal.τ).loc Cert.ScIdeal.main_arg4) = m ((c.tc : Thread Cert.ScIdeal.nD Cert.ScIdeal.τ).loc Cert.ScIdeal.main_arg4)
      ∧ r.2.mem ((c.tc : Thread Cert.ScIdeal.nD Cert.ScIdeal.τ).loc Cert.ScIdeal.main_arg5) = m ((c.tc : Thread Cert.ScIdeal.nD Cert.ScIdeal.τ).loc Cert.ScIdeal.main_arg5))
      ∧ r.2.sem = fun _ => 0)

def quiescent_ScRefIdeal [hScRefIdeal : Cert.ScRefIdeal.Facts] : Prop :=
  ∀ (m : (ℓ : Loc Cert.ScRefIdeal.nD Cert.ScRefIdeal.τ Cert.ScRefIdeal.sig) → Buf (Elt Ideal) ℓ) (g : Dev Cert.ScRefIdeal.nD → PrngReg), Pre_ScRefIdeal m →
    θ_run (Cert.ScRefIdeal.defs (F := Ideal)) (onTc (τ := Cert.ScRefIdeal.τ) (Cert.ScRefIdeal.main (F := Ideal))) ⟨m, fun _ => 0, g⟩ (fun r => (∀ c : Dev Cert.ScRefIdeal.nD,
      r.2.mem ((c.tc : Thread Cert.ScRefIdeal.nD Cert.ScRefIdeal.τ).loc Cert.ScRefIdeal.main_arg0) = m ((c.tc : Thread Cert.ScRefIdeal.nD Cert.ScRefIdeal.τ).loc Cert.ScRefIdeal.main_arg0)
      ∧ r.2.mem ((c.tc : Thread Cert.ScRefIdeal.nD Cert.ScRefIdeal.τ).loc Cert.ScRefIdeal.main_arg1) = m ((c.tc : Thread Cert.ScRefIdeal.nD Cert.ScRefIdeal.τ).loc Cert.ScRefIdeal.main_arg1)
      ∧ r.2.mem ((c.tc : Thread Cert.ScRefIdeal.nD Cert.ScRefIdeal.τ).loc Cert.ScRefIdeal.main_arg2) = m ((c.tc : Thread Cert.ScRefIdeal.nD Cert.ScRefIdeal.τ).loc Cert.ScRefIdeal.main_arg2)
      ∧ r.2.mem ((c.tc : Thread Cert.ScRefIdeal.nD Cert.ScRefIdeal.τ).loc Cert.ScRefIdeal.main_arg3) = m ((c.tc : Thread Cert.ScRefIdeal.nD Cert.ScRefIdeal.τ).loc Cert.ScRefIdeal.main_arg3)
      ∧ r.2.mem ((c.tc : Thread Cert.ScRefIdeal.nD Cert.ScRefIdeal.τ).loc Cert.ScRefIdeal.main_arg4) = m ((c.tc : Thread Cert.ScRefIdeal.nD Cert.ScRefIdeal.τ).loc Cert.ScRefIdeal.main_arg4)
      ∧ r.2.mem ((c.tc : Thread Cert.ScRefIdeal.nD Cert.ScRefIdeal.τ).loc Cert.ScRefIdeal.main_arg5) = m ((c.tc : Thread Cert.ScRefIdeal.nD Cert.ScRefIdeal.τ).loc Cert.ScRefIdeal.main_arg5))
      ∧ r.2.sem = fun _ => 0)

def quiescent_Sc3 [hSc3 : Cert.Sc3.Facts] : Prop :=
  ∀ (m : (ℓ : Loc Cert.Sc3.nD Cert.Sc3.τ Cert.Sc3.sig) → Buf (Elt Bits) ℓ) (g : Dev Cert.Sc3.nD → PrngReg), Pre_Sc3 m →
    θ_run (Cert.Sc3.defs (F := Bits)) (onTc (τ := Cert.Sc3.τ) (Cert.Sc3.main (F := Bits))) ⟨m, fun _ => 0, g⟩ (fun r => (∀ c : Dev Cert.Sc3.nD,
      r.2.mem ((c.tc : Thread Cert.Sc3.nD Cert.Sc3.τ).loc Cert.Sc3.main_arg0) = m ((c.tc : Thread Cert.Sc3.nD Cert.Sc3.τ).loc Cert.Sc3.main_arg0)
      ∧ r.2.mem ((c.tc : Thread Cert.Sc3.nD Cert.Sc3.τ).loc Cert.Sc3.main_arg1) = m ((c.tc : Thread Cert.Sc3.nD Cert.Sc3.τ).loc Cert.Sc3.main_arg1)
      ∧ r.2.mem ((c.tc : Thread Cert.Sc3.nD Cert.Sc3.τ).loc Cert.Sc3.main_arg2) = m ((c.tc : Thread Cert.Sc3.nD Cert.Sc3.τ).loc Cert.Sc3.main_arg2)
      ∧ r.2.mem ((c.tc : Thread Cert.Sc3.nD Cert.Sc3.τ).loc Cert.Sc3.main_arg3) = m ((c.tc : Thread Cert.Sc3.nD Cert.Sc3.τ).loc Cert.Sc3.main_arg3)
      ∧ r.2.mem ((c.tc : Thread Cert.Sc3.nD Cert.Sc3.τ).loc Cert.Sc3.main_arg4) = m ((c.tc : Thread Cert.Sc3.nD Cert.Sc3.τ).loc Cert.Sc3.main_arg4)
      ∧ r.2.mem ((c.tc : Thread Cert.Sc3.nD Cert.Sc3.τ).loc Cert.Sc3.main_arg5) = m ((c.tc : Thread Cert.Sc3.nD Cert.Sc3.τ).loc Cert.Sc3.main_arg5))
      ∧ r.2.sem = fun _ => 0)

def quiescent_Sc3Ideal [hSc3Ideal : Cert.Sc3Ideal.Facts] : Prop :=
  ∀ (m : (ℓ : Loc Cert.Sc3Ideal.nD Cert.Sc3Ideal.τ Cert.Sc3Ideal.sig) → Buf (Elt Ideal) ℓ) (g : Dev Cert.Sc3Ideal.nD → PrngReg), Pre_Sc3Ideal m →
    θ_run (Cert.Sc3Ideal.defs (F := Ideal)) (onTc (τ := Cert.Sc3Ideal.τ) (Cert.Sc3Ideal.main (F := Ideal))) ⟨m, fun _ => 0, g⟩ (fun r => (∀ c : Dev Cert.Sc3Ideal.nD,
      r.2.mem ((c.tc : Thread Cert.Sc3Ideal.nD Cert.Sc3Ideal.τ).loc Cert.Sc3Ideal.main_arg0) = m ((c.tc : Thread Cert.Sc3Ideal.nD Cert.Sc3Ideal.τ).loc Cert.Sc3Ideal.main_arg0)
      ∧ r.2.mem ((c.tc : Thread Cert.Sc3Ideal.nD Cert.Sc3Ideal.τ).loc Cert.Sc3Ideal.main_arg1) = m ((c.tc : Thread Cert.Sc3Ideal.nD Cert.Sc3Ideal.τ).loc Cert.Sc3Ideal.main_arg1)
      ∧ r.2.mem ((c.tc : Thread Cert.Sc3Ideal.nD Cert.Sc3Ideal.τ).loc Cert.Sc3Ideal.main_arg2) = m ((c.tc : Thread Cert.Sc3Ideal.nD Cert.Sc3Ideal.τ).loc Cert.Sc3Ideal.main_arg2)
      ∧ r.2.mem ((c.tc : Thread Cert.Sc3Ideal.nD Cert.Sc3Ideal.τ).loc Cert.Sc3Ideal.main_arg3) = m ((c.tc : Thread Cert.Sc3Ideal.nD Cert.Sc3Ideal.τ).loc Cert.Sc3Ideal.main_arg3)
      ∧ r.2.mem ((c.tc : Thread Cert.Sc3Ideal.nD Cert.Sc3Ideal.τ).loc Cert.Sc3Ideal.main_arg4) = m ((c.tc : Thread Cert.Sc3Ideal.nD Cert.Sc3Ideal.τ).loc Cert.Sc3Ideal.main_arg4)
      ∧ r.2.mem ((c.tc : Thread Cert.Sc3Ideal.nD Cert.Sc3Ideal.τ).loc Cert.Sc3Ideal.main_arg5) = m ((c.tc : Thread Cert.Sc3Ideal.nD Cert.Sc3Ideal.τ).loc Cert.Sc3Ideal.main_arg5))
      ∧ r.2.sem = fun _ => 0)

def quiescent_Sc3RefIdeal [hSc3RefIdeal : Cert.Sc3RefIdeal.Facts] : Prop :=
  ∀ (m : (ℓ : Loc Cert.Sc3RefIdeal.nD Cert.Sc3RefIdeal.τ Cert.Sc3RefIdeal.sig) → Buf (Elt Ideal) ℓ) (g : Dev Cert.Sc3RefIdeal.nD → PrngReg), Pre_Sc3RefIdeal m →
    θ_run (Cert.Sc3RefIdeal.defs (F := Ideal)) (onTc (τ := Cert.Sc3RefIdeal.τ) (Cert.Sc3RefIdeal.main (F := Ideal))) ⟨m, fun _ => 0, g⟩ (fun r => (∀ c : Dev Cert.Sc3RefIdeal.nD,
      r.2.mem ((c.tc : Thread Cert.Sc3RefIdeal.nD Cert.Sc3RefIdeal.τ).loc Cert.Sc3RefIdeal.main_arg0) = m ((c.tc : Thread Cert.Sc3RefIdeal.nD Cert.Sc3RefIdeal.τ).loc Cert.Sc3RefIdeal.main_arg0)
      ∧ r.2.mem ((c.tc : Thread Cert.Sc3RefIdeal.nD Cert.Sc3RefIdeal.τ).loc Cert.Sc3RefIdeal.main_arg1) = m ((c.tc : Thread Cert.Sc3RefIdeal.nD Cert.Sc3RefIdeal.τ).loc Cert.Sc3RefIdeal.main_arg1)
      ∧ r.2.mem ((c.tc : Thread Cert.Sc3RefIdeal.nD Cert.Sc3RefIdeal.τ).loc Cert.Sc3RefIdeal.main_arg2) = m ((c.tc : Thread Cert.Sc3RefIdeal.nD Cert.Sc3RefIdeal.τ).loc Cert.Sc3RefIdeal.main_arg2)
      ∧ r.2.mem ((c.tc : Thread Cert.Sc3RefIdeal.nD Cert.Sc3RefIdeal.τ).loc Cert.Sc3RefIdeal.main_arg3) = m ((c.tc : Thread Cert.Sc3RefIdeal.nD Cert.Sc3RefIdeal.τ).loc Cert.Sc3RefIdeal.main_arg3)
      ∧ r.2.mem ((c.tc : Thread Cert.Sc3RefIdeal.nD Cert.Sc3RefIdeal.τ).loc Cert.Sc3RefIdeal.main_arg4) = m ((c.tc : Thread Cert.Sc3RefIdeal.nD Cert.Sc3RefIdeal.τ).loc Cert.Sc3RefIdeal.main_arg4)
      ∧ r.2.mem ((c.tc : Thread Cert.Sc3RefIdeal.nD Cert.Sc3RefIdeal.τ).loc Cert.Sc3RefIdeal.main_arg5) = m ((c.tc : Thread Cert.Sc3RefIdeal.nD Cert.Sc3RefIdeal.τ).loc Cert.Sc3RefIdeal.main_arg5))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4)
      ∧ r.2.mem ((c.tc : Thread Cert.Adam.nD Cert.Adam.τ).loc Cert.Adam.main_arg5) = m ((c.tc : Thread Cert.Adam.nD Cert.Adam.τ).loc Cert.Adam.main_arg5)
      ∧ r.2.mem ((c.tc : Thread Cert.Adam.nD Cert.Adam.τ).loc Cert.Adam.main_arg6) = m ((c.tc : Thread Cert.Adam.nD Cert.Adam.τ).loc Cert.Adam.main_arg6)
      ∧ r.2.mem ((c.tc : Thread Cert.Adam.nD Cert.Adam.τ).loc Cert.Adam.main_arg7) = m ((c.tc : Thread Cert.Adam.nD Cert.Adam.τ).loc Cert.Adam.main_arg7)
      ∧ r.2.mem ((c.tc : Thread Cert.Adam.nD Cert.Adam.τ).loc Cert.Adam.main_arg8) = m ((c.tc : Thread Cert.Adam.nD Cert.Adam.τ).loc Cert.Adam.main_arg8)
      ∧ r.2.mem ((c.tc : Thread Cert.Adam.nD Cert.Adam.τ).loc Cert.Adam.main_arg9) = m ((c.tc : Thread Cert.Adam.nD Cert.Adam.τ).loc Cert.Adam.main_arg9)
      ∧ r.2.mem ((c.tc : Thread Cert.Adam.nD Cert.Adam.τ).loc Cert.Adam.main_arg10) = m ((c.tc : Thread Cert.Adam.nD Cert.Adam.τ).loc Cert.Adam.main_arg10)
      ∧ r.2.mem ((c.tc : Thread Cert.Adam.nD Cert.Adam.τ).loc Cert.Adam.main_arg11) = m ((c.tc : Thread Cert.Adam.nD Cert.Adam.τ).loc Cert.Adam.main_arg11)
      ∧ r.2.mem ((c.tc : Thread Cert.Adam.nD Cert.Adam.τ).loc Cert.Adam.main_arg12) = m ((c.tc : Thread Cert.Adam.nD Cert.Adam.τ).loc Cert.Adam.main_arg12)
      ∧ r.2.mem ((c.tc : Thread Cert.Adam.nD Cert.Adam.τ).loc Cert.Adam.main_arg13) = m ((c.tc : Thread Cert.Adam.nD Cert.Adam.τ).loc Cert.Adam.main_arg13)
      ∧ r.2.mem ((c.tc : Thread Cert.Adam.nD Cert.Adam.τ).loc Cert.Adam.main_arg14) = m ((c.tc : Thread Cert.Adam.nD Cert.Adam.τ).loc Cert.Adam.main_arg14)
      ∧ r.2.mem ((c.tc : Thread Cert.Adam.nD Cert.Adam.τ).loc Cert.Adam.main_arg15) = m ((c.tc : Thread Cert.Adam.nD Cert.Adam.τ).loc Cert.Adam.main_arg15)
      ∧ r.2.mem ((c.tc : Thread Cert.Adam.nD Cert.Adam.τ).loc Cert.Adam.main_arg16) = m ((c.tc : Thread Cert.Adam.nD Cert.Adam.τ).loc Cert.Adam.main_arg16)
      ∧ r.2.mem ((c.tc : Thread Cert.Adam.nD Cert.Adam.τ).loc Cert.Adam.main_arg17) = m ((c.tc : Thread Cert.Adam.nD Cert.Adam.τ).loc Cert.Adam.main_arg17)
      ∧ r.2.mem ((c.tc : Thread Cert.Adam.nD Cert.Adam.τ).loc Cert.Adam.main_arg18) = m ((c.tc : Thread Cert.Adam.nD Cert.Adam.τ).loc Cert.Adam.main_arg18))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
      ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
      ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
      ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7)
      ∧ r.2.mem ((c.tc : Thread Cert.AdamIdeal.nD Cert.AdamIdeal.τ).loc Cert.AdamIdeal.main_arg8) = m ((c.tc : Thread Cert.AdamIdeal.nD Cert.AdamIdeal.τ).loc Cert.AdamIdeal.main_arg8)
      ∧ r.2.mem ((c.tc : Thread Cert.AdamIdeal.nD Cert.AdamIdeal.τ).loc Cert.AdamIdeal.main_arg9) = m ((c.tc : Thread Cert.AdamIdeal.nD Cert.AdamIdeal.τ).loc Cert.AdamIdeal.main_arg9)
      ∧ r.2.mem ((c.tc : Thread Cert.AdamIdeal.nD Cert.AdamIdeal.τ).loc Cert.AdamIdeal.main_arg10) = m ((c.tc : Thread Cert.AdamIdeal.nD Cert.AdamIdeal.τ).loc Cert.AdamIdeal.main_arg10)
      ∧ r.2.mem ((c.tc : Thread Cert.AdamIdeal.nD Cert.AdamIdeal.τ).loc Cert.AdamIdeal.main_arg11) = m ((c.tc : Thread Cert.AdamIdeal.nD Cert.AdamIdeal.τ).loc Cert.AdamIdeal.main_arg11)
      ∧ r.2.mem ((c.tc : Thread Cert.AdamIdeal.nD Cert.AdamIdeal.τ).loc Cert.AdamIdeal.main_arg12) = m ((c.tc : Thread Cert.AdamIdeal.nD Cert.AdamIdeal.τ).loc Cert.AdamIdeal.main_arg12)
      ∧ r.2.mem ((c.tc : Thread Cert.AdamIdeal.nD Cert.AdamIdeal.τ).loc Cert.AdamIdeal.main_arg13) = m ((c.tc : Thread Cert.AdamIdeal.nD Cert.AdamIdeal.τ).loc Cert.AdamIdeal.main_arg13)
      ∧ r.2.mem ((c.tc : Thread Cert.AdamIdeal.nD Cert.AdamIdeal.τ).loc Cert.AdamIdeal.main_arg14) = m ((c.tc : Thread Cert.AdamIdeal.nD Cert.AdamIdeal.τ).loc Cert.AdamIdeal.main_arg14)
      ∧ r.2.mem ((c.tc : Thread Cert.AdamIdeal.nD Cert.AdamIdeal.τ).loc Cert.AdamIdeal.main_arg15) = m ((c.tc : Thread Cert.AdamIdeal.nD Cert.AdamIdeal.τ).loc Cert.AdamIdeal.main_arg15)
      ∧ r.2.mem ((c.tc : Thread Cert.AdamIdeal.nD Cert.AdamIdeal.τ).loc Cert.AdamIdeal.main_arg16) = m ((c.tc : Thread Cert.AdamIdeal.nD Cert.AdamIdeal.τ).loc Cert.AdamIdeal.main_arg16)
      ∧ r.2.mem ((c.tc : Thread Cert.AdamIdeal.nD Cert.AdamIdeal.τ).loc Cert.AdamIdeal.main_arg17) = m ((c.tc : Thread Cert.AdamIdeal.nD Cert.AdamIdeal.τ).loc Cert.AdamIdeal.main_arg17)
      ∧ r.2.mem ((c.tc : Thread Cert.AdamIdeal.nD Cert.AdamIdeal.τ).loc Cert.AdamIdeal.main_arg18) = m ((c.tc : Thread Cert.AdamIdeal.nD Cert.AdamIdeal.τ).loc Cert.AdamIdeal.main_arg18))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4)
      ∧ r.2.mem ((c.tc : Thread Cert.AdamRefIdeal.nD Cert.AdamRefIdeal.τ).loc Cert.AdamRefIdeal.main_arg5) = m ((c.tc : Thread Cert.AdamRefIdeal.nD Cert.AdamRefIdeal.τ).loc Cert.AdamRefIdeal.main_arg5)
      ∧ r.2.mem ((c.tc : Thread Cert.AdamRefIdeal.nD Cert.AdamRefIdeal.τ).loc Cert.AdamRefIdeal.main_arg6) = m ((c.tc : Thread Cert.AdamRefIdeal.nD Cert.AdamRefIdeal.τ).loc Cert.AdamRefIdeal.main_arg6)
      ∧ r.2.mem ((c.tc : Thread Cert.AdamRefIdeal.nD Cert.AdamRefIdeal.τ).loc Cert.AdamRefIdeal.main_arg7) = m ((c.tc : Thread Cert.AdamRefIdeal.nD Cert.AdamRefIdeal.τ).loc Cert.AdamRefIdeal.main_arg7)
      ∧ r.2.mem ((c.tc : Thread Cert.AdamRefIdeal.nD Cert.AdamRefIdeal.τ).loc Cert.AdamRefIdeal.main_arg8) = m ((c.tc : Thread Cert.AdamRefIdeal.nD Cert.AdamRefIdeal.τ).loc Cert.AdamRefIdeal.main_arg8)
      ∧ r.2.mem ((c.tc : Thread Cert.AdamRefIdeal.nD Cert.AdamRefIdeal.τ).loc Cert.AdamRefIdeal.main_arg9) = m ((c.tc : Thread Cert.AdamRefIdeal.nD Cert.AdamRefIdeal.τ).loc Cert.AdamRefIdeal.main_arg9)
      ∧ r.2.mem ((c.tc : Thread Cert.AdamRefIdeal.nD Cert.AdamRefIdeal.τ).loc Cert.AdamRefIdeal.main_arg10) = m ((c.tc : Thread Cert.AdamRefIdeal.nD Cert.AdamRefIdeal.τ).loc Cert.AdamRefIdeal.main_arg10)
      ∧ r.2.mem ((c.tc : Thread Cert.AdamRefIdeal.nD Cert.AdamRefIdeal.τ).loc Cert.AdamRefIdeal.main_arg11) = m ((c.tc : Thread Cert.AdamRefIdeal.nD Cert.AdamRefIdeal.τ).loc Cert.AdamRefIdeal.main_arg11)
      ∧ r.2.mem ((c.tc : Thread Cert.AdamRefIdeal.nD Cert.AdamRefIdeal.τ).loc Cert.AdamRefIdeal.main_arg12) = m ((c.tc : Thread Cert.AdamRefIdeal.nD Cert.AdamRefIdeal.τ).loc Cert.AdamRefIdeal.main_arg12)
      ∧ r.2.mem ((c.tc : Thread Cert.AdamRefIdeal.nD Cert.AdamRefIdeal.τ).loc Cert.AdamRefIdeal.main_arg13) = m ((c.tc : Thread Cert.AdamRefIdeal.nD Cert.AdamRefIdeal.τ).loc Cert.AdamRefIdeal.main_arg13)
      ∧ r.2.mem ((c.tc : Thread Cert.AdamRefIdeal.nD Cert.AdamRefIdeal.τ).loc Cert.AdamRefIdeal.main_arg14) = m ((c.tc : Thread Cert.AdamRefIdeal.nD Cert.AdamRefIdeal.τ).loc Cert.AdamRefIdeal.main_arg14)
      ∧ r.2.mem ((c.tc : Thread Cert.AdamRefIdeal.nD Cert.AdamRefIdeal.τ).loc Cert.AdamRefIdeal.main_arg15) = m ((c.tc : Thread Cert.AdamRefIdeal.nD Cert.AdamRefIdeal.τ).loc Cert.AdamRefIdeal.main_arg15)
      ∧ r.2.mem ((c.tc : Thread Cert.AdamRefIdeal.nD Cert.AdamRefIdeal.τ).loc Cert.AdamRefIdeal.main_arg16) = m ((c.tc : Thread Cert.AdamRefIdeal.nD Cert.AdamRefIdeal.τ).loc Cert.AdamRefIdeal.main_arg16)
      ∧ r.2.mem ((c.tc : Thread Cert.AdamRefIdeal.nD Cert.AdamRefIdeal.τ).loc Cert.AdamRefIdeal.main_arg17) = m ((c.tc : Thread Cert.AdamRefIdeal.nD Cert.AdamRefIdeal.τ).loc Cert.AdamRefIdeal.main_arg17)
      ∧ r.2.mem ((c.tc : Thread Cert.AdamRefIdeal.nD Cert.AdamRefIdeal.τ).loc Cert.AdamRefIdeal.main_arg18) = m ((c.tc : Thread Cert.AdamRefIdeal.nD Cert.AdamRefIdeal.τ).loc Cert.AdamRefIdeal.main_arg18))
      ∧ r.2.sem = fun _ => 0)

def quiescent_Adam1 [hAdam1 : Cert.Adam1.Facts] : Prop :=
  ∀ (m : (ℓ : Loc Cert.Adam1.nD Cert.Adam1.τ Cert.Adam1.sig) → Buf (Elt Bits) ℓ) (g : Dev Cert.Adam1.nD → PrngReg), Pre_Adam1 m →
    θ_run (Cert.Adam1.defs (F := Bits)) (onTc (τ := Cert.Adam1.τ) (Cert.Adam1.main (F := Bits))) ⟨m, fun _ => 0, g⟩ (fun r => (∀ c : Dev Cert.Adam1.nD,
      r.2.mem ((c.tc : Thread Cert.Adam1.nD Cert.Adam1.τ).loc Cert.Adam1.main_arg0) = m ((c.tc : Thread Cert.Adam1.nD Cert.Adam1.τ).loc Cert.Adam1.main_arg0)
      ∧ r.2.mem ((c.tc : Thread Cert.Adam1.nD Cert.Adam1.τ).loc Cert.Adam1.main_arg1) = m ((c.tc : Thread Cert.Adam1.nD Cert.Adam1.τ).loc Cert.Adam1.main_arg1)
      ∧ r.2.mem ((c.tc : Thread Cert.Adam1.nD Cert.Adam1.τ).loc Cert.Adam1.main_arg2) = m ((c.tc : Thread Cert.Adam1.nD Cert.Adam1.τ).loc Cert.Adam1.main_arg2)
      ∧ r.2.mem ((c.tc : Thread Cert.Adam1.nD Cert.Adam1.τ).loc Cert.Adam1.main_arg3) = m ((c.tc : Thread Cert.Adam1.nD Cert.Adam1.τ).loc Cert.Adam1.main_arg3)
      ∧ r.2.mem ((c.tc : Thread Cert.Adam1.nD Cert.Adam1.τ).loc Cert.Adam1.main_arg4) = m ((c.tc : Thread Cert.Adam1.nD Cert.Adam1.τ).loc Cert.Adam1.main_arg4)
      ∧ r.2.mem ((c.tc : Thread Cert.Adam1.nD Cert.Adam1.τ).loc Cert.Adam1.main_arg5) = m ((c.tc : Thread Cert.Adam1.nD Cert.Adam1.τ).loc Cert.Adam1.main_arg5)
      ∧ r.2.mem ((c.tc : Thread Cert.Adam1.nD Cert.Adam1.τ).loc Cert.Adam1.main_arg6) = m ((c.tc : Thread Cert.Adam1.nD Cert.Adam1.τ).loc Cert.Adam1.main_arg6)
      ∧ r.2.mem ((c.tc : Thread Cert.Adam1.nD Cert.Adam1.τ).loc Cert.Adam1.main_arg7) = m ((c.tc : Thread Cert.Adam1.nD Cert.Adam1.τ).loc Cert.Adam1.main_arg7)
      ∧ r.2.mem ((c.tc : Thread Cert.Adam1.nD Cert.Adam1.τ).loc Cert.Adam1.main_arg8) = m ((c.tc : Thread Cert.Adam1.nD Cert.Adam1.τ).loc Cert.Adam1.main_arg8)
      ∧ r.2.mem ((c.tc : Thread Cert.Adam1.nD Cert.Adam1.τ).loc Cert.Adam1.main_arg9) = m ((c.tc : Thread Cert.Adam1.nD Cert.Adam1.τ).loc Cert.Adam1.main_arg9)
      ∧ r.2.mem ((c.tc : Thread Cert.Adam1.nD Cert.Adam1.τ).loc Cert.Adam1.main_arg10) = m ((c.tc : Thread Cert.Adam1.nD Cert.Adam1.τ).loc Cert.Adam1.main_arg10)
      ∧ r.2.mem ((c.tc : Thread Cert.Adam1.nD Cert.Adam1.τ).loc Cert.Adam1.main_arg11) = m ((c.tc : Thread Cert.Adam1.nD Cert.Adam1.τ).loc Cert.Adam1.main_arg11)
      ∧ r.2.mem ((c.tc : Thread Cert.Adam1.nD Cert.Adam1.τ).loc Cert.Adam1.main_arg12) = m ((c.tc : Thread Cert.Adam1.nD Cert.Adam1.τ).loc Cert.Adam1.main_arg12)
      ∧ r.2.mem ((c.tc : Thread Cert.Adam1.nD Cert.Adam1.τ).loc Cert.Adam1.main_arg13) = m ((c.tc : Thread Cert.Adam1.nD Cert.Adam1.τ).loc Cert.Adam1.main_arg13)
      ∧ r.2.mem ((c.tc : Thread Cert.Adam1.nD Cert.Adam1.τ).loc Cert.Adam1.main_arg14) = m ((c.tc : Thread Cert.Adam1.nD Cert.Adam1.τ).loc Cert.Adam1.main_arg14)
      ∧ r.2.mem ((c.tc : Thread Cert.Adam1.nD Cert.Adam1.τ).loc Cert.Adam1.main_arg15) = m ((c.tc : Thread Cert.Adam1.nD Cert.Adam1.τ).loc Cert.Adam1.main_arg15)
      ∧ r.2.mem ((c.tc : Thread Cert.Adam1.nD Cert.Adam1.τ).loc Cert.Adam1.main_arg16) = m ((c.tc : Thread Cert.Adam1.nD Cert.Adam1.τ).loc Cert.Adam1.main_arg16)
      ∧ r.2.mem ((c.tc : Thread Cert.Adam1.nD Cert.Adam1.τ).loc Cert.Adam1.main_arg17) = m ((c.tc : Thread Cert.Adam1.nD Cert.Adam1.τ).loc Cert.Adam1.main_arg17)
      ∧ r.2.mem ((c.tc : Thread Cert.Adam1.nD Cert.Adam1.τ).loc Cert.Adam1.main_arg18) = m ((c.tc : Thread Cert.Adam1.nD Cert.Adam1.τ).loc Cert.Adam1.main_arg18)
      ∧ r.2.mem ((c.tc : Thread Cert.Adam1.nD Cert.Adam1.τ).loc Cert.Adam1.main_arg19) = m ((c.tc : Thread Cert.Adam1.nD Cert.Adam1.τ).loc Cert.Adam1.main_arg19)
      ∧ r.2.mem ((c.tc : Thread Cert.Adam1.nD Cert.Adam1.τ).loc Cert.Adam1.main_arg20) = m ((c.tc : Thread Cert.Adam1.nD Cert.Adam1.τ).loc Cert.Adam1.main_arg20)
      ∧ r.2.mem ((c.tc : Thread Cert.Adam1.nD Cert.Adam1.τ).loc Cert.Adam1.main_arg21) = m ((c.tc : Thread Cert.Adam1.nD Cert.Adam1.τ).loc Cert.Adam1.main_arg21)
      ∧ r.2.mem ((c.tc : Thread Cert.Adam1.nD Cert.Adam1.τ).loc Cert.Adam1.main_arg22) = m ((c.tc : Thread Cert.Adam1.nD Cert.Adam1.τ).loc Cert.Adam1.main_arg22)
      ∧ r.2.mem ((c.tc : Thread Cert.Adam1.nD Cert.Adam1.τ).loc Cert.Adam1.main_arg23) = m ((c.tc : Thread Cert.Adam1.nD Cert.Adam1.τ).loc Cert.Adam1.main_arg23)
      ∧ r.2.mem ((c.tc : Thread Cert.Adam1.nD Cert.Adam1.τ).loc Cert.Adam1.main_arg24) = m ((c.tc : Thread Cert.Adam1.nD Cert.Adam1.τ).loc Cert.Adam1.main_arg24)
      ∧ r.2.mem ((c.tc : Thread Cert.Adam1.nD Cert.Adam1.τ).loc Cert.Adam1.main_arg25) = m ((c.tc : Thread Cert.Adam1.nD Cert.Adam1.τ).loc Cert.Adam1.main_arg25)
      ∧ r.2.mem ((c.tc : Thread Cert.Adam1.nD Cert.Adam1.τ).loc Cert.Adam1.main_arg26) = m ((c.tc : Thread Cert.Adam1.nD Cert.Adam1.τ).loc Cert.Adam1.main_arg26)
      ∧ r.2.mem ((c.tc : Thread Cert.Adam1.nD Cert.Adam1.τ).loc Cert.Adam1.main_arg27) = m ((c.tc : Thread Cert.Adam1.nD Cert.Adam1.τ).loc Cert.Adam1.main_arg27)
      ∧ r.2.mem ((c.tc : Thread Cert.Adam1.nD Cert.Adam1.τ).loc Cert.Adam1.main_arg28) = m ((c.tc : Thread Cert.Adam1.nD Cert.Adam1.τ).loc Cert.Adam1.main_arg28)
      ∧ r.2.mem ((c.tc : Thread Cert.Adam1.nD Cert.Adam1.τ).loc Cert.Adam1.main_arg29) = m ((c.tc : Thread Cert.Adam1.nD Cert.Adam1.τ).loc Cert.Adam1.main_arg29)
      ∧ r.2.mem ((c.tc : Thread Cert.Adam1.nD Cert.Adam1.τ).loc Cert.Adam1.main_arg30) = m ((c.tc : Thread Cert.Adam1.nD Cert.Adam1.τ).loc Cert.Adam1.main_arg30)
      ∧ r.2.mem ((c.tc : Thread Cert.Adam1.nD Cert.Adam1.τ).loc Cert.Adam1.main_arg31) = m ((c.tc : Thread Cert.Adam1.nD Cert.Adam1.τ).loc Cert.Adam1.main_arg31)
      ∧ r.2.mem ((c.tc : Thread Cert.Adam1.nD Cert.Adam1.τ).loc Cert.Adam1.main_arg32) = m ((c.tc : Thread Cert.Adam1.nD Cert.Adam1.τ).loc Cert.Adam1.main_arg32)
      ∧ r.2.mem ((c.tc : Thread Cert.Adam1.nD Cert.Adam1.τ).loc Cert.Adam1.main_arg33) = m ((c.tc : Thread Cert.Adam1.nD Cert.Adam1.τ).loc Cert.Adam1.main_arg33)
      ∧ r.2.mem ((c.tc : Thread Cert.Adam1.nD Cert.Adam1.τ).loc Cert.Adam1.main_arg34) = m ((c.tc : Thread Cert.Adam1.nD Cert.Adam1.τ).loc Cert.Adam1.main_arg34))
      ∧ r.2.sem = fun _ => 0)

def quiescent_Adam1Ideal [hAdam1Ideal : Cert.Adam1Ideal.Facts] : Prop :=
  ∀ (m : (ℓ : Loc Cert.Adam1Ideal.nD Cert.Adam1Ideal.τ Cert.Adam1Ideal.sig) → Buf (Elt Ideal) ℓ) (g : Dev Cert.Adam1Ideal.nD → PrngReg), Pre_Adam1Ideal m →
    θ_run (Cert.Adam1Ideal.defs (F := Ideal)) (onTc (τ := Cert.Adam1Ideal.τ) (Cert.Adam1Ideal.main (F := Ideal))) ⟨m, fun _ => 0, g⟩ (fun r => (∀ c : Dev Cert.Adam1Ideal.nD,
      r.2.mem ((c.tc : Thread Cert.Adam1Ideal.nD Cert.Adam1Ideal.τ).loc Cert.Adam1Ideal.main_arg0) = m ((c.tc : Thread Cert.Adam1Ideal.nD Cert.Adam1Ideal.τ).loc Cert.Adam1Ideal.main_arg0)
      ∧ r.2.mem ((c.tc : Thread Cert.Adam1Ideal.nD Cert.Adam1Ideal.τ).loc Cert.Adam1Ideal.main_arg1) = m ((c.tc : Thread Cert.Adam1Ideal.nD Cert.Adam1Ideal.τ).loc Cert.Adam1Ideal.main_arg1)
      ∧ r.2.mem ((c.tc : Thread Cert.Adam1Ideal.nD Cert.Adam1Ideal.τ).loc Cert.Adam1Ideal.main_arg2) = m ((c.tc : Thread Cert.Adam1Ideal.nD Cert.Adam1Ideal.τ).loc Cert.Adam1Ideal.main_arg2)
      ∧ r.2.mem ((c.tc : Thread Cert.Adam1Ideal.nD Cert.Adam1Ideal.τ).loc Cert.Adam1Ideal.main_arg3) = m ((c.tc : Thread Cert.Adam1Ideal.nD Cert.Adam1Ideal.τ).loc Cert.Adam1Ideal.main_arg3)
      ∧ r.2.mem ((c.tc : Thread Cert.Adam1Ideal.nD Cert.Adam1Ideal.τ).loc Cert.Adam1Ideal.main_arg4) = m ((c.tc : Thread Cert.Adam1Ideal.nD Cert.Adam1Ideal.τ).loc Cert.Adam1Ideal.main_arg4)
      ∧ r.2.mem ((c.tc : Thread Cert.Adam1Ideal.nD Cert.Adam1Ideal.τ).loc Cert.Adam1Ideal.main_arg5) = m ((c.tc : Thread Cert.Adam1Ideal.nD Cert.Adam1Ideal.τ).loc Cert.Adam1Ideal.main_arg5)
      ∧ r.2.mem ((c.tc : Thread Cert.Adam1Ideal.nD Cert.Adam1Ideal.τ).loc Cert.Adam1Ideal.main_arg6) = m ((c.tc : Thread Cert.Adam1Ideal.nD Cert.Adam1Ideal.τ).loc Cert.Adam1Ideal.main_arg6)
      ∧ r.2.mem ((c.tc : Thread Cert.Adam1Ideal.nD Cert.Adam1Ideal.τ).loc Cert.Adam1Ideal.main_arg7) = m ((c.tc : Thread Cert.Adam1Ideal.nD Cert.Adam1Ideal.τ).loc Cert.Adam1Ideal.main_arg7)
      ∧ r.2.mem ((c.tc : Thread Cert.Adam1Ideal.nD Cert.Adam1Ideal.τ).loc Cert.Adam1Ideal.main_arg8) = m ((c.tc : Thread Cert.Adam1Ideal.nD Cert.Adam1Ideal.τ).loc Cert.Adam1Ideal.main_arg8)
      ∧ r.2.mem ((c.tc : Thread Cert.Adam1Ideal.nD Cert.Adam1Ideal.τ).loc Cert.Adam1Ideal.main_arg9) = m ((c.tc : Thread Cert.Adam1Ideal.nD Cert.Adam1Ideal.τ).loc Cert.Adam1Ideal.main_arg9)
      ∧ r.2.mem ((c.tc : Thread Cert.Adam1Ideal.nD Cert.Adam1Ideal.τ).loc Cert.Adam1Ideal.main_arg10) = m ((c.tc : Thread Cert.Adam1Ideal.nD Cert.Adam1Ideal.τ).loc Cert.Adam1Ideal.main_arg10)
      ∧ r.2.mem ((c.tc : Thread Cert.Adam1Ideal.nD Cert.Adam1Ideal.τ).loc Cert.Adam1Ideal.main_arg11) = m ((c.tc : Thread Cert.Adam1Ideal.nD Cert.Adam1Ideal.τ).loc Cert.Adam1Ideal.main_arg11)
      ∧ r.2.mem ((c.tc : Thread Cert.Adam1Ideal.nD Cert.Adam1Ideal.τ).loc Cert.Adam1Ideal.main_arg12) = m ((c.tc : Thread Cert.Adam1Ideal.nD Cert.Adam1Ideal.τ).loc Cert.Adam1Ideal.main_arg12)
      ∧ r.2.mem ((c.tc : Thread Cert.Adam1Ideal.nD Cert.Adam1Ideal.τ).loc Cert.Adam1Ideal.main_arg13) = m ((c.tc : Thread Cert.Adam1Ideal.nD Cert.Adam1Ideal.τ).loc Cert.Adam1Ideal.main_arg13)
      ∧ r.2.mem ((c.tc : Thread Cert.Adam1Ideal.nD Cert.Adam1Ideal.τ).loc Cert.Adam1Ideal.main_arg14) = m ((c.tc : Thread Cert.Adam1Ideal.nD Cert.Adam1Ideal.τ).loc Cert.Adam1Ideal.main_arg14)
      ∧ r.2.mem ((c.tc : Thread Cert.Adam1Ideal.nD Cert.Adam1Ideal.τ).loc Cert.Adam1Ideal.main_arg15) = m ((c.tc : Thread Cert.Adam1Ideal.nD Cert.Adam1Ideal.τ).loc Cert.Adam1Ideal.main_arg15)
      ∧ r.2.mem ((c.tc : Thread Cert.Adam1Ideal.nD Cert.Adam1Ideal.τ).loc Cert.Adam1Ideal.main_arg16) = m ((c.tc : Thread Cert.Adam1Ideal.nD Cert.Adam1Ideal.τ).loc Cert.Adam1Ideal.main_arg16)
      ∧ r.2.mem ((c.tc : Thread Cert.Adam1Ideal.nD Cert.Adam1Ideal.τ).loc Cert.Adam1Ideal.main_arg17) = m ((c.tc : Thread Cert.Adam1Ideal.nD Cert.Adam1Ideal.τ).loc Cert.Adam1Ideal.main_arg17)
      ∧ r.2.mem ((c.tc : Thread Cert.Adam1Ideal.nD Cert.Adam1Ideal.τ).loc Cert.Adam1Ideal.main_arg18) = m ((c.tc : Thread Cert.Adam1Ideal.nD Cert.Adam1Ideal.τ).loc Cert.Adam1Ideal.main_arg18)
      ∧ r.2.mem ((c.tc : Thread Cert.Adam1Ideal.nD Cert.Adam1Ideal.τ).loc Cert.Adam1Ideal.main_arg19) = m ((c.tc : Thread Cert.Adam1Ideal.nD Cert.Adam1Ideal.τ).loc Cert.Adam1Ideal.main_arg19)
      ∧ r.2.mem ((c.tc : Thread Cert.Adam1Ideal.nD Cert.Adam1Ideal.τ).loc Cert.Adam1Ideal.main_arg20) = m ((c.tc : Thread Cert.Adam1Ideal.nD Cert.Adam1Ideal.τ).loc Cert.Adam1Ideal.main_arg20)
      ∧ r.2.mem ((c.tc : Thread Cert.Adam1Ideal.nD Cert.Adam1Ideal.τ).loc Cert.Adam1Ideal.main_arg21) = m ((c.tc : Thread Cert.Adam1Ideal.nD Cert.Adam1Ideal.τ).loc Cert.Adam1Ideal.main_arg21)
      ∧ r.2.mem ((c.tc : Thread Cert.Adam1Ideal.nD Cert.Adam1Ideal.τ).loc Cert.Adam1Ideal.main_arg22) = m ((c.tc : Thread Cert.Adam1Ideal.nD Cert.Adam1Ideal.τ).loc Cert.Adam1Ideal.main_arg22)
      ∧ r.2.mem ((c.tc : Thread Cert.Adam1Ideal.nD Cert.Adam1Ideal.τ).loc Cert.Adam1Ideal.main_arg23) = m ((c.tc : Thread Cert.Adam1Ideal.nD Cert.Adam1Ideal.τ).loc Cert.Adam1Ideal.main_arg23)
      ∧ r.2.mem ((c.tc : Thread Cert.Adam1Ideal.nD Cert.Adam1Ideal.τ).loc Cert.Adam1Ideal.main_arg24) = m ((c.tc : Thread Cert.Adam1Ideal.nD Cert.Adam1Ideal.τ).loc Cert.Adam1Ideal.main_arg24)
      ∧ r.2.mem ((c.tc : Thread Cert.Adam1Ideal.nD Cert.Adam1Ideal.τ).loc Cert.Adam1Ideal.main_arg25) = m ((c.tc : Thread Cert.Adam1Ideal.nD Cert.Adam1Ideal.τ).loc Cert.Adam1Ideal.main_arg25)
      ∧ r.2.mem ((c.tc : Thread Cert.Adam1Ideal.nD Cert.Adam1Ideal.τ).loc Cert.Adam1Ideal.main_arg26) = m ((c.tc : Thread Cert.Adam1Ideal.nD Cert.Adam1Ideal.τ).loc Cert.Adam1Ideal.main_arg26)
      ∧ r.2.mem ((c.tc : Thread Cert.Adam1Ideal.nD Cert.Adam1Ideal.τ).loc Cert.Adam1Ideal.main_arg27) = m ((c.tc : Thread Cert.Adam1Ideal.nD Cert.Adam1Ideal.τ).loc Cert.Adam1Ideal.main_arg27)
      ∧ r.2.mem ((c.tc : Thread Cert.Adam1Ideal.nD Cert.Adam1Ideal.τ).loc Cert.Adam1Ideal.main_arg28) = m ((c.tc : Thread Cert.Adam1Ideal.nD Cert.Adam1Ideal.τ).loc Cert.Adam1Ideal.main_arg28)
      ∧ r.2.mem ((c.tc : Thread Cert.Adam1Ideal.nD Cert.Adam1Ideal.τ).loc Cert.Adam1Ideal.main_arg29) = m ((c.tc : Thread Cert.Adam1Ideal.nD Cert.Adam1Ideal.τ).loc Cert.Adam1Ideal.main_arg29)
      ∧ r.2.mem ((c.tc : Thread Cert.Adam1Ideal.nD Cert.Adam1Ideal.τ).loc Cert.Adam1Ideal.main_arg30) = m ((c.tc : Thread Cert.Adam1Ideal.nD Cert.Adam1Ideal.τ).loc Cert.Adam1Ideal.main_arg30)
      ∧ r.2.mem ((c.tc : Thread Cert.Adam1Ideal.nD Cert.Adam1Ideal.τ).loc Cert.Adam1Ideal.main_arg31) = m ((c.tc : Thread Cert.Adam1Ideal.nD Cert.Adam1Ideal.τ).loc Cert.Adam1Ideal.main_arg31)
      ∧ r.2.mem ((c.tc : Thread Cert.Adam1Ideal.nD Cert.Adam1Ideal.τ).loc Cert.Adam1Ideal.main_arg32) = m ((c.tc : Thread Cert.Adam1Ideal.nD Cert.Adam1Ideal.τ).loc Cert.Adam1Ideal.main_arg32)
      ∧ r.2.mem ((c.tc : Thread Cert.Adam1Ideal.nD Cert.Adam1Ideal.τ).loc Cert.Adam1Ideal.main_arg33) = m ((c.tc : Thread Cert.Adam1Ideal.nD Cert.Adam1Ideal.τ).loc Cert.Adam1Ideal.main_arg33)
      ∧ r.2.mem ((c.tc : Thread Cert.Adam1Ideal.nD Cert.Adam1Ideal.τ).loc Cert.Adam1Ideal.main_arg34) = m ((c.tc : Thread Cert.Adam1Ideal.nD Cert.Adam1Ideal.τ).loc Cert.Adam1Ideal.main_arg34))
      ∧ r.2.sem = fun _ => 0)

def quiescent_Adam1RefIdeal [hAdam1RefIdeal : Cert.Adam1RefIdeal.Facts] : Prop :=
  ∀ (m : (ℓ : Loc Cert.Adam1RefIdeal.nD Cert.Adam1RefIdeal.τ Cert.Adam1RefIdeal.sig) → Buf (Elt Ideal) ℓ) (g : Dev Cert.Adam1RefIdeal.nD → PrngReg), Pre_Adam1RefIdeal m →
    θ_run (Cert.Adam1RefIdeal.defs (F := Ideal)) (onTc (τ := Cert.Adam1RefIdeal.τ) (Cert.Adam1RefIdeal.main (F := Ideal))) ⟨m, fun _ => 0, g⟩ (fun r => (∀ c : Dev Cert.Adam1RefIdeal.nD,
      r.2.mem ((c.tc : Thread Cert.Adam1RefIdeal.nD Cert.Adam1RefIdeal.τ).loc Cert.Adam1RefIdeal.main_arg0) = m ((c.tc : Thread Cert.Adam1RefIdeal.nD Cert.Adam1RefIdeal.τ).loc Cert.Adam1RefIdeal.main_arg0)
      ∧ r.2.mem ((c.tc : Thread Cert.Adam1RefIdeal.nD Cert.Adam1RefIdeal.τ).loc Cert.Adam1RefIdeal.main_arg1) = m ((c.tc : Thread Cert.Adam1RefIdeal.nD Cert.Adam1RefIdeal.τ).loc Cert.Adam1RefIdeal.main_arg1)
      ∧ r.2.mem ((c.tc : Thread Cert.Adam1RefIdeal.nD Cert.Adam1RefIdeal.τ).loc Cert.Adam1RefIdeal.main_arg2) = m ((c.tc : Thread Cert.Adam1RefIdeal.nD Cert.Adam1RefIdeal.τ).loc Cert.Adam1RefIdeal.main_arg2)
      ∧ r.2.mem ((c.tc : Thread Cert.Adam1RefIdeal.nD Cert.Adam1RefIdeal.τ).loc Cert.Adam1RefIdeal.main_arg3) = m ((c.tc : Thread Cert.Adam1RefIdeal.nD Cert.Adam1RefIdeal.τ).loc Cert.Adam1RefIdeal.main_arg3)
      ∧ r.2.mem ((c.tc : Thread Cert.Adam1RefIdeal.nD Cert.Adam1RefIdeal.τ).loc Cert.Adam1RefIdeal.main_arg4) = m ((c.tc : Thread Cert.Adam1RefIdeal.nD Cert.Adam1RefIdeal.τ).loc Cert.Adam1RefIdeal.main_arg4)
      ∧ r.2.mem ((c.tc : Thread Cert.Adam1RefIdeal.nD Cert.Adam1RefIdeal.τ).loc Cert.Adam1RefIdeal.main_arg5) = m ((c.tc : Thread Cert.Adam1RefIdeal.nD Cert.Adam1RefIdeal.τ).loc Cert.Adam1RefIdeal.main_arg5)
      ∧ r.2.mem ((c.tc : Thread Cert.Adam1RefIdeal.nD Cert.Adam1RefIdeal.τ).loc Cert.Adam1RefIdeal.main_arg6) = m ((c.tc : Thread Cert.Adam1RefIdeal.nD Cert.Adam1RefIdeal.τ).loc Cert.Adam1RefIdeal.main_arg6)
      ∧ r.2.mem ((c.tc : Thread Cert.Adam1RefIdeal.nD Cert.Adam1RefIdeal.τ).loc Cert.Adam1RefIdeal.main_arg7) = m ((c.tc : Thread Cert.Adam1RefIdeal.nD Cert.Adam1RefIdeal.τ).loc Cert.Adam1RefIdeal.main_arg7)
      ∧ r.2.mem ((c.tc : Thread Cert.Adam1RefIdeal.nD Cert.Adam1RefIdeal.τ).loc Cert.Adam1RefIdeal.main_arg8) = m ((c.tc : Thread Cert.Adam1RefIdeal.nD Cert.Adam1RefIdeal.τ).loc Cert.Adam1RefIdeal.main_arg8)
      ∧ r.2.mem ((c.tc : Thread Cert.Adam1RefIdeal.nD Cert.Adam1RefIdeal.τ).loc Cert.Adam1RefIdeal.main_arg9) = m ((c.tc : Thread Cert.Adam1RefIdeal.nD Cert.Adam1RefIdeal.τ).loc Cert.Adam1RefIdeal.main_arg9)
      ∧ r.2.mem ((c.tc : Thread Cert.Adam1RefIdeal.nD Cert.Adam1RefIdeal.τ).loc Cert.Adam1RefIdeal.main_arg10) = m ((c.tc : Thread Cert.Adam1RefIdeal.nD Cert.Adam1RefIdeal.τ).loc Cert.Adam1RefIdeal.main_arg10)
      ∧ r.2.mem ((c.tc : Thread Cert.Adam1RefIdeal.nD Cert.Adam1RefIdeal.τ).loc Cert.Adam1RefIdeal.main_arg11) = m ((c.tc : Thread Cert.Adam1RefIdeal.nD Cert.Adam1RefIdeal.τ).loc Cert.Adam1RefIdeal.main_arg11)
      ∧ r.2.mem ((c.tc : Thread Cert.Adam1RefIdeal.nD Cert.Adam1RefIdeal.τ).loc Cert.Adam1RefIdeal.main_arg12) = m ((c.tc : Thread Cert.Adam1RefIdeal.nD Cert.Adam1RefIdeal.τ).loc Cert.Adam1RefIdeal.main_arg12)
      ∧ r.2.mem ((c.tc : Thread Cert.Adam1RefIdeal.nD Cert.Adam1RefIdeal.τ).loc Cert.Adam1RefIdeal.main_arg13) = m ((c.tc : Thread Cert.Adam1RefIdeal.nD Cert.Adam1RefIdeal.τ).loc Cert.Adam1RefIdeal.main_arg13)
      ∧ r.2.mem ((c.tc : Thread Cert.Adam1RefIdeal.nD Cert.Adam1RefIdeal.τ).loc Cert.Adam1RefIdeal.main_arg14) = m ((c.tc : Thread Cert.Adam1RefIdeal.nD Cert.Adam1RefIdeal.τ).loc Cert.Adam1RefIdeal.main_arg14)
      ∧ r.2.mem ((c.tc : Thread Cert.Adam1RefIdeal.nD Cert.Adam1RefIdeal.τ).loc Cert.Adam1RefIdeal.main_arg15) = m ((c.tc : Thread Cert.Adam1RefIdeal.nD Cert.Adam1RefIdeal.τ).loc Cert.Adam1RefIdeal.main_arg15)
      ∧ r.2.mem ((c.tc : Thread Cert.Adam1RefIdeal.nD Cert.Adam1RefIdeal.τ).loc Cert.Adam1RefIdeal.main_arg16) = m ((c.tc : Thread Cert.Adam1RefIdeal.nD Cert.Adam1RefIdeal.τ).loc Cert.Adam1RefIdeal.main_arg16)
      ∧ r.2.mem ((c.tc : Thread Cert.Adam1RefIdeal.nD Cert.Adam1RefIdeal.τ).loc Cert.Adam1RefIdeal.main_arg17) = m ((c.tc : Thread Cert.Adam1RefIdeal.nD Cert.Adam1RefIdeal.τ).loc Cert.Adam1RefIdeal.main_arg17)
      ∧ r.2.mem ((c.tc : Thread Cert.Adam1RefIdeal.nD Cert.Adam1RefIdeal.τ).loc Cert.Adam1RefIdeal.main_arg18) = m ((c.tc : Thread Cert.Adam1RefIdeal.nD Cert.Adam1RefIdeal.τ).loc Cert.Adam1RefIdeal.main_arg18)
      ∧ r.2.mem ((c.tc : Thread Cert.Adam1RefIdeal.nD Cert.Adam1RefIdeal.τ).loc Cert.Adam1RefIdeal.main_arg19) = m ((c.tc : Thread Cert.Adam1RefIdeal.nD Cert.Adam1RefIdeal.τ).loc Cert.Adam1RefIdeal.main_arg19)
      ∧ r.2.mem ((c.tc : Thread Cert.Adam1RefIdeal.nD Cert.Adam1RefIdeal.τ).loc Cert.Adam1RefIdeal.main_arg20) = m ((c.tc : Thread Cert.Adam1RefIdeal.nD Cert.Adam1RefIdeal.τ).loc Cert.Adam1RefIdeal.main_arg20)
      ∧ r.2.mem ((c.tc : Thread Cert.Adam1RefIdeal.nD Cert.Adam1RefIdeal.τ).loc Cert.Adam1RefIdeal.main_arg21) = m ((c.tc : Thread Cert.Adam1RefIdeal.nD Cert.Adam1RefIdeal.τ).loc Cert.Adam1RefIdeal.main_arg21)
      ∧ r.2.mem ((c.tc : Thread Cert.Adam1RefIdeal.nD Cert.Adam1RefIdeal.τ).loc Cert.Adam1RefIdeal.main_arg22) = m ((c.tc : Thread Cert.Adam1RefIdeal.nD Cert.Adam1RefIdeal.τ).loc Cert.Adam1RefIdeal.main_arg22)
      ∧ r.2.mem ((c.tc : Thread Cert.Adam1RefIdeal.nD Cert.Adam1RefIdeal.τ).loc Cert.Adam1RefIdeal.main_arg23) = m ((c.tc : Thread Cert.Adam1RefIdeal.nD Cert.Adam1RefIdeal.τ).loc Cert.Adam1RefIdeal.main_arg23)
      ∧ r.2.mem ((c.tc : Thread Cert.Adam1RefIdeal.nD Cert.Adam1RefIdeal.τ).loc Cert.Adam1RefIdeal.main_arg24) = m ((c.tc : Thread Cert.Adam1RefIdeal.nD Cert.Adam1RefIdeal.τ).loc Cert.Adam1RefIdeal.main_arg24)
      ∧ r.2.mem ((c.tc : Thread Cert.Adam1RefIdeal.nD Cert.Adam1RefIdeal.τ).loc Cert.Adam1RefIdeal.main_arg25) = m ((c.tc : Thread Cert.Adam1RefIdeal.nD Cert.Adam1RefIdeal.τ).loc Cert.Adam1RefIdeal.main_arg25)
      ∧ r.2.mem ((c.tc : Thread Cert.Adam1RefIdeal.nD Cert.Adam1RefIdeal.τ).loc Cert.Adam1RefIdeal.main_arg26) = m ((c.tc : Thread Cert.Adam1RefIdeal.nD Cert.Adam1RefIdeal.τ).loc Cert.Adam1RefIdeal.main_arg26)
      ∧ r.2.mem ((c.tc : Thread Cert.Adam1RefIdeal.nD Cert.Adam1RefIdeal.τ).loc Cert.Adam1RefIdeal.main_arg27) = m ((c.tc : Thread Cert.Adam1RefIdeal.nD Cert.Adam1RefIdeal.τ).loc Cert.Adam1RefIdeal.main_arg27)
      ∧ r.2.mem ((c.tc : Thread Cert.Adam1RefIdeal.nD Cert.Adam1RefIdeal.τ).loc Cert.Adam1RefIdeal.main_arg28) = m ((c.tc : Thread Cert.Adam1RefIdeal.nD Cert.Adam1RefIdeal.τ).loc Cert.Adam1RefIdeal.main_arg28)
      ∧ r.2.mem ((c.tc : Thread Cert.Adam1RefIdeal.nD Cert.Adam1RefIdeal.τ).loc Cert.Adam1RefIdeal.main_arg29) = m ((c.tc : Thread Cert.Adam1RefIdeal.nD Cert.Adam1RefIdeal.τ).loc Cert.Adam1RefIdeal.main_arg29)
      ∧ r.2.mem ((c.tc : Thread Cert.Adam1RefIdeal.nD Cert.Adam1RefIdeal.τ).loc Cert.Adam1RefIdeal.main_arg30) = m ((c.tc : Thread Cert.Adam1RefIdeal.nD Cert.Adam1RefIdeal.τ).loc Cert.Adam1RefIdeal.main_arg30)
      ∧ r.2.mem ((c.tc : Thread Cert.Adam1RefIdeal.nD Cert.Adam1RefIdeal.τ).loc Cert.Adam1RefIdeal.main_arg31) = m ((c.tc : Thread Cert.Adam1RefIdeal.nD Cert.Adam1RefIdeal.τ).loc Cert.Adam1RefIdeal.main_arg31)
      ∧ r.2.mem ((c.tc : Thread Cert.Adam1RefIdeal.nD Cert.Adam1RefIdeal.τ).loc Cert.Adam1RefIdeal.main_arg32) = m ((c.tc : Thread Cert.Adam1RefIdeal.nD Cert.Adam1RefIdeal.τ).loc Cert.Adam1RefIdeal.main_arg32)
      ∧ r.2.mem ((c.tc : Thread Cert.Adam1RefIdeal.nD Cert.Adam1RefIdeal.τ).loc Cert.Adam1RefIdeal.main_arg33) = m ((c.tc : Thread Cert.Adam1RefIdeal.nD Cert.Adam1RefIdeal.τ).loc Cert.Adam1RefIdeal.main_arg33)
      ∧ r.2.mem ((c.tc : Thread Cert.Adam1RefIdeal.nD Cert.Adam1RefIdeal.τ).loc Cert.Adam1RefIdeal.main_arg34) = m ((c.tc : Thread Cert.Adam1RefIdeal.nD Cert.Adam1RefIdeal.τ).loc Cert.Adam1RefIdeal.main_arg34))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3)
      ∧ r.2.mem ((c.tc : Thread Cert.Small.nD Cert.Small.τ).loc Cert.Small.main_arg4) = m ((c.tc : Thread Cert.Small.nD Cert.Small.τ).loc Cert.Small.main_arg4)
      ∧ r.2.mem ((c.tc : Thread Cert.Small.nD Cert.Small.τ).loc Cert.Small.main_arg5) = m ((c.tc : Thread Cert.Small.nD Cert.Small.τ).loc Cert.Small.main_arg5)
      ∧ r.2.mem ((c.tc : Thread Cert.Small.nD Cert.Small.τ).loc Cert.Small.main_arg6) = m ((c.tc : Thread Cert.Small.nD Cert.Small.τ).loc Cert.Small.main_arg6)
      ∧ r.2.mem ((c.tc : Thread Cert.Small.nD Cert.Small.τ).loc Cert.Small.main_arg7) = m ((c.tc : Thread Cert.Small.nD Cert.Small.τ).loc Cert.Small.main_arg7)
      ∧ r.2.mem ((c.tc : Thread Cert.Small.nD Cert.Small.τ).loc Cert.Small.main_arg8) = m ((c.tc : Thread Cert.Small.nD Cert.Small.τ).loc Cert.Small.main_arg8)
      ∧ r.2.mem ((c.tc : Thread Cert.Small.nD Cert.Small.τ).loc Cert.Small.main_arg9) = m ((c.tc : Thread Cert.Small.nD Cert.Small.τ).loc Cert.Small.main_arg9)
      ∧ r.2.mem ((c.tc : Thread Cert.Small.nD Cert.Small.τ).loc Cert.Small.main_arg10) = m ((c.tc : Thread Cert.Small.nD Cert.Small.τ).loc Cert.Small.main_arg10)
      ∧ r.2.mem ((c.tc : Thread Cert.Small.nD Cert.Small.τ).loc Cert.Small.main_arg11) = m ((c.tc : Thread Cert.Small.nD Cert.Small.τ).loc Cert.Small.main_arg11)
      ∧ r.2.mem ((c.tc : Thread Cert.Small.nD Cert.Small.τ).loc Cert.Small.main_arg12) = m ((c.tc : Thread Cert.Small.nD Cert.Small.τ).loc Cert.Small.main_arg12)
      ∧ r.2.mem ((c.tc : Thread Cert.Small.nD Cert.Small.τ).loc Cert.Small.main_arg13) = m ((c.tc : Thread Cert.Small.nD Cert.Small.τ).loc Cert.Small.main_arg13)
      ∧ r.2.mem ((c.tc : Thread Cert.Small.nD Cert.Small.τ).loc Cert.Small.main_arg14) = m ((c.tc : Thread Cert.Small.nD Cert.Small.τ).loc Cert.Small.main_arg14)
      ∧ r.2.mem ((c.tc : Thread Cert.Small.nD Cert.Small.τ).loc Cert.Small.main_arg15) = m ((c.tc : Thread Cert.Small.nD Cert.Small.τ).loc Cert.Small.main_arg15)
      ∧ r.2.mem ((c.tc : Thread Cert.Small.nD Cert.Small.τ).loc Cert.Small.main_arg16) = m ((c.tc : Thread Cert.Small.nD Cert.Small.τ).loc Cert.Small.main_arg16)
      ∧ r.2.mem ((c.tc : Thread Cert.Small.nD Cert.Small.τ).loc Cert.Small.main_arg17) = m ((c.tc : Thread Cert.Small.nD Cert.Small.τ).loc Cert.Small.main_arg17)
      ∧ r.2.mem ((c.tc : Thread Cert.Small.nD Cert.Small.τ).loc Cert.Small.main_arg18) = m ((c.tc : Thread Cert.Small.nD Cert.Small.τ).loc Cert.Small.main_arg18)
      ∧ r.2.mem ((c.tc : Thread Cert.Small.nD Cert.Small.τ).loc Cert.Small.main_arg19) = m ((c.tc : Thread Cert.Small.nD Cert.Small.τ).loc Cert.Small.main_arg19)
      ∧ r.2.mem ((c.tc : Thread Cert.Small.nD Cert.Small.τ).loc Cert.Small.main_arg20) = m ((c.tc : Thread Cert.Small.nD Cert.Small.τ).loc Cert.Small.main_arg20)
      ∧ r.2.mem ((c.tc : Thread Cert.Small.nD Cert.Small.τ).loc Cert.Small.main_arg21) = m ((c.tc : Thread Cert.Small.nD Cert.Small.τ).loc Cert.Small.main_arg21)
      ∧ r.2.mem ((c.tc : Thread Cert.Small.nD Cert.Small.τ).loc Cert.Small.main_arg22) = m ((c.tc : Thread Cert.Small.nD Cert.Small.τ).loc Cert.Small.main_arg22)
      ∧ r.2.mem ((c.tc : Thread Cert.Small.nD Cert.Small.τ).loc Cert.Small.main_arg23) = m ((c.tc : Thread Cert.Small.nD Cert.Small.τ).loc Cert.Small.main_arg23)
      ∧ r.2.mem ((c.tc : Thread Cert.Small.nD Cert.Small.τ).loc Cert.Small.main_arg24) = m ((c.tc : Thread Cert.Small.nD Cert.Small.τ).loc Cert.Small.main_arg24)
      ∧ r.2.mem ((c.tc : Thread Cert.Small.nD Cert.Small.τ).loc Cert.Small.main_arg25) = m ((c.tc : Thread Cert.Small.nD Cert.Small.τ).loc Cert.Small.main_arg25)
      ∧ r.2.mem ((c.tc : Thread Cert.Small.nD Cert.Small.τ).loc Cert.Small.main_arg26) = m ((c.tc : Thread Cert.Small.nD Cert.Small.τ).loc Cert.Small.main_arg26)
      ∧ r.2.mem ((c.tc : Thread Cert.Small.nD Cert.Small.τ).loc Cert.Small.main_arg27) = m ((c.tc : Thread Cert.Small.nD Cert.Small.τ).loc Cert.Small.main_arg27)
      ∧ r.2.mem ((c.tc : Thread Cert.Small.nD Cert.Small.τ).loc Cert.Small.main_arg28) = m ((c.tc : Thread Cert.Small.nD Cert.Small.τ).loc Cert.Small.main_arg28)
      ∧ r.2.mem ((c.tc : Thread Cert.Small.nD Cert.Small.τ).loc Cert.Small.main_arg29) = m ((c.tc : Thread Cert.Small.nD Cert.Small.τ).loc Cert.Small.main_arg29)
      ∧ r.2.mem ((c.tc : Thread Cert.Small.nD Cert.Small.τ).loc Cert.Small.main_arg30) = m ((c.tc : Thread Cert.Small.nD Cert.Small.τ).loc Cert.Small.main_arg30)
      ∧ r.2.mem ((c.tc : Thread Cert.Small.nD Cert.Small.τ).loc Cert.Small.main_arg31) = m ((c.tc : Thread Cert.Small.nD Cert.Small.τ).loc Cert.Small.main_arg31)
      ∧ r.2.mem ((c.tc : Thread Cert.Small.nD Cert.Small.τ).loc Cert.Small.main_arg32) = m ((c.tc : Thread Cert.Small.nD Cert.Small.τ).loc Cert.Small.main_arg32)
      ∧ r.2.mem ((c.tc : Thread Cert.Small.nD Cert.Small.τ).loc Cert.Small.main_arg33) = m ((c.tc : Thread Cert.Small.nD Cert.Small.τ).loc Cert.Small.main_arg33)
      ∧ r.2.mem ((c.tc : Thread Cert.Small.nD Cert.Small.τ).loc Cert.Small.main_arg34) = m ((c.tc : Thread Cert.Small.nD Cert.Small.τ).loc Cert.Small.main_arg34)
      ∧ r.2.mem ((c.tc : Thread Cert.Small.nD Cert.Small.τ).loc Cert.Small.main_arg35) = m ((c.tc : Thread Cert.Small.nD Cert.Small.τ).loc Cert.Small.main_arg35)
      ∧ r.2.mem ((c.tc : Thread Cert.Small.nD Cert.Small.τ).loc Cert.Small.main_arg36) = m ((c.tc : Thread Cert.Small.nD Cert.Small.τ).loc Cert.Small.main_arg36)
      ∧ r.2.mem ((c.tc : Thread Cert.Small.nD Cert.Small.τ).loc Cert.Small.main_arg37) = m ((c.tc : Thread Cert.Small.nD Cert.Small.τ).loc Cert.Small.main_arg37)
      ∧ r.2.mem ((c.tc : Thread Cert.Small.nD Cert.Small.τ).loc Cert.Small.main_arg38) = m ((c.tc : Thread Cert.Small.nD Cert.Small.τ).loc Cert.Small.main_arg38)
      ∧ r.2.mem ((c.tc : Thread Cert.Small.nD Cert.Small.τ).loc Cert.Small.main_arg39) = m ((c.tc : Thread Cert.Small.nD Cert.Small.τ).loc Cert.Small.main_arg39)
      ∧ r.2.mem ((c.tc : Thread Cert.Small.nD Cert.Small.τ).loc Cert.Small.main_arg40) = m ((c.tc : Thread Cert.Small.nD Cert.Small.τ).loc Cert.Small.main_arg40)
      ∧ r.2.mem ((c.tc : Thread Cert.Small.nD Cert.Small.τ).loc Cert.Small.main_arg41) = m ((c.tc : Thread Cert.Small.nD Cert.Small.τ).loc Cert.Small.main_arg41)
      ∧ r.2.mem ((c.tc : Thread Cert.Small.nD Cert.Small.τ).loc Cert.Small.main_arg42) = m ((c.tc : Thread Cert.Small.nD Cert.Small.τ).loc Cert.Small.main_arg42)
      ∧ r.2.mem ((c.tc : Thread Cert.Small.nD Cert.Small.τ).loc Cert.Small.main_arg43) = m ((c.tc : Thread Cert.Small.nD Cert.Small.τ).loc Cert.Small.main_arg43)
      ∧ r.2.mem ((c.tc : Thread Cert.Small.nD Cert.Small.τ).loc Cert.Small.main_arg44) = m ((c.tc : Thread Cert.Small.nD Cert.Small.τ).loc Cert.Small.main_arg44)
      ∧ r.2.mem ((c.tc : Thread Cert.Small.nD Cert.Small.τ).loc Cert.Small.main_arg45) = m ((c.tc : Thread Cert.Small.nD Cert.Small.τ).loc Cert.Small.main_arg45)
      ∧ r.2.mem ((c.tc : Thread Cert.Small.nD Cert.Small.τ).loc Cert.Small.main_arg46) = m ((c.tc : Thread Cert.Small.nD Cert.Small.τ).loc Cert.Small.main_arg46)
      ∧ r.2.mem ((c.tc : Thread Cert.Small.nD Cert.Small.τ).loc Cert.Small.main_arg47) = m ((c.tc : Thread Cert.Small.nD Cert.Small.τ).loc Cert.Small.main_arg47)
      ∧ r.2.mem ((c.tc : Thread Cert.Small.nD Cert.Small.τ).loc Cert.Small.main_arg48) = m ((c.tc : Thread Cert.Small.nD Cert.Small.τ).loc Cert.Small.main_arg48)
      ∧ r.2.mem ((c.tc : Thread Cert.Small.nD Cert.Small.τ).loc Cert.Small.main_arg49) = m ((c.tc : Thread Cert.Small.nD Cert.Small.τ).loc Cert.Small.main_arg49)
      ∧ r.2.mem ((c.tc : Thread Cert.Small.nD Cert.Small.τ).loc Cert.Small.main_arg50) = m ((c.tc : Thread Cert.Small.nD Cert.Small.τ).loc Cert.Small.main_arg50)
      ∧ r.2.mem ((c.tc : Thread Cert.Small.nD Cert.Small.τ).loc Cert.Small.main_arg51) = m ((c.tc : Thread Cert.Small.nD Cert.Small.τ).loc Cert.Small.main_arg51))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
      ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
      ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
      ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
      ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
      ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
      ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
      ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
      ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
      ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
      ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
      ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
      ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16)
      ∧ r.2.mem ((c.tc : Thread Cert.SmallIdeal.nD Cert.SmallIdeal.τ).loc Cert.SmallIdeal.main_arg17) = m ((c.tc : Thread Cert.SmallIdeal.nD Cert.SmallIdeal.τ).loc Cert.SmallIdeal.main_arg17)
      ∧ r.2.mem ((c.tc : Thread Cert.SmallIdeal.nD Cert.SmallIdeal.τ).loc Cert.SmallIdeal.main_arg18) = m ((c.tc : Thread Cert.SmallIdeal.nD Cert.SmallIdeal.τ).loc Cert.SmallIdeal.main_arg18)
      ∧ r.2.mem ((c.tc : Thread Cert.SmallIdeal.nD Cert.SmallIdeal.τ).loc Cert.SmallIdeal.main_arg19) = m ((c.tc : Thread Cert.SmallIdeal.nD Cert.SmallIdeal.τ).loc Cert.SmallIdeal.main_arg19)
      ∧ r.2.mem ((c.tc : Thread Cert.SmallIdeal.nD Cert.SmallIdeal.τ).loc Cert.SmallIdeal.main_arg20) = m ((c.tc : Thread Cert.SmallIdeal.nD Cert.SmallIdeal.τ).loc Cert.SmallIdeal.main_arg20)
      ∧ r.2.mem ((c.tc : Thread Cert.SmallIdeal.nD Cert.SmallIdeal.τ).loc Cert.SmallIdeal.main_arg21) = m ((c.tc : Thread Cert.SmallIdeal.nD Cert.SmallIdeal.τ).loc Cert.SmallIdeal.main_arg21)
      ∧ r.2.mem ((c.tc : Thread Cert.SmallIdeal.nD Cert.SmallIdeal.τ).loc Cert.SmallIdeal.main_arg22) = m ((c.tc : Thread Cert.SmallIdeal.nD Cert.SmallIdeal.τ).loc Cert.SmallIdeal.main_arg22)
      ∧ r.2.mem ((c.tc : Thread Cert.SmallIdeal.nD Cert.SmallIdeal.τ).loc Cert.SmallIdeal.main_arg23) = m ((c.tc : Thread Cert.SmallIdeal.nD Cert.SmallIdeal.τ).loc Cert.SmallIdeal.main_arg23)
      ∧ r.2.mem ((c.tc : Thread Cert.SmallIdeal.nD Cert.SmallIdeal.τ).loc Cert.SmallIdeal.main_arg24) = m ((c.tc : Thread Cert.SmallIdeal.nD Cert.SmallIdeal.τ).loc Cert.SmallIdeal.main_arg24)
      ∧ r.2.mem ((c.tc : Thread Cert.SmallIdeal.nD Cert.SmallIdeal.τ).loc Cert.SmallIdeal.main_arg25) = m ((c.tc : Thread Cert.SmallIdeal.nD Cert.SmallIdeal.τ).loc Cert.SmallIdeal.main_arg25)
      ∧ r.2.mem ((c.tc : Thread Cert.SmallIdeal.nD Cert.SmallIdeal.τ).loc Cert.SmallIdeal.main_arg26) = m ((c.tc : Thread Cert.SmallIdeal.nD Cert.SmallIdeal.τ).loc Cert.SmallIdeal.main_arg26)
      ∧ r.2.mem ((c.tc : Thread Cert.SmallIdeal.nD Cert.SmallIdeal.τ).loc Cert.SmallIdeal.main_arg27) = m ((c.tc : Thread Cert.SmallIdeal.nD Cert.SmallIdeal.τ).loc Cert.SmallIdeal.main_arg27)
      ∧ r.2.mem ((c.tc : Thread Cert.SmallIdeal.nD Cert.SmallIdeal.τ).loc Cert.SmallIdeal.main_arg28) = m ((c.tc : Thread Cert.SmallIdeal.nD Cert.SmallIdeal.τ).loc Cert.SmallIdeal.main_arg28)
      ∧ r.2.mem ((c.tc : Thread Cert.SmallIdeal.nD Cert.SmallIdeal.τ).loc Cert.SmallIdeal.main_arg29) = m ((c.tc : Thread Cert.SmallIdeal.nD Cert.SmallIdeal.τ).loc Cert.SmallIdeal.main_arg29)
      ∧ r.2.mem ((c.tc : Thread Cert.SmallIdeal.nD Cert.SmallIdeal.τ).loc Cert.SmallIdeal.main_arg30) = m ((c.tc : Thread Cert.SmallIdeal.nD Cert.SmallIdeal.τ).loc Cert.SmallIdeal.main_arg30)
      ∧ r.2.mem ((c.tc : Thread Cert.SmallIdeal.nD Cert.SmallIdeal.τ).loc Cert.SmallIdeal.main_arg31) = m ((c.tc : Thread Cert.SmallIdeal.nD Cert.SmallIdeal.τ).loc Cert.SmallIdeal.main_arg31)
      ∧ r.2.mem ((c.tc : Thread Cert.SmallIdeal.nD Cert.SmallIdeal.τ).loc Cert.SmallIdeal.main_arg32) = m ((c.tc : Thread Cert.SmallIdeal.nD Cert.SmallIdeal.τ).loc Cert.SmallIdeal.main_arg32)
      ∧ r.2.mem ((c.tc : Thread Cert.SmallIdeal.nD Cert.SmallIdeal.τ).loc Cert.SmallIdeal.main_arg33) = m ((c.tc : Thread Cert.SmallIdeal.nD Cert.SmallIdeal.τ).loc Cert.SmallIdeal.main_arg33)
      ∧ r.2.mem ((c.tc : Thread Cert.SmallIdeal.nD Cert.SmallIdeal.τ).loc Cert.SmallIdeal.main_arg34) = m ((c.tc : Thread Cert.SmallIdeal.nD Cert.SmallIdeal.τ).loc Cert.SmallIdeal.main_arg34)
      ∧ r.2.mem ((c.tc : Thread Cert.SmallIdeal.nD Cert.SmallIdeal.τ).loc Cert.SmallIdeal.main_arg35) = m ((c.tc : Thread Cert.SmallIdeal.nD Cert.SmallIdeal.τ).loc Cert.SmallIdeal.main_arg35)
      ∧ r.2.mem ((c.tc : Thread Cert.SmallIdeal.nD Cert.SmallIdeal.τ).loc Cert.SmallIdeal.main_arg36) = m ((c.tc : Thread Cert.SmallIdeal.nD Cert.SmallIdeal.τ).loc Cert.SmallIdeal.main_arg36)
      ∧ r.2.mem ((c.tc : Thread Cert.SmallIdeal.nD Cert.SmallIdeal.τ).loc Cert.SmallIdeal.main_arg37) = m ((c.tc : Thread Cert.SmallIdeal.nD Cert.SmallIdeal.τ).loc Cert.SmallIdeal.main_arg37)
      ∧ r.2.mem ((c.tc : Thread Cert.SmallIdeal.nD Cert.SmallIdeal.τ).loc Cert.SmallIdeal.main_arg38) = m ((c.tc : Thread Cert.SmallIdeal.nD Cert.SmallIdeal.τ).loc Cert.SmallIdeal.main_arg38)
      ∧ r.2.mem ((c.tc : Thread Cert.SmallIdeal.nD Cert.SmallIdeal.τ).loc Cert.SmallIdeal.main_arg39) = m ((c.tc : Thread Cert.SmallIdeal.nD Cert.SmallIdeal.τ).loc Cert.SmallIdeal.main_arg39)
      ∧ r.2.mem ((c.tc : Thread Cert.SmallIdeal.nD Cert.SmallIdeal.τ).loc Cert.SmallIdeal.main_arg40) = m ((c.tc : Thread Cert.SmallIdeal.nD Cert.SmallIdeal.τ).loc Cert.SmallIdeal.main_arg40)
      ∧ r.2.mem ((c.tc : Thread Cert.SmallIdeal.nD Cert.SmallIdeal.τ).loc Cert.SmallIdeal.main_arg41) = m ((c.tc : Thread Cert.SmallIdeal.nD Cert.SmallIdeal.τ).loc Cert.SmallIdeal.main_arg41)
      ∧ r.2.mem ((c.tc : Thread Cert.SmallIdeal.nD Cert.SmallIdeal.τ).loc Cert.SmallIdeal.main_arg42) = m ((c.tc : Thread Cert.SmallIdeal.nD Cert.SmallIdeal.τ).loc Cert.SmallIdeal.main_arg42)
      ∧ r.2.mem ((c.tc : Thread Cert.SmallIdeal.nD Cert.SmallIdeal.τ).loc Cert.SmallIdeal.main_arg43) = m ((c.tc : Thread Cert.SmallIdeal.nD Cert.SmallIdeal.τ).loc Cert.SmallIdeal.main_arg43)
      ∧ r.2.mem ((c.tc : Thread Cert.SmallIdeal.nD Cert.SmallIdeal.τ).loc Cert.SmallIdeal.main_arg44) = m ((c.tc : Thread Cert.SmallIdeal.nD Cert.SmallIdeal.τ).loc Cert.SmallIdeal.main_arg44)
      ∧ r.2.mem ((c.tc : Thread Cert.SmallIdeal.nD Cert.SmallIdeal.τ).loc Cert.SmallIdeal.main_arg45) = m ((c.tc : Thread Cert.SmallIdeal.nD Cert.SmallIdeal.τ).loc Cert.SmallIdeal.main_arg45)
      ∧ r.2.mem ((c.tc : Thread Cert.SmallIdeal.nD Cert.SmallIdeal.τ).loc Cert.SmallIdeal.main_arg46) = m ((c.tc : Thread Cert.SmallIdeal.nD Cert.SmallIdeal.τ).loc Cert.SmallIdeal.main_arg46)
      ∧ r.2.mem ((c.tc : Thread Cert.SmallIdeal.nD Cert.SmallIdeal.τ).loc Cert.SmallIdeal.main_arg47) = m ((c.tc : Thread Cert.SmallIdeal.nD Cert.SmallIdeal.τ).loc Cert.SmallIdeal.main_arg47)
      ∧ r.2.mem ((c.tc : Thread Cert.SmallIdeal.nD Cert.SmallIdeal.τ).loc Cert.SmallIdeal.main_arg48) = m ((c.tc : Thread Cert.SmallIdeal.nD Cert.SmallIdeal.τ).loc Cert.SmallIdeal.main_arg48)
      ∧ r.2.mem ((c.tc : Thread Cert.SmallIdeal.nD Cert.SmallIdeal.τ).loc Cert.SmallIdeal.main_arg49) = m ((c.tc : Thread Cert.SmallIdeal.nD Cert.SmallIdeal.τ).loc Cert.SmallIdeal.main_arg49)
      ∧ r.2.mem ((c.tc : Thread Cert.SmallIdeal.nD Cert.SmallIdeal.τ).loc Cert.SmallIdeal.main_arg50) = m ((c.tc : Thread Cert.SmallIdeal.nD Cert.SmallIdeal.τ).loc Cert.SmallIdeal.main_arg50)
      ∧ r.2.mem ((c.tc : Thread Cert.SmallIdeal.nD Cert.SmallIdeal.τ).loc Cert.SmallIdeal.main_arg51) = m ((c.tc : Thread Cert.SmallIdeal.nD Cert.SmallIdeal.τ).loc Cert.SmallIdeal.main_arg51))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3)
      ∧ r.2.mem ((c.tc : Thread Cert.SmallRefIdeal.nD Cert.SmallRefIdeal.τ).loc Cert.SmallRefIdeal.main_arg4) = m ((c.tc : Thread Cert.SmallRefIdeal.nD Cert.SmallRefIdeal.τ).loc Cert.SmallRefIdeal.main_arg4)
      ∧ r.2.mem ((c.tc : Thread Cert.SmallRefIdeal.nD Cert.SmallRefIdeal.τ).loc Cert.SmallRefIdeal.main_arg5) = m ((c.tc : Thread Cert.SmallRefIdeal.nD Cert.SmallRefIdeal.τ).loc Cert.SmallRefIdeal.main_arg5)
      ∧ r.2.mem ((c.tc : Thread Cert.SmallRefIdeal.nD Cert.SmallRefIdeal.τ).loc Cert.SmallRefIdeal.main_arg6) = m ((c.tc : Thread Cert.SmallRefIdeal.nD Cert.SmallRefIdeal.τ).loc Cert.SmallRefIdeal.main_arg6)
      ∧ r.2.mem ((c.tc : Thread Cert.SmallRefIdeal.nD Cert.SmallRefIdeal.τ).loc Cert.SmallRefIdeal.main_arg7) = m ((c.tc : Thread Cert.SmallRefIdeal.nD Cert.SmallRefIdeal.τ).loc Cert.SmallRefIdeal.main_arg7)
      ∧ r.2.mem ((c.tc : Thread Cert.SmallRefIdeal.nD Cert.SmallRefIdeal.τ).loc Cert.SmallRefIdeal.main_arg8) = m ((c.tc : Thread Cert.SmallRefIdeal.nD Cert.SmallRefIdeal.τ).loc Cert.SmallRefIdeal.main_arg8)
      ∧ r.2.mem ((c.tc : Thread Cert.SmallRefIdeal.nD Cert.SmallRefIdeal.τ).loc Cert.SmallRefIdeal.main_arg9) = m ((c.tc : Thread Cert.SmallRefIdeal.nD Cert.SmallRefIdeal.τ).loc Cert.SmallRefIdeal.main_arg9)
      ∧ r.2.mem ((c.tc : Thread Cert.SmallRefIdeal.nD Cert.SmallRefIdeal.τ).loc Cert.SmallRefIdeal.main_arg10) = m ((c.tc : Thread Cert.SmallRefIdeal.nD Cert.SmallRefIdeal.τ).loc Cert.SmallRefIdeal.main_arg10)
      ∧ r.2.mem ((c.tc : Thread Cert.SmallRefIdeal.nD Cert.SmallRefIdeal.τ).loc Cert.SmallRefIdeal.main_arg11) = m ((c.tc : Thread Cert.SmallRefIdeal.nD Cert.SmallRefIdeal.τ).loc Cert.SmallRefIdeal.main_arg11)
      ∧ r.2.mem ((c.tc : Thread Cert.SmallRefIdeal.nD Cert.SmallRefIdeal.τ).loc Cert.SmallRefIdeal.main_arg12) = m ((c.tc : Thread Cert.SmallRefIdeal.nD Cert.SmallRefIdeal.τ).loc Cert.SmallRefIdeal.main_arg12)
      ∧ r.2.mem ((c.tc : Thread Cert.SmallRefIdeal.nD Cert.SmallRefIdeal.τ).loc Cert.SmallRefIdeal.main_arg13) = m ((c.tc : Thread Cert.SmallRefIdeal.nD Cert.SmallRefIdeal.τ).loc Cert.SmallRefIdeal.main_arg13)
      ∧ r.2.mem ((c.tc : Thread Cert.SmallRefIdeal.nD Cert.SmallRefIdeal.τ).loc Cert.SmallRefIdeal.main_arg14) = m ((c.tc : Thread Cert.SmallRefIdeal.nD Cert.SmallRefIdeal.τ).loc Cert.SmallRefIdeal.main_arg14)
      ∧ r.2.mem ((c.tc : Thread Cert.SmallRefIdeal.nD Cert.SmallRefIdeal.τ).loc Cert.SmallRefIdeal.main_arg15) = m ((c.tc : Thread Cert.SmallRefIdeal.nD Cert.SmallRefIdeal.τ).loc Cert.SmallRefIdeal.main_arg15)
      ∧ r.2.mem ((c.tc : Thread Cert.SmallRefIdeal.nD Cert.SmallRefIdeal.τ).loc Cert.SmallRefIdeal.main_arg16) = m ((c.tc : Thread Cert.SmallRefIdeal.nD Cert.SmallRefIdeal.τ).loc Cert.SmallRefIdeal.main_arg16)
      ∧ r.2.mem ((c.tc : Thread Cert.SmallRefIdeal.nD Cert.SmallRefIdeal.τ).loc Cert.SmallRefIdeal.main_arg17) = m ((c.tc : Thread Cert.SmallRefIdeal.nD Cert.SmallRefIdeal.τ).loc Cert.SmallRefIdeal.main_arg17)
      ∧ r.2.mem ((c.tc : Thread Cert.SmallRefIdeal.nD Cert.SmallRefIdeal.τ).loc Cert.SmallRefIdeal.main_arg18) = m ((c.tc : Thread Cert.SmallRefIdeal.nD Cert.SmallRefIdeal.τ).loc Cert.SmallRefIdeal.main_arg18)
      ∧ r.2.mem ((c.tc : Thread Cert.SmallRefIdeal.nD Cert.SmallRefIdeal.τ).loc Cert.SmallRefIdeal.main_arg19) = m ((c.tc : Thread Cert.SmallRefIdeal.nD Cert.SmallRefIdeal.τ).loc Cert.SmallRefIdeal.main_arg19)
      ∧ r.2.mem ((c.tc : Thread Cert.SmallRefIdeal.nD Cert.SmallRefIdeal.τ).loc Cert.SmallRefIdeal.main_arg20) = m ((c.tc : Thread Cert.SmallRefIdeal.nD Cert.SmallRefIdeal.τ).loc Cert.SmallRefIdeal.main_arg20)
      ∧ r.2.mem ((c.tc : Thread Cert.SmallRefIdeal.nD Cert.SmallRefIdeal.τ).loc Cert.SmallRefIdeal.main_arg21) = m ((c.tc : Thread Cert.SmallRefIdeal.nD Cert.SmallRefIdeal.τ).loc Cert.SmallRefIdeal.main_arg21)
      ∧ r.2.mem ((c.tc : Thread Cert.SmallRefIdeal.nD Cert.SmallRefIdeal.τ).loc Cert.SmallRefIdeal.main_arg22) = m ((c.tc : Thread Cert.SmallRefIdeal.nD Cert.SmallRefIdeal.τ).loc Cert.SmallRefIdeal.main_arg22)
      ∧ r.2.mem ((c.tc : Thread Cert.SmallRefIdeal.nD Cert.SmallRefIdeal.τ).loc Cert.SmallRefIdeal.main_arg23) = m ((c.tc : Thread Cert.SmallRefIdeal.nD Cert.SmallRefIdeal.τ).loc Cert.SmallRefIdeal.main_arg23)
      ∧ r.2.mem ((c.tc : Thread Cert.SmallRefIdeal.nD Cert.SmallRefIdeal.τ).loc Cert.SmallRefIdeal.main_arg24) = m ((c.tc : Thread Cert.SmallRefIdeal.nD Cert.SmallRefIdeal.τ).loc Cert.SmallRefIdeal.main_arg24)
      ∧ r.2.mem ((c.tc : Thread Cert.SmallRefIdeal.nD Cert.SmallRefIdeal.τ).loc Cert.SmallRefIdeal.main_arg25) = m ((c.tc : Thread Cert.SmallRefIdeal.nD Cert.SmallRefIdeal.τ).loc Cert.SmallRefIdeal.main_arg25)
      ∧ r.2.mem ((c.tc : Thread Cert.SmallRefIdeal.nD Cert.SmallRefIdeal.τ).loc Cert.SmallRefIdeal.main_arg26) = m ((c.tc : Thread Cert.SmallRefIdeal.nD Cert.SmallRefIdeal.τ).loc Cert.SmallRefIdeal.main_arg26)
      ∧ r.2.mem ((c.tc : Thread Cert.SmallRefIdeal.nD Cert.SmallRefIdeal.τ).loc Cert.SmallRefIdeal.main_arg27) = m ((c.tc : Thread Cert.SmallRefIdeal.nD Cert.SmallRefIdeal.τ).loc Cert.SmallRefIdeal.main_arg27)
      ∧ r.2.mem ((c.tc : Thread Cert.SmallRefIdeal.nD Cert.SmallRefIdeal.τ).loc Cert.SmallRefIdeal.main_arg28) = m ((c.tc : Thread Cert.SmallRefIdeal.nD Cert.SmallRefIdeal.τ).loc Cert.SmallRefIdeal.main_arg28)
      ∧ r.2.mem ((c.tc : Thread Cert.SmallRefIdeal.nD Cert.SmallRefIdeal.τ).loc Cert.SmallRefIdeal.main_arg29) = m ((c.tc : Thread Cert.SmallRefIdeal.nD Cert.SmallRefIdeal.τ).loc Cert.SmallRefIdeal.main_arg29)
      ∧ r.2.mem ((c.tc : Thread Cert.SmallRefIdeal.nD Cert.SmallRefIdeal.τ).loc Cert.SmallRefIdeal.main_arg30) = m ((c.tc : Thread Cert.SmallRefIdeal.nD Cert.SmallRefIdeal.τ).loc Cert.SmallRefIdeal.main_arg30)
      ∧ r.2.mem ((c.tc : Thread Cert.SmallRefIdeal.nD Cert.SmallRefIdeal.τ).loc Cert.SmallRefIdeal.main_arg31) = m ((c.tc : Thread Cert.SmallRefIdeal.nD Cert.SmallRefIdeal.τ).loc Cert.SmallRefIdeal.main_arg31)
      ∧ r.2.mem ((c.tc : Thread Cert.SmallRefIdeal.nD Cert.SmallRefIdeal.τ).loc Cert.SmallRefIdeal.main_arg32) = m ((c.tc : Thread Cert.SmallRefIdeal.nD Cert.SmallRefIdeal.τ).loc Cert.SmallRefIdeal.main_arg32)
      ∧ r.2.mem ((c.tc : Thread Cert.SmallRefIdeal.nD Cert.SmallRefIdeal.τ).loc Cert.SmallRefIdeal.main_arg33) = m ((c.tc : Thread Cert.SmallRefIdeal.nD Cert.SmallRefIdeal.τ).loc Cert.SmallRefIdeal.main_arg33)
      ∧ r.2.mem ((c.tc : Thread Cert.SmallRefIdeal.nD Cert.SmallRefIdeal.τ).loc Cert.SmallRefIdeal.main_arg34) = m ((c.tc : Thread Cert.SmallRefIdeal.nD Cert.SmallRefIdeal.τ).loc Cert.SmallRefIdeal.main_arg34)
      ∧ r.2.mem ((c.tc : Thread Cert.SmallRefIdeal.nD Cert.SmallRefIdeal.τ).loc Cert.SmallRefIdeal.main_arg35) = m ((c.tc : Thread Cert.SmallRefIdeal.nD Cert.SmallRefIdeal.τ).loc Cert.SmallRefIdeal.main_arg35)
      ∧ r.2.mem ((c.tc : Thread Cert.SmallRefIdeal.nD Cert.SmallRefIdeal.τ).loc Cert.SmallRefIdeal.main_arg36) = m ((c.tc : Thread Cert.SmallRefIdeal.nD Cert.SmallRefIdeal.τ).loc Cert.SmallRefIdeal.main_arg36)
      ∧ r.2.mem ((c.tc : Thread Cert.SmallRefIdeal.nD Cert.SmallRefIdeal.τ).loc Cert.SmallRefIdeal.main_arg37) = m ((c.tc : Thread Cert.SmallRefIdeal.nD Cert.SmallRefIdeal.τ).loc Cert.SmallRefIdeal.main_arg37)
      ∧ r.2.mem ((c.tc : Thread Cert.SmallRefIdeal.nD Cert.SmallRefIdeal.τ).loc Cert.SmallRefIdeal.main_arg38) = m ((c.tc : Thread Cert.SmallRefIdeal.nD Cert.SmallRefIdeal.τ).loc Cert.SmallRefIdeal.main_arg38)
      ∧ r.2.mem ((c.tc : Thread Cert.SmallRefIdeal.nD Cert.SmallRefIdeal.τ).loc Cert.SmallRefIdeal.main_arg39) = m ((c.tc : Thread Cert.SmallRefIdeal.nD Cert.SmallRefIdeal.τ).loc Cert.SmallRefIdeal.main_arg39)
      ∧ r.2.mem ((c.tc : Thread Cert.SmallRefIdeal.nD Cert.SmallRefIdeal.τ).loc Cert.SmallRefIdeal.main_arg40) = m ((c.tc : Thread Cert.SmallRefIdeal.nD Cert.SmallRefIdeal.τ).loc Cert.SmallRefIdeal.main_arg40)
      ∧ r.2.mem ((c.tc : Thread Cert.SmallRefIdeal.nD Cert.SmallRefIdeal.τ).loc Cert.SmallRefIdeal.main_arg41) = m ((c.tc : Thread Cert.SmallRefIdeal.nD Cert.SmallRefIdeal.τ).loc Cert.SmallRefIdeal.main_arg41)
      ∧ r.2.mem ((c.tc : Thread Cert.SmallRefIdeal.nD Cert.SmallRefIdeal.τ).loc Cert.SmallRefIdeal.main_arg42) = m ((c.tc : Thread Cert.SmallRefIdeal.nD Cert.SmallRefIdeal.τ).loc Cert.SmallRefIdeal.main_arg42)
      ∧ r.2.mem ((c.tc : Thread Cert.SmallRefIdeal.nD Cert.SmallRefIdeal.τ).loc Cert.SmallRefIdeal.main_arg43) = m ((c.tc : Thread Cert.SmallRefIdeal.nD Cert.SmallRefIdeal.τ).loc Cert.SmallRefIdeal.main_arg43)
      ∧ r.2.mem ((c.tc : Thread Cert.SmallRefIdeal.nD Cert.SmallRefIdeal.τ).loc Cert.SmallRefIdeal.main_arg44) = m ((c.tc : Thread Cert.SmallRefIdeal.nD Cert.SmallRefIdeal.τ).loc Cert.SmallRefIdeal.main_arg44)
      ∧ r.2.mem ((c.tc : Thread Cert.SmallRefIdeal.nD Cert.SmallRefIdeal.τ).loc Cert.SmallRefIdeal.main_arg45) = m ((c.tc : Thread Cert.SmallRefIdeal.nD Cert.SmallRefIdeal.τ).loc Cert.SmallRefIdeal.main_arg45)
      ∧ r.2.mem ((c.tc : Thread Cert.SmallRefIdeal.nD Cert.SmallRefIdeal.τ).loc Cert.SmallRefIdeal.main_arg46) = m ((c.tc : Thread Cert.SmallRefIdeal.nD Cert.SmallRefIdeal.τ).loc Cert.SmallRefIdeal.main_arg46)
      ∧ r.2.mem ((c.tc : Thread Cert.SmallRefIdeal.nD Cert.SmallRefIdeal.τ).loc Cert.SmallRefIdeal.main_arg47) = m ((c.tc : Thread Cert.SmallRefIdeal.nD Cert.SmallRefIdeal.τ).loc Cert.SmallRefIdeal.main_arg47)
      ∧ r.2.mem ((c.tc : Thread Cert.SmallRefIdeal.nD Cert.SmallRefIdeal.τ).loc Cert.SmallRefIdeal.main_arg48) = m ((c.tc : Thread Cert.SmallRefIdeal.nD Cert.SmallRefIdeal.τ).loc Cert.SmallRefIdeal.main_arg48)
      ∧ r.2.mem ((c.tc : Thread Cert.SmallRefIdeal.nD Cert.SmallRefIdeal.τ).loc Cert.SmallRefIdeal.main_arg49) = m ((c.tc : Thread Cert.SmallRefIdeal.nD Cert.SmallRefIdeal.τ).loc Cert.SmallRefIdeal.main_arg49)
      ∧ r.2.mem ((c.tc : Thread Cert.SmallRefIdeal.nD Cert.SmallRefIdeal.τ).loc Cert.SmallRefIdeal.main_arg50) = m ((c.tc : Thread Cert.SmallRefIdeal.nD Cert.SmallRefIdeal.τ).loc Cert.SmallRefIdeal.main_arg50)
      ∧ r.2.mem ((c.tc : Thread Cert.SmallRefIdeal.nD Cert.SmallRefIdeal.τ).loc Cert.SmallRefIdeal.main_arg51) = m ((c.tc : Thread Cert.SmallRefIdeal.nD Cert.SmallRefIdeal.τ).loc Cert.SmallRefIdeal.main_arg51))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0)
      ∧ r.2.mem ((c.tc : Thread Cert.Sum.nD Cert.Sum.τ).loc Cert.Sum.main_arg1) = m ((c.tc : Thread Cert.Sum.nD Cert.Sum.τ).loc Cert.Sum.main_arg1)
      ∧ r.2.mem ((c.tc : Thread Cert.Sum.nD Cert.Sum.τ).loc Cert.Sum.main_arg2) = m ((c.tc : Thread Cert.Sum.nD Cert.Sum.τ).loc Cert.Sum.main_arg2)
      ∧ r.2.mem ((c.tc : Thread Cert.Sum.nD Cert.Sum.τ).loc Cert.Sum.main_arg3) = m ((c.tc : Thread Cert.Sum.nD Cert.Sum.τ).loc Cert.Sum.main_arg3)
      ∧ r.2.mem ((c.tc : Thread Cert.Sum.nD Cert.Sum.τ).loc Cert.Sum.main_arg4) = m ((c.tc : Thread Cert.Sum.nD Cert.Sum.τ).loc Cert.Sum.main_arg4)
      ∧ r.2.mem ((c.tc : Thread Cert.Sum.nD Cert.Sum.τ).loc Cert.Sum.main_arg5) = m ((c.tc : Thread Cert.Sum.nD Cert.Sum.τ).loc Cert.Sum.main_arg5)
      ∧ r.2.mem ((c.tc : Thread Cert.Sum.nD Cert.Sum.τ).loc Cert.Sum.main_arg6) = m ((c.tc : Thread Cert.Sum.nD Cert.Sum.τ).loc Cert.Sum.main_arg6)
      ∧ r.2.mem ((c.tc : Thread Cert.Sum.nD Cert.Sum.τ).loc Cert.Sum.main_arg7) = m ((c.tc : Thread Cert.Sum.nD Cert.Sum.τ).loc Cert.Sum.main_arg7)
      ∧ r.2.mem ((c.tc : Thread Cert.Sum.nD Cert.Sum.τ).loc Cert.Sum.main_arg8) = m ((c.tc : Thread Cert.Sum.nD Cert.Sum.τ).loc Cert.Sum.main_arg8)
      ∧ r.2.mem ((c.tc : Thread Cert.Sum.nD Cert.Sum.τ).loc Cert.Sum.main_arg9) = m ((c.tc : Thread Cert.Sum.nD Cert.Sum.τ).loc Cert.Sum.main_arg9)
      ∧ r.2.mem ((c.tc : Thread Cert.Sum.nD Cert.Sum.τ).loc Cert.Sum.main_arg10) = m ((c.tc : Thread Cert.Sum.nD Cert.Sum.τ).loc Cert.Sum.main_arg10)
      ∧ r.2.mem ((c.tc : Thread Cert.Sum.nD Cert.Sum.τ).loc Cert.Sum.main_arg11) = m ((c.tc : Thread Cert.Sum.nD Cert.Sum.τ).loc Cert.Sum.main_arg11)
      ∧ r.2.mem ((c.tc : Thread Cert.Sum.nD Cert.Sum.τ).loc Cert.Sum.main_arg12) = m ((c.tc : Thread Cert.Sum.nD Cert.Sum.τ).loc Cert.Sum.main_arg12)
      ∧ r.2.mem ((c.tc : Thread Cert.Sum.nD Cert.Sum.τ).loc Cert.Sum.main_arg13) = m ((c.tc : Thread Cert.Sum.nD Cert.Sum.τ).loc Cert.Sum.main_arg13)
      ∧ r.2.mem ((c.tc : Thread Cert.Sum.nD Cert.Sum.τ).loc Cert.Sum.main_arg14) = m ((c.tc : Thread Cert.Sum.nD Cert.Sum.τ).loc Cert.Sum.main_arg14))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0)
      ∧ r.2.mem ((c.tc : Thread Cert.SumIdeal.nD Cert.SumIdeal.τ).loc Cert.SumIdeal.main_arg1) = m ((c.tc : Thread Cert.SumIdeal.nD Cert.SumIdeal.τ).loc Cert.SumIdeal.main_arg1)
      ∧ r.2.mem ((c.tc : Thread Cert.SumIdeal.nD Cert.SumIdeal.τ).loc Cert.SumIdeal.main_arg2) = m ((c.tc : Thread Cert.SumIdeal.nD Cert.SumIdeal.τ).loc Cert.SumIdeal.main_arg2)
      ∧ r.2.mem ((c.tc : Thread Cert.SumIdeal.nD Cert.SumIdeal.τ).loc Cert.SumIdeal.main_arg3) = m ((c.tc : Thread Cert.SumIdeal.nD Cert.SumIdeal.τ).loc Cert.SumIdeal.main_arg3)
      ∧ r.2.mem ((c.tc : Thread Cert.SumIdeal.nD Cert.SumIdeal.τ).loc Cert.SumIdeal.main_arg4) = m ((c.tc : Thread Cert.SumIdeal.nD Cert.SumIdeal.τ).loc Cert.SumIdeal.main_arg4)
      ∧ r.2.mem ((c.tc : Thread Cert.SumIdeal.nD Cert.SumIdeal.τ).loc Cert.SumIdeal.main_arg5) = m ((c.tc : Thread Cert.SumIdeal.nD Cert.SumIdeal.τ).loc Cert.SumIdeal.main_arg5)
      ∧ r.2.mem ((c.tc : Thread Cert.SumIdeal.nD Cert.SumIdeal.τ).loc Cert.SumIdeal.main_arg6) = m ((c.tc : Thread Cert.SumIdeal.nD Cert.SumIdeal.τ).loc Cert.SumIdeal.main_arg6)
      ∧ r.2.mem ((c.tc : Thread Cert.SumIdeal.nD Cert.SumIdeal.τ).loc Cert.SumIdeal.main_arg7) = m ((c.tc : Thread Cert.SumIdeal.nD Cert.SumIdeal.τ).loc Cert.SumIdeal.main_arg7)
      ∧ r.2.mem ((c.tc : Thread Cert.SumIdeal.nD Cert.SumIdeal.τ).loc Cert.SumIdeal.main_arg8) = m ((c.tc : Thread Cert.SumIdeal.nD Cert.SumIdeal.τ).loc Cert.SumIdeal.main_arg8)
      ∧ r.2.mem ((c.tc : Thread Cert.SumIdeal.nD Cert.SumIdeal.τ).loc Cert.SumIdeal.main_arg9) = m ((c.tc : Thread Cert.SumIdeal.nD Cert.SumIdeal.τ).loc Cert.SumIdeal.main_arg9)
      ∧ r.2.mem ((c.tc : Thread Cert.SumIdeal.nD Cert.SumIdeal.τ).loc Cert.SumIdeal.main_arg10) = m ((c.tc : Thread Cert.SumIdeal.nD Cert.SumIdeal.τ).loc Cert.SumIdeal.main_arg10)
      ∧ r.2.mem ((c.tc : Thread Cert.SumIdeal.nD Cert.SumIdeal.τ).loc Cert.SumIdeal.main_arg11) = m ((c.tc : Thread Cert.SumIdeal.nD Cert.SumIdeal.τ).loc Cert.SumIdeal.main_arg11)
      ∧ r.2.mem ((c.tc : Thread Cert.SumIdeal.nD Cert.SumIdeal.τ).loc Cert.SumIdeal.main_arg12) = m ((c.tc : Thread Cert.SumIdeal.nD Cert.SumIdeal.τ).loc Cert.SumIdeal.main_arg12)
      ∧ r.2.mem ((c.tc : Thread Cert.SumIdeal.nD Cert.SumIdeal.τ).loc Cert.SumIdeal.main_arg13) = m ((c.tc : Thread Cert.SumIdeal.nD Cert.SumIdeal.τ).loc Cert.SumIdeal.main_arg13)
      ∧ r.2.mem ((c.tc : Thread Cert.SumIdeal.nD Cert.SumIdeal.τ).loc Cert.SumIdeal.main_arg14) = m ((c.tc : Thread Cert.SumIdeal.nD Cert.SumIdeal.τ).loc Cert.SumIdeal.main_arg14))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0)
      ∧ r.2.mem ((c.tc : Thread Cert.SumRefIdeal.nD Cert.SumRefIdeal.τ).loc Cert.SumRefIdeal.main_arg1) = m ((c.tc : Thread Cert.SumRefIdeal.nD Cert.SumRefIdeal.τ).loc Cert.SumRefIdeal.main_arg1)
      ∧ r.2.mem ((c.tc : Thread Cert.SumRefIdeal.nD Cert.SumRefIdeal.τ).loc Cert.SumRefIdeal.main_arg2) = m ((c.tc : Thread Cert.SumRefIdeal.nD Cert.SumRefIdeal.τ).loc Cert.SumRefIdeal.main_arg2)
      ∧ r.2.mem ((c.tc : Thread Cert.SumRefIdeal.nD Cert.SumRefIdeal.τ).loc Cert.SumRefIdeal.main_arg3) = m ((c.tc : Thread Cert.SumRefIdeal.nD Cert.SumRefIdeal.τ).loc Cert.SumRefIdeal.main_arg3)
      ∧ r.2.mem ((c.tc : Thread Cert.SumRefIdeal.nD Cert.SumRefIdeal.τ).loc Cert.SumRefIdeal.main_arg4) = m ((c.tc : Thread Cert.SumRefIdeal.nD Cert.SumRefIdeal.τ).loc Cert.SumRefIdeal.main_arg4)
      ∧ r.2.mem ((c.tc : Thread Cert.SumRefIdeal.nD Cert.SumRefIdeal.τ).loc Cert.SumRefIdeal.main_arg5) = m ((c.tc : Thread Cert.SumRefIdeal.nD Cert.SumRefIdeal.τ).loc Cert.SumRefIdeal.main_arg5)
      ∧ r.2.mem ((c.tc : Thread Cert.SumRefIdeal.nD Cert.SumRefIdeal.τ).loc Cert.SumRefIdeal.main_arg6) = m ((c.tc : Thread Cert.SumRefIdeal.nD Cert.SumRefIdeal.τ).loc Cert.SumRefIdeal.main_arg6)
      ∧ r.2.mem ((c.tc : Thread Cert.SumRefIdeal.nD Cert.SumRefIdeal.τ).loc Cert.SumRefIdeal.main_arg7) = m ((c.tc : Thread Cert.SumRefIdeal.nD Cert.SumRefIdeal.τ).loc Cert.SumRefIdeal.main_arg7)
      ∧ r.2.mem ((c.tc : Thread Cert.SumRefIdeal.nD Cert.SumRefIdeal.τ).loc Cert.SumRefIdeal.main_arg8) = m ((c.tc : Thread Cert.SumRefIdeal.nD Cert.SumRefIdeal.τ).loc Cert.SumRefIdeal.main_arg8)
      ∧ r.2.mem ((c.tc : Thread Cert.SumRefIdeal.nD Cert.SumRefIdeal.τ).loc Cert.SumRefIdeal.main_arg9) = m ((c.tc : Thread Cert.SumRefIdeal.nD Cert.SumRefIdeal.τ).loc Cert.SumRefIdeal.main_arg9)
      ∧ r.2.mem ((c.tc : Thread Cert.SumRefIdeal.nD Cert.SumRefIdeal.τ).loc Cert.SumRefIdeal.main_arg10) = m ((c.tc : Thread Cert.SumRefIdeal.nD Cert.SumRefIdeal.τ).loc Cert.SumRefIdeal.main_arg10)
      ∧ r.2.mem ((c.tc : Thread Cert.SumRefIdeal.nD Cert.SumRefIdeal.τ).loc Cert.SumRefIdeal.main_arg11) = m ((c.tc : Thread Cert.SumRefIdeal.nD Cert.SumRefIdeal.τ).loc Cert.SumRefIdeal.main_arg11)
      ∧ r.2.mem ((c.tc : Thread Cert.SumRefIdeal.nD Cert.SumRefIdeal.τ).loc Cert.SumRefIdeal.main_arg12) = m ((c.tc : Thread Cert.SumRefIdeal.nD Cert.SumRefIdeal.τ).loc Cert.SumRefIdeal.main_arg12)
      ∧ r.2.mem ((c.tc : Thread Cert.SumRefIdeal.nD Cert.SumRefIdeal.τ).loc Cert.SumRefIdeal.main_arg13) = m ((c.tc : Thread Cert.SumRefIdeal.nD Cert.SumRefIdeal.τ).loc Cert.SumRefIdeal.main_arg13)
      ∧ r.2.mem ((c.tc : Thread Cert.SumRefIdeal.nD Cert.SumRefIdeal.τ).loc Cert.SumRefIdeal.main_arg14) = m ((c.tc : Thread Cert.SumRefIdeal.nD Cert.SumRefIdeal.τ).loc Cert.SumRefIdeal.main_arg14))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v1)) (v1 : (c : Dev Cert.MlpIdeal.nD) → Buf (Elt Ideal) ((c.tc : Thread Cert.MlpIdeal.nD Cert.MlpIdeal.τ).loc Cert.MlpIdeal.main_v5)) (v2 : (c : Dev Cert.MlpIdeal.nD) → Buf (Elt Ideal) ((c.tc : Thread Cert.MlpIdeal.nD Cert.MlpIdeal.τ).loc Cert.MlpIdeal.main_v4)) (v3 : (c : Dev Cert.MlpIdeal.nD) → Buf (Elt Ideal) ((c.tc : Thread Cert.MlpIdeal.nD Cert.MlpIdeal.τ).loc Cert.MlpIdeal.main_v2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v1) = v0 c
          ∧ r.2.mem ((c.tc : Thread Cert.MlpIdeal.nD Cert.MlpIdeal.τ).loc Cert.MlpIdeal.main_v5) = v1 c
          ∧ r.2.mem ((c.tc : Thread Cert.MlpIdeal.nD Cert.MlpIdeal.τ).loc Cert.MlpIdeal.main_v4) = v2 c
          ∧ r.2.mem ((c.tc : Thread Cert.MlpIdeal.nD Cert.MlpIdeal.τ).loc Cert.MlpIdeal.main_v2) = v3 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v12) = v0 c
          ∧ r.2.mem ((c.tc : Thread Cert.MlpRefIdeal.nD Cert.MlpRefIdeal.τ).loc Cert.MlpRefIdeal.main_v26) = v1 c
          ∧ r.2.mem ((c.tc : Thread Cert.MlpRefIdeal.nD Cert.MlpRefIdeal.τ).loc Cert.MlpRefIdeal.main_v27) = v2 c
          ∧ r.2.mem ((c.tc : Thread Cert.MlpRefIdeal.nD Cert.MlpRefIdeal.τ).loc Cert.MlpRefIdeal.main_v28) = v3 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Sc_ScIdeal : Prop :=
  True

def algebraic_ScIdeal_ScRefIdeal [hScIdeal : Cert.ScIdeal.Facts] [hScRefIdeal : Cert.ScRefIdeal.Facts] : Prop :=
  ∀ (m : (ℓ : Loc Cert.ScIdeal.nD Cert.ScIdeal.τ Cert.ScIdeal.sig) → Buf (Elt Ideal) ℓ) (g : Dev Cert.ScIdeal.nD → PrngReg)
    (m' : (ℓ : Loc Cert.ScRefIdeal.nD Cert.ScRefIdeal.τ Cert.ScRefIdeal.sig) → Buf (Elt Ideal) ℓ) (g' : Dev Cert.ScRefIdeal.nD → PrngReg), Pre_ScIdeal m →
    (∀ c : Dev Cert.ScIdeal.nD,
      m' ((c.tc : Thread Cert.ScRefIdeal.nD Cert.ScRefIdeal.τ).loc Cert.ScRefIdeal.main_arg0) = m ((c.tc : Thread Cert.ScIdeal.nD Cert.ScIdeal.τ).loc Cert.ScIdeal.main_arg0)
      ∧ m' ((c.tc : Thread Cert.ScRefIdeal.nD Cert.ScRefIdeal.τ).loc Cert.ScRefIdeal.main_arg1) = m ((c.tc : Thread Cert.ScIdeal.nD Cert.ScIdeal.τ).loc Cert.ScIdeal.main_arg1)
      ∧ m' ((c.tc : Thread Cert.ScRefIdeal.nD Cert.ScRefIdeal.τ).loc Cert.ScRefIdeal.main_arg2) = m ((c.tc : Thread Cert.ScIdeal.nD Cert.ScIdeal.τ).loc Cert.ScIdeal.main_arg2)
      ∧ m' ((c.tc : Thread Cert.ScRefIdeal.nD Cert.ScRefIdeal.τ).loc Cert.ScRefIdeal.main_arg3) = m ((c.tc : Thread Cert.ScIdeal.nD Cert.ScIdeal.τ).loc Cert.ScIdeal.main_arg3)
      ∧ m' ((c.tc : Thread Cert.ScRefIdeal.nD Cert.ScRefIdeal.τ).loc Cert.ScRefIdeal.main_arg4) = m ((c.tc : Thread Cert.ScIdeal.nD Cert.ScIdeal.τ).loc Cert.ScIdeal.main_arg4)
      ∧ m' ((c.tc : Thread Cert.ScRefIdeal.nD Cert.ScRefIdeal.τ).loc Cert.ScRefIdeal.main_arg5) = m ((c.tc : Thread Cert.ScIdeal.nD Cert.ScIdeal.τ).loc Cert.ScIdeal.main_arg5)) →
    ∃ (v0 : (c : Dev Cert.ScIdeal.nD) → Buf (Elt Ideal) ((c.tc : Thread Cert.ScIdeal.nD Cert.ScIdeal.τ).loc Cert.ScIdeal.main_v2)) (v1 : (c : Dev Cert.ScIdeal.nD) → Buf (Elt Ideal) ((c.tc : Thread Cert.ScIdeal.nD Cert.ScIdeal.τ).loc Cert.ScIdeal.main_v8)) (v2 : (c : Dev Cert.ScIdeal.nD) → Buf (Elt Ideal) ((c.tc : Thread Cert.ScIdeal.nD Cert.ScIdeal.τ).loc Cert.ScIdeal.main_v7)) (v3 : (c : Dev Cert.ScIdeal.nD) → Buf (Elt Ideal) ((c.tc : Thread Cert.ScIdeal.nD Cert.ScIdeal.τ).loc Cert.ScIdeal.main_v5_3)) (v4 : (c : Dev Cert.ScIdeal.nD) → Buf (Elt Ideal) ((c.tc : Thread Cert.ScIdeal.nD Cert.ScIdeal.τ).loc Cert.ScIdeal.main_v3)),
      θ_run (Cert.ScIdeal.defs (F := Ideal)) (onTc (τ := Cert.ScIdeal.τ) (Cert.ScIdeal.main (F := Ideal))) ⟨m, fun _ => 0, g⟩ (fun r => ∀ c : Dev Cert.ScIdeal.nD,
          r.2.mem ((c.tc : Thread Cert.ScIdeal.nD Cert.ScIdeal.τ).loc Cert.ScIdeal.main_v2) = v0 c
          ∧ r.2.mem ((c.tc : Thread Cert.ScIdeal.nD Cert.ScIdeal.τ).loc Cert.ScIdeal.main_v8) = v1 c
          ∧ r.2.mem ((c.tc : Thread Cert.ScIdeal.nD Cert.ScIdeal.τ).loc Cert.ScIdeal.main_v7) = v2 c
          ∧ r.2.mem ((c.tc : Thread Cert.ScIdeal.nD Cert.ScIdeal.τ).loc Cert.ScIdeal.main_v5_3) = v3 c
          ∧ r.2.mem ((c.tc : Thread Cert.ScIdeal.nD Cert.ScIdeal.τ).loc Cert.ScIdeal.main_v3) = v4 c
          ∧ r.2.mem ((c.tc : Thread Cert.ScIdeal.nD Cert.ScIdeal.τ).loc Cert.ScIdeal.main_arg0) = m ((c.tc : Thread Cert.ScIdeal.nD Cert.ScIdeal.τ).loc Cert.ScIdeal.main_arg0)
          ∧ r.2.mem ((c.tc : Thread Cert.ScIdeal.nD Cert.ScIdeal.τ).loc Cert.ScIdeal.main_arg1) = m ((c.tc : Thread Cert.ScIdeal.nD Cert.ScIdeal.τ).loc Cert.ScIdeal.main_arg1)
          ∧ r.2.mem ((c.tc : Thread Cert.ScIdeal.nD Cert.ScIdeal.τ).loc Cert.ScIdeal.main_arg2) = m ((c.tc : Thread Cert.ScIdeal.nD Cert.ScIdeal.τ).loc Cert.ScIdeal.main_arg2)
          ∧ r.2.mem ((c.tc : Thread Cert.ScIdeal.nD Cert.ScIdeal.τ).loc Cert.ScIdeal.main_arg3) = m ((c.tc : Thread Cert.ScIdeal.nD Cert.ScIdeal.τ).loc Cert.ScIdeal.main_arg3)
          ∧ r.2.mem ((c.tc : Thread Cert.ScIdeal.nD Cert.ScIdeal.τ).loc Cert.ScIdeal.main_arg4) = m ((c.tc : Thread Cert.ScIdeal.nD Cert.ScIdeal.τ).loc Cert.ScIdeal.main_arg4)
          ∧ r.2.mem ((c.tc : Thread Cert.ScIdeal.nD Cert.ScIdeal.τ).loc Cert.ScIdeal.main_arg5) = m ((c.tc : Thread Cert.ScIdeal.nD Cert.ScIdeal.τ).loc Cert.ScIdeal.main_arg5))
      ∧ θ_run (Cert.ScRefIdeal.defs (F := Ideal)) (onTc (τ := Cert.ScRefIdeal.τ) (Cert.ScRefIdeal.main (F := Ideal))) ⟨m', fun _ => 0, g'⟩ (fun r => ∀ c : Dev Cert.ScRefIdeal.nD,
          r.2.mem ((c.tc : Thread Cert.ScRefIdeal.nD Cert.ScRefIdeal.τ).loc Cert.ScRefIdeal.main_v34) = v0 c
          ∧ r.2.mem ((c.tc : Thread Cert.ScRefIdeal.nD Cert.ScRefIdeal.τ).loc Cert.ScRefIdeal.main_v83) = v1 c
          ∧ r.2.mem ((c.tc : Thread Cert.ScRefIdeal.nD Cert.ScRefIdeal.τ).loc Cert.ScRefIdeal.main_v84) = v2 c
          ∧ r.2.mem ((c.tc : Thread Cert.ScRefIdeal.nD Cert.ScRefIdeal.τ).loc Cert.ScRefIdeal.main_v70) = v3 c
          ∧ r.2.mem ((c.tc : Thread Cert.ScRefIdeal.nD Cert.ScRefIdeal.τ).loc Cert.ScRefIdeal.main_v85) = v4 c
          ∧ r.2.mem ((c.tc : Thread Cert.ScRefIdeal.nD Cert.ScRefIdeal.τ).loc Cert.ScRefIdeal.main_arg0) = m' ((c.tc : Thread Cert.ScRefIdeal.nD Cert.ScRefIdeal.τ).loc Cert.ScRefIdeal.main_arg0)
          ∧ r.2.mem ((c.tc : Thread Cert.ScRefIdeal.nD Cert.ScRefIdeal.τ).loc Cert.ScRefIdeal.main_arg1) = m' ((c.tc : Thread Cert.ScRefIdeal.nD Cert.ScRefIdeal.τ).loc Cert.ScRefIdeal.main_arg1)
          ∧ r.2.mem ((c.tc : Thread Cert.ScRefIdeal.nD Cert.ScRefIdeal.τ).loc Cert.ScRefIdeal.main_arg2) = m' ((c.tc : Thread Cert.ScRefIdeal.nD Cert.ScRefIdeal.τ).loc Cert.ScRefIdeal.main_arg2)
          ∧ r.2.mem ((c.tc : Thread Cert.ScRefIdeal.nD Cert.ScRefIdeal.τ).loc Cert.ScRefIdeal.main_arg3) = m' ((c.tc : Thread Cert.ScRefIdeal.nD Cert.ScRefIdeal.τ).loc Cert.ScRefIdeal.main_arg3)
          ∧ r.2.mem ((c.tc : Thread Cert.ScRefIdeal.nD Cert.ScRefIdeal.τ).loc Cert.ScRefIdeal.main_arg4) = m' ((c.tc : Thread Cert.ScRefIdeal.nD Cert.ScRefIdeal.τ).loc Cert.ScRefIdeal.main_arg4)
          ∧ r.2.mem ((c.tc : Thread Cert.ScRefIdeal.nD Cert.ScRefIdeal.τ).loc Cert.ScRefIdeal.main_arg5) = m' ((c.tc : Thread Cert.ScRefIdeal.nD Cert.ScRefIdeal.τ).loc Cert.ScRefIdeal.main_arg5))

def preserves_Sc3_Sc3Ideal : Prop :=
  True

def algebraic_Sc3Ideal_Sc3RefIdeal [hSc3Ideal : Cert.Sc3Ideal.Facts] [hSc3RefIdeal : Cert.Sc3RefIdeal.Facts] : Prop :=
  ∀ (m : (ℓ : Loc Cert.Sc3Ideal.nD Cert.Sc3Ideal.τ Cert.Sc3Ideal.sig) → Buf (Elt Ideal) ℓ) (g : Dev Cert.Sc3Ideal.nD → PrngReg)
    (m' : (ℓ : Loc Cert.Sc3RefIdeal.nD Cert.Sc3RefIdeal.τ Cert.Sc3RefIdeal.sig) → Buf (Elt Ideal) ℓ) (g' : Dev Cert.Sc3RefIdeal.nD → PrngReg), Pre_Sc3Ideal m →
    (∀ c : Dev Cert.Sc3Ideal.nD,
      m' ((c.tc : Thread Cert.Sc3RefIdeal.nD Cert.Sc3RefIdeal.τ).loc Cert.Sc3RefIdeal.main_arg0) = m ((c.tc : Thread Cert.Sc3Ideal.nD Cert.Sc3Ideal.τ).loc Cert.Sc3Ideal.main_arg0)
      ∧ m' ((c.tc : Thread Cert.Sc3RefIdeal.nD Cert.Sc3RefIdeal.τ).loc Cert.Sc3RefIdeal.main_arg1) = m ((c.tc : Thread Cert.Sc3Ideal.nD Cert.Sc3Ideal.τ).loc Cert.Sc3Ideal.main_arg1)
      ∧ m' ((c.tc : Thread Cert.Sc3RefIdeal.nD Cert.Sc3RefIdeal.τ).loc Cert.Sc3RefIdeal.main_arg2) = m ((c.tc : Thread Cert.Sc3Ideal.nD Cert.Sc3Ideal.τ).loc Cert.Sc3Ideal.main_arg2)
      ∧ m' ((c.tc : Thread Cert.Sc3RefIdeal.nD Cert.Sc3RefIdeal.τ).loc Cert.Sc3RefIdeal.main_arg3) = m ((c.tc : Thread Cert.Sc3Ideal.nD Cert.Sc3Ideal.τ).loc Cert.Sc3Ideal.main_arg3)
      ∧ m' ((c.tc : Thread Cert.Sc3RefIdeal.nD Cert.Sc3RefIdeal.τ).loc Cert.Sc3RefIdeal.main_arg4) = m ((c.tc : Thread Cert.Sc3Ideal.nD Cert.Sc3Ideal.τ).loc Cert.Sc3Ideal.main_arg4)
      ∧ m' ((c.tc : Thread Cert.Sc3RefIdeal.nD Cert.Sc3RefIdeal.τ).loc Cert.Sc3RefIdeal.main_arg5) = m ((c.tc : Thread Cert.Sc3Ideal.nD Cert.Sc3Ideal.τ).loc Cert.Sc3Ideal.main_arg5)) →
    ∃ (v0 : (c : Dev Cert.Sc3Ideal.nD) → Buf (Elt Ideal) ((c.tc : Thread Cert.Sc3Ideal.nD Cert.Sc3Ideal.τ).loc Cert.Sc3Ideal.main_v2)) (v1 : (c : Dev Cert.Sc3Ideal.nD) → Buf (Elt Ideal) ((c.tc : Thread Cert.Sc3Ideal.nD Cert.Sc3Ideal.τ).loc Cert.Sc3Ideal.main_v8)) (v2 : (c : Dev Cert.Sc3Ideal.nD) → Buf (Elt Ideal) ((c.tc : Thread Cert.Sc3Ideal.nD Cert.Sc3Ideal.τ).loc Cert.Sc3Ideal.main_v7)) (v3 : (c : Dev Cert.Sc3Ideal.nD) → Buf (Elt Ideal) ((c.tc : Thread Cert.Sc3Ideal.nD Cert.Sc3Ideal.τ).loc Cert.Sc3Ideal.main_v5_3)) (v4 : (c : Dev Cert.Sc3Ideal.nD) → Buf (Elt Ideal) ((c.tc : Thread Cert.Sc3Ideal.nD Cert.Sc3Ideal.τ).loc Cert.Sc3Ideal.main_v3)),
      θ_run (Cert.Sc3Ideal.defs (F := Ideal)) (onTc (τ := Cert.Sc3Ideal.τ) (Cert.Sc3Ideal.main (F := Ideal))) ⟨m, fun _ => 0, g⟩ (fun r => ∀ c : Dev Cert.Sc3Ideal.nD,
          r.2.mem ((c.tc : Thread Cert.Sc3Ideal.nD Cert.Sc3Ideal.τ).loc Cert.Sc3Ideal.main_v2) = v0 c
          ∧ r.2.mem ((c.tc : Thread Cert.Sc3Ideal.nD Cert.Sc3Ideal.τ).loc Cert.Sc3Ideal.main_v8) = v1 c
          ∧ r.2.mem ((c.tc : Thread Cert.Sc3Ideal.nD Cert.Sc3Ideal.τ).loc Cert.Sc3Ideal.main_v7) = v2 c
          ∧ r.2.mem ((c.tc : Thread Cert.Sc3Ideal.nD Cert.Sc3Ideal.τ).loc Cert.Sc3Ideal.main_v5_3) = v3 c
          ∧ r.2.mem ((c.tc : Thread Cert.Sc3Ideal.nD Cert.Sc3Ideal.τ).loc Cert.Sc3Ideal.main_v3) = v4 c
          ∧ r.2.mem ((c.tc : Thread Cert.Sc3Ideal.nD Cert.Sc3Ideal.τ).loc Cert.Sc3Ideal.main_arg0) = m ((c.tc : Thread Cert.Sc3Ideal.nD Cert.Sc3Ideal.τ).loc Cert.Sc3Ideal.main_arg0)
          ∧ r.2.mem ((c.tc : Thread Cert.Sc3Ideal.nD Cert.Sc3Ideal.τ).loc Cert.Sc3Ideal.main_arg1) = m ((c.tc : Thread Cert.Sc3Ideal.nD Cert.Sc3Ideal.τ).loc Cert.Sc3Ideal.main_arg1)
          ∧ r.2.mem ((c.tc : Thread Cert.Sc3Ideal.nD Cert.Sc3Ideal.τ).loc Cert.Sc3Ideal.main_arg2) = m ((c.tc : Thread Cert.Sc3Ideal.nD Cert.Sc3Ideal.τ).loc Cert.Sc3Ideal.main_arg2)
          ∧ r.2.mem ((c.tc : Thread Cert.Sc3Ideal.nD Cert.Sc3Ideal.τ).loc Cert.Sc3Ideal.main_arg3) = m ((c.tc : Thread Cert.Sc3Ideal.nD Cert.Sc3Ideal.τ).loc Cert.Sc3Ideal.main_arg3)
          ∧ r.2.mem ((c.tc : Thread Cert.Sc3Ideal.nD Cert.Sc3Ideal.τ).loc Cert.Sc3Ideal.main_arg4) = m ((c.tc : Thread Cert.Sc3Ideal.nD Cert.Sc3Ideal.τ).loc Cert.Sc3Ideal.main_arg4)
          ∧ r.2.mem ((c.tc : Thread Cert.Sc3Ideal.nD Cert.Sc3Ideal.τ).loc Cert.Sc3Ideal.main_arg5) = m ((c.tc : Thread Cert.Sc3Ideal.nD Cert.Sc3Ideal.τ).loc Cert.Sc3Ideal.main_arg5))
      ∧ θ_run (Cert.Sc3RefIdeal.defs (F := Ideal)) (onTc (τ := Cert.Sc3RefIdeal.τ) (Cert.Sc3RefIdeal.main (F := Ideal))) ⟨m', fun _ => 0, g'⟩ (fun r => ∀ c : Dev Cert.Sc3RefIdeal.nD,
          r.2.mem ((c.tc : Thread Cert.Sc3RefIdeal.nD Cert.Sc3RefIdeal.τ).loc Cert.Sc3RefIdeal.main_v35) = v0 c
          ∧ r.2.mem ((c.tc : Thread Cert.Sc3RefIdeal.nD Cert.Sc3RefIdeal.τ).loc Cert.Sc3RefIdeal.main_v84) = v1 c
          ∧ r.2.mem ((c.tc : Thread Cert.Sc3RefIdeal.nD Cert.Sc3RefIdeal.τ).loc Cert.Sc3RefIdeal.main_v85) = v2 c
          ∧ r.2.mem ((c.tc : Thread Cert.Sc3RefIdeal.nD Cert.Sc3RefIdeal.τ).loc Cert.Sc3RefIdeal.main_v71) = v3 c
          ∧ r.2.mem ((c.tc : Thread Cert.Sc3RefIdeal.nD Cert.Sc3RefIdeal.τ).loc Cert.Sc3RefIdeal.main_v86) = v4 c
          ∧ r.2.mem ((c.tc : Thread Cert.Sc3RefIdeal.nD Cert.Sc3RefIdeal.τ).loc Cert.Sc3RefIdeal.main_arg0) = m' ((c.tc : Thread Cert.Sc3RefIdeal.nD Cert.Sc3RefIdeal.τ).loc Cert.Sc3RefIdeal.main_arg0)
          ∧ r.2.mem ((c.tc : Thread Cert.Sc3RefIdeal.nD Cert.Sc3RefIdeal.τ).loc Cert.Sc3RefIdeal.main_arg1) = m' ((c.tc : Thread Cert.Sc3RefIdeal.nD Cert.Sc3RefIdeal.τ).loc Cert.Sc3RefIdeal.main_arg1)
          ∧ r.2.mem ((c.tc : Thread Cert.Sc3RefIdeal.nD Cert.Sc3RefIdeal.τ).loc Cert.Sc3RefIdeal.main_arg2) = m' ((c.tc : Thread Cert.Sc3RefIdeal.nD Cert.Sc3RefIdeal.τ).loc Cert.Sc3RefIdeal.main_arg2)
          ∧ r.2.mem ((c.tc : Thread Cert.Sc3RefIdeal.nD Cert.Sc3RefIdeal.τ).loc Cert.Sc3RefIdeal.main_arg3) = m' ((c.tc : Thread Cert.Sc3RefIdeal.nD Cert.Sc3RefIdeal.τ).loc Cert.Sc3RefIdeal.main_arg3)
          ∧ r.2.mem ((c.tc : Thread Cert.Sc3RefIdeal.nD Cert.Sc3RefIdeal.τ).loc Cert.Sc3RefIdeal.main_arg4) = m' ((c.tc : Thread Cert.Sc3RefIdeal.nD Cert.Sc3RefIdeal.τ).loc Cert.Sc3RefIdeal.main_arg4)
          ∧ r.2.mem ((c.tc : Thread Cert.Sc3RefIdeal.nD Cert.Sc3RefIdeal.τ).loc Cert.Sc3RefIdeal.main_arg5) = m' ((c.tc : Thread Cert.Sc3RefIdeal.nD Cert.Sc3RefIdeal.τ).loc Cert.Sc3RefIdeal.main_arg5))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)
      ∧ m' ((c.tc : Thread Cert.AdamRefIdeal.nD Cert.AdamRefIdeal.τ).loc Cert.AdamRefIdeal.main_arg5) = m ((c.tc : Thread Cert.AdamIdeal.nD Cert.AdamIdeal.τ).loc Cert.AdamIdeal.main_arg5)
      ∧ m' ((c.tc : Thread Cert.AdamRefIdeal.nD Cert.AdamRefIdeal.τ).loc Cert.AdamRefIdeal.main_arg6) = m ((c.tc : Thread Cert.AdamIdeal.nD Cert.AdamIdeal.τ).loc Cert.AdamIdeal.main_arg6)
      ∧ m' ((c.tc : Thread Cert.AdamRefIdeal.nD Cert.AdamRefIdeal.τ).loc Cert.AdamRefIdeal.main_arg7) = m ((c.tc : Thread Cert.AdamIdeal.nD Cert.AdamIdeal.τ).loc Cert.AdamIdeal.main_arg7)
      ∧ m' ((c.tc : Thread Cert.AdamRefIdeal.nD Cert.AdamRefIdeal.τ).loc Cert.AdamRefIdeal.main_arg8) = m ((c.tc : Thread Cert.AdamIdeal.nD Cert.AdamIdeal.τ).loc Cert.AdamIdeal.main_arg8)
      ∧ m' ((c.tc : Thread Cert.AdamRefIdeal.nD Cert.AdamRefIdeal.τ).loc Cert.AdamRefIdeal.main_arg9) = m ((c.tc : Thread Cert.AdamIdeal.nD Cert.AdamIdeal.τ).loc Cert.AdamIdeal.main_arg9)
      ∧ m' ((c.tc : Thread Cert.AdamRefIdeal.nD Cert.AdamRefIdeal.τ).loc Cert.AdamRefIdeal.main_arg10) = m ((c.tc : Thread Cert.AdamIdeal.nD Cert.AdamIdeal.τ).loc Cert.AdamIdeal.main_arg10)
      ∧ m' ((c.tc : Thread Cert.AdamRefIdeal.nD Cert.AdamRefIdeal.τ).loc Cert.AdamRefIdeal.main_arg11) = m ((c.tc : Thread Cert.AdamIdeal.nD Cert.AdamIdeal.τ).loc Cert.AdamIdeal.main_arg11)
      ∧ m' ((c.tc : Thread Cert.AdamRefIdeal.nD Cert.AdamRefIdeal.τ).loc Cert.AdamRefIdeal.main_arg12) = m ((c.tc : Thread Cert.AdamIdeal.nD Cert.AdamIdeal.τ).loc Cert.AdamIdeal.main_arg12)
      ∧ m' ((c.tc : Thread Cert.AdamRefIdeal.nD Cert.AdamRefIdeal.τ).loc Cert.AdamRefIdeal.main_arg13) = m ((c.tc : Thread Cert.AdamIdeal.nD Cert.AdamIdeal.τ).loc Cert.AdamIdeal.main_arg13)
      ∧ m' ((c.tc : Thread Cert.AdamRefIdeal.nD Cert.AdamRefIdeal.τ).loc Cert.AdamRefIdeal.main_arg14) = m ((c.tc : Thread Cert.AdamIdeal.nD Cert.AdamIdeal.τ).loc Cert.AdamIdeal.main_arg14)
      ∧ m' ((c.tc : Thread Cert.AdamRefIdeal.nD Cert.AdamRefIdeal.τ).loc Cert.AdamRefIdeal.main_arg15) = m ((c.tc : Thread Cert.AdamIdeal.nD Cert.AdamIdeal.τ).loc Cert.AdamIdeal.main_arg15)
      ∧ m' ((c.tc : Thread Cert.AdamRefIdeal.nD Cert.AdamRefIdeal.τ).loc Cert.AdamRefIdeal.main_arg16) = m ((c.tc : Thread Cert.AdamIdeal.nD Cert.AdamIdeal.τ).loc Cert.AdamIdeal.main_arg16)
      ∧ m' ((c.tc : Thread Cert.AdamRefIdeal.nD Cert.AdamRefIdeal.τ).loc Cert.AdamRefIdeal.main_arg17) = m ((c.tc : Thread Cert.AdamIdeal.nD Cert.AdamIdeal.τ).loc Cert.AdamIdeal.main_arg17)
      ∧ m' ((c.tc : Thread Cert.AdamRefIdeal.nD Cert.AdamRefIdeal.τ).loc Cert.AdamRefIdeal.main_arg18) = m ((c.tc : Thread Cert.AdamIdeal.nD Cert.AdamIdeal.τ).loc Cert.AdamIdeal.main_arg18)) →
    ∃ (v0 : (c : Dev Cert.AdamIdeal.nD) → Buf (Elt Ideal) ((c.tc : Thread Cert.AdamIdeal.nD Cert.AdamIdeal.τ).loc Cert.AdamIdeal.main_v4)) (v1 : (c : Dev Cert.AdamIdeal.nD) → Buf (Elt Ideal) ((c.tc : Thread Cert.AdamIdeal.nD Cert.AdamIdeal.τ).loc Cert.AdamIdeal.main_v5)) (v2 : (c : Dev Cert.AdamIdeal.nD) → Buf (Elt Ideal) ((c.tc : Thread Cert.AdamIdeal.nD Cert.AdamIdeal.τ).loc Cert.AdamIdeal.main_v6)) (v3 : (c : Dev Cert.AdamIdeal.nD) → Buf (Elt Ideal) ((c.tc : Thread Cert.AdamIdeal.nD Cert.AdamIdeal.τ).loc Cert.AdamIdeal.main_v7)) (v4 : (c : Dev Cert.AdamIdeal.nD) → Buf (Elt Ideal) ((c.tc : Thread Cert.AdamIdeal.nD Cert.AdamIdeal.τ).loc Cert.AdamIdeal.main_v12)) (v5 : (c : Dev Cert.AdamIdeal.nD) → Buf (Elt Ideal) ((c.tc : Thread Cert.AdamIdeal.nD Cert.AdamIdeal.τ).loc Cert.AdamIdeal.main_v13)) (v6 : (c : Dev Cert.AdamIdeal.nD) → Buf (Elt Ideal) ((c.tc : Thread Cert.AdamIdeal.nD Cert.AdamIdeal.τ).loc Cert.AdamIdeal.main_v14)) (v7 : (c : Dev Cert.AdamIdeal.nD) → Buf (Elt Ideal) ((c.tc : Thread Cert.AdamIdeal.nD Cert.AdamIdeal.τ).loc Cert.AdamIdeal.main_v15)) (v8 : (c : Dev Cert.AdamIdeal.nD) → Buf (Elt Ideal) ((c.tc : Thread Cert.AdamIdeal.nD Cert.AdamIdeal.τ).loc Cert.AdamIdeal.main_v20)) (v9 : (c : Dev Cert.AdamIdeal.nD) → Buf (Elt Ideal) ((c.tc : Thread Cert.AdamIdeal.nD Cert.AdamIdeal.τ).loc Cert.AdamIdeal.main_v21)) (v10 : (c : Dev Cert.AdamIdeal.nD) → Buf (Elt Ideal) ((c.tc : Thread Cert.AdamIdeal.nD Cert.AdamIdeal.τ).loc Cert.AdamIdeal.main_v22)) (v11 : (c : Dev Cert.AdamIdeal.nD) → Buf (Elt Ideal) ((c.tc : Thread Cert.AdamIdeal.nD Cert.AdamIdeal.τ).loc Cert.AdamIdeal.main_v23)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v4) = v0 c
          ∧ r.2.mem ((c.tc : Thread Cert.AdamIdeal.nD Cert.AdamIdeal.τ).loc Cert.AdamIdeal.main_v5) = v1 c
          ∧ r.2.mem ((c.tc : Thread Cert.AdamIdeal.nD Cert.AdamIdeal.τ).loc Cert.AdamIdeal.main_v6) = v2 c
          ∧ r.2.mem ((c.tc : Thread Cert.AdamIdeal.nD Cert.AdamIdeal.τ).loc Cert.AdamIdeal.main_v7) = v3 c
          ∧ r.2.mem ((c.tc : Thread Cert.AdamIdeal.nD Cert.AdamIdeal.τ).loc Cert.AdamIdeal.main_v12) = v4 c
          ∧ r.2.mem ((c.tc : Thread Cert.AdamIdeal.nD Cert.AdamIdeal.τ).loc Cert.AdamIdeal.main_v13) = v5 c
          ∧ r.2.mem ((c.tc : Thread Cert.AdamIdeal.nD Cert.AdamIdeal.τ).loc Cert.AdamIdeal.main_v14) = v6 c
          ∧ r.2.mem ((c.tc : Thread Cert.AdamIdeal.nD Cert.AdamIdeal.τ).loc Cert.AdamIdeal.main_v15) = v7 c
          ∧ r.2.mem ((c.tc : Thread Cert.AdamIdeal.nD Cert.AdamIdeal.τ).loc Cert.AdamIdeal.main_v20) = v8 c
          ∧ r.2.mem ((c.tc : Thread Cert.AdamIdeal.nD Cert.AdamIdeal.τ).loc Cert.AdamIdeal.main_v21) = v9 c
          ∧ r.2.mem ((c.tc : Thread Cert.AdamIdeal.nD Cert.AdamIdeal.τ).loc Cert.AdamIdeal.main_v22) = v10 c
          ∧ r.2.mem ((c.tc : Thread Cert.AdamIdeal.nD Cert.AdamIdeal.τ).loc Cert.AdamIdeal.main_v23) = v11 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
          ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
          ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
          ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7)
          ∧ r.2.mem ((c.tc : Thread Cert.AdamIdeal.nD Cert.AdamIdeal.τ).loc Cert.AdamIdeal.main_arg8) = m ((c.tc : Thread Cert.AdamIdeal.nD Cert.AdamIdeal.τ).loc Cert.AdamIdeal.main_arg8)
          ∧ r.2.mem ((c.tc : Thread Cert.AdamIdeal.nD Cert.AdamIdeal.τ).loc Cert.AdamIdeal.main_arg9) = m ((c.tc : Thread Cert.AdamIdeal.nD Cert.AdamIdeal.τ).loc Cert.AdamIdeal.main_arg9)
          ∧ r.2.mem ((c.tc : Thread Cert.AdamIdeal.nD Cert.AdamIdeal.τ).loc Cert.AdamIdeal.main_arg10) = m ((c.tc : Thread Cert.AdamIdeal.nD Cert.AdamIdeal.τ).loc Cert.AdamIdeal.main_arg10)
          ∧ r.2.mem ((c.tc : Thread Cert.AdamIdeal.nD Cert.AdamIdeal.τ).loc Cert.AdamIdeal.main_arg11) = m ((c.tc : Thread Cert.AdamIdeal.nD Cert.AdamIdeal.τ).loc Cert.AdamIdeal.main_arg11)
          ∧ r.2.mem ((c.tc : Thread Cert.AdamIdeal.nD Cert.AdamIdeal.τ).loc Cert.AdamIdeal.main_arg12) = m ((c.tc : Thread Cert.AdamIdeal.nD Cert.AdamIdeal.τ).loc Cert.AdamIdeal.main_arg12)
          ∧ r.2.mem ((c.tc : Thread Cert.AdamIdeal.nD Cert.AdamIdeal.τ).loc Cert.AdamIdeal.main_arg13) = m ((c.tc : Thread Cert.AdamIdeal.nD Cert.AdamIdeal.τ).loc Cert.AdamIdeal.main_arg13)
          ∧ r.2.mem ((c.tc : Thread Cert.AdamIdeal.nD Cert.AdamIdeal.τ).loc Cert.AdamIdeal.main_arg14) = m ((c.tc : Thread Cert.AdamIdeal.nD Cert.AdamIdeal.τ).loc Cert.AdamIdeal.main_arg14)
          ∧ r.2.mem ((c.tc : Thread Cert.AdamIdeal.nD Cert.AdamIdeal.τ).loc Cert.AdamIdeal.main_arg15) = m ((c.tc : Thread Cert.AdamIdeal.nD Cert.AdamIdeal.τ).loc Cert.AdamIdeal.main_arg15)
          ∧ r.2.mem ((c.tc : Thread Cert.AdamIdeal.nD Cert.AdamIdeal.τ).loc Cert.AdamIdeal.main_arg16) = m ((c.tc : Thread Cert.AdamIdeal.nD Cert.AdamIdeal.τ).loc Cert.AdamIdeal.main_arg16)
          ∧ r.2.mem ((c.tc : Thread Cert.AdamIdeal.nD Cert.AdamIdeal.τ).loc Cert.AdamIdeal.main_arg17) = m ((c.tc : Thread Cert.AdamIdeal.nD Cert.AdamIdeal.τ).loc Cert.AdamIdeal.main_arg17)
          ∧ r.2.mem ((c.tc : Thread Cert.AdamIdeal.nD Cert.AdamIdeal.τ).loc Cert.AdamIdeal.main_arg18) = m ((c.tc : Thread Cert.AdamIdeal.nD Cert.AdamIdeal.τ).loc Cert.AdamIdeal.main_arg18))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v8) = v0 c
          ∧ r.2.mem ((c.tc : Thread Cert.AdamRefIdeal.nD Cert.AdamRefIdeal.τ).loc Cert.AdamRefIdeal.main_v32) = v1 c
          ∧ r.2.mem ((c.tc : Thread Cert.AdamRefIdeal.nD Cert.AdamRefIdeal.τ).loc Cert.AdamRefIdeal.main_v13) = v2 c
          ∧ r.2.mem ((c.tc : Thread Cert.AdamRefIdeal.nD Cert.AdamRefIdeal.τ).loc Cert.AdamRefIdeal.main_v19) = v3 c
          ∧ r.2.mem ((c.tc : Thread Cert.AdamRefIdeal.nD Cert.AdamRefIdeal.τ).loc Cert.AdamRefIdeal.main_v41) = v4 c
          ∧ r.2.mem ((c.tc : Thread Cert.AdamRefIdeal.nD Cert.AdamRefIdeal.τ).loc Cert.AdamRefIdeal.main_v65) = v5 c
          ∧ r.2.mem ((c.tc : Thread Cert.AdamRefIdeal.nD Cert.AdamRefIdeal.τ).loc Cert.AdamRefIdeal.main_v46) = v6 c
          ∧ r.2.mem ((c.tc : Thread Cert.AdamRefIdeal.nD Cert.AdamRefIdeal.τ).loc Cert.AdamRefIdeal.main_v52) = v7 c
          ∧ r.2.mem ((c.tc : Thread Cert.AdamRefIdeal.nD Cert.AdamRefIdeal.τ).loc Cert.AdamRefIdeal.main_v69) = v8 c
          ∧ r.2.mem ((c.tc : Thread Cert.AdamRefIdeal.nD Cert.AdamRefIdeal.τ).loc Cert.AdamRefIdeal.main_v93) = v9 c
          ∧ r.2.mem ((c.tc : Thread Cert.AdamRefIdeal.nD Cert.AdamRefIdeal.τ).loc Cert.AdamRefIdeal.main_v74) = v10 c
          ∧ r.2.mem ((c.tc : Thread Cert.AdamRefIdeal.nD Cert.AdamRefIdeal.τ).loc Cert.AdamRefIdeal.main_v80) = v11 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4)
          ∧ r.2.mem ((c.tc : Thread Cert.AdamRefIdeal.nD Cert.AdamRefIdeal.τ).loc Cert.AdamRefIdeal.main_arg5) = m' ((c.tc : Thread Cert.AdamRefIdeal.nD Cert.AdamRefIdeal.τ).loc Cert.AdamRefIdeal.main_arg5)
          ∧ r.2.mem ((c.tc : Thread Cert.AdamRefIdeal.nD Cert.AdamRefIdeal.τ).loc Cert.AdamRefIdeal.main_arg6) = m' ((c.tc : Thread Cert.AdamRefIdeal.nD Cert.AdamRefIdeal.τ).loc Cert.AdamRefIdeal.main_arg6)
          ∧ r.2.mem ((c.tc : Thread Cert.AdamRefIdeal.nD Cert.AdamRefIdeal.τ).loc Cert.AdamRefIdeal.main_arg7) = m' ((c.tc : Thread Cert.AdamRefIdeal.nD Cert.AdamRefIdeal.τ).loc Cert.AdamRefIdeal.main_arg7)
          ∧ r.2.mem ((c.tc : Thread Cert.AdamRefIdeal.nD Cert.AdamRefIdeal.τ).loc Cert.AdamRefIdeal.main_arg8) = m' ((c.tc : Thread Cert.AdamRefIdeal.nD Cert.AdamRefIdeal.τ).loc Cert.AdamRefIdeal.main_arg8)
          ∧ r.2.mem ((c.tc : Thread Cert.AdamRefIdeal.nD Cert.AdamRefIdeal.τ).loc Cert.AdamRefIdeal.main_arg9) = m' ((c.tc : Thread Cert.AdamRefIdeal.nD Cert.AdamRefIdeal.τ).loc Cert.AdamRefIdeal.main_arg9)
          ∧ r.2.mem ((c.tc : Thread Cert.AdamRefIdeal.nD Cert.AdamRefIdeal.τ).loc Cert.AdamRefIdeal.main_arg10) = m' ((c.tc : Thread Cert.AdamRefIdeal.nD Cert.AdamRefIdeal.τ).loc Cert.AdamRefIdeal.main_arg10)
          ∧ r.2.mem ((c.tc : Thread Cert.AdamRefIdeal.nD Cert.AdamRefIdeal.τ).loc Cert.AdamRefIdeal.main_arg11) = m' ((c.tc : Thread Cert.AdamRefIdeal.nD Cert.AdamRefIdeal.τ).loc Cert.AdamRefIdeal.main_arg11)
          ∧ r.2.mem ((c.tc : Thread Cert.AdamRefIdeal.nD Cert.AdamRefIdeal.τ).loc Cert.AdamRefIdeal.main_arg12) = m' ((c.tc : Thread Cert.AdamRefIdeal.nD Cert.AdamRefIdeal.τ).loc Cert.AdamRefIdeal.main_arg12)
          ∧ r.2.mem ((c.tc : Thread Cert.AdamRefIdeal.nD Cert.AdamRefIdeal.τ).loc Cert.AdamRefIdeal.main_arg13) = m' ((c.tc : Thread Cert.AdamRefIdeal.nD Cert.AdamRefIdeal.τ).loc Cert.AdamRefIdeal.main_arg13)
          ∧ r.2.mem ((c.tc : Thread Cert.AdamRefIdeal.nD Cert.AdamRefIdeal.τ).loc Cert.AdamRefIdeal.main_arg14) = m' ((c.tc : Thread Cert.AdamRefIdeal.nD Cert.AdamRefIdeal.τ).loc Cert.AdamRefIdeal.main_arg14)
          ∧ r.2.mem ((c.tc : Thread Cert.AdamRefIdeal.nD Cert.AdamRefIdeal.τ).loc Cert.AdamRefIdeal.main_arg15) = m' ((c.tc : Thread Cert.AdamRefIdeal.nD Cert.AdamRefIdeal.τ).loc Cert.AdamRefIdeal.main_arg15)
          ∧ r.2.mem ((c.tc : Thread Cert.AdamRefIdeal.nD Cert.AdamRefIdeal.τ).loc Cert.AdamRefIdeal.main_arg16) = m' ((c.tc : Thread Cert.AdamRefIdeal.nD Cert.AdamRefIdeal.τ).loc Cert.AdamRefIdeal.main_arg16)
          ∧ r.2.mem ((c.tc : Thread Cert.AdamRefIdeal.nD Cert.AdamRefIdeal.τ).loc Cert.AdamRefIdeal.main_arg17) = m' ((c.tc : Thread Cert.AdamRefIdeal.nD Cert.AdamRefIdeal.τ).loc Cert.AdamRefIdeal.main_arg17)
          ∧ r.2.mem ((c.tc : Thread Cert.AdamRefIdeal.nD Cert.AdamRefIdeal.τ).loc Cert.AdamRefIdeal.main_arg18) = m' ((c.tc : Thread Cert.AdamRefIdeal.nD Cert.AdamRefIdeal.τ).loc Cert.AdamRefIdeal.main_arg18))

def preserves_Adam1_Adam1Ideal : Prop :=
  True

def algebraic_Adam1Ideal_Adam1RefIdeal [hAdam1Ideal : Cert.Adam1Ideal.Facts] [hAdam1RefIdeal : Cert.Adam1RefIdeal.Facts] : Prop :=
  ∀ (m : (ℓ : Loc Cert.Adam1Ideal.nD Cert.Adam1Ideal.τ Cert.Adam1Ideal.sig) → Buf (Elt Ideal) ℓ) (g : Dev Cert.Adam1Ideal.nD → PrngReg)
    (m' : (ℓ : Loc Cert.Adam1RefIdeal.nD Cert.Adam1RefIdeal.τ Cert.Adam1RefIdeal.sig) → Buf (Elt Ideal) ℓ) (g' : Dev Cert.Adam1RefIdeal.nD → PrngReg), Pre_Adam1Ideal m →
    (∀ c : Dev Cert.Adam1Ideal.nD,
      m' ((c.tc : Thread Cert.Adam1RefIdeal.nD Cert.Adam1RefIdeal.τ).loc Cert.Adam1RefIdeal.main_arg0) = m ((c.tc : Thread Cert.Adam1Ideal.nD Cert.Adam1Ideal.τ).loc Cert.Adam1Ideal.main_arg0)
      ∧ m' ((c.tc : Thread Cert.Adam1RefIdeal.nD Cert.Adam1RefIdeal.τ).loc Cert.Adam1RefIdeal.main_arg1) = m ((c.tc : Thread Cert.Adam1Ideal.nD Cert.Adam1Ideal.τ).loc Cert.Adam1Ideal.main_arg1)
      ∧ m' ((c.tc : Thread Cert.Adam1RefIdeal.nD Cert.Adam1RefIdeal.τ).loc Cert.Adam1RefIdeal.main_arg2) = m ((c.tc : Thread Cert.Adam1Ideal.nD Cert.Adam1Ideal.τ).loc Cert.Adam1Ideal.main_arg2)
      ∧ m' ((c.tc : Thread Cert.Adam1RefIdeal.nD Cert.Adam1RefIdeal.τ).loc Cert.Adam1RefIdeal.main_arg3) = m ((c.tc : Thread Cert.Adam1Ideal.nD Cert.Adam1Ideal.τ).loc Cert.Adam1Ideal.main_arg3)
      ∧ m' ((c.tc : Thread Cert.Adam1RefIdeal.nD Cert.Adam1RefIdeal.τ).loc Cert.Adam1RefIdeal.main_arg4) = m ((c.tc : Thread Cert.Adam1Ideal.nD Cert.Adam1Ideal.τ).loc Cert.Adam1Ideal.main_arg4)
      ∧ m' ((c.tc : Thread Cert.Adam1RefIdeal.nD Cert.Adam1RefIdeal.τ).loc Cert.Adam1RefIdeal.main_arg5) = m ((c.tc : Thread Cert.Adam1Ideal.nD Cert.Adam1Ideal.τ).loc Cert.Adam1Ideal.main_arg5)
      ∧ m' ((c.tc : Thread Cert.Adam1RefIdeal.nD Cert.Adam1RefIdeal.τ).loc Cert.Adam1RefIdeal.main_arg6) = m ((c.tc : Thread Cert.Adam1Ideal.nD Cert.Adam1Ideal.τ).loc Cert.Adam1Ideal.main_arg6)
      ∧ m' ((c.tc : Thread Cert.Adam1RefIdeal.nD Cert.Adam1RefIdeal.τ).loc Cert.Adam1RefIdeal.main_arg7) = m ((c.tc : Thread Cert.Adam1Ideal.nD Cert.Adam1Ideal.τ).loc Cert.Adam1Ideal.main_arg7)
      ∧ m' ((c.tc : Thread Cert.Adam1RefIdeal.nD Cert.Adam1RefIdeal.τ).loc Cert.Adam1RefIdeal.main_arg8) = m ((c.tc : Thread Cert.Adam1Ideal.nD Cert.Adam1Ideal.τ).loc Cert.Adam1Ideal.main_arg8)
      ∧ m' ((c.tc : Thread Cert.Adam1RefIdeal.nD Cert.Adam1RefIdeal.τ).loc Cert.Adam1RefIdeal.main_arg9) = m ((c.tc : Thread Cert.Adam1Ideal.nD Cert.Adam1Ideal.τ).loc Cert.Adam1Ideal.main_arg9)
      ∧ m' ((c.tc : Thread Cert.Adam1RefIdeal.nD Cert.Adam1RefIdeal.τ).loc Cert.Adam1RefIdeal.main_arg10) = m ((c.tc : Thread Cert.Adam1Ideal.nD Cert.Adam1Ideal.τ).loc Cert.Adam1Ideal.main_arg10)
      ∧ m' ((c.tc : Thread Cert.Adam1RefIdeal.nD Cert.Adam1RefIdeal.τ).loc Cert.Adam1RefIdeal.main_arg11) = m ((c.tc : Thread Cert.Adam1Ideal.nD Cert.Adam1Ideal.τ).loc Cert.Adam1Ideal.main_arg11)
      ∧ m' ((c.tc : Thread Cert.Adam1RefIdeal.nD Cert.Adam1RefIdeal.τ).loc Cert.Adam1RefIdeal.main_arg12) = m ((c.tc : Thread Cert.Adam1Ideal.nD Cert.Adam1Ideal.τ).loc Cert.Adam1Ideal.main_arg12)
      ∧ m' ((c.tc : Thread Cert.Adam1RefIdeal.nD Cert.Adam1RefIdeal.τ).loc Cert.Adam1RefIdeal.main_arg13) = m ((c.tc : Thread Cert.Adam1Ideal.nD Cert.Adam1Ideal.τ).loc Cert.Adam1Ideal.main_arg13)
      ∧ m' ((c.tc : Thread Cert.Adam1RefIdeal.nD Cert.Adam1RefIdeal.τ).loc Cert.Adam1RefIdeal.main_arg14) = m ((c.tc : Thread Cert.Adam1Ideal.nD Cert.Adam1Ideal.τ).loc Cert.Adam1Ideal.main_arg14)
      ∧ m' ((c.tc : Thread Cert.Adam1RefIdeal.nD Cert.Adam1RefIdeal.τ).loc Cert.Adam1RefIdeal.main_arg15) = m ((c.tc : Thread Cert.Adam1Ideal.nD Cert.Adam1Ideal.τ).loc Cert.Adam1Ideal.main_arg15)
      ∧ m' ((c.tc : Thread Cert.Adam1RefIdeal.nD Cert.Adam1RefIdeal.τ).loc Cert.Adam1RefIdeal.main_arg16) = m ((c.tc : Thread Cert.Adam1Ideal.nD Cert.Adam1Ideal.τ).loc Cert.Adam1Ideal.main_arg16)
      ∧ m' ((c.tc : Thread Cert.Adam1RefIdeal.nD Cert.Adam1RefIdeal.τ).loc Cert.Adam1RefIdeal.main_arg17) = m ((c.tc : Thread Cert.Adam1Ideal.nD Cert.Adam1Ideal.τ).loc Cert.Adam1Ideal.main_arg17)
      ∧ m' ((c.tc : Thread Cert.Adam1RefIdeal.nD Cert.Adam1RefIdeal.τ).loc Cert.Adam1RefIdeal.main_arg18) = m ((c.tc : Thread Cert.Adam1Ideal.nD Cert.Adam1Ideal.τ).loc Cert.Adam1Ideal.main_arg18)
      ∧ m' ((c.tc : Thread Cert.Adam1RefIdeal.nD Cert.Adam1RefIdeal.τ).loc Cert.Adam1RefIdeal.main_arg19) = m ((c.tc : Thread Cert.Adam1Ideal.nD Cert.Adam1Ideal.τ).loc Cert.Adam1Ideal.main_arg19)
      ∧ m' ((c.tc : Thread Cert.Adam1RefIdeal.nD Cert.Adam1RefIdeal.τ).loc Cert.Adam1RefIdeal.main_arg20) = m ((c.tc : Thread Cert.Adam1Ideal.nD Cert.Adam1Ideal.τ).loc Cert.Adam1Ideal.main_arg20)
      ∧ m' ((c.tc : Thread Cert.Adam1RefIdeal.nD Cert.Adam1RefIdeal.τ).loc Cert.Adam1RefIdeal.main_arg21) = m ((c.tc : Thread Cert.Adam1Ideal.nD Cert.Adam1Ideal.τ).loc Cert.Adam1Ideal.main_arg21)
      ∧ m' ((c.tc : Thread Cert.Adam1RefIdeal.nD Cert.Adam1RefIdeal.τ).loc Cert.Adam1RefIdeal.main_arg22) = m ((c.tc : Thread Cert.Adam1Ideal.nD Cert.Adam1Ideal.τ).loc Cert.Adam1Ideal.main_arg22)
      ∧ m' ((c.tc : Thread Cert.Adam1RefIdeal.nD Cert.Adam1RefIdeal.τ).loc Cert.Adam1RefIdeal.main_arg23) = m ((c.tc : Thread Cert.Adam1Ideal.nD Cert.Adam1Ideal.τ).loc Cert.Adam1Ideal.main_arg23)
      ∧ m' ((c.tc : Thread Cert.Adam1RefIdeal.nD Cert.Adam1RefIdeal.τ).loc Cert.Adam1RefIdeal.main_arg24) = m ((c.tc : Thread Cert.Adam1Ideal.nD Cert.Adam1Ideal.τ).loc Cert.Adam1Ideal.main_arg24)
      ∧ m' ((c.tc : Thread Cert.Adam1RefIdeal.nD Cert.Adam1RefIdeal.τ).loc Cert.Adam1RefIdeal.main_arg25) = m ((c.tc : Thread Cert.Adam1Ideal.nD Cert.Adam1Ideal.τ).loc Cert.Adam1Ideal.main_arg25)
      ∧ m' ((c.tc : Thread Cert.Adam1RefIdeal.nD Cert.Adam1RefIdeal.τ).loc Cert.Adam1RefIdeal.main_arg26) = m ((c.tc : Thread Cert.Adam1Ideal.nD Cert.Adam1Ideal.τ).loc Cert.Adam1Ideal.main_arg26)
      ∧ m' ((c.tc : Thread Cert.Adam1RefIdeal.nD Cert.Adam1RefIdeal.τ).loc Cert.Adam1RefIdeal.main_arg27) = m ((c.tc : Thread Cert.Adam1Ideal.nD Cert.Adam1Ideal.τ).loc Cert.Adam1Ideal.main_arg27)
      ∧ m' ((c.tc : Thread Cert.Adam1RefIdeal.nD Cert.Adam1RefIdeal.τ).loc Cert.Adam1RefIdeal.main_arg28) = m ((c.tc : Thread Cert.Adam1Ideal.nD Cert.Adam1Ideal.τ).loc Cert.Adam1Ideal.main_arg28)
      ∧ m' ((c.tc : Thread Cert.Adam1RefIdeal.nD Cert.Adam1RefIdeal.τ).loc Cert.Adam1RefIdeal.main_arg29) = m ((c.tc : Thread Cert.Adam1Ideal.nD Cert.Adam1Ideal.τ).loc Cert.Adam1Ideal.main_arg29)
      ∧ m' ((c.tc : Thread Cert.Adam1RefIdeal.nD Cert.Adam1RefIdeal.τ).loc Cert.Adam1RefIdeal.main_arg30) = m ((c.tc : Thread Cert.Adam1Ideal.nD Cert.Adam1Ideal.τ).loc Cert.Adam1Ideal.main_arg30)
      ∧ m' ((c.tc : Thread Cert.Adam1RefIdeal.nD Cert.Adam1RefIdeal.τ).loc Cert.Adam1RefIdeal.main_arg31) = m ((c.tc : Thread Cert.Adam1Ideal.nD Cert.Adam1Ideal.τ).loc Cert.Adam1Ideal.main_arg31)
      ∧ m' ((c.tc : Thread Cert.Adam1RefIdeal.nD Cert.Adam1RefIdeal.τ).loc Cert.Adam1RefIdeal.main_arg32) = m ((c.tc : Thread Cert.Adam1Ideal.nD Cert.Adam1Ideal.τ).loc Cert.Adam1Ideal.main_arg32)
      ∧ m' ((c.tc : Thread Cert.Adam1RefIdeal.nD Cert.Adam1RefIdeal.τ).loc Cert.Adam1RefIdeal.main_arg33) = m ((c.tc : Thread Cert.Adam1Ideal.nD Cert.Adam1Ideal.τ).loc Cert.Adam1Ideal.main_arg33)
      ∧ m' ((c.tc : Thread Cert.Adam1RefIdeal.nD Cert.Adam1RefIdeal.τ).loc Cert.Adam1RefIdeal.main_arg34) = m ((c.tc : Thread Cert.Adam1Ideal.nD Cert.Adam1Ideal.τ).loc Cert.Adam1Ideal.main_arg34)) →
    ∃ (v0 : (c : Dev Cert.Adam1Ideal.nD) → Buf (Elt Ideal) ((c.tc : Thread Cert.Adam1Ideal.nD Cert.Adam1Ideal.τ).loc Cert.Adam1Ideal.main_v0_0)) (v1 : (c : Dev Cert.Adam1Ideal.nD) → Buf (Elt Ideal) ((c.tc : Thread Cert.Adam1Ideal.nD Cert.Adam1Ideal.τ).loc Cert.Adam1Ideal.main_v0_1)) (v2 : (c : Dev Cert.Adam1Ideal.nD) → Buf (Elt Ideal) ((c.tc : Thread Cert.Adam1Ideal.nD Cert.Adam1Ideal.τ).loc Cert.Adam1Ideal.main_v0_2)) (v3 : (c : Dev Cert.Adam1Ideal.nD) → Buf (Elt Ideal) ((c.tc : Thread Cert.Adam1Ideal.nD Cert.Adam1Ideal.τ).loc Cert.Adam1Ideal.main_v0_3)) (v4 : (c : Dev Cert.Adam1Ideal.nD) → Buf (Elt Ideal) ((c.tc : Thread Cert.Adam1Ideal.nD Cert.Adam1Ideal.τ).loc Cert.Adam1Ideal.main_v0_4)) (v5 : (c : Dev Cert.Adam1Ideal.nD) → Buf (Elt Ideal) ((c.tc : Thread Cert.Adam1Ideal.nD Cert.Adam1Ideal.τ).loc Cert.Adam1Ideal.main_v0_5)) (v6 : (c : Dev Cert.Adam1Ideal.nD) → Buf (Elt Ideal) ((c.tc : Thread Cert.Adam1Ideal.nD Cert.Adam1Ideal.τ).loc Cert.Adam1Ideal.main_v0_6)) (v7 : (c : Dev Cert.Adam1Ideal.nD) → Buf (Elt Ideal) ((c.tc : Thread Cert.Adam1Ideal.nD Cert.Adam1Ideal.τ).loc Cert.Adam1Ideal.main_v0_7)) (v8 : (c : Dev Cert.Adam1Ideal.nD) → Buf (Elt Ideal) ((c.tc : Thread Cert.Adam1Ideal.nD Cert.Adam1Ideal.τ).loc Cert.Adam1Ideal.main_v0_8)) (v9 : (c : Dev Cert.Adam1Ideal.nD) → Buf (Elt Ideal) ((c.tc : Thread Cert.Adam1Ideal.nD Cert.Adam1Ideal.τ).loc Cert.Adam1Ideal.main_v0_9)) (v10 : (c : Dev Cert.Adam1Ideal.nD) → Buf (Elt Ideal) ((c.tc : Thread Cert.Adam1Ideal.nD Cert.Adam1Ideal.τ).loc Cert.Adam1Ideal.main_v0_10)) (v11 : (c : Dev Cert.Adam1Ideal.nD) → Buf (Elt Ideal) ((c.tc : Thread Cert.Adam1Ideal.nD Cert.Adam1Ideal.τ).loc Cert.Adam1Ideal.main_v0_11)) (v12 : (c : Dev Cert.Adam1Ideal.nD) → Buf (Elt Ideal) ((c.tc : Thread Cert.Adam1Ideal.nD Cert.Adam1Ideal.τ).loc Cert.Adam1Ideal.main_v0_12)) (v13 : (c : Dev Cert.Adam1Ideal.nD) → Buf (Elt Ideal) ((c.tc : Thread Cert.Adam1Ideal.nD Cert.Adam1Ideal.τ).loc Cert.Adam1Ideal.main_v0_13)) (v14 : (c : Dev Cert.Adam1Ideal.nD) → Buf (Elt Ideal) ((c.tc : Thread Cert.Adam1Ideal.nD Cert.Adam1Ideal.τ).loc Cert.Adam1Ideal.main_v0_14)) (v15 : (c : Dev Cert.Adam1Ideal.nD) → Buf (Elt Ideal) ((c.tc : Thread Cert.Adam1Ideal.nD Cert.Adam1Ideal.τ).loc Cert.Adam1Ideal.main_v0_15)) (v16 : (c : Dev Cert.Adam1Ideal.nD) → Buf (Elt Ideal) ((c.tc : Thread Cert.Adam1Ideal.nD Cert.Adam1Ideal.τ).loc Cert.Adam1Ideal.main_v0_16)) (v17 : (c : Dev Cert.Adam1Ideal.nD) → Buf (Elt Ideal) ((c.tc : Thread Cert.Adam1Ideal.nD Cert.Adam1Ideal.τ).loc Cert.Adam1Ideal.main_v0_17)) (v18 : (c : Dev Cert.Adam1Ideal.nD) → Buf (Elt Ideal) ((c.tc : Thread Cert.Adam1Ideal.nD Cert.Adam1Ideal.τ).loc Cert.Adam1Ideal.main_v0_18)) (v19 : (c : Dev Cert.Adam1Ideal.nD) → Buf (Elt Ideal) ((c.tc : Thread Cert.Adam1Ideal.nD Cert.Adam1Ideal.τ).loc Cert.Adam1Ideal.main_v0_19)) (v20 : (c : Dev Cert.Adam1Ideal.nD) → Buf (Elt Ideal) ((c.tc : Thread Cert.Adam1Ideal.nD Cert.Adam1Ideal.τ).loc Cert.Adam1Ideal.main_v0_20)) (v21 : (c : Dev Cert.Adam1Ideal.nD) → Buf (Elt Ideal) ((c.tc : Thread Cert.Adam1Ideal.nD Cert.Adam1Ideal.τ).loc Cert.Adam1Ideal.main_v0_21)) (v22 : (c : Dev Cert.Adam1Ideal.nD) → Buf (Elt Ideal) ((c.tc : Thread Cert.Adam1Ideal.nD Cert.Adam1Ideal.τ).loc Cert.Adam1Ideal.main_v0_22)) (v23 : (c : Dev Cert.Adam1Ideal.nD) → Buf (Elt Ideal) ((c.tc : Thread Cert.Adam1Ideal.nD Cert.Adam1Ideal.τ).loc Cert.Adam1Ideal.main_v0_23)) (v24 : (c : Dev Cert.Adam1Ideal.nD) → Buf (Elt Ideal) ((c.tc : Thread Cert.Adam1Ideal.nD Cert.Adam1Ideal.τ).loc Cert.Adam1Ideal.main_v0_24)) (v25 : (c : Dev Cert.Adam1Ideal.nD) → Buf (Elt Ideal) ((c.tc : Thread Cert.Adam1Ideal.nD Cert.Adam1Ideal.τ).loc Cert.Adam1Ideal.main_v0_25)) (v26 : (c : Dev Cert.Adam1Ideal.nD) → Buf (Elt Ideal) ((c.tc : Thread Cert.Adam1Ideal.nD Cert.Adam1Ideal.τ).loc Cert.Adam1Ideal.main_v0_26)) (v27 : (c : Dev Cert.Adam1Ideal.nD) → Buf (Elt Ideal) ((c.tc : Thread Cert.Adam1Ideal.nD Cert.Adam1Ideal.τ).loc Cert.Adam1Ideal.main_v0_27)),
      θ_run (Cert.Adam1Ideal.defs (F := Ideal)) (onTc (τ := Cert.Adam1Ideal.τ) (Cert.Adam1Ideal.main (F := Ideal))) ⟨m, fun _ => 0, g⟩ (fun r => ∀ c : Dev Cert.Adam1Ideal.nD,
          r.2.mem ((c.tc : Thread Cert.Adam1Ideal.nD Cert.Adam1Ideal.τ).loc Cert.Adam1Ideal.main_v0_0) = v0 c
          ∧ r.2.mem ((c.tc : Thread Cert.Adam1Ideal.nD Cert.Adam1Ideal.τ).loc Cert.Adam1Ideal.main_v0_1) = v1 c
          ∧ r.2.mem ((c.tc : Thread Cert.Adam1Ideal.nD Cert.Adam1Ideal.τ).loc Cert.Adam1Ideal.main_v0_2) = v2 c
          ∧ r.2.mem ((c.tc : Thread Cert.Adam1Ideal.nD Cert.Adam1Ideal.τ).loc Cert.Adam1Ideal.main_v0_3) = v3 c
          ∧ r.2.mem ((c.tc : Thread Cert.Adam1Ideal.nD Cert.Adam1Ideal.τ).loc Cert.Adam1Ideal.main_v0_4) = v4 c
          ∧ r.2.mem ((c.tc : Thread Cert.Adam1Ideal.nD Cert.Adam1Ideal.τ).loc Cert.Adam1Ideal.main_v0_5) = v5 c
          ∧ r.2.mem ((c.tc : Thread Cert.Adam1Ideal.nD Cert.Adam1Ideal.τ).loc Cert.Adam1Ideal.main_v0_6) = v6 c
          ∧ r.2.mem ((c.tc : Thread Cert.Adam1Ideal.nD Cert.Adam1Ideal.τ).loc Cert.Adam1Ideal.main_v0_7) = v7 c
          ∧ r.2.mem ((c.tc : Thread Cert.Adam1Ideal.nD Cert.Adam1Ideal.τ).loc Cert.Adam1Ideal.main_v0_8) = v8 c
          ∧ r.2.mem ((c.tc : Thread Cert.Adam1Ideal.nD Cert.Adam1Ideal.τ).loc Cert.Adam1Ideal.main_v0_9) = v9 c
          ∧ r.2.mem ((c.tc : Thread Cert.Adam1Ideal.nD Cert.Adam1Ideal.τ).loc Cert.Adam1Ideal.main_v0_10) = v10 c
          ∧ r.2.mem ((c.tc : Thread Cert.Adam1Ideal.nD Cert.Adam1Ideal.τ).loc Cert.Adam1Ideal.main_v0_11) = v11 c
          ∧ r.2.mem ((c.tc : Thread Cert.Adam1Ideal.nD Cert.Adam1Ideal.τ).loc Cert.Adam1Ideal.main_v0_12) = v12 c
          ∧ r.2.mem ((c.tc : Thread Cert.Adam1Ideal.nD Cert.Adam1Ideal.τ).loc Cert.Adam1Ideal.main_v0_13) = v13 c
          ∧ r.2.mem ((c.tc : Thread Cert.Adam1Ideal.nD Cert.Adam1Ideal.τ).loc Cert.Adam1Ideal.main_v0_14) = v14 c
          ∧ r.2.mem ((c.tc : Thread Cert.Adam1Ideal.nD Cert.Adam1Ideal.τ).loc Cert.Adam1Ideal.main_v0_15) = v15 c
          ∧ r.2.mem ((c.tc : Thread Cert.Adam1Ideal.nD Cert.Adam1Ideal.τ).loc Cert.Adam1Ideal.main_v0_16) = v16 c
          ∧ r.2.mem ((c.tc : Thread Cert.Adam1Ideal.nD Cert.Adam1Ideal.τ).loc Cert.Adam1Ideal.main_v0_17) = v17 c
          ∧ r.2.mem ((c.tc : Thread Cert.Adam1Ideal.nD Cert.Adam1Ideal.τ).loc Cert.Adam1Ideal.main_v0_18) = v18 c
          ∧ r.2.mem ((c.tc : Thread Cert.Adam1Ideal.nD Cert.Adam1Ideal.τ).loc Cert.Adam1Ideal.main_v0_19) = v19 c
          ∧ r.2.mem ((c.tc : Thread Cert.Adam1Ideal.nD Cert.Adam1Ideal.τ).loc Cert.Adam1Ideal.main_v0_20) = v20 c
          ∧ r.2.mem ((c.tc : Thread Cert.Adam1Ideal.nD Cert.Adam1Ideal.τ).loc Cert.Adam1Ideal.main_v0_21) = v21 c
          ∧ r.2.mem ((c.tc : Thread Cert.Adam1Ideal.nD Cert.Adam1Ideal.τ).loc Cert.Adam1Ideal.main_v0_22) = v22 c
          ∧ r.2.mem ((c.tc : Thread Cert.Adam1Ideal.nD Cert.Adam1Ideal.τ).loc Cert.Adam1Ideal.main_v0_23) = v23 c
          ∧ r.2.mem ((c.tc : Thread Cert.Adam1Ideal.nD Cert.Adam1Ideal.τ).loc Cert.Adam1Ideal.main_v0_24) = v24 c
          ∧ r.2.mem ((c.tc : Thread Cert.Adam1Ideal.nD Cert.Adam1Ideal.τ).loc Cert.Adam1Ideal.main_v0_25) = v25 c
          ∧ r.2.mem ((c.tc : Thread Cert.Adam1Ideal.nD Cert.Adam1Ideal.τ).loc Cert.Adam1Ideal.main_v0_26) = v26 c
          ∧ r.2.mem ((c.tc : Thread Cert.Adam1Ideal.nD Cert.Adam1Ideal.τ).loc Cert.Adam1Ideal.main_v0_27) = v27 c
          ∧ r.2.mem ((c.tc : Thread Cert.Adam1Ideal.nD Cert.Adam1Ideal.τ).loc Cert.Adam1Ideal.main_arg0) = m ((c.tc : Thread Cert.Adam1Ideal.nD Cert.Adam1Ideal.τ).loc Cert.Adam1Ideal.main_arg0)
          ∧ r.2.mem ((c.tc : Thread Cert.Adam1Ideal.nD Cert.Adam1Ideal.τ).loc Cert.Adam1Ideal.main_arg1) = m ((c.tc : Thread Cert.Adam1Ideal.nD Cert.Adam1Ideal.τ).loc Cert.Adam1Ideal.main_arg1)
          ∧ r.2.mem ((c.tc : Thread Cert.Adam1Ideal.nD Cert.Adam1Ideal.τ).loc Cert.Adam1Ideal.main_arg2) = m ((c.tc : Thread Cert.Adam1Ideal.nD Cert.Adam1Ideal.τ).loc Cert.Adam1Ideal.main_arg2)
          ∧ r.2.mem ((c.tc : Thread Cert.Adam1Ideal.nD Cert.Adam1Ideal.τ).loc Cert.Adam1Ideal.main_arg3) = m ((c.tc : Thread Cert.Adam1Ideal.nD Cert.Adam1Ideal.τ).loc Cert.Adam1Ideal.main_arg3)
          ∧ r.2.mem ((c.tc : Thread Cert.Adam1Ideal.nD Cert.Adam1Ideal.τ).loc Cert.Adam1Ideal.main_arg4) = m ((c.tc : Thread Cert.Adam1Ideal.nD Cert.Adam1Ideal.τ).loc Cert.Adam1Ideal.main_arg4)
          ∧ r.2.mem ((c.tc : Thread Cert.Adam1Ideal.nD Cert.Adam1Ideal.τ).loc Cert.Adam1Ideal.main_arg5) = m ((c.tc : Thread Cert.Adam1Ideal.nD Cert.Adam1Ideal.τ).loc Cert.Adam1Ideal.main_arg5)
          ∧ r.2.mem ((c.tc : Thread Cert.Adam1Ideal.nD Cert.Adam1Ideal.τ).loc Cert.Adam1Ideal.main_arg6) = m ((c.tc : Thread Cert.Adam1Ideal.nD Cert.Adam1Ideal.τ).loc Cert.Adam1Ideal.main_arg6)
          ∧ r.2.mem ((c.tc : Thread Cert.Adam1Ideal.nD Cert.Adam1Ideal.τ).loc Cert.Adam1Ideal.main_arg7) = m ((c.tc : Thread Cert.Adam1Ideal.nD Cert.Adam1Ideal.τ).loc Cert.Adam1Ideal.main_arg7)
          ∧ r.2.mem ((c.tc : Thread Cert.Adam1Ideal.nD Cert.Adam1Ideal.τ).loc Cert.Adam1Ideal.main_arg8) = m ((c.tc : Thread Cert.Adam1Ideal.nD Cert.Adam1Ideal.τ).loc Cert.Adam1Ideal.main_arg8)
          ∧ r.2.mem ((c.tc : Thread Cert.Adam1Ideal.nD Cert.Adam1Ideal.τ).loc Cert.Adam1Ideal.main_arg9) = m ((c.tc : Thread Cert.Adam1Ideal.nD Cert.Adam1Ideal.τ).loc Cert.Adam1Ideal.main_arg9)
          ∧ r.2.mem ((c.tc : Thread Cert.Adam1Ideal.nD Cert.Adam1Ideal.τ).loc Cert.Adam1Ideal.main_arg10) = m ((c.tc : Thread Cert.Adam1Ideal.nD Cert.Adam1Ideal.τ).loc Cert.Adam1Ideal.main_arg10)
          ∧ r.2.mem ((c.tc : Thread Cert.Adam1Ideal.nD Cert.Adam1Ideal.τ).loc Cert.Adam1Ideal.main_arg11) = m ((c.tc : Thread Cert.Adam1Ideal.nD Cert.Adam1Ideal.τ).loc Cert.Adam1Ideal.main_arg11)
          ∧ r.2.mem ((c.tc : Thread Cert.Adam1Ideal.nD Cert.Adam1Ideal.τ).loc Cert.Adam1Ideal.main_arg12) = m ((c.tc : Thread Cert.Adam1Ideal.nD Cert.Adam1Ideal.τ).loc Cert.Adam1Ideal.main_arg12)
          ∧ r.2.mem ((c.tc : Thread Cert.Adam1Ideal.nD Cert.Adam1Ideal.τ).loc Cert.Adam1Ideal.main_arg13) = m ((c.tc : Thread Cert.Adam1Ideal.nD Cert.Adam1Ideal.τ).loc Cert.Adam1Ideal.main_arg13)
          ∧ r.2.mem ((c.tc : Thread Cert.Adam1Ideal.nD Cert.Adam1Ideal.τ).loc Cert.Adam1Ideal.main_arg14) = m ((c.tc : Thread Cert.Adam1Ideal.nD Cert.Adam1Ideal.τ).loc Cert.Adam1Ideal.main_arg14)
          ∧ r.2.mem ((c.tc : Thread Cert.Adam1Ideal.nD Cert.Adam1Ideal.τ).loc Cert.Adam1Ideal.main_arg15) = m ((c.tc : Thread Cert.Adam1Ideal.nD Cert.Adam1Ideal.τ).loc Cert.Adam1Ideal.main_arg15)
          ∧ r.2.mem ((c.tc : Thread Cert.Adam1Ideal.nD Cert.Adam1Ideal.τ).loc Cert.Adam1Ideal.main_arg16) = m ((c.tc : Thread Cert.Adam1Ideal.nD Cert.Adam1Ideal.τ).loc Cert.Adam1Ideal.main_arg16)
          ∧ r.2.mem ((c.tc : Thread Cert.Adam1Ideal.nD Cert.Adam1Ideal.τ).loc Cert.Adam1Ideal.main_arg17) = m ((c.tc : Thread Cert.Adam1Ideal.nD Cert.Adam1Ideal.τ).loc Cert.Adam1Ideal.main_arg17)
          ∧ r.2.mem ((c.tc : Thread Cert.Adam1Ideal.nD Cert.Adam1Ideal.τ).loc Cert.Adam1Ideal.main_arg18) = m ((c.tc : Thread Cert.Adam1Ideal.nD Cert.Adam1Ideal.τ).loc Cert.Adam1Ideal.main_arg18)
          ∧ r.2.mem ((c.tc : Thread Cert.Adam1Ideal.nD Cert.Adam1Ideal.τ).loc Cert.Adam1Ideal.main_arg19) = m ((c.tc : Thread Cert.Adam1Ideal.nD Cert.Adam1Ideal.τ).loc Cert.Adam1Ideal.main_arg19)
          ∧ r.2.mem ((c.tc : Thread Cert.Adam1Ideal.nD Cert.Adam1Ideal.τ).loc Cert.Adam1Ideal.main_arg20) = m ((c.tc : Thread Cert.Adam1Ideal.nD Cert.Adam1Ideal.τ).loc Cert.Adam1Ideal.main_arg20)
          ∧ r.2.mem ((c.tc : Thread Cert.Adam1Ideal.nD Cert.Adam1Ideal.τ).loc Cert.Adam1Ideal.main_arg21) = m ((c.tc : Thread Cert.Adam1Ideal.nD Cert.Adam1Ideal.τ).loc Cert.Adam1Ideal.main_arg21)
          ∧ r.2.mem ((c.tc : Thread Cert.Adam1Ideal.nD Cert.Adam1Ideal.τ).loc Cert.Adam1Ideal.main_arg22) = m ((c.tc : Thread Cert.Adam1Ideal.nD Cert.Adam1Ideal.τ).loc Cert.Adam1Ideal.main_arg22)
          ∧ r.2.mem ((c.tc : Thread Cert.Adam1Ideal.nD Cert.Adam1Ideal.τ).loc Cert.Adam1Ideal.main_arg23) = m ((c.tc : Thread Cert.Adam1Ideal.nD Cert.Adam1Ideal.τ).loc Cert.Adam1Ideal.main_arg23)
          ∧ r.2.mem ((c.tc : Thread Cert.Adam1Ideal.nD Cert.Adam1Ideal.τ).loc Cert.Adam1Ideal.main_arg24) = m ((c.tc : Thread Cert.Adam1Ideal.nD Cert.Adam1Ideal.τ).loc Cert.Adam1Ideal.main_arg24)
          ∧ r.2.mem ((c.tc : Thread Cert.Adam1Ideal.nD Cert.Adam1Ideal.τ).loc Cert.Adam1Ideal.main_arg25) = m ((c.tc : Thread Cert.Adam1Ideal.nD Cert.Adam1Ideal.τ).loc Cert.Adam1Ideal.main_arg25)
          ∧ r.2.mem ((c.tc : Thread Cert.Adam1Ideal.nD Cert.Adam1Ideal.τ).loc Cert.Adam1Ideal.main_arg26) = m ((c.tc : Thread Cert.Adam1Ideal.nD Cert.Adam1Ideal.τ).loc Cert.Adam1Ideal.main_arg26)
          ∧ r.2.mem ((c.tc : Thread Cert.Adam1Ideal.nD Cert.Adam1Ideal.τ).loc Cert.Adam1Ideal.main_arg27) = m ((c.tc : Thread Cert.Adam1Ideal.nD Cert.Adam1Ideal.τ).loc Cert.Adam1Ideal.main_arg27)
          ∧ r.2.mem ((c.tc : Thread Cert.Adam1Ideal.nD Cert.Adam1Ideal.τ).loc Cert.Adam1Ideal.main_arg28) = m ((c.tc : Thread Cert.Adam1Ideal.nD Cert.Adam1Ideal.τ).loc Cert.Adam1Ideal.main_arg28)
          ∧ r.2.mem ((c.tc : Thread Cert.Adam1Ideal.nD Cert.Adam1Ideal.τ).loc Cert.Adam1Ideal.main_arg29) = m ((c.tc : Thread Cert.Adam1Ideal.nD Cert.Adam1Ideal.τ).loc Cert.Adam1Ideal.main_arg29)
          ∧ r.2.mem ((c.tc : Thread Cert.Adam1Ideal.nD Cert.Adam1Ideal.τ).loc Cert.Adam1Ideal.main_arg30) = m ((c.tc : Thread Cert.Adam1Ideal.nD Cert.Adam1Ideal.τ).loc Cert.Adam1Ideal.main_arg30)
          ∧ r.2.mem ((c.tc : Thread Cert.Adam1Ideal.nD Cert.Adam1Ideal.τ).loc Cert.Adam1Ideal.main_arg31) = m ((c.tc : Thread Cert.Adam1Ideal.nD Cert.Adam1Ideal.τ).loc Cert.Adam1Ideal.main_arg31)
          ∧ r.2.mem ((c.tc : Thread Cert.Adam1Ideal.nD Cert.Adam1Ideal.τ).loc Cert.Adam1Ideal.main_arg32) = m ((c.tc : Thread Cert.Adam1Ideal.nD Cert.Adam1Ideal.τ).loc Cert.Adam1Ideal.main_arg32)
          ∧ r.2.mem ((c.tc : Thread Cert.Adam1Ideal.nD Cert.Adam1Ideal.τ).loc Cert.Adam1Ideal.main_arg33) = m ((c.tc : Thread Cert.Adam1Ideal.nD Cert.Adam1Ideal.τ).loc Cert.Adam1Ideal.main_arg33)
          ∧ r.2.mem ((c.tc : Thread Cert.Adam1Ideal.nD Cert.Adam1Ideal.τ).loc Cert.Adam1Ideal.main_arg34) = m ((c.tc : Thread Cert.Adam1Ideal.nD Cert.Adam1Ideal.τ).loc Cert.Adam1Ideal.main_arg34))
      ∧ θ_run (Cert.Adam1RefIdeal.defs (F := Ideal)) (onTc (τ := Cert.Adam1RefIdeal.τ) (Cert.Adam1RefIdeal.main (F := Ideal))) ⟨m', fun _ => 0, g'⟩ (fun r => ∀ c : Dev Cert.Adam1RefIdeal.nD,
          r.2.mem ((c.tc : Thread Cert.Adam1RefIdeal.nD Cert.Adam1RefIdeal.τ).loc Cert.Adam1RefIdeal.main_v2) = v0 c
          ∧ r.2.mem ((c.tc : Thread Cert.Adam1RefIdeal.nD Cert.Adam1RefIdeal.τ).loc Cert.Adam1RefIdeal.main_v26) = v1 c
          ∧ r.2.mem ((c.tc : Thread Cert.Adam1RefIdeal.nD Cert.Adam1RefIdeal.τ).loc Cert.Adam1RefIdeal.main_v7) = v2 c
          ∧ r.2.mem ((c.tc : Thread Cert.Adam1RefIdeal.nD Cert.Adam1RefIdeal.τ).loc Cert.Adam1RefIdeal.main_v13) = v3 c
          ∧ r.2.mem ((c.tc : Thread Cert.Adam1RefIdeal.nD Cert.Adam1RefIdeal.τ).loc Cert.Adam1RefIdeal.main_v29) = v4 c
          ∧ r.2.mem ((c.tc : Thread Cert.Adam1RefIdeal.nD Cert.Adam1RefIdeal.τ).loc Cert.Adam1RefIdeal.main_v53) = v5 c
          ∧ r.2.mem ((c.tc : Thread Cert.Adam1RefIdeal.nD Cert.Adam1RefIdeal.τ).loc Cert.Adam1RefIdeal.main_v34) = v6 c
          ∧ r.2.mem ((c.tc : Thread Cert.Adam1RefIdeal.nD Cert.Adam1RefIdeal.τ).loc Cert.Adam1RefIdeal.main_v40) = v7 c
          ∧ r.2.mem ((c.tc : Thread Cert.Adam1RefIdeal.nD Cert.Adam1RefIdeal.τ).loc Cert.Adam1RefIdeal.main_v56) = v8 c
          ∧ r.2.mem ((c.tc : Thread Cert.Adam1RefIdeal.nD Cert.Adam1RefIdeal.τ).loc Cert.Adam1RefIdeal.main_v80) = v9 c
          ∧ r.2.mem ((c.tc : Thread Cert.Adam1RefIdeal.nD Cert.Adam1RefIdeal.τ).loc Cert.Adam1RefIdeal.main_v61) = v10 c
          ∧ r.2.mem ((c.tc : Thread Cert.Adam1RefIdeal.nD Cert.Adam1RefIdeal.τ).loc Cert.Adam1RefIdeal.main_v67) = v11 c
          ∧ r.2.mem ((c.tc : Thread Cert.Adam1RefIdeal.nD Cert.Adam1RefIdeal.τ).loc Cert.Adam1RefIdeal.main_v83) = v12 c
          ∧ r.2.mem ((c.tc : Thread Cert.Adam1RefIdeal.nD Cert.Adam1RefIdeal.τ).loc Cert.Adam1RefIdeal.main_v107) = v13 c
          ∧ r.2.mem ((c.tc : Thread Cert.Adam1RefIdeal.nD Cert.Adam1RefIdeal.τ).loc Cert.Adam1RefIdeal.main_v88) = v14 c
          ∧ r.2.mem ((c.tc : Thread Cert.Adam1RefIdeal.nD Cert.Adam1RefIdeal.τ).loc Cert.Adam1RefIdeal.main_v94) = v15 c
          ∧ r.2.mem ((c.tc : Thread Cert.Adam1RefIdeal.nD Cert.Adam1RefIdeal.τ).loc Cert.Adam1RefIdeal.main_v110) = v16 c
          ∧ r.2.mem ((c.tc : Thread Cert.Adam1RefIdeal.nD Cert.Adam1RefIdeal.τ).loc Cert.Adam1RefIdeal.main_v134) = v17 c
          ∧ r.2.mem ((c.tc : Thread Cert.Adam1RefIdeal.nD Cert.Adam1RefIdeal.τ).loc Cert.Adam1RefIdeal.main_v115) = v18 c
          ∧ r.2.mem ((c.tc : Thread Cert.Adam1RefIdeal.nD Cert.Adam1RefIdeal.τ).loc Cert.Adam1RefIdeal.main_v121) = v19 c
          ∧ r.2.mem ((c.tc : Thread Cert.Adam1RefIdeal.nD Cert.Adam1RefIdeal.τ).loc Cert.Adam1RefIdeal.main_v137) = v20 c
          ∧ r.2.mem ((c.tc : Thread Cert.Adam1RefIdeal.nD Cert.Adam1RefIdeal.τ).loc Cert.Adam1RefIdeal.main_v161) = v21 c
          ∧ r.2.mem ((c.tc : Thread Cert.Adam1RefIdeal.nD Cert.Adam1RefIdeal.τ).loc Cert.Adam1RefIdeal.main_v142) = v22 c
          ∧ r.2.mem ((c.tc : Thread Cert.Adam1RefIdeal.nD Cert.Adam1RefIdeal.τ).loc Cert.Adam1RefIdeal.main_v148) = v23 c
          ∧ r.2.mem ((c.tc : Thread Cert.Adam1RefIdeal.nD Cert.Adam1RefIdeal.τ).loc Cert.Adam1RefIdeal.main_v164) = v24 c
          ∧ r.2.mem ((c.tc : Thread Cert.Adam1RefIdeal.nD Cert.Adam1RefIdeal.τ).loc Cert.Adam1RefIdeal.main_v188) = v25 c
          ∧ r.2.mem ((c.tc : Thread Cert.Adam1RefIdeal.nD Cert.Adam1RefIdeal.τ).loc Cert.Adam1RefIdeal.main_v169) = v26 c
          ∧ r.2.mem ((c.tc : Thread Cert.Adam1RefIdeal.nD Cert.Adam1RefIdeal.τ).loc Cert.Adam1RefIdeal.main_v175) = v27 c
          ∧ r.2.mem ((c.tc : Thread Cert.Adam1RefIdeal.nD Cert.Adam1RefIdeal.τ).loc Cert.Adam1RefIdeal.main_arg0) = m' ((c.tc : Thread Cert.Adam1RefIdeal.nD Cert.Adam1RefIdeal.τ).loc Cert.Adam1RefIdeal.main_arg0)
          ∧ r.2.mem ((c.tc : Thread Cert.Adam1RefIdeal.nD Cert.Adam1RefIdeal.τ).loc Cert.Adam1RefIdeal.main_arg1) = m' ((c.tc : Thread Cert.Adam1RefIdeal.nD Cert.Adam1RefIdeal.τ).loc Cert.Adam1RefIdeal.main_arg1)
          ∧ r.2.mem ((c.tc : Thread Cert.Adam1RefIdeal.nD Cert.Adam1RefIdeal.τ).loc Cert.Adam1RefIdeal.main_arg2) = m' ((c.tc : Thread Cert.Adam1RefIdeal.nD Cert.Adam1RefIdeal.τ).loc Cert.Adam1RefIdeal.main_arg2)
          ∧ r.2.mem ((c.tc : Thread Cert.Adam1RefIdeal.nD Cert.Adam1RefIdeal.τ).loc Cert.Adam1RefIdeal.main_arg3) = m' ((c.tc : Thread Cert.Adam1RefIdeal.nD Cert.Adam1RefIdeal.τ).loc Cert.Adam1RefIdeal.main_arg3)
          ∧ r.2.mem ((c.tc : Thread Cert.Adam1RefIdeal.nD Cert.Adam1RefIdeal.τ).loc Cert.Adam1RefIdeal.main_arg4) = m' ((c.tc : Thread Cert.Adam1RefIdeal.nD Cert.Adam1RefIdeal.τ).loc Cert.Adam1RefIdeal.main_arg4)
          ∧ r.2.mem ((c.tc : Thread Cert.Adam1RefIdeal.nD Cert.Adam1RefIdeal.τ).loc Cert.Adam1RefIdeal.main_arg5) = m' ((c.tc : Thread Cert.Adam1RefIdeal.nD Cert.Adam1RefIdeal.τ).loc Cert.Adam1RefIdeal.main_arg5)
          ∧ r.2.mem ((c.tc : Thread Cert.Adam1RefIdeal.nD Cert.Adam1RefIdeal.τ).loc Cert.Adam1RefIdeal.main_arg6) = m' ((c.tc : Thread Cert.Adam1RefIdeal.nD Cert.Adam1RefIdeal.τ).loc Cert.Adam1RefIdeal.main_arg6)
          ∧ r.2.mem ((c.tc : Thread Cert.Adam1RefIdeal.nD Cert.Adam1RefIdeal.τ).loc Cert.Adam1RefIdeal.main_arg7) = m' ((c.tc : Thread Cert.Adam1RefIdeal.nD Cert.Adam1RefIdeal.τ).loc Cert.Adam1RefIdeal.main_arg7)
          ∧ r.2.mem ((c.tc : Thread Cert.Adam1RefIdeal.nD Cert.Adam1RefIdeal.τ).loc Cert.Adam1RefIdeal.main_arg8) = m' ((c.tc : Thread Cert.Adam1RefIdeal.nD Cert.Adam1RefIdeal.τ).loc Cert.Adam1RefIdeal.main_arg8)
          ∧ r.2.mem ((c.tc : Thread Cert.Adam1RefIdeal.nD Cert.Adam1RefIdeal.τ).loc Cert.Adam1RefIdeal.main_arg9) = m' ((c.tc : Thread Cert.Adam1RefIdeal.nD Cert.Adam1RefIdeal.τ).loc Cert.Adam1RefIdeal.main_arg9)
          ∧ r.2.mem ((c.tc : Thread Cert.Adam1RefIdeal.nD Cert.Adam1RefIdeal.τ).loc Cert.Adam1RefIdeal.main_arg10) = m' ((c.tc : Thread Cert.Adam1RefIdeal.nD Cert.Adam1RefIdeal.τ).loc Cert.Adam1RefIdeal.main_arg10)
          ∧ r.2.mem ((c.tc : Thread Cert.Adam1RefIdeal.nD Cert.Adam1RefIdeal.τ).loc Cert.Adam1RefIdeal.main_arg11) = m' ((c.tc : Thread Cert.Adam1RefIdeal.nD Cert.Adam1RefIdeal.τ).loc Cert.Adam1RefIdeal.main_arg11)
          ∧ r.2.mem ((c.tc : Thread Cert.Adam1RefIdeal.nD Cert.Adam1RefIdeal.τ).loc Cert.Adam1RefIdeal.main_arg12) = m' ((c.tc : Thread Cert.Adam1RefIdeal.nD Cert.Adam1RefIdeal.τ).loc Cert.Adam1RefIdeal.main_arg12)
          ∧ r.2.mem ((c.tc : Thread Cert.Adam1RefIdeal.nD Cert.Adam1RefIdeal.τ).loc Cert.Adam1RefIdeal.main_arg13) = m' ((c.tc : Thread Cert.Adam1RefIdeal.nD Cert.Adam1RefIdeal.τ).loc Cert.Adam1RefIdeal.main_arg13)
          ∧ r.2.mem ((c.tc : Thread Cert.Adam1RefIdeal.nD Cert.Adam1RefIdeal.τ).loc Cert.Adam1RefIdeal.main_arg14) = m' ((c.tc : Thread Cert.Adam1RefIdeal.nD Cert.Adam1RefIdeal.τ).loc Cert.Adam1RefIdeal.main_arg14)
          ∧ r.2.mem ((c.tc : Thread Cert.Adam1RefIdeal.nD Cert.Adam1RefIdeal.τ).loc Cert.Adam1RefIdeal.main_arg15) = m' ((c.tc : Thread Cert.Adam1RefIdeal.nD Cert.Adam1RefIdeal.τ).loc Cert.Adam1RefIdeal.main_arg15)
          ∧ r.2.mem ((c.tc : Thread Cert.Adam1RefIdeal.nD Cert.Adam1RefIdeal.τ).loc Cert.Adam1RefIdeal.main_arg16) = m' ((c.tc : Thread Cert.Adam1RefIdeal.nD Cert.Adam1RefIdeal.τ).loc Cert.Adam1RefIdeal.main_arg16)
          ∧ r.2.mem ((c.tc : Thread Cert.Adam1RefIdeal.nD Cert.Adam1RefIdeal.τ).loc Cert.Adam1RefIdeal.main_arg17) = m' ((c.tc : Thread Cert.Adam1RefIdeal.nD Cert.Adam1RefIdeal.τ).loc Cert.Adam1RefIdeal.main_arg17)
          ∧ r.2.mem ((c.tc : Thread Cert.Adam1RefIdeal.nD Cert.Adam1RefIdeal.τ).loc Cert.Adam1RefIdeal.main_arg18) = m' ((c.tc : Thread Cert.Adam1RefIdeal.nD Cert.Adam1RefIdeal.τ).loc Cert.Adam1RefIdeal.main_arg18)
          ∧ r.2.mem ((c.tc : Thread Cert.Adam1RefIdeal.nD Cert.Adam1RefIdeal.τ).loc Cert.Adam1RefIdeal.main_arg19) = m' ((c.tc : Thread Cert.Adam1RefIdeal.nD Cert.Adam1RefIdeal.τ).loc Cert.Adam1RefIdeal.main_arg19)
          ∧ r.2.mem ((c.tc : Thread Cert.Adam1RefIdeal.nD Cert.Adam1RefIdeal.τ).loc Cert.Adam1RefIdeal.main_arg20) = m' ((c.tc : Thread Cert.Adam1RefIdeal.nD Cert.Adam1RefIdeal.τ).loc Cert.Adam1RefIdeal.main_arg20)
          ∧ r.2.mem ((c.tc : Thread Cert.Adam1RefIdeal.nD Cert.Adam1RefIdeal.τ).loc Cert.Adam1RefIdeal.main_arg21) = m' ((c.tc : Thread Cert.Adam1RefIdeal.nD Cert.Adam1RefIdeal.τ).loc Cert.Adam1RefIdeal.main_arg21)
          ∧ r.2.mem ((c.tc : Thread Cert.Adam1RefIdeal.nD Cert.Adam1RefIdeal.τ).loc Cert.Adam1RefIdeal.main_arg22) = m' ((c.tc : Thread Cert.Adam1RefIdeal.nD Cert.Adam1RefIdeal.τ).loc Cert.Adam1RefIdeal.main_arg22)
          ∧ r.2.mem ((c.tc : Thread Cert.Adam1RefIdeal.nD Cert.Adam1RefIdeal.τ).loc Cert.Adam1RefIdeal.main_arg23) = m' ((c.tc : Thread Cert.Adam1RefIdeal.nD Cert.Adam1RefIdeal.τ).loc Cert.Adam1RefIdeal.main_arg23)
          ∧ r.2.mem ((c.tc : Thread Cert.Adam1RefIdeal.nD Cert.Adam1RefIdeal.τ).loc Cert.Adam1RefIdeal.main_arg24) = m' ((c.tc : Thread Cert.Adam1RefIdeal.nD Cert.Adam1RefIdeal.τ).loc Cert.Adam1RefIdeal.main_arg24)
          ∧ r.2.mem ((c.tc : Thread Cert.Adam1RefIdeal.nD Cert.Adam1RefIdeal.τ).loc Cert.Adam1RefIdeal.main_arg25) = m' ((c.tc : Thread Cert.Adam1RefIdeal.nD Cert.Adam1RefIdeal.τ).loc Cert.Adam1RefIdeal.main_arg25)
          ∧ r.2.mem ((c.tc : Thread Cert.Adam1RefIdeal.nD Cert.Adam1RefIdeal.τ).loc Cert.Adam1RefIdeal.main_arg26) = m' ((c.tc : Thread Cert.Adam1RefIdeal.nD Cert.Adam1RefIdeal.τ).loc Cert.Adam1RefIdeal.main_arg26)
          ∧ r.2.mem ((c.tc : Thread Cert.Adam1RefIdeal.nD Cert.Adam1RefIdeal.τ).loc Cert.Adam1RefIdeal.main_arg27) = m' ((c.tc : Thread Cert.Adam1RefIdeal.nD Cert.Adam1RefIdeal.τ).loc Cert.Adam1RefIdeal.main_arg27)
          ∧ r.2.mem ((c.tc : Thread Cert.Adam1RefIdeal.nD Cert.Adam1RefIdeal.τ).loc Cert.Adam1RefIdeal.main_arg28) = m' ((c.tc : Thread Cert.Adam1RefIdeal.nD Cert.Adam1RefIdeal.τ).loc Cert.Adam1RefIdeal.main_arg28)
          ∧ r.2.mem ((c.tc : Thread Cert.Adam1RefIdeal.nD Cert.Adam1RefIdeal.τ).loc Cert.Adam1RefIdeal.main_arg29) = m' ((c.tc : Thread Cert.Adam1RefIdeal.nD Cert.Adam1RefIdeal.τ).loc Cert.Adam1RefIdeal.main_arg29)
          ∧ r.2.mem ((c.tc : Thread Cert.Adam1RefIdeal.nD Cert.Adam1RefIdeal.τ).loc Cert.Adam1RefIdeal.main_arg30) = m' ((c.tc : Thread Cert.Adam1RefIdeal.nD Cert.Adam1RefIdeal.τ).loc Cert.Adam1RefIdeal.main_arg30)
          ∧ r.2.mem ((c.tc : Thread Cert.Adam1RefIdeal.nD Cert.Adam1RefIdeal.τ).loc Cert.Adam1RefIdeal.main_arg31) = m' ((c.tc : Thread Cert.Adam1RefIdeal.nD Cert.Adam1RefIdeal.τ).loc Cert.Adam1RefIdeal.main_arg31)
          ∧ r.2.mem ((c.tc : Thread Cert.Adam1RefIdeal.nD Cert.Adam1RefIdeal.τ).loc Cert.Adam1RefIdeal.main_arg32) = m' ((c.tc : Thread Cert.Adam1RefIdeal.nD Cert.Adam1RefIdeal.τ).loc Cert.Adam1RefIdeal.main_arg32)
          ∧ r.2.mem ((c.tc : Thread Cert.Adam1RefIdeal.nD Cert.Adam1RefIdeal.τ).loc Cert.Adam1RefIdeal.main_arg33) = m' ((c.tc : Thread Cert.Adam1RefIdeal.nD Cert.Adam1RefIdeal.τ).loc Cert.Adam1RefIdeal.main_arg33)
          ∧ r.2.mem ((c.tc : Thread Cert.Adam1RefIdeal.nD Cert.Adam1RefIdeal.τ).loc Cert.Adam1RefIdeal.main_arg34) = m' ((c.tc : Thread Cert.Adam1RefIdeal.nD Cert.Adam1RefIdeal.τ).loc Cert.Adam1RefIdeal.main_arg34))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)
      ∧ m' ((c.tc : Thread Cert.SmallRefIdeal.nD Cert.SmallRefIdeal.τ).loc Cert.SmallRefIdeal.main_arg4) = m ((c.tc : Thread Cert.SmallIdeal.nD Cert.SmallIdeal.τ).loc Cert.SmallIdeal.main_arg4)
      ∧ m' ((c.tc : Thread Cert.SmallRefIdeal.nD Cert.SmallRefIdeal.τ).loc Cert.SmallRefIdeal.main_arg5) = m ((c.tc : Thread Cert.SmallIdeal.nD Cert.SmallIdeal.τ).loc Cert.SmallIdeal.main_arg5)
      ∧ m' ((c.tc : Thread Cert.SmallRefIdeal.nD Cert.SmallRefIdeal.τ).loc Cert.SmallRefIdeal.main_arg6) = m ((c.tc : Thread Cert.SmallIdeal.nD Cert.SmallIdeal.τ).loc Cert.SmallIdeal.main_arg6)
      ∧ m' ((c.tc : Thread Cert.SmallRefIdeal.nD Cert.SmallRefIdeal.τ).loc Cert.SmallRefIdeal.main_arg7) = m ((c.tc : Thread Cert.SmallIdeal.nD Cert.SmallIdeal.τ).loc Cert.SmallIdeal.main_arg7)
      ∧ m' ((c.tc : Thread Cert.SmallRefIdeal.nD Cert.SmallRefIdeal.τ).loc Cert.SmallRefIdeal.main_arg8) = m ((c.tc : Thread Cert.SmallIdeal.nD Cert.SmallIdeal.τ).loc Cert.SmallIdeal.main_arg8)
      ∧ m' ((c.tc : Thread Cert.SmallRefIdeal.nD Cert.SmallRefIdeal.τ).loc Cert.SmallRefIdeal.main_arg9) = m ((c.tc : Thread Cert.SmallIdeal.nD Cert.SmallIdeal.τ).loc Cert.SmallIdeal.main_arg9)
      ∧ m' ((c.tc : Thread Cert.SmallRefIdeal.nD Cert.SmallRefIdeal.τ).loc Cert.SmallRefIdeal.main_arg10) = m ((c.tc : Thread Cert.SmallIdeal.nD Cert.SmallIdeal.τ).loc Cert.SmallIdeal.main_arg10)
      ∧ m' ((c.tc : Thread Cert.SmallRefIdeal.nD Cert.SmallRefIdeal.τ).loc Cert.SmallRefIdeal.main_arg11) = m ((c.tc : Thread Cert.SmallIdeal.nD Cert.SmallIdeal.τ).loc Cert.SmallIdeal.main_arg11)
      ∧ m' ((c.tc : Thread Cert.SmallRefIdeal.nD Cert.SmallRefIdeal.τ).loc Cert.SmallRefIdeal.main_arg12) = m ((c.tc : Thread Cert.SmallIdeal.nD Cert.SmallIdeal.τ).loc Cert.SmallIdeal.main_arg12)
      ∧ m' ((c.tc : Thread Cert.SmallRefIdeal.nD Cert.SmallRefIdeal.τ).loc Cert.SmallRefIdeal.main_arg13) = m ((c.tc : Thread Cert.SmallIdeal.nD Cert.SmallIdeal.τ).loc Cert.SmallIdeal.main_arg13)
      ∧ m' ((c.tc : Thread Cert.SmallRefIdeal.nD Cert.SmallRefIdeal.τ).loc Cert.SmallRefIdeal.main_arg14) = m ((c.tc : Thread Cert.SmallIdeal.nD Cert.SmallIdeal.τ).loc Cert.SmallIdeal.main_arg14)
      ∧ m' ((c.tc : Thread Cert.SmallRefIdeal.nD Cert.SmallRefIdeal.τ).loc Cert.SmallRefIdeal.main_arg15) = m ((c.tc : Thread Cert.SmallIdeal.nD Cert.SmallIdeal.τ).loc Cert.SmallIdeal.main_arg15)
      ∧ m' ((c.tc : Thread Cert.SmallRefIdeal.nD Cert.SmallRefIdeal.τ).loc Cert.SmallRefIdeal.main_arg16) = m ((c.tc : Thread Cert.SmallIdeal.nD Cert.SmallIdeal.τ).loc Cert.SmallIdeal.main_arg16)
      ∧ m' ((c.tc : Thread Cert.SmallRefIdeal.nD Cert.SmallRefIdeal.τ).loc Cert.SmallRefIdeal.main_arg17) = m ((c.tc : Thread Cert.SmallIdeal.nD Cert.SmallIdeal.τ).loc Cert.SmallIdeal.main_arg17)
      ∧ m' ((c.tc : Thread Cert.SmallRefIdeal.nD Cert.SmallRefIdeal.τ).loc Cert.SmallRefIdeal.main_arg18) = m ((c.tc : Thread Cert.SmallIdeal.nD Cert.SmallIdeal.τ).loc Cert.SmallIdeal.main_arg18)
      ∧ m' ((c.tc : Thread Cert.SmallRefIdeal.nD Cert.SmallRefIdeal.τ).loc Cert.SmallRefIdeal.main_arg19) = m ((c.tc : Thread Cert.SmallIdeal.nD Cert.SmallIdeal.τ).loc Cert.SmallIdeal.main_arg19)
      ∧ m' ((c.tc : Thread Cert.SmallRefIdeal.nD Cert.SmallRefIdeal.τ).loc Cert.SmallRefIdeal.main_arg20) = m ((c.tc : Thread Cert.SmallIdeal.nD Cert.SmallIdeal.τ).loc Cert.SmallIdeal.main_arg20)
      ∧ m' ((c.tc : Thread Cert.SmallRefIdeal.nD Cert.SmallRefIdeal.τ).loc Cert.SmallRefIdeal.main_arg21) = m ((c.tc : Thread Cert.SmallIdeal.nD Cert.SmallIdeal.τ).loc Cert.SmallIdeal.main_arg21)
      ∧ m' ((c.tc : Thread Cert.SmallRefIdeal.nD Cert.SmallRefIdeal.τ).loc Cert.SmallRefIdeal.main_arg22) = m ((c.tc : Thread Cert.SmallIdeal.nD Cert.SmallIdeal.τ).loc Cert.SmallIdeal.main_arg22)
      ∧ m' ((c.tc : Thread Cert.SmallRefIdeal.nD Cert.SmallRefIdeal.τ).loc Cert.SmallRefIdeal.main_arg23) = m ((c.tc : Thread Cert.SmallIdeal.nD Cert.SmallIdeal.τ).loc Cert.SmallIdeal.main_arg23)
      ∧ m' ((c.tc : Thread Cert.SmallRefIdeal.nD Cert.SmallRefIdeal.τ).loc Cert.SmallRefIdeal.main_arg24) = m ((c.tc : Thread Cert.SmallIdeal.nD Cert.SmallIdeal.τ).loc Cert.SmallIdeal.main_arg24)
      ∧ m' ((c.tc : Thread Cert.SmallRefIdeal.nD Cert.SmallRefIdeal.τ).loc Cert.SmallRefIdeal.main_arg25) = m ((c.tc : Thread Cert.SmallIdeal.nD Cert.SmallIdeal.τ).loc Cert.SmallIdeal.main_arg25)
      ∧ m' ((c.tc : Thread Cert.SmallRefIdeal.nD Cert.SmallRefIdeal.τ).loc Cert.SmallRefIdeal.main_arg26) = m ((c.tc : Thread Cert.SmallIdeal.nD Cert.SmallIdeal.τ).loc Cert.SmallIdeal.main_arg26)
      ∧ m' ((c.tc : Thread Cert.SmallRefIdeal.nD Cert.SmallRefIdeal.τ).loc Cert.SmallRefIdeal.main_arg27) = m ((c.tc : Thread Cert.SmallIdeal.nD Cert.SmallIdeal.τ).loc Cert.SmallIdeal.main_arg27)
      ∧ m' ((c.tc : Thread Cert.SmallRefIdeal.nD Cert.SmallRefIdeal.τ).loc Cert.SmallRefIdeal.main_arg28) = m ((c.tc : Thread Cert.SmallIdeal.nD Cert.SmallIdeal.τ).loc Cert.SmallIdeal.main_arg28)
      ∧ m' ((c.tc : Thread Cert.SmallRefIdeal.nD Cert.SmallRefIdeal.τ).loc Cert.SmallRefIdeal.main_arg29) = m ((c.tc : Thread Cert.SmallIdeal.nD Cert.SmallIdeal.τ).loc Cert.SmallIdeal.main_arg29)
      ∧ m' ((c.tc : Thread Cert.SmallRefIdeal.nD Cert.SmallRefIdeal.τ).loc Cert.SmallRefIdeal.main_arg30) = m ((c.tc : Thread Cert.SmallIdeal.nD Cert.SmallIdeal.τ).loc Cert.SmallIdeal.main_arg30)
      ∧ m' ((c.tc : Thread Cert.SmallRefIdeal.nD Cert.SmallRefIdeal.τ).loc Cert.SmallRefIdeal.main_arg31) = m ((c.tc : Thread Cert.SmallIdeal.nD Cert.SmallIdeal.τ).loc Cert.SmallIdeal.main_arg31)
      ∧ m' ((c.tc : Thread Cert.SmallRefIdeal.nD Cert.SmallRefIdeal.τ).loc Cert.SmallRefIdeal.main_arg32) = m ((c.tc : Thread Cert.SmallIdeal.nD Cert.SmallIdeal.τ).loc Cert.SmallIdeal.main_arg32)
      ∧ m' ((c.tc : Thread Cert.SmallRefIdeal.nD Cert.SmallRefIdeal.τ).loc Cert.SmallRefIdeal.main_arg33) = m ((c.tc : Thread Cert.SmallIdeal.nD Cert.SmallIdeal.τ).loc Cert.SmallIdeal.main_arg33)
      ∧ m' ((c.tc : Thread Cert.SmallRefIdeal.nD Cert.SmallRefIdeal.τ).loc Cert.SmallRefIdeal.main_arg34) = m ((c.tc : Thread Cert.SmallIdeal.nD Cert.SmallIdeal.τ).loc Cert.SmallIdeal.main_arg34)
      ∧ m' ((c.tc : Thread Cert.SmallRefIdeal.nD Cert.SmallRefIdeal.τ).loc Cert.SmallRefIdeal.main_arg35) = m ((c.tc : Thread Cert.SmallIdeal.nD Cert.SmallIdeal.τ).loc Cert.SmallIdeal.main_arg35)
      ∧ m' ((c.tc : Thread Cert.SmallRefIdeal.nD Cert.SmallRefIdeal.τ).loc Cert.SmallRefIdeal.main_arg36) = m ((c.tc : Thread Cert.SmallIdeal.nD Cert.SmallIdeal.τ).loc Cert.SmallIdeal.main_arg36)
      ∧ m' ((c.tc : Thread Cert.SmallRefIdeal.nD Cert.SmallRefIdeal.τ).loc Cert.SmallRefIdeal.main_arg37) = m ((c.tc : Thread Cert.SmallIdeal.nD Cert.SmallIdeal.τ).loc Cert.SmallIdeal.main_arg37)
      ∧ m' ((c.tc : Thread Cert.SmallRefIdeal.nD Cert.SmallRefIdeal.τ).loc Cert.SmallRefIdeal.main_arg38) = m ((c.tc : Thread Cert.SmallIdeal.nD Cert.SmallIdeal.τ).loc Cert.SmallIdeal.main_arg38)
      ∧ m' ((c.tc : Thread Cert.SmallRefIdeal.nD Cert.SmallRefIdeal.τ).loc Cert.SmallRefIdeal.main_arg39) = m ((c.tc : Thread Cert.SmallIdeal.nD Cert.SmallIdeal.τ).loc Cert.SmallIdeal.main_arg39)
      ∧ m' ((c.tc : Thread Cert.SmallRefIdeal.nD Cert.SmallRefIdeal.τ).loc Cert.SmallRefIdeal.main_arg40) = m ((c.tc : Thread Cert.SmallIdeal.nD Cert.SmallIdeal.τ).loc Cert.SmallIdeal.main_arg40)
      ∧ m' ((c.tc : Thread Cert.SmallRefIdeal.nD Cert.SmallRefIdeal.τ).loc Cert.SmallRefIdeal.main_arg41) = m ((c.tc : Thread Cert.SmallIdeal.nD Cert.SmallIdeal.τ).loc Cert.SmallIdeal.main_arg41)
      ∧ m' ((c.tc : Thread Cert.SmallRefIdeal.nD Cert.SmallRefIdeal.τ).loc Cert.SmallRefIdeal.main_arg42) = m ((c.tc : Thread Cert.SmallIdeal.nD Cert.SmallIdeal.τ).loc Cert.SmallIdeal.main_arg42)
      ∧ m' ((c.tc : Thread Cert.SmallRefIdeal.nD Cert.SmallRefIdeal.τ).loc Cert.SmallRefIdeal.main_arg43) = m ((c.tc : Thread Cert.SmallIdeal.nD Cert.SmallIdeal.τ).loc Cert.SmallIdeal.main_arg43)
      ∧ m' ((c.tc : Thread Cert.SmallRefIdeal.nD Cert.SmallRefIdeal.τ).loc Cert.SmallRefIdeal.main_arg44) = m ((c.tc : Thread Cert.SmallIdeal.nD Cert.SmallIdeal.τ).loc Cert.SmallIdeal.main_arg44)
      ∧ m' ((c.tc : Thread Cert.SmallRefIdeal.nD Cert.SmallRefIdeal.τ).loc Cert.SmallRefIdeal.main_arg45) = m ((c.tc : Thread Cert.SmallIdeal.nD Cert.SmallIdeal.τ).loc Cert.SmallIdeal.main_arg45)
      ∧ m' ((c.tc : Thread Cert.SmallRefIdeal.nD Cert.SmallRefIdeal.τ).loc Cert.SmallRefIdeal.main_arg46) = m ((c.tc : Thread Cert.SmallIdeal.nD Cert.SmallIdeal.τ).loc Cert.SmallIdeal.main_arg46)
      ∧ m' ((c.tc : Thread Cert.SmallRefIdeal.nD Cert.SmallRefIdeal.τ).loc Cert.SmallRefIdeal.main_arg47) = m ((c.tc : Thread Cert.SmallIdeal.nD Cert.SmallIdeal.τ).loc Cert.SmallIdeal.main_arg47)
      ∧ m' ((c.tc : Thread Cert.SmallRefIdeal.nD Cert.SmallRefIdeal.τ).loc Cert.SmallRefIdeal.main_arg48) = m ((c.tc : Thread Cert.SmallIdeal.nD Cert.SmallIdeal.τ).loc Cert.SmallIdeal.main_arg48)
      ∧ m' ((c.tc : Thread Cert.SmallRefIdeal.nD Cert.SmallRefIdeal.τ).loc Cert.SmallRefIdeal.main_arg49) = m ((c.tc : Thread Cert.SmallIdeal.nD Cert.SmallIdeal.τ).loc Cert.SmallIdeal.main_arg49)
      ∧ m' ((c.tc : Thread Cert.SmallRefIdeal.nD Cert.SmallRefIdeal.τ).loc Cert.SmallRefIdeal.main_arg50) = m ((c.tc : Thread Cert.SmallIdeal.nD Cert.SmallIdeal.τ).loc Cert.SmallIdeal.main_arg50)
      ∧ m' ((c.tc : Thread Cert.SmallRefIdeal.nD Cert.SmallRefIdeal.τ).loc Cert.SmallRefIdeal.main_arg51) = m ((c.tc : Thread Cert.SmallIdeal.nD Cert.SmallIdeal.τ).loc Cert.SmallIdeal.main_arg51)) →
    ∃ (v0 : (c : Dev Cert.SmallIdeal.nD) → Buf (Elt Ideal) ((c.tc : Thread Cert.SmallIdeal.nD Cert.SmallIdeal.τ).loc Cert.SmallIdeal.main_v164)) (v1 : (c : Dev Cert.SmallIdeal.nD) → Buf (Elt Ideal) ((c.tc : Thread Cert.SmallIdeal.nD Cert.SmallIdeal.τ).loc Cert.SmallIdeal.main_v168)) (v2 : (c : Dev Cert.SmallIdeal.nD) → Buf (Elt Ideal) ((c.tc : Thread Cert.SmallIdeal.nD Cert.SmallIdeal.τ).loc Cert.SmallIdeal.main_v172)) (v3 : (c : Dev Cert.SmallIdeal.nD) → Buf (Elt Ideal) ((c.tc : Thread Cert.SmallIdeal.nD Cert.SmallIdeal.τ).loc Cert.SmallIdeal.main_v176)) (v4 : (c : Dev Cert.SmallIdeal.nD) → Buf (Elt Ideal) ((c.tc : Thread Cert.SmallIdeal.nD Cert.SmallIdeal.τ).loc Cert.SmallIdeal.main_v180)) (v5 : (c : Dev Cert.SmallIdeal.nD) → Buf (Elt Ideal) ((c.tc : Thread Cert.SmallIdeal.nD Cert.SmallIdeal.τ).loc Cert.SmallIdeal.main_v184)) (v6 : (c : Dev Cert.SmallIdeal.nD) → Buf (Elt Ideal) ((c.tc : Thread Cert.SmallIdeal.nD Cert.SmallIdeal.τ).loc Cert.SmallIdeal.main_v188)) (v7 : (c : Dev Cert.SmallIdeal.nD) → Buf (Elt Ideal) ((c.tc : Thread Cert.SmallIdeal.nD Cert.SmallIdeal.τ).loc Cert.SmallIdeal.main_v192)) (v8 : (c : Dev Cert.SmallIdeal.nD) → Buf (Elt Ideal) ((c.tc : Thread Cert.SmallIdeal.nD Cert.SmallIdeal.τ).loc Cert.SmallIdeal.main_v196)) (v9 : (c : Dev Cert.SmallIdeal.nD) → Buf (Elt Ideal) ((c.tc : Thread Cert.SmallIdeal.nD Cert.SmallIdeal.τ).loc Cert.SmallIdeal.main_v199)) (v10 : (c : Dev Cert.SmallIdeal.nD) → Buf (Elt Ideal) ((c.tc : Thread Cert.SmallIdeal.nD Cert.SmallIdeal.τ).loc Cert.SmallIdeal.main_v202)) (v11 : (c : Dev Cert.SmallIdeal.nD) → Buf (Elt Ideal) ((c.tc : Thread Cert.SmallIdeal.nD Cert.SmallIdeal.τ).loc Cert.SmallIdeal.main_v205)) (v12 : (c : Dev Cert.SmallIdeal.nD) → Buf (Elt Ideal) ((c.tc : Thread Cert.SmallIdeal.nD Cert.SmallIdeal.τ).loc Cert.SmallIdeal.main_v208)) (v13 : (c : Dev Cert.SmallIdeal.nD) → Buf (Elt Ideal) ((c.tc : Thread Cert.SmallIdeal.nD Cert.SmallIdeal.τ).loc Cert.SmallIdeal.main_v212)) (v14 : (c : Dev Cert.SmallIdeal.nD) → Buf (Elt Ideal) ((c.tc : Thread Cert.SmallIdeal.nD Cert.SmallIdeal.τ).loc Cert.SmallIdeal.main_v216)) (v15 : (c : Dev Cert.SmallIdeal.nD) → Buf (Elt Ideal) ((c.tc : Thread Cert.SmallIdeal.nD Cert.SmallIdeal.τ).loc Cert.SmallIdeal.main_v220)) (v16 : (c : Dev Cert.SmallIdeal.nD) → Buf (Elt Ideal) ((c.tc : Thread Cert.SmallIdeal.nD Cert.SmallIdeal.τ).loc Cert.SmallIdeal.main_v224)) (v17 : (c : Dev Cert.SmallIdeal.nD) → Buf (Elt Ideal) ((c.tc : Thread Cert.SmallIdeal.nD Cert.SmallIdeal.τ).loc Cert.SmallIdeal.main_v228)) (v18 : (c : Dev Cert.SmallIdeal.nD) → Buf (Elt Ideal) ((c.tc : Thread Cert.SmallIdeal.nD Cert.SmallIdeal.τ).loc Cert.SmallIdeal.main_v232)) (v19 : (c : Dev Cert.SmallIdeal.nD) → Buf (Elt Ideal) ((c.tc : Thread Cert.SmallIdeal.nD Cert.SmallIdeal.τ).loc Cert.SmallIdeal.main_v236)) (v20 : (c : Dev Cert.SmallIdeal.nD) → Buf (Elt Ideal) ((c.tc : Thread Cert.SmallIdeal.nD Cert.SmallIdeal.τ).loc Cert.SmallIdeal.main_v240)) (v21 : (c : Dev Cert.SmallIdeal.nD) → Buf (Elt Ideal) ((c.tc : Thread Cert.SmallIdeal.nD Cert.SmallIdeal.τ).loc Cert.SmallIdeal.main_v244)) (v22 : (c : Dev Cert.SmallIdeal.nD) → Buf (Elt Ideal) ((c.tc : Thread Cert.SmallIdeal.nD Cert.SmallIdeal.τ).loc Cert.SmallIdeal.main_v247)) (v23 : (c : Dev Cert.SmallIdeal.nD) → Buf (Elt Ideal) ((c.tc : Thread Cert.SmallIdeal.nD Cert.SmallIdeal.τ).loc Cert.SmallIdeal.main_v250)) (v24 : (c : Dev Cert.SmallIdeal.nD) → Buf (Elt Ideal) ((c.tc : Thread Cert.SmallIdeal.nD Cert.SmallIdeal.τ).loc Cert.SmallIdeal.main_v253)) (v25 : (c : Dev Cert.SmallIdeal.nD) → Buf (Elt Ideal) ((c.tc : Thread Cert.SmallIdeal.nD Cert.SmallIdeal.τ).loc Cert.SmallIdeal.main_v256)) (v26 : (c : Dev Cert.SmallIdeal.nD) → Buf (Elt Ideal) ((c.tc : Thread Cert.SmallIdeal.nD Cert.SmallIdeal.τ).loc Cert.SmallIdeal.main_v260)) (v27 : (c : Dev Cert.SmallIdeal.nD) → Buf (Elt Ideal) ((c.tc : Thread Cert.SmallIdeal.nD Cert.SmallIdeal.τ).loc Cert.SmallIdeal.main_v264)) (v28 : (c : Dev Cert.SmallIdeal.nD) → Buf (Elt Ideal) ((c.tc : Thread Cert.SmallIdeal.nD Cert.SmallIdeal.τ).loc Cert.SmallIdeal.main_v268)) (v29 : (c : Dev Cert.SmallIdeal.nD) → Buf (Elt Ideal) ((c.tc : Thread Cert.SmallIdeal.nD Cert.SmallIdeal.τ).loc Cert.SmallIdeal.main_v272)) (v30 : (c : Dev Cert.SmallIdeal.nD) → Buf (Elt Ideal) ((c.tc : Thread Cert.SmallIdeal.nD Cert.SmallIdeal.τ).loc Cert.SmallIdeal.main_v276)) (v31 : (c : Dev Cert.SmallIdeal.nD) → Buf (Elt Ideal) ((c.tc : Thread Cert.SmallIdeal.nD Cert.SmallIdeal.τ).loc Cert.SmallIdeal.main_v280)) (v32 : (c : Dev Cert.SmallIdeal.nD) → Buf (Elt Ideal) ((c.tc : Thread Cert.SmallIdeal.nD Cert.SmallIdeal.τ).loc Cert.SmallIdeal.main_v284)) (v33 : (c : Dev Cert.SmallIdeal.nD) → Buf (Elt Ideal) ((c.tc : Thread Cert.SmallIdeal.nD Cert.SmallIdeal.τ).loc Cert.SmallIdeal.main_v288)) (v34 : (c : Dev Cert.SmallIdeal.nD) → Buf (Elt Ideal) ((c.tc : Thread Cert.SmallIdeal.nD Cert.SmallIdeal.τ).loc Cert.SmallIdeal.main_v292)) (v35 : (c : Dev Cert.SmallIdeal.nD) → Buf (Elt Ideal) ((c.tc : Thread Cert.SmallIdeal.nD Cert.SmallIdeal.τ).loc Cert.SmallIdeal.main_v295)) (v36 : (c : Dev Cert.SmallIdeal.nD) → Buf (Elt Ideal) ((c.tc : Thread Cert.SmallIdeal.nD Cert.SmallIdeal.τ).loc Cert.SmallIdeal.main_v298)) (v37 : (c : Dev Cert.SmallIdeal.nD) → Buf (Elt Ideal) ((c.tc : Thread Cert.SmallIdeal.nD Cert.SmallIdeal.τ).loc Cert.SmallIdeal.main_v301)) (v38 : (c : Dev Cert.SmallIdeal.nD) → Buf (Elt Ideal) ((c.tc : Thread Cert.SmallIdeal.nD Cert.SmallIdeal.τ).loc Cert.SmallIdeal.main_v304)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v164) = v0 c
          ∧ r.2.mem ((c.tc : Thread Cert.SmallIdeal.nD Cert.SmallIdeal.τ).loc Cert.SmallIdeal.main_v168) = v1 c
          ∧ r.2.mem ((c.tc : Thread Cert.SmallIdeal.nD Cert.SmallIdeal.τ).loc Cert.SmallIdeal.main_v172) = v2 c
          ∧ r.2.mem ((c.tc : Thread Cert.SmallIdeal.nD Cert.SmallIdeal.τ).loc Cert.SmallIdeal.main_v176) = v3 c
          ∧ r.2.mem ((c.tc : Thread Cert.SmallIdeal.nD Cert.SmallIdeal.τ).loc Cert.SmallIdeal.main_v180) = v4 c
          ∧ r.2.mem ((c.tc : Thread Cert.SmallIdeal.nD Cert.SmallIdeal.τ).loc Cert.SmallIdeal.main_v184) = v5 c
          ∧ r.2.mem ((c.tc : Thread Cert.SmallIdeal.nD Cert.SmallIdeal.τ).loc Cert.SmallIdeal.main_v188) = v6 c
          ∧ r.2.mem ((c.tc : Thread Cert.SmallIdeal.nD Cert.SmallIdeal.τ).loc Cert.SmallIdeal.main_v192) = v7 c
          ∧ r.2.mem ((c.tc : Thread Cert.SmallIdeal.nD Cert.SmallIdeal.τ).loc Cert.SmallIdeal.main_v196) = v8 c
          ∧ r.2.mem ((c.tc : Thread Cert.SmallIdeal.nD Cert.SmallIdeal.τ).loc Cert.SmallIdeal.main_v199) = v9 c
          ∧ r.2.mem ((c.tc : Thread Cert.SmallIdeal.nD Cert.SmallIdeal.τ).loc Cert.SmallIdeal.main_v202) = v10 c
          ∧ r.2.mem ((c.tc : Thread Cert.SmallIdeal.nD Cert.SmallIdeal.τ).loc Cert.SmallIdeal.main_v205) = v11 c
          ∧ r.2.mem ((c.tc : Thread Cert.SmallIdeal.nD Cert.SmallIdeal.τ).loc Cert.SmallIdeal.main_v208) = v12 c
          ∧ r.2.mem ((c.tc : Thread Cert.SmallIdeal.nD Cert.SmallIdeal.τ).loc Cert.SmallIdeal.main_v212) = v13 c
          ∧ r.2.mem ((c.tc : Thread Cert.SmallIdeal.nD Cert.SmallIdeal.τ).loc Cert.SmallIdeal.main_v216) = v14 c
          ∧ r.2.mem ((c.tc : Thread Cert.SmallIdeal.nD Cert.SmallIdeal.τ).loc Cert.SmallIdeal.main_v220) = v15 c
          ∧ r.2.mem ((c.tc : Thread Cert.SmallIdeal.nD Cert.SmallIdeal.τ).loc Cert.SmallIdeal.main_v224) = v16 c
          ∧ r.2.mem ((c.tc : Thread Cert.SmallIdeal.nD Cert.SmallIdeal.τ).loc Cert.SmallIdeal.main_v228) = v17 c
          ∧ r.2.mem ((c.tc : Thread Cert.SmallIdeal.nD Cert.SmallIdeal.τ).loc Cert.SmallIdeal.main_v232) = v18 c
          ∧ r.2.mem ((c.tc : Thread Cert.SmallIdeal.nD Cert.SmallIdeal.τ).loc Cert.SmallIdeal.main_v236) = v19 c
          ∧ r.2.mem ((c.tc : Thread Cert.SmallIdeal.nD Cert.SmallIdeal.τ).loc Cert.SmallIdeal.main_v240) = v20 c
          ∧ r.2.mem ((c.tc : Thread Cert.SmallIdeal.nD Cert.SmallIdeal.τ).loc Cert.SmallIdeal.main_v244) = v21 c
          ∧ r.2.mem ((c.tc : Thread Cert.SmallIdeal.nD Cert.SmallIdeal.τ).loc Cert.SmallIdeal.main_v247) = v22 c
          ∧ r.2.mem ((c.tc : Thread Cert.SmallIdeal.nD Cert.SmallIdeal.τ).loc Cert.SmallIdeal.main_v250) = v23 c
          ∧ r.2.mem ((c.tc : Thread Cert.SmallIdeal.nD Cert.SmallIdeal.τ).loc Cert.SmallIdeal.main_v253) = v24 c
          ∧ r.2.mem ((c.tc : Thread Cert.SmallIdeal.nD Cert.SmallIdeal.τ).loc Cert.SmallIdeal.main_v256) = v25 c
          ∧ r.2.mem ((c.tc : Thread Cert.SmallIdeal.nD Cert.SmallIdeal.τ).loc Cert.SmallIdeal.main_v260) = v26 c
          ∧ r.2.mem ((c.tc : Thread Cert.SmallIdeal.nD Cert.SmallIdeal.τ).loc Cert.SmallIdeal.main_v264) = v27 c
          ∧ r.2.mem ((c.tc : Thread Cert.SmallIdeal.nD Cert.SmallIdeal.τ).loc Cert.SmallIdeal.main_v268) = v28 c
          ∧ r.2.mem ((c.tc : Thread Cert.SmallIdeal.nD Cert.SmallIdeal.τ).loc Cert.SmallIdeal.main_v272) = v29 c
          ∧ r.2.mem ((c.tc : Thread Cert.SmallIdeal.nD Cert.SmallIdeal.τ).loc Cert.SmallIdeal.main_v276) = v30 c
          ∧ r.2.mem ((c.tc : Thread Cert.SmallIdeal.nD Cert.SmallIdeal.τ).loc Cert.SmallIdeal.main_v280) = v31 c
          ∧ r.2.mem ((c.tc : Thread Cert.SmallIdeal.nD Cert.SmallIdeal.τ).loc Cert.SmallIdeal.main_v284) = v32 c
          ∧ r.2.mem ((c.tc : Thread Cert.SmallIdeal.nD Cert.SmallIdeal.τ).loc Cert.SmallIdeal.main_v288) = v33 c
          ∧ r.2.mem ((c.tc : Thread Cert.SmallIdeal.nD Cert.SmallIdeal.τ).loc Cert.SmallIdeal.main_v292) = v34 c
          ∧ r.2.mem ((c.tc : Thread Cert.SmallIdeal.nD Cert.SmallIdeal.τ).loc Cert.SmallIdeal.main_v295) = v35 c
          ∧ r.2.mem ((c.tc : Thread Cert.SmallIdeal.nD Cert.SmallIdeal.τ).loc Cert.SmallIdeal.main_v298) = v36 c
          ∧ r.2.mem ((c.tc : Thread Cert.SmallIdeal.nD Cert.SmallIdeal.τ).loc Cert.SmallIdeal.main_v301) = v37 c
          ∧ r.2.mem ((c.tc : Thread Cert.SmallIdeal.nD Cert.SmallIdeal.τ).loc Cert.SmallIdeal.main_v304) = v38 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
          ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
          ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
          ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
          ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
          ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
          ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
          ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
          ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
          ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
          ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
          ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
          ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
          ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16)
          ∧ r.2.mem ((c.tc : Thread Cert.SmallIdeal.nD Cert.SmallIdeal.τ).loc Cert.SmallIdeal.main_arg17) = m ((c.tc : Thread Cert.SmallIdeal.nD Cert.SmallIdeal.τ).loc Cert.SmallIdeal.main_arg17)
          ∧ r.2.mem ((c.tc : Thread Cert.SmallIdeal.nD Cert.SmallIdeal.τ).loc Cert.SmallIdeal.main_arg18) = m ((c.tc : Thread Cert.SmallIdeal.nD Cert.SmallIdeal.τ).loc Cert.SmallIdeal.main_arg18)
          ∧ r.2.mem ((c.tc : Thread Cert.SmallIdeal.nD Cert.SmallIdeal.τ).loc Cert.SmallIdeal.main_arg19) = m ((c.tc : Thread Cert.SmallIdeal.nD Cert.SmallIdeal.τ).loc Cert.SmallIdeal.main_arg19)
          ∧ r.2.mem ((c.tc : Thread Cert.SmallIdeal.nD Cert.SmallIdeal.τ).loc Cert.SmallIdeal.main_arg20) = m ((c.tc : Thread Cert.SmallIdeal.nD Cert.SmallIdeal.τ).loc Cert.SmallIdeal.main_arg20)
          ∧ r.2.mem ((c.tc : Thread Cert.SmallIdeal.nD Cert.SmallIdeal.τ).loc Cert.SmallIdeal.main_arg21) = m ((c.tc : Thread Cert.SmallIdeal.nD Cert.SmallIdeal.τ).loc Cert.SmallIdeal.main_arg21)
          ∧ r.2.mem ((c.tc : Thread Cert.SmallIdeal.nD Cert.SmallIdeal.τ).loc Cert.SmallIdeal.main_arg22) = m ((c.tc : Thread Cert.SmallIdeal.nD Cert.SmallIdeal.τ).loc Cert.SmallIdeal.main_arg22)
          ∧ r.2.mem ((c.tc : Thread Cert.SmallIdeal.nD Cert.SmallIdeal.τ).loc Cert.SmallIdeal.main_arg23) = m ((c.tc : Thread Cert.SmallIdeal.nD Cert.SmallIdeal.τ).loc Cert.SmallIdeal.main_arg23)
          ∧ r.2.mem ((c.tc : Thread Cert.SmallIdeal.nD Cert.SmallIdeal.τ).loc Cert.SmallIdeal.main_arg24) = m ((c.tc : Thread Cert.SmallIdeal.nD Cert.SmallIdeal.τ).loc Cert.SmallIdeal.main_arg24)
          ∧ r.2.mem ((c.tc : Thread Cert.SmallIdeal.nD Cert.SmallIdeal.τ).loc Cert.SmallIdeal.main_arg25) = m ((c.tc : Thread Cert.SmallIdeal.nD Cert.SmallIdeal.τ).loc Cert.SmallIdeal.main_arg25)
          ∧ r.2.mem ((c.tc : Thread Cert.SmallIdeal.nD Cert.SmallIdeal.τ).loc Cert.SmallIdeal.main_arg26) = m ((c.tc : Thread Cert.SmallIdeal.nD Cert.SmallIdeal.τ).loc Cert.SmallIdeal.main_arg26)
          ∧ r.2.mem ((c.tc : Thread Cert.SmallIdeal.nD Cert.SmallIdeal.τ).loc Cert.SmallIdeal.main_arg27) = m ((c.tc : Thread Cert.SmallIdeal.nD Cert.SmallIdeal.τ).loc Cert.SmallIdeal.main_arg27)
          ∧ r.2.mem ((c.tc : Thread Cert.SmallIdeal.nD Cert.SmallIdeal.τ).loc Cert.SmallIdeal.main_arg28) = m ((c.tc : Thread Cert.SmallIdeal.nD Cert.SmallIdeal.τ).loc Cert.SmallIdeal.main_arg28)
          ∧ r.2.mem ((c.tc : Thread Cert.SmallIdeal.nD Cert.SmallIdeal.τ).loc Cert.SmallIdeal.main_arg29) = m ((c.tc : Thread Cert.SmallIdeal.nD Cert.SmallIdeal.τ).loc Cert.SmallIdeal.main_arg29)
          ∧ r.2.mem ((c.tc : Thread Cert.SmallIdeal.nD Cert.SmallIdeal.τ).loc Cert.SmallIdeal.main_arg30) = m ((c.tc : Thread Cert.SmallIdeal.nD Cert.SmallIdeal.τ).loc Cert.SmallIdeal.main_arg30)
          ∧ r.2.mem ((c.tc : Thread Cert.SmallIdeal.nD Cert.SmallIdeal.τ).loc Cert.SmallIdeal.main_arg31) = m ((c.tc : Thread Cert.SmallIdeal.nD Cert.SmallIdeal.τ).loc Cert.SmallIdeal.main_arg31)
          ∧ r.2.mem ((c.tc : Thread Cert.SmallIdeal.nD Cert.SmallIdeal.τ).loc Cert.SmallIdeal.main_arg32) = m ((c.tc : Thread Cert.SmallIdeal.nD Cert.SmallIdeal.τ).loc Cert.SmallIdeal.main_arg32)
          ∧ r.2.mem ((c.tc : Thread Cert.SmallIdeal.nD Cert.SmallIdeal.τ).loc Cert.SmallIdeal.main_arg33) = m ((c.tc : Thread Cert.SmallIdeal.nD Cert.SmallIdeal.τ).loc Cert.SmallIdeal.main_arg33)
          ∧ r.2.mem ((c.tc : Thread Cert.SmallIdeal.nD Cert.SmallIdeal.τ).loc Cert.SmallIdeal.main_arg34) = m ((c.tc : Thread Cert.SmallIdeal.nD Cert.SmallIdeal.τ).loc Cert.SmallIdeal.main_arg34)
          ∧ r.2.mem ((c.tc : Thread Cert.SmallIdeal.nD Cert.SmallIdeal.τ).loc Cert.SmallIdeal.main_arg35) = m ((c.tc : Thread Cert.SmallIdeal.nD Cert.SmallIdeal.τ).loc Cert.SmallIdeal.main_arg35)
          ∧ r.2.mem ((c.tc : Thread Cert.SmallIdeal.nD Cert.SmallIdeal.τ).loc Cert.SmallIdeal.main_arg36) = m ((c.tc : Thread Cert.SmallIdeal.nD Cert.SmallIdeal.τ).loc Cert.SmallIdeal.main_arg36)
          ∧ r.2.mem ((c.tc : Thread Cert.SmallIdeal.nD Cert.SmallIdeal.τ).loc Cert.SmallIdeal.main_arg37) = m ((c.tc : Thread Cert.SmallIdeal.nD Cert.SmallIdeal.τ).loc Cert.SmallIdeal.main_arg37)
          ∧ r.2.mem ((c.tc : Thread Cert.SmallIdeal.nD Cert.SmallIdeal.τ).loc Cert.SmallIdeal.main_arg38) = m ((c.tc : Thread Cert.SmallIdeal.nD Cert.SmallIdeal.τ).loc Cert.SmallIdeal.main_arg38)
          ∧ r.2.mem ((c.tc : Thread Cert.SmallIdeal.nD Cert.SmallIdeal.τ).loc Cert.SmallIdeal.main_arg39) = m ((c.tc : Thread Cert.SmallIdeal.nD Cert.SmallIdeal.τ).loc Cert.SmallIdeal.main_arg39)
          ∧ r.2.mem ((c.tc : Thread Cert.SmallIdeal.nD Cert.SmallIdeal.τ).loc Cert.SmallIdeal.main_arg40) = m ((c.tc : Thread Cert.SmallIdeal.nD Cert.SmallIdeal.τ).loc Cert.SmallIdeal.main_arg40)
          ∧ r.2.mem ((c.tc : Thread Cert.SmallIdeal.nD Cert.SmallIdeal.τ).loc Cert.SmallIdeal.main_arg41) = m ((c.tc : Thread Cert.SmallIdeal.nD Cert.SmallIdeal.τ).loc Cert.SmallIdeal.main_arg41)
          ∧ r.2.mem ((c.tc : Thread Cert.SmallIdeal.nD Cert.SmallIdeal.τ).loc Cert.SmallIdeal.main_arg42) = m ((c.tc : Thread Cert.SmallIdeal.nD Cert.SmallIdeal.τ).loc Cert.SmallIdeal.main_arg42)
          ∧ r.2.mem ((c.tc : Thread Cert.SmallIdeal.nD Cert.SmallIdeal.τ).loc Cert.SmallIdeal.main_arg43) = m ((c.tc : Thread Cert.SmallIdeal.nD Cert.SmallIdeal.τ).loc Cert.SmallIdeal.main_arg43)
          ∧ r.2.mem ((c.tc : Thread Cert.SmallIdeal.nD Cert.SmallIdeal.τ).loc Cert.SmallIdeal.main_arg44) = m ((c.tc : Thread Cert.SmallIdeal.nD Cert.SmallIdeal.τ).loc Cert.SmallIdeal.main_arg44)
          ∧ r.2.mem ((c.tc : Thread Cert.SmallIdeal.nD Cert.SmallIdeal.τ).loc Cert.SmallIdeal.main_arg45) = m ((c.tc : Thread Cert.SmallIdeal.nD Cert.SmallIdeal.τ).loc Cert.SmallIdeal.main_arg45)
          ∧ r.2.mem ((c.tc : Thread Cert.SmallIdeal.nD Cert.SmallIdeal.τ).loc Cert.SmallIdeal.main_arg46) = m ((c.tc : Thread Cert.SmallIdeal.nD Cert.SmallIdeal.τ).loc Cert.SmallIdeal.main_arg46)
          ∧ r.2.mem ((c.tc : Thread Cert.SmallIdeal.nD Cert.SmallIdeal.τ).loc Cert.SmallIdeal.main_arg47) = m ((c.tc : Thread Cert.SmallIdeal.nD Cert.SmallIdeal.τ).loc Cert.SmallIdeal.main_arg47)
          ∧ r.2.mem ((c.tc : Thread Cert.SmallIdeal.nD Cert.SmallIdeal.τ).loc Cert.SmallIdeal.main_arg48) = m ((c.tc : Thread Cert.SmallIdeal.nD Cert.SmallIdeal.τ).loc Cert.SmallIdeal.main_arg48)
          ∧ r.2.mem ((c.tc : Thread Cert.SmallIdeal.nD Cert.SmallIdeal.τ).loc Cert.SmallIdeal.main_arg49) = m ((c.tc : Thread Cert.SmallIdeal.nD Cert.SmallIdeal.τ).loc Cert.SmallIdeal.main_arg49)
          ∧ r.2.mem ((c.tc : Thread Cert.SmallIdeal.nD Cert.SmallIdeal.τ).loc Cert.SmallIdeal.main_arg50) = m ((c.tc : Thread Cert.SmallIdeal.nD Cert.SmallIdeal.τ).loc Cert.SmallIdeal.main_arg50)
          ∧ r.2.mem ((c.tc : Thread Cert.SmallIdeal.nD Cert.SmallIdeal.τ).loc Cert.SmallIdeal.main_arg51) = m ((c.tc : Thread Cert.SmallIdeal.nD Cert.SmallIdeal.τ).loc Cert.SmallIdeal.main_arg51))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v23) = v0 c
          ∧ r.2.mem ((c.tc : Thread Cert.SmallRefIdeal.nD Cert.SmallRefIdeal.τ).loc Cert.SmallRefIdeal.main_v47) = v1 c
          ∧ r.2.mem ((c.tc : Thread Cert.SmallRefIdeal.nD Cert.SmallRefIdeal.τ).loc Cert.SmallRefIdeal.main_v71) = v2 c
          ∧ r.2.mem ((c.tc : Thread Cert.SmallRefIdeal.nD Cert.SmallRefIdeal.τ).loc Cert.SmallRefIdeal.main_v95) = v3 c
          ∧ r.2.mem ((c.tc : Thread Cert.SmallRefIdeal.nD Cert.SmallRefIdeal.τ).loc Cert.SmallRefIdeal.main_v119) = v4 c
          ∧ r.2.mem ((c.tc : Thread Cert.SmallRefIdeal.nD Cert.SmallRefIdeal.τ).loc Cert.SmallRefIdeal.main_v143) = v5 c
          ∧ r.2.mem ((c.tc : Thread Cert.SmallRefIdeal.nD Cert.SmallRefIdeal.τ).loc Cert.SmallRefIdeal.main_v167) = v6 c
          ∧ r.2.mem ((c.tc : Thread Cert.SmallRefIdeal.nD Cert.SmallRefIdeal.τ).loc Cert.SmallRefIdeal.main_v191) = v7 c
          ∧ r.2.mem ((c.tc : Thread Cert.SmallRefIdeal.nD Cert.SmallRefIdeal.τ).loc Cert.SmallRefIdeal.main_v215) = v8 c
          ∧ r.2.mem ((c.tc : Thread Cert.SmallRefIdeal.nD Cert.SmallRefIdeal.τ).loc Cert.SmallRefIdeal.main_v239) = v9 c
          ∧ r.2.mem ((c.tc : Thread Cert.SmallRefIdeal.nD Cert.SmallRefIdeal.τ).loc Cert.SmallRefIdeal.main_v263) = v10 c
          ∧ r.2.mem ((c.tc : Thread Cert.SmallRefIdeal.nD Cert.SmallRefIdeal.τ).loc Cert.SmallRefIdeal.main_v287) = v11 c
          ∧ r.2.mem ((c.tc : Thread Cert.SmallRefIdeal.nD Cert.SmallRefIdeal.τ).loc Cert.SmallRefIdeal.main_v311) = v12 c
          ∧ r.2.mem ((c.tc : Thread Cert.SmallRefIdeal.nD Cert.SmallRefIdeal.τ).loc Cert.SmallRefIdeal.main_v4) = v13 c
          ∧ r.2.mem ((c.tc : Thread Cert.SmallRefIdeal.nD Cert.SmallRefIdeal.τ).loc Cert.SmallRefIdeal.main_v28) = v14 c
          ∧ r.2.mem ((c.tc : Thread Cert.SmallRefIdeal.nD Cert.SmallRefIdeal.τ).loc Cert.SmallRefIdeal.main_v52) = v15 c
          ∧ r.2.mem ((c.tc : Thread Cert.SmallRefIdeal.nD Cert.SmallRefIdeal.τ).loc Cert.SmallRefIdeal.main_v76) = v16 c
          ∧ r.2.mem ((c.tc : Thread Cert.SmallRefIdeal.nD Cert.SmallRefIdeal.τ).loc Cert.SmallRefIdeal.main_v100) = v17 c
          ∧ r.2.mem ((c.tc : Thread Cert.SmallRefIdeal.nD Cert.SmallRefIdeal.τ).loc Cert.SmallRefIdeal.main_v124) = v18 c
          ∧ r.2.mem ((c.tc : Thread Cert.SmallRefIdeal.nD Cert.SmallRefIdeal.τ).loc Cert.SmallRefIdeal.main_v148) = v19 c
          ∧ r.2.mem ((c.tc : Thread Cert.SmallRefIdeal.nD Cert.SmallRefIdeal.τ).loc Cert.SmallRefIdeal.main_v172) = v20 c
          ∧ r.2.mem ((c.tc : Thread Cert.SmallRefIdeal.nD Cert.SmallRefIdeal.τ).loc Cert.SmallRefIdeal.main_v196) = v21 c
          ∧ r.2.mem ((c.tc : Thread Cert.SmallRefIdeal.nD Cert.SmallRefIdeal.τ).loc Cert.SmallRefIdeal.main_v220) = v22 c
          ∧ r.2.mem ((c.tc : Thread Cert.SmallRefIdeal.nD Cert.SmallRefIdeal.τ).loc Cert.SmallRefIdeal.main_v244) = v23 c
          ∧ r.2.mem ((c.tc : Thread Cert.SmallRefIdeal.nD Cert.SmallRefIdeal.τ).loc Cert.SmallRefIdeal.main_v268) = v24 c
          ∧ r.2.mem ((c.tc : Thread Cert.SmallRefIdeal.nD Cert.SmallRefIdeal.τ).loc Cert.SmallRefIdeal.main_v292) = v25 c
          ∧ r.2.mem ((c.tc : Thread Cert.SmallRefIdeal.nD Cert.SmallRefIdeal.τ).loc Cert.SmallRefIdeal.main_v10) = v26 c
          ∧ r.2.mem ((c.tc : Thread Cert.SmallRefIdeal.nD Cert.SmallRefIdeal.τ).loc Cert.SmallRefIdeal.main_v34) = v27 c
          ∧ r.2.mem ((c.tc : Thread Cert.SmallRefIdeal.nD Cert.SmallRefIdeal.τ).loc Cert.SmallRefIdeal.main_v58) = v28 c
          ∧ r.2.mem ((c.tc : Thread Cert.SmallRefIdeal.nD Cert.SmallRefIdeal.τ).loc Cert.SmallRefIdeal.main_v82) = v29 c
          ∧ r.2.mem ((c.tc : Thread Cert.SmallRefIdeal.nD Cert.SmallRefIdeal.τ).loc Cert.SmallRefIdeal.main_v106) = v30 c
          ∧ r.2.mem ((c.tc : Thread Cert.SmallRefIdeal.nD Cert.SmallRefIdeal.τ).loc Cert.SmallRefIdeal.main_v130) = v31 c
          ∧ r.2.mem ((c.tc : Thread Cert.SmallRefIdeal.nD Cert.SmallRefIdeal.τ).loc Cert.SmallRefIdeal.main_v154) = v32 c
          ∧ r.2.mem ((c.tc : Thread Cert.SmallRefIdeal.nD Cert.SmallRefIdeal.τ).loc Cert.SmallRefIdeal.main_v178) = v33 c
          ∧ r.2.mem ((c.tc : Thread Cert.SmallRefIdeal.nD Cert.SmallRefIdeal.τ).loc Cert.SmallRefIdeal.main_v202) = v34 c
          ∧ r.2.mem ((c.tc : Thread Cert.SmallRefIdeal.nD Cert.SmallRefIdeal.τ).loc Cert.SmallRefIdeal.main_v226) = v35 c
          ∧ r.2.mem ((c.tc : Thread Cert.SmallRefIdeal.nD Cert.SmallRefIdeal.τ).loc Cert.SmallRefIdeal.main_v250) = v36 c
          ∧ r.2.mem ((c.tc : Thread Cert.SmallRefIdeal.nD Cert.SmallRefIdeal.τ).loc Cert.SmallRefIdeal.main_v274) = v37 c
          ∧ r.2.mem ((c.tc : Thread Cert.SmallRefIdeal.nD Cert.SmallRefIdeal.τ).loc Cert.SmallRefIdeal.main_v298) = v38 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3)
          ∧ r.2.mem ((c.tc : Thread Cert.SmallRefIdeal.nD Cert.SmallRefIdeal.τ).loc Cert.SmallRefIdeal.main_arg4) = m' ((c.tc : Thread Cert.SmallRefIdeal.nD Cert.SmallRefIdeal.τ).loc Cert.SmallRefIdeal.main_arg4)
          ∧ r.2.mem ((c.tc : Thread Cert.SmallRefIdeal.nD Cert.SmallRefIdeal.τ).loc Cert.SmallRefIdeal.main_arg5) = m' ((c.tc : Thread Cert.SmallRefIdeal.nD Cert.SmallRefIdeal.τ).loc Cert.SmallRefIdeal.main_arg5)
          ∧ r.2.mem ((c.tc : Thread Cert.SmallRefIdeal.nD Cert.SmallRefIdeal.τ).loc Cert.SmallRefIdeal.main_arg6) = m' ((c.tc : Thread Cert.SmallRefIdeal.nD Cert.SmallRefIdeal.τ).loc Cert.SmallRefIdeal.main_arg6)
          ∧ r.2.mem ((c.tc : Thread Cert.SmallRefIdeal.nD Cert.SmallRefIdeal.τ).loc Cert.SmallRefIdeal.main_arg7) = m' ((c.tc : Thread Cert.SmallRefIdeal.nD Cert.SmallRefIdeal.τ).loc Cert.SmallRefIdeal.main_arg7)
          ∧ r.2.mem ((c.tc : Thread Cert.SmallRefIdeal.nD Cert.SmallRefIdeal.τ).loc Cert.SmallRefIdeal.main_arg8) = m' ((c.tc : Thread Cert.SmallRefIdeal.nD Cert.SmallRefIdeal.τ).loc Cert.SmallRefIdeal.main_arg8)
          ∧ r.2.mem ((c.tc : Thread Cert.SmallRefIdeal.nD Cert.SmallRefIdeal.τ).loc Cert.SmallRefIdeal.main_arg9) = m' ((c.tc : Thread Cert.SmallRefIdeal.nD Cert.SmallRefIdeal.τ).loc Cert.SmallRefIdeal.main_arg9)
          ∧ r.2.mem ((c.tc : Thread Cert.SmallRefIdeal.nD Cert.SmallRefIdeal.τ).loc Cert.SmallRefIdeal.main_arg10) = m' ((c.tc : Thread Cert.SmallRefIdeal.nD Cert.SmallRefIdeal.τ).loc Cert.SmallRefIdeal.main_arg10)
          ∧ r.2.mem ((c.tc : Thread Cert.SmallRefIdeal.nD Cert.SmallRefIdeal.τ).loc Cert.SmallRefIdeal.main_arg11) = m' ((c.tc : Thread Cert.SmallRefIdeal.nD Cert.SmallRefIdeal.τ).loc Cert.SmallRefIdeal.main_arg11)
          ∧ r.2.mem ((c.tc : Thread Cert.SmallRefIdeal.nD Cert.SmallRefIdeal.τ).loc Cert.SmallRefIdeal.main_arg12) = m' ((c.tc : Thread Cert.SmallRefIdeal.nD Cert.SmallRefIdeal.τ).loc Cert.SmallRefIdeal.main_arg12)
          ∧ r.2.mem ((c.tc : Thread Cert.SmallRefIdeal.nD Cert.SmallRefIdeal.τ).loc Cert.SmallRefIdeal.main_arg13) = m' ((c.tc : Thread Cert.SmallRefIdeal.nD Cert.SmallRefIdeal.τ).loc Cert.SmallRefIdeal.main_arg13)
          ∧ r.2.mem ((c.tc : Thread Cert.SmallRefIdeal.nD Cert.SmallRefIdeal.τ).loc Cert.SmallRefIdeal.main_arg14) = m' ((c.tc : Thread Cert.SmallRefIdeal.nD Cert.SmallRefIdeal.τ).loc Cert.SmallRefIdeal.main_arg14)
          ∧ r.2.mem ((c.tc : Thread Cert.SmallRefIdeal.nD Cert.SmallRefIdeal.τ).loc Cert.SmallRefIdeal.main_arg15) = m' ((c.tc : Thread Cert.SmallRefIdeal.nD Cert.SmallRefIdeal.τ).loc Cert.SmallRefIdeal.main_arg15)
          ∧ r.2.mem ((c.tc : Thread Cert.SmallRefIdeal.nD Cert.SmallRefIdeal.τ).loc Cert.SmallRefIdeal.main_arg16) = m' ((c.tc : Thread Cert.SmallRefIdeal.nD Cert.SmallRefIdeal.τ).loc Cert.SmallRefIdeal.main_arg16)
          ∧ r.2.mem ((c.tc : Thread Cert.SmallRefIdeal.nD Cert.SmallRefIdeal.τ).loc Cert.SmallRefIdeal.main_arg17) = m' ((c.tc : Thread Cert.SmallRefIdeal.nD Cert.SmallRefIdeal.τ).loc Cert.SmallRefIdeal.main_arg17)
          ∧ r.2.mem ((c.tc : Thread Cert.SmallRefIdeal.nD Cert.SmallRefIdeal.τ).loc Cert.SmallRefIdeal.main_arg18) = m' ((c.tc : Thread Cert.SmallRefIdeal.nD Cert.SmallRefIdeal.τ).loc Cert.SmallRefIdeal.main_arg18)
          ∧ r.2.mem ((c.tc : Thread Cert.SmallRefIdeal.nD Cert.SmallRefIdeal.τ).loc Cert.SmallRefIdeal.main_arg19) = m' ((c.tc : Thread Cert.SmallRefIdeal.nD Cert.SmallRefIdeal.τ).loc Cert.SmallRefIdeal.main_arg19)
          ∧ r.2.mem ((c.tc : Thread Cert.SmallRefIdeal.nD Cert.SmallRefIdeal.τ).loc Cert.SmallRefIdeal.main_arg20) = m' ((c.tc : Thread Cert.SmallRefIdeal.nD Cert.SmallRefIdeal.τ).loc Cert.SmallRefIdeal.main_arg20)
          ∧ r.2.mem ((c.tc : Thread Cert.SmallRefIdeal.nD Cert.SmallRefIdeal.τ).loc Cert.SmallRefIdeal.main_arg21) = m' ((c.tc : Thread Cert.SmallRefIdeal.nD Cert.SmallRefIdeal.τ).loc Cert.SmallRefIdeal.main_arg21)
          ∧ r.2.mem ((c.tc : Thread Cert.SmallRefIdeal.nD Cert.SmallRefIdeal.τ).loc Cert.SmallRefIdeal.main_arg22) = m' ((c.tc : Thread Cert.SmallRefIdeal.nD Cert.SmallRefIdeal.τ).loc Cert.SmallRefIdeal.main_arg22)
          ∧ r.2.mem ((c.tc : Thread Cert.SmallRefIdeal.nD Cert.SmallRefIdeal.τ).loc Cert.SmallRefIdeal.main_arg23) = m' ((c.tc : Thread Cert.SmallRefIdeal.nD Cert.SmallRefIdeal.τ).loc Cert.SmallRefIdeal.main_arg23)
          ∧ r.2.mem ((c.tc : Thread Cert.SmallRefIdeal.nD Cert.SmallRefIdeal.τ).loc Cert.SmallRefIdeal.main_arg24) = m' ((c.tc : Thread Cert.SmallRefIdeal.nD Cert.SmallRefIdeal.τ).loc Cert.SmallRefIdeal.main_arg24)
          ∧ r.2.mem ((c.tc : Thread Cert.SmallRefIdeal.nD Cert.SmallRefIdeal.τ).loc Cert.SmallRefIdeal.main_arg25) = m' ((c.tc : Thread Cert.SmallRefIdeal.nD Cert.SmallRefIdeal.τ).loc Cert.SmallRefIdeal.main_arg25)
          ∧ r.2.mem ((c.tc : Thread Cert.SmallRefIdeal.nD Cert.SmallRefIdeal.τ).loc Cert.SmallRefIdeal.main_arg26) = m' ((c.tc : Thread Cert.SmallRefIdeal.nD Cert.SmallRefIdeal.τ).loc Cert.SmallRefIdeal.main_arg26)
          ∧ r.2.mem ((c.tc : Thread Cert.SmallRefIdeal.nD Cert.SmallRefIdeal.τ).loc Cert.SmallRefIdeal.main_arg27) = m' ((c.tc : Thread Cert.SmallRefIdeal.nD Cert.SmallRefIdeal.τ).loc Cert.SmallRefIdeal.main_arg27)
          ∧ r.2.mem ((c.tc : Thread Cert.SmallRefIdeal.nD Cert.SmallRefIdeal.τ).loc Cert.SmallRefIdeal.main_arg28) = m' ((c.tc : Thread Cert.SmallRefIdeal.nD Cert.SmallRefIdeal.τ).loc Cert.SmallRefIdeal.main_arg28)
          ∧ r.2.mem ((c.tc : Thread Cert.SmallRefIdeal.nD Cert.SmallRefIdeal.τ).loc Cert.SmallRefIdeal.main_arg29) = m' ((c.tc : Thread Cert.SmallRefIdeal.nD Cert.SmallRefIdeal.τ).loc Cert.SmallRefIdeal.main_arg29)
          ∧ r.2.mem ((c.tc : Thread Cert.SmallRefIdeal.nD Cert.SmallRefIdeal.τ).loc Cert.SmallRefIdeal.main_arg30) = m' ((c.tc : Thread Cert.SmallRefIdeal.nD Cert.SmallRefIdeal.τ).loc Cert.SmallRefIdeal.main_arg30)
          ∧ r.2.mem ((c.tc : Thread Cert.SmallRefIdeal.nD Cert.SmallRefIdeal.τ).loc Cert.SmallRefIdeal.main_arg31) = m' ((c.tc : Thread Cert.SmallRefIdeal.nD Cert.SmallRefIdeal.τ).loc Cert.SmallRefIdeal.main_arg31)
          ∧ r.2.mem ((c.tc : Thread Cert.SmallRefIdeal.nD Cert.SmallRefIdeal.τ).loc Cert.SmallRefIdeal.main_arg32) = m' ((c.tc : Thread Cert.SmallRefIdeal.nD Cert.SmallRefIdeal.τ).loc Cert.SmallRefIdeal.main_arg32)
          ∧ r.2.mem ((c.tc : Thread Cert.SmallRefIdeal.nD Cert.SmallRefIdeal.τ).loc Cert.SmallRefIdeal.main_arg33) = m' ((c.tc : Thread Cert.SmallRefIdeal.nD Cert.SmallRefIdeal.τ).loc Cert.SmallRefIdeal.main_arg33)
          ∧ r.2.mem ((c.tc : Thread Cert.SmallRefIdeal.nD Cert.SmallRefIdeal.τ).loc Cert.SmallRefIdeal.main_arg34) = m' ((c.tc : Thread Cert.SmallRefIdeal.nD Cert.SmallRefIdeal.τ).loc Cert.SmallRefIdeal.main_arg34)
          ∧ r.2.mem ((c.tc : Thread Cert.SmallRefIdeal.nD Cert.SmallRefIdeal.τ).loc Cert.SmallRefIdeal.main_arg35) = m' ((c.tc : Thread Cert.SmallRefIdeal.nD Cert.SmallRefIdeal.τ).loc Cert.SmallRefIdeal.main_arg35)
          ∧ r.2.mem ((c.tc : Thread Cert.SmallRefIdeal.nD Cert.SmallRefIdeal.τ).loc Cert.SmallRefIdeal.main_arg36) = m' ((c.tc : Thread Cert.SmallRefIdeal.nD Cert.SmallRefIdeal.τ).loc Cert.SmallRefIdeal.main_arg36)
          ∧ r.2.mem ((c.tc : Thread Cert.SmallRefIdeal.nD Cert.SmallRefIdeal.τ).loc Cert.SmallRefIdeal.main_arg37) = m' ((c.tc : Thread Cert.SmallRefIdeal.nD Cert.SmallRefIdeal.τ).loc Cert.SmallRefIdeal.main_arg37)
          ∧ r.2.mem ((c.tc : Thread Cert.SmallRefIdeal.nD Cert.SmallRefIdeal.τ).loc Cert.SmallRefIdeal.main_arg38) = m' ((c.tc : Thread Cert.SmallRefIdeal.nD Cert.SmallRefIdeal.τ).loc Cert.SmallRefIdeal.main_arg38)
          ∧ r.2.mem ((c.tc : Thread Cert.SmallRefIdeal.nD Cert.SmallRefIdeal.τ).loc Cert.SmallRefIdeal.main_arg39) = m' ((c.tc : Thread Cert.SmallRefIdeal.nD Cert.SmallRefIdeal.τ).loc Cert.SmallRefIdeal.main_arg39)
          ∧ r.2.mem ((c.tc : Thread Cert.SmallRefIdeal.nD Cert.SmallRefIdeal.τ).loc Cert.SmallRefIdeal.main_arg40) = m' ((c.tc : Thread Cert.SmallRefIdeal.nD Cert.SmallRefIdeal.τ).loc Cert.SmallRefIdeal.main_arg40)
          ∧ r.2.mem ((c.tc : Thread Cert.SmallRefIdeal.nD Cert.SmallRefIdeal.τ).loc Cert.SmallRefIdeal.main_arg41) = m' ((c.tc : Thread Cert.SmallRefIdeal.nD Cert.SmallRefIdeal.τ).loc Cert.SmallRefIdeal.main_arg41)
          ∧ r.2.mem ((c.tc : Thread Cert.SmallRefIdeal.nD Cert.SmallRefIdeal.τ).loc Cert.SmallRefIdeal.main_arg42) = m' ((c.tc : Thread Cert.SmallRefIdeal.nD Cert.SmallRefIdeal.τ).loc Cert.SmallRefIdeal.main_arg42)
          ∧ r.2.mem ((c.tc : Thread Cert.SmallRefIdeal.nD Cert.SmallRefIdeal.τ).loc Cert.SmallRefIdeal.main_arg43) = m' ((c.tc : Thread Cert.SmallRefIdeal.nD Cert.SmallRefIdeal.τ).loc Cert.SmallRefIdeal.main_arg43)
          ∧ r.2.mem ((c.tc : Thread Cert.SmallRefIdeal.nD Cert.SmallRefIdeal.τ).loc Cert.SmallRefIdeal.main_arg44) = m' ((c.tc : Thread Cert.SmallRefIdeal.nD Cert.SmallRefIdeal.τ).loc Cert.SmallRefIdeal.main_arg44)
          ∧ r.2.mem ((c.tc : Thread Cert.SmallRefIdeal.nD Cert.SmallRefIdeal.τ).loc Cert.SmallRefIdeal.main_arg45) = m' ((c.tc : Thread Cert.SmallRefIdeal.nD Cert.SmallRefIdeal.τ).loc Cert.SmallRefIdeal.main_arg45)
          ∧ r.2.mem ((c.tc : Thread Cert.SmallRefIdeal.nD Cert.SmallRefIdeal.τ).loc Cert.SmallRefIdeal.main_arg46) = m' ((c.tc : Thread Cert.SmallRefIdeal.nD Cert.SmallRefIdeal.τ).loc Cert.SmallRefIdeal.main_arg46)
          ∧ r.2.mem ((c.tc : Thread Cert.SmallRefIdeal.nD Cert.SmallRefIdeal.τ).loc Cert.SmallRefIdeal.main_arg47) = m' ((c.tc : Thread Cert.SmallRefIdeal.nD Cert.SmallRefIdeal.τ).loc Cert.SmallRefIdeal.main_arg47)
          ∧ r.2.mem ((c.tc : Thread Cert.SmallRefIdeal.nD Cert.SmallRefIdeal.τ).loc Cert.SmallRefIdeal.main_arg48) = m' ((c.tc : Thread Cert.SmallRefIdeal.nD Cert.SmallRefIdeal.τ).loc Cert.SmallRefIdeal.main_arg48)
          ∧ r.2.mem ((c.tc : Thread Cert.SmallRefIdeal.nD Cert.SmallRefIdeal.τ).loc Cert.SmallRefIdeal.main_arg49) = m' ((c.tc : Thread Cert.SmallRefIdeal.nD Cert.SmallRefIdeal.τ).loc Cert.SmallRefIdeal.main_arg49)
          ∧ r.2.mem ((c.tc : Thread Cert.SmallRefIdeal.nD Cert.SmallRefIdeal.τ).loc Cert.SmallRefIdeal.main_arg50) = m' ((c.tc : Thread Cert.SmallRefIdeal.nD Cert.SmallRefIdeal.τ).loc Cert.SmallRefIdeal.main_arg50)
          ∧ r.2.mem ((c.tc : Thread Cert.SmallRefIdeal.nD Cert.SmallRefIdeal.τ).loc Cert.SmallRefIdeal.main_arg51) = m' ((c.tc : Thread Cert.SmallRefIdeal.nD Cert.SmallRefIdeal.τ).loc Cert.SmallRefIdeal.main_arg51))

def preserves_Sum_SumIdeal : Prop :=
  True

def algebraic_SumIdeal_SumRefIdeal [hSumIdeal : Cert.SumIdeal.Facts] [hSumRefIdeal : Cert.SumRefIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumIdeal m →
    (∀ c : Dev Cert.SumIdeal.nD,
      m' ((c.tc : Thread Cert.SumRefIdeal.nD Cert.SumRefIdeal.τ).loc Cert.SumRefIdeal.main_arg0) = m ((c.tc : Thread Cert.SumIdeal.nD Cert.SumIdeal.τ).loc Cert.SumIdeal.main_arg0)
      ∧ m' ((c.tc : Thread Cert.SumRefIdeal.nD Cert.SumRefIdeal.τ).loc Cert.SumRefIdeal.main_arg1) = m ((c.tc : Thread Cert.SumIdeal.nD Cert.SumIdeal.τ).loc Cert.SumIdeal.main_arg1)
      ∧ m' ((c.tc : Thread Cert.SumRefIdeal.nD Cert.SumRefIdeal.τ).loc Cert.SumRefIdeal.main_arg2) = m ((c.tc : Thread Cert.SumIdeal.nD Cert.SumIdeal.τ).loc Cert.SumIdeal.main_arg2)
      ∧ m' ((c.tc : Thread Cert.SumRefIdeal.nD Cert.SumRefIdeal.τ).loc Cert.SumRefIdeal.main_arg3) = m ((c.tc : Thread Cert.SumIdeal.nD Cert.SumIdeal.τ).loc Cert.SumIdeal.main_arg3)
      ∧ m' ((c.tc : Thread Cert.SumRefIdeal.nD Cert.SumRefIdeal.τ).loc Cert.SumRefIdeal.main_arg4) = m ((c.tc : Thread Cert.SumIdeal.nD Cert.SumIdeal.τ).loc Cert.SumIdeal.main_arg4)
      ∧ m' ((c.tc : Thread Cert.SumRefIdeal.nD Cert.SumRefIdeal.τ).loc Cert.SumRefIdeal.main_arg5) = m ((c.tc : Thread Cert.SumIdeal.nD Cert.SumIdeal.τ).loc Cert.SumIdeal.main_arg5)
      ∧ m' ((c.tc : Thread Cert.SumRefIdeal.nD Cert.SumRefIdeal.τ).loc Cert.SumRefIdeal.main_arg6) = m ((c.tc : Thread Cert.SumIdeal.nD Cert.SumIdeal.τ).loc Cert.SumIdeal.main_arg6)
      ∧ m' ((c.tc : Thread Cert.SumRefIdeal.nD Cert.SumRefIdeal.τ).loc Cert.SumRefIdeal.main_arg7) = m ((c.tc : Thread Cert.SumIdeal.nD Cert.SumIdeal.τ).loc Cert.SumIdeal.main_arg7)
      ∧ m' ((c.tc : Thread Cert.SumRefIdeal.nD Cert.SumRefIdeal.τ).loc Cert.SumRefIdeal.main_arg8) = m ((c.tc : Thread Cert.SumIdeal.nD Cert.SumIdeal.τ).loc Cert.SumIdeal.main_arg8)
      ∧ m' ((c.tc : Thread Cert.SumRefIdeal.nD Cert.SumRefIdeal.τ).loc Cert.SumRefIdeal.main_arg9) = m ((c.tc : Thread Cert.SumIdeal.nD Cert.SumIdeal.τ).loc Cert.SumIdeal.main_arg9)
      ∧ m' ((c.tc : Thread Cert.SumRefIdeal.nD Cert.SumRefIdeal.τ).loc Cert.SumRefIdeal.main_arg10) = m ((c.tc : Thread Cert.SumIdeal.nD Cert.SumIdeal.τ).loc Cert.SumIdeal.main_arg10)
      ∧ m' ((c.tc : Thread Cert.SumRefIdeal.nD Cert.SumRefIdeal.τ).loc Cert.SumRefIdeal.main_arg11) = m ((c.tc : Thread Cert.SumIdeal.nD Cert.SumIdeal.τ).loc Cert.SumIdeal.main_arg11)
      ∧ m' ((c.tc : Thread Cert.SumRefIdeal.nD Cert.SumRefIdeal.τ).loc Cert.SumRefIdeal.main_arg12) = m ((c.tc : Thread Cert.SumIdeal.nD Cert.SumIdeal.τ).loc Cert.SumIdeal.main_arg12)
      ∧ m' ((c.tc : Thread Cert.SumRefIdeal.nD Cert.SumRefIdeal.τ).loc Cert.SumRefIdeal.main_arg13) = m ((c.tc : Thread Cert.SumIdeal.nD Cert.SumIdeal.τ).loc Cert.SumIdeal.main_arg13)
      ∧ m' ((c.tc : Thread Cert.SumRefIdeal.nD Cert.SumRefIdeal.τ).loc Cert.SumRefIdeal.main_arg14) = m ((c.tc : Thread Cert.SumIdeal.nD Cert.SumIdeal.τ).loc Cert.SumIdeal.main_arg14)) →
    ∃ (v0 : (c : Dev Cert.SumIdeal.nD) → Buf (Elt Ideal) ((c.tc : Thread Cert.SumIdeal.nD Cert.SumIdeal.τ).loc Cert.SumIdeal.main_v87)) (v1 : (c : Dev Cert.SumIdeal.nD) → Buf (Elt Ideal) ((c.tc : Thread Cert.SumIdeal.nD Cert.SumIdeal.τ).loc Cert.SumIdeal.main_v90)) (v2 : (c : Dev Cert.SumIdeal.nD) → Buf (Elt Ideal) ((c.tc : Thread Cert.SumIdeal.nD Cert.SumIdeal.τ).loc Cert.SumIdeal.main_v49)) (v3 : (c : Dev Cert.SumIdeal.nD) → Buf (Elt Ideal) ((c.tc : Thread Cert.SumIdeal.nD Cert.SumIdeal.τ).loc Cert.SumIdeal.main_v53)) (v4 : (c : Dev Cert.SumIdeal.nD) → Buf (Elt Ideal) ((c.tc : Thread Cert.SumIdeal.nD Cert.SumIdeal.τ).loc Cert.SumIdeal.main_v93)) (v5 : (c : Dev Cert.SumIdeal.nD) → Buf (Elt Ideal) ((c.tc : Thread Cert.SumIdeal.nD Cert.SumIdeal.τ).loc Cert.SumIdeal.main_v96)) (v6 : (c : Dev Cert.SumIdeal.nD) → Buf (Elt Ideal) ((c.tc : Thread Cert.SumIdeal.nD Cert.SumIdeal.τ).loc Cert.SumIdeal.main_v99)) (v7 : (c : Dev Cert.SumIdeal.nD) → Buf (Elt Ideal) ((c.tc : Thread Cert.SumIdeal.nD Cert.SumIdeal.τ).loc Cert.SumIdeal.main_v102)) (v8 : (c : Dev Cert.SumIdeal.nD) → Buf (Elt Ideal) ((c.tc : Thread Cert.SumIdeal.nD Cert.SumIdeal.τ).loc Cert.SumIdeal.main_v105)) (v9 : (c : Dev Cert.SumIdeal.nD) → Buf (Elt Ideal) ((c.tc : Thread Cert.SumIdeal.nD Cert.SumIdeal.τ).loc Cert.SumIdeal.main_v108)) (v10 : (c : Dev Cert.SumIdeal.nD) → Buf (Elt Ideal) ((c.tc : Thread Cert.SumIdeal.nD Cert.SumIdeal.τ).loc Cert.SumIdeal.main_v74)) (v11 : (c : Dev Cert.SumIdeal.nD) → Buf (Elt Ideal) ((c.tc : Thread Cert.SumIdeal.nD Cert.SumIdeal.τ).loc Cert.SumIdeal.main_v77)) (v12 : (c : Dev Cert.SumIdeal.nD) → Buf (Elt Ideal) ((c.tc : Thread Cert.SumIdeal.nD Cert.SumIdeal.τ).loc Cert.SumIdeal.main_v80)) (v13 : (c : Dev Cert.SumIdeal.nD) → Buf (Elt Ideal) ((c.tc : Thread Cert.SumIdeal.nD Cert.SumIdeal.τ).loc Cert.SumIdeal.main_v83)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v87) = v0 c
          ∧ r.2.mem ((c.tc : Thread Cert.SumIdeal.nD Cert.SumIdeal.τ).loc Cert.SumIdeal.main_v90) = v1 c
          ∧ r.2.mem ((c.tc : Thread Cert.SumIdeal.nD Cert.SumIdeal.τ).loc Cert.SumIdeal.main_v49) = v2 c
          ∧ r.2.mem ((c.tc : Thread Cert.SumIdeal.nD Cert.SumIdeal.τ).loc Cert.SumIdeal.main_v53) = v3 c
          ∧ r.2.mem ((c.tc : Thread Cert.SumIdeal.nD Cert.SumIdeal.τ).loc Cert.SumIdeal.main_v93) = v4 c
          ∧ r.2.mem ((c.tc : Thread Cert.SumIdeal.nD Cert.SumIdeal.τ).loc Cert.SumIdeal.main_v96) = v5 c
          ∧ r.2.mem ((c.tc : Thread Cert.SumIdeal.nD Cert.SumIdeal.τ).loc Cert.SumIdeal.main_v99) = v6 c
          ∧ r.2.mem ((c.tc : Thread Cert.SumIdeal.nD Cert.SumIdeal.τ).loc Cert.SumIdeal.main_v102) = v7 c
          ∧ r.2.mem ((c.tc : Thread Cert.SumIdeal.nD Cert.SumIdeal.τ).loc Cert.SumIdeal.main_v105) = v8 c
          ∧ r.2.mem ((c.tc : Thread Cert.SumIdeal.nD Cert.SumIdeal.τ).loc Cert.SumIdeal.main_v108) = v9 c
          ∧ r.2.mem ((c.tc : Thread Cert.SumIdeal.nD Cert.SumIdeal.τ).loc Cert.SumIdeal.main_v74) = v10 c
          ∧ r.2.mem ((c.tc : Thread Cert.SumIdeal.nD Cert.SumIdeal.τ).loc Cert.SumIdeal.main_v77) = v11 c
          ∧ r.2.mem ((c.tc : Thread Cert.SumIdeal.nD Cert.SumIdeal.τ).loc Cert.SumIdeal.main_v80) = v12 c
          ∧ r.2.mem ((c.tc : Thread Cert.SumIdeal.nD Cert.SumIdeal.τ).loc Cert.SumIdeal.main_v83) = v13 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0)
          ∧ r.2.mem ((c.tc : Thread Cert.SumIdeal.nD Cert.SumIdeal.τ).loc Cert.SumIdeal.main_arg1) = m ((c.tc : Thread Cert.SumIdeal.nD Cert.SumIdeal.τ).loc Cert.SumIdeal.main_arg1)
          ∧ r.2.mem ((c.tc : Thread Cert.SumIdeal.nD Cert.SumIdeal.τ).loc Cert.SumIdeal.main_arg2) = m ((c.tc : Thread Cert.SumIdeal.nD Cert.SumIdeal.τ).loc Cert.SumIdeal.main_arg2)
          ∧ r.2.mem ((c.tc : Thread Cert.SumIdeal.nD Cert.SumIdeal.τ).loc Cert.SumIdeal.main_arg3) = m ((c.tc : Thread Cert.SumIdeal.nD Cert.SumIdeal.τ).loc Cert.SumIdeal.main_arg3)
          ∧ r.2.mem ((c.tc : Thread Cert.SumIdeal.nD Cert.SumIdeal.τ).loc Cert.SumIdeal.main_arg4) = m ((c.tc : Thread Cert.SumIdeal.nD Cert.SumIdeal.τ).loc Cert.SumIdeal.main_arg4)
          ∧ r.2.mem ((c.tc : Thread Cert.SumIdeal.nD Cert.SumIdeal.τ).loc Cert.SumIdeal.main_arg5) = m ((c.tc : Thread Cert.SumIdeal.nD Cert.SumIdeal.τ).loc Cert.SumIdeal.main_arg5)
          ∧ r.2.mem ((c.tc : Thread Cert.SumIdeal.nD Cert.SumIdeal.τ).loc Cert.SumIdeal.main_arg6) = m ((c.tc : Thread Cert.SumIdeal.nD Cert.SumIdeal.τ).loc Cert.SumIdeal.main_arg6)
          ∧ r.2.mem ((c.tc : Thread Cert.SumIdeal.nD Cert.SumIdeal.τ).loc Cert.SumIdeal.main_arg7) = m ((c.tc : Thread Cert.SumIdeal.nD Cert.SumIdeal.τ).loc Cert.SumIdeal.main_arg7)
          ∧ r.2.mem ((c.tc : Thread Cert.SumIdeal.nD Cert.SumIdeal.τ).loc Cert.SumIdeal.main_arg8) = m ((c.tc : Thread Cert.SumIdeal.nD Cert.SumIdeal.τ).loc Cert.SumIdeal.main_arg8)
          ∧ r.2.mem ((c.tc : Thread Cert.SumIdeal.nD Cert.SumIdeal.τ).loc Cert.SumIdeal.main_arg9) = m ((c.tc : Thread Cert.SumIdeal.nD Cert.SumIdeal.τ).loc Cert.SumIdeal.main_arg9)
          ∧ r.2.mem ((c.tc : Thread Cert.SumIdeal.nD Cert.SumIdeal.τ).loc Cert.SumIdeal.main_arg10) = m ((c.tc : Thread Cert.SumIdeal.nD Cert.SumIdeal.τ).loc Cert.SumIdeal.main_arg10)
          ∧ r.2.mem ((c.tc : Thread Cert.SumIdeal.nD Cert.SumIdeal.τ).loc Cert.SumIdeal.main_arg11) = m ((c.tc : Thread Cert.SumIdeal.nD Cert.SumIdeal.τ).loc Cert.SumIdeal.main_arg11)
          ∧ r.2.mem ((c.tc : Thread Cert.SumIdeal.nD Cert.SumIdeal.τ).loc Cert.SumIdeal.main_arg12) = m ((c.tc : Thread Cert.SumIdeal.nD Cert.SumIdeal.τ).loc Cert.SumIdeal.main_arg12)
          ∧ r.2.mem ((c.tc : Thread Cert.SumIdeal.nD Cert.SumIdeal.τ).loc Cert.SumIdeal.main_arg13) = m ((c.tc : Thread Cert.SumIdeal.nD Cert.SumIdeal.τ).loc Cert.SumIdeal.main_arg13)
          ∧ r.2.mem ((c.tc : Thread Cert.SumIdeal.nD Cert.SumIdeal.τ).loc Cert.SumIdeal.main_arg14) = m ((c.tc : Thread Cert.SumIdeal.nD Cert.SumIdeal.τ).loc Cert.SumIdeal.main_arg14))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v0) = v0 c
          ∧ r.2.mem ((c.tc : Thread Cert.SumRefIdeal.nD Cert.SumRefIdeal.τ).loc Cert.SumRefIdeal.main_v7) = v1 c
          ∧ r.2.mem ((c.tc : Thread Cert.SumRefIdeal.nD Cert.SumRefIdeal.τ).loc Cert.SumRefIdeal.main_v8) = v2 c
          ∧ r.2.mem ((c.tc : Thread Cert.SumRefIdeal.nD Cert.SumRefIdeal.τ).loc Cert.SumRefIdeal.main_v9) = v3 c
          ∧ r.2.mem ((c.tc : Thread Cert.SumRefIdeal.nD Cert.SumRefIdeal.τ).loc Cert.SumRefIdeal.main_v16) = v4 c
          ∧ r.2.mem ((c.tc : Thread Cert.SumRefIdeal.nD Cert.SumRefIdeal.τ).loc Cert.SumRefIdeal.main_v23) = v5 c
          ∧ r.2.mem ((c.tc : Thread Cert.SumRefIdeal.nD Cert.SumRefIdeal.τ).loc Cert.SumRefIdeal.main_v30) = v6 c
          ∧ r.2.mem ((c.tc : Thread Cert.SumRefIdeal.nD Cert.SumRefIdeal.τ).loc Cert.SumRefIdeal.main_v37) = v7 c
          ∧ r.2.mem ((c.tc : Thread Cert.SumRefIdeal.nD Cert.SumRefIdeal.τ).loc Cert.SumRefIdeal.main_v44) = v8 c
          ∧ r.2.mem ((c.tc : Thread Cert.SumRefIdeal.nD Cert.SumRefIdeal.τ).loc Cert.SumRefIdeal.main_v51) = v9 c
          ∧ r.2.mem ((c.tc : Thread Cert.SumRefIdeal.nD Cert.SumRefIdeal.τ).loc Cert.SumRefIdeal.main_v52) = v10 c
          ∧ r.2.mem ((c.tc : Thread Cert.SumRefIdeal.nD Cert.SumRefIdeal.τ).loc Cert.SumRefIdeal.main_v53) = v11 c
          ∧ r.2.mem ((c.tc : Thread Cert.SumRefIdeal.nD Cert.SumRefIdeal.τ).loc Cert.SumRefIdeal.main_v54) = v12 c
          ∧ r.2.mem ((c.tc : Thread Cert.SumRefIdeal.nD Cert.SumRefIdeal.τ).loc Cert.SumRefIdeal.main_v55) = v13 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0)
          ∧ r.2.mem ((c.tc : Thread Cert.SumRefIdeal.nD Cert.SumRefIdeal.τ).loc Cert.SumRefIdeal.main_arg1) = m' ((c.tc : Thread Cert.SumRefIdeal.nD Cert.SumRefIdeal.τ).loc Cert.SumRefIdeal.main_arg1)
          ∧ r.2.mem ((c.tc : Thread Cert.SumRefIdeal.nD Cert.SumRefIdeal.τ).loc Cert.SumRefIdeal.main_arg2) = m' ((c.tc : Thread Cert.SumRefIdeal.nD Cert.SumRefIdeal.τ).loc Cert.SumRefIdeal.main_arg2)
          ∧ r.2.mem ((c.tc : Thread Cert.SumRefIdeal.nD Cert.SumRefIdeal.τ).loc Cert.SumRefIdeal.main_arg3) = m' ((c.tc : Thread Cert.SumRefIdeal.nD Cert.SumRefIdeal.τ).loc Cert.SumRefIdeal.main_arg3)
          ∧ r.2.mem ((c.tc : Thread Cert.SumRefIdeal.nD Cert.SumRefIdeal.τ).loc Cert.SumRefIdeal.main_arg4) = m' ((c.tc : Thread Cert.SumRefIdeal.nD Cert.SumRefIdeal.τ).loc Cert.SumRefIdeal.main_arg4)
          ∧ r.2.mem ((c.tc : Thread Cert.SumRefIdeal.nD Cert.SumRefIdeal.τ).loc Cert.SumRefIdeal.main_arg5) = m' ((c.tc : Thread Cert.SumRefIdeal.nD Cert.SumRefIdeal.τ).loc Cert.SumRefIdeal.main_arg5)
          ∧ r.2.mem ((c.tc : Thread Cert.SumRefIdeal.nD Cert.SumRefIdeal.τ).loc Cert.SumRefIdeal.main_arg6) = m' ((c.tc : Thread Cert.SumRefIdeal.nD Cert.SumRefIdeal.τ).loc Cert.SumRefIdeal.main_arg6)
          ∧ r.2.mem ((c.tc : Thread Cert.SumRefIdeal.nD Cert.SumRefIdeal.τ).loc Cert.SumRefIdeal.main_arg7) = m' ((c.tc : Thread Cert.SumRefIdeal.nD Cert.SumRefIdeal.τ).loc Cert.SumRefIdeal.main_arg7)
          ∧ r.2.mem ((c.tc : Thread Cert.SumRefIdeal.nD Cert.SumRefIdeal.τ).loc Cert.SumRefIdeal.main_arg8) = m' ((c.tc : Thread Cert.SumRefIdeal.nD Cert.SumRefIdeal.τ).loc Cert.SumRefIdeal.main_arg8)
          ∧ r.2.mem ((c.tc : Thread Cert.SumRefIdeal.nD Cert.SumRefIdeal.τ).loc Cert.SumRefIdeal.main_arg9) = m' ((c.tc : Thread Cert.SumRefIdeal.nD Cert.SumRefIdeal.τ).loc Cert.SumRefIdeal.main_arg9)
          ∧ r.2.mem ((c.tc : Thread Cert.SumRefIdeal.nD Cert.SumRefIdeal.τ).loc Cert.SumRefIdeal.main_arg10) = m' ((c.tc : Thread Cert.SumRefIdeal.nD Cert.SumRefIdeal.τ).loc Cert.SumRefIdeal.main_arg10)
          ∧ r.2.mem ((c.tc : Thread Cert.SumRefIdeal.nD Cert.SumRefIdeal.τ).loc Cert.SumRefIdeal.main_arg11) = m' ((c.tc : Thread Cert.SumRefIdeal.nD Cert.SumRefIdeal.τ).loc Cert.SumRefIdeal.main_arg11)
          ∧ r.2.mem ((c.tc : Thread Cert.SumRefIdeal.nD Cert.SumRefIdeal.τ).loc Cert.SumRefIdeal.main_arg12) = m' ((c.tc : Thread Cert.SumRefIdeal.nD Cert.SumRefIdeal.τ).loc Cert.SumRefIdeal.main_arg12)
          ∧ r.2.mem ((c.tc : Thread Cert.SumRefIdeal.nD Cert.SumRefIdeal.τ).loc Cert.SumRefIdeal.main_arg13) = m' ((c.tc : Thread Cert.SumRefIdeal.nD Cert.SumRefIdeal.τ).loc Cert.SumRefIdeal.main_arg13)
          ∧ r.2.mem ((c.tc : Thread Cert.SumRefIdeal.nD Cert.SumRefIdeal.τ).loc Cert.SumRefIdeal.main_arg14) = m' ((c.tc : Thread Cert.SumRefIdeal.nD Cert.SumRefIdeal.τ).loc Cert.SumRefIdeal.main_arg14))

def Claim : Prop :=
  ∃ (hMlp : Cert.Mlp.Facts) (hMlpIdeal : Cert.MlpIdeal.Facts) (hMlpRefIdeal : Cert.MlpRefIdeal.Facts) (hSc : Cert.Sc.Facts) (hScIdeal : Cert.ScIdeal.Facts) (hScRefIdeal : Cert.ScRefIdeal.Facts) (hSc3 : Cert.Sc3.Facts) (hSc3Ideal : Cert.Sc3Ideal.Facts) (hSc3RefIdeal : Cert.Sc3RefIdeal.Facts) (hAdam : Cert.Adam.Facts) (hAdamIdeal : Cert.AdamIdeal.Facts) (hAdamRefIdeal : Cert.AdamRefIdeal.Facts) (hAdam1 : Cert.Adam1.Facts) (hAdam1Ideal : Cert.Adam1Ideal.Facts) (hAdam1RefIdeal : Cert.Adam1RefIdeal.Facts) (hSmall : Cert.Small.Facts) (hSmallIdeal : Cert.SmallIdeal.Facts) (hSmallRefIdeal : Cert.SmallRefIdeal.Facts) (hSum : Cert.Sum.Facts) (hSumIdeal : Cert.SumIdeal.Facts) (hSumRefIdeal : Cert.SumRefIdeal.Facts),
    quiescent_Mlp (hMlp := hMlp)
    ∧ quiescent_MlpIdeal (hMlpIdeal := hMlpIdeal)
    ∧ quiescent_MlpRefIdeal (hMlpRefIdeal := hMlpRefIdeal)
    ∧ quiescent_Sc (hSc := hSc)
    ∧ quiescent_ScIdeal (hScIdeal := hScIdeal)
    ∧ quiescent_ScRefIdeal (hScRefIdeal := hScRefIdeal)
    ∧ quiescent_Sc3 (hSc3 := hSc3)
    ∧ quiescent_Sc3Ideal (hSc3Ideal := hSc3Ideal)
    ∧ quiescent_Sc3RefIdeal (hSc3RefIdeal := hSc3RefIdeal)
    ∧ quiescent_Adam (hAdam := hAdam)
    ∧ quiescent_AdamIdeal (hAdamIdeal := hAdamIdeal)
    ∧ quiescent_AdamRefIdeal (hAdamRefIdeal := hAdamRefIdeal)
    ∧ quiescent_Adam1 (hAdam1 := hAdam1)
    ∧ quiescent_Adam1Ideal (hAdam1Ideal := hAdam1Ideal)
    ∧ quiescent_Adam1RefIdeal (hAdam1RefIdeal := hAdam1RefIdeal)
    ∧ quiescent_Small (hSmall := hSmall)
    ∧ quiescent_SmallIdeal (hSmallIdeal := hSmallIdeal)
    ∧ quiescent_SmallRefIdeal (hSmallRefIdeal := hSmallRefIdeal)
    ∧ quiescent_Sum (hSum := hSum)
    ∧ quiescent_SumIdeal (hSumIdeal := hSumIdeal)
    ∧ quiescent_SumRefIdeal (hSumRefIdeal := hSumRefIdeal)
    ∧ preserves_Mlp_MlpIdeal
    ∧ algebraic_MlpIdeal_MlpRefIdeal (hMlpIdeal := hMlpIdeal) (hMlpRefIdeal := hMlpRefIdeal)
    ∧ preserves_Sc_ScIdeal
    ∧ algebraic_ScIdeal_ScRefIdeal (hScIdeal := hScIdeal) (hScRefIdeal := hScRefIdeal)
    ∧ preserves_Sc3_Sc3Ideal
    ∧ algebraic_Sc3Ideal_Sc3RefIdeal (hSc3Ideal := hSc3Ideal) (hSc3RefIdeal := hSc3RefIdeal)
    ∧ preserves_Adam_AdamIdeal
    ∧ algebraic_AdamIdeal_AdamRefIdeal (hAdamIdeal := hAdamIdeal) (hAdamRefIdeal := hAdamRefIdeal)
    ∧ preserves_Adam1_Adam1Ideal
    ∧ algebraic_Adam1Ideal_Adam1RefIdeal (hAdam1Ideal := hAdam1Ideal) (hAdam1RefIdeal := hAdam1RefIdeal)
    ∧ preserves_Small_SmallIdeal
    ∧ algebraic_SmallIdeal_SmallRefIdeal (hSmallIdeal := hSmallIdeal) (hSmallRefIdeal := hSmallRefIdeal)
    ∧ preserves_Sum_SumIdeal
    ∧ algebraic_SumIdeal_SumRefIdeal (hSumIdeal := hSumIdeal) (hSumRefIdeal := hSumRefIdeal)
-- ==== Mlp.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S1024x1024 : Shape := ⟨2, ![1024, 1024]⟩
abbrev S4096x512 : Shape := ⟨2, ![4096, 512]⟩
abbrev S1024x512 : Shape := ⟨2, ![1024, 512]⟩
abbrev S8x1024x512 : Shape := ⟨3, ![8, 1024, 512]⟩
abbrev S2048x512 : Shape := ⟨2, ![2048, 512]⟩
abbrev S1x1024x512 : Shape := ⟨3, ![1, 1024, 512]⟩
abbrev S512x4096 : Shape := ⟨2, ![512, 4096]⟩

abbrev nBuf : Space → Nat
  | .hbm => 11
  | .vmem => 37
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x4096, .bf16⟩
  | .hbm, ⟨3, _⟩ => ⟨S4096x1024, .bf16⟩
  | .hbm, ⟨4, _⟩ => ⟨S2048x1024, .f32⟩
  | .hbm, ⟨5, _⟩ => ⟨S2048x4096, .bf16⟩
  | .hbm, ⟨6, _⟩ => ⟨S2048x1024, .f32⟩
  | .hbm, ⟨7, _⟩ => ⟨S4096x1024, .bf16⟩
  | .hbm, ⟨8, _⟩ => ⟨S2048x4096, .bf16⟩
  | .hbm, ⟨9, _⟩ => ⟨S8x1024x512, .bf16⟩
  | .hbm, ⟨10, _⟩ => ⟨S2048x1024, .f32⟩
  | .local _ .vmem, ⟨0, _⟩ => ⟨S2048x1024, .bf16⟩
  | .local _ .vmem, ⟨1, _⟩ => ⟨S1024x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S1024x4096, .bf16⟩
  | .local _ .vmem, ⟨6, _⟩ => ⟨S1024x4096, .bf16⟩
  | .local _ .vmem, ⟨7, _⟩ => ⟨S4096x512, .bf16⟩
  | .local _ .vmem, ⟨8, _⟩ => ⟨S4096x512, .bf16⟩
  | .local _ .vmem, ⟨9, _⟩ => ⟨S1024x512, .f32⟩
  | .local _ .vmem, ⟨10, _⟩ => ⟨S1024x512, .f32⟩
  | .local _ .vmem, ⟨11, _⟩ => ⟨S2048x1024, .bf16⟩
  | .local _ .vmem, ⟨12, _⟩ => ⟨S2048x1024, .bf16⟩
  | .local _ .vmem, ⟨13, _⟩ => ⟨S2048x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S2048x1024, .bf16⟩
  | .local _ .vmem, ⟨25, _⟩ => ⟨S2048x512, .bf16⟩
  | .local _ .vmem, ⟨26, _⟩ => ⟨S2048x512, .bf16⟩
  | .local _ .vmem, ⟨27, _⟩ => ⟨S1x1024x512, .bf16⟩
  | .local _ .vmem, ⟨28, _⟩ => ⟨S1x1024x512, .bf16⟩
  | .local _ .vmem, ⟨29, _⟩ => ⟨S1024x4096, .bf16⟩
  | .local _ .vmem, ⟨30, _⟩ => ⟨S1024x4096, .bf16⟩
  | .local _ .vmem, ⟨31, _⟩ => ⟨S512x4096, .bf16⟩
  | .local _ .vmem, ⟨32, _⟩ => ⟨S512x4096, .bf16⟩
  | .local _ .vmem, ⟨33, _⟩ => ⟨S1024x512, .f32⟩
  | .local _ .vmem, ⟨34, _⟩ => ⟨S1024x512, .f32⟩
  | .local _ .vmem, ⟨35, _⟩ => ⟨S1024x512, .f32⟩
  | .local _ .vmem, ⟨36, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg2_1 : Ref sig .tc := ⟨.vmem, 34, rfl⟩
abbrev cc5_stg3_0 : Ref sig .tc := ⟨.vmem, 35, rfl⟩
abbrev cc5_stg3_1 : Ref sig .tc := ⟨.vmem, 36, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc3_sem3_0 : DmaSem sig := 22
abbrev cc3_sem3_1 : DmaSem sig := 23
abbrev cc4_sem0_0 : DmaSem sig := 24
abbrev cc4_sem1_0 : DmaSem sig := 25
abbrev cc4_sem1_1 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem2_1 : DmaSem sig := 34
abbrev cc5_sem3_0 : DmaSem sig := 35
abbrev cc5_sem3_1 : DmaSem sig := 36

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1024x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![1, 8, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage4_0 : Fin 1 → Memref sig .tc .vmem S2048x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S2048x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1x1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S512x4096 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev stage5_3 : Fin 2 → Memref sig .tc .vmem S1024x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]
-- ==== MlpRefIdeal.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩
abbrev S1024x8x512 : Shape := ⟨3, ![1024, 8, 512]⟩
abbrev S8x1024x512 : Shape := ⟨3, ![8, 1024, 512]⟩

abbrev nBuf : Space → Nat
  | .hbm => 41
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x4096, .bf16⟩
  | .hbm, ⟨3, _⟩ => ⟨S4096x1024, .bf16⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x4096, .f32⟩
  | .hbm, ⟨8, _⟩ => ⟨S4096x1024, .f32⟩
  | .hbm, ⟨9, _⟩ => ⟨S2048x4096, .f32⟩
  | .hbm, ⟨10, _⟩ => ⟨S_, .f32⟩
  | .hbm, ⟨11, _⟩ => ⟨S2048x4096, .f32⟩
  | .hbm, ⟨12, _⟩ => ⟨S2048x4096, .f32⟩
  | .hbm, ⟨13, _⟩ => ⟨S_, .f32⟩
  | .hbm, ⟨14, _⟩ => ⟨S2048x4096, .f32⟩
  | .hbm, ⟨15, _⟩ => ⟨S2048x4096, .i1⟩
  | .hbm, ⟨16, _⟩ => ⟨S_, .f32⟩
  | .hbm, ⟨17, _⟩ => ⟨S2048x4096, .f32⟩
  | .hbm, ⟨18, _⟩ => ⟨S2048x4096, .f32⟩
  | .hbm, ⟨19, _⟩ => ⟨S_, .f32⟩
  | .hbm, ⟨20, _⟩ => ⟨S2048x4096, .f32⟩
  | .hbm, ⟨21, _⟩ => ⟨S2048x4096, .f32⟩
  | .hbm, ⟨22, _⟩ => ⟨S2048x1024, .f32⟩
  | .hbm, ⟨23, _⟩ => ⟨S1024x4096, .f32⟩
  | .hbm, ⟨24, _⟩ => ⟨S4096x1024, .f32⟩
  | .hbm, ⟨25, _⟩ => ⟨S2048x4096, .f32⟩
  | .hbm, ⟨26, _⟩ => ⟨S2048x4096, .f32⟩
  | .hbm, ⟨27, _⟩ => ⟨S_, .f32⟩
  | .hbm, ⟨28, _⟩ => ⟨S2048x4096, .f32⟩
  | .hbm, ⟨29, _⟩ => ⟨S2048x4096, .f32⟩
  | .hbm, ⟨30, _⟩ => ⟨S4096x1024, .f32⟩
  | .hbm, ⟨31, _⟩ => ⟨S1024x4096, .f32⟩
  | .hbm, ⟨32, _⟩ => ⟨S2048x1024, .f32⟩
  | .hbm, ⟨33, _⟩ => ⟨S1024x8x512, .f32⟩
  | .hbm, ⟨34, _⟩ => ⟨S8x1024x512, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S8x1024x512, .bf16⟩
  | .hbm, ⟨40, _⟩ => ⟨S4096x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Sc.lean ====
abbrev S2048x1024 : Shape := ⟨2, ![2048, 1024]⟩
abbrev S1024x3072 : Shape := ⟨2, ![1024, 3072]⟩
abbrev S3x1024 : Shape := ⟨2, ![3, 1024]⟩
abbrev S1024x1024 : Shape := ⟨2, ![1024, 1024]⟩
abbrev S2048x3072 : Shape := ⟨2, ![2048, 3072]⟩
abbrev S1024x512 : Shape := ⟨2, ![1024, 512]⟩
abbrev S2048x512 : Shape := ⟨2, ![2048, 512]⟩
abbrev S2048x128 : Shape := ⟨2, ![2048, 128]⟩
abbrev S3x128 : Shape := ⟨2, ![3, 128]⟩
abbrev S2080x128 : Shape := ⟨2, ![2080, 128]⟩
abbrev S32x128 : Shape := ⟨2, ![32, 128]⟩
abbrev S256x128 : Shape := ⟨2, ![256, 128]⟩
abbrev S1x128 : Shape := ⟨2, ![1, 128]⟩
abbrev S128 : Shape := ⟨1, ![128]⟩
abbrev S8x1024x384 : Shape := ⟨3, ![8, 1024, 384]⟩
abbrev S2048x384 : Shape := ⟨2, ![2048, 384]⟩
abbrev S1x1024x384 : Shape := ⟨3, ![1, 1024, 384]⟩
abbrev S1024x384 : Shape := ⟨2, ![1024, 384]⟩
abbrev S512x3072 : Shape := ⟨2, ![512, 3072]⟩

abbrev nBuf : Space → Nat
  | .hbm => 18
  | .vmem => 58
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x3072, .bf16⟩
  | .hbm, ⟨3, _⟩ => ⟨S3x1024, .f32⟩
  | .hbm, ⟨4, _⟩ => ⟨S1024x1024, .bf16⟩
  | .hbm, ⟨5, _⟩ => ⟨S2048x1024, .f32⟩
  | .hbm, ⟨6, _⟩ => ⟨S2048x3072, .f32⟩
  | .hbm, ⟨7, _⟩ => ⟨S2048x1024, .bf16⟩
  | .hbm, ⟨8, _⟩ => ⟨S2048x1024, .f32⟩
  | .hbm, ⟨9, _⟩ => ⟨S1024x1024, .bf16⟩
  | .hbm, ⟨10, _⟩ => ⟨S2048x1024, .f32⟩
  | .hbm, ⟨11, _⟩ => ⟨S2048x1024, .bf16⟩
  | .hbm, ⟨12, _⟩ => ⟨S2048x1024, .bf16⟩
  | .hbm, ⟨13, _⟩ => ⟨S2048x1024, .bf16⟩
  | .hbm, ⟨14, _⟩ => ⟨S3x1024, .f32⟩
  | .hbm, ⟨15, _⟩ => ⟨S2048x3072, .bf16⟩
  | .hbm, ⟨16, _⟩ => ⟨S8x1024x384, .bf16⟩
  | .hbm, ⟨17, _⟩ => ⟨S2048x1024, .f32⟩
  | .local _ .vmem, ⟨0, _⟩ => ⟨S2048x1024, .f32⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S3x128, .f32⟩
  | .local _ .vmem, ⟨12, _⟩ => ⟨S3x128, .f32⟩
  | .local _ .vmem, ⟨13, _⟩ => ⟨S2048x128, .bf16⟩
  | .local _ .vmem, ⟨14, _⟩ => ⟨S2048x128, .bf16⟩
  | .local _ .vmem, ⟨15, _⟩ => ⟨S2080x128, .f32⟩
  | .local _ .vmem, ⟨16, _⟩ => ⟨S2048x1024, .bf16⟩
  | .local _ .vmem, ⟨17, _⟩ => ⟨S1024x1024, .bf16⟩
  | .local _ .vmem, ⟨18, _⟩ => ⟨S2048x1024, .f32⟩
  | .local _ .vmem, ⟨19, _⟩ => ⟨S2048x1024, .bf16⟩
  | .local _ .vmem, ⟨20, _⟩ => ⟨S2048x1024, .bf16⟩
  | .local _ .vmem, ⟨21, _⟩ => ⟨S1024x1024, .bf16⟩
  | .local _ .vmem, ⟨22, _⟩ => ⟨S2048x1024, .bf16⟩
  | .local _ .vmem, ⟨23, _⟩ => ⟨S1024x1024, .bf16⟩
  | .local _ .vmem, ⟨24, _⟩ => ⟨S2048x1024, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S2048x128, .f32⟩
  | .local _ .vmem, ⟨31, _⟩ => ⟨S2048x128, .f32⟩
  | .local _ .vmem, ⟨32, _⟩ => ⟨S2048x128, .f32⟩
  | .local _ .vmem, ⟨33, _⟩ => ⟨S3x128, .f32⟩
  | .local _ .vmem, ⟨34, _⟩ => ⟨S3x128, .f32⟩
  | .local _ .vmem, ⟨35, _⟩ => ⟨S2048x128, .bf16⟩
  | .local _ .vmem, ⟨36, _⟩ => ⟨S2048x128, .bf16⟩
  | .local _ .vmem, ⟨37, _⟩ => ⟨S2048x128, .bf16⟩
  | .local _ .vmem, ⟨38, _⟩ => ⟨S2048x128, .bf16⟩
  | .local _ .vmem, ⟨39, _⟩ => ⟨S2048x128, .bf16⟩
  | .local _ .vmem, ⟨40, _⟩ => ⟨S2048x128, .bf16⟩
  | .local _ .vmem, ⟨41, _⟩ => ⟨S3x128, .f32⟩
  | .local _ .vmem, ⟨42, _⟩ => ⟨S3x128, .f32⟩
  | .local _ .vmem, ⟨43, _⟩ => ⟨S2080x128, .f32⟩
  | .local _ .vmem, ⟨44, _⟩ => ⟨S2080x128, .f32⟩
  | .local _ .vmem, ⟨45, _⟩ => ⟨S2048x1024, .f32⟩
  | .local _ .vmem, ⟨46, _⟩ => ⟨S2048x384, .bf16⟩
  | .local _ .vmem, ⟨47, _⟩ => ⟨S2048x384, .bf16⟩
  | .local _ .vmem, ⟨48, _⟩ => ⟨S1x1024x384, .bf16⟩
  | .local _ .vmem, ⟨49, _⟩ => ⟨S1x1024x384, .bf16⟩
  | .local _ .vmem, ⟨50, _⟩ => ⟨S1024x3072, .bf16⟩
  | .local _ .vmem, ⟨51, _⟩ => ⟨S1024x3072, .bf16⟩
  | .local _ .vmem, ⟨52, _⟩ => ⟨S512x3072, .bf16⟩
  | .local _ .vmem, ⟨53, _⟩ => ⟨S512x3072, .bf16⟩
  | .local _ .vmem, ⟨54, _⟩ => ⟨S1024x512, .f32⟩
  | .local _ .vmem, ⟨55, _⟩ => ⟨S1024x512, .f32⟩
  | .local _ .vmem, ⟨56, _⟩ => ⟨S1024x512, .f32⟩
  | .local _ .vmem, ⟨57, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc3_stg0_0 : Ref sig .tc := ⟨.vmem, 19, rfl⟩
abbrev cc3_stg1_0 : Ref sig .tc := ⟨.vmem, 20, rfl⟩
abbrev cc3_stg2_0 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg1_1 : Ref sig .tc := ⟨.vmem, 28, rfl⟩
abbrev cc5_stg2_0 : Ref sig .tc := ⟨.vmem, 29, rfl⟩
abbrev cc5_stg2_1 : Ref sig .tc := ⟨.vmem, 30, rfl⟩
abbrev cc5_stg3_0 : Ref sig .tc := ⟨.vmem, 31, rfl⟩
abbrev cc5_stg3_1 : Ref sig .tc := ⟨.vmem, 32, rfl⟩
abbrev cc5_stg4_0 : Ref sig .tc := ⟨.vmem, 33, rfl⟩
abbrev cc5_stg4_1 : Ref sig .tc := ⟨.vmem, 34, rfl⟩
abbrev cc5_stg5_0 : Ref sig .tc := ⟨.vmem, 35, rfl⟩
abbrev cc5_stg5_1 : Ref sig .tc := ⟨.vmem, 36, rfl⟩
abbrev cc5_stg6_0 : Ref sig .tc := ⟨.vmem, 37, rfl⟩
abbrev cc5_stg6_1 : Ref sig .tc := ⟨.vmem, 38, rfl⟩
abbrev cc5_stg7_0 : Ref sig .tc := ⟨.vmem, 39, rfl⟩
abbrev cc5_stg7_1 : Ref sig .tc := ⟨.vmem, 40, rfl⟩
abbrev cc5_stg8_0 : Ref sig .tc := ⟨.vmem, 41, rfl⟩
abbrev cc5_stg8_1 : Ref sig .tc := ⟨.vmem, 42, rfl⟩
abbrev cc5_scratch0 : Ref sig .tc := ⟨.vmem, 43, rfl⟩
abbrev cc5_scratch1 : Ref sig .tc := ⟨.vmem, 44, rfl⟩
abbrev cc6_stg0_0 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg2_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg1_1 : Ref sig .tc := ⟨.vmem, 53, rfl⟩
abbrev cc7_stg2_0 : Ref sig .tc := ⟨.vmem, 54, rfl⟩
abbrev cc7_stg2_1 : Ref sig .tc := ⟨.vmem, 55, rfl⟩
abbrev cc7_stg3_0 : Ref sig .tc := ⟨.vmem, 56, rfl⟩
abbrev cc7_stg3_1 : Ref sig .tc := ⟨.vmem, 57, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem1_0 : DmaSem sig := 16
abbrev cc2_sem2_0 : DmaSem sig := 17
abbrev cc3_sem0_0 : DmaSem sig := 18
abbrev cc3_sem1_0 : DmaSem sig := 19
abbrev cc3_sem2_0 : DmaSem sig := 20
abbrev cc4_sem0_0 : DmaSem sig := 21
abbrev cc4_sem1_0 : DmaSem sig := 22
abbrev cc4_sem2_0 : DmaSem sig := 23
abbrev cc5_sem0_0 : DmaSem sig := 24
abbrev cc5_sem0_1 : DmaSem sig := 25
abbrev cc5_sem1_0 : DmaSem sig := 26
abbrev cc5_sem1_1 : DmaSem sig := 27
abbrev cc5_sem2_0 : DmaSem sig := 28
abbrev cc5_sem2_1 : DmaSem sig := 29
abbrev cc5_sem3_0 : DmaSem sig := 30
abbrev cc5_sem3_1 : DmaSem sig := 31
abbrev cc5_sem4_0 : DmaSem sig := 32
abbrev cc5_sem4_1 : DmaSem sig := 33
abbrev cc5_sem5_0 : DmaSem sig := 34
abbrev cc5_sem5_1 : DmaSem sig := 35
abbrev cc5_sem6_0 : DmaSem sig := 36
abbrev cc5_sem6_1 : DmaSem sig := 37
abbrev cc5_sem7_0 : DmaSem sig := 38
abbrev cc5_sem7_1 : DmaSem sig := 39
abbrev cc5_sem8_0 : DmaSem sig := 40
abbrev cc5_sem8_1 : DmaSem sig := 41
abbrev cc6_sem0_0 : DmaSem sig := 42
abbrev cc6_sem1_0 : DmaSem sig := 43
abbrev cc6_sem1_1 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem2_1 : DmaSem sig := 52
abbrev cc7_sem3_0 : DmaSem sig := 53
abbrev cc7_sem3_1 : DmaSem sig := 54

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_1 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨3, ![1, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2048x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 1 → Memref sig .tc .vmem S2048x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, false]

abbrev grid3 : Pipeline.Grid := ⟨3, ![1, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S2048x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 1 → Memref sig .tc .vmem S1024x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true, false]

abbrev grid4 : Pipeline.Grid := ⟨3, ![1, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S2048x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 1 → Memref sig .tc .vmem S2048x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true, false]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc5_transform_2 (i : grid5.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc5_transform_3 (i : grid5.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 2 → Memref sig .tc .vmem S2048x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2048x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2048x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2048x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S3x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S2048x128 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S2048x128 .bf16 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S2048x128 .bf16 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S3x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨3, ![1, 8, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage6_0 : Fin 1 → Memref sig .tc .vmem S2048x1024 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false, true]

abbrev stage6_1 : Fin 2 → Memref sig .tc .vmem S2048x384 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1x1024x384 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![2, 2, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc7_transform_3 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x3072 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S512x3072 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev stage7_3 : Fin 2 → Memref sig .tc .vmem S1024x512 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true, false]
-- ==== ScIdeal.lean ====
abbrev S2048x1024 : Shape := ⟨2, ![2048, 1024]⟩
abbrev S1024x3072 : Shape := ⟨2, ![1024, 3072]⟩
abbrev S3x1024 : Shape := ⟨2, ![3, 1024]⟩
abbrev S1024x1024 : Shape := ⟨2, ![1024, 1024]⟩
abbrev S2048x3072 : Shape := ⟨2, ![2048, 3072]⟩
abbrev S1024x512 : Shape := ⟨2, ![1024, 512]⟩
abbrev S2048x512 : Shape := ⟨2, ![2048, 512]⟩
abbrev S2048x128 : Shape := ⟨2, ![2048, 128]⟩
abbrev S3x128 : Shape := ⟨2, ![3, 128]⟩
abbrev S2080x128 : Shape := ⟨2, ![2080, 128]⟩
abbrev S32x128 : Shape := ⟨2, ![32, 128]⟩
abbrev S256x128 : Shape := ⟨2, ![256, 128]⟩
abbrev S1x128 : Shape := ⟨2, ![1, 128]⟩
abbrev S128 : Shape := ⟨1, ![128]⟩
abbrev S8x1024x384 : Shape := ⟨3, ![8, 1024, 384]⟩
abbrev S2048x384 : Shape := ⟨2, ![2048, 384]⟩
abbrev S1x1024x384 : Shape := ⟨3, ![1, 1024, 384]⟩
abbrev S1024x384 : Shape := ⟨2, ![1024, 384]⟩
abbrev S512x3072 : Shape := ⟨2, ![512, 3072]⟩

abbrev nBuf : Space → Nat
  | .hbm => 18
  | .vmem => 58
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x3072, .bf16⟩
  | .hbm, ⟨3, _⟩ => ⟨S3x1024, .f32⟩
  | .hbm, ⟨4, _⟩ => ⟨S1024x1024, .bf16⟩
  | .hbm, ⟨5, _⟩ => ⟨S2048x1024, .f32⟩
  | .hbm, ⟨6, _⟩ => ⟨S2048x3072, .f32⟩
  | .hbm, ⟨7, _⟩ => ⟨S2048x1024, .bf16⟩
  | .hbm, ⟨8, _⟩ => ⟨S2048x1024, .f32⟩
  | .hbm, ⟨9, _⟩ => ⟨S1024x1024, .bf16⟩
  | .hbm, ⟨10, _⟩ => ⟨S2048x1024, .f32⟩
  | .hbm, ⟨11, _⟩ => ⟨S2048x1024, .bf16⟩
  | .hbm, ⟨12, _⟩ => ⟨S2048x1024, .bf16⟩
  | .hbm, ⟨13, _⟩ => ⟨S2048x1024, .bf16⟩
  | .hbm, ⟨14, _⟩ => ⟨S3x1024, .f32⟩
  | .hbm, ⟨15, _⟩ => ⟨S2048x3072, .bf16⟩
  | .hbm, ⟨16, _⟩ => ⟨S8x1024x384, .bf16⟩
  | .hbm, ⟨17, _⟩ => ⟨S2048x1024, .f32⟩
  | .local _ .vmem, ⟨0, _⟩ => ⟨S2048x1024, .f32⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S3x128, .f32⟩
  | .local _ .vmem, ⟨12, _⟩ => ⟨S3x128, .f32⟩
  | .local _ .vmem, ⟨13, _⟩ => ⟨S2048x128, .bf16⟩
  | .local _ .vmem, ⟨14, _⟩ => ⟨S2048x128, .bf16⟩
  | .local _ .vmem, ⟨15, _⟩ => ⟨S2080x128, .f32⟩
  | .local _ .vmem, ⟨16, _⟩ => ⟨S2048x1024, .bf16⟩
  | .local _ .vmem, ⟨17, _⟩ => ⟨S1024x1024, .bf16⟩
  | .local _ .vmem, ⟨18, _⟩ => ⟨S2048x1024, .f32⟩
  | .local _ .vmem, ⟨19, _⟩ => ⟨S2048x1024, .bf16⟩
  | .local _ .vmem, ⟨20, _⟩ => ⟨S2048x1024, .bf16⟩
  | .local _ .vmem, ⟨21, _⟩ => ⟨S1024x1024, .bf16⟩
  | .local _ .vmem, ⟨22, _⟩ => ⟨S2048x1024, .bf16⟩
  | .local _ .vmem, ⟨23, _⟩ => ⟨S1024x1024, .bf16⟩
  | .local _ .vmem, ⟨24, _⟩ => ⟨S2048x1024, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S2048x128, .f32⟩
  | .local _ .vmem, ⟨31, _⟩ => ⟨S2048x128, .f32⟩
  | .local _ .vmem, ⟨32, _⟩ => ⟨S2048x128, .f32⟩
  | .local _ .vmem, ⟨33, _⟩ => ⟨S3x128, .f32⟩
  | .local _ .vmem, ⟨34, _⟩ => ⟨S3x128, .f32⟩
  | .local _ .vmem, ⟨35, _⟩ => ⟨S2048x128, .bf16⟩
  | .local _ .vmem, ⟨36, _⟩ => ⟨S2048x128, .bf16⟩
  | .local _ .vmem, ⟨37, _⟩ => ⟨S2048x128, .bf16⟩
  | .local _ .vmem, ⟨38, _⟩ => ⟨S2048x128, .bf16⟩
  | .local _ .vmem, ⟨39, _⟩ => ⟨S2048x128, .bf16⟩
  | .local _ .vmem, ⟨40, _⟩ => ⟨S2048x128, .bf16⟩
  | .local _ .vmem, ⟨41, _⟩ => ⟨S3x128, .f32⟩
  | .local _ .vmem, ⟨42, _⟩ => ⟨S3x128, .f32⟩
  | .local _ .vmem, ⟨43, _⟩ => ⟨S2080x128, .f32⟩
  | .local _ .vmem, ⟨44, _⟩ => ⟨S2080x128, .f32⟩
  | .local _ .vmem, ⟨45, _⟩ => ⟨S2048x1024, .f32⟩
  | .local _ .vmem, ⟨46, _⟩ => ⟨S2048x384, .bf16⟩
  | .local _ .vmem, ⟨47, _⟩ => ⟨S2048x384, .bf16⟩
  | .local _ .vmem, ⟨48, _⟩ => ⟨S1x1024x384, .bf16⟩
  | .local _ .vmem, ⟨49, _⟩ => ⟨S1x1024x384, .bf16⟩
  | .local _ .vmem, ⟨50, _⟩ => ⟨S1024x3072, .bf16⟩
  | .local _ .vmem, ⟨51, _⟩ => ⟨S1024x3072, .bf16⟩
  | .local _ .vmem, ⟨52, _⟩ => ⟨S512x3072, .bf16⟩
  | .local _ .vmem, ⟨53, _⟩ => ⟨S512x3072, .bf16⟩
  | .local _ .vmem, ⟨54, _⟩ => ⟨S1024x512, .f32⟩
  | .local _ .vmem, ⟨55, _⟩ => ⟨S1024x512, .f32⟩
  | .local _ .vmem, ⟨56, _⟩ => ⟨S1024x512, .f32⟩
  | .local _ .vmem, ⟨57, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc3_stg0_0 : Ref sig .tc := ⟨.vmem, 19, rfl⟩
abbrev cc3_stg1_0 : Ref sig .tc := ⟨.vmem, 20, rfl⟩
abbrev cc3_stg2_0 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg1_1 : Ref sig .tc := ⟨.vmem, 28, rfl⟩
abbrev cc5_stg2_0 : Ref sig .tc := ⟨.vmem, 29, rfl⟩
abbrev cc5_stg2_1 : Ref sig .tc := ⟨.vmem, 30, rfl⟩
abbrev cc5_stg3_0 : Ref sig .tc := ⟨.vmem, 31, rfl⟩
abbrev cc5_stg3_1 : Ref sig .tc := ⟨.vmem, 32, rfl⟩
abbrev cc5_stg4_0 : Ref sig .tc := ⟨.vmem, 33, rfl⟩
abbrev cc5_stg4_1 : Ref sig .tc := ⟨.vmem, 34, rfl⟩
abbrev cc5_stg5_0 : Ref sig .tc := ⟨.vmem, 35, rfl⟩
abbrev cc5_stg5_1 : Ref sig .tc := ⟨.vmem, 36, rfl⟩
abbrev cc5_stg6_0 : Ref sig .tc := ⟨.vmem, 37, rfl⟩
abbrev cc5_stg6_1 : Ref sig .tc := ⟨.vmem, 38, rfl⟩
abbrev cc5_stg7_0 : Ref sig .tc := ⟨.vmem, 39, rfl⟩
abbrev cc5_stg7_1 : Ref sig .tc := ⟨.vmem, 40, rfl⟩
abbrev cc5_stg8_0 : Ref sig .tc := ⟨.vmem, 41, rfl⟩
abbrev cc5_stg8_1 : Ref sig .tc := ⟨.vmem, 42, rfl⟩
abbrev cc5_scratch0 : Ref sig .tc := ⟨.vmem, 43, rfl⟩
abbrev cc5_scratch1 : Ref sig .tc := ⟨.vmem, 44, rfl⟩
abbrev cc6_stg0_0 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg2_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg1_1 : Ref sig .tc := ⟨.vmem, 53, rfl⟩
abbrev cc7_stg2_0 : Ref sig .tc := ⟨.vmem, 54, rfl⟩
abbrev cc7_stg2_1 : Ref sig .tc := ⟨.vmem, 55, rfl⟩
abbrev cc7_stg3_0 : Ref sig .tc := ⟨.vmem, 56, rfl⟩
abbrev cc7_stg3_1 : Ref sig .tc := ⟨.vmem, 57, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem1_0 : DmaSem sig := 16
abbrev cc2_sem2_0 : DmaSem sig := 17
abbrev cc3_sem0_0 : DmaSem sig := 18
abbrev cc3_sem1_0 : DmaSem sig := 19
abbrev cc3_sem2_0 : DmaSem sig := 20
abbrev cc4_sem0_0 : DmaSem sig := 21
abbrev cc4_sem1_0 : DmaSem sig := 22
abbrev cc4_sem2_0 : DmaSem sig := 23
abbrev cc5_sem0_0 : DmaSem sig := 24
abbrev cc5_sem0_1 : DmaSem sig := 25
abbrev cc5_sem1_0 : DmaSem sig := 26
abbrev cc5_sem1_1 : DmaSem sig := 27
abbrev cc5_sem2_0 : DmaSem sig := 28
abbrev cc5_sem2_1 : DmaSem sig := 29
abbrev cc5_sem3_0 : DmaSem sig := 30
abbrev cc5_sem3_1 : DmaSem sig := 31
abbrev cc5_sem4_0 : DmaSem sig := 32
abbrev cc5_sem4_1 : DmaSem sig := 33
abbrev cc5_sem5_0 : DmaSem sig := 34
abbrev cc5_sem5_1 : DmaSem sig := 35
abbrev cc5_sem6_0 : DmaSem sig := 36
abbrev cc5_sem6_1 : DmaSem sig := 37
abbrev cc5_sem7_0 : DmaSem sig := 38
abbrev cc5_sem7_1 : DmaSem sig := 39
abbrev cc5_sem8_0 : DmaSem sig := 40
abbrev cc5_sem8_1 : DmaSem sig := 41
abbrev cc6_sem0_0 : DmaSem sig := 42
abbrev cc6_sem1_0 : DmaSem sig := 43
abbrev cc6_sem1_1 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem2_1 : DmaSem sig := 52
abbrev cc7_sem3_0 : DmaSem sig := 53
abbrev cc7_sem3_1 : DmaSem sig := 54

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_1 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨3, ![1, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2048x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 1 → Memref sig .tc .vmem S2048x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, false]

abbrev grid3 : Pipeline.Grid := ⟨3, ![1, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S2048x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 1 → Memref sig .tc .vmem S1024x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true, false]

abbrev grid4 : Pipeline.Grid := ⟨3, ![1, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S2048x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 1 → Memref sig .tc .vmem S2048x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true, false]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc5_transform_2 (i : grid5.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc5_transform_3 (i : grid5.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 2 → Memref sig .tc .vmem S2048x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2048x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2048x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2048x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S3x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S2048x128 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S2048x128 .bf16 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S2048x128 .bf16 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S3x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨3, ![1, 8, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage6_0 : Fin 1 → Memref sig .tc .vmem S2048x1024 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false, true]

abbrev stage6_1 : Fin 2 → Memref sig .tc .vmem S2048x384 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1x1024x384 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![2, 2, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc7_transform_3 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x3072 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S512x3072 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev stage7_3 : Fin 2 → Memref sig .tc .vmem S1024x512 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true, false]
-- ==== ScRefIdeal.lean ====
abbrev S2048x1024 : Shape := ⟨2, ![2048, 1024]⟩
abbrev S1024x3072 : Shape := ⟨2, ![1024, 3072]⟩
abbrev S3x1024 : Shape := ⟨2, ![3, 1024]⟩
abbrev S1024x1024 : Shape := ⟨2, ![1024, 1024]⟩
abbrev S2048x3072 : Shape := ⟨2, ![2048, 3072]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩
abbrev S1024 : Shape := ⟨1, ![1024]⟩
abbrev S3072x1024 : Shape := ⟨2, ![3072, 1024]⟩
abbrev S1024x8x384 : Shape := ⟨3, ![1024, 8, 384]⟩
abbrev S8x1024x384 : Shape := ⟨3, ![8, 1024, 384]⟩

abbrev nBuf : Space → Nat
  | .hbm => 108
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x3072, .bf16⟩
  | .hbm, ⟨3, _⟩ => ⟨S3x1024, .f32⟩
  | .hbm, ⟨4, _⟩ => ⟨S1024x1024, .bf16⟩
  | .hbm, ⟨5, _⟩ => ⟨S2048x1024, .f32⟩
  | .hbm, ⟨6, _⟩ => ⟨S2048x1024, .f32⟩
  | .hbm, ⟨7, _⟩ => ⟨S1024x3072, .f32⟩
  | .hbm, ⟨8, _⟩ => ⟨S1024x1024, .f32⟩
  | .hbm, ⟨9, _⟩ => ⟨S2048x3072, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2x1024, .f32⟩
  | .hbm, ⟨16, _⟩ => ⟨S2050x1024, .f32⟩
  | .hbm, ⟨17, _⟩ => ⟨S_, .f32⟩
  | .hbm, ⟨18, _⟩ => ⟨S2x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S1024x1024, .f32⟩
  | .hbm, ⟨45, _⟩ => ⟨S1024x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S2050x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S_, .f32⟩
  | .hbm, ⟨61, _⟩ => ⟨S3x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S_, .f32⟩
  | .hbm, ⟨69, _⟩ => ⟨S2050x1024, .f32⟩
  | .hbm, ⟨70, _⟩ => ⟨S2050x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S_, .f32⟩
  | .hbm, ⟨75, _⟩ => ⟨S3x1024, .f32⟩
  | .hbm, ⟨76, _⟩ => ⟨S3x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S_, .f32⟩
  | .hbm, ⟨84, _⟩ => ⟨S2050x1024, .f32⟩
  | .hbm, ⟨85, _⟩ => ⟨S2050x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S_, .f32⟩
  | .hbm, ⟨90, _⟩ => ⟨S3x1024, .f32⟩
  | .hbm, ⟨91, _⟩ => ⟨S3x1024, .f32⟩
  | .hbm, ⟨92, _⟩ => ⟨S2x1024, .f32⟩
  | .hbm, ⟨93, _⟩ => ⟨S2048x1024, .f32⟩
  | .hbm, ⟨94, _⟩ => ⟨S2048x1024, .f32⟩
  | .hbm, ⟨95, _⟩ => ⟨S2048x1024, .f32⟩
  | .hbm, ⟨96, _⟩ => ⟨S2048x3072, .f32⟩
  | .hbm, ⟨97, _⟩ => ⟨S3072x1024, .f32⟩
  | .hbm, ⟨98, _⟩ => ⟨S1024x3072, .f32⟩
  | .hbm, ⟨99, _⟩ => ⟨S2048x1024, .f32⟩
  | .hbm, ⟨100, _⟩ => ⟨S1024x8x384, .f32⟩
  | .hbm, ⟨101, _⟩ => ⟨S8x1024x384, .f32⟩
  | .hbm, ⟨102, _⟩ => ⟨S_, .f32⟩
  | .hbm, ⟨103, _⟩ => ⟨S2048x1024, .f32⟩
  | .hbm, ⟨104, _⟩ => ⟨S2048x1024, .f32⟩
  | .hbm, ⟨105, _⟩ => ⟨S2048x1024, .f32⟩
  | .hbm, ⟨106, _⟩ => ⟨S8x1024x384, .bf16⟩
  | .hbm, ⟨107, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_2 : Ref sig .tc := ⟨.hbm, 52, rfl⟩
abbrev main_v43 : Ref sig .tc := ⟨.hbm, 53, rfl⟩
abbrev main_v44 : Ref sig .tc := ⟨.hbm, 54, rfl⟩
abbrev main_cst_3 : Ref sig .tc := ⟨.hbm, 55, rfl⟩
abbrev main_v45 : Ref sig .tc := ⟨.hbm, 56, rfl⟩
abbrev main_cst_4 : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_6 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_10 : Ref sig .tc := ⟨.hbm, 80, rfl⟩
abbrev main_v63 : Ref sig .tc := ⟨.hbm, 81, rfl⟩
abbrev main_v64 : Ref sig .tc := ⟨.hbm, 82, rfl⟩
abbrev main_cst_11 : Ref sig .tc := ⟨.hbm, 83, rfl⟩
abbrev main_v65 : Ref sig .tc := ⟨.hbm, 84, rfl⟩
abbrev main_v66 : Ref sig .tc := ⟨.hbm, 85, rfl⟩
abbrev main_cst_12 : Ref sig .tc := ⟨.hbm, 86, rfl⟩
abbrev main_v67 : Ref sig .tc := ⟨.hbm, 87, rfl⟩
abbrev main_v68 : Ref sig .tc := ⟨.hbm, 88, rfl⟩
abbrev main_cst_13 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_14 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩

abbrev nD : Nat := 1
abbrev τ : Topo := Topo.v7x

variable {F : FTy → Type} [FloatOps F]
-- ==== Sc3.lean ====
abbrev S2048x1024 : Shape := ⟨2, ![2048, 1024]⟩
abbrev S1024x3072 : Shape := ⟨2, ![1024, 3072]⟩
abbrev S3x1024 : Shape := ⟨2, ![3, 1024]⟩
abbrev S1024x1024 : Shape := ⟨2, ![1024, 1024]⟩
abbrev S2048x3072 : Shape := ⟨2, ![2048, 3072]⟩
abbrev S2048x128 : Shape := ⟨2, ![2048, 128]⟩
abbrev S3x128 : Shape := ⟨2, ![3, 128]⟩
abbrev S2080x128 : Shape := ⟨2, ![2080, 128]⟩
abbrev S32x128 : Shape := ⟨2, ![32, 128]⟩
abbrev S256x128 : Shape := ⟨2, ![256, 128]⟩
abbrev S1x128 : Shape := ⟨2, ![1, 128]⟩
abbrev S128 : Shape := ⟨1, ![128]⟩
abbrev S8x1024x384 : Shape := ⟨3, ![8, 1024, 384]⟩
abbrev S2048x384 : Shape := ⟨2, ![2048, 384]⟩
abbrev S1x1024x384 : Shape := ⟨3, ![1, 1024, 384]⟩
abbrev S1024x384 : Shape := ⟨2, ![1024, 384]⟩
abbrev S512x3072 : Shape := ⟨2, ![512, 3072]⟩
abbrev S1024x512 : Shape := ⟨2, ![1024, 512]⟩

abbrev nBuf : Space → Nat
  | .hbm => 18
  | .vmem => 58
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x3072, .bf16⟩
  | .hbm, ⟨3, _⟩ => ⟨S3x1024, .f32⟩
  | .hbm, ⟨4, _⟩ => ⟨S1024x1024, .bf16⟩
  | .hbm, ⟨5, _⟩ => ⟨S2048x1024, .f32⟩
  | .hbm, ⟨6, _⟩ => ⟨S2048x3072, .f32⟩
  | .hbm, ⟨7, _⟩ => ⟨S2048x1024, .bf16⟩
  | .hbm, ⟨8, _⟩ => ⟨S2048x1024, .f32⟩
  | .hbm, ⟨9, _⟩ => ⟨S1024x1024, .bf16⟩
  | .hbm, ⟨10, _⟩ => ⟨S2048x1024, .f32⟩
  | .hbm, ⟨11, _⟩ => ⟨S2048x1024, .bf16⟩
  | .hbm, ⟨12, _⟩ => ⟨S2048x1024, .bf16⟩
  | .hbm, ⟨13, _⟩ => ⟨S2048x1024, .bf16⟩
  | .hbm, ⟨14, _⟩ => ⟨S3x1024, .f32⟩
  | .hbm, ⟨15, _⟩ => ⟨S2048x3072, .bf16⟩
  | .hbm, ⟨16, _⟩ => ⟨S8x1024x384, .bf16⟩
  | .hbm, ⟨17, _⟩ => ⟨S2048x1024, .f32⟩
  | .local _ .vmem, ⟨0, _⟩ => ⟨S2048x1024, .bf16⟩
  | .local _ .vmem, ⟨1, _⟩ => ⟨S1024x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S3x128, .f32⟩
  | .local _ .vmem, ⟨12, _⟩ => ⟨S3x128, .f32⟩
  | .local _ .vmem, ⟨13, _⟩ => ⟨S2048x128, .bf16⟩
  | .local _ .vmem, ⟨14, _⟩ => ⟨S2048x128, .bf16⟩
  | .local _ .vmem, ⟨15, _⟩ => ⟨S2080x128, .f32⟩
  | .local _ .vmem, ⟨16, _⟩ => ⟨S2048x1024, .bf16⟩
  | .local _ .vmem, ⟨17, _⟩ => ⟨S1024x1024, .bf16⟩
  | .local _ .vmem, ⟨18, _⟩ => ⟨S2048x1024, .f32⟩
  | .local _ .vmem, ⟨19, _⟩ => ⟨S2048x1024, .bf16⟩
  | .local _ .vmem, ⟨20, _⟩ => ⟨S2048x1024, .bf16⟩
  | .local _ .vmem, ⟨21, _⟩ => ⟨S1024x1024, .bf16⟩
  | .local _ .vmem, ⟨22, _⟩ => ⟨S2048x1024, .bf16⟩
  | .local _ .vmem, ⟨23, _⟩ => ⟨S1024x1024, .bf16⟩
  | .local _ .vmem, ⟨24, _⟩ => ⟨S2048x1024, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S2048x128, .f32⟩
  | .local _ .vmem, ⟨31, _⟩ => ⟨S2048x128, .f32⟩
  | .local _ .vmem, ⟨32, _⟩ => ⟨S2048x128, .f32⟩
  | .local _ .vmem, ⟨33, _⟩ => ⟨S3x128, .f32⟩
  | .local _ .vmem, ⟨34, _⟩ => ⟨S3x128, .f32⟩
  | .local _ .vmem, ⟨35, _⟩ => ⟨S2048x128, .bf16⟩
  | .local _ .vmem, ⟨36, _⟩ => ⟨S2048x128, .bf16⟩
  | .local _ .vmem, ⟨37, _⟩ => ⟨S2048x128, .bf16⟩
  | .local _ .vmem, ⟨38, _⟩ => ⟨S2048x128, .bf16⟩
  | .local _ .vmem, ⟨39, _⟩ => ⟨S2048x128, .bf16⟩
  | .local _ .vmem, ⟨40, _⟩ => ⟨S2048x128, .bf16⟩
  | .local _ .vmem, ⟨41, _⟩ => ⟨S3x128, .f32⟩
  | .local _ .vmem, ⟨42, _⟩ => ⟨S3x128, .f32⟩
  | .local _ .vmem, ⟨43, _⟩ => ⟨S2080x128, .f32⟩
  | .local _ .vmem, ⟨44, _⟩ => ⟨S2080x128, .f32⟩
  | .local _ .vmem, ⟨45, _⟩ => ⟨S2048x1024, .bf16⟩
  | .local _ .vmem, ⟨46, _⟩ => ⟨S2048x384, .bf16⟩
  | .local _ .vmem, ⟨47, _⟩ => ⟨S2048x384, .bf16⟩
  | .local _ .vmem, ⟨48, _⟩ => ⟨S1x1024x384, .bf16⟩
  | .local _ .vmem, ⟨49, _⟩ => ⟨S1x1024x384, .bf16⟩
  | .local _ .vmem, ⟨50, _⟩ => ⟨S1024x3072, .bf16⟩
  | .local _ .vmem, ⟨51, _⟩ => ⟨S1024x3072, .bf16⟩
  | .local _ .vmem, ⟨52, _⟩ => ⟨S512x3072, .bf16⟩
  | .local _ .vmem, ⟨53, _⟩ => ⟨S512x3072, .bf16⟩
  | .local _ .vmem, ⟨54, _⟩ => ⟨S1024x512, .f32⟩
  | .local _ .vmem, ⟨55, _⟩ => ⟨S1024x512, .f32⟩
  | .local _ .vmem, ⟨56, _⟩ => ⟨S1024x512, .f32⟩
  | .local _ .vmem, ⟨57, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc3_stg0_0 : Ref sig .tc := ⟨.vmem, 19, rfl⟩
abbrev cc3_stg1_0 : Ref sig .tc := ⟨.vmem, 20, rfl⟩
abbrev cc3_stg2_0 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg1_1 : Ref sig .tc := ⟨.vmem, 28, rfl⟩
abbrev cc5_stg2_0 : Ref sig .tc := ⟨.vmem, 29, rfl⟩
abbrev cc5_stg2_1 : Ref sig .tc := ⟨.vmem, 30, rfl⟩
abbrev cc5_stg3_0 : Ref sig .tc := ⟨.vmem, 31, rfl⟩
abbrev cc5_stg3_1 : Ref sig .tc := ⟨.vmem, 32, rfl⟩
abbrev cc5_stg4_0 : Ref sig .tc := ⟨.vmem, 33, rfl⟩
abbrev cc5_stg4_1 : Ref sig .tc := ⟨.vmem, 34, rfl⟩
abbrev cc5_stg5_0 : Ref sig .tc := ⟨.vmem, 35, rfl⟩
abbrev cc5_stg5_1 : Ref sig .tc := ⟨.vmem, 36, rfl⟩
abbrev cc5_stg6_0 : Ref sig .tc := ⟨.vmem, 37, rfl⟩
abbrev cc5_stg6_1 : Ref sig .tc := ⟨.vmem, 38, rfl⟩
abbrev cc5_stg7_0 : Ref sig .tc := ⟨.vmem, 39, rfl⟩
abbrev cc5_stg7_1 : Ref sig .tc := ⟨.vmem, 40, rfl⟩
abbrev cc5_stg8_0 : Ref sig .tc := ⟨.vmem, 41, rfl⟩
abbrev cc5_stg8_1 : Ref sig .tc := ⟨.vmem, 42, rfl⟩
abbrev cc5_scratch0 : Ref sig .tc := ⟨.vmem, 43, rfl⟩
abbrev cc5_scratch1 : Ref sig .tc := ⟨.vmem, 44, rfl⟩
abbrev cc6_stg0_0 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg2_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg1_1 : Ref sig .tc := ⟨.vmem, 53, rfl⟩
abbrev cc7_stg2_0 : Ref sig .tc := ⟨.vmem, 54, rfl⟩
abbrev cc7_stg2_1 : Ref sig .tc := ⟨.vmem, 55, rfl⟩
abbrev cc7_stg3_0 : Ref sig .tc := ⟨.vmem, 56, rfl⟩
abbrev cc7_stg3_1 : Ref sig .tc := ⟨.vmem, 57, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem1_0 : DmaSem sig := 16
abbrev cc2_sem2_0 : DmaSem sig := 17
abbrev cc3_sem0_0 : DmaSem sig := 18
abbrev cc3_sem1_0 : DmaSem sig := 19
abbrev cc3_sem2_0 : DmaSem sig := 20
abbrev cc4_sem0_0 : DmaSem sig := 21
abbrev cc4_sem1_0 : DmaSem sig := 22
abbrev cc4_sem2_0 : DmaSem sig := 23
abbrev cc5_sem0_0 : DmaSem sig := 24
abbrev cc5_sem0_1 : DmaSem sig := 25
abbrev cc5_sem1_0 : DmaSem sig := 26
abbrev cc5_sem1_1 : DmaSem sig := 27
abbrev cc5_sem2_0 : DmaSem sig := 28
abbrev cc5_sem2_1 : DmaSem sig := 29
abbrev cc5_sem3_0 : DmaSem sig := 30
abbrev cc5_sem3_1 : DmaSem sig := 31
abbrev cc5_sem4_0 : DmaSem sig := 32
abbrev cc5_sem4_1 : DmaSem sig := 33
abbrev cc5_sem5_0 : DmaSem sig := 34
abbrev cc5_sem5_1 : DmaSem sig := 35
abbrev cc5_sem6_0 : DmaSem sig := 36
abbrev cc5_sem6_1 : DmaSem sig := 37
abbrev cc5_sem7_0 : DmaSem sig := 38
abbrev cc5_sem7_1 : DmaSem sig := 39
abbrev cc5_sem8_0 : DmaSem sig := 40
abbrev cc5_sem8_1 : DmaSem sig := 41
abbrev cc6_sem0_0 : DmaSem sig := 42
abbrev cc6_sem1_0 : DmaSem sig := 43
abbrev cc6_sem1_1 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem2_1 : DmaSem sig := 52
abbrev cc7_sem3_0 : DmaSem sig := 53
abbrev cc7_sem3_1 : DmaSem sig := 54

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_1 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨3, ![1, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2048x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 1 → Memref sig .tc .vmem S2048x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, false]

abbrev grid3 : Pipeline.Grid := ⟨3, ![1, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S2048x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 1 → Memref sig .tc .vmem S1024x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true, false]

abbrev grid4 : Pipeline.Grid := ⟨3, ![1, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S2048x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 1 → Memref sig .tc .vmem S2048x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true, false]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc5_transform_2 (i : grid5.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc5_transform_3 (i : grid5.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 2 → Memref sig .tc .vmem S2048x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2048x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2048x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2048x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S3x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S2048x128 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S2048x128 .bf16 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S2048x128 .bf16 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S3x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨3, ![1, 8, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage6_0 : Fin 1 → Memref sig .tc .vmem S2048x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false, true]

abbrev stage6_1 : Fin 2 → Memref sig .tc .vmem S2048x384 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1x1024x384 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![2, 2, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc7_transform_3 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x3072 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S512x3072 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev stage7_3 : Fin 2 → Memref sig .tc .vmem S1024x512 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true, false]
-- ==== Sc3RefIdeal.lean ====
abbrev S2048x1024 : Shape := ⟨2, ![2048, 1024]⟩
abbrev S1024x3072 : Shape := ⟨2, ![1024, 3072]⟩
abbrev S3x1024 : Shape := ⟨2, ![3, 1024]⟩
abbrev S1024x1024 : Shape := ⟨2, ![1024, 1024]⟩
abbrev S2048x3072 : Shape := ⟨2, ![2048, 3072]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩
abbrev S1024 : Shape := ⟨1, ![1024]⟩
abbrev S3072x1024 : Shape := ⟨2, ![3072, 1024]⟩
abbrev S1024x8x384 : Shape := ⟨3, ![1024, 8, 384]⟩
abbrev S8x1024x384 : Shape := ⟨3, ![8, 1024, 384]⟩

abbrev nBuf : Space → Nat
  | .hbm => 109
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x3072, .bf16⟩
  | .hbm, ⟨3, _⟩ => ⟨S3x1024, .f32⟩
  | .hbm, ⟨4, _⟩ => ⟨S1024x1024, .bf16⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S1024x3072, .f32⟩
  | .hbm, ⟨9, _⟩ => ⟨S1024x1024, .f32⟩
  | .hbm, ⟨10, _⟩ => ⟨S2048x3072, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2x1024, .f32⟩
  | .hbm, ⟨17, _⟩ => ⟨S2050x1024, .f32⟩
  | .hbm, ⟨18, _⟩ => ⟨S_, .f32⟩
  | .hbm, ⟨19, _⟩ => ⟨S2x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S1024x1024, .f32⟩
  | .hbm, ⟨46, _⟩ => ⟨S1024x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S2050x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S3x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S_, .f32⟩
  | .hbm, ⟨70, _⟩ => ⟨S2050x1024, .f32⟩
  | .hbm, ⟨71, _⟩ => ⟨S2050x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S_, .f32⟩
  | .hbm, ⟨76, _⟩ => ⟨S3x1024, .f32⟩
  | .hbm, ⟨77, _⟩ => ⟨S3x1024, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S_, .f32⟩
  | .hbm, ⟨85, _⟩ => ⟨S2050x1024, .f32⟩
  | .hbm, ⟨86, _⟩ => ⟨S2050x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S_, .f32⟩
  | .hbm, ⟨91, _⟩ => ⟨S3x1024, .f32⟩
  | .hbm, ⟨92, _⟩ => ⟨S3x1024, .f32⟩
  | .hbm, ⟨93, _⟩ => ⟨S2x1024, .f32⟩
  | .hbm, ⟨94, _⟩ => ⟨S2048x1024, .f32⟩
  | .hbm, ⟨95, _⟩ => ⟨S2048x1024, .f32⟩
  | .hbm, ⟨96, _⟩ => ⟨S2048x1024, .f32⟩
  | .hbm, ⟨97, _⟩ => ⟨S2048x3072, .f32⟩
  | .hbm, ⟨98, _⟩ => ⟨S3072x1024, .f32⟩
  | .hbm, ⟨99, _⟩ => ⟨S1024x3072, .f32⟩
  | .hbm, ⟨100, _⟩ => ⟨S2048x1024, .f32⟩
  | .hbm, ⟨101, _⟩ => ⟨S1024x8x384, .f32⟩
  | .hbm, ⟨102, _⟩ => ⟨S8x1024x384, .f32⟩
  | .hbm, ⟨103, _⟩ => ⟨S_, .f32⟩
  | .hbm, ⟨104, _⟩ => ⟨S2048x1024, .f32⟩
  | .hbm, ⟨105, _⟩ => ⟨S2048x1024, .f32⟩
  | .hbm, ⟨106, _⟩ => ⟨S2048x1024, .f32⟩
  | .hbm, ⟨107, _⟩ => ⟨S8x1024x384, .bf16⟩
  | .hbm, ⟨108, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_2 : Ref sig .tc := ⟨.hbm, 53, rfl⟩
abbrev main_v44 : Ref sig .tc := ⟨.hbm, 54, rfl⟩
abbrev main_v45 : Ref sig .tc := ⟨.hbm, 55, rfl⟩
abbrev main_cst_3 : Ref sig .tc := ⟨.hbm, 56, rfl⟩
abbrev main_v46 : Ref sig .tc := ⟨.hbm, 57, rfl⟩
abbrev main_cst_4 : Ref sig .tc := ⟨.hbm, 58, rfl⟩
abbrev main_v47 : Ref sig .tc := ⟨.hbm, 59, rfl⟩
abbrev main_v48 : Ref sig .tc := ⟨.hbm, 60, rfl⟩
abbrev main_cst_5 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_6 : Ref sig .tc := ⟨.hbm, 66, rfl⟩
abbrev main_v53 : Ref sig .tc := ⟨.hbm, 67, rfl⟩
abbrev main_v54 : Ref sig .tc := ⟨.hbm, 68, rfl⟩
abbrev main_cst_7 : Ref sig .tc := ⟨.hbm, 69, rfl⟩
abbrev main_v55 : Ref sig .tc := ⟨.hbm, 70, rfl⟩
abbrev main_v56 : Ref sig .tc := ⟨.hbm, 71, rfl⟩
abbrev main_cst_8 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_10 : Ref sig .tc := ⟨.hbm, 81, rfl⟩
abbrev main_v64 : Ref sig .tc := ⟨.hbm, 82, rfl⟩
abbrev main_v65 : Ref sig .tc := ⟨.hbm, 83, rfl⟩
abbrev main_cst_11 : Ref sig .tc := ⟨.hbm, 84, rfl⟩
abbrev main_v66 : Ref sig .tc := ⟨.hbm, 85, rfl⟩
abbrev main_v67 : Ref sig .tc := ⟨.hbm, 86, rfl⟩
abbrev main_cst_12 : Ref sig .tc := ⟨.hbm, 87, rfl⟩
abbrev main_v68 : Ref sig .tc := ⟨.hbm, 88, rfl⟩
abbrev main_v69 : Ref sig .tc := ⟨.hbm, 89, rfl⟩
abbrev main_cst_13 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_14 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩

abbrev nD : Nat := 1
abbrev τ : Topo := Topo.v7x

variable {F : FTy → Type} [FloatOps F]
-- ==== Adam.lean ====
abbrev S2x1024x384 : Shape := ⟨3, ![2, 1024, 384]⟩
abbrev S1024x384 : Shape := ⟨2, ![1024, 384]⟩
abbrev S3x1024x384 : Shape := ⟨3, ![3, 1024, 384]⟩
abbrev S2x128x1024 : Shape := ⟨3, ![2, 128, 1024]⟩
abbrev S128x1024 : Shape := ⟨2, ![128, 1024]⟩
abbrev S3x128x1024 : Shape := ⟨3, ![3, 128, 1024]⟩
abbrev S1x1024x256 : Shape := ⟨3, ![1, 1024, 256]⟩
abbrev S1024x256 : Shape := ⟨2, ![1024, 256]⟩
abbrev S3x1024x256 : Shape := ⟨3, ![3, 1024, 256]⟩
abbrev S2048x384 : Shape := ⟨2, ![2048, 384]⟩
abbrev S512x384 : Shape := ⟨2, ![512, 384]⟩
abbrev S3x512x384 : Shape := ⟨3, ![3, 512, 384]⟩
abbrev S1x512x384 : Shape := ⟨3, ![1, 512, 384]⟩
abbrev S256x1024 : Shape := ⟨2, ![256, 1024]⟩
abbrev S1x128x1024 : Shape := ⟨3, ![1, 128, 1024]⟩
abbrev S512x256 : Shape := ⟨2, ![512, 256]⟩
abbrev S3x512x256 : Shape := ⟨3, ![3, 512, 256]⟩
abbrev S1x512x256 : Shape := ⟨3, ![1, 512, 256]⟩

abbrev nBuf : Space → Nat
  | .hbm => 52
  | .vmem => 62
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S1024x384, .f32⟩
  | .hbm, ⟨4, _⟩ => ⟨S3x1024x384, .bf16⟩
  | .hbm, ⟨5, _⟩ => ⟨S1024x384, .f32⟩
  | .hbm, ⟨6, _⟩ => ⟨S3x1024x384, .bf16⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S128x1024, .f32⟩
  | .hbm, ⟨11, _⟩ => ⟨S3x128x1024, .bf16⟩
  | .hbm, ⟨12, _⟩ => ⟨S128x1024, .f32⟩
  | .hbm, ⟨13, _⟩ => ⟨S3x128x1024, .bf16⟩
  | .hbm, ⟨14, _⟩ => ⟨S1x1024x256, .f32⟩
  | .hbm, ⟨15, _⟩ => ⟨S1x1024x256, .f32⟩
  | .hbm, ⟨16, _⟩ => ⟨S1x1024x256, .f32⟩
  | .hbm, ⟨17, _⟩ => ⟨S1024x256, .f32⟩
  | .hbm, ⟨18, _⟩ => ⟨S3x1024x256, .bf16⟩
  | .hbm, ⟨19, _⟩ => ⟨S2048x384, .f32⟩
  | .hbm, ⟨20, _⟩ => ⟨S2048x384, .f32⟩
  | .hbm, ⟨21, _⟩ => ⟨S2048x384, .f32⟩
  | .hbm, ⟨22, _⟩ => ⟨S2048x384, .f32⟩
  | .hbm, ⟨23, _⟩ => ⟨S2048x384, .f32⟩
  | .hbm, ⟨24, _⟩ => ⟨S2048x384, .f32⟩
  | .hbm, ⟨25, _⟩ => ⟨S2048x384, .f32⟩
  | .hbm, ⟨26, _⟩ => ⟨S2x1024x384, .f32⟩
  | .hbm, ⟨27, _⟩ => ⟨S2x1024x384, .f32⟩
  | .hbm, ⟨28, _⟩ => ⟨S2x1024x384, .f32⟩
  | .hbm, ⟨29, _⟩ => ⟨S2x1024x384, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S2x128x1024, .f32⟩
  | .hbm, ⟨41, _⟩ => ⟨S1024x256, .f32⟩
  | .hbm, ⟨42, _⟩ => ⟨S1024x256, .f32⟩
  | .hbm, ⟨43, _⟩ => ⟨S1024x256, .f32⟩
  | .hbm, ⟨44, _⟩ => ⟨S1024x256, .f32⟩
  | .hbm, ⟨45, _⟩ => ⟨S1024x256, .f32⟩
  | .hbm, ⟨46, _⟩ => ⟨S1024x256, .f32⟩
  | .hbm, ⟨47, _⟩ => ⟨S1024x256, .f32⟩
  | .hbm, ⟨48, _⟩ => ⟨S1x1024x256, .f32⟩
  | .hbm, ⟨49, _⟩ => ⟨S1x1024x256, .f32⟩
  | .hbm, ⟨50, _⟩ => ⟨S1x1024x256, .f32⟩
  | .hbm, ⟨51, _⟩ => ⟨S1x1024x256, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S3x512x384, .bf16⟩
  | .local _ .vmem, ⟨9, _⟩ => ⟨S3x512x384, .bf16⟩
  | .local _ .vmem, ⟨10, _⟩ => ⟨S512x384, .f32⟩
  | .local _ .vmem, ⟨11, _⟩ => ⟨S512x384, .f32⟩
  | .local _ .vmem, ⟨12, _⟩ => ⟨S3x512x384, .bf16⟩
  | .local _ .vmem, ⟨13, _⟩ => ⟨S3x512x384, .bf16⟩
  | .local _ .vmem, ⟨14, _⟩ => ⟨S512x384, .f32⟩
  | .local _ .vmem, ⟨15, _⟩ => ⟨S512x384, .f32⟩
  | .local _ .vmem, ⟨16, _⟩ => ⟨S512x384, .f32⟩
  | .local _ .vmem, ⟨17, _⟩ => ⟨S512x384, .f32⟩
  | .local _ .vmem, ⟨18, _⟩ => ⟨S512x384, .f32⟩
  | .local _ .vmem, ⟨19, _⟩ => ⟨S512x384, .f32⟩
  | .local _ .vmem, ⟨20, _⟩ => ⟨S512x384, .f32⟩
  | .local _ .vmem, ⟨21, _⟩ => ⟨S512x384, .f32⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | .local _ .vmem, ⟨30, _⟩ => ⟨S3x128x1024, .bf16⟩
  | .local _ .vmem, ⟨31, _⟩ => ⟨S3x128x1024, .bf16⟩
  | .local _ .vmem, ⟨32, _⟩ => ⟨S128x1024, .f32⟩
  | .local _ .vmem, ⟨33, _⟩ => ⟨S128x1024, .f32⟩
  | .local _ .vmem, ⟨34, _⟩ => ⟨S3x128x1024, .bf16⟩
  | .local _ .vmem, ⟨35, _⟩ => ⟨S3x128x1024, .bf16⟩
  | .local _ .vmem, ⟨36, _⟩ => ⟨S128x1024, .f32⟩
  | .local _ .vmem, ⟨37, _⟩ => ⟨S128x1024, .f32⟩
  | .local _ .vmem, ⟨38, _⟩ => ⟨S128x1024, .f32⟩
  | .local _ .vmem, ⟨39, _⟩ => ⟨S128x1024, .f32⟩
  | .local _ .vmem, ⟨40, _⟩ => ⟨S128x1024, .f32⟩
  | .local _ .vmem, ⟨41, _⟩ => ⟨S128x1024, .f32⟩
  | .local _ .vmem, ⟨42, _⟩ => ⟨S128x1024, .f32⟩
  | .local _ .vmem, ⟨43, _⟩ => ⟨S128x1024, .f32⟩
  | .local _ .vmem, ⟨44, _⟩ => ⟨S512x256, .f32⟩
  | .local _ .vmem, ⟨45, _⟩ => ⟨S512x256, .f32⟩
  | .local _ .vmem, ⟨46, _⟩ => ⟨S512x256, .f32⟩
  | .local _ .vmem, ⟨47, _⟩ => ⟨S512x256, .f32⟩
  | .local _ .vmem, ⟨48, _⟩ => ⟨S512x256, .f32⟩
  | .local _ .vmem, ⟨49, _⟩ => ⟨S512x256, .f32⟩
  | .local _ .vmem, ⟨50, _⟩ => ⟨S512x256, .f32⟩
  | .local _ .vmem, ⟨51, _⟩ => ⟨S512x256, .f32⟩
  | .local _ .vmem, ⟨52, _⟩ => ⟨S3x512x256, .bf16⟩
  | .local _ .vmem, ⟨53, _⟩ => ⟨S3x512x256, .bf16⟩
  | .local _ .vmem, ⟨54, _⟩ => ⟨S512x256, .f32⟩
  | .local _ .vmem, ⟨55, _⟩ => ⟨S512x256, .f32⟩
  | .local _ .vmem, ⟨56, _⟩ => ⟨S512x256, .f32⟩
  | .local _ .vmem, ⟨57, _⟩ => ⟨S512x256, .f32⟩
  | .local _ .vmem, ⟨58, _⟩ => ⟨S512x256, .f32⟩
  | .local _ .vmem, ⟨59, _⟩ => ⟨S512x256, .f32⟩
  | .local _ .vmem, ⟨60, _⟩ => ⟨S512x256, .f32⟩
  | .local _ .vmem, ⟨61, _⟩ => ⟨S512x256, .f32⟩
  | _, _ => ⟨S2x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3_0 : Ref sig .tc := ⟨.hbm, 22, rfl⟩
abbrev main_v3_1 : Ref sig .tc := ⟨.hbm, 23, rfl⟩
abbrev main_v3_2 : Ref sig .tc := ⟨.hbm, 24, rfl⟩
abbrev main_v3_3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11_0 : Ref sig .tc := ⟨.hbm, 33, rfl⟩
abbrev main_v11_1 : Ref sig .tc := ⟨.hbm, 34, rfl⟩
abbrev main_v11_2 : Ref sig .tc := ⟨.hbm, 35, rfl⟩
abbrev main_v11_3 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19_0 : Ref sig .tc := ⟨.hbm, 44, rfl⟩
abbrev main_v19_1 : Ref sig .tc := ⟨.hbm, 45, rfl⟩
abbrev main_v19_2 : Ref sig .tc := ⟨.hbm, 46, rfl⟩
abbrev main_v19_3 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg6_1 : Ref sig .tc := ⟨.vmem, 35, rfl⟩
abbrev cc1_stg7_0 : Ref sig .tc := ⟨.vmem, 36, rfl⟩
abbrev cc1_stg7_1 : Ref sig .tc := ⟨.vmem, 37, rfl⟩
abbrev cc1_stg8_0 : Ref sig .tc := ⟨.vmem, 38, rfl⟩
abbrev cc1_stg8_1 : Ref sig .tc := ⟨.vmem, 39, rfl⟩
abbrev cc1_stg9_0 : Ref sig .tc := ⟨.vmem, 40, rfl⟩
abbrev cc1_stg9_1 : Ref sig .tc := ⟨.vmem, 41, rfl⟩
abbrev cc1_stg10_0 : Ref sig .tc := ⟨.vmem, 42, rfl⟩
abbrev cc1_stg10_1 : Ref sig .tc := ⟨.vmem, 43, rfl⟩
abbrev cc2_stg0_0 : Ref sig .tc := ⟨.vmem, 44, rfl⟩
abbrev cc2_stg0_1 : Ref sig .tc := ⟨.vmem, 45, rfl⟩
abbrev cc2_stg1_0 : Ref sig .tc := ⟨.vmem, 46, rfl⟩
abbrev cc2_stg1_1 : Ref sig .tc := ⟨.vmem, 47, rfl⟩
abbrev cc2_stg2_0 : Ref sig .tc := ⟨.vmem, 48, rfl⟩
abbrev cc2_stg2_1 : Ref sig .tc := ⟨.vmem, 49, rfl⟩
abbrev cc2_stg3_0 : Ref sig .tc := ⟨.vmem, 50, rfl⟩
abbrev cc2_stg3_1 : Ref sig .tc := ⟨.vmem, 51, rfl⟩
abbrev cc2_stg4_0 : Ref sig .tc := ⟨.vmem, 52, rfl⟩
abbrev cc2_stg4_1 : Ref sig .tc := ⟨.vmem, 53, rfl⟩
abbrev cc2_stg5_0 : Ref sig .tc := ⟨.vmem, 54, rfl⟩
abbrev cc2_stg5_1 : Ref sig .tc := ⟨.vmem, 55, rfl⟩
abbrev cc2_stg6_0 : Ref sig .tc := ⟨.vmem, 56, rfl⟩
abbrev cc2_stg6_1 : Ref sig .tc := ⟨.vmem, 57, rfl⟩
abbrev cc2_stg7_0 : Ref sig .tc := ⟨.vmem, 58, rfl⟩
abbrev cc2_stg7_1 : Ref sig .tc := ⟨.vmem, 59, rfl⟩
abbrev cc2_stg8_0 : Ref sig .tc := ⟨.vmem, 60, rfl⟩
abbrev cc2_stg8_1 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem8_1 : DmaSem sig := 39
abbrev cc1_sem9_0 : DmaSem sig := 40
abbrev cc1_sem9_1 : DmaSem sig := 41
abbrev cc1_sem10_0 : DmaSem sig := 42
abbrev cc1_sem10_1 : DmaSem sig := 43
abbrev cc2_sem0_0 : DmaSem sig := 44
abbrev cc2_sem0_1 : DmaSem sig := 45
abbrev cc2_sem1_0 : DmaSem sig := 46
abbrev cc2_sem1_1 : DmaSem sig := 47
abbrev cc2_sem2_0 : DmaSem sig := 48
abbrev cc2_sem2_1 : DmaSem sig := 49
abbrev cc2_sem3_0 : DmaSem sig := 50
abbrev cc2_sem3_1 : DmaSem sig := 51
abbrev cc2_sem4_0 : DmaSem sig := 52
abbrev cc2_sem4_1 : DmaSem sig := 53
abbrev cc2_sem5_0 : DmaSem sig := 54
abbrev cc2_sem5_1 : DmaSem sig := 55
abbrev cc2_sem6_0 : DmaSem sig := 56
abbrev cc2_sem6_1 : DmaSem sig := 57
abbrev cc2_sem7_0 : DmaSem sig := 58
abbrev cc2_sem7_1 : DmaSem sig := 59
abbrev cc2_sem8_0 : DmaSem sig := 60
abbrev cc2_sem8_1 : DmaSem sig := 61

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x512x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨2, ![2, 1], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc1_transform_0 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc1_transform_5 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc1_transform_6 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc1_transform_7 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc1_transform_8 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc1_transform_9 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc1_transform_10 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S3x128x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S128x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S3x128x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S128x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S128x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S128x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S128x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev grid2 : Pipeline.Grid := ⟨2, ![1, 2], ![false, false]⟩

def k2_cond1 (i : grid2.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc2_transform_0 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc2_transform_5 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc2_transform_6 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc2_transform_7 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc2_transform_8 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S3x512x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S512x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S512x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S512x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S512x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]
-- ==== AdamRefIdeal.lean ====
abbrev S2x1024x384 : Shape := ⟨3, ![2, 1024, 384]⟩
abbrev S1024x384 : Shape := ⟨2, ![1024, 384]⟩
abbrev S3x1024x384 : Shape := ⟨3, ![3, 1024, 384]⟩
abbrev S2x128x1024 : Shape := ⟨3, ![2, 128, 1024]⟩
abbrev S128x1024 : Shape := ⟨2, ![128, 1024]⟩
abbrev S3x128x1024 : Shape := ⟨3, ![3, 128, 1024]⟩
abbrev S1x1024x256 : Shape := ⟨3, ![1, 1024, 256]⟩
abbrev S1024x256 : Shape := ⟨2, ![1024, 256]⟩
abbrev S3x1024x256 : Shape := ⟨3, ![3, 1024, 256]⟩
abbrev S_ : Shape := ⟨0, ![]⟩
abbrev S1x1024x384 : Shape := ⟨3, ![1, 1024, 384]⟩
abbrev S1x128x1024 : Shape := ⟨3, ![1, 128, 1024]⟩

abbrev nBuf : Space → Nat
  | .hbm => 145
  | .vmem => 0
  | .smem => 0
  | _ => 0

abbrev hbmTy0_0 (i : Nat) : BufTy := match i % 128 with
  | 0 => ⟨S2x1024x384, .f32⟩
  | 1 => ⟨S2x1024x384, .f32⟩
  | 2 => ⟨S2x1024x384, .f32⟩
  | 3 => ⟨S1024x384, .f32⟩
  | 4 => ⟨S3x1024x384, .bf16⟩
  | 5 => ⟨S1024x384, .f32⟩
  | 6 => ⟨S3x1024x384, .bf16⟩
  | 7 => ⟨S2x128x1024, .f32⟩
  | 8 => ⟨S2x128x1024, .f32⟩
  | 9 => ⟨S2x128x1024, .f32⟩
  | 10 => ⟨S128x1024, .f32⟩
  | 11 => ⟨S3x128x1024, .bf16⟩
  | 12 => ⟨S128x1024, .f32⟩
  | 13 => ⟨S3x128x1024, .bf16⟩
  | 14 => ⟨S1x1024x256, .f32⟩
  | 15 => ⟨S1x1024x256, .f32⟩
  | 16 => ⟨S1x1024x256, .f32⟩
  | 17 => ⟨S1024x256, .f32⟩
  | 18 => ⟨S3x1024x256, .bf16⟩
  | 19 => ⟨S3x1024x384, .f32⟩
  | 20 => ⟨S_, .f32⟩
  | 21 => ⟨S1024x384, .f32⟩
  | 22 => ⟨S1024x384, .f32⟩
  | 23 => ⟨S3x1024x384, .f32⟩
  | 24 => ⟨S_, .f32⟩
  | 25 => ⟨S1024x384, .f32⟩
  | 26 => ⟨S1024x384, .f32⟩
  | 27 => ⟨S1x1024x384, .f32⟩
  | 28 => ⟨S1x1024x384, .f32⟩
  | 29 => ⟨S2x1024x384, .f32⟩
  | 30 => ⟨S_, .f32⟩
  | 31 => ⟨S2x1024x384, .f32⟩
  | 32 => ⟨S2x1024x384, .f32⟩
  | 33 => ⟨S_, .f32⟩
  | 34 => ⟨S2x1024x384, .f32⟩
  | 35 => ⟨S2x1024x384, .f32⟩
  | 36 => ⟨S2x1024x384, .f32⟩
  | 37 => ⟨S_, .f32⟩
  | 38 => ⟨S2x1024x384, .f32⟩
  | 39 => ⟨S2x1024x384, .f32⟩
  | 40 => ⟨S2x1024x384, .f32⟩
  | 41 => ⟨S_, .f32⟩
  | 42 => ⟨S2x1024x384, .f32⟩
  | 43 => ⟨S2x1024x384, .f32⟩
  | 44 => ⟨S2x1024x384, .f32⟩
  | 45 => ⟨S_, .f32⟩
  | 46 => ⟨S2x1024x384, .f32⟩
  | 47 => ⟨S2x1024x384, .f32⟩
  | 48 => ⟨S_, .f32⟩
  | 49 => ⟨S2x1024x384, .f32⟩
  | 50 => ⟨S2x1024x384, .f32⟩
  | 51 => ⟨S2x1024x384, .f32⟩
  | 52 => ⟨S_, .f32⟩
  | 53 => ⟨S2x1024x384, .f32⟩
  | 54 => ⟨S2x1024x384, .f32⟩
  | 55 => ⟨S2x1024x384, .f32⟩
  | 56 => ⟨S_, .f32⟩
  | 57 => ⟨S2x1024x384, .f32⟩
  | 58 => ⟨S2x1024x384, .f32⟩
  | 59 => ⟨S2x1024x384, .f32⟩
  | 60 => ⟨S_, .f32⟩
  | 61 => ⟨S2x1024x384, .f32⟩
  | 62 => ⟨S2x1024x384, .f32⟩
  | 63 => ⟨S3x128x1024, .f32⟩
  | 64 => ⟨S_, .f32⟩
  | 65 => ⟨S128x1024, .f32⟩
  | 66 => ⟨S128x1024, .f32⟩
  | 67 => ⟨S3x128x1024, .f32⟩
  | 68 => ⟨S_, .f32⟩
  | 69 => ⟨S128x1024, .f32⟩
  | 70 => ⟨S128x1024, .f32⟩
  | 71 => ⟨S1x128x1024, .f32⟩
  | 72 => ⟨S1x128x1024, .f32⟩
  | 73 => ⟨S2x128x1024, .f32⟩
  | 74 => ⟨S_, .f32⟩
  | 75 => ⟨S2x128x1024, .f32⟩
  | 76 => ⟨S2x128x1024, .f32⟩
  | 77 => ⟨S_, .f32⟩
  | 78 => ⟨S2x128x1024, .f32⟩
  | 79 => ⟨S2x128x1024, .f32⟩
  | 80 => ⟨S2x128x1024, .f32⟩
  | 81 => ⟨S_, .f32⟩
  | 82 => ⟨S2x128x1024, .f32⟩
  | 83 => ⟨S2x128x1024, .f32⟩
  | 84 => ⟨S2x128x1024, .f32⟩
  | 85 => ⟨S_, .f32⟩
  | 86 => ⟨S2x128x1024, .f32⟩
  | 87 => ⟨S2x128x1024, .f32⟩
  | 88 => ⟨S2x128x1024, .f32⟩
  | 89 => ⟨S_, .f32⟩
  | 90 => ⟨S2x128x1024, .f32⟩
  | 91 => ⟨S2x128x1024, .f32⟩
  | 92 => ⟨S_, .f32⟩
  | 93 => ⟨S2x128x1024, .f32⟩
  | 94 => ⟨S2x128x1024, .f32⟩
  | 95 => ⟨S2x128x1024, .f32⟩
  | 96 => ⟨S_, .f32⟩
  | 97 => ⟨S2x128x1024, .f32⟩
  | 98 => ⟨S2x128x1024, .f32⟩
  | 99 => ⟨S2x128x1024, .f32⟩
  | 100 => ⟨S_, .f32⟩
  | 101 => ⟨S2x128x1024, .f32⟩
  | 102 => ⟨S2x128x1024, .f32⟩
  | 103 => ⟨S2x128x1024, .f32⟩
  | 104 => ⟨S_, .f32⟩
  | 105 => ⟨S2x128x1024, .f32⟩
  | 106 => ⟨S2x128x1024, .f32⟩
  | 107 => ⟨S3x1024x256, .f32⟩
  | 108 => ⟨S_, .f32⟩
  | 109 => ⟨S1024x256, .f32⟩
  | 110 => ⟨S1024x256, .f32⟩
  | 111 => ⟨S1x1024x256, .f32⟩
  | 112 => ⟨S_, .f32⟩
  | 113 => ⟨S1x1024x256, .f32⟩
  | 114 => ⟨S1x1024x256, .f32⟩
  | 115 => ⟨S_, .f32⟩
  | 116 => ⟨S1x1024x256, .f32⟩
  | 117 => ⟨S1x1024x256, .f32⟩
  | 118 => ⟨S1x1024x256, .f32⟩
  | 119 => ⟨S_, .f32⟩
  | 120 => ⟨S1x1024x256, .f32⟩
  | 121 => ⟨S1x1024x256, .f32⟩
  | 122 => ⟨S1x1024x256, .f32⟩
  | 123 => ⟨S_, .f32⟩
  | 124 => ⟨S1x1024x256, .f32⟩
  | 125 => ⟨S1x1024x256, .f32⟩
  | 126 => ⟨S1x1024x256, .f32⟩
  | 127 => ⟨S_, .f32⟩
  | _ => ⟨S2x1024x384, .f32⟩

abbrev hbmTy0_1 (i : Nat) : BufTy := match i % 128 with
  | 0 => ⟨S1x1024x256, .f32⟩
  | 1 => ⟨S1x1024x256, .f32⟩
  | 2 => ⟨S_, .f32⟩
  | 3 => ⟨S1x1024x256, .f32⟩
  | 4 => ⟨S1x1024x256, .f32⟩
  | 5 => ⟨S1x1024x256, .f32⟩
  | 6 => ⟨S_, .f32⟩
  | 7 => ⟨S1x1024x256, .f32⟩
  | 8 => ⟨S1x1024x256, .f32⟩
  | 9 => ⟨S1x1024x256, .f32⟩
  | 10 => ⟨S_, .f32⟩
  | 11 => ⟨S1x1024x256, .f32⟩
  | 12 => ⟨S1x1024x256, .f32⟩
  | 13 => ⟨S1x1024x256, .f32⟩
  | 14 => ⟨S_, .f32⟩
  | 15 => ⟨S1x1024x256, .f32⟩
  | 16 => ⟨S1x1024x256, .f32⟩
  | _ => ⟨S2x1024x384, .f32⟩

abbrev hbmTy (i : Nat) : BufTy := match i / 128 with
  | 0 => hbmTy0_0 i
  | 1 => hbmTy0_1 i
  | _ => ⟨S2x1024x384, .f32⟩

abbrev bufTy : (tb : Table) → Fin (tcTables nBuf tb) → BufTy
  | .hbm, ⟨i, _⟩ => hbmTy i
  | _, _ => ⟨S2x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_cst : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst_0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst_1 : Ref sig .tc := ⟨.hbm, 30, rfl⟩
abbrev main_v9 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_3 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_4 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_5 : Ref sig .tc := ⟨.hbm, 45, rfl⟩
abbrev main_v20 : Ref sig .tc := ⟨.hbm, 46, rfl⟩
abbrev main_v21 : Ref sig .tc := ⟨.hbm, 47, rfl⟩
abbrev main_cst_6 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_7 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_8 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_9 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_10 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_11 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_12 : Ref sig .tc := ⟨.hbm, 74, rfl⟩
abbrev main_v42 : Ref sig .tc := ⟨.hbm, 75, rfl⟩
abbrev main_v43 : Ref sig .tc := ⟨.hbm, 76, rfl⟩
abbrev main_cst_13 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_14 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_15 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_16 : Ref sig .tc := ⟨.hbm, 89, rfl⟩
abbrev main_v53 : Ref sig .tc := ⟨.hbm, 90, rfl⟩
abbrev main_v54 : Ref sig .tc := ⟨.hbm, 91, rfl⟩
abbrev main_cst_17 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_18 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_19 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_20 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_21 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_22 : Ref sig .tc := ⟨.hbm, 112, rfl⟩
abbrev main_v70 : Ref sig .tc := ⟨.hbm, 113, rfl⟩
abbrev main_v71 : Ref sig .tc := ⟨.hbm, 114, rfl⟩
abbrev main_cst_23 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_24 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_cst_25 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_cst_26 : Ref sig .tc := ⟨.hbm, 127, rfl⟩
abbrev main_v81 : Ref sig .tc := ⟨.hbm, 128, rfl⟩
abbrev main_v82 : Ref sig .tc := ⟨.hbm, 129, rfl⟩
abbrev main_cst_27 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_cst_28 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_29 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_30 : Ref sig .tc := ⟨.hbm, 142, rfl⟩
abbrev main_v92 : Ref sig .tc := ⟨.hbm, 143, rfl⟩
abbrev main_v93 : Ref sig .tc := ⟨.hbm, 144, rfl⟩

abbrev nD : Nat := 1
abbrev τ : Topo := Topo.v7x

variable {F : FTy → Type} [FloatOps F]
-- ==== Adam1.lean ====
abbrev S128x384 : Shape := ⟨2, ![128, 384]⟩
abbrev S3x128x384 : Shape := ⟨3, ![3, 128, 384]⟩
abbrev S384x192 : Shape := ⟨2, ![384, 192]⟩
abbrev S3x384x192 : Shape := ⟨3, ![3, 384, 192]⟩
abbrev S128x320 : Shape := ⟨2, ![128, 320]⟩
abbrev S3x128x320 : Shape := ⟨3, ![3, 128, 320]⟩
abbrev S32x1024 : Shape := ⟨2, ![32, 1024]⟩
abbrev S3x32x1024 : Shape := ⟨3, ![3, 32, 1024]⟩
abbrev S128x1024 : Shape := ⟨2, ![128, 1024]⟩
abbrev S3x128x1024 : Shape := ⟨3, ![3, 128, 1024]⟩
abbrev S1x128x384 : Shape := ⟨3, ![1, 128, 384]⟩
abbrev S1x384x192 : Shape := ⟨3, ![1, 384, 192]⟩
abbrev S1x128x320 : Shape := ⟨3, ![1, 128, 320]⟩
abbrev S1x32x1024 : Shape := ⟨3, ![1, 32, 1024]⟩
abbrev S1x128x1024 : Shape := ⟨3, ![1, 128, 1024]⟩

abbrev nBuf : Space → Nat
  | .hbm => 63
  | .vmem => 63
  | .smem => 0
  | _ => 0

abbrev bufTy : (tb : Table) → Fin (tcTables nBuf tb) → BufTy
  | .hbm, ⟨0, _⟩ => ⟨S128x384, .f32⟩
  | .hbm, ⟨1, _⟩ => ⟨S128x384, .f32⟩
  | .hbm, ⟨2, _⟩ => ⟨S128x384, .f32⟩
  | .hbm, ⟨3, _⟩ => ⟨S128x384, .f32⟩
  | .hbm, ⟨4, _⟩ => ⟨S3x128x384, .bf16⟩
  | .hbm, ⟨5, _⟩ => ⟨S384x192, .f32⟩
  | .hbm, ⟨6, _⟩ => ⟨S384x192, .f32⟩
  | .hbm, ⟨7, _⟩ => ⟨S384x192, .f32⟩
  | .hbm, ⟨8, _⟩ => ⟨S384x192, .f32⟩
  | .hbm, ⟨9, _⟩ => ⟨S3x384x192, .bf16⟩
  | .hbm, ⟨10, _⟩ => ⟨S128x320, .f32⟩
  | .hbm, ⟨11, _⟩ => ⟨S128x320, .f32⟩
  | .hbm, ⟨12, _⟩ => ⟨S128x320, .f32⟩
  | .hbm, ⟨13, _⟩ => ⟨S128x320, .f32⟩
  | .hbm, ⟨14, _⟩ => ⟨S3x128x320, .bf16⟩
  | .hbm, ⟨15, _⟩ => ⟨S32x1024, .f32⟩
  | .hbm, ⟨16, _⟩ => ⟨S32x1024, .f32⟩
  | .hbm, ⟨17, _⟩ => ⟨S32x1024, .f32⟩
  | .hbm, ⟨18, _⟩ => ⟨S32x1024, .f32⟩
  | .hbm, ⟨19, _⟩ => ⟨S3x32x1024, .bf16⟩
  | .hbm, ⟨20, _⟩ => ⟨S32x1024, .f32⟩
  | .hbm, ⟨21, _⟩ => ⟨S32x1024, .f32⟩
  | .hbm, ⟨22, _⟩ => ⟨S32x1024, .f32⟩
  | .hbm, ⟨23, _⟩ => ⟨S32x1024, .f32⟩
  | .hbm, ⟨24, _⟩ => ⟨S3x32x1024, .bf16⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S3x128x1024, .bf16⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S3x128x1024, .bf16⟩
  | .hbm, ⟨35, _⟩ => ⟨S128x384, .f32⟩
  | .hbm, ⟨36, _⟩ => ⟨S128x384, .f32⟩
  | .hbm, ⟨37, _⟩ => ⟨S128x384, .f32⟩
  | .hbm, ⟨38, _⟩ => ⟨S128x384, .f32⟩
  | .hbm, ⟨39, _⟩ => ⟨S384x192, .f32⟩
  | .hbm, ⟨40, _⟩ => ⟨S384x192, .f32⟩
  | .hbm, ⟨41, _⟩ => ⟨S384x192, .f32⟩
  | .hbm, ⟨42, _⟩ => ⟨S384x192, .f32⟩
  | .hbm, ⟨43, _⟩ => ⟨S128x320, .f32⟩
  | .hbm, ⟨44, _⟩ => ⟨S128x320, .f32⟩
  | .hbm, ⟨45, _⟩ => ⟨S128x320, .f32⟩
  | .hbm, ⟨46, _⟩ => ⟨S128x320, .f32⟩
  | .hbm, ⟨47, _⟩ => ⟨S32x1024, .f32⟩
  | .hbm, ⟨48, _⟩ => ⟨S32x1024, .f32⟩
  | .hbm, ⟨49, _⟩ => ⟨S32x1024, .f32⟩
  | .hbm, ⟨50, _⟩ => ⟨S32x1024, .f32⟩
  | .hbm, ⟨51, _⟩ => ⟨S32x1024, .f32⟩
  | .hbm, ⟨52, _⟩ => ⟨S32x1024, .f32⟩
  | .hbm, ⟨53, _⟩ => ⟨S32x1024, .f32⟩
  | .hbm, ⟨54, _⟩ => ⟨S32x1024, .f32⟩
  | .hbm, ⟨55, _⟩ => ⟨S128x1024, .f32⟩
  | .hbm, ⟨56, _⟩ => ⟨S128x1024, .f32⟩
  | .hbm, ⟨57, _⟩ => ⟨S128x1024, .f32⟩
  | .hbm, ⟨58, _⟩ => ⟨S128x1024, .f32⟩
  | .hbm, ⟨59, _⟩ => ⟨S128x1024, .f32⟩
  | .hbm, ⟨60, _⟩ => ⟨S128x1024, .f32⟩
  | .hbm, ⟨61, _⟩ => ⟨S128x1024, .f32⟩
  | .hbm, ⟨62, _⟩ => ⟨S128x1024, .f32⟩
  | .local _ .vmem, ⟨0, _⟩ => ⟨S128x384, .f32⟩
  | .local _ .vmem, ⟨1, _⟩ => ⟨S128x384, .f32⟩
  | .local _ .vmem, ⟨2, _⟩ => ⟨S128x384, .f32⟩
  | .local _ .vmem, ⟨3, _⟩ => ⟨S128x384, .f32⟩
  | .local _ .vmem, ⟨4, _⟩ => ⟨S3x128x384, .bf16⟩
  | .local _ .vmem, ⟨5, _⟩ => ⟨S384x192, .f32⟩
  | .local _ .vmem, ⟨6, _⟩ => ⟨S384x192, .f32⟩
  | .local _ .vmem, ⟨7, _⟩ => ⟨S384x192, .f32⟩
  | .local _ .vmem, ⟨8, _⟩ => ⟨S384x192, .f32⟩
  | .local _ .vmem, ⟨9, _⟩ => ⟨S3x384x192, .bf16⟩
  | .local _ .vmem, ⟨10, _⟩ => ⟨S128x320, .f32⟩
  | .local _ .vmem, ⟨11, _⟩ => ⟨S128x320, .f32⟩
  | .local _ .vmem, ⟨12, _⟩ => ⟨S128x320, .f32⟩
  | .local _ .vmem, ⟨13, _⟩ => ⟨S128x320, .f32⟩
  | .local _ .vmem, ⟨14, _⟩ => ⟨S3x128x320, .bf16⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | .local _ .vmem, ⟨18, _⟩ => ⟨S32x1024, .f32⟩
  | .local _ .vmem, ⟨19, _⟩ => ⟨S3x32x1024, .bf16⟩
  | .local _ .vmem, ⟨20, _⟩ => ⟨S32x1024, .f32⟩
  | .local _ .vmem, ⟨21, _⟩ => ⟨S32x1024, .f32⟩
  | .local _ .vmem, ⟨22, _⟩ => ⟨S32x1024, .f32⟩
  | .local _ .vmem, ⟨23, _⟩ => ⟨S32x1024, .f32⟩
  | .local _ .vmem, ⟨24, _⟩ => ⟨S3x32x1024, .bf16⟩
  | .local _ .vmem, ⟨25, _⟩ => ⟨S128x1024, .f32⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S3x128x1024, .bf16⟩
  | .local _ .vmem, ⟨30, _⟩ => ⟨S128x1024, .f32⟩
  | .local _ .vmem, ⟨31, _⟩ => ⟨S128x1024, .f32⟩
  | .local _ .vmem, ⟨32, _⟩ => ⟨S128x1024, .f32⟩
  | .local _ .vmem, ⟨33, _⟩ => ⟨S128x1024, .f32⟩
  | .local _ .vmem, ⟨34, _⟩ => ⟨S3x128x1024, .bf16⟩
  | .local _ .vmem, ⟨35, _⟩ => ⟨S128x384, .f32⟩
  | .local _ .vmem, ⟨36, _⟩ => ⟨S128x384, .f32⟩
  | .local _ .vmem, ⟨37, _⟩ => ⟨S128x384, .f32⟩
  | .local _ .vmem, ⟨38, _⟩ => ⟨S128x384, .f32⟩
  | .local _ .vmem, ⟨39, _⟩ => ⟨S384x192, .f32⟩
  | .local _ .vmem, ⟨40, _⟩ => ⟨S384x192, .f32⟩
  | .local _ .vmem, ⟨41, _⟩ => ⟨S384x192, .f32⟩
  | .local _ .vmem, ⟨42, _⟩ => ⟨S384x192, .f32⟩
  | .local _ .vmem, ⟨43, _⟩ => ⟨S128x320, .f32⟩
  | .local _ .vmem, ⟨44, _⟩ => ⟨S128x320, .f32⟩
  | .local _ .vmem, ⟨45, _⟩ => ⟨S128x320, .f32⟩
  | .local _ .vmem, ⟨46, _⟩ => ⟨S128x320, .f32⟩
  | .local _ .vmem, ⟨47, _⟩ => ⟨S32x1024, .f32⟩
  | .local _ .vmem, ⟨48, _⟩ => ⟨S32x1024, .f32⟩
  | .local _ .vmem, ⟨49, _⟩ => ⟨S32x1024, .f32⟩
  | .local _ .vmem, ⟨50, _⟩ => ⟨S32x1024, .f32⟩
  | .local _ .vmem, ⟨51, _⟩ => ⟨S32x1024, .f32⟩
  | .local _ .vmem, ⟨52, _⟩ => ⟨S32x1024, .f32⟩
  | .local _ .vmem, ⟨53, _⟩ => ⟨S32x1024, .f32⟩
  | .local _ .vmem, ⟨54, _⟩ => ⟨S32x1024, .f32⟩
  | .local _ .vmem, ⟨55, _⟩ => ⟨S128x1024, .f32⟩
  | .local _ .vmem, ⟨56, _⟩ => ⟨S128x1024, .f32⟩
  | .local _ .vmem, ⟨57, _⟩ => ⟨S128x1024, .f32⟩
  | .local _ .vmem, ⟨58, _⟩ => ⟨S128x1024, .f32⟩
  | .local _ .vmem, ⟨59, _⟩ => ⟨S128x1024, .f32⟩
  | .local _ .vmem, ⟨60, _⟩ => ⟨S128x1024, .f32⟩
  | .local _ .vmem, ⟨61, _⟩ => ⟨S128x1024, .f32⟩
  | .local _ .vmem, ⟨62, _⟩ => ⟨S128x1024, .f32⟩
  | _, _ => ⟨S128x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_v0_0 : Ref sig .tc := ⟨.hbm, 35, rfl⟩
abbrev main_v0_1 : Ref sig .tc := ⟨.hbm, 36, rfl⟩
abbrev main_v0_2 : Ref sig .tc := ⟨.hbm, 37, rfl⟩
abbrev main_v0_3 : Ref sig .tc := ⟨.hbm, 38, rfl⟩
abbrev main_v0_4 : Ref sig .tc := ⟨.hbm, 39, rfl⟩
abbrev main_v0_5 : Ref sig .tc := ⟨.hbm, 40, rfl⟩
abbrev main_v0_6 : Ref sig .tc := ⟨.hbm, 41, rfl⟩
abbrev main_v0_7 : Ref sig .tc := ⟨.hbm, 42, rfl⟩
abbrev main_v0_8 : Ref sig .tc := ⟨.hbm, 43, rfl⟩
abbrev main_v0_9 : Ref sig .tc := ⟨.hbm, 44, rfl⟩
abbrev main_v0_10 : Ref sig .tc := ⟨.hbm, 45, rfl⟩
abbrev main_v0_11 : Ref sig .tc := ⟨.hbm, 46, rfl⟩
abbrev main_v0_12 : Ref sig .tc := ⟨.hbm, 47, rfl⟩
abbrev main_v0_13 : Ref sig .tc := ⟨.hbm, 48, rfl⟩
abbrev main_v0_14 : Ref sig .tc := ⟨.hbm, 49, rfl⟩
abbrev main_v0_15 : Ref sig .tc := ⟨.hbm, 50, rfl⟩
abbrev main_v0_16 : Ref sig .tc := ⟨.hbm, 51, rfl⟩
abbrev main_v0_17 : Ref sig .tc := ⟨.hbm, 52, rfl⟩
abbrev main_v0_18 : Ref sig .tc := ⟨.hbm, 53, rfl⟩
abbrev main_v0_19 : Ref sig .tc := ⟨.hbm, 54, rfl⟩
abbrev main_v0_20 : Ref sig .tc := ⟨.hbm, 55, rfl⟩
abbrev main_v0_21 : Ref sig .tc := ⟨.hbm, 56, rfl⟩
abbrev main_v0_22 : Ref sig .tc := ⟨.hbm, 57, rfl⟩
abbrev main_v0_23 : Ref sig .tc := ⟨.hbm, 58, rfl⟩
abbrev main_v0_24 : Ref sig .tc := ⟨.hbm, 59, rfl⟩
abbrev main_v0_25 : Ref sig .tc := ⟨.hbm, 60, rfl⟩
abbrev main_v0_26 : Ref sig .tc := ⟨.hbm, 61, rfl⟩
abbrev main_v0_27 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_36 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_37 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_38 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_39 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_40 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_41 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_42 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_43 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_44 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_45 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_46 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_47 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_48 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_49 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_50 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_51 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_52 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_53 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_54 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_55 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_56 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_57 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_58 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_59 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_60 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_61 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_62 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x384x192 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x320 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x320 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x320 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x320 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3x128x320 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S32x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S32x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S3x32x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S32x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S32x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S32x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S32x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S3x32x1024 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S128x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S128x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S128x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S128x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S3x128x1024 .bf16 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S128x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S128x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S128x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S128x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S3x128x1024 .bf16 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S128x384 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]

abbrev stage0_36 : Fin 1 → Memref sig .tc .vmem S128x384 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
abbrev reads0_36 : Fin grid0.rank → Bool := ![false]

abbrev stage0_37 : Fin 1 → Memref sig .tc .vmem S128x384 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))
abbrev reads0_37 : Fin grid0.rank → Bool := ![false]

abbrev stage0_38 : Fin 1 → Memref sig .tc .vmem S128x384 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))
abbrev reads0_38 : Fin grid0.rank → Bool := ![false]

abbrev stage0_39 : Fin 1 → Memref sig .tc .vmem S384x192 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))
abbrev reads0_39 : Fin grid0.rank → Bool := ![false]

abbrev stage0_40 : Fin 1 → Memref sig .tc .vmem S384x192 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))
abbrev reads0_40 : Fin grid0.rank → Bool := ![false]

abbrev stage0_41 : Fin 1 → Memref sig .tc .vmem S384x192 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))
abbrev reads0_41 : Fin grid0.rank → Bool := ![false]

abbrev stage0_42 : Fin 1 → Memref sig .tc .vmem S384x192 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))
abbrev reads0_42 : Fin grid0.rank → Bool := ![false]

abbrev stage0_43 : Fin 1 → Memref sig .tc .vmem S128x320 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))
abbrev reads0_43 : Fin grid0.rank → Bool := ![false]

abbrev stage0_44 : Fin 1 → Memref sig .tc .vmem S128x320 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))
abbrev reads0_44 : Fin grid0.rank → Bool := ![false]

abbrev stage0_45 : Fin 1 → Memref sig .tc .vmem S128x320 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))
abbrev reads0_45 : Fin grid0.rank → Bool := ![false]

abbrev stage0_46 : Fin 1 → Memref sig .tc .vmem S128x320 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))
abbrev reads0_46 : Fin grid0.rank → Bool := ![false]

abbrev stage0_47 : Fin 1 → Memref sig .tc .vmem S32x1024 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))
abbrev reads0_47 : Fin grid0.rank → Bool := ![false]

abbrev stage0_48 : Fin 1 → Memref sig .tc .vmem S32x1024 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))
abbrev reads0_48 : Fin grid0.rank → Bool := ![false]

abbrev stage0_49 : Fin 1 → Memref sig .tc .vmem S32x1024 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))
abbrev reads0_49 : Fin grid0.rank → Bool := ![false]

abbrev stage0_50 : Fin 1 → Memref sig .tc .vmem S32x1024 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))
abbrev reads0_50 : Fin grid0.rank → Bool := ![false]

abbrev stage0_51 : Fin 1 → Memref sig .tc .vmem S32x1024 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))
abbrev reads0_51 : Fin grid0.rank → Bool := ![false]

abbrev stage0_52 : Fin 1 → Memref sig .tc .vmem S32x1024 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))
abbrev reads0_52 : Fin grid0.rank → Bool := ![false]

abbrev stage0_53 : Fin 1 → Memref sig .tc .vmem S32x1024 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))
abbrev reads0_53 : Fin grid0.rank → Bool := ![false]

abbrev stage0_54 : Fin 1 → Memref sig .tc .vmem S32x1024 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))
abbrev reads0_54 : Fin grid0.rank → Bool := ![false]

abbrev stage0_55 : Fin 1 → Memref sig .tc .vmem S128x1024 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))
abbrev reads0_55 : Fin grid0.rank → Bool := ![false]

abbrev stage0_56 : Fin 1 → Memref sig .tc .vmem S128x1024 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))
abbrev reads0_56 : Fin grid0.rank → Bool := ![false]

abbrev stage0_57 : Fin 1 → Memref sig .tc .vmem S128x1024 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))
abbrev reads0_57 : Fin grid0.rank → Bool := ![false]

abbrev stage0_58 : Fin 1 → Memref sig .tc .vmem S128x1024 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))
abbrev reads0_58 : Fin grid0.rank → Bool := ![false]

abbrev stage0_59 : Fin 1 → Memref sig .tc .vmem S128x1024 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))
abbrev reads0_59 : Fin grid0.rank → Bool := ![false]

abbrev stage0_60 : Fin 1 → Memref sig .tc .vmem S128x1024 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))
abbrev reads0_60 : Fin grid0.rank → Bool := ![false]

abbrev stage0_61 : Fin 1 → Memref sig .tc .vmem S128x1024 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))
abbrev reads0_61 : Fin grid0.rank → Bool := ![false]

abbrev stage0_62 : Fin 1 → Memref sig .tc .vmem S128x1024 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))
abbrev reads0_62 : Fin grid0.rank → Bool := ![false]
-- ==== Adam1RefIdeal.lean ====
abbrev S128x384 : Shape := ⟨2, ![128, 384]⟩
abbrev S3x128x384 : Shape := ⟨3, ![3, 128, 384]⟩
abbrev S384x192 : Shape := ⟨2, ![384, 192]⟩
abbrev S3x384x192 : Shape := ⟨3, ![3, 384, 192]⟩
abbrev S128x320 : Shape := ⟨2, ![128, 320]⟩
abbrev S3x128x320 : Shape := ⟨3, ![3, 128, 320]⟩
abbrev S32x1024 : Shape := ⟨2, ![32, 1024]⟩
abbrev S3x32x1024 : Shape := ⟨3, ![3, 32, 1024]⟩
abbrev S128x1024 : Shape := ⟨2, ![128, 1024]⟩
abbrev S3x128x1024 : Shape := ⟨3, ![3, 128, 1024]⟩
abbrev S_ : Shape := ⟨0, ![]⟩

abbrev nBuf : Space → Nat
  | .hbm => 294
  | .vmem => 0
  | .smem => 0
  | _ => 0

abbrev hbmTy0_0 (i : Nat) : BufTy := match i % 128 with
  | 0 => ⟨S128x384, .f32⟩
  | 1 => ⟨S128x384, .f32⟩
  | 2 => ⟨S128x384, .f32⟩
  | 3 => ⟨S128x384, .f32⟩
  | 4 => ⟨S3x128x384, .bf16⟩
  | 5 => ⟨S384x192, .f32⟩
  | 6 => ⟨S384x192, .f32⟩
  | 7 => ⟨S384x192, .f32⟩
  | 8 => ⟨S384x192, .f32⟩
  | 9 => ⟨S3x384x192, .bf16⟩
  | 10 => ⟨S128x320, .f32⟩
  | 11 => ⟨S128x320, .f32⟩
  | 12 => ⟨S128x320, .f32⟩
  | 13 => ⟨S128x320, .f32⟩
  | 14 => ⟨S3x128x320, .bf16⟩
  | 15 => ⟨S32x1024, .f32⟩
  | 16 => ⟨S32x1024, .f32⟩
  | 17 => ⟨S32x1024, .f32⟩
  | 18 => ⟨S32x1024, .f32⟩
  | 19 => ⟨S3x32x1024, .bf16⟩
  | 20 => ⟨S32x1024, .f32⟩
  | 21 => ⟨S32x1024, .f32⟩
  | 22 => ⟨S32x1024, .f32⟩
  | 23 => ⟨S32x1024, .f32⟩
  | 24 => ⟨S3x32x1024, .bf16⟩
  | 25 => ⟨S128x1024, .f32⟩
  | 26 => ⟨S128x1024, .f32⟩
  | 27 => ⟨S128x1024, .f32⟩
  | 28 => ⟨S128x1024, .f32⟩
  | 29 => ⟨S3x128x1024, .bf16⟩
  | 30 => ⟨S128x1024, .f32⟩
  | 31 => ⟨S128x1024, .f32⟩
  | 32 => ⟨S128x1024, .f32⟩
  | 33 => ⟨S128x1024, .f32⟩
  | 34 => ⟨S3x128x1024, .bf16⟩
  | 35 => ⟨S3x128x384, .f32⟩
  | 36 => ⟨S_, .f32⟩
  | 37 => ⟨S128x384, .f32⟩
  | 38 => ⟨S128x384, .f32⟩
  | 39 => ⟨S_, .f32⟩
  | 40 => ⟨S128x384, .f32⟩
  | 41 => ⟨S128x384, .f32⟩
  | 42 => ⟨S_, .f32⟩
  | 43 => ⟨S128x384, .f32⟩
  | 44 => ⟨S128x384, .f32⟩
  | 45 => ⟨S128x384, .f32⟩
  | 46 => ⟨S_, .f32⟩
  | 47 => ⟨S128x384, .f32⟩
  | 48 => ⟨S128x384, .f32⟩
  | 49 => ⟨S128x384, .f32⟩
  | 50 => ⟨S_, .f32⟩
  | 51 => ⟨S128x384, .f32⟩
  | 52 => ⟨S128x384, .f32⟩
  | 53 => ⟨S128x384, .f32⟩
  | 54 => ⟨S_, .f32⟩
  | 55 => ⟨S128x384, .f32⟩
  | 56 => ⟨S128x384, .f32⟩
  | 57 => ⟨S_, .f32⟩
  | 58 => ⟨S128x384, .f32⟩
  | 59 => ⟨S128x384, .f32⟩
  | 60 => ⟨S128x384, .f32⟩
  | 61 => ⟨S_, .f32⟩
  | 62 => ⟨S128x384, .f32⟩
  | 63 => ⟨S128x384, .f32⟩
  | 64 => ⟨S128x384, .f32⟩
  | 65 => ⟨S_, .f32⟩
  | 66 => ⟨S128x384, .f32⟩
  | 67 => ⟨S128x384, .f32⟩
  | 68 => ⟨S128x384, .f32⟩
  | 69 => ⟨S_, .f32⟩
  | 70 => ⟨S128x384, .f32⟩
  | 71 => ⟨S128x384, .f32⟩
  | 72 => ⟨S3x384x192, .f32⟩
  | 73 => ⟨S_, .f32⟩
  | 74 => ⟨S384x192, .f32⟩
  | 75 => ⟨S384x192, .f32⟩
  | 76 => ⟨S_, .f32⟩
  | 77 => ⟨S384x192, .f32⟩
  | 78 => ⟨S384x192, .f32⟩
  | 79 => ⟨S_, .f32⟩
  | 80 => ⟨S384x192, .f32⟩
  | 81 => ⟨S384x192, .f32⟩
  | 82 => ⟨S384x192, .f32⟩
  | 83 => ⟨S_, .f32⟩
  | 84 => ⟨S384x192, .f32⟩
  | 85 => ⟨S384x192, .f32⟩
  | 86 => ⟨S384x192, .f32⟩
  | 87 => ⟨S_, .f32⟩
  | 88 => ⟨S384x192, .f32⟩
  | 89 => ⟨S384x192, .f32⟩
  | 90 => ⟨S384x192, .f32⟩
  | 91 => ⟨S_, .f32⟩
  | 92 => ⟨S384x192, .f32⟩
  | 93 => ⟨S384x192, .f32⟩
  | 94 => ⟨S_, .f32⟩
  | 95 => ⟨S384x192, .f32⟩
  | 96 => ⟨S384x192, .f32⟩
  | 97 => ⟨S384x192, .f32⟩
  | 98 => ⟨S_, .f32⟩
  | 99 => ⟨S384x192, .f32⟩
  | 100 => ⟨S384x192, .f32⟩
  | 101 => ⟨S384x192, .f32⟩
  | 102 => ⟨S_, .f32⟩
  | 103 => ⟨S384x192, .f32⟩
  | 104 => ⟨S384x192, .f32⟩
  | 105 => ⟨S384x192, .f32⟩
  | 106 => ⟨S_, .f32⟩
  | 107 => ⟨S384x192, .f32⟩
  | 108 => ⟨S384x192, .f32⟩
  | 109 => ⟨S3x128x320, .f32⟩
  | 110 => ⟨S_, .f32⟩
  | 111 => ⟨S128x320, .f32⟩
  | 112 => ⟨S128x320, .f32⟩
  | 113 => ⟨S_, .f32⟩
  | 114 => ⟨S128x320, .f32⟩
  | 115 => ⟨S128x320, .f32⟩
  | 116 => ⟨S_, .f32⟩
  | 117 => ⟨S128x320, .f32⟩
  | 118 => ⟨S128x320, .f32⟩
  | 119 => ⟨S128x320, .f32⟩
  | 120 => ⟨S_, .f32⟩
  | 121 => ⟨S128x320, .f32⟩
  | 122 => ⟨S128x320, .f32⟩
  | 123 => ⟨S128x320, .f32⟩
  | 124 => ⟨S_, .f32⟩
  | 125 => ⟨S128x320, .f32⟩
  | 126 => ⟨S128x320, .f32⟩
  | 127 => ⟨S128x320, .f32⟩
  | _ => ⟨S128x384, .f32⟩

abbrev hbmTy0_1 (i : Nat) : BufTy := match i % 128 with
  | 0 => ⟨S_, .f32⟩
  | 1 => ⟨S128x320, .f32⟩
  | 2 => ⟨S128x320, .f32⟩
  | 3 => ⟨S_, .f32⟩
  | 4 => ⟨S128x320, .f32⟩
  | 5 => ⟨S128x320, .f32⟩
  | 6 => ⟨S128x320, .f32⟩
  | 7 => ⟨S_, .f32⟩
  | 8 => ⟨S128x320, .f32⟩
  | 9 => ⟨S128x320, .f32⟩
  | 10 => ⟨S128x320, .f32⟩
  | 11 => ⟨S_, .f32⟩
  | 12 => ⟨S128x320, .f32⟩
  | 13 => ⟨S128x320, .f32⟩
  | 14 => ⟨S128x320, .f32⟩
  | 15 => ⟨S_, .f32⟩
  | 16 => ⟨S128x320, .f32⟩
  | 17 => ⟨S128x320, .f32⟩
  | 18 => ⟨S3x32x1024, .f32⟩
  | 19 => ⟨S_, .f32⟩
  | 20 => ⟨S32x1024, .f32⟩
  | 21 => ⟨S32x1024, .f32⟩
  | 22 => ⟨S_, .f32⟩
  | 23 => ⟨S32x1024, .f32⟩
  | 24 => ⟨S32x1024, .f32⟩
  | 25 => ⟨S_, .f32⟩
  | 26 => ⟨S32x1024, .f32⟩
  | 27 => ⟨S32x1024, .f32⟩
  | 28 => ⟨S32x1024, .f32⟩
  | 29 => ⟨S_, .f32⟩
  | 30 => ⟨S32x1024, .f32⟩
  | 31 => ⟨S32x1024, .f32⟩
  | 32 => ⟨S32x1024, .f32⟩
  | 33 => ⟨S_, .f32⟩
  | 34 => ⟨S32x1024, .f32⟩
  | 35 => ⟨S32x1024, .f32⟩
  | 36 => ⟨S32x1024, .f32⟩
  | 37 => ⟨S_, .f32⟩
  | 38 => ⟨S32x1024, .f32⟩
  | 39 => ⟨S32x1024, .f32⟩
  | 40 => ⟨S_, .f32⟩
  | 41 => ⟨S32x1024, .f32⟩
  | 42 => ⟨S32x1024, .f32⟩
  | 43 => ⟨S32x1024, .f32⟩
  | 44 => ⟨S_, .f32⟩
  | 45 => ⟨S32x1024, .f32⟩
  | 46 => ⟨S32x1024, .f32⟩
  | 47 => ⟨S32x1024, .f32⟩
  | 48 => ⟨S_, .f32⟩
  | 49 => ⟨S32x1024, .f32⟩
  | 50 => ⟨S32x1024, .f32⟩
  | 51 => ⟨S32x1024, .f32⟩
  | 52 => ⟨S_, .f32⟩
  | 53 => ⟨S32x1024, .f32⟩
  | 54 => ⟨S32x1024, .f32⟩
  | 55 => ⟨S3x32x1024, .f32⟩
  | 56 => ⟨S_, .f32⟩
  | 57 => ⟨S32x1024, .f32⟩
  | 58 => ⟨S32x1024, .f32⟩
  | 59 => ⟨S_, .f32⟩
  | 60 => ⟨S32x1024, .f32⟩
  | 61 => ⟨S32x1024, .f32⟩
  | 62 => ⟨S_, .f32⟩
  | 63 => ⟨S32x1024, .f32⟩
  | 64 => ⟨S32x1024, .f32⟩
  | 65 => ⟨S32x1024, .f32⟩
  | 66 => ⟨S_, .f32⟩
  | 67 => ⟨S32x1024, .f32⟩
  | 68 => ⟨S32x1024, .f32⟩
  | 69 => ⟨S32x1024, .f32⟩
  | 70 => ⟨S_, .f32⟩
  | 71 => ⟨S32x1024, .f32⟩
  | 72 => ⟨S32x1024, .f32⟩
  | 73 => ⟨S32x1024, .f32⟩
  | 74 => ⟨S_, .f32⟩
  | 75 => ⟨S32x1024, .f32⟩
  | 76 => ⟨S32x1024, .f32⟩
  | 77 => ⟨S_, .f32⟩
  | 78 => ⟨S32x1024, .f32⟩
  | 79 => ⟨S32x1024, .f32⟩
  | 80 => ⟨S32x1024, .f32⟩
  | 81 => ⟨S_, .f32⟩
  | 82 => ⟨S32x1024, .f32⟩
  | 83 => ⟨S32x1024, .f32⟩
  | 84 => ⟨S32x1024, .f32⟩
  | 85 => ⟨S_, .f32⟩
  | 86 => ⟨S32x1024, .f32⟩
  | 87 => ⟨S32x1024, .f32⟩
  | 88 => ⟨S32x1024, .f32⟩
  | 89 => ⟨S_, .f32⟩
  | 90 => ⟨S32x1024, .f32⟩
  | 91 => ⟨S32x1024, .f32⟩
  | 92 => ⟨S3x128x1024, .f32⟩
  | 93 => ⟨S_, .f32⟩
  | 94 => ⟨S128x1024, .f32⟩
  | 95 => ⟨S128x1024, .f32⟩
  | 96 => ⟨S_, .f32⟩
  | 97 => ⟨S128x1024, .f32⟩
  | 98 => ⟨S128x1024, .f32⟩
  | 99 => ⟨S_, .f32⟩
  | 100 => ⟨S128x1024, .f32⟩
  | 101 => ⟨S128x1024, .f32⟩
  | 102 => ⟨S128x1024, .f32⟩
  | 103 => ⟨S_, .f32⟩
  | 104 => ⟨S128x1024, .f32⟩
  | 105 => ⟨S128x1024, .f32⟩
  | 106 => ⟨S128x1024, .f32⟩
  | 107 => ⟨S_, .f32⟩
  | 108 => ⟨S128x1024, .f32⟩
  | 109 => ⟨S128x1024, .f32⟩
  | 110 => ⟨S128x1024, .f32⟩
  | 111 => ⟨S_, .f32⟩
  | 112 => ⟨S128x1024, .f32⟩
  | 113 => ⟨S128x1024, .f32⟩
  | 114 => ⟨S_, .f32⟩
  | 115 => ⟨S128x1024, .f32⟩
  | 116 => ⟨S128x1024, .f32⟩
  | 117 => ⟨S128x1024, .f32⟩
  | 118 => ⟨S_, .f32⟩
  | 119 => ⟨S128x1024, .f32⟩
  | 120 => ⟨S128x1024, .f32⟩
  | 121 => ⟨S128x1024, .f32⟩
  | 122 => ⟨S_, .f32⟩
  | 123 => ⟨S128x1024, .f32⟩
  | 124 => ⟨S128x1024, .f32⟩
  | 125 => ⟨S128x1024, .f32⟩
  | 126 => ⟨S_, .f32⟩
  | 127 => ⟨S128x1024, .f32⟩
  | _ => ⟨S128x384, .f32⟩

abbrev hbmTy0_2 (i : Nat) : BufTy := match i % 128 with
  | 0 => ⟨S128x1024, .f32⟩
  | 1 => ⟨S3x128x1024, .f32⟩
  | 2 => ⟨S_, .f32⟩
  | 3 => ⟨S128x1024, .f32⟩
  | 4 => ⟨S128x1024, .f32⟩
  | 5 => ⟨S_, .f32⟩
  | 6 => ⟨S128x1024, .f32⟩
  | 7 => ⟨S128x1024, .f32⟩
  | 8 => ⟨S_, .f32⟩
  | 9 => ⟨S128x1024, .f32⟩
  | 10 => ⟨S128x1024, .f32⟩
  | 11 => ⟨S128x1024, .f32⟩
  | 12 => ⟨S_, .f32⟩
  | 13 => ⟨S128x1024, .f32⟩
  | 14 => ⟨S128x1024, .f32⟩
  | 15 => ⟨S128x1024, .f32⟩
  | 16 => ⟨S_, .f32⟩
  | 17 => ⟨S128x1024, .f32⟩
  | 18 => ⟨S128x1024, .f32⟩
  | 19 => ⟨S128x1024, .f32⟩
  | 20 => ⟨S_, .f32⟩
  | 21 => ⟨S128x1024, .f32⟩
  | 22 => ⟨S128x1024, .f32⟩
  | 23 => ⟨S_, .f32⟩
  | 24 => ⟨S128x1024, .f32⟩
  | 25 => ⟨S128x1024, .f32⟩
  | 26 => ⟨S128x1024, .f32⟩
  | 27 => ⟨S_, .f32⟩
  | 28 => ⟨S128x1024, .f32⟩
  | 29 => ⟨S128x1024, .f32⟩
  | 30 => ⟨S128x1024, .f32⟩
  | 31 => ⟨S_, .f32⟩
  | 32 => ⟨S128x1024, .f32⟩
  | 33 => ⟨S128x1024, .f32⟩
  | 34 => ⟨S128x1024, .f32⟩
  | 35 => ⟨S_, .f32⟩
  | 36 => ⟨S128x1024, .f32⟩
  | 37 => ⟨S128x1024, .f32⟩
  | _ => ⟨S128x384, .f32⟩

abbrev hbmTy (i : Nat) : BufTy := match i / 128 with
  | 0 => hbmTy0_0 i
  | 1 => hbmTy0_1 i
  | 2 => hbmTy0_2 i
  | _ => ⟨S128x384, .f32⟩

abbrev bufTy : (tb : Table) → Fin (tcTables nBuf tb) → BufTy
  | .hbm, ⟨i, _⟩ => hbmTy i
  | _, _ => ⟨S128x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_v0 : Ref sig .tc := ⟨.hbm, 35, rfl⟩
abbrev main_cst : Ref sig .tc := ⟨.hbm, 36, rfl⟩
abbrev main_v1 : Ref sig .tc := ⟨.hbm, 37, rfl⟩
abbrev main_v2 : Ref sig .tc := ⟨.hbm, 38, rfl⟩
abbrev main_cst_0 : Ref sig .tc := ⟨.hbm, 39, rfl⟩
abbrev main_v3 : Ref sig .tc := ⟨.hbm, 40, rfl⟩
abbrev main_v4 : Ref sig .tc := ⟨.hbm, 41, rfl⟩
abbrev main_cst_1 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_cst_2 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_cst_3 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_cst_4 : Ref sig .tc := ⟨.hbm, 54, rfl⟩
abbrev main_v14 : Ref sig .tc := ⟨.hbm, 55, rfl⟩
abbrev main_v15 : Ref sig .tc := ⟨.hbm, 56, rfl⟩
abbrev main_cst_5 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_cst_6 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_cst_7 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_cst_8 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_cst_9 : Ref sig .tc := ⟨.hbm, 73, rfl⟩
abbrev main_v28 : Ref sig .tc := ⟨.hbm, 74, rfl⟩
abbrev main_v29 : Ref sig .tc := ⟨.hbm, 75, rfl⟩
abbrev main_cst_10 : Ref sig .tc := ⟨.hbm, 76, rfl⟩
abbrev main_v30 : Ref sig .tc := ⟨.hbm, 77, rfl⟩
abbrev main_v31 : Ref sig .tc := ⟨.hbm, 78, rfl⟩
abbrev main_cst_11 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_cst_12 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_cst_13 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_cst_14 : Ref sig .tc := ⟨.hbm, 91, rfl⟩
abbrev main_v41 : Ref sig .tc := ⟨.hbm, 92, rfl⟩
abbrev main_v42 : Ref sig .tc := ⟨.hbm, 93, rfl⟩
abbrev main_cst_15 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_cst_16 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_cst_17 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_cst_18 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_cst_19 : Ref sig .tc := ⟨.hbm, 110, rfl⟩
abbrev main_v55 : Ref sig .tc := ⟨.hbm, 111, rfl⟩
abbrev main_v56 : Ref sig .tc := ⟨.hbm, 112, rfl⟩
abbrev main_cst_20 : Ref sig .tc := ⟨.hbm, 113, rfl⟩
abbrev main_v57 : Ref sig .tc := ⟨.hbm, 114, rfl⟩
abbrev main_v58 : Ref sig .tc := ⟨.hbm, 115, rfl⟩
abbrev main_cst_21 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_cst_22 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_cst_23 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_cst_24 : Ref sig .tc := ⟨.hbm, 128, rfl⟩
abbrev main_v68 : Ref sig .tc := ⟨.hbm, 129, rfl⟩
abbrev main_v69 : Ref sig .tc := ⟨.hbm, 130, rfl⟩
abbrev main_cst_25 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_cst_26 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_cst_27 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_cst_28 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_cst_29 : Ref sig .tc := ⟨.hbm, 147, rfl⟩
abbrev main_v82 : Ref sig .tc := ⟨.hbm, 148, rfl⟩
abbrev main_v83 : Ref sig .tc := ⟨.hbm, 149, rfl⟩
abbrev main_cst_30 : Ref sig .tc := ⟨.hbm, 150, rfl⟩
abbrev main_v84 : Ref sig .tc := ⟨.hbm, 151, rfl⟩
abbrev main_v85 : Ref sig .tc := ⟨.hbm, 152, rfl⟩
abbrev main_cst_31 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_cst_32 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_cst_33 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_cst_34 : Ref sig .tc := ⟨.hbm, 165, rfl⟩
abbrev main_v95 : Ref sig .tc := ⟨.hbm, 166, rfl⟩
abbrev main_v96 : Ref sig .tc := ⟨.hbm, 167, rfl⟩
abbrev main_cst_35 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_cst_36 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_cst_37 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_cst_38 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_cst_39 : Ref sig .tc := ⟨.hbm, 184, rfl⟩
abbrev main_v109 : Ref sig .tc := ⟨.hbm, 185, rfl⟩
abbrev main_v110 : Ref sig .tc := ⟨.hbm, 186, rfl⟩
abbrev main_cst_40 : Ref sig .tc := ⟨.hbm, 187, rfl⟩
abbrev main_v111 : Ref sig .tc := ⟨.hbm, 188, rfl⟩
abbrev main_v112 : Ref sig .tc := ⟨.hbm, 189, rfl⟩
abbrev main_cst_41 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_cst_42 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_cst_43 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_cst_44 : Ref sig .tc := ⟨.hbm, 202, rfl⟩
abbrev main_v122 : Ref sig .tc := ⟨.hbm, 203, rfl⟩
abbrev main_v123 : Ref sig .tc := ⟨.hbm, 204, rfl⟩
abbrev main_cst_45 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_cst_46 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_cst_47 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_cst_48 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_cst_49 : Ref sig .tc := ⟨.hbm, 221, rfl⟩
abbrev main_v136 : Ref sig .tc := ⟨.hbm, 222, rfl⟩
abbrev main_v137 : Ref sig .tc := ⟨.hbm, 223, rfl⟩
abbrev main_cst_50 : Ref sig .tc := ⟨.hbm, 224, rfl⟩
abbrev main_v138 : Ref sig .tc := ⟨.hbm, 225, rfl⟩
abbrev main_v139 : Ref sig .tc := ⟨.hbm, 226, rfl⟩
abbrev main_cst_51 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_cst_52 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_cst_53 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩
abbrev main_cst_54 : Ref sig .tc := ⟨.hbm, 239, rfl⟩
abbrev main_v149 : Ref sig .tc := ⟨.hbm, 240, rfl⟩
abbrev main_v150 : Ref sig .tc := ⟨.hbm, 241, rfl⟩
abbrev main_cst_55 : Ref sig .tc := ⟨.hbm, 242, rfl⟩
abbrev main_v151 : Ref sig .tc := ⟨.hbm, 243, rfl⟩
abbrev main_v152 : Ref sig .tc := ⟨.hbm, 244, rfl⟩
abbrev main_v153 : Ref sig .tc := ⟨.hbm, 245, rfl⟩
abbrev main_cst_56 : Ref sig .tc := ⟨.hbm, 246, rfl⟩
abbrev main_v154 : Ref sig .tc := ⟨.hbm, 247, rfl⟩
abbrev main_v155 : Ref sig .tc := ⟨.hbm, 248, rfl⟩
abbrev main_v156 : Ref sig .tc := ⟨.hbm, 249, rfl⟩
abbrev main_cst_57 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_cst_58 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_cst_59 : Ref sig .tc := ⟨.hbm, 258, rfl⟩
abbrev main_v163 : Ref sig .tc := ⟨.hbm, 259, rfl⟩
abbrev main_v164 : Ref sig .tc := ⟨.hbm, 260, rfl⟩
abbrev main_cst_60 : Ref sig .tc := ⟨.hbm, 261, rfl⟩
abbrev main_v165 : Ref sig .tc := ⟨.hbm, 262, rfl⟩
abbrev main_v166 : Ref sig .tc := ⟨.hbm, 263, rfl⟩
abbrev main_cst_61 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_cst_62 : Ref sig .tc := ⟨.hbm, 268, rfl⟩
abbrev main_v170 : Ref sig .tc := ⟨.hbm, 269, rfl⟩
abbrev main_v171 : Ref sig .tc := ⟨.hbm, 270, rfl⟩
abbrev main_v172 : Ref sig .tc := ⟨.hbm, 271, rfl⟩
abbrev main_cst_63 : Ref sig .tc := ⟨.hbm, 272, rfl⟩
abbrev main_v173 : Ref sig .tc := ⟨.hbm, 273, rfl⟩
abbrev main_v174 : Ref sig .tc := ⟨.hbm, 274, rfl⟩
abbrev main_v175 : Ref sig .tc := ⟨.hbm, 275, rfl⟩
abbrev main_cst_64 : Ref sig .tc := ⟨.hbm, 276, rfl⟩
abbrev main_v176 : Ref sig .tc := ⟨.hbm, 277, rfl⟩
abbrev main_v177 : Ref sig .tc := ⟨.hbm, 278, rfl⟩
abbrev main_cst_65 : Ref sig .tc := ⟨.hbm, 279, rfl⟩
abbrev main_v178 : Ref sig .tc := ⟨.hbm, 280, rfl⟩
abbrev main_v179 : Ref sig .tc := ⟨.hbm, 281, rfl⟩
abbrev main_v180 : Ref sig .tc := ⟨.hbm, 282, rfl⟩
abbrev main_cst_66 : Ref sig .tc := ⟨.hbm, 283, rfl⟩
abbrev main_v181 : Ref sig .tc := ⟨.hbm, 284, rfl⟩
abbrev main_v182 : Ref sig .tc := ⟨.hbm, 285, rfl⟩
abbrev main_v183 : Ref sig .tc := ⟨.hbm, 286, rfl⟩
abbrev main_cst_67 : Ref sig .tc := ⟨.hbm, 287, rfl⟩
abbrev main_v184 : Ref sig .tc := ⟨.hbm, 288, rfl⟩
abbrev main_v185 : Ref sig .tc := ⟨.hbm, 289, rfl⟩
abbrev main_v186 : Ref sig .tc := ⟨.hbm, 290, rfl⟩
abbrev main_cst_68 : Ref sig .tc := ⟨.hbm, 291, rfl⟩
abbrev main_v187 : Ref sig .tc := ⟨.hbm, 292, rfl⟩
abbrev main_v188 : Ref sig .tc := ⟨.hbm, 293, rfl⟩

abbrev nD : Nat := 1
abbrev τ : Topo := Topo.v7x

variable {F : FTy → Type} [FloatOps F]
-- ==== Small.lean ====
abbrev S2x3x128 : Shape := ⟨3, ![2, 3, 128]⟩
abbrev S1x384 : Shape := ⟨2, ![1, 384]⟩
abbrev S1x256 : Shape := ⟨2, ![1, 256]⟩
abbrev S1x31x128 : Shape := ⟨3, ![1, 31, 128]⟩
abbrev S1x128 : Shape := ⟨2, ![1, 128]⟩
abbrev S4x1024 : Shape := ⟨2, ![4, 1024]⟩
abbrev S768 : Shape := ⟨1, ![768]⟩
abbrev S_ : Shape := ⟨0, ![]⟩
abbrev S1024 : Shape := ⟨1, ![1024]⟩
abbrev S8x128 : Shape := ⟨2, ![8, 128]⟩
abbrev S384 : Shape := ⟨1, ![384]⟩
abbrev S256 : Shape := ⟨1, ![256]⟩
abbrev S3968 : Shape := ⟨1, ![3968]⟩
abbrev S4096 : Shape := ⟨1, ![4096]⟩
abbrev S32x128 : Shape := ⟨2, ![32, 128]⟩
abbrev S128 : Shape := ⟨1, ![128]⟩
abbrev S224x128 : Shape := ⟨2, ![224, 128]⟩

abbrev nBuf : Space → Nat
  | .hbm => 463
  | .vmem => 7
  | .smem => 0
  | _ => 0

abbrev hbmTy0_0 (i : Nat) : BufTy := match i % 128 with
  | 0 => ⟨S2x3x128, .f32⟩
  | 1 => ⟨S1x384, .f32⟩
  | 2 => ⟨S1x256, .f32⟩
  | 3 => ⟨S1x256, .f32⟩
  | 4 => ⟨S1x31x128, .f32⟩
  | 5 => ⟨S1x128, .f32⟩
  | 6 => ⟨S1x128, .f32⟩
  | 7 => ⟨S1x128, .f32⟩
  | 8 => ⟨S1x128, .f32⟩
  | 9 => ⟨S4x1024, .f32⟩
  | 10 => ⟨S4x1024, .f32⟩
  | 11 => ⟨S4x1024, .f32⟩
  | 12 => ⟨S4x1024, .f32⟩
  | 13 => ⟨S2x3x128, .f32⟩
  | 14 => ⟨S1x384, .f32⟩
  | 15 => ⟨S1x256, .f32⟩
  | 16 => ⟨S1x256, .f32⟩
  | 17 => ⟨S1x31x128, .f32⟩
  | 18 => ⟨S1x128, .f32⟩
  | 19 => ⟨S1x128, .f32⟩
  | 20 => ⟨S1x128, .f32⟩
  | 21 => ⟨S1x128, .f32⟩
  | 22 => ⟨S4x1024, .f32⟩
  | 23 => ⟨S4x1024, .f32⟩
  | 24 => ⟨S4x1024, .f32⟩
  | 25 => ⟨S4x1024, .f32⟩
  | 26 => ⟨S2x3x128, .f32⟩
  | 27 => ⟨S1x384, .f32⟩
  | 28 => ⟨S1x256, .f32⟩
  | 29 => ⟨S1x256, .f32⟩
  | 30 => ⟨S1x31x128, .f32⟩
  | 31 => ⟨S1x128, .f32⟩
  | 32 => ⟨S1x128, .f32⟩
  | 33 => ⟨S1x128, .f32⟩
  | 34 => ⟨S1x128, .f32⟩
  | 35 => ⟨S4x1024, .f32⟩
  | 36 => ⟨S4x1024, .f32⟩
  | 37 => ⟨S4x1024, .f32⟩
  | 38 => ⟨S4x1024, .f32⟩
  | 39 => ⟨S2x3x128, .f32⟩
  | 40 => ⟨S1x384, .f32⟩
  | 41 => ⟨S1x256, .f32⟩
  | 42 => ⟨S1x256, .f32⟩
  | 43 => ⟨S1x31x128, .f32⟩
  | 44 => ⟨S1x128, .f32⟩
  | 45 => ⟨S1x128, .f32⟩
  | 46 => ⟨S1x128, .f32⟩
  | 47 => ⟨S1x128, .f32⟩
  | 48 => ⟨S4x1024, .f32⟩
  | 49 => ⟨S4x1024, .f32⟩
  | 50 => ⟨S4x1024, .f32⟩
  | 51 => ⟨S4x1024, .f32⟩
  | 52 => ⟨S768, .f32⟩
  | 53 => ⟨S_, .i32⟩
  | 54 => ⟨S_, .f32⟩
  | 55 => ⟨S1024, .f32⟩
  | 56 => ⟨S8x128, .f32⟩
  | 57 => ⟨S384, .f32⟩
  | 58 => ⟨S_, .i32⟩
  | 59 => ⟨S_, .f32⟩
  | 60 => ⟨S1024, .f32⟩
  | 61 => ⟨S8x128, .f32⟩
  | 62 => ⟨S256, .f32⟩
  | 63 => ⟨S_, .i32⟩
  | 64 => ⟨S_, .f32⟩
  | 65 => ⟨S1024, .f32⟩
  | 66 => ⟨S8x128, .f32⟩
  | 67 => ⟨S256, .f32⟩
  | 68 => ⟨S_, .i32⟩
  | 69 => ⟨S_, .f32⟩
  | 70 => ⟨S1024, .f32⟩
  | 71 => ⟨S8x128, .f32⟩
  | 72 => ⟨S3968, .f32⟩
  | 73 => ⟨S_, .i32⟩
  | 74 => ⟨S_, .f32⟩
  | 75 => ⟨S4096, .f32⟩
  | 76 => ⟨S32x128, .f32⟩
  | 77 => ⟨S128, .f32⟩
  | 78 => ⟨S_, .i32⟩
  | 79 => ⟨S_, .f32⟩
  | 80 => ⟨S1024, .f32⟩
  | 81 => ⟨S8x128, .f32⟩
  | 82 => ⟨S128, .f32⟩
  | 83 => ⟨S_, .i32⟩
  | 84 => ⟨S_, .f32⟩
  | 85 => ⟨S1024, .f32⟩
  | 86 => ⟨S8x128, .f32⟩
  | 87 => ⟨S128, .f32⟩
  | 88 => ⟨S_, .i32⟩
  | 89 => ⟨S_, .f32⟩
  | 90 => ⟨S1024, .f32⟩
  | 91 => ⟨S8x128, .f32⟩
  | 92 => ⟨S128, .f32⟩
  | 93 => ⟨S_, .i32⟩
  | 94 => ⟨S_, .f32⟩
  | 95 => ⟨S1024, .f32⟩
  | 96 => ⟨S8x128, .f32⟩
  | 97 => ⟨S4096, .f32⟩
  | 98 => ⟨S_, .i32⟩
  | 99 => ⟨S_, .f32⟩
  | 100 => ⟨S4096, .f32⟩
  | 101 => ⟨S32x128, .f32⟩
  | 102 => ⟨S4096, .f32⟩
  | 103 => ⟨S_, .i32⟩
  | 104 => ⟨S_, .f32⟩
  | 105 => ⟨S4096, .f32⟩
  | 106 => ⟨S32x128, .f32⟩
  | 107 => ⟨S4096, .f32⟩
  | 108 => ⟨S_, .i32⟩
  | 109 => ⟨S_, .f32⟩
  | 110 => ⟨S4096, .f32⟩
  | 111 => ⟨S32x128, .f32⟩
  | 112 => ⟨S4096, .f32⟩
  | 113 => ⟨S_, .i32⟩
  | 114 => ⟨S_, .f32⟩
  | 115 => ⟨S4096, .f32⟩
  | 116 => ⟨S32x128, .f32⟩
  | 117 => ⟨S224x128, .f32⟩
  | 118 => ⟨S768, .f32⟩
  | 119 => ⟨S_, .i32⟩
  | 120 => ⟨S_, .f32⟩
  | 121 => ⟨S1024, .f32⟩
  | 122 => ⟨S8x128, .f32⟩
  | 123 => ⟨S384, .f32⟩
  | 124 => ⟨S_, .i32⟩
  | 125 => ⟨S_, .f32⟩
  | 126 => ⟨S1024, .f32⟩
  | 127 => ⟨S8x128, .f32⟩
  | _ => ⟨S2x3x128, .f32⟩

abbrev hbmTy0_1 (i : Nat) : BufTy := match i % 128 with
  | 0 => ⟨S256, .f32⟩
  | 1 => ⟨S_, .i32⟩
  | 2 => ⟨S_, .f32⟩
  | 3 => ⟨S1024, .f32⟩
  | 4 => ⟨S8x128, .f32⟩
  | 5 => ⟨S256, .f32⟩
  | 6 => ⟨S_, .i32⟩
  | 7 => ⟨S_, .f32⟩
  | 8 => ⟨S1024, .f32⟩
  | 9 => ⟨S8x128, .f32⟩
  | 10 => ⟨S3968, .f32⟩
  | 11 => ⟨S_, .i32⟩
  | 12 => ⟨S_, .f32⟩
  | 13 => ⟨S4096, .f32⟩
  | 14 => ⟨S32x128, .f32⟩
  | 15 => ⟨S128, .f32⟩
  | 16 => ⟨S_, .i32⟩
  | 17 => ⟨S_, .f32⟩
  | 18 => ⟨S1024, .f32⟩
  | 19 => ⟨S8x128, .f32⟩
  | 20 => ⟨S128, .f32⟩
  | 21 => ⟨S_, .i32⟩
  | 22 => ⟨S_, .f32⟩
  | 23 => ⟨S1024, .f32⟩
  | 24 => ⟨S8x128, .f32⟩
  | 25 => ⟨S128, .f32⟩
  | 26 => ⟨S_, .i32⟩
  | 27 => ⟨S_, .f32⟩
  | 28 => ⟨S1024, .f32⟩
  | 29 => ⟨S8x128, .f32⟩
  | 30 => ⟨S128, .f32⟩
  | 31 => ⟨S_, .i32⟩
  | 32 => ⟨S_, .f32⟩
  | 33 => ⟨S1024, .f32⟩
  | 34 => ⟨S8x128, .f32⟩
  | 35 => ⟨S4096, .f32⟩
  | 36 => ⟨S_, .i32⟩
  | 37 => ⟨S_, .f32⟩
  | 38 => ⟨S4096, .f32⟩
  | 39 => ⟨S32x128, .f32⟩
  | 40 => ⟨S4096, .f32⟩
  | 41 => ⟨S_, .i32⟩
  | 42 => ⟨S_, .f32⟩
  | 43 => ⟨S4096, .f32⟩
  | 44 => ⟨S32x128, .f32⟩
  | 45 => ⟨S4096, .f32⟩
  | 46 => ⟨S_, .i32⟩
  | 47 => ⟨S_, .f32⟩
  | 48 => ⟨S4096, .f32⟩
  | 49 => ⟨S32x128, .f32⟩
  | 50 => ⟨S4096, .f32⟩
  | 51 => ⟨S_, .i32⟩
  | 52 => ⟨S_, .f32⟩
  | 53 => ⟨S4096, .f32⟩
  | 54 => ⟨S32x128, .f32⟩
  | 55 => ⟨S224x128, .f32⟩
  | 56 => ⟨S768, .f32⟩
  | 57 => ⟨S_, .i32⟩
  | 58 => ⟨S_, .f32⟩
  | 59 => ⟨S1024, .f32⟩
  | 60 => ⟨S8x128, .f32⟩
  | 61 => ⟨S384, .f32⟩
  | 62 => ⟨S_, .i32⟩
  | 63 => ⟨S_, .f32⟩
  | 64 => ⟨S1024, .f32⟩
  | 65 => ⟨S8x128, .f32⟩
  | 66 => ⟨S256, .f32⟩
  | 67 => ⟨S_, .i32⟩
  | 68 => ⟨S_, .f32⟩
  | 69 => ⟨S1024, .f32⟩
  | 70 => ⟨S8x128, .f32⟩
  | 71 => ⟨S256, .f32⟩
  | 72 => ⟨S_, .i32⟩
  | 73 => ⟨S_, .f32⟩
  | 74 => ⟨S1024, .f32⟩
  | 75 => ⟨S8x128, .f32⟩
  | 76 => ⟨S3968, .f32⟩
  | 77 => ⟨S_, .i32⟩
  | 78 => ⟨S_, .f32⟩
  | 79 => ⟨S4096, .f32⟩
  | 80 => ⟨S32x128, .f32⟩
  | 81 => ⟨S128, .f32⟩
  | 82 => ⟨S_, .i32⟩
  | 83 => ⟨S_, .f32⟩
  | 84 => ⟨S1024, .f32⟩
  | 85 => ⟨S8x128, .f32⟩
  | 86 => ⟨S128, .f32⟩
  | 87 => ⟨S_, .i32⟩
  | 88 => ⟨S_, .f32⟩
  | 89 => ⟨S1024, .f32⟩
  | 90 => ⟨S8x128, .f32⟩
  | 91 => ⟨S128, .f32⟩
  | 92 => ⟨S_, .i32⟩
  | 93 => ⟨S_, .f32⟩
  | 94 => ⟨S1024, .f32⟩
  | 95 => ⟨S8x128, .f32⟩
  | 96 => ⟨S128, .f32⟩
  | 97 => ⟨S_, .i32⟩
  | 98 => ⟨S_, .f32⟩
  | 99 => ⟨S1024, .f32⟩
  | 100 => ⟨S8x128, .f32⟩
  | 101 => ⟨S4096, .f32⟩
  | 102 => ⟨S_, .i32⟩
  | 103 => ⟨S_, .f32⟩
  | 104 => ⟨S4096, .f32⟩
  | 105 => ⟨S32x128, .f32⟩
  | 106 => ⟨S4096, .f32⟩
  | 107 => ⟨S_, .i32⟩
  | 108 => ⟨S_, .f32⟩
  | 109 => ⟨S4096, .f32⟩
  | 110 => ⟨S32x128, .f32⟩
  | 111 => ⟨S4096, .f32⟩
  | 112 => ⟨S_, .i32⟩
  | 113 => ⟨S_, .f32⟩
  | 114 => ⟨S4096, .f32⟩
  | 115 => ⟨S32x128, .f32⟩
  | 116 => ⟨S4096, .f32⟩
  | 117 => ⟨S_, .i32⟩
  | 118 => ⟨S_, .f32⟩
  | 119 => ⟨S4096, .f32⟩
  | 120 => ⟨S32x128, .f32⟩
  | 121 => ⟨S224x128, .f32⟩
  | 122 => ⟨S768, .f32⟩
  | 123 => ⟨S_, .i32⟩
  | 124 => ⟨S_, .f32⟩
  | 125 => ⟨S1024, .f32⟩
  | 126 => ⟨S8x128, .f32⟩
  | 127 => ⟨S384, .f32⟩
  | _ => ⟨S2x3x128, .f32⟩

abbrev hbmTy0_2 (i : Nat) : BufTy := match i % 128 with
  | 0 => ⟨S_, .i32⟩
  | 1 => ⟨S_, .f32⟩
  | 2 => ⟨S1024, .f32⟩
  | 3 => ⟨S8x128, .f32⟩
  | 4 => ⟨S256, .f32⟩
  | 5 => ⟨S_, .i32⟩
  | 6 => ⟨S_, .f32⟩
  | 7 => ⟨S1024, .f32⟩
  | 8 => ⟨S8x128, .f32⟩
  | 9 => ⟨S256, .f32⟩
  | 10 => ⟨S_, .i32⟩
  | 11 => ⟨S_, .f32⟩
  | 12 => ⟨S1024, .f32⟩
  | 13 => ⟨S8x128, .f32⟩
  | 14 => ⟨S3968, .f32⟩
  | 15 => ⟨S_, .i32⟩
  | 16 => ⟨S_, .f32⟩
  | 17 => ⟨S4096, .f32⟩
  | 18 => ⟨S32x128, .f32⟩
  | 19 => ⟨S128, .f32⟩
  | 20 => ⟨S_, .i32⟩
  | 21 => ⟨S_, .f32⟩
  | 22 => ⟨S1024, .f32⟩
  | 23 => ⟨S8x128, .f32⟩
  | 24 => ⟨S128, .f32⟩
  | 25 => ⟨S_, .i32⟩
  | 26 => ⟨S_, .f32⟩
  | 27 => ⟨S1024, .f32⟩
  | 28 => ⟨S8x128, .f32⟩
  | 29 => ⟨S128, .f32⟩
  | 30 => ⟨S_, .i32⟩
  | 31 => ⟨S_, .f32⟩
  | 32 => ⟨S1024, .f32⟩
  | 33 => ⟨S8x128, .f32⟩
  | 34 => ⟨S128, .f32⟩
  | 35 => ⟨S_, .i32⟩
  | 36 => ⟨S_, .f32⟩
  | 37 => ⟨S1024, .f32⟩
  | 38 => ⟨S8x128, .f32⟩
  | 39 => ⟨S4096, .f32⟩
  | 40 => ⟨S_, .i32⟩
  | 41 => ⟨S_, .f32⟩
  | 42 => ⟨S4096, .f32⟩
  | 43 => ⟨S32x128, .f32⟩
  | 44 => ⟨S4096, .f32⟩
  | 45 => ⟨S_, .i32⟩
  | 46 => ⟨S_, .f32⟩
  | 47 => ⟨S4096, .f32⟩
  | 48 => ⟨S32x128, .f32⟩
  | 49 => ⟨S4096, .f32⟩
  | 50 => ⟨S_, .i32⟩
  | 51 => ⟨S_, .f32⟩
  | 52 => ⟨S4096, .f32⟩
  | 53 => ⟨S32x128, .f32⟩
  | 54 => ⟨S4096, .f32⟩
  | 55 => ⟨S_, .i32⟩
  | 56 => ⟨S_, .f32⟩
  | 57 => ⟨S4096, .f32⟩
  | 58 => ⟨S32x128, .f32⟩
  | 59 => ⟨S224x128, .f32⟩
  | 60 => ⟨S224x128, .f32⟩
  | 61 => ⟨S224x128, .f32⟩
  | 62 => ⟨S224x128, .f32⟩
  | 63 => ⟨S8x128, .f32⟩
  | 64 => ⟨S1024, .f32⟩
  | 65 => ⟨S768, .f32⟩
  | 66 => ⟨S2x3x128, .f32⟩
  | 67 => ⟨S8x128, .f32⟩
  | 68 => ⟨S1024, .f32⟩
  | 69 => ⟨S384, .f32⟩
  | 70 => ⟨S1x384, .f32⟩
  | 71 => ⟨S8x128, .f32⟩
  | 72 => ⟨S1024, .f32⟩
  | 73 => ⟨S256, .f32⟩
  | 74 => ⟨S1x256, .f32⟩
  | 75 => ⟨S8x128, .f32⟩
  | 76 => ⟨S1024, .f32⟩
  | 77 => ⟨S256, .f32⟩
  | 78 => ⟨S1x256, .f32⟩
  | 79 => ⟨S32x128, .f32⟩
  | 80 => ⟨S4096, .f32⟩
  | 81 => ⟨S3968, .f32⟩
  | 82 => ⟨S1x31x128, .f32⟩
  | 83 => ⟨S8x128, .f32⟩
  | 84 => ⟨S1024, .f32⟩
  | 85 => ⟨S128, .f32⟩
  | 86 => ⟨S1x128, .f32⟩
  | 87 => ⟨S8x128, .f32⟩
  | 88 => ⟨S1024, .f32⟩
  | 89 => ⟨S128, .f32⟩
  | 90 => ⟨S1x128, .f32⟩
  | 91 => ⟨S8x128, .f32⟩
  | 92 => ⟨S1024, .f32⟩
  | 93 => ⟨S128, .f32⟩
  | 94 => ⟨S1x128, .f32⟩
  | 95 => ⟨S8x128, .f32⟩
  | 96 => ⟨S1024, .f32⟩
  | 97 => ⟨S128, .f32⟩
  | 98 => ⟨S1x128, .f32⟩
  | 99 => ⟨S32x128, .f32⟩
  | 100 => ⟨S4096, .f32⟩
  | 101 => ⟨S4x1024, .f32⟩
  | 102 => ⟨S32x128, .f32⟩
  | 103 => ⟨S4096, .f32⟩
  | 104 => ⟨S4x1024, .f32⟩
  | 105 => ⟨S32x128, .f32⟩
  | 106 => ⟨S4096, .f32⟩
  | 107 => ⟨S4x1024, .f32⟩
  | 108 => ⟨S32x128, .f32⟩
  | 109 => ⟨S4096, .f32⟩
  | 110 => ⟨S4x1024, .f32⟩
  | 111 => ⟨S8x128, .f32⟩
  | 112 => ⟨S1024, .f32⟩
  | 113 => ⟨S768, .f32⟩
  | 114 => ⟨S2x3x128, .f32⟩
  | 115 => ⟨S8x128, .f32⟩
  | 116 => ⟨S1024, .f32⟩
  | 117 => ⟨S384, .f32⟩
  | 118 => ⟨S1x384, .f32⟩
  | 119 => ⟨S8x128, .f32⟩
  | 120 => ⟨S1024, .f32⟩
  | 121 => ⟨S256, .f32⟩
  | 122 => ⟨S1x256, .f32⟩
  | 123 => ⟨S8x128, .f32⟩
  | 124 => ⟨S1024, .f32⟩
  | 125 => ⟨S256, .f32⟩
  | 126 => ⟨S1x256, .f32⟩
  | 127 => ⟨S32x128, .f32⟩
  | _ => ⟨S2x3x128, .f32⟩

abbrev hbmTy0_3 (i : Nat) : BufTy := match i % 128 with
  | 0 => ⟨S4096, .f32⟩
  | 1 => ⟨S3968, .f32⟩
  | 2 => ⟨S1x31x128, .f32⟩
  | 3 => ⟨S8x128, .f32⟩
  | 4 => ⟨S1024, .f32⟩
  | 5 => ⟨S128, .f32⟩
  | 6 => ⟨S1x128, .f32⟩
  | 7 => ⟨S8x128, .f32⟩
  | 8 => ⟨S1024, .f32⟩
  | 9 => ⟨S128, .f32⟩
  | 10 => ⟨S1x128, .f32⟩
  | 11 => ⟨S8x128, .f32⟩
  | 12 => ⟨S1024, .f32⟩
  | 13 => ⟨S128, .f32⟩
  | 14 => ⟨S1x128, .f32⟩
  | 15 => ⟨S8x128, .f32⟩
  | 16 => ⟨S1024, .f32⟩
  | 17 => ⟨S128, .f32⟩
  | 18 => ⟨S1x128, .f32⟩
  | 19 => ⟨S32x128, .f32⟩
  | 20 => ⟨S4096, .f32⟩
  | 21 => ⟨S4x1024, .f32⟩
  | 22 => ⟨S32x128, .f32⟩
  | 23 => ⟨S4096, .f32⟩
  | 24 => ⟨S4x1024, .f32⟩
  | 25 => ⟨S32x128, .f32⟩
  | 26 => ⟨S4096, .f32⟩
  | 27 => ⟨S4x1024, .f32⟩
  | 28 => ⟨S32x128, .f32⟩
  | 29 => ⟨S4096, .f32⟩
  | 30 => ⟨S4x1024, .f32⟩
  | 31 => ⟨S8x128, .f32⟩
  | 32 => ⟨S1024, .f32⟩
  | 33 => ⟨S768, .f32⟩
  | 34 => ⟨S2x3x128, .f32⟩
  | 35 => ⟨S8x128, .f32⟩
  | 36 => ⟨S1024, .f32⟩
  | 37 => ⟨S384, .f32⟩
  | 38 => ⟨S1x384, .f32⟩
  | 39 => ⟨S8x128, .f32⟩
  | 40 => ⟨S1024, .f32⟩
  | 41 => ⟨S256, .f32⟩
  | 42 => ⟨S1x256, .f32⟩
  | 43 => ⟨S8x128, .f32⟩
  | 44 => ⟨S1024, .f32⟩
  | 45 => ⟨S256, .f32⟩
  | 46 => ⟨S1x256, .f32⟩
  | 47 => ⟨S32x128, .f32⟩
  | 48 => ⟨S4096, .f32⟩
  | 49 => ⟨S3968, .f32⟩
  | 50 => ⟨S1x31x128, .f32⟩
  | 51 => ⟨S8x128, .f32⟩
  | 52 => ⟨S1024, .f32⟩
  | 53 => ⟨S128, .f32⟩
  | 54 => ⟨S1x128, .f32⟩
  | 55 => ⟨S8x128, .f32⟩
  | 56 => ⟨S1024, .f32⟩
  | 57 => ⟨S128, .f32⟩
  | 58 => ⟨S1x128, .f32⟩
  | 59 => ⟨S8x128, .f32⟩
  | 60 => ⟨S1024, .f32⟩
  | 61 => ⟨S128, .f32⟩
  | 62 => ⟨S1x128, .f32⟩
  | 63 => ⟨S8x128, .f32⟩
  | 64 => ⟨S1024, .f32⟩
  | 65 => ⟨S128, .f32⟩
  | 66 => ⟨S1x128, .f32⟩
  | 67 => ⟨S32x128, .f32⟩
  | 68 => ⟨S4096, .f32⟩
  | 69 => ⟨S4x1024, .f32⟩
  | 70 => ⟨S32x128, .f32⟩
  | 71 => ⟨S4096, .f32⟩
  | 72 => ⟨S4x1024, .f32⟩
  | 73 => ⟨S32x128, .f32⟩
  | 74 => ⟨S4096, .f32⟩
  | 75 => ⟨S4x1024, .f32⟩
  | 76 => ⟨S32x128, .f32⟩
  | 77 => ⟨S4096, .f32⟩
  | 78 => ⟨S4x1024, .f32⟩
  | _ => ⟨S2x3x128, .f32⟩

abbrev hbmTy (i : Nat) : BufTy := match i / 128 with
  | 0 => hbmTy0_0 i
  | 1 => hbmTy0_1 i
  | 2 => hbmTy0_2 i
  | 3 => hbmTy0_3 i
  | _ => ⟨S2x3x128, .f32⟩

abbrev bufTy : (tb : Table) → Fin (tcTables nBuf tb) → BufTy
  | .hbm, ⟨i, _⟩ => hbmTy i
  | .local _ .vmem, ⟨0, _⟩ => ⟨S224x128, .f32⟩
  | .local _ .vmem, ⟨1, _⟩ => ⟨S224x128, .f32⟩
  | .local _ .vmem, ⟨2, _⟩ => ⟨S224x128, .f32⟩
  | .local _ .vmem, ⟨3, _⟩ => ⟨S224x128, .f32⟩
  | .local _ .vmem, ⟨4, _⟩ => ⟨S224x128, .f32⟩
  | .local _ .vmem, ⟨5, _⟩ => ⟨S224x128, .f32⟩
  | .local _ .vmem, ⟨6, _⟩ => ⟨S224x128, .f32⟩
  | _, _ => ⟨S2x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_v0 : Ref sig .tc := ⟨.hbm, 52, rfl⟩
abbrev main_c : Ref sig .tc := ⟨.hbm, 53, rfl⟩
abbrev main_call0_v0 : Ref sig .tc := ⟨.hbm, 54, rfl⟩
abbrev main_v1 : Ref sig .tc := ⟨.hbm, 55, rfl⟩
abbrev main_v2 : Ref sig .tc := ⟨.hbm, 56, rfl⟩
abbrev main_v3 : Ref sig .tc := ⟨.hbm, 57, rfl⟩
abbrev main_c_0 : Ref sig .tc := ⟨.hbm, 58, rfl⟩
abbrev main_call1_v0 : Ref sig .tc := ⟨.hbm, 59, rfl⟩
abbrev main_v4 : Ref sig .tc := ⟨.hbm, 60, rfl⟩
abbrev main_v5 : Ref sig .tc := ⟨.hbm, 61, rfl⟩
abbrev main_v6 : Ref sig .tc := ⟨.hbm, 62, rfl⟩
abbrev main_c_1 : Ref sig .tc := ⟨.hbm, 63, rfl⟩
abbrev main_call2_v0 : Ref sig .tc := ⟨.hbm, 64, rfl⟩
abbrev main_v7 : Ref sig .tc := ⟨.hbm, 65, rfl⟩
abbrev main_v8 : Ref sig .tc := ⟨.hbm, 66, rfl⟩
abbrev main_v9 : Ref sig .tc := ⟨.hbm, 67, rfl⟩
abbrev main_c_2 : Ref sig .tc := ⟨.hbm, 68, rfl⟩
abbrev main_call3_v0 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_c_3 : Ref sig .tc := ⟨.hbm, 73, rfl⟩
abbrev main_call4_v0 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_c_4 : Ref sig .tc := ⟨.hbm, 78, rfl⟩
abbrev main_call5_v0 : Ref sig .tc := ⟨.hbm, 79, rfl⟩
abbrev main_v16 : Ref sig .tc := ⟨.hbm, 80, rfl⟩
abbrev main_v17 : Ref sig .tc := ⟨.hbm, 81, rfl⟩
abbrev main_v18 : Ref sig .tc := ⟨.hbm, 82, rfl⟩
abbrev main_c_5 : Ref sig .tc := ⟨.hbm, 83, rfl⟩
abbrev main_call6_v0 : Ref sig .tc := ⟨.hbm, 84, rfl⟩
abbrev main_v19 : Ref sig .tc := ⟨.hbm, 85, rfl⟩
abbrev main_v20 : Ref sig .tc := ⟨.hbm, 86, rfl⟩
abbrev main_v21 : Ref sig .tc := ⟨.hbm, 87, rfl⟩
abbrev main_c_6 : Ref sig .tc := ⟨.hbm, 88, rfl⟩
abbrev main_call7_v0 : Ref sig .tc := ⟨.hbm, 89, rfl⟩
abbrev main_v22 : Ref sig .tc := ⟨.hbm, 90, rfl⟩
abbrev main_v23 : Ref sig .tc := ⟨.hbm, 91, rfl⟩
abbrev main_v24 : Ref sig .tc := ⟨.hbm, 92, rfl⟩
abbrev main_c_7 : Ref sig .tc := ⟨.hbm, 93, rfl⟩
abbrev main_call8_v0 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_c_8 : Ref sig .tc := ⟨.hbm, 98, rfl⟩
abbrev main_call9_v0 : Ref sig .tc := ⟨.hbm, 99, rfl⟩
abbrev main_v28 : Ref sig .tc := ⟨.hbm, 100, rfl⟩
abbrev main_v29 : Ref sig .tc := ⟨.hbm, 101, rfl⟩
abbrev main_v30 : Ref sig .tc := ⟨.hbm, 102, rfl⟩
abbrev main_c_9 : Ref sig .tc := ⟨.hbm, 103, rfl⟩
abbrev main_call10_v0 : Ref sig .tc := ⟨.hbm, 104, rfl⟩
abbrev main_v31 : Ref sig .tc := ⟨.hbm, 105, rfl⟩
abbrev main_v32 : Ref sig .tc := ⟨.hbm, 106, rfl⟩
abbrev main_v33 : Ref sig .tc := ⟨.hbm, 107, rfl⟩
abbrev main_c_10 : Ref sig .tc := ⟨.hbm, 108, rfl⟩
abbrev main_call11_v0 : Ref sig .tc := ⟨.hbm, 109, rfl⟩
abbrev main_v34 : Ref sig .tc := ⟨.hbm, 110, rfl⟩
abbrev main_v35 : Ref sig .tc := ⟨.hbm, 111, rfl⟩
abbrev main_v36 : Ref sig .tc := ⟨.hbm, 112, rfl⟩
abbrev main_c_11 : Ref sig .tc := ⟨.hbm, 113, rfl⟩
abbrev main_call12_v0 : Ref sig .tc := ⟨.hbm, 114, rfl⟩
abbrev main_v37 : Ref sig .tc := ⟨.hbm, 115, rfl⟩
abbrev main_v38 : Ref sig .tc := ⟨.hbm, 116, rfl⟩
abbrev main_v39 : Ref sig .tc := ⟨.hbm, 117, rfl⟩
abbrev main_v40 : Ref sig .tc := ⟨.hbm, 118, rfl⟩
abbrev main_c_12 : Ref sig .tc := ⟨.hbm, 119, rfl⟩
abbrev main_call13_v0 : Ref sig .tc := ⟨.hbm, 120, rfl⟩
abbrev main_v41 : Ref sig .tc := ⟨.hbm, 121, rfl⟩
abbrev main_v42 : Ref sig .tc := ⟨.hbm, 122, rfl⟩
abbrev main_v43 : Ref sig .tc := ⟨.hbm, 123, rfl⟩
abbrev main_c_13 : Ref sig .tc := ⟨.hbm, 124, rfl⟩
abbrev main_call14_v0 : Ref sig .tc := ⟨.hbm, 125, rfl⟩
abbrev main_v44 : Ref sig .tc := ⟨.hbm, 126, rfl⟩
abbrev main_v45 : Ref sig .tc := ⟨.hbm, 127, rfl⟩
abbrev main_v46 : Ref sig .tc := ⟨.hbm, 128, rfl⟩
abbrev main_c_14 : Ref sig .tc := ⟨.hbm, 129, rfl⟩
abbrev main_call15_v0 : Ref sig .tc := ⟨.hbm, 130, rfl⟩
abbrev main_v47 : Ref sig .tc := ⟨.hbm, 131, rfl⟩
abbrev main_v48 : Ref sig .tc := ⟨.hbm, 132, rfl⟩
abbrev main_v49 : Ref sig .tc := ⟨.hbm, 133, rfl⟩
abbrev main_c_15 : Ref sig .tc := ⟨.hbm, 134, rfl⟩
abbrev main_call16_v0 : Ref sig .tc := ⟨.hbm, 135, rfl⟩
abbrev main_v50 : Ref sig .tc := ⟨.hbm, 136, rfl⟩
abbrev main_v51 : Ref sig .tc := ⟨.hbm, 137, rfl⟩
abbrev main_v52 : Ref sig .tc := ⟨.hbm, 138, rfl⟩
abbrev main_c_16 : Ref sig .tc := ⟨.hbm, 139, rfl⟩
abbrev main_call17_v0 : Ref sig .tc := ⟨.hbm, 140, rfl⟩
abbrev main_v53 : Ref sig .tc := ⟨.hbm, 141, rfl⟩
abbrev main_v54 : Ref sig .tc := ⟨.hbm, 142, rfl⟩
abbrev main_v55 : Ref sig .tc := ⟨.hbm, 143, rfl⟩
abbrev main_c_17 : Ref sig .tc := ⟨.hbm, 144, rfl⟩
abbrev main_call18_v0 : Ref sig .tc := ⟨.hbm, 145, rfl⟩
abbrev main_v56 : Ref sig .tc := ⟨.hbm, 146, rfl⟩
abbrev main_v57 : Ref sig .tc := ⟨.hbm, 147, rfl⟩
abbrev main_v58 : Ref sig .tc := ⟨.hbm, 148, rfl⟩
abbrev main_c_18 : Ref sig .tc := ⟨.hbm, 149, rfl⟩
abbrev main_call19_v0 : Ref sig .tc := ⟨.hbm, 150, rfl⟩
abbrev main_v59 : Ref sig .tc := ⟨.hbm, 151, rfl⟩
abbrev main_v60 : Ref sig .tc := ⟨.hbm, 152, rfl⟩
abbrev main_v61 : Ref sig .tc := ⟨.hbm, 153, rfl⟩
abbrev main_c_19 : Ref sig .tc := ⟨.hbm, 154, rfl⟩
abbrev main_call20_v0 : Ref sig .tc := ⟨.hbm, 155, rfl⟩
abbrev main_v62 : Ref sig .tc := ⟨.hbm, 156, rfl⟩
abbrev main_v63 : Ref sig .tc := ⟨.hbm, 157, rfl⟩
abbrev main_v64 : Ref sig .tc := ⟨.hbm, 158, rfl⟩
abbrev main_c_20 : Ref sig .tc := ⟨.hbm, 159, rfl⟩
abbrev main_call21_v0 : Ref sig .tc := ⟨.hbm, 160, rfl⟩
abbrev main_v65 : Ref sig .tc := ⟨.hbm, 161, rfl⟩
abbrev main_v66 : Ref sig .tc := ⟨.hbm, 162, rfl⟩
abbrev main_v67 : Ref sig .tc := ⟨.hbm, 163, rfl⟩
abbrev main_c_21 : Ref sig .tc := ⟨.hbm, 164, rfl⟩
abbrev main_call22_v0 : Ref sig .tc := ⟨.hbm, 165, rfl⟩
abbrev main_v68 : Ref sig .tc := ⟨.hbm, 166, rfl⟩
abbrev main_v69 : Ref sig .tc := ⟨.hbm, 167, rfl⟩
abbrev main_v70 : Ref sig .tc := ⟨.hbm, 168, rfl⟩
abbrev main_c_22 : Ref sig .tc := ⟨.hbm, 169, rfl⟩
abbrev main_call23_v0 : Ref sig .tc := ⟨.hbm, 170, rfl⟩
abbrev main_v71 : Ref sig .tc := ⟨.hbm, 171, rfl⟩
abbrev main_v72 : Ref sig .tc := ⟨.hbm, 172, rfl⟩
abbrev main_v73 : Ref sig .tc := ⟨.hbm, 173, rfl⟩
abbrev main_c_23 : Ref sig .tc := ⟨.hbm, 174, rfl⟩
abbrev main_call24_v0 : Ref sig .tc := ⟨.hbm, 175, rfl⟩
abbrev main_v74 : Ref sig .tc := ⟨.hbm, 176, rfl⟩
abbrev main_v75 : Ref sig .tc := ⟨.hbm, 177, rfl⟩
abbrev main_v76 : Ref sig .tc := ⟨.hbm, 178, rfl⟩
abbrev main_c_24 : Ref sig .tc := ⟨.hbm, 179, rfl⟩
abbrev main_call25_v0 : Ref sig .tc := ⟨.hbm, 180, rfl⟩
abbrev main_v77 : Ref sig .tc := ⟨.hbm, 181, rfl⟩
abbrev main_v78 : Ref sig .tc := ⟨.hbm, 182, rfl⟩
abbrev main_v79 : Ref sig .tc := ⟨.hbm, 183, rfl⟩
abbrev main_v80 : Ref sig .tc := ⟨.hbm, 184, rfl⟩
abbrev main_c_25 : Ref sig .tc := ⟨.hbm, 185, rfl⟩
abbrev main_call26_v0 : Ref sig .tc := ⟨.hbm, 186, rfl⟩
abbrev main_v81 : Ref sig .tc := ⟨.hbm, 187, rfl⟩
abbrev main_v82 : Ref sig .tc := ⟨.hbm, 188, rfl⟩
abbrev main_v83 : Ref sig .tc := ⟨.hbm, 189, rfl⟩
abbrev main_c_26 : Ref sig .tc := ⟨.hbm, 190, rfl⟩
abbrev main_call27_v0 : Ref sig .tc := ⟨.hbm, 191, rfl⟩
abbrev main_v84 : Ref sig .tc := ⟨.hbm, 192, rfl⟩
abbrev main_v85 : Ref sig .tc := ⟨.hbm, 193, rfl⟩
abbrev main_v86 : Ref sig .tc := ⟨.hbm, 194, rfl⟩
abbrev main_c_27 : Ref sig .tc := ⟨.hbm, 195, rfl⟩
abbrev main_call28_v0 : Ref sig .tc := ⟨.hbm, 196, rfl⟩
abbrev main_v87 : Ref sig .tc := ⟨.hbm, 197, rfl⟩
abbrev main_v88 : Ref sig .tc := ⟨.hbm, 198, rfl⟩
abbrev main_v89 : Ref sig .tc := ⟨.hbm, 199, rfl⟩
abbrev main_c_28 : Ref sig .tc := ⟨.hbm, 200, rfl⟩
abbrev main_call29_v0 : Ref sig .tc := ⟨.hbm, 201, rfl⟩
abbrev main_v90 : Ref sig .tc := ⟨.hbm, 202, rfl⟩
abbrev main_v91 : Ref sig .tc := ⟨.hbm, 203, rfl⟩
abbrev main_v92 : Ref sig .tc := ⟨.hbm, 204, rfl⟩
abbrev main_c_29 : Ref sig .tc := ⟨.hbm, 205, rfl⟩
abbrev main_call30_v0 : Ref sig .tc := ⟨.hbm, 206, rfl⟩
abbrev main_v93 : Ref sig .tc := ⟨.hbm, 207, rfl⟩
abbrev main_v94 : Ref sig .tc := ⟨.hbm, 208, rfl⟩
abbrev main_v95 : Ref sig .tc := ⟨.hbm, 209, rfl⟩
abbrev main_c_30 : Ref sig .tc := ⟨.hbm, 210, rfl⟩
abbrev main_call31_v0 : Ref sig .tc := ⟨.hbm, 211, rfl⟩
abbrev main_v96 : Ref sig .tc := ⟨.hbm, 212, rfl⟩
abbrev main_v97 : Ref sig .tc := ⟨.hbm, 213, rfl⟩
abbrev main_v98 : Ref sig .tc := ⟨.hbm, 214, rfl⟩
abbrev main_c_31 : Ref sig .tc := ⟨.hbm, 215, rfl⟩
abbrev main_call32_v0 : Ref sig .tc := ⟨.hbm, 216, rfl⟩
abbrev main_v99 : Ref sig .tc := ⟨.hbm, 217, rfl⟩
abbrev main_v100 : Ref sig .tc := ⟨.hbm, 218, rfl⟩
abbrev main_v101 : Ref sig .tc := ⟨.hbm, 219, rfl⟩
abbrev main_c_32 : Ref sig .tc := ⟨.hbm, 220, rfl⟩
abbrev main_call33_v0 : Ref sig .tc := ⟨.hbm, 221, rfl⟩
abbrev main_v102 : Ref sig .tc := ⟨.hbm, 222, rfl⟩
abbrev main_v103 : Ref sig .tc := ⟨.hbm, 223, rfl⟩
abbrev main_v104 : Ref sig .tc := ⟨.hbm, 224, rfl⟩
abbrev main_c_33 : Ref sig .tc := ⟨.hbm, 225, rfl⟩
abbrev main_call34_v0 : Ref sig .tc := ⟨.hbm, 226, rfl⟩
abbrev main_v105 : Ref sig .tc := ⟨.hbm, 227, rfl⟩
abbrev main_v106 : Ref sig .tc := ⟨.hbm, 228, rfl⟩
abbrev main_v107 : Ref sig .tc := ⟨.hbm, 229, rfl⟩
abbrev main_c_34 : Ref sig .tc := ⟨.hbm, 230, rfl⟩
abbrev main_call35_v0 : Ref sig .tc := ⟨.hbm, 231, rfl⟩
abbrev main_v108 : Ref sig .tc := ⟨.hbm, 232, rfl⟩
abbrev main_v109 : Ref sig .tc := ⟨.hbm, 233, rfl⟩
abbrev main_v110 : Ref sig .tc := ⟨.hbm, 234, rfl⟩
abbrev main_c_35 : Ref sig .tc := ⟨.hbm, 235, rfl⟩
abbrev main_call36_v0 : Ref sig .tc := ⟨.hbm, 236, rfl⟩
abbrev main_v111 : Ref sig .tc := ⟨.hbm, 237, rfl⟩
abbrev main_v112 : Ref sig .tc := ⟨.hbm, 238, rfl⟩
abbrev main_v113 : Ref sig .tc := ⟨.hbm, 239, rfl⟩
abbrev main_c_36 : Ref sig .tc := ⟨.hbm, 240, rfl⟩
abbrev main_call37_v0 : Ref sig .tc := ⟨.hbm, 241, rfl⟩
abbrev main_v114 : Ref sig .tc := ⟨.hbm, 242, rfl⟩
abbrev main_v115 : Ref sig .tc := ⟨.hbm, 243, rfl⟩
abbrev main_v116 : Ref sig .tc := ⟨.hbm, 244, rfl⟩
abbrev main_c_37 : Ref sig .tc := ⟨.hbm, 245, rfl⟩
abbrev main_call38_v0 : Ref sig .tc := ⟨.hbm, 246, rfl⟩
abbrev main_v117 : Ref sig .tc := ⟨.hbm, 247, rfl⟩
abbrev main_v118 : Ref sig .tc := ⟨.hbm, 248, rfl⟩
abbrev main_v119 : Ref sig .tc := ⟨.hbm, 249, rfl⟩
abbrev main_v120 : Ref sig .tc := ⟨.hbm, 250, rfl⟩
abbrev main_c_38 : Ref sig .tc := ⟨.hbm, 251, rfl⟩
abbrev main_call39_v0 : Ref sig .tc := ⟨.hbm, 252, rfl⟩
abbrev main_v121 : Ref sig .tc := ⟨.hbm, 253, rfl⟩
abbrev main_v122 : Ref sig .tc := ⟨.hbm, 254, rfl⟩
abbrev main_v123 : Ref sig .tc := ⟨.hbm, 255, rfl⟩
abbrev main_c_39 : Ref sig .tc := ⟨.hbm, 256, rfl⟩
abbrev main_call40_v0 : Ref sig .tc := ⟨.hbm, 257, rfl⟩
abbrev main_v124 : Ref sig .tc := ⟨.hbm, 258, rfl⟩
abbrev main_v125 : Ref sig .tc := ⟨.hbm, 259, rfl⟩
abbrev main_v126 : Ref sig .tc := ⟨.hbm, 260, rfl⟩
abbrev main_c_40 : Ref sig .tc := ⟨.hbm, 261, rfl⟩
abbrev main_call41_v0 : Ref sig .tc := ⟨.hbm, 262, rfl⟩
abbrev main_v127 : Ref sig .tc := ⟨.hbm, 263, rfl⟩
abbrev main_v128 : Ref sig .tc := ⟨.hbm, 264, rfl⟩
abbrev main_v129 : Ref sig .tc := ⟨.hbm, 265, rfl⟩
abbrev main_c_41 : Ref sig .tc := ⟨.hbm, 266, rfl⟩
abbrev main_call42_v0 : Ref sig .tc := ⟨.hbm, 267, rfl⟩
abbrev main_v130 : Ref sig .tc := ⟨.hbm, 268, rfl⟩
abbrev main_v131 : Ref sig .tc := ⟨.hbm, 269, rfl⟩
abbrev main_v132 : Ref sig .tc := ⟨.hbm, 270, rfl⟩
abbrev main_c_42 : Ref sig .tc := ⟨.hbm, 271, rfl⟩
abbrev main_call43_v0 : Ref sig .tc := ⟨.hbm, 272, rfl⟩
abbrev main_v133 : Ref sig .tc := ⟨.hbm, 273, rfl⟩
abbrev main_v134 : Ref sig .tc := ⟨.hbm, 274, rfl⟩
abbrev main_v135 : Ref sig .tc := ⟨.hbm, 275, rfl⟩
abbrev main_c_43 : Ref sig .tc := ⟨.hbm, 276, rfl⟩
abbrev main_call44_v0 : Ref sig .tc := ⟨.hbm, 277, rfl⟩
abbrev main_v136 : Ref sig .tc := ⟨.hbm, 278, rfl⟩
abbrev main_v137 : Ref sig .tc := ⟨.hbm, 279, rfl⟩
abbrev main_v138 : Ref sig .tc := ⟨.hbm, 280, rfl⟩
abbrev main_c_44 : Ref sig .tc := ⟨.hbm, 281, rfl⟩
abbrev main_call45_v0 : Ref sig .tc := ⟨.hbm, 282, rfl⟩
abbrev main_v139 : Ref sig .tc := ⟨.hbm, 283, rfl⟩
abbrev main_v140 : Ref sig .tc := ⟨.hbm, 284, rfl⟩
abbrev main_v141 : Ref sig .tc := ⟨.hbm, 285, rfl⟩
abbrev main_c_45 : Ref sig .tc := ⟨.hbm, 286, rfl⟩
abbrev main_call46_v0 : Ref sig .tc := ⟨.hbm, 287, rfl⟩
abbrev main_v142 : Ref sig .tc := ⟨.hbm, 288, rfl⟩
abbrev main_v143 : Ref sig .tc := ⟨.hbm, 289, rfl⟩
abbrev main_v144 : Ref sig .tc := ⟨.hbm, 290, rfl⟩
abbrev main_c_46 : Ref sig .tc := ⟨.hbm, 291, rfl⟩
abbrev main_call47_v0 : Ref sig .tc := ⟨.hbm, 292, rfl⟩
abbrev main_v145 : Ref sig .tc := ⟨.hbm, 293, rfl⟩
abbrev main_v146 : Ref sig .tc := ⟨.hbm, 294, rfl⟩
abbrev main_v147 : Ref sig .tc := ⟨.hbm, 295, rfl⟩
abbrev main_c_47 : Ref sig .tc := ⟨.hbm, 296, rfl⟩
abbrev main_call48_v0 : Ref sig .tc := ⟨.hbm, 297, rfl⟩
abbrev main_v148 : Ref sig .tc := ⟨.hbm, 298, rfl⟩
abbrev main_v149 : Ref sig .tc := ⟨.hbm, 299, rfl⟩
abbrev main_v150 : Ref sig .tc := ⟨.hbm, 300, rfl⟩
abbrev main_c_48 : Ref sig .tc := ⟨.hbm, 301, rfl⟩
abbrev main_call49_v0 : Ref sig .tc := ⟨.hbm, 302, rfl⟩
abbrev main_v151 : Ref sig .tc := ⟨.hbm, 303, rfl⟩
abbrev main_v152 : Ref sig .tc := ⟨.hbm, 304, rfl⟩
abbrev main_v153 : Ref sig .tc := ⟨.hbm, 305, rfl⟩
abbrev main_c_49 : Ref sig .tc := ⟨.hbm, 306, rfl⟩
abbrev main_call50_v0 : Ref sig .tc := ⟨.hbm, 307, rfl⟩
abbrev main_v154 : Ref sig .tc := ⟨.hbm, 308, rfl⟩
abbrev main_v155 : Ref sig .tc := ⟨.hbm, 309, rfl⟩
abbrev main_v156 : Ref sig .tc := ⟨.hbm, 310, rfl⟩
abbrev main_c_50 : Ref sig .tc := ⟨.hbm, 311, rfl⟩
abbrev main_call51_v0 : Ref sig .tc := ⟨.hbm, 312, rfl⟩
abbrev main_v157 : Ref sig .tc := ⟨.hbm, 313, rfl⟩
abbrev main_v158 : Ref sig .tc := ⟨.hbm, 314, rfl⟩
abbrev main_v159 : Ref sig .tc := ⟨.hbm, 315, rfl⟩
abbrev main_v160_0 : Ref sig .tc := ⟨.hbm, 316, rfl⟩
abbrev main_v160_1 : Ref sig .tc := ⟨.hbm, 317, rfl⟩
abbrev main_v160_2 : Ref sig .tc := ⟨.hbm, 318, rfl⟩
abbrev main_v161 : Ref sig .tc := ⟨.hbm, 319, rfl⟩
abbrev main_v162 : Ref sig .tc := ⟨.hbm, 320, rfl⟩
abbrev main_v163 : Ref sig .tc := ⟨.hbm, 321, rfl⟩
abbrev main_v164 : Ref sig .tc := ⟨.hbm, 322, rfl⟩
abbrev main_v165 : Ref sig .tc := ⟨.hbm, 323, rfl⟩
abbrev main_v166 : Ref sig .tc := ⟨.hbm, 324, rfl⟩
abbrev main_v167 : Ref sig .tc := ⟨.hbm, 325, rfl⟩
abbrev main_v168 : Ref sig .tc := ⟨.hbm, 326, rfl⟩
abbrev main_v169 : Ref sig .tc := ⟨.hbm, 327, rfl⟩
abbrev main_v170 : Ref sig .tc := ⟨.hbm, 328, rfl⟩
abbrev main_v171 : Ref sig .tc := ⟨.hbm, 329, rfl⟩
abbrev main_v172 : Ref sig .tc := ⟨.hbm, 330, rfl⟩
abbrev main_v173 : Ref sig .tc := ⟨.hbm, 331, rfl⟩
abbrev main_v174 : Ref sig .tc := ⟨.hbm, 332, rfl⟩
abbrev main_v175 : Ref sig .tc := ⟨.hbm, 333, rfl⟩
abbrev main_v176 : Ref sig .tc := ⟨.hbm, 334, rfl⟩
abbrev main_v177 : Ref sig .tc := ⟨.hbm, 335, rfl⟩
abbrev main_v178 : Ref sig .tc := ⟨.hbm, 336, rfl⟩
abbrev main_v179 : Ref sig .tc := ⟨.hbm, 337, rfl⟩
abbrev main_v180 : Ref sig .tc := ⟨.hbm, 338, rfl⟩
abbrev main_v181 : Ref sig .tc := ⟨.hbm, 339, rfl⟩
abbrev main_v182 : Ref sig .tc := ⟨.hbm, 340, rfl⟩
abbrev main_v183 : Ref sig .tc := ⟨.hbm, 341, rfl⟩
abbrev main_v184 : Ref sig .tc := ⟨.hbm, 342, rfl⟩
abbrev main_v185 : Ref sig .tc := ⟨.hbm, 343, rfl⟩
abbrev main_v186 : Ref sig .tc := ⟨.hbm, 344, rfl⟩
abbrev main_v187 : Ref sig .tc := ⟨.hbm, 345, rfl⟩
abbrev main_v188 : Ref sig .tc := ⟨.hbm, 346, rfl⟩
abbrev main_v189 : Ref sig .tc := ⟨.hbm, 347, rfl⟩
abbrev main_v190 : Ref sig .tc := ⟨.hbm, 348, rfl⟩
abbrev main_v191 : Ref sig .tc := ⟨.hbm, 349, rfl⟩
abbrev main_v192 : Ref sig .tc := ⟨.hbm, 350, rfl⟩
abbrev main_v193 : Ref sig .tc := ⟨.hbm, 351, rfl⟩
abbrev main_v194 : Ref sig .tc := ⟨.hbm, 352, rfl⟩
abbrev main_v195 : Ref sig .tc := ⟨.hbm, 353, rfl⟩
abbrev main_v196 : Ref sig .tc := ⟨.hbm, 354, rfl⟩
abbrev main_v197 : Ref sig .tc := ⟨.hbm, 355, rfl⟩
abbrev main_v198 : Ref sig .tc := ⟨.hbm, 356, rfl⟩
abbrev main_v199 : Ref sig .tc := ⟨.hbm, 357, rfl⟩
abbrev main_v200 : Ref sig .tc := ⟨.hbm, 358, rfl⟩
abbrev main_v201 : Ref sig .tc := ⟨.hbm, 359, rfl⟩
abbrev main_v202 : Ref sig .tc := ⟨.hbm, 360, rfl⟩
abbrev main_v203 : Ref sig .tc := ⟨.hbm, 361, rfl⟩
abbrev main_v204 : Ref sig .tc := ⟨.hbm, 362, rfl⟩
abbrev main_v205 : Ref sig .tc := ⟨.hbm, 363, rfl⟩
abbrev main_v206 : Ref sig .tc := ⟨.hbm, 364, rfl⟩
abbrev main_v207 : Ref sig .tc := ⟨.hbm, 365, rfl⟩
abbrev main_v208 : Ref sig .tc := ⟨.hbm, 366, rfl⟩
abbrev main_v209 : Ref sig .tc := ⟨.hbm, 367, rfl⟩
abbrev main_v210 : Ref sig .tc := ⟨.hbm, 368, rfl⟩
abbrev main_v211 : Ref sig .tc := ⟨.hbm, 369, rfl⟩
abbrev main_v212 : Ref sig .tc := ⟨.hbm, 370, rfl⟩
abbrev main_v213 : Ref sig .tc := ⟨.hbm, 371, rfl⟩
abbrev main_v214 : Ref sig .tc := ⟨.hbm, 372, rfl⟩
abbrev main_v215 : Ref sig .tc := ⟨.hbm, 373, rfl⟩
abbrev main_v216 : Ref sig .tc := ⟨.hbm, 374, rfl⟩
abbrev main_v217 : Ref sig .tc := ⟨.hbm, 375, rfl⟩
abbrev main_v218 : Ref sig .tc := ⟨.hbm, 376, rfl⟩
abbrev main_v219 : Ref sig .tc := ⟨.hbm, 377, rfl⟩
abbrev main_v220 : Ref sig .tc := ⟨.hbm, 378, rfl⟩
abbrev main_v221 : Ref sig .tc := ⟨.hbm, 379, rfl⟩
abbrev main_v222 : Ref sig .tc := ⟨.hbm, 380, rfl⟩
abbrev main_v223 : Ref sig .tc := ⟨.hbm, 381, rfl⟩
abbrev main_v224 : Ref sig .tc := ⟨.hbm, 382, rfl⟩
abbrev main_v225 : Ref sig .tc := ⟨.hbm, 383, rfl⟩
abbrev main_v226 : Ref sig .tc := ⟨.hbm, 384, rfl⟩
abbrev main_v227 : Ref sig .tc := ⟨.hbm, 385, rfl⟩
abbrev main_v228 : Ref sig .tc := ⟨.hbm, 386, rfl⟩
abbrev main_v229 : Ref sig .tc := ⟨.hbm, 387, rfl⟩
abbrev main_v230 : Ref sig .tc := ⟨.hbm, 388, rfl⟩
abbrev main_v231 : Ref sig .tc := ⟨.hbm, 389, rfl⟩
abbrev main_v232 : Ref sig .tc := ⟨.hbm, 390, rfl⟩
abbrev main_v233 : Ref sig .tc := ⟨.hbm, 391, rfl⟩
abbrev main_v234 : Ref sig .tc := ⟨.hbm, 392, rfl⟩
abbrev main_v235 : Ref sig .tc := ⟨.hbm, 393, rfl⟩
abbrev main_v236 : Ref sig .tc := ⟨.hbm, 394, rfl⟩
abbrev main_v237 : Ref sig .tc := ⟨.hbm, 395, rfl⟩
abbrev main_v238 : Ref sig .tc := ⟨.hbm, 396, rfl⟩
abbrev main_v239 : Ref sig .tc := ⟨.hbm, 397, rfl⟩
abbrev main_v240 : Ref sig .tc := ⟨.hbm, 398, rfl⟩
abbrev main_v241 : Ref sig .tc := ⟨.hbm, 399, rfl⟩
abbrev main_v242 : Ref sig .tc := ⟨.hbm, 400, rfl⟩
abbrev main_v243 : Ref sig .tc := ⟨.hbm, 401, rfl⟩
abbrev main_v244 : Ref sig .tc := ⟨.hbm, 402, rfl⟩
abbrev main_v245 : Ref sig .tc := ⟨.hbm, 403, rfl⟩
abbrev main_v246 : Ref sig .tc := ⟨.hbm, 404, rfl⟩
abbrev main_v247 : Ref sig .tc := ⟨.hbm, 405, rfl⟩
abbrev main_v248 : Ref sig .tc := ⟨.hbm, 406, rfl⟩
abbrev main_v249 : Ref sig .tc := ⟨.hbm, 407, rfl⟩
abbrev main_v250 : Ref sig .tc := ⟨.hbm, 408, rfl⟩
abbrev main_v251 : Ref sig .tc := ⟨.hbm, 409, rfl⟩
abbrev main_v252 : Ref sig .tc := ⟨.hbm, 410, rfl⟩
abbrev main_v253 : Ref sig .tc := ⟨.hbm, 411, rfl⟩
abbrev main_v254 : Ref sig .tc := ⟨.hbm, 412, rfl⟩
abbrev main_v255 : Ref sig .tc := ⟨.hbm, 413, rfl⟩
abbrev main_v256 : Ref sig .tc := ⟨.hbm, 414, rfl⟩
abbrev main_v257 : Ref sig .tc := ⟨.hbm, 415, rfl⟩
abbrev main_v258 : Ref sig .tc := ⟨.hbm, 416, rfl⟩
abbrev main_v259 : Ref sig .tc := ⟨.hbm, 417, rfl⟩
abbrev main_v260 : Ref sig .tc := ⟨.hbm, 418, rfl⟩
abbrev main_v261 : Ref sig .tc := ⟨.hbm, 419, rfl⟩
abbrev main_v262 : Ref sig .tc := ⟨.hbm, 420, rfl⟩
abbrev main_v263 : Ref sig .tc := ⟨.hbm, 421, rfl⟩
abbrev main_v264 : Ref sig .tc := ⟨.hbm, 422, rfl⟩
abbrev main_v265 : Ref sig .tc := ⟨.hbm, 423, rfl⟩
abbrev main_v266 : Ref sig .tc := ⟨.hbm, 424, rfl⟩
abbrev main_v267 : Ref sig .tc := ⟨.hbm, 425, rfl⟩
abbrev main_v268 : Ref sig .tc := ⟨.hbm, 426, rfl⟩
abbrev main_v269 : Ref sig .tc := ⟨.hbm, 427, rfl⟩
abbrev main_v270 : Ref sig .tc := ⟨.hbm, 428, rfl⟩
abbrev main_v271 : Ref sig .tc := ⟨.hbm, 429, rfl⟩
abbrev main_v272 : Ref sig .tc := ⟨.hbm, 430, rfl⟩
abbrev main_v273 : Ref sig .tc := ⟨.hbm, 431, rfl⟩
abbrev main_v274 : Ref sig .tc := ⟨.hbm, 432, rfl⟩
abbrev main_v275 : Ref sig .tc := ⟨.hbm, 433, rfl⟩
abbrev main_v276 : Ref sig .tc := ⟨.hbm, 434, rfl⟩
abbrev main_v277 : Ref sig .tc := ⟨.hbm, 435, rfl⟩
abbrev main_v278 : Ref sig .tc := ⟨.hbm, 436, rfl⟩
abbrev main_v279 : Ref sig .tc := ⟨.hbm, 437, rfl⟩
abbrev main_v280 : Ref sig .tc := ⟨.hbm, 438, rfl⟩
abbrev main_v281 : Ref sig .tc := ⟨.hbm, 439, rfl⟩
abbrev main_v282 : Ref sig .tc := ⟨.hbm, 440, rfl⟩
abbrev main_v283 : Ref sig .tc := ⟨.hbm, 441, rfl⟩
abbrev main_v284 : Ref sig .tc := ⟨.hbm, 442, rfl⟩
abbrev main_v285 : Ref sig .tc := ⟨.hbm, 443, rfl⟩
abbrev main_v286 : Ref sig .tc := ⟨.hbm, 444, rfl⟩
abbrev main_v287 : Ref sig .tc := ⟨.hbm, 445, rfl⟩
abbrev main_v288 : Ref sig .tc := ⟨.hbm, 446, rfl⟩
abbrev main_v289 : Ref sig .tc := ⟨.hbm, 447, rfl⟩
abbrev main_v290 : Ref sig .tc := ⟨.hbm, 448, rfl⟩
abbrev main_v291 : Ref sig .tc := ⟨.hbm, 449, rfl⟩
abbrev main_v292 : Ref sig .tc := ⟨.hbm, 450, rfl⟩
abbrev main_v293 : Ref sig .tc := ⟨.hbm, 451, rfl⟩
abbrev main_v294 : Ref sig .tc := ⟨.hbm, 452, rfl⟩
abbrev main_v295 : Ref sig .tc := ⟨.hbm, 453, rfl⟩
abbrev main_v296 : Ref sig .tc := ⟨.hbm, 454, rfl⟩
abbrev main_v297 : Ref sig .tc := ⟨.hbm, 455, rfl⟩
abbrev main_v298 : Ref sig .tc := ⟨.hbm, 456, rfl⟩
abbrev main_v299 : Ref sig .tc := ⟨.hbm, 457, rfl⟩
abbrev main_v300 : Ref sig .tc := ⟨.hbm, 458, rfl⟩
abbrev main_v301 : Ref sig .tc := ⟨.hbm, 459, rfl⟩
abbrev main_v302 : Ref sig .tc := ⟨.hbm, 460, rfl⟩
abbrev main_v303 : Ref sig .tc := ⟨.hbm, 461, rfl⟩
abbrev main_v304 : Ref sig .tc := ⟨.hbm, 462, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S224x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S224x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S224x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S224x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S224x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S224x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S224x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== SmallRefIdeal.lean ====
abbrev S2x3x128 : Shape := ⟨3, ![2, 3, 128]⟩
abbrev S1x384 : Shape := ⟨2, ![1, 384]⟩
abbrev S1x256 : Shape := ⟨2, ![1, 256]⟩
abbrev S1x31x128 : Shape := ⟨3, ![1, 31, 128]⟩
abbrev S1x128 : Shape := ⟨2, ![1, 128]⟩
abbrev S4x1024 : Shape := ⟨2, ![4, 1024]⟩
abbrev S_ : Shape := ⟨0, ![]⟩

abbrev nBuf : Space → Nat
  | .hbm => 481
  | .vmem => 0
  | .smem => 0
  | _ => 0

abbrev hbmTy0_0 (i : Nat) : BufTy := match i % 128 with
  | 0 => ⟨S2x3x128, .f32⟩
  | 1 => ⟨S1x384, .f32⟩
  | 2 => ⟨S1x256, .f32⟩
  | 3 => ⟨S1x256, .f32⟩
  | 4 => ⟨S1x31x128, .f32⟩
  | 5 => ⟨S1x128, .f32⟩
  | 6 => ⟨S1x128, .f32⟩
  | 7 => ⟨S1x128, .f32⟩
  | 8 => ⟨S1x128, .f32⟩
  | 9 => ⟨S4x1024, .f32⟩
  | 10 => ⟨S4x1024, .f32⟩
  | 11 => ⟨S4x1024, .f32⟩
  | 12 => ⟨S4x1024, .f32⟩
  | 13 => ⟨S2x3x128, .f32⟩
  | 14 => ⟨S1x384, .f32⟩
  | 15 => ⟨S1x256, .f32⟩
  | 16 => ⟨S1x256, .f32⟩
  | 17 => ⟨S1x31x128, .f32⟩
  | 18 => ⟨S1x128, .f32⟩
  | 19 => ⟨S1x128, .f32⟩
  | 20 => ⟨S1x128, .f32⟩
  | 21 => ⟨S1x128, .f32⟩
  | 22 => ⟨S4x1024, .f32⟩
  | 23 => ⟨S4x1024, .f32⟩
  | 24 => ⟨S4x1024, .f32⟩
  | 25 => ⟨S4x1024, .f32⟩
  | 26 => ⟨S2x3x128, .f32⟩
  | 27 => ⟨S1x384, .f32⟩
  | 28 => ⟨S1x256, .f32⟩
  | 29 => ⟨S1x256, .f32⟩
  | 30 => ⟨S1x31x128, .f32⟩
  | 31 => ⟨S1x128, .f32⟩
  | 32 => ⟨S1x128, .f32⟩
  | 33 => ⟨S1x128, .f32⟩
  | 34 => ⟨S1x128, .f32⟩
  | 35 => ⟨S4x1024, .f32⟩
  | 36 => ⟨S4x1024, .f32⟩
  | 37 => ⟨S4x1024, .f32⟩
  | 38 => ⟨S4x1024, .f32⟩
  | 39 => ⟨S2x3x128, .f32⟩
  | 40 => ⟨S1x384, .f32⟩
  | 41 => ⟨S1x256, .f32⟩
  | 42 => ⟨S1x256, .f32⟩
  | 43 => ⟨S1x31x128, .f32⟩
  | 44 => ⟨S1x128, .f32⟩
  | 45 => ⟨S1x128, .f32⟩
  | 46 => ⟨S1x128, .f32⟩
  | 47 => ⟨S1x128, .f32⟩
  | 48 => ⟨S4x1024, .f32⟩
  | 49 => ⟨S4x1024, .f32⟩
  | 50 => ⟨S4x1024, .f32⟩
  | 51 => ⟨S4x1024, .f32⟩
  | 52 => ⟨S_, .f32⟩
  | 53 => ⟨S2x3x128, .f32⟩
  | 54 => ⟨S2x3x128, .f32⟩
  | 55 => ⟨S_, .f32⟩
  | 56 => ⟨S2x3x128, .f32⟩
  | 57 => ⟨S2x3x128, .f32⟩
  | 58 => ⟨S2x3x128, .f32⟩
  | 59 => ⟨S_, .f32⟩
  | 60 => ⟨S2x3x128, .f32⟩
  | 61 => ⟨S2x3x128, .f32⟩
  | 62 => ⟨S2x3x128, .f32⟩
  | 63 => ⟨S_, .f32⟩
  | 64 => ⟨S2x3x128, .f32⟩
  | 65 => ⟨S2x3x128, .f32⟩
  | 66 => ⟨S2x3x128, .f32⟩
  | 67 => ⟨S_, .f32⟩
  | 68 => ⟨S2x3x128, .f32⟩
  | 69 => ⟨S2x3x128, .f32⟩
  | 70 => ⟨S_, .f32⟩
  | 71 => ⟨S2x3x128, .f32⟩
  | 72 => ⟨S2x3x128, .f32⟩
  | 73 => ⟨S2x3x128, .f32⟩
  | 74 => ⟨S_, .f32⟩
  | 75 => ⟨S2x3x128, .f32⟩
  | 76 => ⟨S2x3x128, .f32⟩
  | 77 => ⟨S2x3x128, .f32⟩
  | 78 => ⟨S_, .f32⟩
  | 79 => ⟨S2x3x128, .f32⟩
  | 80 => ⟨S2x3x128, .f32⟩
  | 81 => ⟨S2x3x128, .f32⟩
  | 82 => ⟨S_, .f32⟩
  | 83 => ⟨S2x3x128, .f32⟩
  | 84 => ⟨S2x3x128, .f32⟩
  | 85 => ⟨S_, .f32⟩
  | 86 => ⟨S1x384, .f32⟩
  | 87 => ⟨S1x384, .f32⟩
  | 88 => ⟨S_, .f32⟩
  | 89 => ⟨S1x384, .f32⟩
  | 90 => ⟨S1x384, .f32⟩
  | 91 => ⟨S1x384, .f32⟩
  | 92 => ⟨S_, .f32⟩
  | 93 => ⟨S1x384, .f32⟩
  | 94 => ⟨S1x384, .f32⟩
  | 95 => ⟨S1x384, .f32⟩
  | 96 => ⟨S_, .f32⟩
  | 97 => ⟨S1x384, .f32⟩
  | 98 => ⟨S1x384, .f32⟩
  | 99 => ⟨S1x384, .f32⟩
  | 100 => ⟨S_, .f32⟩
  | 101 => ⟨S1x384, .f32⟩
  | 102 => ⟨S1x384, .f32⟩
  | 103 => ⟨S_, .f32⟩
  | 104 => ⟨S1x384, .f32⟩
  | 105 => ⟨S1x384, .f32⟩
  | 106 => ⟨S1x384, .f32⟩
  | 107 => ⟨S_, .f32⟩
  | 108 => ⟨S1x384, .f32⟩
  | 109 => ⟨S1x384, .f32⟩
  | 110 => ⟨S1x384, .f32⟩
  | 111 => ⟨S_, .f32⟩
  | 112 => ⟨S1x384, .f32⟩
  | 113 => ⟨S1x384, .f32⟩
  | 114 => ⟨S1x384, .f32⟩
  | 115 => ⟨S_, .f32⟩
  | 116 => ⟨S1x384, .f32⟩
  | 117 => ⟨S1x384, .f32⟩
  | 118 => ⟨S_, .f32⟩
  | 119 => ⟨S1x256, .f32⟩
  | 120 => ⟨S1x256, .f32⟩
  | 121 => ⟨S_, .f32⟩
  | 122 => ⟨S1x256, .f32⟩
  | 123 => ⟨S1x256, .f32⟩
  | 124 => ⟨S1x256, .f32⟩
  | 125 => ⟨S_, .f32⟩
  | 126 => ⟨S1x256, .f32⟩
  | 127 => ⟨S1x256, .f32⟩
  | _ => ⟨S2x3x128, .f32⟩

abbrev hbmTy0_1 (i : Nat) : BufTy := match i % 128 with
  | 0 => ⟨S1x256, .f32⟩
  | 1 => ⟨S_, .f32⟩
  | 2 => ⟨S1x256, .f32⟩
  | 3 => ⟨S1x256, .f32⟩
  | 4 => ⟨S1x256, .f32⟩
  | 5 => ⟨S_, .f32⟩
  | 6 => ⟨S1x256, .f32⟩
  | 7 => ⟨S1x256, .f32⟩
  | 8 => ⟨S_, .f32⟩
  | 9 => ⟨S1x256, .f32⟩
  | 10 => ⟨S1x256, .f32⟩
  | 11 => ⟨S1x256, .f32⟩
  | 12 => ⟨S_, .f32⟩
  | 13 => ⟨S1x256, .f32⟩
  | 14 => ⟨S1x256, .f32⟩
  | 15 => ⟨S1x256, .f32⟩
  | 16 => ⟨S_, .f32⟩
  | 17 => ⟨S1x256, .f32⟩
  | 18 => ⟨S1x256, .f32⟩
  | 19 => ⟨S1x256, .f32⟩
  | 20 => ⟨S_, .f32⟩
  | 21 => ⟨S1x256, .f32⟩
  | 22 => ⟨S1x256, .f32⟩
  | 23 => ⟨S_, .f32⟩
  | 24 => ⟨S1x256, .f32⟩
  | 25 => ⟨S1x256, .f32⟩
  | 26 => ⟨S_, .f32⟩
  | 27 => ⟨S1x256, .f32⟩
  | 28 => ⟨S1x256, .f32⟩
  | 29 => ⟨S1x256, .f32⟩
  | 30 => ⟨S_, .f32⟩
  | 31 => ⟨S1x256, .f32⟩
  | 32 => ⟨S1x256, .f32⟩
  | 33 => ⟨S1x256, .f32⟩
  | 34 => ⟨S_, .f32⟩
  | 35 => ⟨S1x256, .f32⟩
  | 36 => ⟨S1x256, .f32⟩
  | 37 => ⟨S1x256, .f32⟩
  | 38 => ⟨S_, .f32⟩
  | 39 => ⟨S1x256, .f32⟩
  | 40 => ⟨S1x256, .f32⟩
  | 41 => ⟨S_, .f32⟩
  | 42 => ⟨S1x256, .f32⟩
  | 43 => ⟨S1x256, .f32⟩
  | 44 => ⟨S1x256, .f32⟩
  | 45 => ⟨S_, .f32⟩
  | 46 => ⟨S1x256, .f32⟩
  | 47 => ⟨S1x256, .f32⟩
  | 48 => ⟨S1x256, .f32⟩
  | 49 => ⟨S_, .f32⟩
  | 50 => ⟨S1x256, .f32⟩
  | 51 => ⟨S1x256, .f32⟩
  | 52 => ⟨S1x256, .f32⟩
  | 53 => ⟨S_, .f32⟩
  | 54 => ⟨S1x256, .f32⟩
  | 55 => ⟨S1x256, .f32⟩
  | 56 => ⟨S_, .f32⟩
  | 57 => ⟨S1x31x128, .f32⟩
  | 58 => ⟨S1x31x128, .f32⟩
  | 59 => ⟨S_, .f32⟩
  | 60 => ⟨S1x31x128, .f32⟩
  | 61 => ⟨S1x31x128, .f32⟩
  | 62 => ⟨S1x31x128, .f32⟩
  | 63 => ⟨S_, .f32⟩
  | 64 => ⟨S1x31x128, .f32⟩
  | 65 => ⟨S1x31x128, .f32⟩
  | 66 => ⟨S1x31x128, .f32⟩
  | 67 => ⟨S_, .f32⟩
  | 68 => ⟨S1x31x128, .f32⟩
  | 69 => ⟨S1x31x128, .f32⟩
  | 70 => ⟨S1x31x128, .f32⟩
  | 71 => ⟨S_, .f32⟩
  | 72 => ⟨S1x31x128, .f32⟩
  | 73 => ⟨S1x31x128, .f32⟩
  | 74 => ⟨S_, .f32⟩
  | 75 => ⟨S1x31x128, .f32⟩
  | 76 => ⟨S1x31x128, .f32⟩
  | 77 => ⟨S1x31x128, .f32⟩
  | 78 => ⟨S_, .f32⟩
  | 79 => ⟨S1x31x128, .f32⟩
  | 80 => ⟨S1x31x128, .f32⟩
  | 81 => ⟨S1x31x128, .f32⟩
  | 82 => ⟨S_, .f32⟩
  | 83 => ⟨S1x31x128, .f32⟩
  | 84 => ⟨S1x31x128, .f32⟩
  | 85 => ⟨S1x31x128, .f32⟩
  | 86 => ⟨S_, .f32⟩
  | 87 => ⟨S1x31x128, .f32⟩
  | 88 => ⟨S1x31x128, .f32⟩
  | 89 => ⟨S_, .f32⟩
  | 90 => ⟨S1x128, .f32⟩
  | 91 => ⟨S1x128, .f32⟩
  | 92 => ⟨S_, .f32⟩
  | 93 => ⟨S1x128, .f32⟩
  | 94 => ⟨S1x128, .f32⟩
  | 95 => ⟨S1x128, .f32⟩
  | 96 => ⟨S_, .f32⟩
  | 97 => ⟨S1x128, .f32⟩
  | 98 => ⟨S1x128, .f32⟩
  | 99 => ⟨S1x128, .f32⟩
  | 100 => ⟨S_, .f32⟩
  | 101 => ⟨S1x128, .f32⟩
  | 102 => ⟨S1x128, .f32⟩
  | 103 => ⟨S1x128, .f32⟩
  | 104 => ⟨S_, .f32⟩
  | 105 => ⟨S1x128, .f32⟩
  | 106 => ⟨S1x128, .f32⟩
  | 107 => ⟨S_, .f32⟩
  | 108 => ⟨S1x128, .f32⟩
  | 109 => ⟨S1x128, .f32⟩
  | 110 => ⟨S1x128, .f32⟩
  | 111 => ⟨S_, .f32⟩
  | 112 => ⟨S1x128, .f32⟩
  | 113 => ⟨S1x128, .f32⟩
  | 114 => ⟨S1x128, .f32⟩
  | 115 => ⟨S_, .f32⟩
  | 116 => ⟨S1x128, .f32⟩
  | 117 => ⟨S1x128, .f32⟩
  | 118 => ⟨S1x128, .f32⟩
  | 119 => ⟨S_, .f32⟩
  | 120 => ⟨S1x128, .f32⟩
  | 121 => ⟨S1x128, .f32⟩
  | 122 => ⟨S_, .f32⟩
  | 123 => ⟨S1x128, .f32⟩
  | 124 => ⟨S1x128, .f32⟩
  | 125 => ⟨S_, .f32⟩
  | 126 => ⟨S1x128, .f32⟩
  | 127 => ⟨S1x128, .f32⟩
  | _ => ⟨S2x3x128, .f32⟩

abbrev hbmTy0_2 (i : Nat) : BufTy := match i % 128 with
  | 0 => ⟨S1x128, .f32⟩
  | 1 => ⟨S_, .f32⟩
  | 2 => ⟨S1x128, .f32⟩
  | 3 => ⟨S1x128, .f32⟩
  | 4 => ⟨S1x128, .f32⟩
  | 5 => ⟨S_, .f32⟩
  | 6 => ⟨S1x128, .f32⟩
  | 7 => ⟨S1x128, .f32⟩
  | 8 => ⟨S1x128, .f32⟩
  | 9 => ⟨S_, .f32⟩
  | 10 => ⟨S1x128, .f32⟩
  | 11 => ⟨S1x128, .f32⟩
  | 12 => ⟨S_, .f32⟩
  | 13 => ⟨S1x128, .f32⟩
  | 14 => ⟨S1x128, .f32⟩
  | 15 => ⟨S1x128, .f32⟩
  | 16 => ⟨S_, .f32⟩
  | 17 => ⟨S1x128, .f32⟩
  | 18 => ⟨S1x128, .f32⟩
  | 19 => ⟨S1x128, .f32⟩
  | 20 => ⟨S_, .f32⟩
  | 21 => ⟨S1x128, .f32⟩
  | 22 => ⟨S1x128, .f32⟩
  | 23 => ⟨S1x128, .f32⟩
  | 24 => ⟨S_, .f32⟩
  | 25 => ⟨S1x128, .f32⟩
  | 26 => ⟨S1x128, .f32⟩
  | 27 => ⟨S_, .f32⟩
  | 28 => ⟨S1x128, .f32⟩
  | 29 => ⟨S1x128, .f32⟩
  | 30 => ⟨S_, .f32⟩
  | 31 => ⟨S1x128, .f32⟩
  | 32 => ⟨S1x128, .f32⟩
  | 33 => ⟨S1x128, .f32⟩
  | 34 => ⟨S_, .f32⟩
  | 35 => ⟨S1x128, .f32⟩
  | 36 => ⟨S1x128, .f32⟩
  | 37 => ⟨S1x128, .f32⟩
  | 38 => ⟨S_, .f32⟩
  | 39 => ⟨S1x128, .f32⟩
  | 40 => ⟨S1x128, .f32⟩
  | 41 => ⟨S1x128, .f32⟩
  | 42 => ⟨S_, .f32⟩
  | 43 => ⟨S1x128, .f32⟩
  | 44 => ⟨S1x128, .f32⟩
  | 45 => ⟨S_, .f32⟩
  | 46 => ⟨S1x128, .f32⟩
  | 47 => ⟨S1x128, .f32⟩
  | 48 => ⟨S1x128, .f32⟩
  | 49 => ⟨S_, .f32⟩
  | 50 => ⟨S1x128, .f32⟩
  | 51 => ⟨S1x128, .f32⟩
  | 52 => ⟨S1x128, .f32⟩
  | 53 => ⟨S_, .f32⟩
  | 54 => ⟨S1x128, .f32⟩
  | 55 => ⟨S1x128, .f32⟩
  | 56 => ⟨S1x128, .f32⟩
  | 57 => ⟨S_, .f32⟩
  | 58 => ⟨S1x128, .f32⟩
  | 59 => ⟨S1x128, .f32⟩
  | 60 => ⟨S_, .f32⟩
  | 61 => ⟨S1x128, .f32⟩
  | 62 => ⟨S1x128, .f32⟩
  | 63 => ⟨S_, .f32⟩
  | 64 => ⟨S1x128, .f32⟩
  | 65 => ⟨S1x128, .f32⟩
  | 66 => ⟨S1x128, .f32⟩
  | 67 => ⟨S_, .f32⟩
  | 68 => ⟨S1x128, .f32⟩
  | 69 => ⟨S1x128, .f32⟩
  | 70 => ⟨S1x128, .f32⟩
  | 71 => ⟨S_, .f32⟩
  | 72 => ⟨S1x128, .f32⟩
  | 73 => ⟨S1x128, .f32⟩
  | 74 => ⟨S1x128, .f32⟩
  | 75 => ⟨S_, .f32⟩
  | 76 => ⟨S1x128, .f32⟩
  | 77 => ⟨S1x128, .f32⟩
  | 78 => ⟨S_, .f32⟩
  | 79 => ⟨S1x128, .f32⟩
  | 80 => ⟨S1x128, .f32⟩
  | 81 => ⟨S1x128, .f32⟩
  | 82 => ⟨S_, .f32⟩
  | 83 => ⟨S1x128, .f32⟩
  | 84 => ⟨S1x128, .f32⟩
  | 85 => ⟨S1x128, .f32⟩
  | 86 => ⟨S_, .f32⟩
  | 87 => ⟨S1x128, .f32⟩
  | 88 => ⟨S1x128, .f32⟩
  | 89 => ⟨S1x128, .f32⟩
  | 90 => ⟨S_, .f32⟩
  | 91 => ⟨S1x128, .f32⟩
  | 92 => ⟨S1x128, .f32⟩
  | 93 => ⟨S_, .f32⟩
  | 94 => ⟨S4x1024, .f32⟩
  | 95 => ⟨S4x1024, .f32⟩
  | 96 => ⟨S_, .f32⟩
  | 97 => ⟨S4x1024, .f32⟩
  | 98 => ⟨S4x1024, .f32⟩
  | 99 => ⟨S4x1024, .f32⟩
  | 100 => ⟨S_, .f32⟩
  | 101 => ⟨S4x1024, .f32⟩
  | 102 => ⟨S4x1024, .f32⟩
  | 103 => ⟨S4x1024, .f32⟩
  | 104 => ⟨S_, .f32⟩
  | 105 => ⟨S4x1024, .f32⟩
  | 106 => ⟨S4x1024, .f32⟩
  | 107 => ⟨S4x1024, .f32⟩
  | 108 => ⟨S_, .f32⟩
  | 109 => ⟨S4x1024, .f32⟩
  | 110 => ⟨S4x1024, .f32⟩
  | 111 => ⟨S_, .f32⟩
  | 112 => ⟨S4x1024, .f32⟩
  | 113 => ⟨S4x1024, .f32⟩
  | 114 => ⟨S4x1024, .f32⟩
  | 115 => ⟨S_, .f32⟩
  | 116 => ⟨S4x1024, .f32⟩
  | 117 => ⟨S4x1024, .f32⟩
  | 118 => ⟨S4x1024, .f32⟩
  | 119 => ⟨S_, .f32⟩
  | 120 => ⟨S4x1024, .f32⟩
  | 121 => ⟨S4x1024, .f32⟩
  | 122 => ⟨S4x1024, .f32⟩
  | 123 => ⟨S_, .f32⟩
  | 124 => ⟨S4x1024, .f32⟩
  | 125 => ⟨S4x1024, .f32⟩
  | 126 => ⟨S_, .f32⟩
  | 127 => ⟨S4x1024, .f32⟩
  | _ => ⟨S2x3x128, .f32⟩

abbrev hbmTy0_3 (i : Nat) : BufTy := match i % 128 with
  | 0 => ⟨S4x1024, .f32⟩
  | 1 => ⟨S_, .f32⟩
  | 2 => ⟨S4x1024, .f32⟩
  | 3 => ⟨S4x1024, .f32⟩
  | 4 => ⟨S4x1024, .f32⟩
  | 5 => ⟨S_, .f32⟩
  | 6 => ⟨S4x1024, .f32⟩
  | 7 => ⟨S4x1024, .f32⟩
  | 8 => ⟨S4x1024, .f32⟩
  | 9 => ⟨S_, .f32⟩
  | 10 => ⟨S4x1024, .f32⟩
  | 11 => ⟨S4x1024, .f32⟩
  | 12 => ⟨S4x1024, .f32⟩
  | 13 => ⟨S_, .f32⟩
  | 14 => ⟨S4x1024, .f32⟩
  | 15 => ⟨S4x1024, .f32⟩
  | 16 => ⟨S_, .f32⟩
  | 17 => ⟨S4x1024, .f32⟩
  | 18 => ⟨S4x1024, .f32⟩
  | 19 => ⟨S4x1024, .f32⟩
  | 20 => ⟨S_, .f32⟩
  | 21 => ⟨S4x1024, .f32⟩
  | 22 => ⟨S4x1024, .f32⟩
  | 23 => ⟨S4x1024, .f32⟩
  | 24 => ⟨S_, .f32⟩
  | 25 => ⟨S4x1024, .f32⟩
  | 26 => ⟨S4x1024, .f32⟩
  | 27 => ⟨S4x1024, .f32⟩
  | 28 => ⟨S_, .f32⟩
  | 29 => ⟨S4x1024, .f32⟩
  | 30 => ⟨S4x1024, .f32⟩
  | 31 => ⟨S_, .f32⟩
  | 32 => ⟨S4x1024, .f32⟩
  | 33 => ⟨S4x1024, .f32⟩
  | 34 => ⟨S_, .f32⟩
  | 35 => ⟨S4x1024, .f32⟩
  | 36 => ⟨S4x1024, .f32⟩
  | 37 => ⟨S4x1024, .f32⟩
  | 38 => ⟨S_, .f32⟩
  | 39 => ⟨S4x1024, .f32⟩
  | 40 => ⟨S4x1024, .f32⟩
  | 41 => ⟨S4x1024, .f32⟩
  | 42 => ⟨S_, .f32⟩
  | 43 => ⟨S4x1024, .f32⟩
  | 44 => ⟨S4x1024, .f32⟩
  | 45 => ⟨S4x1024, .f32⟩
  | 46 => ⟨S_, .f32⟩
  | 47 => ⟨S4x1024, .f32⟩
  | 48 => ⟨S4x1024, .f32⟩
  | 49 => ⟨S_, .f32⟩
  | 50 => ⟨S4x1024, .f32⟩
  | 51 => ⟨S4x1024, .f32⟩
  | 52 => ⟨S4x1024, .f32⟩
  | 53 => ⟨S_, .f32⟩
  | 54 => ⟨S4x1024, .f32⟩
  | 55 => ⟨S4x1024, .f32⟩
  | 56 => ⟨S4x1024, .f32⟩
  | 57 => ⟨S_, .f32⟩
  | 58 => ⟨S4x1024, .f32⟩
  | 59 => ⟨S4x1024, .f32⟩
  | 60 => ⟨S4x1024, .f32⟩
  | 61 => ⟨S_, .f32⟩
  | 62 => ⟨S4x1024, .f32⟩
  | 63 => ⟨S4x1024, .f32⟩
  | 64 => ⟨S_, .f32⟩
  | 65 => ⟨S4x1024, .f32⟩
  | 66 => ⟨S4x1024, .f32⟩
  | 67 => ⟨S_, .f32⟩
  | 68 => ⟨S4x1024, .f32⟩
  | 69 => ⟨S4x1024, .f32⟩
  | 70 => ⟨S4x1024, .f32⟩
  | 71 => ⟨S_, .f32⟩
  | 72 => ⟨S4x1024, .f32⟩
  | 73 => ⟨S4x1024, .f32⟩
  | 74 => ⟨S4x1024, .f32⟩
  | 75 => ⟨S_, .f32⟩
  | 76 => ⟨S4x1024, .f32⟩
  | 77 => ⟨S4x1024, .f32⟩
  | 78 => ⟨S4x1024, .f32⟩
  | 79 => ⟨S_, .f32⟩
  | 80 => ⟨S4x1024, .f32⟩
  | 81 => ⟨S4x1024, .f32⟩
  | 82 => ⟨S_, .f32⟩
  | 83 => ⟨S4x1024, .f32⟩
  | 84 => ⟨S4x1024, .f32⟩
  | 85 => ⟨S4x1024, .f32⟩
  | 86 => ⟨S_, .f32⟩
  | 87 => ⟨S4x1024, .f32⟩
  | 88 => ⟨S4x1024, .f32⟩
  | 89 => ⟨S4x1024, .f32⟩
  | 90 => ⟨S_, .f32⟩
  | 91 => ⟨S4x1024, .f32⟩
  | 92 => ⟨S4x1024, .f32⟩
  | 93 => ⟨S4x1024, .f32⟩
  | 94 => ⟨S_, .f32⟩
  | 95 => ⟨S4x1024, .f32⟩
  | 96 => ⟨S4x1024, .f32⟩
  | _ => ⟨S2x3x128, .f32⟩

abbrev hbmTy (i : Nat) : BufTy := match i / 128 with
  | 0 => hbmTy0_0 i
  | 1 => hbmTy0_1 i
  | 2 => hbmTy0_2 i
  | 3 => hbmTy0_3 i
  | _ => ⟨S2x3x128, .f32⟩

abbrev bufTy : (tb : Table) → Fin (tcTables nBuf tb) → BufTy
  | .hbm, ⟨i, _⟩ => hbmTy i
  | _, _ => ⟨S2x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_cst : Ref sig .tc := ⟨.hbm, 52, rfl⟩
abbrev main_v0 : Ref sig .tc := ⟨.hbm, 53, rfl⟩
abbrev main_v1 : Ref sig .tc := ⟨.hbm, 54, rfl⟩
abbrev main_cst_0 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_cst_1 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_cst_2 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_cst_3 : Ref sig .tc := ⟨.hbm, 67, rfl⟩
abbrev main_v11 : Ref sig .tc := ⟨.hbm, 68, rfl⟩
abbrev main_v12 : Ref sig .tc := ⟨.hbm, 69, rfl⟩
abbrev main_cst_4 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_cst_5 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_cst_6 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_cst_7 : Ref sig .tc := ⟨.hbm, 82, rfl⟩
abbrev main_v22 : Ref sig .tc := ⟨.hbm, 83, rfl⟩
abbrev main_v23 : Ref sig .tc := ⟨.hbm, 84, rfl⟩
abbrev main_cst_8 : Ref sig .tc := ⟨.hbm, 85, rfl⟩
abbrev main_v24 : Ref sig .tc := ⟨.hbm, 86, rfl⟩
abbrev main_v25 : Ref sig .tc := ⟨.hbm, 87, rfl⟩
abbrev main_cst_9 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_10 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_cst_11 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_cst_12 : Ref sig .tc := ⟨.hbm, 100, rfl⟩
abbrev main_v35 : Ref sig .tc := ⟨.hbm, 101, rfl⟩
abbrev main_v36 : Ref sig .tc := ⟨.hbm, 102, rfl⟩
abbrev main_cst_13 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_cst_14 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_cst_15 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_cst_16 : Ref sig .tc := ⟨.hbm, 115, rfl⟩
abbrev main_v46 : Ref sig .tc := ⟨.hbm, 116, rfl⟩
abbrev main_v47 : Ref sig .tc := ⟨.hbm, 117, rfl⟩
abbrev main_cst_17 : Ref sig .tc := ⟨.hbm, 118, rfl⟩
abbrev main_v48 : Ref sig .tc := ⟨.hbm, 119, rfl⟩
abbrev main_v49 : Ref sig .tc := ⟨.hbm, 120, rfl⟩
abbrev main_cst_18 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_cst_19 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_cst_20 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_cst_21 : Ref sig .tc := ⟨.hbm, 133, rfl⟩
abbrev main_v59 : Ref sig .tc := ⟨.hbm, 134, rfl⟩
abbrev main_v60 : Ref sig .tc := ⟨.hbm, 135, rfl⟩
abbrev main_cst_22 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_cst_23 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_cst_24 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_cst_25 : Ref sig .tc := ⟨.hbm, 148, rfl⟩
abbrev main_v70 : Ref sig .tc := ⟨.hbm, 149, rfl⟩
abbrev main_v71 : Ref sig .tc := ⟨.hbm, 150, rfl⟩
abbrev main_cst_26 : Ref sig .tc := ⟨.hbm, 151, rfl⟩
abbrev main_v72 : Ref sig .tc := ⟨.hbm, 152, rfl⟩
abbrev main_v73 : Ref sig .tc := ⟨.hbm, 153, rfl⟩
abbrev main_cst_27 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_cst_28 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_cst_29 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_cst_30 : Ref sig .tc := ⟨.hbm, 166, rfl⟩
abbrev main_v83 : Ref sig .tc := ⟨.hbm, 167, rfl⟩
abbrev main_v84 : Ref sig .tc := ⟨.hbm, 168, rfl⟩
abbrev main_cst_31 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_cst_32 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_cst_33 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_cst_34 : Ref sig .tc := ⟨.hbm, 181, rfl⟩
abbrev main_v94 : Ref sig .tc := ⟨.hbm, 182, rfl⟩
abbrev main_v95 : Ref sig .tc := ⟨.hbm, 183, rfl⟩
abbrev main_cst_35 : Ref sig .tc := ⟨.hbm, 184, rfl⟩
abbrev main_v96 : Ref sig .tc := ⟨.hbm, 185, rfl⟩
abbrev main_v97 : Ref sig .tc := ⟨.hbm, 186, rfl⟩
abbrev main_cst_36 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_cst_37 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_cst_38 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_cst_39 : Ref sig .tc := ⟨.hbm, 199, rfl⟩
abbrev main_v107 : Ref sig .tc := ⟨.hbm, 200, rfl⟩
abbrev main_v108 : Ref sig .tc := ⟨.hbm, 201, rfl⟩
abbrev main_cst_40 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_cst_41 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_cst_42 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_cst_43 : Ref sig .tc := ⟨.hbm, 214, rfl⟩
abbrev main_v118 : Ref sig .tc := ⟨.hbm, 215, rfl⟩
abbrev main_v119 : Ref sig .tc := ⟨.hbm, 216, rfl⟩
abbrev main_cst_44 : Ref sig .tc := ⟨.hbm, 217, rfl⟩
abbrev main_v120 : Ref sig .tc := ⟨.hbm, 218, rfl⟩
abbrev main_v121 : Ref sig .tc := ⟨.hbm, 219, rfl⟩
abbrev main_cst_45 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_cst_46 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_cst_47 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_cst_48 : Ref sig .tc := ⟨.hbm, 232, rfl⟩
abbrev main_v131 : Ref sig .tc := ⟨.hbm, 233, rfl⟩
abbrev main_v132 : Ref sig .tc := ⟨.hbm, 234, rfl⟩
abbrev main_cst_49 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_cst_50 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_cst_51 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_cst_52 : Ref sig .tc := ⟨.hbm, 247, rfl⟩
abbrev main_v142 : Ref sig .tc := ⟨.hbm, 248, rfl⟩
abbrev main_v143 : Ref sig .tc := ⟨.hbm, 249, rfl⟩
abbrev main_cst_53 : Ref sig .tc := ⟨.hbm, 250, rfl⟩
abbrev main_v144 : Ref sig .tc := ⟨.hbm, 251, rfl⟩
abbrev main_v145 : Ref sig .tc := ⟨.hbm, 252, rfl⟩
abbrev main_cst_54 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_cst_55 : Ref sig .tc := ⟨.hbm, 257, rfl⟩
abbrev main_v149 : Ref sig .tc := ⟨.hbm, 258, rfl⟩
abbrev main_v150 : Ref sig .tc := ⟨.hbm, 259, rfl⟩
abbrev main_v151 : Ref sig .tc := ⟨.hbm, 260, rfl⟩
abbrev main_cst_56 : Ref sig .tc := ⟨.hbm, 261, rfl⟩
abbrev main_v152 : Ref sig .tc := ⟨.hbm, 262, rfl⟩
abbrev main_v153 : Ref sig .tc := ⟨.hbm, 263, rfl⟩
abbrev main_v154 : Ref sig .tc := ⟨.hbm, 264, rfl⟩
abbrev main_cst_57 : Ref sig .tc := ⟨.hbm, 265, rfl⟩
abbrev main_v155 : Ref sig .tc := ⟨.hbm, 266, rfl⟩
abbrev main_v156 : Ref sig .tc := ⟨.hbm, 267, rfl⟩
abbrev main_cst_58 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_cst_59 : Ref sig .tc := ⟨.hbm, 272, rfl⟩
abbrev main_v160 : Ref sig .tc := ⟨.hbm, 273, rfl⟩
abbrev main_v161 : Ref sig .tc := ⟨.hbm, 274, rfl⟩
abbrev main_v162 : Ref sig .tc := ⟨.hbm, 275, rfl⟩
abbrev main_cst_60 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_cst_61 : Ref sig .tc := ⟨.hbm, 280, rfl⟩
abbrev main_v166 : Ref sig .tc := ⟨.hbm, 281, rfl⟩
abbrev main_v167 : Ref sig .tc := ⟨.hbm, 282, rfl⟩
abbrev main_cst_62 : Ref sig .tc := ⟨.hbm, 283, rfl⟩
abbrev main_v168 : Ref sig .tc := ⟨.hbm, 284, rfl⟩
abbrev main_v169 : Ref sig .tc := ⟨.hbm, 285, rfl⟩
abbrev main_cst_63 : Ref sig .tc := ⟨.hbm, 286, rfl⟩
abbrev main_v170 : Ref sig .tc := ⟨.hbm, 287, rfl⟩
abbrev main_v171 : Ref sig .tc := ⟨.hbm, 288, rfl⟩
abbrev main_v172 : Ref sig .tc := ⟨.hbm, 289, rfl⟩
abbrev main_cst_64 : Ref sig .tc := ⟨.hbm, 290, rfl⟩
abbrev main_v173 : Ref sig .tc := ⟨.hbm, 291, rfl⟩
abbrev main_v174 : Ref sig .tc := ⟨.hbm, 292, rfl⟩
abbrev main_v175 : Ref sig .tc := ⟨.hbm, 293, rfl⟩
abbrev main_cst_65 : Ref sig .tc := ⟨.hbm, 294, rfl⟩
abbrev main_v176 : Ref sig .tc := ⟨.hbm, 295, rfl⟩
abbrev main_v177 : Ref sig .tc := ⟨.hbm, 296, rfl⟩
abbrev main_v178 : Ref sig .tc := ⟨.hbm, 297, rfl⟩
abbrev main_cst_66 : Ref sig .tc := ⟨.hbm, 298, rfl⟩
abbrev main_v179 : Ref sig .tc := ⟨.hbm, 299, rfl⟩
abbrev main_v180 : Ref sig .tc := ⟨.hbm, 300, rfl⟩
abbrev main_cst_67 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_cst_68 : Ref sig .tc := ⟨.hbm, 305, rfl⟩
abbrev main_v184 : Ref sig .tc := ⟨.hbm, 306, rfl⟩
abbrev main_v185 : Ref sig .tc := ⟨.hbm, 307, rfl⟩
abbrev main_v186 : Ref sig .tc := ⟨.hbm, 308, rfl⟩
abbrev main_cst_69 : Ref sig .tc := ⟨.hbm, 309, rfl⟩
abbrev main_v187 : Ref sig .tc := ⟨.hbm, 310, rfl⟩
abbrev main_v188 : Ref sig .tc := ⟨.hbm, 311, rfl⟩
abbrev main_v189 : Ref sig .tc := ⟨.hbm, 312, rfl⟩
abbrev main_cst_70 : Ref sig .tc := ⟨.hbm, 313, rfl⟩
abbrev main_v190 : Ref sig .tc := ⟨.hbm, 314, rfl⟩
abbrev main_v191 : Ref sig .tc := ⟨.hbm, 315, rfl⟩
abbrev main_cst_71 : Ref sig .tc := ⟨.hbm, 316, rfl⟩
abbrev main_v192 : Ref sig .tc := ⟨.hbm, 317, rfl⟩
abbrev main_v193 : Ref sig .tc := ⟨.hbm, 318, rfl⟩
abbrev main_cst_72 : Ref sig .tc := ⟨.hbm, 319, rfl⟩
abbrev main_v194 : Ref sig .tc := ⟨.hbm, 320, rfl⟩
abbrev main_v195 : Ref sig .tc := ⟨.hbm, 321, rfl⟩
abbrev main_v196 : Ref sig .tc := ⟨.hbm, 322, rfl⟩
abbrev main_cst_73 : Ref sig .tc := ⟨.hbm, 323, rfl⟩
abbrev main_v197 : Ref sig .tc := ⟨.hbm, 324, rfl⟩
abbrev main_v198 : Ref sig .tc := ⟨.hbm, 325, rfl⟩
abbrev main_v199 : Ref sig .tc := ⟨.hbm, 326, rfl⟩
abbrev main_cst_74 : Ref sig .tc := ⟨.hbm, 327, rfl⟩
abbrev main_v200 : Ref sig .tc := ⟨.hbm, 328, rfl⟩
abbrev main_v201 : Ref sig .tc := ⟨.hbm, 329, rfl⟩
abbrev main_v202 : Ref sig .tc := ⟨.hbm, 330, rfl⟩
abbrev main_cst_75 : Ref sig .tc := ⟨.hbm, 331, rfl⟩
abbrev main_v203 : Ref sig .tc := ⟨.hbm, 332, rfl⟩
abbrev main_v204 : Ref sig .tc := ⟨.hbm, 333, rfl⟩
abbrev main_cst_76 : Ref sig .tc := ⟨.hbm, 334, rfl⟩
abbrev main_v205 : Ref sig .tc := ⟨.hbm, 335, rfl⟩
abbrev main_v206 : Ref sig .tc := ⟨.hbm, 336, rfl⟩
abbrev main_v207 : Ref sig .tc := ⟨.hbm, 337, rfl⟩
abbrev main_cst_77 : Ref sig .tc := ⟨.hbm, 338, rfl⟩
abbrev main_v208 : Ref sig .tc := ⟨.hbm, 339, rfl⟩
abbrev main_v209 : Ref sig .tc := ⟨.hbm, 340, rfl⟩
abbrev main_v210 : Ref sig .tc := ⟨.hbm, 341, rfl⟩
abbrev main_cst_78 : Ref sig .tc := ⟨.hbm, 342, rfl⟩
abbrev main_v211 : Ref sig .tc := ⟨.hbm, 343, rfl⟩
abbrev main_v212 : Ref sig .tc := ⟨.hbm, 344, rfl⟩
abbrev main_v213 : Ref sig .tc := ⟨.hbm, 345, rfl⟩
abbrev main_cst_79 : Ref sig .tc := ⟨.hbm, 346, rfl⟩
abbrev main_v214 : Ref sig .tc := ⟨.hbm, 347, rfl⟩
abbrev main_v215 : Ref sig .tc := ⟨.hbm, 348, rfl⟩
abbrev main_cst_80 : Ref sig .tc := ⟨.hbm, 349, rfl⟩
abbrev main_v216 : Ref sig .tc := ⟨.hbm, 350, rfl⟩
abbrev main_v217 : Ref sig .tc := ⟨.hbm, 351, rfl⟩
abbrev main_cst_81 : Ref sig .tc := ⟨.hbm, 352, rfl⟩
abbrev main_v218 : Ref sig .tc := ⟨.hbm, 353, rfl⟩
abbrev main_v219 : Ref sig .tc := ⟨.hbm, 354, rfl⟩
abbrev main_v220 : Ref sig .tc := ⟨.hbm, 355, rfl⟩
abbrev main_cst_82 : Ref sig .tc := ⟨.hbm, 356, rfl⟩
abbrev main_v221 : Ref sig .tc := ⟨.hbm, 357, rfl⟩
abbrev main_v222 : Ref sig .tc := ⟨.hbm, 358, rfl⟩
abbrev main_v223 : Ref sig .tc := ⟨.hbm, 359, rfl⟩
abbrev main_cst_83 : Ref sig .tc := ⟨.hbm, 360, rfl⟩
abbrev main_v224 : Ref sig .tc := ⟨.hbm, 361, rfl⟩
abbrev main_v225 : Ref sig .tc := ⟨.hbm, 362, rfl⟩
abbrev main_v226 : Ref sig .tc := ⟨.hbm, 363, rfl⟩
abbrev main_cst_84 : Ref sig .tc := ⟨.hbm, 364, rfl⟩
abbrev main_v227 : Ref sig .tc := ⟨.hbm, 365, rfl⟩
abbrev main_v228 : Ref sig .tc := ⟨.hbm, 366, rfl⟩
abbrev main_cst_85 : Ref sig .tc := ⟨.hbm, 367, rfl⟩
abbrev main_v229 : Ref sig .tc := ⟨.hbm, 368, rfl⟩
abbrev main_v230 : Ref sig .tc := ⟨.hbm, 369, rfl⟩
abbrev main_v231 : Ref sig .tc := ⟨.hbm, 370, rfl⟩
abbrev main_cst_86 : Ref sig .tc := ⟨.hbm, 371, rfl⟩
abbrev main_v232 : Ref sig .tc := ⟨.hbm, 372, rfl⟩
abbrev main_v233 : Ref sig .tc := ⟨.hbm, 373, rfl⟩
abbrev main_v234 : Ref sig .tc := ⟨.hbm, 374, rfl⟩
abbrev main_cst_87 : Ref sig .tc := ⟨.hbm, 375, rfl⟩
abbrev main_v235 : Ref sig .tc := ⟨.hbm, 376, rfl⟩
abbrev main_v236 : Ref sig .tc := ⟨.hbm, 377, rfl⟩
abbrev main_v237 : Ref sig .tc := ⟨.hbm, 378, rfl⟩
abbrev main_cst_88 : Ref sig .tc := ⟨.hbm, 379, rfl⟩
abbrev main_v238 : Ref sig .tc := ⟨.hbm, 380, rfl⟩
abbrev main_v239 : Ref sig .tc := ⟨.hbm, 381, rfl⟩
abbrev main_cst_89 : Ref sig .tc := ⟨.hbm, 382, rfl⟩
abbrev main_v240 : Ref sig .tc := ⟨.hbm, 383, rfl⟩
abbrev main_v241 : Ref sig .tc := ⟨.hbm, 384, rfl⟩
abbrev main_cst_90 : Ref sig .tc := ⟨.hbm, 385, rfl⟩
abbrev main_v242 : Ref sig .tc := ⟨.hbm, 386, rfl⟩
abbrev main_v243 : Ref sig .tc := ⟨.hbm, 387, rfl⟩
abbrev main_v244 : Ref sig .tc := ⟨.hbm, 388, rfl⟩
abbrev main_cst_91 : Ref sig .tc := ⟨.hbm, 389, rfl⟩
abbrev main_v245 : Ref sig .tc := ⟨.hbm, 390, rfl⟩
abbrev main_v246 : Ref sig .tc := ⟨.hbm, 391, rfl⟩
abbrev main_v247 : Ref sig .tc := ⟨.hbm, 392, rfl⟩
abbrev main_cst_92 : Ref sig .tc := ⟨.hbm, 393, rfl⟩
abbrev main_v248 : Ref sig .tc := ⟨.hbm, 394, rfl⟩
abbrev main_v249 : Ref sig .tc := ⟨.hbm, 395, rfl⟩
abbrev main_v250 : Ref sig .tc := ⟨.hbm, 396, rfl⟩
abbrev main_cst_93 : Ref sig .tc := ⟨.hbm, 397, rfl⟩
abbrev main_v251 : Ref sig .tc := ⟨.hbm, 398, rfl⟩
abbrev main_v252 : Ref sig .tc := ⟨.hbm, 399, rfl⟩
abbrev main_cst_94 : Ref sig .tc := ⟨.hbm, 400, rfl⟩
abbrev main_v253 : Ref sig .tc := ⟨.hbm, 401, rfl⟩
abbrev main_v254 : Ref sig .tc := ⟨.hbm, 402, rfl⟩
abbrev main_v255 : Ref sig .tc := ⟨.hbm, 403, rfl⟩
abbrev main_cst_95 : Ref sig .tc := ⟨.hbm, 404, rfl⟩
abbrev main_v256 : Ref sig .tc := ⟨.hbm, 405, rfl⟩
abbrev main_v257 : Ref sig .tc := ⟨.hbm, 406, rfl⟩
abbrev main_v258 : Ref sig .tc := ⟨.hbm, 407, rfl⟩
abbrev main_cst_96 : Ref sig .tc := ⟨.hbm, 408, rfl⟩
abbrev main_v259 : Ref sig .tc := ⟨.hbm, 409, rfl⟩
abbrev main_v260 : Ref sig .tc := ⟨.hbm, 410, rfl⟩
abbrev main_v261 : Ref sig .tc := ⟨.hbm, 411, rfl⟩
abbrev main_cst_97 : Ref sig .tc := ⟨.hbm, 412, rfl⟩
abbrev main_v262 : Ref sig .tc := ⟨.hbm, 413, rfl⟩
abbrev main_v263 : Ref sig .tc := ⟨.hbm, 414, rfl⟩
abbrev main_cst_98 : Ref sig .tc := ⟨.hbm, 415, rfl⟩
abbrev main_v264 : Ref sig .tc := ⟨.hbm, 416, rfl⟩
abbrev main_v265 : Ref sig .tc := ⟨.hbm, 417, rfl⟩
abbrev main_cst_99 : Ref sig .tc := ⟨.hbm, 418, rfl⟩
abbrev main_v266 : Ref sig .tc := ⟨.hbm, 419, rfl⟩
abbrev main_v267 : Ref sig .tc := ⟨.hbm, 420, rfl⟩
abbrev main_v268 : Ref sig .tc := ⟨.hbm, 421, rfl⟩
abbrev main_cst_100 : Ref sig .tc := ⟨.hbm, 422, rfl⟩
abbrev main_v269 : Ref sig .tc := ⟨.hbm, 423, rfl⟩
abbrev main_v270 : Ref sig .tc := ⟨.hbm, 424, rfl⟩
abbrev main_v271 : Ref sig .tc := ⟨.hbm, 425, rfl⟩
abbrev main_cst_101 : Ref sig .tc := ⟨.hbm, 426, rfl⟩
abbrev main_v272 : Ref sig .tc := ⟨.hbm, 427, rfl⟩
abbrev main_v273 : Ref sig .tc := ⟨.hbm, 428, rfl⟩
abbrev main_v274 : Ref sig .tc := ⟨.hbm, 429, rfl⟩
abbrev main_cst_102 : Ref sig .tc := ⟨.hbm, 430, rfl⟩
abbrev main_v275 : Ref sig .tc := ⟨.hbm, 431, rfl⟩
abbrev main_v276 : Ref sig .tc := ⟨.hbm, 432, rfl⟩
abbrev main_cst_103 : Ref sig .tc := ⟨.hbm, 433, rfl⟩
abbrev main_v277 : Ref sig .tc := ⟨.hbm, 434, rfl⟩
abbrev main_v278 : Ref sig .tc := ⟨.hbm, 435, rfl⟩
abbrev main_v279 : Ref sig .tc := ⟨.hbm, 436, rfl⟩
abbrev main_cst_104 : Ref sig .tc := ⟨.hbm, 437, rfl⟩
abbrev main_v280 : Ref sig .tc := ⟨.hbm, 438, rfl⟩
abbrev main_v281 : Ref sig .tc := ⟨.hbm, 439, rfl⟩
abbrev main_v282 : Ref sig .tc := ⟨.hbm, 440, rfl⟩
abbrev main_cst_105 : Ref sig .tc := ⟨.hbm, 441, rfl⟩
abbrev main_v283 : Ref sig .tc := ⟨.hbm, 442, rfl⟩
abbrev main_v284 : Ref sig .tc := ⟨.hbm, 443, rfl⟩
abbrev main_v285 : Ref sig .tc := ⟨.hbm, 444, rfl⟩
abbrev main_cst_106 : Ref sig .tc := ⟨.hbm, 445, rfl⟩
abbrev main_v286 : Ref sig .tc := ⟨.hbm, 446, rfl⟩
abbrev main_v287 : Ref sig .tc := ⟨.hbm, 447, rfl⟩
abbrev main_cst_107 : Ref sig .tc := ⟨.hbm, 448, rfl⟩
abbrev main_v288 : Ref sig .tc := ⟨.hbm, 449, rfl⟩
abbrev main_v289 : Ref sig .tc := ⟨.hbm, 450, rfl⟩
abbrev main_cst_108 : Ref sig .tc := ⟨.hbm, 451, rfl⟩
abbrev main_v290 : Ref sig .tc := ⟨.hbm, 452, rfl⟩
abbrev main_v291 : Ref sig .tc := ⟨.hbm, 453, rfl⟩
abbrev main_v292 : Ref sig .tc := ⟨.hbm, 454, rfl⟩
abbrev main_cst_109 : Ref sig .tc := ⟨.hbm, 455, rfl⟩
abbrev main_v293 : Ref sig .tc := ⟨.hbm, 456, rfl⟩
abbrev main_v294 : Ref sig .tc := ⟨.hbm, 457, rfl⟩
abbrev main_v295 : Ref sig .tc := ⟨.hbm, 458, rfl⟩
abbrev main_cst_110 : Ref sig .tc := ⟨.hbm, 459, rfl⟩
abbrev main_v296 : Ref sig .tc := ⟨.hbm, 460, rfl⟩
abbrev main_v297 : Ref sig .tc := ⟨.hbm, 461, rfl⟩
abbrev main_v298 : Ref sig .tc := ⟨.hbm, 462, rfl⟩
abbrev main_cst_111 : Ref sig .tc := ⟨.hbm, 463, rfl⟩
abbrev main_v299 : Ref sig .tc := ⟨.hbm, 464, rfl⟩
abbrev main_v300 : Ref sig .tc := ⟨.hbm, 465, rfl⟩
abbrev main_cst_112 : Ref sig .tc := ⟨.hbm, 466, rfl⟩
abbrev main_v301 : Ref sig .tc := ⟨.hbm, 467, rfl⟩
abbrev main_v302 : Ref sig .tc := ⟨.hbm, 468, rfl⟩
abbrev main_v303 : Ref sig .tc := ⟨.hbm, 469, rfl⟩
abbrev main_cst_113 : Ref sig .tc := ⟨.hbm, 470, rfl⟩
abbrev main_v304 : Ref sig .tc := ⟨.hbm, 471, rfl⟩
abbrev main_v305 : Ref sig .tc := ⟨.hbm, 472, rfl⟩
abbrev main_v306 : Ref sig .tc := ⟨.hbm, 473, rfl⟩
abbrev main_cst_114 : Ref sig .tc := ⟨.hbm, 474, rfl⟩
abbrev main_v307 : Ref sig .tc := ⟨.hbm, 475, rfl⟩
abbrev main_v308 : Ref sig .tc := ⟨.hbm, 476, rfl⟩
abbrev main_v309 : Ref sig .tc := ⟨.hbm, 477, rfl⟩
abbrev main_cst_115 : Ref sig .tc := ⟨.hbm, 478, rfl⟩
abbrev main_v310 : Ref sig .tc := ⟨.hbm, 479, rfl⟩
abbrev main_v311 : Ref sig .tc := ⟨.hbm, 480, rfl⟩

abbrev nD : Nat := 1
abbrev τ : Topo := Topo.v7x

variable {F : FTy → Type} [FloatOps F]
-- ==== Sum.lean ====
abbrev S_ : Shape := ⟨0, ![]⟩
abbrev S8x1 : Shape := ⟨2, ![8, 1]⟩
abbrev S8x2x3x1024 : Shape := ⟨4, ![8, 2, 3, 1024]⟩
abbrev S8x1x384 : Shape := ⟨3, ![8, 1, 384]⟩
abbrev S8x1x256 : Shape := ⟨3, ![8, 1, 256]⟩
abbrev S8x1x2048 : Shape := ⟨3, ![8, 1, 2048]⟩
abbrev S8x1x31x1024 : Shape := ⟨4, ![8, 1, 31, 1024]⟩
abbrev S8x1x1024 : Shape := ⟨3, ![8, 1, 1024]⟩
abbrev S8x4x1024 : Shape := ⟨3, ![8, 4, 1024]⟩
abbrev S8x6144 : Shape := ⟨2, ![8, 6144]⟩
abbrev S8x48x128 : Shape := ⟨3, ![8, 48, 128]⟩
abbrev S8x384 : Shape := ⟨2, ![8, 384]⟩
abbrev S8x1024 : Shape := ⟨2, ![8, 1024]⟩
abbrev S8x8x128 : Shape := ⟨3, ![8, 8, 128]⟩
abbrev S8x256 : Shape := ⟨2, ![8, 256]⟩
abbrev S8x2048 : Shape := ⟨2, ![8, 2048]⟩
abbrev S8x16x128 : Shape := ⟨3, ![8, 16, 128]⟩
abbrev S8x31744 : Shape := ⟨2, ![8, 31744]⟩
abbrev S8x248x128 : Shape := ⟨3, ![8, 248, 128]⟩
abbrev S8x4096 : Shape := ⟨2, ![8, 4096]⟩
abbrev S8x32x128 : Shape := ⟨3, ![8, 32, 128]⟩
abbrev S8x496x128 : Shape := ⟨3, ![8, 496, 128]⟩
abbrev S496x128 : Shape := ⟨2, ![496, 128]⟩
abbrev S1x496x128 : Shape := ⟨3, ![1, 496, 128]⟩
abbrev S48x128 : Shape := ⟨2, ![48, 128]⟩
abbrev S6144 : Shape := ⟨1, ![6144]⟩
abbrev S2x3x1024 : Shape := ⟨3, ![2, 3, 1024]⟩
abbrev S8x128 : Shape := ⟨2, ![8, 128]⟩
abbrev S1024 : Shape := ⟨1, ![1024]⟩
abbrev S384 : Shape := ⟨1, ![384]⟩
abbrev S1x384 : Shape := ⟨2, ![1, 384]⟩
abbrev S256 : Shape := ⟨1, ![256]⟩
abbrev S1x256 : Shape := ⟨2, ![1, 256]⟩
abbrev S16x128 : Shape := ⟨2, ![16, 128]⟩
abbrev S2048 : Shape := ⟨1, ![2048]⟩
abbrev S1x2048 : Shape := ⟨2, ![1, 2048]⟩
abbrev S248x128 : Shape := ⟨2, ![248, 128]⟩
abbrev S31744 : Shape := ⟨1, ![31744]⟩
abbrev S1x31x1024 : Shape := ⟨3, ![1, 31, 1024]⟩
abbrev S1x1024 : Shape := ⟨2, ![1, 1024]⟩
abbrev S32x128 : Shape := ⟨2, ![32, 128]⟩
abbrev S4096 : Shape := ⟨1, ![4096]⟩
abbrev S4x1024 : Shape := ⟨2, ![4, 1024]⟩
abbrev S1 : Shape := ⟨1, ![1]⟩
abbrev S2x3x8x128 : Shape := ⟨4, ![2, 3, 8, 128]⟩
abbrev S8x2x3x128 : Shape := ⟨4, ![8, 2, 3, 128]⟩
abbrev S1x2x3x128 : Shape := ⟨4, ![1, 2, 3, 128]⟩
abbrev S2x3x128 : Shape := ⟨3, ![2, 3, 128]⟩
abbrev S1x8x256 : Shape := ⟨3, ![1, 8, 256]⟩
abbrev S1x1x256 : Shape := ⟨3, ![1, 1, 256]⟩
abbrev S1x31x8x128 : Shape := ⟨4, ![1, 31, 8, 128]⟩
abbrev S8x1x31x128 : Shape := ⟨4, ![8, 1, 31, 128]⟩
abbrev S1x1x31x128 : Shape := ⟨4, ![1, 1, 31, 128]⟩
abbrev S1x31x128 : Shape := ⟨3, ![1, 31, 128]⟩
abbrev S1x8x128 : Shape := ⟨3, ![1, 8, 128]⟩
abbrev S8x1x128 : Shape := ⟨3, ![8, 1, 128]⟩
abbrev S1x1x128 : Shape := ⟨3, ![1, 1, 128]⟩
abbrev S1x128 : Shape := ⟨2, ![1, 128]⟩

abbrev nBuf : Space → Nat
  | .hbm => 210
  | .vmem => 2
  | .smem => 0
  | _ => 0

abbrev hbmTy0_0 (i : Nat) : BufTy := match i % 128 with
  | 0 => ⟨S_, .i32⟩
  | 1 => ⟨S8x1, .f32⟩
  | 2 => ⟨S8x2x3x1024, .f32⟩
  | 3 => ⟨S8x1x384, .f32⟩
  | 4 => ⟨S8x1x256, .f32⟩
  | 5 => ⟨S8x1x2048, .f32⟩
  | 6 => ⟨S8x1x31x1024, .f32⟩
  | 7 => ⟨S8x1x1024, .f32⟩
  | 8 => ⟨S8x1x1024, .f32⟩
  | 9 => ⟨S8x1x1024, .f32⟩
  | 10 => ⟨S8x1x1024, .f32⟩
  | 11 => ⟨S8x4x1024, .f32⟩
  | 12 => ⟨S8x4x1024, .f32⟩
  | 13 => ⟨S8x4x1024, .f32⟩
  | 14 => ⟨S8x4x1024, .f32⟩
  | 15 => ⟨S8x6144, .f32⟩
  | 16 => ⟨S_, .i32⟩
  | 17 => ⟨S_, .f32⟩
  | 18 => ⟨S8x6144, .f32⟩
  | 19 => ⟨S8x48x128, .f32⟩
  | 20 => ⟨S8x384, .f32⟩
  | 21 => ⟨S_, .i32⟩
  | 22 => ⟨S_, .f32⟩
  | 23 => ⟨S8x1024, .f32⟩
  | 24 => ⟨S8x8x128, .f32⟩
  | 25 => ⟨S8x256, .f32⟩
  | 26 => ⟨S_, .i32⟩
  | 27 => ⟨S_, .f32⟩
  | 28 => ⟨S8x1024, .f32⟩
  | 29 => ⟨S8x8x128, .f32⟩
  | 30 => ⟨S8x2048, .f32⟩
  | 31 => ⟨S_, .i32⟩
  | 32 => ⟨S_, .f32⟩
  | 33 => ⟨S8x2048, .f32⟩
  | 34 => ⟨S8x16x128, .f32⟩
  | 35 => ⟨S8x31744, .f32⟩
  | 36 => ⟨S_, .i32⟩
  | 37 => ⟨S_, .f32⟩
  | 38 => ⟨S8x31744, .f32⟩
  | 39 => ⟨S8x248x128, .f32⟩
  | 40 => ⟨S8x1024, .f32⟩
  | 41 => ⟨S_, .i32⟩
  | 42 => ⟨S_, .f32⟩
  | 43 => ⟨S8x1024, .f32⟩
  | 44 => ⟨S8x8x128, .f32⟩
  | 45 => ⟨S8x1024, .f32⟩
  | 46 => ⟨S_, .i32⟩
  | 47 => ⟨S_, .f32⟩
  | 48 => ⟨S8x1024, .f32⟩
  | 49 => ⟨S8x8x128, .f32⟩
  | 50 => ⟨S8x1024, .f32⟩
  | 51 => ⟨S_, .i32⟩
  | 52 => ⟨S_, .f32⟩
  | 53 => ⟨S8x1024, .f32⟩
  | 54 => ⟨S8x8x128, .f32⟩
  | 55 => ⟨S8x1024, .f32⟩
  | 56 => ⟨S_, .i32⟩
  | 57 => ⟨S_, .f32⟩
  | 58 => ⟨S8x1024, .f32⟩
  | 59 => ⟨S8x8x128, .f32⟩
  | 60 => ⟨S8x4096, .f32⟩
  | 61 => ⟨S_, .i32⟩
  | 62 => ⟨S_, .f32⟩
  | 63 => ⟨S8x4096, .f32⟩
  | 64 => ⟨S8x32x128, .f32⟩
  | 65 => ⟨S8x4096, .f32⟩
  | 66 => ⟨S_, .i32⟩
  | 67 => ⟨S_, .f32⟩
  | 68 => ⟨S8x4096, .f32⟩
  | 69 => ⟨S8x32x128, .f32⟩
  | 70 => ⟨S8x4096, .f32⟩
  | 71 => ⟨S_, .i32⟩
  | 72 => ⟨S_, .f32⟩
  | 73 => ⟨S8x4096, .f32⟩
  | 74 => ⟨S8x32x128, .f32⟩
  | 75 => ⟨S8x4096, .f32⟩
  | 76 => ⟨S_, .i32⟩
  | 77 => ⟨S_, .f32⟩
  | 78 => ⟨S8x4096, .f32⟩
  | 79 => ⟨S8x32x128, .f32⟩
  | 80 => ⟨S_, .i32⟩
  | 81 => ⟨S_, .f32⟩
  | 82 => ⟨S8x1024, .f32⟩
  | 83 => ⟨S8x8x128, .f32⟩
  | 84 => ⟨S8x496x128, .f32⟩
  | 85 => ⟨S496x128, .f32⟩
  | 86 => ⟨S48x128, .f32⟩
  | 87 => ⟨S6144, .f32⟩
  | 88 => ⟨S2x3x1024, .f32⟩
  | 89 => ⟨S8x128, .f32⟩
  | 90 => ⟨S1024, .f32⟩
  | 91 => ⟨S384, .f32⟩
  | 92 => ⟨S1x384, .f32⟩
  | 93 => ⟨S8x128, .f32⟩
  | 94 => ⟨S1024, .f32⟩
  | 95 => ⟨S256, .f32⟩
  | 96 => ⟨S1x256, .f32⟩
  | 97 => ⟨S16x128, .f32⟩
  | 98 => ⟨S2048, .f32⟩
  | 99 => ⟨S1x2048, .f32⟩
  | 100 => ⟨S248x128, .f32⟩
  | 101 => ⟨S31744, .f32⟩
  | 102 => ⟨S1x31x1024, .f32⟩
  | 103 => ⟨S8x128, .f32⟩
  | 104 => ⟨S1024, .f32⟩
  | 105 => ⟨S1x1024, .f32⟩
  | 106 => ⟨S8x128, .f32⟩
  | 107 => ⟨S1024, .f32⟩
  | 108 => ⟨S1x1024, .f32⟩
  | 109 => ⟨S8x128, .f32⟩
  | 110 => ⟨S1024, .f32⟩
  | 111 => ⟨S1x1024, .f32⟩
  | 112 => ⟨S8x128, .f32⟩
  | 113 => ⟨S1024, .f32⟩
  | 114 => ⟨S1x1024, .f32⟩
  | 115 => ⟨S32x128, .f32⟩
  | 116 => ⟨S4096, .f32⟩
  | 117 => ⟨S4x1024, .f32⟩
  | 118 => ⟨S32x128, .f32⟩
  | 119 => ⟨S4096, .f32⟩
  | 120 => ⟨S4x1024, .f32⟩
  | 121 => ⟨S32x128, .f32⟩
  | 122 => ⟨S4096, .f32⟩
  | 123 => ⟨S4x1024, .f32⟩
  | 124 => ⟨S32x128, .f32⟩
  | 125 => ⟨S4096, .f32⟩
  | 126 => ⟨S4x1024, .f32⟩
  | 127 => ⟨S8x128, .f32⟩
  | _ => ⟨S_, .i32⟩

abbrev hbmTy0_1 (i : Nat) : BufTy := match i % 128 with
  | 0 => ⟨S1024, .f32⟩
  | 1 => ⟨S1, .f32⟩
  | 2 => ⟨S_, .f32⟩
  | 3 => ⟨S2x3x8x128, .f32⟩
  | 4 => ⟨S8x2x3x128, .f32⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S1x2x3x128, .f32⟩
  | 14 => ⟨S2x3x128, .f32⟩
  | 15 => ⟨S1x8x256, .f32⟩
  | 16 => ⟨S8x1x256, .f32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S1x1x256, .f32⟩
  | 25 => ⟨S1x256, .f32⟩
  | 26 => ⟨S1x31x8x128, .f32⟩
  | 27 => ⟨S8x1x31x128, .f32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S1x1x31x128, .f32⟩
  | 37 => ⟨S1x31x128, .f32⟩
  | 38 => ⟨S1x8x128, .f32⟩
  | 39 => ⟨S8x1x128, .f32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S1x1x128, .f32⟩
  | 48 => ⟨S1x128, .f32⟩
  | 49 => ⟨S1x8x128, .f32⟩
  | 50 => ⟨S8x1x128, .f32⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S_, .i32⟩
  | 58 => ⟨S1x1x128, .f32⟩
  | 59 => ⟨S1x128, .f32⟩
  | 60 => ⟨S1x8x128, .f32⟩
  | 61 => ⟨S8x1x128, .f32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S_, .i32⟩
  | 69 => ⟨S1x1x128, .f32⟩
  | 70 => ⟨S1x128, .f32⟩
  | 71 => ⟨S1x8x128, .f32⟩
  | 72 => ⟨S8x1x128, .f32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i32⟩
  | 80 => ⟨S1x1x128, .f32⟩
  | 81 => ⟨S1x128, .f32⟩
  | _ => ⟨S_, .i32⟩

abbrev hbmTy (i : Nat) : BufTy := match i / 128 with
  | 0 => hbmTy0_0 i
  | 1 => hbmTy0_1 i
  | _ => ⟨S_, .i32⟩

abbrev bufTy : (tb : Table) → Fin (tcTables nBuf tb) → BufTy
  | .hbm, ⟨i, _⟩ => hbmTy i
  | .local _ .vmem, ⟨0, _⟩ => ⟨S8x496x128, .f32⟩
  | .local _ .vmem, ⟨1, _⟩ => ⟨S496x128, .f32⟩
  | _, _ => ⟨S_, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_call0_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_call1_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_call2_v0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_c_2 : Ref sig .tc := ⟨.hbm, 31, rfl⟩
abbrev main_call3_v0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c_3 : Ref sig .tc := ⟨.hbm, 36, rfl⟩
abbrev main_call4_v0 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_c_4 : Ref sig .tc := ⟨.hbm, 41, rfl⟩
abbrev main_call5_v0 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_5 : Ref sig .tc := ⟨.hbm, 46, rfl⟩
abbrev main_call6_v0 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_c_6 : Ref sig .tc := ⟨.hbm, 51, rfl⟩
abbrev main_call7_v0 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_c_7 : Ref sig .tc := ⟨.hbm, 56, rfl⟩
abbrev main_call8_v0 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_c_8 : Ref sig .tc := ⟨.hbm, 61, rfl⟩
abbrev main_call9_v0 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_c_9 : Ref sig .tc := ⟨.hbm, 66, rfl⟩
abbrev main_call10_v0 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_c_10 : Ref sig .tc := ⟨.hbm, 71, rfl⟩
abbrev main_call11_v0 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_c_11 : Ref sig .tc := ⟨.hbm, 76, rfl⟩
abbrev main_call12_v0 : Ref sig .tc := ⟨.hbm, 77, rfl⟩
abbrev main_v37 : Ref sig .tc := ⟨.hbm, 78, rfl⟩
abbrev main_v38 : Ref sig .tc := ⟨.hbm, 79, rfl⟩
abbrev main_c_12 : Ref sig .tc := ⟨.hbm, 80, rfl⟩
abbrev main_call13_v0 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_call14_c : Ref sig .tc := ⟨.hbm, 133, rfl⟩
abbrev main_call14_v0 : Ref sig .tc := ⟨.hbm, 134, rfl⟩
abbrev main_call14_c_0 : Ref sig .tc := ⟨.hbm, 135, rfl⟩
abbrev main_call14_v1 : Ref sig .tc := ⟨.hbm, 136, rfl⟩
abbrev main_call14_v2 : Ref sig .tc := ⟨.hbm, 137, rfl⟩
abbrev main_call14_c_1 : Ref sig .tc := ⟨.hbm, 138, rfl⟩
abbrev main_call14_c_2 : Ref sig .tc := ⟨.hbm, 139, rfl⟩
abbrev main_call14_c_3 : Ref sig .tc := ⟨.hbm, 140, rfl⟩
abbrev main_call14_v3 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_call15_c : Ref sig .tc := ⟨.hbm, 145, rfl⟩
abbrev main_call15_v0 : Ref sig .tc := ⟨.hbm, 146, rfl⟩
abbrev main_call15_c_0 : Ref sig .tc := ⟨.hbm, 147, rfl⟩
abbrev main_call15_v1 : Ref sig .tc := ⟨.hbm, 148, rfl⟩
abbrev main_call15_v2 : Ref sig .tc := ⟨.hbm, 149, rfl⟩
abbrev main_call15_c_1 : Ref sig .tc := ⟨.hbm, 150, rfl⟩
abbrev main_call15_c_2 : Ref sig .tc := ⟨.hbm, 151, rfl⟩
abbrev main_call15_v3 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_call16_c : Ref sig .tc := ⟨.hbm, 156, rfl⟩
abbrev main_call16_v0 : Ref sig .tc := ⟨.hbm, 157, rfl⟩
abbrev main_call16_c_0 : Ref sig .tc := ⟨.hbm, 158, rfl⟩
abbrev main_call16_v1 : Ref sig .tc := ⟨.hbm, 159, rfl⟩
abbrev main_call16_v2 : Ref sig .tc := ⟨.hbm, 160, rfl⟩
abbrev main_call16_c_1 : Ref sig .tc := ⟨.hbm, 161, rfl⟩
abbrev main_call16_c_2 : Ref sig .tc := ⟨.hbm, 162, rfl⟩
abbrev main_call16_c_3 : Ref sig .tc := ⟨.hbm, 163, rfl⟩
abbrev main_call16_v3 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_call17_c : Ref sig .tc := ⟨.hbm, 168, rfl⟩
abbrev main_call17_v0 : Ref sig .tc := ⟨.hbm, 169, rfl⟩
abbrev main_call17_c_0 : Ref sig .tc := ⟨.hbm, 170, rfl⟩
abbrev main_call17_v1 : Ref sig .tc := ⟨.hbm, 171, rfl⟩
abbrev main_call17_v2 : Ref sig .tc := ⟨.hbm, 172, rfl⟩
abbrev main_call17_c_1 : Ref sig .tc := ⟨.hbm, 173, rfl⟩
abbrev main_call17_c_2 : Ref sig .tc := ⟨.hbm, 174, rfl⟩
abbrev main_call17_v3 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_call18_c : Ref sig .tc := ⟨.hbm, 179, rfl⟩
abbrev main_call18_v0 : Ref sig .tc := ⟨.hbm, 180, rfl⟩
abbrev main_call18_c_0 : Ref sig .tc := ⟨.hbm, 181, rfl⟩
abbrev main_call18_v1 : Ref sig .tc := ⟨.hbm, 182, rfl⟩
abbrev main_call18_v2 : Ref sig .tc := ⟨.hbm, 183, rfl⟩
abbrev main_call18_c_1 : Ref sig .tc := ⟨.hbm, 184, rfl⟩
abbrev main_call18_c_2 : Ref sig .tc := ⟨.hbm, 185, rfl⟩
abbrev main_call18_v3 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_call19_c : Ref sig .tc := ⟨.hbm, 190, rfl⟩
abbrev main_call19_v0 : Ref sig .tc := ⟨.hbm, 191, rfl⟩
abbrev main_call19_c_0 : Ref sig .tc := ⟨.hbm, 192, rfl⟩
abbrev main_call19_v1 : Ref sig .tc := ⟨.hbm, 193, rfl⟩
abbrev main_call19_v2 : Ref sig .tc := ⟨.hbm, 194, rfl⟩
abbrev main_call19_c_1 : Ref sig .tc := ⟨.hbm, 195, rfl⟩
abbrev main_call19_c_2 : Ref sig .tc := ⟨.hbm, 196, rfl⟩
abbrev main_call19_v3 : Ref sig .tc := ⟨.hbm, 197, rfl⟩
abbrev main_v105 : Ref sig .tc := ⟨.hbm, 198, rfl⟩
abbrev main_v106 : Ref sig .tc := ⟨.hbm, 199, rfl⟩
abbrev main_v107 : Ref sig .tc := ⟨.hbm, 200, rfl⟩
abbrev main_call20_c : Ref sig .tc := ⟨.hbm, 201, rfl⟩
abbrev main_call20_v0 : Ref sig .tc := ⟨.hbm, 202, rfl⟩
abbrev main_call20_c_0 : Ref sig .tc := ⟨.hbm, 203, rfl⟩
abbrev main_call20_v1 : Ref sig .tc := ⟨.hbm, 204, rfl⟩
abbrev main_call20_v2 : Ref sig .tc := ⟨.hbm, 205, rfl⟩
abbrev main_call20_c_1 : Ref sig .tc := ⟨.hbm, 206, rfl⟩
abbrev main_call20_c_2 : Ref sig .tc := ⟨.hbm, 207, rfl⟩
abbrev main_call20_v3 : Ref sig .tc := ⟨.hbm, 208, rfl⟩
abbrev main_v108 : Ref sig .tc := ⟨.hbm, 209, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x496x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S496x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumRefIdeal.lean ====
abbrev S_ : Shape := ⟨0, ![]⟩
abbrev S8x1 : Shape := ⟨2, ![8, 1]⟩
abbrev S8x2x3x1024 : Shape := ⟨4, ![8, 2, 3, 1024]⟩
abbrev S8x1x384 : Shape := ⟨3, ![8, 1, 384]⟩
abbrev S8x1x256 : Shape := ⟨3, ![8, 1, 256]⟩
abbrev S8x1x2048 : Shape := ⟨3, ![8, 1, 2048]⟩
abbrev S8x1x31x1024 : Shape := ⟨4, ![8, 1, 31, 1024]⟩
abbrev S8x1x1024 : Shape := ⟨3, ![8, 1, 1024]⟩
abbrev S8x4x1024 : Shape := ⟨3, ![8, 4, 1024]⟩
abbrev S2x3x1024 : Shape := ⟨3, ![2, 3, 1024]⟩
abbrev S2x3x8x128 : Shape := ⟨4, ![2, 3, 8, 128]⟩
abbrev S2x3x1x128 : Shape := ⟨4, ![2, 3, 1, 128]⟩
abbrev S2x3x128 : Shape := ⟨3, ![2, 3, 128]⟩
abbrev S1x384 : Shape := ⟨2, ![1, 384]⟩
abbrev S1x256 : Shape := ⟨2, ![1, 256]⟩
abbrev S1x2048 : Shape := ⟨2, ![1, 2048]⟩
abbrev S1x8x256 : Shape := ⟨3, ![1, 8, 256]⟩
abbrev S1x1x256 : Shape := ⟨3, ![1, 1, 256]⟩
abbrev S1x31x1024 : Shape := ⟨3, ![1, 31, 1024]⟩
abbrev S1x31x8x128 : Shape := ⟨4, ![1, 31, 8, 128]⟩
abbrev S1x31x1x128 : Shape := ⟨4, ![1, 31, 1, 128]⟩
abbrev S1x31x128 : Shape := ⟨3, ![1, 31, 128]⟩
abbrev S1x1024 : Shape := ⟨2, ![1, 1024]⟩
abbrev S1x8x128 : Shape := ⟨3, ![1, 8, 128]⟩
abbrev S1x1x128 : Shape := ⟨3, ![1, 1, 128]⟩
abbrev S1x128 : Shape := ⟨2, ![1, 128]⟩
abbrev S4x1024 : Shape := ⟨2, ![4, 1024]⟩

abbrev nBuf : Space → Nat
  | .hbm => 115
  | .vmem => 0
  | .smem => 0
  | _ => 0

abbrev bufTy : (tb : Table) → Fin (tcTables nBuf tb) → BufTy
  | .hbm, ⟨0, _⟩ => ⟨S_, .i32⟩
  | .hbm, ⟨1, _⟩ => ⟨S8x1, .f32⟩
  | .hbm, ⟨2, _⟩ => ⟨S8x2x3x1024, .f32⟩
  | .hbm, ⟨3, _⟩ => ⟨S8x1x384, .f32⟩
  | .hbm, ⟨4, _⟩ => ⟨S8x1x256, .f32⟩
  | .hbm, ⟨5, _⟩ => ⟨S8x1x2048, .f32⟩
  | .hbm, ⟨6, _⟩ => ⟨S8x1x31x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x4x1024, .f32⟩
  | .hbm, ⟨12, _⟩ => ⟨S8x4x1024, .f32⟩
  | .hbm, ⟨13, _⟩ => ⟨S8x4x1024, .f32⟩
  | .hbm, ⟨14, _⟩ => ⟨S8x4x1024, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2x3x1024, .f32⟩
  | .hbm, ⟨19, _⟩ => ⟨S2x3x8x128, .f32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S2x3x1x128, .f32⟩
  | .hbm, ⟨29, _⟩ => ⟨S2x3x128, .f32⟩
  | .hbm, ⟨30, _⟩ => ⟨S_, .f32⟩
  | .hbm, ⟨31, _⟩ => ⟨S1x384, .f32⟩
  | .hbm, ⟨32, _⟩ => ⟨S_, .f32⟩
  | .hbm, ⟨33, _⟩ => ⟨S1x256, .f32⟩
  | .hbm, ⟨34, _⟩ => ⟨S_, .f32⟩
  | .hbm, ⟨35, _⟩ => ⟨S1x2048, .f32⟩
  | .hbm, ⟨36, _⟩ => ⟨S1x8x256, .f32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1x1x256, .f32⟩
  | .hbm, ⟨45, _⟩ => ⟨S1x256, .f32⟩
  | .hbm, ⟨46, _⟩ => ⟨S_, .f32⟩
  | .hbm, ⟨47, _⟩ => ⟨S1x31x1024, .f32⟩
  | .hbm, ⟨48, _⟩ => ⟨S1x31x8x128, .f32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S1x31x1x128, .f32⟩
  | .hbm, ⟨58, _⟩ => ⟨S1x31x128, .f32⟩
  | .hbm, ⟨59, _⟩ => ⟨S_, .f32⟩
  | .hbm, ⟨60, _⟩ => ⟨S1x1024, .f32⟩
  | .hbm, ⟨61, _⟩ => ⟨S1x8x128, .f32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S1x1x128, .f32⟩
  | .hbm, ⟨70, _⟩ => ⟨S1x128, .f32⟩
  | .hbm, ⟨71, _⟩ => ⟨S_, .f32⟩
  | .hbm, ⟨72, _⟩ => ⟨S1x1024, .f32⟩
  | .hbm, ⟨73, _⟩ => ⟨S1x8x128, .f32⟩
  | .hbm, ⟨74, _⟩ => ⟨S_, .i32⟩
  | .hbm, ⟨75, _⟩ => ⟨S_, .i1⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S1x1x128, .f32⟩
  | .hbm, ⟨82, _⟩ => ⟨S1x128, .f32⟩
  | .hbm, ⟨83, _⟩ => ⟨S_, .f32⟩
  | .hbm, ⟨84, _⟩ => ⟨S1x1024, .f32⟩
  | .hbm, ⟨85, _⟩ => ⟨S1x8x128, .f32⟩
  | .hbm, ⟨86, _⟩ => ⟨S_, .i32⟩
  | .hbm, ⟨87, _⟩ => ⟨S_, .i1⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S1x1x128, .f32⟩
  | .hbm, ⟨94, _⟩ => ⟨S1x128, .f32⟩
  | .hbm, ⟨95, _⟩ => ⟨S_, .f32⟩
  | .hbm, ⟨96, _⟩ => ⟨S1x1024, .f32⟩
  | .hbm, ⟨97, _⟩ => ⟨S1x8x128, .f32⟩
  | .hbm, ⟨98, _⟩ => ⟨S_, .i32⟩
  | .hbm, ⟨99, _⟩ => ⟨S_, .i1⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S1x1x128, .f32⟩
  | .hbm, ⟨106, _⟩ => ⟨S1x128, .f32⟩
  | .hbm, ⟨107, _⟩ => ⟨S_, .f32⟩
  | .hbm, ⟨108, _⟩ => ⟨S4x1024, .f32⟩
  | .hbm, ⟨109, _⟩ => ⟨S_, .f32⟩
  | .hbm, ⟨110, _⟩ => ⟨S4x1024, .f32⟩
  | .hbm, ⟨111, _⟩ => ⟨S_, .f32⟩
  | .hbm, ⟨112, _⟩ => ⟨S4x1024, .f32⟩
  | .hbm, ⟨113, _⟩ => ⟨S_, .f32⟩
  | .hbm, ⟨114, _⟩ => ⟨S4x1024, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_v3 : Ref sig .tc := ⟨.hbm, 21, rfl⟩
abbrev main_c_1 : Ref sig .tc := ⟨.hbm, 22, rfl⟩
abbrev main_v4 : Ref sig .tc := ⟨.hbm, 23, rfl⟩
abbrev main_v5 : Ref sig .tc := ⟨.hbm, 24, rfl⟩
abbrev main_c_2 : Ref sig .tc := ⟨.hbm, 25, rfl⟩
abbrev main_c_3 : Ref sig .tc := ⟨.hbm, 26, rfl⟩
abbrev main_c_4 : Ref sig .tc := ⟨.hbm, 27, rfl⟩
abbrev main_v6 : Ref sig .tc := ⟨.hbm, 28, rfl⟩
abbrev main_v7 : Ref sig .tc := ⟨.hbm, 29, rfl⟩
abbrev main_cst_5 : Ref sig .tc := ⟨.hbm, 30, rfl⟩
abbrev main_v8 : Ref sig .tc := ⟨.hbm, 31, rfl⟩
abbrev main_cst_6 : Ref sig .tc := ⟨.hbm, 32, rfl⟩
abbrev main_v9 : Ref sig .tc := ⟨.hbm, 33, rfl⟩
abbrev main_cst_7 : Ref sig .tc := ⟨.hbm, 34, rfl⟩
abbrev main_v10 : Ref sig .tc := ⟨.hbm, 35, rfl⟩
abbrev main_v11 : Ref sig .tc := ⟨.hbm, 36, rfl⟩
abbrev main_c_8 : Ref sig .tc := ⟨.hbm, 37, rfl⟩
abbrev main_v12 : Ref sig .tc := ⟨.hbm, 38, rfl⟩
abbrev main_c_9 : Ref sig .tc := ⟨.hbm, 39, rfl⟩
abbrev main_v13 : Ref sig .tc := ⟨.hbm, 40, rfl⟩
abbrev main_v14 : Ref sig .tc := ⟨.hbm, 41, rfl⟩
abbrev main_c_10 : Ref sig .tc := ⟨.hbm, 42, rfl⟩
abbrev main_c_11 : Ref sig .tc := ⟨.hbm, 43, rfl⟩
abbrev main_v15 : Ref sig .tc := ⟨.hbm, 44, rfl⟩
abbrev main_v16 : Ref sig .tc := ⟨.hbm, 45, rfl⟩
abbrev main_cst_12 : Ref sig .tc := ⟨.hbm, 46, rfl⟩
abbrev main_v17 : Ref sig .tc := ⟨.hbm, 47, rfl⟩
abbrev main_v18 : Ref sig .tc := ⟨.hbm, 48, rfl⟩
abbrev main_c_13 : Ref sig .tc := ⟨.hbm, 49, rfl⟩
abbrev main_v19 : Ref sig .tc := ⟨.hbm, 50, rfl⟩
abbrev main_c_14 : Ref sig .tc := ⟨.hbm, 51, rfl⟩
abbrev main_v20 : Ref sig .tc := ⟨.hbm, 52, rfl⟩
abbrev main_v21 : Ref sig .tc := ⟨.hbm, 53, rfl⟩
abbrev main_c_15 : Ref sig .tc := ⟨.hbm, 54, rfl⟩
abbrev main_c_16 : Ref sig .tc := ⟨.hbm, 55, rfl⟩
abbrev main_c_17 : Ref sig .tc := ⟨.hbm, 56, rfl⟩
abbrev main_v22 : Ref sig .tc := ⟨.hbm, 57, rfl⟩
abbrev main_v23 : Ref sig .tc := ⟨.hbm, 58, rfl⟩
abbrev main_cst_18 : Ref sig .tc := ⟨.hbm, 59, rfl⟩
abbrev main_v24 : Ref sig .tc := ⟨.hbm, 60, rfl⟩
abbrev main_v25 : Ref sig .tc := ⟨.hbm, 61, rfl⟩
abbrev main_c_19 : Ref sig .tc := ⟨.hbm, 62, rfl⟩
abbrev main_v26 : Ref sig .tc := ⟨.hbm, 63, rfl⟩
abbrev main_c_20 : Ref sig .tc := ⟨.hbm, 64, rfl⟩
abbrev main_v27 : Ref sig .tc := ⟨.hbm, 65, rfl⟩
abbrev main_v28 : Ref sig .tc := ⟨.hbm, 66, rfl⟩
abbrev main_c_21 : Ref sig .tc := ⟨.hbm, 67, rfl⟩
abbrev main_c_22 : Ref sig .tc := ⟨.hbm, 68, rfl⟩
abbrev main_v29 : Ref sig .tc := ⟨.hbm, 69, rfl⟩
abbrev main_v30 : Ref sig .tc := ⟨.hbm, 70, rfl⟩
abbrev main_cst_23 : Ref sig .tc := ⟨.hbm, 71, rfl⟩
abbrev main_v31 : Ref sig .tc := ⟨.hbm, 72, rfl⟩
abbrev main_v32 : Ref sig .tc := ⟨.hbm, 73, rfl⟩
abbrev main_c_24 : Ref sig .tc := ⟨.hbm, 74, rfl⟩
abbrev main_v33 : Ref sig .tc := ⟨.hbm, 75, rfl⟩
abbrev main_c_25 : Ref sig .tc := ⟨.hbm, 76, rfl⟩
abbrev main_v34 : Ref sig .tc := ⟨.hbm, 77, rfl⟩
abbrev main_v35 : Ref sig .tc := ⟨.hbm, 78, rfl⟩
abbrev main_c_26 : Ref sig .tc := ⟨.hbm, 79, rfl⟩
abbrev main_c_27 : Ref sig .tc := ⟨.hbm, 80, rfl⟩
abbrev main_v36 : Ref sig .tc := ⟨.hbm, 81, rfl⟩
abbrev main_v37 : Ref sig .tc := ⟨.hbm, 82, rfl⟩
abbrev main_cst_28 : Ref sig .tc := ⟨.hbm, 83, rfl⟩
abbrev main_v38 : Ref sig .tc := ⟨.hbm, 84, rfl⟩
abbrev main_v39 : Ref sig .tc := ⟨.hbm, 85, rfl⟩
abbrev main_c_29 : Ref sig .tc := ⟨.hbm, 86, rfl⟩
abbrev main_v40 : Ref sig .tc := ⟨.hbm, 87, rfl⟩
abbrev main_c_30 : Ref sig .tc := ⟨.hbm, 88, rfl⟩
abbrev main_v41 : Ref sig .tc := ⟨.hbm, 89, rfl⟩
abbrev main_v42 : Ref sig .tc := ⟨.hbm, 90, rfl⟩
abbrev main_c_31 : Ref sig .tc := ⟨.hbm, 91, rfl⟩
abbrev main_c_32 : Ref sig .tc := ⟨.hbm, 92, rfl⟩
abbrev main_v43 : Ref sig .tc := ⟨.hbm, 93, rfl⟩
abbrev main_v44 : Ref sig .tc := ⟨.hbm, 94, rfl⟩
abbrev main_cst_33 : Ref sig .tc := ⟨.hbm, 95, rfl⟩
abbrev main_v45 : Ref sig .tc := ⟨.hbm, 96, rfl⟩
abbrev main_v46 : Ref sig .tc := ⟨.hbm, 97, rfl⟩
abbrev main_c_34 : Ref sig .tc := ⟨.hbm, 98, rfl⟩
abbrev main_v47 : Ref sig .tc := ⟨.hbm, 99, rfl⟩
abbrev main_c_35 : Ref sig .tc := ⟨.hbm, 100, rfl⟩
abbrev main_v48 : Ref sig .tc := ⟨.hbm, 101, rfl⟩
abbrev main_v49 : Ref sig .tc := ⟨.hbm, 102, rfl⟩
abbrev main_c_36 : Ref sig .tc := ⟨.hbm, 103, rfl⟩
abbrev main_c_37 : Ref sig .tc := ⟨.hbm, 104, rfl⟩
abbrev main_v50 : Ref sig .tc := ⟨.hbm, 105, rfl⟩
abbrev main_v51 : Ref sig .tc := ⟨.hbm, 106, rfl⟩
abbrev main_cst_38 : Ref sig .tc := ⟨.hbm, 107, rfl⟩
abbrev main_v52 : Ref sig .tc := ⟨.hbm, 108, rfl⟩
abbrev main_cst_39 : Ref sig .tc := ⟨.hbm, 109, rfl⟩
abbrev main_v53 : Ref sig .tc := ⟨.hbm, 110, rfl⟩
abbrev main_cst_40 : Ref sig .tc := ⟨.hbm, 111, rfl⟩
abbrev main_v54 : Ref sig .tc := ⟨.hbm, 112, rfl⟩
abbrev main_cst_41 : Ref sig .tc := ⟨.hbm, 113, rfl⟩
abbrev main_v55 : Ref sig .tc := ⟨.hbm, 114, rfl⟩

abbrev nD : Nat := 1
abbrev τ : Topo := Topo.v7x

variable {F : FTy → Type} [FloatOps F]
-- ==== Proof.Products.lean ====
/-
  MATRIX PRODUCTS AT THE EXTENDED REALS, read at an index. Three orientations, each a sum over the one contracted
  coordinate: `mmNN A B` is `A · B`, `mmNT A B` is `A · Bᵀ` and `mmTN A B` is `Aᵀ · B`. A kernel's `tpu.matmul` onto a zero
  accumulator and the host's `dot_general` are these functions of their operands (`matmul_NN` … `dot_TN`), and a block of
  a product is the product of the rows and columns it needs (`mmNN_block` …): what a tiled kernel computes at one grid
  point is one block of the whole product. Nothing here assumes the entries finite.
-/
module

public import Idealize.ShloMosaic.Lib.MatmulPlain
public import Idealize.ShloMosaic.PureOps.Ideal.Laws

@[expose] public section

noncomputable section

namespace Cert.Products

open Idealize.ShloMosaic Idealize.ShloMosaic.ValueIdx
open scoped BigOperators

/-- A matrix of extended reals. -/
abbrev Mat (M N : ℕ) : Type := (⟨2, ![M, N]⟩ : Shape).Idx → EReal

variable {M K N m n : ℕ}

/-- `A · B`. -/
def mmNN (A : Mat M K) (B : Mat K N) : Mat M N := fun j => ∑ k : Fin K, A (ix2 (j 0) k) * B (ix2 k (j 1))
/-- `A · Bᵀ`. -/
def mmNT (A : Mat M K) (B : Mat N K) : Mat M N := fun j => ∑ k : Fin K, A (ix2 (j 0) k) * B (ix2 (j 1) k)
/-- `Aᵀ · B`. -/
def mmTN (A : Mat K M) (B : Mat K N) : Mat M N := fun j => ∑ k : Fin K, A (ix2 k (j 0)) * B (ix2 k (j 1))

/-- The dimension numbers that contract the first axis of both operands. -/
def transposedLhs (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem transposedLhs_contr_rank (M K N : ℕ) : (transposedLhs M K N).contr.rank = 1 := rfl
theorem transposedLhs_contr_size (M K N : ℕ) :
    (transposedLhs M K N).contr.size ⟨0, by rw [transposedLhs_contr_rank]; exact Nat.one_pos⟩ = K := rfl

/-- Its contraction index as the one coordinate. -/
def transposedLhsContr (M K N : ℕ) : (transposedLhs M K N).contr.Idx ≃ Fin K :=
  contrEquiv1 _ K (transposedLhs_contr_rank M K N) (transposedLhs_contr_size M K N)

/-- The sum over the contraction index of a product of both operands' first axes. -/
theorem sum_TN {φ₁ φ₂ : FTy} (A : FVec Ideal ⟨2, ![K, M]⟩ φ₁) (B : FVec Ideal ⟨2, ![K, N]⟩ φ₂)
    (j : (⟨2, ![M, N]⟩ : Shape).Idx) :
    ∑ k : (transposedLhs M K N).contr.Idx, A ((transposedLhs M K N).lhsIdx j k) * B ((transposedLhs M K N).rhsIdx j k) =
      mmTN A B j := by
  rw [← Equiv.sum_comp (transposedLhsContr M K N).symm]
  refine Finset.sum_congr rfl fun k _ => ?_
  have hk := contrEquiv1_symm_val _ K (transposedLhs_contr_rank M K N) (transposedLhs_contr_size M K N) k
  have el : (transposedLhs M K N).lhsIdx j ((transposedLhsContr M K N).symm k) = ix2 k (j 0) := by
    funext a; apply Fin.ext
    match a with
    | ⟨0, _⟩ => exact hk
    | ⟨1, _⟩ => rfl
  have er : (transposedLhs M K N).rhsIdx j ((transposedLhsContr M K N).symm k) = ix2 k (j 1) := by
    funext a; apply Fin.ext
    match a with
    | ⟨0, _⟩ => exact hk
    | ⟨1, _⟩ => rfl
  rw [el, er]
  rfl

/-- The sum over the contraction index of a plain product. -/
theorem sum_NN {φ₁ φ₂ : FTy} (A : FVec Ideal ⟨2, ![M, K]⟩ φ₁) (B : FVec Ideal ⟨2, ![K, N]⟩ φ₂)
    (j : (⟨2, ![M, N]⟩ : Shape).Idx) :
    ∑ k : (DotDims.plain M K N).contr.Idx, A ((DotDims.plain M K N).lhsIdx j k) * B ((DotDims.plain M K N).rhsIdx j k) =
      mmNN A B j := by
  obtain ⟨a, b, rfl⟩ : ∃ a b, j = ix2 a b := ⟨_, _, eq_ix2 j⟩
  have h := Ideal.matmul_plain_apply none A B (fun _ => 0) a b
  rw [Ideal.matmul_apply, zero_add, zero_add] at h
  exact h

/-- The sum over the contraction index of a product with the transposed right operand. -/
theorem sum_NT {φ₁ φ₂ : FTy} (A : FVec Ideal ⟨2, ![M, K]⟩ φ₁) (B : FVec Ideal ⟨2, ![N, K]⟩ φ₂)
    (j : (⟨2, ![M, N]⟩ : Shape).Idx) :
    ∑ k : (DotDims.transposedRhs M K N).contr.Idx,
        A ((DotDims.transposedRhs M K N).lhsIdx j k) * B ((DotDims.transposedRhs M K N).rhsIdx j k) = mmNT A B j := by
  obtain ⟨a, b, rfl⟩ : ∃ a b, j = ix2 a b := ⟨_, _, eq_ix2 j⟩
  have h := Ideal.matmul_transposedRhs_apply none A B (fun _ => 0) a b
  rw [Ideal.matmul_apply, zero_add, zero_add] at h
  exact h

/-! ## The machine's products -/

section Machine
variable {φ₁ φ₂ : FTy}

/-- A kernel's plain product onto zero. -/
theorem matmul_NN (d : DotDims ⟨2, ![M, K]⟩ ⟨2, ![K, N]⟩ ⟨2, ![M, N]⟩) (hd : d = DotDims.plain M K N)
    (p : Option ContractPrecision) (A : FVec Ideal ⟨2, ![M, K]⟩ φ₁) (B : FVec Ideal ⟨2, ![K, N]⟩ φ₂) :
    FloatOps.matmul d p A B (constant ⟨2, ![M, N]⟩ .f32 0x00000000#32) = mmNN A B := by
  subst hd; funext j; rw [Ideal.matmul_constant_zero_apply]; exact sum_NN A B j
/-- A kernel's product with a transposed right operand onto zero. -/
theorem matmul_NT (d : DotDims ⟨2, ![M, K]⟩ ⟨2, ![N, K]⟩ ⟨2, ![M, N]⟩) (hd : d = DotDims.transposedRhs M K N)
    (p : Option ContractPrecision) (A : FVec Ideal ⟨2, ![M, K]⟩ φ₁) (B : FVec Ideal ⟨2, ![N, K]⟩ φ₂) :
    FloatOps.matmul d p A B (constant ⟨2, ![M, N]⟩ .f32 0x00000000#32) = mmNT A B := by
  subst hd; funext j; rw [Ideal.matmul_constant_zero_apply]; exact sum_NT A B j
/-- A kernel's product with a transposed left operand onto zero. -/
theorem matmul_TN (d : DotDims ⟨2, ![K, M]⟩ ⟨2, ![K, N]⟩ ⟨2, ![M, N]⟩) (hd : d = transposedLhs M K N)
    (p : Option ContractPrecision) (A : FVec Ideal ⟨2, ![K, M]⟩ φ₁) (B : FVec Ideal ⟨2, ![K, N]⟩ φ₂) :
    FloatOps.matmul d p A B (constant ⟨2, ![M, N]⟩ .f32 0x00000000#32) = mmTN A B := by
  subst hd; funext j; rw [Ideal.matmul_constant_zero_apply]; exact sum_TN A B j

/-- The host's plain product. -/
theorem dot_NN (d : DotDims ⟨2, ![M, K]⟩ ⟨2, ![K, N]⟩ ⟨2, ![M, N]⟩) (hd : d = DotDims.plain M K N)
    (p : Option ContractPrecision) (A : FVec Ideal ⟨2, ![M, K]⟩ φ₁) (B : FVec Ideal ⟨2, ![K, N]⟩ φ₂) :
    Host.dotGeneral d p A B = mmNN A B := by
  subst hd; funext j; simp only [Host.dotGeneral]; rw [Ideal.dotGeneral_apply]; exact sum_NN A B j
/-- The host's product with a transposed right operand. -/
theorem dot_NT (d : DotDims ⟨2, ![M, K]⟩ ⟨2, ![N, K]⟩ ⟨2, ![M, N]⟩) (hd : d = DotDims.transposedRhs M K N)
    (p : Option ContractPrecision) (A : FVec Ideal ⟨2, ![M, K]⟩ φ₁) (B : FVec Ideal ⟨2, ![N, K]⟩ φ₂) :
    Host.dotGeneral d p A B = mmNT A B := by
  subst hd; funext j; simp only [Host.dotGeneral]; rw [Ideal.dotGeneral_apply]; exact sum_NT A B j
/-- The host's product with a transposed left operand. -/
theorem dot_TN (d : DotDims ⟨2, ![K, M]⟩ ⟨2, ![K, N]⟩ ⟨2, ![M, N]⟩) (hd : d = transposedLhs M K N)
    (p : Option ContractPrecision) (A : FVec Ideal ⟨2, ![K, M]⟩ φ₁) (B : FVec Ideal ⟨2, ![K, N]⟩ φ₂) :
    Host.dotGeneral d p A B = mmTN A B := by
  subst hd; funext j; simp only [Host.dotGeneral]; rw [Ideal.dotGeneral_apply]; exact sum_TN A B j

end Machine

/-! ## A block of a product -/

/-- An entry of a product of blocks is the entry of the whole product, when the blocks agree with the matrices on the
    row and the column the entry is made of. -/
theorem mmNN_block (x : Mat m K) (y : Mat K n) (A : Mat M K) (B : Mat K N) (j : (⟨2, ![m, n]⟩ : Shape).Idx)
    (J : (⟨2, ![M, N]⟩ : Shape).Idx) (hx : ∀ k : Fin K, x (ix2 (j 0) k) = A (ix2 (J 0) k))
    (hy : ∀ k : Fin K, y (ix2 k (j 1)) = B (ix2 k (J 1))) : mmNN x y j = mmNN A B J :=
  Finset.sum_congr rfl fun k _ => by rw [hx k, hy k]
theorem mmNT_block (x : Mat m K) (y : Mat n K) (A : Mat M K) (B : Mat N K) (j : (⟨2, ![m, n]⟩ : Shape).Idx)
    (J : (⟨2, ![M, N]⟩ : Shape).Idx) (hx : ∀ k : Fin K, x (ix2 (j 0) k) = A (ix2 (J 0) k))
    (hy : ∀ k : Fin K, y (ix2 (j 1) k) = B (ix2 (J 1) k)) : mmNT x y j = mmNT A B J :=
  Finset.sum_congr rfl fun k _ => by rw [hx k, hy k]
theorem mmTN_block (x : Mat K m) (y : Mat K n) (A : Mat K M) (B : Mat K N) (j : (⟨2, ![m, n]⟩ : Shape).Idx)
    (J : (⟨2, ![M, N]⟩ : Shape).Idx) (hx : ∀ k : Fin K, x (ix2 k (j 0)) = A (ix2 k (J 0)))
    (hy : ∀ k : Fin K, y (ix2 k (j 1)) = B (ix2 k (J 1))) : mmTN x y j = mmTN A B J :=
  Finset.sum_congr rfl fun k _ => by rw [hx k, hy k]

/-- Exchanging the factors transposes the product. -/
theorem mmTN_swap (A : Mat K M) (B : Mat K N) (i : Fin M) (j : Fin N) : mmTN A B (ix2 i j) = mmTN B A (ix2 j i) :=
  Finset.sum_congr rfl fun _ _ => mul_comm _ _

end Cert.Products

end
-- ==== Proof.Blocks.lean ====
/-
  BLOCKS OF AN ARRAY: where an element of a window's block sits in the array, and when an array index is under a block.
-/
module

public import Idealize.ShloMosaic.Lib.Pipeline.Value

@[expose] public section

namespace Cert.Blocks

open Idealize.ShloMosaic Idealize.ShloMosaic.Pipeline

theorem hz : (![0, 0] : Fin 2 → ℕ) = fun _ => 0 := funext fun a => by fin_cases a <;> rfl
theorem hz3 : (![0, 0, 0] : Fin 3 → ℕ) = fun _ => 0 := funext fun a => by fin_cases a <;> rfl

variable {sig : RefSig} {G : Grid}

/-- On an axis where the block index is `i` and the block has `n` elements, element `y` of the block is element
    `i * n + y` of the array. -/
theorem emb_val (w : Window sig G) (t : Fin G.N) (y : (w.xblock (G.coords t)).Idx) (a : Fin w.shape.rank)
    (i n : ℕ) (hi : w.index t a = i) (hn : w.size a = n) (hk : w.kind = .blocked) :
    ((w.rect t).emb y a : ℕ) = i * n + y a := by
  rw [Window.rect_emb_val w t y a hk, hi, hn]

/-- An index is under a unit-stride rectangle of two axes when each coordinate is within the rectangle's range. -/
theorem mem_unit2 {n : Fin 2 → ℕ} (off size : Fin 2 → ℕ) (inb : ∀ a, off a + size a ≤ n a)
    (i : (⟨2, n⟩ : Shape).Idx) (h0 : off 0 ≤ (i 0 : ℕ) ∧ (i 0 : ℕ) < off 0 + size 0)
    (h1 : off 1 ≤ (i 1 : ℕ) ∧ (i 1 : ℕ) < off 1 + size 1) :
    i ∈ (Rect.unit (s := ⟨2, n⟩) off size inb).set := by
  rw [Rect.mem_set_unit]
  intro a
  match a with
  | ⟨0, _⟩ => exact h0
  | ⟨1, _⟩ => exact h1

end Cert.Blocks
-- ==== Proof.Conv.lean ====
/-
  THE SHORT CAUSAL CONVOLUTION: rows of an array shifted down or up with zeros let in (`lag`, `lead`), the three-tap sum of
  shifted rows (`causal`) and its transpose (`anti`), and what a kernel reads when it keeps the array in a scratch with 32
  rows of zeros before it (`read_below`) or after it (`read_above`) and loads rows from a shifted start.
-/
module

public import proofs.«01_k».proof.Proof.Products
public import proofs.«01_k».proof.Proof.Blocks
public import Idealize.ShloMosaic.Lib.Pipeline.ReadBack
public import Idealize.ShloMosaic.Lib.ValueLayout

@[expose] public section

set_option maxRecDepth 16384

noncomputable section

namespace Cert.Conv

open Cert.Products Cert.Blocks
open Idealize.ShloMosaic Idealize.ShloMosaic.TcCoe Idealize.ShloMosaic.ValueIdx Idealize.SL.Sem

variable {R C : ℕ}

/-- The rows moved down by `s`, zeros above. -/
def lag (s : ℕ) (u : Mat R C) : Mat R C := fun j =>
  if s ≤ (j 0 : ℕ) then u (ix2 ⟨(j 0 : ℕ) - s, lt_of_le_of_lt (Nat.sub_le _ _) (j 0).isLt⟩ (j 1)) else 0
/-- The rows moved up by `s`, zeros below. -/
def lead (s : ℕ) (u : Mat R C) : Mat R C := fun j =>
  if h : (j 0 : ℕ) + s < R then u (ix2 ⟨(j 0 : ℕ) + s, h⟩ (j 1)) else 0
/-- The causal convolution by three taps, column by column. -/
def causal (w : Mat 3 C) (u : Mat R C) : Mat R C := fun j =>
  w (ix2 0 (j 1)) * lag 2 u j + w (ix2 1 (j 1)) * lag 1 u j + w (ix2 2 (j 1)) * lag 0 u j
/-- Its transpose. -/
def anti (w : Mat 3 C) (u : Mat R C) : Mat R C := fun j =>
  w (ix2 0 (j 1)) * lead 2 u j + w (ix2 1 (j 1)) * lead 1 u j + w (ix2 2 (j 1)) * lead 0 u j

/-! ## Loads of a scratch that holds an array and 32 rows of zeros -/

variable {sig : RefSig} {κ : Kind} {sp : Space}

theorem readAt_unread {s : Shape} {e : EltTy} {m : Memref sig κ sp s e} (h : m.IsWhole) (X : s.Idx → Elt Ideal e) (r : Rect s) :
    m.view.readAt (Elt Ideal) r.toLoadRect (h.unread X) = fun x => X (r.idx x) := by
  rw [View.readAt_eq_ld, h.read_unread]

theorem idx_unit (n m a : ℕ) (size : Fin 2 → ℕ) (inb : ∀ i, (![a, 0] : Fin 2 → ℕ) i + size i ≤ (⟨2, ![n, m]⟩ : Shape).size i)
    (x : (⟨2, size⟩ : Shape).Idx) :
    (((Rect.unit (s := ⟨2, ![n, m]⟩) ![a, 0] size inb).idx x 0 : ℕ) = a + (x 0 : ℕ))
      ∧ (((Rect.unit (s := ⟨2, ![n, m]⟩) ![a, 0] size inb).idx x 1 : ℕ) = (x 1 : ℕ)) := by
  constructor
  · show (![a, 0] : Fin 2 → ℕ) 0 + 1 * (x 0 : ℕ) = _
    simp
  · show (![a, 0] : Fin 2 → ℕ) 1 + 1 * (x 1 : ℕ) = _
    simp

/-- A row read 32 - s rows before the array's own place is the array lagged by `s`. -/
theorem read_below (v : View sig κ sp ⟨2, ![2080, 128]⟩ .f32) (w : Mat 2048 128) (z : Mat 32 128) (hz : ∀ j, z j = 0)
    (i1 : ∀ i, (![32, 0] : Fin 2 → ℕ) i + (![2048, 128] : Fin 2 → ℕ) i ≤ (⟨2, ![2080, 128]⟩ : Shape).size i)
    (i2 : ∀ i, (![0, 0] : Fin 2 → ℕ) i + (![32, 128] : Fin 2 → ℕ) i ≤ (⟨2, ![2080, 128]⟩ : Shape).size i)
    (a : ℕ) (ia : ∀ i, (![a, 0] : Fin 2 → ℕ) i + (![256, 128] : Fin 2 → ℕ) i ≤ (⟨2, ![2080, 128]⟩ : Shape).size i)
    (x : (⟨2, ![256, 128]⟩ : Shape).Idx) (s : ℕ) (y : (⟨2, ![2048, 128]⟩ : Shape).Idx)
    (h0 : (y 0 : ℕ) + 32 = a + (x 0 : ℕ) + s) (h1 : y 1 = x 1) (hs : s ≤ 32) :
    v.readCov (Val := Elt Ideal) [⟨Rect.unit (s := ⟨2, ![2080, 128]⟩) ![32, 0] ![2048, 128] i1, w⟩,
        ⟨Rect.unit (s := ⟨2, ![2080, 128]⟩) ![0, 0] ![32, 128] i2, z⟩]
      (Rect.unit (s := ⟨2, ![2080, 128]⟩) ![a, 0] ![256, 128] ia).toLoadRect x = lag s w y := by
  rw [View.readCov_eq_canon']
  obtain ⟨e0, e1⟩ := idx_unit 2080 128 a ![256, 128] ia x
  show View.canon _ ((Rect.unit (s := ⟨2, ![2080, 128]⟩) ![a, 0] ![256, 128] ia).idx x) = _
  generalize (Rect.unit (s := ⟨2, ![2080, 128]⟩) ![a, 0] ![256, 128] ia).idx x = k at e0 e1
  unfold lag
  by_cases h : s ≤ (y 0 : ℕ)
  · rw [if_pos h]
    have hk : k = (Rect.unit (s := ⟨2, ![2080, 128]⟩) ![32, 0] ![2048, 128] i1).emb
        (ix2 ⟨(y 0 : ℕ) - s, lt_of_le_of_lt (Nat.sub_le _ _) (y 0).isLt⟩ (y 1)) := by
      obtain ⟨f0, f1⟩ := idx_unit 2080 128 32 ![2048, 128] i1
        (ix2 ⟨(y 0 : ℕ) - s, lt_of_le_of_lt (Nat.sub_le _ _) (y 0).isLt⟩ (y 1))
      funext i
      match i with
      | ⟨0, _⟩ => exact Fin.ext (by rw [show ((k ⟨0, _⟩ : Fin _) : ℕ) = _ from e0]; refine Eq.trans ?_ f0.symm; simp; omega)
      | ⟨1, _⟩ => exact Fin.ext (by rw [show ((k ⟨1, _⟩ : Fin _) : ℕ) = _ from e1]; refine Eq.trans ?_ f1.symm; simp [h1])
    rw [hk, View.canon_cons_emb]
  · rw [if_neg h]
    rw [View.canon_cons_of_not_mem]
    · have hk : k = (Rect.unit (s := ⟨2, ![2080, 128]⟩) ![0, 0] ![32, 128] i2).emb
          (ix2 (⟨(k 0 : ℕ), by omega⟩ : Fin 32) (x 1 : Fin 128)) := by
        obtain ⟨f0, f1⟩ := idx_unit 2080 128 0 ![32, 128] i2 (ix2 (⟨(k 0 : ℕ), by omega⟩ : Fin 32) (x 1 : Fin 128))
        funext i
        match i with
        | ⟨0, _⟩ => exact Fin.ext (by refine Eq.trans ?_ f0.symm; simp)
        | ⟨1, _⟩ => exact Fin.ext (by rw [show ((k ⟨1, _⟩ : Fin _) : ℕ) = _ from e1]; exact f1.symm)
      rw [hk, View.canon_cons_emb, hz]
    · intro hm
      rw [Rect.mem_set_unit] at hm
      have := (hm 0).1
      simp only [Matrix.cons_val_zero] at this
      omega

/-- A row read `s` rows after its own place, the zeros below, is the array led by `s`. -/
theorem read_above (v : View sig κ sp ⟨2, ![2080, 128]⟩ .f32) (w : Mat 2048 128) (z : Mat 32 128) (hz : ∀ j, z j = 0)
    (i1 : ∀ i, (![0, 0] : Fin 2 → ℕ) i + (![2048, 128] : Fin 2 → ℕ) i ≤ (⟨2, ![2080, 128]⟩ : Shape).size i)
    (i2 : ∀ i, (![2048, 0] : Fin 2 → ℕ) i + (![32, 128] : Fin 2 → ℕ) i ≤ (⟨2, ![2080, 128]⟩ : Shape).size i)
    (a : ℕ) (ia : ∀ i, (![a, 0] : Fin 2 → ℕ) i + (![256, 128] : Fin 2 → ℕ) i ≤ (⟨2, ![2080, 128]⟩ : Shape).size i)
    (x : (⟨2, ![256, 128]⟩ : Shape).Idx) (s : ℕ) (y : (⟨2, ![2048, 128]⟩ : Shape).Idx)
    (h0 : (y 0 : ℕ) + s = a + (x 0 : ℕ)) (h1 : y 1 = x 1) (hs : s ≤ 32) :
    v.readCov (Val := Elt Ideal) [⟨Rect.unit (s := ⟨2, ![2080, 128]⟩) ![2048, 0] ![32, 128] i2, z⟩,
        ⟨Rect.unit (s := ⟨2, ![2080, 128]⟩) ![0, 0] ![2048, 128] i1, w⟩]
      (Rect.unit (s := ⟨2, ![2080, 128]⟩) ![a, 0] ![256, 128] ia).toLoadRect x = lead s w y := by
  rw [View.readCov_eq_canon']
  obtain ⟨e0, e1⟩ := idx_unit 2080 128 a ![256, 128] ia x
  have hx : (x 0 : ℕ) < 256 := (x 0).isLt
  show View.canon _ ((Rect.unit (s := ⟨2, ![2080, 128]⟩) ![a, 0] ![256, 128] ia).idx x) = _
  generalize (Rect.unit (s := ⟨2, ![2080, 128]⟩) ![a, 0] ![256, 128] ia).idx x = k at e0 e1
  unfold lead
  have hk0 : (k 0 : ℕ) < 2080 := (k 0).isLt
  by_cases h : (y 0 : ℕ) + s < 2048
  · rw [dif_pos h, View.canon_cons_of_not_mem]
    · have hk : k = (Rect.unit (s := ⟨2, ![2080, 128]⟩) ![0, 0] ![2048, 128] i1).emb
          (ix2 ⟨(y 0 : ℕ) + s, h⟩ (y 1)) := by
        obtain ⟨f0, f1⟩ := idx_unit 2080 128 0 ![2048, 128] i1 (ix2 ⟨(y 0 : ℕ) + s, h⟩ (y 1))
        funext i
        match i with
        | ⟨0, _⟩ => exact Fin.ext (by rw [show ((k ⟨0, _⟩ : Fin _) : ℕ) = _ from e0]; refine Eq.trans ?_ f0.symm; simp; omega)
        | ⟨1, _⟩ => exact Fin.ext (by rw [show ((k ⟨1, _⟩ : Fin _) : ℕ) = _ from e1]; refine Eq.trans ?_ f1.symm; simp [h1])
      rw [hk, View.canon_cons_emb]
    · intro hm
      rw [Rect.mem_set_unit] at hm
      have := (hm 0).1
      simp only [Matrix.cons_val_zero] at this
      omega
  · rw [dif_neg h]
    have hk : k = (Rect.unit (s := ⟨2, ![2080, 128]⟩) ![2048, 0] ![32, 128] i2).emb
        (ix2 (⟨(k 0 : ℕ) - 2048, by omega⟩ : Fin 32) (x 1 : Fin 128)) := by
      obtain ⟨f0, f1⟩ := idx_unit 2080 128 2048 ![32, 128] i2 (ix2 (⟨(k 0 : ℕ) - 2048, by omega⟩ : Fin 32) (x 1 : Fin 128))
      funext i
      match i with
      | ⟨0, _⟩ => exact Fin.ext (by refine Eq.trans ?_ f0.symm; show (k 0 : ℕ) = 2048 + ((k 0 : ℕ) - 2048); omega)
      | ⟨1, _⟩ => exact Fin.ext (by rw [show ((k ⟨1, _⟩ : Fin _) : ℕ) = _ from e1]; exact f1.symm)
    rw [hk, View.canon_cons_emb, hz]

/-! ## Pieces of an array, and where a piece's element sits -/

theorem canon_of_pieces {s : Shape} {e : EltTy} (G : s.Idx → Elt Ideal e) (L : List (View.Piece (Elt Ideal) s e))
    (h : View.PiecesOf G L) (y : s.Idx) (hc : ∃ p ∈ L, y ∈ p.1.set) : View.canon L y = G y := by
  simpa using View.canon_append_of_piecesOf G [] L h y hc

theorem pieces_cons {s : Shape} {e : EltTy} {G : s.Idx → Elt Ideal e} {r : Rect s} {w : r.shape.Idx → Elt Ideal e}
    {L : List (View.Piece (Elt Ideal) s e)} (h : ∀ x, w x = G (r.emb x)) (t : View.PiecesOf G L) :
    View.PiecesOf G (⟨r, w⟩ :: L) := ⟨h, t⟩

theorem idx_whole {n m : ℕ} (inb : ∀ i, (![0, 0] : Fin 2 → ℕ) i + (![n, m] : Fin 2 → ℕ) i ≤ (⟨2, ![n, m]⟩ : Shape).size i)
    (x : (⟨2, ![n, m]⟩ : Shape).Idx) : (Rect.unit (s := ⟨2, ![n, m]⟩) ![0, 0] ![n, m] inb).idx x = x := by
  obtain ⟨f0, f1⟩ := idx_unit n m 0 ![n, m] inb x
  funext i
  match i with
  | ⟨0, _⟩ => exact Fin.ext (f0.trans (Nat.zero_add _))
  | ⟨1, _⟩ => exact Fin.ext f1

theorem idx_row {n m : ℕ} (k : ℕ) (i : Fin n) (inb : ∀ i, (![k, 0] : Fin 2 → ℕ) i + (![1, m] : Fin 2 → ℕ) i ≤ (⟨2, ![n, m]⟩ : Shape).size i)
    (x : Fin 1) (y y' : Fin m) (hk : k = (i : ℕ)) (h : y = y') :
    (Rect.unit (s := ⟨2, ![n, m]⟩) ![k, 0] ![1, m] inb).idx (ix2 x y) = ix2 i y' := by
  subst h hk
  obtain ⟨f0, f1⟩ := idx_unit n m i ![1, m] inb (ix2 x y)
  funext a
  match a with
  | ⟨0, _⟩ => exact Fin.ext (f0.trans (by show (i : ℕ) + (x : ℕ) = i; omega))
  | ⟨1, _⟩ => exact Fin.ext (f1.trans rfl)

theorem side0 (a b s : ℕ) (size : Fin 2 → ℕ) (inb : ∀ i, (![a, 0] : Fin 2 → ℕ) i + size i ≤ (⟨2, ![2048, 128]⟩ : Shape).size i)
    (x : (⟨2, size⟩ : Shape).Idx) (h : a + 32 = b + s) :
    ((Rect.unit (s := ⟨2, ![2048, 128]⟩) ![a, 0] size inb).emb x 0 : ℕ) + 32 = b + (x 0 : ℕ) + s := by
  rw [show ((Rect.unit (s := ⟨2, ![2048, 128]⟩) ![a, 0] size inb).emb x 0 : ℕ) = a + (x 0 : ℕ) from (idx_unit 2048 128 a size inb x).1]
  omega

theorem side1 (a b s : ℕ) (size : Fin 2 → ℕ) (inb : ∀ i, (![a, 0] : Fin 2 → ℕ) i + size i ≤ (⟨2, ![2048, 128]⟩ : Shape).size i)
    (x : (⟨2, size⟩ : Shape).Idx) (h : a + s = b) :
    ((Rect.unit (s := ⟨2, ![2048, 128]⟩) ![a, 0] size inb).emb x 0 : ℕ) + s = b + (x 0 : ℕ) := by
  rw [show ((Rect.unit (s := ⟨2, ![2048, 128]⟩) ![a, 0] size inb).emb x 0 : ℕ) = a + (x 0 : ℕ) from (idx_unit 2048 128 a size inb x).1]
  omega

/-! ## One chunk of 256 rows -/

theorem bcast {a b : ℕ} (v : (⟨2, ![1, b]⟩ : Shape).Idx → EReal) (h : (⟨2, ![1, b]⟩ : Shape).Broadcasts ⟨2, ![a, b]⟩)
    (x : (⟨2, ![a, b]⟩ : Shape).Idx) : broadcastTo ⟨2, ![a, b]⟩ v h x = v (ix2 0 (x 1)) := by
  conv_lhs => rw [eq_ix2 x]
  exact broadcastTo_1b_ab_apply v h (x 0) (x 1)

/-- The three taps on one chunk, as the kernels add them up. -/
def taps (w0 : FVec Ideal ⟨2, ![1, 128]⟩ .f32) (p0 : FVec Ideal ⟨2, ![256, 128]⟩ .f32) (w1 : FVec Ideal ⟨2, ![1, 128]⟩ .f32)
    (p1 : FVec Ideal ⟨2, ![256, 128]⟩ .f32) (w2 : FVec Ideal ⟨2, ![1, 128]⟩ .f32) (p2 : FVec Ideal ⟨2, ![256, 128]⟩ .f32) :
    FVec Ideal ⟨2, ![256, 128]⟩ .f32 :=
  have z : FVec Ideal ⟨2, ![256, 128]⟩ .f32 := broadcast ⟨2, ![256, 128]⟩ (Scalar.ofBits .f32 0x00000000#32)
  addf (addf (addf z (mulf (broadcastTo ⟨2, ![256, 128]⟩ w0) p0)) (mulf (broadcastTo ⟨2, ![256, 128]⟩ w1) p1))
    (mulf (broadcastTo ⟨2, ![256, 128]⟩ w2) p2)
/-- A chunk of the product with the taps on the right. -/
def chunkL (w0 : FVec Ideal ⟨2, ![1, 128]⟩ .f32) (p0 : FVec Ideal ⟨2, ![256, 128]⟩ .f32) (w1 : FVec Ideal ⟨2, ![1, 128]⟩ .f32)
    (p1 : FVec Ideal ⟨2, ![256, 128]⟩ .f32) (w2 : FVec Ideal ⟨2, ![1, 128]⟩ .f32) (p2 : FVec Ideal ⟨2, ![256, 128]⟩ .f32)
    (q : FVec Ideal ⟨2, ![256, 128]⟩ .f32) : FVec Ideal ⟨2, ![256, 128]⟩ .bf16 :=
  truncf .bf16 (mulf (shapeCast ⟨2, ![256, 128]⟩ q rfl) (taps w0 p0 w1 p1 w2 p2)) (by decide)
/-- A chunk of the product with the taps on the left. -/
def chunkR (w0 : FVec Ideal ⟨2, ![1, 128]⟩ .f32) (p0 : FVec Ideal ⟨2, ![256, 128]⟩ .f32) (w1 : FVec Ideal ⟨2, ![1, 128]⟩ .f32)
    (p1 : FVec Ideal ⟨2, ![256, 128]⟩ .f32) (w2 : FVec Ideal ⟨2, ![1, 128]⟩ .f32) (p2 : FVec Ideal ⟨2, ![256, 128]⟩ .f32)
    (q : FVec Ideal ⟨2, ![256, 128]⟩ .f32) : FVec Ideal ⟨2, ![256, 128]⟩ .bf16 :=
  truncf .bf16 (mulf (taps w0 p0 w1 p1 w2 p2) (shapeCast ⟨2, ![256, 128]⟩ q rfl)) (by decide)

section
variable (x : (⟨2, ![256, 128]⟩ : Shape).Idx) (y : (⟨2, ![2048, 128]⟩ : Shape).Idx) (u : Mat 2048 128) (w : Mat 3 128)
  (b : Mat 2048 128) (w0 w1 w2 : FVec Ideal ⟨2, ![1, 128]⟩ .f32) (p0 p1 p2 q : FVec Ideal ⟨2, ![256, 128]⟩ .f32)
  (h0 : w0 (ix2 0 (x 1)) = w (ix2 0 (y 1))) (h1 : w1 (ix2 0 (x 1)) = w (ix2 1 (y 1))) (h2 : w2 (ix2 0 (x 1)) = w (ix2 2 (y 1)))
include h0 h1 h2

theorem taps_apply : taps w0 p0 w1 p1 w2 p2 x
    = w (ix2 0 (y 1)) * p0 x + w (ix2 1 (y 1)) * p1 x + w (ix2 2 (y 1)) * p2 x := by
  show ((Ideal.ofBits .f32 0x00000000#32 + broadcastTo ⟨2, ![256, 128]⟩ w0 _ x * p0 x)
    + broadcastTo ⟨2, ![256, 128]⟩ w1 _ x * p1 x) + broadcastTo ⟨2, ![256, 128]⟩ w2 _ x * p2 x = _
  rw [Ideal.ofBits_zero_f32, zero_add, bcast, bcast, bcast, h0, h1, h2]

theorem chunkL_causal (g0 : p0 x = lag 2 u y) (g1 : p1 x = lag 1 u y) (g2 : p2 x = lag 0 u y) (hq : q x = b y) :
    chunkL w0 p0 w1 p1 w2 p2 q x = b y * causal w u y := by
  show shapeCast ⟨2, ![256, 128]⟩ q rfl x * taps w0 p0 w1 p1 w2 p2 x = _
  rw [shapeCast_self, taps_apply x y w w0 w1 w2 p0 p1 p2 h0 h1 h2, g0, g1, g2, hq]
  rfl

theorem chunkR_anti (g0 : p0 x = lead 2 u y) (g1 : p1 x = lead 1 u y) (g2 : p2 x = lead 0 u y) (hq : q x = b y) :
    chunkR w0 p0 w1 p1 w2 p2 q x = anti w u y * b y := by
  show taps w0 p0 w1 p1 w2 p2 x * shapeCast ⟨2, ![256, 128]⟩ q rfl x = _
  rw [shapeCast_self, taps_apply x y w w0 w1 w2 p0 p1 p2 h0 h1 h2, g0, g1, g2, hq]
  rfl
end

/-! ## The gradient of a tap: a column's sum, chunk by chunk -/

/-- The sum of a column, as the kernels reduce it. -/
theorem colsum {n m : ℕ} (a : FVec Ideal ⟨2, ![n, m]⟩ .f32) (h : (⟨2, ![n, m]⟩ : Shape).Reduces [0] ⟨1, ![m]⟩)
    (hφ : FKind.Formats .f32) (hacc : (0x00000000#32 : BitVec 32) = FKind.add.neutral .f32 hφ) (c : Fin m) :
    multiReduction .add [0] ⟨1, ![m]⟩ a 0x00000000#32 h hφ hacc (ix1 c) = ∑ r : Fin n, a (ix2 r c) := by
  refine (Ideal.multiReduction_add_single (s := ⟨2, ![n, m]⟩) (a := 0) a _ h hφ hacc (ix1 c)).trans ?_
  refine Finset.sum_congr rfl fun r _ => congrArg a ?_
  funext i
  match i with
  | ⟨0, _⟩ => rfl
  | ⟨1, _⟩ => rfl

/-- A sum over 2048 rows is the sum over eight chunks of 256. -/
theorem sum_chunks (f : Fin 2048 → EReal) :
    ∑ k : Fin 2048, f k = ∑ i : Fin 8, ∑ r : Fin 256, f ⟨(i : ℕ) * 256 + (r : ℕ), by omega⟩ := by
  rw [← Fintype.sum_prod_type', ← Equiv.sum_comp (finProdFinEquiv (m := 8) (n := 256))]
  refine Finset.sum_congr rfl fun p _ => congrArg f (Fin.ext ?_)
  simp [finProdFinEquiv, Nat.add_comm, Nat.mul_comm]

/-- Eight chunks of products added up, then the columns' sums. -/
def dtap (d0 p0 d1 p1 d2 p2 d3 p3 d4 p4 d5 p5 d6 p6 d7 p7 : FVec Ideal ⟨2, ![256, 128]⟩ .f32) : FVec Ideal ⟨2, ![1, 128]⟩ .f32 :=
  have z : FVec Ideal ⟨2, ![256, 128]⟩ .f32 := broadcast ⟨2, ![256, 128]⟩ (Scalar.ofBits .f32 0x00000000#32)
  have a : FVec Ideal ⟨2, ![256, 128]⟩ .f32 := addf (addf (addf (addf (addf (addf (addf (addf z (mulf d0 p0)) (mulf d1 p1))
    (mulf d2 p2)) (mulf d3 p3)) (mulf d4 p4)) (mulf d5 p5)) (mulf d6 p6)) (mulf d7 p7)
  shapeCast ⟨2, ![1, 128]⟩ (multiReduction .add [0] ⟨1, ![128]⟩ a 0x00000000#32 (by decide) (.inl rfl) rfl) rfl

theorem dtap_apply (D U : Mat 2048 128) (c : Fin 128)
    (d0 p0 d1 p1 d2 p2 d3 p3 d4 p4 d5 p5 d6 p6 d7 p7 : FVec Ideal ⟨2, ![256, 128]⟩ .f32)
    (hd0 : ∀ r : Fin 256, d0 (ix2 r c) = D (ix2 ⟨0 + (r : ℕ), by omega⟩ c))
    (hp0 : ∀ r : Fin 256, p0 (ix2 r c) = U (ix2 ⟨0 + (r : ℕ), by omega⟩ c))
    (hd1 : ∀ r : Fin 256, d1 (ix2 r c) = D (ix2 ⟨256 + (r : ℕ), by omega⟩ c))
    (hp1 : ∀ r : Fin 256, p1 (ix2 r c) = U (ix2 ⟨256 + (r : ℕ), by omega⟩ c))
    (hd2 : ∀ r : Fin 256, d2 (ix2 r c) = D (ix2 ⟨512 + (r : ℕ), by omega⟩ c))
    (hp2 : ∀ r : Fin 256, p2 (ix2 r c) = U (ix2 ⟨512 + (r : ℕ), by omega⟩ c))
    (hd3 : ∀ r : Fin 256, d3 (ix2 r c) = D (ix2 ⟨768 + (r : ℕ), by omega⟩ c))
    (hp3 : ∀ r : Fin 256, p3 (ix2 r c) = U (ix2 ⟨768 + (r : ℕ), by omega⟩ c))
    (hd4 : ∀ r : Fin 256, d4 (ix2 r c) = D (ix2 ⟨1024 + (r : ℕ), by omega⟩ c))
    (hp4 : ∀ r : Fin 256, p4 (ix2 r c) = U (ix2 ⟨1024 + (r : ℕ), by omega⟩ c))
    (hd5 : ∀ r : Fin 256, d5 (ix2 r c) = D (ix2 ⟨1280 + (r : ℕ), by omega⟩ c))
    (hp5 : ∀ r : Fin 256, p5 (ix2 r c) = U (ix2 ⟨1280 + (r : ℕ), by omega⟩ c))
    (hd6 : ∀ r : Fin 256, d6 (ix2 r c) = D (ix2 ⟨1536 + (r : ℕ), by omega⟩ c))
    (hp6 : ∀ r : Fin 256, p6 (ix2 r c) = U (ix2 ⟨1536 + (r : ℕ), by omega⟩ c))
    (hd7 : ∀ r : Fin 256, d7 (ix2 r c) = D (ix2 ⟨1792 + (r : ℕ), by omega⟩ c))
    (hp7 : ∀ r : Fin 256, p7 (ix2 r c) = U (ix2 ⟨1792 + (r : ℕ), by omega⟩ c)) :
    dtap d0 p0 d1 p1 d2 p2 d3 p3 d4 p4 d5 p5 d6 p6 d7 p7 (ix2 0 c) = ∑ t : Fin 2048, D (ix2 t c) * U (ix2 t c) := by
  unfold dtap
  refine (shapeCast_a_1a_apply _ _ _ _).trans ((colsum _ _ _ _ _).trans ?_)
  rw [sum_chunks]
  rw [Finset.sum_comm]
  refine Finset.sum_congr rfl fun r _ => ?_
  rw [Fin.sum_univ_eight]
  show ((((((((Ideal.ofBits .f32 0x00000000#32 + d0 (ix2 r c) * p0 (ix2 r c)) + d1 (ix2 r c) * p1 (ix2 r c)) + d2 (ix2 r c) * p2 (ix2 r c))
    + d3 (ix2 r c) * p3 (ix2 r c)) + d4 (ix2 r c) * p4 (ix2 r c)) + d5 (ix2 r c) * p5 (ix2 r c)) + d6 (ix2 r c) * p6 (ix2 r c)) + d7 (ix2 r c) * p7 (ix2 r c)) = _
  rw [Ideal.ofBits_zero_f32, zero_add]
  rw [hd0, hp0, hd1, hp1, hd2, hp2, hd3, hp3, hd4, hp4, hd5, hp5, hd6, hp6, hd7, hp7]
  rfl

theorem lead_zero (u : Mat R C) : lead 0 u = u := by
  funext j
  unfold lead
  rw [dif_pos (show (j 0 : ℕ) + 0 < R from (j 0).isLt)]
  exact congrArg u (eq_ix2 j).symm

theorem lag_zero (u : Mat R C) : lag 0 u = u := by
  funext j
  unfold lag
  rw [if_pos (Nat.zero_le _)]
  exact congrArg u (eq_ix2 j).symm

/-- The tap's sum read at row `k` of the taps. -/
theorem tap_sum (D U : Mat 2048 128) (s : ℕ) (c : Fin 128) (y : (⟨2, ![3, 128]⟩ : Shape).Idx) (hs : 2 - (y 0 : ℕ) = s)
    (hc : y 1 = c) :
    ∑ t : Fin 2048, lead 0 D (ix2 t c) * lag s U (ix2 t c) = ∑ t : Fin 2048, D (ix2 t (y 1)) * lag (2 - (y 0 : ℕ)) U (ix2 t (y 1)) := by
  rw [hs, hc, lead_zero]

end Cert.Conv
-- ==== Proof.ScMath.lean ====
/-
  THE SHORT-CONVOLUTION MIXER AS FUNCTIONS OF ARRAYS. The projected input `U` has three groups of 1024 columns: the gate b,
  the gate c and the values h. The forward's gated rows are b · conv(c · h), and the four gradients of that, from the gradient
  `dr` of the gated rows, are `dbF`, `dcF`, `dhF` and `dwF`. The last lemmas say that convolving commutes with taking columns.
-/
module

public import proofs.«01_k».proof.Proof.Conv

@[expose] public section

set_option maxRecDepth 16384

noncomputable section

namespace Cert.ScMath

open Cert.Products Cert.Conv
open Idealize.ShloMosaic Idealize.ShloMosaic.TcCoe Idealize.ShloMosaic.ValueIdx

/-- The product entry by entry. -/
abbrev mul {R C : ℕ} (x y : Mat R C) : Mat R C := fun j => x j * y j

/-- The 1024 columns of `U` from column `o`. -/
def cols (o : ℕ) (h : o + 1024 ≤ 3072) (U : Mat 2048 3072) : Mat 2048 1024 := fun j =>
  U (ix2 (j 0) ⟨o + (j 1 : ℕ), lt_of_lt_of_le (Nat.add_lt_add_left (j 1).isLt o) h⟩)
/-- The two gates and the values. -/
abbrev bOf (U : Mat 2048 3072) : Mat 2048 1024 := cols 0 (by norm_num) U
abbrev cOf (U : Mat 2048 3072) : Mat 2048 1024 := cols 1024 (by norm_num) U
abbrev hOf (U : Mat 2048 3072) : Mat 2048 1024 := cols 2048 (by norm_num) U

/-- The gated rows b · conv(c · h). -/
def gateF (U : Mat 2048 3072) (w : Mat 3 1024) : Mat 2048 1024 := fun j => bOf U j * causal w (mul (cOf U) (hOf U)) j
/-- The gradient of b. -/
def dbF (dr : Mat 2048 1024) (U : Mat 2048 3072) (w : Mat 3 1024) : Mat 2048 1024 :=
  fun j => dr j * causal w (mul (cOf U) (hOf U)) j
/-- The gradient of c. -/
def dcF (dr : Mat 2048 1024) (U : Mat 2048 3072) (w : Mat 3 1024) : Mat 2048 1024 :=
  fun j => anti w (mul dr (bOf U)) j * hOf U j
/-- The gradient of h. -/
def dhF (dr : Mat 2048 1024) (U : Mat 2048 3072) (w : Mat 3 1024) : Mat 2048 1024 :=
  fun j => anti w (mul dr (bOf U)) j * cOf U j
/-- The gradient of the taps. -/
def dwF (dr : Mat 2048 1024) (U : Mat 2048 3072) : Mat 3 1024 := fun j =>
  ∑ t : Fin 2048, mul dr (bOf U) (ix2 t (j 1)) * lag (2 - (j 0 : ℕ)) (mul (cOf U) (hOf U)) (ix2 t (j 1))

/-- Three arrays of 1024 columns side by side. -/
def cat3 (x y z : Mat 2048 1024) : Mat 2048 3072 := fun j =>
  if h0 : (j 1 : ℕ) < 1024 then x (ix2 (j 0) ⟨(j 1 : ℕ), h0⟩)
  else if h1 : (j 1 : ℕ) < 2048 then y (ix2 (j 0) ⟨(j 1 : ℕ) - 1024, by omega⟩)
  else z (ix2 (j 0) ⟨(j 1 : ℕ) - 2048, by have : (j 1 : ℕ) < 3072 := (j 1).isLt; omega⟩)
/-- The gradient of the projected input. -/
def duF (dr : Mat 2048 1024) (U : Mat 2048 3072) (w : Mat 3 1024) : Mat 2048 3072 :=
  cat3 (dbF dr U w) (dcF dr U w) (dhF dr U w)

/-- The gradient of the input projection, by device: its columns in eight groups of 384. -/
def dwinF (x : Mat 2048 1024) (du : Mat 2048 3072) : (⟨3, ![8, 1024, 384]⟩ : Shape).Idx → EReal :=
  fun j => mmTN x du (ix2 (j 1) ⟨(j 0 : ℕ) * 384 + (j 2 : ℕ), by
    have h0 : (j 0 : ℕ) < 8 := (j 0).isLt
    have h2 : (j 2 : ℕ) < 384 := (j 2).isLt
    omega⟩)
/-- The gradient of the input, the residual path added. -/
def dxF (du : Mat 2048 3072) (w : Mat 1024 3072) (r : Mat 2048 1024) : Mat 2048 1024 :=
  fun j => mmNT du w j + Ideal.ofBits .f32 0x3FD744FD#32 * r j

/-! ## Columns of a shifted or convolved array -/

variable {R C C' : ℕ}

theorem lag_block (s : ℕ) (u : Mat R C) (U : Mat R C') (p : Fin C) (q : Fin C')
    (hu : ∀ r, u (ix2 r p) = U (ix2 r q)) (r : Fin R) : lag s u (ix2 r p) = lag s U (ix2 r q) := by
  show (if s ≤ (r : ℕ) then u (ix2 _ p) else 0) = if s ≤ (r : ℕ) then U (ix2 _ q) else 0
  rw [hu]
  rfl
theorem lead_block (s : ℕ) (u : Mat R C) (U : Mat R C') (p : Fin C) (q : Fin C')
    (hu : ∀ r, u (ix2 r p) = U (ix2 r q)) (r : Fin R) : lead s u (ix2 r p) = lead s U (ix2 r q) := by
  show (if h : (r : ℕ) + s < R then u (ix2 ⟨(r : ℕ) + s, h⟩ p) else 0) = if h : (r : ℕ) + s < R then U (ix2 ⟨(r : ℕ) + s, h⟩ q) else 0
  simp only [hu]
theorem causal_block (w : Mat 3 C) (W : Mat 3 C') (u : Mat R C) (U : Mat R C') (p : Fin C) (q : Fin C')
    (hw : ∀ i, w (ix2 i p) = W (ix2 i q)) (hu : ∀ r, u (ix2 r p) = U (ix2 r q)) (r : Fin R) :
    causal w u (ix2 r p) = causal W U (ix2 r q) := by
  show w (ix2 0 p) * lag 2 u (ix2 r p) + w (ix2 1 p) * lag 1 u (ix2 r p) + w (ix2 2 p) * lag 0 u (ix2 r p)
    = W (ix2 0 q) * lag 2 U (ix2 r q) + W (ix2 1 q) * lag 1 U (ix2 r q) + W (ix2 2 q) * lag 0 U (ix2 r q)
  rw [hw, hw, hw, lag_block 2 u U p q hu, lag_block 1 u U p q hu, lag_block 0 u U p q hu]
theorem anti_block (w : Mat 3 C) (W : Mat 3 C') (u : Mat R C) (U : Mat R C') (p : Fin C) (q : Fin C')
    (hw : ∀ i, w (ix2 i p) = W (ix2 i q)) (hu : ∀ r, u (ix2 r p) = U (ix2 r q)) (r : Fin R) :
    anti w u (ix2 r p) = anti W U (ix2 r q) := by
  show w (ix2 0 p) * lead 2 u (ix2 r p) + w (ix2 1 p) * lead 1 u (ix2 r p) + w (ix2 2 p) * lead 0 u (ix2 r p)
    = W (ix2 0 q) * lead 2 U (ix2 r q) + W (ix2 1 q) * lead 1 U (ix2 r q) + W (ix2 2 q) * lead 0 U (ix2 r q)
  rw [hw, hw, hw, lead_block 2 u U p q hu, lead_block 1 u U p q hu, lead_block 0 u U p q hu]

end Cert.ScMath

end
-- ==== Proof.Sc3Gate.lean ====
/-
  THE GATED CONVOLUTION'S TWO KERNELS, ONE COLUMN BLOCK. A grid point of the forward gate holds 2048 rows of 128 columns of
  the gate, of the two factors and of the taps; it keeps the factors' product in a scratch below 32 rows of zeros and
  stores its result in eight chunks of 256 rows. `gate` says the whole block it leaves. A point of the backward gate keeps
  also the product of the incoming gradient with the gate, above 32 rows of zeros; `dgate_b`, `dgate_c`, `dgate_h` and
  `dgate_w` say the four blocks it leaves. The payloads of all chunks are three functions of Conv.lean (`chunkL`, `chunkR`,
  `dtap`), by definition.
-/
module

public import proofs.«01_k».proof.Proof.Conv
public import proofs.«01_k».proof.Proof.Gen.Sc3Ideal.Frame

@[expose] public section

set_option maxRecDepth 16384

noncomputable section

namespace Cert.Sc3Ideal.Gate

open Cert.Sc3Ideal Cert.Sc3Ideal.Gen Cert.Products Cert.Blocks Cert.Conv
open Idealize.ShloMosaic Idealize.ShloMosaic.TcCoe Idealize.ShloMosaic.ValueIdx Idealize.SL.Sem

/-- A product of two arrays, entry by entry. -/
abbrev had {R C : ℕ} (x y : Mat R C) : Mat R C := fun j => x j * y j

/-! ## The forward gate -/

theorem pay1_zero (j : S32x128.Idx) : k1_pay2 (F := Ideal) j = 0 := Ideal.ofBits_zero_f32
theorem pay1_prod (x y : Vec Ideal S2048x128 .f32) : k1_pay3 (F := Ideal) x y = had x y := by
  funext j
  unfold k1_pay3
  simp only [shapeCast_self]
  rfl
theorem pay1_arg5_0 (v13 : FVec Ideal S1x128 .f32) (v14 : FVec Ideal S256x128 .f32) (v18 : FVec Ideal S1x128 .f32) (v19 : FVec Ideal S256x128 .f32) (v23 : FVec Ideal S1x128 .f32) (v24 : FVec Ideal S256x128 .f32) (v28 : FVec Ideal S256x128 .f32) :
    k1_pay4 (F := Ideal) v13 v14 v18 v19 v23 v24 v28 = chunkL v13 v14 v18 v19 v23 v24 v28 := rfl
theorem pay1_arg5_256 (v34 : FVec Ideal S1x128 .f32) (v35 : FVec Ideal S256x128 .f32) (v39 : FVec Ideal S1x128 .f32) (v40 : FVec Ideal S256x128 .f32) (v44 : FVec Ideal S1x128 .f32) (v45 : FVec Ideal S256x128 .f32) (v49 : FVec Ideal S256x128 .f32) :
    k1_pay5 (F := Ideal) v34 v35 v39 v40 v44 v45 v49 = chunkL v34 v35 v39 v40 v44 v45 v49 := rfl
theorem pay1_arg5_512 (v55 : FVec Ideal S1x128 .f32) (v56 : FVec Ideal S256x128 .f32) (v60 : FVec Ideal S1x128 .f32) (v61 : FVec Ideal S256x128 .f32) (v65 : FVec Ideal S1x128 .f32) (v66 : FVec Ideal S256x128 .f32) (v70 : FVec Ideal S256x128 .f32) :
    k1_pay8 (F := Ideal) (k1_pay6 v55 v56) v61 (k1_pay7 v60) v65 v66 v70 = chunkL v55 v56 v60 v61 v65 v66 v70 := rfl
theorem pay1_arg5_768 (v76 : FVec Ideal S1x128 .f32) (v77 : FVec Ideal S256x128 .f32) (v81 : FVec Ideal S1x128 .f32) (v82 : FVec Ideal S256x128 .f32) (v86 : FVec Ideal S1x128 .f32) (v87 : FVec Ideal S256x128 .f32) (v91 : FVec Ideal S256x128 .f32) :
    k1_pay9 (F := Ideal) v76 v77 v81 v82 v86 v87 v91 = chunkL v76 v77 v81 v82 v86 v87 v91 := rfl
theorem pay1_arg5_1024 (v97 : FVec Ideal S1x128 .f32) (v98 : FVec Ideal S256x128 .f32) (v102 : FVec Ideal S1x128 .f32) (v103 : FVec Ideal S256x128 .f32) (v107 : FVec Ideal S1x128 .f32) (v108 : FVec Ideal S256x128 .f32) (v112 : FVec Ideal S256x128 .f32) :
    k1_pay10 (F := Ideal) v97 v98 v102 v103 v107 v108 v112 = chunkL v97 v98 v102 v103 v107 v108 v112 := rfl
theorem pay1_arg5_1280 (v118 : FVec Ideal S1x128 .f32) (v119 : FVec Ideal S256x128 .f32) (v123 : FVec Ideal S1x128 .f32) (v124 : FVec Ideal S256x128 .f32) (v128 : FVec Ideal S1x128 .f32) (v129 : FVec Ideal S256x128 .f32) (v133 : FVec Ideal S256x128 .f32) :
    k1_pay12 (F := Ideal) (k1_pay11 v118 v119 v123 v124) v128 v129 v133 = chunkL v118 v119 v123 v124 v128 v129 v133 := rfl
theorem pay1_arg5_1536 (v139 : FVec Ideal S1x128 .f32) (v140 : FVec Ideal S256x128 .f32) (v144 : FVec Ideal S1x128 .f32) (v145 : FVec Ideal S256x128 .f32) (v149 : FVec Ideal S1x128 .f32) (v150 : FVec Ideal S256x128 .f32) (v154 : FVec Ideal S256x128 .f32) :
    k1_pay13 (F := Ideal) v139 v140 v144 v145 v149 v150 v154 = chunkL v139 v140 v144 v145 v149 v150 v154 := rfl
theorem pay1_arg5_1792 (v160 : FVec Ideal S1x128 .f32) (v161 : FVec Ideal S256x128 .f32) (v165 : FVec Ideal S1x128 .f32) (v166 : FVec Ideal S256x128 .f32) (v170 : FVec Ideal S1x128 .f32) (v171 : FVec Ideal S256x128 .f32) (v175 : FVec Ideal S256x128 .f32) :
    k1_pay1 (F := Ideal) (k1_pay14 (F := Ideal)) v160 v161 v165 v166 v170 v171 v175 = chunkL v160 v161 v165 v166 v170 v171 v175 := rfl

section
variable (c : Dev nD) (i : grid1.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S3x128 .f32) (harg4 : arg4.IsWhole) (arg5 : Memref sig .tc .vmem S2048x128 .bf16) (harg5 : arg5.IsWhole) (arg6 : Memref sig .tc .vmem S2080x128 .f32) (harg6 : arg6.IsWhole)
    (x0 : Vec Ideal S2048x128 .f32) (x1 : Vec Ideal S2048x128 .f32) (x2 : Vec Ideal S2048x128 .f32) (x3 : Vec Ideal S3x128 .f32)

/-- The forward gate's block: the gate times the causal convolution of the factors' product. -/
theorem gate : out1_A_4 (F := Ideal) c i arg1 harg1 arg2 harg2 arg3 harg3 arg4 harg4 arg5 harg5 arg6 harg6 x0 x1 x2 x3
    = fun y => (x0 y : EReal) * causal x3 (had x1 x2) y := by
  unfold out1_A_4
  rw [View.read_writes_junk_eq_canon]
  funext y
  refine canon_of_pieces (fun y => (x0 y : EReal) * causal x3 (had x1 x2) y) _ ?_ y (cover1_A_4 c i arg1 harg1 arg2 harg2 arg3 harg3 arg4 harg4 arg5 harg5 arg6 harg6 x0 x1 x2 x3 y)
  clear y
  unfold kernelRun1_A
  dsimp only
  sl_unfold_run_names
  simp only [readAt_unread, idx_whole, pay1_prod, pay1_arg5_0, pay1_arg5_256, pay1_arg5_512, pay1_arg5_768, pay1_arg5_1024, pay1_arg5_1280, pay1_arg5_1536, pay1_arg5_1792]
  refine (pieces_cons (fun x => ?_) (pieces_cons (fun x => ?_) (pieces_cons (fun x => ?_) (pieces_cons (fun x => ?_) (pieces_cons (fun x => ?_) (pieces_cons (fun x => ?_) (pieces_cons (fun x => ?_) (pieces_cons (fun x => ?_) trivial))))))))
  all_goals
    refine chunkL_causal x _ (had x1 x2) x3 x0 _ _ _ _ _ _ _ ?_ ?_ ?_
      (read_below _ _ _ pay1_zero _ _ _ _ x 2 _ ?_ ?_ (by decide)) (read_below _ _ _ pay1_zero _ _ _ _ x 1 _ ?_ ?_ (by decide))
      (read_below _ _ _ pay1_zero _ _ _ _ x 0 _ ?_ ?_ (by decide)) ?_
  all_goals first
    | rfl
    | exact congrArg x3 (idx_row _ _ _ _ _ _ rfl (Fin.ext (idx_unit 2048 128 _ _ _ x).2.symm))
    | exact side0 _ _ _ _ _ _ (by decide)
    | exact Fin.ext (idx_unit 2048 128 _ _ _ x).2

end

/-! ## The backward gate -/

theorem pay5_zero (j : S32x128.Idx) : k5_pay2 (F := Ideal) j = 0 := Ideal.ofBits_zero_f32
theorem pay5_zero' (j : S32x128.Idx) : k5_pay5 (F := Ideal) j = 0 := Ideal.ofBits_zero_f32
theorem pay5_prod (x y : Vec Ideal S2048x128 .f32) : k5_pay3 (F := Ideal) x y = had x y := by
  funext j
  unfold k5_pay3
  simp only [shapeCast_self]
  rfl
theorem pay5_prod' (x y : Vec Ideal S2048x128 .f32) : k5_pay4 (F := Ideal) x y = had x y := by
  funext j
  unfold k5_pay4
  simp only [shapeCast_self]
  rfl
theorem pay5_arg6_0 (v26 : FVec Ideal S1x128 .f32) (v27 : FVec Ideal S256x128 .f32) (v36 : FVec Ideal S1x128 .f32) (v37 : FVec Ideal S256x128 .f32) (v46 : FVec Ideal S1x128 .f32) (v47 : FVec Ideal S256x128 .f32) (v56 : FVec Ideal S256x128 .f32) :
    k5_pay9 (F := Ideal) (k5_pay7 v26 v27) v36 v37 v46 v47 v56 = chunkL v26 v27 v36 v37 v46 v47 v56 := rfl
theorem pay5_arg7_0 (v31 : FVec Ideal S1x128 .f32) (v32 : FVec Ideal S256x128 .f32) (v41 : FVec Ideal S1x128 .f32) (v42 : FVec Ideal S256x128 .f32) (v51 : FVec Ideal S1x128 .f32) (v52 : FVec Ideal S256x128 .f32) (v61 : FVec Ideal S256x128 .f32) :
    k5_pay11 (F := Ideal) (k5_pay10 (k5_pay6 (F := Ideal)) v31 v32 v41 v42 v51 v52 v61) = chunkR v31 v32 v41 v42 v51 v52 v61 := rfl
theorem pay5_arg8_0 (v31 : FVec Ideal S1x128 .f32) (v32 : FVec Ideal S256x128 .f32) (v41 : FVec Ideal S1x128 .f32) (v42 : FVec Ideal S256x128 .f32) (v51 : FVec Ideal S1x128 .f32) (v52 : FVec Ideal S256x128 .f32) (v66 : FVec Ideal S256x128 .f32) :
    k5_pay12 (F := Ideal) (k5_pay8 (k5_pay6 (F := Ideal)) v31 v32 v41 v42 v51 v52) v66 = chunkR v31 v32 v41 v42 v51 v52 v66 := rfl
theorem pay5_arg6_256 (v73 : FVec Ideal S1x128 .f32) (v74 : FVec Ideal S256x128 .f32) (v83 : FVec Ideal S1x128 .f32) (v84 : FVec Ideal S256x128 .f32) (v93 : FVec Ideal S1x128 .f32) (v94 : FVec Ideal S256x128 .f32) (v103 : FVec Ideal S256x128 .f32) :
    k5_pay16 (F := Ideal) (k5_pay13 v73 v74 v83 v84) v93 v94 v103 = chunkL v73 v74 v83 v84 v93 v94 v103 := rfl
theorem pay5_arg7_256 (v78 : FVec Ideal S1x128 .f32) (v79 : FVec Ideal S256x128 .f32) (v88 : FVec Ideal S1x128 .f32) (v89 : FVec Ideal S256x128 .f32) (v98 : FVec Ideal S1x128 .f32) (v99 : FVec Ideal S256x128 .f32) (v108 : FVec Ideal S256x128 .f32) :
    k5_pay17 (F := Ideal) (k5_pay14 v78 v79 v88 v89) v98 v99 v108 = chunkR v78 v79 v88 v89 v98 v99 v108 := rfl
theorem pay5_arg8_256 (v78 : FVec Ideal S1x128 .f32) (v79 : FVec Ideal S256x128 .f32) (v88 : FVec Ideal S1x128 .f32) (v89 : FVec Ideal S256x128 .f32) (v98 : FVec Ideal S1x128 .f32) (v99 : FVec Ideal S256x128 .f32) (v113 : FVec Ideal S256x128 .f32) :
    k5_pay18 (F := Ideal) (k5_pay14 v78 v79 v88 v89) v98 v99 v113 = chunkR v78 v79 v88 v89 v98 v99 v113 := rfl
theorem pay5_arg6_512 (v120 : FVec Ideal S1x128 .f32) (v121 : FVec Ideal S256x128 .f32) (v130 : FVec Ideal S1x128 .f32) (v131 : FVec Ideal S256x128 .f32) (v140 : FVec Ideal S1x128 .f32) (v141 : FVec Ideal S256x128 .f32) (v150 : FVec Ideal S256x128 .f32) :
    k5_pay22 (F := Ideal) (k5_pay20 v120 v121) v130 v131 v140 v141 v150 = chunkL v120 v121 v130 v131 v140 v141 v150 := rfl
theorem pay5_arg7_512 (v125 : FVec Ideal S1x128 .f32) (v126 : FVec Ideal S256x128 .f32) (v135 : FVec Ideal S1x128 .f32) (v136 : FVec Ideal S256x128 .f32) (v145 : FVec Ideal S1x128 .f32) (v146 : FVec Ideal S256x128 .f32) (v155 : FVec Ideal S256x128 .f32) :
    k5_pay23 (F := Ideal) (k5_pay19 (F := Ideal)) v125 v126 v135 v136 v145 v146 v155 = chunkR v125 v126 v135 v136 v145 v146 v155 := rfl
theorem pay5_arg8_512 (v125 : FVec Ideal S1x128 .f32) (v126 : FVec Ideal S256x128 .f32) (v135 : FVec Ideal S1x128 .f32) (v136 : FVec Ideal S256x128 .f32) (v145 : FVec Ideal S1x128 .f32) (v146 : FVec Ideal S256x128 .f32) (v160 : FVec Ideal S256x128 .f32) :
    k5_pay24 (F := Ideal) (k5_pay21 (k5_pay19 (F := Ideal)) v125 v126 v135 v136 v145 v146) v160 = chunkR v125 v126 v135 v136 v145 v146 v160 := rfl
theorem pay5_arg6_768 (v167 : FVec Ideal S1x128 .f32) (v168 : FVec Ideal S256x128 .f32) (v177 : FVec Ideal S1x128 .f32) (v178 : FVec Ideal S256x128 .f32) (v187 : FVec Ideal S1x128 .f32) (v188 : FVec Ideal S256x128 .f32) (v197 : FVec Ideal S256x128 .f32) :
    k5_pay28 (F := Ideal) (k5_pay26 v167 v168 v177 v178 v187 v188) v197 = chunkL v167 v168 v177 v178 v187 v188 v197 := rfl
theorem pay5_arg7_768 (v172 : FVec Ideal S1x128 .f32) (v173 : FVec Ideal S256x128 .f32) (v182 : FVec Ideal S1x128 .f32) (v183 : FVec Ideal S256x128 .f32) (v192 : FVec Ideal S1x128 .f32) (v193 : FVec Ideal S256x128 .f32) (v202 : FVec Ideal S256x128 .f32) :
    k5_pay29 (F := Ideal) (k5_pay25 v172 v173 v182 v183) v192 v193 v202 = chunkR v172 v173 v182 v183 v192 v193 v202 := rfl
theorem pay5_arg8_768 (v172 : FVec Ideal S1x128 .f32) (v173 : FVec Ideal S256x128 .f32) (v182 : FVec Ideal S1x128 .f32) (v183 : FVec Ideal S256x128 .f32) (v192 : FVec Ideal S1x128 .f32) (v193 : FVec Ideal S256x128 .f32) (v207 : FVec Ideal S256x128 .f32) :
    k5_pay30 (F := Ideal) (k5_pay25 v172 v173 v182 v183) v192 v193 v207 = chunkR v172 v173 v182 v183 v192 v193 v207 := rfl
theorem pay5_arg6_1024 (v214 : FVec Ideal S1x128 .f32) (v215 : FVec Ideal S256x128 .f32) (v224 : FVec Ideal S1x128 .f32) (v225 : FVec Ideal S256x128 .f32) (v234 : FVec Ideal S1x128 .f32) (v235 : FVec Ideal S256x128 .f32) (v244 : FVec Ideal S256x128 .f32) :
    k5_pay35 (F := Ideal) (k5_pay32 v214 v215) v224 v225 v234 v235 v244 = chunkL v214 v215 v224 v225 v234 v235 v244 := rfl
theorem pay5_arg7_1024 (v219 : FVec Ideal S1x128 .f32) (v220 : FVec Ideal S256x128 .f32) (v229 : FVec Ideal S1x128 .f32) (v230 : FVec Ideal S256x128 .f32) (v239 : FVec Ideal S1x128 .f32) (v240 : FVec Ideal S256x128 .f32) (v249 : FVec Ideal S256x128 .f32) :
    k5_pay36 (F := Ideal) (k5_pay31 (F := Ideal)) (k5_pay33 v219 v220) v229 v230 v239 v240 v249 = chunkR v219 v220 v229 v230 v239 v240 v249 := rfl
theorem pay5_arg8_1024 (v219 : FVec Ideal S1x128 .f32) (v220 : FVec Ideal S256x128 .f32) (v229 : FVec Ideal S1x128 .f32) (v230 : FVec Ideal S256x128 .f32) (v239 : FVec Ideal S1x128 .f32) (v240 : FVec Ideal S256x128 .f32) (v254 : FVec Ideal S256x128 .f32) :
    k5_pay37 (F := Ideal) (k5_pay34 (k5_pay31 (F := Ideal)) (k5_pay33 v219 v220) v229 v230 v239 v240) v254 = chunkR v219 v220 v229 v230 v239 v240 v254 := rfl
theorem pay5_arg6_1280 (v261 : FVec Ideal S1x128 .f32) (v262 : FVec Ideal S256x128 .f32) (v271 : FVec Ideal S1x128 .f32) (v272 : FVec Ideal S256x128 .f32) (v281 : FVec Ideal S1x128 .f32) (v282 : FVec Ideal S256x128 .f32) (v291 : FVec Ideal S256x128 .f32) :
    k5_pay41 (F := Ideal) (k5_pay39 v261 v262 v271 v272 v281 v282) v291 = chunkL v261 v262 v271 v272 v281 v282 v291 := rfl
theorem pay5_arg7_1280 (v266 : FVec Ideal S1x128 .f32) (v267 : FVec Ideal S256x128 .f32) (v276 : FVec Ideal S1x128 .f32) (v277 : FVec Ideal S256x128 .f32) (v286 : FVec Ideal S1x128 .f32) (v287 : FVec Ideal S256x128 .f32) (v296 : FVec Ideal S256x128 .f32) :
    k5_pay42 (F := Ideal) (k5_pay38 v266 v267 v276 v277) v286 v287 v296 = chunkR v266 v267 v276 v277 v286 v287 v296 := rfl
theorem pay5_arg8_1280 (v266 : FVec Ideal S1x128 .f32) (v267 : FVec Ideal S256x128 .f32) (v276 : FVec Ideal S1x128 .f32) (v277 : FVec Ideal S256x128 .f32) (v286 : FVec Ideal S1x128 .f32) (v287 : FVec Ideal S256x128 .f32) (v301 : FVec Ideal S256x128 .f32) :
    k5_pay43 (F := Ideal) (k5_pay38 v266 v267 v276 v277) v286 v287 v301 = chunkR v266 v267 v276 v277 v286 v287 v301 := rfl
theorem pay5_arg6_1536 (v308 : FVec Ideal S1x128 .f32) (v309 : FVec Ideal S256x128 .f32) (v318 : FVec Ideal S1x128 .f32) (v319 : FVec Ideal S256x128 .f32) (v328 : FVec Ideal S1x128 .f32) (v329 : FVec Ideal S256x128 .f32) (v338 : FVec Ideal S256x128 .f32) :
    k5_pay47 (F := Ideal) (k5_pay44 v308 v309) v318 v319 v328 v329 v338 = chunkL v308 v309 v318 v319 v328 v329 v338 := rfl
theorem pay5_arg7_1536 (v313 : FVec Ideal S1x128 .f32) (v314 : FVec Ideal S256x128 .f32) (v323 : FVec Ideal S1x128 .f32) (v324 : FVec Ideal S256x128 .f32) (v333 : FVec Ideal S1x128 .f32) (v334 : FVec Ideal S256x128 .f32) (v343 : FVec Ideal S256x128 .f32) :
    k5_pay48 (F := Ideal) (k5_pay45 v313 v314) v323 v324 v333 v334 v343 = chunkR v313 v314 v323 v324 v333 v334 v343 := rfl
theorem pay5_arg8_1536 (v313 : FVec Ideal S1x128 .f32) (v314 : FVec Ideal S256x128 .f32) (v323 : FVec Ideal S1x128 .f32) (v324 : FVec Ideal S256x128 .f32) (v333 : FVec Ideal S1x128 .f32) (v334 : FVec Ideal S256x128 .f32) (v348 : FVec Ideal S256x128 .f32) :
    k5_pay49 (F := Ideal) (k5_pay45 v313 v314) v323 v324 v333 v334 v348 = chunkR v313 v314 v323 v324 v333 v334 v348 := rfl
theorem pay5_arg6_1792 (v355 : FVec Ideal S1x128 .f32) (v356 : FVec Ideal S256x128 .f32) (v365 : FVec Ideal S1x128 .f32) (v366 : FVec Ideal S256x128 .f32) (v375 : FVec Ideal S1x128 .f32) (v376 : FVec Ideal S256x128 .f32) (v385 : FVec Ideal S256x128 .f32) :
    k5_pay54 (F := Ideal) (k5_pay51 v355 v356 v365 v366 v375 v376) v385 = chunkL v355 v356 v365 v366 v375 v376 v385 := rfl
theorem pay5_arg7_1792 (v360 : FVec Ideal S1x128 .f32) (v361 : FVec Ideal S256x128 .f32) (v370 : FVec Ideal S1x128 .f32) (v371 : FVec Ideal S256x128 .f32) (v380 : FVec Ideal S1x128 .f32) (v381 : FVec Ideal S256x128 .f32) (v390 : FVec Ideal S256x128 .f32) :
    k5_pay55 (F := Ideal) (k5_pay50 v360 v361 v370 v371) (k5_pay52 v380 v381) v390 = chunkR v360 v361 v370 v371 v380 v381 v390 := rfl
theorem pay5_arg8_1792 (v360 : FVec Ideal S1x128 .f32) (v361 : FVec Ideal S256x128 .f32) (v370 : FVec Ideal S1x128 .f32) (v371 : FVec Ideal S256x128 .f32) (v380 : FVec Ideal S1x128 .f32) (v381 : FVec Ideal S256x128 .f32) (v395 : FVec Ideal S256x128 .f32) :
    k5_pay56 (F := Ideal) (k5_pay50 v360 v361 v370 v371) (k5_pay52 v380 v381) v395 = chunkR v360 v361 v370 v371 v380 v381 v395 := rfl
theorem pay5_arg9_0 (v401 : FVec Ideal S256x128 .f32) (v402 : FVec Ideal S256x128 .f32) (v405 : FVec Ideal S256x128 .f32) (v406 : FVec Ideal S256x128 .f32) (v409 : FVec Ideal S256x128 .f32) (v410 : FVec Ideal S256x128 .f32) (v413 : FVec Ideal S256x128 .f32) (v414 : FVec Ideal S256x128 .f32) (v417 : FVec Ideal S256x128 .f32) (v418 : FVec Ideal S256x128 .f32) (v421 : FVec Ideal S256x128 .f32) (v422 : FVec Ideal S256x128 .f32) (v425 : FVec Ideal S256x128 .f32) (v426 : FVec Ideal S256x128 .f32) (v429 : FVec Ideal S256x128 .f32) (v430 : FVec Ideal S256x128 .f32) :
    k5_pay58 (F := Ideal) (k5_pay57 v401 v402 v405 v406 v409 v410) v413 v414 v417 v418 v421 v422 v425 v426 v429 v430 = dtap v401 v402 v405 v406 v409 v410 v413 v414 v417 v418 v421 v422 v425 v426 v429 v430 := rfl
theorem pay5_arg9_1 (v437 : FVec Ideal S256x128 .f32) (v438 : FVec Ideal S256x128 .f32) (v441 : FVec Ideal S256x128 .f32) (v442 : FVec Ideal S256x128 .f32) (v445 : FVec Ideal S256x128 .f32) (v446 : FVec Ideal S256x128 .f32) (v449 : FVec Ideal S256x128 .f32) (v450 : FVec Ideal S256x128 .f32) (v453 : FVec Ideal S256x128 .f32) (v454 : FVec Ideal S256x128 .f32) (v457 : FVec Ideal S256x128 .f32) (v458 : FVec Ideal S256x128 .f32) (v461 : FVec Ideal S256x128 .f32) (v462 : FVec Ideal S256x128 .f32) (v465 : FVec Ideal S256x128 .f32) (v466 : FVec Ideal S256x128 .f32) :
    k5_pay60 (F := Ideal) (k5_pay59 v437 v438) v441 v442 v445 v446 v449 v450 v453 v454 v457 v458 v461 v462 v465 v466 = dtap v437 v438 v441 v442 v445 v446 v449 v450 v453 v454 v457 v458 v461 v462 v465 v466 := rfl
theorem pay5_arg9_2 (v473 : FVec Ideal S256x128 .f32) (v474 : FVec Ideal S256x128 .f32) (v477 : FVec Ideal S256x128 .f32) (v478 : FVec Ideal S256x128 .f32) (v481 : FVec Ideal S256x128 .f32) (v482 : FVec Ideal S256x128 .f32) (v485 : FVec Ideal S256x128 .f32) (v486 : FVec Ideal S256x128 .f32) (v489 : FVec Ideal S256x128 .f32) (v490 : FVec Ideal S256x128 .f32) (v493 : FVec Ideal S256x128 .f32) (v494 : FVec Ideal S256x128 .f32) (v497 : FVec Ideal S256x128 .f32) (v498 : FVec Ideal S256x128 .f32) (v501 : FVec Ideal S256x128 .f32) (v502 : FVec Ideal S256x128 .f32) :
    k5_pay1 (F := Ideal) (k5_pay62 (k5_pay61 (F := Ideal)) v473 v474 v477 v478 v481 v482 v485 v486 v489 v490 v493 v494 v497 v498) v501 v502 = dtap v473 v474 v477 v478 v481 v482 v485 v486 v489 v490 v493 v494 v497 v498 v501 v502 := rfl

section
variable (c : Dev nD) (i : grid5.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S3x128 .f32) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S3x128 .f32) (harg9 : arg9.IsWhole) (arg10 : Memref sig .tc .vmem S2080x128 .f32) (harg10 : arg10.IsWhole) (arg11 : Memref sig .tc .vmem S2080x128 .f32) (harg11 : arg11.IsWhole)
    (x0 : Vec Ideal S2048x128 .f32) (x1 : Vec Ideal S2048x128 .f32) (x2 : Vec Ideal S2048x128 .f32) (x3 : Vec Ideal S2048x128 .f32) (x4 : Vec Ideal S3x128 .f32)

/-- The backward gate's block: the incoming gradient times the causal convolution. -/
theorem dgate_b : out5_A_5 (F := Ideal) c i arg1 harg1 arg2 harg2 arg3 harg3 arg4 harg4 arg5 harg5 arg6 harg6 arg7 harg7 arg8 harg8 arg9 harg9 arg10 harg10 arg11 harg11 x0 x1 x2 x3 x4
    = fun y => (x0 y : EReal) * causal x4 (had x2 x3) y := by
  unfold out5_A_5
  rw [View.read_writes_junk_eq_canon]
  funext y
  refine canon_of_pieces (fun y => (x0 y : EReal) * causal x4 (had x2 x3) y) _ ?_ y
    (cover5_A_5 c i arg1 harg1 arg2 harg2 arg3 harg3 arg4 harg4 arg5 harg5 arg6 harg6 arg7 harg7 arg8 harg8 arg9 harg9 arg10 harg10 arg11 harg11 x0 x1 x2 x3 x4 y)
  clear y
  unfold kernelRun5_A
  dsimp only
  sl_unfold_run_names
  simp only [readAt_unread, idx_whole, pay5_prod, pay5_prod', pay5_arg6_0, pay5_arg6_256, pay5_arg6_512, pay5_arg6_768, pay5_arg6_1024, pay5_arg6_1280, pay5_arg6_1536, pay5_arg6_1792]
  refine (pieces_cons (fun x => ?_) (pieces_cons (fun x => ?_) (pieces_cons (fun x => ?_) (pieces_cons (fun x => ?_) (pieces_cons (fun x => ?_) (pieces_cons (fun x => ?_) (pieces_cons (fun x => ?_) (pieces_cons (fun x => ?_) trivial))))))))
  all_goals
    refine chunkL_causal x _ (had x2 x3) x4 x0 _ _ _ _ _ _ _ ?_ ?_ ?_
      (read_below _ _ _ pay5_zero _ _ _ _ x 2 _ ?_ ?_ (by decide)) (read_below _ _ _ pay5_zero _ _ _ _ x 1 _ ?_ ?_ (by decide))
      (read_below _ _ _ pay5_zero _ _ _ _ x 0 _ ?_ ?_ (by decide)) ?_
  all_goals first
    | rfl
    | exact congrArg x4 (idx_row _ _ _ _ _ _ rfl (Fin.ext (idx_unit 2048 128 _ _ _ x).2.symm))
    | exact side0 _ _ _ _ _ _ (by decide)
    | exact Fin.ext (idx_unit 2048 128 _ _ _ x).2

/-- The backward gate's block: the transposed convolution of gradient times gate, times the second factor. -/
theorem dgate_c : out5_A_6 (F := Ideal) c i arg1 harg1 arg2 harg2 arg3 harg3 arg4 harg4 arg5 harg5 arg6 harg6 arg7 harg7 arg8 harg8 arg9 harg9 arg10 harg10 arg11 harg11 x0 x1 x2 x3 x4
    = fun y => anti x4 (had x0 x1) y * (x3 y : EReal) := by
  unfold out5_A_6
  rw [View.read_writes_junk_eq_canon]
  funext y
  refine canon_of_pieces (fun y => anti x4 (had x0 x1) y * (x3 y : EReal)) _ ?_ y
    (cover5_A_6 c i arg1 harg1 arg2 harg2 arg3 harg3 arg4 harg4 arg5 harg5 arg6 harg6 arg7 harg7 arg8 harg8 arg9 harg9 arg10 harg10 arg11 harg11 x0 x1 x2 x3 x4 y)
  clear y
  unfold kernelRun5_A
  dsimp only
  sl_unfold_run_names
  simp only [readAt_unread, idx_whole, pay5_prod, pay5_prod', pay5_arg7_0, pay5_arg7_256, pay5_arg7_512, pay5_arg7_768, pay5_arg7_1024, pay5_arg7_1280, pay5_arg7_1536, pay5_arg7_1792]
  refine (pieces_cons (fun x => ?_) (pieces_cons (fun x => ?_) (pieces_cons (fun x => ?_) (pieces_cons (fun x => ?_) (pieces_cons (fun x => ?_) (pieces_cons (fun x => ?_) (pieces_cons (fun x => ?_) (pieces_cons (fun x => ?_) trivial))))))))
  all_goals
    refine chunkR_anti x _ (had x0 x1) x4 x3 _ _ _ _ _ _ _ ?_ ?_ ?_
      (read_above _ _ _ pay5_zero' _ _ _ _ x 2 _ ?_ ?_ (by decide)) (read_above _ _ _ pay5_zero' _ _ _ _ x 1 _ ?_ ?_ (by decide))
      (read_above _ _ _ pay5_zero' _ _ _ _ x 0 _ ?_ ?_ (by decide)) ?_
  all_goals first
    | rfl
    | exact congrArg x4 (idx_row _ _ _ _ _ _ rfl (Fin.ext (idx_unit 2048 128 _ _ _ x).2.symm))
    | exact side1 _ _ _ _ _ _ (by decide)
    | exact Fin.ext (idx_unit 2048 128 _ _ _ x).2

/-- The backward gate's block: the transposed convolution of gradient times gate, times the first factor. -/
theorem dgate_h : out5_A_7 (F := Ideal) c i arg1 harg1 arg2 harg2 arg3 harg3 arg4 harg4 arg5 harg5 arg6 harg6 arg7 harg7 arg8 harg8 arg9 harg9 arg10 harg10 arg11 harg11 x0 x1 x2 x3 x4
    = fun y => anti x4 (had x0 x1) y * (x2 y : EReal) := by
  unfold out5_A_7
  rw [View.read_writes_junk_eq_canon]
  funext y
  refine canon_of_pieces (fun y => anti x4 (had x0 x1) y * (x2 y : EReal)) _ ?_ y
    (cover5_A_7 c i arg1 harg1 arg2 harg2 arg3 harg3 arg4 harg4 arg5 harg5 arg6 harg6 arg7 harg7 arg8 harg8 arg9 harg9 arg10 harg10 arg11 harg11 x0 x1 x2 x3 x4 y)
  clear y
  unfold kernelRun5_A
  dsimp only
  sl_unfold_run_names
  simp only [readAt_unread, idx_whole, pay5_prod, pay5_prod', pay5_arg8_0, pay5_arg8_256, pay5_arg8_512, pay5_arg8_768, pay5_arg8_1024, pay5_arg8_1280, pay5_arg8_1536, pay5_arg8_1792]
  refine (pieces_cons (fun x => ?_) (pieces_cons (fun x => ?_) (pieces_cons (fun x => ?_) (pieces_cons (fun x => ?_) (pieces_cons (fun x => ?_) (pieces_cons (fun x => ?_) (pieces_cons (fun x => ?_) (pieces_cons (fun x => ?_) trivial))))))))
  all_goals
    refine chunkR_anti x _ (had x0 x1) x4 x2 _ _ _ _ _ _ _ ?_ ?_ ?_
      (read_above _ _ _ pay5_zero' _ _ _ _ x 2 _ ?_ ?_ (by decide)) (read_above _ _ _ pay5_zero' _ _ _ _ x 1 _ ?_ ?_ (by decide))
      (read_above _ _ _ pay5_zero' _ _ _ _ x 0 _ ?_ ?_ (by decide)) ?_
  all_goals first
    | rfl
    | exact congrArg x4 (idx_row _ _ _ _ _ _ rfl (Fin.ext (idx_unit 2048 128 _ _ _ x).2.symm))
    | exact side1 _ _ _ _ _ _ (by decide)
    | exact Fin.ext (idx_unit 2048 128 _ _ _ x).2

/-- The backward gate's block: a tap's gradient, the sum over the rows. -/
theorem dgate_w : out5_A_8 (F := Ideal) c i arg1 harg1 arg2 harg2 arg3 harg3 arg4 harg4 arg5 harg5 arg6 harg6 arg7 harg7 arg8 harg8 arg9 harg9 arg10 harg10 arg11 harg11 x0 x1 x2 x3 x4
    = fun y => ∑ t : Fin 2048, had x0 x1 (ix2 t (y 1)) * lag (2 - (y 0 : ℕ)) (had x2 x3) (ix2 t (y 1)) := by
  unfold out5_A_8
  rw [View.read_writes_junk_eq_canon]
  funext y
  refine canon_of_pieces (fun y => ∑ t : Fin 2048, had x0 x1 (ix2 t (y 1)) * lag (2 - (y 0 : ℕ)) (had x2 x3) (ix2 t (y 1))) _ ?_ y
    (cover5_A_8 c i arg1 harg1 arg2 harg2 arg3 harg3 arg4 harg4 arg5 harg5 arg6 harg6 arg7 harg7 arg8 harg8 arg9 harg9 arg10 harg10 arg11 harg11 x0 x1 x2 x3 x4 y)
  clear y
  unfold kernelRun5_A
  dsimp only
  sl_unfold_run_names
  simp only [readAt_unread, idx_whole, pay5_prod, pay5_prod', pay5_arg9_0, pay5_arg9_1, pay5_arg9_2]
  refine (pieces_cons (fun x => ?_) (pieces_cons (fun x => ?_) (pieces_cons (fun x => ?_) trivial)))
  all_goals
    obtain ⟨c', hc⟩ : ∃ c' : Fin 128, x = ix2 (0 : Fin 1) c' := ⟨x 1, by
      refine (eq_ix2 x).trans (congrArg (fun a => ix2 a (x 1)) (Fin.ext ?_))
      have : (x 0 : ℕ) < 1 := (x 0).isLt
      show (x 0 : ℕ) = 0
      omega⟩
    subst hc
  · refine (dtap_apply (lead 0 (had x0 x1)) (lag 0 (had x2 x3)) c' _ _ _ _ _ _ _ _ _ _ _ _ _ _ _ _
      (fun r => read_above _ _ _ pay5_zero' _ _ _ _ _ 0 _ rfl rfl (by decide))
      (fun r => read_below _ _ _ pay5_zero _ _ _ _ _ 0 _ (by show 0 + (r : ℕ) + 32 = 32 + (r : ℕ) + 0; omega) rfl (by decide))
      (fun r => read_above _ _ _ pay5_zero' _ _ _ _ _ 0 _ rfl rfl (by decide))
      (fun r => read_below _ _ _ pay5_zero _ _ _ _ _ 0 _ (by show 256 + (r : ℕ) + 32 = 288 + (r : ℕ) + 0; omega) rfl (by decide))
      (fun r => read_above _ _ _ pay5_zero' _ _ _ _ _ 0 _ rfl rfl (by decide))
      (fun r => read_below _ _ _ pay5_zero _ _ _ _ _ 0 _ (by show 512 + (r : ℕ) + 32 = 544 + (r : ℕ) + 0; omega) rfl (by decide))
      (fun r => read_above _ _ _ pay5_zero' _ _ _ _ _ 0 _ rfl rfl (by decide))
      (fun r => read_below _ _ _ pay5_zero _ _ _ _ _ 0 _ (by show 768 + (r : ℕ) + 32 = 800 + (r : ℕ) + 0; omega) rfl (by decide))
      (fun r => read_above _ _ _ pay5_zero' _ _ _ _ _ 0 _ rfl rfl (by decide))
      (fun r => read_below _ _ _ pay5_zero _ _ _ _ _ 0 _ (by show 1024 + (r : ℕ) + 32 = 1056 + (r : ℕ) + 0; omega) rfl (by decide))
      (fun r => read_above _ _ _ pay5_zero' _ _ _ _ _ 0 _ rfl rfl (by decide))
      (fun r => read_below _ _ _ pay5_zero _ _ _ _ _ 0 _ (by show 1280 + (r : ℕ) + 32 = 1312 + (r : ℕ) + 0; omega) rfl (by decide))
      (fun r => read_above _ _ _ pay5_zero' _ _ _ _ _ 0 _ rfl rfl (by decide))
      (fun r => read_below _ _ _ pay5_zero _ _ _ _ _ 0 _ (by show 1536 + (r : ℕ) + 32 = 1568 + (r : ℕ) + 0; omega) rfl (by decide))
      (fun r => read_above _ _ _ pay5_zero' _ _ _ _ _ 0 _ rfl rfl (by decide))
      (fun r => read_below _ _ _ pay5_zero _ _ _ _ _ 0 _ (by show 1792 + (r : ℕ) + 32 = 1824 + (r : ℕ) + 0; omega) rfl (by decide))).trans ?_
    · exact tap_sum _ _ _ _ _ (by rfl) (Fin.ext (idx_unit 3 128 _ _ _ _).2)
  · refine (dtap_apply (lead 0 (had x0 x1)) (lag 1 (had x2 x3)) c' _ _ _ _ _ _ _ _ _ _ _ _ _ _ _ _
      (fun r => read_above _ _ _ pay5_zero' _ _ _ _ _ 0 _ rfl rfl (by decide))
      (fun r => read_below _ _ _ pay5_zero _ _ _ _ _ 1 _ (by show 0 + (r : ℕ) + 32 = 31 + (r : ℕ) + 1; omega) rfl (by decide))
      (fun r => read_above _ _ _ pay5_zero' _ _ _ _ _ 0 _ rfl rfl (by decide))
      (fun r => read_below _ _ _ pay5_zero _ _ _ _ _ 1 _ (by show 256 + (r : ℕ) + 32 = 287 + (r : ℕ) + 1; omega) rfl (by decide))
      (fun r => read_above _ _ _ pay5_zero' _ _ _ _ _ 0 _ rfl rfl (by decide))
      (fun r => read_below _ _ _ pay5_zero _ _ _ _ _ 1 _ (by show 512 + (r : ℕ) + 32 = 543 + (r : ℕ) + 1; omega) rfl (by decide))
      (fun r => read_above _ _ _ pay5_zero' _ _ _ _ _ 0 _ rfl rfl (by decide))
      (fun r => read_below _ _ _ pay5_zero _ _ _ _ _ 1 _ (by show 768 + (r : ℕ) + 32 = 799 + (r : ℕ) + 1; omega) rfl (by decide))
      (fun r => read_above _ _ _ pay5_zero' _ _ _ _ _ 0 _ rfl rfl (by decide))
      (fun r => read_below _ _ _ pay5_zero _ _ _ _ _ 1 _ (by show 1024 + (r : ℕ) + 32 = 1055 + (r : ℕ) + 1; omega) rfl (by decide))
      (fun r => read_above _ _ _ pay5_zero' _ _ _ _ _ 0 _ rfl rfl (by decide))
      (fun r => read_below _ _ _ pay5_zero _ _ _ _ _ 1 _ (by show 1280 + (r : ℕ) + 32 = 1311 + (r : ℕ) + 1; omega) rfl (by decide))
      (fun r => read_above _ _ _ pay5_zero' _ _ _ _ _ 0 _ rfl rfl (by decide))
      (fun r => read_below _ _ _ pay5_zero _ _ _ _ _ 1 _ (by show 1536 + (r : ℕ) + 32 = 1567 + (r : ℕ) + 1; omega) rfl (by decide))
      (fun r => read_above _ _ _ pay5_zero' _ _ _ _ _ 0 _ rfl rfl (by decide))
      (fun r => read_below _ _ _ pay5_zero _ _ _ _ _ 1 _ (by show 1792 + (r : ℕ) + 32 = 1823 + (r : ℕ) + 1; omega) rfl (by decide))).trans ?_
    · exact tap_sum _ _ _ _ _ (by rfl) (Fin.ext (idx_unit 3 128 _ _ _ _).2)
  · refine (dtap_apply (lead 0 (had x0 x1)) (lag 2 (had x2 x3)) c' _ _ _ _ _ _ _ _ _ _ _ _ _ _ _ _
      (fun r => read_above _ _ _ pay5_zero' _ _ _ _ _ 0 _ rfl rfl (by decide))
      (fun r => read_below _ _ _ pay5_zero _ _ _ _ _ 2 _ (by show 0 + (r : ℕ) + 32 = 30 + (r : ℕ) + 2; omega) rfl (by decide))
      (fun r => read_above _ _ _ pay5_zero' _ _ _ _ _ 0 _ rfl rfl (by decide))
      (fun r => read_below _ _ _ pay5_zero _ _ _ _ _ 2 _ (by show 256 + (r : ℕ) + 32 = 286 + (r : ℕ) + 2; omega) rfl (by decide))
      (fun r => read_above _ _ _ pay5_zero' _ _ _ _ _ 0 _ rfl rfl (by decide))
      (fun r => read_below _ _ _ pay5_zero _ _ _ _ _ 2 _ (by show 512 + (r : ℕ) + 32 = 542 + (r : ℕ) + 2; omega) rfl (by decide))
      (fun r => read_above _ _ _ pay5_zero' _ _ _ _ _ 0 _ rfl rfl (by decide))
      (fun r => read_below _ _ _ pay5_zero _ _ _ _ _ 2 _ (by show 768 + (r : ℕ) + 32 = 798 + (r : ℕ) + 2; omega) rfl (by decide))
      (fun r => read_above _ _ _ pay5_zero' _ _ _ _ _ 0 _ rfl rfl (by decide))
      (fun r => read_below _ _ _ pay5_zero _ _ _ _ _ 2 _ (by show 1024 + (r : ℕ) + 32 = 1054 + (r : ℕ) + 2; omega) rfl (by decide))
      (fun r => read_above _ _ _ pay5_zero' _ _ _ _ _ 0 _ rfl rfl (by decide))
      (fun r => read_below _ _ _ pay5_zero _ _ _ _ _ 2 _ (by show 1280 + (r : ℕ) + 32 = 1310 + (r : ℕ) + 2; omega) rfl (by decide))
      (fun r => read_above _ _ _ pay5_zero' _ _ _ _ _ 0 _ rfl rfl (by decide))
      (fun r => read_below _ _ _ pay5_zero _ _ _ _ _ 2 _ (by show 1536 + (r : ℕ) + 32 = 1566 + (r : ℕ) + 2; omega) rfl (by decide))
      (fun r => read_above _ _ _ pay5_zero' _ _ _ _ _ 0 _ rfl rfl (by decide))
      (fun r => read_below _ _ _ pay5_zero _ _ _ _ _ 2 _ (by show 1792 + (r : ℕ) + 32 = 1822 + (r : ℕ) + 2; omega) rfl (by decide))).trans ?_
    · exact tap_sum _ _ _ _ _ (by rfl) (Fin.ext (idx_unit 3 128 _ _ _ _).2)

end

end Cert.Sc3Ideal.Gate
-- ==== Proof.Sc3Arrays.lean ====
/-
  THE SHORT-CONVOLUTION MIXER'S KERNELS AS WHOLE-ARRAY FUNCTIONS. The program has eight kernel regions. Six are products,
  each a grid of blocks with the contraction whole at every point; two work through blocks of 128 columns, the gated
  convolution and its gradient, whose bodies `Sc3Gate` puts in closed form. For region `K`, at any contents `V` the region is
  entered with:

    `ixK_w`      the block index of window `w` at point `t`, decided over the grid;
    `payK`       what a product's body stores, as a function of the blocks it loads;
    `flushedK`   what point `t` writes back is block `t` of the region's function (`ScMath`);
    `coverK`     the blocks tile the result array;
    `finalK`     so the array ends holding the function.
-/
module

public import proofs.«01_k».proof.Proof.ScMath
public import proofs.«01_k».proof.Proof.Sc3Gate
public import proofs.«01_k».proof.Proof.Gen.Sc3Ideal.Frame
public import Idealize.ShloMosaic.Lib.Pipeline.Value

@[expose] public section

set_option maxRecDepth 16384

noncomputable section

namespace Cert.Sc3Ideal.Arrays

open Cert.Sc3Ideal Cert.Sc3Ideal.Gen Cert.Products Cert.Blocks Cert.Conv Cert.ScMath
open Idealize.ShloMosaic Idealize.ShloMosaic.TcCoe Idealize.ShloMosaic.ValueIdx Idealize.SL.Sem
open Idealize.ShloMosaic.Pipeline (Dat Window)

variable (V : (c : Dev nD) → (b : Ref sig .tc) → Buf (Elt Ideal) ((c : Thread nD τ).loc b)) (c : Dev nD)

/-! ## Region 0: the input projection -/

theorem ix0_0 : ∀ t : Fin grid0.N, win0_0.index t 0 = 0 ∧ win0_0.index t 1 = 0 := by decide +kernel
theorem ix0_1 : ∀ t : Fin grid0.N, win0_1.index t 0 = 0 ∧ win0_1.index t 1 = t.val := by decide +kernel
theorem ix0_2 : ∀ t : Fin grid0.N, win0_2.index t 0 = 0 ∧ win0_2.index t 1 = t.val := by decide +kernel

/-- What the body stores, from the blocks it loads. -/
theorem pay0 (x : FVec Ideal S2048x1024 .bf16) (y : FVec Ideal S1024x1024 .bf16) (j : S2048x1024.Idx) :
    k0_pay1 (F := Ideal) x y j = mmNN x y j := by
  have h : matmul dot_S2048x1024_S1024x1024_S2048x1024_1_0_0_1_n_n none x y (constant S2048x1024 .f32 0x00000000#32) = mmNN x y :=
    matmul_NN _ rfl none x y
  unfold k0_pay1
  rw [h]

/-- What point `t` writes back is its block of the region's function. -/
theorem flushed0 (t : Fin cfg0.N) :
    (dat0 V c).flushed 2 t = (win0_2.blk t).view.read (Elt Ideal) (mmNN (V c main_arg0) (V c main_arg2)) := by
  show (cfg0.win 2).cut (grid0.coords t) ((dat0 V c).after 2 t) = _
  rw [after0_2]
  unfold out0_2
  rw [View.canon_unit_zero hz, View.ld_unit_zero hz, View.ld_unit_zero hz]
  funext j
  show k0_pay1 (F := Ideal) (iblk0 V c 0 t) (iblk0 V c 1 t) j = (mmNN (V c main_arg0) (V c main_arg2)) ((win0_2.rect t).emb j)
  rw [pay0]
  have h0 := ix0_0 t
  have h1 := ix0_1 t
  have h2 := ix0_2 t
  have e : mmNN (iblk0 V c 0 t) (iblk0 V c 1 t) j = mmNN (V c main_arg0) (V c main_arg2) ((win0_2.rect t).emb j) := by
    refine mmNN_block _ _ _ _ j _ (fun k => congrArg (V c main_arg0) (Shape.idx_ext₂ ?_ ?_))
      (fun k => congrArg (V c main_arg2) (Shape.idx_ext₂ ?_ ?_))
    · exact (emb_val win0_0 t _ 0 _ 2048 h0.1 rfl rfl).trans (emb_val win0_2 t j 0 _ 2048 h2.1 rfl rfl).symm
    · exact (emb_val win0_0 t _ 1 _ 1024 h0.2 rfl rfl).trans (by show 0 * 1024 + k.val = k.val; omega)
    · exact (emb_val win0_1 t _ 0 _ 1024 h1.1 rfl rfl).trans (by show 0 * 1024 + k.val = k.val; omega)
    · exact (emb_val win0_1 t _ 1 _ 1024 h1.2 rfl rfl).trans (emb_val win0_2 t j 1 _ 1024 h2.2 rfl rfl).symm
  rw [e]

/-- The blocks tile the result. -/
theorem cover0 (i : S2048x3072.Idx) :
    ∃ t : Fin cfg0.N, (cfg0.win 2).flush t = true ∧ i ∈ ((cfg0.win 2).blk t).view.set := by
  have b0 : (i 0 : ℕ) < 2048 := (i 0).isLt
  have b1 : (i 1 : ℕ) < 3072 := (i 1).isLt
  have hN : cfg0.N = 3 := N_0
  have ht : (i 1 : ℕ) / 1024 < cfg0.N := by omega
  have h := ix0_2 ⟨(i 1 : ℕ) / 1024, ht⟩
  refine ⟨⟨(i 1 : ℕ) / 1024, ht⟩, flush0_2 _, ?_⟩
  show i ∈ ((View.whole main_v0).slice (win0_2.rect ⟨(i 1 : ℕ) / 1024, ht⟩)).set
  rw [View.set_slice_whole]
  refine mem_unit2 _ _ _ i ?_ ?_
  · show win0_2.index ⟨_, ht⟩ 0 * 2048 ≤ (i 0 : ℕ) ∧ (i 0 : ℕ) < win0_2.index ⟨_, ht⟩ 0 * 2048 + 2048
    rw [h.1]; dsimp only; omega
  · show win0_2.index ⟨_, ht⟩ 1 * 1024 ≤ (i 1 : ℕ) ∧ (i 1 : ℕ) < win0_2.index ⟨_, ht⟩ 1 * 1024 + 1024
    rw [h.2]; dsimp only; omega

/-- The result array after the region. -/
theorem final0 : (dat0 V c).arrAt 2 cfg0.N = mmNN (V c main_arg0) (V c main_arg2) :=
  (dat0 V c).arrAt_eq_of_cover 2 (mmNN (V c main_arg0) (V c main_arg2)) (fun t _ => flushed0 V c t) cover0

/-! ## Region 1: the gated convolution -/

theorem ix1_0 : ∀ t : Fin grid1.N, win1_0.index t 0 = 0 ∧ win1_0.index t 1 = t.val := by decide +kernel
theorem ix1_1 : ∀ t : Fin grid1.N, win1_1.index t 0 = 0 ∧ win1_1.index t 1 = 8 + t.val := by decide +kernel
theorem ix1_2 : ∀ t : Fin grid1.N, win1_2.index t 0 = 0 ∧ win1_2.index t 1 = 16 + t.val := by decide +kernel
theorem ix1_3 : ∀ t : Fin grid1.N, win1_3.index t 0 = 0 ∧ win1_3.index t 1 = t.val := by decide +kernel
theorem ix1_4 : ∀ t : Fin grid1.N, win1_4.index t 0 = 0 ∧ win1_4.index t 1 = t.val := by decide +kernel

/-- The array column of column `q` of block `t`. -/
def col1 (t : Fin cfg1.N) (q : Fin 128) : Fin 1024 := ⟨t.val * 128 + q.val, by
  have h : t.val < 8 := lt_of_lt_of_eq t.isLt N_1
  omega⟩

/-- What point `t` writes back is its block of the region's function. -/
theorem flushed1_4 (t : Fin cfg1.N) :
    (dat1 V c).flushed 4 t = (win1_4.blk t).view.read (Elt Ideal) (gateF (V c main_v0) (V c main_arg3)) := by
  show (cfg1.win 4).cut (grid1.coords t) ((dat1 V c).after 4 t) = _
  rw [after1_4]
  unfold outsAt1
  rw [Gate.gate]
  funext j
  obtain ⟨r, q, rfl⟩ : ∃ (r : Fin 2048) (q : Fin 128), j = ix2 r q := ⟨_, _, eq_ix2 j⟩
  show (mul (iblk1 V c 0 t : Mat 2048 128) (causal (iblk1 V c 3 t : Mat 3 128) (Gate.had (iblk1 V c 1 t : Mat 2048 128) (iblk1 V c 2 t : Mat 2048 128)))) (ix2 r q) = (gateF (V c main_v0) (V c main_arg3)) ((win1_4.rect t).emb (ix2 r q))
  have eJ : (win1_4.rect t).emb (ix2 r q) = ix2 r (col1 t q) := Shape.idx_ext₂
    ((emb_val win1_4 t (ix2 r q) 0 _ 2048 (ix1_4 t).1 rfl rfl).trans (by show 0 * 2048 + r.val = r.val; omega))
    (emb_val win1_4 t (ix2 r q) 1 _ 128 (ix1_4 t).2 rfl rfl)
  have eb : ∀ r : Fin 2048, iblk1 V c 0 t (ix2 r q) = bOf (V c main_v0) (ix2 r (col1 t q)) := fun r =>
    congrArg (V c main_v0) (Shape.idx_ext₂
      ((emb_val win1_0 t (ix2 r q) 0 _ 2048 (ix1_0 t).1 rfl rfl).trans (by show 0 * 2048 + r.val = r.val; omega))
      ((emb_val win1_0 t (ix2 r q) 1 _ 128 (ix1_0 t).2 rfl rfl).trans (by
        show t.val * 128 + q.val = 0 + (t.val * 128 + q.val); omega)))
  have ec : ∀ r : Fin 2048, iblk1 V c 1 t (ix2 r q) = cOf (V c main_v0) (ix2 r (col1 t q)) := fun r =>
    congrArg (V c main_v0) (Shape.idx_ext₂
      ((emb_val win1_1 t (ix2 r q) 0 _ 2048 (ix1_1 t).1 rfl rfl).trans (by show 0 * 2048 + r.val = r.val; omega))
      ((emb_val win1_1 t (ix2 r q) 1 _ 128 (ix1_1 t).2 rfl rfl).trans (by
        show (8 + t.val) * 128 + q.val = 1024 + (t.val * 128 + q.val); omega)))
  have eh : ∀ r : Fin 2048, iblk1 V c 2 t (ix2 r q) = hOf (V c main_v0) (ix2 r (col1 t q)) := fun r =>
    congrArg (V c main_v0) (Shape.idx_ext₂
      ((emb_val win1_2 t (ix2 r q) 0 _ 2048 (ix1_2 t).1 rfl rfl).trans (by show 0 * 2048 + r.val = r.val; omega))
      ((emb_val win1_2 t (ix2 r q) 1 _ 128 (ix1_2 t).2 rfl rfl).trans (by
        show (16 + t.val) * 128 + q.val = 2048 + (t.val * 128 + q.val); omega)))
  have ew : ∀ r : Fin 3, iblk1 V c 3 t (ix2 r q) = (V c main_arg3) (ix2 r (col1 t q)) := fun r =>
    congrArg (V c main_arg3) (Shape.idx_ext₂
      ((emb_val win1_3 t (ix2 r q) 0 _ 3 (ix1_3 t).1 rfl rfl).trans (by show 0 * 3 + r.val = r.val; omega))
      ((emb_val win1_3 t (ix2 r q) 1 _ 128 (ix1_3 t).2 rfl rfl).trans (by
        show t.val * 128 + q.val = t.val * 128 + q.val; omega)))
  rw [eJ]
  exact congrArg₂ (fun a b : EReal => a * b) (eb r) (causal_block _ _ _ _ q (col1 t q) ew (fun r => congrArg₂ (fun a b : EReal => a * b) (ec r) (eh r)) r)

/-- The blocks tile the result. -/
theorem cover1_4 (i : S2048x1024.Idx) :
    ∃ t : Fin cfg1.N, (cfg1.win 4).flush t = true ∧ i ∈ ((cfg1.win 4).blk t).view.set := by
  have b0 : (i 0 : ℕ) < 2048 := (i 0).isLt
  have b1 : (i 1 : ℕ) < 1024 := (i 1).isLt
  have hN : cfg1.N = 8 := N_1
  have ht : (i 1 : ℕ) / 128 < cfg1.N := by omega
  have h := ix1_4 ⟨(i 1 : ℕ) / 128, ht⟩
  refine ⟨⟨(i 1 : ℕ) / 128, ht⟩, flush1_4 _, ?_⟩
  show i ∈ ((View.whole main_v1).slice (win1_4.rect ⟨(i 1 : ℕ) / 128, ht⟩)).set
  rw [View.set_slice_whole]
  refine mem_unit2 _ _ _ i ?_ ?_
  · show win1_4.index ⟨_, ht⟩ 0 * 2048 ≤ (i 0 : ℕ) ∧ (i 0 : ℕ) < win1_4.index ⟨_, ht⟩ 0 * 2048 + 2048
    rw [h.1]; omega
  · show win1_4.index ⟨_, ht⟩ 1 * 128 ≤ (i 1 : ℕ) ∧ (i 1 : ℕ) < win1_4.index ⟨_, ht⟩ 1 * 128 + 128
    rw [h.2]; dsimp only; omega

/-- The result array after the region. -/
theorem final1_4 : (dat1 V c).arrAt 4 cfg1.N = gateF (V c main_v0) (V c main_arg3) :=
  (dat1 V c).arrAt_eq_of_cover 4 (gateF (V c main_v0) (V c main_arg3)) (fun t _ => flushed1_4 V c t) cover1_4

/-! ## Region 2: the output projection -/

theorem ix2_0 : ∀ t : Fin grid2.N, win2_0.index t 0 = 0 ∧ win2_0.index t 1 = 0 := by decide +kernel
theorem ix2_1 : ∀ t : Fin grid2.N, win2_1.index t 0 = 0 ∧ win2_1.index t 1 = 0 := by decide +kernel
theorem ix2_2 : ∀ t : Fin grid2.N, win2_2.index t 0 = 0 ∧ win2_2.index t 1 = 0 := by decide +kernel

/-- What the body stores, from the blocks it loads. -/
theorem pay2 (x : FVec Ideal S2048x1024 .bf16) (y : FVec Ideal S1024x1024 .bf16) (j : S2048x1024.Idx) :
    k2_pay1 (F := Ideal) x y j = mmNN x y j := by
  have h : matmul dot_S2048x1024_S1024x1024_S2048x1024_1_0_0_1_n_n none x y (constant S2048x1024 .f32 0x00000000#32) = mmNN x y :=
    matmul_NN _ rfl none x y
  unfold k2_pay1
  rw [shapeCast_self, h]

/-- What point `t` writes back is its block of the region's function. -/
theorem flushed2 (t : Fin cfg2.N) :
    (dat2 V c).flushed 2 t = (win2_2.blk t).view.read (Elt Ideal) (mmNN (V c main_v1) (V c main_arg4)) := by
  show (cfg2.win 2).cut (grid2.coords t) ((dat2 V c).after 2 t) = _
  rw [after2_2]
  unfold out2_2
  rw [View.canon_unit_zero hz, View.ld_unit_zero hz, View.ld_unit_zero hz]
  funext j
  show k2_pay1 (F := Ideal) (iblk2 V c 0 t) (iblk2 V c 1 t) j = (mmNN (V c main_v1) (V c main_arg4)) ((win2_2.rect t).emb j)
  rw [pay2]
  have h0 := ix2_0 t
  have h1 := ix2_1 t
  have h2 := ix2_2 t
  have e : mmNN (iblk2 V c 0 t) (iblk2 V c 1 t) j = mmNN (V c main_v1) (V c main_arg4) ((win2_2.rect t).emb j) := by
    refine mmNN_block _ _ _ _ j _ (fun k => congrArg (V c main_v1) (Shape.idx_ext₂ ?_ ?_))
      (fun k => congrArg (V c main_arg4) (Shape.idx_ext₂ ?_ ?_))
    · exact (emb_val win2_0 t _ 0 _ 2048 h0.1 rfl rfl).trans (emb_val win2_2 t j 0 _ 2048 h2.1 rfl rfl).symm
    · exact (emb_val win2_0 t _ 1 _ 1024 h0.2 rfl rfl).trans (by show 0 * 1024 + k.val = k.val; omega)
    · exact (emb_val win2_1 t _ 0 _ 1024 h1.1 rfl rfl).trans (by show 0 * 1024 + k.val = k.val; omega)
    · exact (emb_val win2_1 t _ 1 _ 1024 h1.2 rfl rfl).trans (emb_val win2_2 t j 1 _ 1024 h2.2 rfl rfl).symm
  rw [e]

/-- The blocks tile the result. -/
theorem cover2 (i : S2048x1024.Idx) :
    ∃ t : Fin cfg2.N, (cfg2.win 2).flush t = true ∧ i ∈ ((cfg2.win 2).blk t).view.set := by
  have b0 : (i 0 : ℕ) < 2048 := (i 0).isLt
  have b1 : (i 1 : ℕ) < 1024 := (i 1).isLt
  have hN : cfg2.N = 1 := N_2
  have ht : 0 < cfg2.N := by omega
  have h := ix2_2 ⟨0, ht⟩
  refine ⟨⟨0, ht⟩, flush2_2 _, ?_⟩
  show i ∈ ((View.whole main_v2).slice (win2_2.rect ⟨0, ht⟩)).set
  rw [View.set_slice_whole]
  refine mem_unit2 _ _ _ i ?_ ?_
  · show win2_2.index ⟨_, ht⟩ 0 * 2048 ≤ (i 0 : ℕ) ∧ (i 0 : ℕ) < win2_2.index ⟨_, ht⟩ 0 * 2048 + 2048
    rw [h.1]; dsimp only; omega
  · show win2_2.index ⟨_, ht⟩ 1 * 1024 ≤ (i 1 : ℕ) ∧ (i 1 : ℕ) < win2_2.index ⟨_, ht⟩ 1 * 1024 + 1024
    rw [h.2]; dsimp only; omega

/-- The result array after the region. -/
theorem final2 : (dat2 V c).arrAt 2 cfg2.N = mmNN (V c main_v1) (V c main_arg4) :=
  (dat2 V c).arrAt_eq_of_cover 2 (mmNN (V c main_v1) (V c main_arg4)) (fun t _ => flushed2 V c t) cover2

/-! ## Region 3: the gradient of the output projection -/

theorem ix3_0 : ∀ t : Fin grid3.N, win3_0.index t 0 = 0 ∧ win3_0.index t 1 = 0 := by decide +kernel
theorem ix3_1 : ∀ t : Fin grid3.N, win3_1.index t 0 = 0 ∧ win3_1.index t 1 = 0 := by decide +kernel
theorem ix3_2 : ∀ t : Fin grid3.N, win3_2.index t 0 = 0 ∧ win3_2.index t 1 = 0 := by decide +kernel

/-- What the body stores, from the blocks it loads. -/
theorem pay3 (x : FVec Ideal S2048x1024 .bf16) (y : FVec Ideal S2048x1024 .bf16) (j : S1024x1024.Idx) :
    k3_pay1 (F := Ideal) x y j = mmTN x y j := by
  have h : matmul dot_S2048x1024_S2048x1024_S1024x1024_0_0_1_1_n_n none x y (constant S1024x1024 .f32 0x00000000#32) = mmTN x y :=
    matmul_TN _ rfl none x y
  unfold k3_pay1
  rw [shapeCast_self, h]
  rfl

/-- What point `t` writes back is its block of the region's function. -/
theorem flushed3 (t : Fin cfg3.N) :
    (dat3 V c).flushed 2 t = (win3_2.blk t).view.read (Elt Ideal) (mmTN (V c main_v1) (V c main_arg1)) := by
  show (cfg3.win 2).cut (grid3.coords t) ((dat3 V c).after 2 t) = _
  rw [after3_2]
  unfold out3_2
  rw [View.canon_unit_zero hz, View.ld_unit_zero hz, View.ld_unit_zero hz]
  funext j
  show k3_pay1 (F := Ideal) (iblk3 V c 0 t) (iblk3 V c 1 t) j = (mmTN (V c main_v1) (V c main_arg1)) ((win3_2.rect t).emb j)
  rw [pay3]
  have h0 := ix3_0 t
  have h1 := ix3_1 t
  have h2 := ix3_2 t
  have e : mmTN (iblk3 V c 0 t) (iblk3 V c 1 t) j = mmTN (V c main_v1) (V c main_arg1) ((win3_2.rect t).emb j) := by
    refine mmTN_block _ _ _ _ j _ (fun k => congrArg (V c main_v1) (Shape.idx_ext₂ ?_ ?_))
      (fun k => congrArg (V c main_arg1) (Shape.idx_ext₂ ?_ ?_))
    · exact (emb_val win3_0 t _ 0 _ 2048 h0.1 rfl rfl).trans (by show 0 * 2048 + k.val = k.val; omega)
    · exact (emb_val win3_0 t _ 1 _ 1024 h0.2 rfl rfl).trans (emb_val win3_2 t j 0 _ 1024 h2.1 rfl rfl).symm
    · exact (emb_val win3_1 t _ 0 _ 2048 h1.1 rfl rfl).trans (by show 0 * 2048 + k.val = k.val; omega)
    · exact (emb_val win3_1 t _ 1 _ 1024 h1.2 rfl rfl).trans (emb_val win3_2 t j 1 _ 1024 h2.2 rfl rfl).symm
  rw [e]

/-- The blocks tile the result. -/
theorem cover3 (i : S1024x1024.Idx) :
    ∃ t : Fin cfg3.N, (cfg3.win 2).flush t = true ∧ i ∈ ((cfg3.win 2).blk t).view.set := by
  have b0 : (i 0 : ℕ) < 1024 := (i 0).isLt
  have b1 : (i 1 : ℕ) < 1024 := (i 1).isLt
  have hN : cfg3.N = 1 := N_3
  have ht : 0 < cfg3.N := by omega
  have h := ix3_2 ⟨0, ht⟩
  refine ⟨⟨0, ht⟩, flush3_2 _, ?_⟩
  show i ∈ ((View.whole main_v3).slice (win3_2.rect ⟨0, ht⟩)).set
  rw [View.set_slice_whole]
  refine mem_unit2 _ _ _ i ?_ ?_
  · show win3_2.index ⟨_, ht⟩ 0 * 1024 ≤ (i 0 : ℕ) ∧ (i 0 : ℕ) < win3_2.index ⟨_, ht⟩ 0 * 1024 + 1024
    rw [h.1]; dsimp only; omega
  · show win3_2.index ⟨_, ht⟩ 1 * 1024 ≤ (i 1 : ℕ) ∧ (i 1 : ℕ) < win3_2.index ⟨_, ht⟩ 1 * 1024 + 1024
    rw [h.2]; dsimp only; omega

/-- The result array after the region. -/
theorem final3 : (dat3 V c).arrAt 2 cfg3.N = mmTN (V c main_v1) (V c main_arg1) :=
  (dat3 V c).arrAt_eq_of_cover 2 (mmTN (V c main_v1) (V c main_arg1)) (fun t _ => flushed3 V c t) cover3

/-! ## Region 4: the gradient of the gated rows -/

theorem ix4_0 : ∀ t : Fin grid4.N, win4_0.index t 0 = 0 ∧ win4_0.index t 1 = 0 := by decide +kernel
theorem ix4_1 : ∀ t : Fin grid4.N, win4_1.index t 0 = 0 ∧ win4_1.index t 1 = 0 := by decide +kernel
theorem ix4_2 : ∀ t : Fin grid4.N, win4_2.index t 0 = 0 ∧ win4_2.index t 1 = 0 := by decide +kernel

/-- What the body stores, from the blocks it loads. -/
theorem pay4 (x : FVec Ideal S2048x1024 .bf16) (y : FVec Ideal S1024x1024 .bf16) (j : S2048x1024.Idx) :
    k4_pay1 (F := Ideal) x y j = mmNT x y j := by
  have h : matmul dot_S2048x1024_S1024x1024_S2048x1024_1_1_0_0_n_n none x y (constant S2048x1024 .f32 0x00000000#32) = mmNT x y :=
    matmul_NT _ rfl none x y
  unfold k4_pay1
  rw [h]

/-- What point `t` writes back is its block of the region's function. -/
theorem flushed4 (t : Fin cfg4.N) :
    (dat4 V c).flushed 2 t = (win4_2.blk t).view.read (Elt Ideal) (mmNT (V c main_arg1) (V c main_arg4)) := by
  show (cfg4.win 2).cut (grid4.coords t) ((dat4 V c).after 2 t) = _
  rw [after4_2]
  unfold out4_2
  rw [View.canon_unit_zero hz, View.ld_unit_zero hz, View.ld_unit_zero hz]
  funext j
  show k4_pay1 (F := Ideal) (iblk4 V c 0 t) (iblk4 V c 1 t) j = (mmNT (V c main_arg1) (V c main_arg4)) ((win4_2.rect t).emb j)
  rw [pay4]
  have h0 := ix4_0 t
  have h1 := ix4_1 t
  have h2 := ix4_2 t
  have e : mmNT (iblk4 V c 0 t) (iblk4 V c 1 t) j = mmNT (V c main_arg1) (V c main_arg4) ((win4_2.rect t).emb j) := by
    refine mmNT_block _ _ _ _ j _ (fun k => congrArg (V c main_arg1) (Shape.idx_ext₂ ?_ ?_))
      (fun k => congrArg (V c main_arg4) (Shape.idx_ext₂ ?_ ?_))
    · exact (emb_val win4_0 t _ 0 _ 2048 h0.1 rfl rfl).trans (emb_val win4_2 t j 0 _ 2048 h2.1 rfl rfl).symm
    · exact (emb_val win4_0 t _ 1 _ 1024 h0.2 rfl rfl).trans (by show 0 * 1024 + k.val = k.val; omega)
    · exact (emb_val win4_1 t _ 0 _ 1024 h1.1 rfl rfl).trans (emb_val win4_2 t j 1 _ 1024 h2.2 rfl rfl).symm
    · exact (emb_val win4_1 t _ 1 _ 1024 h1.2 rfl rfl).trans (by show 0 * 1024 + k.val = k.val; omega)
  rw [e]

/-- The blocks tile the result. -/
theorem cover4 (i : S2048x1024.Idx) :
    ∃ t : Fin cfg4.N, (cfg4.win 2).flush t = true ∧ i ∈ ((cfg4.win 2).blk t).view.set := by
  have b0 : (i 0 : ℕ) < 2048 := (i 0).isLt
  have b1 : (i 1 : ℕ) < 1024 := (i 1).isLt
  have hN : cfg4.N = 1 := N_4
  have ht : 0 < cfg4.N := by omega
  have h := ix4_2 ⟨0, ht⟩
  refine ⟨⟨0, ht⟩, flush4_2 _, ?_⟩
  show i ∈ ((View.whole main_v4).slice (win4_2.rect ⟨0, ht⟩)).set
  rw [View.set_slice_whole]
  refine mem_unit2 _ _ _ i ?_ ?_
  · show win4_2.index ⟨_, ht⟩ 0 * 2048 ≤ (i 0 : ℕ) ∧ (i 0 : ℕ) < win4_2.index ⟨_, ht⟩ 0 * 2048 + 2048
    rw [h.1]; dsimp only; omega
  · show win4_2.index ⟨_, ht⟩ 1 * 1024 ≤ (i 1 : ℕ) ∧ (i 1 : ℕ) < win4_2.index ⟨_, ht⟩ 1 * 1024 + 1024
    rw [h.2]; dsimp only; omega

/-- The result array after the region. -/
theorem final4 : (dat4 V c).arrAt 2 cfg4.N = mmNT (V c main_arg1) (V c main_arg4) :=
  (dat4 V c).arrAt_eq_of_cover 2 (mmNT (V c main_arg1) (V c main_arg4)) (fun t _ => flushed4 V c t) cover4

/-! ## Region 5: the gradient of the gated convolution -/

theorem ix5_0 : ∀ t : Fin grid5.N, win5_0.index t 0 = 0 ∧ win5_0.index t 1 = t.val := by decide +kernel
theorem ix5_1 : ∀ t : Fin grid5.N, win5_1.index t 0 = 0 ∧ win5_1.index t 1 = t.val := by decide +kernel
theorem ix5_2 : ∀ t : Fin grid5.N, win5_2.index t 0 = 0 ∧ win5_2.index t 1 = 8 + t.val := by decide +kernel
theorem ix5_3 : ∀ t : Fin grid5.N, win5_3.index t 0 = 0 ∧ win5_3.index t 1 = 16 + t.val := by decide +kernel
theorem ix5_4 : ∀ t : Fin grid5.N, win5_4.index t 0 = 0 ∧ win5_4.index t 1 = t.val := by decide +kernel
theorem ix5_5 : ∀ t : Fin grid5.N, win5_5.index t 0 = 0 ∧ win5_5.index t 1 = t.val := by decide +kernel
theorem ix5_6 : ∀ t : Fin grid5.N, win5_6.index t 0 = 0 ∧ win5_6.index t 1 = t.val := by decide +kernel
theorem ix5_7 : ∀ t : Fin grid5.N, win5_7.index t 0 = 0 ∧ win5_7.index t 1 = t.val := by decide +kernel
theorem ix5_8 : ∀ t : Fin grid5.N, win5_8.index t 0 = 0 ∧ win5_8.index t 1 = t.val := by decide +kernel

/-- The array column of column `q` of block `t`. -/
def col5 (t : Fin cfg5.N) (q : Fin 128) : Fin 1024 := ⟨t.val * 128 + q.val, by
  have h : t.val < 8 := lt_of_lt_of_eq t.isLt N_5
  omega⟩

/-- What point `t` writes back is its block of the region's function. -/
theorem flushed5_5 (t : Fin cfg5.N) :
    (dat5 V c).flushed 5 t = (win5_5.blk t).view.read (Elt Ideal) (dbF (V c main_v4) (V c main_v0) (V c main_arg3)) := by
  show (cfg5.win 5).cut (grid5.coords t) ((dat5 V c).after 5 t) = _
  rw [after5_5]
  unfold outsAt5
  dsimp only
  rw [Gate.dgate_b]
  funext j
  obtain ⟨r, q, rfl⟩ : ∃ (r : Fin 2048) (q : Fin 128), j = ix2 r q := ⟨_, _, eq_ix2 j⟩
  show (mul (iblk5 V c 0 t : Mat 2048 128) (causal (iblk5 V c 4 t : Mat 3 128) (Gate.had (iblk5 V c 2 t : Mat 2048 128) (iblk5 V c 3 t : Mat 2048 128)))) (ix2 r q) = (dbF (V c main_v4) (V c main_v0) (V c main_arg3)) ((win5_5.rect t).emb (ix2 r q))
  have eJ : (win5_5.rect t).emb (ix2 r q) = ix2 r (col5 t q) := Shape.idx_ext₂
    ((emb_val win5_5 t (ix2 r q) 0 _ 2048 (ix5_5 t).1 rfl rfl).trans (by show 0 * 2048 + r.val = r.val; omega))
    (emb_val win5_5 t (ix2 r q) 1 _ 128 (ix5_5 t).2 rfl rfl)
  have ed : ∀ r : Fin 2048, iblk5 V c 0 t (ix2 r q) = (V c main_v4) (ix2 r (col5 t q)) := fun r =>
    congrArg (V c main_v4) (Shape.idx_ext₂
      ((emb_val win5_0 t (ix2 r q) 0 _ 2048 (ix5_0 t).1 rfl rfl).trans (by show 0 * 2048 + r.val = r.val; omega))
      ((emb_val win5_0 t (ix2 r q) 1 _ 128 (ix5_0 t).2 rfl rfl).trans (by
        show t.val * 128 + q.val = t.val * 128 + q.val; omega)))
  have ec : ∀ r : Fin 2048, iblk5 V c 2 t (ix2 r q) = cOf (V c main_v0) (ix2 r (col5 t q)) := fun r =>
    congrArg (V c main_v0) (Shape.idx_ext₂
      ((emb_val win5_2 t (ix2 r q) 0 _ 2048 (ix5_2 t).1 rfl rfl).trans (by show 0 * 2048 + r.val = r.val; omega))
      ((emb_val win5_2 t (ix2 r q) 1 _ 128 (ix5_2 t).2 rfl rfl).trans (by
        show (8 + t.val) * 128 + q.val = 1024 + (t.val * 128 + q.val); omega)))
  have eh : ∀ r : Fin 2048, iblk5 V c 3 t (ix2 r q) = hOf (V c main_v0) (ix2 r (col5 t q)) := fun r =>
    congrArg (V c main_v0) (Shape.idx_ext₂
      ((emb_val win5_3 t (ix2 r q) 0 _ 2048 (ix5_3 t).1 rfl rfl).trans (by show 0 * 2048 + r.val = r.val; omega))
      ((emb_val win5_3 t (ix2 r q) 1 _ 128 (ix5_3 t).2 rfl rfl).trans (by
        show (16 + t.val) * 128 + q.val = 2048 + (t.val * 128 + q.val); omega)))
  have ew : ∀ r : Fin 3, iblk5 V c 4 t (ix2 r q) = (V c main_arg3) (ix2 r (col5 t q)) := fun r =>
    congrArg (V c main_arg3) (Shape.idx_ext₂
      ((emb_val win5_4 t (ix2 r q) 0 _ 3 (ix5_4 t).1 rfl rfl).trans (by show 0 * 3 + r.val = r.val; omega))
      ((emb_val win5_4 t (ix2 r q) 1 _ 128 (ix5_4 t).2 rfl rfl).trans (by
        show t.val * 128 + q.val = t.val * 128 + q.val; omega)))
  rw [eJ]
  exact congrArg₂ (fun a b : EReal => a * b) (ed r) (causal_block _ _ _ _ q (col5 t q) ew (fun r => congrArg₂ (fun a b : EReal => a * b) (ec r) (eh r)) r)

/-- The blocks tile the result. -/
theorem cover5_5 (i : S2048x1024.Idx) :
    ∃ t : Fin cfg5.N, (cfg5.win 5).flush t = true ∧ i ∈ ((cfg5.win 5).blk t).view.set := by
  have b0 : (i 0 : ℕ) < 2048 := (i 0).isLt
  have b1 : (i 1 : ℕ) < 1024 := (i 1).isLt
  have hN : cfg5.N = 8 := N_5
  have ht : (i 1 : ℕ) / 128 < cfg5.N := by omega
  have h := ix5_5 ⟨(i 1 : ℕ) / 128, ht⟩
  refine ⟨⟨(i 1 : ℕ) / 128, ht⟩, flush5_5 _, ?_⟩
  show i ∈ ((View.whole main_v5_0).slice (win5_5.rect ⟨(i 1 : ℕ) / 128, ht⟩)).set
  rw [View.set_slice_whole]
  refine mem_unit2 _ _ _ i ?_ ?_
  · show win5_5.index ⟨_, ht⟩ 0 * 2048 ≤ (i 0 : ℕ) ∧ (i 0 : ℕ) < win5_5.index ⟨_, ht⟩ 0 * 2048 + 2048
    rw [h.1]; omega
  · show win5_5.index ⟨_, ht⟩ 1 * 128 ≤ (i 1 : ℕ) ∧ (i 1 : ℕ) < win5_5.index ⟨_, ht⟩ 1 * 128 + 128
    rw [h.2]; dsimp only; omega

/-- The result array after the region. -/
theorem final5_5 : (dat5 V c).arrAt 5 cfg5.N = dbF (V c main_v4) (V c main_v0) (V c main_arg3) :=
  (dat5 V c).arrAt_eq_of_cover 5 (dbF (V c main_v4) (V c main_v0) (V c main_arg3)) (fun t _ => flushed5_5 V c t) cover5_5

/-- What point `t` writes back is its block of the region's function. -/
theorem flushed5_6 (t : Fin cfg5.N) :
    (dat5 V c).flushed 6 t = (win5_6.blk t).view.read (Elt Ideal) (dcF (V c main_v4) (V c main_v0) (V c main_arg3)) := by
  show (cfg5.win 6).cut (grid5.coords t) ((dat5 V c).after 6 t) = _
  rw [after5_6]
  unfold outsAt5
  dsimp only
  rw [Gate.dgate_c]
  funext j
  obtain ⟨r, q, rfl⟩ : ∃ (r : Fin 2048) (q : Fin 128), j = ix2 r q := ⟨_, _, eq_ix2 j⟩
  show (fun y => anti (iblk5 V c 4 t : Mat 3 128) (Gate.had (iblk5 V c 0 t : Mat 2048 128) (iblk5 V c 1 t : Mat 2048 128)) y * ((iblk5 V c 3 t : Mat 2048 128) y : EReal)) (ix2 r q) = (dcF (V c main_v4) (V c main_v0) (V c main_arg3)) ((win5_6.rect t).emb (ix2 r q))
  have eJ : (win5_6.rect t).emb (ix2 r q) = ix2 r (col5 t q) := Shape.idx_ext₂
    ((emb_val win5_6 t (ix2 r q) 0 _ 2048 (ix5_6 t).1 rfl rfl).trans (by show 0 * 2048 + r.val = r.val; omega))
    (emb_val win5_6 t (ix2 r q) 1 _ 128 (ix5_6 t).2 rfl rfl)
  have ed : ∀ r : Fin 2048, iblk5 V c 0 t (ix2 r q) = (V c main_v4) (ix2 r (col5 t q)) := fun r =>
    congrArg (V c main_v4) (Shape.idx_ext₂
      ((emb_val win5_0 t (ix2 r q) 0 _ 2048 (ix5_0 t).1 rfl rfl).trans (by show 0 * 2048 + r.val = r.val; omega))
      ((emb_val win5_0 t (ix2 r q) 1 _ 128 (ix5_0 t).2 rfl rfl).trans (by
        show t.val * 128 + q.val = t.val * 128 + q.val; omega)))
  have eb : ∀ r : Fin 2048, iblk5 V c 1 t (ix2 r q) = bOf (V c main_v0) (ix2 r (col5 t q)) := fun r =>
    congrArg (V c main_v0) (Shape.idx_ext₂
      ((emb_val win5_1 t (ix2 r q) 0 _ 2048 (ix5_1 t).1 rfl rfl).trans (by show 0 * 2048 + r.val = r.val; omega))
      ((emb_val win5_1 t (ix2 r q) 1 _ 128 (ix5_1 t).2 rfl rfl).trans (by
        show t.val * 128 + q.val = 0 + (t.val * 128 + q.val); omega)))
  have eh : ∀ r : Fin 2048, iblk5 V c 3 t (ix2 r q) = hOf (V c main_v0) (ix2 r (col5 t q)) := fun r =>
    congrArg (V c main_v0) (Shape.idx_ext₂
      ((emb_val win5_3 t (ix2 r q) 0 _ 2048 (ix5_3 t).1 rfl rfl).trans (by show 0 * 2048 + r.val = r.val; omega))
      ((emb_val win5_3 t (ix2 r q) 1 _ 128 (ix5_3 t).2 rfl rfl).trans (by
        show (16 + t.val) * 128 + q.val = 2048 + (t.val * 128 + q.val); omega)))
  have ew : ∀ r : Fin 3, iblk5 V c 4 t (ix2 r q) = (V c main_arg3) (ix2 r (col5 t q)) := fun r =>
    congrArg (V c main_arg3) (Shape.idx_ext₂
      ((emb_val win5_4 t (ix2 r q) 0 _ 3 (ix5_4 t).1 rfl rfl).trans (by show 0 * 3 + r.val = r.val; omega))
      ((emb_val win5_4 t (ix2 r q) 1 _ 128 (ix5_4 t).2 rfl rfl).trans (by
        show t.val * 128 + q.val = t.val * 128 + q.val; omega)))
  rw [eJ]
  exact congrArg₂ (fun a b : EReal => a * b) (anti_block _ _ _ _ q (col5 t q) ew (fun r => congrArg₂ (fun a b : EReal => a * b) (ed r) (eb r)) r) (eh r)

/-- The blocks tile the result. -/
theorem cover5_6 (i : S2048x1024.Idx) :
    ∃ t : Fin cfg5.N, (cfg5.win 6).flush t = true ∧ i ∈ ((cfg5.win 6).blk t).view.set := by
  have b0 : (i 0 : ℕ) < 2048 := (i 0).isLt
  have b1 : (i 1 : ℕ) < 1024 := (i 1).isLt
  have hN : cfg5.N = 8 := N_5
  have ht : (i 1 : ℕ) / 128 < cfg5.N := by omega
  have h := ix5_6 ⟨(i 1 : ℕ) / 128, ht⟩
  refine ⟨⟨(i 1 : ℕ) / 128, ht⟩, flush5_6 _, ?_⟩
  show i ∈ ((View.whole main_v5_1).slice (win5_6.rect ⟨(i 1 : ℕ) / 128, ht⟩)).set
  rw [View.set_slice_whole]
  refine mem_unit2 _ _ _ i ?_ ?_
  · show win5_6.index ⟨_, ht⟩ 0 * 2048 ≤ (i 0 : ℕ) ∧ (i 0 : ℕ) < win5_6.index ⟨_, ht⟩ 0 * 2048 + 2048
    rw [h.1]; omega
  · show win5_6.index ⟨_, ht⟩ 1 * 128 ≤ (i 1 : ℕ) ∧ (i 1 : ℕ) < win5_6.index ⟨_, ht⟩ 1 * 128 + 128
    rw [h.2]; dsimp only; omega

/-- The result array after the region. -/
theorem final5_6 : (dat5 V c).arrAt 6 cfg5.N = dcF (V c main_v4) (V c main_v0) (V c main_arg3) :=
  (dat5 V c).arrAt_eq_of_cover 6 (dcF (V c main_v4) (V c main_v0) (V c main_arg3)) (fun t _ => flushed5_6 V c t) cover5_6

/-- What point `t` writes back is its block of the region's function. -/
theorem flushed5_7 (t : Fin cfg5.N) :
    (dat5 V c).flushed 7 t = (win5_7.blk t).view.read (Elt Ideal) (dhF (V c main_v4) (V c main_v0) (V c main_arg3)) := by
  show (cfg5.win 7).cut (grid5.coords t) ((dat5 V c).after 7 t) = _
  rw [after5_7]
  unfold outsAt5
  dsimp only
  rw [Gate.dgate_h]
  funext j
  obtain ⟨r, q, rfl⟩ : ∃ (r : Fin 2048) (q : Fin 128), j = ix2 r q := ⟨_, _, eq_ix2 j⟩
  show (fun y => anti (iblk5 V c 4 t : Mat 3 128) (Gate.had (iblk5 V c 0 t : Mat 2048 128) (iblk5 V c 1 t : Mat 2048 128)) y * ((iblk5 V c 2 t : Mat 2048 128) y : EReal)) (ix2 r q) = (dhF (V c main_v4) (V c main_v0) (V c main_arg3)) ((win5_7.rect t).emb (ix2 r q))
  have eJ : (win5_7.rect t).emb (ix2 r q) = ix2 r (col5 t q) := Shape.idx_ext₂
    ((emb_val win5_7 t (ix2 r q) 0 _ 2048 (ix5_7 t).1 rfl rfl).trans (by show 0 * 2048 + r.val = r.val; omega))
    (emb_val win5_7 t (ix2 r q) 1 _ 128 (ix5_7 t).2 rfl rfl)
  have ed : ∀ r : Fin 2048, iblk5 V c 0 t (ix2 r q) = (V c main_v4) (ix2 r (col5 t q)) := fun r =>
    congrArg (V c main_v4) (Shape.idx_ext₂
      ((emb_val win5_0 t (ix2 r q) 0 _ 2048 (ix5_0 t).1 rfl rfl).trans (by show 0 * 2048 + r.val = r.val; omega))
      ((emb_val win5_0 t (ix2 r q) 1 _ 128 (ix5_0 t).2 rfl rfl).trans (by
        show t.val * 128 + q.val = t.val * 128 + q.val; omega)))
  have eb : ∀ r : Fin 2048, iblk5 V c 1 t (ix2 r q) = bOf (V c main_v0) (ix2 r (col5 t q)) := fun r =>
    congrArg (V c main_v0) (Shape.idx_ext₂
      ((emb_val win5_1 t (ix2 r q) 0 _ 2048 (ix5_1 t).1 rfl rfl).trans (by show 0 * 2048 + r.val = r.val; omega))
      ((emb_val win5_1 t (ix2 r q) 1 _ 128 (ix5_1 t).2 rfl rfl).trans (by
        show t.val * 128 + q.val = 0 + (t.val * 128 + q.val); omega)))
  have ec : ∀ r : Fin 2048, iblk5 V c 2 t (ix2 r q) = cOf (V c main_v0) (ix2 r (col5 t q)) := fun r =>
    congrArg (V c main_v0) (Shape.idx_ext₂
      ((emb_val win5_2 t (ix2 r q) 0 _ 2048 (ix5_2 t).1 rfl rfl).trans (by show 0 * 2048 + r.val = r.val; omega))
      ((emb_val win5_2 t (ix2 r q) 1 _ 128 (ix5_2 t).2 rfl rfl).trans (by
        show (8 + t.val) * 128 + q.val = 1024 + (t.val * 128 + q.val); omega)))
  have ew : ∀ r : Fin 3, iblk5 V c 4 t (ix2 r q) = (V c main_arg3) (ix2 r (col5 t q)) := fun r =>
    congrArg (V c main_arg3) (Shape.idx_ext₂
      ((emb_val win5_4 t (ix2 r q) 0 _ 3 (ix5_4 t).1 rfl rfl).trans (by show 0 * 3 + r.val = r.val; omega))
      ((emb_val win5_4 t (ix2 r q) 1 _ 128 (ix5_4 t).2 rfl rfl).trans (by
        show t.val * 128 + q.val = t.val * 128 + q.val; omega)))
  rw [eJ]
  exact congrArg₂ (fun a b : EReal => a * b) (anti_block _ _ _ _ q (col5 t q) ew (fun r => congrArg₂ (fun a b : EReal => a * b) (ed r) (eb r)) r) (ec r)

/-- The blocks tile the result. -/
theorem cover5_7 (i : S2048x1024.Idx) :
    ∃ t : Fin cfg5.N, (cfg5.win 7).flush t = true ∧ i ∈ ((cfg5.win 7).blk t).view.set := by
  have b0 : (i 0 : ℕ) < 2048 := (i 0).isLt
  have b1 : (i 1 : ℕ) < 1024 := (i 1).isLt
  have hN : cfg5.N = 8 := N_5
  have ht : (i 1 : ℕ) / 128 < cfg5.N := by omega
  have h := ix5_7 ⟨(i 1 : ℕ) / 128, ht⟩
  refine ⟨⟨(i 1 : ℕ) / 128, ht⟩, flush5_7 _, ?_⟩
  show i ∈ ((View.whole main_v5_2).slice (win5_7.rect ⟨(i 1 : ℕ) / 128, ht⟩)).set
  rw [View.set_slice_whole]
  refine mem_unit2 _ _ _ i ?_ ?_
  · show win5_7.index ⟨_, ht⟩ 0 * 2048 ≤ (i 0 : ℕ) ∧ (i 0 : ℕ) < win5_7.index ⟨_, ht⟩ 0 * 2048 + 2048
    rw [h.1]; omega
  · show win5_7.index ⟨_, ht⟩ 1 * 128 ≤ (i 1 : ℕ) ∧ (i 1 : ℕ) < win5_7.index ⟨_, ht⟩ 1 * 128 + 128
    rw [h.2]; dsimp only; omega

/-- The result array after the region. -/
theorem final5_7 : (dat5 V c).arrAt 7 cfg5.N = dhF (V c main_v4) (V c main_v0) (V c main_arg3) :=
  (dat5 V c).arrAt_eq_of_cover 7 (dhF (V c main_v4) (V c main_v0) (V c main_arg3)) (fun t _ => flushed5_7 V c t) cover5_7

/-- What point `t` writes back is its block of the region's function. -/
theorem flushed5_8 (t : Fin cfg5.N) :
    (dat5 V c).flushed 8 t = (win5_8.blk t).view.read (Elt Ideal) (dwF (V c main_v4) (V c main_v0)) := by
  show (cfg5.win 8).cut (grid5.coords t) ((dat5 V c).after 8 t) = _
  rw [after5_8]
  unfold outsAt5
  dsimp only
  rw [Gate.dgate_w]
  funext j
  obtain ⟨r, q, rfl⟩ : ∃ (r : Fin 3) (q : Fin 128), j = ix2 r q := ⟨_, _, eq_ix2 j⟩
  show (fun y => ∑ t' : Fin 2048, (Gate.had (iblk5 V c 0 t : Mat 2048 128) (iblk5 V c 1 t : Mat 2048 128)) (ix2 t' (y 1)) * lag (2 - (y 0 : ℕ)) (Gate.had (iblk5 V c 2 t : Mat 2048 128) (iblk5 V c 3 t : Mat 2048 128)) (ix2 t' (y 1))) (ix2 r q) = (dwF (V c main_v4) (V c main_v0)) ((win5_8.rect t).emb (ix2 r q))
  have eJ : (win5_8.rect t).emb (ix2 r q) = ix2 r (col5 t q) := Shape.idx_ext₂
    ((emb_val win5_8 t (ix2 r q) 0 _ 3 (ix5_8 t).1 rfl rfl).trans (by show 0 * 3 + r.val = r.val; omega))
    (emb_val win5_8 t (ix2 r q) 1 _ 128 (ix5_8 t).2 rfl rfl)
  have ed : ∀ r : Fin 2048, iblk5 V c 0 t (ix2 r q) = (V c main_v4) (ix2 r (col5 t q)) := fun r =>
    congrArg (V c main_v4) (Shape.idx_ext₂
      ((emb_val win5_0 t (ix2 r q) 0 _ 2048 (ix5_0 t).1 rfl rfl).trans (by show 0 * 2048 + r.val = r.val; omega))
      ((emb_val win5_0 t (ix2 r q) 1 _ 128 (ix5_0 t).2 rfl rfl).trans (by
        show t.val * 128 + q.val = t.val * 128 + q.val; omega)))
  have eb : ∀ r : Fin 2048, iblk5 V c 1 t (ix2 r q) = bOf (V c main_v0) (ix2 r (col5 t q)) := fun r =>
    congrArg (V c main_v0) (Shape.idx_ext₂
      ((emb_val win5_1 t (ix2 r q) 0 _ 2048 (ix5_1 t).1 rfl rfl).trans (by show 0 * 2048 + r.val = r.val; omega))
      ((emb_val win5_1 t (ix2 r q) 1 _ 128 (ix5_1 t).2 rfl rfl).trans (by
        show t.val * 128 + q.val = 0 + (t.val * 128 + q.val); omega)))
  have ec : ∀ r : Fin 2048, iblk5 V c 2 t (ix2 r q) = cOf (V c main_v0) (ix2 r (col5 t q)) := fun r =>
    congrArg (V c main_v0) (Shape.idx_ext₂
      ((emb_val win5_2 t (ix2 r q) 0 _ 2048 (ix5_2 t).1 rfl rfl).trans (by show 0 * 2048 + r.val = r.val; omega))
      ((emb_val win5_2 t (ix2 r q) 1 _ 128 (ix5_2 t).2 rfl rfl).trans (by
        show (8 + t.val) * 128 + q.val = 1024 + (t.val * 128 + q.val); omega)))
  have eh : ∀ r : Fin 2048, iblk5 V c 3 t (ix2 r q) = hOf (V c main_v0) (ix2 r (col5 t q)) := fun r =>
    congrArg (V c main_v0) (Shape.idx_ext₂
      ((emb_val win5_3 t (ix2 r q) 0 _ 2048 (ix5_3 t).1 rfl rfl).trans (by show 0 * 2048 + r.val = r.val; omega))
      ((emb_val win5_3 t (ix2 r q) 1 _ 128 (ix5_3 t).2 rfl rfl).trans (by
        show (16 + t.val) * 128 + q.val = 2048 + (t.val * 128 + q.val); omega)))
  rw [eJ]
  exact Finset.sum_congr rfl fun t' _ => congrArg₂ (fun a b : EReal => a * b) (congrArg₂ (fun a b : EReal => a * b) (ed t') (eb t'))
    (lag_block _ _ _ q (col5 t q) (fun r => congrArg₂ (fun a b : EReal => a * b) (ec r) (eh r)) t')

/-- The blocks tile the result. -/
theorem cover5_8 (i : S3x1024.Idx) :
    ∃ t : Fin cfg5.N, (cfg5.win 8).flush t = true ∧ i ∈ ((cfg5.win 8).blk t).view.set := by
  have b0 : (i 0 : ℕ) < 3 := (i 0).isLt
  have b1 : (i 1 : ℕ) < 1024 := (i 1).isLt
  have hN : cfg5.N = 8 := N_5
  have ht : (i 1 : ℕ) / 128 < cfg5.N := by omega
  have h := ix5_8 ⟨(i 1 : ℕ) / 128, ht⟩
  refine ⟨⟨(i 1 : ℕ) / 128, ht⟩, flush5_8 _, ?_⟩
  show i ∈ ((View.whole main_v5_3).slice (win5_8.rect ⟨(i 1 : ℕ) / 128, ht⟩)).set
  rw [View.set_slice_whole]
  refine mem_unit2 _ _ _ i ?_ ?_
  · show win5_8.index ⟨_, ht⟩ 0 * 3 ≤ (i 0 : ℕ) ∧ (i 0 : ℕ) < win5_8.index ⟨_, ht⟩ 0 * 3 + 3
    rw [h.1]; omega
  · show win5_8.index ⟨_, ht⟩ 1 * 128 ≤ (i 1 : ℕ) ∧ (i 1 : ℕ) < win5_8.index ⟨_, ht⟩ 1 * 128 + 128
    rw [h.2]; dsimp only; omega

/-- The result array after the region. -/
theorem final5_8 : (dat5 V c).arrAt 8 cfg5.N = dwF (V c main_v4) (V c main_v0) :=
  (dat5 V c).arrAt_eq_of_cover 8 (dwF (V c main_v4) (V c main_v0)) (fun t _ => flushed5_8 V c t) cover5_8

/-! ## Region 6: the gradient of the input projection, stored by device -/

theorem ix6_0 : ∀ t : Fin grid6.N, win6_0.index t 0 = 0 ∧ win6_0.index t 1 = 0 := by decide +kernel
theorem ix6_1 : ∀ t : Fin grid6.N, win6_1.index t 0 = 0 ∧ win6_1.index t 1 = t.val := by decide +kernel
theorem ix6_2 : ∀ t : Fin grid6.N, win6_2.index t 0 = t.val ∧ win6_2.index t 1 = 0 ∧ win6_2.index t 2 = 0 := by
  decide +kernel

/-- What the body stores, from the blocks it loads. -/
theorem pay6 (x : FVec Ideal S2048x1024 .bf16) (y : FVec Ideal S2048x384 .bf16) (a : Fin 1) (r : Fin 1024) (q : Fin 384) :
    k6_pay1 (F := Ideal) x y (ix3 a r q) = mmTN x y (ix2 r q) := by
  have h : matmul dot_S2048x1024_S2048x384_S1024x384_0_0_1_1_n_n none x y (constant S1024x384 .f32 0x00000000#32) = mmTN x y :=
    matmul_TN _ rfl none x y
  unfold k6_pay1
  rw [shapeCast_self, h]
  exact (shapeCast_addUnit_apply ![1024, 384] _ _ (ix3 a r q)).trans rfl

/-- What point `t` writes back is its block of the region's function. -/
theorem flushed6 (t : Fin cfg6.N) :
    (dat6 V c).flushed 2 t = (win6_2.blk t).view.read (Elt Ideal) (dwinF (V c main_arg0) (V c main_v6)) := by
  show (cfg6.win 2).cut (grid6.coords t) ((dat6 V c).after 2 t) = _
  rw [after6_2]
  unfold out6_2
  rw [View.canon_unit_zero hz3, View.ld_unit_zero hz, View.ld_unit_zero hz]
  funext j
  obtain ⟨a, r, q, rfl⟩ : ∃ (a : Fin 1) (r : Fin 1024) (q : Fin 384), j = ix3 a r q := ⟨_, _, _, eq_ix3 j⟩
  show k6_pay1 (F := Ideal) (iblk6 V c 0 t) (iblk6 V c 1 t) (ix3 a r q)
    = dwinF (V c main_arg0) (V c main_v6) ((win6_2.rect t).emb (ix3 a r q))
  rw [pay6]
  have h0 := ix6_0 t
  have h1 := ix6_1 t
  have h2 := ix6_2 t
  have ha : a.val = 0 := by omega
  have o0 := emb_val win6_2 t (ix3 a r q) 0 _ 1 h2.1 rfl rfl
  have o1 := emb_val win6_2 t (ix3 a r q) 1 _ 1024 h2.2.1 rfl rfl
  have o2 := emb_val win6_2 t (ix3 a r q) 2 _ 384 h2.2.2 rfl rfl
  refine mmTN_block _ _ _ _ (ix2 r q) _ (fun k => congrArg (V c main_arg0) (Shape.idx_ext₂ ?_ ?_))
    (fun k => congrArg (V c main_v6) (Shape.idx_ext₂ ?_ ?_))
  · exact (emb_val win6_0 t _ 0 _ 2048 h0.1 rfl rfl).trans (by show 0 * 2048 + k.val = k.val; omega)
  · exact (emb_val win6_0 t _ 1 _ 1024 h0.2 rfl rfl).trans o1.symm
  · exact (emb_val win6_1 t _ 0 _ 2048 h1.1 rfl rfl).trans (by show 0 * 2048 + k.val = k.val; omega)
  · refine (emb_val win6_1 t _ 1 _ 384 h1.2 rfl rfl).trans ?_
    show t.val * 384 + q.val = ((win6_2.rect t).emb (ix3 a r q) 0 : ℕ) * 384 + ((win6_2.rect t).emb (ix3 a r q) 2 : ℕ)
    rw [o0, o2]
    show t.val * 384 + q.val = (t.val * 1 + a.val) * 384 + (0 * 384 + q.val)
    omega

/-- The blocks tile the result. -/
theorem cover6 (i : S8x1024x384.Idx) :
    ∃ t : Fin cfg6.N, (cfg6.win 2).flush t = true ∧ i ∈ ((cfg6.win 2).blk t).view.set := by
  have b0 : (i 0 : ℕ) < 8 := (i 0).isLt
  have b1 : (i 1 : ℕ) < 1024 := (i 1).isLt
  have b2 : (i 2 : ℕ) < 384 := (i 2).isLt
  have hN : cfg6.N = 8 := N_6
  have ht : (i 0 : ℕ) < cfg6.N := by omega
  have h := ix6_2 ⟨(i 0 : ℕ), ht⟩
  refine ⟨⟨(i 0 : ℕ), ht⟩, flush6_2 _, ?_⟩
  show i ∈ ((View.whole main_v7).slice (win6_2.rect ⟨(i 0 : ℕ), ht⟩)).set
  rw [View.set_slice_whole, Rect.mem_set_unit]
  intro a
  match a with
  | ⟨0, _⟩ =>
    show win6_2.index ⟨_, ht⟩ 0 * 1 ≤ (i 0 : ℕ) ∧ (i 0 : ℕ) < win6_2.index ⟨_, ht⟩ 0 * 1 + 1
    rw [h.1]; dsimp only; omega
  | ⟨1, _⟩ =>
    show win6_2.index ⟨_, ht⟩ 1 * 1024 ≤ (i 1 : ℕ) ∧ (i 1 : ℕ) < win6_2.index ⟨_, ht⟩ 1 * 1024 + 1024
    rw [h.2.1]; omega
  | ⟨2, _⟩ =>
    show win6_2.index ⟨_, ht⟩ 2 * 384 ≤ (i 2 : ℕ) ∧ (i 2 : ℕ) < win6_2.index ⟨_, ht⟩ 2 * 384 + 384
    rw [h.2.2]; omega

/-- The result array after the region. -/
theorem final6 : (dat6 V c).arrAt 2 cfg6.N = dwinF (V c main_arg0) (V c main_v6) :=
  (dat6 V c).arrAt_eq_of_cover 2 (dwinF (V c main_arg0) (V c main_v6)) (fun t _ => flushed6 V c t) cover6

/-! ## Region 7: the gradient of the input -/

theorem ix7_0 : ∀ t : Fin grid7.N, win7_0.index t 0 = t.val / 2 ∧ win7_0.index t 1 = 0 := by decide +kernel
theorem ix7_1 : ∀ t : Fin grid7.N, win7_1.index t 0 = t.val % 2 ∧ win7_1.index t 1 = 0 := by decide +kernel
theorem ix7_2 : ∀ t : Fin grid7.N, win7_2.index t 0 = t.val / 2 ∧ win7_2.index t 1 = t.val % 2 := by decide +kernel
theorem ix7_3 : ∀ t : Fin grid7.N, win7_3.index t 0 = t.val / 2 ∧ win7_3.index t 1 = t.val % 2 := by decide +kernel

/-- What the body stores, from the blocks it loads. -/
theorem pay7 (x : FVec Ideal S1024x3072 .bf16) (y : FVec Ideal S512x3072 .bf16) (r : FVec Ideal S1024x512 .f32) (j : S1024x512.Idx) :
    k7_pay1 (F := Ideal) x y r j = mmNT x y j + Ideal.ofBits .f32 0x3FD744FD#32 * r j := by
  have h : matmul dot_S1024x3072_S512x3072_S1024x512_1_1_0_0_n_n none x y (constant S1024x512 .f32 0x00000000#32) = mmNT x y :=
    matmul_NT _ rfl none x y
  unfold k7_pay1
  rw [shapeCast_self, h]
  rfl

/-- What point `t` writes back is its block of the region's function. -/
theorem flushed7 (t : Fin cfg7.N) :
    (dat7 V c).flushed 3 t = (win7_3.blk t).view.read (Elt Ideal) (dxF (V c main_v6) (V c main_arg2) (V c main_arg5)) := by
  show (cfg7.win 3).cut (grid7.coords t) ((dat7 V c).after 3 t) = _
  rw [after7_3]
  unfold out7_3
  rw [View.canon_unit_zero hz, View.ld_unit_zero hz, View.ld_unit_zero hz, View.ld_unit_zero hz]
  funext j
  show k7_pay1 (F := Ideal) (iblk7 V c 0 t) (iblk7 V c 1 t) (iblk7 V c 2 t) j = (dxF (V c main_v6) (V c main_arg2) (V c main_arg5)) ((win7_3.rect t).emb j)
  rw [pay7]
  have h0 := ix7_0 t
  have h1 := ix7_1 t
  have h2 := ix7_2 t
  have h3 := ix7_3 t
  have e : mmNT (iblk7 V c 0 t) (iblk7 V c 1 t) j = mmNT (V c main_v6) (V c main_arg2) ((win7_3.rect t).emb j) := by
    refine mmNT_block _ _ _ _ j _ (fun k => congrArg (V c main_v6) (Shape.idx_ext₂ ?_ ?_))
      (fun k => congrArg (V c main_arg2) (Shape.idx_ext₂ ?_ ?_))
    · exact (emb_val win7_0 t _ 0 _ 1024 h0.1 rfl rfl).trans (emb_val win7_3 t j 0 _ 1024 h3.1 rfl rfl).symm
    · exact (emb_val win7_0 t _ 1 _ 3072 h0.2 rfl rfl).trans (by show 0 * 3072 + k.val = k.val; omega)
    · exact (emb_val win7_1 t _ 0 _ 512 h1.1 rfl rfl).trans (emb_val win7_3 t j 1 _ 512 h3.2 rfl rfl).symm
    · exact (emb_val win7_1 t _ 1 _ 3072 h1.2 rfl rfl).trans (by show 0 * 3072 + k.val = k.val; omega)
  have e2 : iblk7 V c 2 t j = V c main_arg5 ((win7_3.rect t).emb j) :=
    congrArg (V c main_arg5) (Shape.idx_ext₂
      ((emb_val win7_2 t j 0 _ 1024 h2.1 rfl rfl).trans (emb_val win7_3 t j 0 _ 1024 h3.1 rfl rfl).symm)
      ((emb_val win7_2 t j 1 _ 512 h2.2 rfl rfl).trans (emb_val win7_3 t j 1 _ 512 h3.2 rfl rfl).symm))
  rw [e, e2]
  rfl

/-- The blocks tile the result. -/
theorem cover7 (i : S2048x1024.Idx) :
    ∃ t : Fin cfg7.N, (cfg7.win 3).flush t = true ∧ i ∈ ((cfg7.win 3).blk t).view.set := by
  have b0 : (i 0 : ℕ) < 2048 := (i 0).isLt
  have b1 : (i 1 : ℕ) < 1024 := (i 1).isLt
  have hN : cfg7.N = 4 := N_7
  have ht : (i 0 : ℕ) / 1024 * 2 + (i 1 : ℕ) / 512 < cfg7.N := by omega
  have h := ix7_3 ⟨(i 0 : ℕ) / 1024 * 2 + (i 1 : ℕ) / 512, ht⟩
  refine ⟨⟨(i 0 : ℕ) / 1024 * 2 + (i 1 : ℕ) / 512, ht⟩, flush7_3 _, ?_⟩
  show i ∈ ((View.whole main_v8).slice (win7_3.rect ⟨(i 0 : ℕ) / 1024 * 2 + (i 1 : ℕ) / 512, ht⟩)).set
  rw [View.set_slice_whole]
  refine mem_unit2 _ _ _ i ?_ ?_
  · show win7_3.index ⟨_, ht⟩ 0 * 1024 ≤ (i 0 : ℕ) ∧ (i 0 : ℕ) < win7_3.index ⟨_, ht⟩ 0 * 1024 + 1024
    rw [h.1]; dsimp only; omega
  · show win7_3.index ⟨_, ht⟩ 1 * 512 ≤ (i 1 : ℕ) ∧ (i 1 : ℕ) < win7_3.index ⟨_, ht⟩ 1 * 512 + 512
    rw [h.2]; dsimp only; omega

/-- The result array after the region. -/
theorem final7 : (dat7 V c).arrAt 3 cfg7.N = dxF (V c main_v6) (V c main_arg2) (V c main_arg5) :=
  (dat7 V c).arrAt_eq_of_cover 3 (dxF (V c main_v6) (V c main_arg2) (V c main_arg5)) (fun t _ => flushed7 V c t) cover7

end Cert.Sc3Ideal.Arrays

end
-- ==== Proof.HostRows.lean ====
/-
  THE HOST'S ROW OPERATIONS AT AN INDEX: slices of columns and of rows, rows padded with zeros, two zero rows put on top,
  a row of taps spread down an array, a sum down the rows; and jax's causal convolution of three taps, with its gradients,
  put together from them.
-/
module

public import proofs.«01_k».proof.Proof.ScMath
public import Idealize.ShloMosaic.Lib.IdealHost
public import Idealize.ShloMosaic.Lib.KernelVsHost

@[expose] public section

set_option maxRecDepth 16384

noncomputable section

namespace Cert.HostRows

open Cert.Products Cert.Conv Cert.ScMath
open Idealize.ShloMosaic Idealize.ShloMosaic.ValueIdx

abbrev S0 : Shape := ⟨0, ![]⟩

variable {R C : ℕ}

/-- A host constant zero spread over an array. -/
theorem zeros_apply {T : Shape} (h : S0.BroadcastsInDim T ![]) (j : T.Idx) :
    broadcastInDim T ![] h (constant (F := Ideal) S0 .f32 0x00000000#32) j = (0 : EReal) := by
  rw [broadcastInDim_scalar_apply]
  exact Ideal.ofBits_zero_f32

/-- Rows `a …` of an array. -/
theorem rows_apply {n m : ℕ} (a : ℕ) (x : Mat n C) (h : (⟨2, ![n, C]⟩ : Shape).Slices ![a, 0] ⟨2, ![m, C]⟩)
    (r : Fin m) (q : Fin C) (hr : a + r.val < n) :
    extractStridedSlice ⟨2, ![m, C]⟩ ![a, 0] x h (ix2 r q) = x (ix2 ⟨a + r.val, hr⟩ q) :=
  extractStridedSlice_apply _ x h _ _ (by
    intro i
    match i with
    | ⟨0, _⟩ => rfl
    | ⟨1, _⟩ => exact (Nat.zero_add _).symm)

/-- Columns `o …` of an array. -/
theorem slice_cols (o : ℕ) (ho : o + 1024 ≤ 3072) (U : Mat 2048 3072)
    (h : (⟨2, ![2048, 3072]⟩ : Shape).Slices ![0, o] ⟨2, ![2048, 1024]⟩) :
    extractStridedSlice ⟨2, ![2048, 1024]⟩ ![0, o] U h = cols o ho U := by
  funext j
  exact extractStridedSlice_apply _ U h _ _ (by
    intro i
    match i with
    | ⟨0, _⟩ => exact (Nat.zero_add _).symm
    | ⟨1, _⟩ => rfl)

/-- Row `i` of the taps, spread down an array. -/
theorem tap_apply (i : ℕ) (hi : i < 3) (w : Mat 3 C) (hs : (⟨2, ![3, C]⟩ : Shape).Slices ![i, 0] ⟨2, ![1, C]⟩)
    (hc : (⟨2, ![1, C]⟩ : Shape).ShapeCasts ⟨1, ![C]⟩) (hb : (⟨1, ![C]⟩ : Shape).BroadcastsInDim ⟨2, ![1, C]⟩ ![1])
    (hb2 : (⟨2, ![1, C]⟩ : Shape).BroadcastsInDim ⟨2, ![R, C]⟩ ![0, 1]) (r : Fin R) (q : Fin C) :
    broadcastInDim ⟨2, ![R, C]⟩ ![0, 1] hb2 (broadcastInDim ⟨2, ![1, C]⟩ ![1] hb
      (shapeCast ⟨1, ![C]⟩ (extractStridedSlice ⟨2, ![1, C]⟩ ![i, 0] w hs) hc)) (ix2 r q) = w (ix2 ⟨i, hi⟩ q) := by
  rw [broadcastInDim_oneRow_apply, broadcastInDim_apply ![1] hb _ (ix2 (0 : Fin 1) q) (ix1 q) (by
      intro a
      match a with
      | ⟨0, _⟩ =>
        show q.val = if C = 1 then 0 else q.val
        split
        · have := q.isLt; omega
        · rfl),
    shapeCast_1a_a_apply]
  exact rows_apply i w hs 0 q hi

/-- Two rows of zeros on top, cut again from row `a`: the array lagged by `2 - a`. -/
theorem shifted_apply (a : ℕ) (ha : a ≤ 2) (z : Mat 2 C) (hz : ∀ j, z j = 0) (p : Mat R C)
    (hc : Shape.Concatenates [(⟨2, ![2, C]⟩ : Shape), ⟨2, ![R, C]⟩] ⟨2, ![R + 2, C]⟩ 0)
    (hs : (⟨2, ![R + 2, C]⟩ : Shape).Slices ![a, 0] ⟨2, ![R, C]⟩) :
    extractStridedSlice ⟨2, ![R, C]⟩ ![a, 0] (concatenate ⟨2, ![R + 2, C]⟩ 0 [⟨⟨2, ![2, C]⟩, z⟩, ⟨⟨2, ![R, C]⟩, p⟩] hc) hs
      = lag (2 - a) p := by
  funext j
  obtain ⟨r, q, rfl⟩ : ∃ (r : Fin R) (q : Fin C), j = ix2 r q := ⟨_, _, eq_ix2 j⟩
  rw [rows_apply a _ hs r q (by omega)]
  unfold lag
  by_cases h : 2 - a ≤ r.val
  · rw [if_pos (show 2 - a ≤ ((ix2 r q : (⟨2, ![R, C]⟩ : Shape).Idx) 0 : ℕ) from h)]
    refine concatenate_pair_apply_right 0 z p hc _ rfl rfl (ix2 ⟨r.val - (2 - a), by omega⟩ q) ?_ ?_
    · intro b hb
      match b with
      | ⟨0, _⟩ => exact absurd rfl hb
      | ⟨1, _⟩ => rfl
    · show r.val - (2 - a) + 2 = a + r.val
      omega
  · rw [if_neg (show ¬ 2 - a ≤ ((ix2 r q : (⟨2, ![R, C]⟩ : Shape).Idx) 0 : ℕ) from h)]
    rw [concatenate_pair_apply_left 0 z p hc _ rfl (ix2 ⟨a + r.val, by omega⟩ q) (by
      intro b
      match b with
      | ⟨0, _⟩ => rfl
      | ⟨1, _⟩ => rfl)]
    exact hz _

/-- Rows padded with a value above and below. -/
theorem pad_rows {n m l k : ℕ} (x : Mat n C) (v : S0.Idx → EReal)
    (h : (⟨2, ![n, C]⟩ : Shape).Pads ![l, 0] ![k, 0] ![0, 0] ⟨2, ![m, C]⟩) (hu : 0 < S0.numel) (a : Fin m) (q : Fin C) :
    pad ⟨2, ![m, C]⟩ ![l, 0] ![k, 0] ![0, 0] x v h hu (ix2 a q)
      = if hin : l ≤ a.val ∧ a.val - l < n then x (ix2 ⟨a.val - l, hin.2⟩ q) else v (Shape.Idx.first hu) := by
  split
  · next hin =>
    refine pad_apply_of_inside _ _ _ x v h hu _ _ ?_
    intro i
    match i with
    | ⟨0, _⟩ => show a.val = l + (a.val - l) * 1; omega
    | ⟨1, _⟩ => show q.val = 0 + q.val * 1; omega
  · next hin =>
    refine pad_apply_of_not_inside _ _ _ x v h hu _ 0 ?_
    intro hh
    have h1 : l ≤ a.val := hh.1
    have h2 : (a.val - l) / 1 < n := hh.2.2
    rw [Nat.div_one] at h2
    exact hin ⟨h1, h2⟩

/-- A sum down the rows. -/
theorem sum_rows {n : ℕ} (x : FVec Ideal ⟨2, ![n, C]⟩ .f32) (h' : (⟨2, ![n, C]⟩ : Shape).ReducesTo [0] ⟨1, ![C]⟩)
    (h : (⟨2, ![n, C]⟩ : Shape).Reduces [0] ⟨1, ![C]⟩) (hu : 0 < S0.numel) (q : Fin C) :
    Host.reduceAdd x (constant (F := Ideal) S0 .f32 0x00000000#32) h' hu (ix1 q) = ∑ t : Fin n, (x (ix2 t q) : EReal) := by
  rw [hostReduceAdd_apply, Ideal.hostReduceAdd_single h' h]
  show Ideal.ofBits .f32 0x00000000#32 + _ = _
  rw [Ideal.ofBits_zero_f32, zero_add]
  refine Finset.sum_congr rfl fun t _ => congrArg x ?_
  funext i
  match i with
  | ⟨0, _⟩ => rfl
  | ⟨1, _⟩ => rfl

/-- A sum down the rows, and again down the one row it leaves, kept as a row. -/
theorem sum_row {n : ℕ} (x : FVec Ideal ⟨2, ![n, C]⟩ .f32) (h' : (⟨2, ![n, C]⟩ : Shape).ReducesTo [0] ⟨1, ![C]⟩)
    (h : (⟨2, ![n, C]⟩ : Shape).Reduces [0] ⟨1, ![C]⟩) (h1' : (⟨2, ![1, C]⟩ : Shape).ReducesTo [0] ⟨1, ![C]⟩)
    (h1 : (⟨2, ![1, C]⟩ : Shape).Reduces [0] ⟨1, ![C]⟩) (hu : 0 < S0.numel)
    (hc : (⟨1, ![C]⟩ : Shape).ShapeCasts ⟨2, ![1, C]⟩) (hb : (⟨1, ![C]⟩ : Shape).BroadcastsInDim ⟨2, ![1, C]⟩ ![1])
    (u : Fin 1) (q : Fin C) :
    broadcastInDim ⟨2, ![1, C]⟩ ![1] hb (Host.reduceAdd (F := Ideal) (φ := .f32) (shapeCast ⟨2, ![1, C]⟩
      (Host.reduceAdd x (constant (F := Ideal) S0 .f32 0x00000000#32) h' hu) hc)
      (constant (F := Ideal) S0 .f32 0x00000000#32) h1' hu) (ix2 u q) = ∑ t : Fin n, (x (ix2 t q) : EReal) := by
  rw [broadcastInDim_apply ![1] hb _ (ix2 u q) (ix1 q) (by
      intro a
      match a with
      | ⟨0, _⟩ =>
        show q.val = if C = 1 then 0 else q.val
        split
        · have := q.isLt; omega
        · rfl),
    sum_rows _ h1' h1, Fin.sum_univ_one, shapeCast_a_1a_apply, sum_rows x h' h]

/-- Three arrays of 1024 columns put side by side. -/
theorem concat3 (x y z : Mat 2048 1024)
    (h : Shape.Concatenates [(⟨2, ![2048, 1024]⟩ : Shape), ⟨2, ![2048, 1024]⟩, ⟨2, ![2048, 1024]⟩] ⟨2, ![2048, 3072]⟩ 1) :
    concatenate ⟨2, ![2048, 3072]⟩ 1 [⟨⟨2, ![2048, 1024]⟩, x⟩, ⟨⟨2, ![2048, 1024]⟩, y⟩, ⟨⟨2, ![2048, 1024]⟩, z⟩] h = cat3 x y z := by
  funext j
  obtain ⟨r, q, rfl⟩ : ∃ (r : Fin 2048) (q : Fin 3072), j = ix2 r q := ⟨_, _, eq_ix2 j⟩
  unfold cat3
  have hoff : ∀ (k : Fin 1024) (b : Fin 2), Fin.cast rfl b ≠ (1 : Fin 2) →
      ((ix2 r k : (⟨2, ![2048, 1024]⟩ : Shape).Idx) b : ℕ) = ((ix2 r q : (⟨2, ![2048, 3072]⟩ : Shape).Idx) b : ℕ) := by
    intro k b hb
    match b with
    | ⟨0, _⟩ => rfl
    | ⟨1, _⟩ => exact absurd rfl hb
  split
  · next h0 =>
    exact concatenate_apply_piece 1 [⟨⟨2, ![2048, 1024]⟩, x⟩, ⟨⟨2, ![2048, 1024]⟩, y⟩, ⟨⟨2, ![2048, 1024]⟩, z⟩] h _ 0 (show 0 < 3 by omega) _ x rfl rfl 0 rfl (ix2 r ⟨q.val, h0⟩) (hoff _) (Nat.zero_add _)
  · next h0 =>
    split
    · next h1 =>
      refine concatenate_apply_piece 1 [⟨⟨2, ![2048, 1024]⟩, x⟩, ⟨⟨2, ![2048, 1024]⟩, y⟩, ⟨⟨2, ![2048, 1024]⟩, z⟩] h _ 1 (show 1 < 3 by omega) _ y rfl rfl 1024 rfl (ix2 r ⟨q.val - 1024, by have : q.val < 2048 := h1; omega⟩) (hoff _) ?_
      have h0' : ¬ q.val < 1024 := h0
      show 1024 + (q.val - 1024) = q.val
      omega
    · next h1 =>
      refine concatenate_apply_piece 1 [⟨⟨2, ![2048, 1024]⟩, x⟩, ⟨⟨2, ![2048, 1024]⟩, y⟩, ⟨⟨2, ![2048, 1024]⟩, z⟩] h _ 2 (show 2 < 3 by omega) _ z rfl rfl 2048 rfl (ix2 r ⟨q.val - 2048, by omega⟩) (hoff _) ?_
      have h1' : ¬ q.val < 2048 := h1
      show 2048 + (q.val - 2048) = q.val
      omega

end Cert.HostRows

end
-- ==== Proof.Sc3Run.lean ====
/-
  THE SHORT-CONVOLUTION MIXER'S RUN: the eight regions in order, every array at its contents after the last; then the five
  results read back through the regions to functions of the launch arguments (the name is the array and the boundary), and
  `run`, what the value claim takes from the kernel's side.
-/
module

public import proofs.«01_k».proof.Proof.Gen.Sc3Ideal.Frame
public import proofs.«01_k».proof.Proof.Sc3Arrays
public import proofs.«01_k».proof.Proof.HostRows
public import Idealize.ShloMosaic.Lib.StableHlo.Run

@[expose] public section

set_option maxRecDepth 16384

noncomputable section

namespace Cert.Sc3Ideal.Run

open Cert.Sc3Ideal Cert.Sc3Ideal.Gen Cert.Sc3Ideal.Arrays Cert.Products Cert.ScMath Cert.HostRows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with every array at its contents after the last segment. -/
theorem ends_at : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ c => h c)

/-! ## The boundaries at the extended reals, from the launch memory -/

section Chain

variable (m : (ℓ : Loc nD τ sig) → Buf (Elt Ideal) ℓ) (ρ : Dev nD → PrngReg) (c : Dev nD)

/-- The six arguments, as matrices: x, dy, the input projection, the taps, the output projection, the residual gradient. -/
abbrev x0 : Mat 2048 1024 := m ((c.tc : Thread nD τ).loc main_arg0)
abbrev dy0 : Mat 2048 1024 := m ((c.tc : Thread nD τ).loc main_arg1)
abbrev wi0 : Mat 1024 3072 := m ((c.tc : Thread nD τ).loc main_arg2)
abbrev cw0 : Mat 3 1024 := m ((c.tc : Thread nD τ).loc main_arg3)
abbrev wo0 : Mat 1024 1024 := m ((c.tc : Thread nD τ).loc main_arg4)
abbrev res0 : Mat 2048 1024 := m ((c.tc : Thread nD τ).loc main_arg5)
/-- The projected input, the gated rows, the gradient of the gated rows, the gradient of the projected input. -/
abbrev u0 : Mat 2048 3072 := mmNN (x0 m c) (wi0 m c)
abbrev g0 : Mat 2048 1024 := gateF (u0 m c) (cw0 m c)
abbrev dr0 : Mat 2048 1024 := mmNT (dy0 m c) (wo0 m c)
abbrev du0 : Mat 2048 3072 := duF (dr0 m c) (u0 m c) (cw0 m c)

theorem v0_1 : V1 m ρ c main_v0 = u0 m c := by
  refine ((W1_arr m ρ c 2).trans (final0 (V0 m ρ) c)).trans ?_
  rw [show V0 m ρ c main_arg0 = x0 m c from W0_args m ρ c main_arg0 (by decide),
    show V0 m ρ c main_arg2 = wi0 m c from W0_args m ρ c main_arg2 (by decide)]
theorem v0_2 : V2 m ρ c main_v0 = u0 m c := (W2_of m ρ c main_v0 (by decide)).trans (v0_1 m ρ c)
theorem v0_3 : V3 m ρ c main_v0 = u0 m c := (W3_of m ρ c main_v0 (by decide)).trans (v0_2 m ρ c)
theorem v0_4 : V4 m ρ c main_v0 = u0 m c := (W4_of m ρ c main_v0 (by decide)).trans (v0_3 m ρ c)
theorem v0_5 : V5 m ρ c main_v0 = u0 m c := (W5_of m ρ c main_v0 (by decide)).trans (v0_4 m ρ c)
theorem v1_2 : V2 m ρ c main_v1 = g0 m c := by
  refine ((W2_arr m ρ c 4).trans (final1_4 (V1 m ρ) c)).trans ?_
  rw [v0_1 m ρ c,
    show V1 m ρ c main_arg3 = cw0 m c from W1_args m ρ c main_arg3 (by decide)]
theorem v1_3 : V3 m ρ c main_v1 = g0 m c := (W3_of m ρ c main_v1 (by decide)).trans (v1_2 m ρ c)
theorem v2_3 : V3 m ρ c main_v2 = mmNN (g0 m c) (wo0 m c) := by
  refine ((W3_arr m ρ c 2).trans (final2 (V2 m ρ) c)).trans ?_
  rw [v1_2 m ρ c,
    show V2 m ρ c main_arg4 = wo0 m c from W2_args m ρ c main_arg4 (by decide)]
theorem v2_4 : V4 m ρ c main_v2 = mmNN (g0 m c) (wo0 m c) := (W4_of m ρ c main_v2 (by decide)).trans (v2_3 m ρ c)
theorem v2_5 : V5 m ρ c main_v2 = mmNN (g0 m c) (wo0 m c) := (W5_of m ρ c main_v2 (by decide)).trans (v2_4 m ρ c)
theorem v2_6 : V6 m ρ c main_v2 = mmNN (g0 m c) (wo0 m c) := (W6_of m ρ c main_v2 (by decide)).trans (v2_5 m ρ c)
theorem v2_7 : V7 m ρ c main_v2 = mmNN (g0 m c) (wo0 m c) := (W7_of m ρ c main_v2 (by decide)).trans (v2_6 m ρ c)
theorem v2_8 : V8 m ρ c main_v2 = mmNN (g0 m c) (wo0 m c) := (W8_of m ρ c main_v2 (by decide)).trans (v2_7 m ρ c)
theorem v2_9 : V9 m ρ c main_v2 = mmNN (g0 m c) (wo0 m c) := (W9_of m ρ c main_v2 (by decide)).trans (v2_8 m ρ c)
theorem v3_4 : V4 m ρ c main_v3 = mmTN (g0 m c) (dy0 m c) := by
  refine ((W4_arr m ρ c 2).trans (final3 (V3 m ρ) c)).trans ?_
  rw [v1_3 m ρ c,
    show V3 m ρ c main_arg1 = dy0 m c from W3_args m ρ c main_arg1 (by decide)]
theorem v3_5 : V5 m ρ c main_v3 = mmTN (g0 m c) (dy0 m c) := (W5_of m ρ c main_v3 (by decide)).trans (v3_4 m ρ c)
theorem v3_6 : V6 m ρ c main_v3 = mmTN (g0 m c) (dy0 m c) := (W6_of m ρ c main_v3 (by decide)).trans (v3_5 m ρ c)
theorem v3_7 : V7 m ρ c main_v3 = mmTN (g0 m c) (dy0 m c) := (W7_of m ρ c main_v3 (by decide)).trans (v3_6 m ρ c)
theorem v3_8 : V8 m ρ c main_v3 = mmTN (g0 m c) (dy0 m c) := (W8_of m ρ c main_v3 (by decide)).trans (v3_7 m ρ c)
theorem v3_9 : V9 m ρ c main_v3 = mmTN (g0 m c) (dy0 m c) := (W9_of m ρ c main_v3 (by decide)).trans (v3_8 m ρ c)
theorem v4_5 : V5 m ρ c main_v4 = dr0 m c := by
  refine ((W5_arr m ρ c 2).trans (final4 (V4 m ρ) c)).trans ?_
  rw [show V4 m ρ c main_arg1 = dy0 m c from W4_args m ρ c main_arg1 (by decide),
    show V4 m ρ c main_arg4 = wo0 m c from W4_args m ρ c main_arg4 (by decide)]
theorem v50_6 : V6 m ρ c main_v5_0 = dbF (dr0 m c) (u0 m c) (cw0 m c) := by
  refine ((W6_arr m ρ c 5).trans (final5_5 (V5 m ρ) c)).trans ?_
  rw [v4_5 m ρ c,
    v0_5 m ρ c,
    show V5 m ρ c main_arg3 = cw0 m c from W5_args m ρ c main_arg3 (by decide)]
theorem v51_6 : V6 m ρ c main_v5_1 = dcF (dr0 m c) (u0 m c) (cw0 m c) := by
  refine ((W6_arr m ρ c 6).trans (final5_6 (V5 m ρ) c)).trans ?_
  rw [v4_5 m ρ c,
    v0_5 m ρ c,
    show V5 m ρ c main_arg3 = cw0 m c from W5_args m ρ c main_arg3 (by decide)]
theorem v52_6 : V6 m ρ c main_v5_2 = dhF (dr0 m c) (u0 m c) (cw0 m c) := by
  refine ((W6_arr m ρ c 7).trans (final5_7 (V5 m ρ) c)).trans ?_
  rw [v4_5 m ρ c,
    v0_5 m ρ c,
    show V5 m ρ c main_arg3 = cw0 m c from W5_args m ρ c main_arg3 (by decide)]
theorem v53_6 : V6 m ρ c main_v5_3 = dwF (dr0 m c) (u0 m c) := by
  refine ((W6_arr m ρ c 8).trans (final5_8 (V5 m ρ) c)).trans ?_
  rw [v4_5 m ρ c,
    v0_5 m ρ c]
theorem v53_7 : V7 m ρ c main_v5_3 = dwF (dr0 m c) (u0 m c) := (W7_of m ρ c main_v5_3 (by decide)).trans (v53_6 m ρ c)
theorem v53_8 : V8 m ρ c main_v5_3 = dwF (dr0 m c) (u0 m c) := (W8_of m ρ c main_v5_3 (by decide)).trans (v53_7 m ρ c)
theorem v53_9 : V9 m ρ c main_v5_3 = dwF (dr0 m c) (u0 m c) := (W9_of m ρ c main_v5_3 (by decide)).trans (v53_8 m ρ c)
theorem v6_7 : V7 m ρ c main_v6 = du0 m c := by
  refine Eq.trans (b := concatenate S2048x3072 1 [⟨S2048x1024, V6 m ρ c main_v5_0⟩, ⟨S2048x1024, V6 m ρ c main_v5_1⟩,
    ⟨S2048x1024, V6 m ρ c main_v5_2⟩] facts.concatenates_S2048x1024_S2048x1024_S2048x1024_S2048x3072_d1) ?_ ?_
  · show StableHlo.after hostOps6 (W6 m ρ c) (Proc.devRef .tc main_v6) = _
    unfold hostOps6
    after_results_simp
    rfl
  · rw [v50_6 m ρ c, v51_6 m ρ c, v52_6 m ρ c]
    exact concat3 _ _ _ _
theorem v6_8 : V8 m ρ c main_v6 = du0 m c := (W8_of m ρ c main_v6 (by decide)).trans (v6_7 m ρ c)
theorem v7_8 : V8 m ρ c main_v7 = dwinF (x0 m c) (du0 m c) := by
  refine ((W8_arr m ρ c 2).trans (final6 (V7 m ρ) c)).trans ?_
  rw [v6_7 m ρ c,
    show V7 m ρ c main_arg0 = x0 m c from W7_args m ρ c main_arg0 (by decide)]
theorem v7_9 : V9 m ρ c main_v7 = dwinF (x0 m c) (du0 m c) := (W9_of m ρ c main_v7 (by decide)).trans (v7_8 m ρ c)
theorem v8_9 : V9 m ρ c main_v8 = dxF (du0 m c) (wi0 m c) (res0 m c) := by
  refine ((W9_arr m ρ c 3).trans (final7 (V8 m ρ) c)).trans ?_
  rw [v6_8 m ρ c,
    show V8 m ρ c main_arg2 = wi0 m c from W8_args m ρ c main_arg2 (by decide),
    show V8 m ρ c main_arg5 = res0 m c from W8_args m ρ c main_arg5 (by decide)]

/-- The kernel's run at the extended reals: the five results as functions of the arguments, the arguments unchanged. -/
theorem run : θ_run defs (onTc (τ := τ) (main (F := Ideal))) ⟨m, fun _ => 0, ρ⟩ (fun r => ∀ c : Dev nD,
      r.2.mem ((c.tc : Thread nD τ).loc main_v2) = mmNN (g0 m c) (wo0 m c)
      ∧ r.2.mem ((c.tc : Thread nD τ).loc main_v8) = dxF (du0 m c) (wi0 m c) (res0 m c)
      ∧ r.2.mem ((c.tc : Thread nD τ).loc main_v7) = dwinF (x0 m c) (du0 m c)
      ∧ r.2.mem ((c.tc : Thread nD τ).loc main_v5_3) = dwF (dr0 m c) (u0 m c)
      ∧ r.2.mem ((c.tc : Thread nD τ).loc main_v3) = mmTN (g0 m c) (dy0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v2 (by decide))).trans (v2_9 m ρ c),
     (h c _ (mem_uc main_v8 (by decide))).trans (v8_9 m ρ c),
     (h c _ (mem_uc main_v7 (by decide))).trans (v7_9 m ρ c),
     (h c _ (mem_uc main_v5_3 (by decide))).trans (v53_9 m ρ c),
     (h c _ (mem_uc main_v3 (by decide))).trans (v3_9 m ρ c),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c)⟩) (ends_at m ρ)

end Chain

end Cert.Sc3Ideal.Run

end
-- ==== Proof.ScEq.lean ====
/-
  THE SHORT-CONVOLUTION MIXER'S EQUATION: jax's own gradient of the gated causal convolution between two projections against
  the kernel's functions (ScMath.lean). jax pads rows where the kernel leads them, sums the taps' gradients row by row where
  the kernel writes them side by side, and contracts the weights' gradients the other way round. No entry need be finite:
  sums of extended reals may be reordered, and zero times anything is zero.
-/
module

public import proofs.«01_k».proof.Proof.HostRows
public import proofs.«01_k».proof.Proof.Gen.ScRefIdeal.Run

@[expose] public section

set_option maxRecDepth 16384

noncomputable section

namespace Cert.ScEq

open Cert.Products Cert.Conv Cert.ScMath Cert.HostRows Cert.ScRefIdeal
open Idealize.ShloMosaic Idealize.ShloMosaic.ValueIdx

variable (x dy : FVec Ideal S2048x1024 .f32) (wi : FVec Ideal S1024x3072 .f32) (cw : FVec Ideal S3x1024 .f32)
  (wo : FVec Ideal S1024x1024 .f32) (r : FVec Ideal S2048x1024 .f32) (U : FVec Ideal S2048x3072 .f32)
  (D : FVec Ideal S2048x1024 .f32)

/-! ## The forward -/

/-- The projected input and its three groups of columns. -/
abbrev rU : FVec Ideal S2048x3072 .f32 :=
  Host.dotGeneral (φ₁ := .f32) (φ₂ := .f32) dot_S2048x1024_S1024x3072_S2048x3072_1_0_0_1_n_n none x wi
abbrev rB : FVec Ideal S2048x1024 .f32 := extractStridedSlice S2048x1024 ![0, 0] U Gen.facts.slices_S2048x3072_S2048x1024_0_0
abbrev rC : FVec Ideal S2048x1024 .f32 := extractStridedSlice S2048x1024 ![0, 1024] U Gen.facts.slices_S2048x3072_S2048x1024_0_1024
abbrev rH : FVec Ideal S2048x1024 .f32 := extractStridedSlice S2048x1024 ![0, 2048] U Gen.facts.slices_S2048x3072_S2048x1024_0_2048
/-- Row `i` of the taps down an array. -/
abbrev rT (i : ℕ) (h : S3x1024.Slices ![i, 0] S1x1024) : FVec Ideal S2048x1024 .f32 :=
  broadcastInDim S2048x1024 ![0, 1] Gen.facts.bcast_S1x1024_S2048x1024_0_1 (broadcastInDim S1x1024 ![1] Gen.facts.bcast_S1024_S1x1024_1
    (shapeCast S1024 (extractStridedSlice S1x1024 ![i, 0] cw h) Gen.facts.shapeCasts_S1x1024_S1024))
/-- c · h with two rows of zeros on top, from row `i`. -/
abbrev rS (i : ℕ) (h : S2050x1024.Slices ![i, 0] S2048x1024) : FVec Ideal S2048x1024 .f32 :=
  extractStridedSlice S2048x1024 ![i, 0] (concatenate S2050x1024 0 [⟨S2x1024, broadcastInDim S2x1024 ![] Gen.facts.bcast_S_S2x1024
    (constant (F := Ideal) S_ .f32 0x00000000#32)⟩, ⟨S2048x1024, mulf (rC U) (rH U)⟩] Gen.facts.concatenates_S2x1024_S2048x1024_S2050x1024_d0) h
/-- The causal convolution of c · h. -/
abbrev rConv : FVec Ideal S2048x1024 .f32 :=
  addf (addf (addf (broadcastInDim S2048x1024 ![] Gen.facts.bcast_S_S2048x1024 (constant S_ .f32 0x00000000#32))
      (mulf (rT cw 0 Gen.facts.slices_S3x1024_S1x1024_0_0) (rS U 0 Gen.facts.slices_S2050x1024_S2048x1024_0_0)))
    (mulf (rT cw 1 Gen.facts.slices_S3x1024_S1x1024_1_0) (rS U 1 Gen.facts.slices_S2050x1024_S2048x1024_1_0)))
    (mulf (rT cw 2 Gen.facts.slices_S3x1024_S1x1024_2_0) (rS U 2 Gen.facts.slices_S2050x1024_S2048x1024_2_0))
/-- The gated rows. -/
abbrev rGate : FVec Ideal S2048x1024 .f32 := mulf (rB U) (rConv cw U)

theorem rU_eq : rU x wi = mmNN x wi := dot_NN dot_S2048x1024_S1024x3072_S2048x3072_1_0_0_1_n_n rfl none x wi
theorem rB_eq : rB U = bOf U := slice_cols 0 _ U _
theorem rC_eq : rC U = cOf U := slice_cols 1024 _ U _
theorem rH_eq : rH U = hOf U := slice_cols 2048 _ U _

theorem rS_eq (i : ℕ) (hi : i ≤ 2) (h) : rS U i h = lag (2 - i) (mul (cOf U) (hOf U)) := by
  unfold rS
  rw [rC_eq, rH_eq]
  exact shifted_apply (R := 2048) i hi _ (fun j => zeros_apply _ j) _ _ h

theorem rConv_eq : rConv cw U = causal cw (mul (cOf U) (hOf U)) := by
  unfold rConv
  rw [rS_eq U 0 (by omega), rS_eq U 1 (by omega), rS_eq U 2 (by omega)]
  funext j
  obtain ⟨a, q, rfl⟩ : ∃ (a : Fin 2048) (q : Fin 1024), j = ix2 a q := ⟨_, _, eq_ix2 j⟩
  show ((broadcastInDim S2048x1024 ![] _ (constant (F := Ideal) S_ .f32 0x00000000#32) (ix2 a q) : EReal)
    + rT cw 0 _ (ix2 a q) * lag 2 (mul (cOf U) (hOf U)) (ix2 a q)) + rT cw 1 _ (ix2 a q) * lag 1 (mul (cOf U) (hOf U)) (ix2 a q)
    + rT cw 2 _ (ix2 a q) * lag 0 (mul (cOf U) (hOf U)) (ix2 a q) = _
  rw [show broadcastInDim S2048x1024 ![] _ (constant (F := Ideal) S_ .f32 0x00000000#32) (ix2 a q) = (0 : EReal) from zeros_apply _ _, zero_add,
    show rT cw 0 _ (ix2 a q) = cw (ix2 0 q) from tap_apply 0 (by omega) cw _ _ _ _ a q,
    show rT cw 1 _ (ix2 a q) = cw (ix2 1 q) from tap_apply 1 (by omega) cw _ _ _ _ a q,
    show rT cw 2 _ (ix2 a q) = cw (ix2 2 q) from tap_apply 2 (by omega) cw _ _ _ _ a q]
  rfl

theorem rGate_eq : rGate cw U = gateF U cw := by
  unfold rGate
  rw [rB_eq, rConv_eq]
  rfl

/-! ## The backward -/

/-- The gradient of the gated rows. -/
abbrev rDr : FVec Ideal S2048x1024 .f32 :=
  Host.dotGeneral (φ₁ := .f32) (φ₂ := .f32) dot_S2048x1024_S1024x1024_S2048x1024_1_1_0_0_n_n none dy wo
/-- The gradient of the convolved rows. -/
abbrev rD : FVec Ideal S2048x1024 .f32 := mulf (rB U) D
/-- The gradient of c · h. -/
abbrev rP : FVec Ideal S2048x1024 .f32 :=
  extractStridedSlice S2048x1024 ![2, 0] (addf (addf
      (pad S2050x1024 ![2, 0] ![0, 0] ![0, 0] (mulf (rT cw 2 Gen.facts.slices_S3x1024_S1x1024_2_0) (rD U D)) (constant (F := Ideal) S_ .f32 0x00000000#32)
        Gen.facts.pads_S2048x1024_S2050x1024_200_000 Gen.facts.h_S_)
      (pad S2050x1024 ![1, 0] ![1, 0] ![0, 0] (mulf (rT cw 1 Gen.facts.slices_S3x1024_S1x1024_1_0) (rD U D)) (constant (F := Ideal) S_ .f32 0x00000000#32)
        Gen.facts.pads_S2048x1024_S2050x1024_110_000 Gen.facts.h_S_))
    (pad S2050x1024 ![0, 0] ![2, 0] ![0, 0] (mulf (rT cw 0 Gen.facts.slices_S3x1024_S1x1024_0_0) (rD U D)) (constant (F := Ideal) S_ .f32 0x00000000#32)
      Gen.facts.pads_S2048x1024_S2050x1024_020_000 Gen.facts.h_S_)) Gen.facts.slices_S2050x1024_S2048x1024_2_0
/-- The gradient of the projected input. -/
abbrev rDu : FVec Ideal S2048x3072 .f32 :=
  concatenate S2048x3072 1 [⟨S2048x1024, mulf D (rConv cw U)⟩, ⟨S2048x1024, mulf (rP cw U D) (rH U)⟩, ⟨S2048x1024, mulf (rC U) (rP cw U D)⟩]
    Gen.facts.concatenates_S2048x1024_S2048x1024_S2048x1024_S2048x3072_d1

theorem rDr_eq : rDr dy wo = mmNT dy wo := dot_NT dot_S2048x1024_S1024x1024_S2048x1024_1_1_0_0_n_n rfl none dy wo
theorem rD_eq : rD U D = mul D (bOf U) := by
  unfold rD
  rw [rB_eq]
  funext j
  exact mul_comm _ _

/-- One padded term of the gradient of c · h, from row 2: tap `2 - s` times the rows led by `s`. -/
theorem term_apply (s : ℕ) (hs : s ≤ 2) (h) (w : Mat 2048 1024) (a : Fin 2048) (q : Fin 1024)
    (hp : S2048x1024.Pads ![2 - s, 0] ![s, 0] ![0, 0] S2050x1024) :
    pad S2050x1024 ![2 - s, 0] ![s, 0] ![0, 0] (mulf (F := Ideal) (φ := .f32) (rT cw (2 - s) h) w) (constant (F := Ideal) S_ .f32 0x00000000#32) hp
      Gen.facts.h_S_ (ix2 ⟨2 + a.val, by omega⟩ q) = cw (ix2 ⟨2 - s, by omega⟩ q) * lead s w (ix2 a q) := by
  rw [pad_rows]
  by_cases hin : a.val + s < 2048
  · have e : (2 + a.val) - (2 - s) = a.val + s := by omega
    rw [dif_pos (show 2 - s ≤ 2 + a.val ∧ 2 + a.val - (2 - s) < 2048 from ⟨by omega, by omega⟩)]
    have hl : lead s w (ix2 a q) = w (ix2 ⟨a.val + s, hin⟩ q) := by
      unfold lead
      rw [dif_pos (show ((ix2 a q : S2048x1024.Idx) 0 : ℕ) + s < 2048 from hin)]
    rw [hl]
    have ei : (⟨2 + a.val - (2 - s), by omega⟩ : Fin 2048) = ⟨a.val + s, hin⟩ := Fin.ext e
    show mulf (F := Ideal) (φ := .f32) (rT cw (2 - s) h) w (ix2 ⟨2 + a.val - (2 - s), _⟩ q) = _
    rw [ei]
    show rT cw (2 - s) h (ix2 ⟨a.val + s, hin⟩ q) * w (ix2 ⟨a.val + s, hin⟩ q) = _
    rw [show rT cw (2 - s) h (ix2 ⟨a.val + s, hin⟩ q) = cw (ix2 ⟨2 - s, by omega⟩ q) from tap_apply (2 - s) (by omega) cw _ _ _ _ _ q]
  · rw [dif_neg (show ¬ (2 - s ≤ 2 + a.val ∧ 2 + a.val - (2 - s) < 2048) from fun hh => hin (by omega))]
    have hl : lead s w (ix2 a q) = 0 := by
      unfold lead
      rw [dif_neg (show ¬ ((ix2 a q : S2048x1024.Idx) 0 : ℕ) + s < 2048 from hin)]
    rw [hl, mul_zero]
    exact Ideal.ofBits_zero_f32

theorem rP_eq : rP cw U D = anti cw (mul D (bOf U)) := by
  unfold rP
  rw [rD_eq]
  funext j
  obtain ⟨a, q, rfl⟩ : ∃ (a : Fin 2048) (q : Fin 1024), j = ix2 a q := ⟨_, _, eq_ix2 j⟩
  rw [rows_apply 2 _ _ a q (by omega)]
  refine (congrArg₂ (fun s t : EReal => s + t) (congrArg₂ (fun s t : EReal => s + t) (term_apply cw 0 (by omega) _ (mul D (bOf U)) a q _)
    (term_apply cw 1 (by omega) _ (mul D (bOf U)) a q _)) (term_apply cw 2 (by omega) _ (mul D (bOf U)) a q _)).trans ?_
  show (cw (ix2 2 q) * lead 0 (mul D (bOf U)) (ix2 a q) + cw (ix2 1 q) * lead 1 (mul D (bOf U)) (ix2 a q))
      + cw (ix2 0 q) * lead 2 (mul D (bOf U)) (ix2 a q)
    = (cw (ix2 0 q) * lead 2 (mul D (bOf U)) (ix2 a q) + cw (ix2 1 q) * lead 1 (mul D (bOf U)) (ix2 a q))
      + cw (ix2 2 q) * lead 0 (mul D (bOf U)) (ix2 a q)
  rw [add_comm (cw (ix2 2 q) * lead 0 (mul D (bOf U)) (ix2 a q)), add_assoc, add_comm (cw (ix2 2 q) * lead 0 (mul D (bOf U)) (ix2 a q)),
    ← add_assoc, add_comm (cw (ix2 1 q) * lead 1 (mul D (bOf U)) (ix2 a q))]

theorem rDu_eq : rDu cw U D = duF D U cw := by
  unfold rDu
  rw [rP_eq, rConv_eq, rC_eq, rH_eq]
  refine (concat3 _ _ _ _).trans ?_
  unfold duF
  congr 1
  funext j
  exact mul_comm _ _

/-! ## The five results -/

/-- Result 1: the output. -/
theorem y_eq : Host.dotGeneral (φ₁ := .f32) (φ₂ := .f32) dot_S2048x1024_S1024x1024_S2048x1024_1_0_0_1_n_n none (rGate cw (rU x wi)) wo
    = mmNN (gateF (mmNN x wi) cw) wo := by
  rw [dot_NN dot_S2048x1024_S1024x1024_S2048x1024_1_0_0_1_n_n rfl none _ wo, rGate_eq, rU_eq]

/-- Result 2: the gradient of the input, the scaled residual added. -/
theorem dx_eq : addf (F := Ideal) (φ := .f32) (Host.dotGeneral (φ₁ := .f32) (φ₂ := .f32) dot_S2048x3072_S1024x3072_S2048x1024_1_1_0_0_n_n none
        (rDu cw (rU x wi) (rDr dy wo)) wi)
      (mulf (broadcastInDim S2048x1024 ![] Gen.facts.bcast_S_S2048x1024 (constant S_ .f32 0x3FD744FD#32)) r)
    = dxF (duF (mmNT dy wo) (mmNN x wi) cw) wi r := by
  rw [dot_NT dot_S2048x3072_S1024x3072_S2048x1024_1_1_0_0_n_n rfl none _ wi, rDu_eq, rU_eq, rDr_eq]
  funext j
  show mmNT _ wi j + broadcastInDim S2048x1024 ![] _ (constant (F := Ideal) S_ .f32 0x3FD744FD#32) j * r j = _
  rw [broadcastInDim_scalar_apply]
  rfl

/-- Result 3: the gradient of the input projection, its columns grouped by device. -/
theorem dwin_eq : transpose S8x1024x384 [1, 0, 2] (shapeCast S1024x8x384 (transpose S1024x3072 [1, 0]
        (Host.dotGeneral (φ₁ := .f32) (φ₂ := .f32) dot_S2048x3072_S2048x1024_S3072x1024_0_0_1_1_n_n none (rDu cw (rU x wi) (rDr dy wo)) x)
        Gen.facts.transposes_S3072x1024_S1024x3072_1_0) Gen.facts.shapeCasts_S1024x3072_S1024x8x384)
      Gen.facts.transposes_S1024x8x384_S8x1024x384_1_0_2 = dwinF x (duF (mmNT dy wo) (mmNN x wi) cw) := by
  rw [dot_TN dot_S2048x3072_S2048x1024_S3072x1024_0_0_1_1_n_n rfl none _ x, rDu_eq, rU_eq, rDr_eq]
  funext j
  obtain ⟨a, b, q, rfl⟩ : ∃ (a : Fin 8) (b : Fin 1024) (q : Fin 384), j = ix3 a b q := ⟨_, _, _, eq_ix3 j⟩
  have hq : a.val * 384 + q.val < 3072 := by omega
  rw [transpose_apply [1, 0, 2] _ _ (ix3 a b q) (ix3 b a q) (by intro p; fin_cases p <;> rfl),
    shapeCast_apply _ _ (ix3 b a q) (ix2 b ⟨a.val * 384 + q.val, hq⟩) (by
      rw [Shape.rowMajor_val_two, Shape.rowMajor_val_three]
      show b.val * 3072 + (a.val * 384 + q.val) = (b.val * 8 + a.val) * 384 + q.val
      omega),
    transpose_apply [1, 0] _ _ (ix2 b ⟨a.val * 384 + q.val, hq⟩) (ix2 ⟨a.val * 384 + q.val, hq⟩ b)
      (by intro p; fin_cases p <;> rfl), mmTN_swap]
  rfl

/-- One tap's row of the taps' gradient, in its place among the three. -/
abbrev rRow (i : ℕ) (h : S2050x1024.Slices ![i, 0] S2048x1024) (hp : S1x1024.Pads ![i, 0] ![2 - i, 0] ![0, 0] S3x1024) : FVec Ideal S3x1024 .f32 :=
  pad S3x1024 ![i, 0] ![2 - i, 0] ![0, 0] (broadcastInDim S1x1024 ![1] Gen.facts.bcast_S1024_S1x1024_1 (Host.reduceAdd (F := Ideal) (φ := .f32) (shapeCast S1x1024
      (Host.reduceAdd (F := Ideal) (φ := .f32) (mulf (rD U D) (rS U i h)) (constant S_ .f32 0x00000000#32) Gen.facts.reducesTo_S2048x1024_S1024_d0 Gen.facts.h_S_)
      Gen.facts.shapeCasts_S1024_S1x1024) (constant S_ .f32 0x00000000#32) Gen.facts.reducesTo_S1x1024_S1024_d0 Gen.facts.h_S_))
    (constant (F := Ideal) S_ .f32 0x00000000#32) hp Gen.facts.h_S_

theorem rRow_apply (i : ℕ) (hi : i ≤ 2) (h) (hp) (a : Fin 3) (q : Fin 1024) : rRow U D i h hp (ix2 a q)
    = if a.val = i then ∑ t : Fin 2048, mul D (bOf U) (ix2 t q) * lag (2 - i) (mul (cOf U) (hOf U)) (ix2 t q) else 0 := by
  unfold rRow
  rw [pad_rows]
  by_cases ha : a.val = i
  · rw [dif_pos (show i ≤ a.val ∧ a.val - i < 1 from ⟨by omega, by omega⟩), if_pos ha]
    refine (sum_row (n := 2048) (C := 1024) _ _ (by decide) _ (by decide) _ _ _ _ q).trans ?_
    rw [rD_eq, rS_eq U i hi]
    rfl
  · rw [dif_neg (show ¬ (i ≤ a.val ∧ a.val - i < 1) from fun hh => ha (by omega)), if_neg ha]
    exact Ideal.ofBits_zero_f32

/-- Result 4: the gradient of the taps. -/
theorem dconv_eq : addf (F := Ideal) (φ := .f32) (addf
        (rRow (rU x wi) (rDr dy wo) 2 Gen.facts.slices_S2050x1024_S2048x1024_2_0 Gen.facts.pads_S1x1024_S3x1024_200_000)
        (rRow (rU x wi) (rDr dy wo) 1 Gen.facts.slices_S2050x1024_S2048x1024_1_0 Gen.facts.pads_S1x1024_S3x1024_110_000))
      (rRow (rU x wi) (rDr dy wo) 0 Gen.facts.slices_S2050x1024_S2048x1024_0_0 Gen.facts.pads_S1x1024_S3x1024_020_000)
    = dwF (mmNT dy wo) (mmNN x wi) := by
  rw [rU_eq, rDr_eq]
  funext j
  obtain ⟨a, q, rfl⟩ : ∃ (a : Fin 3) (q : Fin 1024), j = ix2 a q := ⟨_, _, eq_ix2 j⟩
  refine (congrArg₂ (fun s t : EReal => s + t) (congrArg₂ (fun s t : EReal => s + t) (rRow_apply _ _ 2 (by omega) _ _ a q)
    (rRow_apply _ _ 1 (by omega) _ _ a q)) (rRow_apply _ _ 0 (by omega) _ _ a q)).trans ?_
  match a with
  | ⟨0, _⟩ => exact (congrArg₂ (fun s t : EReal => s + t) (add_zero 0) rfl).trans (zero_add _)
  | ⟨1, _⟩ => exact (add_zero _).trans (zero_add _)
  | ⟨2, _⟩ => exact (add_zero _).trans (add_zero _)

/-- Result 5: the gradient of the output projection. -/
theorem dwout_eq : transpose S1024x1024 [1, 0] (Host.dotGeneral (φ₁ := .f32) (φ₂ := .f32) dot_S2048x1024_S2048x1024_S1024x1024_0_0_1_1_n_n none dy
      (rGate cw (rU x wi))) Gen.facts.transposes_S1024x1024_S1024x1024_1_0 = mmTN (gateF (mmNN x wi) cw) dy := by
  rw [dot_TN dot_S2048x1024_S2048x1024_S1024x1024_0_0_1_1_n_n rfl none dy _, rGate_eq, rU_eq]
  funext j
  obtain ⟨a, b, rfl⟩ : ∃ (a : Fin 1024) (b : Fin 1024), j = ix2 a b := ⟨_, _, eq_ix2 j⟩
  rw [transpose_apply [1, 0] _ _ (ix2 a b) (ix2 b a) (by intro p; fin_cases p <;> rfl), mmTN_swap]

end Cert.ScEq

end
-- ==== Proof.Sc3Claim.lean ====
/-
  THE SHORT-CONVOLUTION MIXER'S CLAIMS that are not generated: the reference's frame, from its generated run, and the value claim, from the
  kernel's run (Sc3Run.lean), the reference's run and the five equations (Sc3Eq.lean).
-/
module

public import proofs.«01_k».proof.Defs
public import proofs.«01_k».proof.Proof.Sc3Run
public import proofs.«01_k».proof.Proof.ScEq
public import proofs.«01_k».proof.Proof.Gen.Sc3RefIdeal.Run
public import Idealize.ShloMosaic.Lib.Quiescent

@[expose] public section

set_option maxRecDepth 16384

noncomputable section

namespace Cert.Sc3Claim

open Idealize.ShloMosaic Idealize.SL.Sem

theorem ref_frame : Cert.quiescent_Sc3RefIdeal (hSc3RefIdeal := Cert.Sc3RefIdeal.Gen.facts) := fun m ρ _ =>
  (θ_run Cert.Sc3RefIdeal.defs _ _).mono (fun r h =>
    ⟨fun c => (h c).2.2.2.2.2, Idealize.ShloMosaic.sem_eq_zero_of_no_sems (by decide) r.2⟩)
    (Cert.Sc3RefIdeal.Value.run (F := Ideal) m ρ)

theorem value : Cert.algebraic_Sc3Ideal_Sc3RefIdeal (hSc3Ideal := Cert.Sc3Ideal.Gen.facts)
    (hSc3RefIdeal := Cert.Sc3RefIdeal.Gen.facts) := by
  intro m g m' g' _ hag
  refine ⟨_, _, _, _, _, Cert.Sc3Ideal.Run.run m g,
    (θ_run Cert.Sc3RefIdeal.defs _ _).mono (fun r h c => ?_) (Cert.Sc3RefIdeal.Value.run (F := Ideal) m' g')⟩
  obtain ⟨e0, e1, e2, e3, e4, e5⟩ := hag c
  obtain ⟨h0, h1, h2, h3, h4, hargs⟩ := h c
  unfold Cert.Sc3RefIdeal.Value.res_main_v84 at h1
  unfold Cert.Sc3RefIdeal.Value.res_main_v85 at h2
  unfold Cert.Sc3RefIdeal.Value.res_main_v71 at h3
  rw [e0, e2, e3, e4] at h0
  rw [e0, e1, e2, e3, e4, e5] at h1
  rw [e0, e1, e2, e3, e4] at h2
  rw [e0, e1, e2, e4] at h3
  rw [e0, e1, e2, e3] at h4
  exact ⟨h0.trans (Cert.ScEq.y_eq _ _ _ _), h1.trans (Cert.ScEq.dx_eq _ _ _ _ _ _), h2.trans (Cert.ScEq.dwin_eq _ _ _ _ _),
    h3.trans (Cert.ScEq.dconv_eq _ _ _ _), h4.trans (Cert.ScEq.dwout_eq _ _ _ _), hargs⟩

end Cert.Sc3Claim

end
-- ==== Proof.AdamMath.lean ====
/-
  ADAMW ON ONE ARRAY, as functions of whole arrays of any shape: the new first and second moments from the gradient, and the
  step they give, every constant the float the program holds. The gradient is what a device computed itself plus what arrived
  from the three others; a kernel adds the three arrivals one after another, the reference adds their sum over the leading
  axis. Both are `gradA`.
-/
module

public import proofs.«01_k».proof.Proof.Blocks
public import proofs.«01_k».proof.Proof.Products
public import Idealize.ShloMosaic.Lib.ValueIdx
public import Idealize.ShloMosaic.Lib.ValueLayout
public import Idealize.ShloMosaic.Lib.IdealHost
public import Idealize.ShloMosaic.Lib.KernelVsHost
public import Idealize.ShloMosaic.Lib.Pipeline.Value

@[expose] public section

set_option maxRecDepth 16384

noncomputable section

namespace Cert.AdamMath

open Cert.Products Cert.Blocks
open Idealize.ShloMosaic Idealize.ShloMosaic.ValueIdx

abbrev S0 : Shape := ⟨0, ![]⟩

section Step

variable {s : Shape} (w m v g : FVec Ideal s .f32)

/-- A float, as an array. -/
def kc (s : Shape) (b : BitVec 32) : FVec Ideal s .f32 := broadcast s (Scalar.ofBits (F := Ideal) .f32 b)

/-- The new first moment, `0.9 m + 0.1 g`. -/
def momA : FVec Ideal s .f32 := addf (mulf (kc s 0x3F666666#32) m) (mulf (kc s 0x3DCCCCCD#32) g)

/-- The new second moment, `0.999 v + 0.001 g²`. -/
def velA : FVec Ideal s .f32 := addf (mulf (kc s 0x3F7FBE77#32) v) (mulf (kc s 0x3A83126F#32) (mulf g g))

/-- The step, from the weights and the two new moments: both corrected for the count of steps, the first over the root of the
    second, with the decay of the weights added, times the negative rate. -/
def stepA (m' v' : FVec Ideal s .f32) : FVec Ideal s .f32 :=
  mulf (kc s 0xBA83126F#32) (addf (divf (divf m' (kc s 0x3F26BD02#32))
    (addf (sqrt (divf v' (kc s 0x3C231ACC#32))) (kc s 0x322BCC77#32))) (mulf (kc s 0x3C23D70A#32) w))

/-- The step, from the weights, the old moments and the gradient. -/
def deltaA : FVec Ideal s .f32 := stepA w (momA m g) (velA v g)

/-- The host's form of a float as an array. -/
def hc (s : Shape) (hb : S0.BroadcastsInDim s ![]) (b : BitVec 32) : FVec Ideal s .f32 :=
  broadcastInDim s ![] hb (constant S0 .f32 b)

theorem hc_eq (hb : S0.BroadcastsInDim s ![]) (b : BitVec 32) : hc s hb b = kc s b := rfl

/-- The host's first moment. -/
theorem host_mom (hb : S0.BroadcastsInDim s ![]) :
    addf (mulf (broadcastInDim s ![] hb (constant S0 .f32 0x3F666666#32)) m)
      (mulf (broadcastInDim s ![] hb (constant S0 .f32 0x3DCCCCCD#32)) g) = momA m g := rfl

/-- The host's second moment. -/
theorem host_vel (hb : S0.BroadcastsInDim s ![]) :
    addf (mulf (broadcastInDim s ![] hb (constant S0 .f32 0x3F7FBE77#32)) v)
      (mulf (broadcastInDim s ![] hb (constant S0 .f32 0x3A83126F#32)) (mulf g g)) = velA v g := rfl

/-- The host's step. -/
theorem host_delta (hb : S0.BroadcastsInDim s ![]) :
    mulf (broadcastInDim s ![] hb (constant S0 .f32 0xBA83126F#32))
      (addf (Host.divf (Host.divf
          (addf (mulf (broadcastInDim s ![] hb (constant S0 .f32 0x3F666666#32)) m)
            (mulf (broadcastInDim s ![] hb (constant S0 .f32 0x3DCCCCCD#32)) g))
          (broadcastInDim s ![] hb (constant S0 .f32 0x3F26BD02#32)))
        (addf (Host.sqrt (Host.divf
            (addf (mulf (broadcastInDim s ![] hb (constant S0 .f32 0x3F7FBE77#32)) v)
              (mulf (broadcastInDim s ![] hb (constant S0 .f32 0x3A83126F#32)) (mulf g g)))
            (broadcastInDim s ![] hb (constant S0 .f32 0x3C231ACC#32))))
          (broadcastInDim s ![] hb (constant S0 .f32 0x322BCC77#32))))
        (mulf (broadcastInDim s ![] hb (constant S0 .f32 0x3C23D70A#32)) w)) = deltaA w m v g := rfl

end Step

section Gradient

variable {R C : ℕ}

/-- The gradient: a device's own part and the three that arrived. -/
def gradA (own : FVec Ideal ⟨2, ![R, C]⟩ .f32) (arr : FVec Ideal ⟨3, ![3, R, C]⟩ .bf16) : FVec Ideal ⟨2, ![R, C]⟩ .f32 :=
  fun i => (fun a b : EReal => a + b) ((fun a b : EReal => a + b) ((fun a b : EReal => a + b) (own i)
    (arr (ix3 0 (i 0) (i 1)))) (arr (ix3 1 (i 0) (i 1)))) (arr (ix3 2 (i 0) (i 1)))

/-- A kernel's gradient, from the three slabs it loads. -/
def gradK (hc : (⟨3, ![1, R, C]⟩ : Shape).ShapeCasts ⟨2, ![R, C]⟩) (own : FVec Ideal ⟨2, ![R, C]⟩ .f32)
    (a0 a1 a2 : FVec Ideal ⟨3, ![1, R, C]⟩ .bf16) : FVec Ideal ⟨2, ![R, C]⟩ .f32 :=
  addf (addf (addf own (extf .f32 (shapeCast ⟨2, ![R, C]⟩ a0 hc) (by decide)))
    (extf .f32 (shapeCast ⟨2, ![R, C]⟩ a1 hc) (by decide))) (extf .f32 (shapeCast ⟨2, ![R, C]⟩ a2 hc) (by decide))

theorem add3 (o : EReal) {x0 y0 x1 y1 x2 y2 : EReal} (h0 : x0 = y0) (h1 : x1 = y1) (h2 : x2 = y2) :
    o + x0 + x1 + x2 = o + y0 + y1 + y2 := by rw [h0, h1, h2]

/-- Slab `k` of three, loaded and laid flat. -/
theorem slab (arr : FVec Ideal ⟨3, ![3, R, C]⟩ .bf16) (hc : (⟨3, ![1, R, C]⟩ : Shape).ShapeCasts ⟨2, ![R, C]⟩) (k : ℕ)
    (hk : k < 3) (inb : ∀ a, (![k, 0, 0] : Fin 3 → ℕ) a + (![1, R, C] : Fin 3 → ℕ) a ≤ (![3, R, C] : Fin 3 → ℕ) a)
    (i : (⟨2, ![R, C]⟩ : Shape).Idx) :
    shapeCast ⟨2, ![R, C]⟩ (View.ld (Val := Elt Ideal) (e' := .bf16) arr (Rect.unit (s := ⟨3, ![3, R, C]⟩) ![k, 0, 0] ![1, R, C] inb) :
      FVec Ideal ⟨3, ![1, R, C]⟩ .bf16) hc i = arr (ix3 ⟨k, hk⟩ (i 0) (i 1)) := by
  obtain ⟨p, q, rfl⟩ : ∃ p q, i = ix2 p q := ⟨_, _, eq_ix2 i⟩
  rw [shapeCast_1ab_ab_apply]
  refine congrArg arr ?_
  funext a
  match a with
  | ⟨0, _⟩ => exact Fin.ext (by show k + 1 * 0 = k; omega)
  | ⟨1, _⟩ => exact Fin.ext (by show 0 + 1 * (p : ℕ) = p; omega)
  | ⟨2, _⟩ => exact Fin.ext (by show 0 + 1 * (q : ℕ) = q; omega)

/-- A kernel's gradient is the gradient. -/
theorem gradK_ld (own : FVec Ideal ⟨2, ![R, C]⟩ .f32) (arr : FVec Ideal ⟨3, ![3, R, C]⟩ .bf16)
    (hc : (⟨3, ![1, R, C]⟩ : Shape).ShapeCasts ⟨2, ![R, C]⟩)
    (i0 : ∀ a, (![0, 0, 0] : Fin 3 → ℕ) a + (![1, R, C] : Fin 3 → ℕ) a ≤ (![3, R, C] : Fin 3 → ℕ) a)
    (i1 : ∀ a, (![1, 0, 0] : Fin 3 → ℕ) a + (![1, R, C] : Fin 3 → ℕ) a ≤ (![3, R, C] : Fin 3 → ℕ) a)
    (i2 : ∀ a, (![2, 0, 0] : Fin 3 → ℕ) a + (![1, R, C] : Fin 3 → ℕ) a ≤ (![3, R, C] : Fin 3 → ℕ) a) :
    gradK hc own (View.ld (Val := Elt Ideal) (e' := .bf16) arr (Rect.unit (s := ⟨3, ![3, R, C]⟩) ![0, 0, 0] ![1, R, C] i0))
      (View.ld (Val := Elt Ideal) (e' := .bf16) arr (Rect.unit (s := ⟨3, ![3, R, C]⟩) ![1, 0, 0] ![1, R, C] i1))
      (View.ld (Val := Elt Ideal) (e' := .bf16) arr (Rect.unit (s := ⟨3, ![3, R, C]⟩) ![2, 0, 0] ![1, R, C] i2)) = gradA own arr := by
  funext i
  have h := add3 (own i) (slab arr hc 0 (by decide) i0 i) (slab arr hc 1 (by decide) i1 i) (slab arr hc 2 (by decide) i2 i)
  exact h

/-- The reference's gradient is the gradient. -/
theorem grad_host (own : FVec Ideal ⟨2, ![R, C]⟩ .f32) (arr : FVec Ideal ⟨3, ![3, R, C]⟩ .bf16)
    (hb : FTy.bits .bf16 < FTy.bits .f32) (h' : (⟨3, ![3, R, C]⟩ : Shape).ReducesTo [0] ⟨2, ![R, C]⟩)
    (h : (⟨3, ![3, R, C]⟩ : Shape).Reduces [0] ⟨2, ![R, C]⟩) (hu : 0 < S0.numel) :
    addf own (Host.reduceAdd (extf .f32 arr hb) (constant (F := Ideal) S0 .f32 0x00000000#32) h' hu) = gradA own arr := by
  funext i
  have e : Host.reduceAdd (extf .f32 arr hb) (constant (F := Ideal) S0 .f32 0x00000000#32) h' hu i
      = (∑ k : Fin 3, (arr (ix3 k (i 0) (i 1)) : EReal)) := by
    rw [hostReduceAdd_apply, Ideal.hostReduceAdd_single h' h]
    show Ideal.ofBits .f32 0x00000000#32 + _ = _
    rw [Ideal.ofBits_zero_f32, zero_add]
    refine Finset.sum_congr rfl fun t _ => congrArg arr ?_
    funext a
    match a with
    | ⟨0, _⟩ => rfl
    | ⟨1, _⟩ => rfl
    | ⟨2, _⟩ => rfl
  show (fun a b : EReal => a + b) (own i) _ = _
  rw [e, Fin.sum_univ_three]
  show (own i : EReal) + (_ + _ + _) = (own i : EReal) + _ + _ + _
  rw [← add_assoc, ← add_assoc]

end Gradient

end Cert.AdamMath
-- ==== Proof.AdamStack.lean ====
/-
  THE LAYERS OF A STACKED WEIGHT. The host keeps a weight of several layers as one array with a layer axis; the kernel lays the
  layers out one under the other and walks blocks of rows. `stack` is the first form, `rows` the second; they are one another's
  reshape, a block of rows of one layer reads that layer (`rows_at`), and AdamW, being entry by entry, does not mind which of the
  two it is given (`step_reshape` and its fellows). The last section is the host's own stacking of layer gradients.
-/
module

public import proofs.«01_k».proof.Proof.AdamMath
public import Idealize.ShloMosaic.Lib.Pipeline.Value
public import Idealize.ShloMosaic.Lib.ValueLayout

@[expose] public section

set_option maxRecDepth 16384

noncomputable section

namespace Cert.AdamStack

open Cert.Products Cert.Blocks Cert.AdamMath
open Idealize.ShloMosaic Idealize.ShloMosaic.ValueIdx

variable {L R C N : ℕ}

/-- Layers, as one array with a layer axis. -/
def stack (g : Fin L → FVec Ideal ⟨2, ![R, C]⟩ .f32) : FVec Ideal ⟨3, ![L, R, C]⟩ .f32 := fun i => g (i 0) (ix2 (i 1) (i 2))

/-- Layers, one under the other. -/
def rows (h : (⟨3, ![L, R, C]⟩ : Shape).ShapeCasts ⟨2, ![N, C]⟩) (g : Fin L → FVec Ideal ⟨2, ![R, C]⟩ .f32) :
    FVec Ideal ⟨2, ![N, C]⟩ .f32 := shapeCast ⟨2, ![N, C]⟩ (stack g) h

/-- A row of layer `l`. -/
theorem rows_at (h : (⟨3, ![L, R, C]⟩ : Shape).ShapeCasts ⟨2, ![N, C]⟩) (g : Fin L → FVec Ideal ⟨2, ![R, C]⟩ .f32)
    (l : Fin L) (r : Fin R) (q : Fin C) (i : (⟨2, ![N, C]⟩ : Shape).Idx) (e0 : (i 0).val = l.val * R + r.val) (e1 : (i 1).val = q.val) :
    rows h g i = g l (ix2 r q) :=
  shapeCast_apply _ h _ (ix3 l r q) (by
    rw [Shape.rowMajor_val_three, Shape.rowMajor_val_two]
    show (l.val * R + r.val) * C + q.val = (i 0).val * C + (i 1).val
    rw [e0, e1])

/-- An index of three axes is its three coordinates. -/
theorem idx_ext3 {d0 d1 d2 : ℕ} {i j : (⟨3, ![d0, d1, d2]⟩ : Shape).Idx} (h0 : (i 0).val = (j 0).val)
    (h1 : (i 1).val = (j 1).val) (h2 : (i 2).val = (j 2).val) : i = j :=
  funext fun a => match a with
    | ⟨0, _⟩ => Fin.ext h0
    | ⟨1, _⟩ => Fin.ext h1
    | ⟨2, _⟩ => Fin.ext h2

/-! ## AdamW entry by entry -/

section At
variable {s t : Shape} {w m v g : FVec Ideal s .f32} {w' m' v' g' : FVec Ideal t .f32} {j : s.Idx} {i : t.Idx}

theorem mom_at (hm : m j = m' i) (hg : g j = g' i) : momA m g j = momA m' g' i := by
  show (fun a b : EReal => _ * a + _ * b) (m j) (g j) = (fun a b : EReal => _ * a + _ * b) (m' i) (g' i)
  rw [hm, hg]
  rfl

theorem vel_at (hv : v j = v' i) (hg : g j = g' i) : velA v g j = velA v' g' i := by
  show (fun a b : EReal => _ * a + _ * (b * b)) (v j) (g j) = (fun a b : EReal => _ * a + _ * (b * b)) (v' i) (g' i)
  rw [hv, hg]
  rfl

theorem delta_at (hw : w j = w' i) (hm : m j = m' i) (hv : v j = v' i) (hg : g j = g' i) :
    deltaA w m v g j = deltaA w' m' v' g' i := by
  have e1 := mom_at hm hg
  have e2 := vel_at hv hg
  unfold deltaA
  generalize momA m g = M at e1 ⊢
  generalize momA m' g' = M' at e1 ⊢
  generalize velA v g = U at e2 ⊢
  generalize velA v' g' = U' at e2 ⊢
  show FloatOps.mulf (F := Ideal) _ (FloatOps.addf (FloatOps.divf (FloatOps.divf (M j) _) (FloatOps.addf (FloatOps.sqrt (FloatOps.divf (U j) _)) _))
    (FloatOps.mulf _ (w j))) = _
  rw [e1, e2, hw]
  rfl

end At

/-- The gradient at an entry, of a block and of the array it is cut from. -/
theorem grad_at {R' : ℕ} {own : FVec Ideal ⟨2, ![R, C]⟩ .f32} {arr : FVec Ideal ⟨3, ![3, R, C]⟩ .bf16}
    {own' : FVec Ideal ⟨2, ![R', C]⟩ .f32} {arr' : FVec Ideal ⟨3, ![3, R', C]⟩ .bf16} {r : Fin R} {q : Fin C} {r' : Fin R'}
    (ho : own (ix2 r q) = own' (ix2 r' q)) (ha : ∀ k : Fin 3, arr (ix3 k r q) = arr' (ix3 k r' q)) :
    gradA own arr (ix2 r q) = gradA own' arr' (ix2 r' q) := by
  show (own (ix2 r q) + arr (ix3 0 r q) + arr (ix3 1 r q) + arr (ix3 2 r q) : EReal)
    = own' (ix2 r' q) + arr' (ix3 0 r' q) + arr' (ix3 1 r' q) + arr' (ix3 2 r' q)
  rw [ho, ha, ha, ha]

/-! ## The two forms of a weight -/

section Reshape
variable (h : (⟨3, ![L, R, C]⟩ : Shape).ShapeCasts ⟨2, ![N, C]⟩) (h' : (⟨2, ![N, C]⟩ : Shape).ShapeCasts ⟨3, ![L, R, C]⟩)
  (w m v : FVec Ideal ⟨3, ![L, R, C]⟩ .f32) (g : Fin L → FVec Ideal ⟨2, ![R, C]⟩ .f32)

theorem grad_reshape : shapeCast ⟨3, ![L, R, C]⟩ (rows h g) h' = stack g := shapeCast_shapeCast _ _ _

theorem back (x : FVec Ideal ⟨3, ![L, R, C]⟩ .f32) (i : (⟨3, ![L, R, C]⟩ : Shape).Idx) :
    shapeCast ⟨2, ![N, C]⟩ x h (Shape.reshapeEquiv h' i) = x i := congrFun (shapeCast_shapeCast x h h') i

theorem mom_reshape : shapeCast ⟨3, ![L, R, C]⟩ (momA (shapeCast ⟨2, ![N, C]⟩ m h) (rows h g)) h' = momA m (stack g) :=
  funext fun i => mom_at (back h h' m i) (back h h' (stack g) i)

theorem vel_reshape : shapeCast ⟨3, ![L, R, C]⟩ (velA (shapeCast ⟨2, ![N, C]⟩ v h) (rows h g)) h' = velA v (stack g) :=
  funext fun i => vel_at (back h h' v i) (back h h' (stack g) i)

theorem step_reshape : shapeCast ⟨3, ![L, R, C]⟩ (deltaA (shapeCast ⟨2, ![N, C]⟩ w h) (shapeCast ⟨2, ![N, C]⟩ m h)
    (shapeCast ⟨2, ![N, C]⟩ v h) (rows h g)) h' = deltaA w m v (stack g) :=
  funext fun i => delta_at (back h h' w i) (back h h' m i) (back h h' v i) (back h h' (stack g) i)

end Reshape

/-! ## The host's stacking -/

section Host
variable (hb : (⟨2, ![R, C]⟩ : Shape).BroadcastsInDim ⟨3, ![1, R, C]⟩ ![1, 2])

theorem layer_apply (x : FVec Ideal ⟨2, ![R, C]⟩ .f32) (u : Fin 1) (r : Fin R) (q : Fin C) :
    broadcastInDim ⟨3, ![1, R, C]⟩ ![1, 2] hb x (ix3 u r q) = x (ix2 r q) := by
  refine broadcastInDim_apply ![1, 2] hb x (ix3 u r q) (ix2 r q) fun a => ?_
  match a with
  | ⟨0, _⟩ =>
    show r.val = if R = 1 then 0 else r.val
    split
    · have := r.isLt; omega
    · rfl
  | ⟨1, _⟩ =>
    show q.val = if C = 1 then 0 else q.val
    split
    · have := q.isLt; omega
    · rfl

theorem stack1 (x : FVec Ideal ⟨2, ![R, C]⟩ .f32) :
    broadcastInDim ⟨3, ![1, R, C]⟩ ![1, 2] hb x = stack ![x] := by
  funext i
  obtain ⟨u, r, q, rfl⟩ : ∃ (u : Fin 1) (r : Fin R) (q : Fin C), i = ix3 u r q := ⟨_, _, _, eq_ix3 i⟩
  rw [layer_apply]
  obtain rfl : u = 0 := Subsingleton.elim _ _
  rfl

theorem stackN (x : Fin L → FVec Ideal ⟨2, ![R, C]⟩ .f32)
    (h : Shape.Concatenates ((List.ofFn fun n : Fin L => (⟨⟨3, ![1, R, C]⟩, broadcastInDim ⟨3, ![1, R, C]⟩ ![1, 2] hb (x n)⟩
      : (s : Shape) × (s.Idx → EReal))).map (·.1)) ⟨3, ![L, R, C]⟩ 0) :
    concatenate ⟨3, ![L, R, C]⟩ 0 (List.ofFn fun n : Fin L => (⟨⟨3, ![1, R, C]⟩, broadcastInDim ⟨3, ![1, R, C]⟩ ![1, 2] hb (x n)⟩
      : (s : Shape) × (s.Idx → EReal))) h = stack x := by
  funext i
  obtain ⟨l, r, q, rfl⟩ : ∃ (l : Fin L) (r : Fin R) (q : Fin C), i = ix3 l r q := ⟨_, _, _, eq_ix3 i⟩
  refine (concatenate_ofFn_unit_apply (t := ⟨3, ![L, R, C]⟩) (s₁ := ⟨3, ![1, R, C]⟩) 0 (fun n => broadcastInDim ⟨3, ![1, R, C]⟩ ![1, 2] hb (x n)) h rfl rfl (ix3 l r q) l rfl
    (ix3 0 r q) fun b hb' => ?_).trans (layer_apply hb (x l) 0 r q)
  match b with
  | ⟨0, _⟩ => exact absurd rfl hb'
  | ⟨1, _⟩ => rfl
  | ⟨2, _⟩ => rfl

theorem stack2 (x y : FVec Ideal ⟨2, ![R, C]⟩ .f32)
    (h : Shape.Concatenates [⟨3, ![1, R, C]⟩, ⟨3, ![1, R, C]⟩] ⟨3, ![2, R, C]⟩ 0) :
    concatenate ⟨3, ![2, R, C]⟩ 0 [⟨⟨3, ![1, R, C]⟩, broadcastInDim ⟨3, ![1, R, C]⟩ ![1, 2] hb x⟩,
      ⟨⟨3, ![1, R, C]⟩, broadcastInDim ⟨3, ![1, R, C]⟩ ![1, 2] hb y⟩] h = stack ![x, y] :=
  stackN hb ![x, y] h

theorem stack4 (x y z w : FVec Ideal ⟨2, ![R, C]⟩ .f32)
    (h : Shape.Concatenates [⟨3, ![1, R, C]⟩, ⟨3, ![1, R, C]⟩, ⟨3, ![1, R, C]⟩, ⟨3, ![1, R, C]⟩] ⟨3, ![4, R, C]⟩ 0) :
    concatenate ⟨3, ![4, R, C]⟩ 0 [⟨⟨3, ![1, R, C]⟩, broadcastInDim ⟨3, ![1, R, C]⟩ ![1, 2] hb x⟩,
      ⟨⟨3, ![1, R, C]⟩, broadcastInDim ⟨3, ![1, R, C]⟩ ![1, 2] hb y⟩,
      ⟨⟨3, ![1, R, C]⟩, broadcastInDim ⟨3, ![1, R, C]⟩ ![1, 2] hb z⟩,
      ⟨⟨3, ![1, R, C]⟩, broadcastInDim ⟨3, ![1, R, C]⟩ ![1, 2] hb w⟩] h = stack ![x, y, z, w] :=
  stackN hb ![x, y, z, w] h

end Host

end Cert.AdamStack
-- ==== Proof.AdamBlock0.lean ====
/-
  ADAMW ON sc_w_in, ONE GRID POINT: a weight of 2 layers, blocks of 512 rows. A point belongs to one layer and works on that layer's
  gradient parts; the four blocks it leaves are the gradient, the step and the two new moments (`AdamMath`).
-/
module

public import proofs.«01_k».proof.Proof.AdamStack
public import proofs.«01_k».proof.Proof.Conv
public import proofs.«01_k».proof.Proof.Gen.AdamIdeal.Frame.Region0

@[expose] public section

set_option maxRecDepth 16384

noncomputable section

namespace Cert.AdamIdeal.Block0

open Cert.AdamIdeal Cert.AdamIdeal.Gen Cert.Products Cert.Blocks Cert.Conv Cert.AdamMath
open Idealize.ShloMosaic Idealize.ShloMosaic.TcCoe Idealize.ShloMosaic.ValueIdx Idealize.SL.Sem

/-! ## A point of layer 0 -/

section
variable (c : Dev nD) (i : grid0.Coords) (arg2 : Memref sig .tc .vmem S512x384 .f32) (harg2 : arg2.IsWhole) (arg3 : Memref sig .tc .vmem S512x384 .f32) (harg3 : arg3.IsWhole) (arg4 : Memref sig .tc .vmem S512x384 .f32) (harg4 : arg4.IsWhole) (arg5 : Memref sig .tc .vmem S512x384 .f32) (harg5 : arg5.IsWhole) (arg6 : Memref sig .tc .vmem S3x512x384 .bf16) (harg6 : arg6.IsWhole) (arg7 : Memref sig .tc .vmem S512x384 .f32) (harg7 : arg7.IsWhole) (arg8 : Memref sig .tc .vmem S3x512x384 .bf16) (harg8 : arg8.IsWhole) (arg9 : Memref sig .tc .vmem S512x384 .f32) (harg9 : arg9.IsWhole) (arg10 : Memref sig .tc .vmem S512x384 .f32) (harg10 : arg10.IsWhole) (arg11 : Memref sig .tc .vmem S512x384 .f32) (harg11 : arg11.IsWhole) (arg12 : Memref sig .tc .vmem S512x384 .f32) (harg12 : arg12.IsWhole) (hc0 : cond0_0 i) (hc1 : ¬cond0_1 i)
    (x0 : Vec Ideal S512x384 .f32) (x1 : Vec Ideal S512x384 .f32) (x2 : Vec Ideal S512x384 .f32) (x3 : Vec Ideal S512x384 .f32) (x4 : Vec Ideal S3x512x384 .bf16) (x5 : Vec Ideal S512x384 .f32) (x6 : Vec Ideal S3x512x384 .bf16)

theorem grad_A : out0_A_7 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 = gradA x3 x4 := by
  unfold out0_A_7
  rw [View.read_writes_junk_eq_canon]
  unfold kernelRun0_A
  dsimp only
  sl_unfold_run_names
  rw [View.canon_unit_zero hz]
  simp only [readAt_unread, idx_whole, k0_pay1, k0_pay2, k0_pay3, k0_pay4, k0_pay5, k0_pay6, k0_pay7, k0_pay8, k0_pay9, k0_pay10, k0_pay11, k0_pay12, k0_pay13, k0_pay14, k0_pay15, k0_pay16, shapeCast_self]
  show gradK shapeCasts_S1x512x384_S512x384 x3 (View.ld (Val := Elt Ideal) (e' := .bf16) x4 (Rect.unit (s := S3x512x384) ![0, 0, 0] ![1, 512, 384] inb_S3x512x384_S1x512x384_0_0_0)) (View.ld (Val := Elt Ideal) (e' := .bf16) x4 (Rect.unit (s := S3x512x384) ![1, 0, 0] ![1, 512, 384] inb_S3x512x384_S1x512x384_1_0_0)) (View.ld (Val := Elt Ideal) (e' := .bf16) x4 (Rect.unit (s := S3x512x384) ![2, 0, 0] ![1, 512, 384] inb_S3x512x384_S1x512x384_2_0_0)) = _
  rw [gradK_ld]

theorem step_A : out0_A_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 = deltaA x0 x1 x2 (gradA x3 x4) := by
  unfold out0_A_8
  rw [View.read_writes_junk_eq_canon]
  unfold kernelRun0_A
  dsimp only
  sl_unfold_run_names
  rw [View.canon_unit_zero hz]
  simp only [readAt_unread, idx_whole, k0_pay1, k0_pay2, k0_pay3, k0_pay4, k0_pay5, k0_pay6, k0_pay7, k0_pay8, k0_pay9, k0_pay10, k0_pay11, k0_pay12, k0_pay13, k0_pay14, k0_pay15, k0_pay16, shapeCast_self]
  show deltaA x0 x1 x2 (gradK shapeCasts_S1x512x384_S512x384 x3 (View.ld (Val := Elt Ideal) (e' := .bf16) x4 (Rect.unit (s := S3x512x384) ![0, 0, 0] ![1, 512, 384] inb_S3x512x384_S1x512x384_0_0_0)) (View.ld (Val := Elt Ideal) (e' := .bf16) x4 (Rect.unit (s := S3x512x384) ![1, 0, 0] ![1, 512, 384] inb_S3x512x384_S1x512x384_1_0_0)) (View.ld (Val := Elt Ideal) (e' := .bf16) x4 (Rect.unit (s := S3x512x384) ![2, 0, 0] ![1, 512, 384] inb_S3x512x384_S1x512x384_2_0_0))) = _
  rw [gradK_ld]

theorem mom_A : out0_A_9 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 = momA x1 (gradA x3 x4) := by
  unfold out0_A_9
  rw [View.read_writes_junk_eq_canon]
  unfold kernelRun0_A
  dsimp only
  sl_unfold_run_names
  rw [View.canon_unit_zero hz]
  simp only [readAt_unread, idx_whole, k0_pay1, k0_pay2, k0_pay3, k0_pay4, k0_pay5, k0_pay6, k0_pay7, k0_pay8, k0_pay9, k0_pay10, k0_pay11, k0_pay12, k0_pay13, k0_pay14, k0_pay15, k0_pay16, shapeCast_self]
  show momA x1 (gradK shapeCasts_S1x512x384_S512x384 x3 (View.ld (Val := Elt Ideal) (e' := .bf16) x4 (Rect.unit (s := S3x512x384) ![0, 0, 0] ![1, 512, 384] inb_S3x512x384_S1x512x384_0_0_0)) (View.ld (Val := Elt Ideal) (e' := .bf16) x4 (Rect.unit (s := S3x512x384) ![1, 0, 0] ![1, 512, 384] inb_S3x512x384_S1x512x384_1_0_0)) (View.ld (Val := Elt Ideal) (e' := .bf16) x4 (Rect.unit (s := S3x512x384) ![2, 0, 0] ![1, 512, 384] inb_S3x512x384_S1x512x384_2_0_0))) = _
  rw [gradK_ld]

theorem vel_A : out0_A_10 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 = velA x2 (gradA x3 x4) := by
  unfold out0_A_10
  rw [View.read_writes_junk_eq_canon]
  unfold kernelRun0_A
  dsimp only
  sl_unfold_run_names
  rw [View.canon_unit_zero hz]
  simp only [readAt_unread, idx_whole, k0_pay1, k0_pay2, k0_pay3, k0_pay4, k0_pay5, k0_pay6, k0_pay7, k0_pay8, k0_pay9, k0_pay10, k0_pay11, k0_pay12, k0_pay13, k0_pay14, k0_pay15, k0_pay16, shapeCast_self]
  show velA x2 (gradK shapeCasts_S1x512x384_S512x384 x3 (View.ld (Val := Elt Ideal) (e' := .bf16) x4 (Rect.unit (s := S3x512x384) ![0, 0, 0] ![1, 512, 384] inb_S3x512x384_S1x512x384_0_0_0)) (View.ld (Val := Elt Ideal) (e' := .bf16) x4 (Rect.unit (s := S3x512x384) ![1, 0, 0] ![1, 512, 384] inb_S3x512x384_S1x512x384_1_0_0)) (View.ld (Val := Elt Ideal) (e' := .bf16) x4 (Rect.unit (s := S3x512x384) ![2, 0, 0] ![1, 512, 384] inb_S3x512x384_S1x512x384_2_0_0))) = _
  rw [gradK_ld]

end

/-! ## A point of layer 1 -/

section
variable (c : Dev nD) (i : grid0.Coords) (arg2 : Memref sig .tc .vmem S512x384 .f32) (harg2 : arg2.IsWhole) (arg3 : Memref sig .tc .vmem S512x384 .f32) (harg3 : arg3.IsWhole) (arg4 : Memref sig .tc .vmem S512x384 .f32) (harg4 : arg4.IsWhole) (arg5 : Memref sig .tc .vmem S512x384 .f32) (harg5 : arg5.IsWhole) (arg6 : Memref sig .tc .vmem S3x512x384 .bf16) (harg6 : arg6.IsWhole) (arg7 : Memref sig .tc .vmem S512x384 .f32) (harg7 : arg7.IsWhole) (arg8 : Memref sig .tc .vmem S3x512x384 .bf16) (harg8 : arg8.IsWhole) (arg9 : Memref sig .tc .vmem S512x384 .f32) (harg9 : arg9.IsWhole) (arg10 : Memref sig .tc .vmem S512x384 .f32) (harg10 : arg10.IsWhole) (arg11 : Memref sig .tc .vmem S512x384 .f32) (harg11 : arg11.IsWhole) (arg12 : Memref sig .tc .vmem S512x384 .f32) (harg12 : arg12.IsWhole) (hc0 : ¬cond0_0 i) (hc1 : cond0_1 i)
    (x0 : Vec Ideal S512x384 .f32) (x1 : Vec Ideal S512x384 .f32) (x2 : Vec Ideal S512x384 .f32) (x3 : Vec Ideal S512x384 .f32) (x4 : Vec Ideal S3x512x384 .bf16) (x5 : Vec Ideal S512x384 .f32) (x6 : Vec Ideal S3x512x384 .bf16)

theorem grad_B : out0_B_7 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 = gradA x5 x6 := by
  unfold out0_B_7
  rw [View.read_writes_junk_eq_canon]
  unfold kernelRun0_B
  dsimp only
  sl_unfold_run_names
  rw [View.canon_unit_zero hz]
  simp only [readAt_unread, idx_whole, k0_pay1, k0_pay2, k0_pay3, k0_pay4, k0_pay5, k0_pay6, k0_pay7, k0_pay8, k0_pay9, k0_pay10, k0_pay11, k0_pay12, k0_pay13, k0_pay14, k0_pay15, k0_pay16, shapeCast_self]
  show gradK shapeCasts_S1x512x384_S512x384 x5 (View.ld (Val := Elt Ideal) (e' := .bf16) x6 (Rect.unit (s := S3x512x384) ![0, 0, 0] ![1, 512, 384] inb_S3x512x384_S1x512x384_0_0_0)) (View.ld (Val := Elt Ideal) (e' := .bf16) x6 (Rect.unit (s := S3x512x384) ![1, 0, 0] ![1, 512, 384] inb_S3x512x384_S1x512x384_1_0_0)) (View.ld (Val := Elt Ideal) (e' := .bf16) x6 (Rect.unit (s := S3x512x384) ![2, 0, 0] ![1, 512, 384] inb_S3x512x384_S1x512x384_2_0_0)) = _
  rw [gradK_ld]

theorem step_B : out0_B_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 = deltaA x0 x1 x2 (gradA x5 x6) := by
  unfold out0_B_8
  rw [View.read_writes_junk_eq_canon]
  unfold kernelRun0_B
  dsimp only
  sl_unfold_run_names
  rw [View.canon_unit_zero hz]
  simp only [readAt_unread, idx_whole, k0_pay1, k0_pay2, k0_pay3, k0_pay4, k0_pay5, k0_pay6, k0_pay7, k0_pay8, k0_pay9, k0_pay10, k0_pay11, k0_pay12, k0_pay13, k0_pay14, k0_pay15, k0_pay16, shapeCast_self]
  show deltaA x0 x1 x2 (gradK shapeCasts_S1x512x384_S512x384 x5 (View.ld (Val := Elt Ideal) (e' := .bf16) x6 (Rect.unit (s := S3x512x384) ![0, 0, 0] ![1, 512, 384] inb_S3x512x384_S1x512x384_0_0_0)) (View.ld (Val := Elt Ideal) (e' := .bf16) x6 (Rect.unit (s := S3x512x384) ![1, 0, 0] ![1, 512, 384] inb_S3x512x384_S1x512x384_1_0_0)) (View.ld (Val := Elt Ideal) (e' := .bf16) x6 (Rect.unit (s := S3x512x384) ![2, 0, 0] ![1, 512, 384] inb_S3x512x384_S1x512x384_2_0_0))) = _
  rw [gradK_ld]

theorem mom_B : out0_B_9 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 = momA x1 (gradA x5 x6) := by
  unfold out0_B_9
  rw [View.read_writes_junk_eq_canon]
  unfold kernelRun0_B
  dsimp only
  sl_unfold_run_names
  rw [View.canon_unit_zero hz]
  simp only [readAt_unread, idx_whole, k0_pay1, k0_pay2, k0_pay3, k0_pay4, k0_pay5, k0_pay6, k0_pay7, k0_pay8, k0_pay9, k0_pay10, k0_pay11, k0_pay12, k0_pay13, k0_pay14, k0_pay15, k0_pay16, shapeCast_self]
  show momA x1 (gradK shapeCasts_S1x512x384_S512x384 x5 (View.ld (Val := Elt Ideal) (e' := .bf16) x6 (Rect.unit (s := S3x512x384) ![0, 0, 0] ![1, 512, 384] inb_S3x512x384_S1x512x384_0_0_0)) (View.ld (Val := Elt Ideal) (e' := .bf16) x6 (Rect.unit (s := S3x512x384) ![1, 0, 0] ![1, 512, 384] inb_S3x512x384_S1x512x384_1_0_0)) (View.ld (Val := Elt Ideal) (e' := .bf16) x6 (Rect.unit (s := S3x512x384) ![2, 0, 0] ![1, 512, 384] inb_S3x512x384_S1x512x384_2_0_0))) = _
  rw [gradK_ld]

theorem vel_B : out0_B_10 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 = velA x2 (gradA x5 x6) := by
  unfold out0_B_10
  rw [View.read_writes_junk_eq_canon]
  unfold kernelRun0_B
  dsimp only
  sl_unfold_run_names
  rw [View.canon_unit_zero hz]
  simp only [readAt_unread, idx_whole, k0_pay1, k0_pay2, k0_pay3, k0_pay4, k0_pay5, k0_pay6, k0_pay7, k0_pay8, k0_pay9, k0_pay10, k0_pay11, k0_pay12, k0_pay13, k0_pay14, k0_pay15, k0_pay16, shapeCast_self]
  show velA x2 (gradK shapeCasts_S1x512x384_S512x384 x5 (View.ld (Val := Elt Ideal) (e' := .bf16) x6 (Rect.unit (s := S3x512x384) ![0, 0, 0] ![1, 512, 384] inb_S3x512x384_S1x512x384_0_0_0)) (View.ld (Val := Elt Ideal) (e' := .bf16) x6 (Rect.unit (s := S3x512x384) ![1, 0, 0] ![1, 512, 384] inb_S3x512x384_S1x512x384_1_0_0)) (View.ld (Val := Elt Ideal) (e' := .bf16) x6 (Rect.unit (s := S3x512x384) ![2, 0, 0] ![1, 512, 384] inb_S3x512x384_S1x512x384_2_0_0))) = _
  rw [gradK_ld]

end

end Cert.AdamIdeal.Block0
-- ==== Proof.AdamArrays0.lean ====
/-
  ADAMW ON sc_w_in, THE ARRAYS. The grid walks 4 blocks of 512 rows, 2 to a layer; `atW` is window `W`'s block index at point
  `t`. Each of the four results ends at a function of the arrays the region finds: the layers' gradients one under the other
  (`G`), and the step and the moments that follow from them.
-/
module

public import proofs.«01_k».proof.Proof.AdamBlock0
public import proofs.«01_k».proof.Proof.AdamStack
public import proofs.«01_k».proof.Proof.Gen.AdamIdeal.Points
public import Idealize.ShloMosaic.Lib.Pipeline.Value

@[expose] public section

set_option maxRecDepth 16384

noncomputable section

namespace Cert.AdamIdeal.Arrays0

open Cert.AdamIdeal Cert.AdamIdeal.Gen Cert.Products Cert.Blocks Cert.AdamMath Cert.AdamStack
open Idealize.ShloMosaic Idealize.ShloMosaic.TcCoe Idealize.ShloMosaic.ValueIdx Idealize.SL.Sem
open Idealize.ShloMosaic.Pipeline (Dat Window)

variable (V : (c : Dev nD) → (b : Ref sig .tc) → Buf (Elt Ideal) ((c : Thread nD τ).loc b)) (c : Dev nD)

/-- The layers' gradients, one under the other. -/
def G : FVec Ideal S2048x384 .f32 := rows shapeCasts_S2x1024x384_S2048x384 ![gradA (V c main_arg3) (V c main_arg4), gradA (V c main_arg5) (V c main_arg6)]

theorem at0 : ∀ t : Fin grid0.N, win0_0.index t 0 = t.val ∧ win0_0.index t 1 = 0 := by decide +kernel
theorem at1 : ∀ t : Fin grid0.N, win0_1.index t 0 = t.val ∧ win0_1.index t 1 = 0 := by decide +kernel
theorem at2 : ∀ t : Fin grid0.N, win0_2.index t 0 = t.val ∧ win0_2.index t 1 = 0 := by decide +kernel
theorem at7 : ∀ t : Fin grid0.N, win0_7.index t 0 = t.val ∧ win0_7.index t 1 = 0 := by decide +kernel
theorem at8 : ∀ t : Fin grid0.N, win0_8.index t 0 = t.val ∧ win0_8.index t 1 = 0 := by decide +kernel
theorem at9 : ∀ t : Fin grid0.N, win0_9.index t 0 = t.val ∧ win0_9.index t 1 = 0 := by decide +kernel
theorem at10 : ∀ t : Fin grid0.N, win0_10.index t 0 = t.val ∧ win0_10.index t 1 = 0 := by decide +kernel
theorem at3 : ∀ t : Fin grid0.N, 0 ≤ t.val → t.val < 2 → win0_3.index t 0 = t.val - 0 ∧ win0_3.index t 1 = 0 := by decide +kernel
theorem at4 : ∀ t : Fin grid0.N, 0 ≤ t.val → t.val < 2 → win0_4.index t 0 = 0 ∧ win0_4.index t 1 = t.val - 0 ∧ win0_4.index t 2 = 0 := by decide +kernel
theorem at5 : ∀ t : Fin grid0.N, 2 ≤ t.val → t.val < 4 → win0_5.index t 0 = t.val - 2 ∧ win0_5.index t 1 = 0 := by decide +kernel
theorem at6 : ∀ t : Fin grid0.N, 2 ≤ t.val → t.val < 4 → win0_6.index t 0 = 0 ∧ win0_6.index t 1 = t.val - 2 ∧ win0_6.index t 2 = 0 := by decide +kernel

section
variable (t : Fin cfg0.N) (r : Fin 512) (q : Fin 384) (i : S2048x384.Idx) (e0 : (i 0).val = t.val * 512 + r.val) (e1 : (i 1).val = q.val)
include e0 e1

theorem own0 : iblk0 V c 0 t (ix2 r q) = V c main_v0 i :=
  congrArg (V c main_v0) (Shape.idx_ext₂ ((emb_val win0_0 t (ix2 r q) 0 _ 512 (at0 t).1 rfl rfl).trans e0.symm)
    ((emb_val win0_0 t (ix2 r q) 1 _ 384 (at0 t).2 rfl rfl).trans (by show 0 * 384 + q.val = (i 1).val; omega)))

theorem own1 : iblk0 V c 1 t (ix2 r q) = V c main_v1 i :=
  congrArg (V c main_v1) (Shape.idx_ext₂ ((emb_val win0_1 t (ix2 r q) 0 _ 512 (at1 t).1 rfl rfl).trans e0.symm)
    ((emb_val win0_1 t (ix2 r q) 1 _ 384 (at1 t).2 rfl rfl).trans (by show 0 * 384 + q.val = (i 1).val; omega)))

theorem own2 : iblk0 V c 2 t (ix2 r q) = V c main_v2 i :=
  congrArg (V c main_v2) (Shape.idx_ext₂ ((emb_val win0_2 t (ix2 r q) 0 _ 512 (at2 t).1 rfl rfl).trans e0.symm)
    ((emb_val win0_2 t (ix2 r q) 1 _ 384 (at2 t).2 rfl rfl).trans (by show 0 * 384 + q.val = (i 1).val; omega)))

theorem grad0 (hl : 0 ≤ t.val) (hu : t.val < 2) :
    gradA (iblk0 V c 3 t) (iblk0 V c 4 t) (ix2 r q) = G V c i := by
  have hr : (t.val - 0) * 512 + r.val < 1024 := by have := r.isLt; omega
  have e : G V c i = gradA (V c main_arg3) (V c main_arg4) (ix2 (⟨(t.val - 0) * 512 + r.val, hr⟩ : Fin 1024) q) :=
    rows_at shapeCasts_S2x1024x384_S2048x384 ![gradA (V c main_arg3) (V c main_arg4), gradA (V c main_arg5) (V c main_arg6)] (0 : Fin 2) ⟨(t.val - 0) * 512 + r.val, hr⟩ q i
      (e0.trans (by rw [show ((0 : Fin 2) : ℕ) = 0 from rfl]; dsimp only; omega)) e1
  rw [e]
  refine grad_at (R := 512) (congrArg (V c main_arg3) (Shape.idx_ext₂ ?_ ?_)) fun k => congrArg (V c main_arg4) (idx_ext3 ?_ ?_ ?_)
  · exact emb_val win0_3 t (ix2 r q) 0 _ 512 (at3 t hl hu).1 rfl rfl
  · exact (emb_val win0_3 t (ix2 r q) 1 _ 384 (at3 t hl hu).2 rfl rfl).trans (by show 0 * 384 + q.val = q.val; omega)
  · exact (emb_val win0_4 t (ix3 k r q) 0 _ 3 (at4 t hl hu).1 rfl rfl).trans (by show 0 * 3 + k.val = k.val; omega)
  · exact emb_val win0_4 t (ix3 k r q) 1 _ 512 (at4 t hl hu).2.1 rfl rfl
  · exact (emb_val win0_4 t (ix3 k r q) 2 _ 384 (at4 t hl hu).2.2 rfl rfl).trans (by show 0 * 384 + q.val = q.val; omega)

theorem grad1 (hl : 2 ≤ t.val) (hu : t.val < 4) :
    gradA (iblk0 V c 5 t) (iblk0 V c 6 t) (ix2 r q) = G V c i := by
  have hr : (t.val - 2) * 512 + r.val < 1024 := by have := r.isLt; omega
  have e : G V c i = gradA (V c main_arg5) (V c main_arg6) (ix2 (⟨(t.val - 2) * 512 + r.val, hr⟩ : Fin 1024) q) :=
    rows_at shapeCasts_S2x1024x384_S2048x384 ![gradA (V c main_arg3) (V c main_arg4), gradA (V c main_arg5) (V c main_arg6)] (1 : Fin 2) ⟨(t.val - 2) * 512 + r.val, hr⟩ q i
      (e0.trans (by rw [show ((1 : Fin 2) : ℕ) = 1 from rfl]; dsimp only; omega)) e1
  rw [e]
  refine grad_at (R := 512) (congrArg (V c main_arg5) (Shape.idx_ext₂ ?_ ?_)) fun k => congrArg (V c main_arg6) (idx_ext3 ?_ ?_ ?_)
  · exact emb_val win0_5 t (ix2 r q) 0 _ 512 (at5 t hl hu).1 rfl rfl
  · exact (emb_val win0_5 t (ix2 r q) 1 _ 384 (at5 t hl hu).2 rfl rfl).trans (by show 0 * 384 + q.val = q.val; omega)
  · exact (emb_val win0_6 t (ix3 k r q) 0 _ 3 (at6 t hl hu).1 rfl rfl).trans (by show 0 * 3 + k.val = k.val; omega)
  · exact emb_val win0_6 t (ix3 k r q) 1 _ 512 (at6 t hl hu).2.1 rfl rfl
  · exact (emb_val win0_6 t (ix3 k r q) 2 _ 384 (at6 t hl hu).2.2 rfl rfl).trans (by show 0 * 384 + q.val = q.val; omega)

end

/-- What point `t` writes back is its block of the region's function. -/
theorem flushed7 (t : Fin cfg0.N) :
    (dat0 V c).flushed 7 t = (win0_7.blk t).view.read (Elt Ideal) (G V c) := by
  show (cfg0.win 7).cut (grid0.coords t) ((dat0 V c).after 7 t) = _
  have ht : t.val < 4 := lt_of_lt_of_eq t.isLt N_0
  rw [after0_7]
  funext j
  obtain ⟨r, q, rfl⟩ : ∃ (r : Fin 512) (q : Fin 384), j = ix2 r q := ⟨_, _, eq_ix2 j⟩
  show (outsAt0 V c t.val t.isLt).1 (ix2 r q) = (G V c) ((win0_7.rect t).emb (ix2 r q))
  have e0 : ((win0_7.rect t).emb (ix2 r q) 0 : ℕ) = t.val * 512 + r.val := emb_val win0_7 t (ix2 r q) 0 _ 512 (at7 t).1 rfl rfl
  have e1 : ((win0_7.rect t).emb (ix2 r q) 1 : ℕ) = q.val :=
    (emb_val win0_7 t (ix2 r q) 1 _ 384 (at7 t).2 rfl rfl).trans (by show 0 * 384 + q.val = q.val; omega)
  generalize (win0_7.rect t).emb (ix2 r q) = i at e0 e1 ⊢
  rcases (by omega : 0 ≤ t.val ∧ t.val < 2 ∨ 2 ≤ t.val ∧ t.val < 4) with ⟨hl, hu⟩ | ⟨hl, hu⟩
  · rw [outsAt0_A V c t (by omega) (by omega) ]
    dsimp only
    rw [Block0.grad_A]
    exact grad0 V c t r q i e0 e1 (by omega) (by omega)
  · rw [outsAt0_B V c t (by omega) (by omega) ]
    dsimp only
    rw [Block0.grad_B]
    exact grad1 V c t r q i e0 e1 (by omega) (by omega)

theorem cover7 (i : S2048x384.Idx) :
    ∃ t : Fin cfg0.N, (cfg0.win 7).flush t = true ∧ i ∈ ((cfg0.win 7).blk t).view.set := by
  have b0 : (i 0 : ℕ) < 2048 := (i 0).isLt
  have b1 : (i 1 : ℕ) < 384 := (i 1).isLt
  have hN : cfg0.N = 4 := N_0
  have ht : (i 0 : ℕ) / 512 < cfg0.N := by omega
  have h := at7 ⟨(i 0 : ℕ) / 512, ht⟩
  refine ⟨⟨(i 0 : ℕ) / 512, ht⟩, flush0_7 _, ?_⟩
  show i ∈ ((View.whole main_v3_0).slice (win0_7.rect ⟨(i 0 : ℕ) / 512, ht⟩)).set
  rw [View.set_slice_whole]
  refine mem_unit2 _ _ _ i ?_ ?_
  · show win0_7.index ⟨_, ht⟩ 0 * 512 ≤ (i 0 : ℕ) ∧ (i 0 : ℕ) < win0_7.index ⟨_, ht⟩ 0 * 512 + 512
    rw [h.1]; dsimp only; omega
  · show win0_7.index ⟨_, ht⟩ 1 * 384 ≤ (i 1 : ℕ) ∧ (i 1 : ℕ) < win0_7.index ⟨_, ht⟩ 1 * 384 + 384
    rw [h.2]; dsimp only; omega

theorem grad : (dat0 V c).arrAt 7 cfg0.N = G V c :=
  (dat0 V c).arrAt_eq_of_cover 7 (G V c) (fun t _ => flushed7 V c t) cover7

/-- What point `t` writes back is its block of the region's function. -/
theorem flushed8 (t : Fin cfg0.N) :
    (dat0 V c).flushed 8 t = (win0_8.blk t).view.read (Elt Ideal) (deltaA (V c main_v0) (V c main_v1) (V c main_v2) (G V c)) := by
  show (cfg0.win 8).cut (grid0.coords t) ((dat0 V c).after 8 t) = _
  have ht : t.val < 4 := lt_of_lt_of_eq t.isLt N_0
  rw [after0_8]
  funext j
  obtain ⟨r, q, rfl⟩ : ∃ (r : Fin 512) (q : Fin 384), j = ix2 r q := ⟨_, _, eq_ix2 j⟩
  show (outsAt0 V c t.val t.isLt).2.1 (ix2 r q) = (deltaA (V c main_v0) (V c main_v1) (V c main_v2) (G V c)) ((win0_8.rect t).emb (ix2 r q))
  have e0 : ((win0_8.rect t).emb (ix2 r q) 0 : ℕ) = t.val * 512 + r.val := emb_val win0_8 t (ix2 r q) 0 _ 512 (at8 t).1 rfl rfl
  have e1 : ((win0_8.rect t).emb (ix2 r q) 1 : ℕ) = q.val :=
    (emb_val win0_8 t (ix2 r q) 1 _ 384 (at8 t).2 rfl rfl).trans (by show 0 * 384 + q.val = q.val; omega)
  generalize (win0_8.rect t).emb (ix2 r q) = i at e0 e1 ⊢
  rcases (by omega : 0 ≤ t.val ∧ t.val < 2 ∨ 2 ≤ t.val ∧ t.val < 4) with ⟨hl, hu⟩ | ⟨hl, hu⟩
  · rw [outsAt0_A V c t (by omega) (by omega) ]
    dsimp only
    rw [Block0.step_A]
    exact delta_at (own0 V c t r q i e0 e1) (own1 V c t r q i e0 e1) (own2 V c t r q i e0 e1) (grad0 V c t r q i e0 e1 (by omega) (by omega))
  · rw [outsAt0_B V c t (by omega) (by omega) ]
    dsimp only
    rw [Block0.step_B]
    exact delta_at (own0 V c t r q i e0 e1) (own1 V c t r q i e0 e1) (own2 V c t r q i e0 e1) (grad1 V c t r q i e0 e1 (by omega) (by omega))

theorem cover8 (i : S2048x384.Idx) :
    ∃ t : Fin cfg0.N, (cfg0.win 8).flush t = true ∧ i ∈ ((cfg0.win 8).blk t).view.set := by
  have b0 : (i 0 : ℕ) < 2048 := (i 0).isLt
  have b1 : (i 1 : ℕ) < 384 := (i 1).isLt
  have hN : cfg0.N = 4 := N_0
  have ht : (i 0 : ℕ) / 512 < cfg0.N := by omega
  have h := at8 ⟨(i 0 : ℕ) / 512, ht⟩
  refine ⟨⟨(i 0 : ℕ) / 512, ht⟩, flush0_8 _, ?_⟩
  show i ∈ ((View.whole main_v3_1).slice (win0_8.rect ⟨(i 0 : ℕ) / 512, ht⟩)).set
  rw [View.set_slice_whole]
  refine mem_unit2 _ _ _ i ?_ ?_
  · show win0_8.index ⟨_, ht⟩ 0 * 512 ≤ (i 0 : ℕ) ∧ (i 0 : ℕ) < win0_8.index ⟨_, ht⟩ 0 * 512 + 512
    rw [h.1]; dsimp only; omega
  · show win0_8.index ⟨_, ht⟩ 1 * 384 ≤ (i 1 : ℕ) ∧ (i 1 : ℕ) < win0_8.index ⟨_, ht⟩ 1 * 384 + 384
    rw [h.2]; dsimp only; omega

theorem step : (dat0 V c).arrAt 8 cfg0.N = deltaA (V c main_v0) (V c main_v1) (V c main_v2) (G V c) :=
  (dat0 V c).arrAt_eq_of_cover 8 (deltaA (V c main_v0) (V c main_v1) (V c main_v2) (G V c)) (fun t _ => flushed8 V c t) cover8

/-- What point `t` writes back is its block of the region's function. -/
theorem flushed9 (t : Fin cfg0.N) :
    (dat0 V c).flushed 9 t = (win0_9.blk t).view.read (Elt Ideal) (momA (V c main_v1) (G V c)) := by
  show (cfg0.win 9).cut (grid0.coords t) ((dat0 V c).after 9 t) = _
  have ht : t.val < 4 := lt_of_lt_of_eq t.isLt N_0
  rw [after0_9]
  funext j
  obtain ⟨r, q, rfl⟩ : ∃ (r : Fin 512) (q : Fin 384), j = ix2 r q := ⟨_, _, eq_ix2 j⟩
  show (outsAt0 V c t.val t.isLt).2.2.1 (ix2 r q) = (momA (V c main_v1) (G V c)) ((win0_9.rect t).emb (ix2 r q))
  have e0 : ((win0_9.rect t).emb (ix2 r q) 0 : ℕ) = t.val * 512 + r.val := emb_val win0_9 t (ix2 r q) 0 _ 512 (at9 t).1 rfl rfl
  have e1 : ((win0_9.rect t).emb (ix2 r q) 1 : ℕ) = q.val :=
    (emb_val win0_9 t (ix2 r q) 1 _ 384 (at9 t).2 rfl rfl).trans (by show 0 * 384 + q.val = q.val; omega)
  generalize (win0_9.rect t).emb (ix2 r q) = i at e0 e1 ⊢
  rcases (by omega : 0 ≤ t.val ∧ t.val < 2 ∨ 2 ≤ t.val ∧ t.val < 4) with ⟨hl, hu⟩ | ⟨hl, hu⟩
  · rw [outsAt0_A V c t (by omega) (by omega) ]
    dsimp only
    rw [Block0.mom_A]
    exact mom_at (own1 V c t r q i e0 e1) (grad0 V c t r q i e0 e1 (by omega) (by omega))
  · rw [outsAt0_B V c t (by omega) (by omega) ]
    dsimp only
    rw [Block0.mom_B]
    exact mom_at (own1 V c t r q i e0 e1) (grad1 V c t r q i e0 e1 (by omega) (by omega))

theorem cover9 (i : S2048x384.Idx) :
    ∃ t : Fin cfg0.N, (cfg0.win 9).flush t = true ∧ i ∈ ((cfg0.win 9).blk t).view.set := by
  have b0 : (i 0 : ℕ) < 2048 := (i 0).isLt
  have b1 : (i 1 : ℕ) < 384 := (i 1).isLt
  have hN : cfg0.N = 4 := N_0
  have ht : (i 0 : ℕ) / 512 < cfg0.N := by omega
  have h := at9 ⟨(i 0 : ℕ) / 512, ht⟩
  refine ⟨⟨(i 0 : ℕ) / 512, ht⟩, flush0_9 _, ?_⟩
  show i ∈ ((View.whole main_v3_2).slice (win0_9.rect ⟨(i 0 : ℕ) / 512, ht⟩)).set
  rw [View.set_slice_whole]
  refine mem_unit2 _ _ _ i ?_ ?_
  · show win0_9.index ⟨_, ht⟩ 0 * 512 ≤ (i 0 : ℕ) ∧ (i 0 : ℕ) < win0_9.index ⟨_, ht⟩ 0 * 512 + 512
    rw [h.1]; dsimp only; omega
  · show win0_9.index ⟨_, ht⟩ 1 * 384 ≤ (i 1 : ℕ) ∧ (i 1 : ℕ) < win0_9.index ⟨_, ht⟩ 1 * 384 + 384
    rw [h.2]; dsimp only; omega

theorem mom : (dat0 V c).arrAt 9 cfg0.N = momA (V c main_v1) (G V c) :=
  (dat0 V c).arrAt_eq_of_cover 9 (momA (V c main_v1) (G V c)) (fun t _ => flushed9 V c t) cover9

/-- What point `t` writes back is its block of the region's function. -/
theorem flushed10 (t : Fin cfg0.N) :
    (dat0 V c).flushed 10 t = (win0_10.blk t).view.read (Elt Ideal) (velA (V c main_v2) (G V c)) := by
  show (cfg0.win 10).cut (grid0.coords t) ((dat0 V c).after 10 t) = _
  have ht : t.val < 4 := lt_of_lt_of_eq t.isLt N_0
  rw [after0_10]
  funext j
  obtain ⟨r, q, rfl⟩ : ∃ (r : Fin 512) (q : Fin 384), j = ix2 r q := ⟨_, _, eq_ix2 j⟩
  show (outsAt0 V c t.val t.isLt).2.2.2 (ix2 r q) = (velA (V c main_v2) (G V c)) ((win0_10.rect t).emb (ix2 r q))
  have e0 : ((win0_10.rect t).emb (ix2 r q) 0 : ℕ) = t.val * 512 + r.val := emb_val win0_10 t (ix2 r q) 0 _ 512 (at10 t).1 rfl rfl
  have e1 : ((win0_10.rect t).emb (ix2 r q) 1 : ℕ) = q.val :=
    (emb_val win0_10 t (ix2 r q) 1 _ 384 (at10 t).2 rfl rfl).trans (by show 0 * 384 + q.val = q.val; omega)
  generalize (win0_10.rect t).emb (ix2 r q) = i at e0 e1 ⊢
  rcases (by omega : 0 ≤ t.val ∧ t.val < 2 ∨ 2 ≤ t.val ∧ t.val < 4) with ⟨hl, hu⟩ | ⟨hl, hu⟩
  · rw [outsAt0_A V c t (by omega) (by omega) ]
    dsimp only
    rw [Block0.vel_A]
    exact vel_at (own2 V c t r q i e0 e1) (grad0 V c t r q i e0 e1 (by omega) (by omega))
  · rw [outsAt0_B V c t (by omega) (by omega) ]
    dsimp only
    rw [Block0.vel_B]
    exact vel_at (own2 V c t r q i e0 e1) (grad1 V c t r q i e0 e1 (by omega) (by omega))

theorem cover10 (i : S2048x384.Idx) :
    ∃ t : Fin cfg0.N, (cfg0.win 10).flush t = true ∧ i ∈ ((cfg0.win 10).blk t).view.set := by
  have b0 : (i 0 : ℕ) < 2048 := (i 0).isLt
  have b1 : (i 1 : ℕ) < 384 := (i 1).isLt
  have hN : cfg0.N = 4 := N_0
  have ht : (i 0 : ℕ) / 512 < cfg0.N := by omega
  have h := at10 ⟨(i 0 : ℕ) / 512, ht⟩
  refine ⟨⟨(i 0 : ℕ) / 512, ht⟩, flush0_10 _, ?_⟩
  show i ∈ ((View.whole main_v3_3).slice (win0_10.rect ⟨(i 0 : ℕ) / 512, ht⟩)).set
  rw [View.set_slice_whole]
  refine mem_unit2 _ _ _ i ?_ ?_
  · show win0_10.index ⟨_, ht⟩ 0 * 512 ≤ (i 0 : ℕ) ∧ (i 0 : ℕ) < win0_10.index ⟨_, ht⟩ 0 * 512 + 512
    rw [h.1]; dsimp only; omega
  · show win0_10.index ⟨_, ht⟩ 1 * 384 ≤ (i 1 : ℕ) ∧ (i 1 : ℕ) < win0_10.index ⟨_, ht⟩ 1 * 384 + 384
    rw [h.2]; dsimp only; omega

theorem vel : (dat0 V c).arrAt 10 cfg0.N = velA (V c main_v2) (G V c) :=
  (dat0 V c).arrAt_eq_of_cover 10 (velA (V c main_v2) (G V c)) (fun t _ => flushed10 V c t) cover10

end Cert.AdamIdeal.Arrays0
-- ==== Proof.AdamBlock1.lean ====
/-
  ADAMW ON sc_w_out, ONE GRID POINT: a weight of 2 layers, blocks of 128 rows. A point belongs to one layer and works on that layer's
  gradient parts; the four blocks it leaves are the gradient, the step and the two new moments (`AdamMath`).
-/
module

public import proofs.«01_k».proof.Proof.AdamStack
public import proofs.«01_k».proof.Proof.Conv
public import proofs.«01_k».proof.Proof.Gen.AdamIdeal.Frame.Region1

@[expose] public section

set_option maxRecDepth 16384

noncomputable section

namespace Cert.AdamIdeal.Block1

open Cert.AdamIdeal Cert.AdamIdeal.Gen Cert.Products Cert.Blocks Cert.Conv Cert.AdamMath
open Idealize.ShloMosaic Idealize.ShloMosaic.TcCoe Idealize.ShloMosaic.ValueIdx Idealize.SL.Sem

/-! ## A point of layer 0 -/

section
variable (c : Dev nD) (i : grid1.Coords) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S3x128x1024 .bf16) (harg6 : arg6.IsWhole) (arg7 : Memref sig .tc .vmem S128x1024 .f32) (harg7 : arg7.IsWhole) (arg8 : Memref sig .tc .vmem S3x128x1024 .bf16) (harg8 : arg8.IsWhole) (arg9 : Memref sig .tc .vmem S128x1024 .f32) (harg9 : arg9.IsWhole) (arg10 : Memref sig .tc .vmem S128x1024 .f32) (harg10 : arg10.IsWhole) (arg11 : Memref sig .tc .vmem S128x1024 .f32) (harg11 : arg11.IsWhole) (arg12 : Memref sig .tc .vmem S128x1024 .f32) (harg12 : arg12.IsWhole) (hc0 : cond1_0 i) (hc1 : ¬cond1_1 i)
    (x0 : Vec Ideal S128x1024 .f32) (x1 : Vec Ideal S128x1024 .f32) (x2 : Vec Ideal S128x1024 .f32) (x3 : Vec Ideal S128x1024 .f32) (x4 : Vec Ideal S3x128x1024 .bf16) (x5 : Vec Ideal S128x1024 .f32) (x6 : Vec Ideal S3x128x1024 .bf16)

theorem grad_A : out1_A_7 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 = gradA x3 x4 := by
  unfold out1_A_7
  rw [View.read_writes_junk_eq_canon]
  unfold kernelRun1_A
  dsimp only
  sl_unfold_run_names
  rw [View.canon_unit_zero hz]
  simp only [readAt_unread, idx_whole, k1_pay1, k1_pay2, k1_pay3, k1_pay4, k1_pay5, k1_pay6, k1_pay7, k1_pay8, k1_pay9, k1_pay10, k1_pay11, k1_pay12, k1_pay13, k1_pay14, k1_pay15, k1_pay16, shapeCast_self]
  show gradK shapeCasts_S1x128x1024_S128x1024 x3 (View.ld (Val := Elt Ideal) (e' := .bf16) x4 (Rect.unit (s := S3x128x1024) ![0, 0, 0] ![1, 128, 1024] inb_S3x128x1024_S1x128x1024_0_0_0)) (View.ld (Val := Elt Ideal) (e' := .bf16) x4 (Rect.unit (s := S3x128x1024) ![1, 0, 0] ![1, 128, 1024] inb_S3x128x1024_S1x128x1024_1_0_0)) (View.ld (Val := Elt Ideal) (e' := .bf16) x4 (Rect.unit (s := S3x128x1024) ![2, 0, 0] ![1, 128, 1024] inb_S3x128x1024_S1x128x1024_2_0_0)) = _
  rw [gradK_ld]

theorem step_A : out1_A_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 = deltaA x0 x1 x2 (gradA x3 x4) := by
  unfold out1_A_8
  rw [View.read_writes_junk_eq_canon]
  unfold kernelRun1_A
  dsimp only
  sl_unfold_run_names
  rw [View.canon_unit_zero hz]
  simp only [readAt_unread, idx_whole, k1_pay1, k1_pay2, k1_pay3, k1_pay4, k1_pay5, k1_pay6, k1_pay7, k1_pay8, k1_pay9, k1_pay10, k1_pay11, k1_pay12, k1_pay13, k1_pay14, k1_pay15, k1_pay16, shapeCast_self]
  show deltaA x0 x1 x2 (gradK shapeCasts_S1x128x1024_S128x1024 x3 (View.ld (Val := Elt Ideal) (e' := .bf16) x4 (Rect.unit (s := S3x128x1024) ![0, 0, 0] ![1, 128, 1024] inb_S3x128x1024_S1x128x1024_0_0_0)) (View.ld (Val := Elt Ideal) (e' := .bf16) x4 (Rect.unit (s := S3x128x1024) ![1, 0, 0] ![1, 128, 1024] inb_S3x128x1024_S1x128x1024_1_0_0)) (View.ld (Val := Elt Ideal) (e' := .bf16) x4 (Rect.unit (s := S3x128x1024) ![2, 0, 0] ![1, 128, 1024] inb_S3x128x1024_S1x128x1024_2_0_0))) = _
  rw [gradK_ld]

theorem mom_A : out1_A_9 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 = momA x1 (gradA x3 x4) := by
  unfold out1_A_9
  rw [View.read_writes_junk_eq_canon]
  unfold kernelRun1_A
  dsimp only
  sl_unfold_run_names
  rw [View.canon_unit_zero hz]
  simp only [readAt_unread, idx_whole, k1_pay1, k1_pay2, k1_pay3, k1_pay4, k1_pay5, k1_pay6, k1_pay7, k1_pay8, k1_pay9, k1_pay10, k1_pay11, k1_pay12, k1_pay13, k1_pay14, k1_pay15, k1_pay16, shapeCast_self]
  show momA x1 (gradK shapeCasts_S1x128x1024_S128x1024 x3 (View.ld (Val := Elt Ideal) (e' := .bf16) x4 (Rect.unit (s := S3x128x1024) ![0, 0, 0] ![1, 128, 1024] inb_S3x128x1024_S1x128x1024_0_0_0)) (View.ld (Val := Elt Ideal) (e' := .bf16) x4 (Rect.unit (s := S3x128x1024) ![1, 0, 0] ![1, 128, 1024] inb_S3x128x1024_S1x128x1024_1_0_0)) (View.ld (Val := Elt Ideal) (e' := .bf16) x4 (Rect.unit (s := S3x128x1024) ![2, 0, 0] ![1, 128, 1024] inb_S3x128x1024_S1x128x1024_2_0_0))) = _
  rw [gradK_ld]

theorem vel_A : out1_A_10 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 = velA x2 (gradA x3 x4) := by
  unfold out1_A_10
  rw [View.read_writes_junk_eq_canon]
  unfold kernelRun1_A
  dsimp only
  sl_unfold_run_names
  rw [View.canon_unit_zero hz]
  simp only [readAt_unread, idx_whole, k1_pay1, k1_pay2, k1_pay3, k1_pay4, k1_pay5, k1_pay6, k1_pay7, k1_pay8, k1_pay9, k1_pay10, k1_pay11, k1_pay12, k1_pay13, k1_pay14, k1_pay15, k1_pay16, shapeCast_self]
  show velA x2 (gradK shapeCasts_S1x128x1024_S128x1024 x3 (View.ld (Val := Elt Ideal) (e' := .bf16) x4 (Rect.unit (s := S3x128x1024) ![0, 0, 0] ![1, 128, 1024] inb_S3x128x1024_S1x128x1024_0_0_0)) (View.ld (Val := Elt Ideal) (e' := .bf16) x4 (Rect.unit (s := S3x128x1024) ![1, 0, 0] ![1, 128, 1024] inb_S3x128x1024_S1x128x1024_1_0_0)) (View.ld (Val := Elt Ideal) (e' := .bf16) x4 (Rect.unit (s := S3x128x1024) ![2, 0, 0] ![1, 128, 1024] inb_S3x128x1024_S1x128x1024_2_0_0))) = _
  rw [gradK_ld]

end

/-! ## A point of layer 1 -/

section
variable (c : Dev nD) (i : grid1.Coords) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S3x128x1024 .bf16) (harg6 : arg6.IsWhole) (arg7 : Memref sig .tc .vmem S128x1024 .f32) (harg7 : arg7.IsWhole) (arg8 : Memref sig .tc .vmem S3x128x1024 .bf16) (harg8 : arg8.IsWhole) (arg9 : Memref sig .tc .vmem S128x1024 .f32) (harg9 : arg9.IsWhole) (arg10 : Memref sig .tc .vmem S128x1024 .f32) (harg10 : arg10.IsWhole) (arg11 : Memref sig .tc .vmem S128x1024 .f32) (harg11 : arg11.IsWhole) (arg12 : Memref sig .tc .vmem S128x1024 .f32) (harg12 : arg12.IsWhole) (hc0 : ¬cond1_0 i) (hc1 : cond1_1 i)
    (x0 : Vec Ideal S128x1024 .f32) (x1 : Vec Ideal S128x1024 .f32) (x2 : Vec Ideal S128x1024 .f32) (x3 : Vec Ideal S128x1024 .f32) (x4 : Vec Ideal S3x128x1024 .bf16) (x5 : Vec Ideal S128x1024 .f32) (x6 : Vec Ideal S3x128x1024 .bf16)

theorem grad_B : out1_B_7 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 = gradA x5 x6 := by
  unfold out1_B_7
  rw [View.read_writes_junk_eq_canon]
  unfold kernelRun1_B
  dsimp only
  sl_unfold_run_names
  rw [View.canon_unit_zero hz]
  simp only [readAt_unread, idx_whole, k1_pay1, k1_pay2, k1_pay3, k1_pay4, k1_pay5, k1_pay6, k1_pay7, k1_pay8, k1_pay9, k1_pay10, k1_pay11, k1_pay12, k1_pay13, k1_pay14, k1_pay15, k1_pay16, shapeCast_self]
  show gradK shapeCasts_S1x128x1024_S128x1024 x5 (View.ld (Val := Elt Ideal) (e' := .bf16) x6 (Rect.unit (s := S3x128x1024) ![0, 0, 0] ![1, 128, 1024] inb_S3x128x1024_S1x128x1024_0_0_0)) (View.ld (Val := Elt Ideal) (e' := .bf16) x6 (Rect.unit (s := S3x128x1024) ![1, 0, 0] ![1, 128, 1024] inb_S3x128x1024_S1x128x1024_1_0_0)) (View.ld (Val := Elt Ideal) (e' := .bf16) x6 (Rect.unit (s := S3x128x1024) ![2, 0, 0] ![1, 128, 1024] inb_S3x128x1024_S1x128x1024_2_0_0)) = _
  rw [gradK_ld]

theorem step_B : out1_B_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 = deltaA x0 x1 x2 (gradA x5 x6) := by
  unfold out1_B_8
  rw [View.read_writes_junk_eq_canon]
  unfold kernelRun1_B
  dsimp only
  sl_unfold_run_names
  rw [View.canon_unit_zero hz]
  simp only [readAt_unread, idx_whole, k1_pay1, k1_pay2, k1_pay3, k1_pay4, k1_pay5, k1_pay6, k1_pay7, k1_pay8, k1_pay9, k1_pay10, k1_pay11, k1_pay12, k1_pay13, k1_pay14, k1_pay15, k1_pay16, shapeCast_self]
  show deltaA x0 x1 x2 (gradK shapeCasts_S1x128x1024_S128x1024 x5 (View.ld (Val := Elt Ideal) (e' := .bf16) x6 (Rect.unit (s := S3x128x1024) ![0, 0, 0] ![1, 128, 1024] inb_S3x128x1024_S1x128x1024_0_0_0)) (View.ld (Val := Elt Ideal) (e' := .bf16) x6 (Rect.unit (s := S3x128x1024) ![1, 0, 0] ![1, 128, 1024] inb_S3x128x1024_S1x128x1024_1_0_0)) (View.ld (Val := Elt Ideal) (e' := .bf16) x6 (Rect.unit (s := S3x128x1024) ![2, 0, 0] ![1, 128, 1024] inb_S3x128x1024_S1x128x1024_2_0_0))) = _
  rw [gradK_ld]

theorem mom_B : out1_B_9 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 = momA x1 (gradA x5 x6) := by
  unfold out1_B_9
  rw [View.read_writes_junk_eq_canon]
  unfold kernelRun1_B
  dsimp only
  sl_unfold_run_names
  rw [View.canon_unit_zero hz]
  simp only [readAt_unread, idx_whole, k1_pay1, k1_pay2, k1_pay3, k1_pay4, k1_pay5, k1_pay6, k1_pay7, k1_pay8, k1_pay9, k1_pay10, k1_pay11, k1_pay12, k1_pay13, k1_pay14, k1_pay15, k1_pay16, shapeCast_self]
  show momA x1 (gradK shapeCasts_S1x128x1024_S128x1024 x5 (View.ld (Val := Elt Ideal) (e' := .bf16) x6 (Rect.unit (s := S3x128x1024) ![0, 0, 0] ![1, 128, 1024] inb_S3x128x1024_S1x128x1024_0_0_0)) (View.ld (Val := Elt Ideal) (e' := .bf16) x6 (Rect.unit (s := S3x128x1024) ![1, 0, 0] ![1, 128, 1024] inb_S3x128x1024_S1x128x1024_1_0_0)) (View.ld (Val := Elt Ideal) (e' := .bf16) x6 (Rect.unit (s := S3x128x1024) ![2, 0, 0] ![1, 128, 1024] inb_S3x128x1024_S1x128x1024_2_0_0))) = _
  rw [gradK_ld]

theorem vel_B : out1_B_10 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 = velA x2 (gradA x5 x6) := by
  unfold out1_B_10
  rw [View.read_writes_junk_eq_canon]
  unfold kernelRun1_B
  dsimp only
  sl_unfold_run_names
  rw [View.canon_unit_zero hz]
  simp only [readAt_unread, idx_whole, k1_pay1, k1_pay2, k1_pay3, k1_pay4, k1_pay5, k1_pay6, k1_pay7, k1_pay8, k1_pay9, k1_pay10, k1_pay11, k1_pay12, k1_pay13, k1_pay14, k1_pay15, k1_pay16, shapeCast_self]
  show velA x2 (gradK shapeCasts_S1x128x1024_S128x1024 x5 (View.ld (Val := Elt Ideal) (e' := .bf16) x6 (Rect.unit (s := S3x128x1024) ![0, 0, 0] ![1, 128, 1024] inb_S3x128x1024_S1x128x1024_0_0_0)) (View.ld (Val := Elt Ideal) (e' := .bf16) x6 (Rect.unit (s := S3x128x1024) ![1, 0, 0] ![1, 128, 1024] inb_S3x128x1024_S1x128x1024_1_0_0)) (View.ld (Val := Elt Ideal) (e' := .bf16) x6 (Rect.unit (s := S3x128x1024) ![2, 0, 0] ![1, 128, 1024] inb_S3x128x1024_S1x128x1024_2_0_0))) = _
  rw [gradK_ld]

end

end Cert.AdamIdeal.Block1
-- ==== Proof.AdamArrays1.lean ====
/-
  ADAMW ON sc_w_out, THE ARRAYS. The grid walks 2 blocks of 128 rows, 1 to a layer; `atW` is window `W`'s block index at point
  `t`. Each of the four results ends at a function of the arrays the region finds: the layers' gradients one under the other
  (`G`), and the step and the moments that follow from them.
-/
module

public import proofs.«01_k».proof.Proof.AdamBlock1
public import proofs.«01_k».proof.Proof.AdamStack
public import proofs.«01_k».proof.Proof.Gen.AdamIdeal.Points
public import Idealize.ShloMosaic.Lib.Pipeline.Value

@[expose] public section

set_option maxRecDepth 16384

noncomputable section

namespace Cert.AdamIdeal.Arrays1

open Cert.AdamIdeal Cert.AdamIdeal.Gen Cert.Products Cert.Blocks Cert.AdamMath Cert.AdamStack
open Idealize.ShloMosaic Idealize.ShloMosaic.TcCoe Idealize.ShloMosaic.ValueIdx Idealize.SL.Sem
open Idealize.ShloMosaic.Pipeline (Dat Window)

variable (V : (c : Dev nD) → (b : Ref sig .tc) → Buf (Elt Ideal) ((c : Thread nD τ).loc b)) (c : Dev nD)

/-- The layers' gradients, one under the other. -/
def G : FVec Ideal S256x1024 .f32 := rows shapeCasts_S2x128x1024_S256x1024 ![gradA (V c main_arg10) (V c main_arg11), gradA (V c main_arg12) (V c main_arg13)]

theorem at0 : ∀ t : Fin grid1.N, win1_0.index t 0 = t.val ∧ win1_0.index t 1 = 0 := by decide +kernel
theorem at1 : ∀ t : Fin grid1.N, win1_1.index t 0 = t.val ∧ win1_1.index t 1 = 0 := by decide +kernel
theorem at2 : ∀ t : Fin grid1.N, win1_2.index t 0 = t.val ∧ win1_2.index t 1 = 0 := by decide +kernel
theorem at7 : ∀ t : Fin grid1.N, win1_7.index t 0 = t.val ∧ win1_7.index t 1 = 0 := by decide +kernel
theorem at8 : ∀ t : Fin grid1.N, win1_8.index t 0 = t.val ∧ win1_8.index t 1 = 0 := by decide +kernel
theorem at9 : ∀ t : Fin grid1.N, win1_9.index t 0 = t.val ∧ win1_9.index t 1 = 0 := by decide +kernel
theorem at10 : ∀ t : Fin grid1.N, win1_10.index t 0 = t.val ∧ win1_10.index t 1 = 0 := by decide +kernel
theorem at3 : ∀ t : Fin grid1.N, 0 ≤ t.val → t.val < 1 → win1_3.index t 0 = t.val - 0 ∧ win1_3.index t 1 = 0 := by decide +kernel
theorem at4 : ∀ t : Fin grid1.N, 0 ≤ t.val → t.val < 1 → win1_4.index t 0 = 0 ∧ win1_4.index t 1 = t.val - 0 ∧ win1_4.index t 2 = 0 := by decide +kernel
theorem at5 : ∀ t : Fin grid1.N, 1 ≤ t.val → t.val < 2 → win1_5.index t 0 = t.val - 1 ∧ win1_5.index t 1 = 0 := by decide +kernel
theorem at6 : ∀ t : Fin grid1.N, 1 ≤ t.val → t.val < 2 → win1_6.index t 0 = 0 ∧ win1_6.index t 1 = t.val - 1 ∧ win1_6.index t 2 = 0 := by decide +kernel

section
variable (t : Fin cfg1.N) (r : Fin 128) (q : Fin 1024) (i : S256x1024.Idx) (e0 : (i 0).val = t.val * 128 + r.val) (e1 : (i 1).val = q.val)
include e0 e1

theorem own0 : iblk1 V c 0 t (ix2 r q) = V c main_v8 i :=
  congrArg (V c main_v8) (Shape.idx_ext₂ ((emb_val win1_0 t (ix2 r q) 0 _ 128 (at0 t).1 rfl rfl).trans e0.symm)
    ((emb_val win1_0 t (ix2 r q) 1 _ 1024 (at0 t).2 rfl rfl).trans (by show 0 * 1024 + q.val = (i 1).val; omega)))

theorem own1 : iblk1 V c 1 t (ix2 r q) = V c main_v9 i :=
  congrArg (V c main_v9) (Shape.idx_ext₂ ((emb_val win1_1 t (ix2 r q) 0 _ 128 (at1 t).1 rfl rfl).trans e0.symm)
    ((emb_val win1_1 t (ix2 r q) 1 _ 1024 (at1 t).2 rfl rfl).trans (by show 0 * 1024 + q.val = (i 1).val; omega)))

theorem own2 : iblk1 V c 2 t (ix2 r q) = V c main_v10 i :=
  congrArg (V c main_v10) (Shape.idx_ext₂ ((emb_val win1_2 t (ix2 r q) 0 _ 128 (at2 t).1 rfl rfl).trans e0.symm)
    ((emb_val win1_2 t (ix2 r q) 1 _ 1024 (at2 t).2 rfl rfl).trans (by show 0 * 1024 + q.val = (i 1).val; omega)))

theorem grad0 (hl : 0 ≤ t.val) (hu : t.val < 1) :
    gradA (iblk1 V c 3 t) (iblk1 V c 4 t) (ix2 r q) = G V c i := by
  have hr : (t.val - 0) * 128 + r.val < 128 := by have := r.isLt; omega
  have e : G V c i = gradA (V c main_arg10) (V c main_arg11) (ix2 (⟨(t.val - 0) * 128 + r.val, hr⟩ : Fin 128) q) :=
    rows_at shapeCasts_S2x128x1024_S256x1024 ![gradA (V c main_arg10) (V c main_arg11), gradA (V c main_arg12) (V c main_arg13)] (0 : Fin 2) ⟨(t.val - 0) * 128 + r.val, hr⟩ q i
      (e0.trans (by rw [show ((0 : Fin 2) : ℕ) = 0 from rfl]; dsimp only; omega)) e1
  rw [e]
  refine grad_at (R := 128) (congrArg (V c main_arg10) (Shape.idx_ext₂ ?_ ?_)) fun k => congrArg (V c main_arg11) (idx_ext3 ?_ ?_ ?_)
  · exact emb_val win1_3 t (ix2 r q) 0 _ 128 (at3 t hl hu).1 rfl rfl
  · exact (emb_val win1_3 t (ix2 r q) 1 _ 1024 (at3 t hl hu).2 rfl rfl).trans (by show 0 * 1024 + q.val = q.val; omega)
  · exact (emb_val win1_4 t (ix3 k r q) 0 _ 3 (at4 t hl hu).1 rfl rfl).trans (by show 0 * 3 + k.val = k.val; omega)
  · exact emb_val win1_4 t (ix3 k r q) 1 _ 128 (at4 t hl hu).2.1 rfl rfl
  · exact (emb_val win1_4 t (ix3 k r q) 2 _ 1024 (at4 t hl hu).2.2 rfl rfl).trans (by show 0 * 1024 + q.val = q.val; omega)

theorem grad1 (hl : 1 ≤ t.val) (hu : t.val < 2) :
    gradA (iblk1 V c 5 t) (iblk1 V c 6 t) (ix2 r q) = G V c i := by
  have hr : (t.val - 1) * 128 + r.val < 128 := by have := r.isLt; omega
  have e : G V c i = gradA (V c main_arg12) (V c main_arg13) (ix2 (⟨(t.val - 1) * 128 + r.val, hr⟩ : Fin 128) q) :=
    rows_at shapeCasts_S2x128x1024_S256x1024 ![gradA (V c main_arg10) (V c main_arg11), gradA (V c main_arg12) (V c main_arg13)] (1 : Fin 2) ⟨(t.val - 1) * 128 + r.val, hr⟩ q i
      (e0.trans (by rw [show ((1 : Fin 2) : ℕ) = 1 from rfl]; dsimp only; omega)) e1
  rw [e]
  refine grad_at (R := 128) (congrArg (V c main_arg12) (Shape.idx_ext₂ ?_ ?_)) fun k => congrArg (V c main_arg13) (idx_ext3 ?_ ?_ ?_)
  · exact emb_val win1_5 t (ix2 r q) 0 _ 128 (at5 t hl hu).1 rfl rfl
  · exact (emb_val win1_5 t (ix2 r q) 1 _ 1024 (at5 t hl hu).2 rfl rfl).trans (by show 0 * 1024 + q.val = q.val; omega)
  · exact (emb_val win1_6 t (ix3 k r q) 0 _ 3 (at6 t hl hu).1 rfl rfl).trans (by show 0 * 3 + k.val = k.val; omega)
  · exact emb_val win1_6 t (ix3 k r q) 1 _ 128 (at6 t hl hu).2.1 rfl rfl
  · exact (emb_val win1_6 t (ix3 k r q) 2 _ 1024 (at6 t hl hu).2.2 rfl rfl).trans (by show 0 * 1024 + q.val = q.val; omega)

end

/-- What point `t` writes back is its block of the region's function. -/
theorem flushed7 (t : Fin cfg1.N) :
    (dat1 V c).flushed 7 t = (win1_7.blk t).view.read (Elt Ideal) (G V c) := by
  show (cfg1.win 7).cut (grid1.coords t) ((dat1 V c).after 7 t) = _
  have ht : t.val < 2 := lt_of_lt_of_eq t.isLt N_1
  rw [after1_7]
  funext j
  obtain ⟨r, q, rfl⟩ : ∃ (r : Fin 128) (q : Fin 1024), j = ix2 r q := ⟨_, _, eq_ix2 j⟩
  show (outsAt1 V c t.val t.isLt).1 (ix2 r q) = (G V c) ((win1_7.rect t).emb (ix2 r q))
  have e0 : ((win1_7.rect t).emb (ix2 r q) 0 : ℕ) = t.val * 128 + r.val := emb_val win1_7 t (ix2 r q) 0 _ 128 (at7 t).1 rfl rfl
  have e1 : ((win1_7.rect t).emb (ix2 r q) 1 : ℕ) = q.val :=
    (emb_val win1_7 t (ix2 r q) 1 _ 1024 (at7 t).2 rfl rfl).trans (by show 0 * 1024 + q.val = q.val; omega)
  generalize (win1_7.rect t).emb (ix2 r q) = i at e0 e1 ⊢
  rcases (by omega : 0 ≤ t.val ∧ t.val < 1 ∨ 1 ≤ t.val ∧ t.val < 2) with ⟨hl, hu⟩ | ⟨hl, hu⟩
  · rw [outsAt1_A V c t (by omega) (by omega) ]
    dsimp only
    rw [Block1.grad_A]
    exact grad0 V c t r q i e0 e1 (by omega) (by omega)
  · rw [outsAt1_B V c t (by omega) (by omega) ]
    dsimp only
    rw [Block1.grad_B]
    exact grad1 V c t r q i e0 e1 (by omega) (by omega)

theorem cover7 (i : S256x1024.Idx) :
    ∃ t : Fin cfg1.N, (cfg1.win 7).flush t = true ∧ i ∈ ((cfg1.win 7).blk t).view.set := by
  have b0 : (i 0 : ℕ) < 256 := (i 0).isLt
  have b1 : (i 1 : ℕ) < 1024 := (i 1).isLt
  have hN : cfg1.N = 2 := N_1
  have ht : (i 0 : ℕ) / 128 < cfg1.N := by omega
  have h := at7 ⟨(i 0 : ℕ) / 128, ht⟩
  refine ⟨⟨(i 0 : ℕ) / 128, ht⟩, flush1_7 _, ?_⟩
  show i ∈ ((View.whole main_v11_0).slice (win1_7.rect ⟨(i 0 : ℕ) / 128, ht⟩)).set
  rw [View.set_slice_whole]
  refine mem_unit2 _ _ _ i ?_ ?_
  · show win1_7.index ⟨_, ht⟩ 0 * 128 ≤ (i 0 : ℕ) ∧ (i 0 : ℕ) < win1_7.index ⟨_, ht⟩ 0 * 128 + 128
    rw [h.1]; dsimp only; omega
  · show win1_7.index ⟨_, ht⟩ 1 * 1024 ≤ (i 1 : ℕ) ∧ (i 1 : ℕ) < win1_7.index ⟨_, ht⟩ 1 * 1024 + 1024
    rw [h.2]; dsimp only; omega

theorem grad : (dat1 V c).arrAt 7 cfg1.N = G V c :=
  (dat1 V c).arrAt_eq_of_cover 7 (G V c) (fun t _ => flushed7 V c t) cover7

/-- What point `t` writes back is its block of the region's function. -/
theorem flushed8 (t : Fin cfg1.N) :
    (dat1 V c).flushed 8 t = (win1_8.blk t).view.read (Elt Ideal) (deltaA (V c main_v8) (V c main_v9) (V c main_v10) (G V c)) := by
  show (cfg1.win 8).cut (grid1.coords t) ((dat1 V c).after 8 t) = _
  have ht : t.val < 2 := lt_of_lt_of_eq t.isLt N_1
  rw [after1_8]
  funext j
  obtain ⟨r, q, rfl⟩ : ∃ (r : Fin 128) (q : Fin 1024), j = ix2 r q := ⟨_, _, eq_ix2 j⟩
  show (outsAt1 V c t.val t.isLt).2.1 (ix2 r q) = (deltaA (V c main_v8) (V c main_v9) (V c main_v10) (G V c)) ((win1_8.rect t).emb (ix2 r q))
  have e0 : ((win1_8.rect t).emb (ix2 r q) 0 : ℕ) = t.val * 128 + r.val := emb_val win1_8 t (ix2 r q) 0 _ 128 (at8 t).1 rfl rfl
  have e1 : ((win1_8.rect t).emb (ix2 r q) 1 : ℕ) = q.val :=
    (emb_val win1_8 t (ix2 r q) 1 _ 1024 (at8 t).2 rfl rfl).trans (by show 0 * 1024 + q.val = q.val; omega)
  generalize (win1_8.rect t).emb (ix2 r q) = i at e0 e1 ⊢
  rcases (by omega : 0 ≤ t.val ∧ t.val < 1 ∨ 1 ≤ t.val ∧ t.val < 2) with ⟨hl, hu⟩ | ⟨hl, hu⟩
  · rw [outsAt1_A V c t (by omega) (by omega) ]
    dsimp only
    rw [Block1.step_A]
    exact delta_at (own0 V c t r q i e0 e1) (own1 V c t r q i e0 e1) (own2 V c t r q i e0 e1) (grad0 V c t r q i e0 e1 (by omega) (by omega))
  · rw [outsAt1_B V c t (by omega) (by omega) ]
    dsimp only
    rw [Block1.step_B]
    exact delta_at (own0 V c t r q i e0 e1) (own1 V c t r q i e0 e1) (own2 V c t r q i e0 e1) (grad1 V c t r q i e0 e1 (by omega) (by omega))

theorem cover8 (i : S256x1024.Idx) :
    ∃ t : Fin cfg1.N, (cfg1.win 8).flush t = true ∧ i ∈ ((cfg1.win 8).blk t).view.set := by
  have b0 : (i 0 : ℕ) < 256 := (i 0).isLt
  have b1 : (i 1 : ℕ) < 1024 := (i 1).isLt
  have hN : cfg1.N = 2 := N_1
  have ht : (i 0 : ℕ) / 128 < cfg1.N := by omega
  have h := at8 ⟨(i 0 : ℕ) / 128, ht⟩
  refine ⟨⟨(i 0 : ℕ) / 128, ht⟩, flush1_8 _, ?_⟩
  show i ∈ ((View.whole main_v11_1).slice (win1_8.rect ⟨(i 0 : ℕ) / 128, ht⟩)).set
  rw [View.set_slice_whole]
  refine mem_unit2 _ _ _ i ?_ ?_
  · show win1_8.index ⟨_, ht⟩ 0 * 128 ≤ (i 0 : ℕ) ∧ (i 0 : ℕ) < win1_8.index ⟨_, ht⟩ 0 * 128 + 128
    rw [h.1]; dsimp only; omega
  · show win1_8.index ⟨_, ht⟩ 1 * 1024 ≤ (i 1 : ℕ) ∧ (i 1 : ℕ) < win1_8.index ⟨_, ht⟩ 1 * 1024 + 1024
    rw [h.2]; dsimp only; omega

theorem step : (dat1 V c).arrAt 8 cfg1.N = deltaA (V c main_v8) (V c main_v9) (V c main_v10) (G V c) :=
  (dat1 V c).arrAt_eq_of_cover 8 (deltaA (V c main_v8) (V c main_v9) (V c main_v10) (G V c)) (fun t _ => flushed8 V c t) cover8

/-- What point `t` writes back is its block of the region's function. -/
theorem flushed9 (t : Fin cfg1.N) :
    (dat1 V c).flushed 9 t = (win1_9.blk t).view.read (Elt Ideal) (momA (V c main_v9) (G V c)) := by
  show (cfg1.win 9).cut (grid1.coords t) ((dat1 V c).after 9 t) = _
  have ht : t.val < 2 := lt_of_lt_of_eq t.isLt N_1
  rw [after1_9]
  funext j
  obtain ⟨r, q, rfl⟩ : ∃ (r : Fin 128) (q : Fin 1024), j = ix2 r q := ⟨_, _, eq_ix2 j⟩
  show (outsAt1 V c t.val t.isLt).2.2.1 (ix2 r q) = (momA (V c main_v9) (G V c)) ((win1_9.rect t).emb (ix2 r q))
  have e0 : ((win1_9.rect t).emb (ix2 r q) 0 : ℕ) = t.val * 128 + r.val := emb_val win1_9 t (ix2 r q) 0 _ 128 (at9 t).1 rfl rfl
  have e1 : ((win1_9.rect t).emb (ix2 r q) 1 : ℕ) = q.val :=
    (emb_val win1_9 t (ix2 r q) 1 _ 1024 (at9 t).2 rfl rfl).trans (by show 0 * 1024 + q.val = q.val; omega)
  generalize (win1_9.rect t).emb (ix2 r q) = i at e0 e1 ⊢
  rcases (by omega : 0 ≤ t.val ∧ t.val < 1 ∨ 1 ≤ t.val ∧ t.val < 2) with ⟨hl, hu⟩ | ⟨hl, hu⟩
  · rw [outsAt1_A V c t (by omega) (by omega) ]
    dsimp only
    rw [Block1.mom_A]
    exact mom_at (own1 V c t r q i e0 e1) (grad0 V c t r q i e0 e1 (by omega) (by omega))
  · rw [outsAt1_B V c t (by omega) (by omega) ]
    dsimp only
    rw [Block1.mom_B]
    exact mom_at (own1 V c t r q i e0 e1) (grad1 V c t r q i e0 e1 (by omega) (by omega))

theorem cover9 (i : S256x1024.Idx) :
    ∃ t : Fin cfg1.N, (cfg1.win 9).flush t = true ∧ i ∈ ((cfg1.win 9).blk t).view.set := by
  have b0 : (i 0 : ℕ) < 256 := (i 0).isLt
  have b1 : (i 1 : ℕ) < 1024 := (i 1).isLt
  have hN : cfg1.N = 2 := N_1
  have ht : (i 0 : ℕ) / 128 < cfg1.N := by omega
  have h := at9 ⟨(i 0 : ℕ) / 128, ht⟩
  refine ⟨⟨(i 0 : ℕ) / 128, ht⟩, flush1_9 _, ?_⟩
  show i ∈ ((View.whole main_v11_2).slice (win1_9.rect ⟨(i 0 : ℕ) / 128, ht⟩)).set
  rw [View.set_slice_whole]
  refine mem_unit2 _ _ _ i ?_ ?_
  · show win1_9.index ⟨_, ht⟩ 0 * 128 ≤ (i 0 : ℕ) ∧ (i 0 : ℕ) < win1_9.index ⟨_, ht⟩ 0 * 128 + 128
    rw [h.1]; dsimp only; omega
  · show win1_9.index ⟨_, ht⟩ 1 * 1024 ≤ (i 1 : ℕ) ∧ (i 1 : ℕ) < win1_9.index ⟨_, ht⟩ 1 * 1024 + 1024
    rw [h.2]; dsimp only; omega

theorem mom : (dat1 V c).arrAt 9 cfg1.N = momA (V c main_v9) (G V c) :=
  (dat1 V c).arrAt_eq_of_cover 9 (momA (V c main_v9) (G V c)) (fun t _ => flushed9 V c t) cover9

/-- What point `t` writes back is its block of the region's function. -/
theorem flushed10 (t : Fin cfg1.N) :
    (dat1 V c).flushed 10 t = (win1_10.blk t).view.read (Elt Ideal) (velA (V c main_v10) (G V c)) := by
  show (cfg1.win 10).cut (grid1.coords t) ((dat1 V c).after 10 t) = _
  have ht : t.val < 2 := lt_of_lt_of_eq t.isLt N_1
  rw [after1_10]
  funext j
  obtain ⟨r, q, rfl⟩ : ∃ (r : Fin 128) (q : Fin 1024), j = ix2 r q := ⟨_, _, eq_ix2 j⟩
  show (outsAt1 V c t.val t.isLt).2.2.2 (ix2 r q) = (velA (V c main_v10) (G V c)) ((win1_10.rect t).emb (ix2 r q))
  have e0 : ((win1_10.rect t).emb (ix2 r q) 0 : ℕ) = t.val * 128 + r.val := emb_val win1_10 t (ix2 r q) 0 _ 128 (at10 t).1 rfl rfl
  have e1 : ((win1_10.rect t).emb (ix2 r q) 1 : ℕ) = q.val :=
    (emb_val win1_10 t (ix2 r q) 1 _ 1024 (at10 t).2 rfl rfl).trans (by show 0 * 1024 + q.val = q.val; omega)
  generalize (win1_10.rect t).emb (ix2 r q) = i at e0 e1 ⊢
  rcases (by omega : 0 ≤ t.val ∧ t.val < 1 ∨ 1 ≤ t.val ∧ t.val < 2) with ⟨hl, hu⟩ | ⟨hl, hu⟩
  · rw [outsAt1_A V c t (by omega) (by omega) ]
    dsimp only
    rw [Block1.vel_A]
    exact vel_at (own2 V c t r q i e0 e1) (grad0 V c t r q i e0 e1 (by omega) (by omega))
  · rw [outsAt1_B V c t (by omega) (by omega) ]
    dsimp only
    rw [Block1.vel_B]
    exact vel_at (own2 V c t r q i e0 e1) (grad1 V c t r q i e0 e1 (by omega) (by omega))

theorem cover10 (i : S256x1024.Idx) :
    ∃ t : Fin cfg1.N, (cfg1.win 10).flush t = true ∧ i ∈ ((cfg1.win 10).blk t).view.set := by
  have b0 : (i 0 : ℕ) < 256 := (i 0).isLt
  have b1 : (i 1 : ℕ) < 1024 := (i 1).isLt
  have hN : cfg1.N = 2 := N_1
  have ht : (i 0 : ℕ) / 128 < cfg1.N := by omega
  have h := at10 ⟨(i 0 : ℕ) / 128, ht⟩
  refine ⟨⟨(i 0 : ℕ) / 128, ht⟩, flush1_10 _, ?_⟩
  show i ∈ ((View.whole main_v11_3).slice (win1_10.rect ⟨(i 0 : ℕ) / 128, ht⟩)).set
  rw [View.set_slice_whole]
  refine mem_unit2 _ _ _ i ?_ ?_
  · show win1_10.index ⟨_, ht⟩ 0 * 128 ≤ (i 0 : ℕ) ∧ (i 0 : ℕ) < win1_10.index ⟨_, ht⟩ 0 * 128 + 128
    rw [h.1]; dsimp only; omega
  · show win1_10.index ⟨_, ht⟩ 1 * 1024 ≤ (i 1 : ℕ) ∧ (i 1 : ℕ) < win1_10.index ⟨_, ht⟩ 1 * 1024 + 1024
    rw [h.2]; dsimp only; omega

theorem vel : (dat1 V c).arrAt 10 cfg1.N = velA (V c main_v10) (G V c) :=
  (dat1 V c).arrAt_eq_of_cover 10 (velA (V c main_v10) (G V c)) (fun t _ => flushed10 V c t) cover10

end Cert.AdamIdeal.Arrays1
-- ==== Proof.AdamBlock2.lean ====
/-
  ADAMW ON cf_w_pw1, ONE GRID POINT: the layer, blocks of 512 rows. A point works on that layer's
  gradient parts; the four blocks it leaves are the gradient, the step and the two new moments (`AdamMath`).
-/
module

public import proofs.«01_k».proof.Proof.AdamStack
public import proofs.«01_k».proof.Proof.Conv
public import proofs.«01_k».proof.Proof.Gen.AdamIdeal.Frame.Region2

@[expose] public section

set_option maxRecDepth 16384

noncomputable section

namespace Cert.AdamIdeal.Block2

open Cert.AdamIdeal Cert.AdamIdeal.Gen Cert.Products Cert.Blocks Cert.Conv Cert.AdamMath
open Idealize.ShloMosaic Idealize.ShloMosaic.TcCoe Idealize.ShloMosaic.ValueIdx Idealize.SL.Sem

/-! ## A point of the layer -/

section
variable (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S3x512x256 .bf16) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (hc0 : cond2_0 i)
    (x0 : Vec Ideal S512x256 .f32) (x1 : Vec Ideal S512x256 .f32) (x2 : Vec Ideal S512x256 .f32) (x3 : Vec Ideal S512x256 .f32) (x4 : Vec Ideal S3x512x256 .bf16)

theorem grad_A : out2_A_5 (F := Ideal) c i arg2 harg2 arg3 harg3 arg4 harg4 arg5 harg5 arg6 harg6 arg7 harg7 arg8 harg8 arg9 harg9 arg10 harg10 hc0 x0 x1 x2 x3 x4 = gradA x3 x4 := by
  unfold out2_A_5
  rw [View.read_writes_junk_eq_canon]
  unfold kernelRun2_A
  dsimp only
  sl_unfold_run_names
  rw [View.canon_unit_zero hz]
  simp only [readAt_unread, idx_whole, k2_pay1, k2_pay2, k2_pay3, k2_pay4, k2_pay5, k2_pay6, k2_pay7, k2_pay8, shapeCast_self]
  show gradK shapeCasts_S1x512x256_S512x256 x3 (View.ld (Val := Elt Ideal) (e' := .bf16) x4 (Rect.unit (s := S3x512x256) ![0, 0, 0] ![1, 512, 256] inb_S3x512x256_S1x512x256_0_0_0)) (View.ld (Val := Elt Ideal) (e' := .bf16) x4 (Rect.unit (s := S3x512x256) ![1, 0, 0] ![1, 512, 256] inb_S3x512x256_S1x512x256_1_0_0)) (View.ld (Val := Elt Ideal) (e' := .bf16) x4 (Rect.unit (s := S3x512x256) ![2, 0, 0] ![1, 512, 256] inb_S3x512x256_S1x512x256_2_0_0)) = _
  rw [gradK_ld]

theorem step_A : out2_A_6 (F := Ideal) c i arg2 harg2 arg3 harg3 arg4 harg4 arg5 harg5 arg6 harg6 arg7 harg7 arg8 harg8 arg9 harg9 arg10 harg10 hc0 x0 x1 x2 x3 x4 = deltaA x0 x1 x2 (gradA x3 x4) := by
  unfold out2_A_6
  rw [View.read_writes_junk_eq_canon]
  unfold kernelRun2_A
  dsimp only
  sl_unfold_run_names
  rw [View.canon_unit_zero hz]
  simp only [readAt_unread, idx_whole, k2_pay1, k2_pay2, k2_pay3, k2_pay4, k2_pay5, k2_pay6, k2_pay7, k2_pay8, shapeCast_self]
  show deltaA x0 x1 x2 (gradK shapeCasts_S1x512x256_S512x256 x3 (View.ld (Val := Elt Ideal) (e' := .bf16) x4 (Rect.unit (s := S3x512x256) ![0, 0, 0] ![1, 512, 256] inb_S3x512x256_S1x512x256_0_0_0)) (View.ld (Val := Elt Ideal) (e' := .bf16) x4 (Rect.unit (s := S3x512x256) ![1, 0, 0] ![1, 512, 256] inb_S3x512x256_S1x512x256_1_0_0)) (View.ld (Val := Elt Ideal) (e' := .bf16) x4 (Rect.unit (s := S3x512x256) ![2, 0, 0] ![1, 512, 256] inb_S3x512x256_S1x512x256_2_0_0))) = _
  rw [gradK_ld]

theorem mom_A : out2_A_7 (F := Ideal) c i arg2 harg2 arg3 harg3 arg4 harg4 arg5 harg5 arg6 harg6 arg7 harg7 arg8 harg8 arg9 harg9 arg10 harg10 hc0 x0 x1 x2 x3 x4 = momA x1 (gradA x3 x4) := by
  unfold out2_A_7
  rw [View.read_writes_junk_eq_canon]
  unfold kernelRun2_A
  dsimp only
  sl_unfold_run_names
  rw [View.canon_unit_zero hz]
  simp only [readAt_unread, idx_whole, k2_pay1, k2_pay2, k2_pay3, k2_pay4, k2_pay5, k2_pay6, k2_pay7, k2_pay8, shapeCast_self]
  show momA x1 (gradK shapeCasts_S1x512x256_S512x256 x3 (View.ld (Val := Elt Ideal) (e' := .bf16) x4 (Rect.unit (s := S3x512x256) ![0, 0, 0] ![1, 512, 256] inb_S3x512x256_S1x512x256_0_0_0)) (View.ld (Val := Elt Ideal) (e' := .bf16) x4 (Rect.unit (s := S3x512x256) ![1, 0, 0] ![1, 512, 256] inb_S3x512x256_S1x512x256_1_0_0)) (View.ld (Val := Elt Ideal) (e' := .bf16) x4 (Rect.unit (s := S3x512x256) ![2, 0, 0] ![1, 512, 256] inb_S3x512x256_S1x512x256_2_0_0))) = _
  rw [gradK_ld]

theorem vel_A : out2_A_8 (F := Ideal) c i arg2 harg2 arg3 harg3 arg4 harg4 arg5 harg5 arg6 harg6 arg7 harg7 arg8 harg8 arg9 harg9 arg10 harg10 hc0 x0 x1 x2 x3 x4 = velA x2 (gradA x3 x4) := by
  unfold out2_A_8
  rw [View.read_writes_junk_eq_canon]
  unfold kernelRun2_A
  dsimp only
  sl_unfold_run_names
  rw [View.canon_unit_zero hz]
  simp only [readAt_unread, idx_whole, k2_pay1, k2_pay2, k2_pay3, k2_pay4, k2_pay5, k2_pay6, k2_pay7, k2_pay8, shapeCast_self]
  show velA x2 (gradK shapeCasts_S1x512x256_S512x256 x3 (View.ld (Val := Elt Ideal) (e' := .bf16) x4 (Rect.unit (s := S3x512x256) ![0, 0, 0] ![1, 512, 256] inb_S3x512x256_S1x512x256_0_0_0)) (View.ld (Val := Elt Ideal) (e' := .bf16) x4 (Rect.unit (s := S3x512x256) ![1, 0, 0] ![1, 512, 256] inb_S3x512x256_S1x512x256_1_0_0)) (View.ld (Val := Elt Ideal) (e' := .bf16) x4 (Rect.unit (s := S3x512x256) ![2, 0, 0] ![1, 512, 256] inb_S3x512x256_S1x512x256_2_0_0))) = _
  rw [gradK_ld]

end

end Cert.AdamIdeal.Block2
-- ==== Proof.AdamArrays2.lean ====
/-
  ADAMW ON cf_w_pw1, THE ARRAYS. The grid walks 2 blocks of 512 rows, 2 to a layer; `atW` is window `W`'s block index at point
  `t`. Each of the four results ends at a function of the arrays the region finds: the layers' gradients one under the other
  (`G`), and the step and the moments that follow from them.
-/
module

public import proofs.«01_k».proof.Proof.AdamBlock2
public import proofs.«01_k».proof.Proof.AdamStack
public import proofs.«01_k».proof.Proof.Gen.AdamIdeal.Points
public import Idealize.ShloMosaic.Lib.Pipeline.Value

@[expose] public section

set_option maxRecDepth 16384

noncomputable section

namespace Cert.AdamIdeal.Arrays2

open Cert.AdamIdeal Cert.AdamIdeal.Gen Cert.Products Cert.Blocks Cert.AdamMath Cert.AdamStack
open Idealize.ShloMosaic Idealize.ShloMosaic.TcCoe Idealize.ShloMosaic.ValueIdx Idealize.SL.Sem
open Idealize.ShloMosaic.Pipeline (Dat Window)

variable (V : (c : Dev nD) → (b : Ref sig .tc) → Buf (Elt Ideal) ((c : Thread nD τ).loc b)) (c : Dev nD)

/-- The layers' gradients, one under the other. -/
def G : FVec Ideal S1024x256 .f32 := rows shapeCasts_S1x1024x256_S1024x256 ![gradA (V c main_arg17) (V c main_arg18)]

theorem at0 : ∀ t : Fin grid2.N, win2_0.index t 0 = t.val ∧ win2_0.index t 1 = 0 := by decide +kernel
theorem at1 : ∀ t : Fin grid2.N, win2_1.index t 0 = t.val ∧ win2_1.index t 1 = 0 := by decide +kernel
theorem at2 : ∀ t : Fin grid2.N, win2_2.index t 0 = t.val ∧ win2_2.index t 1 = 0 := by decide +kernel
theorem at5 : ∀ t : Fin grid2.N, win2_5.index t 0 = t.val ∧ win2_5.index t 1 = 0 := by decide +kernel
theorem at6 : ∀ t : Fin grid2.N, win2_6.index t 0 = t.val ∧ win2_6.index t 1 = 0 := by decide +kernel
theorem at7 : ∀ t : Fin grid2.N, win2_7.index t 0 = t.val ∧ win2_7.index t 1 = 0 := by decide +kernel
theorem at8 : ∀ t : Fin grid2.N, win2_8.index t 0 = t.val ∧ win2_8.index t 1 = 0 := by decide +kernel
theorem at3 : ∀ t : Fin grid2.N, 0 ≤ t.val → t.val < 2 → win2_3.index t 0 = t.val - 0 ∧ win2_3.index t 1 = 0 := by decide +kernel
theorem at4 : ∀ t : Fin grid2.N, 0 ≤ t.val → t.val < 2 → win2_4.index t 0 = 0 ∧ win2_4.index t 1 = t.val - 0 ∧ win2_4.index t 2 = 0 := by decide +kernel

section
variable (t : Fin cfg2.N) (r : Fin 512) (q : Fin 256) (i : S1024x256.Idx) (e0 : (i 0).val = t.val * 512 + r.val) (e1 : (i 1).val = q.val)
include e0 e1

theorem own0 : iblk2 V c 0 t (ix2 r q) = V c main_v16 i :=
  congrArg (V c main_v16) (Shape.idx_ext₂ ((emb_val win2_0 t (ix2 r q) 0 _ 512 (at0 t).1 rfl rfl).trans e0.symm)
    ((emb_val win2_0 t (ix2 r q) 1 _ 256 (at0 t).2 rfl rfl).trans (by show 0 * 256 + q.val = (i 1).val; omega)))

theorem own1 : iblk2 V c 1 t (ix2 r q) = V c main_v17 i :=
  congrArg (V c main_v17) (Shape.idx_ext₂ ((emb_val win2_1 t (ix2 r q) 0 _ 512 (at1 t).1 rfl rfl).trans e0.symm)
    ((emb_val win2_1 t (ix2 r q) 1 _ 256 (at1 t).2 rfl rfl).trans (by show 0 * 256 + q.val = (i 1).val; omega)))

theorem own2 : iblk2 V c 2 t (ix2 r q) = V c main_v18 i :=
  congrArg (V c main_v18) (Shape.idx_ext₂ ((emb_val win2_2 t (ix2 r q) 0 _ 512 (at2 t).1 rfl rfl).trans e0.symm)
    ((emb_val win2_2 t (ix2 r q) 1 _ 256 (at2 t).2 rfl rfl).trans (by show 0 * 256 + q.val = (i 1).val; omega)))

theorem grad0 (hl : 0 ≤ t.val) (hu : t.val < 2) :
    gradA (iblk2 V c 3 t) (iblk2 V c 4 t) (ix2 r q) = G V c i := by
  have hr : (t.val - 0) * 512 + r.val < 1024 := by have := r.isLt; omega
  have e : G V c i = gradA (V c main_arg17) (V c main_arg18) (ix2 (⟨(t.val - 0) * 512 + r.val, hr⟩ : Fin 1024) q) :=
    rows_at shapeCasts_S1x1024x256_S1024x256 ![gradA (V c main_arg17) (V c main_arg18)] (0 : Fin 1) ⟨(t.val - 0) * 512 + r.val, hr⟩ q i
      (e0.trans (by rw [show ((0 : Fin 1) : ℕ) = 0 from rfl]; dsimp only; omega)) e1
  rw [e]
  refine grad_at (R := 512) (congrArg (V c main_arg17) (Shape.idx_ext₂ ?_ ?_)) fun k => congrArg (V c main_arg18) (idx_ext3 ?_ ?_ ?_)
  · exact emb_val win2_3 t (ix2 r q) 0 _ 512 (at3 t hl hu).1 rfl rfl
  · exact (emb_val win2_3 t (ix2 r q) 1 _ 256 (at3 t hl hu).2 rfl rfl).trans (by show 0 * 256 + q.val = q.val; omega)
  · exact (emb_val win2_4 t (ix3 k r q) 0 _ 3 (at4 t hl hu).1 rfl rfl).trans (by show 0 * 3 + k.val = k.val; omega)
  · exact emb_val win2_4 t (ix3 k r q) 1 _ 512 (at4 t hl hu).2.1 rfl rfl
  · exact (emb_val win2_4 t (ix3 k r q) 2 _ 256 (at4 t hl hu).2.2 rfl rfl).trans (by show 0 * 256 + q.val = q.val; omega)

end

/-- What point `t` writes back is its block of the region's function. -/
theorem flushed5 (t : Fin cfg2.N) :
    (dat2 V c).flushed 5 t = (win2_5.blk t).view.read (Elt Ideal) (G V c) := by
  show (cfg2.win 5).cut (grid2.coords t) ((dat2 V c).after 5 t) = _
  have ht : t.val < 2 := lt_of_lt_of_eq t.isLt N_2
  rw [after2_5]
  funext j
  obtain ⟨r, q, rfl⟩ : ∃ (r : Fin 512) (q : Fin 256), j = ix2 r q := ⟨_, _, eq_ix2 j⟩
  show (outsAt2 V c t).1 (ix2 r q) = (G V c) ((win2_5.rect t).emb (ix2 r q))
  have e0 : ((win2_5.rect t).emb (ix2 r q) 0 : ℕ) = t.val * 512 + r.val := emb_val win2_5 t (ix2 r q) 0 _ 512 (at5 t).1 rfl rfl
  have e1 : ((win2_5.rect t).emb (ix2 r q) 1 : ℕ) = q.val :=
    (emb_val win2_5 t (ix2 r q) 1 _ 256 (at5 t).2 rfl rfl).trans (by show 0 * 256 + q.val = q.val; omega)
  generalize (win2_5.rect t).emb (ix2 r q) = i at e0 e1 ⊢
  unfold outsAt2
  dsimp only
  rw [Block2.grad_A]
  exact grad0 V c t r q i e0 e1 (by omega) (by omega)

theorem cover5 (i : S1024x256.Idx) :
    ∃ t : Fin cfg2.N, (cfg2.win 5).flush t = true ∧ i ∈ ((cfg2.win 5).blk t).view.set := by
  have b0 : (i 0 : ℕ) < 1024 := (i 0).isLt
  have b1 : (i 1 : ℕ) < 256 := (i 1).isLt
  have hN : cfg2.N = 2 := N_2
  have ht : (i 0 : ℕ) / 512 < cfg2.N := by omega
  have h := at5 ⟨(i 0 : ℕ) / 512, ht⟩
  refine ⟨⟨(i 0 : ℕ) / 512, ht⟩, flush2_5 _, ?_⟩
  show i ∈ ((View.whole main_v19_0).slice (win2_5.rect ⟨(i 0 : ℕ) / 512, ht⟩)).set
  rw [View.set_slice_whole]
  refine mem_unit2 _ _ _ i ?_ ?_
  · show win2_5.index ⟨_, ht⟩ 0 * 512 ≤ (i 0 : ℕ) ∧ (i 0 : ℕ) < win2_5.index ⟨_, ht⟩ 0 * 512 + 512
    rw [h.1]; dsimp only; omega
  · show win2_5.index ⟨_, ht⟩ 1 * 256 ≤ (i 1 : ℕ) ∧ (i 1 : ℕ) < win2_5.index ⟨_, ht⟩ 1 * 256 + 256
    rw [h.2]; dsimp only; omega

theorem grad : (dat2 V c).arrAt 5 cfg2.N = G V c :=
  (dat2 V c).arrAt_eq_of_cover 5 (G V c) (fun t _ => flushed5 V c t) cover5

/-- What point `t` writes back is its block of the region's function. -/
theorem flushed6 (t : Fin cfg2.N) :
    (dat2 V c).flushed 6 t = (win2_6.blk t).view.read (Elt Ideal) (deltaA (V c main_v16) (V c main_v17) (V c main_v18) (G V c)) := by
  show (cfg2.win 6).cut (grid2.coords t) ((dat2 V c).after 6 t) = _
  have ht : t.val < 2 := lt_of_lt_of_eq t.isLt N_2
  rw [after2_6]
  funext j
  obtain ⟨r, q, rfl⟩ : ∃ (r : Fin 512) (q : Fin 256), j = ix2 r q := ⟨_, _, eq_ix2 j⟩
  show (outsAt2 V c t).2.1 (ix2 r q) = (deltaA (V c main_v16) (V c main_v17) (V c main_v18) (G V c)) ((win2_6.rect t).emb (ix2 r q))
  have e0 : ((win2_6.rect t).emb (ix2 r q) 0 : ℕ) = t.val * 512 + r.val := emb_val win2_6 t (ix2 r q) 0 _ 512 (at6 t).1 rfl rfl
  have e1 : ((win2_6.rect t).emb (ix2 r q) 1 : ℕ) = q.val :=
    (emb_val win2_6 t (ix2 r q) 1 _ 256 (at6 t).2 rfl rfl).trans (by show 0 * 256 + q.val = q.val; omega)
  generalize (win2_6.rect t).emb (ix2 r q) = i at e0 e1 ⊢
  unfold outsAt2
  dsimp only
  rw [Block2.step_A]
  exact delta_at (own0 V c t r q i e0 e1) (own1 V c t r q i e0 e1) (own2 V c t r q i e0 e1) (grad0 V c t r q i e0 e1 (by omega) (by omega))

theorem cover6 (i : S1024x256.Idx) :
    ∃ t : Fin cfg2.N, (cfg2.win 6).flush t = true ∧ i ∈ ((cfg2.win 6).blk t).view.set := by
  have b0 : (i 0 : ℕ) < 1024 := (i 0).isLt
  have b1 : (i 1 : ℕ) < 256 := (i 1).isLt
  have hN : cfg2.N = 2 := N_2
  have ht : (i 0 : ℕ) / 512 < cfg2.N := by omega
  have h := at6 ⟨(i 0 : ℕ) / 512, ht⟩
  refine ⟨⟨(i 0 : ℕ) / 512, ht⟩, flush2_6 _, ?_⟩
  show i ∈ ((View.whole main_v19_1).slice (win2_6.rect ⟨(i 0 : ℕ) / 512, ht⟩)).set
  rw [View.set_slice_whole]
  refine mem_unit2 _ _ _ i ?_ ?_
  · show win2_6.index ⟨_, ht⟩ 0 * 512 ≤ (i 0 : ℕ) ∧ (i 0 : ℕ) < win2_6.index ⟨_, ht⟩ 0 * 512 + 512
    rw [h.1]; dsimp only; omega
  · show win2_6.index ⟨_, ht⟩ 1 * 256 ≤ (i 1 : ℕ) ∧ (i 1 : ℕ) < win2_6.index ⟨_, ht⟩ 1 * 256 + 256
    rw [h.2]; dsimp only; omega

theorem step : (dat2 V c).arrAt 6 cfg2.N = deltaA (V c main_v16) (V c main_v17) (V c main_v18) (G V c) :=
  (dat2 V c).arrAt_eq_of_cover 6 (deltaA (V c main_v16) (V c main_v17) (V c main_v18) (G V c)) (fun t _ => flushed6 V c t) cover6

/-- What point `t` writes back is its block of the region's function. -/
theorem flushed7 (t : Fin cfg2.N) :
    (dat2 V c).flushed 7 t = (win2_7.blk t).view.read (Elt Ideal) (momA (V c main_v17) (G V c)) := by
  show (cfg2.win 7).cut (grid2.coords t) ((dat2 V c).after 7 t) = _
  have ht : t.val < 2 := lt_of_lt_of_eq t.isLt N_2
  rw [after2_7]
  funext j
  obtain ⟨r, q, rfl⟩ : ∃ (r : Fin 512) (q : Fin 256), j = ix2 r q := ⟨_, _, eq_ix2 j⟩
  show (outsAt2 V c t).2.2.1 (ix2 r q) = (momA (V c main_v17) (G V c)) ((win2_7.rect t).emb (ix2 r q))
  have e0 : ((win2_7.rect t).emb (ix2 r q) 0 : ℕ) = t.val * 512 + r.val := emb_val win2_7 t (ix2 r q) 0 _ 512 (at7 t).1 rfl rfl
  have e1 : ((win2_7.rect t).emb (ix2 r q) 1 : ℕ) = q.val :=
    (emb_val win2_7 t (ix2 r q) 1 _ 256 (at7 t).2 rfl rfl).trans (by show 0 * 256 + q.val = q.val; omega)
  generalize (win2_7.rect t).emb (ix2 r q) = i at e0 e1 ⊢
  unfold outsAt2
  dsimp only
  rw [Block2.mom_A]
  exact mom_at (own1 V c t r q i e0 e1) (grad0 V c t r q i e0 e1 (by omega) (by omega))

theorem cover7 (i : S1024x256.Idx) :
    ∃ t : Fin cfg2.N, (cfg2.win 7).flush t = true ∧ i ∈ ((cfg2.win 7).blk t).view.set := by
  have b0 : (i 0 : ℕ) < 1024 := (i 0).isLt
  have b1 : (i 1 : ℕ) < 256 := (i 1).isLt
  have hN : cfg2.N = 2 := N_2
  have ht : (i 0 : ℕ) / 512 < cfg2.N := by omega
  have h := at7 ⟨(i 0 : ℕ) / 512, ht⟩
  refine ⟨⟨(i 0 : ℕ) / 512, ht⟩, flush2_7 _, ?_⟩
  show i ∈ ((View.whole main_v19_2).slice (win2_7.rect ⟨(i 0 : ℕ) / 512, ht⟩)).set
  rw [View.set_slice_whole]
  refine mem_unit2 _ _ _ i ?_ ?_
  · show win2_7.index ⟨_, ht⟩ 0 * 512 ≤ (i 0 : ℕ) ∧ (i 0 : ℕ) < win2_7.index ⟨_, ht⟩ 0 * 512 + 512
    rw [h.1]; dsimp only; omega
  · show win2_7.index ⟨_, ht⟩ 1 * 256 ≤ (i 1 : ℕ) ∧ (i 1 : ℕ) < win2_7.index ⟨_, ht⟩ 1 * 256 + 256
    rw [h.2]; dsimp only; omega

theorem mom : (dat2 V c).arrAt 7 cfg2.N = momA (V c main_v17) (G V c) :=
  (dat2 V c).arrAt_eq_of_cover 7 (momA (V c main_v17) (G V c)) (fun t _ => flushed7 V c t) cover7

/-- What point `t` writes back is its block of the region's function. -/
theorem flushed8 (t : Fin cfg2.N) :
    (dat2 V c).flushed 8 t = (win2_8.blk t).view.read (Elt Ideal) (velA (V c main_v18) (G V c)) := by
  show (cfg2.win 8).cut (grid2.coords t) ((dat2 V c).after 8 t) = _
  have ht : t.val < 2 := lt_of_lt_of_eq t.isLt N_2
  rw [after2_8]
  funext j
  obtain ⟨r, q, rfl⟩ : ∃ (r : Fin 512) (q : Fin 256), j = ix2 r q := ⟨_, _, eq_ix2 j⟩
  show (outsAt2 V c t).2.2.2 (ix2 r q) = (velA (V c main_v18) (G V c)) ((win2_8.rect t).emb (ix2 r q))
  have e0 : ((win2_8.rect t).emb (ix2 r q) 0 : ℕ) = t.val * 512 + r.val := emb_val win2_8 t (ix2 r q) 0 _ 512 (at8 t).1 rfl rfl
  have e1 : ((win2_8.rect t).emb (ix2 r q) 1 : ℕ) = q.val :=
    (emb_val win2_8 t (ix2 r q) 1 _ 256 (at8 t).2 rfl rfl).trans (by show 0 * 256 + q.val = q.val; omega)
  generalize (win2_8.rect t).emb (ix2 r q) = i at e0 e1 ⊢
  unfold outsAt2
  dsimp only
  rw [Block2.vel_A]
  exact vel_at (own2 V c t r q i e0 e1) (grad0 V c t r q i e0 e1 (by omega) (by omega))

theorem cover8 (i : S1024x256.Idx) :
    ∃ t : Fin cfg2.N, (cfg2.win 8).flush t = true ∧ i ∈ ((cfg2.win 8).blk t).view.set := by
  have b0 : (i 0 : ℕ) < 1024 := (i 0).isLt
  have b1 : (i 1 : ℕ) < 256 := (i 1).isLt
  have hN : cfg2.N = 2 := N_2
  have ht : (i 0 : ℕ) / 512 < cfg2.N := by omega
  have h := at8 ⟨(i 0 : ℕ) / 512, ht⟩
  refine ⟨⟨(i 0 : ℕ) / 512, ht⟩, flush2_8 _, ?_⟩
  show i ∈ ((View.whole main_v19_3).slice (win2_8.rect ⟨(i 0 : ℕ) / 512, ht⟩)).set
  rw [View.set_slice_whole]
  refine mem_unit2 _ _ _ i ?_ ?_
  · show win2_8.index ⟨_, ht⟩ 0 * 512 ≤ (i 0 : ℕ) ∧ (i 0 : ℕ) < win2_8.index ⟨_, ht⟩ 0 * 512 + 512
    rw [h.1]; dsimp only; omega
  · show win2_8.index ⟨_, ht⟩ 1 * 256 ≤ (i 1 : ℕ) ∧ (i 1 : ℕ) < win2_8.index ⟨_, ht⟩ 1 * 256 + 256
    rw [h.2]; dsimp only; omega

theorem vel : (dat2 V c).arrAt 8 cfg2.N = velA (V c main_v18) (G V c) :=
  (dat2 V c).arrAt_eq_of_cover 8 (velA (V c main_v18) (G V c)) (fun t _ => flushed8 V c t) cover8

end Cert.AdamIdeal.Arrays2
-- ==== Proof.AdamRun.lean ====
/-
  THE ADAMW CALLS' RUN AT THE EXTENDED REALS. A call's three stacks of layers are laid flat by a reshape, its pipeline runs
  (AdamArrays0.lean to AdamArrays2.lean), and its four results are stacked again: each result is the gradient, the step or a
  moment of the stacks themselves.
-/
module

public import proofs.«01_k».proof.Proof.AdamArrays0
public import proofs.«01_k».proof.Proof.AdamArrays1
public import proofs.«01_k».proof.Proof.AdamArrays2
public import proofs.«01_k».proof.Proof.Gen.AdamIdeal.Frame
public import Idealize.ShloMosaic.Lib.StableHlo.Run

@[expose] public section

set_option maxRecDepth 16384

noncomputable section

namespace Cert.AdamIdeal.Run

open Cert.AdamIdeal Cert.AdamIdeal.Gen Cert.AdamMath Cert.AdamStack
open Idealize.ShloMosaic Idealize.ShloMosaic.TcCoe Idealize.SL Idealize.SL.Sem

section Launch

open Idealize.ShloMosaic.Tactic Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with every array at its contents after the last segment. -/
theorem ends_at : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c => h c)

end Launch

variable (m : (ℓ : Loc nD τ sig) → Buf (Elt Ideal) ℓ) (ρ : Dev nD → PrngReg) (c : Dev nD)

/-! ## sc_w_in -/

theorem in0_0 : V1 m ρ c main_v0 = shapeCast S2048x384 (m ((c.tc : Thread nD τ).loc main_arg0)) facts.shapeCasts_S2x1024x384_S2048x384 := by
  refine Eq.trans (b := shapeCast S2048x384 (W0 m ρ c (Proc.devRef .tc main_arg0)) facts.shapeCasts_S2x1024x384_S2048x384) ?_ ?_
  · show StableHlo.after hostOps0 (W0 m ρ c) (Proc.devRef .tc main_v0) = _
    unfold hostOps0
    after_results_simp
    rfl
  · rw [W0_args m ρ c main_arg0 (by decide)]

theorem in0_1 : V1 m ρ c main_v1 = shapeCast S2048x384 (m ((c.tc : Thread nD τ).loc main_arg1)) facts.shapeCasts_S2x1024x384_S2048x384 := by
  refine Eq.trans (b := shapeCast S2048x384 (W0 m ρ c (Proc.devRef .tc main_arg1)) facts.shapeCasts_S2x1024x384_S2048x384) ?_ ?_
  · show StableHlo.after hostOps0 (W0 m ρ c) (Proc.devRef .tc main_v1) = _
    unfold hostOps0
    after_results_simp
    rfl
  · rw [W0_args m ρ c main_arg1 (by decide)]

theorem in0_2 : V1 m ρ c main_v2 = shapeCast S2048x384 (m ((c.tc : Thread nD τ).loc main_arg2)) facts.shapeCasts_S2x1024x384_S2048x384 := by
  refine Eq.trans (b := shapeCast S2048x384 (W0 m ρ c (Proc.devRef .tc main_arg2)) facts.shapeCasts_S2x1024x384_S2048x384) ?_ ?_
  · show StableHlo.after hostOps0 (W0 m ρ c) (Proc.devRef .tc main_v2) = _
    unfold hostOps0
    after_results_simp
    rfl
  · rw [W0_args m ρ c main_arg2 (by decide)]

theorem g0 : Arrays0.G (V1 m ρ) c = rows facts.shapeCasts_S2x1024x384_S2048x384 ![gradA (m ((c.tc : Thread nD τ).loc main_arg3)) (m ((c.tc : Thread nD τ).loc main_arg4)), gradA (m ((c.tc : Thread nD τ).loc main_arg5)) (m ((c.tc : Thread nD τ).loc main_arg6))] := by
  unfold Arrays0.G
  rw [show V1 m ρ c main_arg3 = m ((c.tc : Thread nD τ).loc main_arg3) from W1_args m ρ c main_arg3 (by decide)]
  rw [show V1 m ρ c main_arg4 = m ((c.tc : Thread nD τ).loc main_arg4) from W1_args m ρ c main_arg4 (by decide)]
  rw [show V1 m ρ c main_arg5 = m ((c.tc : Thread nD τ).loc main_arg5) from W1_args m ρ c main_arg5 (by decide)]
  rw [show V1 m ρ c main_arg6 = m ((c.tc : Thread nD τ).loc main_arg6) from W1_args m ρ c main_arg6 (by decide)]

theorem res0_0_3 : V3 m ρ c main_v4 = stack ![gradA (m ((c.tc : Thread nD τ).loc main_arg3)) (m ((c.tc : Thread nD τ).loc main_arg4)), gradA (m ((c.tc : Thread nD τ).loc main_arg5)) (m ((c.tc : Thread nD τ).loc main_arg6))] := by
  refine Eq.trans (b := shapeCast S2x1024x384 (W2 m ρ c (Proc.devRef .tc main_v3_0)) facts.shapeCasts_S2048x384_S2x1024x384) ?_ ?_
  · show StableHlo.after hostOps1 (W2 m ρ c) (Proc.devRef .tc main_v4) = _
    unfold hostOps1
    after_results_simp
    rfl
  · rw [show W2 m ρ c (Proc.devRef .tc main_v3_0) = _ from (W2_arr m ρ c 7).trans (Arrays0.grad (V1 m ρ) c)]
    rw [g0 m ρ c]
    exact grad_reshape _ _ _
theorem res0_0_4 : V4 m ρ c main_v4 = stack ![gradA (m ((c.tc : Thread nD τ).loc main_arg3)) (m ((c.tc : Thread nD τ).loc main_arg4)), gradA (m ((c.tc : Thread nD τ).loc main_arg5)) (m ((c.tc : Thread nD τ).loc main_arg6))] := (W4_of m ρ c main_v4 (by decide)).trans (res0_0_3 m ρ c)
theorem res0_0_5 : V5 m ρ c main_v4 = stack ![gradA (m ((c.tc : Thread nD τ).loc main_arg3)) (m ((c.tc : Thread nD τ).loc main_arg4)), gradA (m ((c.tc : Thread nD τ).loc main_arg5)) (m ((c.tc : Thread nD τ).loc main_arg6))] := (W5_of m ρ c main_v4 (by decide)).trans (res0_0_4 m ρ c)
theorem res0_0_6 : V6 m ρ c main_v4 = stack ![gradA (m ((c.tc : Thread nD τ).loc main_arg3)) (m ((c.tc : Thread nD τ).loc main_arg4)), gradA (m ((c.tc : Thread nD τ).loc main_arg5)) (m ((c.tc : Thread nD τ).loc main_arg6))] := (W6_of m ρ c main_v4 (by decide)).trans (res0_0_5 m ρ c)
theorem res0_0_7 : W7 m ρ c (Proc.devRef .tc main_v4) = stack ![gradA (m ((c.tc : Thread nD τ).loc main_arg3)) (m ((c.tc : Thread nD τ).loc main_arg4)), gradA (m ((c.tc : Thread nD τ).loc main_arg5)) (m ((c.tc : Thread nD τ).loc main_arg6))] := (W7_of m ρ c main_v4 (by decide)).trans (res0_0_6 m ρ c)

theorem res0_1_3 : V3 m ρ c main_v5 = deltaA (m ((c.tc : Thread nD τ).loc main_arg0)) (m ((c.tc : Thread nD τ).loc main_arg1)) (m ((c.tc : Thread nD τ).loc main_arg2)) (stack ![gradA (m ((c.tc : Thread nD τ).loc main_arg3)) (m ((c.tc : Thread nD τ).loc main_arg4)), gradA (m ((c.tc : Thread nD τ).loc main_arg5)) (m ((c.tc : Thread nD τ).loc main_arg6))]) := by
  refine Eq.trans (b := shapeCast S2x1024x384 (W2 m ρ c (Proc.devRef .tc main_v3_1)) facts.shapeCasts_S2048x384_S2x1024x384) ?_ ?_
  · show StableHlo.after hostOps1 (W2 m ρ c) (Proc.devRef .tc main_v5) = _
    unfold hostOps1
    after_results_simp
    rfl
  · rw [show W2 m ρ c (Proc.devRef .tc main_v3_1) = _ from (W2_arr m ρ c 8).trans (Arrays0.step (V1 m ρ) c)]
    rw [in0_0 m ρ c, in0_1 m ρ c, in0_2 m ρ c, g0 m ρ c]
    exact step_reshape _ _ _ _ _ _
theorem res0_1_4 : V4 m ρ c main_v5 = deltaA (m ((c.tc : Thread nD τ).loc main_arg0)) (m ((c.tc : Thread nD τ).loc main_arg1)) (m ((c.tc : Thread nD τ).loc main_arg2)) (stack ![gradA (m ((c.tc : Thread nD τ).loc main_arg3)) (m ((c.tc : Thread nD τ).loc main_arg4)), gradA (m ((c.tc : Thread nD τ).loc main_arg5)) (m ((c.tc : Thread nD τ).loc main_arg6))]) := (W4_of m ρ c main_v5 (by decide)).trans (res0_1_3 m ρ c)
theorem res0_1_5 : V5 m ρ c main_v5 = deltaA (m ((c.tc : Thread nD τ).loc main_arg0)) (m ((c.tc : Thread nD τ).loc main_arg1)) (m ((c.tc : Thread nD τ).loc main_arg2)) (stack ![gradA (m ((c.tc : Thread nD τ).loc main_arg3)) (m ((c.tc : Thread nD τ).loc main_arg4)), gradA (m ((c.tc : Thread nD τ).loc main_arg5)) (m ((c.tc : Thread nD τ).loc main_arg6))]) := (W5_of m ρ c main_v5 (by decide)).trans (res0_1_4 m ρ c)
theorem res0_1_6 : V6 m ρ c main_v5 = deltaA (m ((c.tc : Thread nD τ).loc main_arg0)) (m ((c.tc : Thread nD τ).loc main_arg1)) (m ((c.tc : Thread nD τ).loc main_arg2)) (stack ![gradA (m ((c.tc : Thread nD τ).loc main_arg3)) (m ((c.tc : Thread nD τ).loc main_arg4)), gradA (m ((c.tc : Thread nD τ).loc main_arg5)) (m ((c.tc : Thread nD τ).loc main_arg6))]) := (W6_of m ρ c main_v5 (by decide)).trans (res0_1_5 m ρ c)
theorem res0_1_7 : W7 m ρ c (Proc.devRef .tc main_v5) = deltaA (m ((c.tc : Thread nD τ).loc main_arg0)) (m ((c.tc : Thread nD τ).loc main_arg1)) (m ((c.tc : Thread nD τ).loc main_arg2)) (stack ![gradA (m ((c.tc : Thread nD τ).loc main_arg3)) (m ((c.tc : Thread nD τ).loc main_arg4)), gradA (m ((c.tc : Thread nD τ).loc main_arg5)) (m ((c.tc : Thread nD τ).loc main_arg6))]) := (W7_of m ρ c main_v5 (by decide)).trans (res0_1_6 m ρ c)

theorem res0_2_3 : V3 m ρ c main_v6 = momA (m ((c.tc : Thread nD τ).loc main_arg1)) (stack ![gradA (m ((c.tc : Thread nD τ).loc main_arg3)) (m ((c.tc : Thread nD τ).loc main_arg4)), gradA (m ((c.tc : Thread nD τ).loc main_arg5)) (m ((c.tc : Thread nD τ).loc main_arg6))]) := by
  refine Eq.trans (b := shapeCast S2x1024x384 (W2 m ρ c (Proc.devRef .tc main_v3_2)) facts.shapeCasts_S2048x384_S2x1024x384) ?_ ?_
  · show StableHlo.after hostOps1 (W2 m ρ c) (Proc.devRef .tc main_v6) = _
    unfold hostOps1
    after_results_simp
    rfl
  · rw [show W2 m ρ c (Proc.devRef .tc main_v3_2) = _ from (W2_arr m ρ c 9).trans (Arrays0.mom (V1 m ρ) c)]
    rw [in0_1 m ρ c, g0 m ρ c]
    exact mom_reshape _ _ _ _
theorem res0_2_4 : V4 m ρ c main_v6 = momA (m ((c.tc : Thread nD τ).loc main_arg1)) (stack ![gradA (m ((c.tc : Thread nD τ).loc main_arg3)) (m ((c.tc : Thread nD τ).loc main_arg4)), gradA (m ((c.tc : Thread nD τ).loc main_arg5)) (m ((c.tc : Thread nD τ).loc main_arg6))]) := (W4_of m ρ c main_v6 (by decide)).trans (res0_2_3 m ρ c)
theorem res0_2_5 : V5 m ρ c main_v6 = momA (m ((c.tc : Thread nD τ).loc main_arg1)) (stack ![gradA (m ((c.tc : Thread nD τ).loc main_arg3)) (m ((c.tc : Thread nD τ).loc main_arg4)), gradA (m ((c.tc : Thread nD τ).loc main_arg5)) (m ((c.tc : Thread nD τ).loc main_arg6))]) := (W5_of m ρ c main_v6 (by decide)).trans (res0_2_4 m ρ c)
theorem res0_2_6 : V6 m ρ c main_v6 = momA (m ((c.tc : Thread nD τ).loc main_arg1)) (stack ![gradA (m ((c.tc : Thread nD τ).loc main_arg3)) (m ((c.tc : Thread nD τ).loc main_arg4)), gradA (m ((c.tc : Thread nD τ).loc main_arg5)) (m ((c.tc : Thread nD τ).loc main_arg6))]) := (W6_of m ρ c main_v6 (by decide)).trans (res0_2_5 m ρ c)
theorem res0_2_7 : W7 m ρ c (Proc.devRef .tc main_v6) = momA (m ((c.tc : Thread nD τ).loc main_arg1)) (stack ![gradA (m ((c.tc : Thread nD τ).loc main_arg3)) (m ((c.tc : Thread nD τ).loc main_arg4)), gradA (m ((c.tc : Thread nD τ).loc main_arg5)) (m ((c.tc : Thread nD τ).loc main_arg6))]) := (W7_of m ρ c main_v6 (by decide)).trans (res0_2_6 m ρ c)

theorem res0_3_3 : V3 m ρ c main_v7 = velA (m ((c.tc : Thread nD τ).loc main_arg2)) (stack ![gradA (m ((c.tc : Thread nD τ).loc main_arg3)) (m ((c.tc : Thread nD τ).loc main_arg4)), gradA (m ((c.tc : Thread nD τ).loc main_arg5)) (m ((c.tc : Thread nD τ).loc main_arg6))]) := by
  refine Eq.trans (b := shapeCast S2x1024x384 (W2 m ρ c (Proc.devRef .tc main_v3_3)) facts.shapeCasts_S2048x384_S2x1024x384) ?_ ?_
  · show StableHlo.after hostOps1 (W2 m ρ c) (Proc.devRef .tc main_v7) = _
    unfold hostOps1
    after_results_simp
    rfl
  · rw [show W2 m ρ c (Proc.devRef .tc main_v3_3) = _ from (W2_arr m ρ c 10).trans (Arrays0.vel (V1 m ρ) c)]
    rw [in0_2 m ρ c, g0 m ρ c]
    exact vel_reshape _ _ _ _
theorem res0_3_4 : V4 m ρ c main_v7 = velA (m ((c.tc : Thread nD τ).loc main_arg2)) (stack ![gradA (m ((c.tc : Thread nD τ).loc main_arg3)) (m ((c.tc : Thread nD τ).loc main_arg4)), gradA (m ((c.tc : Thread nD τ).loc main_arg5)) (m ((c.tc : Thread nD τ).loc main_arg6))]) := (W4_of m ρ c main_v7 (by decide)).trans (res0_3_3 m ρ c)
theorem res0_3_5 : V5 m ρ c main_v7 = velA (m ((c.tc : Thread nD τ).loc main_arg2)) (stack ![gradA (m ((c.tc : Thread nD τ).loc main_arg3)) (m ((c.tc : Thread nD τ).loc main_arg4)), gradA (m ((c.tc : Thread nD τ).loc main_arg5)) (m ((c.tc : Thread nD τ).loc main_arg6))]) := (W5_of m ρ c main_v7 (by decide)).trans (res0_3_4 m ρ c)
theorem res0_3_6 : V6 m ρ c main_v7 = velA (m ((c.tc : Thread nD τ).loc main_arg2)) (stack ![gradA (m ((c.tc : Thread nD τ).loc main_arg3)) (m ((c.tc : Thread nD τ).loc main_arg4)), gradA (m ((c.tc : Thread nD τ).loc main_arg5)) (m ((c.tc : Thread nD τ).loc main_arg6))]) := (W6_of m ρ c main_v7 (by decide)).trans (res0_3_5 m ρ c)
theorem res0_3_7 : W7 m ρ c (Proc.devRef .tc main_v7) = velA (m ((c.tc : Thread nD τ).loc main_arg2)) (stack ![gradA (m ((c.tc : Thread nD τ).loc main_arg3)) (m ((c.tc : Thread nD τ).loc main_arg4)), gradA (m ((c.tc : Thread nD τ).loc main_arg5)) (m ((c.tc : Thread nD τ).loc main_arg6))]) := (W7_of m ρ c main_v7 (by decide)).trans (res0_3_6 m ρ c)

/-! ## sc_w_out -/

theorem in1_0 : V3 m ρ c main_v8 = shapeCast S256x1024 (m ((c.tc : Thread nD τ).loc main_arg7)) facts.shapeCasts_S2x128x1024_S256x1024 := by
  refine Eq.trans (b := shapeCast S256x1024 (W2 m ρ c (Proc.devRef .tc main_arg7)) facts.shapeCasts_S2x128x1024_S256x1024) ?_ ?_
  · show StableHlo.after hostOps1 (W2 m ρ c) (Proc.devRef .tc main_v8) = _
    unfold hostOps1
    after_results_simp
    rfl
  · rw [W2_args m ρ c main_arg7 (by decide)]

theorem in1_1 : V3 m ρ c main_v9 = shapeCast S256x1024 (m ((c.tc : Thread nD τ).loc main_arg8)) facts.shapeCasts_S2x128x1024_S256x1024 := by
  refine Eq.trans (b := shapeCast S256x1024 (W2 m ρ c (Proc.devRef .tc main_arg8)) facts.shapeCasts_S2x128x1024_S256x1024) ?_ ?_
  · show StableHlo.after hostOps1 (W2 m ρ c) (Proc.devRef .tc main_v9) = _
    unfold hostOps1
    after_results_simp
    rfl
  · rw [W2_args m ρ c main_arg8 (by decide)]

theorem in1_2 : V3 m ρ c main_v10 = shapeCast S256x1024 (m ((c.tc : Thread nD τ).loc main_arg9)) facts.shapeCasts_S2x128x1024_S256x1024 := by
  refine Eq.trans (b := shapeCast S256x1024 (W2 m ρ c (Proc.devRef .tc main_arg9)) facts.shapeCasts_S2x128x1024_S256x1024) ?_ ?_
  · show StableHlo.after hostOps1 (W2 m ρ c) (Proc.devRef .tc main_v10) = _
    unfold hostOps1
    after_results_simp
    rfl
  · rw [W2_args m ρ c main_arg9 (by decide)]

theorem g1 : Arrays1.G (V3 m ρ) c = rows facts.shapeCasts_S2x128x1024_S256x1024 ![gradA (m ((c.tc : Thread nD τ).loc main_arg10)) (m ((c.tc : Thread nD τ).loc main_arg11)), gradA (m ((c.tc : Thread nD τ).loc main_arg12)) (m ((c.tc : Thread nD τ).loc main_arg13))] := by
  unfold Arrays1.G
  rw [show V3 m ρ c main_arg10 = m ((c.tc : Thread nD τ).loc main_arg10) from W3_args m ρ c main_arg10 (by decide)]
  rw [show V3 m ρ c main_arg11 = m ((c.tc : Thread nD τ).loc main_arg11) from W3_args m ρ c main_arg11 (by decide)]
  rw [show V3 m ρ c main_arg12 = m ((c.tc : Thread nD τ).loc main_arg12) from W3_args m ρ c main_arg12 (by decide)]
  rw [show V3 m ρ c main_arg13 = m ((c.tc : Thread nD τ).loc main_arg13) from W3_args m ρ c main_arg13 (by decide)]

theorem res1_0_5 : V5 m ρ c main_v12 = stack ![gradA (m ((c.tc : Thread nD τ).loc main_arg10)) (m ((c.tc : Thread nD τ).loc main_arg11)), gradA (m ((c.tc : Thread nD τ).loc main_arg12)) (m ((c.tc : Thread nD τ).loc main_arg13))] := by
  refine Eq.trans (b := shapeCast S2x128x1024 (W4 m ρ c (Proc.devRef .tc main_v11_0)) facts.shapeCasts_S256x1024_S2x128x1024) ?_ ?_
  · show StableHlo.after hostOps2 (W4 m ρ c) (Proc.devRef .tc main_v12) = _
    unfold hostOps2
    after_results_simp
    rfl
  · rw [show W4 m ρ c (Proc.devRef .tc main_v11_0) = _ from (W4_arr m ρ c 7).trans (Arrays1.grad (V3 m ρ) c)]
    rw [g1 m ρ c]
    exact grad_reshape _ _ _
theorem res1_0_6 : V6 m ρ c main_v12 = stack ![gradA (m ((c.tc : Thread nD τ).loc main_arg10)) (m ((c.tc : Thread nD τ).loc main_arg11)), gradA (m ((c.tc : Thread nD τ).loc main_arg12)) (m ((c.tc : Thread nD τ).loc main_arg13))] := (W6_of m ρ c main_v12 (by decide)).trans (res1_0_5 m ρ c)
theorem res1_0_7 : W7 m ρ c (Proc.devRef .tc main_v12) = stack ![gradA (m ((c.tc : Thread nD τ).loc main_arg10)) (m ((c.tc : Thread nD τ).loc main_arg11)), gradA (m ((c.tc : Thread nD τ).loc main_arg12)) (m ((c.tc : Thread nD τ).loc main_arg13))] := (W7_of m ρ c main_v12 (by decide)).trans (res1_0_6 m ρ c)

theorem res1_1_5 : V5 m ρ c main_v13 = deltaA (m ((c.tc : Thread nD τ).loc main_arg7)) (m ((c.tc : Thread nD τ).loc main_arg8)) (m ((c.tc : Thread nD τ).loc main_arg9)) (stack ![gradA (m ((c.tc : Thread nD τ).loc main_arg10)) (m ((c.tc : Thread nD τ).loc main_arg11)), gradA (m ((c.tc : Thread nD τ).loc main_arg12)) (m ((c.tc : Thread nD τ).loc main_arg13))]) := by
  refine Eq.trans (b := shapeCast S2x128x1024 (W4 m ρ c (Proc.devRef .tc main_v11_1)) facts.shapeCasts_S256x1024_S2x128x1024) ?_ ?_
  · show StableHlo.after hostOps2 (W4 m ρ c) (Proc.devRef .tc main_v13) = _
    unfold hostOps2
    after_results_simp
    rfl
  · rw [show W4 m ρ c (Proc.devRef .tc main_v11_1) = _ from (W4_arr m ρ c 8).trans (Arrays1.step (V3 m ρ) c)]
    rw [in1_0 m ρ c, in1_1 m ρ c, in1_2 m ρ c, g1 m ρ c]
    exact step_reshape _ _ _ _ _ _
theorem res1_1_6 : V6 m ρ c main_v13 = deltaA (m ((c.tc : Thread nD τ).loc main_arg7)) (m ((c.tc : Thread nD τ).loc main_arg8)) (m ((c.tc : Thread nD τ).loc main_arg9)) (stack ![gradA (m ((c.tc : Thread nD τ).loc main_arg10)) (m ((c.tc : Thread nD τ).loc main_arg11)), gradA (m ((c.tc : Thread nD τ).loc main_arg12)) (m ((c.tc : Thread nD τ).loc main_arg13))]) := (W6_of m ρ c main_v13 (by decide)).trans (res1_1_5 m ρ c)
theorem res1_1_7 : W7 m ρ c (Proc.devRef .tc main_v13) = deltaA (m ((c.tc : Thread nD τ).loc main_arg7)) (m ((c.tc : Thread nD τ).loc main_arg8)) (m ((c.tc : Thread nD τ).loc main_arg9)) (stack ![gradA (m ((c.tc : Thread nD τ).loc main_arg10)) (m ((c.tc : Thread nD τ).loc main_arg11)), gradA (m ((c.tc : Thread nD τ).loc main_arg12)) (m ((c.tc : Thread nD τ).loc main_arg13))]) := (W7_of m ρ c main_v13 (by decide)).trans (res1_1_6 m ρ c)

theorem res1_2_5 : V5 m ρ c main_v14 = momA (m ((c.tc : Thread nD τ).loc main_arg8)) (stack ![gradA (m ((c.tc : Thread nD τ).loc main_arg10)) (m ((c.tc : Thread nD τ).loc main_arg11)), gradA (m ((c.tc : Thread nD τ).loc main_arg12)) (m ((c.tc : Thread nD τ).loc main_arg13))]) := by
  refine Eq.trans (b := shapeCast S2x128x1024 (W4 m ρ c (Proc.devRef .tc main_v11_2)) facts.shapeCasts_S256x1024_S2x128x1024) ?_ ?_
  · show StableHlo.after hostOps2 (W4 m ρ c) (Proc.devRef .tc main_v14) = _
    unfold hostOps2
    after_results_simp
    rfl
  · rw [show W4 m ρ c (Proc.devRef .tc main_v11_2) = _ from (W4_arr m ρ c 9).trans (Arrays1.mom (V3 m ρ) c)]
    rw [in1_1 m ρ c, g1 m ρ c]
    exact mom_reshape _ _ _ _
theorem res1_2_6 : V6 m ρ c main_v14 = momA (m ((c.tc : Thread nD τ).loc main_arg8)) (stack ![gradA (m ((c.tc : Thread nD τ).loc main_arg10)) (m ((c.tc : Thread nD τ).loc main_arg11)), gradA (m ((c.tc : Thread nD τ).loc main_arg12)) (m ((c.tc : Thread nD τ).loc main_arg13))]) := (W6_of m ρ c main_v14 (by decide)).trans (res1_2_5 m ρ c)
theorem res1_2_7 : W7 m ρ c (Proc.devRef .tc main_v14) = momA (m ((c.tc : Thread nD τ).loc main_arg8)) (stack ![gradA (m ((c.tc : Thread nD τ).loc main_arg10)) (m ((c.tc : Thread nD τ).loc main_arg11)), gradA (m ((c.tc : Thread nD τ).loc main_arg12)) (m ((c.tc : Thread nD τ).loc main_arg13))]) := (W7_of m ρ c main_v14 (by decide)).trans (res1_2_6 m ρ c)

theorem res1_3_5 : V5 m ρ c main_v15 = velA (m ((c.tc : Thread nD τ).loc main_arg9)) (stack ![gradA (m ((c.tc : Thread nD τ).loc main_arg10)) (m ((c.tc : Thread nD τ).loc main_arg11)), gradA (m ((c.tc : Thread nD τ).loc main_arg12)) (m ((c.tc : Thread nD τ).loc main_arg13))]) := by
  refine Eq.trans (b := shapeCast S2x128x1024 (W4 m ρ c (Proc.devRef .tc main_v11_3)) facts.shapeCasts_S256x1024_S2x128x1024) ?_ ?_
  · show StableHlo.after hostOps2 (W4 m ρ c) (Proc.devRef .tc main_v15) = _
    unfold hostOps2
    after_results_simp
    rfl
  · rw [show W4 m ρ c (Proc.devRef .tc main_v11_3) = _ from (W4_arr m ρ c 10).trans (Arrays1.vel (V3 m ρ) c)]
    rw [in1_2 m ρ c, g1 m ρ c]
    exact vel_reshape _ _ _ _
theorem res1_3_6 : V6 m ρ c main_v15 = velA (m ((c.tc : Thread nD τ).loc main_arg9)) (stack ![gradA (m ((c.tc : Thread nD τ).loc main_arg10)) (m ((c.tc : Thread nD τ).loc main_arg11)), gradA (m ((c.tc : Thread nD τ).loc main_arg12)) (m ((c.tc : Thread nD τ).loc main_arg13))]) := (W6_of m ρ c main_v15 (by decide)).trans (res1_3_5 m ρ c)
theorem res1_3_7 : W7 m ρ c (Proc.devRef .tc main_v15) = velA (m ((c.tc : Thread nD τ).loc main_arg9)) (stack ![gradA (m ((c.tc : Thread nD τ).loc main_arg10)) (m ((c.tc : Thread nD τ).loc main_arg11)), gradA (m ((c.tc : Thread nD τ).loc main_arg12)) (m ((c.tc : Thread nD τ).loc main_arg13))]) := (W7_of m ρ c main_v15 (by decide)).trans (res1_3_6 m ρ c)

/-! ## cf_w_pw1 -/

theorem in2_0 : V5 m ρ c main_v16 = shapeCast S1024x256 (m ((c.tc : Thread nD τ).loc main_arg14)) facts.shapeCasts_S1x1024x256_S1024x256 := by
  refine Eq.trans (b := shapeCast S1024x256 (W4 m ρ c (Proc.devRef .tc main_arg14)) facts.shapeCasts_S1x1024x256_S1024x256) ?_ ?_
  · show StableHlo.after hostOps2 (W4 m ρ c) (Proc.devRef .tc main_v16) = _
    unfold hostOps2
    after_results_simp
    rfl
  · rw [W4_args m ρ c main_arg14 (by decide)]

theorem in2_1 : V5 m ρ c main_v17 = shapeCast S1024x256 (m ((c.tc : Thread nD τ).loc main_arg15)) facts.shapeCasts_S1x1024x256_S1024x256 := by
  refine Eq.trans (b := shapeCast S1024x256 (W4 m ρ c (Proc.devRef .tc main_arg15)) facts.shapeCasts_S1x1024x256_S1024x256) ?_ ?_
  · show StableHlo.after hostOps2 (W4 m ρ c) (Proc.devRef .tc main_v17) = _
    unfold hostOps2
    after_results_simp
    rfl
  · rw [W4_args m ρ c main_arg15 (by decide)]

theorem in2_2 : V5 m ρ c main_v18 = shapeCast S1024x256 (m ((c.tc : Thread nD τ).loc main_arg16)) facts.shapeCasts_S1x1024x256_S1024x256 := by
  refine Eq.trans (b := shapeCast S1024x256 (W4 m ρ c (Proc.devRef .tc main_arg16)) facts.shapeCasts_S1x1024x256_S1024x256) ?_ ?_
  · show StableHlo.after hostOps2 (W4 m ρ c) (Proc.devRef .tc main_v18) = _
    unfold hostOps2
    after_results_simp
    rfl
  · rw [W4_args m ρ c main_arg16 (by decide)]

theorem g2 : Arrays2.G (V5 m ρ) c = rows facts.shapeCasts_S1x1024x256_S1024x256 ![gradA (m ((c.tc : Thread nD τ).loc main_arg17)) (m ((c.tc : Thread nD τ).loc main_arg18))] := by
  unfold Arrays2.G
  rw [show V5 m ρ c main_arg17 = m ((c.tc : Thread nD τ).loc main_arg17) from W5_args m ρ c main_arg17 (by decide)]
  rw [show V5 m ρ c main_arg18 = m ((c.tc : Thread nD τ).loc main_arg18) from W5_args m ρ c main_arg18 (by decide)]

theorem res2_0_7 : W7 m ρ c (Proc.devRef .tc main_v20) = stack ![gradA (m ((c.tc : Thread nD τ).loc main_arg17)) (m ((c.tc : Thread nD τ).loc main_arg18))] := by
  refine Eq.trans (b := shapeCast S1x1024x256 (W6 m ρ c (Proc.devRef .tc main_v19_0)) facts.shapeCasts_S1024x256_S1x1024x256) ?_ ?_
  · show StableHlo.after hostOps3 (W6 m ρ c) (Proc.devRef .tc main_v20) = _
    unfold hostOps3
    after_results_simp
    rfl
  · rw [show W6 m ρ c (Proc.devRef .tc main_v19_0) = _ from (W6_arr m ρ c 5).trans (Arrays2.grad (V5 m ρ) c)]
    rw [g2 m ρ c]
    exact grad_reshape _ _ _

theorem res2_1_7 : W7 m ρ c (Proc.devRef .tc main_v21) = deltaA (m ((c.tc : Thread nD τ).loc main_arg14)) (m ((c.tc : Thread nD τ).loc main_arg15)) (m ((c.tc : Thread nD τ).loc main_arg16)) (stack ![gradA (m ((c.tc : Thread nD τ).loc main_arg17)) (m ((c.tc : Thread nD τ).loc main_arg18))]) := by
  refine Eq.trans (b := shapeCast S1x1024x256 (W6 m ρ c (Proc.devRef .tc main_v19_1)) facts.shapeCasts_S1024x256_S1x1024x256) ?_ ?_
  · show StableHlo.after hostOps3 (W6 m ρ c) (Proc.devRef .tc main_v21) = _
    unfold hostOps3
    after_results_simp
    rfl
  · rw [show W6 m ρ c (Proc.devRef .tc main_v19_1) = _ from (W6_arr m ρ c 6).trans (Arrays2.step (V5 m ρ) c)]
    rw [in2_0 m ρ c, in2_1 m ρ c, in2_2 m ρ c, g2 m ρ c]
    exact step_reshape _ _ _ _ _ _

theorem res2_2_7 : W7 m ρ c (Proc.devRef .tc main_v22) = momA (m ((c.tc : Thread nD τ).loc main_arg15)) (stack ![gradA (m ((c.tc : Thread nD τ).loc main_arg17)) (m ((c.tc : Thread nD τ).loc main_arg18))]) := by
  refine Eq.trans (b := shapeCast S1x1024x256 (W6 m ρ c (Proc.devRef .tc main_v19_2)) facts.shapeCasts_S1024x256_S1x1024x256) ?_ ?_
  · show StableHlo.after hostOps3 (W6 m ρ c) (Proc.devRef .tc main_v22) = _
    unfold hostOps3
    after_results_simp
    rfl
  · rw [show W6 m ρ c (Proc.devRef .tc main_v19_2) = _ from (W6_arr m ρ c 7).trans (Arrays2.mom (V5 m ρ) c)]
    rw [in2_1 m ρ c, g2 m ρ c]
    exact mom_reshape _ _ _ _

theorem res2_3_7 : W7 m ρ c (Proc.devRef .tc main_v23) = velA (m ((c.tc : Thread nD τ).loc main_arg16)) (stack ![gradA (m ((c.tc : Thread nD τ).loc main_arg17)) (m ((c.tc : Thread nD τ).loc main_arg18))]) := by
  refine Eq.trans (b := shapeCast S1x1024x256 (W6 m ρ c (Proc.devRef .tc main_v19_3)) facts.shapeCasts_S1024x256_S1x1024x256) ?_ ?_
  · show StableHlo.after hostOps3 (W6 m ρ c) (Proc.devRef .tc main_v23) = _
    unfold hostOps3
    after_results_simp
    rfl
  · rw [show W6 m ρ c (Proc.devRef .tc main_v19_3) = _ from (W6_arr m ρ c 8).trans (Arrays2.vel (V5 m ρ) c)]
    rw [in2_2 m ρ c, g2 m ρ c]
    exact vel_reshape _ _ _ _

/-- The kernel's run: each weight's gradient, step and moments, the arguments unchanged. -/
theorem run : θ_run defs (onTc (τ := τ) (main (F := Ideal))) ⟨m, fun _ => 0, ρ⟩ (fun r => ∀ c : Dev nD,
      r.2.mem ((c.tc : Thread nD τ).loc main_v4) = stack ![gradA (m ((c.tc : Thread nD τ).loc main_arg3)) (m ((c.tc : Thread nD τ).loc main_arg4)), gradA (m ((c.tc : Thread nD τ).loc main_arg5)) (m ((c.tc : Thread nD τ).loc main_arg6))]
      ∧ r.2.mem ((c.tc : Thread nD τ).loc main_v5) = deltaA (m ((c.tc : Thread nD τ).loc main_arg0)) (m ((c.tc : Thread nD τ).loc main_arg1)) (m ((c.tc : Thread nD τ).loc main_arg2)) (stack ![gradA (m ((c.tc : Thread nD τ).loc main_arg3)) (m ((c.tc : Thread nD τ).loc main_arg4)), gradA (m ((c.tc : Thread nD τ).loc main_arg5)) (m ((c.tc : Thread nD τ).loc main_arg6))])
      ∧ r.2.mem ((c.tc : Thread nD τ).loc main_v6) = momA (m ((c.tc : Thread nD τ).loc main_arg1)) (stack ![gradA (m ((c.tc : Thread nD τ).loc main_arg3)) (m ((c.tc : Thread nD τ).loc main_arg4)), gradA (m ((c.tc : Thread nD τ).loc main_arg5)) (m ((c.tc : Thread nD τ).loc main_arg6))])
      ∧ r.2.mem ((c.tc : Thread nD τ).loc main_v7) = velA (m ((c.tc : Thread nD τ).loc main_arg2)) (stack ![gradA (m ((c.tc : Thread nD τ).loc main_arg3)) (m ((c.tc : Thread nD τ).loc main_arg4)), gradA (m ((c.tc : Thread nD τ).loc main_arg5)) (m ((c.tc : Thread nD τ).loc main_arg6))])
      ∧ r.2.mem ((c.tc : Thread nD τ).loc main_v12) = stack ![gradA (m ((c.tc : Thread nD τ).loc main_arg10)) (m ((c.tc : Thread nD τ).loc main_arg11)), gradA (m ((c.tc : Thread nD τ).loc main_arg12)) (m ((c.tc : Thread nD τ).loc main_arg13))]
      ∧ r.2.mem ((c.tc : Thread nD τ).loc main_v13) = deltaA (m ((c.tc : Thread nD τ).loc main_arg7)) (m ((c.tc : Thread nD τ).loc main_arg8)) (m ((c.tc : Thread nD τ).loc main_arg9)) (stack ![gradA (m ((c.tc : Thread nD τ).loc main_arg10)) (m ((c.tc : Thread nD τ).loc main_arg11)), gradA (m ((c.tc : Thread nD τ).loc main_arg12)) (m ((c.tc : Thread nD τ).loc main_arg13))])
      ∧ r.2.mem ((c.tc : Thread nD τ).loc main_v14) = momA (m ((c.tc : Thread nD τ).loc main_arg8)) (stack ![gradA (m ((c.tc : Thread nD τ).loc main_arg10)) (m ((c.tc : Thread nD τ).loc main_arg11)), gradA (m ((c.tc : Thread nD τ).loc main_arg12)) (m ((c.tc : Thread nD τ).loc main_arg13))])
      ∧ r.2.mem ((c.tc : Thread nD τ).loc main_v15) = velA (m ((c.tc : Thread nD τ).loc main_arg9)) (stack ![gradA (m ((c.tc : Thread nD τ).loc main_arg10)) (m ((c.tc : Thread nD τ).loc main_arg11)), gradA (m ((c.tc : Thread nD τ).loc main_arg12)) (m ((c.tc : Thread nD τ).loc main_arg13))])
      ∧ r.2.mem ((c.tc : Thread nD τ).loc main_v20) = stack ![gradA (m ((c.tc : Thread nD τ).loc main_arg17)) (m ((c.tc : Thread nD τ).loc main_arg18))]
      ∧ r.2.mem ((c.tc : Thread nD τ).loc main_v21) = deltaA (m ((c.tc : Thread nD τ).loc main_arg14)) (m ((c.tc : Thread nD τ).loc main_arg15)) (m ((c.tc : Thread nD τ).loc main_arg16)) (stack ![gradA (m ((c.tc : Thread nD τ).loc main_arg17)) (m ((c.tc : Thread nD τ).loc main_arg18))])
      ∧ r.2.mem ((c.tc : Thread nD τ).loc main_v22) = momA (m ((c.tc : Thread nD τ).loc main_arg15)) (stack ![gradA (m ((c.tc : Thread nD τ).loc main_arg17)) (m ((c.tc : Thread nD τ).loc main_arg18))])
      ∧ r.2.mem ((c.tc : Thread nD τ).loc main_v23) = velA (m ((c.tc : Thread nD τ).loc main_arg16)) (stack ![gradA (m ((c.tc : Thread nD τ).loc main_arg17)) (m ((c.tc : Thread nD τ).loc main_arg18))])
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c =>
    ⟨(h c _ (mem_uc main_v4 (by decide))).trans (res0_0_7 m ρ c),
     (h c _ (mem_uc main_v5 (by decide))).trans (res0_1_7 m ρ c),
     (h c _ (mem_uc main_v6 (by decide))).trans (res0_2_7 m ρ c),
     (h c _ (mem_uc main_v7 (by decide))).trans (res0_3_7 m ρ c),
     (h c _ (mem_uc main_v12 (by decide))).trans (res1_0_7 m ρ c),
     (h c _ (mem_uc main_v13 (by decide))).trans (res1_1_7 m ρ c),
     (h c _ (mem_uc main_v14 (by decide))).trans (res1_2_7 m ρ c),
     (h c _ (mem_uc main_v15 (by decide))).trans (res1_3_7 m ρ c),
     (h c _ (mem_uc main_v20 (by decide))).trans (res2_0_7 m ρ c),
     (h c _ (mem_uc main_v21 (by decide))).trans (res2_1_7 m ρ c),
     (h c _ (mem_uc main_v22 (by decide))).trans (res2_2_7 m ρ c),
     (h c _ (mem_uc main_v23 (by decide))).trans (res2_3_7 m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c),
     (h c _ (mem_uc main_arg13 (by decide))).trans (W7_main_arg13 m ρ c),
     (h c _ (mem_uc main_arg14 (by decide))).trans (W7_main_arg14 m ρ c),
     (h c _ (mem_uc main_arg15 (by decide))).trans (W7_main_arg15 m ρ c),
     (h c _ (mem_uc main_arg16 (by decide))).trans (W7_main_arg16 m ρ c),
     (h c _ (mem_uc main_arg17 (by decide))).trans (W7_main_arg17 m ρ c),
     (h c _ (mem_uc main_arg18 (by decide))).trans (W7_main_arg18 m ρ c)⟩) (ends_at m ρ)

end Cert.AdamIdeal.Run
-- ==== Proof.AdamHost.lean ====
/-
  ADAMW ON ONE ARRAY, read off what a reference's run ends with: an array that holds the host's term for a moment or for the step,
  of arrays equal to these, is that moment or step of these.
-/
module

public import proofs.«01_k».proof.Proof.AdamMath

@[expose] public section

noncomputable section

namespace Cert.AdamMath

open Idealize.ShloMosaic Idealize.SL.Sem

variable {s : Shape} {x w w' m m' v v' g g' : FVec Ideal s .f32} (hb : S0.BroadcastsInDim s ![])

theorem mom_of (h : x = addf (mulf (broadcastInDim s ![] hb (constant S0 .f32 0x3F666666#32)) m)
      (mulf (broadcastInDim s ![] hb (constant S0 .f32 0x3DCCCCCD#32)) g)) (hm : m = m') (hg : g = g') : x = momA m' g' := by
  subst hm hg; exact h.trans (host_mom m g hb)

theorem vel_of (h : x = addf (mulf (broadcastInDim s ![] hb (constant S0 .f32 0x3F7FBE77#32)) v)
      (mulf (broadcastInDim s ![] hb (constant S0 .f32 0x3A83126F#32)) (mulf g g))) (hv : v = v') (hg : g = g') : x = velA v' g' := by
  subst hv hg; exact h.trans (host_vel v g hb)

theorem step_of (h : x = mulf (broadcastInDim s ![] hb (constant S0 .f32 0xBA83126F#32))
      (addf (Host.divf (Host.divf
          (addf (mulf (broadcastInDim s ![] hb (constant S0 .f32 0x3F666666#32)) m)
            (mulf (broadcastInDim s ![] hb (constant S0 .f32 0x3DCCCCCD#32)) g))
          (broadcastInDim s ![] hb (constant S0 .f32 0x3F26BD02#32)))
        (addf (Host.sqrt (Host.divf
            (addf (mulf (broadcastInDim s ![] hb (constant S0 .f32 0x3F7FBE77#32)) v)
              (mulf (broadcastInDim s ![] hb (constant S0 .f32 0x3A83126F#32)) (mulf g g)))
            (broadcastInDim s ![] hb (constant S0 .f32 0x3C231ACC#32))))
          (broadcastInDim s ![] hb (constant S0 .f32 0x322BCC77#32))))
        (mulf (broadcastInDim s ![] hb (constant S0 .f32 0x3C23D70A#32)) w)))
    (hw : w = w') (hm : m = m') (hv : v = v') (hg : g = g') : x = deltaA w' m' v' g' := by
  subst hw hm hv hg; exact h.trans (host_delta w m v g hb)

end Cert.AdamMath
-- ==== Proof.AdamClaim.lean ====
/-
  THE ADAMW CALLS' CLAIMS that are not generated: the reference's frame, from its generated run, and the value claim, from the
  kernel's run (AdamRun.lean), the reference's run and AdamW's terms on the host (AdamMath.lean, AdamHost.lean, AdamStack.lean).
-/
module

public import proofs.«01_k».proof.Defs
public import proofs.«01_k».proof.Proof.AdamRun
public import proofs.«01_k».proof.Proof.AdamHost
public import proofs.«01_k».proof.Proof.Gen.AdamRefIdeal.Run
public import Idealize.ShloMosaic.Lib.Quiescent

@[expose] public section

set_option maxRecDepth 16384

noncomputable section

namespace Cert.AdamClaim

open Idealize.ShloMosaic Idealize.ShloMosaic.StableHlo Idealize.SL.Sem Cert.AdamMath Cert.AdamStack

theorem ref_frame : Cert.quiescent_AdamRefIdeal (hAdamRefIdeal := Cert.AdamRefIdeal.Gen.facts) := fun m ρ _ =>
  (θ_run Cert.AdamRefIdeal.defs _ _).mono (fun r h =>
    ⟨fun c => (h c).2.2.2.2.2.2.2.2.2.2.2.2, Idealize.ShloMosaic.sem_eq_zero_of_no_sems (by decide) r.2⟩)
    (Cert.AdamRefIdeal.Value.run (F := Ideal) m ρ)

theorem value : Cert.algebraic_AdamIdeal_AdamRefIdeal (hAdamIdeal := Cert.AdamIdeal.Gen.facts)
    (hAdamRefIdeal := Cert.AdamRefIdeal.Gen.facts) := by
  intro m g m' g' _ hag
  refine ⟨_, _, _, _, _, _, _, _, _, _, _, _,
    Cert.AdamIdeal.Run.run m g,
    (θ_run Cert.AdamRefIdeal.defs _ _).mono (fun r h c => ?_) (Cert.AdamRefIdeal.Value.run (F := Ideal) m' g')⟩
  obtain ⟨e0, e1, e2, e3, e4, e5, e6, e7, e8, e9, e10, e11, e12, e13, e14, e15, e16, e17, e18⟩ := hag c
  obtain ⟨h0, h1, h2, h3, h4, h5, h6, h7, h8, h9, h10, h11, hargs⟩ := h c
  exact ⟨h0.trans ((stack2 _ _ _ _).trans (congrArg₂ (fun x y => stack ![x, y]) ((grad_host _ _ _ _ (by decide) _).trans (congrArg₂ gradA e3 e4)) ((grad_host _ _ _ _ (by decide) _).trans (congrArg₂ gradA e5 e6)))),
    step_of _ h1 e0 e1 e2 ((stack2 _ _ _ _).trans (congrArg₂ (fun x y => stack ![x, y]) ((grad_host _ _ _ _ (by decide) _).trans (congrArg₂ gradA e3 e4)) ((grad_host _ _ _ _ (by decide) _).trans (congrArg₂ gradA e5 e6)))),
    mom_of _ h2 e1 ((stack2 _ _ _ _).trans (congrArg₂ (fun x y => stack ![x, y]) ((grad_host _ _ _ _ (by decide) _).trans (congrArg₂ gradA e3 e4)) ((grad_host _ _ _ _ (by decide) _).trans (congrArg₂ gradA e5 e6)))),
    vel_of _ h3 e2 ((stack2 _ _ _ _).trans (congrArg₂ (fun x y => stack ![x, y]) ((grad_host _ _ _ _ (by decide) _).trans (congrArg₂ gradA e3 e4)) ((grad_host _ _ _ _ (by decide) _).trans (congrArg₂ gradA e5 e6)))),
    h4.trans ((stack2 _ _ _ _).trans (congrArg₂ (fun x y => stack ![x, y]) ((grad_host _ _ _ _ (by decide) _).trans (congrArg₂ gradA e10 e11)) ((grad_host _ _ _ _ (by decide) _).trans (congrArg₂ gradA e12 e13)))),
    step_of _ h5 e7 e8 e9 ((stack2 _ _ _ _).trans (congrArg₂ (fun x y => stack ![x, y]) ((grad_host _ _ _ _ (by decide) _).trans (congrArg₂ gradA e10 e11)) ((grad_host _ _ _ _ (by decide) _).trans (congrArg₂ gradA e12 e13)))),
    mom_of _ h6 e8 ((stack2 _ _ _ _).trans (congrArg₂ (fun x y => stack ![x, y]) ((grad_host _ _ _ _ (by decide) _).trans (congrArg₂ gradA e10 e11)) ((grad_host _ _ _ _ (by decide) _).trans (congrArg₂ gradA e12 e13)))),
    vel_of _ h7 e9 ((stack2 _ _ _ _).trans (congrArg₂ (fun x y => stack ![x, y]) ((grad_host _ _ _ _ (by decide) _).trans (congrArg₂ gradA e10 e11)) ((grad_host _ _ _ _ (by decide) _).trans (congrArg₂ gradA e12 e13)))),
    h8.trans ((stack1 _ _).trans (congrArg (fun x => stack ![x]) ((grad_host _ _ _ _ (by decide) _).trans (congrArg₂ gradA e17 e18)))),
    step_of _ h9 e14 e15 e16 ((stack1 _ _).trans (congrArg (fun x => stack ![x]) ((grad_host _ _ _ _ (by decide) _).trans (congrArg₂ gradA e17 e18)))),
    mom_of _ h10 e15 ((stack1 _ _).trans (congrArg (fun x => stack ![x]) ((grad_host _ _ _ _ (by decide) _).trans (congrArg₂ gradA e17 e18)))),
    vel_of _ h11 e16 ((stack1 _ _).trans (congrArg (fun x => stack ![x]) ((grad_host _ _ _ _ (by decide) _).trans (congrArg₂ gradA e17 e18)))), hargs⟩

end Cert.AdamClaim

end
-- ==== Proof.Adam1IdealBody.lean ====
/-
  THE GROUPED ADAMW KERNEL'S BODY. Seven weights, five input windows and four output windows each, and one grid point: the body
  loads a weight's inputs whole and stores each of its four results once, over the whole of its window. `out w` is what output
  window `w` holds afterwards, a function of its own weight's five inputs, and `sound_kernel` is the body's triple.
-/
module

public import proofs.«01_k».proof.Proof.Gen.Adam1Ideal.Launch
public import proofs.«01_k».proof.Proof.Gen.Adam1Ideal.Skeleton
public import proofs.«01_k».proof.Proof.Gen.Adam1Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Adam1Ideal.Hand

open Cert.Adam1Ideal Cert.Adam1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through -/

abbrev r0_0 : Rect S128x384 := Rect.unit (s := S128x384) ![0, 0] S128x384.size inb_S128x384_S128x384_0_0
abbrev r0_1 : Rect S3x128x384 := Rect.unit (s := S3x128x384) ![0, 0, 0] S1x128x384.size inb_S3x128x384_S1x128x384_0_0_0
abbrev r0_2 : Rect S3x128x384 := Rect.unit (s := S3x128x384) ![1, 0, 0] S1x128x384.size inb_S3x128x384_S1x128x384_1_0_0
abbrev r0_3 : Rect S3x128x384 := Rect.unit (s := S3x128x384) ![2, 0, 0] S1x128x384.size inb_S3x128x384_S1x128x384_2_0_0
abbrev r0_4 : Rect S384x192 := Rect.unit (s := S384x192) ![0, 0] S384x192.size inb_S384x192_S384x192_0_0
abbrev r0_5 : Rect S3x384x192 := Rect.unit (s := S3x384x192) ![0, 0, 0] S1x384x192.size inb_S3x384x192_S1x384x192_0_0_0
abbrev r0_6 : Rect S3x384x192 := Rect.unit (s := S3x384x192) ![1, 0, 0] S1x384x192.size inb_S3x384x192_S1x384x192_1_0_0
abbrev r0_7 : Rect S3x384x192 := Rect.unit (s := S3x384x192) ![2, 0, 0] S1x384x192.size inb_S3x384x192_S1x384x192_2_0_0
abbrev r0_8 : Rect S128x320 := Rect.unit (s := S128x320) ![0, 0] S128x320.size inb_S128x320_S128x320_0_0
abbrev r0_9 : Rect S3x128x320 := Rect.unit (s := S3x128x320) ![0, 0, 0] S1x128x320.size inb_S3x128x320_S1x128x320_0_0_0
abbrev r0_10 : Rect S3x128x320 := Rect.unit (s := S3x128x320) ![1, 0, 0] S1x128x320.size inb_S3x128x320_S1x128x320_1_0_0
abbrev r0_11 : Rect S3x128x320 := Rect.unit (s := S3x128x320) ![2, 0, 0] S1x128x320.size inb_S3x128x320_S1x128x320_2_0_0
abbrev r0_12 : Rect S32x1024 := Rect.unit (s := S32x1024) ![0, 0] S32x1024.size inb_S32x1024_S32x1024_0_0
abbrev r0_13 : Rect S3x32x1024 := Rect.unit (s := S3x32x1024) ![0, 0, 0] S1x32x1024.size inb_S3x32x1024_S1x32x1024_0_0_0
abbrev r0_14 : Rect S3x32x1024 := Rect.unit (s := S3x32x1024) ![1, 0, 0] S1x32x1024.size inb_S3x32x1024_S1x32x1024_1_0_0
abbrev r0_15 : Rect S3x32x1024 := Rect.unit (s := S3x32x1024) ![2, 0, 0] S1x32x1024.size inb_S3x32x1024_S1x32x1024_2_0_0
abbrev r0_16 : Rect S128x1024 := Rect.unit (s := S128x1024) ![0, 0] S128x1024.size inb_S128x1024_S128x1024_0_0
abbrev r0_17 : Rect S3x128x1024 := Rect.unit (s := S3x128x1024) ![0, 0, 0] S1x128x1024.size inb_S3x128x1024_S1x128x1024_0_0_0
abbrev r0_18 : Rect S3x128x1024 := Rect.unit (s := S3x128x1024) ![1, 0, 0] S1x128x1024.size inb_S3x128x1024_S1x128x1024_1_0_0
abbrev r0_19 : Rect S3x128x1024 := Rect.unit (s := S3x128x1024) ![2, 0, 0] S1x128x1024.size inb_S3x128x1024_S1x128x1024_2_0_0

/-! ## What each output window holds after the body -/

def out35 (x3 : Vec F S128x384 .f32) (x4 : Vec F S3x128x384 .bf16) : Vec F S128x384 .f32 :=
  View.canon [⟨r0_0, k0_pay3 (View.ld x3 r0_0) (View.ld x4 r0_1) (View.ld x4 r0_2) (View.ld x4 r0_3)⟩]
def out36 (x0 : Vec F S128x384 .f32) (x1 : Vec F S128x384 .f32) (x2 : Vec F S128x384 .f32) (x3 : Vec F S128x384 .f32) (x4 : Vec F S3x128x384 .bf16) : Vec F S128x384 .f32 :=
  View.canon [⟨r0_0, k0_pay7 (View.ld x0 r0_0) (k0_pay6 (View.ld x3 r0_0) (View.ld x4 r0_1) (View.ld x4 r0_2) (View.ld x4 r0_3) (View.ld x1 r0_0) (View.ld x2 r0_0))⟩]
def out37 (x1 : Vec F S128x384 .f32) (x3 : Vec F S128x384 .f32) (x4 : Vec F S3x128x384 .bf16) : Vec F S128x384 .f32 :=
  View.canon [⟨r0_0, k0_pay4 (View.ld x3 r0_0) (View.ld x4 r0_1) (View.ld x4 r0_2) (View.ld x4 r0_3) (View.ld x1 r0_0)⟩]
def out38 (x2 : Vec F S128x384 .f32) (x3 : Vec F S128x384 .f32) (x4 : Vec F S3x128x384 .bf16) : Vec F S128x384 .f32 :=
  View.canon [⟨r0_0, k0_pay5 (View.ld x3 r0_0) (View.ld x4 r0_1) (View.ld x4 r0_2) (View.ld x4 r0_3) (View.ld x2 r0_0)⟩]
def out39 (x8 : Vec F S384x192 .f32) (x9 : Vec F S3x384x192 .bf16) : Vec F S384x192 .f32 :=
  View.canon [⟨r0_4, k0_pay8 (View.ld x8 r0_4) (View.ld x9 r0_5) (View.ld x9 r0_6) (View.ld x9 r0_7)⟩]
def out40 (x5 : Vec F S384x192 .f32) (x6 : Vec F S384x192 .f32) (x7 : Vec F S384x192 .f32) (x8 : Vec F S384x192 .f32) (x9 : Vec F S3x384x192 .bf16) : Vec F S384x192 .f32 :=
  View.canon [⟨r0_4, k0_pay12 (k0_pay8 (View.ld x8 r0_4) (View.ld x9 r0_5) (View.ld x9 r0_6) (View.ld x9 r0_7)) (View.ld x5 r0_4) (View.ld x7 r0_4) (k0_pay9 (View.ld x6 r0_4)) (Scalar.ofBits .f32 0x3DCCCCCD#32)⟩]
def out41 (x6 : Vec F S384x192 .f32) (x8 : Vec F S384x192 .f32) (x9 : Vec F S3x384x192 .bf16) : Vec F S384x192 .f32 :=
  View.canon [⟨r0_4, k0_pay10 (k0_pay8 (View.ld x8 r0_4) (View.ld x9 r0_5) (View.ld x9 r0_6) (View.ld x9 r0_7)) (k0_pay9 (View.ld x6 r0_4)) (Scalar.ofBits .f32 0x3DCCCCCD#32)⟩]
def out42 (x7 : Vec F S384x192 .f32) (x8 : Vec F S384x192 .f32) (x9 : Vec F S3x384x192 .bf16) : Vec F S384x192 .f32 :=
  View.canon [⟨r0_4, k0_pay11 (k0_pay8 (View.ld x8 r0_4) (View.ld x9 r0_5) (View.ld x9 r0_6) (View.ld x9 r0_7)) (View.ld x7 r0_4)⟩]
def out43 (x13 : Vec F S128x320 .f32) (x14 : Vec F S3x128x320 .bf16) : Vec F S128x320 .f32 :=
  View.canon [⟨r0_8, k0_pay15 (k0_pay13 (View.ld x13 r0_8) (View.ld x14 r0_9)) (k0_pay14 (View.ld x14 r0_10)) (View.ld x14 r0_11)⟩]
def out44 (x10 : Vec F S128x320 .f32) (x11 : Vec F S128x320 .f32) (x12 : Vec F S128x320 .f32) (x13 : Vec F S128x320 .f32) (x14 : Vec F S3x128x320 .bf16) : Vec F S128x320 .f32 :=
  View.canon [⟨r0_8, k0_pay18 (k0_pay13 (View.ld x13 r0_8) (View.ld x14 r0_9)) (k0_pay14 (View.ld x14 r0_10)) (View.ld x14 r0_11) (View.ld x10 r0_8) (View.ld x11 r0_8) (View.ld x12 r0_8)⟩]
def out45 (x11 : Vec F S128x320 .f32) (x13 : Vec F S128x320 .f32) (x14 : Vec F S3x128x320 .bf16) : Vec F S128x320 .f32 :=
  View.canon [⟨r0_8, k0_pay16 (k0_pay13 (View.ld x13 r0_8) (View.ld x14 r0_9)) (k0_pay14 (View.ld x14 r0_10)) (View.ld x14 r0_11) (View.ld x11 r0_8)⟩]
def out46 (x12 : Vec F S128x320 .f32) (x13 : Vec F S128x320 .f32) (x14 : Vec F S3x128x320 .bf16) : Vec F S128x320 .f32 :=
  View.canon [⟨r0_8, k0_pay17 (k0_pay13 (View.ld x13 r0_8) (View.ld x14 r0_9)) (k0_pay14 (View.ld x14 r0_10)) (View.ld x14 r0_11) (View.ld x12 r0_8)⟩]
def out47 (x18 : Vec F S32x1024 .f32) (x19 : Vec F S3x32x1024 .bf16) : Vec F S32x1024 .f32 :=
  View.canon [⟨r0_12, k0_pay19 (View.ld x18 r0_12) (View.ld x19 r0_13) (View.ld x19 r0_14) (View.ld x19 r0_15)⟩]
def out48 (x15 : Vec F S32x1024 .f32) (x16 : Vec F S32x1024 .f32) (x17 : Vec F S32x1024 .f32) (x18 : Vec F S32x1024 .f32) (x19 : Vec F S3x32x1024 .bf16) : Vec F S32x1024 .f32 :=
  View.canon [⟨r0_12, k0_pay24 (View.ld x15 r0_12) (k0_pay21 (View.ld x18 r0_12) (View.ld x19 r0_13) (View.ld x19 r0_14) (View.ld x19 r0_15) (View.ld x17 r0_12)) (k0_pay22 (View.ld x18 r0_12) (View.ld x19 r0_13) (View.ld x19 r0_14) (View.ld x19 r0_15) (View.ld x16 r0_12)) (k0_pay23 (F := F))⟩]
def out49 (x16 : Vec F S32x1024 .f32) (x18 : Vec F S32x1024 .f32) (x19 : Vec F S3x32x1024 .bf16) : Vec F S32x1024 .f32 :=
  View.canon [⟨r0_12, k0_pay20 (View.ld x18 r0_12) (View.ld x19 r0_13) (View.ld x19 r0_14) (View.ld x19 r0_15) (View.ld x16 r0_12)⟩]
def out50 (x17 : Vec F S32x1024 .f32) (x18 : Vec F S32x1024 .f32) (x19 : Vec F S3x32x1024 .bf16) : Vec F S32x1024 .f32 :=
  View.canon [⟨r0_12, k0_pay21 (View.ld x18 r0_12) (View.ld x19 r0_13) (View.ld x19 r0_14) (View.ld x19 r0_15) (View.ld x17 r0_12)⟩]
def out51 (x23 : Vec F S32x1024 .f32) (x24 : Vec F S3x32x1024 .bf16) : Vec F S32x1024 .f32 :=
  View.canon [⟨r0_12, k0_pay25 (View.ld x23 r0_12) (View.ld x24 r0_13) (View.ld x24 r0_14) (View.ld x24 r0_15)⟩]
def out52 (x20 : Vec F S32x1024 .f32) (x21 : Vec F S32x1024 .f32) (x22 : Vec F S32x1024 .f32) (x23 : Vec F S32x1024 .f32) (x24 : Vec F S3x32x1024 .bf16) : Vec F S32x1024 .f32 :=
  View.canon [⟨r0_12, k0_pay28 (k0_pay25 (View.ld x23 r0_12) (View.ld x24 r0_13) (View.ld x24 r0_14) (View.ld x24 r0_15)) (View.ld x20 r0_12) (View.ld x21 r0_12) (View.ld x22 r0_12)⟩]
def out53 (x21 : Vec F S32x1024 .f32) (x23 : Vec F S32x1024 .f32) (x24 : Vec F S3x32x1024 .bf16) : Vec F S32x1024 .f32 :=
  View.canon [⟨r0_12, k0_pay26 (k0_pay25 (View.ld x23 r0_12) (View.ld x24 r0_13) (View.ld x24 r0_14) (View.ld x24 r0_15)) (View.ld x21 r0_12)⟩]
def out54 (x22 : Vec F S32x1024 .f32) (x23 : Vec F S32x1024 .f32) (x24 : Vec F S3x32x1024 .bf16) : Vec F S32x1024 .f32 :=
  View.canon [⟨r0_12, k0_pay27 (k0_pay25 (View.ld x23 r0_12) (View.ld x24 r0_13) (View.ld x24 r0_14) (View.ld x24 r0_15)) (View.ld x22 r0_12)⟩]
def out55 (x28 : Vec F S128x1024 .f32) (x29 : Vec F S3x128x1024 .bf16) : Vec F S128x1024 .f32 :=
  View.canon [⟨r0_16, k0_pay30 (View.ld x28 r0_16) (k0_pay29 (View.ld x29 r0_17)) (View.ld x29 r0_18) (View.ld x29 r0_19)⟩]
def out56 (x25 : Vec F S128x1024 .f32) (x26 : Vec F S128x1024 .f32) (x27 : Vec F S128x1024 .f32) (x28 : Vec F S128x1024 .f32) (x29 : Vec F S3x128x1024 .bf16) : Vec F S128x1024 .f32 :=
  View.canon [⟨r0_16, k0_pay33 (View.ld x28 r0_16) (k0_pay29 (View.ld x29 r0_17)) (View.ld x29 r0_18) (View.ld x29 r0_19) (View.ld x25 r0_16) (View.ld x26 r0_16) (View.ld x27 r0_16)⟩]
def out57 (x26 : Vec F S128x1024 .f32) (x28 : Vec F S128x1024 .f32) (x29 : Vec F S3x128x1024 .bf16) : Vec F S128x1024 .f32 :=
  View.canon [⟨r0_16, k0_pay31 (View.ld x28 r0_16) (k0_pay29 (View.ld x29 r0_17)) (View.ld x29 r0_18) (View.ld x29 r0_19) (View.ld x26 r0_16)⟩]
def out58 (x27 : Vec F S128x1024 .f32) (x28 : Vec F S128x1024 .f32) (x29 : Vec F S3x128x1024 .bf16) : Vec F S128x1024 .f32 :=
  View.canon [⟨r0_16, k0_pay32 (View.ld x28 r0_16) (k0_pay29 (View.ld x29 r0_17)) (View.ld x29 r0_18) (View.ld x29 r0_19) (View.ld x27 r0_16)⟩]
def out59 (x33 : Vec F S128x1024 .f32) (x34 : Vec F S3x128x1024 .bf16) : Vec F S128x1024 .f32 :=
  View.canon [⟨r0_16, k0_pay34 (View.ld x33 r0_16) (View.ld x34 r0_17) (View.ld x34 r0_18) (View.ld x34 r0_19)⟩]
def out60 (x30 : Vec F S128x1024 .f32) (x31 : Vec F S128x1024 .f32) (x32 : Vec F S128x1024 .f32) (x33 : Vec F S128x1024 .f32) (x34 : Vec F S3x128x1024 .bf16) : Vec F S128x1024 .f32 :=
  View.canon [⟨r0_16, k0_pay2 (View.ld x30 r0_16) (k0_pay35 (View.ld x33 r0_16) (View.ld x34 r0_17) (View.ld x34 r0_18) (View.ld x34 r0_19) (View.ld x31 r0_16)) (k0_pay36 (View.ld x32 r0_16)) (k0_pay37 (View.ld x33 r0_16) (View.ld x34 r0_17) (View.ld x34 r0_18) (View.ld x34 r0_19))⟩]
def out61 (x31 : Vec F S128x1024 .f32) (x33 : Vec F S128x1024 .f32) (x34 : Vec F S3x128x1024 .bf16) : Vec F S128x1024 .f32 :=
  View.canon [⟨r0_16, k0_pay35 (View.ld x33 r0_16) (View.ld x34 r0_17) (View.ld x34 r0_18) (View.ld x34 r0_19) (View.ld x31 r0_16)⟩]
def out62 (x32 : Vec F S128x1024 .f32) (x33 : Vec F S128x1024 .f32) (x34 : Vec F S3x128x1024 .bf16) : Vec F S128x1024 .f32 :=
  View.canon [⟨r0_16, k0_pay1 (k0_pay36 (View.ld x32 r0_16)) (k0_pay37 (View.ld x33 r0_16) (View.ld x34 r0_17) (View.ld x34 r0_18) (View.ld x34 r0_19))⟩]

/-! A store through a whole window's rectangle covers it. -/

theorem cover_r0_0 (p0 : Vec F S128x384 .f32) (y : S128x384.Idx) :
    ∃ pc ∈ ([⟨r0_0, p0⟩] : List (View.Piece (Elt F) S128x384 .f32)), y ∈ pc.1.set :=
  View.cover_of_tiled [⟨r0_0, p0⟩] S128x384.size (by rfl) y
theorem cover_r0_4 (p0 : Vec F S384x192 .f32) (y : S384x192.Idx) :
    ∃ pc ∈ ([⟨r0_4, p0⟩] : List (View.Piece (Elt F) S384x192 .f32)), y ∈ pc.1.set :=
  View.cover_of_tiled [⟨r0_4, p0⟩] S384x192.size (by rfl) y
theorem cover_r0_8 (p0 : Vec F S128x320 .f32) (y : S128x320.Idx) :
    ∃ pc ∈ ([⟨r0_8, p0⟩] : List (View.Piece (Elt F) S128x320 .f32)), y ∈ pc.1.set :=
  View.cover_of_tiled [⟨r0_8, p0⟩] S128x320.size (by rfl) y
theorem cover_r0_12 (p0 : Vec F S32x1024 .f32) (y : S32x1024.Idx) :
    ∃ pc ∈ ([⟨r0_12, p0⟩] : List (View.Piece (Elt F) S32x1024 .f32)), y ∈ pc.1.set :=
  View.cover_of_tiled [⟨r0_12, p0⟩] S32x1024.size (by rfl) y
theorem cover_r0_16 (p0 : Vec F S128x1024 .f32) (y : S128x1024.Idx) :
    ∃ pc ∈ ([⟨r0_16, p0⟩] : List (View.Piece (Elt F) S128x1024 .f32)), y ∈ pc.1.set :=
  View.cover_of_tiled [⟨r0_16, p0⟩] S128x1024.size (by rfl) y

/-! ## The body's triple -/

set_option maxHeartbeats 2000000 in
/-- The body on whole staging buffers, the inputs' holding `x w` and the outputs' anything, runs to the inputs' as they were and
    each output's at `out w`. The body has 9 parts of straight-line code, run one after another. -/
theorem sound_kernel (c : Dev nD) (E : Set ℕ) (i : grid0.Coords)
    (arg1 : Memref sig .tc .vmem S128x384 .f32) (harg1 : arg1.IsWhole) (arg2 : Memref sig .tc .vmem S128x384 .f32) (harg2 : arg2.IsWhole)
    (arg3 : Memref sig .tc .vmem S128x384 .f32) (harg3 : arg3.IsWhole) (arg4 : Memref sig .tc .vmem S128x384 .f32) (harg4 : arg4.IsWhole)
    (arg5 : Memref sig .tc .vmem S3x128x384 .bf16) (harg5 : arg5.IsWhole) (arg6 : Memref sig .tc .vmem S384x192 .f32) (harg6 : arg6.IsWhole)
    (arg7 : Memref sig .tc .vmem S384x192 .f32) (harg7 : arg7.IsWhole) (arg8 : Memref sig .tc .vmem S384x192 .f32) (harg8 : arg8.IsWhole)
    (arg9 : Memref sig .tc .vmem S384x192 .f32) (harg9 : arg9.IsWhole) (arg10 : Memref sig .tc .vmem S3x384x192 .bf16) (harg10 : arg10.IsWhole)
    (arg11 : Memref sig .tc .vmem S128x320 .f32) (harg11 : arg11.IsWhole) (arg12 : Memref sig .tc .vmem S128x320 .f32) (harg12 : arg12.IsWhole)
    (arg13 : Memref sig .tc .vmem S128x320 .f32) (harg13 : arg13.IsWhole) (arg14 : Memref sig .tc .vmem S128x320 .f32) (harg14 : arg14.IsWhole)
    (arg15 : Memref sig .tc .vmem S3x128x320 .bf16) (harg15 : arg15.IsWhole) (arg16 : Memref sig .tc .vmem S32x1024 .f32) (harg16 : arg16.IsWhole)
    (arg17 : Memref sig .tc .vmem S32x1024 .f32) (harg17 : arg17.IsWhole) (arg18 : Memref sig .tc .vmem S32x1024 .f32) (harg18 : arg18.IsWhole)
    (arg19 : Memref sig .tc .vmem S32x1024 .f32) (harg19 : arg19.IsWhole) (arg20 : Memref sig .tc .vmem S3x32x1024 .bf16) (harg20 : arg20.IsWhole)
    (arg21 : Memref sig .tc .vmem S32x1024 .f32) (harg21 : arg21.IsWhole) (arg22 : Memref sig .tc .vmem S32x1024 .f32) (harg22 : arg22.IsWhole)
    (arg23 : Memref sig .tc .vmem S32x1024 .f32) (harg23 : arg23.IsWhole) (arg24 : Memref sig .tc .vmem S32x1024 .f32) (harg24 : arg24.IsWhole)
    (arg25 : Memref sig .tc .vmem S3x32x1024 .bf16) (harg25 : arg25.IsWhole) (arg26 : Memref sig .tc .vmem S128x1024 .f32) (harg26 : arg26.IsWhole)
    (arg27 : Memref sig .tc .vmem S128x1024 .f32) (harg27 : arg27.IsWhole) (arg28 : Memref sig .tc .vmem S128x1024 .f32) (harg28 : arg28.IsWhole)
    (arg29 : Memref sig .tc .vmem S128x1024 .f32) (harg29 : arg29.IsWhole) (arg30 : Memref sig .tc .vmem S3x128x1024 .bf16) (harg30 : arg30.IsWhole)
    (arg31 : Memref sig .tc .vmem S128x1024 .f32) (harg31 : arg31.IsWhole) (arg32 : Memref sig .tc .vmem S128x1024 .f32) (harg32 : arg32.IsWhole)
    (arg33 : Memref sig .tc .vmem S128x1024 .f32) (harg33 : arg33.IsWhole) (arg34 : Memref sig .tc .vmem S128x1024 .f32) (harg34 : arg34.IsWhole)
    (arg35 : Memref sig .tc .vmem S3x128x1024 .bf16) (harg35 : arg35.IsWhole) (arg36 : Memref sig .tc .vmem S128x384 .f32) (harg36 : arg36.IsWhole)
    (arg37 : Memref sig .tc .vmem S128x384 .f32) (harg37 : arg37.IsWhole) (arg38 : Memref sig .tc .vmem S128x384 .f32) (harg38 : arg38.IsWhole)
    (arg39 : Memref sig .tc .vmem S128x384 .f32) (harg39 : arg39.IsWhole) (arg40 : Memref sig .tc .vmem S384x192 .f32) (harg40 : arg40.IsWhole)
    (arg41 : Memref sig .tc .vmem S384x192 .f32) (harg41 : arg41.IsWhole) (arg42 : Memref sig .tc .vmem S384x192 .f32) (harg42 : arg42.IsWhole)
    (arg43 : Memref sig .tc .vmem S384x192 .f32) (harg43 : arg43.IsWhole) (arg44 : Memref sig .tc .vmem S128x320 .f32) (harg44 : arg44.IsWhole)
    (arg45 : Memref sig .tc .vmem S128x320 .f32) (harg45 : arg45.IsWhole) (arg46 : Memref sig .tc .vmem S128x320 .f32) (harg46 : arg46.IsWhole)
    (arg47 : Memref sig .tc .vmem S128x320 .f32) (harg47 : arg47.IsWhole) (arg48 : Memref sig .tc .vmem S32x1024 .f32) (harg48 : arg48.IsWhole)
    (arg49 : Memref sig .tc .vmem S32x1024 .f32) (harg49 : arg49.IsWhole) (arg50 : Memref sig .tc .vmem S32x1024 .f32) (harg50 : arg50.IsWhole)
    (arg51 : Memref sig .tc .vmem S32x1024 .f32) (harg51 : arg51.IsWhole) (arg52 : Memref sig .tc .vmem S32x1024 .f32) (harg52 : arg52.IsWhole)
    (arg53 : Memref sig .tc .vmem S32x1024 .f32) (harg53 : arg53.IsWhole) (arg54 : Memref sig .tc .vmem S32x1024 .f32) (harg54 : arg54.IsWhole)
    (arg55 : Memref sig .tc .vmem S32x1024 .f32) (harg55 : arg55.IsWhole) (arg56 : Memref sig .tc .vmem S128x1024 .f32) (harg56 : arg56.IsWhole)
    (arg57 : Memref sig .tc .vmem S128x1024 .f32) (harg57 : arg57.IsWhole) (arg58 : Memref sig .tc .vmem S128x1024 .f32) (harg58 : arg58.IsWhole)
    (arg59 : Memref sig .tc .vmem S128x1024 .f32) (harg59 : arg59.IsWhole) (arg60 : Memref sig .tc .vmem S128x1024 .f32) (harg60 : arg60.IsWhole)
    (arg61 : Memref sig .tc .vmem S128x1024 .f32) (harg61 : arg61.IsWhole) (arg62 : Memref sig .tc .vmem S128x1024 .f32) (harg62 : arg62.IsWhole)
    (arg63 : Memref sig .tc .vmem S128x1024 .f32) (harg63 : arg63.IsWhole)
    (x0 : Vec F S128x384 .f32) (x1 : Vec F S128x384 .f32) (x2 : Vec F S128x384 .f32) (x3 : Vec F S128x384 .f32) (x4 : Vec F S3x128x384 .bf16)
    (x5 : Vec F S384x192 .f32) (x6 : Vec F S384x192 .f32) (x7 : Vec F S384x192 .f32) (x8 : Vec F S384x192 .f32) (x9 : Vec F S3x384x192 .bf16)
    (x10 : Vec F S128x320 .f32) (x11 : Vec F S128x320 .f32) (x12 : Vec F S128x320 .f32) (x13 : Vec F S128x320 .f32) (x14 : Vec F S3x128x320 .bf16)
    (x15 : Vec F S32x1024 .f32) (x16 : Vec F S32x1024 .f32) (x17 : Vec F S32x1024 .f32) (x18 : Vec F S32x1024 .f32) (x19 : Vec F S3x32x1024 .bf16)
    (x20 : Vec F S32x1024 .f32) (x21 : Vec F S32x1024 .f32) (x22 : Vec F S32x1024 .f32) (x23 : Vec F S32x1024 .f32) (x24 : Vec F S3x32x1024 .bf16)
    (x25 : Vec F S128x1024 .f32) (x26 : Vec F S128x1024 .f32) (x27 : Vec F S128x1024 .f32) (x28 : Vec F S128x1024 .f32) (x29 : Vec F S3x128x1024 .bf16)
    (x30 : Vec F S128x1024 .f32) (x31 : Vec F S128x1024 .f32) (x32 : Vec F S128x1024 .f32) (x33 : Vec F S128x1024 .f32) (x34 : Vec F S3x128x1024 .bf16)
    (K : PUnit → sProp 𝕄) :
    iprop(owns (c : Thread nD τ) arg1 fullShare x0 ∗ owns (c : Thread nD τ) arg2 fullShare x1 ∗ owns (c : Thread nD τ) arg3 fullShare x2
      ∗ owns (c : Thread nD τ) arg4 fullShare x3 ∗ owns (c : Thread nD τ) arg5 fullShare x4 ∗ owns (c : Thread nD τ) arg6 fullShare x5
      ∗ owns (c : Thread nD τ) arg7 fullShare x6 ∗ owns (c : Thread nD τ) arg8 fullShare x7 ∗ owns (c : Thread nD τ) arg9 fullShare x8
      ∗ owns (c : Thread nD τ) arg10 fullShare x9 ∗ owns (c : Thread nD τ) arg11 fullShare x10 ∗ owns (c : Thread nD τ) arg12 fullShare x11
      ∗ owns (c : Thread nD τ) arg13 fullShare x12 ∗ owns (c : Thread nD τ) arg14 fullShare x13 ∗ owns (c : Thread nD τ) arg15 fullShare x14
      ∗ owns (c : Thread nD τ) arg16 fullShare x15 ∗ owns (c : Thread nD τ) arg17 fullShare x16 ∗ owns (c : Thread nD τ) arg18 fullShare x17
      ∗ owns (c : Thread nD τ) arg19 fullShare x18 ∗ owns (c : Thread nD τ) arg20 fullShare x19 ∗ owns (c : Thread nD τ) arg21 fullShare x20
      ∗ owns (c : Thread nD τ) arg22 fullShare x21 ∗ owns (c : Thread nD τ) arg23 fullShare x22 ∗ owns (c : Thread nD τ) arg24 fullShare x23
      ∗ owns (c : Thread nD τ) arg25 fullShare x24 ∗ owns (c : Thread nD τ) arg26 fullShare x25 ∗ owns (c : Thread nD τ) arg27 fullShare x26
      ∗ owns (c : Thread nD τ) arg28 fullShare x27 ∗ owns (c : Thread nD τ) arg29 fullShare x28 ∗ owns (c : Thread nD τ) arg30 fullShare x29
      ∗ owns (c : Thread nD τ) arg31 fullShare x30 ∗ owns (c : Thread nD τ) arg32 fullShare x31 ∗ owns (c : Thread nD τ) arg33 fullShare x32
      ∗ owns (c : Thread nD τ) arg34 fullShare x33 ∗ owns (c : Thread nD τ) arg35 fullShare x34 ∗ (∃ d, owns (c : Thread nD τ) arg36 fullShare d)
      ∗ (∃ d, owns (c : Thread nD τ) arg37 fullShare d) ∗ (∃ d, owns (c : Thread nD τ) arg38 fullShare d) ∗ (∃ d, owns (c : Thread nD τ) arg39 fullShare d)
      ∗ (∃ d, owns (c : Thread nD τ) arg40 fullShare d) ∗ (∃ d, owns (c : Thread nD τ) arg41 fullShare d) ∗ (∃ d, owns (c : Thread nD τ) arg42 fullShare d)
      ∗ (∃ d, owns (c : Thread nD τ) arg43 fullShare d) ∗ (∃ d, owns (c : Thread nD τ) arg44 fullShare d) ∗ (∃ d, owns (c : Thread nD τ) arg45 fullShare d)
      ∗ (∃ d, owns (c : Thread nD τ) arg46 fullShare d) ∗ (∃ d, owns (c : Thread nD τ) arg47 fullShare d) ∗ (∃ d, owns (c : Thread nD τ) arg48 fullShare d)
      ∗ (∃ d, owns (c : Thread nD τ) arg49 fullShare d) ∗ (∃ d, owns (c : Thread nD τ) arg50 fullShare d) ∗ (∃ d, owns (c : Thread nD τ) arg51 fullShare d)
      ∗ (∃ d, owns (c : Thread nD τ) arg52 fullShare d) ∗ (∃ d, owns (c : Thread nD τ) arg53 fullShare d) ∗ (∃ d, owns (c : Thread nD τ) arg54 fullShare d)
      ∗ (∃ d, owns (c : Thread nD τ) arg55 fullShare d) ∗ (∃ d, owns (c : Thread nD τ) arg56 fullShare d) ∗ (∃ d, owns (c : Thread nD τ) arg57 fullShare d)
      ∗ (∃ d, owns (c : Thread nD τ) arg58 fullShare d) ∗ (∃ d, owns (c : Thread nD τ) arg59 fullShare d) ∗ (∃ d, owns (c : Thread nD τ) arg60 fullShare d)
      ∗ (∃ d, owns (c : Thread nD τ) arg61 fullShare d) ∗ (∃ d, owns (c : Thread nD τ) arg62 fullShare d) ∗ (∃ d, owns (c : Thread nD τ) arg63 fullShare d)
      ∗ (iprop(owns (c : Thread nD τ) arg1 fullShare x0 ∗ owns (c : Thread nD τ) arg2 fullShare x1 ∗ owns (c : Thread nD τ) arg3 fullShare x2
      ∗ owns (c : Thread nD τ) arg4 fullShare x3 ∗ owns (c : Thread nD τ) arg5 fullShare x4 ∗ owns (c : Thread nD τ) arg6 fullShare x5
      ∗ owns (c : Thread nD τ) arg7 fullShare x6 ∗ owns (c : Thread nD τ) arg8 fullShare x7 ∗ owns (c : Thread nD τ) arg9 fullShare x8
      ∗ owns (c : Thread nD τ) arg10 fullShare x9 ∗ owns (c : Thread nD τ) arg11 fullShare x10 ∗ owns (c : Thread nD τ) arg12 fullShare x11
      ∗ owns (c : Thread nD τ) arg13 fullShare x12 ∗ owns (c : Thread nD τ) arg14 fullShare x13 ∗ owns (c : Thread nD τ) arg15 fullShare x14
      ∗ owns (c : Thread nD τ) arg16 fullShare x15 ∗ owns (c : Thread nD τ) arg17 fullShare x16 ∗ owns (c : Thread nD τ) arg18 fullShare x17
      ∗ owns (c : Thread nD τ) arg19 fullShare x18 ∗ owns (c : Thread nD τ) arg20 fullShare x19 ∗ owns (c : Thread nD τ) arg21 fullShare x20
      ∗ owns (c : Thread nD τ) arg22 fullShare x21 ∗ owns (c : Thread nD τ) arg23 fullShare x22 ∗ owns (c : Thread nD τ) arg24 fullShare x23
      ∗ owns (c : Thread nD τ) arg25 fullShare x24 ∗ owns (c : Thread nD τ) arg26 fullShare x25 ∗ owns (c : Thread nD τ) arg27 fullShare x26
      ∗ owns (c : Thread nD τ) arg28 fullShare x27 ∗ owns (c : Thread nD τ) arg29 fullShare x28 ∗ owns (c : Thread nD τ) arg30 fullShare x29
      ∗ owns (c : Thread nD τ) arg31 fullShare x30 ∗ owns (c : Thread nD τ) arg32 fullShare x31 ∗ owns (c : Thread nD τ) arg33 fullShare x32
      ∗ owns (c : Thread nD τ) arg34 fullShare x33 ∗ owns (c : Thread nD τ) arg35 fullShare x34 ∗ owns (c : Thread nD τ) arg36 fullShare (out35 x3 x4)
      ∗ owns (c : Thread nD τ) arg37 fullShare (out36 x0 x1 x2 x3 x4) ∗ owns (c : Thread nD τ) arg38 fullShare (out37 x1 x3 x4) ∗ owns (c : Thread nD τ) arg39 fullShare (out38 x2 x3 x4)
      ∗ owns (c : Thread nD τ) arg40 fullShare (out39 x8 x9) ∗ owns (c : Thread nD τ) arg41 fullShare (out40 x5 x6 x7 x8 x9) ∗ owns (c : Thread nD τ) arg42 fullShare (out41 x6 x8 x9)
      ∗ owns (c : Thread nD τ) arg43 fullShare (out42 x7 x8 x9) ∗ owns (c : Thread nD τ) arg44 fullShare (out43 x13 x14) ∗ owns (c : Thread nD τ) arg45 fullShare (out44 x10 x11 x12 x13 x14)
      ∗ owns (c : Thread nD τ) arg46 fullShare (out45 x11 x13 x14) ∗ owns (c : Thread nD τ) arg47 fullShare (out46 x12 x13 x14) ∗ owns (c : Thread nD τ) arg48 fullShare (out47 x18 x19)
      ∗ owns (c : Thread nD τ) arg49 fullShare (out48 x15 x16 x17 x18 x19) ∗ owns (c : Thread nD τ) arg50 fullShare (out49 x16 x18 x19) ∗ owns (c : Thread nD τ) arg51 fullShare (out50 x17 x18 x19)
      ∗ owns (c : Thread nD τ) arg52 fullShare (out51 x23 x24) ∗ owns (c : Thread nD τ) arg53 fullShare (out52 x20 x21 x22 x23 x24) ∗ owns (c : Thread nD τ) arg54 fullShare (out53 x21 x23 x24)
      ∗ owns (c : Thread nD τ) arg55 fullShare (out54 x22 x23 x24) ∗ owns (c : Thread nD τ) arg56 fullShare (out55 x28 x29) ∗ owns (c : Thread nD τ) arg57 fullShare (out56 x25 x26 x27 x28 x29)
      ∗ owns (c : Thread nD τ) arg58 fullShare (out57 x26 x28 x29) ∗ owns (c : Thread nD τ) arg59 fullShare (out58 x27 x28 x29) ∗ owns (c : Thread nD τ) arg60 fullShare (out59 x33 x34)
      ∗ owns (c : Thread nD τ) arg61 fullShare (out60 x30 x31 x32 x33 x34) ∗ owns (c : Thread nD τ) arg62 fullShare (out61 x31 x33 x34) ∗ owns (c : Thread nD τ) arg63 fullShare (out62 x32 x33 x34)) -∗ K ⟨⟩))
      ⊢ wp frame (wpE (defs₀ (F := F)) Variants.none c none) E (cc0_adamw_single_layer i arg1 harg1 arg2 harg2 arg3 harg3 arg4 harg4 arg5 harg5 arg6 harg6 arg7 harg7 arg8 harg8
        arg9 harg9 arg10 harg10 arg11 harg11 arg12 harg12 arg13 harg13 arg14 harg14 arg15 harg15 arg16 harg16
        arg17 harg17 arg18 harg18 arg19 harg19 arg20 harg20 arg21 harg21 arg22 harg22 arg23 harg23 arg24 harg24
        arg25 harg25 arg26 harg26 arg27 harg27 arg28 harg28 arg29 harg29 arg30 harg30 arg31 harg31 arg32 harg32
        arg33 harg33 arg34 harg34 arg35 harg35 arg36 harg36 arg37 harg37 arg38 harg38 arg39 harg39 arg40 harg40
        arg41 harg41 arg42 harg42 arg43 harg43 arg44 harg44 arg45 harg45 arg46 harg46 arg47 harg47 arg48 harg48
        arg49 harg49 arg50 harg50 arg51 harg51 arg52 harg52 arg53 harg53 arg54 harg54 arg55 harg55 arg56 harg56
        arg57 harg57 arg58 harg58 arg59 harg59 arg60 harg60 arg61 harg61 arg62 harg62 arg63 harg63) K := by
  simp only [cc0_adamw_single_layer_eq_skeleton]; unfold cc0_adamw_single_layer_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%d35, %f35, %hf35, H35⟩, ⟨%d36, %f36, %hf36, H36⟩, ⟨%d37, %f37, %hf37, H37⟩, ⟨%d38, %f38, %hf38, H38⟩, ⟨%d39, %f39, %hf39, H39⟩, ⟨%d40, %f40, %hf40, H40⟩, ⟨%d41, %f41, %hf41, H41⟩, ⟨%d42, %f42, %hf42, H42⟩, ⟨%d43, %f43, %hf43, H43⟩, ⟨%d44, %f44, %hf44, H44⟩, ⟨%d45, %f45, %hf45, H45⟩, ⟨%d46, %f46, %hf46, H46⟩, ⟨%d47, %f47, %hf47, H47⟩, ⟨%d48, %f48, %hf48, H48⟩, ⟨%d49, %f49, %hf49, H49⟩, ⟨%d50, %f50, %hf50, H50⟩, ⟨%d51, %f51, %hf51, H51⟩, ⟨%d52, %f52, %hf52, H52⟩, ⟨%d53, %f53, %hf53, H53⟩, ⟨%d54, %f54, %hf54, H54⟩, ⟨%d55, %f55, %hf55, H55⟩, ⟨%d56, %f56, %hf56, H56⟩, ⟨%d57, %f57, %hf57, H57⟩, ⟨%d58, %f58, %hf58, H58⟩, ⟨%d59, %f59, %hf59, H59⟩, ⟨%d60, %f60, %hf60, H60⟩, ⟨%d61, %f61, %hf61, H61⟩, ⟨%d62, %f62, %hf62, H62⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  isplitl [H35]
  · iexists _; isplitr; rotate_left; · iexact H35
    ipureintro
    exact (View.read_writes_eq_canon _ _ _ (cover_r0_0 _)).trans rfl
  isplitl [H36]
  · iexists _; isplitr; rotate_left; · iexact H36
    ipureintro
    exact (View.read_writes_eq_canon _ _ _ (cover_r0_0 _)).trans rfl
  isplitl [H37]
  · iexists _; isplitr; rotate_left; · iexact H37
    ipureintro
    exact (View.read_writes_eq_canon _ _ _ (cover_r0_0 _)).trans rfl
  isplitl [H38]
  · iexists _; isplitr; rotate_left; · iexact H38
    ipureintro
    exact (View.read_writes_eq_canon _ _ _ (cover_r0_0 _)).trans rfl
  isplitl [H39]
  · iexists _; isplitr; rotate_left; · iexact H39
    ipureintro
    exact (View.read_writes_eq_canon _ _ _ (cover_r0_4 _)).trans rfl
  isplitl [H40]
  · iexists _; isplitr; rotate_left; · iexact H40
    ipureintro
    exact (View.read_writes_eq_canon _ _ _ (cover_r0_4 _)).trans rfl
  isplitl [H41]
  · iexists _; isplitr; rotate_left; · iexact H41
    ipureintro
    exact (View.read_writes_eq_canon _ _ _ (cover_r0_4 _)).trans rfl
  isplitl [H42]
  · iexists _; isplitr; rotate_left; · iexact H42
    ipureintro
    exact (View.read_writes_eq_canon _ _ _ (cover_r0_4 _)).trans rfl
  isplitl [H43]
  · iexists _; isplitr; rotate_left; · iexact H43
    ipureintro
    exact (View.read_writes_eq_canon _ _ _ (cover_r0_8 _)).trans rfl
  isplitl [H44]
  · iexists _; isplitr; rotate_left; · iexact H44
    ipureintro
    exact (View.read_writes_eq_canon _ _ _ (cover_r0_8 _)).trans rfl
  isplitl [H45]
  · iexists _; isplitr; rotate_left; · iexact H45
    ipureintro
    exact (View.read_writes_eq_canon _ _ _ (cover_r0_8 _)).trans rfl
  isplitl [H46]
  · iexists _; isplitr; rotate_left; · iexact H46
    ipureintro
    exact (View.read_writes_eq_canon _ _ _ (cover_r0_8 _)).trans rfl
  isplitl [H47]
  · iexists _; isplitr; rotate_left; · iexact H47
    ipureintro
    exact (View.read_writes_eq_canon _ _ _ (cover_r0_12 _)).trans rfl
  isplitl [H48]
  · iexists _; isplitr; rotate_left; · iexact H48
    ipureintro
    exact (View.read_writes_eq_canon _ _ _ (cover_r0_12 _)).trans rfl
  isplitl [H49]
  · iexists _; isplitr; rotate_left; · iexact H49
    ipureintro
    exact (View.read_writes_eq_canon _ _ _ (cover_r0_12 _)).trans rfl
  isplitl [H50]
  · iexists _; isplitr; rotate_left; · iexact H50
    ipureintro
    exact (View.read_writes_eq_canon _ _ _ (cover_r0_12 _)).trans rfl
  isplitl [H51]
  · iexists _; isplitr; rotate_left; · iexact H51
    ipureintro
    exact (View.read_writes_eq_canon _ _ _ (cover_r0_12 _)).trans rfl
  isplitl [H52]
  · iexists _; isplitr; rotate_left; · iexact H52
    ipureintro
    exact (View.read_writes_eq_canon _ _ _ (cover_r0_12 _)).trans rfl
  isplitl [H53]
  · iexists _; isplitr; rotate_left; · iexact H53
    ipureintro
    exact (View.read_writes_eq_canon _ _ _ (cover_r0_12 _)).trans rfl
  isplitl [H54]
  · iexists _; isplitr; rotate_left; · iexact H54
    ipureintro
    exact (View.read_writes_eq_canon _ _ _ (cover_r0_12 _)).trans rfl
  isplitl [H55]
  · iexists _; isplitr; rotate_left; · iexact H55
    ipureintro
    exact (View.read_writes_eq_canon _ _ _ (cover_r0_16 _)).trans rfl
  isplitl [H56]
  · iexists _; isplitr; rotate_left; · iexact H56
    ipureintro
    exact (View.read_writes_eq_canon _ _ _ (cover_r0_16 _)).trans rfl
  isplitl [H57]
  · iexists _; isplitr; rotate_left; · iexact H57
    ipureintro
    exact (View.read_writes_eq_canon _ _ _ (cover_r0_16 _)).trans rfl
  isplitl [H58]
  · iexists _; isplitr; rotate_left; · iexact H58
    ipureintro
    exact (View.read_writes_eq_canon _ _ _ (cover_r0_16 _)).trans rfl
  isplitl [H59]
  · iexists _; isplitr; rotate_left; · iexact H59
    ipureintro
    exact (View.read_writes_eq_canon _ _ _ (cover_r0_16 _)).trans rfl
  isplitl [H60]
  · iexists _; isplitr; rotate_left; · iexact H60
    ipureintro
    exact (View.read_writes_eq_canon _ _ _ (cover_r0_16 _)).trans rfl
  isplitl [H61]
  · iexists _; isplitr; rotate_left; · iexact H61
    ipureintro
    exact (View.read_writes_eq_canon _ _ _ (cover_r0_16 _)).trans rfl
  iexists _; isplitr; rotate_left; · iexact H62
  ipureintro
  exact (View.read_writes_eq_canon _ _ _ (cover_r0_16 _)).trans rfl

end Cert.Adam1Ideal.Hand
-- ==== Proof.Adam1IdealFrame.lean ====
/-
  THE GROUPED ADAMW KERNEL'S RUN. `dats` is what the pipeline's one point leaves in each window, `body_obligation` the body's triple
  at the point's staging buffers, and `run_main` the launch: every array ends at what `dats` writes back, every other buffer as it
  was. `frame` is the frame claim's statement.
-/
module

public import proofs.«01_k».proof.Proof.Adam1IdealBody

@[expose] public section

set_option maxRecDepth 16384

noncomputable section

namespace Cert.Adam1Ideal.Hand

open Cert.Adam1Ideal Cert.Adam1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when the region is entered: as launched, the program being the region alone. -/
abbrev V (c : Dev nD) (b : Ref sig .tc) : Buf (Elt F) ((c : Thread nD τ).loc b) := m ((c : Thread nD τ).loc b)

set_option maxHeartbeats 800000 in
/-- The program up to the region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the windows hold after the body at point `t`: an input's its block, an output's the body's result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => out35 (iblk m c 3 t) (iblk m c 4 t)
    | ⟨36, _⟩ => out36 (iblk m c 0 t) (iblk m c 1 t) (iblk m c 2 t) (iblk m c 3 t) (iblk m c 4 t)
    | ⟨37, _⟩ => out37 (iblk m c 1 t) (iblk m c 3 t) (iblk m c 4 t)
    | ⟨38, _⟩ => out38 (iblk m c 2 t) (iblk m c 3 t) (iblk m c 4 t)
    | ⟨39, _⟩ => out39 (iblk m c 8 t) (iblk m c 9 t)
    | ⟨40, _⟩ => out40 (iblk m c 5 t) (iblk m c 6 t) (iblk m c 7 t) (iblk m c 8 t) (iblk m c 9 t)
    | ⟨41, _⟩ => out41 (iblk m c 6 t) (iblk m c 8 t) (iblk m c 9 t)
    | ⟨42, _⟩ => out42 (iblk m c 7 t) (iblk m c 8 t) (iblk m c 9 t)
    | ⟨43, _⟩ => out43 (iblk m c 13 t) (iblk m c 14 t)
    | ⟨44, _⟩ => out44 (iblk m c 10 t) (iblk m c 11 t) (iblk m c 12 t) (iblk m c 13 t) (iblk m c 14 t)
    | ⟨45, _⟩ => out45 (iblk m c 11 t) (iblk m c 13 t) (iblk m c 14 t)
    | ⟨46, _⟩ => out46 (iblk m c 12 t) (iblk m c 13 t) (iblk m c 14 t)
    | ⟨47, _⟩ => out47 (iblk m c 18 t) (iblk m c 19 t)
    | ⟨48, _⟩ => out48 (iblk m c 15 t) (iblk m c 16 t) (iblk m c 17 t) (iblk m c 18 t) (iblk m c 19 t)
    | ⟨49, _⟩ => out49 (iblk m c 16 t) (iblk m c 18 t) (iblk m c 19 t)
    | ⟨50, _⟩ => out50 (iblk m c 17 t) (iblk m c 18 t) (iblk m c 19 t)
    | ⟨51, _⟩ => out51 (iblk m c 23 t) (iblk m c 24 t)
    | ⟨52, _⟩ => out52 (iblk m c 20 t) (iblk m c 21 t) (iblk m c 22 t) (iblk m c 23 t) (iblk m c 24 t)
    | ⟨53, _⟩ => out53 (iblk m c 21 t) (iblk m c 23 t) (iblk m c 24 t)
    | ⟨54, _⟩ => out54 (iblk m c 22 t) (iblk m c 23 t) (iblk m c 24 t)
    | ⟨55, _⟩ => out55 (iblk m c 28 t) (iblk m c 29 t)
    | ⟨56, _⟩ => out56 (iblk m c 25 t) (iblk m c 26 t) (iblk m c 27 t) (iblk m c 28 t) (iblk m c 29 t)
    | ⟨57, _⟩ => out57 (iblk m c 26 t) (iblk m c 28 t) (iblk m c 29 t)
    | ⟨58, _⟩ => out58 (iblk m c 27 t) (iblk m c 28 t) (iblk m c 29 t)
    | ⟨59, _⟩ => out59 (iblk m c 33 t) (iblk m c 34 t)
    | ⟨60, _⟩ => out60 (iblk m c 30 t) (iblk m c 31 t) (iblk m c 32 t) (iblk m c 33 t) (iblk m c 34 t)
    | ⟨61, _⟩ => out61 (iblk m c 31 t) (iblk m c 33 t) (iblk m c 34 t)
    | ⟨62, _⟩ => out62 (iblk m c 32 t) (iblk m c 33 t) (iblk m c 34 t)
    | ⟨_ + 63, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]
theorem after_23 (c : Dev nD) (t : Fin cfg0.N) : (dats m 0 c).after 23 t = iblk m c 23 t := by dsimp only [dats]
theorem after_24 (c : Dev nD) (t : Fin cfg0.N) : (dats m 0 c).after 24 t = iblk m c 24 t := by dsimp only [dats]
theorem after_25 (c : Dev nD) (t : Fin cfg0.N) : (dats m 0 c).after 25 t = iblk m c 25 t := by dsimp only [dats]
theorem after_26 (c : Dev nD) (t : Fin cfg0.N) : (dats m 0 c).after 26 t = iblk m c 26 t := by dsimp only [dats]
theorem after_27 (c : Dev nD) (t : Fin cfg0.N) : (dats m 0 c).after 27 t = iblk m c 27 t := by dsimp only [dats]
theorem after_28 (c : Dev nD) (t : Fin cfg0.N) : (dats m 0 c).after 28 t = iblk m c 28 t := by dsimp only [dats]
theorem after_29 (c : Dev nD) (t : Fin cfg0.N) : (dats m 0 c).after 29 t = iblk m c 29 t := by dsimp only [dats]
theorem after_30 (c : Dev nD) (t : Fin cfg0.N) : (dats m 0 c).after 30 t = iblk m c 30 t := by dsimp only [dats]
theorem after_31 (c : Dev nD) (t : Fin cfg0.N) : (dats m 0 c).after 31 t = iblk m c 31 t := by dsimp only [dats]
theorem after_32 (c : Dev nD) (t : Fin cfg0.N) : (dats m 0 c).after 32 t = iblk m c 32 t := by dsimp only [dats]
theorem after_33 (c : Dev nD) (t : Fin cfg0.N) : (dats m 0 c).after 33 t = iblk m c 33 t := by dsimp only [dats]
theorem after_34 (c : Dev nD) (t : Fin cfg0.N) : (dats m 0 c).after 34 t = iblk m c 34 t := by dsimp only [dats]
theorem after_35 (c : Dev nD) (t : Fin cfg0.N) : (dats m 0 c).after 35 t = out35 (iblk m c 3 t) (iblk m c 4 t) := by dsimp only [dats]
theorem after_36 (c : Dev nD) (t : Fin cfg0.N) : (dats m 0 c).after 36 t = out36 (iblk m c 0 t) (iblk m c 1 t) (iblk m c 2 t) (iblk m c 3 t) (iblk m c 4 t) := by dsimp only [dats]
theorem after_37 (c : Dev nD) (t : Fin cfg0.N) : (dats m 0 c).after 37 t = out37 (iblk m c 1 t) (iblk m c 3 t) (iblk m c 4 t) := by dsimp only [dats]
theorem after_38 (c : Dev nD) (t : Fin cfg0.N) : (dats m 0 c).after 38 t = out38 (iblk m c 2 t) (iblk m c 3 t) (iblk m c 4 t) := by dsimp only [dats]
theorem after_39 (c : Dev nD) (t : Fin cfg0.N) : (dats m 0 c).after 39 t = out39 (iblk m c 8 t) (iblk m c 9 t) := by dsimp only [dats]
theorem after_40 (c : Dev nD) (t : Fin cfg0.N) : (dats m 0 c).after 40 t = out40 (iblk m c 5 t) (iblk m c 6 t) (iblk m c 7 t) (iblk m c 8 t) (iblk m c 9 t) := by dsimp only [dats]
theorem after_41 (c : Dev nD) (t : Fin cfg0.N) : (dats m 0 c).after 41 t = out41 (iblk m c 6 t) (iblk m c 8 t) (iblk m c 9 t) := by dsimp only [dats]
theorem after_42 (c : Dev nD) (t : Fin cfg0.N) : (dats m 0 c).after 42 t = out42 (iblk m c 7 t) (iblk m c 8 t) (iblk m c 9 t) := by dsimp only [dats]
theorem after_43 (c : Dev nD) (t : Fin cfg0.N) : (dats m 0 c).after 43 t = out43 (iblk m c 13 t) (iblk m c 14 t) := by dsimp only [dats]
theorem after_44 (c : Dev nD) (t : Fin cfg0.N) : (dats m 0 c).after 44 t = out44 (iblk m c 10 t) (iblk m c 11 t) (iblk m c 12 t) (iblk m c 13 t) (iblk m c 14 t) := by dsimp only [dats]
theorem after_45 (c : Dev nD) (t : Fin cfg0.N) : (dats m 0 c).after 45 t = out45 (iblk m c 11 t) (iblk m c 13 t) (iblk m c 14 t) := by dsimp only [dats]
theorem after_46 (c : Dev nD) (t : Fin cfg0.N) : (dats m 0 c).after 46 t = out46 (iblk m c 12 t) (iblk m c 13 t) (iblk m c 14 t) := by dsimp only [dats]
theorem after_47 (c : Dev nD) (t : Fin cfg0.N) : (dats m 0 c).after 47 t = out47 (iblk m c 18 t) (iblk m c 19 t) := by dsimp only [dats]
theorem after_48 (c : Dev nD) (t : Fin cfg0.N) : (dats m 0 c).after 48 t = out48 (iblk m c 15 t) (iblk m c 16 t) (iblk m c 17 t) (iblk m c 18 t) (iblk m c 19 t) := by dsimp only [dats]
theorem after_49 (c : Dev nD) (t : Fin cfg0.N) : (dats m 0 c).after 49 t = out49 (iblk m c 16 t) (iblk m c 18 t) (iblk m c 19 t) := by dsimp only [dats]
theorem after_50 (c : Dev nD) (t : Fin cfg0.N) : (dats m 0 c).after 50 t = out50 (iblk m c 17 t) (iblk m c 18 t) (iblk m c 19 t) := by dsimp only [dats]
theorem after_51 (c : Dev nD) (t : Fin cfg0.N) : (dats m 0 c).after 51 t = out51 (iblk m c 23 t) (iblk m c 24 t) := by dsimp only [dats]
theorem after_52 (c : Dev nD) (t : Fin cfg0.N) : (dats m 0 c).after 52 t = out52 (iblk m c 20 t) (iblk m c 21 t) (iblk m c 22 t) (iblk m c 23 t) (iblk m c 24 t) := by dsimp only [dats]
theorem after_53 (c : Dev nD) (t : Fin cfg0.N) : (dats m 0 c).after 53 t = out53 (iblk m c 21 t) (iblk m c 23 t) (iblk m c 24 t) := by dsimp only [dats]
theorem after_54 (c : Dev nD) (t : Fin cfg0.N) : (dats m 0 c).after 54 t = out54 (iblk m c 22 t) (iblk m c 23 t) (iblk m c 24 t) := by dsimp only [dats]
theorem after_55 (c : Dev nD) (t : Fin cfg0.N) : (dats m 0 c).after 55 t = out55 (iblk m c 28 t) (iblk m c 29 t) := by dsimp only [dats]
theorem after_56 (c : Dev nD) (t : Fin cfg0.N) : (dats m 0 c).after 56 t = out56 (iblk m c 25 t) (iblk m c 26 t) (iblk m c 27 t) (iblk m c 28 t) (iblk m c 29 t) := by dsimp only [dats]
theorem after_57 (c : Dev nD) (t : Fin cfg0.N) : (dats m 0 c).after 57 t = out57 (iblk m c 26 t) (iblk m c 28 t) (iblk m c 29 t) := by dsimp only [dats]
theorem after_58 (c : Dev nD) (t : Fin cfg0.N) : (dats m 0 c).after 58 t = out58 (iblk m c 27 t) (iblk m c 28 t) (iblk m c 29 t) := by dsimp only [dats]
theorem after_59 (c : Dev nD) (t : Fin cfg0.N) : (dats m 0 c).after 59 t = out59 (iblk m c 33 t) (iblk m c 34 t) := by dsimp only [dats]
theorem after_60 (c : Dev nD) (t : Fin cfg0.N) : (dats m 0 c).after 60 t = out60 (iblk m c 30 t) (iblk m c 31 t) (iblk m c 32 t) (iblk m c 33 t) (iblk m c 34 t) := by dsimp only [dats]
theorem after_61 (c : Dev nD) (t : Fin cfg0.N) : (dats m 0 c).after 61 t = out61 (iblk m c 31 t) (iblk m c 33 t) (iblk m c 34 t) := by dsimp only [dats]
theorem after_62 (c : Dev nD) (t : Fin cfg0.N) : (dats m 0 c).after 62 t = out62 (iblk m c 32 t) (iblk m c 33 t) (iblk m c 34 t) := by dsimp only [dats]

/-! An input's staging buffer holds its block when the body is called. -/

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = iblk m c 11 t :=
  ((dats m 0 c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
theorem before_12 (c : Dev nD) (t : Fin cfg0.N) (d) : (dats m 0 c).before 12 t d = iblk m c 12 t :=
  ((dats m 0 c).before_in_eq_fetched 12 rfl (fun _ => rfl) (fun _ _ _ => rfl) (fun t => by rw [after_12]; unfold Dat.blockOf iblk; rw [A_eq]; try rfl) t d).trans
    (by unfold Dat.fetched Dat.blockOf iblk; rw [A_eq]; try rfl)
theorem before_13 (c : Dev nD) (t : Fin cfg0.N) (d) : (dats m 0 c).before 13 t d = iblk m c 13 t :=
  ((dats m 0 c).before_in_eq_fetched 13 rfl (fun _ => rfl) (fun _ _ _ => rfl) (fun t => by rw [after_13]; unfold Dat.blockOf iblk; rw [A_eq]; try rfl) t d).trans
    (by unfold Dat.fetched Dat.blockOf iblk; rw [A_eq]; try rfl)
theorem before_14 (c : Dev nD) (t : Fin cfg0.N) (d) : (dats m 0 c).before 14 t d = iblk m c 14 t :=
  ((dats m 0 c).before_in_eq_fetched 14 rfl (fun _ => rfl) (fun _ _ _ => rfl) (fun t => by rw [after_14]; unfold Dat.blockOf iblk; rw [A_eq]; try rfl) t d).trans
    (by unfold Dat.fetched Dat.blockOf iblk; rw [A_eq]; try rfl)
theorem before_15 (c : Dev nD) (t : Fin cfg0.N) (d) : (dats m 0 c).before 15 t d = iblk m c 15 t :=
  ((dats m 0 c).before_in_eq_fetched 15 rfl (fun _ => rfl) (fun _ _ _ => rfl) (fun t => by rw [after_15]; unfold Dat.blockOf iblk; rw [A_eq]; try rfl) t d).trans
    (by unfold Dat.fetched Dat.blockOf iblk; rw [A_eq]; try rfl)
theorem before_16 (c : Dev nD) (t : Fin cfg0.N) (d) : (dats m 0 c).before 16 t d = iblk m c 16 t :=
  ((dats m 0 c).before_in_eq_fetched 16 rfl (fun _ => rfl) (fun _ _ _ => rfl) (fun t => by rw [after_16]; unfold Dat.blockOf iblk; rw [A_eq]; try rfl) t d).trans
    (by unfold Dat.fetched Dat.blockOf iblk; rw [A_eq]; try rfl)
theorem before_17 (c : Dev nD) (t : Fin cfg0.N) (d) : (dats m 0 c).before 17 t d = iblk m c 17 t :=
  ((dats m 0 c).before_in_eq_fetched 17 rfl (fun _ => rfl) (fun _ _ _ => rfl) (fun t => by rw [after_17]; unfold Dat.blockOf iblk; rw [A_eq]; try rfl) t d).trans
    (by unfold Dat.fetched Dat.blockOf iblk; rw [A_eq]; try rfl)
theorem before_18 (c : Dev nD) (t : Fin cfg0.N) (d) : (dats m 0 c).before 18 t d = iblk m c 18 t :=
  ((dats m 0 c).before_in_eq_fetched 18 rfl (fun _ => rfl) (fun _ _ _ => rfl) (fun t => by rw [after_18]; unfold Dat.blockOf iblk; rw [A_eq]; try rfl) t d).trans
    (by unfold Dat.fetched Dat.blockOf iblk; rw [A_eq]; try rfl)
theorem before_19 (c : Dev nD) (t : Fin cfg0.N) (d) : (dats m 0 c).before 19 t d = iblk m c 19 t :=
  ((dats m 0 c).before_in_eq_fetched 19 rfl (fun _ => rfl) (fun _ _ _ => rfl) (fun t => by rw [after_19]; unfold Dat.blockOf iblk; rw [A_eq]; try rfl) t d).trans
    (by unfold Dat.fetched Dat.blockOf iblk; rw [A_eq]; try rfl)
theorem before_20 (c : Dev nD) (t : Fin cfg0.N) (d) : (dats m 0 c).before 20 t d = iblk m c 20 t :=
  ((dats m 0 c).before_in_eq_fetched 20 rfl (fun _ => rfl) (fun _ _ _ => rfl) (fun t => by rw [after_20]; unfold Dat.blockOf iblk; rw [A_eq]; try rfl) t d).trans
    (by unfold Dat.fetched Dat.blockOf iblk; rw [A_eq]; try rfl)
theorem before_21 (c : Dev nD) (t : Fin cfg0.N) (d) : (dats m 0 c).before 21 t d = iblk m c 21 t :=
  ((dats m 0 c).before_in_eq_fetched 21 rfl (fun _ => rfl) (fun _ _ _ => rfl) (fun t => by rw [after_21]; unfold Dat.blockOf iblk; rw [A_eq]; try rfl) t d).trans
    (by unfold Dat.fetched Dat.blockOf iblk; rw [A_eq]; try rfl)
theorem before_22 (c : Dev nD) (t : Fin cfg0.N) (d) : (dats m 0 c).before 22 t d = iblk m c 22 t :=
  ((dats m 0 c).before_in_eq_fetched 22 rfl (fun _ => rfl) (fun _ _ _ => rfl) (fun t => by rw [after_22]; unfold Dat.blockOf iblk; rw [A_eq]; try rfl) t d).trans
    (by unfold Dat.fetched Dat.blockOf iblk; rw [A_eq]; try rfl)
theorem before_23 (c : Dev nD) (t : Fin cfg0.N) (d) : (dats m 0 c).before 23 t d = iblk m c 23 t :=
  ((dats m 0 c).before_in_eq_fetched 23 rfl (fun _ => rfl) (fun _ _ _ => rfl) (fun t => by rw [after_23]; unfold Dat.blockOf iblk; rw [A_eq]; try rfl) t d).trans
    (by unfold Dat.fetched Dat.blockOf iblk; rw [A_eq]; try rfl)
theorem before_24 (c : Dev nD) (t : Fin cfg0.N) (d) : (dats m 0 c).before 24 t d = iblk m c 24 t :=
  ((dats m 0 c).before_in_eq_fetched 24 rfl (fun _ => rfl) (fun _ _ _ => rfl) (fun t => by rw [after_24]; unfold Dat.blockOf iblk; rw [A_eq]; try rfl) t d).trans
    (by unfold Dat.fetched Dat.blockOf iblk; rw [A_eq]; try rfl)
theorem before_25 (c : Dev nD) (t : Fin cfg0.N) (d) : (dats m 0 c).before 25 t d = iblk m c 25 t :=
  ((dats m 0 c).before_in_eq_fetched 25 rfl (fun _ => rfl) (fun _ _ _ => rfl) (fun t => by rw [after_25]; unfold Dat.blockOf iblk; rw [A_eq]; try rfl) t d).trans
    (by unfold Dat.fetched Dat.blockOf iblk; rw [A_eq]; try rfl)
theorem before_26 (c : Dev nD) (t : Fin cfg0.N) (d) : (dats m 0 c).before 26 t d = iblk m c 26 t :=
  ((dats m 0 c).before_in_eq_fetched 26 rfl (fun _ => rfl) (fun _ _ _ => rfl) (fun t => by rw [after_26]; unfold Dat.blockOf iblk; rw [A_eq]; try rfl) t d).trans
    (by unfold Dat.fetched Dat.blockOf iblk; rw [A_eq]; try rfl)
theorem before_27 (c : Dev nD) (t : Fin cfg0.N) (d) : (dats m 0 c).before 27 t d = iblk m c 27 t :=
  ((dats m 0 c).before_in_eq_fetched 27 rfl (fun _ => rfl) (fun _ _ _ => rfl) (fun t => by rw [after_27]; unfold Dat.blockOf iblk; rw [A_eq]; try rfl) t d).trans
    (by unfold Dat.fetched Dat.blockOf iblk; rw [A_eq]; try rfl)
theorem before_28 (c : Dev nD) (t : Fin cfg0.N) (d) : (dats m 0 c).before 28 t d = iblk m c 28 t :=
  ((dats m 0 c).before_in_eq_fetched 28 rfl (fun _ => rfl) (fun _ _ _ => rfl) (fun t => by rw [after_28]; unfold Dat.blockOf iblk; rw [A_eq]; try rfl) t d).trans
    (by unfold Dat.fetched Dat.blockOf iblk; rw [A_eq]; try rfl)
theorem before_29 (c : Dev nD) (t : Fin cfg0.N) (d) : (dats m 0 c).before 29 t d = iblk m c 29 t :=
  ((dats m 0 c).before_in_eq_fetched 29 rfl (fun _ => rfl) (fun _ _ _ => rfl) (fun t => by rw [after_29]; unfold Dat.blockOf iblk; rw [A_eq]; try rfl) t d).trans
    (by unfold Dat.fetched Dat.blockOf iblk; rw [A_eq]; try rfl)
theorem before_30 (c : Dev nD) (t : Fin cfg0.N) (d) : (dats m 0 c).before 30 t d = iblk m c 30 t :=
  ((dats m 0 c).before_in_eq_fetched 30 rfl (fun _ => rfl) (fun _ _ _ => rfl) (fun t => by rw [after_30]; unfold Dat.blockOf iblk; rw [A_eq]; try rfl) t d).trans
    (by unfold Dat.fetched Dat.blockOf iblk; rw [A_eq]; try rfl)
theorem before_31 (c : Dev nD) (t : Fin cfg0.N) (d) : (dats m 0 c).before 31 t d = iblk m c 31 t :=
  ((dats m 0 c).before_in_eq_fetched 31 rfl (fun _ => rfl) (fun _ _ _ => rfl) (fun t => by rw [after_31]; unfold Dat.blockOf iblk; rw [A_eq]; try rfl) t d).trans
    (by unfold Dat.fetched Dat.blockOf iblk; rw [A_eq]; try rfl)
theorem before_32 (c : Dev nD) (t : Fin cfg0.N) (d) : (dats m 0 c).before 32 t d = iblk m c 32 t :=
  ((dats m 0 c).before_in_eq_fetched 32 rfl (fun _ => rfl) (fun _ _ _ => rfl) (fun t => by rw [after_32]; unfold Dat.blockOf iblk; rw [A_eq]; try rfl) t d).trans
    (by unfold Dat.fetched Dat.blockOf iblk; rw [A_eq]; try rfl)
theorem before_33 (c : Dev nD) (t : Fin cfg0.N) (d) : (dats m 0 c).before 33 t d = iblk m c 33 t :=
  ((dats m 0 c).before_in_eq_fetched 33 rfl (fun _ => rfl) (fun _ _ _ => rfl) (fun t => by rw [after_33]; unfold Dat.blockOf iblk; rw [A_eq]; try rfl) t d).trans
    (by unfold Dat.fetched Dat.blockOf iblk; rw [A_eq]; try rfl)
theorem before_34 (c : Dev nD) (t : Fin cfg0.N) (d) : (dats m 0 c).before 34 t d = iblk m c 34 t :=
  ((dats m 0 c).before_in_eq_fetched 34 rfl (fun _ => rfl) (fun _ _ _ => rfl) (fun t => by rw [after_34]; unfold Dat.blockOf iblk; rw [A_eq]; try rfl) t d).trans
    (by unfold Dat.fetched Dat.blockOf iblk; rw [A_eq]; try rfl)

/-! ## The body obligation -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d))
    ∗ (∃ d, owns (c : Thread nD τ) (st0_48 t) fullShare ((dats m 0 c).before 48 t d))
    ∗ (∃ d, owns (c : Thread nD τ) (st0_49 t) fullShare ((dats m 0 c).before 49 t d))
    ∗ (∃ d, owns (c : Thread nD τ) (st0_50 t) fullShare ((dats m 0 c).before 50 t d))
    ∗ (∃ d, owns (c : Thread nD τ) (st0_51 t) fullShare ((dats m 0 c).before 51 t d))
    ∗ (∃ d, owns (c : Thread nD τ) (st0_52 t) fullShare ((dats m 0 c).before 52 t d))
    ∗ (∃ d, owns (c : Thread nD τ) (st0_53 t) fullShare ((dats m 0 c).before 53 t d))
    ∗ (∃ d, owns (c : Thread nD τ) (st0_54 t) fullShare ((dats m 0 c).before 54 t d))
    ∗ (∃ d, owns (c : Thread nD τ) (st0_55 t) fullShare ((dats m 0 c).before 55 t d))
    ∗ (∃ d, owns (c : Thread nD τ) (st0_56 t) fullShare ((dats m 0 c).before 56 t d))
    ∗ (∃ d, owns (c : Thread nD τ) (st0_57 t) fullShare ((dats m 0 c).before 57 t d))
    ∗ (∃ d, owns (c : Thread nD τ) (st0_58 t) fullShare ((dats m 0 c).before 58 t d))
    ∗ (∃ d, owns (c : Thread nD τ) (st0_59 t) fullShare ((dats m 0 c).before 59 t d))
    ∗ (∃ d, owns (c : Thread nD τ) (st0_60 t) fullShare ((dats m 0 c).before 60 t d))
    ∗ (∃ d, owns (c : Thread nD τ) (st0_61 t) fullShare ((dats m 0 c).before 61 t d))
    ∗ (∃ d, owns (c : Thread nD τ) (st0_62 t) fullShare ((dats m 0 c).before 62 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t)
    ∗ owns (c : Thread nD τ) (st0_48 t) fullShare ((dats m 0 c).after 48 t)
    ∗ owns (c : Thread nD τ) (st0_49 t) fullShare ((dats m 0 c).after 49 t)
    ∗ owns (c : Thread nD τ) (st0_50 t) fullShare ((dats m 0 c).after 50 t)
    ∗ owns (c : Thread nD τ) (st0_51 t) fullShare ((dats m 0 c).after 51 t)
    ∗ owns (c : Thread nD τ) (st0_52 t) fullShare ((dats m 0 c).after 52 t)
    ∗ owns (c : Thread nD τ) (st0_53 t) fullShare ((dats m 0 c).after 53 t)
    ∗ owns (c : Thread nD τ) (st0_54 t) fullShare ((dats m 0 c).after 54 t)
    ∗ owns (c : Thread nD τ) (st0_55 t) fullShare ((dats m 0 c).after 55 t)
    ∗ owns (c : Thread nD τ) (st0_56 t) fullShare ((dats m 0 c).after 56 t)
    ∗ owns (c : Thread nD τ) (st0_57 t) fullShare ((dats m 0 c).after 57 t)
    ∗ owns (c : Thread nD τ) (st0_58 t) fullShare ((dats m 0 c).after 58 t)
    ∗ owns (c : Thread nD τ) (st0_59 t) fullShare ((dats m 0 c).after 59 t)
    ∗ owns (c : Thread nD τ) (st0_60 t) fullShare ((dats m 0 c).after 60 t)
    ∗ owns (c : Thread nD τ) (st0_61 t) fullShare ((dats m 0 c).after 61 t)
    ∗ owns (c : Thread nD τ) (st0_62 t) fullShare ((dats m 0 c).after 62 t))

set_option maxHeartbeats 2000000 in
/-- The body's triple at the point's staging buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21, before_22, before_23, before_24, before_25, before_26, before_27, before_28, before_29, before_30, before_31, before_32, before_33, before_34]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26, after_27, after_28, after_29, after_30, after_31, after_32, after_33, after_34, after_35, after_36, after_37, after_38, after_39, after_40, after_41, after_42, after_43, after_44, after_45, after_46, after_47, after_48, after_49, after_50, after_51, after_52, after_53, after_54, after_55, after_56, after_57, after_58, after_59, after_60, after_61, after_62]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩, ⟨%d60, H60⟩, ⟨%d61, H61⟩, ⟨%d62, H62⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  isplitl [H58]; · iexists _; iexact H58
  isplitl [H59]; · iexists _; iexact H59
  isplitl [H60]; · iexists _; iexact H60
  isplitl [H61]; · iexists _; iexact H61
  isplitl [H62]; · iexists _; iexact H62
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  iexact H62

/-- The body of the body table at point `t`'s staging slots. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- The launch: every array of the pipeline ends at what `dats` writes back, every other buffer as it was, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.Adam1Ideal.Hand
-- ==== Proof.Adam1IdealEnd.lean ====
/-
  THE GROUPED ADAMW KERNEL'S FRAME: its arguments' arrays end as they were, an input window never writing back.
-/
module

public import proofs.«01_k».proof.Proof.Adam1IdealFrame

@[expose] public section

set_option maxRecDepth 16384

noncomputable section

namespace Cert.Adam1Ideal.Hand

open Cert.Adam1Ideal Cert.Adam1Ideal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- The arguments' arrays at the end. -/
def Kept (r : PUnit × MemSt nD τ sig (Elt F)) (c : Dev nD) : Prop :=
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)

section
variable (r : PUnit × MemSt nD τ sig (Elt F)) (h : Pipeline.FramePost cfgs (dats m) 0 (V m) r) (c : Dev nD)
include h

theorem kept0 : r.2.mem ((c.tc : Thread nD τ).loc main_arg0) = m ((c.tc : Thread nD τ).loc main_arg0) :=
  ((h c).1 0).trans (((dats m 0 c).arrAt_in 0 rfl _).trans (A_eq m c 0))

theorem kept1 : r.2.mem ((c.tc : Thread nD τ).loc main_arg1) = m ((c.tc : Thread nD τ).loc main_arg1) :=
  ((h c).1 1).trans (((dats m 0 c).arrAt_in 1 rfl _).trans (A_eq m c 1))

theorem kept2 : r.2.mem ((c.tc : Thread nD τ).loc main_arg2) = m ((c.tc : Thread nD τ).loc main_arg2) :=
  ((h c).1 2).trans (((dats m 0 c).arrAt_in 2 rfl _).trans (A_eq m c 2))

theorem kept3 : r.2.mem ((c.tc : Thread nD τ).loc main_arg3) = m ((c.tc : Thread nD τ).loc main_arg3) :=
  ((h c).1 3).trans (((dats m 0 c).arrAt_in 3 rfl _).trans (A_eq m c 3))

theorem kept4 : r.2.mem ((c.tc : Thread nD τ).loc main_arg4) = m ((c.tc : Thread nD τ).loc main_arg4) :=
  ((h c).1 4).trans (((dats m 0 c).arrAt_in 4 rfl _).trans (A_eq m c 4))

theorem kept5 : r.2.mem ((c.tc : Thread nD τ).loc main_arg5) = m ((c.tc : Thread nD τ).loc main_arg5) :=
  ((h c).1 5).trans (((dats m 0 c).arrAt_in 5 rfl _).trans (A_eq m c 5))

theorem kept6 : r.2.mem ((c.tc : Thread nD τ).loc main_arg6) = m ((c.tc : Thread nD τ).loc main_arg6) :=
  ((h c).1 6).trans (((dats m 0 c).arrAt_in 6 rfl _).trans (A_eq m c 6))

theorem kept7 : r.2.mem ((c.tc : Thread nD τ).loc main_arg7) = m ((c.tc : Thread nD τ).loc main_arg7) :=
  ((h c).1 7).trans (((dats m 0 c).arrAt_in 7 rfl _).trans (A_eq m c 7))

theorem kept8 : r.2.mem ((c.tc : Thread nD τ).loc main_arg8) = m ((c.tc : Thread nD τ).loc main_arg8) :=
  ((h c).1 8).trans (((dats m 0 c).arrAt_in 8 rfl _).trans (A_eq m c 8))

theorem kept9 : r.2.mem ((c.tc : Thread nD τ).loc main_arg9) = m ((c.tc : Thread nD τ).loc main_arg9) :=
  ((h c).1 9).trans (((dats m 0 c).arrAt_in 9 rfl _).trans (A_eq m c 9))

theorem kept10 : r.2.mem ((c.tc : Thread nD τ).loc main_arg10) = m ((c.tc : Thread nD τ).loc main_arg10) :=
  ((h c).1 10).trans (((dats m 0 c).arrAt_in 10 rfl _).trans (A_eq m c 10))

theorem kept11 : r.2.mem ((c.tc : Thread nD τ).loc main_arg11) = m ((c.tc : Thread nD τ).loc main_arg11) :=
  ((h c).1 11).trans (((dats m 0 c).arrAt_in 11 rfl _).trans (A_eq m c 11))

theorem kept12 : r.2.mem ((c.tc : Thread nD τ).loc main_arg12) = m ((c.tc : Thread nD τ).loc main_arg12) :=
  ((h c).1 12).trans (((dats m 0 c).arrAt_in 12 rfl _).trans (A_eq m c 12))

theorem kept13 : r.2.mem ((c.tc : Thread nD τ).loc main_arg13) = m ((c.tc : Thread nD τ).loc main_arg13) :=
  ((h c).1 13).trans (((dats m 0 c).arrAt_in 13 rfl _).trans (A_eq m c 13))

theorem kept14 : r.2.mem ((c.tc : Thread nD τ).loc main_arg14) = m ((c.tc : Thread nD τ).loc main_arg14) :=
  ((h c).1 14).trans (((dats m 0 c).arrAt_in 14 rfl _).trans (A_eq m c 14))

theorem kept15 : r.2.mem ((c.tc : Thread nD τ).loc main_arg15) = m ((c.tc : Thread nD τ).loc main_arg15) :=
  ((h c).1 15).trans (((dats m 0 c).arrAt_in 15 rfl _).trans (A_eq m c 15))

theorem kept16 : r.2.mem ((c.tc : Thread nD τ).loc main_arg16) = m ((c.tc : Thread nD τ).loc main_arg16) :=
  ((h c).1 16).trans (((dats m 0 c).arrAt_in 16 rfl _).trans (A_eq m c 16))

theorem kept17 : r.2.mem ((c.tc : Thread nD τ).loc main_arg17) = m ((c.tc : Thread nD τ).loc main_arg17) :=
  ((h c).1 17).trans (((dats m 0 c).arrAt_in 17 rfl _).trans (A_eq m c 17))

theorem kept18 : r.2.mem ((c.tc : Thread nD τ).loc main_arg18) = m ((c.tc : Thread nD τ).loc main_arg18) :=
  ((h c).1 18).trans (((dats m 0 c).arrAt_in 18 rfl _).trans (A_eq m c 18))

theorem kept19 : r.2.mem ((c.tc : Thread nD τ).loc main_arg19) = m ((c.tc : Thread nD τ).loc main_arg19) :=
  ((h c).1 19).trans (((dats m 0 c).arrAt_in 19 rfl _).trans (A_eq m c 19))

theorem kept20 : r.2.mem ((c.tc : Thread nD τ).loc main_arg20) = m ((c.tc : Thread nD τ).loc main_arg20) :=
  ((h c).1 20).trans (((dats m 0 c).arrAt_in 20 rfl _).trans (A_eq m c 20))

theorem kept21 : r.2.mem ((c.tc : Thread nD τ).loc main_arg21) = m ((c.tc : Thread nD τ).loc main_arg21) :=
  ((h c).1 21).trans (((dats m 0 c).arrAt_in 21 rfl _).trans (A_eq m c 21))

theorem kept22 : r.2.mem ((c.tc : Thread nD τ).loc main_arg22) = m ((c.tc : Thread nD τ).loc main_arg22) :=
  ((h c).1 22).trans (((dats m 0 c).arrAt_in 22 rfl _).trans (A_eq m c 22))

theorem kept23 : r.2.mem ((c.tc : Thread nD τ).loc main_arg23) = m ((c.tc : Thread nD τ).loc main_arg23) :=
  ((h c).1 23).trans (((dats m 0 c).arrAt_in 23 rfl _).trans (A_eq m c 23))

theorem kept24 : r.2.mem ((c.tc : Thread nD τ).loc main_arg24) = m ((c.tc : Thread nD τ).loc main_arg24) :=
  ((h c).1 24).trans (((dats m 0 c).arrAt_in 24 rfl _).trans (A_eq m c 24))

theorem kept25 : r.2.mem ((c.tc : Thread nD τ).loc main_arg25) = m ((c.tc : Thread nD τ).loc main_arg25) :=
  ((h c).1 25).trans (((dats m 0 c).arrAt_in 25 rfl _).trans (A_eq m c 25))

theorem kept26 : r.2.mem ((c.tc : Thread nD τ).loc main_arg26) = m ((c.tc : Thread nD τ).loc main_arg26) :=
  ((h c).1 26).trans (((dats m 0 c).arrAt_in 26 rfl _).trans (A_eq m c 26))

theorem kept27 : r.2.mem ((c.tc : Thread nD τ).loc main_arg27) = m ((c.tc : Thread nD τ).loc main_arg27) :=
  ((h c).1 27).trans (((dats m 0 c).arrAt_in 27 rfl _).trans (A_eq m c 27))

theorem kept28 : r.2.mem ((c.tc : Thread nD τ).loc main_arg28) = m ((c.tc : Thread nD τ).loc main_arg28) :=
  ((h c).1 28).trans (((dats m 0 c).arrAt_in 28 rfl _).trans (A_eq m c 28))

theorem kept29 : r.2.mem ((c.tc : Thread nD τ).loc main_arg29) = m ((c.tc : Thread nD τ).loc main_arg29) :=
  ((h c).1 29).trans (((dats m 0 c).arrAt_in 29 rfl _).trans (A_eq m c 29))

theorem kept30 : r.2.mem ((c.tc : Thread nD τ).loc main_arg30) = m ((c.tc : Thread nD τ).loc main_arg30) :=
  ((h c).1 30).trans (((dats m 0 c).arrAt_in 30 rfl _).trans (A_eq m c 30))

theorem kept31 : r.2.mem ((c.tc : Thread nD τ).loc main_arg31) = m ((c.tc : Thread nD τ).loc main_arg31) :=
  ((h c).1 31).trans (((dats m 0 c).arrAt_in 31 rfl _).trans (A_eq m c 31))

theorem kept32 : r.2.mem ((c.tc : Thread nD τ).loc main_arg32) = m ((c.tc : Thread nD τ).loc main_arg32) :=
  ((h c).1 32).trans (((dats m 0 c).arrAt_in 32 rfl _).trans (A_eq m c 32))

theorem kept33 : r.2.mem ((c.tc : Thread nD τ).loc main_arg33) = m ((c.tc : Thread nD τ).loc main_arg33) :=
  ((h c).1 33).trans (((dats m 0 c).arrAt_in 33 rfl _).trans (A_eq m c 33))

theorem kept34 : r.2.mem ((c.tc : Thread nD τ).loc main_arg34) = m ((c.tc : Thread nD τ).loc main_arg34) :=
  ((h c).1 34).trans (((dats m 0 c).arrAt_in 34 rfl _).trans (A_eq m c 34))

theorem kept_all : Kept m r c :=
  ⟨kept0 m r h c, kept1 m r h c, kept2 m r h c, kept3 m r h c, kept4 m r h c, kept5 m r h c, kept6 m r h c, kept7 m r h c, kept8 m r h c, kept9 m r h c, kept10 m r h c, kept11 m r h c, kept12 m r h c, kept13 m r h c, kept14 m r h c, kept15 m r h c, kept16 m r h c, kept17 m r h c, kept18 m r h c, kept19 m r h c, kept20 m r h c, kept21 m r h c, kept22 m r h c, kept23 m r h c, kept24 m r h c, kept25 m r h c, kept26 m r h c, kept27 m r h c, kept28 m r h c, kept29 m r h c, kept30 m r h c, kept31 m r h c, kept32 m r h c, kept33 m r h c, kept34 m r h c⟩

end

/-- The frame. -/
theorem frame : θ_run defs (onTc (τ := τ) (main (F := F))) ⟨m, fun _ => 0, ρ⟩ (fun r => (∀ c : Dev nD, Kept m r c) ∧ r.2.sem = fun _ => 0) :=
  (θ_run defs _ _).mono (fun r h => ⟨fun c => kept_all m r h.1 c, h.2⟩) (run_main_quiescent m ρ)

end Cert.Adam1Ideal.Hand
-- ==== Proof.Adam1Eq.lean ====
/-
  ADAMW ON SEVEN WEIGHTS AT ONCE: the twenty-eight arrays the kernel's single point writes, each in closed form. For every
  weight the four are its gradient, its step and its two new moments (`AdamMath`), functions of the weight's own five arguments.
-/
module

public import proofs.«01_k».proof.Proof.AdamMath
public import proofs.«01_k».proof.Proof.Adam1IdealBody

@[expose] public section

set_option maxRecDepth 16384

noncomputable section

namespace Cert.Adam1Eq

open Cert.Adam1Ideal Cert.Adam1Ideal.Gen Cert.Adam1Ideal.Hand Cert.Blocks Cert.AdamMath
open Idealize.ShloMosaic

variable (x0 : Vec Ideal S128x384 .f32)
variable (x1 : Vec Ideal S128x384 .f32)
variable (x2 : Vec Ideal S128x384 .f32)
variable (x3 : Vec Ideal S128x384 .f32)
variable (x4 : Vec Ideal S3x128x384 .bf16)
variable (x5 : Vec Ideal S384x192 .f32)
variable (x6 : Vec Ideal S384x192 .f32)
variable (x7 : Vec Ideal S384x192 .f32)
variable (x8 : Vec Ideal S384x192 .f32)
variable (x9 : Vec Ideal S3x384x192 .bf16)
variable (x10 : Vec Ideal S128x320 .f32)
variable (x11 : Vec Ideal S128x320 .f32)
variable (x12 : Vec Ideal S128x320 .f32)
variable (x13 : Vec Ideal S128x320 .f32)
variable (x14 : Vec Ideal S3x128x320 .bf16)
variable (x15 : Vec Ideal S32x1024 .f32)
variable (x16 : Vec Ideal S32x1024 .f32)
variable (x17 : Vec Ideal S32x1024 .f32)
variable (x18 : Vec Ideal S32x1024 .f32)
variable (x19 : Vec Ideal S3x32x1024 .bf16)
variable (x20 : Vec Ideal S32x1024 .f32)
variable (x21 : Vec Ideal S32x1024 .f32)
variable (x22 : Vec Ideal S32x1024 .f32)
variable (x23 : Vec Ideal S32x1024 .f32)
variable (x24 : Vec Ideal S3x32x1024 .bf16)
variable (x25 : Vec Ideal S128x1024 .f32)
variable (x26 : Vec Ideal S128x1024 .f32)
variable (x27 : Vec Ideal S128x1024 .f32)
variable (x28 : Vec Ideal S128x1024 .f32)
variable (x29 : Vec Ideal S3x128x1024 .bf16)
variable (x30 : Vec Ideal S128x1024 .f32)
variable (x31 : Vec Ideal S128x1024 .f32)
variable (x32 : Vec Ideal S128x1024 .f32)
variable (x33 : Vec Ideal S128x1024 .f32)
variable (x34 : Vec Ideal S3x128x1024 .bf16)

/-! ## mla_w_dq -/

theorem out35_eq :
    out35 (F := Ideal) x3 x4 = gradA x3 x4 := by
  unfold out35
  rw [View.canon_unit_zero hz]
  show gradK shapeCasts_S1x128x384_S128x384 (View.ld x3 r0_0) (View.ld x4 r0_1) (View.ld x4 r0_2) (View.ld x4 r0_3) = _
  rw [gradK_ld, View.ld_unit_zero hz]

theorem out36_eq :
    out36 (F := Ideal) x0 x1 x2 x3 x4 = deltaA x0 x1 x2 (gradA x3 x4) := by
  unfold out36
  rw [View.canon_unit_zero hz]
  show deltaA (View.ld x0 r0_0) (View.ld x1 r0_0) (View.ld x2 r0_0) (gradK shapeCasts_S1x128x384_S128x384 (View.ld x3 r0_0) (View.ld x4 r0_1) (View.ld x4 r0_2) (View.ld x4 r0_3)) = _
  rw [gradK_ld, View.ld_unit_zero hz, View.ld_unit_zero hz, View.ld_unit_zero hz, View.ld_unit_zero hz]

theorem out37_eq :
    out37 (F := Ideal) x1 x3 x4 = momA x1 (gradA x3 x4) := by
  unfold out37
  rw [View.canon_unit_zero hz]
  show momA (View.ld x1 r0_0) (gradK shapeCasts_S1x128x384_S128x384 (View.ld x3 r0_0) (View.ld x4 r0_1) (View.ld x4 r0_2) (View.ld x4 r0_3)) = _
  rw [gradK_ld, View.ld_unit_zero hz, View.ld_unit_zero hz]

theorem out38_eq :
    out38 (F := Ideal) x2 x3 x4 = velA x2 (gradA x3 x4) := by
  unfold out38
  rw [View.canon_unit_zero hz]
  show velA (View.ld x2 r0_0) (gradK shapeCasts_S1x128x384_S128x384 (View.ld x3 r0_0) (View.ld x4 r0_1) (View.ld x4 r0_2) (View.ld x4 r0_3)) = _
  rw [gradK_ld, View.ld_unit_zero hz, View.ld_unit_zero hz]

/-! ## mla_w_uq -/

theorem out39_eq :
    out39 (F := Ideal) x8 x9 = gradA x8 x9 := by
  unfold out39
  rw [View.canon_unit_zero hz]
  show gradK shapeCasts_S1x384x192_S384x192 (View.ld x8 r0_4) (View.ld x9 r0_5) (View.ld x9 r0_6) (View.ld x9 r0_7) = _
  rw [gradK_ld, View.ld_unit_zero hz]

theorem out40_eq :
    out40 (F := Ideal) x5 x6 x7 x8 x9 = deltaA x5 x6 x7 (gradA x8 x9) := by
  unfold out40
  rw [View.canon_unit_zero hz]
  show deltaA (View.ld x5 r0_4) (View.ld x6 r0_4) (View.ld x7 r0_4) (gradK shapeCasts_S1x384x192_S384x192 (View.ld x8 r0_4) (View.ld x9 r0_5) (View.ld x9 r0_6) (View.ld x9 r0_7)) = _
  rw [gradK_ld, View.ld_unit_zero hz, View.ld_unit_zero hz, View.ld_unit_zero hz, View.ld_unit_zero hz]

theorem out41_eq :
    out41 (F := Ideal) x6 x8 x9 = momA x6 (gradA x8 x9) := by
  unfold out41
  rw [View.canon_unit_zero hz]
  show momA (View.ld x6 r0_4) (gradK shapeCasts_S1x384x192_S384x192 (View.ld x8 r0_4) (View.ld x9 r0_5) (View.ld x9 r0_6) (View.ld x9 r0_7)) = _
  rw [gradK_ld, View.ld_unit_zero hz, View.ld_unit_zero hz]

theorem out42_eq :
    out42 (F := Ideal) x7 x8 x9 = velA x7 (gradA x8 x9) := by
  unfold out42
  rw [View.canon_unit_zero hz]
  show velA (View.ld x7 r0_4) (gradK shapeCasts_S1x384x192_S384x192 (View.ld x8 r0_4) (View.ld x9 r0_5) (View.ld x9 r0_6) (View.ld x9 r0_7)) = _
  rw [gradK_ld, View.ld_unit_zero hz, View.ld_unit_zero hz]

/-! ## mla_w_dkv -/

theorem out43_eq :
    out43 (F := Ideal) x13 x14 = gradA x13 x14 := by
  unfold out43
  rw [View.canon_unit_zero hz]
  show gradK shapeCasts_S1x128x320_S128x320 (View.ld x13 r0_8) (View.ld x14 r0_9) (View.ld x14 r0_10) (View.ld x14 r0_11) = _
  rw [gradK_ld, View.ld_unit_zero hz]

theorem out44_eq :
    out44 (F := Ideal) x10 x11 x12 x13 x14 = deltaA x10 x11 x12 (gradA x13 x14) := by
  unfold out44
  rw [View.canon_unit_zero hz]
  show deltaA (View.ld x10 r0_8) (View.ld x11 r0_8) (View.ld x12 r0_8) (gradK shapeCasts_S1x128x320_S128x320 (View.ld x13 r0_8) (View.ld x14 r0_9) (View.ld x14 r0_10) (View.ld x14 r0_11)) = _
  rw [gradK_ld, View.ld_unit_zero hz, View.ld_unit_zero hz, View.ld_unit_zero hz, View.ld_unit_zero hz]

theorem out45_eq :
    out45 (F := Ideal) x11 x13 x14 = momA x11 (gradA x13 x14) := by
  unfold out45
  rw [View.canon_unit_zero hz]
  show momA (View.ld x11 r0_8) (gradK shapeCasts_S1x128x320_S128x320 (View.ld x13 r0_8) (View.ld x14 r0_9) (View.ld x14 r0_10) (View.ld x14 r0_11)) = _
  rw [gradK_ld, View.ld_unit_zero hz, View.ld_unit_zero hz]

theorem out46_eq :
    out46 (F := Ideal) x12 x13 x14 = velA x12 (gradA x13 x14) := by
  unfold out46
  rw [View.canon_unit_zero hz]
  show velA (View.ld x12 r0_8) (gradK shapeCasts_S1x128x320_S128x320 (View.ld x13 r0_8) (View.ld x14 r0_9) (View.ld x14 r0_10) (View.ld x14 r0_11)) = _
  rw [gradK_ld, View.ld_unit_zero hz, View.ld_unit_zero hz]

/-! ## mla_w_uk -/

theorem out47_eq :
    out47 (F := Ideal) x18 x19 = gradA x18 x19 := by
  unfold out47
  rw [View.canon_unit_zero hz]
  show gradK shapeCasts_S1x32x1024_S32x1024 (View.ld x18 r0_12) (View.ld x19 r0_13) (View.ld x19 r0_14) (View.ld x19 r0_15) = _
  rw [gradK_ld, View.ld_unit_zero hz]

theorem out48_eq :
    out48 (F := Ideal) x15 x16 x17 x18 x19 = deltaA x15 x16 x17 (gradA x18 x19) := by
  unfold out48
  rw [View.canon_unit_zero hz]
  show deltaA (View.ld x15 r0_12) (View.ld x16 r0_12) (View.ld x17 r0_12) (gradK shapeCasts_S1x32x1024_S32x1024 (View.ld x18 r0_12) (View.ld x19 r0_13) (View.ld x19 r0_14) (View.ld x19 r0_15)) = _
  rw [gradK_ld, View.ld_unit_zero hz, View.ld_unit_zero hz, View.ld_unit_zero hz, View.ld_unit_zero hz]

theorem out49_eq :
    out49 (F := Ideal) x16 x18 x19 = momA x16 (gradA x18 x19) := by
  unfold out49
  rw [View.canon_unit_zero hz]
  show momA (View.ld x16 r0_12) (gradK shapeCasts_S1x32x1024_S32x1024 (View.ld x18 r0_12) (View.ld x19 r0_13) (View.ld x19 r0_14) (View.ld x19 r0_15)) = _
  rw [gradK_ld, View.ld_unit_zero hz, View.ld_unit_zero hz]

theorem out50_eq :
    out50 (F := Ideal) x17 x18 x19 = velA x17 (gradA x18 x19) := by
  unfold out50
  rw [View.canon_unit_zero hz]
  show velA (View.ld x17 r0_12) (gradK shapeCasts_S1x32x1024_S32x1024 (View.ld x18 r0_12) (View.ld x19 r0_13) (View.ld x19 r0_14) (View.ld x19 r0_15)) = _
  rw [gradK_ld, View.ld_unit_zero hz, View.ld_unit_zero hz]

/-! ## mla_w_uv -/

theorem out51_eq :
    out51 (F := Ideal) x23 x24 = gradA x23 x24 := by
  unfold out51
  rw [View.canon_unit_zero hz]
  show gradK shapeCasts_S1x32x1024_S32x1024 (View.ld x23 r0_12) (View.ld x24 r0_13) (View.ld x24 r0_14) (View.ld x24 r0_15) = _
  rw [gradK_ld, View.ld_unit_zero hz]

theorem out52_eq :
    out52 (F := Ideal) x20 x21 x22 x23 x24 = deltaA x20 x21 x22 (gradA x23 x24) := by
  unfold out52
  rw [View.canon_unit_zero hz]
  show deltaA (View.ld x20 r0_12) (View.ld x21 r0_12) (View.ld x22 r0_12) (gradK shapeCasts_S1x32x1024_S32x1024 (View.ld x23 r0_12) (View.ld x24 r0_13) (View.ld x24 r0_14) (View.ld x24 r0_15)) = _
  rw [gradK_ld, View.ld_unit_zero hz, View.ld_unit_zero hz, View.ld_unit_zero hz, View.ld_unit_zero hz]

theorem out53_eq :
    out53 (F := Ideal) x21 x23 x24 = momA x21 (gradA x23 x24) := by
  unfold out53
  rw [View.canon_unit_zero hz]
  show momA (View.ld x21 r0_12) (gradK shapeCasts_S1x32x1024_S32x1024 (View.ld x23 r0_12) (View.ld x24 r0_13) (View.ld x24 r0_14) (View.ld x24 r0_15)) = _
  rw [gradK_ld, View.ld_unit_zero hz, View.ld_unit_zero hz]

theorem out54_eq :
    out54 (F := Ideal) x22 x23 x24 = velA x22 (gradA x23 x24) := by
  unfold out54
  rw [View.canon_unit_zero hz]
  show velA (View.ld x22 r0_12) (gradK shapeCasts_S1x32x1024_S32x1024 (View.ld x23 r0_12) (View.ld x24 r0_13) (View.ld x24 r0_14) (View.ld x24 r0_15)) = _
  rw [gradK_ld, View.ld_unit_zero hz, View.ld_unit_zero hz]

/-! ## mla_w_o -/

theorem out55_eq :
    out55 (F := Ideal) x28 x29 = gradA x28 x29 := by
  unfold out55
  rw [View.canon_unit_zero hz]
  show gradK shapeCasts_S1x128x1024_S128x1024 (View.ld x28 r0_16) (View.ld x29 r0_17) (View.ld x29 r0_18) (View.ld x29 r0_19) = _
  rw [gradK_ld, View.ld_unit_zero hz]

theorem out56_eq :
    out56 (F := Ideal) x25 x26 x27 x28 x29 = deltaA x25 x26 x27 (gradA x28 x29) := by
  unfold out56
  rw [View.canon_unit_zero hz]
  show deltaA (View.ld x25 r0_16) (View.ld x26 r0_16) (View.ld x27 r0_16) (gradK shapeCasts_S1x128x1024_S128x1024 (View.ld x28 r0_16) (View.ld x29 r0_17) (View.ld x29 r0_18) (View.ld x29 r0_19)) = _
  rw [gradK_ld, View.ld_unit_zero hz, View.ld_unit_zero hz, View.ld_unit_zero hz, View.ld_unit_zero hz]

theorem out57_eq :
    out57 (F := Ideal) x26 x28 x29 = momA x26 (gradA x28 x29) := by
  unfold out57
  rw [View.canon_unit_zero hz]
  show momA (View.ld x26 r0_16) (gradK shapeCasts_S1x128x1024_S128x1024 (View.ld x28 r0_16) (View.ld x29 r0_17) (View.ld x29 r0_18) (View.ld x29 r0_19)) = _
  rw [gradK_ld, View.ld_unit_zero hz, View.ld_unit_zero hz]

theorem out58_eq :
    out58 (F := Ideal) x27 x28 x29 = velA x27 (gradA x28 x29) := by
  unfold out58
  rw [View.canon_unit_zero hz]
  show velA (View.ld x27 r0_16) (gradK shapeCasts_S1x128x1024_S128x1024 (View.ld x28 r0_16) (View.ld x29 r0_17) (View.ld x29 r0_18) (View.ld x29 r0_19)) = _
  rw [gradK_ld, View.ld_unit_zero hz, View.ld_unit_zero hz]

/-! ## cf_w_pw2 -/

theorem out59_eq :
    out59 (F := Ideal) x33 x34 = gradA x33 x34 := by
  unfold out59
  rw [View.canon_unit_zero hz]
  show gradK shapeCasts_S1x128x1024_S128x1024 (View.ld x33 r0_16) (View.ld x34 r0_17) (View.ld x34 r0_18) (View.ld x34 r0_19) = _
  rw [gradK_ld, View.ld_unit_zero hz]

theorem out60_eq :
    out60 (F := Ideal) x30 x31 x32 x33 x34 = deltaA x30 x31 x32 (gradA x33 x34) := by
  unfold out60
  rw [View.canon_unit_zero hz]
  show deltaA (View.ld x30 r0_16) (View.ld x31 r0_16) (View.ld x32 r0_16) (gradK shapeCasts_S1x128x1024_S128x1024 (View.ld x33 r0_16) (View.ld x34 r0_17) (View.ld x34 r0_18) (View.ld x34 r0_19)) = _
  rw [gradK_ld, View.ld_unit_zero hz, View.ld_unit_zero hz, View.ld_unit_zero hz, View.ld_unit_zero hz]

theorem out61_eq :
    out61 (F := Ideal) x31 x33 x34 = momA x31 (gradA x33 x34) := by
  unfold out61
  rw [View.canon_unit_zero hz]
  show momA (View.ld x31 r0_16) (gradK shapeCasts_S1x128x1024_S128x1024 (View.ld x33 r0_16) (View.ld x34 r0_17) (View.ld x34 r0_18) (View.ld x34 r0_19)) = _
  rw [gradK_ld, View.ld_unit_zero hz, View.ld_unit_zero hz]

theorem out62_eq :
    out62 (F := Ideal) x32 x33 x34 = velA x32 (gradA x33 x34) := by
  unfold out62
  rw [View.canon_unit_zero hz]
  show velA (View.ld x32 r0_16) (gradK shapeCasts_S1x128x1024_S128x1024 (View.ld x33 r0_16) (View.ld x34 r0_17) (View.ld x34 r0_18) (View.ld x34 r0_19)) = _
  rw [gradK_ld, View.ld_unit_zero hz, View.ld_unit_zero hz]

end Cert.Adam1Eq
-- ==== Proof.Adam1Arrays.lean ====
/-
  ADAMW ON SEVEN WEIGHTS AT ONCE: the twenty-eight arrays after the run. The grid has one point and every window's block is its
  whole array, so each output ends holding its closed form (`Adam1Eq`) of the weight's own arguments as launched; `run` collects
  them, with the arguments unchanged.
-/
module

public import proofs.«01_k».proof.Proof.Adam1IdealEnd
public import proofs.«01_k».proof.Proof.Adam1Eq
public import proofs.«01_k».proof.Proof.Gen.Adam1Ideal.Points
public import Idealize.ShloMosaic.Lib.Pipeline.Value

@[expose] public section

set_option maxRecDepth 16384

noncomputable section

namespace Cert.Adam1Arrays

open Cert.Adam1Ideal Cert.Adam1Ideal.Gen Cert.Adam1Ideal.Hand Cert.AdamMath Cert.Adam1Eq
open Idealize.ShloMosaic Idealize.ShloMosaic.TcCoe Idealize.SL.Sem
open Idealize.ShloMosaic.Pipeline (Dat Window)

variable (m : (ℓ : Loc nD τ sig) → Buf (Elt Ideal) ℓ) (ρ : Dev nD → PrngReg)

/-! ## Every window's block is its array -/

theorem zero0 : ∀ t : Fin cfg0.N, win0_0.index t (0 : Fin 2) = 0 ∧ win0_0.index t (1 : Fin 2) = 0 :=
  (by decide +kernel : ∀ t : Fin grid0.N, _)
theorem emb0 (t : Fin cfg0.N) (j : S128x384.Idx) : ((cfg0.win 0).blk t).view.emb j = j := by
  obtain ⟨e0, e1⟩ := zero0 t
  funext a; apply Fin.ext
  match a with
  | ⟨0, _⟩ => show win0_0.index t (0 : Fin 2) * 128 + 1 * (j 0).val = (j 0).val; omega
  | ⟨1, _⟩ => show win0_0.index t (1 : Fin 2) * 384 + 1 * (j 1).val = (j 1).val; omega
theorem blk0 (c : Dev nD) (t : Fin cfg0.N) : iblk m c 0 t = V m c main_arg0 := by
  funext j; show V m c main_arg0 (((cfg0.win 0).blk t).view.emb j) = V m c main_arg0 j; rw [emb0]

theorem zero1 : ∀ t : Fin cfg0.N, win0_1.index t (0 : Fin 2) = 0 ∧ win0_1.index t (1 : Fin 2) = 0 :=
  (by decide +kernel : ∀ t : Fin grid0.N, _)
theorem emb1 (t : Fin cfg0.N) (j : S128x384.Idx) : ((cfg0.win 1).blk t).view.emb j = j := by
  obtain ⟨e0, e1⟩ := zero1 t
  funext a; apply Fin.ext
  match a with
  | ⟨0, _⟩ => show win0_1.index t (0 : Fin 2) * 128 + 1 * (j 0).val = (j 0).val; omega
  | ⟨1, _⟩ => show win0_1.index t (1 : Fin 2) * 384 + 1 * (j 1).val = (j 1).val; omega
theorem blk1 (c : Dev nD) (t : Fin cfg0.N) : iblk m c 1 t = V m c main_arg1 := by
  funext j; show V m c main_arg1 (((cfg0.win 1).blk t).view.emb j) = V m c main_arg1 j; rw [emb1]

theorem zero2 : ∀ t : Fin cfg0.N, win0_2.index t (0 : Fin 2) = 0 ∧ win0_2.index t (1 : Fin 2) = 0 :=
  (by decide +kernel : ∀ t : Fin grid0.N, _)
theorem emb2 (t : Fin cfg0.N) (j : S128x384.Idx) : ((cfg0.win 2).blk t).view.emb j = j := by
  obtain ⟨e0, e1⟩ := zero2 t
  funext a; apply Fin.ext
  match a with
  | ⟨0, _⟩ => show win0_2.index t (0 : Fin 2) * 128 + 1 * (j 0).val = (j 0).val; omega
  | ⟨1, _⟩ => show win0_2.index t (1 : Fin 2) * 384 + 1 * (j 1).val = (j 1).val; omega
theorem blk2 (c : Dev nD) (t : Fin cfg0.N) : iblk m c 2 t = V m c main_arg2 := by
  funext j; show V m c main_arg2 (((cfg0.win 2).blk t).view.emb j) = V m c main_arg2 j; rw [emb2]

theorem zero3 : ∀ t : Fin cfg0.N, win0_3.index t (0 : Fin 2) = 0 ∧ win0_3.index t (1 : Fin 2) = 0 :=
  (by decide +kernel : ∀ t : Fin grid0.N, _)
theorem emb3 (t : Fin cfg0.N) (j : S128x384.Idx) : ((cfg0.win 3).blk t).view.emb j = j := by
  obtain ⟨e0, e1⟩ := zero3 t
  funext a; apply Fin.ext
  match a with
  | ⟨0, _⟩ => show win0_3.index t (0 : Fin 2) * 128 + 1 * (j 0).val = (j 0).val; omega
  | ⟨1, _⟩ => show win0_3.index t (1 : Fin 2) * 384 + 1 * (j 1).val = (j 1).val; omega
theorem blk3 (c : Dev nD) (t : Fin cfg0.N) : iblk m c 3 t = V m c main_arg3 := by
  funext j; show V m c main_arg3 (((cfg0.win 3).blk t).view.emb j) = V m c main_arg3 j; rw [emb3]

theorem zero4 : ∀ t : Fin cfg0.N, win0_4.index t (0 : Fin 3) = 0 ∧ win0_4.index t (1 : Fin 3) = 0 ∧ win0_4.index t (2 : Fin 3) = 0 :=
  (by decide +kernel : ∀ t : Fin grid0.N, _)
theorem emb4 (t : Fin cfg0.N) (j : S3x128x384.Idx) : ((cfg0.win 4).blk t).view.emb j = j := by
  obtain ⟨e0, e1, e2⟩ := zero4 t
  funext a; apply Fin.ext
  match a with
  | ⟨0, _⟩ => show win0_4.index t (0 : Fin 3) * 3 + 1 * (j 0).val = (j 0).val; omega
  | ⟨1, _⟩ => show win0_4.index t (1 : Fin 3) * 128 + 1 * (j 1).val = (j 1).val; omega
  | ⟨2, _⟩ => show win0_4.index t (2 : Fin 3) * 384 + 1 * (j 2).val = (j 2).val; omega
theorem blk4 (c : Dev nD) (t : Fin cfg0.N) : iblk m c 4 t = V m c main_arg4 := by
  funext j; show V m c main_arg4 (((cfg0.win 4).blk t).view.emb j) = V m c main_arg4 j; rw [emb4]

theorem zero5 : ∀ t : Fin cfg0.N, win0_5.index t (0 : Fin 2) = 0 ∧ win0_5.index t (1 : Fin 2) = 0 :=
  (by decide +kernel : ∀ t : Fin grid0.N, _)
theorem emb5 (t : Fin cfg0.N) (j : S384x192.Idx) : ((cfg0.win 5).blk t).view.emb j = j := by
  obtain ⟨e0, e1⟩ := zero5 t
  funext a; apply Fin.ext
  match a with
  | ⟨0, _⟩ => show win0_5.index t (0 : Fin 2) * 384 + 1 * (j 0).val = (j 0).val; omega
  | ⟨1, _⟩ => show win0_5.index t (1 : Fin 2) * 192 + 1 * (j 1).val = (j 1).val; omega
theorem blk5 (c : Dev nD) (t : Fin cfg0.N) : iblk m c 5 t = V m c main_arg5 := by
  funext j; show V m c main_arg5 (((cfg0.win 5).blk t).view.emb j) = V m c main_arg5 j; rw [emb5]

theorem zero6 : ∀ t : Fin cfg0.N, win0_6.index t (0 : Fin 2) = 0 ∧ win0_6.index t (1 : Fin 2) = 0 :=
  (by decide +kernel : ∀ t : Fin grid0.N, _)
theorem emb6 (t : Fin cfg0.N) (j : S384x192.Idx) : ((cfg0.win 6).blk t).view.emb j = j := by
  obtain ⟨e0, e1⟩ := zero6 t
  funext a; apply Fin.ext
  match a with
  | ⟨0, _⟩ => show win0_6.index t (0 : Fin 2) * 384 + 1 * (j 0).val = (j 0).val; omega
  | ⟨1, _⟩ => show win0_6.index t (1 : Fin 2) * 192 + 1 * (j 1).val = (j 1).val; omega
theorem blk6 (c : Dev nD) (t : Fin cfg0.N) : iblk m c 6 t = V m c main_arg6 := by
  funext j; show V m c main_arg6 (((cfg0.win 6).blk t).view.emb j) = V m c main_arg6 j; rw [emb6]

theorem zero7 : ∀ t : Fin cfg0.N, win0_7.index t (0 : Fin 2) = 0 ∧ win0_7.index t (1 : Fin 2) = 0 :=
  (by decide +kernel : ∀ t : Fin grid0.N, _)
theorem emb7 (t : Fin cfg0.N) (j : S384x192.Idx) : ((cfg0.win 7).blk t).view.emb j = j := by
  obtain ⟨e0, e1⟩ := zero7 t
  funext a; apply Fin.ext
  match a with
  | ⟨0, _⟩ => show win0_7.index t (0 : Fin 2) * 384 + 1 * (j 0).val = (j 0).val; omega
  | ⟨1, _⟩ => show win0_7.index t (1 : Fin 2) * 192 + 1 * (j 1).val = (j 1).val; omega
theorem blk7 (c : Dev nD) (t : Fin cfg0.N) : iblk m c 7 t = V m c main_arg7 := by
  funext j; show V m c main_arg7 (((cfg0.win 7).blk t).view.emb j) = V m c main_arg7 j; rw [emb7]

theorem zero8 : ∀ t : Fin cfg0.N, win0_8.index t (0 : Fin 2) = 0 ∧ win0_8.index t (1 : Fin 2) = 0 :=
  (by decide +kernel : ∀ t : Fin grid0.N, _)
theorem emb8 (t : Fin cfg0.N) (j : S384x192.Idx) : ((cfg0.win 8).blk t).view.emb j = j := by
  obtain ⟨e0, e1⟩ := zero8 t
  funext a; apply Fin.ext
  match a with
  | ⟨0, _⟩ => show win0_8.index t (0 : Fin 2) * 384 + 1 * (j 0).val = (j 0).val; omega
  | ⟨1, _⟩ => show win0_8.index t (1 : Fin 2) * 192 + 1 * (j 1).val = (j 1).val; omega
theorem blk8 (c : Dev nD) (t : Fin cfg0.N) : iblk m c 8 t = V m c main_arg8 := by
  funext j; show V m c main_arg8 (((cfg0.win 8).blk t).view.emb j) = V m c main_arg8 j; rw [emb8]

theorem zero9 : ∀ t : Fin cfg0.N, win0_9.index t (0 : Fin 3) = 0 ∧ win0_9.index t (1 : Fin 3) = 0 ∧ win0_9.index t (2 : Fin 3) = 0 :=
  (by decide +kernel : ∀ t : Fin grid0.N, _)
theorem emb9 (t : Fin cfg0.N) (j : S3x384x192.Idx) : ((cfg0.win 9).blk t).view.emb j = j := by
  obtain ⟨e0, e1, e2⟩ := zero9 t
  funext a; apply Fin.ext
  match a with
  | ⟨0, _⟩ => show win0_9.index t (0 : Fin 3) * 3 + 1 * (j 0).val = (j 0).val; omega
  | ⟨1, _⟩ => show win0_9.index t (1 : Fin 3) * 384 + 1 * (j 1).val = (j 1).val; omega
  | ⟨2, _⟩ => show win0_9.index t (2 : Fin 3) * 192 + 1 * (j 2).val = (j 2).val; omega
theorem blk9 (c : Dev nD) (t : Fin cfg0.N) : iblk m c 9 t = V m c main_arg9 := by
  funext j; show V m c main_arg9 (((cfg0.win 9).blk t).view.emb j) = V m c main_arg9 j; rw [emb9]

theorem zero10 : ∀ t : Fin cfg0.N, win0_10.index t (0 : Fin 2) = 0 ∧ win0_10.index t (1 : Fin 2) = 0 :=
  (by decide +kernel : ∀ t : Fin grid0.N, _)
theorem emb10 (t : Fin cfg0.N) (j : S128x320.Idx) : ((cfg0.win 10).blk t).view.emb j = j := by
  obtain ⟨e0, e1⟩ := zero10 t
  funext a; apply Fin.ext
  match a with
  | ⟨0, _⟩ => show win0_10.index t (0 : Fin 2) * 128 + 1 * (j 0).val = (j 0).val; omega
  | ⟨1, _⟩ => show win0_10.index t (1 : Fin 2) * 320 + 1 * (j 1).val = (j 1).val; omega
theorem blk10 (c : Dev nD) (t : Fin cfg0.N) : iblk m c 10 t = V m c main_arg10 := by
  funext j; show V m c main_arg10 (((cfg0.win 10).blk t).view.emb j) = V m c main_arg10 j; rw [emb10]

theorem zero11 : ∀ t : Fin cfg0.N, win0_11.index t (0 : Fin 2) = 0 ∧ win0_11.index t (1 : Fin 2) = 0 :=
  (by decide +kernel : ∀ t : Fin grid0.N, _)
theorem emb11 (t : Fin cfg0.N) (j : S128x320.Idx) : ((cfg0.win 11).blk t).view.emb j = j := by
  obtain ⟨e0, e1⟩ := zero11 t
  funext a; apply Fin.ext
  match a with
  | ⟨0, _⟩ => show win0_11.index t (0 : Fin 2) * 128 + 1 * (j 0).val = (j 0).val; omega
  | ⟨1, _⟩ => show win0_11.index t (1 : Fin 2) * 320 + 1 * (j 1).val = (j 1).val; omega
theorem blk11 (c : Dev nD) (t : Fin cfg0.N) : iblk m c 11 t = V m c main_arg11 := by
  funext j; show V m c main_arg11 (((cfg0.win 11).blk t).view.emb j) = V m c main_arg11 j; rw [emb11]

theorem zero12 : ∀ t : Fin cfg0.N, win0_12.index t (0 : Fin 2) = 0 ∧ win0_12.index t (1 : Fin 2) = 0 :=
  (by decide +kernel : ∀ t : Fin grid0.N, _)
theorem emb12 (t : Fin cfg0.N) (j : S128x320.Idx) : ((cfg0.win 12).blk t).view.emb j = j := by
  obtain ⟨e0, e1⟩ := zero12 t
  funext a; apply Fin.ext
  match a with
  | ⟨0, _⟩ => show win0_12.index t (0 : Fin 2) * 128 + 1 * (j 0).val = (j 0).val; omega
  | ⟨1, _⟩ => show win0_12.index t (1 : Fin 2) * 320 + 1 * (j 1).val = (j 1).val; omega
theorem blk12 (c : Dev nD) (t : Fin cfg0.N) : iblk m c 12 t = V m c main_arg12 := by
  funext j; show V m c main_arg12 (((cfg0.win 12).blk t).view.emb j) = V m c main_arg12 j; rw [emb12]

theorem zero13 : ∀ t : Fin cfg0.N, win0_13.index t (0 : Fin 2) = 0 ∧ win0_13.index t (1 : Fin 2) = 0 :=
  (by decide +kernel : ∀ t : Fin grid0.N, _)
theorem emb13 (t : Fin cfg0.N) (j : S128x320.Idx) : ((cfg0.win 13).blk t).view.emb j = j := by
  obtain ⟨e0, e1⟩ := zero13 t
  funext a; apply Fin.ext
  match a with
  | ⟨0, _⟩ => show win0_13.index t (0 : Fin 2) * 128 + 1 * (j 0).val = (j 0).val; omega
  | ⟨1, _⟩ => show win0_13.index t (1 : Fin 2) * 320 + 1 * (j 1).val = (j 1).val; omega
theorem blk13 (c : Dev nD) (t : Fin cfg0.N) : iblk m c 13 t = V m c main_arg13 := by
  funext j; show V m c main_arg13 (((cfg0.win 13).blk t).view.emb j) = V m c main_arg13 j; rw [emb13]

theorem zero14 : ∀ t : Fin cfg0.N, win0_14.index t (0 : Fin 3) = 0 ∧ win0_14.index t (1 : Fin 3) = 0 ∧ win0_14.index t (2 : Fin 3) = 0 :=
  (by decide +kernel : ∀ t : Fin grid0.N, _)
theorem emb14 (t : Fin cfg0.N) (j : S3x128x320.Idx) : ((cfg0.win 14).blk t).view.emb j = j := by
  obtain ⟨e0, e1, e2⟩ := zero14 t
  funext a; apply Fin.ext
  match a with
  | ⟨0, _⟩ => show win0_14.index t (0 : Fin 3) * 3 + 1 * (j 0).val = (j 0).val; omega
  | ⟨1, _⟩ => show win0_14.index t (1 : Fin 3) * 128 + 1 * (j 1).val = (j 1).val; omega
  | ⟨2, _⟩ => show win0_14.index t (2 : Fin 3) * 320 + 1 * (j 2).val = (j 2).val; omega
theorem blk14 (c : Dev nD) (t : Fin cfg0.N) : iblk m c 14 t = V m c main_arg14 := by
  funext j; show V m c main_arg14 (((cfg0.win 14).blk t).view.emb j) = V m c main_arg14 j; rw [emb14]

theorem zero15 : ∀ t : Fin cfg0.N, win0_15.index t (0 : Fin 2) = 0 ∧ win0_15.index t (1 : Fin 2) = 0 :=
  (by decide +kernel : ∀ t : Fin grid0.N, _)
theorem emb15 (t : Fin cfg0.N) (j : S32x1024.Idx) : ((cfg0.win 15).blk t).view.emb j = j := by
  obtain ⟨e0, e1⟩ := zero15 t
  funext a; apply Fin.ext
  match a with
  | ⟨0, _⟩ => show win0_15.index t (0 : Fin 2) * 32 + 1 * (j 0).val = (j 0).val; omega
  | ⟨1, _⟩ => show win0_15.index t (1 : Fin 2) * 1024 + 1 * (j 1).val = (j 1).val; omega
theorem blk15 (c : Dev nD) (t : Fin cfg0.N) : iblk m c 15 t = V m c main_arg15 := by
  funext j; show V m c main_arg15 (((cfg0.win 15).blk t).view.emb j) = V m c main_arg15 j; rw [emb15]

theorem zero16 : ∀ t : Fin cfg0.N, win0_16.index t (0 : Fin 2) = 0 ∧ win0_16.index t (1 : Fin 2) = 0 :=
  (by decide +kernel : ∀ t : Fin grid0.N, _)
theorem emb16 (t : Fin cfg0.N) (j : S32x1024.Idx) : ((cfg0.win 16).blk t).view.emb j = j := by
  obtain ⟨e0, e1⟩ := zero16 t
  funext a; apply Fin.ext
  match a with
  | ⟨0, _⟩ => show win0_16.index t (0 : Fin 2) * 32 + 1 * (j 0).val = (j 0).val; omega
  | ⟨1, _⟩ => show win0_16.index t (1 : Fin 2) * 1024 + 1 * (j 1).val = (j 1).val; omega
theorem blk16 (c : Dev nD) (t : Fin cfg0.N) : iblk m c 16 t = V m c main_arg16 := by
  funext j; show V m c main_arg16 (((cfg0.win 16).blk t).view.emb j) = V m c main_arg16 j; rw [emb16]

theorem zero17 : ∀ t : Fin cfg0.N, win0_17.index t (0 : Fin 2) = 0 ∧ win0_17.index t (1 : Fin 2) = 0 :=
  (by decide +kernel : ∀ t : Fin grid0.N, _)
theorem emb17 (t : Fin cfg0.N) (j : S32x1024.Idx) : ((cfg0.win 17).blk t).view.emb j = j := by
  obtain ⟨e0, e1⟩ := zero17 t
  funext a; apply Fin.ext
  match a with
  | ⟨0, _⟩ => show win0_17.index t (0 : Fin 2) * 32 + 1 * (j 0).val = (j 0).val; omega
  | ⟨1, _⟩ => show win0_17.index t (1 : Fin 2) * 1024 + 1 * (j 1).val = (j 1).val; omega
theorem blk17 (c : Dev nD) (t : Fin cfg0.N) : iblk m c 17 t = V m c main_arg17 := by
  funext j; show V m c main_arg17 (((cfg0.win 17).blk t).view.emb j) = V m c main_arg17 j; rw [emb17]

theorem zero18 : ∀ t : Fin cfg0.N, win0_18.index t (0 : Fin 2) = 0 ∧ win0_18.index t (1 : Fin 2) = 0 :=
  (by decide +kernel : ∀ t : Fin grid0.N, _)
theorem emb18 (t : Fin cfg0.N) (j : S32x1024.Idx) : ((cfg0.win 18).blk t).view.emb j = j := by
  obtain ⟨e0, e1⟩ := zero18 t
  funext a; apply Fin.ext
  match a with
  | ⟨0, _⟩ => show win0_18.index t (0 : Fin 2) * 32 + 1 * (j 0).val = (j 0).val; omega
  | ⟨1, _⟩ => show win0_18.index t (1 : Fin 2) * 1024 + 1 * (j 1).val = (j 1).val; omega
theorem blk18 (c : Dev nD) (t : Fin cfg0.N) : iblk m c 18 t = V m c main_arg18 := by
  funext j; show V m c main_arg18 (((cfg0.win 18).blk t).view.emb j) = V m c main_arg18 j; rw [emb18]

theorem zero19 : ∀ t : Fin cfg0.N, win0_19.index t (0 : Fin 3) = 0 ∧ win0_19.index t (1 : Fin 3) = 0 ∧ win0_19.index t (2 : Fin 3) = 0 :=
  (by decide +kernel : ∀ t : Fin grid0.N, _)
theorem emb19 (t : Fin cfg0.N) (j : S3x32x1024.Idx) : ((cfg0.win 19).blk t).view.emb j = j := by
  obtain ⟨e0, e1, e2⟩ := zero19 t
  funext a; apply Fin.ext
  match a with
  | ⟨0, _⟩ => show win0_19.index t (0 : Fin 3) * 3 + 1 * (j 0).val = (j 0).val; omega
  | ⟨1, _⟩ => show win0_19.index t (1 : Fin 3) * 32 + 1 * (j 1).val = (j 1).val; omega
  | ⟨2, _⟩ => show win0_19.index t (2 : Fin 3) * 1024 + 1 * (j 2).val = (j 2).val; omega
theorem blk19 (c : Dev nD) (t : Fin cfg0.N) : iblk m c 19 t = V m c main_arg19 := by
  funext j; show V m c main_arg19 (((cfg0.win 19).blk t).view.emb j) = V m c main_arg19 j; rw [emb19]

theorem zero20 : ∀ t : Fin cfg0.N, win0_20.index t (0 : Fin 2) = 0 ∧ win0_20.index t (1 : Fin 2) = 0 :=
  (by decide +kernel : ∀ t : Fin grid0.N, _)
theorem emb20 (t : Fin cfg0.N) (j : S32x1024.Idx) : ((cfg0.win 20).blk t).view.emb j = j := by
  obtain ⟨e0, e1⟩ := zero20 t
  funext a; apply Fin.ext
  match a with
  | ⟨0, _⟩ => show win0_20.index t (0 : Fin 2) * 32 + 1 * (j 0).val = (j 0).val; omega
  | ⟨1, _⟩ => show win0_20.index t (1 : Fin 2) * 1024 + 1 * (j 1).val = (j 1).val; omega
theorem blk20 (c : Dev nD) (t : Fin cfg0.N) : iblk m c 20 t = V m c main_arg20 := by
  funext j; show V m c main_arg20 (((cfg0.win 20).blk t).view.emb j) = V m c main_arg20 j; rw [emb20]

theorem zero21 : ∀ t : Fin cfg0.N, win0_21.index t (0 : Fin 2) = 0 ∧ win0_21.index t (1 : Fin 2) = 0 :=
  (by decide +kernel : ∀ t : Fin grid0.N, _)
theorem emb21 (t : Fin cfg0.N) (j : S32x1024.Idx) : ((cfg0.win 21).blk t).view.emb j = j := by
  obtain ⟨e0, e1⟩ := zero21 t
  funext a; apply Fin.ext
  match a with
  | ⟨0, _⟩ => show win0_21.index t (0 : Fin 2) * 32 + 1 * (j 0).val = (j 0).val; omega
  | ⟨1, _⟩ => show win0_21.index t (1 : Fin 2) * 1024 + 1 * (j 1).val = (j 1).val; omega
theorem blk21 (c : Dev nD) (t : Fin cfg0.N) : iblk m c 21 t = V m c main_arg21 := by
  funext j; show V m c main_arg21 (((cfg0.win 21).blk t).view.emb j) = V m c main_arg21 j; rw [emb21]

theorem zero22 : ∀ t : Fin cfg0.N, win0_22.index t (0 : Fin 2) = 0 ∧ win0_22.index t (1 : Fin 2) = 0 :=
  (by decide +kernel : ∀ t : Fin grid0.N, _)
theorem emb22 (t : Fin cfg0.N) (j : S32x1024.Idx) : ((cfg0.win 22).blk t).view.emb j = j := by
  obtain ⟨e0, e1⟩ := zero22 t
  funext a; apply Fin.ext
  match a with
  | ⟨0, _⟩ => show win0_22.index t (0 : Fin 2) * 32 + 1 * (j 0).val = (j 0).val; omega
  | ⟨1, _⟩ => show win0_22.index t (1 : Fin 2) * 1024 + 1 * (j 1).val = (j 1).val; omega
theorem blk22 (c : Dev nD) (t : Fin cfg0.N) : iblk m c 22 t = V m c main_arg22 := by
  funext j; show V m c main_arg22 (((cfg0.win 22).blk t).view.emb j) = V m c main_arg22 j; rw [emb22]

theorem zero23 : ∀ t : Fin cfg0.N, win0_23.index t (0 : Fin 2) = 0 ∧ win0_23.index t (1 : Fin 2) = 0 :=
  (by decide +kernel : ∀ t : Fin grid0.N, _)
theorem emb23 (t : Fin cfg0.N) (j : S32x1024.Idx) : ((cfg0.win 23).blk t).view.emb j = j := by
  obtain ⟨e0, e1⟩ := zero23 t
  funext a; apply Fin.ext
  match a with
  | ⟨0, _⟩ => show win0_23.index t (0 : Fin 2) * 32 + 1 * (j 0).val = (j 0).val; omega
  | ⟨1, _⟩ => show win0_23.index t (1 : Fin 2) * 1024 + 1 * (j 1).val = (j 1).val; omega
theorem blk23 (c : Dev nD) (t : Fin cfg0.N) : iblk m c 23 t = V m c main_arg23 := by
  funext j; show V m c main_arg23 (((cfg0.win 23).blk t).view.emb j) = V m c main_arg23 j; rw [emb23]

theorem zero24 : ∀ t : Fin cfg0.N, win0_24.index t (0 : Fin 3) = 0 ∧ win0_24.index t (1 : Fin 3) = 0 ∧ win0_24.index t (2 : Fin 3) = 0 :=
  (by decide +kernel : ∀ t : Fin grid0.N, _)
theorem emb24 (t : Fin cfg0.N) (j : S3x32x1024.Idx) : ((cfg0.win 24).blk t).view.emb j = j := by
  obtain ⟨e0, e1, e2⟩ := zero24 t
  funext a; apply Fin.ext
  match a with
  | ⟨0, _⟩ => show win0_24.index t (0 : Fin 3) * 3 + 1 * (j 0).val = (j 0).val; omega
  | ⟨1, _⟩ => show win0_24.index t (1 : Fin 3) * 32 + 1 * (j 1).val = (j 1).val; omega
  | ⟨2, _⟩ => show win0_24.index t (2 : Fin 3) * 1024 + 1 * (j 2).val = (j 2).val; omega
theorem blk24 (c : Dev nD) (t : Fin cfg0.N) : iblk m c 24 t = V m c main_arg24 := by
  funext j; show V m c main_arg24 (((cfg0.win 24).blk t).view.emb j) = V m c main_arg24 j; rw [emb24]

theorem zero25 : ∀ t : Fin cfg0.N, win0_25.index t (0 : Fin 2) = 0 ∧ win0_25.index t (1 : Fin 2) = 0 :=
  (by decide +kernel : ∀ t : Fin grid0.N, _)
theorem emb25 (t : Fin cfg0.N) (j : S128x1024.Idx) : ((cfg0.win 25).blk t).view.emb j = j := by
  obtain ⟨e0, e1⟩ := zero25 t
  funext a; apply Fin.ext
  match a with
  | ⟨0, _⟩ => show win0_25.index t (0 : Fin 2) * 128 + 1 * (j 0).val = (j 0).val; omega
  | ⟨1, _⟩ => show win0_25.index t (1 : Fin 2) * 1024 + 1 * (j 1).val = (j 1).val; omega
theorem blk25 (c : Dev nD) (t : Fin cfg0.N) : iblk m c 25 t = V m c main_arg25 := by
  funext j; show V m c main_arg25 (((cfg0.win 25).blk t).view.emb j) = V m c main_arg25 j; rw [emb25]

theorem zero26 : ∀ t : Fin cfg0.N, win0_26.index t (0 : Fin 2) = 0 ∧ win0_26.index t (1 : Fin 2) = 0 :=
  (by decide +kernel : ∀ t : Fin grid0.N, _)
theorem emb26 (t : Fin cfg0.N) (j : S128x1024.Idx) : ((cfg0.win 26).blk t).view.emb j = j := by
  obtain ⟨e0, e1⟩ := zero26 t
  funext a; apply Fin.ext
  match a with
  | ⟨0, _⟩ => show win0_26.index t (0 : Fin 2) * 128 + 1 * (j 0).val = (j 0).val; omega
  | ⟨1, _⟩ => show win0_26.index t (1 : Fin 2) * 1024 + 1 * (j 1).val = (j 1).val; omega
theorem blk26 (c : Dev nD) (t : Fin cfg0.N) : iblk m c 26 t = V m c main_arg26 := by
  funext j; show V m c main_arg26 (((cfg0.win 26).blk t).view.emb j) = V m c main_arg26 j; rw [emb26]

theorem zero27 : ∀ t : Fin cfg0.N, win0_27.index t (0 : Fin 2) = 0 ∧ win0_27.index t (1 : Fin 2) = 0 :=
  (by decide +kernel : ∀ t : Fin grid0.N, _)
theorem emb27 (t : Fin cfg0.N) (j : S128x1024.Idx) : ((cfg0.win 27).blk t).view.emb j = j := by
  obtain ⟨e0, e1⟩ := zero27 t
  funext a; apply Fin.ext
  match a with
  | ⟨0, _⟩ => show win0_27.index t (0 : Fin 2) * 128 + 1 * (j 0).val = (j 0).val; omega
  | ⟨1, _⟩ => show win0_27.index t (1 : Fin 2) * 1024 + 1 * (j 1).val = (j 1).val; omega
theorem blk27 (c : Dev nD) (t : Fin cfg0.N) : iblk m c 27 t = V m c main_arg27 := by
  funext j; show V m c main_arg27 (((cfg0.win 27).blk t).view.emb j) = V m c main_arg27 j; rw [emb27]

theorem zero28 : ∀ t : Fin cfg0.N, win0_28.index t (0 : Fin 2) = 0 ∧ win0_28.index t (1 : Fin 2) = 0 :=
  (by decide +kernel : ∀ t : Fin grid0.N, _)
theorem emb28 (t : Fin cfg0.N) (j : S128x1024.Idx) : ((cfg0.win 28).blk t).view.emb j = j := by
  obtain ⟨e0, e1⟩ := zero28 t
  funext a; apply Fin.ext
  match a with
  | ⟨0, _⟩ => show win0_28.index t (0 : Fin 2) * 128 + 1 * (j 0).val = (j 0).val; omega
  | ⟨1, _⟩ => show win0_28.index t (1 : Fin 2) * 1024 + 1 * (j 1).val = (j 1).val; omega
theorem blk28 (c : Dev nD) (t : Fin cfg0.N) : iblk m c 28 t = V m c main_arg28 := by
  funext j; show V m c main_arg28 (((cfg0.win 28).blk t).view.emb j) = V m c main_arg28 j; rw [emb28]

theorem zero29 : ∀ t : Fin cfg0.N, win0_29.index t (0 : Fin 3) = 0 ∧ win0_29.index t (1 : Fin 3) = 0 ∧ win0_29.index t (2 : Fin 3) = 0 :=
  (by decide +kernel : ∀ t : Fin grid0.N, _)
theorem emb29 (t : Fin cfg0.N) (j : S3x128x1024.Idx) : ((cfg0.win 29).blk t).view.emb j = j := by
  obtain ⟨e0, e1, e2⟩ := zero29 t
  funext a; apply Fin.ext
  match a with
  | ⟨0, _⟩ => show win0_29.index t (0 : Fin 3) * 3 + 1 * (j 0).val = (j 0).val; omega
  | ⟨1, _⟩ => show win0_29.index t (1 : Fin 3) * 128 + 1 * (j 1).val = (j 1).val; omega
  | ⟨2, _⟩ => show win0_29.index t (2 : Fin 3) * 1024 + 1 * (j 2).val = (j 2).val; omega
theorem blk29 (c : Dev nD) (t : Fin cfg0.N) : iblk m c 29 t = V m c main_arg29 := by
  funext j; show V m c main_arg29 (((cfg0.win 29).blk t).view.emb j) = V m c main_arg29 j; rw [emb29]

theorem zero30 : ∀ t : Fin cfg0.N, win0_30.index t (0 : Fin 2) = 0 ∧ win0_30.index t (1 : Fin 2) = 0 :=
  (by decide +kernel : ∀ t : Fin grid0.N, _)
theorem emb30 (t : Fin cfg0.N) (j : S128x1024.Idx) : ((cfg0.win 30).blk t).view.emb j = j := by
  obtain ⟨e0, e1⟩ := zero30 t
  funext a; apply Fin.ext
  match a with
  | ⟨0, _⟩ => show win0_30.index t (0 : Fin 2) * 128 + 1 * (j 0).val = (j 0).val; omega
  | ⟨1, _⟩ => show win0_30.index t (1 : Fin 2) * 1024 + 1 * (j 1).val = (j 1).val; omega
theorem blk30 (c : Dev nD) (t : Fin cfg0.N) : iblk m c 30 t = V m c main_arg30 := by
  funext j; show V m c main_arg30 (((cfg0.win 30).blk t).view.emb j) = V m c main_arg30 j; rw [emb30]

theorem zero31 : ∀ t : Fin cfg0.N, win0_31.index t (0 : Fin 2) = 0 ∧ win0_31.index t (1 : Fin 2) = 0 :=
  (by decide +kernel : ∀ t : Fin grid0.N, _)
theorem emb31 (t : Fin cfg0.N) (j : S128x1024.Idx) : ((cfg0.win 31).blk t).view.emb j = j := by
  obtain ⟨e0, e1⟩ := zero31 t
  funext a; apply Fin.ext
  match a with
  | ⟨0, _⟩ => show win0_31.index t (0 : Fin 2) * 128 + 1 * (j 0).val = (j 0).val; omega
  | ⟨1, _⟩ => show win0_31.index t (1 : Fin 2) * 1024 + 1 * (j 1).val = (j 1).val; omega
theorem blk31 (c : Dev nD) (t : Fin cfg0.N) : iblk m c 31 t = V m c main_arg31 := by
  funext j; show V m c main_arg31 (((cfg0.win 31).blk t).view.emb j) = V m c main_arg31 j; rw [emb31]

theorem zero32 : ∀ t : Fin cfg0.N, win0_32.index t (0 : Fin 2) = 0 ∧ win0_32.index t (1 : Fin 2) = 0 :=
  (by decide +kernel : ∀ t : Fin grid0.N, _)
theorem emb32 (t : Fin cfg0.N) (j : S128x1024.Idx) : ((cfg0.win 32).blk t).view.emb j = j := by
  obtain ⟨e0, e1⟩ := zero32 t
  funext a; apply Fin.ext
  match a with
  | ⟨0, _⟩ => show win0_32.index t (0 : Fin 2) * 128 + 1 * (j 0).val = (j 0).val; omega
  | ⟨1, _⟩ => show win0_32.index t (1 : Fin 2) * 1024 + 1 * (j 1).val = (j 1).val; omega
theorem blk32 (c : Dev nD) (t : Fin cfg0.N) : iblk m c 32 t = V m c main_arg32 := by
  funext j; show V m c main_arg32 (((cfg0.win 32).blk t).view.emb j) = V m c main_arg32 j; rw [emb32]

theorem zero33 : ∀ t : Fin cfg0.N, win0_33.index t (0 : Fin 2) = 0 ∧ win0_33.index t (1 : Fin 2) = 0 :=
  (by decide +kernel : ∀ t : Fin grid0.N, _)
theorem emb33 (t : Fin cfg0.N) (j : S128x1024.Idx) : ((cfg0.win 33).blk t).view.emb j = j := by
  obtain ⟨e0, e1⟩ := zero33 t
  funext a; apply Fin.ext
  match a with
  | ⟨0, _⟩ => show win0_33.index t (0 : Fin 2) * 128 + 1 * (j 0).val = (j 0).val; omega
  | ⟨1, _⟩ => show win0_33.index t (1 : Fin 2) * 1024 + 1 * (j 1).val = (j 1).val; omega
theorem blk33 (c : Dev nD) (t : Fin cfg0.N) : iblk m c 33 t = V m c main_arg33 := by
  funext j; show V m c main_arg33 (((cfg0.win 33).blk t).view.emb j) = V m c main_arg33 j; rw [emb33]

theorem zero34 : ∀ t : Fin cfg0.N, win0_34.index t (0 : Fin 3) = 0 ∧ win0_34.index t (1 : Fin 3) = 0 ∧ win0_34.index t (2 : Fin 3) = 0 :=
  (by decide +kernel : ∀ t : Fin grid0.N, _)
theorem emb34 (t : Fin cfg0.N) (j : S3x128x1024.Idx) : ((cfg0.win 34).blk t).view.emb j = j := by
  obtain ⟨e0, e1, e2⟩ := zero34 t
  funext a; apply Fin.ext
  match a with
  | ⟨0, _⟩ => show win0_34.index t (0 : Fin 3) * 3 + 1 * (j 0).val = (j 0).val; omega
  | ⟨1, _⟩ => show win0_34.index t (1 : Fin 3) * 128 + 1 * (j 1).val = (j 1).val; omega
  | ⟨2, _⟩ => show win0_34.index t (2 : Fin 3) * 1024 + 1 * (j 2).val = (j 2).val; omega
theorem blk34 (c : Dev nD) (t : Fin cfg0.N) : iblk m c 34 t = V m c main_arg34 := by
  funext j; show V m c main_arg34 (((cfg0.win 34).blk t).view.emb j) = V m c main_arg34 j; rw [emb34]

theorem zero35 : ∀ t : Fin cfg0.N, win0_35.index t (0 : Fin 2) = 0 ∧ win0_35.index t (1 : Fin 2) = 0 :=
  (by decide +kernel : ∀ t : Fin grid0.N, _)
theorem emb35 (t : Fin cfg0.N) (j : S128x384.Idx) : ((cfg0.win 35).blk t).view.emb j = j := by
  obtain ⟨e0, e1⟩ := zero35 t
  funext a; apply Fin.ext
  match a with
  | ⟨0, _⟩ => show win0_35.index t (0 : Fin 2) * 128 + 1 * (j 0).val = (j 0).val; omega
  | ⟨1, _⟩ => show win0_35.index t (1 : Fin 2) * 384 + 1 * (j 1).val = (j 1).val; omega

theorem zero36 : ∀ t : Fin cfg0.N, win0_36.index t (0 : Fin 2) = 0 ∧ win0_36.index t (1 : Fin 2) = 0 :=
  (by decide +kernel : ∀ t : Fin grid0.N, _)
theorem emb36 (t : Fin cfg0.N) (j : S128x384.Idx) : ((cfg0.win 36).blk t).view.emb j = j := by
  obtain ⟨e0, e1⟩ := zero36 t
  funext a; apply Fin.ext
  match a with
  | ⟨0, _⟩ => show win0_36.index t (0 : Fin 2) * 128 + 1 * (j 0).val = (j 0).val; omega
  | ⟨1, _⟩ => show win0_36.index t (1 : Fin 2) * 384 + 1 * (j 1).val = (j 1).val; omega

theorem zero37 : ∀ t : Fin cfg0.N, win0_37.index t (0 : Fin 2) = 0 ∧ win0_37.index t (1 : Fin 2) = 0 :=
  (by decide +kernel : ∀ t : Fin grid0.N, _)
theorem emb37 (t : Fin cfg0.N) (j : S128x384.Idx) : ((cfg0.win 37).blk t).view.emb j = j := by
  obtain ⟨e0, e1⟩ := zero37 t
  funext a; apply Fin.ext
  match a with
  | ⟨0, _⟩ => show win0_37.index t (0 : Fin 2) * 128 + 1 * (j 0).val = (j 0).val; omega
  | ⟨1, _⟩ => show win0_37.index t (1 : Fin 2) * 384 + 1 * (j 1).val = (j 1).val; omega

theorem zero38 : ∀ t : Fin cfg0.N, win0_38.index t (0 : Fin 2) = 0 ∧ win0_38.index t (1 : Fin 2) = 0 :=
  (by decide +kernel : ∀ t : Fin grid0.N, _)
theorem emb38 (t : Fin cfg0.N) (j : S128x384.Idx) : ((cfg0.win 38).blk t).view.emb j = j := by
  obtain ⟨e0, e1⟩ := zero38 t
  funext a; apply Fin.ext
  match a with
  | ⟨0, _⟩ => show win0_38.index t (0 : Fin 2) * 128 + 1 * (j 0).val = (j 0).val; omega
  | ⟨1, _⟩ => show win0_38.index t (1 : Fin 2) * 384 + 1 * (j 1).val = (j 1).val; omega

theorem zero39 : ∀ t : Fin cfg0.N, win0_39.index t (0 : Fin 2) = 0 ∧ win0_39.index t (1 : Fin 2) = 0 :=
  (by decide +kernel : ∀ t : Fin grid0.N, _)
theorem emb39 (t : Fin cfg0.N) (j : S384x192.Idx) : ((cfg0.win 39).blk t).view.emb j = j := by
  obtain ⟨e0, e1⟩ := zero39 t
  funext a; apply Fin.ext
  match a with
  | ⟨0, _⟩ => show win0_39.index t (0 : Fin 2) * 384 + 1 * (j 0).val = (j 0).val; omega
  | ⟨1, _⟩ => show win0_39.index t (1 : Fin 2) * 192 + 1 * (j 1).val = (j 1).val; omega

theorem zero40 : ∀ t : Fin cfg0.N, win0_40.index t (0 : Fin 2) = 0 ∧ win0_40.index t (1 : Fin 2) = 0 :=
  (by decide +kernel : ∀ t : Fin grid0.N, _)
theorem emb40 (t : Fin cfg0.N) (j : S384x192.Idx) : ((cfg0.win 40).blk t).view.emb j = j := by
  obtain ⟨e0, e1⟩ := zero40 t
  funext a; apply Fin.ext
  match a with
  | ⟨0, _⟩ => show win0_40.index t (0 : Fin 2) * 384 + 1 * (j 0).val = (j 0).val; omega
  | ⟨1, _⟩ => show win0_40.index t (1 : Fin 2) * 192 + 1 * (j 1).val = (j 1).val; omega

theorem zero41 : ∀ t : Fin cfg0.N, win0_41.index t (0 : Fin 2) = 0 ∧ win0_41.index t (1 : Fin 2) = 0 :=
  (by decide +kernel : ∀ t : Fin grid0.N, _)
theorem emb41 (t : Fin cfg0.N) (j : S384x192.Idx) : ((cfg0.win 41).blk t).view.emb j = j := by
  obtain ⟨e0, e1⟩ := zero41 t
  funext a; apply Fin.ext
  match a with
  | ⟨0, _⟩ => show win0_41.index t (0 : Fin 2) * 384 + 1 * (j 0).val = (j 0).val; omega
  | ⟨1, _⟩ => show win0_41.index t (1 : Fin 2) * 192 + 1 * (j 1).val = (j 1).val; omega

theorem zero42 : ∀ t : Fin cfg0.N, win0_42.index t (0 : Fin 2) = 0 ∧ win0_42.index t (1 : Fin 2) = 0 :=
  (by decide +kernel : ∀ t : Fin grid0.N, _)
theorem emb42 (t : Fin cfg0.N) (j : S384x192.Idx) : ((cfg0.win 42).blk t).view.emb j = j := by
  obtain ⟨e0, e1⟩ := zero42 t
  funext a; apply Fin.ext
  match a with
  | ⟨0, _⟩ => show win0_42.index t (0 : Fin 2) * 384 + 1 * (j 0).val = (j 0).val; omega
  | ⟨1, _⟩ => show win0_42.index t (1 : Fin 2) * 192 + 1 * (j 1).val = (j 1).val; omega

theorem zero43 : ∀ t : Fin cfg0.N, win0_43.index t (0 : Fin 2) = 0 ∧ win0_43.index t (1 : Fin 2) = 0 :=
  (by decide +kernel : ∀ t : Fin grid0.N, _)
theorem emb43 (t : Fin cfg0.N) (j : S128x320.Idx) : ((cfg0.win 43).blk t).view.emb j = j := by
  obtain ⟨e0, e1⟩ := zero43 t
  funext a; apply Fin.ext
  match a with
  | ⟨0, _⟩ => show win0_43.index t (0 : Fin 2) * 128 + 1 * (j 0).val = (j 0).val; omega
  | ⟨1, _⟩ => show win0_43.index t (1 : Fin 2) * 320 + 1 * (j 1).val = (j 1).val; omega

theorem zero44 : ∀ t : Fin cfg0.N, win0_44.index t (0 : Fin 2) = 0 ∧ win0_44.index t (1 : Fin 2) = 0 :=
  (by decide +kernel : ∀ t : Fin grid0.N, _)
theorem emb44 (t : Fin cfg0.N) (j : S128x320.Idx) : ((cfg0.win 44).blk t).view.emb j = j := by
  obtain ⟨e0, e1⟩ := zero44 t
  funext a; apply Fin.ext
  match a with
  | ⟨0, _⟩ => show win0_44.index t (0 : Fin 2) * 128 + 1 * (j 0).val = (j 0).val; omega
  | ⟨1, _⟩ => show win0_44.index t (1 : Fin 2) * 320 + 1 * (j 1).val = (j 1).val; omega

theorem zero45 : ∀ t : Fin cfg0.N, win0_45.index t (0 : Fin 2) = 0 ∧ win0_45.index t (1 : Fin 2) = 0 :=
  (by decide +kernel : ∀ t : Fin grid0.N, _)
theorem emb45 (t : Fin cfg0.N) (j : S128x320.Idx) : ((cfg0.win 45).blk t).view.emb j = j := by
  obtain ⟨e0, e1⟩ := zero45 t
  funext a; apply Fin.ext
  match a with
  | ⟨0, _⟩ => show win0_45.index t (0 : Fin 2) * 128 + 1 * (j 0).val = (j 0).val; omega
  | ⟨1, _⟩ => show win0_45.index t (1 : Fin 2) * 320 + 1 * (j 1).val = (j 1).val; omega

theorem zero46 : ∀ t : Fin cfg0.N, win0_46.index t (0 : Fin 2) = 0 ∧ win0_46.index t (1 : Fin 2) = 0 :=
  (by decide +kernel : ∀ t : Fin grid0.N, _)
theorem emb46 (t : Fin cfg0.N) (j : S128x320.Idx) : ((cfg0.win 46).blk t).view.emb j = j := by
  obtain ⟨e0, e1⟩ := zero46 t
  funext a; apply Fin.ext
  match a with
  | ⟨0, _⟩ => show win0_46.index t (0 : Fin 2) * 128 + 1 * (j 0).val = (j 0).val; omega
  | ⟨1, _⟩ => show win0_46.index t (1 : Fin 2) * 320 + 1 * (j 1).val = (j 1).val; omega

theorem zero47 : ∀ t : Fin cfg0.N, win0_47.index t (0 : Fin 2) = 0 ∧ win0_47.index t (1 : Fin 2) = 0 :=
  (by decide +kernel : ∀ t : Fin grid0.N, _)
theorem emb47 (t : Fin cfg0.N) (j : S32x1024.Idx) : ((cfg0.win 47).blk t).view.emb j = j := by
  obtain ⟨e0, e1⟩ := zero47 t
  funext a; apply Fin.ext
  match a with
  | ⟨0, _⟩ => show win0_47.index t (0 : Fin 2) * 32 + 1 * (j 0).val = (j 0).val; omega
  | ⟨1, _⟩ => show win0_47.index t (1 : Fin 2) * 1024 + 1 * (j 1).val = (j 1).val; omega

theorem zero48 : ∀ t : Fin cfg0.N, win0_48.index t (0 : Fin 2) = 0 ∧ win0_48.index t (1 : Fin 2) = 0 :=
  (by decide +kernel : ∀ t : Fin grid0.N, _)
theorem emb48 (t : Fin cfg0.N) (j : S32x1024.Idx) : ((cfg0.win 48).blk t).view.emb j = j := by
  obtain ⟨e0, e1⟩ := zero48 t
  funext a; apply Fin.ext
  match a with
  | ⟨0, _⟩ => show win0_48.index t (0 : Fin 2) * 32 + 1 * (j 0).val = (j 0).val; omega
  | ⟨1, _⟩ => show win0_48.index t (1 : Fin 2) * 1024 + 1 * (j 1).val = (j 1).val; omega

theorem zero49 : ∀ t : Fin cfg0.N, win0_49.index t (0 : Fin 2) = 0 ∧ win0_49.index t (1 : Fin 2) = 0 :=
  (by decide +kernel : ∀ t : Fin grid0.N, _)
theorem emb49 (t : Fin cfg0.N) (j : S32x1024.Idx) : ((cfg0.win 49).blk t).view.emb j = j := by
  obtain ⟨e0, e1⟩ := zero49 t
  funext a; apply Fin.ext
  match a with
  | ⟨0, _⟩ => show win0_49.index t (0 : Fin 2) * 32 + 1 * (j 0).val = (j 0).val; omega
  | ⟨1, _⟩ => show win0_49.index t (1 : Fin 2) * 1024 + 1 * (j 1).val = (j 1).val; omega

theorem zero50 : ∀ t : Fin cfg0.N, win0_50.index t (0 : Fin 2) = 0 ∧ win0_50.index t (1 : Fin 2) = 0 :=
  (by decide +kernel : ∀ t : Fin grid0.N, _)
theorem emb50 (t : Fin cfg0.N) (j : S32x1024.Idx) : ((cfg0.win 50).blk t).view.emb j = j := by
  obtain ⟨e0, e1⟩ := zero50 t
  funext a; apply Fin.ext
  match a with
  | ⟨0, _⟩ => show win0_50.index t (0 : Fin 2) * 32 + 1 * (j 0).val = (j 0).val; omega
  | ⟨1, _⟩ => show win0_50.index t (1 : Fin 2) * 1024 + 1 * (j 1).val = (j 1).val; omega

theorem zero51 : ∀ t : Fin cfg0.N, win0_51.index t (0 : Fin 2) = 0 ∧ win0_51.index t (1 : Fin 2) = 0 :=
  (by decide +kernel : ∀ t : Fin grid0.N, _)
theorem emb51 (t : Fin cfg0.N) (j : S32x1024.Idx) : ((cfg0.win 51).blk t).view.emb j = j := by
  obtain ⟨e0, e1⟩ := zero51 t
  funext a; apply Fin.ext
  match a with
  | ⟨0, _⟩ => show win0_51.index t (0 : Fin 2) * 32 + 1 * (j 0).val = (j 0).val; omega
  | ⟨1, _⟩ => show win0_51.index t (1 : Fin 2) * 1024 + 1 * (j 1).val = (j 1).val; omega

theorem zero52 : ∀ t : Fin cfg0.N, win0_52.index t (0 : Fin 2) = 0 ∧ win0_52.index t (1 : Fin 2) = 0 :=
  (by decide +kernel : ∀ t : Fin grid0.N, _)
theorem emb52 (t : Fin cfg0.N) (j : S32x1024.Idx) : ((cfg0.win 52).blk t).view.emb j = j := by
  obtain ⟨e0, e1⟩ := zero52 t
  funext a; apply Fin.ext
  match a with
  | ⟨0, _⟩ => show win0_52.index t (0 : Fin 2) * 32 + 1 * (j 0).val = (j 0).val; omega
  | ⟨1, _⟩ => show win0_52.index t (1 : Fin 2) * 1024 + 1 * (j 1).val = (j 1).val; omega

theorem zero53 : ∀ t : Fin cfg0.N, win0_53.index t (0 : Fin 2) = 0 ∧ win0_53.index t (1 : Fin 2) = 0 :=
  (by decide +kernel : ∀ t : Fin grid0.N, _)
theorem emb53 (t : Fin cfg0.N) (j : S32x1024.Idx) : ((cfg0.win 53).blk t).view.emb j = j := by
  obtain ⟨e0, e1⟩ := zero53 t
  funext a; apply Fin.ext
  match a with
  | ⟨0, _⟩ => show win0_53.index t (0 : Fin 2) * 32 + 1 * (j 0).val = (j 0).val; omega
  | ⟨1, _⟩ => show win0_53.index t (1 : Fin 2) * 1024 + 1 * (j 1).val = (j 1).val; omega

theorem zero54 : ∀ t : Fin cfg0.N, win0_54.index t (0 : Fin 2) = 0 ∧ win0_54.index t (1 : Fin 2) = 0 :=
  (by decide +kernel : ∀ t : Fin grid0.N, _)
theorem emb54 (t : Fin cfg0.N) (j : S32x1024.Idx) : ((cfg0.win 54).blk t).view.emb j = j := by
  obtain ⟨e0, e1⟩ := zero54 t
  funext a; apply Fin.ext
  match a with
  | ⟨0, _⟩ => show win0_54.index t (0 : Fin 2) * 32 + 1 * (j 0).val = (j 0).val; omega
  | ⟨1, _⟩ => show win0_54.index t (1 : Fin 2) * 1024 + 1 * (j 1).val = (j 1).val; omega

theorem zero55 : ∀ t : Fin cfg0.N, win0_55.index t (0 : Fin 2) = 0 ∧ win0_55.index t (1 : Fin 2) = 0 :=
  (by decide +kernel : ∀ t : Fin grid0.N, _)
theorem emb55 (t : Fin cfg0.N) (j : S128x1024.Idx) : ((cfg0.win 55).blk t).view.emb j = j := by
  obtain ⟨e0, e1⟩ := zero55 t
  funext a; apply Fin.ext
  match a with
  | ⟨0, _⟩ => show win0_55.index t (0 : Fin 2) * 128 + 1 * (j 0).val = (j 0).val; omega
  | ⟨1, _⟩ => show win0_55.index t (1 : Fin 2) * 1024 + 1 * (j 1).val = (j 1).val; omega

theorem zero56 : ∀ t : Fin cfg0.N, win0_56.index t (0 : Fin 2) = 0 ∧ win0_56.index t (1 : Fin 2) = 0 :=
  (by decide +kernel : ∀ t : Fin grid0.N, _)
theorem emb56 (t : Fin cfg0.N) (j : S128x1024.Idx) : ((cfg0.win 56).blk t).view.emb j = j := by
  obtain ⟨e0, e1⟩ := zero56 t
  funext a; apply Fin.ext
  match a with
  | ⟨0, _⟩ => show win0_56.index t (0 : Fin 2) * 128 + 1 * (j 0).val = (j 0).val; omega
  | ⟨1, _⟩ => show win0_56.index t (1 : Fin 2) * 1024 + 1 * (j 1).val = (j 1).val; omega

theorem zero57 : ∀ t : Fin cfg0.N, win0_57.index t (0 : Fin 2) = 0 ∧ win0_57.index t (1 : Fin 2) = 0 :=
  (by decide +kernel : ∀ t : Fin grid0.N, _)
theorem emb57 (t : Fin cfg0.N) (j : S128x1024.Idx) : ((cfg0.win 57).blk t).view.emb j = j := by
  obtain ⟨e0, e1⟩ := zero57 t
  funext a; apply Fin.ext
  match a with
  | ⟨0, _⟩ => show win0_57.index t (0 : Fin 2) * 128 + 1 * (j 0).val = (j 0).val; omega
  | ⟨1, _⟩ => show win0_57.index t (1 : Fin 2) * 1024 + 1 * (j 1).val = (j 1).val; omega

theorem zero58 : ∀ t : Fin cfg0.N, win0_58.index t (0 : Fin 2) = 0 ∧ win0_58.index t (1 : Fin 2) = 0 :=
  (by decide +kernel : ∀ t : Fin grid0.N, _)
theorem emb58 (t : Fin cfg0.N) (j : S128x1024.Idx) : ((cfg0.win 58).blk t).view.emb j = j := by
  obtain ⟨e0, e1⟩ := zero58 t
  funext a; apply Fin.ext
  match a with
  | ⟨0, _⟩ => show win0_58.index t (0 : Fin 2) * 128 + 1 * (j 0).val = (j 0).val; omega
  | ⟨1, _⟩ => show win0_58.index t (1 : Fin 2) * 1024 + 1 * (j 1).val = (j 1).val; omega

theorem zero59 : ∀ t : Fin cfg0.N, win0_59.index t (0 : Fin 2) = 0 ∧ win0_59.index t (1 : Fin 2) = 0 :=
  (by decide +kernel : ∀ t : Fin grid0.N, _)
theorem emb59 (t : Fin cfg0.N) (j : S128x1024.Idx) : ((cfg0.win 59).blk t).view.emb j = j := by
  obtain ⟨e0, e1⟩ := zero59 t
  funext a; apply Fin.ext
  match a with
  | ⟨0, _⟩ => show win0_59.index t (0 : Fin 2) * 128 + 1 * (j 0).val = (j 0).val; omega
  | ⟨1, _⟩ => show win0_59.index t (1 : Fin 2) * 1024 + 1 * (j 1).val = (j 1).val; omega

theorem zero60 : ∀ t : Fin cfg0.N, win0_60.index t (0 : Fin 2) = 0 ∧ win0_60.index t (1 : Fin 2) = 0 :=
  (by decide +kernel : ∀ t : Fin grid0.N, _)
theorem emb60 (t : Fin cfg0.N) (j : S128x1024.Idx) : ((cfg0.win 60).blk t).view.emb j = j := by
  obtain ⟨e0, e1⟩ := zero60 t
  funext a; apply Fin.ext
  match a with
  | ⟨0, _⟩ => show win0_60.index t (0 : Fin 2) * 128 + 1 * (j 0).val = (j 0).val; omega
  | ⟨1, _⟩ => show win0_60.index t (1 : Fin 2) * 1024 + 1 * (j 1).val = (j 1).val; omega

theorem zero61 : ∀ t : Fin cfg0.N, win0_61.index t (0 : Fin 2) = 0 ∧ win0_61.index t (1 : Fin 2) = 0 :=
  (by decide +kernel : ∀ t : Fin grid0.N, _)
theorem emb61 (t : Fin cfg0.N) (j : S128x1024.Idx) : ((cfg0.win 61).blk t).view.emb j = j := by
  obtain ⟨e0, e1⟩ := zero61 t
  funext a; apply Fin.ext
  match a with
  | ⟨0, _⟩ => show win0_61.index t (0 : Fin 2) * 128 + 1 * (j 0).val = (j 0).val; omega
  | ⟨1, _⟩ => show win0_61.index t (1 : Fin 2) * 1024 + 1 * (j 1).val = (j 1).val; omega

theorem zero62 : ∀ t : Fin cfg0.N, win0_62.index t (0 : Fin 2) = 0 ∧ win0_62.index t (1 : Fin 2) = 0 :=
  (by decide +kernel : ∀ t : Fin grid0.N, _)
theorem emb62 (t : Fin cfg0.N) (j : S128x1024.Idx) : ((cfg0.win 62).blk t).view.emb j = j := by
  obtain ⟨e0, e1⟩ := zero62 t
  funext a; apply Fin.ext
  match a with
  | ⟨0, _⟩ => show win0_62.index t (0 : Fin 2) * 128 + 1 * (j 0).val = (j 0).val; omega
  | ⟨1, _⟩ => show win0_62.index t (1 : Fin 2) * 1024 + 1 * (j 1).val = (j 1).val; omega

/-! ## The outputs -/

theorem fin35 (c : Dev nD) : (dats m 0 c).arrAt 35 cfg0.N = gradA (m ((c : Thread nD τ).loc main_arg3)) (m ((c : Thread nD τ).loc main_arg4)) := by
  refine (dats m 0 c).arrAt_eq_of_cover 35 _ (fun t _ => ?_) fun i => ⟨(⟨0, by decide⟩ : Fin cfg0.N), flush0_35 _, by
    have h := ((cfg0.win 35).blk (⟨0, by decide⟩ : Fin cfg0.N)).view.emb_mem_set i; rwa [emb35] at h⟩
  show (cfg0.win 35).cut (grid0.coords t) ((dats m 0 c).after 35 t) = _
  rw [after_35, blk3, blk4, out35_eq]
  funext j
  show _ = (gradA (m ((c : Thread nD τ).loc main_arg3)) (m ((c : Thread nD τ).loc main_arg4))) (((cfg0.win 35).blk t).view.emb j)
  rw [emb35]

theorem fin36 (c : Dev nD) : (dats m 0 c).arrAt 36 cfg0.N = deltaA (m ((c : Thread nD τ).loc main_arg0)) (m ((c : Thread nD τ).loc main_arg1)) (m ((c : Thread nD τ).loc main_arg2)) (gradA (m ((c : Thread nD τ).loc main_arg3)) (m ((c : Thread nD τ).loc main_arg4))) := by
  refine (dats m 0 c).arrAt_eq_of_cover 36 _ (fun t _ => ?_) fun i => ⟨(⟨0, by decide⟩ : Fin cfg0.N), flush0_36 _, by
    have h := ((cfg0.win 36).blk (⟨0, by decide⟩ : Fin cfg0.N)).view.emb_mem_set i; rwa [emb36] at h⟩
  show (cfg0.win 36).cut (grid0.coords t) ((dats m 0 c).after 36 t) = _
  rw [after_36, blk0, blk1, blk2, blk3, blk4, out36_eq]
  funext j
  show _ = (deltaA (m ((c : Thread nD τ).loc main_arg0)) (m ((c : Thread nD τ).loc main_arg1)) (m ((c : Thread nD τ).loc main_arg2)) (gradA (m ((c : Thread nD τ).loc main_arg3)) (m ((c : Thread nD τ).loc main_arg4)))) (((cfg0.win 36).blk t).view.emb j)
  rw [emb36]

theorem fin37 (c : Dev nD) : (dats m 0 c).arrAt 37 cfg0.N = momA (m ((c : Thread nD τ).loc main_arg1)) (gradA (m ((c : Thread nD τ).loc main_arg3)) (m ((c : Thread nD τ).loc main_arg4))) := by
  refine (dats m 0 c).arrAt_eq_of_cover 37 _ (fun t _ => ?_) fun i => ⟨(⟨0, by decide⟩ : Fin cfg0.N), flush0_37 _, by
    have h := ((cfg0.win 37).blk (⟨0, by decide⟩ : Fin cfg0.N)).view.emb_mem_set i; rwa [emb37] at h⟩
  show (cfg0.win 37).cut (grid0.coords t) ((dats m 0 c).after 37 t) = _
  rw [after_37, blk1, blk3, blk4, out37_eq]
  funext j
  show _ = (momA (m ((c : Thread nD τ).loc main_arg1)) (gradA (m ((c : Thread nD τ).loc main_arg3)) (m ((c : Thread nD τ).loc main_arg4)))) (((cfg0.win 37).blk t).view.emb j)
  rw [emb37]

theorem fin38 (c : Dev nD) : (dats m 0 c).arrAt 38 cfg0.N = velA (m ((c : Thread nD τ).loc main_arg2)) (gradA (m ((c : Thread nD τ).loc main_arg3)) (m ((c : Thread nD τ).loc main_arg4))) := by
  refine (dats m 0 c).arrAt_eq_of_cover 38 _ (fun t _ => ?_) fun i => ⟨(⟨0, by decide⟩ : Fin cfg0.N), flush0_38 _, by
    have h := ((cfg0.win 38).blk (⟨0, by decide⟩ : Fin cfg0.N)).view.emb_mem_set i; rwa [emb38] at h⟩
  show (cfg0.win 38).cut (grid0.coords t) ((dats m 0 c).after 38 t) = _
  rw [after_38, blk2, blk3, blk4, out38_eq]
  funext j
  show _ = (velA (m ((c : Thread nD τ).loc main_arg2)) (gradA (m ((c : Thread nD τ).loc main_arg3)) (m ((c : Thread nD τ).loc main_arg4)))) (((cfg0.win 38).blk t).view.emb j)
  rw [emb38]

theorem fin39 (c : Dev nD) : (dats m 0 c).arrAt 39 cfg0.N = gradA (m ((c : Thread nD τ).loc main_arg8)) (m ((c : Thread nD τ).loc main_arg9)) := by
  refine (dats m 0 c).arrAt_eq_of_cover 39 _ (fun t _ => ?_) fun i => ⟨(⟨0, by decide⟩ : Fin cfg0.N), flush0_39 _, by
    have h := ((cfg0.win 39).blk (⟨0, by decide⟩ : Fin cfg0.N)).view.emb_mem_set i; rwa [emb39] at h⟩
  show (cfg0.win 39).cut (grid0.coords t) ((dats m 0 c).after 39 t) = _
  rw [after_39, blk8, blk9, out39_eq]
  funext j
  show _ = (gradA (m ((c : Thread nD τ).loc main_arg8)) (m ((c : Thread nD τ).loc main_arg9))) (((cfg0.win 39).blk t).view.emb j)
  rw [emb39]

theorem fin40 (c : Dev nD) : (dats m 0 c).arrAt 40 cfg0.N = deltaA (m ((c : Thread nD τ).loc main_arg5)) (m ((c : Thread nD τ).loc main_arg6)) (m ((c : Thread nD τ).loc main_arg7)) (gradA (m ((c : Thread nD τ).loc main_arg8)) (m ((c : Thread nD τ).loc main_arg9))) := by
  refine (dats m 0 c).arrAt_eq_of_cover 40 _ (fun t _ => ?_) fun i => ⟨(⟨0, by decide⟩ : Fin cfg0.N), flush0_40 _, by
    have h := ((cfg0.win 40).blk (⟨0, by decide⟩ : Fin cfg0.N)).view.emb_mem_set i; rwa [emb40] at h⟩
  show (cfg0.win 40).cut (grid0.coords t) ((dats m 0 c).after 40 t) = _
  rw [after_40, blk5, blk6, blk7, blk8, blk9, out40_eq]
  funext j
  show _ = (deltaA (m ((c : Thread nD τ).loc main_arg5)) (m ((c : Thread nD τ).loc main_arg6)) (m ((c : Thread nD τ).loc main_arg7)) (gradA (m ((c : Thread nD τ).loc main_arg8)) (m ((c : Thread nD τ).loc main_arg9)))) (((cfg0.win 40).blk t).view.emb j)
  rw [emb40]

theorem fin41 (c : Dev nD) : (dats m 0 c).arrAt 41 cfg0.N = momA (m ((c : Thread nD τ).loc main_arg6)) (gradA (m ((c : Thread nD τ).loc main_arg8)) (m ((c : Thread nD τ).loc main_arg9))) := by
  refine (dats m 0 c).arrAt_eq_of_cover 41 _ (fun t _ => ?_) fun i => ⟨(⟨0, by decide⟩ : Fin cfg0.N), flush0_41 _, by
    have h := ((cfg0.win 41).blk (⟨0, by decide⟩ : Fin cfg0.N)).view.emb_mem_set i; rwa [emb41] at h⟩
  show (cfg0.win 41).cut (grid0.coords t) ((dats m 0 c).after 41 t) = _
  rw [after_41, blk6, blk8, blk9, out41_eq]
  funext j
  show _ = (momA (m ((c : Thread nD τ).loc main_arg6)) (gradA (m ((c : Thread nD τ).loc main_arg8)) (m ((c : Thread nD τ).loc main_arg9)))) (((cfg0.win 41).blk t).view.emb j)
  rw [emb41]

theorem fin42 (c : Dev nD) : (dats m 0 c).arrAt 42 cfg0.N = velA (m ((c : Thread nD τ).loc main_arg7)) (gradA (m ((c : Thread nD τ).loc main_arg8)) (m ((c : Thread nD τ).loc main_arg9))) := by
  refine (dats m 0 c).arrAt_eq_of_cover 42 _ (fun t _ => ?_) fun i => ⟨(⟨0, by decide⟩ : Fin cfg0.N), flush0_42 _, by
    have h := ((cfg0.win 42).blk (⟨0, by decide⟩ : Fin cfg0.N)).view.emb_mem_set i; rwa [emb42] at h⟩
  show (cfg0.win 42).cut (grid0.coords t) ((dats m 0 c).after 42 t) = _
  rw [after_42, blk7, blk8, blk9, out42_eq]
  funext j
  show _ = (velA (m ((c : Thread nD τ).loc main_arg7)) (gradA (m ((c : Thread nD τ).loc main_arg8)) (m ((c : Thread nD τ).loc main_arg9)))) (((cfg0.win 42).blk t).view.emb j)
  rw [emb42]

theorem fin43 (c : Dev nD) : (dats m 0 c).arrAt 43 cfg0.N = gradA (m ((c : Thread nD τ).loc main_arg13)) (m ((c : Thread nD τ).loc main_arg14)) := by
  refine (dats m 0 c).arrAt_eq_of_cover 43 _ (fun t _ => ?_) fun i => ⟨(⟨0, by decide⟩ : Fin cfg0.N), flush0_43 _, by
    have h := ((cfg0.win 43).blk (⟨0, by decide⟩ : Fin cfg0.N)).view.emb_mem_set i; rwa [emb43] at h⟩
  show (cfg0.win 43).cut (grid0.coords t) ((dats m 0 c).after 43 t) = _
  rw [after_43, blk13, blk14, out43_eq]
  funext j
  show _ = (gradA (m ((c : Thread nD τ).loc main_arg13)) (m ((c : Thread nD τ).loc main_arg14))) (((cfg0.win 43).blk t).view.emb j)
  rw [emb43]

theorem fin44 (c : Dev nD) : (dats m 0 c).arrAt 44 cfg0.N = deltaA (m ((c : Thread nD τ).loc main_arg10)) (m ((c : Thread nD τ).loc main_arg11)) (m ((c : Thread nD τ).loc main_arg12)) (gradA (m ((c : Thread nD τ).loc main_arg13)) (m ((c : Thread nD τ).loc main_arg14))) := by
  refine (dats m 0 c).arrAt_eq_of_cover 44 _ (fun t _ => ?_) fun i => ⟨(⟨0, by decide⟩ : Fin cfg0.N), flush0_44 _, by
    have h := ((cfg0.win 44).blk (⟨0, by decide⟩ : Fin cfg0.N)).view.emb_mem_set i; rwa [emb44] at h⟩
  show (cfg0.win 44).cut (grid0.coords t) ((dats m 0 c).after 44 t) = _
  rw [after_44, blk10, blk11, blk12, blk13, blk14, out44_eq]
  funext j
  show _ = (deltaA (m ((c : Thread nD τ).loc main_arg10)) (m ((c : Thread nD τ).loc main_arg11)) (m ((c : Thread nD τ).loc main_arg12)) (gradA (m ((c : Thread nD τ).loc main_arg13)) (m ((c : Thread nD τ).loc main_arg14)))) (((cfg0.win 44).blk t).view.emb j)
  rw [emb44]

theorem fin45 (c : Dev nD) : (dats m 0 c).arrAt 45 cfg0.N = momA (m ((c : Thread nD τ).loc main_arg11)) (gradA (m ((c : Thread nD τ).loc main_arg13)) (m ((c : Thread nD τ).loc main_arg14))) := by
  refine (dats m 0 c).arrAt_eq_of_cover 45 _ (fun t _ => ?_) fun i => ⟨(⟨0, by decide⟩ : Fin cfg0.N), flush0_45 _, by
    have h := ((cfg0.win 45).blk (⟨0, by decide⟩ : Fin cfg0.N)).view.emb_mem_set i; rwa [emb45] at h⟩
  show (cfg0.win 45).cut (grid0.coords t) ((dats m 0 c).after 45 t) = _
  rw [after_45, blk11, blk13, blk14, out45_eq]
  funext j
  show _ = (momA (m ((c : Thread nD τ).loc main_arg11)) (gradA (m ((c : Thread nD τ).loc main_arg13)) (m ((c : Thread nD τ).loc main_arg14)))) (((cfg0.win 45).blk t).view.emb j)
  rw [emb45]

theorem fin46 (c : Dev nD) : (dats m 0 c).arrAt 46 cfg0.N = velA (m ((c : Thread nD τ).loc main_arg12)) (gradA (m ((c : Thread nD τ).loc main_arg13)) (m ((c : Thread nD τ).loc main_arg14))) := by
  refine (dats m 0 c).arrAt_eq_of_cover 46 _ (fun t _ => ?_) fun i => ⟨(⟨0, by decide⟩ : Fin cfg0.N), flush0_46 _, by
    have h := ((cfg0.win 46).blk (⟨0, by decide⟩ : Fin cfg0.N)).view.emb_mem_set i; rwa [emb46] at h⟩
  show (cfg0.win 46).cut (grid0.coords t) ((dats m 0 c).after 46 t) = _
  rw [after_46, blk12, blk13, blk14, out46_eq]
  funext j
  show _ = (velA (m ((c : Thread nD τ).loc main_arg12)) (gradA (m ((c : Thread nD τ).loc main_arg13)) (m ((c : Thread nD τ).loc main_arg14)))) (((cfg0.win 46).blk t).view.emb j)
  rw [emb46]

theorem fin47 (c : Dev nD) : (dats m 0 c).arrAt 47 cfg0.N = gradA (m ((c : Thread nD τ).loc main_arg18)) (m ((c : Thread nD τ).loc main_arg19)) := by
  refine (dats m 0 c).arrAt_eq_of_cover 47 _ (fun t _ => ?_) fun i => ⟨(⟨0, by decide⟩ : Fin cfg0.N), flush0_47 _, by
    have h := ((cfg0.win 47).blk (⟨0, by decide⟩ : Fin cfg0.N)).view.emb_mem_set i; rwa [emb47] at h⟩
  show (cfg0.win 47).cut (grid0.coords t) ((dats m 0 c).after 47 t) = _
  rw [after_47, blk18, blk19, out47_eq]
  funext j
  show _ = (gradA (m ((c : Thread nD τ).loc main_arg18)) (m ((c : Thread nD τ).loc main_arg19))) (((cfg0.win 47).blk t).view.emb j)
  rw [emb47]

theorem fin48 (c : Dev nD) : (dats m 0 c).arrAt 48 cfg0.N = deltaA (m ((c : Thread nD τ).loc main_arg15)) (m ((c : Thread nD τ).loc main_arg16)) (m ((c : Thread nD τ).loc main_arg17)) (gradA (m ((c : Thread nD τ).loc main_arg18)) (m ((c : Thread nD τ).loc main_arg19))) := by
  refine (dats m 0 c).arrAt_eq_of_cover 48 _ (fun t _ => ?_) fun i => ⟨(⟨0, by decide⟩ : Fin cfg0.N), flush0_48 _, by
    have h := ((cfg0.win 48).blk (⟨0, by decide⟩ : Fin cfg0.N)).view.emb_mem_set i; rwa [emb48] at h⟩
  show (cfg0.win 48).cut (grid0.coords t) ((dats m 0 c).after 48 t) = _
  rw [after_48, blk15, blk16, blk17, blk18, blk19, out48_eq]
  funext j
  show _ = (deltaA (m ((c : Thread nD τ).loc main_arg15)) (m ((c : Thread nD τ).loc main_arg16)) (m ((c : Thread nD τ).loc main_arg17)) (gradA (m ((c : Thread nD τ).loc main_arg18)) (m ((c : Thread nD τ).loc main_arg19)))) (((cfg0.win 48).blk t).view.emb j)
  rw [emb48]

theorem fin49 (c : Dev nD) : (dats m 0 c).arrAt 49 cfg0.N = momA (m ((c : Thread nD τ).loc main_arg16)) (gradA (m ((c : Thread nD τ).loc main_arg18)) (m ((c : Thread nD τ).loc main_arg19))) := by
  refine (dats m 0 c).arrAt_eq_of_cover 49 _ (fun t _ => ?_) fun i => ⟨(⟨0, by decide⟩ : Fin cfg0.N), flush0_49 _, by
    have h := ((cfg0.win 49).blk (⟨0, by decide⟩ : Fin cfg0.N)).view.emb_mem_set i; rwa [emb49] at h⟩
  show (cfg0.win 49).cut (grid0.coords t) ((dats m 0 c).after 49 t) = _
  rw [after_49, blk16, blk18, blk19, out49_eq]
  funext j
  show _ = (momA (m ((c : Thread nD τ).loc main_arg16)) (gradA (m ((c : Thread nD τ).loc main_arg18)) (m ((c : Thread nD τ).loc main_arg19)))) (((cfg0.win 49).blk t).view.emb j)
  rw [emb49]

theorem fin50 (c : Dev nD) : (dats m 0 c).arrAt 50 cfg0.N = velA (m ((c : Thread nD τ).loc main_arg17)) (gradA (m ((c : Thread nD τ).loc main_arg18)) (m ((c : Thread nD τ).loc main_arg19))) := by
  refine (dats m 0 c).arrAt_eq_of_cover 50 _ (fun t _ => ?_) fun i => ⟨(⟨0, by decide⟩ : Fin cfg0.N), flush0_50 _, by
    have h := ((cfg0.win 50).blk (⟨0, by decide⟩ : Fin cfg0.N)).view.emb_mem_set i; rwa [emb50] at h⟩
  show (cfg0.win 50).cut (grid0.coords t) ((dats m 0 c).after 50 t) = _
  rw [after_50, blk17, blk18, blk19, out50_eq]
  funext j
  show _ = (velA (m ((c : Thread nD τ).loc main_arg17)) (gradA (m ((c : Thread nD τ).loc main_arg18)) (m ((c : Thread nD τ).loc main_arg19)))) (((cfg0.win 50).blk t).view.emb j)
  rw [emb50]

theorem fin51 (c : Dev nD) : (dats m 0 c).arrAt 51 cfg0.N = gradA (m ((c : Thread nD τ).loc main_arg23)) (m ((c : Thread nD τ).loc main_arg24)) := by
  refine (dats m 0 c).arrAt_eq_of_cover 51 _ (fun t _ => ?_) fun i => ⟨(⟨0, by decide⟩ : Fin cfg0.N), flush0_51 _, by
    have h := ((cfg0.win 51).blk (⟨0, by decide⟩ : Fin cfg0.N)).view.emb_mem_set i; rwa [emb51] at h⟩
  show (cfg0.win 51).cut (grid0.coords t) ((dats m 0 c).after 51 t) = _
  rw [after_51, blk23, blk24, out51_eq]
  funext j
  show _ = (gradA (m ((c : Thread nD τ).loc main_arg23)) (m ((c : Thread nD τ).loc main_arg24))) (((cfg0.win 51).blk t).view.emb j)
  rw [emb51]

theorem fin52 (c : Dev nD) : (dats m 0 c).arrAt 52 cfg0.N = deltaA (m ((c : Thread nD τ).loc main_arg20)) (m ((c : Thread nD τ).loc main_arg21)) (m ((c : Thread nD τ).loc main_arg22)) (gradA (m ((c : Thread nD τ).loc main_arg23)) (m ((c : Thread nD τ).loc main_arg24))) := by
  refine (dats m 0 c).arrAt_eq_of_cover 52 _ (fun t _ => ?_) fun i => ⟨(⟨0, by decide⟩ : Fin cfg0.N), flush0_52 _, by
    have h := ((cfg0.win 52).blk (⟨0, by decide⟩ : Fin cfg0.N)).view.emb_mem_set i; rwa [emb52] at h⟩
  show (cfg0.win 52).cut (grid0.coords t) ((dats m 0 c).after 52 t) = _
  rw [after_52, blk20, blk21, blk22, blk23, blk24, out52_eq]
  funext j
  show _ = (deltaA (m ((c : Thread nD τ).loc main_arg20)) (m ((c : Thread nD τ).loc main_arg21)) (m ((c : Thread nD τ).loc main_arg22)) (gradA (m ((c : Thread nD τ).loc main_arg23)) (m ((c : Thread nD τ).loc main_arg24)))) (((cfg0.win 52).blk t).view.emb j)
  rw [emb52]

theorem fin53 (c : Dev nD) : (dats m 0 c).arrAt 53 cfg0.N = momA (m ((c : Thread nD τ).loc main_arg21)) (gradA (m ((c : Thread nD τ).loc main_arg23)) (m ((c : Thread nD τ).loc main_arg24))) := by
  refine (dats m 0 c).arrAt_eq_of_cover 53 _ (fun t _ => ?_) fun i => ⟨(⟨0, by decide⟩ : Fin cfg0.N), flush0_53 _, by
    have h := ((cfg0.win 53).blk (⟨0, by decide⟩ : Fin cfg0.N)).view.emb_mem_set i; rwa [emb53] at h⟩
  show (cfg0.win 53).cut (grid0.coords t) ((dats m 0 c).after 53 t) = _
  rw [after_53, blk21, blk23, blk24, out53_eq]
  funext j
  show _ = (momA (m ((c : Thread nD τ).loc main_arg21)) (gradA (m ((c : Thread nD τ).loc main_arg23)) (m ((c : Thread nD τ).loc main_arg24)))) (((cfg0.win 53).blk t).view.emb j)
  rw [emb53]

theorem fin54 (c : Dev nD) : (dats m 0 c).arrAt 54 cfg0.N = velA (m ((c : Thread nD τ).loc main_arg22)) (gradA (m ((c : Thread nD τ).loc main_arg23)) (m ((c : Thread nD τ).loc main_arg24))) := by
  refine (dats m 0 c).arrAt_eq_of_cover 54 _ (fun t _ => ?_) fun i => ⟨(⟨0, by decide⟩ : Fin cfg0.N), flush0_54 _, by
    have h := ((cfg0.win 54).blk (⟨0, by decide⟩ : Fin cfg0.N)).view.emb_mem_set i; rwa [emb54] at h⟩
  show (cfg0.win 54).cut (grid0.coords t) ((dats m 0 c).after 54 t) = _
  rw [after_54, blk22, blk23, blk24, out54_eq]
  funext j
  show _ = (velA (m ((c : Thread nD τ).loc main_arg22)) (gradA (m ((c : Thread nD τ).loc main_arg23)) (m ((c : Thread nD τ).loc main_arg24)))) (((cfg0.win 54).blk t).view.emb j)
  rw [emb54]

theorem fin55 (c : Dev nD) : (dats m 0 c).arrAt 55 cfg0.N = gradA (m ((c : Thread nD τ).loc main_arg28)) (m ((c : Thread nD τ).loc main_arg29)) := by
  refine (dats m 0 c).arrAt_eq_of_cover 55 _ (fun t _ => ?_) fun i => ⟨(⟨0, by decide⟩ : Fin cfg0.N), flush0_55 _, by
    have h := ((cfg0.win 55).blk (⟨0, by decide⟩ : Fin cfg0.N)).view.emb_mem_set i; rwa [emb55] at h⟩
  show (cfg0.win 55).cut (grid0.coords t) ((dats m 0 c).after 55 t) = _
  rw [after_55, blk28, blk29, out55_eq]
  funext j
  show _ = (gradA (m ((c : Thread nD τ).loc main_arg28)) (m ((c : Thread nD τ).loc main_arg29))) (((cfg0.win 55).blk t).view.emb j)
  rw [emb55]

theorem fin56 (c : Dev nD) : (dats m 0 c).arrAt 56 cfg0.N = deltaA (m ((c : Thread nD τ).loc main_arg25)) (m ((c : Thread nD τ).loc main_arg26)) (m ((c : Thread nD τ).loc main_arg27)) (gradA (m ((c : Thread nD τ).loc main_arg28)) (m ((c : Thread nD τ).loc main_arg29))) := by
  refine (dats m 0 c).arrAt_eq_of_cover 56 _ (fun t _ => ?_) fun i => ⟨(⟨0, by decide⟩ : Fin cfg0.N), flush0_56 _, by
    have h := ((cfg0.win 56).blk (⟨0, by decide⟩ : Fin cfg0.N)).view.emb_mem_set i; rwa [emb56] at h⟩
  show (cfg0.win 56).cut (grid0.coords t) ((dats m 0 c).after 56 t) = _
  rw [after_56, blk25, blk26, blk27, blk28, blk29, out56_eq]
  funext j
  show _ = (deltaA (m ((c : Thread nD τ).loc main_arg25)) (m ((c : Thread nD τ).loc main_arg26)) (m ((c : Thread nD τ).loc main_arg27)) (gradA (m ((c : Thread nD τ).loc main_arg28)) (m ((c : Thread nD τ).loc main_arg29)))) (((cfg0.win 56).blk t).view.emb j)
  rw [emb56]

theorem fin57 (c : Dev nD) : (dats m 0 c).arrAt 57 cfg0.N = momA (m ((c : Thread nD τ).loc main_arg26)) (gradA (m ((c : Thread nD τ).loc main_arg28)) (m ((c : Thread nD τ).loc main_arg29))) := by
  refine (dats m 0 c).arrAt_eq_of_cover 57 _ (fun t _ => ?_) fun i => ⟨(⟨0, by decide⟩ : Fin cfg0.N), flush0_57 _, by
    have h := ((cfg0.win 57).blk (⟨0, by decide⟩ : Fin cfg0.N)).view.emb_mem_set i; rwa [emb57] at h⟩
  show (cfg0.win 57).cut (grid0.coords t) ((dats m 0 c).after 57 t) = _
  rw [after_57, blk26, blk28, blk29, out57_eq]
  funext j
  show _ = (momA (m ((c : Thread nD τ).loc main_arg26)) (gradA (m ((c : Thread nD τ).loc main_arg28)) (m ((c : Thread nD τ).loc main_arg29)))) (((cfg0.win 57).blk t).view.emb j)
  rw [emb57]

theorem fin58 (c : Dev nD) : (dats m 0 c).arrAt 58 cfg0.N = velA (m ((c : Thread nD τ).loc main_arg27)) (gradA (m ((c : Thread nD τ).loc main_arg28)) (m ((c : Thread nD τ).loc main_arg29))) := by
  refine (dats m 0 c).arrAt_eq_of_cover 58 _ (fun t _ => ?_) fun i => ⟨(⟨0, by decide⟩ : Fin cfg0.N), flush0_58 _, by
    have h := ((cfg0.win 58).blk (⟨0, by decide⟩ : Fin cfg0.N)).view.emb_mem_set i; rwa [emb58] at h⟩
  show (cfg0.win 58).cut (grid0.coords t) ((dats m 0 c).after 58 t) = _
  rw [after_58, blk27, blk28, blk29, out58_eq]
  funext j
  show _ = (velA (m ((c : Thread nD τ).loc main_arg27)) (gradA (m ((c : Thread nD τ).loc main_arg28)) (m ((c : Thread nD τ).loc main_arg29)))) (((cfg0.win 58).blk t).view.emb j)
  rw [emb58]

theorem fin59 (c : Dev nD) : (dats m 0 c).arrAt 59 cfg0.N = gradA (m ((c : Thread nD τ).loc main_arg33)) (m ((c : Thread nD τ).loc main_arg34)) := by
  refine (dats m 0 c).arrAt_eq_of_cover 59 _ (fun t _ => ?_) fun i => ⟨(⟨0, by decide⟩ : Fin cfg0.N), flush0_59 _, by
    have h := ((cfg0.win 59).blk (⟨0, by decide⟩ : Fin cfg0.N)).view.emb_mem_set i; rwa [emb59] at h⟩
  show (cfg0.win 59).cut (grid0.coords t) ((dats m 0 c).after 59 t) = _
  rw [after_59, blk33, blk34, out59_eq]
  funext j
  show _ = (gradA (m ((c : Thread nD τ).loc main_arg33)) (m ((c : Thread nD τ).loc main_arg34))) (((cfg0.win 59).blk t).view.emb j)
  rw [emb59]

theorem fin60 (c : Dev nD) : (dats m 0 c).arrAt 60 cfg0.N = deltaA (m ((c : Thread nD τ).loc main_arg30)) (m ((c : Thread nD τ).loc main_arg31)) (m ((c : Thread nD τ).loc main_arg32)) (gradA (m ((c : Thread nD τ).loc main_arg33)) (m ((c : Thread nD τ).loc main_arg34))) := by
  refine (dats m 0 c).arrAt_eq_of_cover 60 _ (fun t _ => ?_) fun i => ⟨(⟨0, by decide⟩ : Fin cfg0.N), flush0_60 _, by
    have h := ((cfg0.win 60).blk (⟨0, by decide⟩ : Fin cfg0.N)).view.emb_mem_set i; rwa [emb60] at h⟩
  show (cfg0.win 60).cut (grid0.coords t) ((dats m 0 c).after 60 t) = _
  rw [after_60, blk30, blk31, blk32, blk33, blk34, out60_eq]
  funext j
  show _ = (deltaA (m ((c : Thread nD τ).loc main_arg30)) (m ((c : Thread nD τ).loc main_arg31)) (m ((c : Thread nD τ).loc main_arg32)) (gradA (m ((c : Thread nD τ).loc main_arg33)) (m ((c : Thread nD τ).loc main_arg34)))) (((cfg0.win 60).blk t).view.emb j)
  rw [emb60]

theorem fin61 (c : Dev nD) : (dats m 0 c).arrAt 61 cfg0.N = momA (m ((c : Thread nD τ).loc main_arg31)) (gradA (m ((c : Thread nD τ).loc main_arg33)) (m ((c : Thread nD τ).loc main_arg34))) := by
  refine (dats m 0 c).arrAt_eq_of_cover 61 _ (fun t _ => ?_) fun i => ⟨(⟨0, by decide⟩ : Fin cfg0.N), flush0_61 _, by
    have h := ((cfg0.win 61).blk (⟨0, by decide⟩ : Fin cfg0.N)).view.emb_mem_set i; rwa [emb61] at h⟩
  show (cfg0.win 61).cut (grid0.coords t) ((dats m 0 c).after 61 t) = _
  rw [after_61, blk31, blk33, blk34, out61_eq]
  funext j
  show _ = (momA (m ((c : Thread nD τ).loc main_arg31)) (gradA (m ((c : Thread nD τ).loc main_arg33)) (m ((c : Thread nD τ).loc main_arg34)))) (((cfg0.win 61).blk t).view.emb j)
  rw [emb61]

theorem fin62 (c : Dev nD) : (dats m 0 c).arrAt 62 cfg0.N = velA (m ((c : Thread nD τ).loc main_arg32)) (gradA (m ((c : Thread nD τ).loc main_arg33)) (m ((c : Thread nD τ).loc main_arg34))) := by
  refine (dats m 0 c).arrAt_eq_of_cover 62 _ (fun t _ => ?_) fun i => ⟨(⟨0, by decide⟩ : Fin cfg0.N), flush0_62 _, by
    have h := ((cfg0.win 62).blk (⟨0, by decide⟩ : Fin cfg0.N)).view.emb_mem_set i; rwa [emb62] at h⟩
  show (cfg0.win 62).cut (grid0.coords t) ((dats m 0 c).after 62 t) = _
  rw [after_62, blk32, blk33, blk34, out62_eq]
  funext j
  show _ = (velA (m ((c : Thread nD τ).loc main_arg32)) (gradA (m ((c : Thread nD τ).loc main_arg33)) (m ((c : Thread nD τ).loc main_arg34)))) (((cfg0.win 62).blk t).view.emb j)
  rw [emb62]

/-! ## The run -/

section
variable (r : PUnit × MemSt nD τ sig (Elt Ideal)) (h : Pipeline.FramePost cfgs (dats m) 0 (V m) r) (c : Dev nD)
include h

theorem end0 : r.2.mem ((c.tc : Thread nD τ).loc main_v0_0) = gradA (m ((c.tc : Thread nD τ).loc main_arg3)) (m ((c.tc : Thread nD τ).loc main_arg4)) :=
  ((h c).1 35).trans (fin35 m c)

theorem end1 : r.2.mem ((c.tc : Thread nD τ).loc main_v0_1) = deltaA (m ((c.tc : Thread nD τ).loc main_arg0)) (m ((c.tc : Thread nD τ).loc main_arg1)) (m ((c.tc : Thread nD τ).loc main_arg2)) (gradA (m ((c.tc : Thread nD τ).loc main_arg3)) (m ((c.tc : Thread nD τ).loc main_arg4))) :=
  ((h c).1 36).trans (fin36 m c)

theorem end2 : r.2.mem ((c.tc : Thread nD τ).loc main_v0_2) = momA (m ((c.tc : Thread nD τ).loc main_arg1)) (gradA (m ((c.tc : Thread nD τ).loc main_arg3)) (m ((c.tc : Thread nD τ).loc main_arg4))) :=
  ((h c).1 37).trans (fin37 m c)

theorem end3 : r.2.mem ((c.tc : Thread nD τ).loc main_v0_3) = velA (m ((c.tc : Thread nD τ).loc main_arg2)) (gradA (m ((c.tc : Thread nD τ).loc main_arg3)) (m ((c.tc : Thread nD τ).loc main_arg4))) :=
  ((h c).1 38).trans (fin38 m c)

theorem end4 : r.2.mem ((c.tc : Thread nD τ).loc main_v0_4) = gradA (m ((c.tc : Thread nD τ).loc main_arg8)) (m ((c.tc : Thread nD τ).loc main_arg9)) :=
  ((h c).1 39).trans (fin39 m c)

theorem end5 : r.2.mem ((c.tc : Thread nD τ).loc main_v0_5) = deltaA (m ((c.tc : Thread nD τ).loc main_arg5)) (m ((c.tc : Thread nD τ).loc main_arg6)) (m ((c.tc : Thread nD τ).loc main_arg7)) (gradA (m ((c.tc : Thread nD τ).loc main_arg8)) (m ((c.tc : Thread nD τ).loc main_arg9))) :=
  ((h c).1 40).trans (fin40 m c)

theorem end6 : r.2.mem ((c.tc : Thread nD τ).loc main_v0_6) = momA (m ((c.tc : Thread nD τ).loc main_arg6)) (gradA (m ((c.tc : Thread nD τ).loc main_arg8)) (m ((c.tc : Thread nD τ).loc main_arg9))) :=
  ((h c).1 41).trans (fin41 m c)

theorem end7 : r.2.mem ((c.tc : Thread nD τ).loc main_v0_7) = velA (m ((c.tc : Thread nD τ).loc main_arg7)) (gradA (m ((c.tc : Thread nD τ).loc main_arg8)) (m ((c.tc : Thread nD τ).loc main_arg9))) :=
  ((h c).1 42).trans (fin42 m c)

theorem end8 : r.2.mem ((c.tc : Thread nD τ).loc main_v0_8) = gradA (m ((c.tc : Thread nD τ).loc main_arg13)) (m ((c.tc : Thread nD τ).loc main_arg14)) :=
  ((h c).1 43).trans (fin43 m c)

theorem end9 : r.2.mem ((c.tc : Thread nD τ).loc main_v0_9) = deltaA (m ((c.tc : Thread nD τ).loc main_arg10)) (m ((c.tc : Thread nD τ).loc main_arg11)) (m ((c.tc : Thread nD τ).loc main_arg12)) (gradA (m ((c.tc : Thread nD τ).loc main_arg13)) (m ((c.tc : Thread nD τ).loc main_arg14))) :=
  ((h c).1 44).trans (fin44 m c)

theorem end10 : r.2.mem ((c.tc : Thread nD τ).loc main_v0_10) = momA (m ((c.tc : Thread nD τ).loc main_arg11)) (gradA (m ((c.tc : Thread nD τ).loc main_arg13)) (m ((c.tc : Thread nD τ).loc main_arg14))) :=
  ((h c).1 45).trans (fin45 m c)

theorem end11 : r.2.mem ((c.tc : Thread nD τ).loc main_v0_11) = velA (m ((c.tc : Thread nD τ).loc main_arg12)) (gradA (m ((c.tc : Thread nD τ).loc main_arg13)) (m ((c.tc : Thread nD τ).loc main_arg14))) :=
  ((h c).1 46).trans (fin46 m c)

theorem end12 : r.2.mem ((c.tc : Thread nD τ).loc main_v0_12) = gradA (m ((c.tc : Thread nD τ).loc main_arg18)) (m ((c.tc : Thread nD τ).loc main_arg19)) :=
  ((h c).1 47).trans (fin47 m c)

theorem end13 : r.2.mem ((c.tc : Thread nD τ).loc main_v0_13) = deltaA (m ((c.tc : Thread nD τ).loc main_arg15)) (m ((c.tc : Thread nD τ).loc main_arg16)) (m ((c.tc : Thread nD τ).loc main_arg17)) (gradA (m ((c.tc : Thread nD τ).loc main_arg18)) (m ((c.tc : Thread nD τ).loc main_arg19))) :=
  ((h c).1 48).trans (fin48 m c)

theorem end14 : r.2.mem ((c.tc : Thread nD τ).loc main_v0_14) = momA (m ((c.tc : Thread nD τ).loc main_arg16)) (gradA (m ((c.tc : Thread nD τ).loc main_arg18)) (m ((c.tc : Thread nD τ).loc main_arg19))) :=
  ((h c).1 49).trans (fin49 m c)

theorem end15 : r.2.mem ((c.tc : Thread nD τ).loc main_v0_15) = velA (m ((c.tc : Thread nD τ).loc main_arg17)) (gradA (m ((c.tc : Thread nD τ).loc main_arg18)) (m ((c.tc : Thread nD τ).loc main_arg19))) :=
  ((h c).1 50).trans (fin50 m c)

theorem end16 : r.2.mem ((c.tc : Thread nD τ).loc main_v0_16) = gradA (m ((c.tc : Thread nD τ).loc main_arg23)) (m ((c.tc : Thread nD τ).loc main_arg24)) :=
  ((h c).1 51).trans (fin51 m c)

theorem end17 : r.2.mem ((c.tc : Thread nD τ).loc main_v0_17) = deltaA (m ((c.tc : Thread nD τ).loc main_arg20)) (m ((c.tc : Thread nD τ).loc main_arg21)) (m ((c.tc : Thread nD τ).loc main_arg22)) (gradA (m ((c.tc : Thread nD τ).loc main_arg23)) (m ((c.tc : Thread nD τ).loc main_arg24))) :=
  ((h c).1 52).trans (fin52 m c)

theorem end18 : r.2.mem ((c.tc : Thread nD τ).loc main_v0_18) = momA (m ((c.tc : Thread nD τ).loc main_arg21)) (gradA (m ((c.tc : Thread nD τ).loc main_arg23)) (m ((c.tc : Thread nD τ).loc main_arg24))) :=
  ((h c).1 53).trans (fin53 m c)

theorem end19 : r.2.mem ((c.tc : Thread nD τ).loc main_v0_19) = velA (m ((c.tc : Thread nD τ).loc main_arg22)) (gradA (m ((c.tc : Thread nD τ).loc main_arg23)) (m ((c.tc : Thread nD τ).loc main_arg24))) :=
  ((h c).1 54).trans (fin54 m c)

theorem end20 : r.2.mem ((c.tc : Thread nD τ).loc main_v0_20) = gradA (m ((c.tc : Thread nD τ).loc main_arg28)) (m ((c.tc : Thread nD τ).loc main_arg29)) :=
  ((h c).1 55).trans (fin55 m c)

theorem end21 : r.2.mem ((c.tc : Thread nD τ).loc main_v0_21) = deltaA (m ((c.tc : Thread nD τ).loc main_arg25)) (m ((c.tc : Thread nD τ).loc main_arg26)) (m ((c.tc : Thread nD τ).loc main_arg27)) (gradA (m ((c.tc : Thread nD τ).loc main_arg28)) (m ((c.tc : Thread nD τ).loc main_arg29))) :=
  ((h c).1 56).trans (fin56 m c)

theorem end22 : r.2.mem ((c.tc : Thread nD τ).loc main_v0_22) = momA (m ((c.tc : Thread nD τ).loc main_arg26)) (gradA (m ((c.tc : Thread nD τ).loc main_arg28)) (m ((c.tc : Thread nD τ).loc main_arg29))) :=
  ((h c).1 57).trans (fin57 m c)

theorem end23 : r.2.mem ((c.tc : Thread nD τ).loc main_v0_23) = velA (m ((c.tc : Thread nD τ).loc main_arg27)) (gradA (m ((c.tc : Thread nD τ).loc main_arg28)) (m ((c.tc : Thread nD τ).loc main_arg29))) :=
  ((h c).1 58).trans (fin58 m c)

theorem end24 : r.2.mem ((c.tc : Thread nD τ).loc main_v0_24) = gradA (m ((c.tc : Thread nD τ).loc main_arg33)) (m ((c.tc : Thread nD τ).loc main_arg34)) :=
  ((h c).1 59).trans (fin59 m c)

theorem end25 : r.2.mem ((c.tc : Thread nD τ).loc main_v0_25) = deltaA (m ((c.tc : Thread nD τ).loc main_arg30)) (m ((c.tc : Thread nD τ).loc main_arg31)) (m ((c.tc : Thread nD τ).loc main_arg32)) (gradA (m ((c.tc : Thread nD τ).loc main_arg33)) (m ((c.tc : Thread nD τ).loc main_arg34))) :=
  ((h c).1 60).trans (fin60 m c)

theorem end26 : r.2.mem ((c.tc : Thread nD τ).loc main_v0_26) = momA (m ((c.tc : Thread nD τ).loc main_arg31)) (gradA (m ((c.tc : Thread nD τ).loc main_arg33)) (m ((c.tc : Thread nD τ).loc main_arg34))) :=
  ((h c).1 61).trans (fin61 m c)

theorem end27 : r.2.mem ((c.tc : Thread nD τ).loc main_v0_27) = velA (m ((c.tc : Thread nD τ).loc main_arg32)) (gradA (m ((c.tc : Thread nD τ).loc main_arg33)) (m ((c.tc : Thread nD τ).loc main_arg34))) :=
  ((h c).1 62).trans (fin62 m c)

end

/-- What the kernel leaves: the seven weights' gradients, steps and moments, and its arguments as they were. -/
theorem run : θ_run defs (onTc (τ := τ) (main (F := Ideal))) ⟨m, fun _ => 0, ρ⟩ (fun r => ∀ c : Dev nD,
      r.2.mem ((c.tc : Thread nD τ).loc main_v0_0) = gradA (m ((c.tc : Thread nD τ).loc main_arg3)) (m ((c.tc : Thread nD τ).loc main_arg4))
      ∧ r.2.mem ((c.tc : Thread nD τ).loc main_v0_1) = deltaA (m ((c.tc : Thread nD τ).loc main_arg0)) (m ((c.tc : Thread nD τ).loc main_arg1)) (m ((c.tc : Thread nD τ).loc main_arg2)) (gradA (m ((c.tc : Thread nD τ).loc main_arg3)) (m ((c.tc : Thread nD τ).loc main_arg4)))
      ∧ r.2.mem ((c.tc : Thread nD τ).loc main_v0_2) = momA (m ((c.tc : Thread nD τ).loc main_arg1)) (gradA (m ((c.tc : Thread nD τ).loc main_arg3)) (m ((c.tc : Thread nD τ).loc main_arg4)))
      ∧ r.2.mem ((c.tc : Thread nD τ).loc main_v0_3) = velA (m ((c.tc : Thread nD τ).loc main_arg2)) (gradA (m ((c.tc : Thread nD τ).loc main_arg3)) (m ((c.tc : Thread nD τ).loc main_arg4)))
      ∧ r.2.mem ((c.tc : Thread nD τ).loc main_v0_4) = gradA (m ((c.tc : Thread nD τ).loc main_arg8)) (m ((c.tc : Thread nD τ).loc main_arg9))
      ∧ r.2.mem ((c.tc : Thread nD τ).loc main_v0_5) = deltaA (m ((c.tc : Thread nD τ).loc main_arg5)) (m ((c.tc : Thread nD τ).loc main_arg6)) (m ((c.tc : Thread nD τ).loc main_arg7)) (gradA (m ((c.tc : Thread nD τ).loc main_arg8)) (m ((c.tc : Thread nD τ).loc main_arg9)))
      ∧ r.2.mem ((c.tc : Thread nD τ).loc main_v0_6) = momA (m ((c.tc : Thread nD τ).loc main_arg6)) (gradA (m ((c.tc : Thread nD τ).loc main_arg8)) (m ((c.tc : Thread nD τ).loc main_arg9)))
      ∧ r.2.mem ((c.tc : Thread nD τ).loc main_v0_7) = velA (m ((c.tc : Thread nD τ).loc main_arg7)) (gradA (m ((c.tc : Thread nD τ).loc main_arg8)) (m ((c.tc : Thread nD τ).loc main_arg9)))
      ∧ r.2.mem ((c.tc : Thread nD τ).loc main_v0_8) = gradA (m ((c.tc : Thread nD τ).loc main_arg13)) (m ((c.tc : Thread nD τ).loc main_arg14))
      ∧ r.2.mem ((c.tc : Thread nD τ).loc main_v0_9) = deltaA (m ((c.tc : Thread nD τ).loc main_arg10)) (m ((c.tc : Thread nD τ).loc main_arg11)) (m ((c.tc : Thread nD τ).loc main_arg12)) (gradA (m ((c.tc : Thread nD τ).loc main_arg13)) (m ((c.tc : Thread nD τ).loc main_arg14)))
      ∧ r.2.mem ((c.tc : Thread nD τ).loc main_v0_10) = momA (m ((c.tc : Thread nD τ).loc main_arg11)) (gradA (m ((c.tc : Thread nD τ).loc main_arg13)) (m ((c.tc : Thread nD τ).loc main_arg14)))
      ∧ r.2.mem ((c.tc : Thread nD τ).loc main_v0_11) = velA (m ((c.tc : Thread nD τ).loc main_arg12)) (gradA (m ((c.tc : Thread nD τ).loc main_arg13)) (m ((c.tc : Thread nD τ).loc main_arg14)))
      ∧ r.2.mem ((c.tc : Thread nD τ).loc main_v0_12) = gradA (m ((c.tc : Thread nD τ).loc main_arg18)) (m ((c.tc : Thread nD τ).loc main_arg19))
      ∧ r.2.mem ((c.tc : Thread nD τ).loc main_v0_13) = deltaA (m ((c.tc : Thread nD τ).loc main_arg15)) (m ((c.tc : Thread nD τ).loc main_arg16)) (m ((c.tc : Thread nD τ).loc main_arg17)) (gradA (m ((c.tc : Thread nD τ).loc main_arg18)) (m ((c.tc : Thread nD τ).loc main_arg19)))
      ∧ r.2.mem ((c.tc : Thread nD τ).loc main_v0_14) = momA (m ((c.tc : Thread nD τ).loc main_arg16)) (gradA (m ((c.tc : Thread nD τ).loc main_arg18)) (m ((c.tc : Thread nD τ).loc main_arg19)))
      ∧ r.2.mem ((c.tc : Thread nD τ).loc main_v0_15) = velA (m ((c.tc : Thread nD τ).loc main_arg17)) (gradA (m ((c.tc : Thread nD τ).loc main_arg18)) (m ((c.tc : Thread nD τ).loc main_arg19)))
      ∧ r.2.mem ((c.tc : Thread nD τ).loc main_v0_16) = gradA (m ((c.tc : Thread nD τ).loc main_arg23)) (m ((c.tc : Thread nD τ).loc main_arg24))
      ∧ r.2.mem ((c.tc : Thread nD τ).loc main_v0_17) = deltaA (m ((c.tc : Thread nD τ).loc main_arg20)) (m ((c.tc : Thread nD τ).loc main_arg21)) (m ((c.tc : Thread nD τ).loc main_arg22)) (gradA (m ((c.tc : Thread nD τ).loc main_arg23)) (m ((c.tc : Thread nD τ).loc main_arg24)))
      ∧ r.2.mem ((c.tc : Thread nD τ).loc main_v0_18) = momA (m ((c.tc : Thread nD τ).loc main_arg21)) (gradA (m ((c.tc : Thread nD τ).loc main_arg23)) (m ((c.tc : Thread nD τ).loc main_arg24)))
      ∧ r.2.mem ((c.tc : Thread nD τ).loc main_v0_19) = velA (m ((c.tc : Thread nD τ).loc main_arg22)) (gradA (m ((c.tc : Thread nD τ).loc main_arg23)) (m ((c.tc : Thread nD τ).loc main_arg24)))
      ∧ r.2.mem ((c.tc : Thread nD τ).loc main_v0_20) = gradA (m ((c.tc : Thread nD τ).loc main_arg28)) (m ((c.tc : Thread nD τ).loc main_arg29))
      ∧ r.2.mem ((c.tc : Thread nD τ).loc main_v0_21) = deltaA (m ((c.tc : Thread nD τ).loc main_arg25)) (m ((c.tc : Thread nD τ).loc main_arg26)) (m ((c.tc : Thread nD τ).loc main_arg27)) (gradA (m ((c.tc : Thread nD τ).loc main_arg28)) (m ((c.tc : Thread nD τ).loc main_arg29)))
      ∧ r.2.mem ((c.tc : Thread nD τ).loc main_v0_22) = momA (m ((c.tc : Thread nD τ).loc main_arg26)) (gradA (m ((c.tc : Thread nD τ).loc main_arg28)) (m ((c.tc : Thread nD τ).loc main_arg29)))
      ∧ r.2.mem ((c.tc : Thread nD τ).loc main_v0_23) = velA (m ((c.tc : Thread nD τ).loc main_arg27)) (gradA (m ((c.tc : Thread nD τ).loc main_arg28)) (m ((c.tc : Thread nD τ).loc main_arg29)))
      ∧ r.2.mem ((c.tc : Thread nD τ).loc main_v0_24) = gradA (m ((c.tc : Thread nD τ).loc main_arg33)) (m ((c.tc : Thread nD τ).loc main_arg34))
      ∧ r.2.mem ((c.tc : Thread nD τ).loc main_v0_25) = deltaA (m ((c.tc : Thread nD τ).loc main_arg30)) (m ((c.tc : Thread nD τ).loc main_arg31)) (m ((c.tc : Thread nD τ).loc main_arg32)) (gradA (m ((c.tc : Thread nD τ).loc main_arg33)) (m ((c.tc : Thread nD τ).loc main_arg34)))
      ∧ r.2.mem ((c.tc : Thread nD τ).loc main_v0_26) = momA (m ((c.tc : Thread nD τ).loc main_arg31)) (gradA (m ((c.tc : Thread nD τ).loc main_arg33)) (m ((c.tc : Thread nD τ).loc main_arg34)))
      ∧ r.2.mem ((c.tc : Thread nD τ).loc main_v0_27) = velA (m ((c.tc : Thread nD τ).loc main_arg32)) (gradA (m ((c.tc : Thread nD τ).loc main_arg33)) (m ((c.tc : Thread nD τ).loc main_arg34)))
      ∧ Kept m r c) :=
  (θ_run defs _ _).mono (fun r h c => ⟨end0 m r h.1 c, end1 m r h.1 c, end2 m r h.1 c, end3 m r h.1 c, end4 m r h.1 c, end5 m r h.1 c, end6 m r h.1 c, end7 m r h.1 c, end8 m r h.1 c, end9 m r h.1 c, end10 m r h.1 c, end11 m r h.1 c, end12 m r h.1 c, end13 m r h.1 c, end14 m r h.1 c, end15 m r h.1 c, end16 m r h.1 c, end17 m r h.1 c, end18 m r h.1 c, end19 m r h.1 c, end20 m r h.1 c, end21 m r h.1 c, end22 m r h.1 c, end23 m r h.1 c, end24 m r h.1 c, end25 m r h.1 c, end26 m r h.1 c, end27 m r h.1 c,
    kept_all m r h.1 c⟩) (run_main_quiescent m ρ)

end Cert.Adam1Arrays
-- ==== Proof.Adam1Claim.lean ====
/-
  THE GROUPED ADAMW KERNEL'S CLAIMS that are not generated: the reference's frame, from its generated run, and the value claim, from
  the kernel's run (Adam1Arrays.lean), the reference's run and AdamW's terms on the host (AdamMath.lean).
-/
module

public import proofs.«01_k».proof.Defs
public import proofs.«01_k».proof.Proof.Adam1Arrays
public import proofs.«01_k».proof.Proof.AdamHost
public import proofs.«01_k».proof.Proof.Gen.Adam1RefIdeal.Run
public import Idealize.ShloMosaic.Lib.Quiescent

@[expose] public section

set_option maxRecDepth 16384

noncomputable section

namespace Cert.Adam1Claim

open Idealize.ShloMosaic Idealize.ShloMosaic.StableHlo Idealize.SL.Sem Cert.AdamMath

section Gradients
open Cert.Adam1RefIdeal Cert.Adam1RefIdeal.Gen Cert.Adam1RefIdeal.Value

variable (m : (ℓ : Loc nD τ sig) → Buf (Elt Ideal) ℓ) (c : Dev nD)

theorem g0 : res_main_v2 (launchContents m c) = gradA (m ((c.tc : Thread nD τ).loc main_arg3)) (m ((c.tc : Thread nD τ).loc main_arg4)) := by
  unfold res_main_v2
  exact grad_host _ _ _ _ (by decide) _

theorem g1 : res_main_v29 (launchContents m c) = gradA (m ((c.tc : Thread nD τ).loc main_arg8)) (m ((c.tc : Thread nD τ).loc main_arg9)) := by
  unfold res_main_v29
  exact grad_host _ _ _ _ (by decide) _

theorem g2 : res_main_v56 (launchContents m c) = gradA (m ((c.tc : Thread nD τ).loc main_arg13)) (m ((c.tc : Thread nD τ).loc main_arg14)) := by
  unfold res_main_v56
  exact grad_host _ _ _ _ (by decide) _

theorem g3 : res_main_v83 (launchContents m c) = gradA (m ((c.tc : Thread nD τ).loc main_arg18)) (m ((c.tc : Thread nD τ).loc main_arg19)) := by
  unfold res_main_v83
  exact grad_host _ _ _ _ (by decide) _

theorem g4 : res_main_v110 (launchContents m c) = gradA (m ((c.tc : Thread nD τ).loc main_arg23)) (m ((c.tc : Thread nD τ).loc main_arg24)) := by
  unfold res_main_v110
  exact grad_host _ _ _ _ (by decide) _

theorem g5 : res_main_v137 (launchContents m c) = gradA (m ((c.tc : Thread nD τ).loc main_arg28)) (m ((c.tc : Thread nD τ).loc main_arg29)) := by
  unfold res_main_v137
  exact grad_host _ _ _ _ (by decide) _

theorem g6 : res_main_v164 (launchContents m c) = gradA (m ((c.tc : Thread nD τ).loc main_arg33)) (m ((c.tc : Thread nD τ).loc main_arg34)) := by
  unfold res_main_v164
  exact grad_host _ _ _ _ (by decide) _

end Gradients

theorem ref_frame : Cert.quiescent_Adam1RefIdeal (hAdam1RefIdeal := Cert.Adam1RefIdeal.Gen.facts) := fun m ρ _ =>
  (θ_run Cert.Adam1RefIdeal.defs _ _).mono (fun r h =>
    ⟨fun c => (h c).2.2.2.2.2.2.2.2.2.2.2.2.2.2.2.2.2.2.2.2.2.2.2.2.2.2.2.2, Idealize.ShloMosaic.sem_eq_zero_of_no_sems (by decide) r.2⟩)
    (Cert.Adam1RefIdeal.Value.run (F := Ideal) m ρ)

theorem value : Cert.algebraic_Adam1Ideal_Adam1RefIdeal (hAdam1Ideal := Cert.Adam1Ideal.Gen.facts)
    (hAdam1RefIdeal := Cert.Adam1RefIdeal.Gen.facts) := by
  intro m g m' g' _ hag
  refine ⟨_, _, _, _, _, _, _, _, _, _, _, _, _, _, _, _, _, _, _, _, _, _, _, _, _, _, _, _,
    Cert.Adam1Arrays.run m g,
    (θ_run Cert.Adam1RefIdeal.defs _ _).mono (fun r h c => ?_) (Cert.Adam1RefIdeal.Value.run (F := Ideal) m' g')⟩
  obtain ⟨e0, e1, e2, e3, e4, e5, e6, e7, e8, e9, e10, e11, e12, e13, e14, e15, e16, e17, e18, e19, e20, e21, e22, e23, e24, e25, e26, e27, e28, e29, e30, e31, e32, e33, e34⟩ := hag c
  obtain ⟨h0, h1, h2, h3, h4, h5, h6, h7, h8, h9, h10, h11, h12, h13, h14, h15, h16, h17, h18, h19, h20, h21, h22, h23, h24, h25, h26, h27, hargs⟩ := h c
  have G0 := (g0 m' c).trans (congrArg₂ gradA e3 e4)
  have G1 := (g1 m' c).trans (congrArg₂ gradA e8 e9)
  have G2 := (g2 m' c).trans (congrArg₂ gradA e13 e14)
  have G3 := (g3 m' c).trans (congrArg₂ gradA e18 e19)
  have G4 := (g4 m' c).trans (congrArg₂ gradA e23 e24)
  have G5 := (g5 m' c).trans (congrArg₂ gradA e28 e29)
  have G6 := (g6 m' c).trans (congrArg₂ gradA e33 e34)
  exact ⟨h0.trans G0,
    step_of _ h1 e0 e1 e2 G0,
    mom_of _ h2 e1 G0,
    vel_of _ h3 e2 G0,
    h4.trans G1,
    step_of _ h5 e5 e6 e7 G1,
    mom_of _ h6 e6 G1,
    vel_of _ h7 e7 G1,
    h8.trans G2,
    step_of _ h9 e10 e11 e12 G2,
    mom_of _ h10 e11 G2,
    vel_of _ h11 e12 G2,
    h12.trans G3,
    step_of _ h13 e15 e16 e17 G3,
    mom_of _ h14 e16 G3,
    vel_of _ h15 e17 G3,
    h16.trans G4,
    step_of _ h17 e20 e21 e22 G4,
    mom_of _ h18 e21 G4,
    vel_of _ h19 e22 G4,
    h20.trans G5,
    step_of _ h21 e25 e26 e27 G5,
    mom_of _ h22 e26 G5,
    vel_of _ h23 e27 G5,
    h24.trans G6,
    step_of _ h25 e30 e31 e32 G6,
    mom_of _ h26 e31 G6,
    vel_of _ h27 e32 G6, hargs⟩

end Cert.Adam1Claim

end
-- ==== Proof.SmallMath.lean ====
/-
  THIRTEEN SMALL WEIGHTS IN ONE ARRAY. Each is flattened, padded with zeroes to whole rows of 128 and stood on the rows of the one
  before; the update runs on the one array, and each result is cut back out of it. Here: what is put in comes back out, and AdamW,
  which works entry by entry, commutes with the cutting.
-/
module

public import proofs.«01_k».proof.Proof.AdamMath

@[expose] public section

set_option maxRecDepth 16384

noncomputable section

namespace Cert.SmallMath

open Idealize.ShloMosaic Cert.AdamMath

/-- An array of `n` entries in a row. -/
abbrev Row (n : Nat) : Shape := ⟨1, ![n]⟩
/-- An array of `r` rows of 128. -/
abbrev Sq (r : Nat) : Shape := ⟨2, ![r, 128]⟩

section One

variable {s : Shape} {n t r hi : Nat} (x : Vec Ideal s .f32)
    (h1 : s.ShapeCasts (Row n)) (hp : (Row n).Pads ![0] ![hi] ![0] (Row t)) (h2 : (Row t).ShapeCasts (Sq r))

/-- A weight flattened and padded to `r` rows of 128. -/
def seg : Vec Ideal (Sq r) .f32 :=
  shapeCast (Sq r) (pad (Row t) ![0] ![hi] ![0] (shapeCast (Row n) x h1) (sitofp (F := Ideal) .f32 (constantI S0 32 0#32)) hp (by decide)) h2

theorem cut_pad (z : S0.Idx → EReal) (y : (Row n).Idx → EReal) (hu : 0 < S0.numel) (hs : (Row t).Slices ![0] (Row n)) :
    extractStridedSlice (Row n) ![0] (pad (Row t) ![0] ![hi] ![0] y z hp hu) hs = y := by
  funext j
  refine pad_apply_of_inside _ _ _ y z hp hu _ j fun a => ?_
  match a with
  | ⟨0, _⟩ => show 0 + (j 0).val = 0 + (j 0).val * (0 + 1); omega

/-- Cut out of its rows again, it is the weight. -/
theorem unseg (h3 : (Sq r).ShapeCasts (Row t)) (hs : (Row t).Slices ![0] (Row n)) (h5 : (Row n).ShapeCasts s) :
    shapeCast s (extractStridedSlice (Row n) ![0] (shapeCast (Row t) (seg x h1 hp h2) h3) hs) h5 = x := by
  unfold seg
  rw [shapeCast_shapeCast, cut_pad, shapeCast_shapeCast]

/-- The same where the weight fills its rows. -/
theorem unseg_full (hp : (Row n).Pads ![0] ![0] ![0] (Row n)) (h2 : (Row n).ShapeCasts (Sq r)) (h3 : (Sq r).ShapeCasts (Row n))
    (h5 : (Row n).ShapeCasts s) : shapeCast s (shapeCast (Row n) (seg x h1 hp h2) h3) h5 = x := by
  unfold seg
  have e : pad (Row n) ![0] ![0] ![0] (shapeCast (Row n) x h1) (sitofp (F := Ideal) .f32 (constantI S0 32 0#32)) hp (by decide) = shapeCast (Row n) x h1 := by
    funext j
    refine pad_apply_of_inside _ _ _ _ _ hp _ _ j fun a => ?_
    match a with
    | ⟨0, _⟩ => show (j 0).val = 0 + (j 0).val * (0 + 1); omega
  rw [shapeCast_shapeCast, e, shapeCast_shapeCast]

end One

/-- Rows `pre` to `pre + r` of a stack are the piece that begins there. -/
theorem piece {N : Nat} (xs : List ((s : Shape) × (s.Idx → EReal))) (h : Shape.Concatenates (xs.map (·.1)) (Sq N) 0) (k : Nat)
    (hk : k < xs.length) {r : Nat} (x : (Sq r).Idx → EReal) (hx : xs[k] = ⟨Sq r, x⟩) (pre : Nat)
    (hpre : (((xs.take k).map (·.1)).map fun s => if h : s.rank = (Sq N).rank then s.size ((0 : Fin 2).cast h.symm) else 0).sum = pre)
    (hs : (Sq N).Slices ![pre, 0] (Sq r)) :
    extractStridedSlice (Sq r) ![pre, 0] (concatenate (Sq N) 0 xs h) hs = x := by
  funext j
  refine concatenate_apply_piece 0 xs h _ k hk (Sq r) x hx rfl pre hpre j (fun b hb => ?_) rfl
  match b with
  | ⟨0, _⟩ => exact absurd rfl hb
  | ⟨1, _⟩ => show (j 1).val = 0 + (j 1).val; omega

section Thirteen

variable (a0 : Vec Ideal (Sq 8) .f32) (a1 : Vec Ideal (Sq 8) .f32) (a2 : Vec Ideal (Sq 8) .f32) (a3 : Vec Ideal (Sq 8) .f32) (a4 : Vec Ideal (Sq 32) .f32) (a5 : Vec Ideal (Sq 8) .f32) (a6 : Vec Ideal (Sq 8) .f32) (a7 : Vec Ideal (Sq 8) .f32) (a8 : Vec Ideal (Sq 8) .f32) (a9 : Vec Ideal (Sq 32) .f32) (a10 : Vec Ideal (Sq 32) .f32) (a11 : Vec Ideal (Sq 32) .f32) (a12 : Vec Ideal (Sq 32) .f32)

/-- The thirteen, one under the other. -/
def packed : Vec Ideal (Sq 224) .f32 :=
  concatenate (Sq 224) 0 [⟨Sq 8, a0⟩, ⟨Sq 8, a1⟩, ⟨Sq 8, a2⟩, ⟨Sq 8, a3⟩, ⟨Sq 32, a4⟩, ⟨Sq 8, a5⟩, ⟨Sq 8, a6⟩, ⟨Sq 8, a7⟩, ⟨Sq 8, a8⟩, ⟨Sq 32, a9⟩, ⟨Sq 32, a10⟩, ⟨Sq 32, a11⟩, ⟨Sq 32, a12⟩] (show Shape.Concatenates [Sq 8, Sq 8, Sq 8, Sq 8, Sq 32, Sq 8, Sq 8, Sq 8, Sq 8, Sq 32, Sq 32, Sq 32, Sq 32] (Sq 224) 0 by decide)

theorem piece0 (hs : (Sq 224).Slices ![0, 0] (Sq 8)) :
    extractStridedSlice (Sq 8) ![0, 0] (packed a0 a1 a2 a3 a4 a5 a6 a7 a8 a9 a10 a11 a12) hs = a0 :=
  piece _ _ 0 (by exact (show 0 < 13 by omega)) a0 (by rfl) 0 (by rfl) hs

theorem piece1 (hs : (Sq 224).Slices ![8, 0] (Sq 8)) :
    extractStridedSlice (Sq 8) ![8, 0] (packed a0 a1 a2 a3 a4 a5 a6 a7 a8 a9 a10 a11 a12) hs = a1 :=
  piece _ _ 1 (by exact (show 1 < 13 by omega)) a1 (by rfl) 8 (by rfl) hs

theorem piece2 (hs : (Sq 224).Slices ![16, 0] (Sq 8)) :
    extractStridedSlice (Sq 8) ![16, 0] (packed a0 a1 a2 a3 a4 a5 a6 a7 a8 a9 a10 a11 a12) hs = a2 :=
  piece _ _ 2 (by exact (show 2 < 13 by omega)) a2 (by rfl) 16 (by rfl) hs

theorem piece3 (hs : (Sq 224).Slices ![24, 0] (Sq 8)) :
    extractStridedSlice (Sq 8) ![24, 0] (packed a0 a1 a2 a3 a4 a5 a6 a7 a8 a9 a10 a11 a12) hs = a3 :=
  piece _ _ 3 (by exact (show 3 < 13 by omega)) a3 (by rfl) 24 (by rfl) hs

theorem piece4 (hs : (Sq 224).Slices ![32, 0] (Sq 32)) :
    extractStridedSlice (Sq 32) ![32, 0] (packed a0 a1 a2 a3 a4 a5 a6 a7 a8 a9 a10 a11 a12) hs = a4 :=
  piece _ _ 4 (by exact (show 4 < 13 by omega)) a4 (by rfl) 32 (by rfl) hs

theorem piece5 (hs : (Sq 224).Slices ![64, 0] (Sq 8)) :
    extractStridedSlice (Sq 8) ![64, 0] (packed a0 a1 a2 a3 a4 a5 a6 a7 a8 a9 a10 a11 a12) hs = a5 :=
  piece _ _ 5 (by exact (show 5 < 13 by omega)) a5 (by rfl) 64 (by rfl) hs

theorem piece6 (hs : (Sq 224).Slices ![72, 0] (Sq 8)) :
    extractStridedSlice (Sq 8) ![72, 0] (packed a0 a1 a2 a3 a4 a5 a6 a7 a8 a9 a10 a11 a12) hs = a6 :=
  piece _ _ 6 (by exact (show 6 < 13 by omega)) a6 (by rfl) 72 (by rfl) hs

theorem piece7 (hs : (Sq 224).Slices ![80, 0] (Sq 8)) :
    extractStridedSlice (Sq 8) ![80, 0] (packed a0 a1 a2 a3 a4 a5 a6 a7 a8 a9 a10 a11 a12) hs = a7 :=
  piece _ _ 7 (by exact (show 7 < 13 by omega)) a7 (by rfl) 80 (by rfl) hs

theorem piece8 (hs : (Sq 224).Slices ![88, 0] (Sq 8)) :
    extractStridedSlice (Sq 8) ![88, 0] (packed a0 a1 a2 a3 a4 a5 a6 a7 a8 a9 a10 a11 a12) hs = a8 :=
  piece _ _ 8 (by exact (show 8 < 13 by omega)) a8 (by rfl) 88 (by rfl) hs

theorem piece9 (hs : (Sq 224).Slices ![96, 0] (Sq 32)) :
    extractStridedSlice (Sq 32) ![96, 0] (packed a0 a1 a2 a3 a4 a5 a6 a7 a8 a9 a10 a11 a12) hs = a9 :=
  piece _ _ 9 (by exact (show 9 < 13 by omega)) a9 (by rfl) 96 (by rfl) hs

theorem piece10 (hs : (Sq 224).Slices ![128, 0] (Sq 32)) :
    extractStridedSlice (Sq 32) ![128, 0] (packed a0 a1 a2 a3 a4 a5 a6 a7 a8 a9 a10 a11 a12) hs = a10 :=
  piece _ _ 10 (by exact (show 10 < 13 by omega)) a10 (by rfl) 128 (by rfl) hs

theorem piece11 (hs : (Sq 224).Slices ![160, 0] (Sq 32)) :
    extractStridedSlice (Sq 32) ![160, 0] (packed a0 a1 a2 a3 a4 a5 a6 a7 a8 a9 a10 a11 a12) hs = a11 :=
  piece _ _ 11 (by exact (show 11 < 13 by omega)) a11 (by rfl) 160 (by rfl) hs

theorem piece12 (hs : (Sq 224).Slices ![192, 0] (Sq 32)) :
    extractStridedSlice (Sq 32) ![192, 0] (packed a0 a1 a2 a3 a4 a5 a6 a7 a8 a9 a10 a11 a12) hs = a12 :=
  piece _ _ 12 (by exact (show 12 < 13 by omega)) a12 (by rfl) 192 (by rfl) hs

end Thirteen

/-! ## What is cut out for each weight -/

/-- The array of weight 0 out of the one array. -/
def cut0 (P : Vec Ideal (Sq 224) .f32) : Vec Ideal ⟨3, ![2, 3, 128]⟩ .f32 :=
  shapeCast ⟨3, ![2, 3, 128]⟩ (extractStridedSlice (Row 768) ![0] (shapeCast (Row 1024) (extractStridedSlice (Sq 8) ![0, 0] P (by decide)) (by decide)) (by decide)) (by decide)

/-- The rows of weight 0. -/
def seg0 (x : Vec Ideal ⟨3, ![2, 3, 128]⟩ .f32) : Vec Ideal (Sq 8) .f32 :=
  seg (n := 768) (t := 1024) (hi := 256) x (by decide) (by decide) (by decide)

/-- The array of weight 1 out of the one array. -/
def cut1 (P : Vec Ideal (Sq 224) .f32) : Vec Ideal ⟨2, ![1, 384]⟩ .f32 :=
  shapeCast ⟨2, ![1, 384]⟩ (extractStridedSlice (Row 384) ![0] (shapeCast (Row 1024) (extractStridedSlice (Sq 8) ![8, 0] P (by decide)) (by decide)) (by decide)) (by decide)

/-- The rows of weight 1. -/
def seg1 (x : Vec Ideal ⟨2, ![1, 384]⟩ .f32) : Vec Ideal (Sq 8) .f32 :=
  seg (n := 384) (t := 1024) (hi := 640) x (by decide) (by decide) (by decide)

/-- The array of weight 2 out of the one array. -/
def cut2 (P : Vec Ideal (Sq 224) .f32) : Vec Ideal ⟨2, ![1, 256]⟩ .f32 :=
  shapeCast ⟨2, ![1, 256]⟩ (extractStridedSlice (Row 256) ![0] (shapeCast (Row 1024) (extractStridedSlice (Sq 8) ![16, 0] P (by decide)) (by decide)) (by decide)) (by decide)

/-- The rows of weight 2. -/
def seg2 (x : Vec Ideal ⟨2, ![1, 256]⟩ .f32) : Vec Ideal (Sq 8) .f32 :=
  seg (n := 256) (t := 1024) (hi := 768) x (by decide) (by decide) (by decide)

/-- The array of weight 3 out of the one array. -/
def cut3 (P : Vec Ideal (Sq 224) .f32) : Vec Ideal ⟨2, ![1, 256]⟩ .f32 :=
  shapeCast ⟨2, ![1, 256]⟩ (extractStridedSlice (Row 256) ![0] (shapeCast (Row 1024) (extractStridedSlice (Sq 8) ![24, 0] P (by decide)) (by decide)) (by decide)) (by decide)

/-- The rows of weight 3. -/
def seg3 (x : Vec Ideal ⟨2, ![1, 256]⟩ .f32) : Vec Ideal (Sq 8) .f32 :=
  seg (n := 256) (t := 1024) (hi := 768) x (by decide) (by decide) (by decide)

/-- The array of weight 4 out of the one array. -/
def cut4 (P : Vec Ideal (Sq 224) .f32) : Vec Ideal ⟨3, ![1, 31, 128]⟩ .f32 :=
  shapeCast ⟨3, ![1, 31, 128]⟩ (extractStridedSlice (Row 3968) ![0] (shapeCast (Row 4096) (extractStridedSlice (Sq 32) ![32, 0] P (by decide)) (by decide)) (by decide)) (by decide)

/-- The rows of weight 4. -/
def seg4 (x : Vec Ideal ⟨3, ![1, 31, 128]⟩ .f32) : Vec Ideal (Sq 32) .f32 :=
  seg (n := 3968) (t := 4096) (hi := 128) x (by decide) (by decide) (by decide)

/-- The array of weight 5 out of the one array. -/
def cut5 (P : Vec Ideal (Sq 224) .f32) : Vec Ideal ⟨2, ![1, 128]⟩ .f32 :=
  shapeCast ⟨2, ![1, 128]⟩ (extractStridedSlice (Row 128) ![0] (shapeCast (Row 1024) (extractStridedSlice (Sq 8) ![64, 0] P (by decide)) (by decide)) (by decide)) (by decide)

/-- The rows of weight 5. -/
def seg5 (x : Vec Ideal ⟨2, ![1, 128]⟩ .f32) : Vec Ideal (Sq 8) .f32 :=
  seg (n := 128) (t := 1024) (hi := 896) x (by decide) (by decide) (by decide)

/-- The array of weight 6 out of the one array. -/
def cut6 (P : Vec Ideal (Sq 224) .f32) : Vec Ideal ⟨2, ![1, 128]⟩ .f32 :=
  shapeCast ⟨2, ![1, 128]⟩ (extractStridedSlice (Row 128) ![0] (shapeCast (Row 1024) (extractStridedSlice (Sq 8) ![72, 0] P (by decide)) (by decide)) (by decide)) (by decide)

/-- The rows of weight 6. -/
def seg6 (x : Vec Ideal ⟨2, ![1, 128]⟩ .f32) : Vec Ideal (Sq 8) .f32 :=
  seg (n := 128) (t := 1024) (hi := 896) x (by decide) (by decide) (by decide)

/-- The array of weight 7 out of the one array. -/
def cut7 (P : Vec Ideal (Sq 224) .f32) : Vec Ideal ⟨2, ![1, 128]⟩ .f32 :=
  shapeCast ⟨2, ![1, 128]⟩ (extractStridedSlice (Row 128) ![0] (shapeCast (Row 1024) (extractStridedSlice (Sq 8) ![80, 0] P (by decide)) (by decide)) (by decide)) (by decide)

/-- The rows of weight 7. -/
def seg7 (x : Vec Ideal ⟨2, ![1, 128]⟩ .f32) : Vec Ideal (Sq 8) .f32 :=
  seg (n := 128) (t := 1024) (hi := 896) x (by decide) (by decide) (by decide)

/-- The array of weight 8 out of the one array. -/
def cut8 (P : Vec Ideal (Sq 224) .f32) : Vec Ideal ⟨2, ![1, 128]⟩ .f32 :=
  shapeCast ⟨2, ![1, 128]⟩ (extractStridedSlice (Row 128) ![0] (shapeCast (Row 1024) (extractStridedSlice (Sq 8) ![88, 0] P (by decide)) (by decide)) (by decide)) (by decide)

/-- The rows of weight 8. -/
def seg8 (x : Vec Ideal ⟨2, ![1, 128]⟩ .f32) : Vec Ideal (Sq 8) .f32 :=
  seg (n := 128) (t := 1024) (hi := 896) x (by decide) (by decide) (by decide)

/-- The array of weight 9 out of the one array. -/
def cut9 (P : Vec Ideal (Sq 224) .f32) : Vec Ideal ⟨2, ![4, 1024]⟩ .f32 :=
  shapeCast ⟨2, ![4, 1024]⟩ (shapeCast (Row 4096) (extractStridedSlice (Sq 32) ![96, 0] P (by decide)) (by decide)) (by decide)

/-- The rows of weight 9. -/
def seg9 (x : Vec Ideal ⟨2, ![4, 1024]⟩ .f32) : Vec Ideal (Sq 32) .f32 :=
  seg (n := 4096) (t := 4096) (hi := 0) x (by decide) (by decide) (by decide)

/-- The array of weight 10 out of the one array. -/
def cut10 (P : Vec Ideal (Sq 224) .f32) : Vec Ideal ⟨2, ![4, 1024]⟩ .f32 :=
  shapeCast ⟨2, ![4, 1024]⟩ (shapeCast (Row 4096) (extractStridedSlice (Sq 32) ![128, 0] P (by decide)) (by decide)) (by decide)

/-- The rows of weight 10. -/
def seg10 (x : Vec Ideal ⟨2, ![4, 1024]⟩ .f32) : Vec Ideal (Sq 32) .f32 :=
  seg (n := 4096) (t := 4096) (hi := 0) x (by decide) (by decide) (by decide)

/-- The array of weight 11 out of the one array. -/
def cut11 (P : Vec Ideal (Sq 224) .f32) : Vec Ideal ⟨2, ![4, 1024]⟩ .f32 :=
  shapeCast ⟨2, ![4, 1024]⟩ (shapeCast (Row 4096) (extractStridedSlice (Sq 32) ![160, 0] P (by decide)) (by decide)) (by decide)

/-- The rows of weight 11. -/
def seg11 (x : Vec Ideal ⟨2, ![4, 1024]⟩ .f32) : Vec Ideal (Sq 32) .f32 :=
  seg (n := 4096) (t := 4096) (hi := 0) x (by decide) (by decide) (by decide)

/-- The array of weight 12 out of the one array. -/
def cut12 (P : Vec Ideal (Sq 224) .f32) : Vec Ideal ⟨2, ![4, 1024]⟩ .f32 :=
  shapeCast ⟨2, ![4, 1024]⟩ (shapeCast (Row 4096) (extractStridedSlice (Sq 32) ![192, 0] P (by decide)) (by decide)) (by decide)

/-- The rows of weight 12. -/
def seg12 (x : Vec Ideal ⟨2, ![4, 1024]⟩ .f32) : Vec Ideal (Sq 32) .f32 :=
  seg (n := 4096) (t := 4096) (hi := 0) x (by decide) (by decide) (by decide)

section Whole

variable (x0 : Vec Ideal ⟨3, ![2, 3, 128]⟩ .f32) (x1 : Vec Ideal ⟨2, ![1, 384]⟩ .f32) (x2 : Vec Ideal ⟨2, ![1, 256]⟩ .f32) (x3 : Vec Ideal ⟨2, ![1, 256]⟩ .f32) (x4 : Vec Ideal ⟨3, ![1, 31, 128]⟩ .f32) (x5 : Vec Ideal ⟨2, ![1, 128]⟩ .f32) (x6 : Vec Ideal ⟨2, ![1, 128]⟩ .f32) (x7 : Vec Ideal ⟨2, ![1, 128]⟩ .f32) (x8 : Vec Ideal ⟨2, ![1, 128]⟩ .f32) (x9 : Vec Ideal ⟨2, ![4, 1024]⟩ .f32) (x10 : Vec Ideal ⟨2, ![4, 1024]⟩ .f32) (x11 : Vec Ideal ⟨2, ![4, 1024]⟩ .f32) (x12 : Vec Ideal ⟨2, ![4, 1024]⟩ .f32)

/-- The thirteen weights in one array. -/
def pack : Vec Ideal (Sq 224) .f32 :=
  packed (seg0 x0) (seg1 x1) (seg2 x2) (seg3 x3) (seg4 x4) (seg5 x5) (seg6 x6) (seg7 x7) (seg8 x8) (seg9 x9) (seg10 x10) (seg11 x11) (seg12 x12)

theorem cut0_pack : cut0 (pack x0 x1 x2 x3 x4 x5 x6 x7 x8 x9 x10 x11 x12) = x0 := by
  unfold cut0 pack
  rw [piece0]
  exact unseg x0 _ _ _ _ _ _

theorem cut1_pack : cut1 (pack x0 x1 x2 x3 x4 x5 x6 x7 x8 x9 x10 x11 x12) = x1 := by
  unfold cut1 pack
  rw [piece1]
  exact unseg x1 _ _ _ _ _ _

theorem cut2_pack : cut2 (pack x0 x1 x2 x3 x4 x5 x6 x7 x8 x9 x10 x11 x12) = x2 := by
  unfold cut2 pack
  rw [piece2]
  exact unseg x2 _ _ _ _ _ _

theorem cut3_pack : cut3 (pack x0 x1 x2 x3 x4 x5 x6 x7 x8 x9 x10 x11 x12) = x3 := by
  unfold cut3 pack
  rw [piece3]
  exact unseg x3 _ _ _ _ _ _

theorem cut4_pack : cut4 (pack x0 x1 x2 x3 x4 x5 x6 x7 x8 x9 x10 x11 x12) = x4 := by
  unfold cut4 pack
  rw [piece4]
  exact unseg x4 _ _ _ _ _ _

theorem cut5_pack : cut5 (pack x0 x1 x2 x3 x4 x5 x6 x7 x8 x9 x10 x11 x12) = x5 := by
  unfold cut5 pack
  rw [piece5]
  exact unseg x5 _ _ _ _ _ _

theorem cut6_pack : cut6 (pack x0 x1 x2 x3 x4 x5 x6 x7 x8 x9 x10 x11 x12) = x6 := by
  unfold cut6 pack
  rw [piece6]
  exact unseg x6 _ _ _ _ _ _

theorem cut7_pack : cut7 (pack x0 x1 x2 x3 x4 x5 x6 x7 x8 x9 x10 x11 x12) = x7 := by
  unfold cut7 pack
  rw [piece7]
  exact unseg x7 _ _ _ _ _ _

theorem cut8_pack : cut8 (pack x0 x1 x2 x3 x4 x5 x6 x7 x8 x9 x10 x11 x12) = x8 := by
  unfold cut8 pack
  rw [piece8]
  exact unseg x8 _ _ _ _ _ _

theorem cut9_pack : cut9 (pack x0 x1 x2 x3 x4 x5 x6 x7 x8 x9 x10 x11 x12) = x9 := by
  unfold cut9 pack
  rw [piece9]
  exact unseg_full x9 _ _ _ _ _

theorem cut10_pack : cut10 (pack x0 x1 x2 x3 x4 x5 x6 x7 x8 x9 x10 x11 x12) = x10 := by
  unfold cut10 pack
  rw [piece10]
  exact unseg_full x10 _ _ _ _ _

theorem cut11_pack : cut11 (pack x0 x1 x2 x3 x4 x5 x6 x7 x8 x9 x10 x11 x12) = x11 := by
  unfold cut11 pack
  rw [piece11]
  exact unseg_full x11 _ _ _ _ _

theorem cut12_pack : cut12 (pack x0 x1 x2 x3 x4 x5 x6 x7 x8 x9 x10 x11 x12) = x12 := by
  unfold cut12 pack
  rw [piece12]
  exact unseg_full x12 _ _ _ _ _

end Whole

section Step

variable (W M Vv G : Vec Ideal (Sq 224) .f32)

theorem cut0_mom : cut0 (momA M G) = momA (cut0 M) (cut0 G) := rfl
theorem cut0_vel : cut0 (velA Vv G) = velA (cut0 Vv) (cut0 G) := rfl
theorem cut0_delta : cut0 (deltaA W M Vv G) = deltaA (cut0 W) (cut0 M) (cut0 Vv) (cut0 G) := rfl

theorem cut1_mom : cut1 (momA M G) = momA (cut1 M) (cut1 G) := rfl
theorem cut1_vel : cut1 (velA Vv G) = velA (cut1 Vv) (cut1 G) := rfl
theorem cut1_delta : cut1 (deltaA W M Vv G) = deltaA (cut1 W) (cut1 M) (cut1 Vv) (cut1 G) := rfl

theorem cut2_mom : cut2 (momA M G) = momA (cut2 M) (cut2 G) := rfl
theorem cut2_vel : cut2 (velA Vv G) = velA (cut2 Vv) (cut2 G) := rfl
theorem cut2_delta : cut2 (deltaA W M Vv G) = deltaA (cut2 W) (cut2 M) (cut2 Vv) (cut2 G) := rfl

theorem cut3_mom : cut3 (momA M G) = momA (cut3 M) (cut3 G) := rfl
theorem cut3_vel : cut3 (velA Vv G) = velA (cut3 Vv) (cut3 G) := rfl
theorem cut3_delta : cut3 (deltaA W M Vv G) = deltaA (cut3 W) (cut3 M) (cut3 Vv) (cut3 G) := rfl

theorem cut4_mom : cut4 (momA M G) = momA (cut4 M) (cut4 G) := rfl
theorem cut4_vel : cut4 (velA Vv G) = velA (cut4 Vv) (cut4 G) := rfl
theorem cut4_delta : cut4 (deltaA W M Vv G) = deltaA (cut4 W) (cut4 M) (cut4 Vv) (cut4 G) := rfl

theorem cut5_mom : cut5 (momA M G) = momA (cut5 M) (cut5 G) := rfl
theorem cut5_vel : cut5 (velA Vv G) = velA (cut5 Vv) (cut5 G) := rfl
theorem cut5_delta : cut5 (deltaA W M Vv G) = deltaA (cut5 W) (cut5 M) (cut5 Vv) (cut5 G) := rfl

theorem cut6_mom : cut6 (momA M G) = momA (cut6 M) (cut6 G) := rfl
theorem cut6_vel : cut6 (velA Vv G) = velA (cut6 Vv) (cut6 G) := rfl
theorem cut6_delta : cut6 (deltaA W M Vv G) = deltaA (cut6 W) (cut6 M) (cut6 Vv) (cut6 G) := rfl

theorem cut7_mom : cut7 (momA M G) = momA (cut7 M) (cut7 G) := rfl
theorem cut7_vel : cut7 (velA Vv G) = velA (cut7 Vv) (cut7 G) := rfl
theorem cut7_delta : cut7 (deltaA W M Vv G) = deltaA (cut7 W) (cut7 M) (cut7 Vv) (cut7 G) := rfl

theorem cut8_mom : cut8 (momA M G) = momA (cut8 M) (cut8 G) := rfl
theorem cut8_vel : cut8 (velA Vv G) = velA (cut8 Vv) (cut8 G) := rfl
theorem cut8_delta : cut8 (deltaA W M Vv G) = deltaA (cut8 W) (cut8 M) (cut8 Vv) (cut8 G) := rfl

theorem cut9_mom : cut9 (momA M G) = momA (cut9 M) (cut9 G) := rfl
theorem cut9_vel : cut9 (velA Vv G) = velA (cut9 Vv) (cut9 G) := rfl
theorem cut9_delta : cut9 (deltaA W M Vv G) = deltaA (cut9 W) (cut9 M) (cut9 Vv) (cut9 G) := rfl

theorem cut10_mom : cut10 (momA M G) = momA (cut10 M) (cut10 G) := rfl
theorem cut10_vel : cut10 (velA Vv G) = velA (cut10 Vv) (cut10 G) := rfl
theorem cut10_delta : cut10 (deltaA W M Vv G) = deltaA (cut10 W) (cut10 M) (cut10 Vv) (cut10 G) := rfl

theorem cut11_mom : cut11 (momA M G) = momA (cut11 M) (cut11 G) := rfl
theorem cut11_vel : cut11 (velA Vv G) = velA (cut11 Vv) (cut11 G) := rfl
theorem cut11_delta : cut11 (deltaA W M Vv G) = deltaA (cut11 W) (cut11 M) (cut11 Vv) (cut11 G) := rfl

theorem cut12_mom : cut12 (momA M G) = momA (cut12 M) (cut12 G) := rfl
theorem cut12_vel : cut12 (velA Vv G) = velA (cut12 Vv) (cut12 G) := rfl
theorem cut12_delta : cut12 (deltaA W M Vv G) = deltaA (cut12 W) (cut12 M) (cut12 Vv) (cut12 G) := rfl

end Step

end Cert.SmallMath
-- ==== Proof.SmallHost.lean ====
/-
  THE SMALL WEIGHTS' KERNEL, ITS HOST OPERATIONS. Before the region: each of the four stacks (weights, gradients, two moments) is the
  stack of the thirteen arguments, each flattened and padded (`SmallMath`). After it: each of the thirty-nine results is cut out of
  one of the three arrays the region leaves.
-/
module

public import proofs.«01_k».proof.Proof.SmallMath
public import proofs.«01_k».proof.Proof.Gen.SmallIdeal.Launch
public import Idealize.ShloMosaic.Lib.StableHlo.RunRead

@[expose] public section

set_option maxRecDepth 16384

noncomputable section

namespace Cert.SmallHost

open Cert.SmallIdeal Cert.SmallIdeal.Gen Cert.SmallMath
open Idealize.ShloMosaic Idealize.ShloMosaic.TcCoe Idealize.ShloMosaic.StableHlo

/-- The operations before the region. -/
def before : List (HloOp τ sig (Elt Ideal)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100, hostOps0_101, hostOps0_102, hostOps0_103, hostOps0_104]

variable (W : Valuation τ sig (Elt Ideal))

/-! ## The stack of the weights -/

theorem in0 : upto before W 65 (Proc.devRef .tc main_v2) = seg0 (W (Proc.devRef .tc main_arg0)) := by
  after_reads_simp
  rfl

theorem in1 : upto before W 65 (Proc.devRef .tc main_v5) = seg1 (W (Proc.devRef .tc main_arg1)) := by
  after_reads_simp
  rfl

theorem in2 : upto before W 65 (Proc.devRef .tc main_v8) = seg2 (W (Proc.devRef .tc main_arg2)) := by
  after_reads_simp
  rfl

theorem in3 : upto before W 65 (Proc.devRef .tc main_v11) = seg3 (W (Proc.devRef .tc main_arg3)) := by
  after_reads_simp
  rfl

theorem in4 : upto before W 65 (Proc.devRef .tc main_v14) = seg4 (W (Proc.devRef .tc main_arg4)) := by
  after_reads_simp
  rfl

theorem in5 : upto before W 65 (Proc.devRef .tc main_v17) = seg5 (W (Proc.devRef .tc main_arg5)) := by
  after_reads_simp
  rfl

theorem in6 : upto before W 65 (Proc.devRef .tc main_v20) = seg6 (W (Proc.devRef .tc main_arg6)) := by
  after_reads_simp
  rfl

theorem in7 : upto before W 65 (Proc.devRef .tc main_v23) = seg7 (W (Proc.devRef .tc main_arg7)) := by
  after_reads_simp
  rfl

theorem in8 : upto before W 65 (Proc.devRef .tc main_v26) = seg8 (W (Proc.devRef .tc main_arg8)) := by
  after_reads_simp
  rfl

theorem in9 : upto before W 65 (Proc.devRef .tc main_v29) = seg9 (W (Proc.devRef .tc main_arg9)) := by
  after_reads_simp
  rfl

theorem in10 : upto before W 65 (Proc.devRef .tc main_v32) = seg10 (W (Proc.devRef .tc main_arg10)) := by
  after_reads_simp
  rfl

theorem in11 : upto before W 65 (Proc.devRef .tc main_v35) = seg11 (W (Proc.devRef .tc main_arg11)) := by
  after_reads_simp
  rfl

theorem in12 : upto before W 65 (Proc.devRef .tc main_v38) = seg12 (W (Proc.devRef .tc main_arg12)) := by
  after_reads_simp
  rfl

theorem stack0_of : after before W (Proc.devRef .tc main_v39) = packed (upto before W 65 (Proc.devRef .tc main_v2)) (upto before W 65 (Proc.devRef .tc main_v5)) (upto before W 65 (Proc.devRef .tc main_v8)) (upto before W 65 (Proc.devRef .tc main_v11)) (upto before W 65 (Proc.devRef .tc main_v14)) (upto before W 65 (Proc.devRef .tc main_v17)) (upto before W 65 (Proc.devRef .tc main_v20)) (upto before W 65 (Proc.devRef .tc main_v23)) (upto before W 65 (Proc.devRef .tc main_v26)) (upto before W 65 (Proc.devRef .tc main_v29)) (upto before W 65 (Proc.devRef .tc main_v32)) (upto before W 65 (Proc.devRef .tc main_v35)) (upto before W 65 (Proc.devRef .tc main_v38)) := by
  simp only [readAfter, nary_result']
  rfl

theorem stack0 : after before W (Proc.devRef .tc main_v39) = pack (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) := by
  rw [stack0_of, in0, in1, in2, in3, in4, in5, in6, in7, in8, in9, in10, in11, in12]
  rfl

/-! ## The stack of the gradients -/

theorem in13 : upto before W 131 (Proc.devRef .tc main_v42) = seg0 (W (Proc.devRef .tc main_arg13)) := by
  after_reads_simp
  rfl

theorem in14 : upto before W 131 (Proc.devRef .tc main_v45) = seg1 (W (Proc.devRef .tc main_arg14)) := by
  after_reads_simp
  rfl

theorem in15 : upto before W 131 (Proc.devRef .tc main_v48) = seg2 (W (Proc.devRef .tc main_arg15)) := by
  after_reads_simp
  rfl

theorem in16 : upto before W 131 (Proc.devRef .tc main_v51) = seg3 (W (Proc.devRef .tc main_arg16)) := by
  after_reads_simp
  rfl

theorem in17 : upto before W 131 (Proc.devRef .tc main_v54) = seg4 (W (Proc.devRef .tc main_arg17)) := by
  after_reads_simp
  rfl

theorem in18 : upto before W 131 (Proc.devRef .tc main_v57) = seg5 (W (Proc.devRef .tc main_arg18)) := by
  after_reads_simp
  rfl

theorem in19 : upto before W 131 (Proc.devRef .tc main_v60) = seg6 (W (Proc.devRef .tc main_arg19)) := by
  after_reads_simp
  rfl

theorem in20 : upto before W 131 (Proc.devRef .tc main_v63) = seg7 (W (Proc.devRef .tc main_arg20)) := by
  after_reads_simp
  rfl

theorem in21 : upto before W 131 (Proc.devRef .tc main_v66) = seg8 (W (Proc.devRef .tc main_arg21)) := by
  after_reads_simp
  rfl

theorem in22 : upto before W 131 (Proc.devRef .tc main_v69) = seg9 (W (Proc.devRef .tc main_arg22)) := by
  after_reads_simp
  rfl

theorem in23 : upto before W 131 (Proc.devRef .tc main_v72) = seg10 (W (Proc.devRef .tc main_arg23)) := by
  after_reads_simp
  rfl

theorem in24 : upto before W 131 (Proc.devRef .tc main_v75) = seg11 (W (Proc.devRef .tc main_arg24)) := by
  after_reads_simp
  rfl

theorem in25 : upto before W 131 (Proc.devRef .tc main_v78) = seg12 (W (Proc.devRef .tc main_arg25)) := by
  after_reads_simp
  rfl

theorem stack1_of : after before W (Proc.devRef .tc main_v79) = packed (upto before W 131 (Proc.devRef .tc main_v42)) (upto before W 131 (Proc.devRef .tc main_v45)) (upto before W 131 (Proc.devRef .tc main_v48)) (upto before W 131 (Proc.devRef .tc main_v51)) (upto before W 131 (Proc.devRef .tc main_v54)) (upto before W 131 (Proc.devRef .tc main_v57)) (upto before W 131 (Proc.devRef .tc main_v60)) (upto before W 131 (Proc.devRef .tc main_v63)) (upto before W 131 (Proc.devRef .tc main_v66)) (upto before W 131 (Proc.devRef .tc main_v69)) (upto before W 131 (Proc.devRef .tc main_v72)) (upto before W 131 (Proc.devRef .tc main_v75)) (upto before W 131 (Proc.devRef .tc main_v78)) := by
  simp only [readAfter, nary_result']
  rfl

theorem stack1 : after before W (Proc.devRef .tc main_v79) = pack (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (W (Proc.devRef .tc main_arg21)) (W (Proc.devRef .tc main_arg22)) (W (Proc.devRef .tc main_arg23)) (W (Proc.devRef .tc main_arg24)) (W (Proc.devRef .tc main_arg25)) := by
  rw [stack1_of, in13, in14, in15, in16, in17, in18, in19, in20, in21, in22, in23, in24, in25]
  rfl

/-! ## The stack of the first moments -/

theorem in26 : upto before W 197 (Proc.devRef .tc main_v82) = seg0 (W (Proc.devRef .tc main_arg26)) := by
  after_reads_simp
  rfl

theorem in27 : upto before W 197 (Proc.devRef .tc main_v85) = seg1 (W (Proc.devRef .tc main_arg27)) := by
  after_reads_simp
  rfl

theorem in28 : upto before W 197 (Proc.devRef .tc main_v88) = seg2 (W (Proc.devRef .tc main_arg28)) := by
  after_reads_simp
  rfl

theorem in29 : upto before W 197 (Proc.devRef .tc main_v91) = seg3 (W (Proc.devRef .tc main_arg29)) := by
  after_reads_simp
  rfl

theorem in30 : upto before W 197 (Proc.devRef .tc main_v94) = seg4 (W (Proc.devRef .tc main_arg30)) := by
  after_reads_simp
  rfl

theorem in31 : upto before W 197 (Proc.devRef .tc main_v97) = seg5 (W (Proc.devRef .tc main_arg31)) := by
  after_reads_simp
  rfl

theorem in32 : upto before W 197 (Proc.devRef .tc main_v100) = seg6 (W (Proc.devRef .tc main_arg32)) := by
  after_reads_simp
  rfl

theorem in33 : upto before W 197 (Proc.devRef .tc main_v103) = seg7 (W (Proc.devRef .tc main_arg33)) := by
  after_reads_simp
  rfl

theorem in34 : upto before W 197 (Proc.devRef .tc main_v106) = seg8 (W (Proc.devRef .tc main_arg34)) := by
  after_reads_simp
  rfl

theorem in35 : upto before W 197 (Proc.devRef .tc main_v109) = seg9 (W (Proc.devRef .tc main_arg35)) := by
  after_reads_simp
  rfl

theorem in36 : upto before W 197 (Proc.devRef .tc main_v112) = seg10 (W (Proc.devRef .tc main_arg36)) := by
  after_reads_simp
  rfl

theorem in37 : upto before W 197 (Proc.devRef .tc main_v115) = seg11 (W (Proc.devRef .tc main_arg37)) := by
  after_reads_simp
  rfl

theorem in38 : upto before W 197 (Proc.devRef .tc main_v118) = seg12 (W (Proc.devRef .tc main_arg38)) := by
  after_reads_simp
  rfl

theorem stack2_of : after before W (Proc.devRef .tc main_v119) = packed (upto before W 197 (Proc.devRef .tc main_v82)) (upto before W 197 (Proc.devRef .tc main_v85)) (upto before W 197 (Proc.devRef .tc main_v88)) (upto before W 197 (Proc.devRef .tc main_v91)) (upto before W 197 (Proc.devRef .tc main_v94)) (upto before W 197 (Proc.devRef .tc main_v97)) (upto before W 197 (Proc.devRef .tc main_v100)) (upto before W 197 (Proc.devRef .tc main_v103)) (upto before W 197 (Proc.devRef .tc main_v106)) (upto before W 197 (Proc.devRef .tc main_v109)) (upto before W 197 (Proc.devRef .tc main_v112)) (upto before W 197 (Proc.devRef .tc main_v115)) (upto before W 197 (Proc.devRef .tc main_v118)) := by
  simp only [readAfter, nary_result']
  rfl

theorem stack2 : after before W (Proc.devRef .tc main_v119) = pack (W (Proc.devRef .tc main_arg26)) (W (Proc.devRef .tc main_arg27)) (W (Proc.devRef .tc main_arg28)) (W (Proc.devRef .tc main_arg29)) (W (Proc.devRef .tc main_arg30)) (W (Proc.devRef .tc main_arg31)) (W (Proc.devRef .tc main_arg32)) (W (Proc.devRef .tc main_arg33)) (W (Proc.devRef .tc main_arg34)) (W (Proc.devRef .tc main_arg35)) (W (Proc.devRef .tc main_arg36)) (W (Proc.devRef .tc main_arg37)) (W (Proc.devRef .tc main_arg38)) := by
  rw [stack2_of, in26, in27, in28, in29, in30, in31, in32, in33, in34, in35, in36, in37, in38]
  rfl

/-! ## The stack of the second moments -/

theorem in39 : upto before W 263 (Proc.devRef .tc main_v122) = seg0 (W (Proc.devRef .tc main_arg39)) := by
  after_reads_simp
  rfl

theorem in40 : upto before W 263 (Proc.devRef .tc main_v125) = seg1 (W (Proc.devRef .tc main_arg40)) := by
  after_reads_simp
  rfl

theorem in41 : upto before W 263 (Proc.devRef .tc main_v128) = seg2 (W (Proc.devRef .tc main_arg41)) := by
  after_reads_simp
  rfl

theorem in42 : upto before W 263 (Proc.devRef .tc main_v131) = seg3 (W (Proc.devRef .tc main_arg42)) := by
  after_reads_simp
  rfl

theorem in43 : upto before W 263 (Proc.devRef .tc main_v134) = seg4 (W (Proc.devRef .tc main_arg43)) := by
  after_reads_simp
  rfl

theorem in44 : upto before W 263 (Proc.devRef .tc main_v137) = seg5 (W (Proc.devRef .tc main_arg44)) := by
  after_reads_simp
  rfl

theorem in45 : upto before W 263 (Proc.devRef .tc main_v140) = seg6 (W (Proc.devRef .tc main_arg45)) := by
  after_reads_simp
  rfl

theorem in46 : upto before W 263 (Proc.devRef .tc main_v143) = seg7 (W (Proc.devRef .tc main_arg46)) := by
  after_reads_simp
  rfl

theorem in47 : upto before W 263 (Proc.devRef .tc main_v146) = seg8 (W (Proc.devRef .tc main_arg47)) := by
  after_reads_simp
  rfl

theorem in48 : upto before W 263 (Proc.devRef .tc main_v149) = seg9 (W (Proc.devRef .tc main_arg48)) := by
  after_reads_simp
  rfl

theorem in49 : upto before W 263 (Proc.devRef .tc main_v152) = seg10 (W (Proc.devRef .tc main_arg49)) := by
  after_reads_simp
  rfl

theorem in50 : upto before W 263 (Proc.devRef .tc main_v155) = seg11 (W (Proc.devRef .tc main_arg50)) := by
  after_reads_simp
  rfl

theorem in51 : upto before W 263 (Proc.devRef .tc main_v158) = seg12 (W (Proc.devRef .tc main_arg51)) := by
  after_reads_simp
  rfl

theorem stack3_of : after before W (Proc.devRef .tc main_v159) = packed (upto before W 263 (Proc.devRef .tc main_v122)) (upto before W 263 (Proc.devRef .tc main_v125)) (upto before W 263 (Proc.devRef .tc main_v128)) (upto before W 263 (Proc.devRef .tc main_v131)) (upto before W 263 (Proc.devRef .tc main_v134)) (upto before W 263 (Proc.devRef .tc main_v137)) (upto before W 263 (Proc.devRef .tc main_v140)) (upto before W 263 (Proc.devRef .tc main_v143)) (upto before W 263 (Proc.devRef .tc main_v146)) (upto before W 263 (Proc.devRef .tc main_v149)) (upto before W 263 (Proc.devRef .tc main_v152)) (upto before W 263 (Proc.devRef .tc main_v155)) (upto before W 263 (Proc.devRef .tc main_v158)) := by
  simp only [readAfter, nary_result']
  rfl

theorem stack3 : after before W (Proc.devRef .tc main_v159) = pack (W (Proc.devRef .tc main_arg39)) (W (Proc.devRef .tc main_arg40)) (W (Proc.devRef .tc main_arg41)) (W (Proc.devRef .tc main_arg42)) (W (Proc.devRef .tc main_arg43)) (W (Proc.devRef .tc main_arg44)) (W (Proc.devRef .tc main_arg45)) (W (Proc.devRef .tc main_arg46)) (W (Proc.devRef .tc main_arg47)) (W (Proc.devRef .tc main_arg48)) (W (Proc.devRef .tc main_arg49)) (W (Proc.devRef .tc main_arg50)) (W (Proc.devRef .tc main_arg51)) := by
  rw [stack3_of, in39, in40, in41, in42, in43, in44, in45, in46, in47, in48, in49, in50, in51]
  rfl

/-! ## The results -/

theorem out0 : after (List.flatten [hostOps1]) W (Proc.devRef .tc main_v164) = cut0 (W (Proc.devRef .tc main_v160_0)) := by
  after_reads_simp
  rfl

theorem out1 : after (List.flatten [hostOps1]) W (Proc.devRef .tc main_v168) = cut1 (W (Proc.devRef .tc main_v160_0)) := by
  after_reads_simp
  rfl

theorem out2 : after (List.flatten [hostOps1]) W (Proc.devRef .tc main_v172) = cut2 (W (Proc.devRef .tc main_v160_0)) := by
  after_reads_simp
  rfl

theorem out3 : after (List.flatten [hostOps1]) W (Proc.devRef .tc main_v176) = cut3 (W (Proc.devRef .tc main_v160_0)) := by
  after_reads_simp
  rfl

theorem out4 : after (List.flatten [hostOps1]) W (Proc.devRef .tc main_v180) = cut4 (W (Proc.devRef .tc main_v160_0)) := by
  after_reads_simp
  rfl

theorem out5 : after (List.flatten [hostOps1]) W (Proc.devRef .tc main_v184) = cut5 (W (Proc.devRef .tc main_v160_0)) := by
  after_reads_simp
  rfl

theorem out6 : after (List.flatten [hostOps1]) W (Proc.devRef .tc main_v188) = cut6 (W (Proc.devRef .tc main_v160_0)) := by
  after_reads_simp
  rfl

theorem out7 : after (List.flatten [hostOps1]) W (Proc.devRef .tc main_v192) = cut7 (W (Proc.devRef .tc main_v160_0)) := by
  after_reads_simp
  rfl

theorem out8 : after (List.flatten [hostOps1]) W (Proc.devRef .tc main_v196) = cut8 (W (Proc.devRef .tc main_v160_0)) := by
  after_reads_simp
  rfl

theorem out9 : after (List.flatten [hostOps1]) W (Proc.devRef .tc main_v199) = cut9 (W (Proc.devRef .tc main_v160_0)) := by
  after_reads_simp
  rfl

theorem out10 : after (List.flatten [hostOps1]) W (Proc.devRef .tc main_v202) = cut10 (W (Proc.devRef .tc main_v160_0)) := by
  after_reads_simp
  rfl

theorem out11 : after (List.flatten [hostOps1]) W (Proc.devRef .tc main_v205) = cut11 (W (Proc.devRef .tc main_v160_0)) := by
  after_reads_simp
  rfl

theorem out12 : after (List.flatten [hostOps1]) W (Proc.devRef .tc main_v208) = cut12 (W (Proc.devRef .tc main_v160_0)) := by
  after_reads_simp
  rfl

theorem out13 : after (List.flatten [hostOps1]) W (Proc.devRef .tc main_v212) = cut0 (W (Proc.devRef .tc main_v160_1)) := by
  after_reads_simp
  rfl

theorem out14 : after (List.flatten [hostOps1]) W (Proc.devRef .tc main_v216) = cut1 (W (Proc.devRef .tc main_v160_1)) := by
  after_reads_simp
  rfl

theorem out15 : after (List.flatten [hostOps1]) W (Proc.devRef .tc main_v220) = cut2 (W (Proc.devRef .tc main_v160_1)) := by
  after_reads_simp
  rfl

theorem out16 : after (List.flatten [hostOps1]) W (Proc.devRef .tc main_v224) = cut3 (W (Proc.devRef .tc main_v160_1)) := by
  after_reads_simp
  rfl

theorem out17 : after (List.flatten [hostOps1]) W (Proc.devRef .tc main_v228) = cut4 (W (Proc.devRef .tc main_v160_1)) := by
  after_reads_simp
  rfl

theorem out18 : after (List.flatten [hostOps1]) W (Proc.devRef .tc main_v232) = cut5 (W (Proc.devRef .tc main_v160_1)) := by
  after_reads_simp
  rfl

theorem out19 : after (List.flatten [hostOps1]) W (Proc.devRef .tc main_v236) = cut6 (W (Proc.devRef .tc main_v160_1)) := by
  after_reads_simp
  rfl

theorem out20 : after (List.flatten [hostOps1]) W (Proc.devRef .tc main_v240) = cut7 (W (Proc.devRef .tc main_v160_1)) := by
  after_reads_simp
  rfl

theorem out21 : after (List.flatten [hostOps1]) W (Proc.devRef .tc main_v244) = cut8 (W (Proc.devRef .tc main_v160_1)) := by
  after_reads_simp
  rfl

theorem out22 : after (List.flatten [hostOps1]) W (Proc.devRef .tc main_v247) = cut9 (W (Proc.devRef .tc main_v160_1)) := by
  after_reads_simp
  rfl

theorem out23 : after (List.flatten [hostOps1]) W (Proc.devRef .tc main_v250) = cut10 (W (Proc.devRef .tc main_v160_1)) := by
  after_reads_simp
  rfl

theorem out24 : after (List.flatten [hostOps1]) W (Proc.devRef .tc main_v253) = cut11 (W (Proc.devRef .tc main_v160_1)) := by
  after_reads_simp
  rfl

theorem out25 : after (List.flatten [hostOps1]) W (Proc.devRef .tc main_v256) = cut12 (W (Proc.devRef .tc main_v160_1)) := by
  after_reads_simp
  rfl

theorem out26 : after (List.flatten [hostOps1]) W (Proc.devRef .tc main_v260) = cut0 (W (Proc.devRef .tc main_v160_2)) := by
  after_reads_simp
  rfl

theorem out27 : after (List.flatten [hostOps1]) W (Proc.devRef .tc main_v264) = cut1 (W (Proc.devRef .tc main_v160_2)) := by
  after_reads_simp
  rfl

theorem out28 : after (List.flatten [hostOps1]) W (Proc.devRef .tc main_v268) = cut2 (W (Proc.devRef .tc main_v160_2)) := by
  after_reads_simp
  rfl

theorem out29 : after (List.flatten [hostOps1]) W (Proc.devRef .tc main_v272) = cut3 (W (Proc.devRef .tc main_v160_2)) := by
  after_reads_simp
  rfl

theorem out30 : after (List.flatten [hostOps1]) W (Proc.devRef .tc main_v276) = cut4 (W (Proc.devRef .tc main_v160_2)) := by
  after_reads_simp
  rfl

theorem out31 : after (List.flatten [hostOps1]) W (Proc.devRef .tc main_v280) = cut5 (W (Proc.devRef .tc main_v160_2)) := by
  after_reads_simp
  rfl

theorem out32 : after (List.flatten [hostOps1]) W (Proc.devRef .tc main_v284) = cut6 (W (Proc.devRef .tc main_v160_2)) := by
  after_reads_simp
  rfl

theorem out33 : after (List.flatten [hostOps1]) W (Proc.devRef .tc main_v288) = cut7 (W (Proc.devRef .tc main_v160_2)) := by
  after_reads_simp
  rfl

theorem out34 : after (List.flatten [hostOps1]) W (Proc.devRef .tc main_v292) = cut8 (W (Proc.devRef .tc main_v160_2)) := by
  after_reads_simp
  rfl

theorem out35 : after (List.flatten [hostOps1]) W (Proc.devRef .tc main_v295) = cut9 (W (Proc.devRef .tc main_v160_2)) := by
  after_reads_simp
  rfl

theorem out36 : after (List.flatten [hostOps1]) W (Proc.devRef .tc main_v298) = cut10 (W (Proc.devRef .tc main_v160_2)) := by
  after_reads_simp
  rfl

theorem out37 : after (List.flatten [hostOps1]) W (Proc.devRef .tc main_v301) = cut11 (W (Proc.devRef .tc main_v160_2)) := by
  after_reads_simp
  rfl

theorem out38 : after (List.flatten [hostOps1]) W (Proc.devRef .tc main_v304) = cut12 (W (Proc.devRef .tc main_v160_2)) := by
  after_reads_simp
  rfl

end Cert.SmallHost
-- ==== Proof.SmallRun.lean ====
/-
  ADAMW ON THE THIRTEEN SMALL WEIGHTS: what the kernel leaves. The grid has one point and every window's block is its whole array, so
  the region leaves AdamW of the four stacks; cut out of it, each of the thirty-nine results is AdamW of the weight's own arguments.
-/
module

public import proofs.«01_k».proof.Proof.SmallHost
public import proofs.«01_k».proof.Proof.Gen.SmallIdeal.Frame
public import Idealize.ShloMosaic.Lib.Pipeline.Value

@[expose] public section

set_option maxRecDepth 16384

noncomputable section

namespace Cert.SmallRun

open Cert.SmallIdeal Cert.SmallIdeal.Gen Cert.Blocks Cert.AdamMath Cert.SmallMath Cert.SmallHost
open Idealize.ShloMosaic Idealize.ShloMosaic.TcCoe Idealize.SL.Sem
open Idealize.ShloMosaic.Pipeline (Dat Window)

variable (m : (ℓ : Loc nD τ sig) → Buf (Elt Ideal) ℓ) (ρ : Dev nD → PrngReg)

/-! ## The body, on whole arrays -/

section Body

variable (x0 x1 x2 x3 : Vec Ideal S224x128 .f32)

theorem out4_eq : out0_4 (F := Ideal) x0 x1 x2 x3 = deltaA x0 x2 x3 x1 := by
  unfold out0_4
  rw [View.canon_unit_zero hz, View.ld_unit_zero hz, View.ld_unit_zero hz, View.ld_unit_zero hz, View.ld_unit_zero hz]
  simp only [k0_pay4, k0_pay3, k0_pay2, k0_pay1, shapeCast_self]
  rfl

theorem out5_eq : out0_5 (F := Ideal) x0 x1 x2 x3 = momA x2 x1 := by
  unfold out0_5
  rw [View.canon_unit_zero hz, View.ld_unit_zero hz, View.ld_unit_zero hz]
  simp only [k0_pay2, k0_pay1, shapeCast_self]
  rfl

theorem out6_eq : out0_6 (F := Ideal) x0 x1 x2 x3 = velA x3 x1 := by
  unfold out0_6
  rw [View.canon_unit_zero hz, View.ld_unit_zero hz, View.ld_unit_zero hz]
  simp only [k0_pay3, k0_pay1, shapeCast_self]
  rfl

end Body

/-! ## The stacks -/

/-- The stack of the weights. -/
def Wp (c : Dev nD) : Vec Ideal (Sq 224) .f32 :=
  pack (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

theorem stackV0 (c : Dev nD) : V m c main_v39 = Wp m c := stack0 (fun b => m (c, b))

/-- The stack of the gradients. -/
def Gp (c : Dev nD) : Vec Ideal (Sq 224) .f32 :=
  pack (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))

theorem stackV1 (c : Dev nD) : V m c main_v79 = Gp m c := stack1 (fun b => m (c, b))

/-- The stack of the first moments. -/
def Mp (c : Dev nD) : Vec Ideal (Sq 224) .f32 :=
  pack (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38))

theorem stackV2 (c : Dev nD) : V m c main_v119 = Mp m c := stack2 (fun b => m (c, b))

/-- The stack of the second moments. -/
def Vp (c : Dev nD) : Vec Ideal (Sq 224) .f32 :=
  pack (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47)) (m ((c : Thread nD τ).loc main_arg48)) (m ((c : Thread nD τ).loc main_arg49)) (m ((c : Thread nD τ).loc main_arg50)) (m ((c : Thread nD τ).loc main_arg51))

theorem stackV3 (c : Dev nD) : V m c main_v159 = Vp m c := stack3 (fun b => m (c, b))

/-! ## Every window's block is its array -/

theorem zero0 : ∀ t : Fin cfg0.N, win0_0.index t (0 : Fin 2) = 0 ∧ win0_0.index t (1 : Fin 2) = 0 :=
  (by decide +kernel : ∀ t : Fin grid0.N, _)
theorem emb0 (t : Fin cfg0.N) (j : S224x128.Idx) : ((cfg0.win 0).blk t).view.emb j = j := by
  obtain ⟨e0, e1⟩ := zero0 t
  funext a; apply Fin.ext
  match a with
  | ⟨0, _⟩ => show win0_0.index t (0 : Fin 2) * 224 + 1 * (j 0).val = (j 0).val; omega
  | ⟨1, _⟩ => show win0_0.index t (1 : Fin 2) * 128 + 1 * (j 1).val = (j 1).val; omega
theorem blk0 (c : Dev nD) (t : Fin cfg0.N) : iblk m c 0 t = Wp m c := by
  rw [← stackV0]
  funext j; show V m c main_v39 (((cfg0.win 0).blk t).view.emb j) = V m c main_v39 j; rw [emb0]

theorem zero1 : ∀ t : Fin cfg0.N, win0_1.index t (0 : Fin 2) = 0 ∧ win0_1.index t (1 : Fin 2) = 0 :=
  (by decide +kernel : ∀ t : Fin grid0.N, _)
theorem emb1 (t : Fin cfg0.N) (j : S224x128.Idx) : ((cfg0.win 1).blk t).view.emb j = j := by
  obtain ⟨e0, e1⟩ := zero1 t
  funext a; apply Fin.ext
  match a with
  | ⟨0, _⟩ => show win0_1.index t (0 : Fin 2) * 224 + 1 * (j 0).val = (j 0).val; omega
  | ⟨1, _⟩ => show win0_1.index t (1 : Fin 2) * 128 + 1 * (j 1).val = (j 1).val; omega
theorem blk1 (c : Dev nD) (t : Fin cfg0.N) : iblk m c 1 t = Gp m c := by
  rw [← stackV1]
  funext j; show V m c main_v79 (((cfg0.win 1).blk t).view.emb j) = V m c main_v79 j; rw [emb1]

theorem zero2 : ∀ t : Fin cfg0.N, win0_2.index t (0 : Fin 2) = 0 ∧ win0_2.index t (1 : Fin 2) = 0 :=
  (by decide +kernel : ∀ t : Fin grid0.N, _)
theorem emb2 (t : Fin cfg0.N) (j : S224x128.Idx) : ((cfg0.win 2).blk t).view.emb j = j := by
  obtain ⟨e0, e1⟩ := zero2 t
  funext a; apply Fin.ext
  match a with
  | ⟨0, _⟩ => show win0_2.index t (0 : Fin 2) * 224 + 1 * (j 0).val = (j 0).val; omega
  | ⟨1, _⟩ => show win0_2.index t (1 : Fin 2) * 128 + 1 * (j 1).val = (j 1).val; omega
theorem blk2 (c : Dev nD) (t : Fin cfg0.N) : iblk m c 2 t = Mp m c := by
  rw [← stackV2]
  funext j; show V m c main_v119 (((cfg0.win 2).blk t).view.emb j) = V m c main_v119 j; rw [emb2]

theorem zero3 : ∀ t : Fin cfg0.N, win0_3.index t (0 : Fin 2) = 0 ∧ win0_3.index t (1 : Fin 2) = 0 :=
  (by decide +kernel : ∀ t : Fin grid0.N, _)
theorem emb3 (t : Fin cfg0.N) (j : S224x128.Idx) : ((cfg0.win 3).blk t).view.emb j = j := by
  obtain ⟨e0, e1⟩ := zero3 t
  funext a; apply Fin.ext
  match a with
  | ⟨0, _⟩ => show win0_3.index t (0 : Fin 2) * 224 + 1 * (j 0).val = (j 0).val; omega
  | ⟨1, _⟩ => show win0_3.index t (1 : Fin 2) * 128 + 1 * (j 1).val = (j 1).val; omega
theorem blk3 (c : Dev nD) (t : Fin cfg0.N) : iblk m c 3 t = Vp m c := by
  rw [← stackV3]
  funext j; show V m c main_v159 (((cfg0.win 3).blk t).view.emb j) = V m c main_v159 j; rw [emb3]

theorem zero4 : ∀ t : Fin cfg0.N, win0_4.index t (0 : Fin 2) = 0 ∧ win0_4.index t (1 : Fin 2) = 0 :=
  (by decide +kernel : ∀ t : Fin grid0.N, _)
theorem emb4 (t : Fin cfg0.N) (j : S224x128.Idx) : ((cfg0.win 4).blk t).view.emb j = j := by
  obtain ⟨e0, e1⟩ := zero4 t
  funext a; apply Fin.ext
  match a with
  | ⟨0, _⟩ => show win0_4.index t (0 : Fin 2) * 224 + 1 * (j 0).val = (j 0).val; omega
  | ⟨1, _⟩ => show win0_4.index t (1 : Fin 2) * 128 + 1 * (j 1).val = (j 1).val; omega

theorem zero5 : ∀ t : Fin cfg0.N, win0_5.index t (0 : Fin 2) = 0 ∧ win0_5.index t (1 : Fin 2) = 0 :=
  (by decide +kernel : ∀ t : Fin grid0.N, _)
theorem emb5 (t : Fin cfg0.N) (j : S224x128.Idx) : ((cfg0.win 5).blk t).view.emb j = j := by
  obtain ⟨e0, e1⟩ := zero5 t
  funext a; apply Fin.ext
  match a with
  | ⟨0, _⟩ => show win0_5.index t (0 : Fin 2) * 224 + 1 * (j 0).val = (j 0).val; omega
  | ⟨1, _⟩ => show win0_5.index t (1 : Fin 2) * 128 + 1 * (j 1).val = (j 1).val; omega

theorem zero6 : ∀ t : Fin cfg0.N, win0_6.index t (0 : Fin 2) = 0 ∧ win0_6.index t (1 : Fin 2) = 0 :=
  (by decide +kernel : ∀ t : Fin grid0.N, _)
theorem emb6 (t : Fin cfg0.N) (j : S224x128.Idx) : ((cfg0.win 6).blk t).view.emb j = j := by
  obtain ⟨e0, e1⟩ := zero6 t
  funext a; apply Fin.ext
  match a with
  | ⟨0, _⟩ => show win0_6.index t (0 : Fin 2) * 224 + 1 * (j 0).val = (j 0).val; omega
  | ⟨1, _⟩ => show win0_6.index t (1 : Fin 2) * 128 + 1 * (j 1).val = (j 1).val; omega

/-! ## The arrays after the region -/

theorem fin4 (c : Dev nD) : (dats m 0 c).arrAt 4 cfg0.N = deltaA (Wp m c) (Mp m c) (Vp m c) (Gp m c) := by
  refine (dats m 0 c).arrAt_eq_of_cover 4 _ (fun t _ => ?_) fun i => ⟨(⟨0, by decide⟩ : Fin cfg0.N), flush0_4 _, by
    have h := ((cfg0.win 4).blk (⟨0, by decide⟩ : Fin cfg0.N)).view.emb_mem_set i; rwa [emb4] at h⟩
  show (cfg0.win 4).cut (grid0.coords t) ((dats m 0 c).after 4 t) = _
  rw [after0_4, blk0, blk1, blk2, blk3, out4_eq]
  funext j
  show _ = (deltaA (Wp m c) (Mp m c) (Vp m c) (Gp m c)) (((cfg0.win 4).blk t).view.emb j)
  rw [emb4]

theorem fin5 (c : Dev nD) : (dats m 0 c).arrAt 5 cfg0.N = momA (Mp m c) (Gp m c) := by
  refine (dats m 0 c).arrAt_eq_of_cover 5 _ (fun t _ => ?_) fun i => ⟨(⟨0, by decide⟩ : Fin cfg0.N), flush0_5 _, by
    have h := ((cfg0.win 5).blk (⟨0, by decide⟩ : Fin cfg0.N)).view.emb_mem_set i; rwa [emb5] at h⟩
  show (cfg0.win 5).cut (grid0.coords t) ((dats m 0 c).after 5 t) = _
  rw [after0_5, blk0, blk1, blk2, blk3, out5_eq]
  funext j
  show _ = (momA (Mp m c) (Gp m c)) (((cfg0.win 5).blk t).view.emb j)
  rw [emb5]

theorem fin6 (c : Dev nD) : (dats m 0 c).arrAt 6 cfg0.N = velA (Vp m c) (Gp m c) := by
  refine (dats m 0 c).arrAt_eq_of_cover 6 _ (fun t _ => ?_) fun i => ⟨(⟨0, by decide⟩ : Fin cfg0.N), flush0_6 _, by
    have h := ((cfg0.win 6).blk (⟨0, by decide⟩ : Fin cfg0.N)).view.emb_mem_set i; rwa [emb6] at h⟩
  show (cfg0.win 6).cut (grid0.coords t) ((dats m 0 c).after 6 t) = _
  rw [after0_6, blk0, blk1, blk2, blk3, out6_eq]
  funext j
  show _ = (velA (Vp m c) (Gp m c)) (((cfg0.win 6).blk t).view.emb j)
  rw [emb6]

theorem arr_inj : Function.Injective (Pipeline.arrRef spec0) := by decide

/-- The buffers where the region ends. -/
def End (c : Dev nD) : Valuation τ sig (Elt Ideal) :=
  Pipeline.withArrays spec0 c (V0 m c) fun w => (dats m 0 c).arrAt w cfg0.N

theorem end_arr4 (c : Dev nD) : End m c (Proc.devRef .tc main_v160_0) = deltaA (Wp m c) (Mp m c) (Vp m c) (Gp m c) :=
  (Pipeline.withArrays_arr spec0 arr_inj c (V0 m c) (fun w => (dats m 0 c).arrAt w cfg0.N) 4).trans (fin4 m c)

theorem end_arr5 (c : Dev nD) : End m c (Proc.devRef .tc main_v160_1) = momA (Mp m c) (Gp m c) :=
  (Pipeline.withArrays_arr spec0 arr_inj c (V0 m c) (fun w => (dats m 0 c).arrAt w cfg0.N) 5).trans (fin5 m c)

theorem end_arr6 (c : Dev nD) : End m c (Proc.devRef .tc main_v160_2) = velA (Vp m c) (Gp m c) :=
  (Pipeline.withArrays_arr spec0 arr_inj c (V0 m c) (fun w => (dats m 0 c).arrAt w cfg0.N) 6).trans (fin6 m c)

/-! ## The results -/

/-- A state the run can end in. -/
abbrev Post (r : PUnit × MemSt nD τ sig (Elt Ideal)) : Prop := Pipeline.FramePost cfgs (dats m) 0 (Pipeline.afterTail₀ cfgs (dats m) 0 (V0 m) [hostOps1]) r

theorem rest {r : PUnit × MemSt nD τ sig (Elt Ideal)} (h : Post m r) (c : Dev nD) (b : Ref sig .tc) (hb : b ∈ Pipeline.restRefs sig spec0) :
    r.2.mem ((c.tc : Thread nD τ).loc b) = StableHlo.after (List.flatten [hostOps1]) (End m c) (Proc.devRef .tc b) :=
  (h c).2 b hb

theorem end0 {r : PUnit × MemSt nD τ sig (Elt Ideal)} (h : Post m r) (c : Dev nD) : r.2.mem ((c.tc : Thread nD τ).loc main_v164) = deltaA (m ((c.tc : Thread nD τ).loc main_arg0)) (m ((c.tc : Thread nD τ).loc main_arg26)) (m ((c.tc : Thread nD τ).loc main_arg39)) (m ((c.tc : Thread nD τ).loc main_arg13)) := by
  rw [rest m h c main_v164 (Pipeline.mem_restRefs_of main_v164 (by decide) (by decide)), out0, end_arr4, cut0_delta]
  simp only [Wp, Gp, Mp, Vp, cut0_pack]

theorem end1 {r : PUnit × MemSt nD τ sig (Elt Ideal)} (h : Post m r) (c : Dev nD) : r.2.mem ((c.tc : Thread nD τ).loc main_v168) = deltaA (m ((c.tc : Thread nD τ).loc main_arg1)) (m ((c.tc : Thread nD τ).loc main_arg27)) (m ((c.tc : Thread nD τ).loc main_arg40)) (m ((c.tc : Thread nD τ).loc main_arg14)) := by
  rw [rest m h c main_v168 (Pipeline.mem_restRefs_of main_v168 (by decide) (by decide)), out1, end_arr4, cut1_delta]
  simp only [Wp, Gp, Mp, Vp, cut1_pack]

theorem end2 {r : PUnit × MemSt nD τ sig (Elt Ideal)} (h : Post m r) (c : Dev nD) : r.2.mem ((c.tc : Thread nD τ).loc main_v172) = deltaA (m ((c.tc : Thread nD τ).loc main_arg2)) (m ((c.tc : Thread nD τ).loc main_arg28)) (m ((c.tc : Thread nD τ).loc main_arg41)) (m ((c.tc : Thread nD τ).loc main_arg15)) := by
  rw [rest m h c main_v172 (Pipeline.mem_restRefs_of main_v172 (by decide) (by decide)), out2, end_arr4, cut2_delta]
  simp only [Wp, Gp, Mp, Vp, cut2_pack]

theorem end3 {r : PUnit × MemSt nD τ sig (Elt Ideal)} (h : Post m r) (c : Dev nD) : r.2.mem ((c.tc : Thread nD τ).loc main_v176) = deltaA (m ((c.tc : Thread nD τ).loc main_arg3)) (m ((c.tc : Thread nD τ).loc main_arg29)) (m ((c.tc : Thread nD τ).loc main_arg42)) (m ((c.tc : Thread nD τ).loc main_arg16)) := by
  rw [rest m h c main_v176 (Pipeline.mem_restRefs_of main_v176 (by decide) (by decide)), out3, end_arr4, cut3_delta]
  simp only [Wp, Gp, Mp, Vp, cut3_pack]

theorem end4 {r : PUnit × MemSt nD τ sig (Elt Ideal)} (h : Post m r) (c : Dev nD) : r.2.mem ((c.tc : Thread nD τ).loc main_v180) = deltaA (m ((c.tc : Thread nD τ).loc main_arg4)) (m ((c.tc : Thread nD τ).loc main_arg30)) (m ((c.tc : Thread nD τ).loc main_arg43)) (m ((c.tc : Thread nD τ).loc main_arg17)) := by
  rw [rest m h c main_v180 (Pipeline.mem_restRefs_of main_v180 (by decide) (by decide)), out4, end_arr4, cut4_delta]
  simp only [Wp, Gp, Mp, Vp, cut4_pack]

theorem end5 {r : PUnit × MemSt nD τ sig (Elt Ideal)} (h : Post m r) (c : Dev nD) : r.2.mem ((c.tc : Thread nD τ).loc main_v184) = deltaA (m ((c.tc : Thread nD τ).loc main_arg5)) (m ((c.tc : Thread nD τ).loc main_arg31)) (m ((c.tc : Thread nD τ).loc main_arg44)) (m ((c.tc : Thread nD τ).loc main_arg18)) := by
  rw [rest m h c main_v184 (Pipeline.mem_restRefs_of main_v184 (by decide) (by decide)), out5, end_arr4, cut5_delta]
  simp only [Wp, Gp, Mp, Vp, cut5_pack]

theorem end6 {r : PUnit × MemSt nD τ sig (Elt Ideal)} (h : Post m r) (c : Dev nD) : r.2.mem ((c.tc : Thread nD τ).loc main_v188) = deltaA (m ((c.tc : Thread nD τ).loc main_arg6)) (m ((c.tc : Thread nD τ).loc main_arg32)) (m ((c.tc : Thread nD τ).loc main_arg45)) (m ((c.tc : Thread nD τ).loc main_arg19)) := by
  rw [rest m h c main_v188 (Pipeline.mem_restRefs_of main_v188 (by decide) (by decide)), out6, end_arr4, cut6_delta]
  simp only [Wp, Gp, Mp, Vp, cut6_pack]

theorem end7 {r : PUnit × MemSt nD τ sig (Elt Ideal)} (h : Post m r) (c : Dev nD) : r.2.mem ((c.tc : Thread nD τ).loc main_v192) = deltaA (m ((c.tc : Thread nD τ).loc main_arg7)) (m ((c.tc : Thread nD τ).loc main_arg33)) (m ((c.tc : Thread nD τ).loc main_arg46)) (m ((c.tc : Thread nD τ).loc main_arg20)) := by
  rw [rest m h c main_v192 (Pipeline.mem_restRefs_of main_v192 (by decide) (by decide)), out7, end_arr4, cut7_delta]
  simp only [Wp, Gp, Mp, Vp, cut7_pack]

theorem end8 {r : PUnit × MemSt nD τ sig (Elt Ideal)} (h : Post m r) (c : Dev nD) : r.2.mem ((c.tc : Thread nD τ).loc main_v196) = deltaA (m ((c.tc : Thread nD τ).loc main_arg8)) (m ((c.tc : Thread nD τ).loc main_arg34)) (m ((c.tc : Thread nD τ).loc main_arg47)) (m ((c.tc : Thread nD τ).loc main_arg21)) := by
  rw [rest m h c main_v196 (Pipeline.mem_restRefs_of main_v196 (by decide) (by decide)), out8, end_arr4, cut8_delta]
  simp only [Wp, Gp, Mp, Vp, cut8_pack]

theorem end9 {r : PUnit × MemSt nD τ sig (Elt Ideal)} (h : Post m r) (c : Dev nD) : r.2.mem ((c.tc : Thread nD τ).loc main_v199) = deltaA (m ((c.tc : Thread nD τ).loc main_arg9)) (m ((c.tc : Thread nD τ).loc main_arg35)) (m ((c.tc : Thread nD τ).loc main_arg48)) (m ((c.tc : Thread nD τ).loc main_arg22)) := by
  rw [rest m h c main_v199 (Pipeline.mem_restRefs_of main_v199 (by decide) (by decide)), out9, end_arr4, cut9_delta]
  simp only [Wp, Gp, Mp, Vp, cut9_pack]

theorem end10 {r : PUnit × MemSt nD τ sig (Elt Ideal)} (h : Post m r) (c : Dev nD) : r.2.mem ((c.tc : Thread nD τ).loc main_v202) = deltaA (m ((c.tc : Thread nD τ).loc main_arg10)) (m ((c.tc : Thread nD τ).loc main_arg36)) (m ((c.tc : Thread nD τ).loc main_arg49)) (m ((c.tc : Thread nD τ).loc main_arg23)) := by
  rw [rest m h c main_v202 (Pipeline.mem_restRefs_of main_v202 (by decide) (by decide)), out10, end_arr4, cut10_delta]
  simp only [Wp, Gp, Mp, Vp, cut10_pack]

theorem end11 {r : PUnit × MemSt nD τ sig (Elt Ideal)} (h : Post m r) (c : Dev nD) : r.2.mem ((c.tc : Thread nD τ).loc main_v205) = deltaA (m ((c.tc : Thread nD τ).loc main_arg11)) (m ((c.tc : Thread nD τ).loc main_arg37)) (m ((c.tc : Thread nD τ).loc main_arg50)) (m ((c.tc : Thread nD τ).loc main_arg24)) := by
  rw [rest m h c main_v205 (Pipeline.mem_restRefs_of main_v205 (by decide) (by decide)), out11, end_arr4, cut11_delta]
  simp only [Wp, Gp, Mp, Vp, cut11_pack]

theorem end12 {r : PUnit × MemSt nD τ sig (Elt Ideal)} (h : Post m r) (c : Dev nD) : r.2.mem ((c.tc : Thread nD τ).loc main_v208) = deltaA (m ((c.tc : Thread nD τ).loc main_arg12)) (m ((c.tc : Thread nD τ).loc main_arg38)) (m ((c.tc : Thread nD τ).loc main_arg51)) (m ((c.tc : Thread nD τ).loc main_arg25)) := by
  rw [rest m h c main_v208 (Pipeline.mem_restRefs_of main_v208 (by decide) (by decide)), out12, end_arr4, cut12_delta]
  simp only [Wp, Gp, Mp, Vp, cut12_pack]

theorem end13 {r : PUnit × MemSt nD τ sig (Elt Ideal)} (h : Post m r) (c : Dev nD) : r.2.mem ((c.tc : Thread nD τ).loc main_v212) = momA (m ((c.tc : Thread nD τ).loc main_arg26)) (m ((c.tc : Thread nD τ).loc main_arg13)) := by
  rw [rest m h c main_v212 (Pipeline.mem_restRefs_of main_v212 (by decide) (by decide)), out13, end_arr5, cut0_mom]
  simp only [Wp, Gp, Mp, Vp, cut0_pack]

theorem end14 {r : PUnit × MemSt nD τ sig (Elt Ideal)} (h : Post m r) (c : Dev nD) : r.2.mem ((c.tc : Thread nD τ).loc main_v216) = momA (m ((c.tc : Thread nD τ).loc main_arg27)) (m ((c.tc : Thread nD τ).loc main_arg14)) := by
  rw [rest m h c main_v216 (Pipeline.mem_restRefs_of main_v216 (by decide) (by decide)), out14, end_arr5, cut1_mom]
  simp only [Wp, Gp, Mp, Vp, cut1_pack]

theorem end15 {r : PUnit × MemSt nD τ sig (Elt Ideal)} (h : Post m r) (c : Dev nD) : r.2.mem ((c.tc : Thread nD τ).loc main_v220) = momA (m ((c.tc : Thread nD τ).loc main_arg28)) (m ((c.tc : Thread nD τ).loc main_arg15)) := by
  rw [rest m h c main_v220 (Pipeline.mem_restRefs_of main_v220 (by decide) (by decide)), out15, end_arr5, cut2_mom]
  simp only [Wp, Gp, Mp, Vp, cut2_pack]

theorem end16 {r : PUnit × MemSt nD τ sig (Elt Ideal)} (h : Post m r) (c : Dev nD) : r.2.mem ((c.tc : Thread nD τ).loc main_v224) = momA (m ((c.tc : Thread nD τ).loc main_arg29)) (m ((c.tc : Thread nD τ).loc main_arg16)) := by
  rw [rest m h c main_v224 (Pipeline.mem_restRefs_of main_v224 (by decide) (by decide)), out16, end_arr5, cut3_mom]
  simp only [Wp, Gp, Mp, Vp, cut3_pack]

theorem end17 {r : PUnit × MemSt nD τ sig (Elt Ideal)} (h : Post m r) (c : Dev nD) : r.2.mem ((c.tc : Thread nD τ).loc main_v228) = momA (m ((c.tc : Thread nD τ).loc main_arg30)) (m ((c.tc : Thread nD τ).loc main_arg17)) := by
  rw [rest m h c main_v228 (Pipeline.mem_restRefs_of main_v228 (by decide) (by decide)), out17, end_arr5, cut4_mom]
  simp only [Wp, Gp, Mp, Vp, cut4_pack]

theorem end18 {r : PUnit × MemSt nD τ sig (Elt Ideal)} (h : Post m r) (c : Dev nD) : r.2.mem ((c.tc : Thread nD τ).loc main_v232) = momA (m ((c.tc : Thread nD τ).loc main_arg31)) (m ((c.tc : Thread nD τ).loc main_arg18)) := by
  rw [rest m h c main_v232 (Pipeline.mem_restRefs_of main_v232 (by decide) (by decide)), out18, end_arr5, cut5_mom]
  simp only [Wp, Gp, Mp, Vp, cut5_pack]

theorem end19 {r : PUnit × MemSt nD τ sig (Elt Ideal)} (h : Post m r) (c : Dev nD) : r.2.mem ((c.tc : Thread nD τ).loc main_v236) = momA (m ((c.tc : Thread nD τ).loc main_arg32)) (m ((c.tc : Thread nD τ).loc main_arg19)) := by
  rw [rest m h c main_v236 (Pipeline.mem_restRefs_of main_v236 (by decide) (by decide)), out19, end_arr5, cut6_mom]
  simp only [Wp, Gp, Mp, Vp, cut6_pack]

theorem end20 {r : PUnit × MemSt nD τ sig (Elt Ideal)} (h : Post m r) (c : Dev nD) : r.2.mem ((c.tc : Thread nD τ).loc main_v240) = momA (m ((c.tc : Thread nD τ).loc main_arg33)) (m ((c.tc : Thread nD τ).loc main_arg20)) := by
  rw [rest m h c main_v240 (Pipeline.mem_restRefs_of main_v240 (by decide) (by decide)), out20, end_arr5, cut7_mom]
  simp only [Wp, Gp, Mp, Vp, cut7_pack]

theorem end21 {r : PUnit × MemSt nD τ sig (Elt Ideal)} (h : Post m r) (c : Dev nD) : r.2.mem ((c.tc : Thread nD τ).loc main_v244) = momA (m ((c.tc : Thread nD τ).loc main_arg34)) (m ((c.tc : Thread nD τ).loc main_arg21)) := by
  rw [rest m h c main_v244 (Pipeline.mem_restRefs_of main_v244 (by decide) (by decide)), out21, end_arr5, cut8_mom]
  simp only [Wp, Gp, Mp, Vp, cut8_pack]

theorem end22 {r : PUnit × MemSt nD τ sig (Elt Ideal)} (h : Post m r) (c : Dev nD) : r.2.mem ((c.tc : Thread nD τ).loc main_v247) = momA (m ((c.tc : Thread nD τ).loc main_arg35)) (m ((c.tc : Thread nD τ).loc main_arg22)) := by
  rw [rest m h c main_v247 (Pipeline.mem_restRefs_of main_v247 (by decide) (by decide)), out22, end_arr5, cut9_mom]
  simp only [Wp, Gp, Mp, Vp, cut9_pack]

theorem end23 {r : PUnit × MemSt nD τ sig (Elt Ideal)} (h : Post m r) (c : Dev nD) : r.2.mem ((c.tc : Thread nD τ).loc main_v250) = momA (m ((c.tc : Thread nD τ).loc main_arg36)) (m ((c.tc : Thread nD τ).loc main_arg23)) := by
  rw [rest m h c main_v250 (Pipeline.mem_restRefs_of main_v250 (by decide) (by decide)), out23, end_arr5, cut10_mom]
  simp only [Wp, Gp, Mp, Vp, cut10_pack]

theorem end24 {r : PUnit × MemSt nD τ sig (Elt Ideal)} (h : Post m r) (c : Dev nD) : r.2.mem ((c.tc : Thread nD τ).loc main_v253) = momA (m ((c.tc : Thread nD τ).loc main_arg37)) (m ((c.tc : Thread nD τ).loc main_arg24)) := by
  rw [rest m h c main_v253 (Pipeline.mem_restRefs_of main_v253 (by decide) (by decide)), out24, end_arr5, cut11_mom]
  simp only [Wp, Gp, Mp, Vp, cut11_pack]

theorem end25 {r : PUnit × MemSt nD τ sig (Elt Ideal)} (h : Post m r) (c : Dev nD) : r.2.mem ((c.tc : Thread nD τ).loc main_v256) = momA (m ((c.tc : Thread nD τ).loc main_arg38)) (m ((c.tc : Thread nD τ).loc main_arg25)) := by
  rw [rest m h c main_v256 (Pipeline.mem_restRefs_of main_v256 (by decide) (by decide)), out25, end_arr5, cut12_mom]
  simp only [Wp, Gp, Mp, Vp, cut12_pack]

theorem end26 {r : PUnit × MemSt nD τ sig (Elt Ideal)} (h : Post m r) (c : Dev nD) : r.2.mem ((c.tc : Thread nD τ).loc main_v260) = velA (m ((c.tc : Thread nD τ).loc main_arg39)) (m ((c.tc : Thread nD τ).loc main_arg13)) := by
  rw [rest m h c main_v260 (Pipeline.mem_restRefs_of main_v260 (by decide) (by decide)), out26, end_arr6, cut0_vel]
  simp only [Wp, Gp, Mp, Vp, cut0_pack]

theorem end27 {r : PUnit × MemSt nD τ sig (Elt Ideal)} (h : Post m r) (c : Dev nD) : r.2.mem ((c.tc : Thread nD τ).loc main_v264) = velA (m ((c.tc : Thread nD τ).loc main_arg40)) (m ((c.tc : Thread nD τ).loc main_arg14)) := by
  rw [rest m h c main_v264 (Pipeline.mem_restRefs_of main_v264 (by decide) (by decide)), out27, end_arr6, cut1_vel]
  simp only [Wp, Gp, Mp, Vp, cut1_pack]

theorem end28 {r : PUnit × MemSt nD τ sig (Elt Ideal)} (h : Post m r) (c : Dev nD) : r.2.mem ((c.tc : Thread nD τ).loc main_v268) = velA (m ((c.tc : Thread nD τ).loc main_arg41)) (m ((c.tc : Thread nD τ).loc main_arg15)) := by
  rw [rest m h c main_v268 (Pipeline.mem_restRefs_of main_v268 (by decide) (by decide)), out28, end_arr6, cut2_vel]
  simp only [Wp, Gp, Mp, Vp, cut2_pack]

theorem end29 {r : PUnit × MemSt nD τ sig (Elt Ideal)} (h : Post m r) (c : Dev nD) : r.2.mem ((c.tc : Thread nD τ).loc main_v272) = velA (m ((c.tc : Thread nD τ).loc main_arg42)) (m ((c.tc : Thread nD τ).loc main_arg16)) := by
  rw [rest m h c main_v272 (Pipeline.mem_restRefs_of main_v272 (by decide) (by decide)), out29, end_arr6, cut3_vel]
  simp only [Wp, Gp, Mp, Vp, cut3_pack]

theorem end30 {r : PUnit × MemSt nD τ sig (Elt Ideal)} (h : Post m r) (c : Dev nD) : r.2.mem ((c.tc : Thread nD τ).loc main_v276) = velA (m ((c.tc : Thread nD τ).loc main_arg43)) (m ((c.tc : Thread nD τ).loc main_arg17)) := by
  rw [rest m h c main_v276 (Pipeline.mem_restRefs_of main_v276 (by decide) (by decide)), out30, end_arr6, cut4_vel]
  simp only [Wp, Gp, Mp, Vp, cut4_pack]

theorem end31 {r : PUnit × MemSt nD τ sig (Elt Ideal)} (h : Post m r) (c : Dev nD) : r.2.mem ((c.tc : Thread nD τ).loc main_v280) = velA (m ((c.tc : Thread nD τ).loc main_arg44)) (m ((c.tc : Thread nD τ).loc main_arg18)) := by
  rw [rest m h c main_v280 (Pipeline.mem_restRefs_of main_v280 (by decide) (by decide)), out31, end_arr6, cut5_vel]
  simp only [Wp, Gp, Mp, Vp, cut5_pack]

theorem end32 {r : PUnit × MemSt nD τ sig (Elt Ideal)} (h : Post m r) (c : Dev nD) : r.2.mem ((c.tc : Thread nD τ).loc main_v284) = velA (m ((c.tc : Thread nD τ).loc main_arg45)) (m ((c.tc : Thread nD τ).loc main_arg19)) := by
  rw [rest m h c main_v284 (Pipeline.mem_restRefs_of main_v284 (by decide) (by decide)), out32, end_arr6, cut6_vel]
  simp only [Wp, Gp, Mp, Vp, cut6_pack]

theorem end33 {r : PUnit × MemSt nD τ sig (Elt Ideal)} (h : Post m r) (c : Dev nD) : r.2.mem ((c.tc : Thread nD τ).loc main_v288) = velA (m ((c.tc : Thread nD τ).loc main_arg46)) (m ((c.tc : Thread nD τ).loc main_arg20)) := by
  rw [rest m h c main_v288 (Pipeline.mem_restRefs_of main_v288 (by decide) (by decide)), out33, end_arr6, cut7_vel]
  simp only [Wp, Gp, Mp, Vp, cut7_pack]

theorem end34 {r : PUnit × MemSt nD τ sig (Elt Ideal)} (h : Post m r) (c : Dev nD) : r.2.mem ((c.tc : Thread nD τ).loc main_v292) = velA (m ((c.tc : Thread nD τ).loc main_arg47)) (m ((c.tc : Thread nD τ).loc main_arg21)) := by
  rw [rest m h c main_v292 (Pipeline.mem_restRefs_of main_v292 (by decide) (by decide)), out34, end_arr6, cut8_vel]
  simp only [Wp, Gp, Mp, Vp, cut8_pack]

theorem end35 {r : PUnit × MemSt nD τ sig (Elt Ideal)} (h : Post m r) (c : Dev nD) : r.2.mem ((c.tc : Thread nD τ).loc main_v295) = velA (m ((c.tc : Thread nD τ).loc main_arg48)) (m ((c.tc : Thread nD τ).loc main_arg22)) := by
  rw [rest m h c main_v295 (Pipeline.mem_restRefs_of main_v295 (by decide) (by decide)), out35, end_arr6, cut9_vel]
  simp only [Wp, Gp, Mp, Vp, cut9_pack]

theorem end36 {r : PUnit × MemSt nD τ sig (Elt Ideal)} (h : Post m r) (c : Dev nD) : r.2.mem ((c.tc : Thread nD τ).loc main_v298) = velA (m ((c.tc : Thread nD τ).loc main_arg49)) (m ((c.tc : Thread nD τ).loc main_arg23)) := by
  rw [rest m h c main_v298 (Pipeline.mem_restRefs_of main_v298 (by decide) (by decide)), out36, end_arr6, cut10_vel]
  simp only [Wp, Gp, Mp, Vp, cut10_pack]

theorem end37 {r : PUnit × MemSt nD τ sig (Elt Ideal)} (h : Post m r) (c : Dev nD) : r.2.mem ((c.tc : Thread nD τ).loc main_v301) = velA (m ((c.tc : Thread nD τ).loc main_arg50)) (m ((c.tc : Thread nD τ).loc main_arg24)) := by
  rw [rest m h c main_v301 (Pipeline.mem_restRefs_of main_v301 (by decide) (by decide)), out37, end_arr6, cut11_vel]
  simp only [Wp, Gp, Mp, Vp, cut11_pack]

theorem end38 {r : PUnit × MemSt nD τ sig (Elt Ideal)} (h : Post m r) (c : Dev nD) : r.2.mem ((c.tc : Thread nD τ).loc main_v304) = velA (m ((c.tc : Thread nD τ).loc main_arg51)) (m ((c.tc : Thread nD τ).loc main_arg25)) := by
  rw [rest m h c main_v304 (Pipeline.mem_restRefs_of main_v304 (by decide) (by decide)), out38, end_arr6, cut12_vel]
  simp only [Wp, Gp, Mp, Vp, cut12_pack]

theorem kept0 {r : PUnit × MemSt nD τ sig (Elt Ideal)} (h : Post m r) (c : Dev nD) :
    r.2.mem ((c.tc : Thread nD τ).loc main_arg0) = m ((c.tc : Thread nD τ).loc main_arg0) :=
  ((h c).2 main_arg0 (Pipeline.mem_restRefs_of main_arg0 (by decide) (by decide))).trans (W_main_arg0 m (dats m) c)

theorem kept1 {r : PUnit × MemSt nD τ sig (Elt Ideal)} (h : Post m r) (c : Dev nD) :
    r.2.mem ((c.tc : Thread nD τ).loc main_arg1) = m ((c.tc : Thread nD τ).loc main_arg1) :=
  ((h c).2 main_arg1 (Pipeline.mem_restRefs_of main_arg1 (by decide) (by decide))).trans (W_main_arg1 m (dats m) c)

theorem kept2 {r : PUnit × MemSt nD τ sig (Elt Ideal)} (h : Post m r) (c : Dev nD) :
    r.2.mem ((c.tc : Thread nD τ).loc main_arg2) = m ((c.tc : Thread nD τ).loc main_arg2) :=
  ((h c).2 main_arg2 (Pipeline.mem_restRefs_of main_arg2 (by decide) (by decide))).trans (W_main_arg2 m (dats m) c)

theorem kept3 {r : PUnit × MemSt nD τ sig (Elt Ideal)} (h : Post m r) (c : Dev nD) :
    r.2.mem ((c.tc : Thread nD τ).loc main_arg3) = m ((c.tc : Thread nD τ).loc main_arg3) :=
  ((h c).2 main_arg3 (Pipeline.mem_restRefs_of main_arg3 (by decide) (by decide))).trans (W_main_arg3 m (dats m) c)

theorem kept4 {r : PUnit × MemSt nD τ sig (Elt Ideal)} (h : Post m r) (c : Dev nD) :
    r.2.mem ((c.tc : Thread nD τ).loc main_arg4) = m ((c.tc : Thread nD τ).loc main_arg4) :=
  ((h c).2 main_arg4 (Pipeline.mem_restRefs_of main_arg4 (by decide) (by decide))).trans (W_main_arg4 m (dats m) c)

theorem kept5 {r : PUnit × MemSt nD τ sig (Elt Ideal)} (h : Post m r) (c : Dev nD) :
    r.2.mem ((c.tc : Thread nD τ).loc main_arg5) = m ((c.tc : Thread nD τ).loc main_arg5) :=
  ((h c).2 main_arg5 (Pipeline.mem_restRefs_of main_arg5 (by decide) (by decide))).trans (W_main_arg5 m (dats m) c)

theorem kept6 {r : PUnit × MemSt nD τ sig (Elt Ideal)} (h : Post m r) (c : Dev nD) :
    r.2.mem ((c.tc : Thread nD τ).loc main_arg6) = m ((c.tc : Thread nD τ).loc main_arg6) :=
  ((h c).2 main_arg6 (Pipeline.mem_restRefs_of main_arg6 (by decide) (by decide))).trans (W_main_arg6 m (dats m) c)

theorem kept7 {r : PUnit × MemSt nD τ sig (Elt Ideal)} (h : Post m r) (c : Dev nD) :
    r.2.mem ((c.tc : Thread nD τ).loc main_arg7) = m ((c.tc : Thread nD τ).loc main_arg7) :=
  ((h c).2 main_arg7 (Pipeline.mem_restRefs_of main_arg7 (by decide) (by decide))).trans (W_main_arg7 m (dats m) c)

theorem kept8 {r : PUnit × MemSt nD τ sig (Elt Ideal)} (h : Post m r) (c : Dev nD) :
    r.2.mem ((c.tc : Thread nD τ).loc main_arg8) = m ((c.tc : Thread nD τ).loc main_arg8) :=
  ((h c).2 main_arg8 (Pipeline.mem_restRefs_of main_arg8 (by decide) (by decide))).trans (W_main_arg8 m (dats m) c)

theorem kept9 {r : PUnit × MemSt nD τ sig (Elt Ideal)} (h : Post m r) (c : Dev nD) :
    r.2.mem ((c.tc : Thread nD τ).loc main_arg9) = m ((c.tc : Thread nD τ).loc main_arg9) :=
  ((h c).2 main_arg9 (Pipeline.mem_restRefs_of main_arg9 (by decide) (by decide))).trans (W_main_arg9 m (dats m) c)

theorem kept10 {r : PUnit × MemSt nD τ sig (Elt Ideal)} (h : Post m r) (c : Dev nD) :
    r.2.mem ((c.tc : Thread nD τ).loc main_arg10) = m ((c.tc : Thread nD τ).loc main_arg10) :=
  ((h c).2 main_arg10 (Pipeline.mem_restRefs_of main_arg10 (by decide) (by decide))).trans (W_main_arg10 m (dats m) c)

theorem kept11 {r : PUnit × MemSt nD τ sig (Elt Ideal)} (h : Post m r) (c : Dev nD) :
    r.2.mem ((c.tc : Thread nD τ).loc main_arg11) = m ((c.tc : Thread nD τ).loc main_arg11) :=
  ((h c).2 main_arg11 (Pipeline.mem_restRefs_of main_arg11 (by decide) (by decide))).trans (W_main_arg11 m (dats m) c)

theorem kept12 {r : PUnit × MemSt nD τ sig (Elt Ideal)} (h : Post m r) (c : Dev nD) :
    r.2.mem ((c.tc : Thread nD τ).loc main_arg12) = m ((c.tc : Thread nD τ).loc main_arg12) :=
  ((h c).2 main_arg12 (Pipeline.mem_restRefs_of main_arg12 (by decide) (by decide))).trans (W_main_arg12 m (dats m) c)

theorem kept13 {r : PUnit × MemSt nD τ sig (Elt Ideal)} (h : Post m r) (c : Dev nD) :
    r.2.mem ((c.tc : Thread nD τ).loc main_arg13) = m ((c.tc : Thread nD τ).loc main_arg13) :=
  ((h c).2 main_arg13 (Pipeline.mem_restRefs_of main_arg13 (by decide) (by decide))).trans (W_main_arg13 m (dats m) c)

theorem kept14 {r : PUnit × MemSt nD τ sig (Elt Ideal)} (h : Post m r) (c : Dev nD) :
    r.2.mem ((c.tc : Thread nD τ).loc main_arg14) = m ((c.tc : Thread nD τ).loc main_arg14) :=
  ((h c).2 main_arg14 (Pipeline.mem_restRefs_of main_arg14 (by decide) (by decide))).trans (W_main_arg14 m (dats m) c)

theorem kept15 {r : PUnit × MemSt nD τ sig (Elt Ideal)} (h : Post m r) (c : Dev nD) :
    r.2.mem ((c.tc : Thread nD τ).loc main_arg15) = m ((c.tc : Thread nD τ).loc main_arg15) :=
  ((h c).2 main_arg15 (Pipeline.mem_restRefs_of main_arg15 (by decide) (by decide))).trans (W_main_arg15 m (dats m) c)

theorem kept16 {r : PUnit × MemSt nD τ sig (Elt Ideal)} (h : Post m r) (c : Dev nD) :
    r.2.mem ((c.tc : Thread nD τ).loc main_arg16) = m ((c.tc : Thread nD τ).loc main_arg16) :=
  ((h c).2 main_arg16 (Pipeline.mem_restRefs_of main_arg16 (by decide) (by decide))).trans (W_main_arg16 m (dats m) c)

theorem kept17 {r : PUnit × MemSt nD τ sig (Elt Ideal)} (h : Post m r) (c : Dev nD) :
    r.2.mem ((c.tc : Thread nD τ).loc main_arg17) = m ((c.tc : Thread nD τ).loc main_arg17) :=
  ((h c).2 main_arg17 (Pipeline.mem_restRefs_of main_arg17 (by decide) (by decide))).trans (W_main_arg17 m (dats m) c)

theorem kept18 {r : PUnit × MemSt nD τ sig (Elt Ideal)} (h : Post m r) (c : Dev nD) :
    r.2.mem ((c.tc : Thread nD τ).loc main_arg18) = m ((c.tc : Thread nD τ).loc main_arg18) :=
  ((h c).2 main_arg18 (Pipeline.mem_restRefs_of main_arg18 (by decide) (by decide))).trans (W_main_arg18 m (dats m) c)

theorem kept19 {r : PUnit × MemSt nD τ sig (Elt Ideal)} (h : Post m r) (c : Dev nD) :
    r.2.mem ((c.tc : Thread nD τ).loc main_arg19) = m ((c.tc : Thread nD τ).loc main_arg19) :=
  ((h c).2 main_arg19 (Pipeline.mem_restRefs_of main_arg19 (by decide) (by decide))).trans (W_main_arg19 m (dats m) c)

theorem kept20 {r : PUnit × MemSt nD τ sig (Elt Ideal)} (h : Post m r) (c : Dev nD) :
    r.2.mem ((c.tc : Thread nD τ).loc main_arg20) = m ((c.tc : Thread nD τ).loc main_arg20) :=
  ((h c).2 main_arg20 (Pipeline.mem_restRefs_of main_arg20 (by decide) (by decide))).trans (W_main_arg20 m (dats m) c)

theorem kept21 {r : PUnit × MemSt nD τ sig (Elt Ideal)} (h : Post m r) (c : Dev nD) :
    r.2.mem ((c.tc : Thread nD τ).loc main_arg21) = m ((c.tc : Thread nD τ).loc main_arg21) :=
  ((h c).2 main_arg21 (Pipeline.mem_restRefs_of main_arg21 (by decide) (by decide))).trans (W_main_arg21 m (dats m) c)

theorem kept22 {r : PUnit × MemSt nD τ sig (Elt Ideal)} (h : Post m r) (c : Dev nD) :
    r.2.mem ((c.tc : Thread nD τ).loc main_arg22) = m ((c.tc : Thread nD τ).loc main_arg22) :=
  ((h c).2 main_arg22 (Pipeline.mem_restRefs_of main_arg22 (by decide) (by decide))).trans (W_main_arg22 m (dats m) c)

theorem kept23 {r : PUnit × MemSt nD τ sig (Elt Ideal)} (h : Post m r) (c : Dev nD) :
    r.2.mem ((c.tc : Thread nD τ).loc main_arg23) = m ((c.tc : Thread nD τ).loc main_arg23) :=
  ((h c).2 main_arg23 (Pipeline.mem_restRefs_of main_arg23 (by decide) (by decide))).trans (W_main_arg23 m (dats m) c)

theorem kept24 {r : PUnit × MemSt nD τ sig (Elt Ideal)} (h : Post m r) (c : Dev nD) :
    r.2.mem ((c.tc : Thread nD τ).loc main_arg24) = m ((c.tc : Thread nD τ).loc main_arg24) :=
  ((h c).2 main_arg24 (Pipeline.mem_restRefs_of main_arg24 (by decide) (by decide))).trans (W_main_arg24 m (dats m) c)

theorem kept25 {r : PUnit × MemSt nD τ sig (Elt Ideal)} (h : Post m r) (c : Dev nD) :
    r.2.mem ((c.tc : Thread nD τ).loc main_arg25) = m ((c.tc : Thread nD τ).loc main_arg25) :=
  ((h c).2 main_arg25 (Pipeline.mem_restRefs_of main_arg25 (by decide) (by decide))).trans (W_main_arg25 m (dats m) c)

theorem kept26 {r : PUnit × MemSt nD τ sig (Elt Ideal)} (h : Post m r) (c : Dev nD) :
    r.2.mem ((c.tc : Thread nD τ).loc main_arg26) = m ((c.tc : Thread nD τ).loc main_arg26) :=
  ((h c).2 main_arg26 (Pipeline.mem_restRefs_of main_arg26 (by decide) (by decide))).trans (W_main_arg26 m (dats m) c)

theorem kept27 {r : PUnit × MemSt nD τ sig (Elt Ideal)} (h : Post m r) (c : Dev nD) :
    r.2.mem ((c.tc : Thread nD τ).loc main_arg27) = m ((c.tc : Thread nD τ).loc main_arg27) :=
  ((h c).2 main_arg27 (Pipeline.mem_restRefs_of main_arg27 (by decide) (by decide))).trans (W_main_arg27 m (dats m) c)

theorem kept28 {r : PUnit × MemSt nD τ sig (Elt Ideal)} (h : Post m r) (c : Dev nD) :
    r.2.mem ((c.tc : Thread nD τ).loc main_arg28) = m ((c.tc : Thread nD τ).loc main_arg28) :=
  ((h c).2 main_arg28 (Pipeline.mem_restRefs_of main_arg28 (by decide) (by decide))).trans (W_main_arg28 m (dats m) c)

theorem kept29 {r : PUnit × MemSt nD τ sig (Elt Ideal)} (h : Post m r) (c : Dev nD) :
    r.2.mem ((c.tc : Thread nD τ).loc main_arg29) = m ((c.tc : Thread nD τ).loc main_arg29) :=
  ((h c).2 main_arg29 (Pipeline.mem_restRefs_of main_arg29 (by decide) (by decide))).trans (W_main_arg29 m (dats m) c)

theorem kept30 {r : PUnit × MemSt nD τ sig (Elt Ideal)} (h : Post m r) (c : Dev nD) :
    r.2.mem ((c.tc : Thread nD τ).loc main_arg30) = m ((c.tc : Thread nD τ).loc main_arg30) :=
  ((h c).2 main_arg30 (Pipeline.mem_restRefs_of main_arg30 (by decide) (by decide))).trans (W_main_arg30 m (dats m) c)

theorem kept31 {r : PUnit × MemSt nD τ sig (Elt Ideal)} (h : Post m r) (c : Dev nD) :
    r.2.mem ((c.tc : Thread nD τ).loc main_arg31) = m ((c.tc : Thread nD τ).loc main_arg31) :=
  ((h c).2 main_arg31 (Pipeline.mem_restRefs_of main_arg31 (by decide) (by decide))).trans (W_main_arg31 m (dats m) c)

theorem kept32 {r : PUnit × MemSt nD τ sig (Elt Ideal)} (h : Post m r) (c : Dev nD) :
    r.2.mem ((c.tc : Thread nD τ).loc main_arg32) = m ((c.tc : Thread nD τ).loc main_arg32) :=
  ((h c).2 main_arg32 (Pipeline.mem_restRefs_of main_arg32 (by decide) (by decide))).trans (W_main_arg32 m (dats m) c)

theorem kept33 {r : PUnit × MemSt nD τ sig (Elt Ideal)} (h : Post m r) (c : Dev nD) :
    r.2.mem ((c.tc : Thread nD τ).loc main_arg33) = m ((c.tc : Thread nD τ).loc main_arg33) :=
  ((h c).2 main_arg33 (Pipeline.mem_restRefs_of main_arg33 (by decide) (by decide))).trans (W_main_arg33 m (dats m) c)

theorem kept34 {r : PUnit × MemSt nD τ sig (Elt Ideal)} (h : Post m r) (c : Dev nD) :
    r.2.mem ((c.tc : Thread nD τ).loc main_arg34) = m ((c.tc : Thread nD τ).loc main_arg34) :=
  ((h c).2 main_arg34 (Pipeline.mem_restRefs_of main_arg34 (by decide) (by decide))).trans (W_main_arg34 m (dats m) c)

theorem kept35 {r : PUnit × MemSt nD τ sig (Elt Ideal)} (h : Post m r) (c : Dev nD) :
    r.2.mem ((c.tc : Thread nD τ).loc main_arg35) = m ((c.tc : Thread nD τ).loc main_arg35) :=
  ((h c).2 main_arg35 (Pipeline.mem_restRefs_of main_arg35 (by decide) (by decide))).trans (W_main_arg35 m (dats m) c)

theorem kept36 {r : PUnit × MemSt nD τ sig (Elt Ideal)} (h : Post m r) (c : Dev nD) :
    r.2.mem ((c.tc : Thread nD τ).loc main_arg36) = m ((c.tc : Thread nD τ).loc main_arg36) :=
  ((h c).2 main_arg36 (Pipeline.mem_restRefs_of main_arg36 (by decide) (by decide))).trans (W_main_arg36 m (dats m) c)

theorem kept37 {r : PUnit × MemSt nD τ sig (Elt Ideal)} (h : Post m r) (c : Dev nD) :
    r.2.mem ((c.tc : Thread nD τ).loc main_arg37) = m ((c.tc : Thread nD τ).loc main_arg37) :=
  ((h c).2 main_arg37 (Pipeline.mem_restRefs_of main_arg37 (by decide) (by decide))).trans (W_main_arg37 m (dats m) c)

theorem kept38 {r : PUnit × MemSt nD τ sig (Elt Ideal)} (h : Post m r) (c : Dev nD) :
    r.2.mem ((c.tc : Thread nD τ).loc main_arg38) = m ((c.tc : Thread nD τ).loc main_arg38) :=
  ((h c).2 main_arg38 (Pipeline.mem_restRefs_of main_arg38 (by decide) (by decide))).trans (W_main_arg38 m (dats m) c)

theorem kept39 {r : PUnit × MemSt nD τ sig (Elt Ideal)} (h : Post m r) (c : Dev nD) :
    r.2.mem ((c.tc : Thread nD τ).loc main_arg39) = m ((c.tc : Thread nD τ).loc main_arg39) :=
  ((h c).2 main_arg39 (Pipeline.mem_restRefs_of main_arg39 (by decide) (by decide))).trans (W_main_arg39 m (dats m) c)

theorem kept40 {r : PUnit × MemSt nD τ sig (Elt Ideal)} (h : Post m r) (c : Dev nD) :
    r.2.mem ((c.tc : Thread nD τ).loc main_arg40) = m ((c.tc : Thread nD τ).loc main_arg40) :=
  ((h c).2 main_arg40 (Pipeline.mem_restRefs_of main_arg40 (by decide) (by decide))).trans (W_main_arg40 m (dats m) c)

theorem kept41 {r : PUnit × MemSt nD τ sig (Elt Ideal)} (h : Post m r) (c : Dev nD) :
    r.2.mem ((c.tc : Thread nD τ).loc main_arg41) = m ((c.tc : Thread nD τ).loc main_arg41) :=
  ((h c).2 main_arg41 (Pipeline.mem_restRefs_of main_arg41 (by decide) (by decide))).trans (W_main_arg41 m (dats m) c)

theorem kept42 {r : PUnit × MemSt nD τ sig (Elt Ideal)} (h : Post m r) (c : Dev nD) :
    r.2.mem ((c.tc : Thread nD τ).loc main_arg42) = m ((c.tc : Thread nD τ).loc main_arg42) :=
  ((h c).2 main_arg42 (Pipeline.mem_restRefs_of main_arg42 (by decide) (by decide))).trans (W_main_arg42 m (dats m) c)

theorem kept43 {r : PUnit × MemSt nD τ sig (Elt Ideal)} (h : Post m r) (c : Dev nD) :
    r.2.mem ((c.tc : Thread nD τ).loc main_arg43) = m ((c.tc : Thread nD τ).loc main_arg43) :=
  ((h c).2 main_arg43 (Pipeline.mem_restRefs_of main_arg43 (by decide) (by decide))).trans (W_main_arg43 m (dats m) c)

theorem kept44 {r : PUnit × MemSt nD τ sig (Elt Ideal)} (h : Post m r) (c : Dev nD) :
    r.2.mem ((c.tc : Thread nD τ).loc main_arg44) = m ((c.tc : Thread nD τ).loc main_arg44) :=
  ((h c).2 main_arg44 (Pipeline.mem_restRefs_of main_arg44 (by decide) (by decide))).trans (W_main_arg44 m (dats m) c)

theorem kept45 {r : PUnit × MemSt nD τ sig (Elt Ideal)} (h : Post m r) (c : Dev nD) :
    r.2.mem ((c.tc : Thread nD τ).loc main_arg45) = m ((c.tc : Thread nD τ).loc main_arg45) :=
  ((h c).2 main_arg45 (Pipeline.mem_restRefs_of main_arg45 (by decide) (by decide))).trans (W_main_arg45 m (dats m) c)

theorem kept46 {r : PUnit × MemSt nD τ sig (Elt Ideal)} (h : Post m r) (c : Dev nD) :
    r.2.mem ((c.tc : Thread nD τ).loc main_arg46) = m ((c.tc : Thread nD τ).loc main_arg46) :=
  ((h c).2 main_arg46 (Pipeline.mem_restRefs_of main_arg46 (by decide) (by decide))).trans (W_main_arg46 m (dats m) c)

theorem kept47 {r : PUnit × MemSt nD τ sig (Elt Ideal)} (h : Post m r) (c : Dev nD) :
    r.2.mem ((c.tc : Thread nD τ).loc main_arg47) = m ((c.tc : Thread nD τ).loc main_arg47) :=
  ((h c).2 main_arg47 (Pipeline.mem_restRefs_of main_arg47 (by decide) (by decide))).trans (W_main_arg47 m (dats m) c)

theorem kept48 {r : PUnit × MemSt nD τ sig (Elt Ideal)} (h : Post m r) (c : Dev nD) :
    r.2.mem ((c.tc : Thread nD τ).loc main_arg48) = m ((c.tc : Thread nD τ).loc main_arg48) :=
  ((h c).2 main_arg48 (Pipeline.mem_restRefs_of main_arg48 (by decide) (by decide))).trans (W_main_arg48 m (dats m) c)

theorem kept49 {r : PUnit × MemSt nD τ sig (Elt Ideal)} (h : Post m r) (c : Dev nD) :
    r.2.mem ((c.tc : Thread nD τ).loc main_arg49) = m ((c.tc : Thread nD τ).loc main_arg49) :=
  ((h c).2 main_arg49 (Pipeline.mem_restRefs_of main_arg49 (by decide) (by decide))).trans (W_main_arg49 m (dats m) c)

theorem kept50 {r : PUnit × MemSt nD τ sig (Elt Ideal)} (h : Post m r) (c : Dev nD) :
    r.2.mem ((c.tc : Thread nD τ).loc main_arg50) = m ((c.tc : Thread nD τ).loc main_arg50) :=
  ((h c).2 main_arg50 (Pipeline.mem_restRefs_of main_arg50 (by decide) (by decide))).trans (W_main_arg50 m (dats m) c)

theorem kept51 {r : PUnit × MemSt nD τ sig (Elt Ideal)} (h : Post m r) (c : Dev nD) :
    r.2.mem ((c.tc : Thread nD τ).loc main_arg51) = m ((c.tc : Thread nD τ).loc main_arg51) :=
  ((h c).2 main_arg51 (Pipeline.mem_restRefs_of main_arg51 (by decide) (by decide))).trans (W_main_arg51 m (dats m) c)

/-! ## The run -/

/-- The arguments as they were. -/
abbrev Kept (r : PUnit × MemSt nD τ sig (Elt Ideal)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)
  ∧ r.2.mem ((c.tc : Thread nD τ).loc main_arg10) = m ((c.tc : Thread nD τ).loc main_arg10)
  ∧ r.2.mem ((c.tc : Thread nD τ).loc main_arg11) = m ((c.tc : Thread nD τ).loc main_arg11)
  ∧ r.2.mem ((c.tc : Thread nD τ).loc main_arg12) = m ((c.tc : Thread nD τ).loc main_arg12)
  ∧ r.2.mem ((c.tc : Thread nD τ).loc main_arg13) = m ((c.tc : Thread nD τ).loc main_arg13)
  ∧ r.2.mem ((c.tc : Thread nD τ).loc main_arg14) = m ((c.tc : Thread nD τ).loc main_arg14)
  ∧ r.2.mem ((c.tc : Thread nD τ).loc main_arg15) = m ((c.tc : Thread nD τ).loc main_arg15)
  ∧ r.2.mem ((c.tc : Thread nD τ).loc main_arg16) = m ((c.tc : Thread nD τ).loc main_arg16)
  ∧ r.2.mem ((c.tc : Thread nD τ).loc main_arg17) = m ((c.tc : Thread nD τ).loc main_arg17)
  ∧ r.2.mem ((c.tc : Thread nD τ).loc main_arg18) = m ((c.tc : Thread nD τ).loc main_arg18)
  ∧ r.2.mem ((c.tc : Thread nD τ).loc main_arg19) = m ((c.tc : Thread nD τ).loc main_arg19)
  ∧ r.2.mem ((c.tc : Thread nD τ).loc main_arg20) = m ((c.tc : Thread nD τ).loc main_arg20)
  ∧ r.2.mem ((c.tc : Thread nD τ).loc main_arg21) = m ((c.tc : Thread nD τ).loc main_arg21)
  ∧ r.2.mem ((c.tc : Thread nD τ).loc main_arg22) = m ((c.tc : Thread nD τ).loc main_arg22)
  ∧ r.2.mem ((c.tc : Thread nD τ).loc main_arg23) = m ((c.tc : Thread nD τ).loc main_arg23)
  ∧ r.2.mem ((c.tc : Thread nD τ).loc main_arg24) = m ((c.tc : Thread nD τ).loc main_arg24)
  ∧ r.2.mem ((c.tc : Thread nD τ).loc main_arg25) = m ((c.tc : Thread nD τ).loc main_arg25)
  ∧ r.2.mem ((c.tc : Thread nD τ).loc main_arg26) = m ((c.tc : Thread nD τ).loc main_arg26)
  ∧ r.2.mem ((c.tc : Thread nD τ).loc main_arg27) = m ((c.tc : Thread nD τ).loc main_arg27)
  ∧ r.2.mem ((c.tc : Thread nD τ).loc main_arg28) = m ((c.tc : Thread nD τ).loc main_arg28)
  ∧ r.2.mem ((c.tc : Thread nD τ).loc main_arg29) = m ((c.tc : Thread nD τ).loc main_arg29)
  ∧ r.2.mem ((c.tc : Thread nD τ).loc main_arg30) = m ((c.tc : Thread nD τ).loc main_arg30)
  ∧ r.2.mem ((c.tc : Thread nD τ).loc main_arg31) = m ((c.tc : Thread nD τ).loc main_arg31)
  ∧ r.2.mem ((c.tc : Thread nD τ).loc main_arg32) = m ((c.tc : Thread nD τ).loc main_arg32)
  ∧ r.2.mem ((c.tc : Thread nD τ).loc main_arg33) = m ((c.tc : Thread nD τ).loc main_arg33)
  ∧ r.2.mem ((c.tc : Thread nD τ).loc main_arg34) = m ((c.tc : Thread nD τ).loc main_arg34)
  ∧ r.2.mem ((c.tc : Thread nD τ).loc main_arg35) = m ((c.tc : Thread nD τ).loc main_arg35)
  ∧ r.2.mem ((c.tc : Thread nD τ).loc main_arg36) = m ((c.tc : Thread nD τ).loc main_arg36)
  ∧ r.2.mem ((c.tc : Thread nD τ).loc main_arg37) = m ((c.tc : Thread nD τ).loc main_arg37)
  ∧ r.2.mem ((c.tc : Thread nD τ).loc main_arg38) = m ((c.tc : Thread nD τ).loc main_arg38)
  ∧ r.2.mem ((c.tc : Thread nD τ).loc main_arg39) = m ((c.tc : Thread nD τ).loc main_arg39)
  ∧ r.2.mem ((c.tc : Thread nD τ).loc main_arg40) = m ((c.tc : Thread nD τ).loc main_arg40)
  ∧ r.2.mem ((c.tc : Thread nD τ).loc main_arg41) = m ((c.tc : Thread nD τ).loc main_arg41)
  ∧ r.2.mem ((c.tc : Thread nD τ).loc main_arg42) = m ((c.tc : Thread nD τ).loc main_arg42)
  ∧ r.2.mem ((c.tc : Thread nD τ).loc main_arg43) = m ((c.tc : Thread nD τ).loc main_arg43)
  ∧ r.2.mem ((c.tc : Thread nD τ).loc main_arg44) = m ((c.tc : Thread nD τ).loc main_arg44)
  ∧ r.2.mem ((c.tc : Thread nD τ).loc main_arg45) = m ((c.tc : Thread nD τ).loc main_arg45)
  ∧ r.2.mem ((c.tc : Thread nD τ).loc main_arg46) = m ((c.tc : Thread nD τ).loc main_arg46)
  ∧ r.2.mem ((c.tc : Thread nD τ).loc main_arg47) = m ((c.tc : Thread nD τ).loc main_arg47)
  ∧ r.2.mem ((c.tc : Thread nD τ).loc main_arg48) = m ((c.tc : Thread nD τ).loc main_arg48)
  ∧ r.2.mem ((c.tc : Thread nD τ).loc main_arg49) = m ((c.tc : Thread nD τ).loc main_arg49)
  ∧ r.2.mem ((c.tc : Thread nD τ).loc main_arg50) = m ((c.tc : Thread nD τ).loc main_arg50)
  ∧ r.2.mem ((c.tc : Thread nD τ).loc main_arg51) = m ((c.tc : Thread nD τ).loc main_arg51)

theorem kept_all {r : PUnit × MemSt nD τ sig (Elt Ideal)} (h : Post m r) (c : Dev nD) : Kept m r c :=
  ⟨kept0 m h c, kept1 m h c, kept2 m h c, kept3 m h c, kept4 m h c, kept5 m h c, kept6 m h c, kept7 m h c, kept8 m h c, kept9 m h c, kept10 m h c, kept11 m h c, kept12 m h c, kept13 m h c, kept14 m h c, kept15 m h c, kept16 m h c, kept17 m h c, kept18 m h c, kept19 m h c, kept20 m h c, kept21 m h c, kept22 m h c, kept23 m h c, kept24 m h c, kept25 m h c, kept26 m h c, kept27 m h c, kept28 m h c, kept29 m h c, kept30 m h c, kept31 m h c, kept32 m h c, kept33 m h c, kept34 m h c, kept35 m h c, kept36 m h c, kept37 m h c, kept38 m h c, kept39 m h c, kept40 m h c, kept41 m h c, kept42 m h c, kept43 m h c, kept44 m h c, kept45 m h c, kept46 m h c, kept47 m h c, kept48 m h c, kept49 m h c, kept50 m h c, kept51 m h c⟩

/-- The kernel's run: the thirty-nine results, and the arguments as they were. -/
theorem run : θ_run defs (onTc (τ := τ) (main (F := Ideal))) ⟨m, fun _ => 0, ρ⟩ (fun r => ∀ c : Dev nD,
      r.2.mem ((c.tc : Thread nD τ).loc main_v164) = deltaA (m ((c.tc : Thread nD τ).loc main_arg0)) (m ((c.tc : Thread nD τ).loc main_arg26)) (m ((c.tc : Thread nD τ).loc main_arg39)) (m ((c.tc : Thread nD τ).loc main_arg13))
      ∧ r.2.mem ((c.tc : Thread nD τ).loc main_v168) = deltaA (m ((c.tc : Thread nD τ).loc main_arg1)) (m ((c.tc : Thread nD τ).loc main_arg27)) (m ((c.tc : Thread nD τ).loc main_arg40)) (m ((c.tc : Thread nD τ).loc main_arg14))
      ∧ r.2.mem ((c.tc : Thread nD τ).loc main_v172) = deltaA (m ((c.tc : Thread nD τ).loc main_arg2)) (m ((c.tc : Thread nD τ).loc main_arg28)) (m ((c.tc : Thread nD τ).loc main_arg41)) (m ((c.tc : Thread nD τ).loc main_arg15))
      ∧ r.2.mem ((c.tc : Thread nD τ).loc main_v176) = deltaA (m ((c.tc : Thread nD τ).loc main_arg3)) (m ((c.tc : Thread nD τ).loc main_arg29)) (m ((c.tc : Thread nD τ).loc main_arg42)) (m ((c.tc : Thread nD τ).loc main_arg16))
      ∧ r.2.mem ((c.tc : Thread nD τ).loc main_v180) = deltaA (m ((c.tc : Thread nD τ).loc main_arg4)) (m ((c.tc : Thread nD τ).loc main_arg30)) (m ((c.tc : Thread nD τ).loc main_arg43)) (m ((c.tc : Thread nD τ).loc main_arg17))
      ∧ r.2.mem ((c.tc : Thread nD τ).loc main_v184) = deltaA (m ((c.tc : Thread nD τ).loc main_arg5)) (m ((c.tc : Thread nD τ).loc main_arg31)) (m ((c.tc : Thread nD τ).loc main_arg44)) (m ((c.tc : Thread nD τ).loc main_arg18))
      ∧ r.2.mem ((c.tc : Thread nD τ).loc main_v188) = deltaA (m ((c.tc : Thread nD τ).loc main_arg6)) (m ((c.tc : Thread nD τ).loc main_arg32)) (m ((c.tc : Thread nD τ).loc main_arg45)) (m ((c.tc : Thread nD τ).loc main_arg19))
      ∧ r.2.mem ((c.tc : Thread nD τ).loc main_v192) = deltaA (m ((c.tc : Thread nD τ).loc main_arg7)) (m ((c.tc : Thread nD τ).loc main_arg33)) (m ((c.tc : Thread nD τ).loc main_arg46)) (m ((c.tc : Thread nD τ).loc main_arg20))
      ∧ r.2.mem ((c.tc : Thread nD τ).loc main_v196) = deltaA (m ((c.tc : Thread nD τ).loc main_arg8)) (m ((c.tc : Thread nD τ).loc main_arg34)) (m ((c.tc : Thread nD τ).loc main_arg47)) (m ((c.tc : Thread nD τ).loc main_arg21))
      ∧ r.2.mem ((c.tc : Thread nD τ).loc main_v199) = deltaA (m ((c.tc : Thread nD τ).loc main_arg9)) (m ((c.tc : Thread nD τ).loc main_arg35)) (m ((c.tc : Thread nD τ).loc main_arg48)) (m ((c.tc : Thread nD τ).loc main_arg22))
      ∧ r.2.mem ((c.tc : Thread nD τ).loc main_v202) = deltaA (m ((c.tc : Thread nD τ).loc main_arg10)) (m ((c.tc : Thread nD τ).loc main_arg36)) (m ((c.tc : Thread nD τ).loc main_arg49)) (m ((c.tc : Thread nD τ).loc main_arg23))
      ∧ r.2.mem ((c.tc : Thread nD τ).loc main_v205) = deltaA (m ((c.tc : Thread nD τ).loc main_arg11)) (m ((c.tc : Thread nD τ).loc main_arg37)) (m ((c.tc : Thread nD τ).loc main_arg50)) (m ((c.tc : Thread nD τ).loc main_arg24))
      ∧ r.2.mem ((c.tc : Thread nD τ).loc main_v208) = deltaA (m ((c.tc : Thread nD τ).loc main_arg12)) (m ((c.tc : Thread nD τ).loc main_arg38)) (m ((c.tc : Thread nD τ).loc main_arg51)) (m ((c.tc : Thread nD τ).loc main_arg25))
      ∧ r.2.mem ((c.tc : Thread nD τ).loc main_v212) = momA (m ((c.tc : Thread nD τ).loc main_arg26)) (m ((c.tc : Thread nD τ).loc main_arg13))
      ∧ r.2.mem ((c.tc : Thread nD τ).loc main_v216) = momA (m ((c.tc : Thread nD τ).loc main_arg27)) (m ((c.tc : Thread nD τ).loc main_arg14))
      ∧ r.2.mem ((c.tc : Thread nD τ).loc main_v220) = momA (m ((c.tc : Thread nD τ).loc main_arg28)) (m ((c.tc : Thread nD τ).loc main_arg15))
      ∧ r.2.mem ((c.tc : Thread nD τ).loc main_v224) = momA (m ((c.tc : Thread nD τ).loc main_arg29)) (m ((c.tc : Thread nD τ).loc main_arg16))
      ∧ r.2.mem ((c.tc : Thread nD τ).loc main_v228) = momA (m ((c.tc : Thread nD τ).loc main_arg30)) (m ((c.tc : Thread nD τ).loc main_arg17))
      ∧ r.2.mem ((c.tc : Thread nD τ).loc main_v232) = momA (m ((c.tc : Thread nD τ).loc main_arg31)) (m ((c.tc : Thread nD τ).loc main_arg18))
      ∧ r.2.mem ((c.tc : Thread nD τ).loc main_v236) = momA (m ((c.tc : Thread nD τ).loc main_arg32)) (m ((c.tc : Thread nD τ).loc main_arg19))
      ∧ r.2.mem ((c.tc : Thread nD τ).loc main_v240) = momA (m ((c.tc : Thread nD τ).loc main_arg33)) (m ((c.tc : Thread nD τ).loc main_arg20))
      ∧ r.2.mem ((c.tc : Thread nD τ).loc main_v244) = momA (m ((c.tc : Thread nD τ).loc main_arg34)) (m ((c.tc : Thread nD τ).loc main_arg21))
      ∧ r.2.mem ((c.tc : Thread nD τ).loc main_v247) = momA (m ((c.tc : Thread nD τ).loc main_arg35)) (m ((c.tc : Thread nD τ).loc main_arg22))
      ∧ r.2.mem ((c.tc : Thread nD τ).loc main_v250) = momA (m ((c.tc : Thread nD τ).loc main_arg36)) (m ((c.tc : Thread nD τ).loc main_arg23))
      ∧ r.2.mem ((c.tc : Thread nD τ).loc main_v253) = momA (m ((c.tc : Thread nD τ).loc main_arg37)) (m ((c.tc : Thread nD τ).loc main_arg24))
      ∧ r.2.mem ((c.tc : Thread nD τ).loc main_v256) = momA (m ((c.tc : Thread nD τ).loc main_arg38)) (m ((c.tc : Thread nD τ).loc main_arg25))
      ∧ r.2.mem ((c.tc : Thread nD τ).loc main_v260) = velA (m ((c.tc : Thread nD τ).loc main_arg39)) (m ((c.tc : Thread nD τ).loc main_arg13))
      ∧ r.2.mem ((c.tc : Thread nD τ).loc main_v264) = velA (m ((c.tc : Thread nD τ).loc main_arg40)) (m ((c.tc : Thread nD τ).loc main_arg14))
      ∧ r.2.mem ((c.tc : Thread nD τ).loc main_v268) = velA (m ((c.tc : Thread nD τ).loc main_arg41)) (m ((c.tc : Thread nD τ).loc main_arg15))
      ∧ r.2.mem ((c.tc : Thread nD τ).loc main_v272) = velA (m ((c.tc : Thread nD τ).loc main_arg42)) (m ((c.tc : Thread nD τ).loc main_arg16))
      ∧ r.2.mem ((c.tc : Thread nD τ).loc main_v276) = velA (m ((c.tc : Thread nD τ).loc main_arg43)) (m ((c.tc : Thread nD τ).loc main_arg17))
      ∧ r.2.mem ((c.tc : Thread nD τ).loc main_v280) = velA (m ((c.tc : Thread nD τ).loc main_arg44)) (m ((c.tc : Thread nD τ).loc main_arg18))
      ∧ r.2.mem ((c.tc : Thread nD τ).loc main_v284) = velA (m ((c.tc : Thread nD τ).loc main_arg45)) (m ((c.tc : Thread nD τ).loc main_arg19))
      ∧ r.2.mem ((c.tc : Thread nD τ).loc main_v288) = velA (m ((c.tc : Thread nD τ).loc main_arg46)) (m ((c.tc : Thread nD τ).loc main_arg20))
      ∧ r.2.mem ((c.tc : Thread nD τ).loc main_v292) = velA (m ((c.tc : Thread nD τ).loc main_arg47)) (m ((c.tc : Thread nD τ).loc main_arg21))
      ∧ r.2.mem ((c.tc : Thread nD τ).loc main_v295) = velA (m ((c.tc : Thread nD τ).loc main_arg48)) (m ((c.tc : Thread nD τ).loc main_arg22))
      ∧ r.2.mem ((c.tc : Thread nD τ).loc main_v298) = velA (m ((c.tc : Thread nD τ).loc main_arg49)) (m ((c.tc : Thread nD τ).loc main_arg23))
      ∧ r.2.mem ((c.tc : Thread nD τ).loc main_v301) = velA (m ((c.tc : Thread nD τ).loc main_arg50)) (m ((c.tc : Thread nD τ).loc main_arg24))
      ∧ r.2.mem ((c.tc : Thread nD τ).loc main_v304) = velA (m ((c.tc : Thread nD τ).loc main_arg51)) (m ((c.tc : Thread nD τ).loc main_arg25))
      ∧ Kept m r c) :=
  (θ_run defs _ _).mono (fun r h c => ⟨end0 m h.1 c, end1 m h.1 c, end2 m h.1 c, end3 m h.1 c, end4 m h.1 c, end5 m h.1 c, end6 m h.1 c, end7 m h.1 c, end8 m h.1 c, end9 m h.1 c, end10 m h.1 c, end11 m h.1 c, end12 m h.1 c, end13 m h.1 c, end14 m h.1 c, end15 m h.1 c, end16 m h.1 c, end17 m h.1 c, end18 m h.1 c, end19 m h.1 c, end20 m h.1 c, end21 m h.1 c, end22 m h.1 c, end23 m h.1 c, end24 m h.1 c, end25 m h.1 c, end26 m h.1 c, end27 m h.1 c, end28 m h.1 c, end29 m h.1 c, end30 m h.1 c, end31 m h.1 c, end32 m h.1 c, end33 m h.1 c, end34 m h.1 c, end35 m h.1 c, end36 m h.1 c, end37 m h.1 c, end38 m h.1 c, kept_all m h.1 c⟩) (run_main_quiescent m ρ)

end Cert.SmallRun
-- ==== Proof.SmallClaim.lean ====
/-
  THE SMALL WEIGHTS' CLAIMS that are not generated: the reference's frame, from its generated run, and the value claim, from the
  kernel's run (SmallRun.lean), the reference's run and AdamW's terms on the host (AdamHost.lean).
-/
module

public import proofs.«01_k».proof.Defs
public import proofs.«01_k».proof.Proof.SmallRun
public import proofs.«01_k».proof.Proof.AdamHost
public import proofs.«01_k».proof.Proof.Gen.SmallRefIdeal.Run
public import Idealize.ShloMosaic.Lib.Quiescent

@[expose] public section

set_option maxRecDepth 16384

noncomputable section

namespace Cert.SmallClaim

open Idealize.ShloMosaic Idealize.ShloMosaic.StableHlo Idealize.SL.Sem Cert.AdamMath

theorem ref_frame : Cert.quiescent_SmallRefIdeal (hSmallRefIdeal := Cert.SmallRefIdeal.Gen.facts) := fun m ρ _ =>
  (θ_run Cert.SmallRefIdeal.defs _ _).mono (fun r h =>
    ⟨fun c => (h c).2.2.2.2.2.2.2.2.2.2.2.2.2.2.2.2.2.2.2.2.2.2.2.2.2.2.2.2.2.2.2.2.2.2.2.2.2.2.2, Idealize.ShloMosaic.sem_eq_zero_of_no_sems (by decide) r.2⟩)
    (Cert.SmallRefIdeal.Value.run (F := Ideal) m ρ)

theorem value : Cert.algebraic_SmallIdeal_SmallRefIdeal (hSmallIdeal := Cert.SmallIdeal.Gen.facts)
    (hSmallRefIdeal := Cert.SmallRefIdeal.Gen.facts) := by
  intro m g m' g' _ hag
  refine ⟨_, _, _, _, _, _, _, _, _, _, _, _, _, _, _, _, _, _, _, _, _, _, _, _, _, _, _, _, _, _, _, _, _, _, _, _, _, _, _,
    Cert.SmallRun.run m g,
    (θ_run Cert.SmallRefIdeal.defs _ _).mono (fun r h c => ?_) (Cert.SmallRefIdeal.Value.run (F := Ideal) m' g')⟩
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51⟩ := hag c
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, hargs⟩ := h c
  exact ⟨step_of _ h0 e0 e26 e39 e13,
    step_of _ h1 e1 e27 e40 e14,
    step_of _ h2 e2 e28 e41 e15,
    step_of _ h3 e3 e29 e42 e16,
    step_of _ h4 e4 e30 e43 e17,
    step_of _ h5 e5 e31 e44 e18,
    step_of _ h6 e6 e32 e45 e19,
    step_of _ h7 e7 e33 e46 e20,
    step_of _ h8 e8 e34 e47 e21,
    step_of _ h9 e9 e35 e48 e22,
    step_of _ h10 e10 e36 e49 e23,
    step_of _ h11 e11 e37 e50 e24,
    step_of _ h12 e12 e38 e51 e25,
    mom_of _ h13 e26 e13,
    mom_of _ h14 e27 e14,
    mom_of _ h15 e28 e15,
    mom_of _ h16 e29 e16,
    mom_of _ h17 e30 e17,
    mom_of _ h18 e31 e18,
    mom_of _ h19 e32 e19,
    mom_of _ h20 e33 e20,
    mom_of _ h21 e34 e21,
    mom_of _ h22 e35 e22,
    mom_of _ h23 e36 e23,
    mom_of _ h24 e37 e24,
    mom_of _ h25 e38 e25,
    vel_of _ h26 e39 e13,
    vel_of _ h27 e40 e14,
    vel_of _ h28 e41 e15,
    vel_of _ h29 e42 e16,
    vel_of _ h30 e43 e17,
    vel_of _ h31 e44 e18,
    vel_of _ h32 e45 e19,
    vel_of _ h33 e46 e20,
    vel_of _ h34 e47 e21,
    vel_of _ h35 e48 e22,
    vel_of _ h36 e49 e23,
    vel_of _ h37 e50 e24,
    vel_of _ h38 e51 e25,
    hargs⟩

end Cert.SmallClaim
-- ==== Proof.SumMath.lean ====
/-
  SUMS OVER THE EIGHT DEVICES, PACKED. Each of the thirteen small gradients comes as eight arrays, one of each device. The kernel
  flattens and pads them to rows of 128, stands all rows in one array, adds the eight arrays and cuts the sums out again. Here: what is
  cut out is the sum of what was put in; the host's sum along the first axis is that sum; and taking one device's part after the axis of
  the devices was moved to the front is taking it where the axis stood.
-/
module

public import proofs.«01_k».proof.Proof.SmallMath
public import Idealize.ShloMosaic.Lib.KernelVsHost
public import Idealize.ShloMosaic.Lib.IdealHost
public import Idealize.ShloMosaic.Lib.Pointwise.Reduce

@[expose] public section

set_option maxRecDepth 16384

noncomputable section

namespace Cert.SumMath

open Idealize.ShloMosaic hiding ix1 ix2 ix3 ix4
open Idealize.ShloMosaic.ValueIdx Cert.AdamMath Cert.SmallMath

/-! ## Eight arrays, one behind the other -/

/-- The shape of eight arrays of shape `s`. -/
abbrev Eight (s : Shape) : Shape := ⟨s.rank + 1, Matrix.vecCons 8 s.size⟩

section Eight

variable {s : Shape}

/-- Entry `j` of array `b`. -/
def at8 (b : Fin 8) (j : s.Idx) : (Eight s).Idx := fun a => Fin.cases (motive := fun a => Fin ((Eight s).size a)) b (fun a => j a) a

/-- Array `b`. -/
def own (x : Vec Ideal (Eight s) .f32) (b : Fin 8) : Vec Ideal s .f32 := fun j => x (at8 b j)

/-- The sum of the eight. -/
def total (x : Vec Ideal (Eight s) .f32) : Vec Ideal s .f32 := fun j => (∑ b : Fin 8, x (at8 b j) : EReal)

theorem rowMajor_at8 (b : Fin 8) (j : s.Idx) : ((Eight s).rowMajor (at8 b j)).val = b.val * s.numel + (s.rowMajor j).val :=
  Shape.rowMajor_val_succ (d := Matrix.vecCons 8 s.size) (at8 b j)

end Eight

/-- Eight rows of `n` entries. -/
abbrev Row8 (n : Nat) : Shape := ⟨2, ![8, n]⟩
/-- Eight arrays of `r` rows of 128. -/
abbrev Sq8 (r : Nat) : Shape := ⟨3, ![8, r, 128]⟩

/-- The eight arrays of a gradient, each flattened already, padded to `r` rows of 128. -/
def seg8 {n t r hi : Nat} (y : Vec Ideal (Row8 n) .f32) (hp : (Row8 n).Pads ![0, 0] ![0, hi] ![0, 0] (Row8 t))
    (h2 : (Row8 t).ShapeCasts (Sq8 r)) : Vec Ideal (Sq8 r) .f32 :=
  shapeCast (Sq8 r) (pad (Row8 t) ![0, 0] ![0, hi] ![0, 0] y (sitofp (F := Ideal) .f32 (constantI S0 32 0#32)) hp (by decide)) h2

/-- Rows of device `b` are the rows of its own array. -/
theorem seg8_at {s : Shape} {n t r hi : Nat} (x : Vec Ideal (Eight s) .f32) (h0 : (Eight s).ShapeCasts (Row8 n))
    (hp : (Row8 n).Pads ![0, 0] ![0, hi] ![0, 0] (Row8 t)) (h2 : (Row8 t).ShapeCasts (Sq8 r))
    (h1 : s.ShapeCasts (Row n)) (hp' : (Row n).Pads ![0] ![hi] ![0] (Row t)) (h2' : (Row t).ShapeCasts (Sq r))
    (hn : s.numel = n) (ht : t = r * 128) (b : Fin 8) (q : (Sq r).Idx) :
    seg8 (shapeCast (Row8 n) x h0) hp h2 (ix3 b (q 0) (q 1)) = seg (own x b) h1 hp' h2' q := by
  have q0 : (q 0).val < r := (q 0).isLt
  have q1 : (q 1).val < 128 := (q 1).isLt
  have hk : (q 0).val * 128 + (q 1).val < t := by omega
  unfold seg8 seg
  rw [shapeCast_apply _ h2 _ (ix2 b ⟨(q 0).val * 128 + (q 1).val, hk⟩)
      (by rw [Shape.rowMajor_val_two, Shape.rowMajor_val_three]
          show b.val * t + ((q 0).val * 128 + (q 1).val) = (b.val * r + (q 0).val) * 128 + (q 1).val
          rw [ht]; ring),
    shapeCast_apply _ h2' _ (ix1 ⟨(q 0).val * 128 + (q 1).val, hk⟩)
      (by rw [Shape.rowMajor_val_one, Shape.rowMajor_val_two]; rfl)]
  by_cases hlt : (q 0).val * 128 + (q 1).val < n
  · rw [pad_apply_of_inside _ _ _ _ _ hp _ _ (ix2 b ⟨(q 0).val * 128 + (q 1).val, hlt⟩) (fun a => by
        match a with
        | ⟨0, _⟩ => show b.val = 0 + b.val * (0 + 1); omega
        | ⟨1, _⟩ => show (q 0).val * 128 + (q 1).val = 0 + ((q 0).val * 128 + (q 1).val) * (0 + 1); omega),
      pad_apply_of_inside _ _ _ _ _ hp' _ _ (ix1 ⟨(q 0).val * 128 + (q 1).val, hlt⟩) (fun a => by
        match a with
        | ⟨0, _⟩ => show (q 0).val * 128 + (q 1).val = 0 + ((q 0).val * 128 + (q 1).val) * (0 + 1); omega),
      shapeCast_apply _ h0 _ (at8 b (s.rowMajor.symm ⟨(q 0).val * 128 + (q 1).val, by omega⟩))
        (by rw [rowMajor_at8, Equiv.apply_symm_apply, Shape.rowMajor_val_two]; show b.val * s.numel + ((q 0).val * 128 + (q 1).val) = b.val * n + ((q 0).val * 128 + (q 1).val); rw [hn]),
      shapeCast_apply _ h1 _ (s.rowMajor.symm ⟨(q 0).val * 128 + (q 1).val, by omega⟩)
        (by rw [Equiv.apply_symm_apply, Shape.rowMajor_val_one]; rfl)]
    rfl
  · rw [pad_apply_of_not_inside _ _ _ _ _ hp _ _ (⟨1, by decide⟩ : Fin 2) (fun h => hlt (by
        have := h.2.2
        change ((q 0).val * 128 + (q 1).val - 0) / (0 + 1) < n at this
        omega)),
      pad_apply_of_not_inside _ _ _ _ _ hp' _ _ (⟨0, by decide⟩ : Fin 1) (fun h => hlt (by
        have := h.2.2
        change ((q 0).val * 128 + (q 1).val - 0) / (0 + 1) < n at this
        omega))]

/-! ## The sum of the eight stacks, cut -/

/-- The sum of the eight stacks. -/
def sum8 {N : Nat} (P : Vec Ideal (Sq8 N) .f32) : Vec Ideal (Sq N) .f32 := fun q => (∑ b : Fin 8, P (ix3 b (q 0) (q 1)) : EReal)

/-- Rows `pre` to `pre + r` of a stack of eights, by device. -/
theorem piece8 {N : Nat} (xs : List ((s : Shape) × (s.Idx → EReal))) (h : Shape.Concatenates (xs.map (·.1)) (Sq8 N) 1) (k : Nat)
    (hk : k < xs.length) {r : Nat} (x : (Sq8 r).Idx → EReal) (hx : xs[k] = ⟨Sq8 r, x⟩) (pre : Nat)
    (hpre : (((xs.take k).map (·.1)).map fun s => if h : s.rank = (Sq8 N).rank then s.size ((1 : Fin 3).cast h.symm) else 0).sum = pre)
    (hs : (Sq N).Slices ![pre, 0] (Sq r)) (y : Fin 8 → (Sq r).Idx → EReal) (hy : ∀ b q, x (ix3 b (q 0) (q 1)) = y b q) :
    extractStridedSlice (Sq r) ![pre, 0] (sum8 (concatenate (Sq8 N) 1 xs h)) hs = fun q => (∑ b : Fin 8, y b q : EReal) := by
  funext q
  have q0 : (q 0).val < r := (q 0).isLt
  have q1 : (q 1).val < 128 := (q 1).isLt
  have b0 : pre + (q 0).val < N := by
    have e := hs.2 0
    change pre + r ≤ N at e
    omega
  show (∑ b : Fin 8, concatenate (Sq8 N) 1 xs h (ix3 b ⟨pre + (q 0).val, b0⟩ ⟨0 + (q 1).val, by omega⟩) : EReal) = (∑ b : Fin 8, y b q : EReal)
  refine Finset.sum_congr rfl fun b _ => ?_
  rw [← hy b q]
  refine concatenate_apply_piece 1 xs h _ k hk (Sq8 r) x hx rfl pre hpre (ix3 b (q 0) (q 1)) (fun a ha => ?_) rfl
  match a with
  | ⟨0, _⟩ => rfl
  | ⟨1, _⟩ => exact absurd rfl ha
  | ⟨2, _⟩ => show (q 1).val = 0 + (q 1).val; omega

section Cut

variable {s : Shape} {n t r hi : Nat} (x : Vec Ideal (Eight s) .f32) (h1 : s.ShapeCasts (Row n))
    (hp : (Row n).Pads ![0] ![hi] ![0] (Row t)) (h2 : (Row t).ShapeCasts (Sq r)) (h3 : (Sq r).ShapeCasts (Row t))
    (h5 : (Row n).ShapeCasts s)

/-- The sum of the eight, cut out of its rows. -/
theorem cut_sum (hs : (Row t).Slices ![0] (Row n)) (Y : Vec Ideal (Sq r) .f32)
    (hY : Y = fun q => (∑ b : Fin 8, seg (own x b) h1 hp h2 q : EReal)) :
    shapeCast s (extractStridedSlice (Row n) ![0] (shapeCast (Row t) Y h3) hs) h5 = total x := by
  rw [hY]
  funext j
  show (∑ b : Fin 8, (shapeCast s (extractStridedSlice (Row n) ![0] (shapeCast (Row t) (seg (own x b) h1 hp h2) h3) hs) h5 j : EReal)) = _
  refine Finset.sum_congr rfl fun b _ => ?_
  rw [unseg]
  rfl

/-- The same where the array fills its rows. -/
theorem cut_sum_full (hp : (Row n).Pads ![0] ![0] ![0] (Row n)) (h2 : (Row n).ShapeCasts (Sq r)) (h3 : (Sq r).ShapeCasts (Row n))
    (Y : Vec Ideal (Sq r) .f32) (hY : Y = fun q => (∑ b : Fin 8, seg (own x b) h1 hp h2 q : EReal)) :
    shapeCast s (shapeCast (Row n) Y h3) h5 = total x := by
  rw [hY]
  funext j
  show (∑ b : Fin 8, (shapeCast s (shapeCast (Row n) (seg (own x b) h1 hp h2) h3) h5 j : EReal)) = _
  refine Finset.sum_congr rfl fun b _ => ?_
  rw [unseg_full]
  rfl

end Cut

/-! ## The host's sum along the first axis -/

theorem host2 {a b : Nat} (x : Vec Ideal ⟨3, ![8, a, b]⟩ .f32) (h' : (⟨3, ![8, a, b]⟩ : Shape).ReducesTo [0] ⟨2, ![a, b]⟩)
    (h : (⟨3, ![8, a, b]⟩ : Shape).Reduces [0] ⟨2, ![a, b]⟩) (hu : 0 < S0.numel) :
    Host.reduceAdd (F := Ideal) (φ := .f32) x (constant (F := Ideal) S0 .f32 0x00000000#32) h' hu = total (s := ⟨2, ![a, b]⟩) x := by
  funext j
  rw [hostReduceAdd_apply, Ideal.hostReduceAdd_single h' h]
  show Ideal.ofBits .f32 0x00000000#32 + _ = _
  rw [Ideal.ofBits_zero_f32, zero_add]
  refine Finset.sum_congr rfl fun t _ => congrArg x ?_
  funext a
  match a with
  | ⟨0, _⟩ => rfl
  | ⟨1, _⟩ => rfl
  | ⟨2, _⟩ => rfl

theorem host3 {a b d : Nat} (x : Vec Ideal ⟨4, ![8, a, b, d]⟩ .f32) (h' : (⟨4, ![8, a, b, d]⟩ : Shape).ReducesTo [0] ⟨3, ![a, b, d]⟩)
    (h : (⟨4, ![8, a, b, d]⟩ : Shape).Reduces [0] ⟨3, ![a, b, d]⟩) (hu : 0 < S0.numel) :
    Host.reduceAdd (F := Ideal) (φ := .f32) x (constant (F := Ideal) S0 .f32 0x00000000#32) h' hu = total (s := ⟨3, ![a, b, d]⟩) x := by
  funext j
  rw [hostReduceAdd_apply, Ideal.hostReduceAdd_single h' h]
  show Ideal.ofBits .f32 0x00000000#32 + _ = _
  rw [Ideal.ofBits_zero_f32, zero_add]
  refine Finset.sum_congr rfl fun t _ => congrArg x ?_
  funext a
  match a with
  | ⟨0, _⟩ => rfl
  | ⟨1, _⟩ => rfl
  | ⟨2, _⟩ => rfl
  | ⟨3, _⟩ => rfl

/-- The host's sum of eight single numbers. -/
theorem host_loss (x : Vec Ideal ⟨2, ![8, 1]⟩ .f32) (h' : (⟨2, ![8, 1]⟩ : Shape).ReducesTo [0, 1] S0) (hu : 0 < S0.numel)
    (h5 : (Row 1).ShapeCasts S0) :
    Host.reduceAdd (F := Ideal) (φ := .f32) x (constant (F := Ideal) S0 .f32 0x00000000#32) h' hu = shapeCast S0 (total (s := Row 1) x) h5 := by
  funext j
  rw [hostReduceAdd_apply, Ideal.hostReduceAdd_r2_a01]
  show Ideal.ofBits .f32 0x00000000#32 + _ = _
  rw [Ideal.ofBits_zero_f32, zero_add]
  rw [shapeCast_apply (total (s := Row 1) x) h5 j (ix1 0) (by
    have := (S0.rowMajor j).isLt; rw [Shape.rowMajor_val_one]; show 0 = _; change (S0.rowMajor j).val < 1 at this; omega)]
  show _ = (∑ b : Fin 8, x (at8 (s := Row 1) b (ix1 0)) : EReal)
  refine Finset.sum_congr rfl fun t _ => ?_
  rw [Fin.sum_univ_one]
  refine congrArg x ?_
  funext a
  match a with
  | ⟨0, _⟩ => rfl
  | ⟨1, _⟩ => exact Subsingleton.elim (α := Fin 1) _ _

/-! ## One device's part -/

theorem pick3 {a w : Nat} (Z : Vec Ideal ⟨3, ![a, 8, w]⟩ .f32) (ht : (⟨3, ![a, 8, w]⟩ : Shape).Transposes [1, 0, 2] ⟨3, ![8, a, w]⟩)
    (h1 : (⟨3, ![8, a, w]⟩ : Shape).Slices (fun _ => 0) ⟨3, ![1, a, w]⟩) (h2 : (⟨3, ![a, 8, w]⟩ : Shape).Slices (fun _ => 0) ⟨3, ![a, 1, w]⟩)
    (c1 : (⟨3, ![1, a, w]⟩ : Shape).ShapeCasts ⟨2, ![a, w]⟩) (c2 : (⟨3, ![a, 1, w]⟩ : Shape).ShapeCasts ⟨2, ![a, w]⟩)
    (f : Fin 3 → Int) (g : Fin 3 → Int) (e0 : f 0 = g 1) (f1 : f 1 = 0) (f2 : f 2 = 0) (g0 : g 0 = 0) (g2 : g 2 = 0) :
    shapeCast ⟨2, ![a, w]⟩ (Host.dynamicSlice ⟨3, ![1, a, w]⟩ (transpose ⟨3, ![8, a, w]⟩ [1, 0, 2] Z ht) f h1) c1
      = shapeCast ⟨2, ![a, w]⟩ (Host.dynamicSlice ⟨3, ![a, 1, w]⟩ Z g h2) c2 := by
  funext j
  have hk : (min (max (g 1) 0) ((8 - 1 : Nat) : Int)).toNat < 8 := by omega
  rw [shapeCast_apply _ c1 _ (ix3 (0 : Fin 1) (j 0) (j 1)) (by
      rw [Shape.rowMajor_val_three, Shape.rowMajor_val_two]
      show (0 * a + (j 0).val) * w + (j 1).val = (j 0).val * w + (j 1).val
      ring),
    shapeCast_apply _ c2 _ (ix3 (j 0) (0 : Fin 1) (j 1)) (by
      rw [Shape.rowMajor_val_three, Shape.rowMajor_val_two]
      show ((j 0).val * 1 + 0) * w + (j 1).val = (j 0).val * w + (j 1).val
      ring)]
  unfold Host.dynamicSlice
  refine ((extractStridedSlice_apply _ _ _ _ (ix3 (⟨_, hk⟩ : Fin 8) (j 0) (j 1)) (fun d => by
      match d with
      | ⟨0, _⟩ => show _ = (min (max (f 0) 0) ((8 - 1 : Nat) : Int)).toNat + 0; rw [e0]; rfl
      | ⟨1, _⟩ => show (j 0).val = (min (max (f 1) 0) ((a - a : Nat) : Int)).toNat + (j 0).val; rw [f1]; omega
      | ⟨2, _⟩ => show (j 1).val = (min (max (f 2) 0) ((w - w : Nat) : Int)).toNat + (j 1).val; rw [f2]; omega)).trans (
    transpose_apply _ Z ht _ (ix3 (j 0) (⟨_, hk⟩ : Fin 8) (j 1)) (fun d => by
      match d with
      | ⟨0, _⟩ => rfl
      | ⟨1, _⟩ => rfl
      | ⟨2, _⟩ => rfl))).trans (
    extractStridedSlice_apply _ Z _ _ (ix3 (j 0) (⟨_, hk⟩ : Fin 8) (j 1)) (fun d => by
      match d with
      | ⟨0, _⟩ => show (j 0).val = (min (max (g 0) 0) ((a - a : Nat) : Int)).toNat + (j 0).val; rw [g0]; omega
      | ⟨1, _⟩ => rfl
      | ⟨2, _⟩ => show (j 1).val = (min (max (g 2) 0) ((w - w : Nat) : Int)).toNat + (j 1).val; rw [g2]; omega)).symm

theorem pick4 {a b w : Nat} (Z : Vec Ideal ⟨4, ![a, b, 8, w]⟩ .f32)
    (ht : (⟨4, ![a, b, 8, w]⟩ : Shape).Transposes [2, 0, 1, 3] ⟨4, ![8, a, b, w]⟩)
    (h1 : (⟨4, ![8, a, b, w]⟩ : Shape).Slices (fun _ => 0) ⟨4, ![1, a, b, w]⟩)
    (h2 : (⟨4, ![a, b, 8, w]⟩ : Shape).Slices (fun _ => 0) ⟨4, ![a, b, 1, w]⟩)
    (c1 : (⟨4, ![1, a, b, w]⟩ : Shape).ShapeCasts ⟨3, ![a, b, w]⟩) (c2 : (⟨4, ![a, b, 1, w]⟩ : Shape).ShapeCasts ⟨3, ![a, b, w]⟩)
    (f : Fin 4 → Int) (g : Fin 4 → Int) (e0 : f 0 = g 2) (f1 : f 1 = 0) (f2 : f 2 = 0) (f3 : f 3 = 0) (g0 : g 0 = 0) (g1 : g 1 = 0)
    (g3 : g 3 = 0) :
    shapeCast ⟨3, ![a, b, w]⟩ (Host.dynamicSlice ⟨4, ![1, a, b, w]⟩ (transpose ⟨4, ![8, a, b, w]⟩ [2, 0, 1, 3] Z ht) f h1) c1
      = shapeCast ⟨3, ![a, b, w]⟩ (Host.dynamicSlice ⟨4, ![a, b, 1, w]⟩ Z g h2) c2 := by
  funext j
  have hk : (min (max (g 2) 0) ((8 - 1 : Nat) : Int)).toNat < 8 := by omega
  rw [shapeCast_apply _ c1 _ (ix4 (0 : Fin 1) (j 0) (j 1) (j 2)) (by
      rw [Shape.rowMajor_val_four, Shape.rowMajor_val_three]
      show ((0 * a + (j 0).val) * b + (j 1).val) * w + (j 2).val = ((j 0).val * b + (j 1).val) * w + (j 2).val
      ring),
    shapeCast_apply _ c2 _ (ix4 (j 0) (j 1) (0 : Fin 1) (j 2)) (by
      rw [Shape.rowMajor_val_four, Shape.rowMajor_val_three]
      show (((j 0).val * b + (j 1).val) * 1 + 0) * w + (j 2).val = ((j 0).val * b + (j 1).val) * w + (j 2).val
      ring)]
  unfold Host.dynamicSlice
  refine ((extractStridedSlice_apply _ _ _ _ (ix4 (⟨_, hk⟩ : Fin 8) (j 0) (j 1) (j 2)) (fun d => by
      match d with
      | ⟨0, _⟩ => show _ = (min (max (f 0) 0) ((8 - 1 : Nat) : Int)).toNat + 0; rw [e0]; rfl
      | ⟨1, _⟩ => show (j 0).val = (min (max (f 1) 0) ((a - a : Nat) : Int)).toNat + (j 0).val; rw [f1]; omega
      | ⟨2, _⟩ => show (j 1).val = (min (max (f 2) 0) ((b - b : Nat) : Int)).toNat + (j 1).val; rw [f2]; omega
      | ⟨3, _⟩ => show (j 2).val = (min (max (f 3) 0) ((w - w : Nat) : Int)).toNat + (j 2).val; rw [f3]; omega)).trans (
    transpose_apply _ Z ht _ (ix4 (j 0) (j 1) (⟨_, hk⟩ : Fin 8) (j 2)) (fun d => by
      match d with
      | ⟨0, _⟩ => rfl
      | ⟨1, _⟩ => rfl
      | ⟨2, _⟩ => rfl
      | ⟨3, _⟩ => rfl))).trans (
    extractStridedSlice_apply _ Z _ _ (ix4 (j 0) (j 1) (⟨_, hk⟩ : Fin 8) (j 2)) (fun d => by
      match d with
      | ⟨0, _⟩ => show (j 0).val = (min (max (g 0) 0) ((a - a : Nat) : Int)).toNat + (j 0).val; rw [g0]; omega
      | ⟨1, _⟩ => show (j 1).val = (min (max (g 1) 0) ((b - b : Nat) : Int)).toNat + (j 1).val; rw [g1]; omega
      | ⟨2, _⟩ => rfl
      | ⟨3, _⟩ => show (j 2).val = (min (max (g 3) 0) ((w - w : Nat) : Int)).toNat + (j 2).val; rw [g3]; omega)).symm

end Cert.SumMath
-- ==== Proof.SumParts.lean ====
/-
  THE PARTS OF THE SUM, one by one: the rows each of the thirteen gradients and the loss take in the stack, what is cut out for each, and
  that what is cut out of the sum of the eight stacks is the sum of the eight arrays. Then one device's columns of a sum, as the kernel's
  host code takes them and as the reference does.
-/
module

public import proofs.«01_k».proof.Proof.SumMath

@[expose] public section

set_option maxRecDepth 16384

noncomputable section

namespace Cert.SumParts

open Idealize.ShloMosaic hiding ix1 ix2 ix3 ix4
open Idealize.ShloMosaic.ValueIdx Cert.AdamMath Cert.SumMath
open Cert.SmallMath (Row Sq seg)

/-! ## The rows of each part -/

/-- The rows of gradient 0. -/
def rows0 (x : Vec Ideal (Eight ⟨3, ![2, 3, 1024]⟩) .f32) : Vec Ideal (Sq8 48) .f32 :=
  seg8 (n := 6144) (t := 6144) (r := 48) (hi := 0) (shapeCast (Row8 6144) x (by decide)) (by decide) (by decide)

/-- The rows of gradient 1. -/
def rows1 (x : Vec Ideal (Eight ⟨2, ![1, 384]⟩) .f32) : Vec Ideal (Sq8 8) .f32 :=
  seg8 (n := 384) (t := 1024) (r := 8) (hi := 640) (shapeCast (Row8 384) x (by decide)) (by decide) (by decide)

/-- The rows of gradient 2. -/
def rows2 (x : Vec Ideal (Eight ⟨2, ![1, 256]⟩) .f32) : Vec Ideal (Sq8 8) .f32 :=
  seg8 (n := 256) (t := 1024) (r := 8) (hi := 768) (shapeCast (Row8 256) x (by decide)) (by decide) (by decide)

/-- The rows of gradient 3. -/
def rows3 (x : Vec Ideal (Eight ⟨2, ![1, 2048]⟩) .f32) : Vec Ideal (Sq8 16) .f32 :=
  seg8 (n := 2048) (t := 2048) (r := 16) (hi := 0) (shapeCast (Row8 2048) x (by decide)) (by decide) (by decide)

/-- The rows of gradient 4. -/
def rows4 (x : Vec Ideal (Eight ⟨3, ![1, 31, 1024]⟩) .f32) : Vec Ideal (Sq8 248) .f32 :=
  seg8 (n := 31744) (t := 31744) (r := 248) (hi := 0) (shapeCast (Row8 31744) x (by decide)) (by decide) (by decide)

/-- The rows of gradient 5. -/
def rows5 (x : Vec Ideal (Eight ⟨2, ![1, 1024]⟩) .f32) : Vec Ideal (Sq8 8) .f32 :=
  seg8 (n := 1024) (t := 1024) (r := 8) (hi := 0) (shapeCast (Row8 1024) x (by decide)) (by decide) (by decide)

/-- The rows of gradient 6. -/
def rows6 (x : Vec Ideal (Eight ⟨2, ![1, 1024]⟩) .f32) : Vec Ideal (Sq8 8) .f32 :=
  seg8 (n := 1024) (t := 1024) (r := 8) (hi := 0) (shapeCast (Row8 1024) x (by decide)) (by decide) (by decide)

/-- The rows of gradient 7. -/
def rows7 (x : Vec Ideal (Eight ⟨2, ![1, 1024]⟩) .f32) : Vec Ideal (Sq8 8) .f32 :=
  seg8 (n := 1024) (t := 1024) (r := 8) (hi := 0) (shapeCast (Row8 1024) x (by decide)) (by decide) (by decide)

/-- The rows of gradient 8. -/
def rows8 (x : Vec Ideal (Eight ⟨2, ![1, 1024]⟩) .f32) : Vec Ideal (Sq8 8) .f32 :=
  seg8 (n := 1024) (t := 1024) (r := 8) (hi := 0) (shapeCast (Row8 1024) x (by decide)) (by decide) (by decide)

/-- The rows of gradient 9. -/
def rows9 (x : Vec Ideal (Eight ⟨2, ![4, 1024]⟩) .f32) : Vec Ideal (Sq8 32) .f32 :=
  seg8 (n := 4096) (t := 4096) (r := 32) (hi := 0) (shapeCast (Row8 4096) x (by decide)) (by decide) (by decide)

/-- The rows of gradient 10. -/
def rows10 (x : Vec Ideal (Eight ⟨2, ![4, 1024]⟩) .f32) : Vec Ideal (Sq8 32) .f32 :=
  seg8 (n := 4096) (t := 4096) (r := 32) (hi := 0) (shapeCast (Row8 4096) x (by decide)) (by decide) (by decide)

/-- The rows of gradient 11. -/
def rows11 (x : Vec Ideal (Eight ⟨2, ![4, 1024]⟩) .f32) : Vec Ideal (Sq8 32) .f32 :=
  seg8 (n := 4096) (t := 4096) (r := 32) (hi := 0) (shapeCast (Row8 4096) x (by decide)) (by decide) (by decide)

/-- The rows of gradient 12. -/
def rows12 (x : Vec Ideal (Eight ⟨2, ![4, 1024]⟩) .f32) : Vec Ideal (Sq8 32) .f32 :=
  seg8 (n := 4096) (t := 4096) (r := 32) (hi := 0) (shapeCast (Row8 4096) x (by decide)) (by decide) (by decide)

/-- The rows of the loss. -/
def rows13 (x : Vec Ideal (Eight (Row 1)) .f32) : Vec Ideal (Sq8 8) .f32 :=
  seg8 (n := 1) (t := 1024) (r := 8) (hi := 1023) x (by decide) (by decide)

/-- The stack. -/
def packed8 (a0 : Vec Ideal (Sq8 48) .f32) (a1 : Vec Ideal (Sq8 8) .f32) (a2 : Vec Ideal (Sq8 8) .f32) (a3 : Vec Ideal (Sq8 16) .f32) (a4 : Vec Ideal (Sq8 248) .f32) (a5 : Vec Ideal (Sq8 8) .f32) (a6 : Vec Ideal (Sq8 8) .f32) (a7 : Vec Ideal (Sq8 8) .f32) (a8 : Vec Ideal (Sq8 8) .f32) (a9 : Vec Ideal (Sq8 32) .f32) (a10 : Vec Ideal (Sq8 32) .f32) (a11 : Vec Ideal (Sq8 32) .f32) (a12 : Vec Ideal (Sq8 32) .f32) (a13 : Vec Ideal (Sq8 8) .f32) : Vec Ideal (Sq8 496) .f32 :=
  concatenate (Sq8 496) 1 [⟨Sq8 48, a0⟩, ⟨Sq8 8, a1⟩, ⟨Sq8 8, a2⟩, ⟨Sq8 16, a3⟩, ⟨Sq8 248, a4⟩, ⟨Sq8 8, a5⟩, ⟨Sq8 8, a6⟩, ⟨Sq8 8, a7⟩, ⟨Sq8 8, a8⟩, ⟨Sq8 32, a9⟩, ⟨Sq8 32, a10⟩, ⟨Sq8 32, a11⟩, ⟨Sq8 32, a12⟩, ⟨Sq8 8, a13⟩] (show Shape.Concatenates [Sq8 48, Sq8 8, Sq8 8, Sq8 16, Sq8 248, Sq8 8, Sq8 8, Sq8 8, Sq8 8, Sq8 32, Sq8 32, Sq8 32, Sq8 32, Sq8 8] (Sq8 496) 1 by decide)

/-- The stack of the fourteen. -/
def pack8 (x0 : Vec Ideal (Eight ⟨3, ![2, 3, 1024]⟩) .f32) (x1 : Vec Ideal (Eight ⟨2, ![1, 384]⟩) .f32) (x2 : Vec Ideal (Eight ⟨2, ![1, 256]⟩) .f32) (x3 : Vec Ideal (Eight ⟨2, ![1, 2048]⟩) .f32) (x4 : Vec Ideal (Eight ⟨3, ![1, 31, 1024]⟩) .f32) (x5 : Vec Ideal (Eight ⟨2, ![1, 1024]⟩) .f32) (x6 : Vec Ideal (Eight ⟨2, ![1, 1024]⟩) .f32) (x7 : Vec Ideal (Eight ⟨2, ![1, 1024]⟩) .f32) (x8 : Vec Ideal (Eight ⟨2, ![1, 1024]⟩) .f32) (x9 : Vec Ideal (Eight ⟨2, ![4, 1024]⟩) .f32) (x10 : Vec Ideal (Eight ⟨2, ![4, 1024]⟩) .f32) (x11 : Vec Ideal (Eight ⟨2, ![4, 1024]⟩) .f32) (x12 : Vec Ideal (Eight ⟨2, ![4, 1024]⟩) .f32) (x13 : Vec Ideal (Eight (Row 1)) .f32) : Vec Ideal (Sq8 496) .f32 :=
  packed8 (rows0 x0) (rows1 x1) (rows2 x2) (rows3 x3) (rows4 x4) (rows5 x5) (rows6 x6) (rows7 x7) (rows8 x8) (rows9 x9) (rows10 x10) (rows11 x11) (rows12 x12) (rows13 x13)

/-! ## What is cut out for each -/

/-- What is cut out for gradient 0. -/
def cut0 (P : Vec Ideal (Sq 496) .f32) : Vec Ideal ⟨3, ![2, 3, 1024]⟩ .f32 :=
  shapeCast ⟨3, ![2, 3, 1024]⟩ (shapeCast (Row 6144) (extractStridedSlice (Sq 48) ![0, 0] P (by decide)) (by decide)) (by decide)

/-- What is cut out for gradient 1. -/
def cut1 (P : Vec Ideal (Sq 496) .f32) : Vec Ideal ⟨2, ![1, 384]⟩ .f32 :=
  shapeCast ⟨2, ![1, 384]⟩ (extractStridedSlice (Row 384) ![0] (shapeCast (Row 1024) (extractStridedSlice (Sq 8) ![48, 0] P (by decide)) (by decide)) (by decide)) (by decide)

/-- What is cut out for gradient 2. -/
def cut2 (P : Vec Ideal (Sq 496) .f32) : Vec Ideal ⟨2, ![1, 256]⟩ .f32 :=
  shapeCast ⟨2, ![1, 256]⟩ (extractStridedSlice (Row 256) ![0] (shapeCast (Row 1024) (extractStridedSlice (Sq 8) ![56, 0] P (by decide)) (by decide)) (by decide)) (by decide)

/-- What is cut out for gradient 3. -/
def cut3 (P : Vec Ideal (Sq 496) .f32) : Vec Ideal ⟨2, ![1, 2048]⟩ .f32 :=
  shapeCast ⟨2, ![1, 2048]⟩ (shapeCast (Row 2048) (extractStridedSlice (Sq 16) ![64, 0] P (by decide)) (by decide)) (by decide)

/-- What is cut out for gradient 4. -/
def cut4 (P : Vec Ideal (Sq 496) .f32) : Vec Ideal ⟨3, ![1, 31, 1024]⟩ .f32 :=
  shapeCast ⟨3, ![1, 31, 1024]⟩ (shapeCast (Row 31744) (extractStridedSlice (Sq 248) ![80, 0] P (by decide)) (by decide)) (by decide)

/-- What is cut out for gradient 5. -/
def cut5 (P : Vec Ideal (Sq 496) .f32) : Vec Ideal ⟨2, ![1, 1024]⟩ .f32 :=
  shapeCast ⟨2, ![1, 1024]⟩ (shapeCast (Row 1024) (extractStridedSlice (Sq 8) ![328, 0] P (by decide)) (by decide)) (by decide)

/-- What is cut out for gradient 6. -/
def cut6 (P : Vec Ideal (Sq 496) .f32) : Vec Ideal ⟨2, ![1, 1024]⟩ .f32 :=
  shapeCast ⟨2, ![1, 1024]⟩ (shapeCast (Row 1024) (extractStridedSlice (Sq 8) ![336, 0] P (by decide)) (by decide)) (by decide)

/-- What is cut out for gradient 7. -/
def cut7 (P : Vec Ideal (Sq 496) .f32) : Vec Ideal ⟨2, ![1, 1024]⟩ .f32 :=
  shapeCast ⟨2, ![1, 1024]⟩ (shapeCast (Row 1024) (extractStridedSlice (Sq 8) ![344, 0] P (by decide)) (by decide)) (by decide)

/-- What is cut out for gradient 8. -/
def cut8 (P : Vec Ideal (Sq 496) .f32) : Vec Ideal ⟨2, ![1, 1024]⟩ .f32 :=
  shapeCast ⟨2, ![1, 1024]⟩ (shapeCast (Row 1024) (extractStridedSlice (Sq 8) ![352, 0] P (by decide)) (by decide)) (by decide)

/-- What is cut out for gradient 9. -/
def cut9 (P : Vec Ideal (Sq 496) .f32) : Vec Ideal ⟨2, ![4, 1024]⟩ .f32 :=
  shapeCast ⟨2, ![4, 1024]⟩ (shapeCast (Row 4096) (extractStridedSlice (Sq 32) ![360, 0] P (by decide)) (by decide)) (by decide)

/-- What is cut out for gradient 10. -/
def cut10 (P : Vec Ideal (Sq 496) .f32) : Vec Ideal ⟨2, ![4, 1024]⟩ .f32 :=
  shapeCast ⟨2, ![4, 1024]⟩ (shapeCast (Row 4096) (extractStridedSlice (Sq 32) ![392, 0] P (by decide)) (by decide)) (by decide)

/-- What is cut out for gradient 11. -/
def cut11 (P : Vec Ideal (Sq 496) .f32) : Vec Ideal ⟨2, ![4, 1024]⟩ .f32 :=
  shapeCast ⟨2, ![4, 1024]⟩ (shapeCast (Row 4096) (extractStridedSlice (Sq 32) ![424, 0] P (by decide)) (by decide)) (by decide)

/-- What is cut out for gradient 12. -/
def cut12 (P : Vec Ideal (Sq 496) .f32) : Vec Ideal ⟨2, ![4, 1024]⟩ .f32 :=
  shapeCast ⟨2, ![4, 1024]⟩ (shapeCast (Row 4096) (extractStridedSlice (Sq 32) ![456, 0] P (by decide)) (by decide)) (by decide)

/-- What is cut out for the loss. -/
def cut13 (P : Vec Ideal (Sq 496) .f32) : Vec Ideal (Row 1) .f32 :=
  extractStridedSlice (Row 1) ![0] (shapeCast (Row 1024) (extractStridedSlice (Sq 8) ![488, 0] P (by decide)) (by decide)) (by decide)

section Fourteen

variable (x0 : Vec Ideal (Eight ⟨3, ![2, 3, 1024]⟩) .f32) (x1 : Vec Ideal (Eight ⟨2, ![1, 384]⟩) .f32) (x2 : Vec Ideal (Eight ⟨2, ![1, 256]⟩) .f32) (x3 : Vec Ideal (Eight ⟨2, ![1, 2048]⟩) .f32) (x4 : Vec Ideal (Eight ⟨3, ![1, 31, 1024]⟩) .f32) (x5 : Vec Ideal (Eight ⟨2, ![1, 1024]⟩) .f32) (x6 : Vec Ideal (Eight ⟨2, ![1, 1024]⟩) .f32) (x7 : Vec Ideal (Eight ⟨2, ![1, 1024]⟩) .f32) (x8 : Vec Ideal (Eight ⟨2, ![1, 1024]⟩) .f32) (x9 : Vec Ideal (Eight ⟨2, ![4, 1024]⟩) .f32) (x10 : Vec Ideal (Eight ⟨2, ![4, 1024]⟩) .f32) (x11 : Vec Ideal (Eight ⟨2, ![4, 1024]⟩) .f32) (x12 : Vec Ideal (Eight ⟨2, ![4, 1024]⟩) .f32) (x13 : Vec Ideal (Eight (Row 1)) .f32)

theorem r0 : extractStridedSlice (Sq 48) ![0, 0] (sum8 (pack8 x0 x1 x2 x3 x4 x5 x6 x7 x8 x9 x10 x11 x12 x13)) (by decide) = fun q => (∑ b : Fin 8, seg (n := 6144) (t := 6144) (r := 48) (hi := 0) (own x0 b) (by decide) (by decide) (by decide) q : EReal) :=
  piece8 (N := 496) [⟨Sq8 48, rows0 x0⟩, ⟨Sq8 8, rows1 x1⟩, ⟨Sq8 8, rows2 x2⟩, ⟨Sq8 16, rows3 x3⟩, ⟨Sq8 248, rows4 x4⟩, ⟨Sq8 8, rows5 x5⟩, ⟨Sq8 8, rows6 x6⟩, ⟨Sq8 8, rows7 x7⟩, ⟨Sq8 8, rows8 x8⟩, ⟨Sq8 32, rows9 x9⟩, ⟨Sq8 32, rows10 x10⟩, ⟨Sq8 32, rows11 x11⟩, ⟨Sq8 32, rows12 x12⟩, ⟨Sq8 8, rows13 x13⟩] (show Shape.Concatenates [Sq8 48, Sq8 8, Sq8 8, Sq8 16, Sq8 248, Sq8 8, Sq8 8, Sq8 8, Sq8 8, Sq8 32, Sq8 32, Sq8 32, Sq8 32, Sq8 8] (Sq8 496) 1 by decide) 0 (by exact (show 0 < 14 by omega)) (rows0 x0) (by rfl) 0 (by rfl) (by decide) (fun b q => seg (n := 6144) (t := 6144) (r := 48) (hi := 0) (own x0 b) (by decide) (by decide) (by decide) q) (fun b q => seg8_at (s := ⟨3, ![2, 3, 1024]⟩) (n := 6144) (t := 6144) (r := 48) (hi := 0) x0 (by decide) (by decide) (by decide) (by decide) (by decide) (by decide) (by decide) (by decide) b q)

theorem cut0_sum : cut0 (sum8 (pack8 x0 x1 x2 x3 x4 x5 x6 x7 x8 x9 x10 x11 x12 x13)) = total x0 :=
  cut_sum_full (s := ⟨3, ![2, 3, 1024]⟩) x0 (n := 6144) (r := 48) (by decide) (by decide) (by decide) (by decide) (by decide) _ (r0 x0 x1 x2 x3 x4 x5 x6 x7 x8 x9 x10 x11 x12 x13)

theorem r1 : extractStridedSlice (Sq 8) ![48, 0] (sum8 (pack8 x0 x1 x2 x3 x4 x5 x6 x7 x8 x9 x10 x11 x12 x13)) (by decide) = fun q => (∑ b : Fin 8, seg (n := 384) (t := 1024) (r := 8) (hi := 640) (own x1 b) (by decide) (by decide) (by decide) q : EReal) :=
  piece8 (N := 496) [⟨Sq8 48, rows0 x0⟩, ⟨Sq8 8, rows1 x1⟩, ⟨Sq8 8, rows2 x2⟩, ⟨Sq8 16, rows3 x3⟩, ⟨Sq8 248, rows4 x4⟩, ⟨Sq8 8, rows5 x5⟩, ⟨Sq8 8, rows6 x6⟩, ⟨Sq8 8, rows7 x7⟩, ⟨Sq8 8, rows8 x8⟩, ⟨Sq8 32, rows9 x9⟩, ⟨Sq8 32, rows10 x10⟩, ⟨Sq8 32, rows11 x11⟩, ⟨Sq8 32, rows12 x12⟩, ⟨Sq8 8, rows13 x13⟩] (show Shape.Concatenates [Sq8 48, Sq8 8, Sq8 8, Sq8 16, Sq8 248, Sq8 8, Sq8 8, Sq8 8, Sq8 8, Sq8 32, Sq8 32, Sq8 32, Sq8 32, Sq8 8] (Sq8 496) 1 by decide) 1 (by exact (show 1 < 14 by omega)) (rows1 x1) (by rfl) 48 (by rfl) (by decide) (fun b q => seg (n := 384) (t := 1024) (r := 8) (hi := 640) (own x1 b) (by decide) (by decide) (by decide) q) (fun b q => seg8_at (s := ⟨2, ![1, 384]⟩) (n := 384) (t := 1024) (r := 8) (hi := 640) x1 (by decide) (by decide) (by decide) (by decide) (by decide) (by decide) (by decide) (by decide) b q)

theorem cut1_sum : cut1 (sum8 (pack8 x0 x1 x2 x3 x4 x5 x6 x7 x8 x9 x10 x11 x12 x13)) = total x1 :=
  cut_sum (s := ⟨2, ![1, 384]⟩) x1 (n := 384) (r := 8) (by decide) (by decide) (by decide) (by decide) (by decide) (by decide) _ (r1 x0 x1 x2 x3 x4 x5 x6 x7 x8 x9 x10 x11 x12 x13)

theorem r2 : extractStridedSlice (Sq 8) ![56, 0] (sum8 (pack8 x0 x1 x2 x3 x4 x5 x6 x7 x8 x9 x10 x11 x12 x13)) (by decide) = fun q => (∑ b : Fin 8, seg (n := 256) (t := 1024) (r := 8) (hi := 768) (own x2 b) (by decide) (by decide) (by decide) q : EReal) :=
  piece8 (N := 496) [⟨Sq8 48, rows0 x0⟩, ⟨Sq8 8, rows1 x1⟩, ⟨Sq8 8, rows2 x2⟩, ⟨Sq8 16, rows3 x3⟩, ⟨Sq8 248, rows4 x4⟩, ⟨Sq8 8, rows5 x5⟩, ⟨Sq8 8, rows6 x6⟩, ⟨Sq8 8, rows7 x7⟩, ⟨Sq8 8, rows8 x8⟩, ⟨Sq8 32, rows9 x9⟩, ⟨Sq8 32, rows10 x10⟩, ⟨Sq8 32, rows11 x11⟩, ⟨Sq8 32, rows12 x12⟩, ⟨Sq8 8, rows13 x13⟩] (show Shape.Concatenates [Sq8 48, Sq8 8, Sq8 8, Sq8 16, Sq8 248, Sq8 8, Sq8 8, Sq8 8, Sq8 8, Sq8 32, Sq8 32, Sq8 32, Sq8 32, Sq8 8] (Sq8 496) 1 by decide) 2 (by exact (show 2 < 14 by omega)) (rows2 x2) (by rfl) 56 (by rfl) (by decide) (fun b q => seg (n := 256) (t := 1024) (r := 8) (hi := 768) (own x2 b) (by decide) (by decide) (by decide) q) (fun b q => seg8_at (s := ⟨2, ![1, 256]⟩) (n := 256) (t := 1024) (r := 8) (hi := 768) x2 (by decide) (by decide) (by decide) (by decide) (by decide) (by decide) (by decide) (by decide) b q)

theorem cut2_sum : cut2 (sum8 (pack8 x0 x1 x2 x3 x4 x5 x6 x7 x8 x9 x10 x11 x12 x13)) = total x2 :=
  cut_sum (s := ⟨2, ![1, 256]⟩) x2 (n := 256) (r := 8) (by decide) (by decide) (by decide) (by decide) (by decide) (by decide) _ (r2 x0 x1 x2 x3 x4 x5 x6 x7 x8 x9 x10 x11 x12 x13)

theorem r3 : extractStridedSlice (Sq 16) ![64, 0] (sum8 (pack8 x0 x1 x2 x3 x4 x5 x6 x7 x8 x9 x10 x11 x12 x13)) (by decide) = fun q => (∑ b : Fin 8, seg (n := 2048) (t := 2048) (r := 16) (hi := 0) (own x3 b) (by decide) (by decide) (by decide) q : EReal) :=
  piece8 (N := 496) [⟨Sq8 48, rows0 x0⟩, ⟨Sq8 8, rows1 x1⟩, ⟨Sq8 8, rows2 x2⟩, ⟨Sq8 16, rows3 x3⟩, ⟨Sq8 248, rows4 x4⟩, ⟨Sq8 8, rows5 x5⟩, ⟨Sq8 8, rows6 x6⟩, ⟨Sq8 8, rows7 x7⟩, ⟨Sq8 8, rows8 x8⟩, ⟨Sq8 32, rows9 x9⟩, ⟨Sq8 32, rows10 x10⟩, ⟨Sq8 32, rows11 x11⟩, ⟨Sq8 32, rows12 x12⟩, ⟨Sq8 8, rows13 x13⟩] (show Shape.Concatenates [Sq8 48, Sq8 8, Sq8 8, Sq8 16, Sq8 248, Sq8 8, Sq8 8, Sq8 8, Sq8 8, Sq8 32, Sq8 32, Sq8 32, Sq8 32, Sq8 8] (Sq8 496) 1 by decide) 3 (by exact (show 3 < 14 by omega)) (rows3 x3) (by rfl) 64 (by rfl) (by decide) (fun b q => seg (n := 2048) (t := 2048) (r := 16) (hi := 0) (own x3 b) (by decide) (by decide) (by decide) q) (fun b q => seg8_at (s := ⟨2, ![1, 2048]⟩) (n := 2048) (t := 2048) (r := 16) (hi := 0) x3 (by decide) (by decide) (by decide) (by decide) (by decide) (by decide) (by decide) (by decide) b q)

theorem cut3_sum : cut3 (sum8 (pack8 x0 x1 x2 x3 x4 x5 x6 x7 x8 x9 x10 x11 x12 x13)) = total x3 :=
  cut_sum_full (s := ⟨2, ![1, 2048]⟩) x3 (n := 2048) (r := 16) (by decide) (by decide) (by decide) (by decide) (by decide) _ (r3 x0 x1 x2 x3 x4 x5 x6 x7 x8 x9 x10 x11 x12 x13)

theorem r4 : extractStridedSlice (Sq 248) ![80, 0] (sum8 (pack8 x0 x1 x2 x3 x4 x5 x6 x7 x8 x9 x10 x11 x12 x13)) (by decide) = fun q => (∑ b : Fin 8, seg (n := 31744) (t := 31744) (r := 248) (hi := 0) (own x4 b) (by decide) (by decide) (by decide) q : EReal) :=
  piece8 (N := 496) [⟨Sq8 48, rows0 x0⟩, ⟨Sq8 8, rows1 x1⟩, ⟨Sq8 8, rows2 x2⟩, ⟨Sq8 16, rows3 x3⟩, ⟨Sq8 248, rows4 x4⟩, ⟨Sq8 8, rows5 x5⟩, ⟨Sq8 8, rows6 x6⟩, ⟨Sq8 8, rows7 x7⟩, ⟨Sq8 8, rows8 x8⟩, ⟨Sq8 32, rows9 x9⟩, ⟨Sq8 32, rows10 x10⟩, ⟨Sq8 32, rows11 x11⟩, ⟨Sq8 32, rows12 x12⟩, ⟨Sq8 8, rows13 x13⟩] (show Shape.Concatenates [Sq8 48, Sq8 8, Sq8 8, Sq8 16, Sq8 248, Sq8 8, Sq8 8, Sq8 8, Sq8 8, Sq8 32, Sq8 32, Sq8 32, Sq8 32, Sq8 8] (Sq8 496) 1 by decide) 4 (by exact (show 4 < 14 by omega)) (rows4 x4) (by rfl) 80 (by rfl) (by decide) (fun b q => seg (n := 31744) (t := 31744) (r := 248) (hi := 0) (own x4 b) (by decide) (by decide) (by decide) q) (fun b q => seg8_at (s := ⟨3, ![1, 31, 1024]⟩) (n := 31744) (t := 31744) (r := 248) (hi := 0) x4 (by decide) (by decide) (by decide) (by decide) (by decide) (by decide) (by decide) (by decide) b q)

theorem cut4_sum : cut4 (sum8 (pack8 x0 x1 x2 x3 x4 x5 x6 x7 x8 x9 x10 x11 x12 x13)) = total x4 :=
  cut_sum_full (s := ⟨3, ![1, 31, 1024]⟩) x4 (n := 31744) (r := 248) (by decide) (by decide) (by decide) (by decide) (by decide) _ (r4 x0 x1 x2 x3 x4 x5 x6 x7 x8 x9 x10 x11 x12 x13)

theorem r5 : extractStridedSlice (Sq 8) ![328, 0] (sum8 (pack8 x0 x1 x2 x3 x4 x5 x6 x7 x8 x9 x10 x11 x12 x13)) (by decide) = fun q => (∑ b : Fin 8, seg (n := 1024) (t := 1024) (r := 8) (hi := 0) (own x5 b) (by decide) (by decide) (by decide) q : EReal) :=
  piece8 (N := 496) [⟨Sq8 48, rows0 x0⟩, ⟨Sq8 8, rows1 x1⟩, ⟨Sq8 8, rows2 x2⟩, ⟨Sq8 16, rows3 x3⟩, ⟨Sq8 248, rows4 x4⟩, ⟨Sq8 8, rows5 x5⟩, ⟨Sq8 8, rows6 x6⟩, ⟨Sq8 8, rows7 x7⟩, ⟨Sq8 8, rows8 x8⟩, ⟨Sq8 32, rows9 x9⟩, ⟨Sq8 32, rows10 x10⟩, ⟨Sq8 32, rows11 x11⟩, ⟨Sq8 32, rows12 x12⟩, ⟨Sq8 8, rows13 x13⟩] (show Shape.Concatenates [Sq8 48, Sq8 8, Sq8 8, Sq8 16, Sq8 248, Sq8 8, Sq8 8, Sq8 8, Sq8 8, Sq8 32, Sq8 32, Sq8 32, Sq8 32, Sq8 8] (Sq8 496) 1 by decide) 5 (by exact (show 5 < 14 by omega)) (rows5 x5) (by rfl) 328 (by rfl) (by decide) (fun b q => seg (n := 1024) (t := 1024) (r := 8) (hi := 0) (own x5 b) (by decide) (by decide) (by decide) q) (fun b q => seg8_at (s := ⟨2, ![1, 1024]⟩) (n := 1024) (t := 1024) (r := 8) (hi := 0) x5 (by decide) (by decide) (by decide) (by decide) (by decide) (by decide) (by decide) (by decide) b q)

theorem cut5_sum : cut5 (sum8 (pack8 x0 x1 x2 x3 x4 x5 x6 x7 x8 x9 x10 x11 x12 x13)) = total x5 :=
  cut_sum_full (s := ⟨2, ![1, 1024]⟩) x5 (n := 1024) (r := 8) (by decide) (by decide) (by decide) (by decide) (by decide) _ (r5 x0 x1 x2 x3 x4 x5 x6 x7 x8 x9 x10 x11 x12 x13)

theorem r6 : extractStridedSlice (Sq 8) ![336, 0] (sum8 (pack8 x0 x1 x2 x3 x4 x5 x6 x7 x8 x9 x10 x11 x12 x13)) (by decide) = fun q => (∑ b : Fin 8, seg (n := 1024) (t := 1024) (r := 8) (hi := 0) (own x6 b) (by decide) (by decide) (by decide) q : EReal) :=
  piece8 (N := 496) [⟨Sq8 48, rows0 x0⟩, ⟨Sq8 8, rows1 x1⟩, ⟨Sq8 8, rows2 x2⟩, ⟨Sq8 16, rows3 x3⟩, ⟨Sq8 248, rows4 x4⟩, ⟨Sq8 8, rows5 x5⟩, ⟨Sq8 8, rows6 x6⟩, ⟨Sq8 8, rows7 x7⟩, ⟨Sq8 8, rows8 x8⟩, ⟨Sq8 32, rows9 x9⟩, ⟨Sq8 32, rows10 x10⟩, ⟨Sq8 32, rows11 x11⟩, ⟨Sq8 32, rows12 x12⟩, ⟨Sq8 8, rows13 x13⟩] (show Shape.Concatenates [Sq8 48, Sq8 8, Sq8 8, Sq8 16, Sq8 248, Sq8 8, Sq8 8, Sq8 8, Sq8 8, Sq8 32, Sq8 32, Sq8 32, Sq8 32, Sq8 8] (Sq8 496) 1 by decide) 6 (by exact (show 6 < 14 by omega)) (rows6 x6) (by rfl) 336 (by rfl) (by decide) (fun b q => seg (n := 1024) (t := 1024) (r := 8) (hi := 0) (own x6 b) (by decide) (by decide) (by decide) q) (fun b q => seg8_at (s := ⟨2, ![1, 1024]⟩) (n := 1024) (t := 1024) (r := 8) (hi := 0) x6 (by decide) (by decide) (by decide) (by decide) (by decide) (by decide) (by decide) (by decide) b q)

theorem cut6_sum : cut6 (sum8 (pack8 x0 x1 x2 x3 x4 x5 x6 x7 x8 x9 x10 x11 x12 x13)) = total x6 :=
  cut_sum_full (s := ⟨2, ![1, 1024]⟩) x6 (n := 1024) (r := 8) (by decide) (by decide) (by decide) (by decide) (by decide) _ (r6 x0 x1 x2 x3 x4 x5 x6 x7 x8 x9 x10 x11 x12 x13)

theorem r7 : extractStridedSlice (Sq 8) ![344, 0] (sum8 (pack8 x0 x1 x2 x3 x4 x5 x6 x7 x8 x9 x10 x11 x12 x13)) (by decide) = fun q => (∑ b : Fin 8, seg (n := 1024) (t := 1024) (r := 8) (hi := 0) (own x7 b) (by decide) (by decide) (by decide) q : EReal) :=
  piece8 (N := 496) [⟨Sq8 48, rows0 x0⟩, ⟨Sq8 8, rows1 x1⟩, ⟨Sq8 8, rows2 x2⟩, ⟨Sq8 16, rows3 x3⟩, ⟨Sq8 248, rows4 x4⟩, ⟨Sq8 8, rows5 x5⟩, ⟨Sq8 8, rows6 x6⟩, ⟨Sq8 8, rows7 x7⟩, ⟨Sq8 8, rows8 x8⟩, ⟨Sq8 32, rows9 x9⟩, ⟨Sq8 32, rows10 x10⟩, ⟨Sq8 32, rows11 x11⟩, ⟨Sq8 32, rows12 x12⟩, ⟨Sq8 8, rows13 x13⟩] (show Shape.Concatenates [Sq8 48, Sq8 8, Sq8 8, Sq8 16, Sq8 248, Sq8 8, Sq8 8, Sq8 8, Sq8 8, Sq8 32, Sq8 32, Sq8 32, Sq8 32, Sq8 8] (Sq8 496) 1 by decide) 7 (by exact (show 7 < 14 by omega)) (rows7 x7) (by rfl) 344 (by rfl) (by decide) (fun b q => seg (n := 1024) (t := 1024) (r := 8) (hi := 0) (own x7 b) (by decide) (by decide) (by decide) q) (fun b q => seg8_at (s := ⟨2, ![1, 1024]⟩) (n := 1024) (t := 1024) (r := 8) (hi := 0) x7 (by decide) (by decide) (by decide) (by decide) (by decide) (by decide) (by decide) (by decide) b q)

theorem cut7_sum : cut7 (sum8 (pack8 x0 x1 x2 x3 x4 x5 x6 x7 x8 x9 x10 x11 x12 x13)) = total x7 :=
  cut_sum_full (s := ⟨2, ![1, 1024]⟩) x7 (n := 1024) (r := 8) (by decide) (by decide) (by decide) (by decide) (by decide) _ (r7 x0 x1 x2 x3 x4 x5 x6 x7 x8 x9 x10 x11 x12 x13)

theorem r8 : extractStridedSlice (Sq 8) ![352, 0] (sum8 (pack8 x0 x1 x2 x3 x4 x5 x6 x7 x8 x9 x10 x11 x12 x13)) (by decide) = fun q => (∑ b : Fin 8, seg (n := 1024) (t := 1024) (r := 8) (hi := 0) (own x8 b) (by decide) (by decide) (by decide) q : EReal) :=
  piece8 (N := 496) [⟨Sq8 48, rows0 x0⟩, ⟨Sq8 8, rows1 x1⟩, ⟨Sq8 8, rows2 x2⟩, ⟨Sq8 16, rows3 x3⟩, ⟨Sq8 248, rows4 x4⟩, ⟨Sq8 8, rows5 x5⟩, ⟨Sq8 8, rows6 x6⟩, ⟨Sq8 8, rows7 x7⟩, ⟨Sq8 8, rows8 x8⟩, ⟨Sq8 32, rows9 x9⟩, ⟨Sq8 32, rows10 x10⟩, ⟨Sq8 32, rows11 x11⟩, ⟨Sq8 32, rows12 x12⟩, ⟨Sq8 8, rows13 x13⟩] (show Shape.Concatenates [Sq8 48, Sq8 8, Sq8 8, Sq8 16, Sq8 248, Sq8 8, Sq8 8, Sq8 8, Sq8 8, Sq8 32, Sq8 32, Sq8 32, Sq8 32, Sq8 8] (Sq8 496) 1 by decide) 8 (by exact (show 8 < 14 by omega)) (rows8 x8) (by rfl) 352 (by rfl) (by decide) (fun b q => seg (n := 1024) (t := 1024) (r := 8) (hi := 0) (own x8 b) (by decide) (by decide) (by decide) q) (fun b q => seg8_at (s := ⟨2, ![1, 1024]⟩) (n := 1024) (t := 1024) (r := 8) (hi := 0) x8 (by decide) (by decide) (by decide) (by decide) (by decide) (by decide) (by decide) (by decide) b q)

theorem cut8_sum : cut8 (sum8 (pack8 x0 x1 x2 x3 x4 x5 x6 x7 x8 x9 x10 x11 x12 x13)) = total x8 :=
  cut_sum_full (s := ⟨2, ![1, 1024]⟩) x8 (n := 1024) (r := 8) (by decide) (by decide) (by decide) (by decide) (by decide) _ (r8 x0 x1 x2 x3 x4 x5 x6 x7 x8 x9 x10 x11 x12 x13)

theorem r9 : extractStridedSlice (Sq 32) ![360, 0] (sum8 (pack8 x0 x1 x2 x3 x4 x5 x6 x7 x8 x9 x10 x11 x12 x13)) (by decide) = fun q => (∑ b : Fin 8, seg (n := 4096) (t := 4096) (r := 32) (hi := 0) (own x9 b) (by decide) (by decide) (by decide) q : EReal) :=
  piece8 (N := 496) [⟨Sq8 48, rows0 x0⟩, ⟨Sq8 8, rows1 x1⟩, ⟨Sq8 8, rows2 x2⟩, ⟨Sq8 16, rows3 x3⟩, ⟨Sq8 248, rows4 x4⟩, ⟨Sq8 8, rows5 x5⟩, ⟨Sq8 8, rows6 x6⟩, ⟨Sq8 8, rows7 x7⟩, ⟨Sq8 8, rows8 x8⟩, ⟨Sq8 32, rows9 x9⟩, ⟨Sq8 32, rows10 x10⟩, ⟨Sq8 32, rows11 x11⟩, ⟨Sq8 32, rows12 x12⟩, ⟨Sq8 8, rows13 x13⟩] (show Shape.Concatenates [Sq8 48, Sq8 8, Sq8 8, Sq8 16, Sq8 248, Sq8 8, Sq8 8, Sq8 8, Sq8 8, Sq8 32, Sq8 32, Sq8 32, Sq8 32, Sq8 8] (Sq8 496) 1 by decide) 9 (by exact (show 9 < 14 by omega)) (rows9 x9) (by rfl) 360 (by rfl) (by decide) (fun b q => seg (n := 4096) (t := 4096) (r := 32) (hi := 0) (own x9 b) (by decide) (by decide) (by decide) q) (fun b q => seg8_at (s := ⟨2, ![4, 1024]⟩) (n := 4096) (t := 4096) (r := 32) (hi := 0) x9 (by decide) (by decide) (by decide) (by decide) (by decide) (by decide) (by decide) (by decide) b q)

theorem cut9_sum : cut9 (sum8 (pack8 x0 x1 x2 x3 x4 x5 x6 x7 x8 x9 x10 x11 x12 x13)) = total x9 :=
  cut_sum_full (s := ⟨2, ![4, 1024]⟩) x9 (n := 4096) (r := 32) (by decide) (by decide) (by decide) (by decide) (by decide) _ (r9 x0 x1 x2 x3 x4 x5 x6 x7 x8 x9 x10 x11 x12 x13)

theorem r10 : extractStridedSlice (Sq 32) ![392, 0] (sum8 (pack8 x0 x1 x2 x3 x4 x5 x6 x7 x8 x9 x10 x11 x12 x13)) (by decide) = fun q => (∑ b : Fin 8, seg (n := 4096) (t := 4096) (r := 32) (hi := 0) (own x10 b) (by decide) (by decide) (by decide) q : EReal) :=
  piece8 (N := 496) [⟨Sq8 48, rows0 x0⟩, ⟨Sq8 8, rows1 x1⟩, ⟨Sq8 8, rows2 x2⟩, ⟨Sq8 16, rows3 x3⟩, ⟨Sq8 248, rows4 x4⟩, ⟨Sq8 8, rows5 x5⟩, ⟨Sq8 8, rows6 x6⟩, ⟨Sq8 8, rows7 x7⟩, ⟨Sq8 8, rows8 x8⟩, ⟨Sq8 32, rows9 x9⟩, ⟨Sq8 32, rows10 x10⟩, ⟨Sq8 32, rows11 x11⟩, ⟨Sq8 32, rows12 x12⟩, ⟨Sq8 8, rows13 x13⟩] (show Shape.Concatenates [Sq8 48, Sq8 8, Sq8 8, Sq8 16, Sq8 248, Sq8 8, Sq8 8, Sq8 8, Sq8 8, Sq8 32, Sq8 32, Sq8 32, Sq8 32, Sq8 8] (Sq8 496) 1 by decide) 10 (by exact (show 10 < 14 by omega)) (rows10 x10) (by rfl) 392 (by rfl) (by decide) (fun b q => seg (n := 4096) (t := 4096) (r := 32) (hi := 0) (own x10 b) (by decide) (by decide) (by decide) q) (fun b q => seg8_at (s := ⟨2, ![4, 1024]⟩) (n := 4096) (t := 4096) (r := 32) (hi := 0) x10 (by decide) (by decide) (by decide) (by decide) (by decide) (by decide) (by decide) (by decide) b q)

theorem cut10_sum : cut10 (sum8 (pack8 x0 x1 x2 x3 x4 x5 x6 x7 x8 x9 x10 x11 x12 x13)) = total x10 :=
  cut_sum_full (s := ⟨2, ![4, 1024]⟩) x10 (n := 4096) (r := 32) (by decide) (by decide) (by decide) (by decide) (by decide) _ (r10 x0 x1 x2 x3 x4 x5 x6 x7 x8 x9 x10 x11 x12 x13)

theorem r11 : extractStridedSlice (Sq 32) ![424, 0] (sum8 (pack8 x0 x1 x2 x3 x4 x5 x6 x7 x8 x9 x10 x11 x12 x13)) (by decide) = fun q => (∑ b : Fin 8, seg (n := 4096) (t := 4096) (r := 32) (hi := 0) (own x11 b) (by decide) (by decide) (by decide) q : EReal) :=
  piece8 (N := 496) [⟨Sq8 48, rows0 x0⟩, ⟨Sq8 8, rows1 x1⟩, ⟨Sq8 8, rows2 x2⟩, ⟨Sq8 16, rows3 x3⟩, ⟨Sq8 248, rows4 x4⟩, ⟨Sq8 8, rows5 x5⟩, ⟨Sq8 8, rows6 x6⟩, ⟨Sq8 8, rows7 x7⟩, ⟨Sq8 8, rows8 x8⟩, ⟨Sq8 32, rows9 x9⟩, ⟨Sq8 32, rows10 x10⟩, ⟨Sq8 32, rows11 x11⟩, ⟨Sq8 32, rows12 x12⟩, ⟨Sq8 8, rows13 x13⟩] (show Shape.Concatenates [Sq8 48, Sq8 8, Sq8 8, Sq8 16, Sq8 248, Sq8 8, Sq8 8, Sq8 8, Sq8 8, Sq8 32, Sq8 32, Sq8 32, Sq8 32, Sq8 8] (Sq8 496) 1 by decide) 11 (by exact (show 11 < 14 by omega)) (rows11 x11) (by rfl) 424 (by rfl) (by decide) (fun b q => seg (n := 4096) (t := 4096) (r := 32) (hi := 0) (own x11 b) (by decide) (by decide) (by decide) q) (fun b q => seg8_at (s := ⟨2, ![4, 1024]⟩) (n := 4096) (t := 4096) (r := 32) (hi := 0) x11 (by decide) (by decide) (by decide) (by decide) (by decide) (by decide) (by decide) (by decide) b q)

theorem cut11_sum : cut11 (sum8 (pack8 x0 x1 x2 x3 x4 x5 x6 x7 x8 x9 x10 x11 x12 x13)) = total x11 :=
  cut_sum_full (s := ⟨2, ![4, 1024]⟩) x11 (n := 4096) (r := 32) (by decide) (by decide) (by decide) (by decide) (by decide) _ (r11 x0 x1 x2 x3 x4 x5 x6 x7 x8 x9 x10 x11 x12 x13)

theorem r12 : extractStridedSlice (Sq 32) ![456, 0] (sum8 (pack8 x0 x1 x2 x3 x4 x5 x6 x7 x8 x9 x10 x11 x12 x13)) (by decide) = fun q => (∑ b : Fin 8, seg (n := 4096) (t := 4096) (r := 32) (hi := 0) (own x12 b) (by decide) (by decide) (by decide) q : EReal) :=
  piece8 (N := 496) [⟨Sq8 48, rows0 x0⟩, ⟨Sq8 8, rows1 x1⟩, ⟨Sq8 8, rows2 x2⟩, ⟨Sq8 16, rows3 x3⟩, ⟨Sq8 248, rows4 x4⟩, ⟨Sq8 8, rows5 x5⟩, ⟨Sq8 8, rows6 x6⟩, ⟨Sq8 8, rows7 x7⟩, ⟨Sq8 8, rows8 x8⟩, ⟨Sq8 32, rows9 x9⟩, ⟨Sq8 32, rows10 x10⟩, ⟨Sq8 32, rows11 x11⟩, ⟨Sq8 32, rows12 x12⟩, ⟨Sq8 8, rows13 x13⟩] (show Shape.Concatenates [Sq8 48, Sq8 8, Sq8 8, Sq8 16, Sq8 248, Sq8 8, Sq8 8, Sq8 8, Sq8 8, Sq8 32, Sq8 32, Sq8 32, Sq8 32, Sq8 8] (Sq8 496) 1 by decide) 12 (by exact (show 12 < 14 by omega)) (rows12 x12) (by rfl) 456 (by rfl) (by decide) (fun b q => seg (n := 4096) (t := 4096) (r := 32) (hi := 0) (own x12 b) (by decide) (by decide) (by decide) q) (fun b q => seg8_at (s := ⟨2, ![4, 1024]⟩) (n := 4096) (t := 4096) (r := 32) (hi := 0) x12 (by decide) (by decide) (by decide) (by decide) (by decide) (by decide) (by decide) (by decide) b q)

theorem cut12_sum : cut12 (sum8 (pack8 x0 x1 x2 x3 x4 x5 x6 x7 x8 x9 x10 x11 x12 x13)) = total x12 :=
  cut_sum_full (s := ⟨2, ![4, 1024]⟩) x12 (n := 4096) (r := 32) (by decide) (by decide) (by decide) (by decide) (by decide) _ (r12 x0 x1 x2 x3 x4 x5 x6 x7 x8 x9 x10 x11 x12 x13)

theorem r13 : extractStridedSlice (Sq 8) ![488, 0] (sum8 (pack8 x0 x1 x2 x3 x4 x5 x6 x7 x8 x9 x10 x11 x12 x13)) (by decide) = fun q => (∑ b : Fin 8, seg (n := 1) (t := 1024) (r := 8) (hi := 1023) (own x13 b) (by decide) (by decide) (by decide) q : EReal) :=
  piece8 (N := 496) [⟨Sq8 48, rows0 x0⟩, ⟨Sq8 8, rows1 x1⟩, ⟨Sq8 8, rows2 x2⟩, ⟨Sq8 16, rows3 x3⟩, ⟨Sq8 248, rows4 x4⟩, ⟨Sq8 8, rows5 x5⟩, ⟨Sq8 8, rows6 x6⟩, ⟨Sq8 8, rows7 x7⟩, ⟨Sq8 8, rows8 x8⟩, ⟨Sq8 32, rows9 x9⟩, ⟨Sq8 32, rows10 x10⟩, ⟨Sq8 32, rows11 x11⟩, ⟨Sq8 32, rows12 x12⟩, ⟨Sq8 8, rows13 x13⟩] (show Shape.Concatenates [Sq8 48, Sq8 8, Sq8 8, Sq8 16, Sq8 248, Sq8 8, Sq8 8, Sq8 8, Sq8 8, Sq8 32, Sq8 32, Sq8 32, Sq8 32, Sq8 8] (Sq8 496) 1 by decide) 13 (by exact (show 13 < 14 by omega)) (rows13 x13) (by rfl) 488 (by rfl) (by decide) (fun b q => seg (n := 1) (t := 1024) (r := 8) (hi := 1023) (own x13 b) (by decide) (by decide) (by decide) q) (fun b q => (congrArg (fun y => seg8 (n := 1) (t := 1024) (r := 8) (hi := 1023) y (by decide) (by decide) (ix3 b (q 0) (q 1))) (shapeCast_self x13 (by decide)).symm).trans (seg8_at (s := Row 1) (n := 1) (t := 1024) (r := 8) (hi := 1023) x13 (by decide) (by decide) (by decide) (by decide) (by decide) (by decide) (by decide) (by decide) b q))

theorem cut13_sum : cut13 (sum8 (pack8 x0 x1 x2 x3 x4 x5 x6 x7 x8 x9 x10 x11 x12 x13)) = total x13 := by
  unfold cut13
  rw [← cut_sum (s := (Row 1)) x13 (n := 1) (r := 8) (by decide) (by decide) (by decide) (by decide) (by decide) (by decide) _ (r13 x0 x1 x2 x3 x4 x5 x6 x7 x8 x9 x10 x11 x12 x13), shapeCast_self]

end Fourteen

/-! ## The eight stacks, loaded and added -/

/-- Stack `k` of eight, loaded and laid flat. -/
theorem slab8 {R C : ℕ} (arr : FVec Ideal ⟨3, ![8, R, C]⟩ .f32) (hc : (⟨3, ![1, R, C]⟩ : Shape).ShapeCasts ⟨2, ![R, C]⟩) (k : ℕ)
    (hk : k < 8) (inb : ∀ a, (![k, 0, 0] : Fin 3 → ℕ) a + (![1, R, C] : Fin 3 → ℕ) a ≤ (![8, R, C] : Fin 3 → ℕ) a)
    (i : (⟨2, ![R, C]⟩ : Shape).Idx) :
    shapeCast ⟨2, ![R, C]⟩ (View.ld (Val := Elt Ideal) (e' := .f32) arr (Rect.unit (s := ⟨3, ![8, R, C]⟩) ![k, 0, 0] ![1, R, C] inb) :
      FVec Ideal ⟨3, ![1, R, C]⟩ .f32) hc i = arr (ix3 ⟨k, hk⟩ (i 0) (i 1)) := by
  obtain ⟨p, q, rfl⟩ : ∃ p q, i = ix2 p q := ⟨_, _, ValueIdx.eq_ix2 i⟩
  rw [ValueIdx.shapeCast_1ab_ab_apply]
  refine congrArg arr ?_
  funext a
  match a with
  | ⟨0, _⟩ => exact Fin.ext (by show k + 1 * 0 = k; omega)
  | ⟨1, _⟩ => exact Fin.ext (by show 0 + 1 * (p : ℕ) = p; omega)
  | ⟨2, _⟩ => exact Fin.ext (by show 0 + 1 * (q : ℕ) = q; omega)

theorem add8 {x0 y0 x1 y1 x2 y2 x3 y3 x4 y4 x5 y5 x6 y6 x7 y7 : EReal} (h0 : x0 = y0) (h1 : x1 = y1) (h2 : x2 = y2) (h3 : x3 = y3)
    (h4 : x4 = y4) (h5 : x5 = y5) (h6 : x6 = y6) (h7 : x7 = y7) :
    x0 + x1 + x2 + x3 + x4 + x5 + x6 + x7 = y0 + y1 + y2 + y3 + y4 + y5 + y6 + y7 := by rw [h0, h1, h2, h3, h4, h5, h6, h7]

/-! ## One device's columns -/

/-- A device's number as an index: as it is, or counted from the end where it is negative. -/
def place (me : Vec Ideal S0 .i32) : Vec Ideal S0 .i32 :=
  select (cmpi .slt me (constantI S0 32 0#32)) (addi me (constantI S0 32 8#32)) me

/-- Zero. -/
abbrev nought : Vec Ideal S0 .i32 := constantI S0 32 0#32

section Three

variable {a w N : Nat} (me : Vec Ideal S0 .i32) (Z : Vec Ideal ⟨2, ![a, N]⟩ .f32)
    (h0 : (⟨2, ![a, N]⟩ : Shape).ShapeCasts ⟨3, ![a, 8, w]⟩)

/-- Device `me`'s columns, the axis of the devices moved to the front. -/
def pickK3 (ht : (⟨3, ![a, 8, w]⟩ : Shape).Transposes [1, 0, 2] ⟨3, ![8, a, w]⟩)
    (h1 : (⟨3, ![8, a, w]⟩ : Shape).Slices (fun _ => 0) ⟨3, ![1, a, w]⟩)
    (c1 : (⟨3, ![1, a, w]⟩ : Shape).ShapeCasts ⟨2, ![a, w]⟩) : Vec Ideal ⟨2, ![a, w]⟩ .f32 :=
  shapeCast ⟨2, ![a, w]⟩ (Host.dynamicSlice ⟨3, ![1, a, w]⟩ (transpose ⟨3, ![8, a, w]⟩ [1, 0, 2] (shapeCast ⟨3, ![a, 8, w]⟩ Z h0) ht)
    (fun k => ((![place me, nought, nought] : Fin 3 → Vec Ideal S0 .i32) k (Shape.Idx.first (by decide))).toInt) h1) c1

/-- Device `me`'s columns. -/
def mine3 (h2 : (⟨3, ![a, 8, w]⟩ : Shape).Slices (fun _ => 0) ⟨3, ![a, 1, w]⟩)
    (c2 : (⟨3, ![a, 1, w]⟩ : Shape).ShapeCasts ⟨2, ![a, w]⟩) : Vec Ideal ⟨2, ![a, w]⟩ .f32 :=
  shapeCast ⟨2, ![a, w]⟩ (Host.dynamicSlice ⟨3, ![a, 1, w]⟩ (shapeCast ⟨3, ![a, 8, w]⟩ Z h0)
    (fun k => ((![nought, place me, nought] : Fin 3 → Vec Ideal S0 .i32) k (Shape.Idx.first (by decide))).toInt) h2) c2

theorem pickK3_eq (ht : (⟨3, ![a, 8, w]⟩ : Shape).Transposes [1, 0, 2] ⟨3, ![8, a, w]⟩)
    (h1 : (⟨3, ![8, a, w]⟩ : Shape).Slices (fun _ => 0) ⟨3, ![1, a, w]⟩) (c1 : (⟨3, ![1, a, w]⟩ : Shape).ShapeCasts ⟨2, ![a, w]⟩)
    (h2 : (⟨3, ![a, 8, w]⟩ : Shape).Slices (fun _ => 0) ⟨3, ![a, 1, w]⟩) (c2 : (⟨3, ![a, 1, w]⟩ : Shape).ShapeCasts ⟨2, ![a, w]⟩) :
    pickK3 me Z h0 ht h1 c1 = mine3 me Z h0 h2 c2 :=
  pick3 _ ht h1 h2 c1 c2 _ _ rfl rfl rfl rfl rfl

end Three

section Four

variable {a b w N : Nat} (me : Vec Ideal S0 .i32) (Z : Vec Ideal ⟨3, ![a, b, N]⟩ .f32)
    (h0 : (⟨3, ![a, b, N]⟩ : Shape).ShapeCasts ⟨4, ![a, b, 8, w]⟩)

/-- Device `me`'s columns, the axis of the devices moved to the front. -/
def pickK4 (ht : (⟨4, ![a, b, 8, w]⟩ : Shape).Transposes [2, 0, 1, 3] ⟨4, ![8, a, b, w]⟩)
    (h1 : (⟨4, ![8, a, b, w]⟩ : Shape).Slices (fun _ => 0) ⟨4, ![1, a, b, w]⟩)
    (c1 : (⟨4, ![1, a, b, w]⟩ : Shape).ShapeCasts ⟨3, ![a, b, w]⟩) : Vec Ideal ⟨3, ![a, b, w]⟩ .f32 :=
  shapeCast ⟨3, ![a, b, w]⟩ (Host.dynamicSlice ⟨4, ![1, a, b, w]⟩
    (transpose ⟨4, ![8, a, b, w]⟩ [2, 0, 1, 3] (shapeCast ⟨4, ![a, b, 8, w]⟩ Z h0) ht)
    (fun k => ((![place me, nought, nought, nought] : Fin 4 → Vec Ideal S0 .i32) k (Shape.Idx.first (by decide))).toInt) h1) c1

/-- Device `me`'s columns. -/
def mine4 (h2 : (⟨4, ![a, b, 8, w]⟩ : Shape).Slices (fun _ => 0) ⟨4, ![a, b, 1, w]⟩)
    (c2 : (⟨4, ![a, b, 1, w]⟩ : Shape).ShapeCasts ⟨3, ![a, b, w]⟩) : Vec Ideal ⟨3, ![a, b, w]⟩ .f32 :=
  shapeCast ⟨3, ![a, b, w]⟩ (Host.dynamicSlice ⟨4, ![a, b, 1, w]⟩ (shapeCast ⟨4, ![a, b, 8, w]⟩ Z h0)
    (fun k => ((![nought, nought, place me, nought] : Fin 4 → Vec Ideal S0 .i32) k (Shape.Idx.first (by decide))).toInt) h2) c2

theorem pickK4_eq (ht : (⟨4, ![a, b, 8, w]⟩ : Shape).Transposes [2, 0, 1, 3] ⟨4, ![8, a, b, w]⟩)
    (h1 : (⟨4, ![8, a, b, w]⟩ : Shape).Slices (fun _ => 0) ⟨4, ![1, a, b, w]⟩)
    (c1 : (⟨4, ![1, a, b, w]⟩ : Shape).ShapeCasts ⟨3, ![a, b, w]⟩)
    (h2 : (⟨4, ![a, b, 8, w]⟩ : Shape).Slices (fun _ => 0) ⟨4, ![a, b, 1, w]⟩)
    (c2 : (⟨4, ![a, b, 1, w]⟩ : Shape).ShapeCasts ⟨3, ![a, b, w]⟩) :
    pickK4 me Z h0 ht h1 c1 = mine4 me Z h0 h2 c2 :=
  pick4 _ ht h1 h2 c1 c2 _ _ rfl rfl rfl rfl rfl rfl rfl

end Four

end Cert.SumParts
-- ==== Proof.SumHost.lean ====
/-
  THE SUM'S HOST OPERATIONS. Before the region: the one array is the stack of the fourteen arguments, each flattened and padded
  (`SumParts`). After it: each result is cut out of the array the region leaves, and the sharded ones then cut to a device's columns.
-/
module

public import proofs.«01_k».proof.Proof.SumParts
public import proofs.«01_k».proof.Proof.Gen.SumIdeal.Launch
public import Idealize.ShloMosaic.Lib.StableHlo.RunRead
public import Idealize.ShloMosaic.Lib.StableHlo.RunClose

@[expose] public section

set_option maxRecDepth 16384

noncomputable section

namespace Cert.SumHost

open Cert.SumIdeal Cert.SumIdeal.Gen Cert.SumParts
open Idealize.ShloMosaic Idealize.ShloMosaic.TcCoe Idealize.ShloMosaic.StableHlo

/-- The operations before the region. -/
def before : List (HloOp τ sig (Elt Ideal)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28]

/-- The operations after it. -/
abbrev behind : List (List (HloOp τ sig (Elt Ideal))) := [hostOps1, hostOps1_1, hostOps1_2, hostOps1_3, hostOps1_4, hostOps1_5, hostOps1_6, hostOps1_7, hostOps1_8, hostOps1_9, hostOps1_10, hostOps1_11, hostOps1_12, hostOps1_13]

variable (W : Valuation τ sig (Elt Ideal))

/-! ## The stack -/

theorem in0 : upto before W 69 (Proc.devRef .tc main_v2) = rows0 (W (Proc.devRef .tc main_arg2)) := by
  after_reads_simp
  rfl

theorem in1 : upto before W 69 (Proc.devRef .tc main_v5) = rows1 (W (Proc.devRef .tc main_arg3)) := by
  after_reads_simp
  rfl

theorem in2 : upto before W 69 (Proc.devRef .tc main_v8) = rows2 (W (Proc.devRef .tc main_arg4)) := by
  after_reads_simp
  rfl

theorem in3 : upto before W 69 (Proc.devRef .tc main_v11) = rows3 (W (Proc.devRef .tc main_arg5)) := by
  after_reads_simp
  rfl

theorem in4 : upto before W 69 (Proc.devRef .tc main_v14) = rows4 (W (Proc.devRef .tc main_arg6)) := by
  after_reads_simp
  rfl

theorem in5 : upto before W 69 (Proc.devRef .tc main_v17) = rows5 (W (Proc.devRef .tc main_arg7)) := by
  after_reads_simp
  rfl

theorem in6 : upto before W 69 (Proc.devRef .tc main_v20) = rows6 (W (Proc.devRef .tc main_arg8)) := by
  after_reads_simp
  rfl

theorem in7 : upto before W 69 (Proc.devRef .tc main_v23) = rows7 (W (Proc.devRef .tc main_arg9)) := by
  after_reads_simp
  rfl

theorem in8 : upto before W 69 (Proc.devRef .tc main_v26) = rows8 (W (Proc.devRef .tc main_arg10)) := by
  after_reads_simp
  rfl

theorem in9 : upto before W 69 (Proc.devRef .tc main_v29) = rows9 (W (Proc.devRef .tc main_arg11)) := by
  after_reads_simp
  rfl

theorem in10 : upto before W 69 (Proc.devRef .tc main_v32) = rows10 (W (Proc.devRef .tc main_arg12)) := by
  after_reads_simp
  rfl

theorem in11 : upto before W 69 (Proc.devRef .tc main_v35) = rows11 (W (Proc.devRef .tc main_arg13)) := by
  after_reads_simp
  rfl

theorem in12 : upto before W 69 (Proc.devRef .tc main_v38) = rows12 (W (Proc.devRef .tc main_arg14)) := by
  after_reads_simp
  rfl

theorem in13 : upto before W 69 (Proc.devRef .tc main_v40) = rows13 (W (Proc.devRef .tc main_arg1)) := by
  after_reads_simp
  rfl

theorem stack_of : after before W (Proc.devRef .tc main_v41) = packed8 (upto before W 69 (Proc.devRef .tc main_v2)) (upto before W 69 (Proc.devRef .tc main_v5)) (upto before W 69 (Proc.devRef .tc main_v8)) (upto before W 69 (Proc.devRef .tc main_v11)) (upto before W 69 (Proc.devRef .tc main_v14)) (upto before W 69 (Proc.devRef .tc main_v17)) (upto before W 69 (Proc.devRef .tc main_v20)) (upto before W 69 (Proc.devRef .tc main_v23)) (upto before W 69 (Proc.devRef .tc main_v26)) (upto before W 69 (Proc.devRef .tc main_v29)) (upto before W 69 (Proc.devRef .tc main_v32)) (upto before W 69 (Proc.devRef .tc main_v35)) (upto before W 69 (Proc.devRef .tc main_v38)) (upto before W 69 (Proc.devRef .tc main_v40)) := by
  simp only [readAfter, nary_result']
  rfl

theorem stack : after before W (Proc.devRef .tc main_v41) = pack8 (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg1)) := by
  rw [stack_of, in0, in1, in2, in3, in4, in5, in6, in7, in8, in9, in10, in11, in12, in13]
  rfl

/-- The device's number is not written. -/
theorem me_before : after before W (Proc.devRef .tc main_arg0) = W (Proc.devRef .tc main_arg0) := by
  after_reads_simp

/-! ## The results -/

theorem out13 : after (List.flatten behind) W (Proc.devRef .tc main_v87) = shapeCast S_ (cut13 (W (Proc.devRef .tc main_v42))) (by decide) := by
  after_reads_simp
  rfl

theorem out1 : after (List.flatten behind) W (Proc.devRef .tc main_v49) = cut1 (W (Proc.devRef .tc main_v42)) := by
  after_reads_simp
  rfl

theorem out2 : after (List.flatten behind) W (Proc.devRef .tc main_v53) = cut2 (W (Proc.devRef .tc main_v42)) := by
  after_reads_simp
  rfl

theorem out9 : after (List.flatten behind) W (Proc.devRef .tc main_v74) = cut9 (W (Proc.devRef .tc main_v42)) := by
  after_reads_simp
  rfl

theorem out10 : after (List.flatten behind) W (Proc.devRef .tc main_v77) = cut10 (W (Proc.devRef .tc main_v42)) := by
  after_reads_simp
  rfl

theorem out11 : after (List.flatten behind) W (Proc.devRef .tc main_v80) = cut11 (W (Proc.devRef .tc main_v42)) := by
  after_reads_simp
  rfl

theorem out12 : after (List.flatten behind) W (Proc.devRef .tc main_v83) = cut12 (W (Proc.devRef .tc main_v42)) := by
  after_reads_simp
  rfl

theorem out0 : after (List.flatten behind) W (Proc.devRef .tc main_v90) = pickK4 (w := 128) (W (Proc.devRef .tc main_arg0)) (cut0 (W (Proc.devRef .tc main_v42))) (by decide) (by decide) (by decide) (by decide) := by
  after_reads_simp [unaryIndexed_result_read, indexContents_tref_cons, indexContents_tref_empty, indexContents_cons, indexContents_empty, dropContentsCast]
  rfl

theorem out3 : after (List.flatten behind) W (Proc.devRef .tc main_v93) = pickK3 (w := 256) (W (Proc.devRef .tc main_arg0)) (cut3 (W (Proc.devRef .tc main_v42))) (by decide) (by decide) (by decide) (by decide) := by
  after_reads_simp [unaryIndexed_result_read, indexContents_tref_cons, indexContents_tref_empty, indexContents_cons, indexContents_empty, dropContentsCast]
  rfl

theorem out4 : after (List.flatten behind) W (Proc.devRef .tc main_v96) = pickK4 (w := 128) (W (Proc.devRef .tc main_arg0)) (cut4 (W (Proc.devRef .tc main_v42))) (by decide) (by decide) (by decide) (by decide) := by
  after_reads_simp [unaryIndexed_result_read, indexContents_tref_cons, indexContents_tref_empty, indexContents_cons, indexContents_empty, dropContentsCast]
  rfl

theorem out5 : after (List.flatten behind) W (Proc.devRef .tc main_v99) = pickK3 (w := 128) (W (Proc.devRef .tc main_arg0)) (cut5 (W (Proc.devRef .tc main_v42))) (by decide) (by decide) (by decide) (by decide) := by
  after_reads_simp [unaryIndexed_result_read, indexContents_tref_cons, indexContents_tref_empty, indexContents_cons, indexContents_empty, dropContentsCast]
  rfl

theorem out6 : after (List.flatten behind) W (Proc.devRef .tc main_v102) = pickK3 (w := 128) (W (Proc.devRef .tc main_arg0)) (cut6 (W (Proc.devRef .tc main_v42))) (by decide) (by decide) (by decide) (by decide) := by
  after_reads_simp [unaryIndexed_result_read, indexContents_tref_cons, indexContents_tref_empty, indexContents_cons, indexContents_empty, dropContentsCast]
  rfl

theorem out7 : after (List.flatten behind) W (Proc.devRef .tc main_v105) = pickK3 (w := 128) (W (Proc.devRef .tc main_arg0)) (cut7 (W (Proc.devRef .tc main_v42))) (by decide) (by decide) (by decide) (by decide) := by
  after_reads_simp [unaryIndexed_result_read, indexContents_tref_cons, indexContents_tref_empty, indexContents_cons, indexContents_empty, dropContentsCast]
  rfl

theorem out8 : after (List.flatten behind) W (Proc.devRef .tc main_v108) = pickK3 (w := 128) (W (Proc.devRef .tc main_arg0)) (cut8 (W (Proc.devRef .tc main_v42))) (by decide) (by decide) (by decide) (by decide) := by
  after_reads_simp [unaryIndexed_result_read, indexContents_tref_cons, indexContents_tref_empty, indexContents_cons, indexContents_empty, dropContentsCast]
  rfl

end Cert.SumHost
-- ==== Proof.SumRun.lean ====
/-
  THE SUM: what the kernel leaves. The grid has one point and each window's block is its whole array, so the region leaves the sum of
  the eight stacks; cut out of it, each of the fourteen results is the sum over the devices of its own argument.
-/
module

public import proofs.«01_k».proof.Proof.Blocks
public import proofs.«01_k».proof.Proof.SumHost
public import proofs.«01_k».proof.Proof.Gen.SumIdeal.Frame
public import Idealize.ShloMosaic.Lib.Pipeline.Value

@[expose] public section

set_option maxRecDepth 16384

noncomputable section

namespace Cert.SumRun

open Cert.SumIdeal Cert.SumIdeal.Gen Cert.Blocks Cert.SumMath Cert.SumParts Cert.SumHost
open Idealize.ShloMosaic Idealize.ShloMosaic.TcCoe Idealize.SL.Sem
open Idealize.ShloMosaic.Pipeline (Dat Window)

variable (m : (ℓ : Loc nD τ sig) → Buf (Elt Ideal) ℓ) (ρ : Dev nD → PrngReg)

/-- The body: the eight stacks are added one after the other. -/
theorem out1_eq (x0 : Vec Ideal S8x496x128 .f32) : out0_1 (F := Ideal) x0 = sum8 (N := 496) x0 := by
  unfold out0_1
  rw [View.canon_unit_zero hz]
  funext i
  refine (add8 (slab8 x0 _ 0 (by decide) _ i) (slab8 x0 _ 1 (by decide) _ i) (slab8 x0 _ 2 (by decide) _ i) (slab8 x0 _ 3 (by decide) _ i)
    (slab8 x0 _ 4 (by decide) _ i) (slab8 x0 _ 5 (by decide) _ i) (slab8 x0 _ 6 (by decide) _ i) (slab8 x0 _ 7 (by decide) _ i)).trans ?_
  exact (Fin.sum_univ_eight (fun b : Fin 8 => (x0 (ValueIdx.ix3 b (i 0) (i 1)) : EReal))).symm

/-- The stack of the fourteen arguments. -/
def Gp (c : Dev nD) : Vec Ideal (Sq8 496) .f32 :=
  pack8 (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg1))

theorem stackV (c : Dev nD) : V m c main_v41 = Gp m c := stack (fun b => m (c, b))

/-! ## Every window's block is its array -/

theorem zero0 : ∀ t : Fin cfg0.N, win0_0.index t (0 : Fin 3) = 0 ∧ win0_0.index t (1 : Fin 3) = 0 ∧ win0_0.index t (2 : Fin 3) = 0 :=
  (by decide +kernel : ∀ t : Fin grid0.N, _)
theorem emb0 (t : Fin cfg0.N) (j : S8x496x128.Idx) : ((cfg0.win 0).blk t).view.emb j = j := by
  obtain ⟨e0, e1, e2⟩ := zero0 t
  funext a; apply Fin.ext
  match a with
  | ⟨0, _⟩ => show win0_0.index t (0 : Fin 3) * 8 + 1 * (j 0).val = (j 0).val; omega
  | ⟨1, _⟩ => show win0_0.index t (1 : Fin 3) * 496 + 1 * (j 1).val = (j 1).val; omega
  | ⟨2, _⟩ => show win0_0.index t (2 : Fin 3) * 128 + 1 * (j 2).val = (j 2).val; omega
theorem blk0 (c : Dev nD) (t : Fin cfg0.N) : iblk m c 0 t = Gp m c := by
  rw [← stackV]
  funext j; show V m c main_v41 (((cfg0.win 0).blk t).view.emb j) = V m c main_v41 j; rw [emb0]

theorem zero1 : ∀ t : Fin cfg0.N, win0_1.index t (0 : Fin 2) = 0 ∧ win0_1.index t (1 : Fin 2) = 0 :=
  (by decide +kernel : ∀ t : Fin grid0.N, _)
theorem emb1 (t : Fin cfg0.N) (j : S496x128.Idx) : ((cfg0.win 1).blk t).view.emb j = j := by
  obtain ⟨e0, e1⟩ := zero1 t
  funext a; apply Fin.ext
  match a with
  | ⟨0, _⟩ => show win0_1.index t (0 : Fin 2) * 496 + 1 * (j 0).val = (j 0).val; omega
  | ⟨1, _⟩ => show win0_1.index t (1 : Fin 2) * 128 + 1 * (j 1).val = (j 1).val; omega

/-! ## The array after the region -/

theorem fin1 (c : Dev nD) : (dats m 0 c).arrAt 1 cfg0.N = sum8 (N := 496) (Gp m c) := by
  refine (dats m 0 c).arrAt_eq_of_cover 1 _ (fun t _ => ?_) fun i => ⟨(⟨0, by decide⟩ : Fin cfg0.N), flush0_1 _, by
    have h := ((cfg0.win 1).blk (⟨0, by decide⟩ : Fin cfg0.N)).view.emb_mem_set i; rwa [emb1] at h⟩
  show (cfg0.win 1).cut (grid0.coords t) ((dats m 0 c).after 1 t) = _
  rw [after0_1, blk0, out1_eq]
  funext j
  show _ = (sum8 (N := 496) (Gp m c)) (((cfg0.win 1).blk t).view.emb j)
  rw [emb1]

theorem arr_inj : Function.Injective (Pipeline.arrRef spec0) := by decide

/-- The buffers where the region ends. -/
def End (c : Dev nD) : Valuation τ sig (Elt Ideal) :=
  Pipeline.withArrays spec0 c (V0 m c) fun w => (dats m 0 c).arrAt w cfg0.N

theorem end_arr (c : Dev nD) : End m c (Proc.devRef .tc main_v42) = sum8 (N := 496) (Gp m c) :=
  (Pipeline.withArrays_arr spec0 arr_inj c (V0 m c) (fun w => (dats m 0 c).arrAt w cfg0.N) 1).trans (fin1 m c)

/-- The device's number is as it was. -/
theorem end_me (c : Dev nD) : End m c (Proc.devRef .tc main_arg0) = m ((c : Thread nD τ).loc main_arg0) :=
  (Pipeline.withArrays_of_ne spec0 c (V0 m c) (fun w => (dats m 0 c).arrAt w cfg0.N) main_arg0 (by decide)).trans (me_before (fun b => m (c, b)))

/-! ## The results -/

/-- A state the run can end in. -/
abbrev Post (r : PUnit × MemSt nD τ sig (Elt Ideal)) : Prop := Pipeline.FramePost cfgs (dats m) 0 (Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13]) r

theorem rest {r : PUnit × MemSt nD τ sig (Elt Ideal)} (h : Post m r) (c : Dev nD) (b : Ref sig .tc) (hb : b ∈ Pipeline.restRefs sig spec0) :
    r.2.mem ((c.tc : Thread nD τ).loc b) = StableHlo.after (List.flatten behind) (End m c) (Proc.devRef .tc b) :=
  (h c).2 b hb

theorem end13 {r : PUnit × MemSt nD τ sig (Elt Ideal)} (h : Post m r) (c : Dev nD) :
    r.2.mem ((c.tc : Thread nD τ).loc main_v87) = shapeCast S_ (total (s := (Cert.SmallMath.Row 1)) (m ((c.tc : Thread nD τ).loc main_arg1))) (by decide) := by
  rw [rest m h c main_v87 (Pipeline.mem_restRefs_of main_v87 (by decide) (by decide)), out13, end_arr, Gp, cut13_sum]

theorem end0 {r : PUnit × MemSt nD τ sig (Elt Ideal)} (h : Post m r) (c : Dev nD) :
    r.2.mem ((c.tc : Thread nD τ).loc main_v90) = pickK4 (w := 128) (m ((c.tc : Thread nD τ).loc main_arg0)) (total (s := ⟨3, ![2, 3, 1024]⟩) (m ((c.tc : Thread nD τ).loc main_arg2))) (by decide) (by decide) (by decide) (by decide) := by
  rw [rest m h c main_v90 (Pipeline.mem_restRefs_of main_v90 (by decide) (by decide)), out0, end_arr, end_me, Gp, cut0_sum]

theorem end1 {r : PUnit × MemSt nD τ sig (Elt Ideal)} (h : Post m r) (c : Dev nD) :
    r.2.mem ((c.tc : Thread nD τ).loc main_v49) = total (s := ⟨2, ![1, 384]⟩) (m ((c.tc : Thread nD τ).loc main_arg3)) := by
  rw [rest m h c main_v49 (Pipeline.mem_restRefs_of main_v49 (by decide) (by decide)), out1, end_arr, Gp, cut1_sum]

theorem end2 {r : PUnit × MemSt nD τ sig (Elt Ideal)} (h : Post m r) (c : Dev nD) :
    r.2.mem ((c.tc : Thread nD τ).loc main_v53) = total (s := ⟨2, ![1, 256]⟩) (m ((c.tc : Thread nD τ).loc main_arg4)) := by
  rw [rest m h c main_v53 (Pipeline.mem_restRefs_of main_v53 (by decide) (by decide)), out2, end_arr, Gp, cut2_sum]

theorem end3 {r : PUnit × MemSt nD τ sig (Elt Ideal)} (h : Post m r) (c : Dev nD) :
    r.2.mem ((c.tc : Thread nD τ).loc main_v93) = pickK3 (w := 256) (m ((c.tc : Thread nD τ).loc main_arg0)) (total (s := ⟨2, ![1, 2048]⟩) (m ((c.tc : Thread nD τ).loc main_arg5))) (by decide) (by decide) (by decide) (by decide) := by
  rw [rest m h c main_v93 (Pipeline.mem_restRefs_of main_v93 (by decide) (by decide)), out3, end_arr, end_me, Gp, cut3_sum]

theorem end4 {r : PUnit × MemSt nD τ sig (Elt Ideal)} (h : Post m r) (c : Dev nD) :
    r.2.mem ((c.tc : Thread nD τ).loc main_v96) = pickK4 (w := 128) (m ((c.tc : Thread nD τ).loc main_arg0)) (total (s := ⟨3, ![1, 31, 1024]⟩) (m ((c.tc : Thread nD τ).loc main_arg6))) (by decide) (by decide) (by decide) (by decide) := by
  rw [rest m h c main_v96 (Pipeline.mem_restRefs_of main_v96 (by decide) (by decide)), out4, end_arr, end_me, Gp, cut4_sum]

theorem end5 {r : PUnit × MemSt nD τ sig (Elt Ideal)} (h : Post m r) (c : Dev nD) :
    r.2.mem ((c.tc : Thread nD τ).loc main_v99) = pickK3 (w := 128) (m ((c.tc : Thread nD τ).loc main_arg0)) (total (s := ⟨2, ![1, 1024]⟩) (m ((c.tc : Thread nD τ).loc main_arg7))) (by decide) (by decide) (by decide) (by decide) := by
  rw [rest m h c main_v99 (Pipeline.mem_restRefs_of main_v99 (by decide) (by decide)), out5, end_arr, end_me, Gp, cut5_sum]

theorem end6 {r : PUnit × MemSt nD τ sig (Elt Ideal)} (h : Post m r) (c : Dev nD) :
    r.2.mem ((c.tc : Thread nD τ).loc main_v102) = pickK3 (w := 128) (m ((c.tc : Thread nD τ).loc main_arg0)) (total (s := ⟨2, ![1, 1024]⟩) (m ((c.tc : Thread nD τ).loc main_arg8))) (by decide) (by decide) (by decide) (by decide) := by
  rw [rest m h c main_v102 (Pipeline.mem_restRefs_of main_v102 (by decide) (by decide)), out6, end_arr, end_me, Gp, cut6_sum]

theorem end7 {r : PUnit × MemSt nD τ sig (Elt Ideal)} (h : Post m r) (c : Dev nD) :
    r.2.mem ((c.tc : Thread nD τ).loc main_v105) = pickK3 (w := 128) (m ((c.tc : Thread nD τ).loc main_arg0)) (total (s := ⟨2, ![1, 1024]⟩) (m ((c.tc : Thread nD τ).loc main_arg9))) (by decide) (by decide) (by decide) (by decide) := by
  rw [rest m h c main_v105 (Pipeline.mem_restRefs_of main_v105 (by decide) (by decide)), out7, end_arr, end_me, Gp, cut7_sum]

theorem end8 {r : PUnit × MemSt nD τ sig (Elt Ideal)} (h : Post m r) (c : Dev nD) :
    r.2.mem ((c.tc : Thread nD τ).loc main_v108) = pickK3 (w := 128) (m ((c.tc : Thread nD τ).loc main_arg0)) (total (s := ⟨2, ![1, 1024]⟩) (m ((c.tc : Thread nD τ).loc main_arg10))) (by decide) (by decide) (by decide) (by decide) := by
  rw [rest m h c main_v108 (Pipeline.mem_restRefs_of main_v108 (by decide) (by decide)), out8, end_arr, end_me, Gp, cut8_sum]

theorem end9 {r : PUnit × MemSt nD τ sig (Elt Ideal)} (h : Post m r) (c : Dev nD) :
    r.2.mem ((c.tc : Thread nD τ).loc main_v74) = total (s := ⟨2, ![4, 1024]⟩) (m ((c.tc : Thread nD τ).loc main_arg11)) := by
  rw [rest m h c main_v74 (Pipeline.mem_restRefs_of main_v74 (by decide) (by decide)), out9, end_arr, Gp, cut9_sum]

theorem end10 {r : PUnit × MemSt nD τ sig (Elt Ideal)} (h : Post m r) (c : Dev nD) :
    r.2.mem ((c.tc : Thread nD τ).loc main_v77) = total (s := ⟨2, ![4, 1024]⟩) (m ((c.tc : Thread nD τ).loc main_arg12)) := by
  rw [rest m h c main_v77 (Pipeline.mem_restRefs_of main_v77 (by decide) (by decide)), out10, end_arr, Gp, cut10_sum]

theorem end11 {r : PUnit × MemSt nD τ sig (Elt Ideal)} (h : Post m r) (c : Dev nD) :
    r.2.mem ((c.tc : Thread nD τ).loc main_v80) = total (s := ⟨2, ![4, 1024]⟩) (m ((c.tc : Thread nD τ).loc main_arg13)) := by
  rw [rest m h c main_v80 (Pipeline.mem_restRefs_of main_v80 (by decide) (by decide)), out11, end_arr, Gp, cut11_sum]

theorem end12 {r : PUnit × MemSt nD τ sig (Elt Ideal)} (h : Post m r) (c : Dev nD) :
    r.2.mem ((c.tc : Thread nD τ).loc main_v83) = total (s := ⟨2, ![4, 1024]⟩) (m ((c.tc : Thread nD τ).loc main_arg14)) := by
  rw [rest m h c main_v83 (Pipeline.mem_restRefs_of main_v83 (by decide) (by decide)), out12, end_arr, Gp, cut12_sum]

theorem kept0 {r : PUnit × MemSt nD τ sig (Elt Ideal)} (h : Post m r) (c : Dev nD) :
    r.2.mem ((c.tc : Thread nD τ).loc main_arg0) = m ((c.tc : Thread nD τ).loc main_arg0) :=
  ((h c).2 main_arg0 (Pipeline.mem_restRefs_of main_arg0 (by decide) (by decide))).trans (W_main_arg0 m (dats m) c)

theorem kept1 {r : PUnit × MemSt nD τ sig (Elt Ideal)} (h : Post m r) (c : Dev nD) :
    r.2.mem ((c.tc : Thread nD τ).loc main_arg1) = m ((c.tc : Thread nD τ).loc main_arg1) :=
  ((h c).2 main_arg1 (Pipeline.mem_restRefs_of main_arg1 (by decide) (by decide))).trans (W_main_arg1 m (dats m) c)

theorem kept2 {r : PUnit × MemSt nD τ sig (Elt Ideal)} (h : Post m r) (c : Dev nD) :
    r.2.mem ((c.tc : Thread nD τ).loc main_arg2) = m ((c.tc : Thread nD τ).loc main_arg2) :=
  ((h c).2 main_arg2 (Pipeline.mem_restRefs_of main_arg2 (by decide) (by decide))).trans (W_main_arg2 m (dats m) c)

theorem kept3 {r : PUnit × MemSt nD τ sig (Elt Ideal)} (h : Post m r) (c : Dev nD) :
    r.2.mem ((c.tc : Thread nD τ).loc main_arg3) = m ((c.tc : Thread nD τ).loc main_arg3) :=
  ((h c).2 main_arg3 (Pipeline.mem_restRefs_of main_arg3 (by decide) (by decide))).trans (W_main_arg3 m (dats m) c)

theorem kept4 {r : PUnit × MemSt nD τ sig (Elt Ideal)} (h : Post m r) (c : Dev nD) :
    r.2.mem ((c.tc : Thread nD τ).loc main_arg4) = m ((c.tc : Thread nD τ).loc main_arg4) :=
  ((h c).2 main_arg4 (Pipeline.mem_restRefs_of main_arg4 (by decide) (by decide))).trans (W_main_arg4 m (dats m) c)

theorem kept5 {r : PUnit × MemSt nD τ sig (Elt Ideal)} (h : Post m r) (c : Dev nD) :
    r.2.mem ((c.tc : Thread nD τ).loc main_arg5) = m ((c.tc : Thread nD τ).loc main_arg5) :=
  ((h c).2 main_arg5 (Pipeline.mem_restRefs_of main_arg5 (by decide) (by decide))).trans (W_main_arg5 m (dats m) c)

theorem kept6 {r : PUnit × MemSt nD τ sig (Elt Ideal)} (h : Post m r) (c : Dev nD) :
    r.2.mem ((c.tc : Thread nD τ).loc main_arg6) = m ((c.tc : Thread nD τ).loc main_arg6) :=
  ((h c).2 main_arg6 (Pipeline.mem_restRefs_of main_arg6 (by decide) (by decide))).trans (W_main_arg6 m (dats m) c)

theorem kept7 {r : PUnit × MemSt nD τ sig (Elt Ideal)} (h : Post m r) (c : Dev nD) :
    r.2.mem ((c.tc : Thread nD τ).loc main_arg7) = m ((c.tc : Thread nD τ).loc main_arg7) :=
  ((h c).2 main_arg7 (Pipeline.mem_restRefs_of main_arg7 (by decide) (by decide))).trans (W_main_arg7 m (dats m) c)

theorem kept8 {r : PUnit × MemSt nD τ sig (Elt Ideal)} (h : Post m r) (c : Dev nD) :
    r.2.mem ((c.tc : Thread nD τ).loc main_arg8) = m ((c.tc : Thread nD τ).loc main_arg8) :=
  ((h c).2 main_arg8 (Pipeline.mem_restRefs_of main_arg8 (by decide) (by decide))).trans (W_main_arg8 m (dats m) c)

theorem kept9 {r : PUnit × MemSt nD τ sig (Elt Ideal)} (h : Post m r) (c : Dev nD) :
    r.2.mem ((c.tc : Thread nD τ).loc main_arg9) = m ((c.tc : Thread nD τ).loc main_arg9) :=
  ((h c).2 main_arg9 (Pipeline.mem_restRefs_of main_arg9 (by decide) (by decide))).trans (W_main_arg9 m (dats m) c)

theorem kept10 {r : PUnit × MemSt nD τ sig (Elt Ideal)} (h : Post m r) (c : Dev nD) :
    r.2.mem ((c.tc : Thread nD τ).loc main_arg10) = m ((c.tc : Thread nD τ).loc main_arg10) :=
  ((h c).2 main_arg10 (Pipeline.mem_restRefs_of main_arg10 (by decide) (by decide))).trans (W_main_arg10 m (dats m) c)

theorem kept11 {r : PUnit × MemSt nD τ sig (Elt Ideal)} (h : Post m r) (c : Dev nD) :
    r.2.mem ((c.tc : Thread nD τ).loc main_arg11) = m ((c.tc : Thread nD τ).loc main_arg11) :=
  ((h c).2 main_arg11 (Pipeline.mem_restRefs_of main_arg11 (by decide) (by decide))).trans (W_main_arg11 m (dats m) c)

theorem kept12 {r : PUnit × MemSt nD τ sig (Elt Ideal)} (h : Post m r) (c : Dev nD) :
    r.2.mem ((c.tc : Thread nD τ).loc main_arg12) = m ((c.tc : Thread nD τ).loc main_arg12) :=
  ((h c).2 main_arg12 (Pipeline.mem_restRefs_of main_arg12 (by decide) (by decide))).trans (W_main_arg12 m (dats m) c)

theorem kept13 {r : PUnit × MemSt nD τ sig (Elt Ideal)} (h : Post m r) (c : Dev nD) :
    r.2.mem ((c.tc : Thread nD τ).loc main_arg13) = m ((c.tc : Thread nD τ).loc main_arg13) :=
  ((h c).2 main_arg13 (Pipeline.mem_restRefs_of main_arg13 (by decide) (by decide))).trans (W_main_arg13 m (dats m) c)

theorem kept14 {r : PUnit × MemSt nD τ sig (Elt Ideal)} (h : Post m r) (c : Dev nD) :
    r.2.mem ((c.tc : Thread nD τ).loc main_arg14) = m ((c.tc : Thread nD τ).loc main_arg14) :=
  ((h c).2 main_arg14 (Pipeline.mem_restRefs_of main_arg14 (by decide) (by decide))).trans (W_main_arg14 m (dats m) c)

/-- The kernel's run: the fourteen results, and the arguments as they were. -/
theorem run : θ_run defs (onTc (τ := τ) (main (F := Ideal))) ⟨m, fun _ => 0, ρ⟩ (fun r => ∀ c : Dev nD,
      r.2.mem ((c.tc : Thread nD τ).loc main_v87) = shapeCast S_ (total (s := (Cert.SmallMath.Row 1)) (m ((c.tc : Thread nD τ).loc main_arg1))) (by decide)
      ∧ r.2.mem ((c.tc : Thread nD τ).loc main_v90) = pickK4 (w := 128) (m ((c.tc : Thread nD τ).loc main_arg0)) (total (s := ⟨3, ![2, 3, 1024]⟩) (m ((c.tc : Thread nD τ).loc main_arg2))) (by decide) (by decide) (by decide) (by decide)
      ∧ r.2.mem ((c.tc : Thread nD τ).loc main_v49) = total (s := ⟨2, ![1, 384]⟩) (m ((c.tc : Thread nD τ).loc main_arg3))
      ∧ r.2.mem ((c.tc : Thread nD τ).loc main_v53) = total (s := ⟨2, ![1, 256]⟩) (m ((c.tc : Thread nD τ).loc main_arg4))
      ∧ r.2.mem ((c.tc : Thread nD τ).loc main_v93) = pickK3 (w := 256) (m ((c.tc : Thread nD τ).loc main_arg0)) (total (s := ⟨2, ![1, 2048]⟩) (m ((c.tc : Thread nD τ).loc main_arg5))) (by decide) (by decide) (by decide) (by decide)
      ∧ r.2.mem ((c.tc : Thread nD τ).loc main_v96) = pickK4 (w := 128) (m ((c.tc : Thread nD τ).loc main_arg0)) (total (s := ⟨3, ![1, 31, 1024]⟩) (m ((c.tc : Thread nD τ).loc main_arg6))) (by decide) (by decide) (by decide) (by decide)
      ∧ r.2.mem ((c.tc : Thread nD τ).loc main_v99) = pickK3 (w := 128) (m ((c.tc : Thread nD τ).loc main_arg0)) (total (s := ⟨2, ![1, 1024]⟩) (m ((c.tc : Thread nD τ).loc main_arg7))) (by decide) (by decide) (by decide) (by decide)
      ∧ r.2.mem ((c.tc : Thread nD τ).loc main_v102) = pickK3 (w := 128) (m ((c.tc : Thread nD τ).loc main_arg0)) (total (s := ⟨2, ![1, 1024]⟩) (m ((c.tc : Thread nD τ).loc main_arg8))) (by decide) (by decide) (by decide) (by decide)
      ∧ r.2.mem ((c.tc : Thread nD τ).loc main_v105) = pickK3 (w := 128) (m ((c.tc : Thread nD τ).loc main_arg0)) (total (s := ⟨2, ![1, 1024]⟩) (m ((c.tc : Thread nD τ).loc main_arg9))) (by decide) (by decide) (by decide) (by decide)
      ∧ r.2.mem ((c.tc : Thread nD τ).loc main_v108) = pickK3 (w := 128) (m ((c.tc : Thread nD τ).loc main_arg0)) (total (s := ⟨2, ![1, 1024]⟩) (m ((c.tc : Thread nD τ).loc main_arg10))) (by decide) (by decide) (by decide) (by decide)
      ∧ r.2.mem ((c.tc : Thread nD τ).loc main_v74) = total (s := ⟨2, ![4, 1024]⟩) (m ((c.tc : Thread nD τ).loc main_arg11))
      ∧ r.2.mem ((c.tc : Thread nD τ).loc main_v77) = total (s := ⟨2, ![4, 1024]⟩) (m ((c.tc : Thread nD τ).loc main_arg12))
      ∧ r.2.mem ((c.tc : Thread nD τ).loc main_v80) = total (s := ⟨2, ![4, 1024]⟩) (m ((c.tc : Thread nD τ).loc main_arg13))
      ∧ r.2.mem ((c.tc : Thread nD τ).loc main_v83) = total (s := ⟨2, ![4, 1024]⟩) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨end13 m h.1 c, end0 m h.1 c, end1 m h.1 c, end2 m h.1 c, end3 m h.1 c, end4 m h.1 c, end5 m h.1 c, end6 m h.1 c, end7 m h.1 c, end8 m h.1 c, end9 m h.1 c, end10 m h.1 c, end11 m h.1 c, end12 m h.1 c, kept0 m h.1 c, kept1 m h.1 c, kept2 m h.1 c, kept3 m h.1 c, kept4 m h.1 c, kept5 m h.1 c, kept6 m h.1 c, kept7 m h.1 c, kept8 m h.1 c, kept9 m h.1 c, kept10 m h.1 c, kept11 m h.1 c, kept12 m h.1 c, kept13 m h.1 c, kept14 m h.1 c⟩) (run_main_quiescent m ρ)

end Cert.SumRun
-- ==== Proof.SumRefRun.lean ====
/-
  THE SUM'S REFERENCE, ITS RUN. The reference is host operations only; each result is the sum of its argument over the first axis (the
  loss over both), and of the sharded ones device `me`'s columns.
-/
module

public import proofs.«01_k».proof.Proof.SumParts
public import proofs.«01_k».proof.Proof.Gen.SumRefIdeal
public import Idealize.ShloMosaic.Lib.StableHlo.Run
public import Idealize.ShloMosaic.Lib.StableHlo.RunRead
public import Idealize.ShloMosaic.Lib.StableHlo.RunClose

@[expose] public section

set_option maxRecDepth 16384
set_option maxHeartbeats 4000000

noncomputable section

namespace Cert.SumRefRun

open Cert.SumRefIdeal Cert.SumRefIdeal.Gen Cert.SumParts Cert.SumMath
open Idealize.ShloMosaic Idealize.ShloMosaic.TcCoe Idealize.SL.Sem Idealize.ShloMosaic.StableHlo

section Text

variable {F : FTy → Type} [FloatOps F]

/-- The reference's operations, in order. -/
abbrev hostOps : List (HloOp τ sig (Elt F)) :=
  [ nullary main_cst (constant S_ .f32 0x00000000#32),
    binary main_arg1 main_cst main_v0 ((fun x v => Host.reduceAdd x v reducesTo_S8x1_S_d0_1 h_S_) : (⟨S8x1, .f32⟩ : BufTy).Contents (Elt F) → (⟨S_, .f32⟩ : BufTy).Contents (Elt F) → (⟨S_, .f32⟩ : BufTy).Contents (Elt F)),
    nullary main_cst_0 (constant S_ .f32 0x00000000#32),
    binary main_arg2 main_cst_0 main_v1 ((fun x v => Host.reduceAdd x v reducesTo_S8x2x3x1024_S2x3x1024_d0 h_S_) : (⟨S8x2x3x1024, .f32⟩ : BufTy).Contents (Elt F) → (⟨S_, .f32⟩ : BufTy).Contents (Elt F) → (⟨S2x3x1024, .f32⟩ : BufTy).Contents (Elt F)),
    reshape main_v1 main_v2 (rfl : (.f32 : EltTy) = .f32) shapeCasts_S2x3x1024_S2x3x8x128,
    nullary main_c (constantI S_ 32 0#32),
    binary main_arg0 main_c main_v3 (cmpi .slt : (⟨S_, .i32⟩ : BufTy).Contents (Elt F) → (⟨S_, .i32⟩ : BufTy).Contents (Elt F) → (⟨S_, .i1⟩ : BufTy).Contents (Elt F)),
    nullary main_c_1 (constantI S_ 32 8#32),
    binary main_arg0 main_c_1 main_v4 (addi : (⟨S_, .i32⟩ : BufTy).Contents (Elt F) → (⟨S_, .i32⟩ : BufTy).Contents (Elt F) → (⟨S_, .i32⟩ : BufTy).Contents (Elt F)),
    ternary main_v3 main_v4 main_arg0 main_v5 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_2 (constantI S_ 32 0#32),
    nullary main_c_3 (constantI S_ 32 0#32),
    nullary main_c_4 (constantI S_ 32 0#32),
    unaryIndexed main_v2 ![main_c_2, main_c_3, main_v5, main_c_4] ⟨S_, .i32⟩ main_v6 ((fun x i => Host.dynamicSlice S2x3x1x128 x (fun k => (i k (Shape.Idx.first h_S_)).toInt) sliceFits_S2x3x8x128_S2x3x1x128) : (⟨S2x3x8x128, .f32⟩ : BufTy).Contents (Elt F) → (Fin 4 → (⟨S_, .i32⟩ : BufTy).Contents (Elt F)) → (⟨S2x3x1x128, .f32⟩ : BufTy).Contents (Elt F)),
    reshape main_v6 main_v7 (rfl : (.f32 : EltTy) = .f32) shapeCasts_S2x3x1x128_S2x3x128,
    nullary main_cst_5 (constant S_ .f32 0x00000000#32),
    binary main_arg3 main_cst_5 main_v8 ((fun x v => Host.reduceAdd x v reducesTo_S8x1x384_S1x384_d0 h_S_) : (⟨S8x1x384, .f32⟩ : BufTy).Contents (Elt F) → (⟨S_, .f32⟩ : BufTy).Contents (Elt F) → (⟨S1x384, .f32⟩ : BufTy).Contents (Elt F)),
    nullary main_cst_6 (constant S_ .f32 0x00000000#32),
    binary main_arg4 main_cst_6 main_v9 ((fun x v => Host.reduceAdd x v reducesTo_S8x1x256_S1x256_d0 h_S_) : (⟨S8x1x256, .f32⟩ : BufTy).Contents (Elt F) → (⟨S_, .f32⟩ : BufTy).Contents (Elt F) → (⟨S1x256, .f32⟩ : BufTy).Contents (Elt F)),
    nullary main_cst_7 (constant S_ .f32 0x00000000#32),
    binary main_arg5 main_cst_7 main_v10 ((fun x v => Host.reduceAdd x v reducesTo_S8x1x2048_S1x2048_d0 h_S_) : (⟨S8x1x2048, .f32⟩ : BufTy).Contents (Elt F) → (⟨S_, .f32⟩ : BufTy).Contents (Elt F) → (⟨S1x2048, .f32⟩ : BufTy).Contents (Elt F)),
    reshape main_v10 main_v11 (rfl : (.f32 : EltTy) = .f32) shapeCasts_S1x2048_S1x8x256,
    nullary main_c_8 (constantI S_ 32 0#32),
    binary main_arg0 main_c_8 main_v12 (cmpi .slt : (⟨S_, .i32⟩ : BufTy).Contents (Elt F) → (⟨S_, .i32⟩ : BufTy).Contents (Elt F) → (⟨S_, .i1⟩ : BufTy).Contents (Elt F)),
    nullary main_c_9 (constantI S_ 32 8#32),
    binary main_arg0 main_c_9 main_v13 (addi : (⟨S_, .i32⟩ : BufTy).Contents (Elt F) → (⟨S_, .i32⟩ : BufTy).Contents (Elt F) → (⟨S_, .i32⟩ : BufTy).Contents (Elt F)),
    ternary main_v12 main_v13 main_arg0 main_v14 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_10 (constantI S_ 32 0#32),
    nullary main_c_11 (constantI S_ 32 0#32),
    unaryIndexed main_v11 ![main_c_10, main_v14, main_c_11] ⟨S_, .i32⟩ main_v15 ((fun x i => Host.dynamicSlice S1x1x256 x (fun k => (i k (Shape.Idx.first h_S_)).toInt) sliceFits_S1x8x256_S1x1x256) : (⟨S1x8x256, .f32⟩ : BufTy).Contents (Elt F) → (Fin 3 → (⟨S_, .i32⟩ : BufTy).Contents (Elt F)) → (⟨S1x1x256, .f32⟩ : BufTy).Contents (Elt F)),
    reshape main_v15 main_v16 (rfl : (.f32 : EltTy) = .f32) shapeCasts_S1x1x256_S1x256,
    nullary main_cst_12 (constant S_ .f32 0x00000000#32),
    binary main_arg6 main_cst_12 main_v17 ((fun x v => Host.reduceAdd x v reducesTo_S8x1x31x1024_S1x31x1024_d0 h_S_) : (⟨S8x1x31x1024, .f32⟩ : BufTy).Contents (Elt F) → (⟨S_, .f32⟩ : BufTy).Contents (Elt F) → (⟨S1x31x1024, .f32⟩ : BufTy).Contents (Elt F)),
    reshape main_v17 main_v18 (rfl : (.f32 : EltTy) = .f32) shapeCasts_S1x31x1024_S1x31x8x128,
    nullary main_c_13 (constantI S_ 32 0#32),
    binary main_arg0 main_c_13 main_v19 (cmpi .slt : (⟨S_, .i32⟩ : BufTy).Contents (Elt F) → (⟨S_, .i32⟩ : BufTy).Contents (Elt F) → (⟨S_, .i1⟩ : BufTy).Contents (Elt F)),
    nullary main_c_14 (constantI S_ 32 8#32),
    binary main_arg0 main_c_14 main_v20 (addi : (⟨S_, .i32⟩ : BufTy).Contents (Elt F) → (⟨S_, .i32⟩ : BufTy).Contents (Elt F) → (⟨S_, .i32⟩ : BufTy).Contents (Elt F)),
    ternary main_v19 main_v20 main_arg0 main_v21 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_15 (constantI S_ 32 0#32),
    nullary main_c_16 (constantI S_ 32 0#32),
    nullary main_c_17 (constantI S_ 32 0#32),
    unaryIndexed main_v18 ![main_c_15, main_c_16, main_v21, main_c_17] ⟨S_, .i32⟩ main_v22 ((fun x i => Host.dynamicSlice S1x31x1x128 x (fun k => (i k (Shape.Idx.first h_S_)).toInt) sliceFits_S1x31x8x128_S1x31x1x128) : (⟨S1x31x8x128, .f32⟩ : BufTy).Contents (Elt F) → (Fin 4 → (⟨S_, .i32⟩ : BufTy).Contents (Elt F)) → (⟨S1x31x1x128, .f32⟩ : BufTy).Contents (Elt F)),
    reshape main_v22 main_v23 (rfl : (.f32 : EltTy) = .f32) shapeCasts_S1x31x1x128_S1x31x128,
    nullary main_cst_18 (constant S_ .f32 0x00000000#32),
    binary main_arg7 main_cst_18 main_v24 ((fun x v => Host.reduceAdd x v reducesTo_S8x1x1024_S1x1024_d0 h_S_) : (⟨S8x1x1024, .f32⟩ : BufTy).Contents (Elt F) → (⟨S_, .f32⟩ : BufTy).Contents (Elt F) → (⟨S1x1024, .f32⟩ : BufTy).Contents (Elt F)),
    reshape main_v24 main_v25 (rfl : (.f32 : EltTy) = .f32) shapeCasts_S1x1024_S1x8x128,
    nullary main_c_19 (constantI S_ 32 0#32),
    binary main_arg0 main_c_19 main_v26 (cmpi .slt : (⟨S_, .i32⟩ : BufTy).Contents (Elt F) → (⟨S_, .i32⟩ : BufTy).Contents (Elt F) → (⟨S_, .i1⟩ : BufTy).Contents (Elt F)),
    nullary main_c_20 (constantI S_ 32 8#32),
    binary main_arg0 main_c_20 main_v27 (addi : (⟨S_, .i32⟩ : BufTy).Contents (Elt F) → (⟨S_, .i32⟩ : BufTy).Contents (Elt F) → (⟨S_, .i32⟩ : BufTy).Contents (Elt F)),
    ternary main_v26 main_v27 main_arg0 main_v28 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_21 (constantI S_ 32 0#32),
    nullary main_c_22 (constantI S_ 32 0#32),
    unaryIndexed main_v25 ![main_c_21, main_v28, main_c_22] ⟨S_, .i32⟩ main_v29 ((fun x i => Host.dynamicSlice S1x1x128 x (fun k => (i k (Shape.Idx.first h_S_)).toInt) sliceFits_S1x8x128_S1x1x128) : (⟨S1x8x128, .f32⟩ : BufTy).Contents (Elt F) → (Fin 3 → (⟨S_, .i32⟩ : BufTy).Contents (Elt F)) → (⟨S1x1x128, .f32⟩ : BufTy).Contents (Elt F)),
    reshape main_v29 main_v30 (rfl : (.f32 : EltTy) = .f32) shapeCasts_S1x1x128_S1x128,
    nullary main_cst_23 (constant S_ .f32 0x00000000#32),
    binary main_arg8 main_cst_23 main_v31 ((fun x v => Host.reduceAdd x v reducesTo_S8x1x1024_S1x1024_d0 h_S_) : (⟨S8x1x1024, .f32⟩ : BufTy).Contents (Elt F) → (⟨S_, .f32⟩ : BufTy).Contents (Elt F) → (⟨S1x1024, .f32⟩ : BufTy).Contents (Elt F)),
    reshape main_v31 main_v32 (rfl : (.f32 : EltTy) = .f32) shapeCasts_S1x1024_S1x8x128,
    nullary main_c_24 (constantI S_ 32 0#32),
    binary main_arg0 main_c_24 main_v33 (cmpi .slt : (⟨S_, .i32⟩ : BufTy).Contents (Elt F) → (⟨S_, .i32⟩ : BufTy).Contents (Elt F) → (⟨S_, .i1⟩ : BufTy).Contents (Elt F)),
    nullary main_c_25 (constantI S_ 32 8#32),
    binary main_arg0 main_c_25 main_v34 (addi : (⟨S_, .i32⟩ : BufTy).Contents (Elt F) → (⟨S_, .i32⟩ : BufTy).Contents (Elt F) → (⟨S_, .i32⟩ : BufTy).Contents (Elt F)),
    ternary main_v33 main_v34 main_arg0 main_v35 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_26 (constantI S_ 32 0#32),
    nullary main_c_27 (constantI S_ 32 0#32),
    unaryIndexed main_v32 ![main_c_26, main_v35, main_c_27] ⟨S_, .i32⟩ main_v36 ((fun x i => Host.dynamicSlice S1x1x128 x (fun k => (i k (Shape.Idx.first h_S_)).toInt) sliceFits_S1x8x128_S1x1x128) : (⟨S1x8x128, .f32⟩ : BufTy).Contents (Elt F) → (Fin 3 → (⟨S_, .i32⟩ : BufTy).Contents (Elt F)) → (⟨S1x1x128, .f32⟩ : BufTy).Contents (Elt F)),
    reshape main_v36 main_v37 (rfl : (.f32 : EltTy) = .f32) shapeCasts_S1x1x128_S1x128,
    nullary main_cst_28 (constant S_ .f32 0x00000000#32),
    binary main_arg9 main_cst_28 main_v38 ((fun x v => Host.reduceAdd x v reducesTo_S8x1x1024_S1x1024_d0 h_S_) : (⟨S8x1x1024, .f32⟩ : BufTy).Contents (Elt F) → (⟨S_, .f32⟩ : BufTy).Contents (Elt F) → (⟨S1x1024, .f32⟩ : BufTy).Contents (Elt F)),
    reshape main_v38 main_v39 (rfl : (.f32 : EltTy) = .f32) shapeCasts_S1x1024_S1x8x128,
    nullary main_c_29 (constantI S_ 32 0#32),
    binary main_arg0 main_c_29 main_v40 (cmpi .slt : (⟨S_, .i32⟩ : BufTy).Contents (Elt F) → (⟨S_, .i32⟩ : BufTy).Contents (Elt F) → (⟨S_, .i1⟩ : BufTy).Contents (Elt F)),
    nullary main_c_30 (constantI S_ 32 8#32),
    binary main_arg0 main_c_30 main_v41 (addi : (⟨S_, .i32⟩ : BufTy).Contents (Elt F) → (⟨S_, .i32⟩ : BufTy).Contents (Elt F) → (⟨S_, .i32⟩ : BufTy).Contents (Elt F)),
    ternary main_v40 main_v41 main_arg0 main_v42 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_31 (constantI S_ 32 0#32),
    nullary main_c_32 (constantI S_ 32 0#32),
    unaryIndexed main_v39 ![main_c_31, main_v42, main_c_32] ⟨S_, .i32⟩ main_v43 ((fun x i => Host.dynamicSlice S1x1x128 x (fun k => (i k (Shape.Idx.first h_S_)).toInt) sliceFits_S1x8x128_S1x1x128) : (⟨S1x8x128, .f32⟩ : BufTy).Contents (Elt F) → (Fin 3 → (⟨S_, .i32⟩ : BufTy).Contents (Elt F)) → (⟨S1x1x128, .f32⟩ : BufTy).Contents (Elt F)),
    reshape main_v43 main_v44 (rfl : (.f32 : EltTy) = .f32) shapeCasts_S1x1x128_S1x128,
    nullary main_cst_33 (constant S_ .f32 0x00000000#32),
    binary main_arg10 main_cst_33 main_v45 ((fun x v => Host.reduceAdd x v reducesTo_S8x1x1024_S1x1024_d0 h_S_) : (⟨S8x1x1024, .f32⟩ : BufTy).Contents (Elt F) → (⟨S_, .f32⟩ : BufTy).Contents (Elt F) → (⟨S1x1024, .f32⟩ : BufTy).Contents (Elt F)),
    reshape main_v45 main_v46 (rfl : (.f32 : EltTy) = .f32) shapeCasts_S1x1024_S1x8x128,
    nullary main_c_34 (constantI S_ 32 0#32),
    binary main_arg0 main_c_34 main_v47 (cmpi .slt : (⟨S_, .i32⟩ : BufTy).Contents (Elt F) → (⟨S_, .i32⟩ : BufTy).Contents (Elt F) → (⟨S_, .i1⟩ : BufTy).Contents (Elt F)),
    nullary main_c_35 (constantI S_ 32 8#32),
    binary main_arg0 main_c_35 main_v48 (addi : (⟨S_, .i32⟩ : BufTy).Contents (Elt F) → (⟨S_, .i32⟩ : BufTy).Contents (Elt F) → (⟨S_, .i32⟩ : BufTy).Contents (Elt F)),
    ternary main_v47 main_v48 main_arg0 main_v49 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_36 (constantI S_ 32 0#32),
    nullary main_c_37 (constantI S_ 32 0#32),
    unaryIndexed main_v46 ![main_c_36, main_v49, main_c_37] ⟨S_, .i32⟩ main_v50 ((fun x i => Host.dynamicSlice S1x1x128 x (fun k => (i k (Shape.Idx.first h_S_)).toInt) sliceFits_S1x8x128_S1x1x128) : (⟨S1x8x128, .f32⟩ : BufTy).Contents (Elt F) → (Fin 3 → (⟨S_, .i32⟩ : BufTy).Contents (Elt F)) → (⟨S1x1x128, .f32⟩ : BufTy).Contents (Elt F)),
    reshape main_v50 main_v51 (rfl : (.f32 : EltTy) = .f32) shapeCasts_S1x1x128_S1x128,
    nullary main_cst_38 (constant S_ .f32 0x00000000#32),
    binary main_arg11 main_cst_38 main_v52 ((fun x v => Host.reduceAdd x v reducesTo_S8x4x1024_S4x1024_d0 h_S_) : (⟨S8x4x1024, .f32⟩ : BufTy).Contents (Elt F) → (⟨S_, .f32⟩ : BufTy).Contents (Elt F) → (⟨S4x1024, .f32⟩ : BufTy).Contents (Elt F)),
    nullary main_cst_39 (constant S_ .f32 0x00000000#32),
    binary main_arg12 main_cst_39 main_v53 ((fun x v => Host.reduceAdd x v reducesTo_S8x4x1024_S4x1024_d0 h_S_) : (⟨S8x4x1024, .f32⟩ : BufTy).Contents (Elt F) → (⟨S_, .f32⟩ : BufTy).Contents (Elt F) → (⟨S4x1024, .f32⟩ : BufTy).Contents (Elt F)),
    nullary main_cst_40 (constant S_ .f32 0x00000000#32),
    binary main_arg13 main_cst_40 main_v54 ((fun x v => Host.reduceAdd x v reducesTo_S8x4x1024_S4x1024_d0 h_S_) : (⟨S8x4x1024, .f32⟩ : BufTy).Contents (Elt F) → (⟨S_, .f32⟩ : BufTy).Contents (Elt F) → (⟨S4x1024, .f32⟩ : BufTy).Contents (Elt F)),
    nullary main_cst_41 (constant S_ .f32 0x00000000#32),
    binary main_arg14 main_cst_41 main_v55 ((fun x v => Host.reduceAdd x v reducesTo_S8x4x1024_S4x1024_d0 h_S_) : (⟨S8x4x1024, .f32⟩ : BufTy).Contents (Elt F) → (⟨S_, .f32⟩ : BufTy).Contents (Elt F) → (⟨S4x1024, .f32⟩ : BufTy).Contents (Elt F)) ]

theorem text (c : Dev nD) : main (F := F) c = seq hostOps := rfl

theorem no_scoped_refs : (Finset.univ.filter fun b : Ref sig .tc => b.isScoped) = ∅ := by decide

theorem no_scoped_sems : (Finset.univ.filter fun sm : SemLoc sig => sm.isScoped .tc) = ∅ := by decide

theorem bufs_in : (hostOps : List (HloOp τ sig (Elt F))).Forall fun op => op.bufs ⊆ tcRefs τ sig :=
  ⟨nullary_bufs_sub .., binary_bufs_sub .., nullary_bufs_sub .., binary_bufs_sub .., reshape_bufs_sub .., nullary_bufs_sub .., binary_bufs_sub .., nullary_bufs_sub .., binary_bufs_sub .., ternary_bufs_sub .., nullary_bufs_sub .., nullary_bufs_sub .., nullary_bufs_sub .., unaryIndexed_bufs_sub .., reshape_bufs_sub .., nullary_bufs_sub .., binary_bufs_sub .., nullary_bufs_sub .., binary_bufs_sub .., nullary_bufs_sub .., binary_bufs_sub .., reshape_bufs_sub .., nullary_bufs_sub .., binary_bufs_sub .., nullary_bufs_sub .., binary_bufs_sub .., ternary_bufs_sub .., nullary_bufs_sub .., nullary_bufs_sub .., unaryIndexed_bufs_sub .., reshape_bufs_sub .., nullary_bufs_sub .., binary_bufs_sub .., reshape_bufs_sub .., nullary_bufs_sub .., binary_bufs_sub .., nullary_bufs_sub .., binary_bufs_sub .., ternary_bufs_sub .., nullary_bufs_sub .., nullary_bufs_sub .., nullary_bufs_sub .., unaryIndexed_bufs_sub .., reshape_bufs_sub .., nullary_bufs_sub .., binary_bufs_sub .., reshape_bufs_sub .., nullary_bufs_sub .., binary_bufs_sub .., nullary_bufs_sub .., binary_bufs_sub .., ternary_bufs_sub .., nullary_bufs_sub .., nullary_bufs_sub .., unaryIndexed_bufs_sub .., reshape_bufs_sub .., nullary_bufs_sub .., binary_bufs_sub .., reshape_bufs_sub .., nullary_bufs_sub .., binary_bufs_sub .., nullary_bufs_sub .., binary_bufs_sub .., ternary_bufs_sub .., nullary_bufs_sub .., nullary_bufs_sub .., unaryIndexed_bufs_sub .., reshape_bufs_sub .., nullary_bufs_sub .., binary_bufs_sub .., reshape_bufs_sub .., nullary_bufs_sub .., binary_bufs_sub .., nullary_bufs_sub .., binary_bufs_sub .., ternary_bufs_sub .., nullary_bufs_sub .., nullary_bufs_sub .., unaryIndexed_bufs_sub .., reshape_bufs_sub .., nullary_bufs_sub .., binary_bufs_sub .., reshape_bufs_sub .., nullary_bufs_sub .., binary_bufs_sub .., nullary_bufs_sub .., binary_bufs_sub .., ternary_bufs_sub .., nullary_bufs_sub .., nullary_bufs_sub .., unaryIndexed_bufs_sub .., reshape_bufs_sub .., nullary_bufs_sub .., binary_bufs_sub .., nullary_bufs_sub .., binary_bufs_sub .., nullary_bufs_sub .., binary_bufs_sub .., nullary_bufs_sub .., binary_bufs_sub ..⟩

end Text

variable (W : Valuation τ sig (Elt Ideal))

theorem read13 : after (hostOps (F := Ideal)) W (Proc.devRef .tc main_v0) = Host.reduceAdd (F := Ideal) (φ := .f32) (W (Proc.devRef .tc main_arg1)) (constant (F := Ideal) S_ .f32 0x00000000#32) reducesTo_S8x1_S_d0_1 h_S_ := by
  after_reads_simp

theorem res13 : after (hostOps (F := Ideal)) W (Proc.devRef .tc main_v0) = shapeCast S_ (total (s := Cert.SmallMath.Row 1) (W (Proc.devRef .tc main_arg1))) (by decide) := by
  rw [read13]
  exact host_loss _ _ _ (by decide)

theorem read0 : after (hostOps (F := Ideal)) W (Proc.devRef .tc main_v7) = mine4 (w := 128) (W (Proc.devRef .tc main_arg0)) (Host.reduceAdd (F := Ideal) (φ := .f32) (W (Proc.devRef .tc main_arg2)) (constant (F := Ideal) S_ .f32 0x00000000#32) reducesTo_S8x2x3x1024_S2x3x1024_d0 h_S_) (by decide) (by decide) (by decide) := by
  after_reads_simp [unaryIndexed_result_read, indexContents_tref_cons, indexContents_tref_empty, indexContents_cons, indexContents_empty, dropContentsCast]
  rfl

theorem res0 : after (hostOps (F := Ideal)) W (Proc.devRef .tc main_v7) = mine4 (w := 128) (W (Proc.devRef .tc main_arg0)) (total (s := ⟨3, ![2, 3, 1024]⟩) (W (Proc.devRef .tc main_arg2))) (by decide) (by decide) (by decide) := by
  rw [read0]
  exact congrArg (fun Z => mine4 (w := 128) (W (Proc.devRef .tc main_arg0)) Z (by decide) (by decide) (by decide)) (host3 _ _ (by decide) _)

theorem read1 : after (hostOps (F := Ideal)) W (Proc.devRef .tc main_v8) = Host.reduceAdd (F := Ideal) (φ := .f32) (W (Proc.devRef .tc main_arg3)) (constant (F := Ideal) S_ .f32 0x00000000#32) reducesTo_S8x1x384_S1x384_d0 h_S_ := by
  after_reads_simp

theorem res1 : after (hostOps (F := Ideal)) W (Proc.devRef .tc main_v8) = total (s := ⟨2, ![1, 384]⟩) (W (Proc.devRef .tc main_arg3)) := by
  rw [read1]
  exact host2 _ _ (by decide) _

theorem read2 : after (hostOps (F := Ideal)) W (Proc.devRef .tc main_v9) = Host.reduceAdd (F := Ideal) (φ := .f32) (W (Proc.devRef .tc main_arg4)) (constant (F := Ideal) S_ .f32 0x00000000#32) reducesTo_S8x1x256_S1x256_d0 h_S_ := by
  after_reads_simp

theorem res2 : after (hostOps (F := Ideal)) W (Proc.devRef .tc main_v9) = total (s := ⟨2, ![1, 256]⟩) (W (Proc.devRef .tc main_arg4)) := by
  rw [read2]
  exact host2 _ _ (by decide) _

theorem read3 : after (hostOps (F := Ideal)) W (Proc.devRef .tc main_v16) = mine3 (w := 256) (W (Proc.devRef .tc main_arg0)) (Host.reduceAdd (F := Ideal) (φ := .f32) (W (Proc.devRef .tc main_arg5)) (constant (F := Ideal) S_ .f32 0x00000000#32) reducesTo_S8x1x2048_S1x2048_d0 h_S_) (by decide) (by decide) (by decide) := by
  after_reads_simp [unaryIndexed_result_read, indexContents_tref_cons, indexContents_tref_empty, indexContents_cons, indexContents_empty, dropContentsCast]
  rfl

theorem res3 : after (hostOps (F := Ideal)) W (Proc.devRef .tc main_v16) = mine3 (w := 256) (W (Proc.devRef .tc main_arg0)) (total (s := ⟨2, ![1, 2048]⟩) (W (Proc.devRef .tc main_arg5))) (by decide) (by decide) (by decide) := by
  rw [read3]
  exact congrArg (fun Z => mine3 (w := 256) (W (Proc.devRef .tc main_arg0)) Z (by decide) (by decide) (by decide)) (host2 _ _ (by decide) _)

theorem read4 : after (hostOps (F := Ideal)) W (Proc.devRef .tc main_v23) = mine4 (w := 128) (W (Proc.devRef .tc main_arg0)) (Host.reduceAdd (F := Ideal) (φ := .f32) (W (Proc.devRef .tc main_arg6)) (constant (F := Ideal) S_ .f32 0x00000000#32) reducesTo_S8x1x31x1024_S1x31x1024_d0 h_S_) (by decide) (by decide) (by decide) := by
  after_reads_simp [unaryIndexed_result_read, indexContents_tref_cons, indexContents_tref_empty, indexContents_cons, indexContents_empty, dropContentsCast]
  rfl

theorem res4 : after (hostOps (F := Ideal)) W (Proc.devRef .tc main_v23) = mine4 (w := 128) (W (Proc.devRef .tc main_arg0)) (total (s := ⟨3, ![1, 31, 1024]⟩) (W (Proc.devRef .tc main_arg6))) (by decide) (by decide) (by decide) := by
  rw [read4]
  exact congrArg (fun Z => mine4 (w := 128) (W (Proc.devRef .tc main_arg0)) Z (by decide) (by decide) (by decide)) (host3 _ _ (by decide) _)

theorem read5 : after (hostOps (F := Ideal)) W (Proc.devRef .tc main_v30) = mine3 (w := 128) (W (Proc.devRef .tc main_arg0)) (Host.reduceAdd (F := Ideal) (φ := .f32) (W (Proc.devRef .tc main_arg7)) (constant (F := Ideal) S_ .f32 0x00000000#32) reducesTo_S8x1x1024_S1x1024_d0 h_S_) (by decide) (by decide) (by decide) := by
  after_reads_simp [unaryIndexed_result_read, indexContents_tref_cons, indexContents_tref_empty, indexContents_cons, indexContents_empty, dropContentsCast]
  rfl

theorem res5 : after (hostOps (F := Ideal)) W (Proc.devRef .tc main_v30) = mine3 (w := 128) (W (Proc.devRef .tc main_arg0)) (total (s := ⟨2, ![1, 1024]⟩) (W (Proc.devRef .tc main_arg7))) (by decide) (by decide) (by decide) := by
  rw [read5]
  exact congrArg (fun Z => mine3 (w := 128) (W (Proc.devRef .tc main_arg0)) Z (by decide) (by decide) (by decide)) (host2 _ _ (by decide) _)

theorem read6 : after (hostOps (F := Ideal)) W (Proc.devRef .tc main_v37) = mine3 (w := 128) (W (Proc.devRef .tc main_arg0)) (Host.reduceAdd (F := Ideal) (φ := .f32) (W (Proc.devRef .tc main_arg8)) (constant (F := Ideal) S_ .f32 0x00000000#32) reducesTo_S8x1x1024_S1x1024_d0 h_S_) (by decide) (by decide) (by decide) := by
  after_reads_simp [unaryIndexed_result_read, indexContents_tref_cons, indexContents_tref_empty, indexContents_cons, indexContents_empty, dropContentsCast]
  rfl

theorem res6 : after (hostOps (F := Ideal)) W (Proc.devRef .tc main_v37) = mine3 (w := 128) (W (Proc.devRef .tc main_arg0)) (total (s := ⟨2, ![1, 1024]⟩) (W (Proc.devRef .tc main_arg8))) (by decide) (by decide) (by decide) := by
  rw [read6]
  exact congrArg (fun Z => mine3 (w := 128) (W (Proc.devRef .tc main_arg0)) Z (by decide) (by decide) (by decide)) (host2 _ _ (by decide) _)

theorem read7 : after (hostOps (F := Ideal)) W (Proc.devRef .tc main_v44) = mine3 (w := 128) (W (Proc.devRef .tc main_arg0)) (Host.reduceAdd (F := Ideal) (φ := .f32) (W (Proc.devRef .tc main_arg9)) (constant (F := Ideal) S_ .f32 0x00000000#32) reducesTo_S8x1x1024_S1x1024_d0 h_S_) (by decide) (by decide) (by decide) := by
  after_reads_simp [unaryIndexed_result_read, indexContents_tref_cons, indexContents_tref_empty, indexContents_cons, indexContents_empty, dropContentsCast]
  rfl

theorem res7 : after (hostOps (F := Ideal)) W (Proc.devRef .tc main_v44) = mine3 (w := 128) (W (Proc.devRef .tc main_arg0)) (total (s := ⟨2, ![1, 1024]⟩) (W (Proc.devRef .tc main_arg9))) (by decide) (by decide) (by decide) := by
  rw [read7]
  exact congrArg (fun Z => mine3 (w := 128) (W (Proc.devRef .tc main_arg0)) Z (by decide) (by decide) (by decide)) (host2 _ _ (by decide) _)

theorem read8 : after (hostOps (F := Ideal)) W (Proc.devRef .tc main_v51) = mine3 (w := 128) (W (Proc.devRef .tc main_arg0)) (Host.reduceAdd (F := Ideal) (φ := .f32) (W (Proc.devRef .tc main_arg10)) (constant (F := Ideal) S_ .f32 0x00000000#32) reducesTo_S8x1x1024_S1x1024_d0 h_S_) (by decide) (by decide) (by decide) := by
  after_reads_simp [unaryIndexed_result_read, indexContents_tref_cons, indexContents_tref_empty, indexContents_cons, indexContents_empty, dropContentsCast]
  rfl

theorem res8 : after (hostOps (F := Ideal)) W (Proc.devRef .tc main_v51) = mine3 (w := 128) (W (Proc.devRef .tc main_arg0)) (total (s := ⟨2, ![1, 1024]⟩) (W (Proc.devRef .tc main_arg10))) (by decide) (by decide) (by decide) := by
  rw [read8]
  exact congrArg (fun Z => mine3 (w := 128) (W (Proc.devRef .tc main_arg0)) Z (by decide) (by decide) (by decide)) (host2 _ _ (by decide) _)

theorem read9 : after (hostOps (F := Ideal)) W (Proc.devRef .tc main_v52) = Host.reduceAdd (F := Ideal) (φ := .f32) (W (Proc.devRef .tc main_arg11)) (constant (F := Ideal) S_ .f32 0x00000000#32) reducesTo_S8x4x1024_S4x1024_d0 h_S_ := by
  after_reads_simp

theorem res9 : after (hostOps (F := Ideal)) W (Proc.devRef .tc main_v52) = total (s := ⟨2, ![4, 1024]⟩) (W (Proc.devRef .tc main_arg11)) := by
  rw [read9]
  exact host2 _ _ (by decide) _

theorem read10 : after (hostOps (F := Ideal)) W (Proc.devRef .tc main_v53) = Host.reduceAdd (F := Ideal) (φ := .f32) (W (Proc.devRef .tc main_arg12)) (constant (F := Ideal) S_ .f32 0x00000000#32) reducesTo_S8x4x1024_S4x1024_d0 h_S_ := by
  after_reads_simp

theorem res10 : after (hostOps (F := Ideal)) W (Proc.devRef .tc main_v53) = total (s := ⟨2, ![4, 1024]⟩) (W (Proc.devRef .tc main_arg12)) := by
  rw [read10]
  exact host2 _ _ (by decide) _

theorem read11 : after (hostOps (F := Ideal)) W (Proc.devRef .tc main_v54) = Host.reduceAdd (F := Ideal) (φ := .f32) (W (Proc.devRef .tc main_arg13)) (constant (F := Ideal) S_ .f32 0x00000000#32) reducesTo_S8x4x1024_S4x1024_d0 h_S_ := by
  after_reads_simp

theorem res11 : after (hostOps (F := Ideal)) W (Proc.devRef .tc main_v54) = total (s := ⟨2, ![4, 1024]⟩) (W (Proc.devRef .tc main_arg13)) := by
  rw [read11]
  exact host2 _ _ (by decide) _

theorem read12 : after (hostOps (F := Ideal)) W (Proc.devRef .tc main_v55) = Host.reduceAdd (F := Ideal) (φ := .f32) (W (Proc.devRef .tc main_arg14)) (constant (F := Ideal) S_ .f32 0x00000000#32) reducesTo_S8x4x1024_S4x1024_d0 h_S_ := by
  after_reads_simp

theorem res12 : after (hostOps (F := Ideal)) W (Proc.devRef .tc main_v55) = total (s := ⟨2, ![4, 1024]⟩) (W (Proc.devRef .tc main_arg14)) := by
  rw [read12]
  exact host2 _ _ (by decide) _

theorem keep0 : after (hostOps (F := Ideal)) W (Proc.devRef .tc main_arg0) = (W (Proc.devRef .tc main_arg0)) := by
  after_reads_simp

theorem keep1 : after (hostOps (F := Ideal)) W (Proc.devRef .tc main_arg1) = (W (Proc.devRef .tc main_arg1)) := by
  after_reads_simp

theorem keep2 : after (hostOps (F := Ideal)) W (Proc.devRef .tc main_arg2) = (W (Proc.devRef .tc main_arg2)) := by
  after_reads_simp

theorem keep3 : after (hostOps (F := Ideal)) W (Proc.devRef .tc main_arg3) = (W (Proc.devRef .tc main_arg3)) := by
  after_reads_simp

theorem keep4 : after (hostOps (F := Ideal)) W (Proc.devRef .tc main_arg4) = (W (Proc.devRef .tc main_arg4)) := by
  after_reads_simp

theorem keep5 : after (hostOps (F := Ideal)) W (Proc.devRef .tc main_arg5) = (W (Proc.devRef .tc main_arg5)) := by
  after_reads_simp

theorem keep6 : after (hostOps (F := Ideal)) W (Proc.devRef .tc main_arg6) = (W (Proc.devRef .tc main_arg6)) := by
  after_reads_simp

theorem keep7 : after (hostOps (F := Ideal)) W (Proc.devRef .tc main_arg7) = (W (Proc.devRef .tc main_arg7)) := by
  after_reads_simp

theorem keep8 : after (hostOps (F := Ideal)) W (Proc.devRef .tc main_arg8) = (W (Proc.devRef .tc main_arg8)) := by
  after_reads_simp

theorem keep9 : after (hostOps (F := Ideal)) W (Proc.devRef .tc main_arg9) = (W (Proc.devRef .tc main_arg9)) := by
  after_reads_simp

theorem keep10 : after (hostOps (F := Ideal)) W (Proc.devRef .tc main_arg10) = (W (Proc.devRef .tc main_arg10)) := by
  after_reads_simp

theorem keep11 : after (hostOps (F := Ideal)) W (Proc.devRef .tc main_arg11) = (W (Proc.devRef .tc main_arg11)) := by
  after_reads_simp

theorem keep12 : after (hostOps (F := Ideal)) W (Proc.devRef .tc main_arg12) = (W (Proc.devRef .tc main_arg12)) := by
  after_reads_simp

theorem keep13 : after (hostOps (F := Ideal)) W (Proc.devRef .tc main_arg13) = (W (Proc.devRef .tc main_arg13)) := by
  after_reads_simp

theorem keep14 : after (hostOps (F := Ideal)) W (Proc.devRef .tc main_arg14) = (W (Proc.devRef .tc main_arg14)) := by
  after_reads_simp

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = shapeCast S_ (total (s := Cert.SmallMath.Row 1) (m ((c.tc : Thread nD τ).loc main_arg1))) (by decide)
      ∧ r.2.mem ((c.tc : Thread nD τ).loc main_v7) = mine4 (w := 128) (m ((c.tc : Thread nD τ).loc main_arg0)) (total (s := ⟨3, ![2, 3, 1024]⟩) (m ((c.tc : Thread nD τ).loc main_arg2))) (by decide) (by decide) (by decide)
      ∧ r.2.mem ((c.tc : Thread nD τ).loc main_v8) = total (s := ⟨2, ![1, 384]⟩) (m ((c.tc : Thread nD τ).loc main_arg3))
      ∧ r.2.mem ((c.tc : Thread nD τ).loc main_v9) = total (s := ⟨2, ![1, 256]⟩) (m ((c.tc : Thread nD τ).loc main_arg4))
      ∧ r.2.mem ((c.tc : Thread nD τ).loc main_v16) = mine3 (w := 256) (m ((c.tc : Thread nD τ).loc main_arg0)) (total (s := ⟨2, ![1, 2048]⟩) (m ((c.tc : Thread nD τ).loc main_arg5))) (by decide) (by decide) (by decide)
      ∧ r.2.mem ((c.tc : Thread nD τ).loc main_v23) = mine4 (w := 128) (m ((c.tc : Thread nD τ).loc main_arg0)) (total (s := ⟨3, ![1, 31, 1024]⟩) (m ((c.tc : Thread nD τ).loc main_arg6))) (by decide) (by decide) (by decide)
      ∧ r.2.mem ((c.tc : Thread nD τ).loc main_v30) = mine3 (w := 128) (m ((c.tc : Thread nD τ).loc main_arg0)) (total (s := ⟨2, ![1, 1024]⟩) (m ((c.tc : Thread nD τ).loc main_arg7))) (by decide) (by decide) (by decide)
      ∧ r.2.mem ((c.tc : Thread nD τ).loc main_v37) = mine3 (w := 128) (m ((c.tc : Thread nD τ).loc main_arg0)) (total (s := ⟨2, ![1, 1024]⟩) (m ((c.tc : Thread nD τ).loc main_arg8))) (by decide) (by decide) (by decide)
      ∧ r.2.mem ((c.tc : Thread nD τ).loc main_v44) = mine3 (w := 128) (m ((c.tc : Thread nD τ).loc main_arg0)) (total (s := ⟨2, ![1, 1024]⟩) (m ((c.tc : Thread nD τ).loc main_arg9))) (by decide) (by decide) (by decide)
      ∧ r.2.mem ((c.tc : Thread nD τ).loc main_v51) = mine3 (w := 128) (m ((c.tc : Thread nD τ).loc main_arg0)) (total (s := ⟨2, ![1, 1024]⟩) (m ((c.tc : Thread nD τ).loc main_arg10))) (by decide) (by decide) (by decide)
      ∧ r.2.mem ((c.tc : Thread nD τ).loc main_v52) = total (s := ⟨2, ![4, 1024]⟩) (m ((c.tc : Thread nD τ).loc main_arg11))
      ∧ r.2.mem ((c.tc : Thread nD τ).loc main_v53) = total (s := ⟨2, ![4, 1024]⟩) (m ((c.tc : Thread nD τ).loc main_arg12))
      ∧ r.2.mem ((c.tc : Thread nD τ).loc main_v54) = total (s := ⟨2, ![4, 1024]⟩) (m ((c.tc : Thread nD τ).loc main_arg13))
      ∧ r.2.mem ((c.tc : Thread nD τ).loc main_v55) = total (s := ⟨2, ![4, 1024]⟩) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v0).trans (res13 _),
      (h c main_v7).trans (res0 _),
      (h c main_v8).trans (res1 _),
      (h c main_v9).trans (res2 _),
      (h c main_v16).trans (res3 _),
      (h c main_v23).trans (res4 _),
      (h c main_v30).trans (res5 _),
      (h c main_v37).trans (res6 _),
      (h c main_v44).trans (res7 _),
      (h c main_v51).trans (res8 _),
      (h c main_v52).trans (res9 _),
      (h c main_v53).trans (res10 _),
      (h c main_v54).trans (res11 _),
      (h c main_v55).trans (res12 _),
      (h c main_arg0).trans (keep0 _),
      (h c main_arg1).trans (keep1 _),
      (h c main_arg2).trans (keep2 _),
      (h c main_arg3).trans (keep3 _),
      (h c main_arg4).trans (keep4 _),
      (h c main_arg5).trans (keep5 _),
      (h c main_arg6).trans (keep6 _),
      (h c main_arg7).trans (keep7 _),
      (h c main_arg8).trans (keep8 _),
      (h c main_arg9).trans (keep9 _),
      (h c main_arg10).trans (keep10 _),
      (h c main_arg11).trans (keep11 _),
      (h c main_arg12).trans (keep12 _),
      (h c main_arg13).trans (keep13 _),
      (h c main_arg14).trans (keep14 _)⟩)
    (run_seq no_scoped_refs no_scoped_sems defs main (fun _ => hostOps) text (fun _ => bufs_in) m ρ)

end Cert.SumRefRun
-- ==== Proof.SumClaim.lean ====
/-
  THE SUM'S CLAIMS that are not generated: the reference's frame and the value claim, from the kernel's run (SumRun.lean) and the
  reference's (SumRefRun.lean).
-/
module

public import proofs.«01_k».proof.Defs
public import proofs.«01_k».proof.Proof.SumRun
public import proofs.«01_k».proof.Proof.SumRefRun
public import Idealize.ShloMosaic.Lib.Quiescent

@[expose] public section

set_option maxRecDepth 16384

noncomputable section

namespace Cert.SumClaim

open Idealize.ShloMosaic Idealize.ShloMosaic.StableHlo Idealize.SL.Sem Cert.SumMath Cert.SumParts

theorem ref_frame : Cert.quiescent_SumRefIdeal (hSumRefIdeal := Cert.SumRefIdeal.Gen.facts) := fun m ρ _ =>
  (θ_run Cert.SumRefIdeal.defs _ _).mono (fun r h =>
    ⟨fun c => (h c).2.2.2.2.2.2.2.2.2.2.2.2.2.2, Idealize.ShloMosaic.sem_eq_zero_of_no_sems (by decide) r.2⟩)
    (Cert.SumRefRun.run m ρ)

theorem value : Cert.algebraic_SumIdeal_SumRefIdeal (hSumIdeal := Cert.SumIdeal.Gen.facts)
    (hSumRefIdeal := Cert.SumRefIdeal.Gen.facts) := by
  intro m g m' g' _ hag
  refine ⟨_, _, _, _, _, _, _, _, _, _, _, _, _, _,
    Cert.SumRun.run m g,
    (θ_run Cert.SumRefIdeal.defs _ _).mono (fun r h c => ?_) (Cert.SumRefRun.run m' g')⟩
  obtain ⟨e0, e1, e2, e3, e4, e5, e6, e7, e8, e9, e10, e11, e12, e13, e14⟩ := hag c
  obtain ⟨h0, h1, h2, h3, h4, h5, h6, h7, h8, h9, h10, h11, h12, h13, hargs⟩ := h c
  exact ⟨h0.trans (congrArg (fun x => shapeCast _ (total (s := Cert.SmallMath.Row 1) x) (by decide)) e1),
    h1.trans ((congrArg₂ (fun i x => mine4 (w := 128) i (total (s := ⟨3, ![2, 3, 1024]⟩) x) (by decide) (by decide) (by decide)) e0 e2).trans (pickK4_eq (w := 128) _ _ (by decide) (by decide) (by decide) (by decide) (by decide) (by decide)).symm),
    h2.trans (congrArg (fun x => total (s := ⟨2, ![1, 384]⟩) x) e3),
    h3.trans (congrArg (fun x => total (s := ⟨2, ![1, 256]⟩) x) e4),
    h4.trans ((congrArg₂ (fun i x => mine3 (w := 256) i (total (s := ⟨2, ![1, 2048]⟩) x) (by decide) (by decide) (by decide)) e0 e5).trans (pickK3_eq (w := 256) _ _ (by decide) (by decide) (by decide) (by decide) (by decide) (by decide)).symm),
    h5.trans ((congrArg₂ (fun i x => mine4 (w := 128) i (total (s := ⟨3, ![1, 31, 1024]⟩) x) (by decide) (by decide) (by decide)) e0 e6).trans (pickK4_eq (w := 128) _ _ (by decide) (by decide) (by decide) (by decide) (by decide) (by decide)).symm),
    h6.trans ((congrArg₂ (fun i x => mine3 (w := 128) i (total (s := ⟨2, ![1, 1024]⟩) x) (by decide) (by decide) (by decide)) e0 e7).trans (pickK3_eq (w := 128) _ _ (by decide) (by decide) (by decide) (by decide) (by decide) (by decide)).symm),
    h7.trans ((congrArg₂ (fun i x => mine3 (w := 128) i (total (s := ⟨2, ![1, 1024]⟩) x) (by decide) (by decide) (by decide)) e0 e8).trans (pickK3_eq (w := 128) _ _ (by decide) (by decide) (by decide) (by decide) (by decide) (by decide)).symm),
    h8.trans ((congrArg₂ (fun i x => mine3 (w := 128) i (total (s := ⟨2, ![1, 1024]⟩) x) (by decide) (by decide) (by decide)) e0 e9).trans (pickK3_eq (w := 128) _ _ (by decide) (by decide) (by decide) (by decide) (by decide) (by decide)).symm),
    h9.trans ((congrArg₂ (fun i x => mine3 (w := 128) i (total (s := ⟨2, ![1, 1024]⟩) x) (by decide) (by decide) (by decide)) e0 e10).trans (pickK3_eq (w := 128) _ _ (by decide) (by decide) (by decide) (by decide) (by decide) (by decide)).symm),
    h10.trans (congrArg (fun x => total (s := ⟨2, ![4, 1024]⟩) x) e11),
    h11.trans (congrArg (fun x => total (s := ⟨2, ![4, 1024]⟩) x) e12),
    h12.trans (congrArg (fun x => total (s := ⟨2, ![4, 1024]⟩) x) e13),
    h13.trans (congrArg (fun x => total (s := ⟨2, ![4, 1024]⟩) x) e14),
    hargs⟩

end Cert.SumClaim
-- ==== Proof.MlpArrays.lean ====
/-
  THE SQUARED-RELU MLP'S KERNELS AS WHOLE-ARRAY FUNCTIONS. The program has six kernel regions, each a grid of blocks; the
  contraction is whole at every point, so what a point writes back is its block of ONE function of the arrays the region
  reads, and the blocks tile the result. For region `K`, at any contents `V` the region is entered with:

    `ixK_w`      the block index of window `w` at point `t`, decided over the grid;
    `payK`       what the body stores, as a function of the blocks it loads;
    `flushedK`   what point `t` writes back is block `t` of the region's function;
    `coverK`     the blocks tile the result array;
    `finalK`     so the array ends holding the function.

  The functions: `upF` is max(x·w1, 0)², `mmNN` the plain product (region 1, y), `mmTN` the product of a transposed left
  operand (region 2, dw2), `dactF` the gradient before the activation dy·w2ᵀ · 2√act, `dw1F` is xᵀ·dpre stored by device,
  and `dxF` is dpre·w1ᵀ plus the scaled residual.
-/
module

public import proofs.«01_k».proof.Proof.Products
public import proofs.«01_k».proof.Proof.Blocks
public import proofs.«01_k».proof.Proof.Gen.MlpIdeal.Frame
public import Idealize.ShloMosaic.Lib.Pipeline.Value

@[expose] public section

set_option maxRecDepth 16384

noncomputable section

namespace Cert.MlpIdeal.Arrays

open Cert.MlpIdeal Cert.MlpIdeal.Gen Cert.Products Cert.Blocks
open Idealize.ShloMosaic Idealize.ShloMosaic.TcCoe Idealize.ShloMosaic.ValueIdx Idealize.SL.Sem
open Idealize.ShloMosaic.Pipeline (Dat Window)

/-- The square of the positive part, entry by entry. -/
def sqRelu {M N : ℕ} (s : Mat M N) : Mat M N := fun j => max (s j) 0 * max (s j) 0
/-- The gradient before the activation, from dy, w2 and the activation's square. -/
def dactF (dy : Mat 2048 1024) (w2 : Mat 4096 1024) (a : Mat 2048 4096) : Mat 2048 4096 :=
  fun j => mmNT dy w2 j * (Ideal.ofBits .f32 0x40000000#32 * Ideal.sqrt (a j))
/-- The gradient of the first weight, by device: its columns in eight groups of 512. -/
def dw1F (x : Mat 2048 1024) (d : Mat 2048 4096) : (⟨3, ![8, 1024, 512]⟩ : Shape).Idx → EReal :=
  fun j => mmTN x d (ix2 (j 1) ⟨(j 0 : ℕ) * 512 + (j 2 : ℕ), by
    have h0 : (j 0 : ℕ) < 8 := (j 0).isLt
    have h2 : (j 2 : ℕ) < 512 := (j 2).isLt
    omega⟩)
/-- The gradient of the input, the residual path added. -/
def dxF (d : Mat 2048 4096) (w1 : Mat 1024 4096) (r : Mat 2048 1024) : Mat 2048 1024 :=
  fun j => mmNT d w1 j + Ideal.ofBits .f32 0x3FD744FD#32 * r j

variable (V : (c : Dev nD) → (b : Ref sig .tc) → Buf (Elt Ideal) ((c : Thread nD τ).loc b)) (c : Dev nD)

/-! ## Region 0: the up product and the activation -/

theorem ix0_0 : ∀ t : Fin grid0.N, win0_0.index t 0 = 0 ∧ win0_0.index t 1 = 0 := by decide +kernel
theorem ix0_1 : ∀ t : Fin grid0.N, win0_1.index t 0 = 0 ∧ win0_1.index t 1 = t.val := by decide +kernel
theorem ix0_2 : ∀ t : Fin grid0.N, win0_2.index t 0 = 0 ∧ win0_2.index t 1 = t.val := by decide +kernel

/-- What the body stores, from the blocks it loads. -/
theorem pay0 (x : FVec Ideal S2048x1024 .bf16) (y : FVec Ideal S1024x1024 .bf16) (j : S2048x1024.Idx) :
    k0_pay1 (F := Ideal) x y j = max (mmNN x y j) 0 * max (mmNN x y j) 0 := by
  have h : matmul dot_S2048x1024_S1024x1024_S2048x1024_1_0_0_1_n_n none x y (constant S2048x1024 .f32 0x00000000#32) = mmNN x y :=
    matmul_NN _ rfl none x y
  unfold k0_pay1
  rw [h]
  show max (mmNN x y j) (Ideal.ofBits .f32 0x00000000#32) * max (mmNN x y j) (Ideal.ofBits .f32 0x00000000#32) = _
  rw [Ideal.ofBits_zero_f32]

/-- What point `t` writes back is its block of the region's function. -/
theorem flushed0 (t : Fin cfg0.N) :
    (dat0 V c).flushed 2 t = (win0_2.blk t).view.read (Elt Ideal) (sqRelu (mmNN (V c main_arg0) (V c main_arg2))) := by
  show (cfg0.win 2).cut (grid0.coords t) ((dat0 V c).after 2 t) = _
  rw [after0_2]
  unfold out0_2
  rw [View.canon_unit_zero hz, View.ld_unit_zero hz, View.ld_unit_zero hz]
  funext j
  show k0_pay1 (F := Ideal) (iblk0 V c 0 t) (iblk0 V c 1 t) j = (sqRelu (mmNN (V c main_arg0) (V c main_arg2))) ((win0_2.rect t).emb j)
  rw [pay0]
  have h0 := ix0_0 t
  have h1 := ix0_1 t
  have h2 := ix0_2 t
  have e : mmNN (iblk0 V c 0 t) (iblk0 V c 1 t) j = mmNN (V c main_arg0) (V c main_arg2) ((win0_2.rect t).emb j) := by
    refine mmNN_block _ _ _ _ j _ (fun k => congrArg (V c main_arg0) (Shape.idx_ext₂ ?_ ?_))
      (fun k => congrArg (V c main_arg2) (Shape.idx_ext₂ ?_ ?_))
    · exact (emb_val win0_0 t _ 0 _ 2048 h0.1 rfl rfl).trans (emb_val win0_2 t j 0 _ 2048 h2.1 rfl rfl).symm
    · exact (emb_val win0_0 t _ 1 _ 1024 h0.2 rfl rfl).trans (by show 0 * 1024 + k.val = k.val; omega)
    · exact (emb_val win0_1 t _ 0 _ 1024 h1.1 rfl rfl).trans (by show 0 * 1024 + k.val = k.val; omega)
    · exact (emb_val win0_1 t _ 1 _ 1024 h1.2 rfl rfl).trans (emb_val win0_2 t j 1 _ 1024 h2.2 rfl rfl).symm
  rw [e]
  rfl

/-- The blocks tile the result. -/
theorem cover0 (i : S2048x4096.Idx) :
    ∃ t : Fin cfg0.N, (cfg0.win 2).flush t = true ∧ i ∈ ((cfg0.win 2).blk t).view.set := by
  have b0 : (i 0 : ℕ) < 2048 := (i 0).isLt
  have b1 : (i 1 : ℕ) < 4096 := (i 1).isLt
  have hN : cfg0.N = 4 := N_0
  have ht : (i 1 : ℕ) / 1024 < cfg0.N := by omega
  have h := ix0_2 ⟨(i 1 : ℕ) / 1024, ht⟩
  refine ⟨⟨(i 1 : ℕ) / 1024, ht⟩, flush0_2 _, ?_⟩
  show i ∈ ((View.whole main_v0).slice (win0_2.rect ⟨(i 1 : ℕ) / 1024, ht⟩)).set
  rw [View.set_slice_whole]
  refine mem_unit2 _ _ _ i ?_ ?_
  · show win0_2.index ⟨_, ht⟩ 0 * 2048 ≤ (i 0 : ℕ) ∧ (i 0 : ℕ) < win0_2.index ⟨_, ht⟩ 0 * 2048 + 2048
    rw [h.1]; dsimp only; omega
  · show win0_2.index ⟨_, ht⟩ 1 * 1024 ≤ (i 1 : ℕ) ∧ (i 1 : ℕ) < win0_2.index ⟨_, ht⟩ 1 * 1024 + 1024
    rw [h.2]; dsimp only; omega

/-- The result array after the region. -/
theorem final0 : (dat0 V c).arrAt 2 cfg0.N = sqRelu (mmNN (V c main_arg0) (V c main_arg2)) :=
  (dat0 V c).arrAt_eq_of_cover 2 (sqRelu (mmNN (V c main_arg0) (V c main_arg2))) (fun t _ => flushed0 V c t) cover0

/-! ## Region 1: the down product -/

theorem ix1_0 : ∀ t : Fin grid1.N, win1_0.index t 0 = t.val / 2 ∧ win1_0.index t 1 = 0 := by decide +kernel
theorem ix1_1 : ∀ t : Fin grid1.N, win1_1.index t 0 = 0 ∧ win1_1.index t 1 = t.val % 2 := by decide +kernel
theorem ix1_2 : ∀ t : Fin grid1.N, win1_2.index t 0 = t.val / 2 ∧ win1_2.index t 1 = t.val % 2 := by decide +kernel

/-- What the body stores, from the blocks it loads. -/
theorem pay1 (x : FVec Ideal S1024x4096 .bf16) (y : FVec Ideal S4096x512 .bf16) (j : S1024x512.Idx) :
    k1_pay1 (F := Ideal) x y j = mmNN x y j := by
  have h : matmul dot_S1024x4096_S4096x512_S1024x512_1_0_0_1_n_n none x y (constant S1024x512 .f32 0x00000000#32) = mmNN x y :=
    matmul_NN _ rfl none x y
  unfold k1_pay1
  rw [shapeCast_self, h]

/-- What point `t` writes back is its block of the region's function. -/
theorem flushed1 (t : Fin cfg1.N) :
    (dat1 V c).flushed 2 t = (win1_2.blk t).view.read (Elt Ideal) (mmNN (V c main_v0) (V c main_arg3)) := by
  show (cfg1.win 2).cut (grid1.coords t) ((dat1 V c).after 2 t) = _
  rw [after1_2]
  unfold out1_2
  rw [View.canon_unit_zero hz, View.ld_unit_zero hz, View.ld_unit_zero hz]
  funext j
  show k1_pay1 (F := Ideal) (iblk1 V c 0 t) (iblk1 V c 1 t) j = (mmNN (V c main_v0) (V c main_arg3)) ((win1_2.rect t).emb j)
  rw [pay1]
  have h0 := ix1_0 t
  have h1 := ix1_1 t
  have h2 := ix1_2 t
  have e : mmNN (iblk1 V c 0 t) (iblk1 V c 1 t) j = mmNN (V c main_v0) (V c main_arg3) ((win1_2.rect t).emb j) := by
    refine mmNN_block _ _ _ _ j _ (fun k => congrArg (V c main_v0) (Shape.idx_ext₂ ?_ ?_))
      (fun k => congrArg (V c main_arg3) (Shape.idx_ext₂ ?_ ?_))
    · exact (emb_val win1_0 t _ 0 _ 1024 h0.1 rfl rfl).trans (emb_val win1_2 t j 0 _ 1024 h2.1 rfl rfl).symm
    · exact (emb_val win1_0 t _ 1 _ 4096 h0.2 rfl rfl).trans (by show 0 * 4096 + k.val = k.val; omega)
    · exact (emb_val win1_1 t _ 0 _ 4096 h1.1 rfl rfl).trans (by show 0 * 4096 + k.val = k.val; omega)
    · exact (emb_val win1_1 t _ 1 _ 512 h1.2 rfl rfl).trans (emb_val win1_2 t j 1 _ 512 h2.2 rfl rfl).symm
  rw [e]

/-- The blocks tile the result. -/
theorem cover1 (i : S2048x1024.Idx) :
    ∃ t : Fin cfg1.N, (cfg1.win 2).flush t = true ∧ i ∈ ((cfg1.win 2).blk t).view.set := by
  have b0 : (i 0 : ℕ) < 2048 := (i 0).isLt
  have b1 : (i 1 : ℕ) < 1024 := (i 1).isLt
  have hN : cfg1.N = 4 := N_1
  have ht : (i 0 : ℕ) / 1024 * 2 + (i 1 : ℕ) / 512 < cfg1.N := by omega
  have h := ix1_2 ⟨(i 0 : ℕ) / 1024 * 2 + (i 1 : ℕ) / 512, ht⟩
  refine ⟨⟨(i 0 : ℕ) / 1024 * 2 + (i 1 : ℕ) / 512, ht⟩, flush1_2 _, ?_⟩
  show i ∈ ((View.whole main_v1).slice (win1_2.rect ⟨(i 0 : ℕ) / 1024 * 2 + (i 1 : ℕ) / 512, ht⟩)).set
  rw [View.set_slice_whole]
  refine mem_unit2 _ _ _ i ?_ ?_
  · show win1_2.index ⟨_, ht⟩ 0 * 1024 ≤ (i 0 : ℕ) ∧ (i 0 : ℕ) < win1_2.index ⟨_, ht⟩ 0 * 1024 + 1024
    rw [h.1]; dsimp only; omega
  · show win1_2.index ⟨_, ht⟩ 1 * 512 ≤ (i 1 : ℕ) ∧ (i 1 : ℕ) < win1_2.index ⟨_, ht⟩ 1 * 512 + 512
    rw [h.2]; dsimp only; omega

/-- The result array after the region. -/
theorem final1 : (dat1 V c).arrAt 2 cfg1.N = mmNN (V c main_v0) (V c main_arg3) :=
  (dat1 V c).arrAt_eq_of_cover 2 (mmNN (V c main_v0) (V c main_arg3)) (fun t _ => flushed1 V c t) cover1

/-! ## Region 2: the gradient of the second weight -/

theorem ix2_0 : ∀ t : Fin grid2.N, win2_0.index t 0 = 0 ∧ win2_0.index t 1 = t.val := by decide +kernel
theorem ix2_1 : ∀ t : Fin grid2.N, win2_1.index t 0 = 0 ∧ win2_1.index t 1 = 0 := by decide +kernel
theorem ix2_2 : ∀ t : Fin grid2.N, win2_2.index t 0 = t.val ∧ win2_2.index t 1 = 0 := by decide +kernel

/-- What the body stores, from the blocks it loads. -/
theorem pay2 (x : FVec Ideal S2048x1024 .bf16) (y : FVec Ideal S2048x1024 .bf16) (j : S1024x1024.Idx) :
    k2_pay1 (F := Ideal) x y j = mmTN x y j := by
  have h : matmul dot_S2048x1024_S2048x1024_S1024x1024_0_0_1_1_n_n none x y (constant S1024x1024 .f32 0x00000000#32) = mmTN x y :=
    matmul_TN _ rfl none x y
  unfold k2_pay1
  rw [shapeCast_self, h]
  rfl

/-- What point `t` writes back is its block of the region's function. -/
theorem flushed2 (t : Fin cfg2.N) :
    (dat2 V c).flushed 2 t = (win2_2.blk t).view.read (Elt Ideal) (mmTN (V c main_v0) (V c main_arg1)) := by
  show (cfg2.win 2).cut (grid2.coords t) ((dat2 V c).after 2 t) = _
  rw [after2_2]
  unfold out2_2
  rw [View.canon_unit_zero hz, View.ld_unit_zero hz, View.ld_unit_zero hz]
  funext j
  show k2_pay1 (F := Ideal) (iblk2 V c 0 t) (iblk2 V c 1 t) j = (mmTN (V c main_v0) (V c main_arg1)) ((win2_2.rect t).emb j)
  rw [pay2]
  have h0 := ix2_0 t
  have h1 := ix2_1 t
  have h2 := ix2_2 t
  have e : mmTN (iblk2 V c 0 t) (iblk2 V c 1 t) j = mmTN (V c main_v0) (V c main_arg1) ((win2_2.rect t).emb j) := by
    refine mmTN_block _ _ _ _ j _ (fun k => congrArg (V c main_v0) (Shape.idx_ext₂ ?_ ?_))
      (fun k => congrArg (V c main_arg1) (Shape.idx_ext₂ ?_ ?_))
    · exact (emb_val win2_0 t _ 0 _ 2048 h0.1 rfl rfl).trans (by show 0 * 2048 + k.val = k.val; omega)
    · exact (emb_val win2_0 t _ 1 _ 1024 h0.2 rfl rfl).trans (emb_val win2_2 t j 0 _ 1024 h2.1 rfl rfl).symm
    · exact (emb_val win2_1 t _ 0 _ 2048 h1.1 rfl rfl).trans (by show 0 * 2048 + k.val = k.val; omega)
    · exact (emb_val win2_1 t _ 1 _ 1024 h1.2 rfl rfl).trans (emb_val win2_2 t j 1 _ 1024 h2.2 rfl rfl).symm
  rw [e]

/-- The blocks tile the result. -/
theorem cover2 (i : S4096x1024.Idx) :
    ∃ t : Fin cfg2.N, (cfg2.win 2).flush t = true ∧ i ∈ ((cfg2.win 2).blk t).view.set := by
  have b0 : (i 0 : ℕ) < 4096 := (i 0).isLt
  have b1 : (i 1 : ℕ) < 1024 := (i 1).isLt
  have hN : cfg2.N = 4 := N_2
  have ht : (i 0 : ℕ) / 1024 < cfg2.N := by omega
  have h := ix2_2 ⟨(i 0 : ℕ) / 1024, ht⟩
  refine ⟨⟨(i 0 : ℕ) / 1024, ht⟩, flush2_2 _, ?_⟩
  show i ∈ ((View.whole main_v2).slice (win2_2.rect ⟨(i 0 : ℕ) / 1024, ht⟩)).set
  rw [View.set_slice_whole]
  refine mem_unit2 _ _ _ i ?_ ?_
  · show win2_2.index ⟨_, ht⟩ 0 * 1024 ≤ (i 0 : ℕ) ∧ (i 0 : ℕ) < win2_2.index ⟨_, ht⟩ 0 * 1024 + 1024
    rw [h.1]; dsimp only; omega
  · show win2_2.index ⟨_, ht⟩ 1 * 1024 ≤ (i 1 : ℕ) ∧ (i 1 : ℕ) < win2_2.index ⟨_, ht⟩ 1 * 1024 + 1024
    rw [h.2]; dsimp only; omega

/-- The result array after the region. -/
theorem final2 : (dat2 V c).arrAt 2 cfg2.N = mmTN (V c main_v0) (V c main_arg1) :=
  (dat2 V c).arrAt_eq_of_cover 2 (mmTN (V c main_v0) (V c main_arg1)) (fun t _ => flushed2 V c t) cover2

/-! ## Region 3: the gradient before the activation -/

theorem ix3_0 : ∀ t : Fin grid3.N, win3_0.index t 0 = t.val / 4 ∧ win3_0.index t 1 = 0 := by decide +kernel
theorem ix3_1 : ∀ t : Fin grid3.N, win3_1.index t 0 = t.val % 4 ∧ win3_1.index t 1 = 0 := by decide +kernel
theorem ix3_2 : ∀ t : Fin grid3.N, win3_2.index t 0 = t.val / 4 ∧ win3_2.index t 1 = t.val % 4 := by decide +kernel
theorem ix3_3 : ∀ t : Fin grid3.N, win3_3.index t 0 = t.val / 4 ∧ win3_3.index t 1 = t.val % 4 := by decide +kernel

/-- What the body stores, from the blocks it loads. -/
theorem pay3 (x : FVec Ideal S1024x1024 .bf16) (y : FVec Ideal S1024x1024 .bf16) (a : FVec Ideal S1024x1024 .bf16) (j : S1024x1024.Idx) :
    k3_pay1 (F := Ideal) x y a j = mmNT x y j * (Ideal.ofBits .f32 0x40000000#32 * Ideal.sqrt (a j)) := by
  have h : matmul dot_S1024x1024_S1024x1024_S1024x1024_1_1_0_0_n_n none x y (constant S1024x1024 .f32 0x00000000#32) = mmNT x y :=
    matmul_NT _ rfl none x y
  unfold k3_pay1
  rw [shapeCast_self, h]
  rfl

/-- What point `t` writes back is its block of the region's function. -/
theorem flushed3 (t : Fin cfg3.N) :
    (dat3 V c).flushed 3 t = (win3_3.blk t).view.read (Elt Ideal) (dactF (V c main_arg1) (V c main_arg3) (V c main_v0)) := by
  show (cfg3.win 3).cut (grid3.coords t) ((dat3 V c).after 3 t) = _
  rw [after3_3]
  unfold out3_3
  rw [View.canon_unit_zero hz, View.ld_unit_zero hz, View.ld_unit_zero hz, View.ld_unit_zero hz]
  funext j
  show k3_pay1 (F := Ideal) (iblk3 V c 0 t) (iblk3 V c 1 t) (iblk3 V c 2 t) j = (dactF (V c main_arg1) (V c main_arg3) (V c main_v0)) ((win3_3.rect t).emb j)
  rw [pay3]
  have h0 := ix3_0 t
  have h1 := ix3_1 t
  have h2 := ix3_2 t
  have h3 := ix3_3 t
  have e : mmNT (iblk3 V c 0 t) (iblk3 V c 1 t) j = mmNT (V c main_arg1) (V c main_arg3) ((win3_3.rect t).emb j) := by
    refine mmNT_block _ _ _ _ j _ (fun k => congrArg (V c main_arg1) (Shape.idx_ext₂ ?_ ?_))
      (fun k => congrArg (V c main_arg3) (Shape.idx_ext₂ ?_ ?_))
    · exact (emb_val win3_0 t _ 0 _ 1024 h0.1 rfl rfl).trans (emb_val win3_3 t j 0 _ 1024 h3.1 rfl rfl).symm
    · exact (emb_val win3_0 t _ 1 _ 1024 h0.2 rfl rfl).trans (by show 0 * 1024 + k.val = k.val; omega)
    · exact (emb_val win3_1 t _ 0 _ 1024 h1.1 rfl rfl).trans (emb_val win3_3 t j 1 _ 1024 h3.2 rfl rfl).symm
    · exact (emb_val win3_1 t _ 1 _ 1024 h1.2 rfl rfl).trans (by show 0 * 1024 + k.val = k.val; omega)
  have e2 : iblk3 V c 2 t j = V c main_v0 ((win3_3.rect t).emb j) :=
    congrArg (V c main_v0) (Shape.idx_ext₂
      ((emb_val win3_2 t j 0 _ 1024 h2.1 rfl rfl).trans (emb_val win3_3 t j 0 _ 1024 h3.1 rfl rfl).symm)
      ((emb_val win3_2 t j 1 _ 1024 h2.2 rfl rfl).trans (emb_val win3_3 t j 1 _ 1024 h3.2 rfl rfl).symm))
  rw [e, e2]
  rfl

/-- The blocks tile the result. -/
theorem cover3 (i : S2048x4096.Idx) :
    ∃ t : Fin cfg3.N, (cfg3.win 3).flush t = true ∧ i ∈ ((cfg3.win 3).blk t).view.set := by
  have b0 : (i 0 : ℕ) < 2048 := (i 0).isLt
  have b1 : (i 1 : ℕ) < 4096 := (i 1).isLt
  have hN : cfg3.N = 8 := N_3
  have ht : (i 0 : ℕ) / 1024 * 4 + (i 1 : ℕ) / 1024 < cfg3.N := by omega
  have h := ix3_3 ⟨(i 0 : ℕ) / 1024 * 4 + (i 1 : ℕ) / 1024, ht⟩
  refine ⟨⟨(i 0 : ℕ) / 1024 * 4 + (i 1 : ℕ) / 1024, ht⟩, flush3_3 _, ?_⟩
  show i ∈ ((View.whole main_v3).slice (win3_3.rect ⟨(i 0 : ℕ) / 1024 * 4 + (i 1 : ℕ) / 1024, ht⟩)).set
  rw [View.set_slice_whole]
  refine mem_unit2 _ _ _ i ?_ ?_
  · show win3_3.index ⟨_, ht⟩ 0 * 1024 ≤ (i 0 : ℕ) ∧ (i 0 : ℕ) < win3_3.index ⟨_, ht⟩ 0 * 1024 + 1024
    rw [h.1]; dsimp only; omega
  · show win3_3.index ⟨_, ht⟩ 1 * 1024 ≤ (i 1 : ℕ) ∧ (i 1 : ℕ) < win3_3.index ⟨_, ht⟩ 1 * 1024 + 1024
    rw [h.2]; dsimp only; omega

/-- The result array after the region. -/
theorem final3 : (dat3 V c).arrAt 3 cfg3.N = dactF (V c main_arg1) (V c main_arg3) (V c main_v0) :=
  (dat3 V c).arrAt_eq_of_cover 3 (dactF (V c main_arg1) (V c main_arg3) (V c main_v0)) (fun t _ => flushed3 V c t) cover3

/-! ## Region 4: the gradient of the first weight, stored by device -/

theorem ix4_0 : ∀ t : Fin grid4.N, win4_0.index t 0 = 0 ∧ win4_0.index t 1 = 0 := by decide +kernel
theorem ix4_1 : ∀ t : Fin grid4.N, win4_1.index t 0 = 0 ∧ win4_1.index t 1 = t.val := by decide +kernel
theorem ix4_2 : ∀ t : Fin grid4.N, win4_2.index t 0 = t.val ∧ win4_2.index t 1 = 0 ∧ win4_2.index t 2 = 0 := by
  decide +kernel

/-- What the body stores, from the blocks it loads. -/
theorem pay4 (x : FVec Ideal S2048x1024 .bf16) (y : FVec Ideal S2048x512 .bf16) (a : Fin 1) (r : Fin 1024) (q : Fin 512) :
    k4_pay1 (F := Ideal) x y (ix3 a r q) = mmTN x y (ix2 r q) := by
  have h : matmul dot_S2048x1024_S2048x512_S1024x512_0_0_1_1_n_n none x y (constant S1024x512 .f32 0x00000000#32) = mmTN x y :=
    matmul_TN _ rfl none x y
  unfold k4_pay1
  rw [shapeCast_self, h]
  exact (shapeCast_addUnit_apply ![1024, 512] _ _ (ix3 a r q)).trans rfl

/-- What point `t` writes back is its block of the region's function. -/
theorem flushed4 (t : Fin cfg4.N) :
    (dat4 V c).flushed 2 t = (win4_2.blk t).view.read (Elt Ideal) (dw1F (V c main_arg0) (V c main_v3)) := by
  show (cfg4.win 2).cut (grid4.coords t) ((dat4 V c).after 2 t) = _
  rw [after4_2]
  unfold out4_2
  rw [View.canon_unit_zero hz3, View.ld_unit_zero hz, View.ld_unit_zero hz]
  funext j
  obtain ⟨a, r, q, rfl⟩ : ∃ (a : Fin 1) (r : Fin 1024) (q : Fin 512), j = ix3 a r q := ⟨_, _, _, eq_ix3 j⟩
  show k4_pay1 (F := Ideal) (iblk4 V c 0 t) (iblk4 V c 1 t) (ix3 a r q)
    = dw1F (V c main_arg0) (V c main_v3) ((win4_2.rect t).emb (ix3 a r q))
  rw [pay4]
  have h0 := ix4_0 t
  have h1 := ix4_1 t
  have h2 := ix4_2 t
  have ha : a.val = 0 := by omega
  have o0 := emb_val win4_2 t (ix3 a r q) 0 _ 1 h2.1 rfl rfl
  have o1 := emb_val win4_2 t (ix3 a r q) 1 _ 1024 h2.2.1 rfl rfl
  have o2 := emb_val win4_2 t (ix3 a r q) 2 _ 512 h2.2.2 rfl rfl
  refine mmTN_block _ _ _ _ (ix2 r q) _ (fun k => congrArg (V c main_arg0) (Shape.idx_ext₂ ?_ ?_))
    (fun k => congrArg (V c main_v3) (Shape.idx_ext₂ ?_ ?_))
  · exact (emb_val win4_0 t _ 0 _ 2048 h0.1 rfl rfl).trans (by show 0 * 2048 + k.val = k.val; omega)
  · exact (emb_val win4_0 t _ 1 _ 1024 h0.2 rfl rfl).trans o1.symm
  · exact (emb_val win4_1 t _ 0 _ 2048 h1.1 rfl rfl).trans (by show 0 * 2048 + k.val = k.val; omega)
  · refine (emb_val win4_1 t _ 1 _ 512 h1.2 rfl rfl).trans ?_
    show t.val * 512 + q.val = ((win4_2.rect t).emb (ix3 a r q) 0 : ℕ) * 512 + ((win4_2.rect t).emb (ix3 a r q) 2 : ℕ)
    rw [o0, o2]
    show t.val * 512 + q.val = (t.val * 1 + a.val) * 512 + (0 * 512 + q.val)
    omega

/-- The blocks tile the result. -/
theorem cover4 (i : S8x1024x512.Idx) :
    ∃ t : Fin cfg4.N, (cfg4.win 2).flush t = true ∧ i ∈ ((cfg4.win 2).blk t).view.set := by
  have b0 : (i 0 : ℕ) < 8 := (i 0).isLt
  have b1 : (i 1 : ℕ) < 1024 := (i 1).isLt
  have b2 : (i 2 : ℕ) < 512 := (i 2).isLt
  have hN : cfg4.N = 8 := N_4
  have ht : (i 0 : ℕ) < cfg4.N := by omega
  have h := ix4_2 ⟨(i 0 : ℕ), ht⟩
  refine ⟨⟨(i 0 : ℕ), ht⟩, flush4_2 _, ?_⟩
  show i ∈ ((View.whole main_v4).slice (win4_2.rect ⟨(i 0 : ℕ), ht⟩)).set
  rw [View.set_slice_whole, Rect.mem_set_unit]
  intro a
  match a with
  | ⟨0, _⟩ =>
    show win4_2.index ⟨_, ht⟩ 0 * 1 ≤ (i 0 : ℕ) ∧ (i 0 : ℕ) < win4_2.index ⟨_, ht⟩ 0 * 1 + 1
    rw [h.1]; dsimp only; omega
  | ⟨1, _⟩ =>
    show win4_2.index ⟨_, ht⟩ 1 * 1024 ≤ (i 1 : ℕ) ∧ (i 1 : ℕ) < win4_2.index ⟨_, ht⟩ 1 * 1024 + 1024
    rw [h.2.1]; omega
  | ⟨2, _⟩ =>
    show win4_2.index ⟨_, ht⟩ 2 * 512 ≤ (i 2 : ℕ) ∧ (i 2 : ℕ) < win4_2.index ⟨_, ht⟩ 2 * 512 + 512
    rw [h.2.2]; omega

/-- The result array after the region. -/
theorem final4 : (dat4 V c).arrAt 2 cfg4.N = dw1F (V c main_arg0) (V c main_v3) :=
  (dat4 V c).arrAt_eq_of_cover 2 (dw1F (V c main_arg0) (V c main_v3)) (fun t _ => flushed4 V c t) cover4

/-! ## Region 5: the gradient of the input -/

theorem ix5_0 : ∀ t : Fin grid5.N, win5_0.index t 0 = t.val / 2 ∧ win5_0.index t 1 = 0 := by decide +kernel
theorem ix5_1 : ∀ t : Fin grid5.N, win5_1.index t 0 = t.val % 2 ∧ win5_1.index t 1 = 0 := by decide +kernel
theorem ix5_2 : ∀ t : Fin grid5.N, win5_2.index t 0 = t.val / 2 ∧ win5_2.index t 1 = t.val % 2 := by decide +kernel
theorem ix5_3 : ∀ t : Fin grid5.N, win5_3.index t 0 = t.val / 2 ∧ win5_3.index t 1 = t.val % 2 := by decide +kernel

/-- What the body stores, from the blocks it loads. -/
theorem pay5 (x : FVec Ideal S1024x4096 .bf16) (y : FVec Ideal S512x4096 .bf16) (r : FVec Ideal S1024x512 .f32) (j : S1024x512.Idx) :
    k5_pay1 (F := Ideal) x y r j = mmNT x y j + Ideal.ofBits .f32 0x3FD744FD#32 * r j := by
  have h : matmul dot_S1024x4096_S512x4096_S1024x512_1_1_0_0_n_n none x y (constant S1024x512 .f32 0x00000000#32) = mmNT x y :=
    matmul_NT _ rfl none x y
  unfold k5_pay1
  rw [shapeCast_self, h]
  rfl

/-- What point `t` writes back is its block of the region's function. -/
theorem flushed5 (t : Fin cfg5.N) :
    (dat5 V c).flushed 3 t = (win5_3.blk t).view.read (Elt Ideal) (dxF (V c main_v3) (V c main_arg2) (V c main_arg4)) := by
  show (cfg5.win 3).cut (grid5.coords t) ((dat5 V c).after 3 t) = _
  rw [after5_3]
  unfold out5_3
  rw [View.canon_unit_zero hz, View.ld_unit_zero hz, View.ld_unit_zero hz, View.ld_unit_zero hz]
  funext j
  show k5_pay1 (F := Ideal) (iblk5 V c 0 t) (iblk5 V c 1 t) (iblk5 V c 2 t) j = (dxF (V c main_v3) (V c main_arg2) (V c main_arg4)) ((win5_3.rect t).emb j)
  rw [pay5]
  have h0 := ix5_0 t
  have h1 := ix5_1 t
  have h2 := ix5_2 t
  have h3 := ix5_3 t
  have e : mmNT (iblk5 V c 0 t) (iblk5 V c 1 t) j = mmNT (V c main_v3) (V c main_arg2) ((win5_3.rect t).emb j) := by
    refine mmNT_block _ _ _ _ j _ (fun k => congrArg (V c main_v3) (Shape.idx_ext₂ ?_ ?_))
      (fun k => congrArg (V c main_arg2) (Shape.idx_ext₂ ?_ ?_))
    · exact (emb_val win5_0 t _ 0 _ 1024 h0.1 rfl rfl).trans (emb_val win5_3 t j 0 _ 1024 h3.1 rfl rfl).symm
    · exact (emb_val win5_0 t _ 1 _ 4096 h0.2 rfl rfl).trans (by show 0 * 4096 + k.val = k.val; omega)
    · exact (emb_val win5_1 t _ 0 _ 512 h1.1 rfl rfl).trans (emb_val win5_3 t j 1 _ 512 h3.2 rfl rfl).symm
    · exact (emb_val win5_1 t _ 1 _ 4096 h1.2 rfl rfl).trans (by show 0 * 4096 + k.val = k.val; omega)
  have e2 : iblk5 V c 2 t j = V c main_arg4 ((win5_3.rect t).emb j) :=
    congrArg (V c main_arg4) (Shape.idx_ext₂
      ((emb_val win5_2 t j 0 _ 1024 h2.1 rfl rfl).trans (emb_val win5_3 t j 0 _ 1024 h3.1 rfl rfl).symm)
      ((emb_val win5_2 t j 1 _ 512 h2.2 rfl rfl).trans (emb_val win5_3 t j 1 _ 512 h3.2 rfl rfl).symm))
  rw [e, e2]
  rfl

/-- The blocks tile the result. -/
theorem cover5 (i : S2048x1024.Idx) :
    ∃ t : Fin cfg5.N, (cfg5.win 3).flush t = true ∧ i ∈ ((cfg5.win 3).blk t).view.set := by
  have b0 : (i 0 : ℕ) < 2048 := (i 0).isLt
  have b1 : (i 1 : ℕ) < 1024 := (i 1).isLt
  have hN : cfg5.N = 4 := N_5
  have ht : (i 0 : ℕ) / 1024 * 2 + (i 1 : ℕ) / 512 < cfg5.N := by omega
  have h := ix5_3 ⟨(i 0 : ℕ) / 1024 * 2 + (i 1 : ℕ) / 512, ht⟩
  refine ⟨⟨(i 0 : ℕ) / 1024 * 2 + (i 1 : ℕ) / 512, ht⟩, flush5_3 _, ?_⟩
  show i ∈ ((View.whole main_v5).slice (win5_3.rect ⟨(i 0 : ℕ) / 1024 * 2 + (i 1 : ℕ) / 512, ht⟩)).set
  rw [View.set_slice_whole]
  refine mem_unit2 _ _ _ i ?_ ?_
  · show win5_3.index ⟨_, ht⟩ 0 * 1024 ≤ (i 0 : ℕ) ∧ (i 0 : ℕ) < win5_3.index ⟨_, ht⟩ 0 * 1024 + 1024
    rw [h.1]; dsimp only; omega
  · show win5_3.index ⟨_, ht⟩ 1 * 512 ≤ (i 1 : ℕ) ∧ (i 1 : ℕ) < win5_3.index ⟨_, ht⟩ 1 * 512 + 512
    rw [h.2]; dsimp only; omega

/-- The result array after the region. -/
theorem final5 : (dat5 V c).arrAt 3 cfg5.N = dxF (V c main_v3) (V c main_arg2) (V c main_arg4) :=
  (dat5 V c).arrAt_eq_of_cover 3 (dxF (V c main_v3) (V c main_arg2) (V c main_arg4)) (fun t _ => flushed5 V c t) cover5

end Cert.MlpIdeal.Arrays

end
-- ==== Proof.MlpRun.lean ====
/-
  THE MLP PROGRAM'S RUN: the six regions in order, every array at its contents after the last; then the four results read
  back through the regions to functions of the launch arguments (`v1_6`, `v5_6`, `v4_6`, `v2_6`; the name is the array and the
  boundary), and `run`, what the value claim takes from the kernel's side.
-/
module

public import proofs.«01_k».proof.Proof.Gen.MlpIdeal.Frame
public import proofs.«01_k».proof.Proof.MlpArrays

@[expose] public section

set_option maxRecDepth 16384

noncomputable section

namespace Cert.MlpIdeal.Run

open Cert.MlpIdeal Cert.MlpIdeal.Gen Cert.MlpIdeal.Arrays Cert.Products
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with every array at its contents after the last segment. -/
theorem ends_at : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c => h c)

/-! ## The boundaries at the extended reals, from the launch memory -/

section Chain

variable (m : (ℓ : Loc nD τ sig) → Buf (Elt Ideal) ℓ) (ρ : Dev nD → PrngReg) (c : Dev nD)

/-- The five arguments, as matrices: x, dy, w1, w2 and the residual gradient. -/
abbrev x0 : Mat 2048 1024 := m ((c.tc : Thread nD τ).loc main_arg0)
abbrev dy0 : Mat 2048 1024 := m ((c.tc : Thread nD τ).loc main_arg1)
abbrev w10 : Mat 1024 4096 := m ((c.tc : Thread nD τ).loc main_arg2)
abbrev w20 : Mat 4096 1024 := m ((c.tc : Thread nD τ).loc main_arg3)
abbrev res0 : Mat 2048 1024 := m ((c.tc : Thread nD τ).loc main_arg4)
/-- The activation max(x·w1, 0)² and the gradient before it, from the arguments. -/
abbrev act0 : Mat 2048 4096 := sqRelu (mmNN (x0 m c) (w10 m c))
abbrev dact0 : Mat 2048 4096 := dactF (dy0 m c) (w20 m c) (act0 m c)

theorem v0_1 : V1 m ρ c main_v0 = act0 m c := (W1_arr m ρ c 2).trans (final0 (V0 m ρ) c)
theorem v0_2 : V2 m ρ c main_v0 = act0 m c := (W2_of m ρ c main_v0 (by decide)).trans (v0_1 m ρ c)
theorem v0_3 : V3 m ρ c main_v0 = act0 m c := (W3_of m ρ c main_v0 (by decide)).trans (v0_2 m ρ c)

theorem v1_2 : V2 m ρ c main_v1 = mmNN (act0 m c) (w20 m c) := by
  refine ((W2_arr m ρ c 2).trans (final1 (V1 m ρ) c)).trans ?_
  rw [v0_1 m ρ c, show V1 m ρ c main_arg3 = w20 m c from W1_args m ρ c main_arg3 (by decide)]
theorem v2_3 : V3 m ρ c main_v2 = mmTN (act0 m c) (dy0 m c) := by
  refine ((W3_arr m ρ c 2).trans (final2 (V2 m ρ) c)).trans ?_
  rw [v0_2 m ρ c, show V2 m ρ c main_arg1 = dy0 m c from W2_args m ρ c main_arg1 (by decide)]
theorem v3_4 : V4 m ρ c main_v3 = dact0 m c := by
  refine ((W4_arr m ρ c 3).trans (final3 (V3 m ρ) c)).trans ?_
  rw [v0_3 m ρ c, show V3 m ρ c main_arg1 = dy0 m c from W3_args m ρ c main_arg1 (by decide),
    show V3 m ρ c main_arg3 = w20 m c from W3_args m ρ c main_arg3 (by decide)]
theorem v3_5 : V5 m ρ c main_v3 = dact0 m c := (W5_of m ρ c main_v3 (by decide)).trans (v3_4 m ρ c)
theorem v4_5 : V5 m ρ c main_v4 = dw1F (x0 m c) (dact0 m c) := by
  refine ((W5_arr m ρ c 2).trans (final4 (V4 m ρ) c)).trans ?_
  rw [v3_4 m ρ c, show V4 m ρ c main_arg0 = x0 m c from W4_args m ρ c main_arg0 (by decide)]
theorem v5_6 : V6 m ρ c main_v5 = dxF (dact0 m c) (w10 m c) (res0 m c) := by
  refine ((W6_arr m ρ c 3).trans (final5 (V5 m ρ) c)).trans ?_
  rw [v3_5 m ρ c, show V5 m ρ c main_arg2 = w10 m c from W5_args m ρ c main_arg2 (by decide),
    show V5 m ρ c main_arg4 = res0 m c from W5_args m ρ c main_arg4 (by decide)]

theorem v1_6 : V6 m ρ c main_v1 = mmNN (act0 m c) (w20 m c) :=
  (W6_of m ρ c main_v1 (by decide)).trans <| (W5_of m ρ c main_v1 (by decide)).trans <|
    (W4_of m ρ c main_v1 (by decide)).trans <| (W3_of m ρ c main_v1 (by decide)).trans (v1_2 m ρ c)
theorem v2_6 : V6 m ρ c main_v2 = mmTN (act0 m c) (dy0 m c) :=
  (W6_of m ρ c main_v2 (by decide)).trans <| (W5_of m ρ c main_v2 (by decide)).trans <|
    (W4_of m ρ c main_v2 (by decide)).trans (v2_3 m ρ c)
theorem v4_6 : V6 m ρ c main_v4 = dw1F (x0 m c) (dact0 m c) :=
  (W6_of m ρ c main_v4 (by decide)).trans (v4_5 m ρ c)

/-- The kernel's run at the extended reals: the four results as functions of the arguments, the arguments unchanged. -/
theorem run : θ_run defs (onTc (τ := τ) (main (F := Ideal))) ⟨m, fun _ => 0, ρ⟩ (fun r => ∀ c : Dev nD,
      r.2.mem ((c.tc : Thread nD τ).loc main_v1) = mmNN (act0 m c) (w20 m c)
      ∧ r.2.mem ((c.tc : Thread nD τ).loc main_v5) = dxF (dact0 m c) (w10 m c) (res0 m c)
      ∧ r.2.mem ((c.tc : Thread nD τ).loc main_v4) = dw1F (x0 m c) (dact0 m c)
      ∧ r.2.mem ((c.tc : Thread nD τ).loc main_v2) = mmTN (act0 m c) (dy0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v1 (by decide))).trans (v1_6 m ρ c),
     (h c _ (mem_uc main_v5 (by decide))).trans (v5_6 m ρ c),
     (h c _ (mem_uc main_v4 (by decide))).trans (v4_6 m ρ c),
     (h c _ (mem_uc main_v2 (by decide))).trans (v2_6 m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩) (ends_at m ρ)

end Chain

end Cert.MlpIdeal.Run

end
-- ==== Proof.MlpEq.lean ====
/-
  THE MLP'S EQUATION: jax's own gradient of max(x·w1, 0)²·w2 against the kernel's functions (MlpArrays.lean). Three facts
  carry it. The kernel recovers the positive part as the square root of the saved square (`sqrt_sq_relu`: true at every
  extended real). Where jax selects zero off the positive side, the kernel multiplies by the positive part, which is zero
  there, and zero times anything is zero (`select_relu`). And jax contracts dw1 and dw2 the other way round and transposes,
  which is `mmTN_swap`. No entry need be finite.
-/
module

public import proofs.«01_k».proof.Proof.MlpArrays
public import proofs.«01_k».proof.Proof.Gen.MlpRefIdeal.Run
public import Idealize.ShloMosaic.Lib.IdealHost
public import Idealize.ShloMosaic.Lib.Pipeline.Value

@[expose] public section

set_option maxRecDepth 16384

noncomputable section

namespace Cert.MlpEq

open Cert.Products Cert.MlpIdeal.Arrays Cert.MlpRefIdeal
open Idealize.ShloMosaic Idealize.ShloMosaic.ValueIdx

/-- The square root of the square of a number that is not negative. -/
theorem sqrt_sq {r : EReal} (h : 0 ≤ r) : Ideal.sqrt (r * r) = r := by
  induction r with
  | bot => exact absurd h (by simp)
  | top => simp
  | coe r =>
    have hr : 0 ≤ r := EReal.coe_nonneg.1 h
    rw [← EReal.coe_mul, Ideal.sqrt_coe, if_neg (not_lt.2 (mul_nonneg hr hr)), Real.sqrt_mul_self hr]

/-- The positive part is the square root of its square. -/
theorem sqrt_sq_relu (s : EReal) : Ideal.sqrt (max s 0 * max s 0) = max s 0 := sqrt_sq (le_max_right _ _)

/-- jax's gradient of the activation at one element: selected to zero off the positive side, against the kernel's product
    with the recovered positive part. -/
theorem select_relu (s g two : EReal) :
    (if 0 < s then g * (two * max s 0) else 0) = g * (two * Ideal.sqrt (max s 0 * max s 0)) := by
  rw [sqrt_sq_relu]
  split
  · rfl
  · next h => rw [max_eq_right (not_lt.1 h), mul_zero, mul_zero]

variable (x dy : FVec Ideal S2048x1024 .f32) (w1 : FVec Ideal S1024x4096 .f32) (w2 : FVec Ideal S4096x1024 .f32)
  (r : FVec Ideal S2048x1024 .f32)

/-- jax's positive part of the up product. -/
abbrev refRelu : FVec Ideal S2048x4096 .f32 :=
  maximumf (φ := .f32) (Host.dotGeneral (φ₁ := .f32) (φ₂ := .f32) dot_S2048x1024_S1024x4096_S2048x4096_1_0_0_1_n_n none x w1)
    (broadcastInDim S2048x4096 ![] Gen.facts.bcast_S_S2048x4096 (constant S_ .f32 0x00000000#32))

theorem refRelu_eq : refRelu x w1 = fun j => max (mmNN x w1 j) 0 := by
  unfold refRelu
  rw [dot_NN dot_S2048x1024_S1024x4096_S2048x4096_1_0_0_1_n_n rfl none x w1]
  funext j
  show max (mmNN x w1 j) (broadcastInDim S2048x4096 ![] _ (constant (F := Ideal) S_ .f32 0x00000000#32) j) = _
  rw [broadcastInDim_scalar_apply]
  show max (mmNN x w1 j) (Ideal.ofBits .f32 0x00000000#32) = _
  rw [Ideal.ofBits_zero_f32]

/-- jax's gradient before the activation. -/
abbrev refDs : FVec Ideal S2048x4096 .f32 :=
  select (cmpf (φ := .f32) .ogt (Host.dotGeneral (φ₁ := .f32) (φ₂ := .f32) dot_S2048x1024_S1024x4096_S2048x4096_1_0_0_1_n_n none x w1)
      (broadcastInDim S2048x4096 ![] Gen.facts.bcast_S_S2048x4096 (constant S_ .f32 0x00000000#32)))
    (mulf (Host.dotGeneral (φ₁ := .f32) (φ₂ := .f32) dot_S2048x1024_S4096x1024_S2048x4096_1_1_0_0_n_n none dy w2)
      (mulf (broadcastInDim S2048x4096 ![] Gen.facts.bcast_S_S2048x4096 (constant S_ .f32 0x40000000#32)) (refRelu x w1)))
    (broadcastInDim S2048x4096 ![] Gen.facts.bcast_S_S2048x4096 (constant S_ .f32 0x00000000#32))

theorem refDs_eq : refDs x dy w1 w2 = dactF dy w2 (sqRelu (mmNN x w1)) := by
  unfold refDs
  rw [refRelu_eq, dot_NN dot_S2048x1024_S1024x4096_S2048x4096_1_0_0_1_n_n rfl none x w1,
    dot_NT dot_S2048x1024_S4096x1024_S2048x4096_1_1_0_0_n_n rfl none dy w2]
  funext j
  show (if Ideal.cmp .ogt (mmNN x w1 j) (broadcastInDim S2048x4096 ![] _ (constant (F := Ideal) S_ .f32 0x00000000#32) j) = 1#1
      then mmNT dy w2 j * (broadcastInDim S2048x4096 ![] _ (constant (F := Ideal) S_ .f32 0x40000000#32) j * max (mmNN x w1 j) 0)
      else broadcastInDim S2048x4096 ![] _ (constant (F := Ideal) S_ .f32 0x00000000#32) j) = _
  rw [broadcastInDim_scalar_apply, broadcastInDim_scalar_apply]
  show (if Ideal.cmp .ogt (mmNN x w1 j) (Ideal.ofBits .f32 0x00000000#32) = 1#1
      then mmNT dy w2 j * (Ideal.ofBits .f32 0x40000000#32 * max (mmNN x w1 j) 0) else Ideal.ofBits .f32 0x00000000#32) = _
  rw [Ideal.ofBits_zero_f32]
  refine Eq.trans ?_ (select_relu (mmNN x w1 j) (mmNT dy w2 j) (Ideal.ofBits .f32 0x40000000#32))
  have hc : Ideal.cmp .ogt (mmNN x w1 j) 0 = 1#1 ↔ 0 < mmNN x w1 j := by
    by_cases h : 0 < mmNN x w1 j <;> simp [Ideal.cmp, h]
  simp only [hc]

/-- Result 1: the output. -/
theorem y_eq : Host.dotGeneral (φ₁ := .f32) (φ₂ := .f32) dot_S2048x4096_S4096x1024_S2048x1024_1_0_0_1_n_n none
      (mulf (refRelu x w1) (refRelu x w1)) w2 = mmNN (sqRelu (mmNN x w1)) w2 := by
  rw [dot_NN dot_S2048x4096_S4096x1024_S2048x1024_1_0_0_1_n_n rfl none _ w2, refRelu_eq]
  rfl

/-- Result 2: the gradient of the input, the scaled residual added. -/
theorem dx_eq : addf (F := Ideal) (φ := .f32) (Host.dotGeneral (φ₁ := .f32) (φ₂ := .f32) dot_S2048x4096_S1024x4096_S2048x1024_1_1_0_0_n_n none (refDs x dy w1 w2) w1)
      (mulf (broadcastInDim S2048x1024 ![] Gen.facts.bcast_S_S2048x1024 (constant S_ .f32 0x3FD744FD#32)) r) =
    dxF (dactF dy w2 (sqRelu (mmNN x w1))) w1 r := by
  rw [dot_NT dot_S2048x4096_S1024x4096_S2048x1024_1_1_0_0_n_n rfl none _ w1, refDs_eq]
  funext j
  show mmNT _ w1 j + broadcastInDim S2048x1024 ![] _ (constant (F := Ideal) S_ .f32 0x3FD744FD#32) j * r j = _
  rw [broadcastInDim_scalar_apply]
  rfl

/-- Result 3: the gradient of the first weight, its columns grouped by device. -/
theorem dw1_eq : transpose S8x1024x512 [1, 0, 2] (shapeCast S1024x8x512 (transpose S1024x4096 [1, 0]
        (Host.dotGeneral (φ₁ := .f32) (φ₂ := .f32) dot_S2048x4096_S2048x1024_S4096x1024_0_0_1_1_n_n none (refDs x dy w1 w2) x)
        Gen.facts.transposes_S4096x1024_S1024x4096_1_0) Gen.facts.shapeCasts_S1024x4096_S1024x8x512)
      Gen.facts.transposes_S1024x8x512_S8x1024x512_1_0_2 = dw1F x (dactF dy w2 (sqRelu (mmNN x w1))) := by
  rw [dot_TN dot_S2048x4096_S2048x1024_S4096x1024_0_0_1_1_n_n rfl none _ x, refDs_eq]
  funext j
  obtain ⟨a, b, q, rfl⟩ : ∃ (a : Fin 8) (b : Fin 1024) (q : Fin 512), j = ix3 a b q := ⟨_, _, _, eq_ix3 j⟩
  have hq : a.val * 512 + q.val < 4096 := by omega
  rw [transpose_apply [1, 0, 2] _ _ (ix3 a b q) (ix3 b a q) (by intro p; fin_cases p <;> rfl),
    shapeCast_apply _ _ (ix3 b a q) (ix2 b ⟨a.val * 512 + q.val, hq⟩) (by
      rw [Shape.rowMajor_val_two, Shape.rowMajor_val_three]
      show b.val * 4096 + (a.val * 512 + q.val) = (b.val * 8 + a.val) * 512 + q.val
      omega),
    transpose_apply [1, 0] _ _ (ix2 b ⟨a.val * 512 + q.val, hq⟩) (ix2 ⟨a.val * 512 + q.val, hq⟩ b)
      (by intro p; fin_cases p <;> rfl), mmTN_swap]
  rfl

/-- Result 4: the gradient of the second weight. -/
theorem dw2_eq : transpose S4096x1024 [1, 0] (Host.dotGeneral (φ₁ := .f32) (φ₂ := .f32) dot_S2048x1024_S2048x4096_S1024x4096_0_0_1_1_n_n none dy
        (mulf (refRelu x w1) (refRelu x w1))) Gen.facts.transposes_S1024x4096_S4096x1024_1_0 =
    mmTN (sqRelu (mmNN x w1)) dy := by
  rw [dot_TN dot_S2048x1024_S2048x4096_S1024x4096_0_0_1_1_n_n rfl none dy _, refRelu_eq]
  funext j
  obtain ⟨a, b, rfl⟩ : ∃ (a : Fin 4096) (b : Fin 1024), j = ix2 a b := ⟨_, _, eq_ix2 j⟩
  rw [transpose_apply [1, 0] _ _ (ix2 a b) (ix2 b a) (by intro p; fin_cases p <;> rfl), mmTN_swap]
  rfl

end Cert.MlpEq

end
-- ==== Proof.MlpClaim.lean ====
/-
  THE MLP'S CLAIMS that are not generated: the reference's frame, from its generated run, and the value claim, from the
  kernel's run (MlpRun.lean), the reference's run and the four equations (MlpEq.lean).
-/
module

public import proofs.«01_k».proof.Defs
public import proofs.«01_k».proof.Proof.MlpRun
public import proofs.«01_k».proof.Proof.MlpEq
public import Idealize.ShloMosaic.Lib.Quiescent

@[expose] public section

set_option maxRecDepth 16384

noncomputable section

namespace Cert.MlpClaim

open Idealize.ShloMosaic Idealize.SL.Sem

theorem ref_frame : Cert.quiescent_MlpRefIdeal (hMlpRefIdeal := Cert.MlpRefIdeal.Gen.facts) := fun m ρ _ =>
  (θ_run Cert.MlpRefIdeal.defs _ _).mono (fun r h =>
    ⟨fun c => (h c).2.2.2.2, Idealize.ShloMosaic.sem_eq_zero_of_no_sems (by decide) r.2⟩)
    (Cert.MlpRefIdeal.Value.run (F := Ideal) m ρ)

theorem value : Cert.algebraic_MlpIdeal_MlpRefIdeal (hMlpIdeal := Cert.MlpIdeal.Gen.facts)
    (hMlpRefIdeal := Cert.MlpRefIdeal.Gen.facts) := by
  intro m g m' g' _ hag
  refine ⟨_, _, _, _, Cert.MlpIdeal.Run.run m g,
    (θ_run Cert.MlpRefIdeal.defs _ _).mono (fun r h c => ?_) (Cert.MlpRefIdeal.Value.run (F := Ideal) m' g')⟩
  obtain ⟨e0, e1, e2, e3, e4⟩ := hag c
  obtain ⟨h0, h1, h2, h3, hargs⟩ := h c
  rw [e0, e2, e3] at h0
  rw [e0, e1, e2, e3, e4] at h1
  rw [e0, e1, e2, e3] at h2
  rw [e0, e1, e2] at h3
  exact ⟨h0.trans (Cert.MlpEq.y_eq _ _ _), h1.trans (Cert.MlpEq.dx_eq _ _ _ _ _), h2.trans (Cert.MlpEq.dw1_eq _ _ _ _),
    h3.trans (Cert.MlpEq.dw2_eq _ _ _), hargs⟩

end Cert.MlpClaim

end
-- ==== Proof.ScGate.lean ====
/-
  THE GATED CONVOLUTION'S TWO KERNELS, ONE COLUMN BLOCK. A grid point of the forward gate holds 2048 rows of 128 columns of
  the gate, of the two factors and of the taps; it keeps the factors' product in a scratch below 32 rows of zeros and
  stores its result in eight chunks of 256 rows. `gate` says the whole block it leaves. A point of the backward gate keeps
  also the product of the incoming gradient with the gate, above 32 rows of zeros; `dgate_b`, `dgate_c`, `dgate_h` and
  `dgate_w` say the four blocks it leaves. The payloads of all chunks are three functions of Conv.lean (`chunkL`, `chunkR`,
  `dtap`), by definition.
-/
module

public import proofs.«01_k».proof.Proof.Conv
public import proofs.«01_k».proof.Proof.Gen.ScIdeal.Frame

@[expose] public section

set_option maxRecDepth 16384

noncomputable section

namespace Cert.ScIdeal.Gate

open Cert.ScIdeal Cert.ScIdeal.Gen Cert.Products Cert.Blocks Cert.Conv
open Idealize.ShloMosaic Idealize.ShloMosaic.TcCoe Idealize.ShloMosaic.ValueIdx Idealize.SL.Sem

/-- A product of two arrays, entry by entry. -/
abbrev had {R C : ℕ} (x y : Mat R C) : Mat R C := fun j => x j * y j

/-! ## The forward gate -/

theorem pay1_zero (j : S32x128.Idx) : k1_pay2 (F := Ideal) j = 0 := Ideal.ofBits_zero_f32
theorem pay1_prod (x y : Vec Ideal S2048x128 .f32) : k1_pay3 (F := Ideal) x y = had x y := by
  funext j
  unfold k1_pay3
  simp only [shapeCast_self]
  rfl
theorem pay1_arg5_0 (v13 : FVec Ideal S1x128 .f32) (v14 : FVec Ideal S256x128 .f32) (v18 : FVec Ideal S1x128 .f32) (v19 : FVec Ideal S256x128 .f32) (v23 : FVec Ideal S1x128 .f32) (v24 : FVec Ideal S256x128 .f32) (v28 : FVec Ideal S256x128 .f32) :
    k1_pay4 (F := Ideal) v13 v14 v18 v19 v23 v24 v28 = chunkL v13 v14 v18 v19 v23 v24 v28 := rfl
theorem pay1_arg5_256 (v34 : FVec Ideal S1x128 .f32) (v35 : FVec Ideal S256x128 .f32) (v39 : FVec Ideal S1x128 .f32) (v40 : FVec Ideal S256x128 .f32) (v44 : FVec Ideal S1x128 .f32) (v45 : FVec Ideal S256x128 .f32) (v49 : FVec Ideal S256x128 .f32) :
    k1_pay5 (F := Ideal) v34 v35 v39 v40 v44 v45 v49 = chunkL v34 v35 v39 v40 v44 v45 v49 := rfl
theorem pay1_arg5_512 (v55 : FVec Ideal S1x128 .f32) (v56 : FVec Ideal S256x128 .f32) (v60 : FVec Ideal S1x128 .f32) (v61 : FVec Ideal S256x128 .f32) (v65 : FVec Ideal S1x128 .f32) (v66 : FVec Ideal S256x128 .f32) (v70 : FVec Ideal S256x128 .f32) :
    k1_pay8 (F := Ideal) (k1_pay6 v55 v56) v61 (k1_pay7 v60) v65 v66 v70 = chunkL v55 v56 v60 v61 v65 v66 v70 := rfl
theorem pay1_arg5_768 (v76 : FVec Ideal S1x128 .f32) (v77 : FVec Ideal S256x128 .f32) (v81 : FVec Ideal S1x128 .f32) (v82 : FVec Ideal S256x128 .f32) (v86 : FVec Ideal S1x128 .f32) (v87 : FVec Ideal S256x128 .f32) (v91 : FVec Ideal S256x128 .f32) :
    k1_pay9 (F := Ideal) v76 v77 v81 v82 v86 v87 v91 = chunkL v76 v77 v81 v82 v86 v87 v91 := rfl
theorem pay1_arg5_1024 (v97 : FVec Ideal S1x128 .f32) (v98 : FVec Ideal S256x128 .f32) (v102 : FVec Ideal S1x128 .f32) (v103 : FVec Ideal S256x128 .f32) (v107 : FVec Ideal S1x128 .f32) (v108 : FVec Ideal S256x128 .f32) (v112 : FVec Ideal S256x128 .f32) :
    k1_pay10 (F := Ideal) v97 v98 v102 v103 v107 v108 v112 = chunkL v97 v98 v102 v103 v107 v108 v112 := rfl
theorem pay1_arg5_1280 (v118 : FVec Ideal S1x128 .f32) (v119 : FVec Ideal S256x128 .f32) (v123 : FVec Ideal S1x128 .f32) (v124 : FVec Ideal S256x128 .f32) (v128 : FVec Ideal S1x128 .f32) (v129 : FVec Ideal S256x128 .f32) (v133 : FVec Ideal S256x128 .f32) :
    k1_pay12 (F := Ideal) (k1_pay11 v118 v119 v123 v124) v128 v129 v133 = chunkL v118 v119 v123 v124 v128 v129 v133 := rfl
theorem pay1_arg5_1536 (v139 : FVec Ideal S1x128 .f32) (v140 : FVec Ideal S256x128 .f32) (v144 : FVec Ideal S1x128 .f32) (v145 : FVec Ideal S256x128 .f32) (v149 : FVec Ideal S1x128 .f32) (v150 : FVec Ideal S256x128 .f32) (v154 : FVec Ideal S256x128 .f32) :
    k1_pay13 (F := Ideal) v139 v140 v144 v145 v149 v150 v154 = chunkL v139 v140 v144 v145 v149 v150 v154 := rfl
theorem pay1_arg5_1792 (v160 : FVec Ideal S1x128 .f32) (v161 : FVec Ideal S256x128 .f32) (v165 : FVec Ideal S1x128 .f32) (v166 : FVec Ideal S256x128 .f32) (v170 : FVec Ideal S1x128 .f32) (v171 : FVec Ideal S256x128 .f32) (v175 : FVec Ideal S256x128 .f32) :
    k1_pay1 (F := Ideal) (k1_pay14 (F := Ideal)) v160 v161 v165 v166 v170 v171 v175 = chunkL v160 v161 v165 v166 v170 v171 v175 := rfl

section
variable (c : Dev nD) (i : grid1.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S3x128 .f32) (harg4 : arg4.IsWhole) (arg5 : Memref sig .tc .vmem S2048x128 .bf16) (harg5 : arg5.IsWhole) (arg6 : Memref sig .tc .vmem S2080x128 .f32) (harg6 : arg6.IsWhole)
    (x0 : Vec Ideal S2048x128 .f32) (x1 : Vec Ideal S2048x128 .f32) (x2 : Vec Ideal S2048x128 .f32) (x3 : Vec Ideal S3x128 .f32)

/-- The forward gate's block: the gate times the causal convolution of the factors' product. -/
theorem gate : out1_A_4 (F := Ideal) c i arg1 harg1 arg2 harg2 arg3 harg3 arg4 harg4 arg5 harg5 arg6 harg6 x0 x1 x2 x3
    = fun y => (x0 y : EReal) * causal x3 (had x1 x2) y := by
  unfold out1_A_4
  rw [View.read_writes_junk_eq_canon]
  funext y
  refine canon_of_pieces (fun y => (x0 y : EReal) * causal x3 (had x1 x2) y) _ ?_ y (cover1_A_4 c i arg1 harg1 arg2 harg2 arg3 harg3 arg4 harg4 arg5 harg5 arg6 harg6 x0 x1 x2 x3 y)
  clear y
  unfold kernelRun1_A
  dsimp only
  sl_unfold_run_names
  simp only [readAt_unread, idx_whole, pay1_prod, pay1_arg5_0, pay1_arg5_256, pay1_arg5_512, pay1_arg5_768, pay1_arg5_1024, pay1_arg5_1280, pay1_arg5_1536, pay1_arg5_1792]
  refine (pieces_cons (fun x => ?_) (pieces_cons (fun x => ?_) (pieces_cons (fun x => ?_) (pieces_cons (fun x => ?_) (pieces_cons (fun x => ?_) (pieces_cons (fun x => ?_) (pieces_cons (fun x => ?_) (pieces_cons (fun x => ?_) trivial))))))))
  all_goals
    refine chunkL_causal x _ (had x1 x2) x3 x0 _ _ _ _ _ _ _ ?_ ?_ ?_
      (read_below _ _ _ pay1_zero _ _ _ _ x 2 _ ?_ ?_ (by decide)) (read_below _ _ _ pay1_zero _ _ _ _ x 1 _ ?_ ?_ (by decide))
      (read_below _ _ _ pay1_zero _ _ _ _ x 0 _ ?_ ?_ (by decide)) ?_
  all_goals first
    | rfl
    | exact congrArg x3 (idx_row _ _ _ _ _ _ rfl (Fin.ext (idx_unit 2048 128 _ _ _ x).2.symm))
    | exact side0 _ _ _ _ _ _ (by decide)
    | exact Fin.ext (idx_unit 2048 128 _ _ _ x).2

end

/-! ## The backward gate -/

theorem pay5_zero (j : S32x128.Idx) : k5_pay2 (F := Ideal) j = 0 := Ideal.ofBits_zero_f32
theorem pay5_zero' (j : S32x128.Idx) : k5_pay5 (F := Ideal) j = 0 := Ideal.ofBits_zero_f32
theorem pay5_prod (x y : Vec Ideal S2048x128 .f32) : k5_pay3 (F := Ideal) x y = had x y := by
  funext j
  unfold k5_pay3
  simp only [shapeCast_self]
  rfl
theorem pay5_prod' (x y : Vec Ideal S2048x128 .f32) : k5_pay4 (F := Ideal) x y = had x y := by
  funext j
  unfold k5_pay4
  simp only [shapeCast_self]
  rfl
theorem pay5_arg6_0 (v26 : FVec Ideal S1x128 .f32) (v27 : FVec Ideal S256x128 .f32) (v36 : FVec Ideal S1x128 .f32) (v37 : FVec Ideal S256x128 .f32) (v46 : FVec Ideal S1x128 .f32) (v47 : FVec Ideal S256x128 .f32) (v56 : FVec Ideal S256x128 .f32) :
    k5_pay9 (F := Ideal) (k5_pay7 v26 v27) v36 v37 v46 v47 v56 = chunkL v26 v27 v36 v37 v46 v47 v56 := rfl
theorem pay5_arg7_0 (v31 : FVec Ideal S1x128 .f32) (v32 : FVec Ideal S256x128 .f32) (v41 : FVec Ideal S1x128 .f32) (v42 : FVec Ideal S256x128 .f32) (v51 : FVec Ideal S1x128 .f32) (v52 : FVec Ideal S256x128 .f32) (v61 : FVec Ideal S256x128 .f32) :
    k5_pay11 (F := Ideal) (k5_pay10 (k5_pay6 (F := Ideal)) v31 v32 v41 v42 v51 v52 v61) = chunkR v31 v32 v41 v42 v51 v52 v61 := rfl
theorem pay5_arg8_0 (v31 : FVec Ideal S1x128 .f32) (v32 : FVec Ideal S256x128 .f32) (v41 : FVec Ideal S1x128 .f32) (v42 : FVec Ideal S256x128 .f32) (v51 : FVec Ideal S1x128 .f32) (v52 : FVec Ideal S256x128 .f32) (v66 : FVec Ideal S256x128 .f32) :
    k5_pay12 (F := Ideal) (k5_pay8 (k5_pay6 (F := Ideal)) v31 v32 v41 v42 v51 v52) v66 = chunkR v31 v32 v41 v42 v51 v52 v66 := rfl
theorem pay5_arg6_256 (v73 : FVec Ideal S1x128 .f32) (v74 : FVec Ideal S256x128 .f32) (v83 : FVec Ideal S1x128 .f32) (v84 : FVec Ideal S256x128 .f32) (v93 : FVec Ideal S1x128 .f32) (v94 : FVec Ideal S256x128 .f32) (v103 : FVec Ideal S256x128 .f32) :
    k5_pay16 (F := Ideal) (k5_pay13 v73 v74 v83 v84) v93 v94 v103 = chunkL v73 v74 v83 v84 v93 v94 v103 := rfl
theorem pay5_arg7_256 (v78 : FVec Ideal S1x128 .f32) (v79 : FVec Ideal S256x128 .f32) (v88 : FVec Ideal S1x128 .f32) (v89 : FVec Ideal S256x128 .f32) (v98 : FVec Ideal S1x128 .f32) (v99 : FVec Ideal S256x128 .f32) (v108 : FVec Ideal S256x128 .f32) :
    k5_pay17 (F := Ideal) (k5_pay14 v78 v79 v88 v89) v98 v99 v108 = chunkR v78 v79 v88 v89 v98 v99 v108 := rfl
theorem pay5_arg8_256 (v78 : FVec Ideal S1x128 .f32) (v79 : FVec Ideal S256x128 .f32) (v88 : FVec Ideal S1x128 .f32) (v89 : FVec Ideal S256x128 .f32) (v98 : FVec Ideal S1x128 .f32) (v99 : FVec Ideal S256x128 .f32) (v113 : FVec Ideal S256x128 .f32) :
    k5_pay18 (F := Ideal) (k5_pay14 v78 v79 v88 v89) v98 v99 v113 = chunkR v78 v79 v88 v89 v98 v99 v113 := rfl
theorem pay5_arg6_512 (v120 : FVec Ideal S1x128 .f32) (v121 : FVec Ideal S256x128 .f32) (v130 : FVec Ideal S1x128 .f32) (v131 : FVec Ideal S256x128 .f32) (v140 : FVec Ideal S1x128 .f32) (v141 : FVec Ideal S256x128 .f32) (v150 : FVec Ideal S256x128 .f32) :
    k5_pay22 (F := Ideal) (k5_pay20 v120 v121) v130 v131 v140 v141 v150 = chunkL v120 v121 v130 v131 v140 v141 v150 := rfl
theorem pay5_arg7_512 (v125 : FVec Ideal S1x128 .f32) (v126 : FVec Ideal S256x128 .f32) (v135 : FVec Ideal S1x128 .f32) (v136 : FVec Ideal S256x128 .f32) (v145 : FVec Ideal S1x128 .f32) (v146 : FVec Ideal S256x128 .f32) (v155 : FVec Ideal S256x128 .f32) :
    k5_pay23 (F := Ideal) (k5_pay19 (F := Ideal)) v125 v126 v135 v136 v145 v146 v155 = chunkR v125 v126 v135 v136 v145 v146 v155 := rfl
theorem pay5_arg8_512 (v125 : FVec Ideal S1x128 .f32) (v126 : FVec Ideal S256x128 .f32) (v135 : FVec Ideal S1x128 .f32) (v136 : FVec Ideal S256x128 .f32) (v145 : FVec Ideal S1x128 .f32) (v146 : FVec Ideal S256x128 .f32) (v160 : FVec Ideal S256x128 .f32) :
    k5_pay24 (F := Ideal) (k5_pay21 (k5_pay19 (F := Ideal)) v125 v126 v135 v136 v145 v146) v160 = chunkR v125 v126 v135 v136 v145 v146 v160 := rfl
theorem pay5_arg6_768 (v167 : FVec Ideal S1x128 .f32) (v168 : FVec Ideal S256x128 .f32) (v177 : FVec Ideal S1x128 .f32) (v178 : FVec Ideal S256x128 .f32) (v187 : FVec Ideal S1x128 .f32) (v188 : FVec Ideal S256x128 .f32) (v197 : FVec Ideal S256x128 .f32) :
    k5_pay28 (F := Ideal) (k5_pay26 v167 v168 v177 v178 v187 v188) v197 = chunkL v167 v168 v177 v178 v187 v188 v197 := rfl
theorem pay5_arg7_768 (v172 : FVec Ideal S1x128 .f32) (v173 : FVec Ideal S256x128 .f32) (v182 : FVec Ideal S1x128 .f32) (v183 : FVec Ideal S256x128 .f32) (v192 : FVec Ideal S1x128 .f32) (v193 : FVec Ideal S256x128 .f32) (v202 : FVec Ideal S256x128 .f32) :
    k5_pay29 (F := Ideal) (k5_pay25 v172 v173 v182 v183) v192 v193 v202 = chunkR v172 v173 v182 v183 v192 v193 v202 := rfl
theorem pay5_arg8_768 (v172 : FVec Ideal S1x128 .f32) (v173 : FVec Ideal S256x128 .f32) (v182 : FVec Ideal S1x128 .f32) (v183 : FVec Ideal S256x128 .f32) (v192 : FVec Ideal S1x128 .f32) (v193 : FVec Ideal S256x128 .f32) (v207 : FVec Ideal S256x128 .f32) :
    k5_pay30 (F := Ideal) (k5_pay25 v172 v173 v182 v183) v192 v193 v207 = chunkR v172 v173 v182 v183 v192 v193 v207 := rfl
theorem pay5_arg6_1024 (v214 : FVec Ideal S1x128 .f32) (v215 : FVec Ideal S256x128 .f32) (v224 : FVec Ideal S1x128 .f32) (v225 : FVec Ideal S256x128 .f32) (v234 : FVec Ideal S1x128 .f32) (v235 : FVec Ideal S256x128 .f32) (v244 : FVec Ideal S256x128 .f32) :
    k5_pay35 (F := Ideal) (k5_pay32 v214 v215) v224 v225 v234 v235 v244 = chunkL v214 v215 v224 v225 v234 v235 v244 := rfl
theorem pay5_arg7_1024 (v219 : FVec Ideal S1x128 .f32) (v220 : FVec Ideal S256x128 .f32) (v229 : FVec Ideal S1x128 .f32) (v230 : FVec Ideal S256x128 .f32) (v239 : FVec Ideal S1x128 .f32) (v240 : FVec Ideal S256x128 .f32) (v249 : FVec Ideal S256x128 .f32) :
    k5_pay36 (F := Ideal) (k5_pay31 (F := Ideal)) (k5_pay33 v219 v220) v229 v230 v239 v240 v249 = chunkR v219 v220 v229 v230 v239 v240 v249 := rfl
theorem pay5_arg8_1024 (v219 : FVec Ideal S1x128 .f32) (v220 : FVec Ideal S256x128 .f32) (v229 : FVec Ideal S1x128 .f32) (v230 : FVec Ideal S256x128 .f32) (v239 : FVec Ideal S1x128 .f32) (v240 : FVec Ideal S256x128 .f32) (v254 : FVec Ideal S256x128 .f32) :
    k5_pay37 (F := Ideal) (k5_pay34 (k5_pay31 (F := Ideal)) (k5_pay33 v219 v220) v229 v230 v239 v240) v254 = chunkR v219 v220 v229 v230 v239 v240 v254 := rfl
theorem pay5_arg6_1280 (v261 : FVec Ideal S1x128 .f32) (v262 : FVec Ideal S256x128 .f32) (v271 : FVec Ideal S1x128 .f32) (v272 : FVec Ideal S256x128 .f32) (v281 : FVec Ideal S1x128 .f32) (v282 : FVec Ideal S256x128 .f32) (v291 : FVec Ideal S256x128 .f32) :
    k5_pay41 (F := Ideal) (k5_pay39 v261 v262 v271 v272 v281 v282) v291 = chunkL v261 v262 v271 v272 v281 v282 v291 := rfl
theorem pay5_arg7_1280 (v266 : FVec Ideal S1x128 .f32) (v267 : FVec Ideal S256x128 .f32) (v276 : FVec Ideal S1x128 .f32) (v277 : FVec Ideal S256x128 .f32) (v286 : FVec Ideal S1x128 .f32) (v287 : FVec Ideal S256x128 .f32) (v296 : FVec Ideal S256x128 .f32) :
    k5_pay42 (F := Ideal) (k5_pay38 v266 v267 v276 v277) v286 v287 v296 = chunkR v266 v267 v276 v277 v286 v287 v296 := rfl
theorem pay5_arg8_1280 (v266 : FVec Ideal S1x128 .f32) (v267 : FVec Ideal S256x128 .f32) (v276 : FVec Ideal S1x128 .f32) (v277 : FVec Ideal S256x128 .f32) (v286 : FVec Ideal S1x128 .f32) (v287 : FVec Ideal S256x128 .f32) (v301 : FVec Ideal S256x128 .f32) :
    k5_pay43 (F := Ideal) (k5_pay38 v266 v267 v276 v277) v286 v287 v301 = chunkR v266 v267 v276 v277 v286 v287 v301 := rfl
theorem pay5_arg6_1536 (v308 : FVec Ideal S1x128 .f32) (v309 : FVec Ideal S256x128 .f32) (v318 : FVec Ideal S1x128 .f32) (v319 : FVec Ideal S256x128 .f32) (v328 : FVec Ideal S1x128 .f32) (v329 : FVec Ideal S256x128 .f32) (v338 : FVec Ideal S256x128 .f32) :
    k5_pay47 (F := Ideal) (k5_pay44 v308 v309) v318 v319 v328 v329 v338 = chunkL v308 v309 v318 v319 v328 v329 v338 := rfl
theorem pay5_arg7_1536 (v313 : FVec Ideal S1x128 .f32) (v314 : FVec Ideal S256x128 .f32) (v323 : FVec Ideal S1x128 .f32) (v324 : FVec Ideal S256x128 .f32) (v333 : FVec Ideal S1x128 .f32) (v334 : FVec Ideal S256x128 .f32) (v343 : FVec Ideal S256x128 .f32) :
    k5_pay48 (F := Ideal) (k5_pay45 v313 v314) v323 v324 v333 v334 v343 = chunkR v313 v314 v323 v324 v333 v334 v343 := rfl
theorem pay5_arg8_1536 (v313 : FVec Ideal S1x128 .f32) (v314 : FVec Ideal S256x128 .f32) (v323 : FVec Ideal S1x128 .f32) (v324 : FVec Ideal S256x128 .f32) (v333 : FVec Ideal S1x128 .f32) (v334 : FVec Ideal S256x128 .f32) (v348 : FVec Ideal S256x128 .f32) :
    k5_pay49 (F := Ideal) (k5_pay45 v313 v314) v323 v324 v333 v334 v348 = chunkR v313 v314 v323 v324 v333 v334 v348 := rfl
theorem pay5_arg6_1792 (v355 : FVec Ideal S1x128 .f32) (v356 : FVec Ideal S256x128 .f32) (v365 : FVec Ideal S1x128 .f32) (v366 : FVec Ideal S256x128 .f32) (v375 : FVec Ideal S1x128 .f32) (v376 : FVec Ideal S256x128 .f32) (v385 : FVec Ideal S256x128 .f32) :
    k5_pay54 (F := Ideal) (k5_pay51 v355 v356 v365 v366 v375 v376) v385 = chunkL v355 v356 v365 v366 v375 v376 v385 := rfl
theorem pay5_arg7_1792 (v360 : FVec Ideal S1x128 .f32) (v361 : FVec Ideal S256x128 .f32) (v370 : FVec Ideal S1x128 .f32) (v371 : FVec Ideal S256x128 .f32) (v380 : FVec Ideal S1x128 .f32) (v381 : FVec Ideal S256x128 .f32) (v390 : FVec Ideal S256x128 .f32) :
    k5_pay55 (F := Ideal) (k5_pay50 v360 v361 v370 v371) (k5_pay52 v380 v381) v390 = chunkR v360 v361 v370 v371 v380 v381 v390 := rfl
theorem pay5_arg8_1792 (v360 : FVec Ideal S1x128 .f32) (v361 : FVec Ideal S256x128 .f32) (v370 : FVec Ideal S1x128 .f32) (v371 : FVec Ideal S256x128 .f32) (v380 : FVec Ideal S1x128 .f32) (v381 : FVec Ideal S256x128 .f32) (v395 : FVec Ideal S256x128 .f32) :
    k5_pay56 (F := Ideal) (k5_pay50 v360 v361 v370 v371) (k5_pay52 v380 v381) v395 = chunkR v360 v361 v370 v371 v380 v381 v395 := rfl
theorem pay5_arg9_0 (v401 : FVec Ideal S256x128 .f32) (v402 : FVec Ideal S256x128 .f32) (v405 : FVec Ideal S256x128 .f32) (v406 : FVec Ideal S256x128 .f32) (v409 : FVec Ideal S256x128 .f32) (v410 : FVec Ideal S256x128 .f32) (v413 : FVec Ideal S256x128 .f32) (v414 : FVec Ideal S256x128 .f32) (v417 : FVec Ideal S256x128 .f32) (v418 : FVec Ideal S256x128 .f32) (v421 : FVec Ideal S256x128 .f32) (v422 : FVec Ideal S256x128 .f32) (v425 : FVec Ideal S256x128 .f32) (v426 : FVec Ideal S256x128 .f32) (v429 : FVec Ideal S256x128 .f32) (v430 : FVec Ideal S256x128 .f32) :
    k5_pay58 (F := Ideal) (k5_pay57 v401 v402 v405 v406 v409 v410) v413 v414 v417 v418 v421 v422 v425 v426 v429 v430 = dtap v401 v402 v405 v406 v409 v410 v413 v414 v417 v418 v421 v422 v425 v426 v429 v430 := rfl
theorem pay5_arg9_1 (v437 : FVec Ideal S256x128 .f32) (v438 : FVec Ideal S256x128 .f32) (v441 : FVec Ideal S256x128 .f32) (v442 : FVec Ideal S256x128 .f32) (v445 : FVec Ideal S256x128 .f32) (v446 : FVec Ideal S256x128 .f32) (v449 : FVec Ideal S256x128 .f32) (v450 : FVec Ideal S256x128 .f32) (v453 : FVec Ideal S256x128 .f32) (v454 : FVec Ideal S256x128 .f32) (v457 : FVec Ideal S256x128 .f32) (v458 : FVec Ideal S256x128 .f32) (v461 : FVec Ideal S256x128 .f32) (v462 : FVec Ideal S256x128 .f32) (v465 : FVec Ideal S256x128 .f32) (v466 : FVec Ideal S256x128 .f32) :
    k5_pay60 (F := Ideal) (k5_pay59 v437 v438) v441 v442 v445 v446 v449 v450 v453 v454 v457 v458 v461 v462 v465 v466 = dtap v437 v438 v441 v442 v445 v446 v449 v450 v453 v454 v457 v458 v461 v462 v465 v466 := rfl
theorem pay5_arg9_2 (v473 : FVec Ideal S256x128 .f32) (v474 : FVec Ideal S256x128 .f32) (v477 : FVec Ideal S256x128 .f32) (v478 : FVec Ideal S256x128 .f32) (v481 : FVec Ideal S256x128 .f32) (v482 : FVec Ideal S256x128 .f32) (v485 : FVec Ideal S256x128 .f32) (v486 : FVec Ideal S256x128 .f32) (v489 : FVec Ideal S256x128 .f32) (v490 : FVec Ideal S256x128 .f32) (v493 : FVec Ideal S256x128 .f32) (v494 : FVec Ideal S256x128 .f32) (v497 : FVec Ideal S256x128 .f32) (v498 : FVec Ideal S256x128 .f32) (v501 : FVec Ideal S256x128 .f32) (v502 : FVec Ideal S256x128 .f32) :
    k5_pay1 (F := Ideal) (k5_pay62 (k5_pay61 (F := Ideal)) v473 v474 v477 v478 v481 v482 v485 v486 v489 v490 v493 v494 v497 v498) v501 v502 = dtap v473 v474 v477 v478 v481 v482 v485 v486 v489 v490 v493 v494 v497 v498 v501 v502 := rfl

section
variable (c : Dev nD) (i : grid5.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S3x128 .f32) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S3x128 .f32) (harg9 : arg9.IsWhole) (arg10 : Memref sig .tc .vmem S2080x128 .f32) (harg10 : arg10.IsWhole) (arg11 : Memref sig .tc .vmem S2080x128 .f32) (harg11 : arg11.IsWhole)
    (x0 : Vec Ideal S2048x128 .f32) (x1 : Vec Ideal S2048x128 .f32) (x2 : Vec Ideal S2048x128 .f32) (x3 : Vec Ideal S2048x128 .f32) (x4 : Vec Ideal S3x128 .f32)

/-- The backward gate's block: the incoming gradient times the causal convolution. -/
theorem dgate_b : out5_A_5 (F := Ideal) c i arg1 harg1 arg2 harg2 arg3 harg3 arg4 harg4 arg5 harg5 arg6 harg6 arg7 harg7 arg8 harg8 arg9 harg9 arg10 harg10 arg11 harg11 x0 x1 x2 x3 x4
    = fun y => (x0 y : EReal) * causal x4 (had x2 x3) y := by
  unfold out5_A_5
  rw [View.read_writes_junk_eq_canon]
  funext y
  refine canon_of_pieces (fun y => (x0 y : EReal) * causal x4 (had x2 x3) y) _ ?_ y
    (cover5_A_5 c i arg1 harg1 arg2 harg2 arg3 harg3 arg4 harg4 arg5 harg5 arg6 harg6 arg7 harg7 arg8 harg8 arg9 harg9 arg10 harg10 arg11 harg11 x0 x1 x2 x3 x4 y)
  clear y
  unfold kernelRun5_A
  dsimp only
  sl_unfold_run_names
  simp only [readAt_unread, idx_whole, pay5_prod, pay5_prod', pay5_arg6_0, pay5_arg6_256, pay5_arg6_512, pay5_arg6_768, pay5_arg6_1024, pay5_arg6_1280, pay5_arg6_1536, pay5_arg6_1792]
  refine (pieces_cons (fun x => ?_) (pieces_cons (fun x => ?_) (pieces_cons (fun x => ?_) (pieces_cons (fun x => ?_) (pieces_cons (fun x => ?_) (pieces_cons (fun x => ?_) (pieces_cons (fun x => ?_) (pieces_cons (fun x => ?_) trivial))))))))
  all_goals
    refine chunkL_causal x _ (had x2 x3) x4 x0 _ _ _ _ _ _ _ ?_ ?_ ?_
      (read_below _ _ _ pay5_zero _ _ _ _ x 2 _ ?_ ?_ (by decide)) (read_below _ _ _ pay5_zero _ _ _ _ x 1 _ ?_ ?_ (by decide))
      (read_below _ _ _ pay5_zero _ _ _ _ x 0 _ ?_ ?_ (by decide)) ?_
  all_goals first
    | rfl
    | exact congrArg x4 (idx_row _ _ _ _ _ _ rfl (Fin.ext (idx_unit 2048 128 _ _ _ x).2.symm))
    | exact side0 _ _ _ _ _ _ (by decide)
    | exact Fin.ext (idx_unit 2048 128 _ _ _ x).2

/-- The backward gate's block: the transposed convolution of gradient times gate, times the second factor. -/
theorem dgate_c : out5_A_6 (F := Ideal) c i arg1 harg1 arg2 harg2 arg3 harg3 arg4 harg4 arg5 harg5 arg6 harg6 arg7 harg7 arg8 harg8 arg9 harg9 arg10 harg10 arg11 harg11 x0 x1 x2 x3 x4
    = fun y => anti x4 (had x0 x1) y * (x3 y : EReal) := by
  unfold out5_A_6
  rw [View.read_writes_junk_eq_canon]
  funext y
  refine canon_of_pieces (fun y => anti x4 (had x0 x1) y * (x3 y : EReal)) _ ?_ y
    (cover5_A_6 c i arg1 harg1 arg2 harg2 arg3 harg3 arg4 harg4 arg5 harg5 arg6 harg6 arg7 harg7 arg8 harg8 arg9 harg9 arg10 harg10 arg11 harg11 x0 x1 x2 x3 x4 y)
  clear y
  unfold kernelRun5_A
  dsimp only
  sl_unfold_run_names
  simp only [readAt_unread, idx_whole, pay5_prod, pay5_prod', pay5_arg7_0, pay5_arg7_256, pay5_arg7_512, pay5_arg7_768, pay5_arg7_1024, pay5_arg7_1280, pay5_arg7_1536, pay5_arg7_1792]
  refine (pieces_cons (fun x => ?_) (pieces_cons (fun x => ?_) (pieces_cons (fun x => ?_) (pieces_cons (fun x => ?_) (pieces_cons (fun x => ?_) (pieces_cons (fun x => ?_) (pieces_cons (fun x => ?_) (pieces_cons (fun x => ?_) trivial))))))))
  all_goals
    refine chunkR_anti x _ (had x0 x1) x4 x3 _ _ _ _ _ _ _ ?_ ?_ ?_
      (read_above _ _ _ pay5_zero' _ _ _ _ x 2 _ ?_ ?_ (by decide)) (read_above _ _ _ pay5_zero' _ _ _ _ x 1 _ ?_ ?_ (by decide))
      (read_above _ _ _ pay5_zero' _ _ _ _ x 0 _ ?_ ?_ (by decide)) ?_
  all_goals first
    | rfl
    | exact congrArg x4 (idx_row _ _ _ _ _ _ rfl (Fin.ext (idx_unit 2048 128 _ _ _ x).2.symm))
    | exact side1 _ _ _ _ _ _ (by decide)
    | exact Fin.ext (idx_unit 2048 128 _ _ _ x).2

/-- The backward gate's block: the transposed convolution of gradient times gate, times the first factor. -/
theorem dgate_h : out5_A_7 (F := Ideal) c i arg1 harg1 arg2 harg2 arg3 harg3 arg4 harg4 arg5 harg5 arg6 harg6 arg7 harg7 arg8 harg8 arg9 harg9 arg10 harg10 arg11 harg11 x0 x1 x2 x3 x4
    = fun y => anti x4 (had x0 x1) y * (x2 y : EReal) := by
  unfold out5_A_7
  rw [View.read_writes_junk_eq_canon]
  funext y
  refine canon_of_pieces (fun y => anti x4 (had x0 x1) y * (x2 y : EReal)) _ ?_ y
    (cover5_A_7 c i arg1 harg1 arg2 harg2 arg3 harg3 arg4 harg4 arg5 harg5 arg6 harg6 arg7 harg7 arg8 harg8 arg9 harg9 arg10 harg10 arg11 harg11 x0 x1 x2 x3 x4 y)
  clear y
  unfold kernelRun5_A
  dsimp only
  sl_unfold_run_names
  simp only [readAt_unread, idx_whole, pay5_prod, pay5_prod', pay5_arg8_0, pay5_arg8_256, pay5_arg8_512, pay5_arg8_768, pay5_arg8_1024, pay5_arg8_1280, pay5_arg8_1536, pay5_arg8_1792]
  refine (pieces_cons (fun x => ?_) (pieces_cons (fun x => ?_) (pieces_cons (fun x => ?_) (pieces_cons (fun x => ?_) (pieces_cons (fun x => ?_) (pieces_cons (fun x => ?_) (pieces_cons (fun x => ?_) (pieces_cons (fun x => ?_) trivial))))))))
  all_goals
    refine chunkR_anti x _ (had x0 x1) x4 x2 _ _ _ _ _ _ _ ?_ ?_ ?_
      (read_above _ _ _ pay5_zero' _ _ _ _ x 2 _ ?_ ?_ (by decide)) (read_above _ _ _ pay5_zero' _ _ _ _ x 1 _ ?_ ?_ (by decide))
      (read_above _ _ _ pay5_zero' _ _ _ _ x 0 _ ?_ ?_ (by decide)) ?_
  all_goals first
    | rfl
    | exact congrArg x4 (idx_row _ _ _ _ _ _ rfl (Fin.ext (idx_unit 2048 128 _ _ _ x).2.symm))
    | exact side1 _ _ _ _ _ _ (by decide)
    | exact Fin.ext (idx_unit 2048 128 _ _ _ x).2

/-- The backward gate's block: a tap's gradient, the sum over the rows. -/
theorem dgate_w : out5_A_8 (F := Ideal) c i arg1 harg1 arg2 harg2 arg3 harg3 arg4 harg4 arg5 harg5 arg6 harg6 arg7 harg7 arg8 harg8 arg9 harg9 arg10 harg10 arg11 harg11 x0 x1 x2 x3 x4
    = fun y => ∑ t : Fin 2048, had x0 x1 (ix2 t (y 1)) * lag (2 - (y 0 : ℕ)) (had x2 x3) (ix2 t (y 1)) := by
  unfold out5_A_8
  rw [View.read_writes_junk_eq_canon]
  funext y
  refine canon_of_pieces (fun y => ∑ t : Fin 2048, had x0 x1 (ix2 t (y 1)) * lag (2 - (y 0 : ℕ)) (had x2 x3) (ix2 t (y 1))) _ ?_ y
    (cover5_A_8 c i arg1 harg1 arg2 harg2 arg3 harg3 arg4 harg4 arg5 harg5 arg6 harg6 arg7 harg7 arg8 harg8 arg9 harg9 arg10 harg10 arg11 harg11 x0 x1 x2 x3 x4 y)
  clear y
  unfold kernelRun5_A
  dsimp only
  sl_unfold_run_names
  simp only [readAt_unread, idx_whole, pay5_prod, pay5_prod', pay5_arg9_0, pay5_arg9_1, pay5_arg9_2]
  refine (pieces_cons (fun x => ?_) (pieces_cons (fun x => ?_) (pieces_cons (fun x => ?_) trivial)))
  all_goals
    obtain ⟨c', hc⟩ : ∃ c' : Fin 128, x = ix2 (0 : Fin 1) c' := ⟨x 1, by
      refine (eq_ix2 x).trans (congrArg (fun a => ix2 a (x 1)) (Fin.ext ?_))
      have : (x 0 : ℕ) < 1 := (x 0).isLt
      show (x 0 : ℕ) = 0
      omega⟩
    subst hc
  · refine (dtap_apply (lead 0 (had x0 x1)) (lag 0 (had x2 x3)) c' _ _ _ _ _ _ _ _ _ _ _ _ _ _ _ _
      (fun r => read_above _ _ _ pay5_zero' _ _ _ _ _ 0 _ rfl rfl (by decide))
      (fun r => read_below _ _ _ pay5_zero _ _ _ _ _ 0 _ (by show 0 + (r : ℕ) + 32 = 32 + (r : ℕ) + 0; omega) rfl (by decide))
      (fun r => read_above _ _ _ pay5_zero' _ _ _ _ _ 0 _ rfl rfl (by decide))
      (fun r => read_below _ _ _ pay5_zero _ _ _ _ _ 0 _ (by show 256 + (r : ℕ) + 32 = 288 + (r : ℕ) + 0; omega) rfl (by decide))
      (fun r => read_above _ _ _ pay5_zero' _ _ _ _ _ 0 _ rfl rfl (by decide))
      (fun r => read_below _ _ _ pay5_zero _ _ _ _ _ 0 _ (by show 512 + (r : ℕ) + 32 = 544 + (r : ℕ) + 0; omega) rfl (by decide))
      (fun r => read_above _ _ _ pay5_zero' _ _ _ _ _ 0 _ rfl rfl (by decide))
      (fun r => read_below _ _ _ pay5_zero _ _ _ _ _ 0 _ (by show 768 + (r : ℕ) + 32 = 800 + (r : ℕ) + 0; omega) rfl (by decide))
      (fun r => read_above _ _ _ pay5_zero' _ _ _ _ _ 0 _ rfl rfl (by decide))
      (fun r => read_below _ _ _ pay5_zero _ _ _ _ _ 0 _ (by show 1024 + (r : ℕ) + 32 = 1056 + (r : ℕ) + 0; omega) rfl (by decide))
      (fun r => read_above _ _ _ pay5_zero' _ _ _ _ _ 0 _ rfl rfl (by decide))
      (fun r => read_below _ _ _ pay5_zero _ _ _ _ _ 0 _ (by show 1280 + (r : ℕ) + 32 = 1312 + (r : ℕ) + 0; omega) rfl (by decide))
      (fun r => read_above _ _ _ pay5_zero' _ _ _ _ _ 0 _ rfl rfl (by decide))
      (fun r => read_below _ _ _ pay5_zero _ _ _ _ _ 0 _ (by show 1536 + (r : ℕ) + 32 = 1568 + (r : ℕ) + 0; omega) rfl (by decide))
      (fun r => read_above _ _ _ pay5_zero' _ _ _ _ _ 0 _ rfl rfl (by decide))
      (fun r => read_below _ _ _ pay5_zero _ _ _ _ _ 0 _ (by show 1792 + (r : ℕ) + 32 = 1824 + (r : ℕ) + 0; omega) rfl (by decide))).trans ?_
    · exact tap_sum _ _ _ _ _ (by rfl) (Fin.ext (idx_unit 3 128 _ _ _ _).2)
  · refine (dtap_apply (lead 0 (had x0 x1)) (lag 1 (had x2 x3)) c' _ _ _ _ _ _ _ _ _ _ _ _ _ _ _ _
      (fun r => read_above _ _ _ pay5_zero' _ _ _ _ _ 0 _ rfl rfl (by decide))
      (fun r => read_below _ _ _ pay5_zero _ _ _ _ _ 1 _ (by show 0 + (r : ℕ) + 32 = 31 + (r : ℕ) + 1; omega) rfl (by decide))
      (fun r => read_above _ _ _ pay5_zero' _ _ _ _ _ 0 _ rfl rfl (by decide))
      (fun r => read_below _ _ _ pay5_zero _ _ _ _ _ 1 _ (by show 256 + (r : ℕ) + 32 = 287 + (r : ℕ) + 1; omega) rfl (by decide))
      (fun r => read_above _ _ _ pay5_zero' _ _ _ _ _ 0 _ rfl rfl (by decide))
      (fun r => read_below _ _ _ pay5_zero _ _ _ _ _ 1 _ (by show 512 + (r : ℕ) + 32 = 543 + (r : ℕ) + 1; omega) rfl (by decide))
      (fun r => read_above _ _ _ pay5_zero' _ _ _ _ _ 0 _ rfl rfl (by decide))
      (fun r => read_below _ _ _ pay5_zero _ _ _ _ _ 1 _ (by show 768 + (r : ℕ) + 32 = 799 + (r : ℕ) + 1; omega) rfl (by decide))
      (fun r => read_above _ _ _ pay5_zero' _ _ _ _ _ 0 _ rfl rfl (by decide))
      (fun r => read_below _ _ _ pay5_zero _ _ _ _ _ 1 _ (by show 1024 + (r : ℕ) + 32 = 1055 + (r : ℕ) + 1; omega) rfl (by decide))
      (fun r => read_above _ _ _ pay5_zero' _ _ _ _ _ 0 _ rfl rfl (by decide))
      (fun r => read_below _ _ _ pay5_zero _ _ _ _ _ 1 _ (by show 1280 + (r : ℕ) + 32 = 1311 + (r : ℕ) + 1; omega) rfl (by decide))
      (fun r => read_above _ _ _ pay5_zero' _ _ _ _ _ 0 _ rfl rfl (by decide))
      (fun r => read_below _ _ _ pay5_zero _ _ _ _ _ 1 _ (by show 1536 + (r : ℕ) + 32 = 1567 + (r : ℕ) + 1; omega) rfl (by decide))
      (fun r => read_above _ _ _ pay5_zero' _ _ _ _ _ 0 _ rfl rfl (by decide))
      (fun r => read_below _ _ _ pay5_zero _ _ _ _ _ 1 _ (by show 1792 + (r : ℕ) + 32 = 1823 + (r : ℕ) + 1; omega) rfl (by decide))).trans ?_
    · exact tap_sum _ _ _ _ _ (by rfl) (Fin.ext (idx_unit 3 128 _ _ _ _).2)
  · refine (dtap_apply (lead 0 (had x0 x1)) (lag 2 (had x2 x3)) c' _ _ _ _ _ _ _ _ _ _ _ _ _ _ _ _
      (fun r => read_above _ _ _ pay5_zero' _ _ _ _ _ 0 _ rfl rfl (by decide))
      (fun r => read_below _ _ _ pay5_zero _ _ _ _ _ 2 _ (by show 0 + (r : ℕ) + 32 = 30 + (r : ℕ) + 2; omega) rfl (by decide))
      (fun r => read_above _ _ _ pay5_zero' _ _ _ _ _ 0 _ rfl rfl (by decide))
      (fun r => read_below _ _ _ pay5_zero _ _ _ _ _ 2 _ (by show 256 + (r : ℕ) + 32 = 286 + (r : ℕ) + 2; omega) rfl (by decide))
      (fun r => read_above _ _ _ pay5_zero' _ _ _ _ _ 0 _ rfl rfl (by decide))
      (fun r => read_below _ _ _ pay5_zero _ _ _ _ _ 2 _ (by show 512 + (r : ℕ) + 32 = 542 + (r : ℕ) + 2; omega) rfl (by decide))
      (fun r => read_above _ _ _ pay5_zero' _ _ _ _ _ 0 _ rfl rfl (by decide))
      (fun r => read_below _ _ _ pay5_zero _ _ _ _ _ 2 _ (by show 768 + (r : ℕ) + 32 = 798 + (r : ℕ) + 2; omega) rfl (by decide))
      (fun r => read_above _ _ _ pay5_zero' _ _ _ _ _ 0 _ rfl rfl (by decide))
      (fun r => read_below _ _ _ pay5_zero _ _ _ _ _ 2 _ (by show 1024 + (r : ℕ) + 32 = 1054 + (r : ℕ) + 2; omega) rfl (by decide))
      (fun r => read_above _ _ _ pay5_zero' _ _ _ _ _ 0 _ rfl rfl (by decide))
      (fun r => read_below _ _ _ pay5_zero _ _ _ _ _ 2 _ (by show 1280 + (r : ℕ) + 32 = 1310 + (r : ℕ) + 2; omega) rfl (by decide))
      (fun r => read_above _ _ _ pay5_zero' _ _ _ _ _ 0 _ rfl rfl (by decide))
      (fun r => read_below _ _ _ pay5_zero _ _ _ _ _ 2 _ (by show 1536 + (r : ℕ) + 32 = 1566 + (r : ℕ) + 2; omega) rfl (by decide))
      (fun r => read_above _ _ _ pay5_zero' _ _ _ _ _ 0 _ rfl rfl (by decide))
      (fun r => read_below _ _ _ pay5_zero _ _ _ _ _ 2 _ (by show 1792 + (r : ℕ) + 32 = 1822 + (r : ℕ) + 2; omega) rfl (by decide))).trans ?_
    · exact tap_sum _ _ _ _ _ (by rfl) (Fin.ext (idx_unit 3 128 _ _ _ _).2)

end

end Cert.ScIdeal.Gate
-- ==== Proof.ScArrays.lean ====
/-
  THE SHORT-CONVOLUTION MIXER'S KERNELS AS WHOLE-ARRAY FUNCTIONS. The program has eight kernel regions. Six are products,
  each a grid of blocks with the contraction whole at every point; two work through blocks of 128 columns, the gated
  convolution and its gradient, whose bodies `ScGate` puts in closed form. For region `K`, at any contents `V` the region is
  entered with:

    `ixK_w`      the block index of window `w` at point `t`, decided over the grid;
    `payK`       what a product's body stores, as a function of the blocks it loads;
    `flushedK`   what point `t` writes back is block `t` of the region's function (`ScMath`);
    `coverK`     the blocks tile the result array;
    `finalK`     so the array ends holding the function.
-/
module

public import proofs.«01_k».proof.Proof.ScMath
public import proofs.«01_k».proof.Proof.ScGate
public import proofs.«01_k».proof.Proof.Gen.ScIdeal.Frame
public import Idealize.ShloMosaic.Lib.Pipeline.Value

@[expose] public section

set_option maxRecDepth 16384

noncomputable section

namespace Cert.ScIdeal.Arrays

open Cert.ScIdeal Cert.ScIdeal.Gen Cert.Products Cert.Blocks Cert.Conv Cert.ScMath
open Idealize.ShloMosaic Idealize.ShloMosaic.TcCoe Idealize.ShloMosaic.ValueIdx Idealize.SL.Sem
open Idealize.ShloMosaic.Pipeline (Dat Window)

variable (V : (c : Dev nD) → (b : Ref sig .tc) → Buf (Elt Ideal) ((c : Thread nD τ).loc b)) (c : Dev nD)

/-! ## Region 0: the input projection -/

theorem ix0_0 : ∀ t : Fin grid0.N, win0_0.index t 0 = 0 ∧ win0_0.index t 1 = 0 := by decide +kernel
theorem ix0_1 : ∀ t : Fin grid0.N, win0_1.index t 0 = 0 ∧ win0_1.index t 1 = t.val := by decide +kernel
theorem ix0_2 : ∀ t : Fin grid0.N, win0_2.index t 0 = 0 ∧ win0_2.index t 1 = t.val := by decide +kernel

/-- What the body stores, from the blocks it loads. -/
theorem pay0 (x : FVec Ideal S2048x1024 .f32) (y : FVec Ideal S1024x512 .bf16) (j : S2048x512.Idx) :
    k0_pay1 (F := Ideal) x y j = mmNN x y j := by
  have h : matmul dot_S2048x1024_S1024x512_S2048x512_1_0_0_1_n_n none (truncf .bf16 x bitsLt_bf16_f32 : FVec Ideal S2048x1024 .bf16) y (constant S2048x512 .f32 0x00000000#32) = mmNN x y :=
    matmul_NN _ rfl none (truncf .bf16 x bitsLt_bf16_f32 : FVec Ideal S2048x1024 .bf16) y
  unfold k0_pay1
  rw [h]

/-- What point `t` writes back is its block of the region's function. -/
theorem flushed0 (t : Fin cfg0.N) :
    (dat0 V c).flushed 2 t = (win0_2.blk t).view.read (Elt Ideal) (mmNN (V c main_arg0) (V c main_arg2)) := by
  show (cfg0.win 2).cut (grid0.coords t) ((dat0 V c).after 2 t) = _
  rw [after0_2]
  unfold out0_2
  rw [View.canon_unit_zero hz, View.ld_unit_zero hz, View.ld_unit_zero hz]
  funext j
  show k0_pay1 (F := Ideal) (iblk0 V c 0 t) (iblk0 V c 1 t) j = (mmNN (V c main_arg0) (V c main_arg2)) ((win0_2.rect t).emb j)
  rw [pay0]
  have h0 := ix0_0 t
  have h1 := ix0_1 t
  have h2 := ix0_2 t
  have e : mmNN (iblk0 V c 0 t) (iblk0 V c 1 t) j = mmNN (V c main_arg0) (V c main_arg2) ((win0_2.rect t).emb j) := by
    refine mmNN_block _ _ _ _ j _ (fun k => congrArg (V c main_arg0) (Shape.idx_ext₂ ?_ ?_))
      (fun k => congrArg (V c main_arg2) (Shape.idx_ext₂ ?_ ?_))
    · exact (emb_val win0_0 t _ 0 _ 2048 h0.1 rfl rfl).trans (emb_val win0_2 t j 0 _ 2048 h2.1 rfl rfl).symm
    · exact (emb_val win0_0 t _ 1 _ 1024 h0.2 rfl rfl).trans (by show 0 * 1024 + k.val = k.val; omega)
    · exact (emb_val win0_1 t _ 0 _ 1024 h1.1 rfl rfl).trans (by show 0 * 1024 + k.val = k.val; omega)
    · exact (emb_val win0_1 t _ 1 _ 512 h1.2 rfl rfl).trans (emb_val win0_2 t j 1 _ 512 h2.2 rfl rfl).symm
  rw [e]

/-- The blocks tile the result. -/
theorem cover0 (i : S2048x3072.Idx) :
    ∃ t : Fin cfg0.N, (cfg0.win 2).flush t = true ∧ i ∈ ((cfg0.win 2).blk t).view.set := by
  have b0 : (i 0 : ℕ) < 2048 := (i 0).isLt
  have b1 : (i 1 : ℕ) < 3072 := (i 1).isLt
  have hN : cfg0.N = 6 := N_0
  have ht : (i 1 : ℕ) / 512 < cfg0.N := by omega
  have h := ix0_2 ⟨(i 1 : ℕ) / 512, ht⟩
  refine ⟨⟨(i 1 : ℕ) / 512, ht⟩, flush0_2 _, ?_⟩
  show i ∈ ((View.whole main_v0).slice (win0_2.rect ⟨(i 1 : ℕ) / 512, ht⟩)).set
  rw [View.set_slice_whole]
  refine mem_unit2 _ _ _ i ?_ ?_
  · show win0_2.index ⟨_, ht⟩ 0 * 2048 ≤ (i 0 : ℕ) ∧ (i 0 : ℕ) < win0_2.index ⟨_, ht⟩ 0 * 2048 + 2048
    rw [h.1]; dsimp only; omega
  · show win0_2.index ⟨_, ht⟩ 1 * 512 ≤ (i 1 : ℕ) ∧ (i 1 : ℕ) < win0_2.index ⟨_, ht⟩ 1 * 512 + 512
    rw [h.2]; dsimp only; omega

/-- The result array after the region. -/
theorem final0 : (dat0 V c).arrAt 2 cfg0.N = mmNN (V c main_arg0) (V c main_arg2) :=
  (dat0 V c).arrAt_eq_of_cover 2 (mmNN (V c main_arg0) (V c main_arg2)) (fun t _ => flushed0 V c t) cover0

/-! ## Region 1: the gated convolution -/

theorem ix1_0 : ∀ t : Fin grid1.N, win1_0.index t 0 = 0 ∧ win1_0.index t 1 = t.val := by decide +kernel
theorem ix1_1 : ∀ t : Fin grid1.N, win1_1.index t 0 = 0 ∧ win1_1.index t 1 = 8 + t.val := by decide +kernel
theorem ix1_2 : ∀ t : Fin grid1.N, win1_2.index t 0 = 0 ∧ win1_2.index t 1 = 16 + t.val := by decide +kernel
theorem ix1_3 : ∀ t : Fin grid1.N, win1_3.index t 0 = 0 ∧ win1_3.index t 1 = t.val := by decide +kernel
theorem ix1_4 : ∀ t : Fin grid1.N, win1_4.index t 0 = 0 ∧ win1_4.index t 1 = t.val := by decide +kernel

/-- The array column of column `q` of block `t`. -/
def col1 (t : Fin cfg1.N) (q : Fin 128) : Fin 1024 := ⟨t.val * 128 + q.val, by
  have h : t.val < 8 := lt_of_lt_of_eq t.isLt N_1
  omega⟩

/-- What point `t` writes back is its block of the region's function. -/
theorem flushed1_4 (t : Fin cfg1.N) :
    (dat1 V c).flushed 4 t = (win1_4.blk t).view.read (Elt Ideal) (gateF (V c main_v0) (V c main_arg3)) := by
  show (cfg1.win 4).cut (grid1.coords t) ((dat1 V c).after 4 t) = _
  rw [after1_4]
  unfold outsAt1
  rw [Gate.gate]
  funext j
  obtain ⟨r, q, rfl⟩ : ∃ (r : Fin 2048) (q : Fin 128), j = ix2 r q := ⟨_, _, eq_ix2 j⟩
  show (mul (iblk1 V c 0 t : Mat 2048 128) (causal (iblk1 V c 3 t : Mat 3 128) (Gate.had (iblk1 V c 1 t : Mat 2048 128) (iblk1 V c 2 t : Mat 2048 128)))) (ix2 r q) = (gateF (V c main_v0) (V c main_arg3)) ((win1_4.rect t).emb (ix2 r q))
  have eJ : (win1_4.rect t).emb (ix2 r q) = ix2 r (col1 t q) := Shape.idx_ext₂
    ((emb_val win1_4 t (ix2 r q) 0 _ 2048 (ix1_4 t).1 rfl rfl).trans (by show 0 * 2048 + r.val = r.val; omega))
    (emb_val win1_4 t (ix2 r q) 1 _ 128 (ix1_4 t).2 rfl rfl)
  have eb : ∀ r : Fin 2048, iblk1 V c 0 t (ix2 r q) = bOf (V c main_v0) (ix2 r (col1 t q)) := fun r =>
    congrArg (V c main_v0) (Shape.idx_ext₂
      ((emb_val win1_0 t (ix2 r q) 0 _ 2048 (ix1_0 t).1 rfl rfl).trans (by show 0 * 2048 + r.val = r.val; omega))
      ((emb_val win1_0 t (ix2 r q) 1 _ 128 (ix1_0 t).2 rfl rfl).trans (by
        show t.val * 128 + q.val = 0 + (t.val * 128 + q.val); omega)))
  have ec : ∀ r : Fin 2048, iblk1 V c 1 t (ix2 r q) = cOf (V c main_v0) (ix2 r (col1 t q)) := fun r =>
    congrArg (V c main_v0) (Shape.idx_ext₂
      ((emb_val win1_1 t (ix2 r q) 0 _ 2048 (ix1_1 t).1 rfl rfl).trans (by show 0 * 2048 + r.val = r.val; omega))
      ((emb_val win1_1 t (ix2 r q) 1 _ 128 (ix1_1 t).2 rfl rfl).trans (by
        show (8 + t.val) * 128 + q.val = 1024 + (t.val * 128 + q.val); omega)))
  have eh : ∀ r : Fin 2048, iblk1 V c 2 t (ix2 r q) = hOf (V c main_v0) (ix2 r (col1 t q)) := fun r =>
    congrArg (V c main_v0) (Shape.idx_ext₂
      ((emb_val win1_2 t (ix2 r q) 0 _ 2048 (ix1_2 t).1 rfl rfl).trans (by show 0 * 2048 + r.val = r.val; omega))
      ((emb_val win1_2 t (ix2 r q) 1 _ 128 (ix1_2 t).2 rfl rfl).trans (by
        show (16 + t.val) * 128 + q.val = 2048 + (t.val * 128 + q.val); omega)))
  have ew : ∀ r : Fin 3, iblk1 V c 3 t (ix2 r q) = (V c main_arg3) (ix2 r (col1 t q)) := fun r =>
    congrArg (V c main_arg3) (Shape.idx_ext₂
      ((emb_val win1_3 t (ix2 r q) 0 _ 3 (ix1_3 t).1 rfl rfl).trans (by show 0 * 3 + r.val = r.val; omega))
      ((emb_val win1_3 t (ix2 r q) 1 _ 128 (ix1_3 t).2 rfl rfl).trans (by
        show t.val * 128 + q.val = t.val * 128 + q.val; omega)))
  rw [eJ]
  exact congrArg₂ (fun a b : EReal => a * b) (eb r) (causal_block _ _ _ _ q (col1 t q) ew (fun r => congrArg₂ (fun a b : EReal => a * b) (ec r) (eh r)) r)

/-- The blocks tile the result. -/
theorem cover1_4 (i : S2048x1024.Idx) :
    ∃ t : Fin cfg1.N, (cfg1.win 4).flush t = true ∧ i ∈ ((cfg1.win 4).blk t).view.set := by
  have b0 : (i 0 : ℕ) < 2048 := (i 0).isLt
  have b1 : (i 1 : ℕ) < 1024 := (i 1).isLt
  have hN : cfg1.N = 8 := N_1
  have ht : (i 1 : ℕ) / 128 < cfg1.N := by omega
  have h := ix1_4 ⟨(i 1 : ℕ) / 128, ht⟩
  refine ⟨⟨(i 1 : ℕ) / 128, ht⟩, flush1_4 _, ?_⟩
  show i ∈ ((View.whole main_v1).slice (win1_4.rect ⟨(i 1 : ℕ) / 128, ht⟩)).set
  rw [View.set_slice_whole]
  refine mem_unit2 _ _ _ i ?_ ?_
  · show win1_4.index ⟨_, ht⟩ 0 * 2048 ≤ (i 0 : ℕ) ∧ (i 0 : ℕ) < win1_4.index ⟨_, ht⟩ 0 * 2048 + 2048
    rw [h.1]; omega
  · show win1_4.index ⟨_, ht⟩ 1 * 128 ≤ (i 1 : ℕ) ∧ (i 1 : ℕ) < win1_4.index ⟨_, ht⟩ 1 * 128 + 128
    rw [h.2]; dsimp only; omega

/-- The result array after the region. -/
theorem final1_4 : (dat1 V c).arrAt 4 cfg1.N = gateF (V c main_v0) (V c main_arg3) :=
  (dat1 V c).arrAt_eq_of_cover 4 (gateF (V c main_v0) (V c main_arg3)) (fun t _ => flushed1_4 V c t) cover1_4

/-! ## Region 2: the output projection -/

theorem ix2_0 : ∀ t : Fin grid2.N, win2_0.index t 0 = 0 ∧ win2_0.index t 1 = 0 := by decide +kernel
theorem ix2_1 : ∀ t : Fin grid2.N, win2_1.index t 0 = 0 ∧ win2_1.index t 1 = 0 := by decide +kernel
theorem ix2_2 : ∀ t : Fin grid2.N, win2_2.index t 0 = 0 ∧ win2_2.index t 1 = 0 := by decide +kernel

/-- What the body stores, from the blocks it loads. -/
theorem pay2 (x : FVec Ideal S2048x1024 .bf16) (y : FVec Ideal S1024x1024 .bf16) (j : S2048x1024.Idx) :
    k2_pay1 (F := Ideal) x y j = mmNN x y j := by
  have h : matmul dot_S2048x1024_S1024x1024_S2048x1024_1_0_0_1_n_n none x y (constant S2048x1024 .f32 0x00000000#32) = mmNN x y :=
    matmul_NN _ rfl none x y
  unfold k2_pay1
  rw [shapeCast_self, h]

/-- What point `t` writes back is its block of the region's function. -/
theorem flushed2 (t : Fin cfg2.N) :
    (dat2 V c).flushed 2 t = (win2_2.blk t).view.read (Elt Ideal) (mmNN (V c main_v1) (V c main_arg4)) := by
  show (cfg2.win 2).cut (grid2.coords t) ((dat2 V c).after 2 t) = _
  rw [after2_2]
  unfold out2_2
  rw [View.canon_unit_zero hz, View.ld_unit_zero hz, View.ld_unit_zero hz]
  funext j
  show k2_pay1 (F := Ideal) (iblk2 V c 0 t) (iblk2 V c 1 t) j = (mmNN (V c main_v1) (V c main_arg4)) ((win2_2.rect t).emb j)
  rw [pay2]
  have h0 := ix2_0 t
  have h1 := ix2_1 t
  have h2 := ix2_2 t
  have e : mmNN (iblk2 V c 0 t) (iblk2 V c 1 t) j = mmNN (V c main_v1) (V c main_arg4) ((win2_2.rect t).emb j) := by
    refine mmNN_block _ _ _ _ j _ (fun k => congrArg (V c main_v1) (Shape.idx_ext₂ ?_ ?_))
      (fun k => congrArg (V c main_arg4) (Shape.idx_ext₂ ?_ ?_))
    · exact (emb_val win2_0 t _ 0 _ 2048 h0.1 rfl rfl).trans (emb_val win2_2 t j 0 _ 2048 h2.1 rfl rfl).symm
    · exact (emb_val win2_0 t _ 1 _ 1024 h0.2 rfl rfl).trans (by show 0 * 1024 + k.val = k.val; omega)
    · exact (emb_val win2_1 t _ 0 _ 1024 h1.1 rfl rfl).trans (by show 0 * 1024 + k.val = k.val; omega)
    · exact (emb_val win2_1 t _ 1 _ 1024 h1.2 rfl rfl).trans (emb_val win2_2 t j 1 _ 1024 h2.2 rfl rfl).symm
  rw [e]

/-- The blocks tile the result. -/
theorem cover2 (i : S2048x1024.Idx) :
    ∃ t : Fin cfg2.N, (cfg2.win 2).flush t = true ∧ i ∈ ((cfg2.win 2).blk t).view.set := by
  have b0 : (i 0 : ℕ) < 2048 := (i 0).isLt
  have b1 : (i 1 : ℕ) < 1024 := (i 1).isLt
  have hN : cfg2.N = 1 := N_2
  have ht : 0 < cfg2.N := by omega
  have h := ix2_2 ⟨0, ht⟩
  refine ⟨⟨0, ht⟩, flush2_2 _, ?_⟩
  show i ∈ ((View.whole main_v2).slice (win2_2.rect ⟨0, ht⟩)).set
  rw [View.set_slice_whole]
  refine mem_unit2 _ _ _ i ?_ ?_
  · show win2_2.index ⟨_, ht⟩ 0 * 2048 ≤ (i 0 : ℕ) ∧ (i 0 : ℕ) < win2_2.index ⟨_, ht⟩ 0 * 2048 + 2048
    rw [h.1]; dsimp only; omega
  · show win2_2.index ⟨_, ht⟩ 1 * 1024 ≤ (i 1 : ℕ) ∧ (i 1 : ℕ) < win2_2.index ⟨_, ht⟩ 1 * 1024 + 1024
    rw [h.2]; dsimp only; omega

/-- The result array after the region. -/
theorem final2 : (dat2 V c).arrAt 2 cfg2.N = mmNN (V c main_v1) (V c main_arg4) :=
  (dat2 V c).arrAt_eq_of_cover 2 (mmNN (V c main_v1) (V c main_arg4)) (fun t _ => flushed2 V c t) cover2

/-! ## Region 3: the gradient of the output projection -/

theorem ix3_0 : ∀ t : Fin grid3.N, win3_0.index t 0 = 0 ∧ win3_0.index t 1 = 0 := by decide +kernel
theorem ix3_1 : ∀ t : Fin grid3.N, win3_1.index t 0 = 0 ∧ win3_1.index t 1 = 0 := by decide +kernel
theorem ix3_2 : ∀ t : Fin grid3.N, win3_2.index t 0 = 0 ∧ win3_2.index t 1 = 0 := by decide +kernel

/-- What the body stores, from the blocks it loads. -/
theorem pay3 (x : FVec Ideal S2048x1024 .bf16) (y : FVec Ideal S2048x1024 .bf16) (j : S1024x1024.Idx) :
    k3_pay1 (F := Ideal) x y j = mmTN x y j := by
  have h : matmul dot_S2048x1024_S2048x1024_S1024x1024_0_0_1_1_n_n none x y (constant S1024x1024 .f32 0x00000000#32) = mmTN x y :=
    matmul_TN _ rfl none x y
  unfold k3_pay1
  rw [shapeCast_self, h]
  rfl

/-- What point `t` writes back is its block of the region's function. -/
theorem flushed3 (t : Fin cfg3.N) :
    (dat3 V c).flushed 2 t = (win3_2.blk t).view.read (Elt Ideal) (mmTN (V c main_v1) (V c main_arg1)) := by
  show (cfg3.win 2).cut (grid3.coords t) ((dat3 V c).after 2 t) = _
  rw [after3_2]
  unfold out3_2
  rw [View.canon_unit_zero hz, View.ld_unit_zero hz, View.ld_unit_zero hz]
  funext j
  show k3_pay1 (F := Ideal) (iblk3 V c 0 t) (iblk3 V c 1 t) j = (mmTN (V c main_v1) (V c main_arg1)) ((win3_2.rect t).emb j)
  rw [pay3]
  have h0 := ix3_0 t
  have h1 := ix3_1 t
  have h2 := ix3_2 t
  have e : mmTN (iblk3 V c 0 t) (iblk3 V c 1 t) j = mmTN (V c main_v1) (V c main_arg1) ((win3_2.rect t).emb j) := by
    refine mmTN_block _ _ _ _ j _ (fun k => congrArg (V c main_v1) (Shape.idx_ext₂ ?_ ?_))
      (fun k => congrArg (V c main_arg1) (Shape.idx_ext₂ ?_ ?_))
    · exact (emb_val win3_0 t _ 0 _ 2048 h0.1 rfl rfl).trans (by show 0 * 2048 + k.val = k.val; omega)
    · exact (emb_val win3_0 t _ 1 _ 1024 h0.2 rfl rfl).trans (emb_val win3_2 t j 0 _ 1024 h2.1 rfl rfl).symm
    · exact (emb_val win3_1 t _ 0 _ 2048 h1.1 rfl rfl).trans (by show 0 * 2048 + k.val = k.val; omega)
    · exact (emb_val win3_1 t _ 1 _ 1024 h1.2 rfl rfl).trans (emb_val win3_2 t j 1 _ 1024 h2.2 rfl rfl).symm
  rw [e]

/-- The blocks tile the result. -/
theorem cover3 (i : S1024x1024.Idx) :
    ∃ t : Fin cfg3.N, (cfg3.win 2).flush t = true ∧ i ∈ ((cfg3.win 2).blk t).view.set := by
  have b0 : (i 0 : ℕ) < 1024 := (i 0).isLt
  have b1 : (i 1 : ℕ) < 1024 := (i 1).isLt
  have hN : cfg3.N = 1 := N_3
  have ht : 0 < cfg3.N := by omega
  have h := ix3_2 ⟨0, ht⟩
  refine ⟨⟨0, ht⟩, flush3_2 _, ?_⟩
  show i ∈ ((View.whole main_v3).slice (win3_2.rect ⟨0, ht⟩)).set
  rw [View.set_slice_whole]
  refine mem_unit2 _ _ _ i ?_ ?_
  · show win3_2.index ⟨_, ht⟩ 0 * 1024 ≤ (i 0 : ℕ) ∧ (i 0 : ℕ) < win3_2.index ⟨_, ht⟩ 0 * 1024 + 1024
    rw [h.1]; dsimp only; omega
  · show win3_2.index ⟨_, ht⟩ 1 * 1024 ≤ (i 1 : ℕ) ∧ (i 1 : ℕ) < win3_2.index ⟨_, ht⟩ 1 * 1024 + 1024
    rw [h.2]; dsimp only; omega

/-- The result array after the region. -/
theorem final3 : (dat3 V c).arrAt 2 cfg3.N = mmTN (V c main_v1) (V c main_arg1) :=
  (dat3 V c).arrAt_eq_of_cover 2 (mmTN (V c main_v1) (V c main_arg1)) (fun t _ => flushed3 V c t) cover3

/-! ## Region 4: the gradient of the gated rows -/

theorem ix4_0 : ∀ t : Fin grid4.N, win4_0.index t 0 = 0 ∧ win4_0.index t 1 = 0 := by decide +kernel
theorem ix4_1 : ∀ t : Fin grid4.N, win4_1.index t 0 = 0 ∧ win4_1.index t 1 = 0 := by decide +kernel
theorem ix4_2 : ∀ t : Fin grid4.N, win4_2.index t 0 = 0 ∧ win4_2.index t 1 = 0 := by decide +kernel

/-- What the body stores, from the blocks it loads. -/
theorem pay4 (x : FVec Ideal S2048x1024 .bf16) (y : FVec Ideal S1024x1024 .bf16) (j : S2048x1024.Idx) :
    k4_pay1 (F := Ideal) x y j = mmNT x y j := by
  have h : matmul dot_S2048x1024_S1024x1024_S2048x1024_1_1_0_0_n_n none x y (constant S2048x1024 .f32 0x00000000#32) = mmNT x y :=
    matmul_NT _ rfl none x y
  unfold k4_pay1
  rw [h]

/-- What point `t` writes back is its block of the region's function. -/
theorem flushed4 (t : Fin cfg4.N) :
    (dat4 V c).flushed 2 t = (win4_2.blk t).view.read (Elt Ideal) (mmNT (V c main_arg1) (V c main_arg4)) := by
  show (cfg4.win 2).cut (grid4.coords t) ((dat4 V c).after 2 t) = _
  rw [after4_2]
  unfold out4_2
  rw [View.canon_unit_zero hz, View.ld_unit_zero hz, View.ld_unit_zero hz]
  funext j
  show k4_pay1 (F := Ideal) (iblk4 V c 0 t) (iblk4 V c 1 t) j = (mmNT (V c main_arg1) (V c main_arg4)) ((win4_2.rect t).emb j)
  rw [pay4]
  have h0 := ix4_0 t
  have h1 := ix4_1 t
  have h2 := ix4_2 t
  have e : mmNT (iblk4 V c 0 t) (iblk4 V c 1 t) j = mmNT (V c main_arg1) (V c main_arg4) ((win4_2.rect t).emb j) := by
    refine mmNT_block _ _ _ _ j _ (fun k => congrArg (V c main_arg1) (Shape.idx_ext₂ ?_ ?_))
      (fun k => congrArg (V c main_arg4) (Shape.idx_ext₂ ?_ ?_))
    · exact (emb_val win4_0 t _ 0 _ 2048 h0.1 rfl rfl).trans (emb_val win4_2 t j 0 _ 2048 h2.1 rfl rfl).symm
    · exact (emb_val win4_0 t _ 1 _ 1024 h0.2 rfl rfl).trans (by show 0 * 1024 + k.val = k.val; omega)
    · exact (emb_val win4_1 t _ 0 _ 1024 h1.1 rfl rfl).trans (emb_val win4_2 t j 1 _ 1024 h2.2 rfl rfl).symm
    · exact (emb_val win4_1 t _ 1 _ 1024 h1.2 rfl rfl).trans (by show 0 * 1024 + k.val = k.val; omega)
  rw [e]

/-- The blocks tile the result. -/
theorem cover4 (i : S2048x1024.Idx) :
    ∃ t : Fin cfg4.N, (cfg4.win 2).flush t = true ∧ i ∈ ((cfg4.win 2).blk t).view.set := by
  have b0 : (i 0 : ℕ) < 2048 := (i 0).isLt
  have b1 : (i 1 : ℕ) < 1024 := (i 1).isLt
  have hN : cfg4.N = 1 := N_4
  have ht : 0 < cfg4.N := by omega
  have h := ix4_2 ⟨0, ht⟩
  refine ⟨⟨0, ht⟩, flush4_2 _, ?_⟩
  show i ∈ ((View.whole main_v4).slice (win4_2.rect ⟨0, ht⟩)).set
  rw [View.set_slice_whole]
  refine mem_unit2 _ _ _ i ?_ ?_
  · show win4_2.index ⟨_, ht⟩ 0 * 2048 ≤ (i 0 : ℕ) ∧ (i 0 : ℕ) < win4_2.index ⟨_, ht⟩ 0 * 2048 + 2048
    rw [h.1]; dsimp only; omega
  · show win4_2.index ⟨_, ht⟩ 1 * 1024 ≤ (i 1 : ℕ) ∧ (i 1 : ℕ) < win4_2.index ⟨_, ht⟩ 1 * 1024 + 1024
    rw [h.2]; dsimp only; omega

/-- The result array after the region. -/
theorem final4 : (dat4 V c).arrAt 2 cfg4.N = mmNT (V c main_arg1) (V c main_arg4) :=
  (dat4 V c).arrAt_eq_of_cover 2 (mmNT (V c main_arg1) (V c main_arg4)) (fun t _ => flushed4 V c t) cover4

/-! ## Region 5: the gradient of the gated convolution -/

theorem ix5_0 : ∀ t : Fin grid5.N, win5_0.index t 0 = 0 ∧ win5_0.index t 1 = t.val := by decide +kernel
theorem ix5_1 : ∀ t : Fin grid5.N, win5_1.index t 0 = 0 ∧ win5_1.index t 1 = t.val := by decide +kernel
theorem ix5_2 : ∀ t : Fin grid5.N, win5_2.index t 0 = 0 ∧ win5_2.index t 1 = 8 + t.val := by decide +kernel
theorem ix5_3 : ∀ t : Fin grid5.N, win5_3.index t 0 = 0 ∧ win5_3.index t 1 = 16 + t.val := by decide +kernel
theorem ix5_4 : ∀ t : Fin grid5.N, win5_4.index t 0 = 0 ∧ win5_4.index t 1 = t.val := by decide +kernel
theorem ix5_5 : ∀ t : Fin grid5.N, win5_5.index t 0 = 0 ∧ win5_5.index t 1 = t.val := by decide +kernel
theorem ix5_6 : ∀ t : Fin grid5.N, win5_6.index t 0 = 0 ∧ win5_6.index t 1 = t.val := by decide +kernel
theorem ix5_7 : ∀ t : Fin grid5.N, win5_7.index t 0 = 0 ∧ win5_7.index t 1 = t.val := by decide +kernel
theorem ix5_8 : ∀ t : Fin grid5.N, win5_8.index t 0 = 0 ∧ win5_8.index t 1 = t.val := by decide +kernel

/-- The array column of column `q` of block `t`. -/
def col5 (t : Fin cfg5.N) (q : Fin 128) : Fin 1024 := ⟨t.val * 128 + q.val, by
  have h : t.val < 8 := lt_of_lt_of_eq t.isLt N_5
  omega⟩

/-- What point `t` writes back is its block of the region's function. -/
theorem flushed5_5 (t : Fin cfg5.N) :
    (dat5 V c).flushed 5 t = (win5_5.blk t).view.read (Elt Ideal) (dbF (V c main_v4) (V c main_v0) (V c main_arg3)) := by
  show (cfg5.win 5).cut (grid5.coords t) ((dat5 V c).after 5 t) = _
  rw [after5_5]
  unfold outsAt5
  dsimp only
  rw [Gate.dgate_b]
  funext j
  obtain ⟨r, q, rfl⟩ : ∃ (r : Fin 2048) (q : Fin 128), j = ix2 r q := ⟨_, _, eq_ix2 j⟩
  show (mul (iblk5 V c 0 t : Mat 2048 128) (causal (iblk5 V c 4 t : Mat 3 128) (Gate.had (iblk5 V c 2 t : Mat 2048 128) (iblk5 V c 3 t : Mat 2048 128)))) (ix2 r q) = (dbF (V c main_v4) (V c main_v0) (V c main_arg3)) ((win5_5.rect t).emb (ix2 r q))
  have eJ : (win5_5.rect t).emb (ix2 r q) = ix2 r (col5 t q) := Shape.idx_ext₂
    ((emb_val win5_5 t (ix2 r q) 0 _ 2048 (ix5_5 t).1 rfl rfl).trans (by show 0 * 2048 + r.val = r.val; omega))
    (emb_val win5_5 t (ix2 r q) 1 _ 128 (ix5_5 t).2 rfl rfl)
  have ed : ∀ r : Fin 2048, iblk5 V c 0 t (ix2 r q) = (V c main_v4) (ix2 r (col5 t q)) := fun r =>
    congrArg (V c main_v4) (Shape.idx_ext₂
      ((emb_val win5_0 t (ix2 r q) 0 _ 2048 (ix5_0 t).1 rfl rfl).trans (by show 0 * 2048 + r.val = r.val; omega))
      ((emb_val win5_0 t (ix2 r q) 1 _ 128 (ix5_0 t).2 rfl rfl).trans (by
        show t.val * 128 + q.val = t.val * 128 + q.val; omega)))
  have ec : ∀ r : Fin 2048, iblk5 V c 2 t (ix2 r q) = cOf (V c main_v0) (ix2 r (col5 t q)) := fun r =>
    congrArg (V c main_v0) (Shape.idx_ext₂
      ((emb_val win5_2 t (ix2 r q) 0 _ 2048 (ix5_2 t).1 rfl rfl).trans (by show 0 * 2048 + r.val = r.val; omega))
      ((emb_val win5_2 t (ix2 r q) 1 _ 128 (ix5_2 t).2 rfl rfl).trans (by
        show (8 + t.val) * 128 + q.val = 1024 + (t.val * 128 + q.val); omega)))
  have eh : ∀ r : Fin 2048, iblk5 V c 3 t (ix2 r q) = hOf (V c main_v0) (ix2 r (col5 t q)) := fun r =>
    congrArg (V c main_v0) (Shape.idx_ext₂
      ((emb_val win5_3 t (ix2 r q) 0 _ 2048 (ix5_3 t).1 rfl rfl).trans (by show 0 * 2048 + r.val = r.val; omega))
      ((emb_val win5_3 t (ix2 r q) 1 _ 128 (ix5_3 t).2 rfl rfl).trans (by
        show (16 + t.val) * 128 + q.val = 2048 + (t.val * 128 + q.val); omega)))
  have ew : ∀ r : Fin 3, iblk5 V c 4 t (ix2 r q) = (V c main_arg3) (ix2 r (col5 t q)) := fun r =>
    congrArg (V c main_arg3) (Shape.idx_ext₂
      ((emb_val win5_4 t (ix2 r q) 0 _ 3 (ix5_4 t).1 rfl rfl).trans (by show 0 * 3 + r.val = r.val; omega))
      ((emb_val win5_4 t (ix2 r q) 1 _ 128 (ix5_4 t).2 rfl rfl).trans (by
        show t.val * 128 + q.val = t.val * 128 + q.val; omega)))
  rw [eJ]
  exact congrArg₂ (fun a b : EReal => a * b) (ed r) (causal_block _ _ _ _ q (col5 t q) ew (fun r => congrArg₂ (fun a b : EReal => a * b) (ec r) (eh r)) r)

/-- The blocks tile the result. -/
theorem cover5_5 (i : S2048x1024.Idx) :
    ∃ t : Fin cfg5.N, (cfg5.win 5).flush t = true ∧ i ∈ ((cfg5.win 5).blk t).view.set := by
  have b0 : (i 0 : ℕ) < 2048 := (i 0).isLt
  have b1 : (i 1 : ℕ) < 1024 := (i 1).isLt
  have hN : cfg5.N = 8 := N_5
  have ht : (i 1 : ℕ) / 128 < cfg5.N := by omega
  have h := ix5_5 ⟨(i 1 : ℕ) / 128, ht⟩
  refine ⟨⟨(i 1 : ℕ) / 128, ht⟩, flush5_5 _, ?_⟩
  show i ∈ ((View.whole main_v5_0).slice (win5_5.rect ⟨(i 1 : ℕ) / 128, ht⟩)).set
  rw [View.set_slice_whole]
  refine mem_unit2 _ _ _ i ?_ ?_
  · show win5_5.index ⟨_, ht⟩ 0 * 2048 ≤ (i 0 : ℕ) ∧ (i 0 : ℕ) < win5_5.index ⟨_, ht⟩ 0 * 2048 + 2048
    rw [h.1]; omega
  · show win5_5.index ⟨_, ht⟩ 1 * 128 ≤ (i 1 : ℕ) ∧ (i 1 : ℕ) < win5_5.index ⟨_, ht⟩ 1 * 128 + 128
    rw [h.2]; dsimp only; omega

/-- The result array after the region. -/
theorem final5_5 : (dat5 V c).arrAt 5 cfg5.N = dbF (V c main_v4) (V c main_v0) (V c main_arg3) :=
  (dat5 V c).arrAt_eq_of_cover 5 (dbF (V c main_v4) (V c main_v0) (V c main_arg3)) (fun t _ => flushed5_5 V c t) cover5_5

/-- What point `t` writes back is its block of the region's function. -/
theorem flushed5_6 (t : Fin cfg5.N) :
    (dat5 V c).flushed 6 t = (win5_6.blk t).view.read (Elt Ideal) (dcF (V c main_v4) (V c main_v0) (V c main_arg3)) := by
  show (cfg5.win 6).cut (grid5.coords t) ((dat5 V c).after 6 t) = _
  rw [after5_6]
  unfold outsAt5
  dsimp only
  rw [Gate.dgate_c]
  funext j
  obtain ⟨r, q, rfl⟩ : ∃ (r : Fin 2048) (q : Fin 128), j = ix2 r q := ⟨_, _, eq_ix2 j⟩
  show (fun y => anti (iblk5 V c 4 t : Mat 3 128) (Gate.had (iblk5 V c 0 t : Mat 2048 128) (iblk5 V c 1 t : Mat 2048 128)) y * ((iblk5 V c 3 t : Mat 2048 128) y : EReal)) (ix2 r q) = (dcF (V c main_v4) (V c main_v0) (V c main_arg3)) ((win5_6.rect t).emb (ix2 r q))
  have eJ : (win5_6.rect t).emb (ix2 r q) = ix2 r (col5 t q) := Shape.idx_ext₂
    ((emb_val win5_6 t (ix2 r q) 0 _ 2048 (ix5_6 t).1 rfl rfl).trans (by show 0 * 2048 + r.val = r.val; omega))
    (emb_val win5_6 t (ix2 r q) 1 _ 128 (ix5_6 t).2 rfl rfl)
  have ed : ∀ r : Fin 2048, iblk5 V c 0 t (ix2 r q) = (V c main_v4) (ix2 r (col5 t q)) := fun r =>
    congrArg (V c main_v4) (Shape.idx_ext₂
      ((emb_val win5_0 t (ix2 r q) 0 _ 2048 (ix5_0 t).1 rfl rfl).trans (by show 0 * 2048 + r.val = r.val; omega))
      ((emb_val win5_0 t (ix2 r q) 1 _ 128 (ix5_0 t).2 rfl rfl).trans (by
        show t.val * 128 + q.val = t.val * 128 + q.val; omega)))
  have eb : ∀ r : Fin 2048, iblk5 V c 1 t (ix2 r q) = bOf (V c main_v0) (ix2 r (col5 t q)) := fun r =>
    congrArg (V c main_v0) (Shape.idx_ext₂
      ((emb_val win5_1 t (ix2 r q) 0 _ 2048 (ix5_1 t).1 rfl rfl).trans (by show 0 * 2048 + r.val = r.val; omega))
      ((emb_val win5_1 t (ix2 r q) 1 _ 128 (ix5_1 t).2 rfl rfl).trans (by
        show t.val * 128 + q.val = 0 + (t.val * 128 + q.val); omega)))
  have eh : ∀ r : Fin 2048, iblk5 V c 3 t (ix2 r q) = hOf (V c main_v0) (ix2 r (col5 t q)) := fun r =>
    congrArg (V c main_v0) (Shape.idx_ext₂
      ((emb_val win5_3 t (ix2 r q) 0 _ 2048 (ix5_3 t).1 rfl rfl).trans (by show 0 * 2048 + r.val = r.val; omega))
      ((emb_val win5_3 t (ix2 r q) 1 _ 128 (ix5_3 t).2 rfl rfl).trans (by
        show (16 + t.val) * 128 + q.val = 2048 + (t.val * 128 + q.val); omega)))
  have ew : ∀ r : Fin 3, iblk5 V c 4 t (ix2 r q) = (V c main_arg3) (ix2 r (col5 t q)) := fun r =>
    congrArg (V c main_arg3) (Shape.idx_ext₂
      ((emb_val win5_4 t (ix2 r q) 0 _ 3 (ix5_4 t).1 rfl rfl).trans (by show 0 * 3 + r.val = r.val; omega))
      ((emb_val win5_4 t (ix2 r q) 1 _ 128 (ix5_4 t).2 rfl rfl).trans (by
        show t.val * 128 + q.val = t.val * 128 + q.val; omega)))
  rw [eJ]
  exact congrArg₂ (fun a b : EReal => a * b) (anti_block _ _ _ _ q (col5 t q) ew (fun r => congrArg₂ (fun a b : EReal => a * b) (ed r) (eb r)) r) (eh r)

/-- The blocks tile the result. -/
theorem cover5_6 (i : S2048x1024.Idx) :
    ∃ t : Fin cfg5.N, (cfg5.win 6).flush t = true ∧ i ∈ ((cfg5.win 6).blk t).view.set := by
  have b0 : (i 0 : ℕ) < 2048 := (i 0).isLt
  have b1 : (i 1 : ℕ) < 1024 := (i 1).isLt
  have hN : cfg5.N = 8 := N_5
  have ht : (i 1 : ℕ) / 128 < cfg5.N := by omega
  have h := ix5_6 ⟨(i 1 : ℕ) / 128, ht⟩
  refine ⟨⟨(i 1 : ℕ) / 128, ht⟩, flush5_6 _, ?_⟩
  show i ∈ ((View.whole main_v5_1).slice (win5_6.rect ⟨(i 1 : ℕ) / 128, ht⟩)).set
  rw [View.set_slice_whole]
  refine mem_unit2 _ _ _ i ?_ ?_
  · show win5_6.index ⟨_, ht⟩ 0 * 2048 ≤ (i 0 : ℕ) ∧ (i 0 : ℕ) < win5_6.index ⟨_, ht⟩ 0 * 2048 + 2048
    rw [h.1]; omega
  · show win5_6.index ⟨_, ht⟩ 1 * 128 ≤ (i 1 : ℕ) ∧ (i 1 : ℕ) < win5_6.index ⟨_, ht⟩ 1 * 128 + 128
    rw [h.2]; dsimp only; omega

/-- The result array after the region. -/
theorem final5_6 : (dat5 V c).arrAt 6 cfg5.N = dcF (V c main_v4) (V c main_v0) (V c main_arg3) :=
  (dat5 V c).arrAt_eq_of_cover 6 (dcF (V c main_v4) (V c main_v0) (V c main_arg3)) (fun t _ => flushed5_6 V c t) cover5_6

/-- What point `t` writes back is its block of the region's function. -/
theorem flushed5_7 (t : Fin cfg5.N) :
    (dat5 V c).flushed 7 t = (win5_7.blk t).view.read (Elt Ideal) (dhF (V c main_v4) (V c main_v0) (V c main_arg3)) := by
  show (cfg5.win 7).cut (grid5.coords t) ((dat5 V c).after 7 t) = _
  rw [after5_7]
  unfold outsAt5
  dsimp only
  rw [Gate.dgate_h]
  funext j
  obtain ⟨r, q, rfl⟩ : ∃ (r : Fin 2048) (q : Fin 128), j = ix2 r q := ⟨_, _, eq_ix2 j⟩
  show (fun y => anti (iblk5 V c 4 t : Mat 3 128) (Gate.had (iblk5 V c 0 t : Mat 2048 128) (iblk5 V c 1 t : Mat 2048 128)) y * ((iblk5 V c 2 t : Mat 2048 128) y : EReal)) (ix2 r q) = (dhF (V c main_v4) (V c main_v0) (V c main_arg3)) ((win5_7.rect t).emb (ix2 r q))
  have eJ : (win5_7.rect t).emb (ix2 r q) = ix2 r (col5 t q) := Shape.idx_ext₂
    ((emb_val win5_7 t (ix2 r q) 0 _ 2048 (ix5_7 t).1 rfl rfl).trans (by show 0 * 2048 + r.val = r.val; omega))
    (emb_val win5_7 t (ix2 r q) 1 _ 128 (ix5_7 t).2 rfl rfl)
  have ed : ∀ r : Fin 2048, iblk5 V c 0 t (ix2 r q) = (V c main_v4) (ix2 r (col5 t q)) := fun r =>
    congrArg (V c main_v4) (Shape.idx_ext₂
      ((emb_val win5_0 t (ix2 r q) 0 _ 2048 (ix5_0 t).1 rfl rfl).trans (by show 0 * 2048 + r.val = r.val; omega))
      ((emb_val win5_0 t (ix2 r q) 1 _ 128 (ix5_0 t).2 rfl rfl).trans (by
        show t.val * 128 + q.val = t.val * 128 + q.val; omega)))
  have eb : ∀ r : Fin 2048, iblk5 V c 1 t (ix2 r q) = bOf (V c main_v0) (ix2 r (col5 t q)) := fun r =>
    congrArg (V c main_v0) (Shape.idx_ext₂
      ((emb_val win5_1 t (ix2 r q) 0 _ 2048 (ix5_1 t).1 rfl rfl).trans (by show 0 * 2048 + r.val = r.val; omega))
      ((emb_val win5_1 t (ix2 r q) 1 _ 128 (ix5_1 t).2 rfl rfl).trans (by
        show t.val * 128 + q.val = 0 + (t.val * 128 + q.val); omega)))
  have ec : ∀ r : Fin 2048, iblk5 V c 2 t (ix2 r q) = cOf (V c main_v0) (ix2 r (col5 t q)) := fun r =>
    congrArg (V c main_v0) (Shape.idx_ext₂
      ((emb_val win5_2 t (ix2 r q) 0 _ 2048 (ix5_2 t).1 rfl rfl).trans (by show 0 * 2048 + r.val = r.val; omega))
      ((emb_val win5_2 t (ix2 r q) 1 _ 128 (ix5_2 t).2 rfl rfl).trans (by
        show (8 + t.val) * 128 + q.val = 1024 + (t.val * 128 + q.val); omega)))
  have ew : ∀ r : Fin 3, iblk5 V c 4 t (ix2 r q) = (V c main_arg3) (ix2 r (col5 t q)) := fun r =>
    congrArg (V c main_arg3) (Shape.idx_ext₂
      ((emb_val win5_4 t (ix2 r q) 0 _ 3 (ix5_4 t).1 rfl rfl).trans (by show 0 * 3 + r.val = r.val; omega))
      ((emb_val win5_4 t (ix2 r q) 1 _ 128 (ix5_4 t).2 rfl rfl).trans (by
        show t.val * 128 + q.val = t.val * 128 + q.val; omega)))
  rw [eJ]
  exact congrArg₂ (fun a b : EReal => a * b) (anti_block _ _ _ _ q (col5 t q) ew (fun r => congrArg₂ (fun a b : EReal => a * b) (ed r) (eb r)) r) (ec r)

/-- The blocks tile the result. -/
theorem cover5_7 (i : S2048x1024.Idx) :
    ∃ t : Fin cfg5.N, (cfg5.win 7).flush t = true ∧ i ∈ ((cfg5.win 7).blk t).view.set := by
  have b0 : (i 0 : ℕ) < 2048 := (i 0).isLt
  have b1 : (i 1 : ℕ) < 1024 := (i 1).isLt
  have hN : cfg5.N = 8 := N_5
  have ht : (i 1 : ℕ) / 128 < cfg5.N := by omega
  have h := ix5_7 ⟨(i 1 : ℕ) / 128, ht⟩
  refine ⟨⟨(i 1 : ℕ) / 128, ht⟩, flush5_7 _, ?_⟩
  show i ∈ ((View.whole main_v5_2).slice (win5_7.rect ⟨(i 1 : ℕ) / 128, ht⟩)).set
  rw [View.set_slice_whole]
  refine mem_unit2 _ _ _ i ?_ ?_
  · show win5_7.index ⟨_, ht⟩ 0 * 2048 ≤ (i 0 : ℕ) ∧ (i 0 : ℕ) < win5_7.index ⟨_, ht⟩ 0 * 2048 + 2048
    rw [h.1]; omega
  · show win5_7.index ⟨_, ht⟩ 1 * 128 ≤ (i 1 : ℕ) ∧ (i 1 : ℕ) < win5_7.index ⟨_, ht⟩ 1 * 128 + 128
    rw [h.2]; dsimp only; omega

/-- The result array after the region. -/
theorem final5_7 : (dat5 V c).arrAt 7 cfg5.N = dhF (V c main_v4) (V c main_v0) (V c main_arg3) :=
  (dat5 V c).arrAt_eq_of_cover 7 (dhF (V c main_v4) (V c main_v0) (V c main_arg3)) (fun t _ => flushed5_7 V c t) cover5_7

/-- What point `t` writes back is its block of the region's function. -/
theorem flushed5_8 (t : Fin cfg5.N) :
    (dat5 V c).flushed 8 t = (win5_8.blk t).view.read (Elt Ideal) (dwF (V c main_v4) (V c main_v0)) := by
  show (cfg5.win 8).cut (grid5.coords t) ((dat5 V c).after 8 t) = _
  rw [after5_8]
  unfold outsAt5
  dsimp only
  rw [Gate.dgate_w]
  funext j
  obtain ⟨r, q, rfl⟩ : ∃ (r : Fin 3) (q : Fin 128), j = ix2 r q := ⟨_, _, eq_ix2 j⟩
  show (fun y => ∑ t' : Fin 2048, (Gate.had (iblk5 V c 0 t : Mat 2048 128) (iblk5 V c 1 t : Mat 2048 128)) (ix2 t' (y 1)) * lag (2 - (y 0 : ℕ)) (Gate.had (iblk5 V c 2 t : Mat 2048 128) (iblk5 V c 3 t : Mat 2048 128)) (ix2 t' (y 1))) (ix2 r q) = (dwF (V c main_v4) (V c main_v0)) ((win5_8.rect t).emb (ix2 r q))
  have eJ : (win5_8.rect t).emb (ix2 r q) = ix2 r (col5 t q) := Shape.idx_ext₂
    ((emb_val win5_8 t (ix2 r q) 0 _ 3 (ix5_8 t).1 rfl rfl).trans (by show 0 * 3 + r.val = r.val; omega))
    (emb_val win5_8 t (ix2 r q) 1 _ 128 (ix5_8 t).2 rfl rfl)
  have ed : ∀ r : Fin 2048, iblk5 V c 0 t (ix2 r q) = (V c main_v4) (ix2 r (col5 t q)) := fun r =>
    congrArg (V c main_v4) (Shape.idx_ext₂
      ((emb_val win5_0 t (ix2 r q) 0 _ 2048 (ix5_0 t).1 rfl rfl).trans (by show 0 * 2048 + r.val = r.val; omega))
      ((emb_val win5_0 t (ix2 r q) 1 _ 128 (ix5_0 t).2 rfl rfl).trans (by
        show t.val * 128 + q.val = t.val * 128 + q.val; omega)))
  have eb : ∀ r : Fin 2048, iblk5 V c 1 t (ix2 r q) = bOf (V c main_v0) (ix2 r (col5 t q)) := fun r =>
    congrArg (V c main_v0) (Shape.idx_ext₂
      ((emb_val win5_1 t (ix2 r q) 0 _ 2048 (ix5_1 t).1 rfl rfl).trans (by show 0 * 2048 + r.val = r.val; omega))
      ((emb_val win5_1 t (ix2 r q) 1 _ 128 (ix5_1 t).2 rfl rfl).trans (by
        show t.val * 128 + q.val = 0 + (t.val * 128 + q.val); omega)))
  have ec : ∀ r : Fin 2048, iblk5 V c 2 t (ix2 r q) = cOf (V c main_v0) (ix2 r (col5 t q)) := fun r =>
    congrArg (V c main_v0) (Shape.idx_ext₂
      ((emb_val win5_2 t (ix2 r q) 0 _ 2048 (ix5_2 t).1 rfl rfl).trans (by show 0 * 2048 + r.val = r.val; omega))
      ((emb_val win5_2 t (ix2 r q) 1 _ 128 (ix5_2 t).2 rfl rfl).trans (by
        show (8 + t.val) * 128 + q.val = 1024 + (t.val * 128 + q.val); omega)))
  have eh : ∀ r : Fin 2048, iblk5 V c 3 t (ix2 r q) = hOf (V c main_v0) (ix2 r (col5 t q)) := fun r =>
    congrArg (V c main_v0) (Shape.idx_ext₂
      ((emb_val win5_3 t (ix2 r q) 0 _ 2048 (ix5_3 t).1 rfl rfl).trans (by show 0 * 2048 + r.val = r.val; omega))
      ((emb_val win5_3 t (ix2 r q) 1 _ 128 (ix5_3 t).2 rfl rfl).trans (by
        show (16 + t.val) * 128 + q.val = 2048 + (t.val * 128 + q.val); omega)))
  rw [eJ]
  exact Finset.sum_congr rfl fun t' _ => congrArg₂ (fun a b : EReal => a * b) (congrArg₂ (fun a b : EReal => a * b) (ed t') (eb t'))
    (lag_block _ _ _ q (col5 t q) (fun r => congrArg₂ (fun a b : EReal => a * b) (ec r) (eh r)) t')

/-- The blocks tile the result. -/
theorem cover5_8 (i : S3x1024.Idx) :
    ∃ t : Fin cfg5.N, (cfg5.win 8).flush t = true ∧ i ∈ ((cfg5.win 8).blk t).view.set := by
  have b0 : (i 0 : ℕ) < 3 := (i 0).isLt
  have b1 : (i 1 : ℕ) < 1024 := (i 1).isLt
  have hN : cfg5.N = 8 := N_5
  have ht : (i 1 : ℕ) / 128 < cfg5.N := by omega
  have h := ix5_8 ⟨(i 1 : ℕ) / 128, ht⟩
  refine ⟨⟨(i 1 : ℕ) / 128, ht⟩, flush5_8 _, ?_⟩
  show i ∈ ((View.whole main_v5_3).slice (win5_8.rect ⟨(i 1 : ℕ) / 128, ht⟩)).set
  rw [View.set_slice_whole]
  refine mem_unit2 _ _ _ i ?_ ?_
  · show win5_8.index ⟨_, ht⟩ 0 * 3 ≤ (i 0 : ℕ) ∧ (i 0 : ℕ) < win5_8.index ⟨_, ht⟩ 0 * 3 + 3
    rw [h.1]; omega
  · show win5_8.index ⟨_, ht⟩ 1 * 128 ≤ (i 1 : ℕ) ∧ (i 1 : ℕ) < win5_8.index ⟨_, ht⟩ 1 * 128 + 128
    rw [h.2]; dsimp only; omega

/-- The result array after the region. -/
theorem final5_8 : (dat5 V c).arrAt 8 cfg5.N = dwF (V c main_v4) (V c main_v0) :=
  (dat5 V c).arrAt_eq_of_cover 8 (dwF (V c main_v4) (V c main_v0)) (fun t _ => flushed5_8 V c t) cover5_8

/-! ## Region 6: the gradient of the input projection, stored by device -/

theorem ix6_0 : ∀ t : Fin grid6.N, win6_0.index t 0 = 0 ∧ win6_0.index t 1 = 0 := by decide +kernel
theorem ix6_1 : ∀ t : Fin grid6.N, win6_1.index t 0 = 0 ∧ win6_1.index t 1 = t.val := by decide +kernel
theorem ix6_2 : ∀ t : Fin grid6.N, win6_2.index t 0 = t.val ∧ win6_2.index t 1 = 0 ∧ win6_2.index t 2 = 0 := by
  decide +kernel

/-- What the body stores, from the blocks it loads. -/
theorem pay6 (x : FVec Ideal S2048x1024 .f32) (y : FVec Ideal S2048x384 .bf16) (a : Fin 1) (r : Fin 1024) (q : Fin 384) :
    k6_pay1 (F := Ideal) x y (ix3 a r q) = mmTN x y (ix2 r q) := by
  have h : matmul dot_S2048x1024_S2048x384_S1024x384_0_0_1_1_n_n none (truncf .bf16 x bitsLt_bf16_f32 : FVec Ideal S2048x1024 .bf16) y (constant S1024x384 .f32 0x00000000#32) = mmTN x y :=
    matmul_TN _ rfl none (truncf .bf16 x bitsLt_bf16_f32 : FVec Ideal S2048x1024 .bf16) y
  unfold k6_pay1
  rw [shapeCast_self, h]
  exact (shapeCast_addUnit_apply ![1024, 384] _ _ (ix3 a r q)).trans rfl

/-- What point `t` writes back is its block of the region's function. -/
theorem flushed6 (t : Fin cfg6.N) :
    (dat6 V c).flushed 2 t = (win6_2.blk t).view.read (Elt Ideal) (dwinF (V c main_arg0) (V c main_v6)) := by
  show (cfg6.win 2).cut (grid6.coords t) ((dat6 V c).after 2 t) = _
  rw [after6_2]
  unfold out6_2
  rw [View.canon_unit_zero hz3, View.ld_unit_zero hz, View.ld_unit_zero hz]
  funext j
  obtain ⟨a, r, q, rfl⟩ : ∃ (a : Fin 1) (r : Fin 1024) (q : Fin 384), j = ix3 a r q := ⟨_, _, _, eq_ix3 j⟩
  show k6_pay1 (F := Ideal) (iblk6 V c 0 t) (iblk6 V c 1 t) (ix3 a r q)
    = dwinF (V c main_arg0) (V c main_v6) ((win6_2.rect t).emb (ix3 a r q))
  rw [pay6]
  have h0 := ix6_0 t
  have h1 := ix6_1 t
  have h2 := ix6_2 t
  have ha : a.val = 0 := by omega
  have o0 := emb_val win6_2 t (ix3 a r q) 0 _ 1 h2.1 rfl rfl
  have o1 := emb_val win6_2 t (ix3 a r q) 1 _ 1024 h2.2.1 rfl rfl
  have o2 := emb_val win6_2 t (ix3 a r q) 2 _ 384 h2.2.2 rfl rfl
  refine mmTN_block _ _ _ _ (ix2 r q) _ (fun k => congrArg (V c main_arg0) (Shape.idx_ext₂ ?_ ?_))
    (fun k => congrArg (V c main_v6) (Shape.idx_ext₂ ?_ ?_))
  · exact (emb_val win6_0 t _ 0 _ 2048 h0.1 rfl rfl).trans (by show 0 * 2048 + k.val = k.val; omega)
  · exact (emb_val win6_0 t _ 1 _ 1024 h0.2 rfl rfl).trans o1.symm
  · exact (emb_val win6_1 t _ 0 _ 2048 h1.1 rfl rfl).trans (by show 0 * 2048 + k.val = k.val; omega)
  · refine (emb_val win6_1 t _ 1 _ 384 h1.2 rfl rfl).trans ?_
    show t.val * 384 + q.val = ((win6_2.rect t).emb (ix3 a r q) 0 : ℕ) * 384 + ((win6_2.rect t).emb (ix3 a r q) 2 : ℕ)
    rw [o0, o2]
    show t.val * 384 + q.val = (t.val * 1 + a.val) * 384 + (0 * 384 + q.val)
    omega

/-- The blocks tile the result. -/
theorem cover6 (i : S8x1024x384.Idx) :
    ∃ t : Fin cfg6.N, (cfg6.win 2).flush t = true ∧ i ∈ ((cfg6.win 2).blk t).view.set := by
  have b0 : (i 0 : ℕ) < 8 := (i 0).isLt
  have b1 : (i 1 : ℕ) < 1024 := (i 1).isLt
  have b2 : (i 2 : ℕ) < 384 := (i 2).isLt
  have hN : cfg6.N = 8 := N_6
  have ht : (i 0 : ℕ) < cfg6.N := by omega
  have h := ix6_2 ⟨(i 0 : ℕ), ht⟩
  refine ⟨⟨(i 0 : ℕ), ht⟩, flush6_2 _, ?_⟩
  show i ∈ ((View.whole main_v7).slice (win6_2.rect ⟨(i 0 : ℕ), ht⟩)).set
  rw [View.set_slice_whole, Rect.mem_set_unit]
  intro a
  match a with
  | ⟨0, _⟩ =>
    show win6_2.index ⟨_, ht⟩ 0 * 1 ≤ (i 0 : ℕ) ∧ (i 0 : ℕ) < win6_2.index ⟨_, ht⟩ 0 * 1 + 1
    rw [h.1]; dsimp only; omega
  | ⟨1, _⟩ =>
    show win6_2.index ⟨_, ht⟩ 1 * 1024 ≤ (i 1 : ℕ) ∧ (i 1 : ℕ) < win6_2.index ⟨_, ht⟩ 1 * 1024 + 1024
    rw [h.2.1]; omega
  | ⟨2, _⟩ =>
    show win6_2.index ⟨_, ht⟩ 2 * 384 ≤ (i 2 : ℕ) ∧ (i 2 : ℕ) < win6_2.index ⟨_, ht⟩ 2 * 384 + 384
    rw [h.2.2]; omega

/-- The result array after the region. -/
theorem final6 : (dat6 V c).arrAt 2 cfg6.N = dwinF (V c main_arg0) (V c main_v6) :=
  (dat6 V c).arrAt_eq_of_cover 2 (dwinF (V c main_arg0) (V c main_v6)) (fun t _ => flushed6 V c t) cover6

/-! ## Region 7: the gradient of the input -/

theorem ix7_0 : ∀ t : Fin grid7.N, win7_0.index t 0 = t.val / 2 ∧ win7_0.index t 1 = 0 := by decide +kernel
theorem ix7_1 : ∀ t : Fin grid7.N, win7_1.index t 0 = t.val % 2 ∧ win7_1.index t 1 = 0 := by decide +kernel
theorem ix7_2 : ∀ t : Fin grid7.N, win7_2.index t 0 = t.val / 2 ∧ win7_2.index t 1 = t.val % 2 := by decide +kernel
theorem ix7_3 : ∀ t : Fin grid7.N, win7_3.index t 0 = t.val / 2 ∧ win7_3.index t 1 = t.val % 2 := by decide +kernel

/-- What the body stores, from the blocks it loads. -/
theorem pay7 (x : FVec Ideal S1024x3072 .bf16) (y : FVec Ideal S512x3072 .bf16) (r : FVec Ideal S1024x512 .f32) (j : S1024x512.Idx) :
    k7_pay1 (F := Ideal) x y r j = mmNT x y j + Ideal.ofBits .f32 0x3FD744FD#32 * r j := by
  have h : matmul dot_S1024x3072_S512x3072_S1024x512_1_1_0_0_n_n none x y (constant S1024x512 .f32 0x00000000#32) = mmNT x y :=
    matmul_NT _ rfl none x y
  unfold k7_pay1
  rw [shapeCast_self, h]
  rfl

/-- What point `t` writes back is its block of the region's function. -/
theorem flushed7 (t : Fin cfg7.N) :
    (dat7 V c).flushed 3 t = (win7_3.blk t).view.read (Elt Ideal) (dxF (V c main_v6) (V c main_arg2) (V c main_arg5)) := by
  show (cfg7.win 3).cut (grid7.coords t) ((dat7 V c).after 3 t) = _
  rw [after7_3]
  unfold out7_3
  rw [View.canon_unit_zero hz, View.ld_unit_zero hz, View.ld_unit_zero hz, View.ld_unit_zero hz]
  funext j
  show k7_pay1 (F := Ideal) (iblk7 V c 0 t) (iblk7 V c 1 t) (iblk7 V c 2 t) j = (dxF (V c main_v6) (V c main_arg2) (V c main_arg5)) ((win7_3.rect t).emb j)
  rw [pay7]
  have h0 := ix7_0 t
  have h1 := ix7_1 t
  have h2 := ix7_2 t
  have h3 := ix7_3 t
  have e : mmNT (iblk7 V c 0 t) (iblk7 V c 1 t) j = mmNT (V c main_v6) (V c main_arg2) ((win7_3.rect t).emb j) := by
    refine mmNT_block _ _ _ _ j _ (fun k => congrArg (V c main_v6) (Shape.idx_ext₂ ?_ ?_))
      (fun k => congrArg (V c main_arg2) (Shape.idx_ext₂ ?_ ?_))
    · exact (emb_val win7_0 t _ 0 _ 1024 h0.1 rfl rfl).trans (emb_val win7_3 t j 0 _ 1024 h3.1 rfl rfl).symm
    · exact (emb_val win7_0 t _ 1 _ 3072 h0.2 rfl rfl).trans (by show 0 * 3072 + k.val = k.val; omega)
    · exact (emb_val win7_1 t _ 0 _ 512 h1.1 rfl rfl).trans (emb_val win7_3 t j 1 _ 512 h3.2 rfl rfl).symm
    · exact (emb_val win7_1 t _ 1 _ 3072 h1.2 rfl rfl).trans (by show 0 * 3072 + k.val = k.val; omega)
  have e2 : iblk7 V c 2 t j = V c main_arg5 ((win7_3.rect t).emb j) :=
    congrArg (V c main_arg5) (Shape.idx_ext₂
      ((emb_val win7_2 t j 0 _ 1024 h2.1 rfl rfl).trans (emb_val win7_3 t j 0 _ 1024 h3.1 rfl rfl).symm)
      ((emb_val win7_2 t j 1 _ 512 h2.2 rfl rfl).trans (emb_val win7_3 t j 1 _ 512 h3.2 rfl rfl).symm))
  rw [e, e2]
  rfl

/-- The blocks tile the result. -/
theorem cover7 (i : S2048x1024.Idx) :
    ∃ t : Fin cfg7.N, (cfg7.win 3).flush t = true ∧ i ∈ ((cfg7.win 3).blk t).view.set := by
  have b0 : (i 0 : ℕ) < 2048 := (i 0).isLt
  have b1 : (i 1 : ℕ) < 1024 := (i 1).isLt
  have hN : cfg7.N = 4 := N_7
  have ht : (i 0 : ℕ) / 1024 * 2 + (i 1 : ℕ) / 512 < cfg7.N := by omega
  have h := ix7_3 ⟨(i 0 : ℕ) / 1024 * 2 + (i 1 : ℕ) / 512, ht⟩
  refine ⟨⟨(i 0 : ℕ) / 1024 * 2 + (i 1 : ℕ) / 512, ht⟩, flush7_3 _, ?_⟩
  show i ∈ ((View.whole main_v8).slice (win7_3.rect ⟨(i 0 : ℕ) / 1024 * 2 + (i 1 : ℕ) / 512, ht⟩)).set
  rw [View.set_slice_whole]
  refine mem_unit2 _ _ _ i ?_ ?_
  · show win7_3.index ⟨_, ht⟩ 0 * 1024 ≤ (i 0 : ℕ) ∧ (i 0 : ℕ) < win7_3.index ⟨_, ht⟩ 0 * 1024 + 1024
    rw [h.1]; dsimp only; omega
  · show win7_3.index ⟨_, ht⟩ 1 * 512 ≤ (i 1 : ℕ) ∧ (i 1 : ℕ) < win7_3.index ⟨_, ht⟩ 1 * 512 + 512
    rw [h.2]; dsimp only; omega

/-- The result array after the region. -/
theorem final7 : (dat7 V c).arrAt 3 cfg7.N = dxF (V c main_v6) (V c main_arg2) (V c main_arg5) :=
  (dat7 V c).arrAt_eq_of_cover 3 (dxF (V c main_v6) (V c main_arg2) (V c main_arg5)) (fun t _ => flushed7 V c t) cover7

end Cert.ScIdeal.Arrays

end
-- ==== Proof.ScRun.lean ====
/-
  THE SHORT-CONVOLUTION MIXER'S RUN: the eight regions in order, every array at its contents after the last; then the five
  results read back through the regions to functions of the launch arguments (the name is the array and the boundary), and
  `run`, what the value claim takes from the kernel's side.
-/
module

public import proofs.«01_k».proof.Proof.Gen.ScIdeal.Frame
public import proofs.«01_k».proof.Proof.ScArrays
public import proofs.«01_k».proof.Proof.HostRows
public import Idealize.ShloMosaic.Lib.StableHlo.Run

@[expose] public section

set_option maxRecDepth 16384

noncomputable section

namespace Cert.ScIdeal.Run

open Cert.ScIdeal Cert.ScIdeal.Gen Cert.ScIdeal.Arrays Cert.Products Cert.ScMath Cert.HostRows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with every array at its contents after the last segment. -/
theorem ends_at : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ c => h c)

/-! ## The boundaries at the extended reals, from the launch memory -/

section Chain

variable (m : (ℓ : Loc nD τ sig) → Buf (Elt Ideal) ℓ) (ρ : Dev nD → PrngReg) (c : Dev nD)

/-- The six arguments, as matrices: x, dy, the input projection, the taps, the output projection, the residual gradient. -/
abbrev x0 : Mat 2048 1024 := m ((c.tc : Thread nD τ).loc main_arg0)
abbrev dy0 : Mat 2048 1024 := m ((c.tc : Thread nD τ).loc main_arg1)
abbrev wi0 : Mat 1024 3072 := m ((c.tc : Thread nD τ).loc main_arg2)
abbrev cw0 : Mat 3 1024 := m ((c.tc : Thread nD τ).loc main_arg3)
abbrev wo0 : Mat 1024 1024 := m ((c.tc : Thread nD τ).loc main_arg4)
abbrev res0 : Mat 2048 1024 := m ((c.tc : Thread nD τ).loc main_arg5)
/-- The projected input, the gated rows, the gradient of the gated rows, the gradient of the projected input. -/
abbrev u0 : Mat 2048 3072 := mmNN (x0 m c) (wi0 m c)
abbrev g0 : Mat 2048 1024 := gateF (u0 m c) (cw0 m c)
abbrev dr0 : Mat 2048 1024 := mmNT (dy0 m c) (wo0 m c)
abbrev du0 : Mat 2048 3072 := duF (dr0 m c) (u0 m c) (cw0 m c)

theorem v0_1 : V1 m ρ c main_v0 = u0 m c := by
  refine ((W1_arr m ρ c 2).trans (final0 (V0 m ρ) c)).trans ?_
  rw [show V0 m ρ c main_arg0 = x0 m c from W0_args m ρ c main_arg0 (by decide),
    show V0 m ρ c main_arg2 = wi0 m c from W0_args m ρ c main_arg2 (by decide)]
theorem v0_2 : V2 m ρ c main_v0 = u0 m c := (W2_of m ρ c main_v0 (by decide)).trans (v0_1 m ρ c)
theorem v0_3 : V3 m ρ c main_v0 = u0 m c := (W3_of m ρ c main_v0 (by decide)).trans (v0_2 m ρ c)
theorem v0_4 : V4 m ρ c main_v0 = u0 m c := (W4_of m ρ c main_v0 (by decide)).trans (v0_3 m ρ c)
theorem v0_5 : V5 m ρ c main_v0 = u0 m c := (W5_of m ρ c main_v0 (by decide)).trans (v0_4 m ρ c)
theorem v1_2 : V2 m ρ c main_v1 = g0 m c := by
  refine ((W2_arr m ρ c 4).trans (final1_4 (V1 m ρ) c)).trans ?_
  rw [v0_1 m ρ c,
    show V1 m ρ c main_arg3 = cw0 m c from W1_args m ρ c main_arg3 (by decide)]
theorem v1_3 : V3 m ρ c main_v1 = g0 m c := (W3_of m ρ c main_v1 (by decide)).trans (v1_2 m ρ c)
theorem v2_3 : V3 m ρ c main_v2 = mmNN (g0 m c) (wo0 m c) := by
  refine ((W3_arr m ρ c 2).trans (final2 (V2 m ρ) c)).trans ?_
  rw [v1_2 m ρ c,
    show V2 m ρ c main_arg4 = wo0 m c from W2_args m ρ c main_arg4 (by decide)]
theorem v2_4 : V4 m ρ c main_v2 = mmNN (g0 m c) (wo0 m c) := (W4_of m ρ c main_v2 (by decide)).trans (v2_3 m ρ c)
theorem v2_5 : V5 m ρ c main_v2 = mmNN (g0 m c) (wo0 m c) := (W5_of m ρ c main_v2 (by decide)).trans (v2_4 m ρ c)
theorem v2_6 : V6 m ρ c main_v2 = mmNN (g0 m c) (wo0 m c) := (W6_of m ρ c main_v2 (by decide)).trans (v2_5 m ρ c)
theorem v2_7 : V7 m ρ c main_v2 = mmNN (g0 m c) (wo0 m c) := (W7_of m ρ c main_v2 (by decide)).trans (v2_6 m ρ c)
theorem v2_8 : V8 m ρ c main_v2 = mmNN (g0 m c) (wo0 m c) := (W8_of m ρ c main_v2 (by decide)).trans (v2_7 m ρ c)
theorem v2_9 : V9 m ρ c main_v2 = mmNN (g0 m c) (wo0 m c) := (W9_of m ρ c main_v2 (by decide)).trans (v2_8 m ρ c)
theorem v3_4 : V4 m ρ c main_v3 = mmTN (g0 m c) (dy0 m c) := by
  refine ((W4_arr m ρ c 2).trans (final3 (V3 m ρ) c)).trans ?_
  rw [v1_3 m ρ c,
    show V3 m ρ c main_arg1 = dy0 m c from W3_args m ρ c main_arg1 (by decide)]
theorem v3_5 : V5 m ρ c main_v3 = mmTN (g0 m c) (dy0 m c) := (W5_of m ρ c main_v3 (by decide)).trans (v3_4 m ρ c)
theorem v3_6 : V6 m ρ c main_v3 = mmTN (g0 m c) (dy0 m c) := (W6_of m ρ c main_v3 (by decide)).trans (v3_5 m ρ c)
theorem v3_7 : V7 m ρ c main_v3 = mmTN (g0 m c) (dy0 m c) := (W7_of m ρ c main_v3 (by decide)).trans (v3_6 m ρ c)
theorem v3_8 : V8 m ρ c main_v3 = mmTN (g0 m c) (dy0 m c) := (W8_of m ρ c main_v3 (by decide)).trans (v3_7 m ρ c)
theorem v3_9 : V9 m ρ c main_v3 = mmTN (g0 m c) (dy0 m c) := (W9_of m ρ c main_v3 (by decide)).trans (v3_8 m ρ c)
theorem v4_5 : V5 m ρ c main_v4 = dr0 m c := by
  refine ((W5_arr m ρ c 2).trans (final4 (V4 m ρ) c)).trans ?_
  rw [show V4 m ρ c main_arg1 = dy0 m c from W4_args m ρ c main_arg1 (by decide),
    show V4 m ρ c main_arg4 = wo0 m c from W4_args m ρ c main_arg4 (by decide)]
theorem v50_6 : V6 m ρ c main_v5_0 = dbF (dr0 m c) (u0 m c) (cw0 m c) := by
  refine ((W6_arr m ρ c 5).trans (final5_5 (V5 m ρ) c)).trans ?_
  rw [v4_5 m ρ c,
    v0_5 m ρ c,
    show V5 m ρ c main_arg3 = cw0 m c from W5_args m ρ c main_arg3 (by decide)]
theorem v51_6 : V6 m ρ c main_v5_1 = dcF (dr0 m c) (u0 m c) (cw0 m c) := by
  refine ((W6_arr m ρ c 6).trans (final5_6 (V5 m ρ) c)).trans ?_
  rw [v4_5 m ρ c,
    v0_5 m ρ c,
    show V5 m ρ c main_arg3 = cw0 m c from W5_args m ρ c main_arg3 (by decide)]
theorem v52_6 : V6 m ρ c main_v5_2 = dhF (dr0 m c) (u0 m c) (cw0 m c) := by
  refine ((W6_arr m ρ c 7).trans (final5_7 (V5 m ρ) c)).trans ?_
  rw [v4_5 m ρ c,
    v0_5 m ρ c,
    show V5 m ρ c main_arg3 = cw0 m c from W5_args m ρ c main_arg3 (by decide)]
theorem v53_6 : V6 m ρ c main_v5_3 = dwF (dr0 m c) (u0 m c) := by
  refine ((W6_arr m ρ c 8).trans (final5_8 (V5 m ρ) c)).trans ?_
  rw [v4_5 m ρ c,
    v0_5 m ρ c]
theorem v53_7 : V7 m ρ c main_v5_3 = dwF (dr0 m c) (u0 m c) := (W7_of m ρ c main_v5_3 (by decide)).trans (v53_6 m ρ c)
theorem v53_8 : V8 m ρ c main_v5_3 = dwF (dr0 m c) (u0 m c) := (W8_of m ρ c main_v5_3 (by decide)).trans (v53_7 m ρ c)
theorem v53_9 : V9 m ρ c main_v5_3 = dwF (dr0 m c) (u0 m c) := (W9_of m ρ c main_v5_3 (by decide)).trans (v53_8 m ρ c)
theorem v6_7 : V7 m ρ c main_v6 = du0 m c := by
  refine Eq.trans (b := concatenate S2048x3072 1 [⟨S2048x1024, V6 m ρ c main_v5_0⟩, ⟨S2048x1024, V6 m ρ c main_v5_1⟩,
    ⟨S2048x1024, V6 m ρ c main_v5_2⟩] facts.concatenates_S2048x1024_S2048x1024_S2048x1024_S2048x3072_d1) ?_ ?_
  · show StableHlo.after hostOps6 (W6 m ρ c) (Proc.devRef .tc main_v6) = _
    unfold hostOps6
    after_results_simp
    rfl
  · rw [v50_6 m ρ c, v51_6 m ρ c, v52_6 m ρ c]
    exact concat3 _ _ _ _
theorem v6_8 : V8 m ρ c main_v6 = du0 m c := (W8_of m ρ c main_v6 (by decide)).trans (v6_7 m ρ c)
theorem v7_8 : V8 m ρ c main_v7 = dwinF (x0 m c) (du0 m c) := by
  refine ((W8_arr m ρ c 2).trans (final6 (V7 m ρ) c)).trans ?_
  rw [v6_7 m ρ c,
    show V7 m ρ c main_arg0 = x0 m c from W7_args m ρ c main_arg0 (by decide)]
theorem v7_9 : V9 m ρ c main_v7 = dwinF (x0 m c) (du0 m c) := (W9_of m ρ c main_v7 (by decide)).trans (v7_8 m ρ c)
theorem v8_9 : V9 m ρ c main_v8 = dxF (du0 m c) (wi0 m c) (res0 m c) := by
  refine ((W9_arr m ρ c 3).trans (final7 (V8 m ρ) c)).trans ?_
  rw [v6_8 m ρ c,
    show V8 m ρ c main_arg2 = wi0 m c from W8_args m ρ c main_arg2 (by decide),
    show V8 m ρ c main_arg5 = res0 m c from W8_args m ρ c main_arg5 (by decide)]

/-- The kernel's run at the extended reals: the five results as functions of the arguments, the arguments unchanged. -/
theorem run : θ_run defs (onTc (τ := τ) (main (F := Ideal))) ⟨m, fun _ => 0, ρ⟩ (fun r => ∀ c : Dev nD,
      r.2.mem ((c.tc : Thread nD τ).loc main_v2) = mmNN (g0 m c) (wo0 m c)
      ∧ r.2.mem ((c.tc : Thread nD τ).loc main_v8) = dxF (du0 m c) (wi0 m c) (res0 m c)
      ∧ r.2.mem ((c.tc : Thread nD τ).loc main_v7) = dwinF (x0 m c) (du0 m c)
      ∧ r.2.mem ((c.tc : Thread nD τ).loc main_v5_3) = dwF (dr0 m c) (u0 m c)
      ∧ r.2.mem ((c.tc : Thread nD τ).loc main_v3) = mmTN (g0 m c) (dy0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v2 (by decide))).trans (v2_9 m ρ c),
     (h c _ (mem_uc main_v8 (by decide))).trans (v8_9 m ρ c),
     (h c _ (mem_uc main_v7 (by decide))).trans (v7_9 m ρ c),
     (h c _ (mem_uc main_v5_3 (by decide))).trans (v53_9 m ρ c),
     (h c _ (mem_uc main_v3 (by decide))).trans (v3_9 m ρ c),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c)⟩) (ends_at m ρ)

end Chain

end Cert.ScIdeal.Run

end
-- ==== Proof.ScClaim.lean ====
/-
  THE SHORT-CONVOLUTION MIXER'S CLAIMS that are not generated: the reference's frame, from its generated run, and the value claim, from the
  kernel's run (ScRun.lean), the reference's run and the five equations (ScEq.lean).
-/
module

public import proofs.«01_k».proof.Defs
public import proofs.«01_k».proof.Proof.ScRun
public import proofs.«01_k».proof.Proof.ScEq
public import Idealize.ShloMosaic.Lib.Quiescent

@[expose] public section

set_option maxRecDepth 16384

noncomputable section

namespace Cert.ScClaim

open Idealize.ShloMosaic Idealize.SL.Sem

theorem ref_frame : Cert.quiescent_ScRefIdeal (hScRefIdeal := Cert.ScRefIdeal.Gen.facts) := fun m ρ _ =>
  (θ_run Cert.ScRefIdeal.defs _ _).mono (fun r h =>
    ⟨fun c => (h c).2.2.2.2.2, Idealize.ShloMosaic.sem_eq_zero_of_no_sems (by decide) r.2⟩)
    (Cert.ScRefIdeal.Value.run (F := Ideal) m ρ)

theorem value : Cert.algebraic_ScIdeal_ScRefIdeal (hScIdeal := Cert.ScIdeal.Gen.facts)
    (hScRefIdeal := Cert.ScRefIdeal.Gen.facts) := by
  intro m g m' g' _ hag
  refine ⟨_, _, _, _, _, Cert.ScIdeal.Run.run m g,
    (θ_run Cert.ScRefIdeal.defs _ _).mono (fun r h c => ?_) (Cert.ScRefIdeal.Value.run (F := Ideal) m' g')⟩
  obtain ⟨e0, e1, e2, e3, e4, e5⟩ := hag c
  obtain ⟨h0, h1, h2, h3, h4, hargs⟩ := h c
  unfold Cert.ScRefIdeal.Value.res_main_v83 at h1
  unfold Cert.ScRefIdeal.Value.res_main_v84 at h2
  unfold Cert.ScRefIdeal.Value.res_main_v70 at h3
  rw [e0, e2, e3, e4] at h0
  rw [e0, e1, e2, e3, e4, e5] at h1
  rw [e0, e1, e2, e3, e4] at h2
  rw [e0, e1, e2, e4] at h3
  rw [e0, e1, e2, e3] at h4
  exact ⟨h0.trans (Cert.ScEq.y_eq _ _ _ _), h1.trans (Cert.ScEq.dx_eq _ _ _ _ _ _), h2.trans (Cert.ScEq.dwin_eq _ _ _ _ _),
    h3.trans (Cert.ScEq.dconv_eq _ _ _ _), h4.trans (Cert.ScEq.dwout_eq _ _ _ _), hargs⟩

end Cert.ScClaim

end
-- ==== Proof.lean ====
/-
  THE CLAIMS, ASSEMBLED. For each program: the frame of the kernel as printed, the frame of its idealised text and the frame of
  the reference, that the idealised text is the printed one, and that it computes the reference's results over the extended
  reals. The frames of the kernels are generated; the references' frames and the values are proved in the `…Claim` modules.
-/
module

public import proofs.«01_k».proof.Defs
public import proofs.«01_k».proof.Proof.Sc3Claim
public import proofs.«01_k».proof.Proof.AdamClaim
public import proofs.«01_k».proof.Proof.Adam1Claim
public import proofs.«01_k».proof.Proof.Adam1End
public import proofs.«01_k».proof.Proof.SmallClaim
public import proofs.«01_k».proof.Proof.SumClaim
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MlpRefIdeal.Run
public import proofs.«01_k».proof.Proof.Gen.Sc
public import proofs.«01_k».proof.Proof.Gen.Sc.Skeleton
public import proofs.«01_k».proof.Proof.Gen.Sc.Launch
public import proofs.«01_k».proof.Proof.Gen.Sc.Points
public import proofs.«01_k».proof.Proof.Gen.Sc.Frame
public import proofs.«01_k».proof.Proof.Gen.ScIdeal
public import proofs.«01_k».proof.Proof.Gen.ScIdeal.Skeleton
public import proofs.«01_k».proof.Proof.Gen.ScIdeal.Launch
public import proofs.«01_k».proof.Proof.Gen.ScIdeal.Points
public import proofs.«01_k».proof.Proof.Gen.ScIdeal.Frame
public import proofs.«01_k».proof.Proof.Gen.ScRefIdeal
public import proofs.«01_k».proof.Proof.Gen.ScRefIdeal.Run
public import proofs.«01_k».proof.Proof.Gen.Sc3
public import proofs.«01_k».proof.Proof.Gen.Sc3.Skeleton
public import proofs.«01_k».proof.Proof.Gen.Sc3.Launch
public import proofs.«01_k».proof.Proof.Gen.Sc3.Points
public import proofs.«01_k».proof.Proof.Gen.Sc3.Frame
public import proofs.«01_k».proof.Proof.Gen.Sc3Ideal
public import proofs.«01_k».proof.Proof.Gen.Sc3Ideal.Skeleton
public import proofs.«01_k».proof.Proof.Gen.Sc3Ideal.Launch
public import proofs.«01_k».proof.Proof.Gen.Sc3Ideal.Points
public import proofs.«01_k».proof.Proof.Gen.Sc3Ideal.Frame
public import proofs.«01_k».proof.Proof.Gen.Sc3RefIdeal
public import proofs.«01_k».proof.Proof.Gen.Sc3RefIdeal.Run
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamRefIdeal
public import proofs.«01_k».proof.Proof.Gen.AdamRefIdeal.Run
public import proofs.«01_k».proof.Proof.Gen.Adam1
public import proofs.«01_k».proof.Proof.Gen.Adam1.Skeleton
public import proofs.«01_k».proof.Proof.Gen.Adam1.Launch
public import proofs.«01_k».proof.Proof.Gen.Adam1.Points
public import proofs.«01_k».proof.Proof.Gen.Adam1Ideal
public import proofs.«01_k».proof.Proof.Gen.Adam1Ideal.Skeleton
public import proofs.«01_k».proof.Proof.Gen.Adam1Ideal.Launch
public import proofs.«01_k».proof.Proof.Gen.Adam1Ideal.Points
public import proofs.«01_k».proof.Proof.Gen.Adam1RefIdeal
public import proofs.«01_k».proof.Proof.Gen.Adam1RefIdeal.Run
public import proofs.«01_k».proof.Proof.Gen.Sum
public import proofs.«01_k».proof.Proof.Gen.Sum.Skeleton
public import proofs.«01_k».proof.Proof.Gen.Sum.Launch
public import proofs.«01_k».proof.Proof.Gen.Sum.Points
public import proofs.«01_k».proof.Proof.Gen.Sum.Frame
public import proofs.«01_k».proof.Proof.Gen.SumIdeal
public import proofs.«01_k».proof.Proof.Gen.SumIdeal.Skeleton
public import proofs.«01_k».proof.Proof.Gen.SumIdeal.Launch
public import proofs.«01_k».proof.Proof.Gen.SumIdeal.Points
public import proofs.«01_k».proof.Proof.Gen.SumIdeal.Frame
public import proofs.«01_k».proof.Proof.Gen.SumRefIdeal
public import proofs.«01_k».proof.Proof.Gen.Small
public import proofs.«01_k».proof.Proof.Gen.Small.Skeleton
public import proofs.«01_k».proof.Proof.Gen.Small.Launch
public import proofs.«01_k».proof.Proof.Gen.Small.Points
public import proofs.«01_k».proof.Proof.Gen.Small.Frame
public import proofs.«01_k».proof.Proof.Gen.SmallIdeal
public import proofs.«01_k».proof.Proof.Gen.SmallIdeal.Skeleton
public import proofs.«01_k».proof.Proof.Gen.SmallIdeal.Launch
public import proofs.«01_k».proof.Proof.Gen.SmallIdeal.Points
public import proofs.«01_k».proof.Proof.Gen.SmallIdeal.Frame
public import proofs.«01_k».proof.Proof.Gen.SmallRefIdeal
public import proofs.«01_k».proof.Proof.Gen.SmallRefIdeal.Run
public import proofs.«01_k».proof.Proof.MlpClaim
public import proofs.«01_k».proof.Proof.ScClaim
public import Idealize.ShloMosaic.Adequacy
public import Idealize.ShloMosaic.Init

@[expose] public section

noncomputable section

namespace Cert.Proof

open Idealize.ShloMosaic Idealize.SL.Sem

theorem claim : Cert.Claim :=
  ⟨Cert.Mlp.Gen.facts,
    Cert.MlpIdeal.Gen.facts,
    Cert.MlpRefIdeal.Gen.facts,
    Cert.Sc.Gen.facts,
    Cert.ScIdeal.Gen.facts,
    Cert.ScRefIdeal.Gen.facts,
    Cert.Sc3.Gen.facts,
    Cert.Sc3Ideal.Gen.facts,
    Cert.Sc3RefIdeal.Gen.facts,
    Cert.Adam.Gen.facts,
    Cert.AdamIdeal.Gen.facts,
    Cert.AdamRefIdeal.Gen.facts,
    Cert.Adam1.Gen.facts,
    Cert.Adam1Ideal.Gen.facts,
    Cert.Adam1RefIdeal.Gen.facts,
    Cert.Small.Gen.facts,
    Cert.SmallIdeal.Gen.facts,
    Cert.SmallRefIdeal.Gen.facts,
    Cert.Sum.Gen.facts,
    Cert.SumIdeal.Gen.facts,
    Cert.SumRefIdeal.Gen.facts,
    fun m ρ _ => Cert.Mlp.Gen.frame m ρ,
    fun m ρ _ => Cert.MlpIdeal.Gen.frame m ρ,
    Cert.MlpClaim.ref_frame,
    fun m ρ _ => Cert.Sc.Gen.frame m ρ,
    fun m ρ _ => Cert.ScIdeal.Gen.frame m ρ,
    Cert.ScClaim.ref_frame,
    fun m ρ _ => Cert.Sc3.Gen.frame m ρ,
    fun m ρ _ => Cert.Sc3Ideal.Gen.frame m ρ,
    Cert.Sc3Claim.ref_frame,
    fun m ρ _ => Cert.Adam.Gen.frame m ρ,
    fun m ρ _ => Cert.AdamIdeal.Gen.frame m ρ,
    Cert.AdamClaim.ref_frame,
    fun m ρ _ => Cert.Adam1.Hand.frame m ρ,
    fun m ρ _ => Cert.Adam1Ideal.Hand.frame m ρ,
    Cert.Adam1Claim.ref_frame,
    fun m ρ _ => Cert.Small.Gen.frame m ρ,
    fun m ρ _ => Cert.SmallIdeal.Gen.frame m ρ,
    Cert.SmallClaim.ref_frame,
    fun m ρ _ => Cert.Sum.Gen.frame m ρ,
    fun m ρ _ => Cert.SumIdeal.Gen.frame m ρ,
    Cert.SumClaim.ref_frame,
    trivial,
    Cert.MlpClaim.value,
    trivial,
    Cert.ScClaim.value,
    trivial,
    Cert.Sc3Claim.value,
    trivial,
    Cert.AdamClaim.value,
    trivial,
    Cert.Adam1Claim.value,
    trivial,
    Cert.SmallClaim.value,
    trivial,
    Cert.SumClaim.value⟩

end Cert.Proof

end
